-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactIdeal_dact_finite [hPre_dact_finite : Cert.Pre_dact_finite.Facts] (m : (ℓ : Loc Cert.DactIdeal.nD Cert.DactIdeal.τ Cert.DactIdeal.sig) → Buf (Elt Ideal) ℓ) : Prop :=
  ∀ c : Dev Cert.DactIdeal.nD,
    (Cert.Pre_dact_finite.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2))).1 = (fun _ => 1#1)
    ∧ (Cert.Pre_dact_finite.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2))).2.1 = (fun _ => 1#1)
    ∧ (Cert.Pre_dact_finite.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2))).2.2 = (fun _ => 1#1)

def Pre_DactReferenceIdeal (m : (ℓ : Loc Cert.DactReferenceIdeal.nD Cert.DactReferenceIdeal.τ Cert.DactReferenceIdeal.sig) → Buf (Elt Ideal) ℓ) : Prop :=
  True

def Pre_DactReferenceIdeal_dact_finite [hPre_dact_finite : Cert.Pre_dact_finite.Facts] (m : (ℓ : Loc Cert.DactReferenceIdeal.nD Cert.DactReferenceIdeal.τ Cert.DactReferenceIdeal.sig) → Buf (Elt Ideal) ℓ) : Prop :=
  ∀ c : Dev Cert.DactReferenceIdeal.nD,
    (Cert.Pre_dact_finite.fn (F := Ideal) (m ((c.tc : Thread Cert.DactReferenceIdeal.nD Cert.DactReferenceIdeal.τ).loc Cert.DactReferenceIdeal.main_arg0)) (m ((c.tc : Thread Cert.DactReferenceIdeal.nD Cert.DactReferenceIdeal.τ).loc Cert.DactReferenceIdeal.main_arg1)) (m ((c.tc : Thread Cert.DactReferenceIdeal.nD Cert.DactReferenceIdeal.τ).loc Cert.DactReferenceIdeal.main_arg2))).1 = (fun _ => 1#1)
    ∧ (Cert.Pre_dact_finite.fn (F := Ideal) (m ((c.tc : Thread Cert.DactReferenceIdeal.nD Cert.DactReferenceIdeal.τ).loc Cert.DactReferenceIdeal.main_arg0)) (m ((c.tc : Thread Cert.DactReferenceIdeal.nD Cert.DactReferenceIdeal.τ).loc Cert.DactReferenceIdeal.main_arg1)) (m ((c.tc : Thread Cert.DactReferenceIdeal.nD Cert.DactReferenceIdeal.τ).loc Cert.DactReferenceIdeal.main_arg2))).2.1 = (fun _ => 1#1)
    ∧ (Cert.Pre_dact_finite.fn (F := Ideal) (m ((c.tc : Thread Cert.DactReferenceIdeal.nD Cert.DactReferenceIdeal.τ).loc Cert.DactReferenceIdeal.main_arg0)) (m ((c.tc : Thread Cert.DactReferenceIdeal.nD Cert.DactReferenceIdeal.τ).loc Cert.DactReferenceIdeal.main_arg1)) (m ((c.tc : Thread Cert.DactReferenceIdeal.nD Cert.DactReferenceIdeal.τ).loc Cert.DactReferenceIdeal.main_arg2))).2.2 = (fun _ => 1#1)

def Pre_Dwdown (m : (ℓ : Loc Cert.Dwdown.nD Cert.Dwdown.τ Cert.Dwdown.sig) → Buf (Elt Bits) ℓ) : Prop :=
  True

def Pre_DwdownIdeal (m : (ℓ : Loc Cert.DwdownIdeal.nD Cert.DwdownIdeal.τ Cert.DwdownIdeal.sig) → Buf (Elt Ideal) ℓ) : Prop :=
  True

def Pre_DwdownReferenceIdeal (m : (ℓ : Loc Cert.DwdownReferenceIdeal.nD Cert.DwdownReferenceIdeal.τ Cert.DwdownReferenceIdeal.sig) → Buf (Elt Ideal) ℓ) : Prop :=
  True

def Pre_Dwgu (m : (ℓ : Loc Cert.Dwgu.nD Cert.Dwgu.τ Cert.Dwgu.sig) → Buf (Elt Bits) ℓ) : Prop :=
  True

def Pre_DwguIdeal (m : (ℓ : Loc Cert.DwguIdeal.nD Cert.DwguIdeal.τ Cert.DwguIdeal.sig) → Buf (Elt Ideal) ℓ) : Prop :=
  True

def Pre_DwguReferenceIdeal (m : (ℓ : Loc Cert.DwguReferenceIdeal.nD Cert.DwguReferenceIdeal.τ Cert.DwguReferenceIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhReferenceIdeal (m : (ℓ : Loc Cert.DhReferenceIdeal.nD Cert.DhReferenceIdeal.τ Cert.DhReferenceIdeal.sig) → Buf (Elt Ideal) ℓ) : Prop :=
  True

def Pre_Gu (m : (ℓ : Loc Cert.Gu.nD Cert.Gu.τ Cert.Gu.sig) → Buf (Elt Bits) ℓ) : Prop :=
  True

def Pre_GuIdeal (m : (ℓ : Loc Cert.GuIdeal.nD Cert.GuIdeal.τ Cert.GuIdeal.sig) → Buf (Elt Ideal) ℓ) : Prop :=
  True

def Pre_GuReferenceIdeal (m : (ℓ : Loc Cert.GuReferenceIdeal.nD Cert.GuReferenceIdeal.τ Cert.GuReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Dnorm (m : (ℓ : Loc Cert.Dnorm.nD Cert.Dnorm.τ Cert.Dnorm.sig) → Buf (Elt Bits) ℓ) : Prop :=
  True

def Pre_DnormIdeal (m : (ℓ : Loc Cert.DnormIdeal.nD Cert.DnormIdeal.τ Cert.DnormIdeal.sig) → Buf (Elt Ideal) ℓ) : Prop :=
  True

def Pre_DnormReferenceIdeal (m : (ℓ : Loc Cert.DnormReferenceIdeal.nD Cert.DnormReferenceIdeal.τ Cert.DnormReferenceIdeal.sig) → Buf (Elt Ideal) ℓ) : Prop :=
  True

def Pre_Dact0 (m : (ℓ : Loc Cert.Dact0.nD Cert.Dact0.τ Cert.Dact0.sig) → Buf (Elt Bits) ℓ) : Prop :=
  True

def Pre_Dact0Ideal (m : (ℓ : Loc Cert.Dact0Ideal.nD Cert.Dact0Ideal.τ Cert.Dact0Ideal.sig) → Buf (Elt Ideal) ℓ) : Prop :=
  True

def Pre_Dact0Ideal_dact0_finite [hPre_dact0_finite : Cert.Pre_dact0_finite.Facts] (m : (ℓ : Loc Cert.Dact0Ideal.nD Cert.Dact0Ideal.τ Cert.Dact0Ideal.sig) → Buf (Elt Ideal) ℓ) : Prop :=
  ∀ c : Dev Cert.Dact0Ideal.nD,
    (Cert.Pre_dact0_finite.fn (F := Ideal) (m ((c.tc : Thread Cert.Dact0Ideal.nD Cert.Dact0Ideal.τ).loc Cert.Dact0Ideal.main_arg0)) (m ((c.tc : Thread Cert.Dact0Ideal.nD Cert.Dact0Ideal.τ).loc Cert.Dact0Ideal.main_arg1)) (m ((c.tc : Thread Cert.Dact0Ideal.nD Cert.Dact0Ideal.τ).loc Cert.Dact0Ideal.main_arg2))).1 = (fun _ => 1#1)
    ∧ (Cert.Pre_dact0_finite.fn (F := Ideal) (m ((c.tc : Thread Cert.Dact0Ideal.nD Cert.Dact0Ideal.τ).loc Cert.Dact0Ideal.main_arg0)) (m ((c.tc : Thread Cert.Dact0Ideal.nD Cert.Dact0Ideal.τ).loc Cert.Dact0Ideal.main_arg1)) (m ((c.tc : Thread Cert.Dact0Ideal.nD Cert.Dact0Ideal.τ).loc Cert.Dact0Ideal.main_arg2))).2.1 = (fun _ => 1#1)
    ∧ (Cert.Pre_dact0_finite.fn (F := Ideal) (m ((c.tc : Thread Cert.Dact0Ideal.nD Cert.Dact0Ideal.τ).loc Cert.Dact0Ideal.main_arg0)) (m ((c.tc : Thread Cert.Dact0Ideal.nD Cert.Dact0Ideal.τ).loc Cert.Dact0Ideal.main_arg1)) (m ((c.tc : Thread Cert.Dact0Ideal.nD Cert.Dact0Ideal.τ).loc Cert.Dact0Ideal.main_arg2))).2.2 = (fun _ => 1#1)

def Pre_Dact0ReferenceIdeal (m : (ℓ : Loc Cert.Dact0ReferenceIdeal.nD Cert.Dact0ReferenceIdeal.τ Cert.Dact0ReferenceIdeal.sig) → Buf (Elt Ideal) ℓ) : Prop :=
  True

def Pre_Dact0ReferenceIdeal_dact0_finite [hPre_dact0_finite : Cert.Pre_dact0_finite.Facts] (m : (ℓ : Loc Cert.Dact0ReferenceIdeal.nD Cert.Dact0ReferenceIdeal.τ Cert.Dact0ReferenceIdeal.sig) → Buf (Elt Ideal) ℓ) : Prop :=
  ∀ c : Dev Cert.Dact0ReferenceIdeal.nD,
    (Cert.Pre_dact0_finite.fn (F := Ideal) (m ((c.tc : Thread Cert.Dact0ReferenceIdeal.nD Cert.Dact0ReferenceIdeal.τ).loc Cert.Dact0ReferenceIdeal.main_arg0)) (m ((c.tc : Thread Cert.Dact0ReferenceIdeal.nD Cert.Dact0ReferenceIdeal.τ).loc Cert.Dact0ReferenceIdeal.main_arg1)) (m ((c.tc : Thread Cert.Dact0ReferenceIdeal.nD Cert.Dact0ReferenceIdeal.τ).loc Cert.Dact0ReferenceIdeal.main_arg2))).1 = (fun _ => 1#1)
    ∧ (Cert.Pre_dact0_finite.fn (F := Ideal) (m ((c.tc : Thread Cert.Dact0ReferenceIdeal.nD Cert.Dact0ReferenceIdeal.τ).loc Cert.Dact0ReferenceIdeal.main_arg0)) (m ((c.tc : Thread Cert.Dact0ReferenceIdeal.nD Cert.Dact0ReferenceIdeal.τ).loc Cert.Dact0ReferenceIdeal.main_arg1)) (m ((c.tc : Thread Cert.Dact0ReferenceIdeal.nD Cert.Dact0ReferenceIdeal.τ).loc Cert.Dact0ReferenceIdeal.main_arg2))).2.1 = (fun _ => 1#1)
    ∧ (Cert.Pre_dact0_finite.fn (F := Ideal) (m ((c.tc : Thread Cert.Dact0ReferenceIdeal.nD Cert.Dact0ReferenceIdeal.τ).loc Cert.Dact0ReferenceIdeal.main_arg0)) (m ((c.tc : Thread Cert.Dact0ReferenceIdeal.nD Cert.Dact0ReferenceIdeal.τ).loc Cert.Dact0ReferenceIdeal.main_arg1)) (m ((c.tc : Thread Cert.Dact0ReferenceIdeal.nD Cert.Dact0ReferenceIdeal.τ).loc Cert.Dact0ReferenceIdeal.main_arg2))).2.2 = (fun _ => 1#1)

def Pre_Dh0 (m : (ℓ : Loc Cert.Dh0.nD Cert.Dh0.τ Cert.Dh0.sig) → Buf (Elt Bits) ℓ) : Prop :=
  True

def Pre_Dh0Ideal (m : (ℓ : Loc Cert.Dh0Ideal.nD Cert.Dh0Ideal.τ Cert.Dh0Ideal.sig) → Buf (Elt Ideal) ℓ) : Prop :=
  True

def Pre_Dh0ReferenceIdeal (m : (ℓ : Loc Cert.Dh0ReferenceIdeal.nD Cert.Dh0ReferenceIdeal.τ Cert.Dh0ReferenceIdeal.sig) → Buf (Elt Ideal) ℓ) : Prop :=
  True

def Pre_Gu0 (m : (ℓ : Loc Cert.Gu0.nD Cert.Gu0.τ Cert.Gu0.sig) → Buf (Elt Bits) ℓ) : Prop :=
  True

def Pre_Gu0Ideal (m : (ℓ : Loc Cert.Gu0Ideal.nD Cert.Gu0Ideal.τ Cert.Gu0Ideal.sig) → Buf (Elt Ideal) ℓ) : Prop :=
  True

def Pre_Gu0ReferenceIdeal (m : (ℓ : Loc Cert.Gu0ReferenceIdeal.nD Cert.Gu0ReferenceIdeal.τ Cert.Gu0ReferenceIdeal.sig) → Buf (Elt Ideal) ℓ) : Prop :=
  True

def Pre_Down0 (m : (ℓ : Loc Cert.Down0.nD Cert.Down0.τ Cert.Down0.sig) → Buf (Elt Bits) ℓ) : Prop :=
  True

def Pre_Down0Ideal (m : (ℓ : Loc Cert.Down0Ideal.nD Cert.Down0Ideal.τ Cert.Down0Ideal.sig) → Buf (Elt Ideal) ℓ) : Prop :=
  True

def Pre_Down0ReferenceIdeal (m : (ℓ : Loc Cert.Down0ReferenceIdeal.nD Cert.Down0ReferenceIdeal.τ Cert.Down0ReferenceIdeal.sig) → Buf (Elt Ideal) ℓ) : Prop :=
  True

def Pre_Sbin (m : (ℓ : Loc Cert.Sbin.nD Cert.Sbin.τ Cert.Sbin.sig) → Buf (Elt Bits) ℓ) : Prop :=
  True

def Pre_SbinIdeal (m : (ℓ : Loc Cert.SbinIdeal.nD Cert.SbinIdeal.τ Cert.SbinIdeal.sig) → Buf (Elt Ideal) ℓ) : Prop :=
  True

def Pre_SbinReferenceIdeal (m : (ℓ : Loc Cert.SbinReferenceIdeal.nD Cert.SbinReferenceIdeal.τ Cert.SbinReferenceIdeal.sig) → Buf (Elt Ideal) ℓ) : Prop :=
  True

def Pre_Ssin (m : (ℓ : Loc Cert.Ssin.nD Cert.Ssin.τ Cert.Ssin.sig) → Buf (Elt Bits) ℓ) : Prop :=
  True

def Pre_SsinIdeal (m : (ℓ : Loc Cert.SsinIdeal.nD Cert.SsinIdeal.τ Cert.SsinIdeal.sig) → Buf (Elt Ideal) ℓ) : Prop :=
  True

def Pre_SsinReferenceIdeal (m : (ℓ : Loc Cert.SsinReferenceIdeal.nD Cert.SsinReferenceIdeal.τ Cert.SsinReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Dcat (m : (ℓ : Loc Cert.Dcat.nD Cert.Dcat.τ Cert.Dcat.sig) → Buf (Elt Bits) ℓ) : Prop :=
  True

def Pre_DcatIdeal (m : (ℓ : Loc Cert.DcatIdeal.nD Cert.DcatIdeal.τ Cert.DcatIdeal.sig) → Buf (Elt Ideal) ℓ) : Prop :=
  True

def Pre_DcatReferenceIdeal (m : (ℓ : Loc Cert.DcatReferenceIdeal.nD Cert.DcatReferenceIdeal.τ Cert.DcatReferenceIdeal.sig) → Buf (Elt Ideal) ℓ) : Prop :=
  True

def Pre_Dhsb (m : (ℓ : Loc Cert.Dhsb.nD Cert.Dhsb.τ Cert.Dhsb.sig) → Buf (Elt Bits) ℓ) : Prop :=
  True

def Pre_DhsbIdeal (m : (ℓ : Loc Cert.DhsbIdeal.nD Cert.DhsbIdeal.τ Cert.DhsbIdeal.sig) → Buf (Elt Ideal) ℓ) : Prop :=
  True

def Pre_DhsbReferenceIdeal (m : (ℓ : Loc Cert.DhsbReferenceIdeal.nD Cert.DhsbReferenceIdeal.τ Cert.DhsbReferenceIdeal.sig) → Buf (Elt Ideal) ℓ) : Prop :=
  True

def Pre_Sbin0 (m : (ℓ : Loc Cert.Sbin0.nD Cert.Sbin0.τ Cert.Sbin0.sig) → Buf (Elt Bits) ℓ) : Prop :=
  True

def Pre_Sbin0Ideal (m : (ℓ : Loc Cert.Sbin0Ideal.nD Cert.Sbin0Ideal.τ Cert.Sbin0Ideal.sig) → Buf (Elt Ideal) ℓ) : Prop :=
  True

def Pre_Sbin0ReferenceIdeal (m : (ℓ : Loc Cert.Sbin0ReferenceIdeal.nD Cert.Sbin0ReferenceIdeal.τ Cert.Sbin0ReferenceIdeal.sig) → Buf (Elt Ideal) ℓ) : Prop :=
  True

def Pre_Ssin0 (m : (ℓ : Loc Cert.Ssin0.nD Cert.Ssin0.τ Cert.Ssin0.sig) → Buf (Elt Bits) ℓ) : Prop :=
  True

def Pre_Ssin0Ideal (m : (ℓ : Loc Cert.Ssin0Ideal.nD Cert.Ssin0Ideal.τ Cert.Ssin0Ideal.sig) → Buf (Elt Ideal) ℓ) : Prop :=
  True

def Pre_Ssin0ReferenceIdeal (m : (ℓ : Loc Cert.Ssin0ReferenceIdeal.nD Cert.Ssin0ReferenceIdeal.τ Cert.Ssin0ReferenceIdeal.sig) → Buf (Elt Ideal) ℓ) : Prop :=
  True

def Pre_Out0 (m : (ℓ : Loc Cert.Out0.nD Cert.Out0.τ Cert.Out0.sig) → Buf (Elt Bits) ℓ) : Prop :=
  True

def Pre_Out0Ideal (m : (ℓ : Loc Cert.Out0Ideal.nD Cert.Out0Ideal.τ Cert.Out0Ideal.sig) → Buf (Elt Ideal) ℓ) : Prop :=
  True

def Pre_Out0ReferenceIdeal (m : (ℓ : Loc Cert.Out0ReferenceIdeal.nD Cert.Out0ReferenceIdeal.τ Cert.Out0ReferenceIdeal.sig) → Buf (Elt Ideal) ℓ) : Prop :=
  True

def Pre_Dcat0 (m : (ℓ : Loc Cert.Dcat0.nD Cert.Dcat0.τ Cert.Dcat0.sig) → Buf (Elt Bits) ℓ) : Prop :=
  True

def Pre_Dcat0Ideal (m : (ℓ : Loc Cert.Dcat0Ideal.nD Cert.Dcat0Ideal.τ Cert.Dcat0Ideal.sig) → Buf (Elt Ideal) ℓ) : Prop :=
  True

def Pre_Dcat0ReferenceIdeal (m : (ℓ : Loc Cert.Dcat0ReferenceIdeal.nD Cert.Dcat0ReferenceIdeal.τ Cert.Dcat0ReferenceIdeal.sig) → Buf (Elt Ideal) ℓ) : Prop :=
  True

def Pre_Dhsb0 (m : (ℓ : Loc Cert.Dhsb0.nD Cert.Dhsb0.τ Cert.Dhsb0.sig) → Buf (Elt Bits) ℓ) : Prop :=
  True

def Pre_Dhsb0Ideal (m : (ℓ : Loc Cert.Dhsb0Ideal.nD Cert.Dhsb0Ideal.τ Cert.Dhsb0Ideal.sig) → Buf (Elt Ideal) ℓ) : Prop :=
  True

def Pre_Dhsb0ReferenceIdeal (m : (ℓ : Loc Cert.Dhsb0ReferenceIdeal.nD Cert.Dhsb0ReferenceIdeal.τ Cert.Dhsb0ReferenceIdeal.sig) → Buf (Elt Ideal) ℓ) : Prop :=
  True

def Pre_Dwin (m : (ℓ : Loc Cert.Dwin.nD Cert.Dwin.τ Cert.Dwin.sig) → Buf (Elt Bits) ℓ) : Prop :=
  True

def Pre_DwinIdeal (m : (ℓ : Loc Cert.DwinIdeal.nD Cert.DwinIdeal.τ Cert.DwinIdeal.sig) → Buf (Elt Ideal) ℓ) : Prop :=
  True

def Pre_DwinReferenceIdeal (m : (ℓ : Loc Cert.DwinReferenceIdeal.nD Cert.DwinReferenceIdeal.τ Cert.DwinReferenceIdeal.sig) → Buf (Elt Ideal) ℓ) : Prop :=
  True

def Pre_Dwout (m : (ℓ : Loc Cert.Dwout.nD Cert.Dwout.τ Cert.Dwout.sig) → Buf (Elt Bits) ℓ) : Prop :=
  True

def Pre_DwoutIdeal (m : (ℓ : Loc Cert.DwoutIdeal.nD Cert.DwoutIdeal.τ Cert.DwoutIdeal.sig) → Buf (Elt Ideal) ℓ) : Prop :=
  True

def Pre_DwoutReferenceIdeal (m : (ℓ : Loc Cert.DwoutReferenceIdeal.nD Cert.DwoutReferenceIdeal.τ Cert.DwoutReferenceIdeal.sig) → Buf (Elt Ideal) ℓ) : Prop :=
  True

def Pre_Dgate (m : (ℓ : Loc Cert.Dgate.nD Cert.Dgate.τ Cert.Dgate.sig) → Buf (Elt Bits) ℓ) : Prop :=
  True

def Pre_DgateIdeal (m : (ℓ : Loc Cert.DgateIdeal.nD Cert.DgateIdeal.τ Cert.DgateIdeal.sig) → Buf (Elt Ideal) ℓ) : Prop :=
  True

def Pre_DgateReferenceIdeal (m : (ℓ : Loc Cert.DgateReferenceIdeal.nD Cert.DgateReferenceIdeal.τ Cert.DgateReferenceIdeal.sig) → Buf (Elt Ideal) ℓ) : Prop :=
  True

def Pre_Dwglu (m : (ℓ : Loc Cert.Dwglu.nD Cert.Dwglu.τ Cert.Dwglu.sig) → Buf (Elt Bits) ℓ) : Prop :=
  True

def Pre_DwgluIdeal (m : (ℓ : Loc Cert.DwgluIdeal.nD Cert.DwgluIdeal.τ Cert.DwgluIdeal.sig) → Buf (Elt Ideal) ℓ) : Prop :=
  True

def Pre_DwgluReferenceIdeal (m : (ℓ : Loc Cert.DwgluReferenceIdeal.nD Cert.DwgluReferenceIdeal.τ Cert.DwgluReferenceIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_Glu0 (m : (ℓ : Loc Cert.Glu0.nD Cert.Glu0.τ Cert.Glu0.sig) → Buf (Elt Bits) ℓ) : Prop :=
  True

def Pre_Glu0Ideal (m : (ℓ : Loc Cert.Glu0Ideal.nD Cert.Glu0Ideal.τ Cert.Glu0Ideal.sig) → Buf (Elt Ideal) ℓ) : Prop :=
  True

def Pre_Glu0ReferenceIdeal (m : (ℓ : Loc Cert.Glu0ReferenceIdeal.nD Cert.Glu0ReferenceIdeal.τ Cert.Glu0ReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_AdamGu (m : (ℓ : Loc Cert.AdamGu.nD Cert.AdamGu.τ Cert.AdamGu.sig) → Buf (Elt Bits) ℓ) : Prop :=
  True

def Pre_AdamGuIdeal (m : (ℓ : Loc Cert.AdamGuIdeal.nD Cert.AdamGuIdeal.τ Cert.AdamGuIdeal.sig) → Buf (Elt Ideal) ℓ) : Prop :=
  True

def Pre_AdamGuReferenceIdeal (m : (ℓ : Loc Cert.AdamGuReferenceIdeal.nD Cert.AdamGuReferenceIdeal.τ Cert.AdamGuReferenceIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownReferenceIdeal (m : (ℓ : Loc Cert.AdamDownReferenceIdeal.nD Cert.AdamDownReferenceIdeal.τ Cert.AdamDownReferenceIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvReferenceIdeal (m : (ℓ : Loc Cert.AdamKvReferenceIdeal.nD Cert.AdamKvReferenceIdeal.τ Cert.AdamKvReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamSbin (m : (ℓ : Loc Cert.AdamSbin.nD Cert.AdamSbin.τ Cert.AdamSbin.sig) → Buf (Elt Bits) ℓ) : Prop :=
  True

def Pre_AdamSbinIdeal (m : (ℓ : Loc Cert.AdamSbinIdeal.nD Cert.AdamSbinIdeal.τ Cert.AdamSbinIdeal.sig) → Buf (Elt Ideal) ℓ) : Prop :=
  True

def Pre_AdamSbinReferenceIdeal (m : (ℓ : Loc Cert.AdamSbinReferenceIdeal.nD Cert.AdamSbinReferenceIdeal.τ Cert.AdamSbinReferenceIdeal.sig) → Buf (Elt Ideal) ℓ) : Prop :=
  True

def Pre_AdamSsin (m : (ℓ : Loc Cert.AdamSsin.nD Cert.AdamSsin.τ Cert.AdamSsin.sig) → Buf (Elt Bits) ℓ) : Prop :=
  True

def Pre_AdamSsinIdeal (m : (ℓ : Loc Cert.AdamSsinIdeal.nD Cert.AdamSsinIdeal.τ Cert.AdamSsinIdeal.sig) → Buf (Elt Ideal) ℓ) : Prop :=
  True

def Pre_AdamSsinReferenceIdeal (m : (ℓ : Loc Cert.AdamSsinReferenceIdeal.nD Cert.AdamSsinReferenceIdeal.τ Cert.AdamSsinReferenceIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluReferenceIdeal (m : (ℓ : Loc Cert.AdamGluReferenceIdeal.nD Cert.AdamGluReferenceIdeal.τ Cert.AdamGluReferenceIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormReferenceIdeal (m : (ℓ : Loc Cert.AdamNormReferenceIdeal.nD Cert.AdamNormReferenceIdeal.τ Cert.AdamNormReferenceIdeal.sig) → Buf (Elt Ideal) ℓ) : Prop :=
  True

def Pre_AdamHead (m : (ℓ : Loc Cert.AdamHead.nD Cert.AdamHead.τ Cert.AdamHead.sig) → Buf (Elt Bits) ℓ) : Prop :=
  True

def Pre_AdamHeadIdeal (m : (ℓ : Loc Cert.AdamHeadIdeal.nD Cert.AdamHeadIdeal.τ Cert.AdamHeadIdeal.sig) → Buf (Elt Ideal) ℓ) : Prop :=
  True

def Pre_AdamHeadReferenceIdeal (m : (ℓ : Loc Cert.AdamHeadReferenceIdeal.nD Cert.AdamHeadReferenceIdeal.τ Cert.AdamHeadReferenceIdeal.sig) → Buf (Elt Ideal) ℓ) : Prop :=
  True

def Pre_AdamDt (m : (ℓ : Loc Cert.AdamDt.nD Cert.AdamDt.τ Cert.AdamDt.sig) → Buf (Elt Bits) ℓ) : Prop :=
  True

def Pre_AdamDtIdeal (m : (ℓ : Loc Cert.AdamDtIdeal.nD Cert.AdamDtIdeal.τ Cert.AdamDtIdeal.sig) → Buf (Elt Ideal) ℓ) : Prop :=
  True

def Pre_AdamDtReferenceIdeal (m : (ℓ : Loc Cert.AdamDtReferenceIdeal.nD Cert.AdamDtReferenceIdeal.τ Cert.AdamDtReferenceIdeal.sig) → Buf (Elt Ideal) ℓ) : Prop :=
  True

def Pre_AdamA (m : (ℓ : Loc Cert.AdamA.nD Cert.AdamA.τ Cert.AdamA.sig) → Buf (Elt Bits) ℓ) : Prop :=
  True

def Pre_AdamAIdeal (m : (ℓ : Loc Cert.AdamAIdeal.nD Cert.AdamAIdeal.τ Cert.AdamAIdeal.sig) → Buf (Elt Ideal) ℓ) : Prop :=
  True

def Pre_AdamAReferenceIdeal (m : (ℓ : Loc Cert.AdamAReferenceIdeal.nD Cert.AdamAReferenceIdeal.τ Cert.AdamAReferenceIdeal.sig) → Buf (Elt Ideal) ℓ) : Prop :=
  True

def Pre_AdamB (m : (ℓ : Loc Cert.AdamB.nD Cert.AdamB.τ Cert.AdamB.sig) → Buf (Elt Bits) ℓ) : Prop :=
  True

def Pre_AdamBIdeal (m : (ℓ : Loc Cert.AdamBIdeal.nD Cert.AdamBIdeal.τ Cert.AdamBIdeal.sig) → Buf (Elt Ideal) ℓ) : Prop :=
  True

def Pre_AdamBReferenceIdeal (m : (ℓ : Loc Cert.AdamBReferenceIdeal.nD Cert.AdamBReferenceIdeal.τ Cert.AdamBReferenceIdeal.sig) → Buf (Elt Ideal) ℓ) : Prop :=
  True

def Pre_AdamC (m : (ℓ : Loc Cert.AdamC.nD Cert.AdamC.τ Cert.AdamC.sig) → Buf (Elt Bits) ℓ) : Prop :=
  True

def Pre_AdamCIdeal (m : (ℓ : Loc Cert.AdamCIdeal.nD Cert.AdamCIdeal.τ Cert.AdamCIdeal.sig) → Buf (Elt Ideal) ℓ) : Prop :=
  True

def Pre_AdamCReferenceIdeal (m : (ℓ : Loc Cert.AdamCReferenceIdeal.nD Cert.AdamCReferenceIdeal.τ Cert.AdamCReferenceIdeal.sig) → Buf (Elt Ideal) ℓ) : Prop :=
  True

def Pre_AdamD (m : (ℓ : Loc Cert.AdamD.nD Cert.AdamD.τ Cert.AdamD.sig) → Buf (Elt Bits) ℓ) : Prop :=
  True

def Pre_AdamDIdeal (m : (ℓ : Loc Cert.AdamDIdeal.nD Cert.AdamDIdeal.τ Cert.AdamDIdeal.sig) → Buf (Elt Ideal) ℓ) : Prop :=
  True

def Pre_AdamDReferenceIdeal (m : (ℓ : Loc Cert.AdamDReferenceIdeal.nD Cert.AdamDReferenceIdeal.τ Cert.AdamDReferenceIdeal.sig) → Buf (Elt Ideal) ℓ) : Prop :=
  True

def Pre_Memnorm (m : (ℓ : Loc Cert.Memnorm.nD Cert.Memnorm.τ Cert.Memnorm.sig) → Buf (Elt Bits) ℓ) : Prop :=
  True

def Pre_MemnormIdeal (m : (ℓ : Loc Cert.MemnormIdeal.nD Cert.MemnormIdeal.τ Cert.MemnormIdeal.sig) → Buf (Elt Ideal) ℓ) : Prop :=
  True

def Pre_MemnormReferenceIdeal (m : (ℓ : Loc Cert.MemnormReferenceIdeal.nD Cert.MemnormReferenceIdeal.τ Cert.MemnormReferenceIdeal.sig) → Buf (Elt Ideal) ℓ) : Prop :=
  True

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvReferenceIdeal (m : (ℓ : Loc Cert.MemkvReferenceIdeal.nD Cert.MemkvReferenceIdeal.τ Cert.MemkvReferenceIdeal.sig) → Buf (Elt Ideal) ℓ) : Prop :=
  True

def Pre_Memkv0 (m : (ℓ : Loc Cert.Memkv0.nD Cert.Memkv0.τ Cert.Memkv0.sig) → Buf (Elt Bits) ℓ) : Prop :=
  True

def Pre_Memkv0Ideal (m : (ℓ : Loc Cert.Memkv0Ideal.nD Cert.Memkv0Ideal.τ Cert.Memkv0Ideal.sig) → Buf (Elt Ideal) ℓ) : Prop :=
  True

def Pre_Memkv0ReferenceIdeal (m : (ℓ : Loc Cert.Memkv0ReferenceIdeal.nD Cert.Memkv0ReferenceIdeal.τ Cert.Memkv0ReferenceIdeal.sig) → Buf (Elt Ideal) ℓ) : Prop :=
  True

def Pre_Dwkv (m : (ℓ : Loc Cert.Dwkv.nD Cert.Dwkv.τ Cert.Dwkv.sig) → Buf (Elt Bits) ℓ) : Prop :=
  True

def Pre_DwkvIdeal (m : (ℓ : Loc Cert.DwkvIdeal.nD Cert.DwkvIdeal.τ Cert.DwkvIdeal.sig) → Buf (Elt Ideal) ℓ) : Prop :=
  True

def Pre_DwkvReferenceIdeal (m : (ℓ : Loc Cert.DwkvReferenceIdeal.nD Cert.DwkvReferenceIdeal.τ Cert.DwkvReferenceIdeal.sig) → Buf (Elt Ideal) ℓ) : Prop :=
  True

def Pre_Dmemh (m : (ℓ : Loc Cert.Dmemh.nD Cert.Dmemh.τ Cert.Dmemh.sig) → Buf (Elt Bits) ℓ) : Prop :=
  True

def Pre_DmemhIdeal (m : (ℓ : Loc Cert.DmemhIdeal.nD Cert.DmemhIdeal.τ Cert.DmemhIdeal.sig) → Buf (Elt Ideal) ℓ) : Prop :=
  True

def Pre_DmemhReferenceIdeal (m : (ℓ : Loc Cert.DmemhReferenceIdeal.nD Cert.DmemhReferenceIdeal.τ Cert.DmemhReferenceIdeal.sig) → Buf (Elt Ideal) ℓ) : Prop :=
  True

def Pre_Dmemh0 (m : (ℓ : Loc Cert.Dmemh0.nD Cert.Dmemh0.τ Cert.Dmemh0.sig) → Buf (Elt Bits) ℓ) : Prop :=
  True

def Pre_Dmemh0Ideal (m : (ℓ : Loc Cert.Dmemh0Ideal.nD Cert.Dmemh0Ideal.τ Cert.Dmemh0Ideal.sig) → Buf (Elt Ideal) ℓ) : Prop :=
  True

def Pre_Dmemh0ReferenceIdeal (m : (ℓ : Loc Cert.Dmemh0ReferenceIdeal.nD Cert.Dmemh0ReferenceIdeal.τ Cert.Dmemh0ReferenceIdeal.sig) → Buf (Elt Ideal) ℓ) : Prop :=
  True

def Pre_Dmemnorm (m : (ℓ : Loc Cert.Dmemnorm.nD Cert.Dmemnorm.τ Cert.Dmemnorm.sig) → Buf (Elt Bits) ℓ) : Prop :=
  True

def Pre_DmemnormIdeal (m : (ℓ : Loc Cert.DmemnormIdeal.nD Cert.DmemnormIdeal.τ Cert.DmemnormIdeal.sig) → Buf (Elt Ideal) ℓ) : Prop :=
  True

def Pre_DmemnormReferenceIdeal (m : (ℓ : Loc Cert.DmemnormReferenceIdeal.nD Cert.DmemnormReferenceIdeal.τ Cert.DmemnormReferenceIdeal.sig) → Buf (Elt Ideal) ℓ) : Prop :=
  True

def Pre_Mem (m : (ℓ : Loc Cert.Mem.nD Cert.Mem.τ Cert.Mem.sig) → Buf (Elt Bits) ℓ) : Prop :=
  True

def Pre_MemIdeal (m : (ℓ : Loc Cert.MemIdeal.nD Cert.MemIdeal.τ Cert.MemIdeal.sig) → Buf (Elt Ideal) ℓ) : Prop :=
  True

def Pre_MemReferenceIdeal (m : (ℓ : Loc Cert.MemReferenceIdeal.nD Cert.MemReferenceIdeal.τ Cert.MemReferenceIdeal.sig) → Buf (Elt Ideal) ℓ) : Prop :=
  True

def Pre_Mems (m : (ℓ : Loc Cert.Mems.nD Cert.Mems.τ Cert.Mems.sig) → Buf (Elt Bits) ℓ) : Prop :=
  True

def Pre_MemsIdeal (m : (ℓ : Loc Cert.MemsIdeal.nD Cert.MemsIdeal.τ Cert.MemsIdeal.sig) → Buf (Elt Ideal) ℓ) : Prop :=
  True

def Pre_MemsReferenceIdeal (m : (ℓ : Loc Cert.MemsReferenceIdeal.nD Cert.MemsReferenceIdeal.τ Cert.MemsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ r.2.sem = fun _ => 0)

def quiescent_DactIdeal_pre_dact_finite [hDactIdeal : Cert.DactIdeal.Facts] [hPre_dact_finite : Cert.Pre_dact_finite.Facts] : Prop :=
  ∀ (m : (ℓ : Loc Cert.DactIdeal.nD Cert.DactIdeal.τ Cert.DactIdeal.sig) → Buf (Elt Ideal) ℓ) (g : Dev Cert.DactIdeal.nD → PrngReg), Pre_DactIdeal_dact_finite m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ r.2.sem = fun _ => 0)

def quiescent_DactReferenceIdeal [hDactReferenceIdeal : Cert.DactReferenceIdeal.Facts] : Prop :=
  ∀ (m : (ℓ : Loc Cert.DactReferenceIdeal.nD Cert.DactReferenceIdeal.τ Cert.DactReferenceIdeal.sig) → Buf (Elt Ideal) ℓ) (g : Dev Cert.DactReferenceIdeal.nD → PrngReg), Pre_DactReferenceIdeal m →
    θ_run (Cert.DactReferenceIdeal.defs (F := Ideal)) (onTc (τ := Cert.DactReferenceIdeal.τ) (Cert.DactReferenceIdeal.main (F := Ideal))) ⟨m, fun _ => 0, g⟩ (fun r => (∀ c : Dev Cert.DactReferenceIdeal.nD,
      r.2.mem ((c.tc : Thread Cert.DactReferenceIdeal.nD Cert.DactReferenceIdeal.τ).loc Cert.DactReferenceIdeal.main_arg0) = m ((c.tc : Thread Cert.DactReferenceIdeal.nD Cert.DactReferenceIdeal.τ).loc Cert.DactReferenceIdeal.main_arg0)
      ∧ r.2.mem ((c.tc : Thread Cert.DactReferenceIdeal.nD Cert.DactReferenceIdeal.τ).loc Cert.DactReferenceIdeal.main_arg1) = m ((c.tc : Thread Cert.DactReferenceIdeal.nD Cert.DactReferenceIdeal.τ).loc Cert.DactReferenceIdeal.main_arg1)
      ∧ r.2.mem ((c.tc : Thread Cert.DactReferenceIdeal.nD Cert.DactReferenceIdeal.τ).loc Cert.DactReferenceIdeal.main_arg2) = m ((c.tc : Thread Cert.DactReferenceIdeal.nD Cert.DactReferenceIdeal.τ).loc Cert.DactReferenceIdeal.main_arg2))
      ∧ r.2.sem = fun _ => 0)

def quiescent_DactReferenceIdeal_pre_dact_finite [hDactReferenceIdeal : Cert.DactReferenceIdeal.Facts] [hPre_dact_finite : Cert.Pre_dact_finite.Facts] : Prop :=
  ∀ (m : (ℓ : Loc Cert.DactReferenceIdeal.nD Cert.DactReferenceIdeal.τ Cert.DactReferenceIdeal.sig) → Buf (Elt Ideal) ℓ) (g : Dev Cert.DactReferenceIdeal.nD → PrngReg), Pre_DactReferenceIdeal_dact_finite m →
    θ_run (Cert.DactReferenceIdeal.defs (F := Ideal)) (onTc (τ := Cert.DactReferenceIdeal.τ) (Cert.DactReferenceIdeal.main (F := Ideal))) ⟨m, fun _ => 0, g⟩ (fun r => (∀ c : Dev Cert.DactReferenceIdeal.nD,
      r.2.mem ((c.tc : Thread Cert.DactReferenceIdeal.nD Cert.DactReferenceIdeal.τ).loc Cert.DactReferenceIdeal.main_arg0) = m ((c.tc : Thread Cert.DactReferenceIdeal.nD Cert.DactReferenceIdeal.τ).loc Cert.DactReferenceIdeal.main_arg0)
      ∧ r.2.mem ((c.tc : Thread Cert.DactReferenceIdeal.nD Cert.DactReferenceIdeal.τ).loc Cert.DactReferenceIdeal.main_arg1) = m ((c.tc : Thread Cert.DactReferenceIdeal.nD Cert.DactReferenceIdeal.τ).loc Cert.DactReferenceIdeal.main_arg1)
      ∧ r.2.mem ((c.tc : Thread Cert.DactReferenceIdeal.nD Cert.DactReferenceIdeal.τ).loc Cert.DactReferenceIdeal.main_arg2) = m ((c.tc : Thread Cert.DactReferenceIdeal.nD Cert.DactReferenceIdeal.τ).loc Cert.DactReferenceIdeal.main_arg2))
      ∧ r.2.sem = fun _ => 0)

def quiescent_Dwdown [hDwdown : Cert.Dwdown.Facts] : Prop :=
  ∀ (m : (ℓ : Loc Cert.Dwdown.nD Cert.Dwdown.τ Cert.Dwdown.sig) → Buf (Elt Bits) ℓ) (g : Dev Cert.Dwdown.nD → PrngReg), Pre_Dwdown m →
    θ_run (Cert.Dwdown.defs (F := Bits)) (onTc (τ := Cert.Dwdown.τ) (Cert.Dwdown.main (F := Bits))) ⟨m, fun _ => 0, g⟩ (fun r => (∀ c : Dev Cert.Dwdown.nD,
      r.2.mem ((c.tc : Thread Cert.Dwdown.nD Cert.Dwdown.τ).loc Cert.Dwdown.main_arg0) = m ((c.tc : Thread Cert.Dwdown.nD Cert.Dwdown.τ).loc Cert.Dwdown.main_arg0)
      ∧ r.2.mem ((c.tc : Thread Cert.Dwdown.nD Cert.Dwdown.τ).loc Cert.Dwdown.main_arg1) = m ((c.tc : Thread Cert.Dwdown.nD Cert.Dwdown.τ).loc Cert.Dwdown.main_arg1))
      ∧ r.2.sem = fun _ => 0)

def quiescent_DwdownIdeal [hDwdownIdeal : Cert.DwdownIdeal.Facts] : Prop :=
  ∀ (m : (ℓ : Loc Cert.DwdownIdeal.nD Cert.DwdownIdeal.τ Cert.DwdownIdeal.sig) → Buf (Elt Ideal) ℓ) (g : Dev Cert.DwdownIdeal.nD → PrngReg), Pre_DwdownIdeal m →
    θ_run (Cert.DwdownIdeal.defs (F := Ideal)) (onTc (τ := Cert.DwdownIdeal.τ) (Cert.DwdownIdeal.main (F := Ideal))) ⟨m, fun _ => 0, g⟩ (fun r => (∀ c : Dev Cert.DwdownIdeal.nD,
      r.2.mem ((c.tc : Thread Cert.DwdownIdeal.nD Cert.DwdownIdeal.τ).loc Cert.DwdownIdeal.main_arg0) = m ((c.tc : Thread Cert.DwdownIdeal.nD Cert.DwdownIdeal.τ).loc Cert.DwdownIdeal.main_arg0)
      ∧ r.2.mem ((c.tc : Thread Cert.DwdownIdeal.nD Cert.DwdownIdeal.τ).loc Cert.DwdownIdeal.main_arg1) = m ((c.tc : Thread Cert.DwdownIdeal.nD Cert.DwdownIdeal.τ).loc Cert.DwdownIdeal.main_arg1))
      ∧ r.2.sem = fun _ => 0)

def quiescent_DwdownReferenceIdeal [hDwdownReferenceIdeal : Cert.DwdownReferenceIdeal.Facts] : Prop :=
  ∀ (m : (ℓ : Loc Cert.DwdownReferenceIdeal.nD Cert.DwdownReferenceIdeal.τ Cert.DwdownReferenceIdeal.sig) → Buf (Elt Ideal) ℓ) (g : Dev Cert.DwdownReferenceIdeal.nD → PrngReg), Pre_DwdownReferenceIdeal m →
    θ_run (Cert.DwdownReferenceIdeal.defs (F := Ideal)) (onTc (τ := Cert.DwdownReferenceIdeal.τ) (Cert.DwdownReferenceIdeal.main (F := Ideal))) ⟨m, fun _ => 0, g⟩ (fun r => (∀ c : Dev Cert.DwdownReferenceIdeal.nD,
      r.2.mem ((c.tc : Thread Cert.DwdownReferenceIdeal.nD Cert.DwdownReferenceIdeal.τ).loc Cert.DwdownReferenceIdeal.main_arg0) = m ((c.tc : Thread Cert.DwdownReferenceIdeal.nD Cert.DwdownReferenceIdeal.τ).loc Cert.DwdownReferenceIdeal.main_arg0)
      ∧ r.2.mem ((c.tc : Thread Cert.DwdownReferenceIdeal.nD Cert.DwdownReferenceIdeal.τ).loc Cert.DwdownReferenceIdeal.main_arg1) = m ((c.tc : Thread Cert.DwdownReferenceIdeal.nD Cert.DwdownReferenceIdeal.τ).loc Cert.DwdownReferenceIdeal.main_arg1))
      ∧ r.2.sem = fun _ => 0)

def quiescent_Dwgu [hDwgu : Cert.Dwgu.Facts] : Prop :=
  ∀ (m : (ℓ : Loc Cert.Dwgu.nD Cert.Dwgu.τ Cert.Dwgu.sig) → Buf (Elt Bits) ℓ) (g : Dev Cert.Dwgu.nD → PrngReg), Pre_Dwgu m →
    θ_run (Cert.Dwgu.defs (F := Bits)) (onTc (τ := Cert.Dwgu.τ) (Cert.Dwgu.main (F := Bits))) ⟨m, fun _ => 0, g⟩ (fun r => (∀ c : Dev Cert.Dwgu.nD,
      r.2.mem ((c.tc : Thread Cert.Dwgu.nD Cert.Dwgu.τ).loc Cert.Dwgu.main_arg0) = m ((c.tc : Thread Cert.Dwgu.nD Cert.Dwgu.τ).loc Cert.Dwgu.main_arg0)
      ∧ r.2.mem ((c.tc : Thread Cert.Dwgu.nD Cert.Dwgu.τ).loc Cert.Dwgu.main_arg1) = m ((c.tc : Thread Cert.Dwgu.nD Cert.Dwgu.τ).loc Cert.Dwgu.main_arg1))
      ∧ r.2.sem = fun _ => 0)

def quiescent_DwguIdeal [hDwguIdeal : Cert.DwguIdeal.Facts] : Prop :=
  ∀ (m : (ℓ : Loc Cert.DwguIdeal.nD Cert.DwguIdeal.τ Cert.DwguIdeal.sig) → Buf (Elt Ideal) ℓ) (g : Dev Cert.DwguIdeal.nD → PrngReg), Pre_DwguIdeal m →
    θ_run (Cert.DwguIdeal.defs (F := Ideal)) (onTc (τ := Cert.DwguIdeal.τ) (Cert.DwguIdeal.main (F := Ideal))) ⟨m, fun _ => 0, g⟩ (fun r => (∀ c : Dev Cert.DwguIdeal.nD,
      r.2.mem ((c.tc : Thread Cert.DwguIdeal.nD Cert.DwguIdeal.τ).loc Cert.DwguIdeal.main_arg0) = m ((c.tc : Thread Cert.DwguIdeal.nD Cert.DwguIdeal.τ).loc Cert.DwguIdeal.main_arg0)
      ∧ r.2.mem ((c.tc : Thread Cert.DwguIdeal.nD Cert.DwguIdeal.τ).loc Cert.DwguIdeal.main_arg1) = m ((c.tc : Thread Cert.DwguIdeal.nD Cert.DwguIdeal.τ).loc Cert.DwguIdeal.main_arg1))
      ∧ r.2.sem = fun _ => 0)

def quiescent_DwguReferenceIdeal [hDwguReferenceIdeal : Cert.DwguReferenceIdeal.Facts] : Prop :=
  ∀ (m : (ℓ : Loc Cert.DwguReferenceIdeal.nD Cert.DwguReferenceIdeal.τ Cert.DwguReferenceIdeal.sig) → Buf (Elt Ideal) ℓ) (g : Dev Cert.DwguReferenceIdeal.nD → PrngReg), Pre_DwguReferenceIdeal m →
    θ_run (Cert.DwguReferenceIdeal.defs (F := Ideal)) (onTc (τ := Cert.DwguReferenceIdeal.τ) (Cert.DwguReferenceIdeal.main (F := Ideal))) ⟨m, fun _ => 0, g⟩ (fun r => (∀ c : Dev Cert.DwguReferenceIdeal.nD,
      r.2.mem ((c.tc : Thread Cert.DwguReferenceIdeal.nD Cert.DwguReferenceIdeal.τ).loc Cert.DwguReferenceIdeal.main_arg0) = m ((c.tc : Thread Cert.DwguReferenceIdeal.nD Cert.DwguReferenceIdeal.τ).loc Cert.DwguReferenceIdeal.main_arg0)
      ∧ r.2.mem ((c.tc : Thread Cert.DwguReferenceIdeal.nD Cert.DwguReferenceIdeal.τ).loc Cert.DwguReferenceIdeal.main_arg1) = m ((c.tc : Thread Cert.DwguReferenceIdeal.nD Cert.DwguReferenceIdeal.τ).loc Cert.DwguReferenceIdeal.main_arg1))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ r.2.sem = fun _ => 0)

def quiescent_DhReferenceIdeal [hDhReferenceIdeal : Cert.DhReferenceIdeal.Facts] : Prop :=
  ∀ (m : (ℓ : Loc Cert.DhReferenceIdeal.nD Cert.DhReferenceIdeal.τ Cert.DhReferenceIdeal.sig) → Buf (Elt Ideal) ℓ) (g : Dev Cert.DhReferenceIdeal.nD → PrngReg), Pre_DhReferenceIdeal m →
    θ_run (Cert.DhReferenceIdeal.defs (F := Ideal)) (onTc (τ := Cert.DhReferenceIdeal.τ) (Cert.DhReferenceIdeal.main (F := Ideal))) ⟨m, fun _ => 0, g⟩ (fun r => (∀ c : Dev Cert.DhReferenceIdeal.nD,
      r.2.mem ((c.tc : Thread Cert.DhReferenceIdeal.nD Cert.DhReferenceIdeal.τ).loc Cert.DhReferenceIdeal.main_arg0) = m ((c.tc : Thread Cert.DhReferenceIdeal.nD Cert.DhReferenceIdeal.τ).loc Cert.DhReferenceIdeal.main_arg0)
      ∧ r.2.mem ((c.tc : Thread Cert.DhReferenceIdeal.nD Cert.DhReferenceIdeal.τ).loc Cert.DhReferenceIdeal.main_arg1) = m ((c.tc : Thread Cert.DhReferenceIdeal.nD Cert.DhReferenceIdeal.τ).loc Cert.DhReferenceIdeal.main_arg1))
      ∧ r.2.sem = fun _ => 0)

def quiescent_Gu [hGu : Cert.Gu.Facts] : Prop :=
  ∀ (m : (ℓ : Loc Cert.Gu.nD Cert.Gu.τ Cert.Gu.sig) → Buf (Elt Bits) ℓ) (g : Dev Cert.Gu.nD → PrngReg), Pre_Gu m →
    θ_run (Cert.Gu.defs (F := Bits)) (onTc (τ := Cert.Gu.τ) (Cert.Gu.main (F := Bits))) ⟨m, fun _ => 0, g⟩ (fun r => (∀ c : Dev Cert.Gu.nD,
      r.2.mem ((c.tc : Thread Cert.Gu.nD Cert.Gu.τ).loc Cert.Gu.main_arg0) = m ((c.tc : Thread Cert.Gu.nD Cert.Gu.τ).loc Cert.Gu.main_arg0)
      ∧ r.2.mem ((c.tc : Thread Cert.Gu.nD Cert.Gu.τ).loc Cert.Gu.main_arg1) = m ((c.tc : Thread Cert.Gu.nD Cert.Gu.τ).loc Cert.Gu.main_arg1))
      ∧ r.2.sem = fun _ => 0)

def quiescent_GuIdeal [hGuIdeal : Cert.GuIdeal.Facts] : Prop :=
  ∀ (m : (ℓ : Loc Cert.GuIdeal.nD Cert.GuIdeal.τ Cert.GuIdeal.sig) → Buf (Elt Ideal) ℓ) (g : Dev Cert.GuIdeal.nD → PrngReg), Pre_GuIdeal m →
    θ_run (Cert.GuIdeal.defs (F := Ideal)) (onTc (τ := Cert.GuIdeal.τ) (Cert.GuIdeal.main (F := Ideal))) ⟨m, fun _ => 0, g⟩ (fun r => (∀ c : Dev Cert.GuIdeal.nD,
      r.2.mem ((c.tc : Thread Cert.GuIdeal.nD Cert.GuIdeal.τ).loc Cert.GuIdeal.main_arg0) = m ((c.tc : Thread Cert.GuIdeal.nD Cert.GuIdeal.τ).loc Cert.GuIdeal.main_arg0)
      ∧ r.2.mem ((c.tc : Thread Cert.GuIdeal.nD Cert.GuIdeal.τ).loc Cert.GuIdeal.main_arg1) = m ((c.tc : Thread Cert.GuIdeal.nD Cert.GuIdeal.τ).loc Cert.GuIdeal.main_arg1))
      ∧ r.2.sem = fun _ => 0)

def quiescent_GuReferenceIdeal [hGuReferenceIdeal : Cert.GuReferenceIdeal.Facts] : Prop :=
  ∀ (m : (ℓ : Loc Cert.GuReferenceIdeal.nD Cert.GuReferenceIdeal.τ Cert.GuReferenceIdeal.sig) → Buf (Elt Ideal) ℓ) (g : Dev Cert.GuReferenceIdeal.nD → PrngReg), Pre_GuReferenceIdeal m →
    θ_run (Cert.GuReferenceIdeal.defs (F := Ideal)) (onTc (τ := Cert.GuReferenceIdeal.τ) (Cert.GuReferenceIdeal.main (F := Ideal))) ⟨m, fun _ => 0, g⟩ (fun r => (∀ c : Dev Cert.GuReferenceIdeal.nD,
      r.2.mem ((c.tc : Thread Cert.GuReferenceIdeal.nD Cert.GuReferenceIdeal.τ).loc Cert.GuReferenceIdeal.main_arg0) = m ((c.tc : Thread Cert.GuReferenceIdeal.nD Cert.GuReferenceIdeal.τ).loc Cert.GuReferenceIdeal.main_arg0)
      ∧ r.2.mem ((c.tc : Thread Cert.GuReferenceIdeal.nD Cert.GuReferenceIdeal.τ).loc Cert.GuReferenceIdeal.main_arg1) = m ((c.tc : Thread Cert.GuReferenceIdeal.nD Cert.GuReferenceIdeal.τ).loc Cert.GuReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_Dnorm [hDnorm : Cert.Dnorm.Facts] : Prop :=
  ∀ (m : (ℓ : Loc Cert.Dnorm.nD Cert.Dnorm.τ Cert.Dnorm.sig) → Buf (Elt Bits) ℓ) (g : Dev Cert.Dnorm.nD → PrngReg), Pre_Dnorm m →
    θ_run (Cert.Dnorm.defs (F := Bits)) (onTc (τ := Cert.Dnorm.τ) (Cert.Dnorm.main (F := Bits))) ⟨m, fun _ => 0, g⟩ (fun r => (∀ c : Dev Cert.Dnorm.nD,
      r.2.mem ((c.tc : Thread Cert.Dnorm.nD Cert.Dnorm.τ).loc Cert.Dnorm.main_arg0) = m ((c.tc : Thread Cert.Dnorm.nD Cert.Dnorm.τ).loc Cert.Dnorm.main_arg0)
      ∧ r.2.mem ((c.tc : Thread Cert.Dnorm.nD Cert.Dnorm.τ).loc Cert.Dnorm.main_arg1) = m ((c.tc : Thread Cert.Dnorm.nD Cert.Dnorm.τ).loc Cert.Dnorm.main_arg1)
      ∧ r.2.mem ((c.tc : Thread Cert.Dnorm.nD Cert.Dnorm.τ).loc Cert.Dnorm.main_arg2) = m ((c.tc : Thread Cert.Dnorm.nD Cert.Dnorm.τ).loc Cert.Dnorm.main_arg2)
      ∧ r.2.mem ((c.tc : Thread Cert.Dnorm.nD Cert.Dnorm.τ).loc Cert.Dnorm.main_arg3) = m ((c.tc : Thread Cert.Dnorm.nD Cert.Dnorm.τ).loc Cert.Dnorm.main_arg3))
      ∧ r.2.sem = fun _ => 0)

def quiescent_DnormIdeal [hDnormIdeal : Cert.DnormIdeal.Facts] : Prop :=
  ∀ (m : (ℓ : Loc Cert.DnormIdeal.nD Cert.DnormIdeal.τ Cert.DnormIdeal.sig) → Buf (Elt Ideal) ℓ) (g : Dev Cert.DnormIdeal.nD → PrngReg), Pre_DnormIdeal m →
    θ_run (Cert.DnormIdeal.defs (F := Ideal)) (onTc (τ := Cert.DnormIdeal.τ) (Cert.DnormIdeal.main (F := Ideal))) ⟨m, fun _ => 0, g⟩ (fun r => (∀ c : Dev Cert.DnormIdeal.nD,
      r.2.mem ((c.tc : Thread Cert.DnormIdeal.nD Cert.DnormIdeal.τ).loc Cert.DnormIdeal.main_arg0) = m ((c.tc : Thread Cert.DnormIdeal.nD Cert.DnormIdeal.τ).loc Cert.DnormIdeal.main_arg0)
      ∧ r.2.mem ((c.tc : Thread Cert.DnormIdeal.nD Cert.DnormIdeal.τ).loc Cert.DnormIdeal.main_arg1) = m ((c.tc : Thread Cert.DnormIdeal.nD Cert.DnormIdeal.τ).loc Cert.DnormIdeal.main_arg1)
      ∧ r.2.mem ((c.tc : Thread Cert.DnormIdeal.nD Cert.DnormIdeal.τ).loc Cert.DnormIdeal.main_arg2) = m ((c.tc : Thread Cert.DnormIdeal.nD Cert.DnormIdeal.τ).loc Cert.DnormIdeal.main_arg2)
      ∧ r.2.mem ((c.tc : Thread Cert.DnormIdeal.nD Cert.DnormIdeal.τ).loc Cert.DnormIdeal.main_arg3) = m ((c.tc : Thread Cert.DnormIdeal.nD Cert.DnormIdeal.τ).loc Cert.DnormIdeal.main_arg3))
      ∧ r.2.sem = fun _ => 0)

def quiescent_DnormReferenceIdeal [hDnormReferenceIdeal : Cert.DnormReferenceIdeal.Facts] : Prop :=
  ∀ (m : (ℓ : Loc Cert.DnormReferenceIdeal.nD Cert.DnormReferenceIdeal.τ Cert.DnormReferenceIdeal.sig) → Buf (Elt Ideal) ℓ) (g : Dev Cert.DnormReferenceIdeal.nD → PrngReg), Pre_DnormReferenceIdeal m →
    θ_run (Cert.DnormReferenceIdeal.defs (F := Ideal)) (onTc (τ := Cert.DnormReferenceIdeal.τ) (Cert.DnormReferenceIdeal.main (F := Ideal))) ⟨m, fun _ => 0, g⟩ (fun r => (∀ c : Dev Cert.DnormReferenceIdeal.nD,
      r.2.mem ((c.tc : Thread Cert.DnormReferenceIdeal.nD Cert.DnormReferenceIdeal.τ).loc Cert.DnormReferenceIdeal.main_arg0) = m ((c.tc : Thread Cert.DnormReferenceIdeal.nD Cert.DnormReferenceIdeal.τ).loc Cert.DnormReferenceIdeal.main_arg0)
      ∧ r.2.mem ((c.tc : Thread Cert.DnormReferenceIdeal.nD Cert.DnormReferenceIdeal.τ).loc Cert.DnormReferenceIdeal.main_arg1) = m ((c.tc : Thread Cert.DnormReferenceIdeal.nD Cert.DnormReferenceIdeal.τ).loc Cert.DnormReferenceIdeal.main_arg1)
      ∧ r.2.mem ((c.tc : Thread Cert.DnormReferenceIdeal.nD Cert.DnormReferenceIdeal.τ).loc Cert.DnormReferenceIdeal.main_arg2) = m ((c.tc : Thread Cert.DnormReferenceIdeal.nD Cert.DnormReferenceIdeal.τ).loc Cert.DnormReferenceIdeal.main_arg2)
      ∧ r.2.mem ((c.tc : Thread Cert.DnormReferenceIdeal.nD Cert.DnormReferenceIdeal.τ).loc Cert.DnormReferenceIdeal.main_arg3) = m ((c.tc : Thread Cert.DnormReferenceIdeal.nD Cert.DnormReferenceIdeal.τ).loc Cert.DnormReferenceIdeal.main_arg3))
      ∧ r.2.sem = fun _ => 0)

def quiescent_Dact0 [hDact0 : Cert.Dact0.Facts] : Prop :=
  ∀ (m : (ℓ : Loc Cert.Dact0.nD Cert.Dact0.τ Cert.Dact0.sig) → Buf (Elt Bits) ℓ) (g : Dev Cert.Dact0.nD → PrngReg), Pre_Dact0 m →
    θ_run (Cert.Dact0.defs (F := Bits)) (onTc (τ := Cert.Dact0.τ) (Cert.Dact0.main (F := Bits))) ⟨m, fun _ => 0, g⟩ (fun r => (∀ c : Dev Cert.Dact0.nD,
      r.2.mem ((c.tc : Thread Cert.Dact0.nD Cert.Dact0.τ).loc Cert.Dact0.main_arg0) = m ((c.tc : Thread Cert.Dact0.nD Cert.Dact0.τ).loc Cert.Dact0.main_arg0)
      ∧ r.2.mem ((c.tc : Thread Cert.Dact0.nD Cert.Dact0.τ).loc Cert.Dact0.main_arg1) = m ((c.tc : Thread Cert.Dact0.nD Cert.Dact0.τ).loc Cert.Dact0.main_arg1)
      ∧ r.2.mem ((c.tc : Thread Cert.Dact0.nD Cert.Dact0.τ).loc Cert.Dact0.main_arg2) = m ((c.tc : Thread Cert.Dact0.nD Cert.Dact0.τ).loc Cert.Dact0.main_arg2))
      ∧ r.2.sem = fun _ => 0)

def quiescent_Dact0Ideal [hDact0Ideal : Cert.Dact0Ideal.Facts] : Prop :=
  ∀ (m : (ℓ : Loc Cert.Dact0Ideal.nD Cert.Dact0Ideal.τ Cert.Dact0Ideal.sig) → Buf (Elt Ideal) ℓ) (g : Dev Cert.Dact0Ideal.nD → PrngReg), Pre_Dact0Ideal m →
    θ_run (Cert.Dact0Ideal.defs (F := Ideal)) (onTc (τ := Cert.Dact0Ideal.τ) (Cert.Dact0Ideal.main (F := Ideal))) ⟨m, fun _ => 0, g⟩ (fun r => (∀ c : Dev Cert.Dact0Ideal.nD,
      r.2.mem ((c.tc : Thread Cert.Dact0Ideal.nD Cert.Dact0Ideal.τ).loc Cert.Dact0Ideal.main_arg0) = m ((c.tc : Thread Cert.Dact0Ideal.nD Cert.Dact0Ideal.τ).loc Cert.Dact0Ideal.main_arg0)
      ∧ r.2.mem ((c.tc : Thread Cert.Dact0Ideal.nD Cert.Dact0Ideal.τ).loc Cert.Dact0Ideal.main_arg1) = m ((c.tc : Thread Cert.Dact0Ideal.nD Cert.Dact0Ideal.τ).loc Cert.Dact0Ideal.main_arg1)
      ∧ r.2.mem ((c.tc : Thread Cert.Dact0Ideal.nD Cert.Dact0Ideal.τ).loc Cert.Dact0Ideal.main_arg2) = m ((c.tc : Thread Cert.Dact0Ideal.nD Cert.Dact0Ideal.τ).loc Cert.Dact0Ideal.main_arg2))
      ∧ r.2.sem = fun _ => 0)

def quiescent_Dact0Ideal_pre_dact0_finite [hDact0Ideal : Cert.Dact0Ideal.Facts] [hPre_dact0_finite : Cert.Pre_dact0_finite.Facts] : Prop :=
  ∀ (m : (ℓ : Loc Cert.Dact0Ideal.nD Cert.Dact0Ideal.τ Cert.Dact0Ideal.sig) → Buf (Elt Ideal) ℓ) (g : Dev Cert.Dact0Ideal.nD → PrngReg), Pre_Dact0Ideal_dact0_finite m →
    θ_run (Cert.Dact0Ideal.defs (F := Ideal)) (onTc (τ := Cert.Dact0Ideal.τ) (Cert.Dact0Ideal.main (F := Ideal))) ⟨m, fun _ => 0, g⟩ (fun r => (∀ c : Dev Cert.Dact0Ideal.nD,
      r.2.mem ((c.tc : Thread Cert.Dact0Ideal.nD Cert.Dact0Ideal.τ).loc Cert.Dact0Ideal.main_arg0) = m ((c.tc : Thread Cert.Dact0Ideal.nD Cert.Dact0Ideal.τ).loc Cert.Dact0Ideal.main_arg0)
      ∧ r.2.mem ((c.tc : Thread Cert.Dact0Ideal.nD Cert.Dact0Ideal.τ).loc Cert.Dact0Ideal.main_arg1) = m ((c.tc : Thread Cert.Dact0Ideal.nD Cert.Dact0Ideal.τ).loc Cert.Dact0Ideal.main_arg1)
      ∧ r.2.mem ((c.tc : Thread Cert.Dact0Ideal.nD Cert.Dact0Ideal.τ).loc Cert.Dact0Ideal.main_arg2) = m ((c.tc : Thread Cert.Dact0Ideal.nD Cert.Dact0Ideal.τ).loc Cert.Dact0Ideal.main_arg2))
      ∧ r.2.sem = fun _ => 0)

def quiescent_Dact0ReferenceIdeal [hDact0ReferenceIdeal : Cert.Dact0ReferenceIdeal.Facts] : Prop :=
  ∀ (m : (ℓ : Loc Cert.Dact0ReferenceIdeal.nD Cert.Dact0ReferenceIdeal.τ Cert.Dact0ReferenceIdeal.sig) → Buf (Elt Ideal) ℓ) (g : Dev Cert.Dact0ReferenceIdeal.nD → PrngReg), Pre_Dact0ReferenceIdeal m →
    θ_run (Cert.Dact0ReferenceIdeal.defs (F := Ideal)) (onTc (τ := Cert.Dact0ReferenceIdeal.τ) (Cert.Dact0ReferenceIdeal.main (F := Ideal))) ⟨m, fun _ => 0, g⟩ (fun r => (∀ c : Dev Cert.Dact0ReferenceIdeal.nD,
      r.2.mem ((c.tc : Thread Cert.Dact0ReferenceIdeal.nD Cert.Dact0ReferenceIdeal.τ).loc Cert.Dact0ReferenceIdeal.main_arg0) = m ((c.tc : Thread Cert.Dact0ReferenceIdeal.nD Cert.Dact0ReferenceIdeal.τ).loc Cert.Dact0ReferenceIdeal.main_arg0)
      ∧ r.2.mem ((c.tc : Thread Cert.Dact0ReferenceIdeal.nD Cert.Dact0ReferenceIdeal.τ).loc Cert.Dact0ReferenceIdeal.main_arg1) = m ((c.tc : Thread Cert.Dact0ReferenceIdeal.nD Cert.Dact0ReferenceIdeal.τ).loc Cert.Dact0ReferenceIdeal.main_arg1)
      ∧ r.2.mem ((c.tc : Thread Cert.Dact0ReferenceIdeal.nD Cert.Dact0ReferenceIdeal.τ).loc Cert.Dact0ReferenceIdeal.main_arg2) = m ((c.tc : Thread Cert.Dact0ReferenceIdeal.nD Cert.Dact0ReferenceIdeal.τ).loc Cert.Dact0ReferenceIdeal.main_arg2))
      ∧ r.2.sem = fun _ => 0)

def quiescent_Dact0ReferenceIdeal_pre_dact0_finite [hDact0ReferenceIdeal : Cert.Dact0ReferenceIdeal.Facts] [hPre_dact0_finite : Cert.Pre_dact0_finite.Facts] : Prop :=
  ∀ (m : (ℓ : Loc Cert.Dact0ReferenceIdeal.nD Cert.Dact0ReferenceIdeal.τ Cert.Dact0ReferenceIdeal.sig) → Buf (Elt Ideal) ℓ) (g : Dev Cert.Dact0ReferenceIdeal.nD → PrngReg), Pre_Dact0ReferenceIdeal_dact0_finite m →
    θ_run (Cert.Dact0ReferenceIdeal.defs (F := Ideal)) (onTc (τ := Cert.Dact0ReferenceIdeal.τ) (Cert.Dact0ReferenceIdeal.main (F := Ideal))) ⟨m, fun _ => 0, g⟩ (fun r => (∀ c : Dev Cert.Dact0ReferenceIdeal.nD,
      r.2.mem ((c.tc : Thread Cert.Dact0ReferenceIdeal.nD Cert.Dact0ReferenceIdeal.τ).loc Cert.Dact0ReferenceIdeal.main_arg0) = m ((c.tc : Thread Cert.Dact0ReferenceIdeal.nD Cert.Dact0ReferenceIdeal.τ).loc Cert.Dact0ReferenceIdeal.main_arg0)
      ∧ r.2.mem ((c.tc : Thread Cert.Dact0ReferenceIdeal.nD Cert.Dact0ReferenceIdeal.τ).loc Cert.Dact0ReferenceIdeal.main_arg1) = m ((c.tc : Thread Cert.Dact0ReferenceIdeal.nD Cert.Dact0ReferenceIdeal.τ).loc Cert.Dact0ReferenceIdeal.main_arg1)
      ∧ r.2.mem ((c.tc : Thread Cert.Dact0ReferenceIdeal.nD Cert.Dact0ReferenceIdeal.τ).loc Cert.Dact0ReferenceIdeal.main_arg2) = m ((c.tc : Thread Cert.Dact0ReferenceIdeal.nD Cert.Dact0ReferenceIdeal.τ).loc Cert.Dact0ReferenceIdeal.main_arg2))
      ∧ r.2.sem = fun _ => 0)

def quiescent_Dh0 [hDh0 : Cert.Dh0.Facts] : Prop :=
  ∀ (m : (ℓ : Loc Cert.Dh0.nD Cert.Dh0.τ Cert.Dh0.sig) → Buf (Elt Bits) ℓ) (g : Dev Cert.Dh0.nD → PrngReg), Pre_Dh0 m →
    θ_run (Cert.Dh0.defs (F := Bits)) (onTc (τ := Cert.Dh0.τ) (Cert.Dh0.main (F := Bits))) ⟨m, fun _ => 0, g⟩ (fun r => (∀ c : Dev Cert.Dh0.nD,
      r.2.mem ((c.tc : Thread Cert.Dh0.nD Cert.Dh0.τ).loc Cert.Dh0.main_arg0) = m ((c.tc : Thread Cert.Dh0.nD Cert.Dh0.τ).loc Cert.Dh0.main_arg0)
      ∧ r.2.mem ((c.tc : Thread Cert.Dh0.nD Cert.Dh0.τ).loc Cert.Dh0.main_arg1) = m ((c.tc : Thread Cert.Dh0.nD Cert.Dh0.τ).loc Cert.Dh0.main_arg1))
      ∧ r.2.sem = fun _ => 0)

def quiescent_Dh0Ideal [hDh0Ideal : Cert.Dh0Ideal.Facts] : Prop :=
  ∀ (m : (ℓ : Loc Cert.Dh0Ideal.nD Cert.Dh0Ideal.τ Cert.Dh0Ideal.sig) → Buf (Elt Ideal) ℓ) (g : Dev Cert.Dh0Ideal.nD → PrngReg), Pre_Dh0Ideal m →
    θ_run (Cert.Dh0Ideal.defs (F := Ideal)) (onTc (τ := Cert.Dh0Ideal.τ) (Cert.Dh0Ideal.main (F := Ideal))) ⟨m, fun _ => 0, g⟩ (fun r => (∀ c : Dev Cert.Dh0Ideal.nD,
      r.2.mem ((c.tc : Thread Cert.Dh0Ideal.nD Cert.Dh0Ideal.τ).loc Cert.Dh0Ideal.main_arg0) = m ((c.tc : Thread Cert.Dh0Ideal.nD Cert.Dh0Ideal.τ).loc Cert.Dh0Ideal.main_arg0)
      ∧ r.2.mem ((c.tc : Thread Cert.Dh0Ideal.nD Cert.Dh0Ideal.τ).loc Cert.Dh0Ideal.main_arg1) = m ((c.tc : Thread Cert.Dh0Ideal.nD Cert.Dh0Ideal.τ).loc Cert.Dh0Ideal.main_arg1))
      ∧ r.2.sem = fun _ => 0)

def quiescent_Dh0ReferenceIdeal [hDh0ReferenceIdeal : Cert.Dh0ReferenceIdeal.Facts] : Prop :=
  ∀ (m : (ℓ : Loc Cert.Dh0ReferenceIdeal.nD Cert.Dh0ReferenceIdeal.τ Cert.Dh0ReferenceIdeal.sig) → Buf (Elt Ideal) ℓ) (g : Dev Cert.Dh0ReferenceIdeal.nD → PrngReg), Pre_Dh0ReferenceIdeal m →
    θ_run (Cert.Dh0ReferenceIdeal.defs (F := Ideal)) (onTc (τ := Cert.Dh0ReferenceIdeal.τ) (Cert.Dh0ReferenceIdeal.main (F := Ideal))) ⟨m, fun _ => 0, g⟩ (fun r => (∀ c : Dev Cert.Dh0ReferenceIdeal.nD,
      r.2.mem ((c.tc : Thread Cert.Dh0ReferenceIdeal.nD Cert.Dh0ReferenceIdeal.τ).loc Cert.Dh0ReferenceIdeal.main_arg0) = m ((c.tc : Thread Cert.Dh0ReferenceIdeal.nD Cert.Dh0ReferenceIdeal.τ).loc Cert.Dh0ReferenceIdeal.main_arg0)
      ∧ r.2.mem ((c.tc : Thread Cert.Dh0ReferenceIdeal.nD Cert.Dh0ReferenceIdeal.τ).loc Cert.Dh0ReferenceIdeal.main_arg1) = m ((c.tc : Thread Cert.Dh0ReferenceIdeal.nD Cert.Dh0ReferenceIdeal.τ).loc Cert.Dh0ReferenceIdeal.main_arg1))
      ∧ r.2.sem = fun _ => 0)

def quiescent_Gu0 [hGu0 : Cert.Gu0.Facts] : Prop :=
  ∀ (m : (ℓ : Loc Cert.Gu0.nD Cert.Gu0.τ Cert.Gu0.sig) → Buf (Elt Bits) ℓ) (g : Dev Cert.Gu0.nD → PrngReg), Pre_Gu0 m →
    θ_run (Cert.Gu0.defs (F := Bits)) (onTc (τ := Cert.Gu0.τ) (Cert.Gu0.main (F := Bits))) ⟨m, fun _ => 0, g⟩ (fun r => (∀ c : Dev Cert.Gu0.nD,
      r.2.mem ((c.tc : Thread Cert.Gu0.nD Cert.Gu0.τ).loc Cert.Gu0.main_arg0) = m ((c.tc : Thread Cert.Gu0.nD Cert.Gu0.τ).loc Cert.Gu0.main_arg0)
      ∧ r.2.mem ((c.tc : Thread Cert.Gu0.nD Cert.Gu0.τ).loc Cert.Gu0.main_arg1) = m ((c.tc : Thread Cert.Gu0.nD Cert.Gu0.τ).loc Cert.Gu0.main_arg1))
      ∧ r.2.sem = fun _ => 0)

def quiescent_Gu0Ideal [hGu0Ideal : Cert.Gu0Ideal.Facts] : Prop :=
  ∀ (m : (ℓ : Loc Cert.Gu0Ideal.nD Cert.Gu0Ideal.τ Cert.Gu0Ideal.sig) → Buf (Elt Ideal) ℓ) (g : Dev Cert.Gu0Ideal.nD → PrngReg), Pre_Gu0Ideal m →
    θ_run (Cert.Gu0Ideal.defs (F := Ideal)) (onTc (τ := Cert.Gu0Ideal.τ) (Cert.Gu0Ideal.main (F := Ideal))) ⟨m, fun _ => 0, g⟩ (fun r => (∀ c : Dev Cert.Gu0Ideal.nD,
      r.2.mem ((c.tc : Thread Cert.Gu0Ideal.nD Cert.Gu0Ideal.τ).loc Cert.Gu0Ideal.main_arg0) = m ((c.tc : Thread Cert.Gu0Ideal.nD Cert.Gu0Ideal.τ).loc Cert.Gu0Ideal.main_arg0)
      ∧ r.2.mem ((c.tc : Thread Cert.Gu0Ideal.nD Cert.Gu0Ideal.τ).loc Cert.Gu0Ideal.main_arg1) = m ((c.tc : Thread Cert.Gu0Ideal.nD Cert.Gu0Ideal.τ).loc Cert.Gu0Ideal.main_arg1))
      ∧ r.2.sem = fun _ => 0)

def quiescent_Gu0ReferenceIdeal [hGu0ReferenceIdeal : Cert.Gu0ReferenceIdeal.Facts] : Prop :=
  ∀ (m : (ℓ : Loc Cert.Gu0ReferenceIdeal.nD Cert.Gu0ReferenceIdeal.τ Cert.Gu0ReferenceIdeal.sig) → Buf (Elt Ideal) ℓ) (g : Dev Cert.Gu0ReferenceIdeal.nD → PrngReg), Pre_Gu0ReferenceIdeal m →
    θ_run (Cert.Gu0ReferenceIdeal.defs (F := Ideal)) (onTc (τ := Cert.Gu0ReferenceIdeal.τ) (Cert.Gu0ReferenceIdeal.main (F := Ideal))) ⟨m, fun _ => 0, g⟩ (fun r => (∀ c : Dev Cert.Gu0ReferenceIdeal.nD,
      r.2.mem ((c.tc : Thread Cert.Gu0ReferenceIdeal.nD Cert.Gu0ReferenceIdeal.τ).loc Cert.Gu0ReferenceIdeal.main_arg0) = m ((c.tc : Thread Cert.Gu0ReferenceIdeal.nD Cert.Gu0ReferenceIdeal.τ).loc Cert.Gu0ReferenceIdeal.main_arg0)
      ∧ r.2.mem ((c.tc : Thread Cert.Gu0ReferenceIdeal.nD Cert.Gu0ReferenceIdeal.τ).loc Cert.Gu0ReferenceIdeal.main_arg1) = m ((c.tc : Thread Cert.Gu0ReferenceIdeal.nD Cert.Gu0ReferenceIdeal.τ).loc Cert.Gu0ReferenceIdeal.main_arg1))
      ∧ r.2.sem = fun _ => 0)

def quiescent_Down0 [hDown0 : Cert.Down0.Facts] : Prop :=
  ∀ (m : (ℓ : Loc Cert.Down0.nD Cert.Down0.τ Cert.Down0.sig) → Buf (Elt Bits) ℓ) (g : Dev Cert.Down0.nD → PrngReg), Pre_Down0 m →
    θ_run (Cert.Down0.defs (F := Bits)) (onTc (τ := Cert.Down0.τ) (Cert.Down0.main (F := Bits))) ⟨m, fun _ => 0, g⟩ (fun r => (∀ c : Dev Cert.Down0.nD,
      r.2.mem ((c.tc : Thread Cert.Down0.nD Cert.Down0.τ).loc Cert.Down0.main_arg0) = m ((c.tc : Thread Cert.Down0.nD Cert.Down0.τ).loc Cert.Down0.main_arg0)
      ∧ r.2.mem ((c.tc : Thread Cert.Down0.nD Cert.Down0.τ).loc Cert.Down0.main_arg1) = m ((c.tc : Thread Cert.Down0.nD Cert.Down0.τ).loc Cert.Down0.main_arg1)
      ∧ r.2.mem ((c.tc : Thread Cert.Down0.nD Cert.Down0.τ).loc Cert.Down0.main_arg2) = m ((c.tc : Thread Cert.Down0.nD Cert.Down0.τ).loc Cert.Down0.main_arg2))
      ∧ r.2.sem = fun _ => 0)

def quiescent_Down0Ideal [hDown0Ideal : Cert.Down0Ideal.Facts] : Prop :=
  ∀ (m : (ℓ : Loc Cert.Down0Ideal.nD Cert.Down0Ideal.τ Cert.Down0Ideal.sig) → Buf (Elt Ideal) ℓ) (g : Dev Cert.Down0Ideal.nD → PrngReg), Pre_Down0Ideal m →
    θ_run (Cert.Down0Ideal.defs (F := Ideal)) (onTc (τ := Cert.Down0Ideal.τ) (Cert.Down0Ideal.main (F := Ideal))) ⟨m, fun _ => 0, g⟩ (fun r => (∀ c : Dev Cert.Down0Ideal.nD,
      r.2.mem ((c.tc : Thread Cert.Down0Ideal.nD Cert.Down0Ideal.τ).loc Cert.Down0Ideal.main_arg0) = m ((c.tc : Thread Cert.Down0Ideal.nD Cert.Down0Ideal.τ).loc Cert.Down0Ideal.main_arg0)
      ∧ r.2.mem ((c.tc : Thread Cert.Down0Ideal.nD Cert.Down0Ideal.τ).loc Cert.Down0Ideal.main_arg1) = m ((c.tc : Thread Cert.Down0Ideal.nD Cert.Down0Ideal.τ).loc Cert.Down0Ideal.main_arg1)
      ∧ r.2.mem ((c.tc : Thread Cert.Down0Ideal.nD Cert.Down0Ideal.τ).loc Cert.Down0Ideal.main_arg2) = m ((c.tc : Thread Cert.Down0Ideal.nD Cert.Down0Ideal.τ).loc Cert.Down0Ideal.main_arg2))
      ∧ r.2.sem = fun _ => 0)

def quiescent_Down0ReferenceIdeal [hDown0ReferenceIdeal : Cert.Down0ReferenceIdeal.Facts] : Prop :=
  ∀ (m : (ℓ : Loc Cert.Down0ReferenceIdeal.nD Cert.Down0ReferenceIdeal.τ Cert.Down0ReferenceIdeal.sig) → Buf (Elt Ideal) ℓ) (g : Dev Cert.Down0ReferenceIdeal.nD → PrngReg), Pre_Down0ReferenceIdeal m →
    θ_run (Cert.Down0ReferenceIdeal.defs (F := Ideal)) (onTc (τ := Cert.Down0ReferenceIdeal.τ) (Cert.Down0ReferenceIdeal.main (F := Ideal))) ⟨m, fun _ => 0, g⟩ (fun r => (∀ c : Dev Cert.Down0ReferenceIdeal.nD,
      r.2.mem ((c.tc : Thread Cert.Down0ReferenceIdeal.nD Cert.Down0ReferenceIdeal.τ).loc Cert.Down0ReferenceIdeal.main_arg0) = m ((c.tc : Thread Cert.Down0ReferenceIdeal.nD Cert.Down0ReferenceIdeal.τ).loc Cert.Down0ReferenceIdeal.main_arg0)
      ∧ r.2.mem ((c.tc : Thread Cert.Down0ReferenceIdeal.nD Cert.Down0ReferenceIdeal.τ).loc Cert.Down0ReferenceIdeal.main_arg1) = m ((c.tc : Thread Cert.Down0ReferenceIdeal.nD Cert.Down0ReferenceIdeal.τ).loc Cert.Down0ReferenceIdeal.main_arg1)
      ∧ r.2.mem ((c.tc : Thread Cert.Down0ReferenceIdeal.nD Cert.Down0ReferenceIdeal.τ).loc Cert.Down0ReferenceIdeal.main_arg2) = m ((c.tc : Thread Cert.Down0ReferenceIdeal.nD Cert.Down0ReferenceIdeal.τ).loc Cert.Down0ReferenceIdeal.main_arg2))
      ∧ r.2.sem = fun _ => 0)

def quiescent_Sbin [hSbin : Cert.Sbin.Facts] : Prop :=
  ∀ (m : (ℓ : Loc Cert.Sbin.nD Cert.Sbin.τ Cert.Sbin.sig) → Buf (Elt Bits) ℓ) (g : Dev Cert.Sbin.nD → PrngReg), Pre_Sbin m →
    θ_run (Cert.Sbin.defs (F := Bits)) (onTc (τ := Cert.Sbin.τ) (Cert.Sbin.main (F := Bits))) ⟨m, fun _ => 0, g⟩ (fun r => (∀ c : Dev Cert.Sbin.nD,
      r.2.mem ((c.tc : Thread Cert.Sbin.nD Cert.Sbin.τ).loc Cert.Sbin.main_arg0) = m ((c.tc : Thread Cert.Sbin.nD Cert.Sbin.τ).loc Cert.Sbin.main_arg0)
      ∧ r.2.mem ((c.tc : Thread Cert.Sbin.nD Cert.Sbin.τ).loc Cert.Sbin.main_arg1) = m ((c.tc : Thread Cert.Sbin.nD Cert.Sbin.τ).loc Cert.Sbin.main_arg1))
      ∧ r.2.sem = fun _ => 0)

def quiescent_SbinIdeal [hSbinIdeal : Cert.SbinIdeal.Facts] : Prop :=
  ∀ (m : (ℓ : Loc Cert.SbinIdeal.nD Cert.SbinIdeal.τ Cert.SbinIdeal.sig) → Buf (Elt Ideal) ℓ) (g : Dev Cert.SbinIdeal.nD → PrngReg), Pre_SbinIdeal m →
    θ_run (Cert.SbinIdeal.defs (F := Ideal)) (onTc (τ := Cert.SbinIdeal.τ) (Cert.SbinIdeal.main (F := Ideal))) ⟨m, fun _ => 0, g⟩ (fun r => (∀ c : Dev Cert.SbinIdeal.nD,
      r.2.mem ((c.tc : Thread Cert.SbinIdeal.nD Cert.SbinIdeal.τ).loc Cert.SbinIdeal.main_arg0) = m ((c.tc : Thread Cert.SbinIdeal.nD Cert.SbinIdeal.τ).loc Cert.SbinIdeal.main_arg0)
      ∧ r.2.mem ((c.tc : Thread Cert.SbinIdeal.nD Cert.SbinIdeal.τ).loc Cert.SbinIdeal.main_arg1) = m ((c.tc : Thread Cert.SbinIdeal.nD Cert.SbinIdeal.τ).loc Cert.SbinIdeal.main_arg1))
      ∧ r.2.sem = fun _ => 0)

def quiescent_SbinReferenceIdeal [hSbinReferenceIdeal : Cert.SbinReferenceIdeal.Facts] : Prop :=
  ∀ (m : (ℓ : Loc Cert.SbinReferenceIdeal.nD Cert.SbinReferenceIdeal.τ Cert.SbinReferenceIdeal.sig) → Buf (Elt Ideal) ℓ) (g : Dev Cert.SbinReferenceIdeal.nD → PrngReg), Pre_SbinReferenceIdeal m →
    θ_run (Cert.SbinReferenceIdeal.defs (F := Ideal)) (onTc (τ := Cert.SbinReferenceIdeal.τ) (Cert.SbinReferenceIdeal.main (F := Ideal))) ⟨m, fun _ => 0, g⟩ (fun r => (∀ c : Dev Cert.SbinReferenceIdeal.nD,
      r.2.mem ((c.tc : Thread Cert.SbinReferenceIdeal.nD Cert.SbinReferenceIdeal.τ).loc Cert.SbinReferenceIdeal.main_arg0) = m ((c.tc : Thread Cert.SbinReferenceIdeal.nD Cert.SbinReferenceIdeal.τ).loc Cert.SbinReferenceIdeal.main_arg0)
      ∧ r.2.mem ((c.tc : Thread Cert.SbinReferenceIdeal.nD Cert.SbinReferenceIdeal.τ).loc Cert.SbinReferenceIdeal.main_arg1) = m ((c.tc : Thread Cert.SbinReferenceIdeal.nD Cert.SbinReferenceIdeal.τ).loc Cert.SbinReferenceIdeal.main_arg1))
      ∧ r.2.sem = fun _ => 0)

def quiescent_Ssin [hSsin : Cert.Ssin.Facts] : Prop :=
  ∀ (m : (ℓ : Loc Cert.Ssin.nD Cert.Ssin.τ Cert.Ssin.sig) → Buf (Elt Bits) ℓ) (g : Dev Cert.Ssin.nD → PrngReg), Pre_Ssin m →
    θ_run (Cert.Ssin.defs (F := Bits)) (onTc (τ := Cert.Ssin.τ) (Cert.Ssin.main (F := Bits))) ⟨m, fun _ => 0, g⟩ (fun r => (∀ c : Dev Cert.Ssin.nD,
      r.2.mem ((c.tc : Thread Cert.Ssin.nD Cert.Ssin.τ).loc Cert.Ssin.main_arg0) = m ((c.tc : Thread Cert.Ssin.nD Cert.Ssin.τ).loc Cert.Ssin.main_arg0)
      ∧ r.2.mem ((c.tc : Thread Cert.Ssin.nD Cert.Ssin.τ).loc Cert.Ssin.main_arg1) = m ((c.tc : Thread Cert.Ssin.nD Cert.Ssin.τ).loc Cert.Ssin.main_arg1))
      ∧ r.2.sem = fun _ => 0)

def quiescent_SsinIdeal [hSsinIdeal : Cert.SsinIdeal.Facts] : Prop :=
  ∀ (m : (ℓ : Loc Cert.SsinIdeal.nD Cert.SsinIdeal.τ Cert.SsinIdeal.sig) → Buf (Elt Ideal) ℓ) (g : Dev Cert.SsinIdeal.nD → PrngReg), Pre_SsinIdeal m →
    θ_run (Cert.SsinIdeal.defs (F := Ideal)) (onTc (τ := Cert.SsinIdeal.τ) (Cert.SsinIdeal.main (F := Ideal))) ⟨m, fun _ => 0, g⟩ (fun r => (∀ c : Dev Cert.SsinIdeal.nD,
      r.2.mem ((c.tc : Thread Cert.SsinIdeal.nD Cert.SsinIdeal.τ).loc Cert.SsinIdeal.main_arg0) = m ((c.tc : Thread Cert.SsinIdeal.nD Cert.SsinIdeal.τ).loc Cert.SsinIdeal.main_arg0)
      ∧ r.2.mem ((c.tc : Thread Cert.SsinIdeal.nD Cert.SsinIdeal.τ).loc Cert.SsinIdeal.main_arg1) = m ((c.tc : Thread Cert.SsinIdeal.nD Cert.SsinIdeal.τ).loc Cert.SsinIdeal.main_arg1))
      ∧ r.2.sem = fun _ => 0)

def quiescent_SsinReferenceIdeal [hSsinReferenceIdeal : Cert.SsinReferenceIdeal.Facts] : Prop :=
  ∀ (m : (ℓ : Loc Cert.SsinReferenceIdeal.nD Cert.SsinReferenceIdeal.τ Cert.SsinReferenceIdeal.sig) → Buf (Elt Ideal) ℓ) (g : Dev Cert.SsinReferenceIdeal.nD → PrngReg), Pre_SsinReferenceIdeal m →
    θ_run (Cert.SsinReferenceIdeal.defs (F := Ideal)) (onTc (τ := Cert.SsinReferenceIdeal.τ) (Cert.SsinReferenceIdeal.main (F := Ideal))) ⟨m, fun _ => 0, g⟩ (fun r => (∀ c : Dev Cert.SsinReferenceIdeal.nD,
      r.2.mem ((c.tc : Thread Cert.SsinReferenceIdeal.nD Cert.SsinReferenceIdeal.τ).loc Cert.SsinReferenceIdeal.main_arg0) = m ((c.tc : Thread Cert.SsinReferenceIdeal.nD Cert.SsinReferenceIdeal.τ).loc Cert.SsinReferenceIdeal.main_arg0)
      ∧ r.2.mem ((c.tc : Thread Cert.SsinReferenceIdeal.nD Cert.SsinReferenceIdeal.τ).loc Cert.SsinReferenceIdeal.main_arg1) = m ((c.tc : Thread Cert.SsinReferenceIdeal.nD Cert.SsinReferenceIdeal.τ).loc Cert.SsinReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_Dcat [hDcat : Cert.Dcat.Facts] : Prop :=
  ∀ (m : (ℓ : Loc Cert.Dcat.nD Cert.Dcat.τ Cert.Dcat.sig) → Buf (Elt Bits) ℓ) (g : Dev Cert.Dcat.nD → PrngReg), Pre_Dcat m →
    θ_run (Cert.Dcat.defs (F := Bits)) (onTc (τ := Cert.Dcat.τ) (Cert.Dcat.main (F := Bits))) ⟨m, fun _ => 0, g⟩ (fun r => (∀ c : Dev Cert.Dcat.nD,
      r.2.mem ((c.tc : Thread Cert.Dcat.nD Cert.Dcat.τ).loc Cert.Dcat.main_arg0) = m ((c.tc : Thread Cert.Dcat.nD Cert.Dcat.τ).loc Cert.Dcat.main_arg0)
      ∧ r.2.mem ((c.tc : Thread Cert.Dcat.nD Cert.Dcat.τ).loc Cert.Dcat.main_arg1) = m ((c.tc : Thread Cert.Dcat.nD Cert.Dcat.τ).loc Cert.Dcat.main_arg1))
      ∧ r.2.sem = fun _ => 0)

def quiescent_DcatIdeal [hDcatIdeal : Cert.DcatIdeal.Facts] : Prop :=
  ∀ (m : (ℓ : Loc Cert.DcatIdeal.nD Cert.DcatIdeal.τ Cert.DcatIdeal.sig) → Buf (Elt Ideal) ℓ) (g : Dev Cert.DcatIdeal.nD → PrngReg), Pre_DcatIdeal m →
    θ_run (Cert.DcatIdeal.defs (F := Ideal)) (onTc (τ := Cert.DcatIdeal.τ) (Cert.DcatIdeal.main (F := Ideal))) ⟨m, fun _ => 0, g⟩ (fun r => (∀ c : Dev Cert.DcatIdeal.nD,
      r.2.mem ((c.tc : Thread Cert.DcatIdeal.nD Cert.DcatIdeal.τ).loc Cert.DcatIdeal.main_arg0) = m ((c.tc : Thread Cert.DcatIdeal.nD Cert.DcatIdeal.τ).loc Cert.DcatIdeal.main_arg0)
      ∧ r.2.mem ((c.tc : Thread Cert.DcatIdeal.nD Cert.DcatIdeal.τ).loc Cert.DcatIdeal.main_arg1) = m ((c.tc : Thread Cert.DcatIdeal.nD Cert.DcatIdeal.τ).loc Cert.DcatIdeal.main_arg1))
      ∧ r.2.sem = fun _ => 0)

def quiescent_DcatReferenceIdeal [hDcatReferenceIdeal : Cert.DcatReferenceIdeal.Facts] : Prop :=
  ∀ (m : (ℓ : Loc Cert.DcatReferenceIdeal.nD Cert.DcatReferenceIdeal.τ Cert.DcatReferenceIdeal.sig) → Buf (Elt Ideal) ℓ) (g : Dev Cert.DcatReferenceIdeal.nD → PrngReg), Pre_DcatReferenceIdeal m →
    θ_run (Cert.DcatReferenceIdeal.defs (F := Ideal)) (onTc (τ := Cert.DcatReferenceIdeal.τ) (Cert.DcatReferenceIdeal.main (F := Ideal))) ⟨m, fun _ => 0, g⟩ (fun r => (∀ c : Dev Cert.DcatReferenceIdeal.nD,
      r.2.mem ((c.tc : Thread Cert.DcatReferenceIdeal.nD Cert.DcatReferenceIdeal.τ).loc Cert.DcatReferenceIdeal.main_arg0) = m ((c.tc : Thread Cert.DcatReferenceIdeal.nD Cert.DcatReferenceIdeal.τ).loc Cert.DcatReferenceIdeal.main_arg0)
      ∧ r.2.mem ((c.tc : Thread Cert.DcatReferenceIdeal.nD Cert.DcatReferenceIdeal.τ).loc Cert.DcatReferenceIdeal.main_arg1) = m ((c.tc : Thread Cert.DcatReferenceIdeal.nD Cert.DcatReferenceIdeal.τ).loc Cert.DcatReferenceIdeal.main_arg1))
      ∧ r.2.sem = fun _ => 0)

def quiescent_Dhsb [hDhsb : Cert.Dhsb.Facts] : Prop :=
  ∀ (m : (ℓ : Loc Cert.Dhsb.nD Cert.Dhsb.τ Cert.Dhsb.sig) → Buf (Elt Bits) ℓ) (g : Dev Cert.Dhsb.nD → PrngReg), Pre_Dhsb m →
    θ_run (Cert.Dhsb.defs (F := Bits)) (onTc (τ := Cert.Dhsb.τ) (Cert.Dhsb.main (F := Bits))) ⟨m, fun _ => 0, g⟩ (fun r => (∀ c : Dev Cert.Dhsb.nD,
      r.2.mem ((c.tc : Thread Cert.Dhsb.nD Cert.Dhsb.τ).loc Cert.Dhsb.main_arg0) = m ((c.tc : Thread Cert.Dhsb.nD Cert.Dhsb.τ).loc Cert.Dhsb.main_arg0)
      ∧ r.2.mem ((c.tc : Thread Cert.Dhsb.nD Cert.Dhsb.τ).loc Cert.Dhsb.main_arg1) = m ((c.tc : Thread Cert.Dhsb.nD Cert.Dhsb.τ).loc Cert.Dhsb.main_arg1))
      ∧ r.2.sem = fun _ => 0)

def quiescent_DhsbIdeal [hDhsbIdeal : Cert.DhsbIdeal.Facts] : Prop :=
  ∀ (m : (ℓ : Loc Cert.DhsbIdeal.nD Cert.DhsbIdeal.τ Cert.DhsbIdeal.sig) → Buf (Elt Ideal) ℓ) (g : Dev Cert.DhsbIdeal.nD → PrngReg), Pre_DhsbIdeal m →
    θ_run (Cert.DhsbIdeal.defs (F := Ideal)) (onTc (τ := Cert.DhsbIdeal.τ) (Cert.DhsbIdeal.main (F := Ideal))) ⟨m, fun _ => 0, g⟩ (fun r => (∀ c : Dev Cert.DhsbIdeal.nD,
      r.2.mem ((c.tc : Thread Cert.DhsbIdeal.nD Cert.DhsbIdeal.τ).loc Cert.DhsbIdeal.main_arg0) = m ((c.tc : Thread Cert.DhsbIdeal.nD Cert.DhsbIdeal.τ).loc Cert.DhsbIdeal.main_arg0)
      ∧ r.2.mem ((c.tc : Thread Cert.DhsbIdeal.nD Cert.DhsbIdeal.τ).loc Cert.DhsbIdeal.main_arg1) = m ((c.tc : Thread Cert.DhsbIdeal.nD Cert.DhsbIdeal.τ).loc Cert.DhsbIdeal.main_arg1))
      ∧ r.2.sem = fun _ => 0)

def quiescent_DhsbReferenceIdeal [hDhsbReferenceIdeal : Cert.DhsbReferenceIdeal.Facts] : Prop :=
  ∀ (m : (ℓ : Loc Cert.DhsbReferenceIdeal.nD Cert.DhsbReferenceIdeal.τ Cert.DhsbReferenceIdeal.sig) → Buf (Elt Ideal) ℓ) (g : Dev Cert.DhsbReferenceIdeal.nD → PrngReg), Pre_DhsbReferenceIdeal m →
    θ_run (Cert.DhsbReferenceIdeal.defs (F := Ideal)) (onTc (τ := Cert.DhsbReferenceIdeal.τ) (Cert.DhsbReferenceIdeal.main (F := Ideal))) ⟨m, fun _ => 0, g⟩ (fun r => (∀ c : Dev Cert.DhsbReferenceIdeal.nD,
      r.2.mem ((c.tc : Thread Cert.DhsbReferenceIdeal.nD Cert.DhsbReferenceIdeal.τ).loc Cert.DhsbReferenceIdeal.main_arg0) = m ((c.tc : Thread Cert.DhsbReferenceIdeal.nD Cert.DhsbReferenceIdeal.τ).loc Cert.DhsbReferenceIdeal.main_arg0)
      ∧ r.2.mem ((c.tc : Thread Cert.DhsbReferenceIdeal.nD Cert.DhsbReferenceIdeal.τ).loc Cert.DhsbReferenceIdeal.main_arg1) = m ((c.tc : Thread Cert.DhsbReferenceIdeal.nD Cert.DhsbReferenceIdeal.τ).loc Cert.DhsbReferenceIdeal.main_arg1))
      ∧ r.2.sem = fun _ => 0)

def quiescent_Sbin0 [hSbin0 : Cert.Sbin0.Facts] : Prop :=
  ∀ (m : (ℓ : Loc Cert.Sbin0.nD Cert.Sbin0.τ Cert.Sbin0.sig) → Buf (Elt Bits) ℓ) (g : Dev Cert.Sbin0.nD → PrngReg), Pre_Sbin0 m →
    θ_run (Cert.Sbin0.defs (F := Bits)) (onTc (τ := Cert.Sbin0.τ) (Cert.Sbin0.main (F := Bits))) ⟨m, fun _ => 0, g⟩ (fun r => (∀ c : Dev Cert.Sbin0.nD,
      r.2.mem ((c.tc : Thread Cert.Sbin0.nD Cert.Sbin0.τ).loc Cert.Sbin0.main_arg0) = m ((c.tc : Thread Cert.Sbin0.nD Cert.Sbin0.τ).loc Cert.Sbin0.main_arg0)
      ∧ r.2.mem ((c.tc : Thread Cert.Sbin0.nD Cert.Sbin0.τ).loc Cert.Sbin0.main_arg1) = m ((c.tc : Thread Cert.Sbin0.nD Cert.Sbin0.τ).loc Cert.Sbin0.main_arg1))
      ∧ r.2.sem = fun _ => 0)

def quiescent_Sbin0Ideal [hSbin0Ideal : Cert.Sbin0Ideal.Facts] : Prop :=
  ∀ (m : (ℓ : Loc Cert.Sbin0Ideal.nD Cert.Sbin0Ideal.τ Cert.Sbin0Ideal.sig) → Buf (Elt Ideal) ℓ) (g : Dev Cert.Sbin0Ideal.nD → PrngReg), Pre_Sbin0Ideal m →
    θ_run (Cert.Sbin0Ideal.defs (F := Ideal)) (onTc (τ := Cert.Sbin0Ideal.τ) (Cert.Sbin0Ideal.main (F := Ideal))) ⟨m, fun _ => 0, g⟩ (fun r => (∀ c : Dev Cert.Sbin0Ideal.nD,
      r.2.mem ((c.tc : Thread Cert.Sbin0Ideal.nD Cert.Sbin0Ideal.τ).loc Cert.Sbin0Ideal.main_arg0) = m ((c.tc : Thread Cert.Sbin0Ideal.nD Cert.Sbin0Ideal.τ).loc Cert.Sbin0Ideal.main_arg0)
      ∧ r.2.mem ((c.tc : Thread Cert.Sbin0Ideal.nD Cert.Sbin0Ideal.τ).loc Cert.Sbin0Ideal.main_arg1) = m ((c.tc : Thread Cert.Sbin0Ideal.nD Cert.Sbin0Ideal.τ).loc Cert.Sbin0Ideal.main_arg1))
      ∧ r.2.sem = fun _ => 0)

def quiescent_Sbin0ReferenceIdeal [hSbin0ReferenceIdeal : Cert.Sbin0ReferenceIdeal.Facts] : Prop :=
  ∀ (m : (ℓ : Loc Cert.Sbin0ReferenceIdeal.nD Cert.Sbin0ReferenceIdeal.τ Cert.Sbin0ReferenceIdeal.sig) → Buf (Elt Ideal) ℓ) (g : Dev Cert.Sbin0ReferenceIdeal.nD → PrngReg), Pre_Sbin0ReferenceIdeal m →
    θ_run (Cert.Sbin0ReferenceIdeal.defs (F := Ideal)) (onTc (τ := Cert.Sbin0ReferenceIdeal.τ) (Cert.Sbin0ReferenceIdeal.main (F := Ideal))) ⟨m, fun _ => 0, g⟩ (fun r => (∀ c : Dev Cert.Sbin0ReferenceIdeal.nD,
      r.2.mem ((c.tc : Thread Cert.Sbin0ReferenceIdeal.nD Cert.Sbin0ReferenceIdeal.τ).loc Cert.Sbin0ReferenceIdeal.main_arg0) = m ((c.tc : Thread Cert.Sbin0ReferenceIdeal.nD Cert.Sbin0ReferenceIdeal.τ).loc Cert.Sbin0ReferenceIdeal.main_arg0)
      ∧ r.2.mem ((c.tc : Thread Cert.Sbin0ReferenceIdeal.nD Cert.Sbin0ReferenceIdeal.τ).loc Cert.Sbin0ReferenceIdeal.main_arg1) = m ((c.tc : Thread Cert.Sbin0ReferenceIdeal.nD Cert.Sbin0ReferenceIdeal.τ).loc Cert.Sbin0ReferenceIdeal.main_arg1))
      ∧ r.2.sem = fun _ => 0)

def quiescent_Ssin0 [hSsin0 : Cert.Ssin0.Facts] : Prop :=
  ∀ (m : (ℓ : Loc Cert.Ssin0.nD Cert.Ssin0.τ Cert.Ssin0.sig) → Buf (Elt Bits) ℓ) (g : Dev Cert.Ssin0.nD → PrngReg), Pre_Ssin0 m →
    θ_run (Cert.Ssin0.defs (F := Bits)) (onTc (τ := Cert.Ssin0.τ) (Cert.Ssin0.main (F := Bits))) ⟨m, fun _ => 0, g⟩ (fun r => (∀ c : Dev Cert.Ssin0.nD,
      r.2.mem ((c.tc : Thread Cert.Ssin0.nD Cert.Ssin0.τ).loc Cert.Ssin0.main_arg0) = m ((c.tc : Thread Cert.Ssin0.nD Cert.Ssin0.τ).loc Cert.Ssin0.main_arg0)
      ∧ r.2.mem ((c.tc : Thread Cert.Ssin0.nD Cert.Ssin0.τ).loc Cert.Ssin0.main_arg1) = m ((c.tc : Thread Cert.Ssin0.nD Cert.Ssin0.τ).loc Cert.Ssin0.main_arg1))
      ∧ r.2.sem = fun _ => 0)

def quiescent_Ssin0Ideal [hSsin0Ideal : Cert.Ssin0Ideal.Facts] : Prop :=
  ∀ (m : (ℓ : Loc Cert.Ssin0Ideal.nD Cert.Ssin0Ideal.τ Cert.Ssin0Ideal.sig) → Buf (Elt Ideal) ℓ) (g : Dev Cert.Ssin0Ideal.nD → PrngReg), Pre_Ssin0Ideal m →
    θ_run (Cert.Ssin0Ideal.defs (F := Ideal)) (onTc (τ := Cert.Ssin0Ideal.τ) (Cert.Ssin0Ideal.main (F := Ideal))) ⟨m, fun _ => 0, g⟩ (fun r => (∀ c : Dev Cert.Ssin0Ideal.nD,
      r.2.mem ((c.tc : Thread Cert.Ssin0Ideal.nD Cert.Ssin0Ideal.τ).loc Cert.Ssin0Ideal.main_arg0) = m ((c.tc : Thread Cert.Ssin0Ideal.nD Cert.Ssin0Ideal.τ).loc Cert.Ssin0Ideal.main_arg0)
      ∧ r.2.mem ((c.tc : Thread Cert.Ssin0Ideal.nD Cert.Ssin0Ideal.τ).loc Cert.Ssin0Ideal.main_arg1) = m ((c.tc : Thread Cert.Ssin0Ideal.nD Cert.Ssin0Ideal.τ).loc Cert.Ssin0Ideal.main_arg1))
      ∧ r.2.sem = fun _ => 0)

def quiescent_Ssin0ReferenceIdeal [hSsin0ReferenceIdeal : Cert.Ssin0ReferenceIdeal.Facts] : Prop :=
  ∀ (m : (ℓ : Loc Cert.Ssin0ReferenceIdeal.nD Cert.Ssin0ReferenceIdeal.τ Cert.Ssin0ReferenceIdeal.sig) → Buf (Elt Ideal) ℓ) (g : Dev Cert.Ssin0ReferenceIdeal.nD → PrngReg), Pre_Ssin0ReferenceIdeal m →
    θ_run (Cert.Ssin0ReferenceIdeal.defs (F := Ideal)) (onTc (τ := Cert.Ssin0ReferenceIdeal.τ) (Cert.Ssin0ReferenceIdeal.main (F := Ideal))) ⟨m, fun _ => 0, g⟩ (fun r => (∀ c : Dev Cert.Ssin0ReferenceIdeal.nD,
      r.2.mem ((c.tc : Thread Cert.Ssin0ReferenceIdeal.nD Cert.Ssin0ReferenceIdeal.τ).loc Cert.Ssin0ReferenceIdeal.main_arg0) = m ((c.tc : Thread Cert.Ssin0ReferenceIdeal.nD Cert.Ssin0ReferenceIdeal.τ).loc Cert.Ssin0ReferenceIdeal.main_arg0)
      ∧ r.2.mem ((c.tc : Thread Cert.Ssin0ReferenceIdeal.nD Cert.Ssin0ReferenceIdeal.τ).loc Cert.Ssin0ReferenceIdeal.main_arg1) = m ((c.tc : Thread Cert.Ssin0ReferenceIdeal.nD Cert.Ssin0ReferenceIdeal.τ).loc Cert.Ssin0ReferenceIdeal.main_arg1))
      ∧ r.2.sem = fun _ => 0)

def quiescent_Out0 [hOut0 : Cert.Out0.Facts] : Prop :=
  ∀ (m : (ℓ : Loc Cert.Out0.nD Cert.Out0.τ Cert.Out0.sig) → Buf (Elt Bits) ℓ) (g : Dev Cert.Out0.nD → PrngReg), Pre_Out0 m →
    θ_run (Cert.Out0.defs (F := Bits)) (onTc (τ := Cert.Out0.τ) (Cert.Out0.main (F := Bits))) ⟨m, fun _ => 0, g⟩ (fun r => (∀ c : Dev Cert.Out0.nD,
      r.2.mem ((c.tc : Thread Cert.Out0.nD Cert.Out0.τ).loc Cert.Out0.main_arg0) = m ((c.tc : Thread Cert.Out0.nD Cert.Out0.τ).loc Cert.Out0.main_arg0)
      ∧ r.2.mem ((c.tc : Thread Cert.Out0.nD Cert.Out0.τ).loc Cert.Out0.main_arg1) = m ((c.tc : Thread Cert.Out0.nD Cert.Out0.τ).loc Cert.Out0.main_arg1)
      ∧ r.2.mem ((c.tc : Thread Cert.Out0.nD Cert.Out0.τ).loc Cert.Out0.main_arg2) = m ((c.tc : Thread Cert.Out0.nD Cert.Out0.τ).loc Cert.Out0.main_arg2))
      ∧ r.2.sem = fun _ => 0)

def quiescent_Out0Ideal [hOut0Ideal : Cert.Out0Ideal.Facts] : Prop :=
  ∀ (m : (ℓ : Loc Cert.Out0Ideal.nD Cert.Out0Ideal.τ Cert.Out0Ideal.sig) → Buf (Elt Ideal) ℓ) (g : Dev Cert.Out0Ideal.nD → PrngReg), Pre_Out0Ideal m →
    θ_run (Cert.Out0Ideal.defs (F := Ideal)) (onTc (τ := Cert.Out0Ideal.τ) (Cert.Out0Ideal.main (F := Ideal))) ⟨m, fun _ => 0, g⟩ (fun r => (∀ c : Dev Cert.Out0Ideal.nD,
      r.2.mem ((c.tc : Thread Cert.Out0Ideal.nD Cert.Out0Ideal.τ).loc Cert.Out0Ideal.main_arg0) = m ((c.tc : Thread Cert.Out0Ideal.nD Cert.Out0Ideal.τ).loc Cert.Out0Ideal.main_arg0)
      ∧ r.2.mem ((c.tc : Thread Cert.Out0Ideal.nD Cert.Out0Ideal.τ).loc Cert.Out0Ideal.main_arg1) = m ((c.tc : Thread Cert.Out0Ideal.nD Cert.Out0Ideal.τ).loc Cert.Out0Ideal.main_arg1)
      ∧ r.2.mem ((c.tc : Thread Cert.Out0Ideal.nD Cert.Out0Ideal.τ).loc Cert.Out0Ideal.main_arg2) = m ((c.tc : Thread Cert.Out0Ideal.nD Cert.Out0Ideal.τ).loc Cert.Out0Ideal.main_arg2))
      ∧ r.2.sem = fun _ => 0)

def quiescent_Out0ReferenceIdeal [hOut0ReferenceIdeal : Cert.Out0ReferenceIdeal.Facts] : Prop :=
  ∀ (m : (ℓ : Loc Cert.Out0ReferenceIdeal.nD Cert.Out0ReferenceIdeal.τ Cert.Out0ReferenceIdeal.sig) → Buf (Elt Ideal) ℓ) (g : Dev Cert.Out0ReferenceIdeal.nD → PrngReg), Pre_Out0ReferenceIdeal m →
    θ_run (Cert.Out0ReferenceIdeal.defs (F := Ideal)) (onTc (τ := Cert.Out0ReferenceIdeal.τ) (Cert.Out0ReferenceIdeal.main (F := Ideal))) ⟨m, fun _ => 0, g⟩ (fun r => (∀ c : Dev Cert.Out0ReferenceIdeal.nD,
      r.2.mem ((c.tc : Thread Cert.Out0ReferenceIdeal.nD Cert.Out0ReferenceIdeal.τ).loc Cert.Out0ReferenceIdeal.main_arg0) = m ((c.tc : Thread Cert.Out0ReferenceIdeal.nD Cert.Out0ReferenceIdeal.τ).loc Cert.Out0ReferenceIdeal.main_arg0)
      ∧ r.2.mem ((c.tc : Thread Cert.Out0ReferenceIdeal.nD Cert.Out0ReferenceIdeal.τ).loc Cert.Out0ReferenceIdeal.main_arg1) = m ((c.tc : Thread Cert.Out0ReferenceIdeal.nD Cert.Out0ReferenceIdeal.τ).loc Cert.Out0ReferenceIdeal.main_arg1)
      ∧ r.2.mem ((c.tc : Thread Cert.Out0ReferenceIdeal.nD Cert.Out0ReferenceIdeal.τ).loc Cert.Out0ReferenceIdeal.main_arg2) = m ((c.tc : Thread Cert.Out0ReferenceIdeal.nD Cert.Out0ReferenceIdeal.τ).loc Cert.Out0ReferenceIdeal.main_arg2))
      ∧ r.2.sem = fun _ => 0)

def quiescent_Dcat0 [hDcat0 : Cert.Dcat0.Facts] : Prop :=
  ∀ (m : (ℓ : Loc Cert.Dcat0.nD Cert.Dcat0.τ Cert.Dcat0.sig) → Buf (Elt Bits) ℓ) (g : Dev Cert.Dcat0.nD → PrngReg), Pre_Dcat0 m →
    θ_run (Cert.Dcat0.defs (F := Bits)) (onTc (τ := Cert.Dcat0.τ) (Cert.Dcat0.main (F := Bits))) ⟨m, fun _ => 0, g⟩ (fun r => (∀ c : Dev Cert.Dcat0.nD,
      r.2.mem ((c.tc : Thread Cert.Dcat0.nD Cert.Dcat0.τ).loc Cert.Dcat0.main_arg0) = m ((c.tc : Thread Cert.Dcat0.nD Cert.Dcat0.τ).loc Cert.Dcat0.main_arg0)
      ∧ r.2.mem ((c.tc : Thread Cert.Dcat0.nD Cert.Dcat0.τ).loc Cert.Dcat0.main_arg1) = m ((c.tc : Thread Cert.Dcat0.nD Cert.Dcat0.τ).loc Cert.Dcat0.main_arg1))
      ∧ r.2.sem = fun _ => 0)

def quiescent_Dcat0Ideal [hDcat0Ideal : Cert.Dcat0Ideal.Facts] : Prop :=
  ∀ (m : (ℓ : Loc Cert.Dcat0Ideal.nD Cert.Dcat0Ideal.τ Cert.Dcat0Ideal.sig) → Buf (Elt Ideal) ℓ) (g : Dev Cert.Dcat0Ideal.nD → PrngReg), Pre_Dcat0Ideal m →
    θ_run (Cert.Dcat0Ideal.defs (F := Ideal)) (onTc (τ := Cert.Dcat0Ideal.τ) (Cert.Dcat0Ideal.main (F := Ideal))) ⟨m, fun _ => 0, g⟩ (fun r => (∀ c : Dev Cert.Dcat0Ideal.nD,
      r.2.mem ((c.tc : Thread Cert.Dcat0Ideal.nD Cert.Dcat0Ideal.τ).loc Cert.Dcat0Ideal.main_arg0) = m ((c.tc : Thread Cert.Dcat0Ideal.nD Cert.Dcat0Ideal.τ).loc Cert.Dcat0Ideal.main_arg0)
      ∧ r.2.mem ((c.tc : Thread Cert.Dcat0Ideal.nD Cert.Dcat0Ideal.τ).loc Cert.Dcat0Ideal.main_arg1) = m ((c.tc : Thread Cert.Dcat0Ideal.nD Cert.Dcat0Ideal.τ).loc Cert.Dcat0Ideal.main_arg1))
      ∧ r.2.sem = fun _ => 0)

def quiescent_Dcat0ReferenceIdeal [hDcat0ReferenceIdeal : Cert.Dcat0ReferenceIdeal.Facts] : Prop :=
  ∀ (m : (ℓ : Loc Cert.Dcat0ReferenceIdeal.nD Cert.Dcat0ReferenceIdeal.τ Cert.Dcat0ReferenceIdeal.sig) → Buf (Elt Ideal) ℓ) (g : Dev Cert.Dcat0ReferenceIdeal.nD → PrngReg), Pre_Dcat0ReferenceIdeal m →
    θ_run (Cert.Dcat0ReferenceIdeal.defs (F := Ideal)) (onTc (τ := Cert.Dcat0ReferenceIdeal.τ) (Cert.Dcat0ReferenceIdeal.main (F := Ideal))) ⟨m, fun _ => 0, g⟩ (fun r => (∀ c : Dev Cert.Dcat0ReferenceIdeal.nD,
      r.2.mem ((c.tc : Thread Cert.Dcat0ReferenceIdeal.nD Cert.Dcat0ReferenceIdeal.τ).loc Cert.Dcat0ReferenceIdeal.main_arg0) = m ((c.tc : Thread Cert.Dcat0ReferenceIdeal.nD Cert.Dcat0ReferenceIdeal.τ).loc Cert.Dcat0ReferenceIdeal.main_arg0)
      ∧ r.2.mem ((c.tc : Thread Cert.Dcat0ReferenceIdeal.nD Cert.Dcat0ReferenceIdeal.τ).loc Cert.Dcat0ReferenceIdeal.main_arg1) = m ((c.tc : Thread Cert.Dcat0ReferenceIdeal.nD Cert.Dcat0ReferenceIdeal.τ).loc Cert.Dcat0ReferenceIdeal.main_arg1))
      ∧ r.2.sem = fun _ => 0)

def quiescent_Dhsb0 [hDhsb0 : Cert.Dhsb0.Facts] : Prop :=
  ∀ (m : (ℓ : Loc Cert.Dhsb0.nD Cert.Dhsb0.τ Cert.Dhsb0.sig) → Buf (Elt Bits) ℓ) (g : Dev Cert.Dhsb0.nD → PrngReg), Pre_Dhsb0 m →
    θ_run (Cert.Dhsb0.defs (F := Bits)) (onTc (τ := Cert.Dhsb0.τ) (Cert.Dhsb0.main (F := Bits))) ⟨m, fun _ => 0, g⟩ (fun r => (∀ c : Dev Cert.Dhsb0.nD,
      r.2.mem ((c.tc : Thread Cert.Dhsb0.nD Cert.Dhsb0.τ).loc Cert.Dhsb0.main_arg0) = m ((c.tc : Thread Cert.Dhsb0.nD Cert.Dhsb0.τ).loc Cert.Dhsb0.main_arg0)
      ∧ r.2.mem ((c.tc : Thread Cert.Dhsb0.nD Cert.Dhsb0.τ).loc Cert.Dhsb0.main_arg1) = m ((c.tc : Thread Cert.Dhsb0.nD Cert.Dhsb0.τ).loc Cert.Dhsb0.main_arg1))
      ∧ r.2.sem = fun _ => 0)

def quiescent_Dhsb0Ideal [hDhsb0Ideal : Cert.Dhsb0Ideal.Facts] : Prop :=
  ∀ (m : (ℓ : Loc Cert.Dhsb0Ideal.nD Cert.Dhsb0Ideal.τ Cert.Dhsb0Ideal.sig) → Buf (Elt Ideal) ℓ) (g : Dev Cert.Dhsb0Ideal.nD → PrngReg), Pre_Dhsb0Ideal m →
    θ_run (Cert.Dhsb0Ideal.defs (F := Ideal)) (onTc (τ := Cert.Dhsb0Ideal.τ) (Cert.Dhsb0Ideal.main (F := Ideal))) ⟨m, fun _ => 0, g⟩ (fun r => (∀ c : Dev Cert.Dhsb0Ideal.nD,
      r.2.mem ((c.tc : Thread Cert.Dhsb0Ideal.nD Cert.Dhsb0Ideal.τ).loc Cert.Dhsb0Ideal.main_arg0) = m ((c.tc : Thread Cert.Dhsb0Ideal.nD Cert.Dhsb0Ideal.τ).loc Cert.Dhsb0Ideal.main_arg0)
      ∧ r.2.mem ((c.tc : Thread Cert.Dhsb0Ideal.nD Cert.Dhsb0Ideal.τ).loc Cert.Dhsb0Ideal.main_arg1) = m ((c.tc : Thread Cert.Dhsb0Ideal.nD Cert.Dhsb0Ideal.τ).loc Cert.Dhsb0Ideal.main_arg1))
      ∧ r.2.sem = fun _ => 0)

def quiescent_Dhsb0ReferenceIdeal [hDhsb0ReferenceIdeal : Cert.Dhsb0ReferenceIdeal.Facts] : Prop :=
  ∀ (m : (ℓ : Loc Cert.Dhsb0ReferenceIdeal.nD Cert.Dhsb0ReferenceIdeal.τ Cert.Dhsb0ReferenceIdeal.sig) → Buf (Elt Ideal) ℓ) (g : Dev Cert.Dhsb0ReferenceIdeal.nD → PrngReg), Pre_Dhsb0ReferenceIdeal m →
    θ_run (Cert.Dhsb0ReferenceIdeal.defs (F := Ideal)) (onTc (τ := Cert.Dhsb0ReferenceIdeal.τ) (Cert.Dhsb0ReferenceIdeal.main (F := Ideal))) ⟨m, fun _ => 0, g⟩ (fun r => (∀ c : Dev Cert.Dhsb0ReferenceIdeal.nD,
      r.2.mem ((c.tc : Thread Cert.Dhsb0ReferenceIdeal.nD Cert.Dhsb0ReferenceIdeal.τ).loc Cert.Dhsb0ReferenceIdeal.main_arg0) = m ((c.tc : Thread Cert.Dhsb0ReferenceIdeal.nD Cert.Dhsb0ReferenceIdeal.τ).loc Cert.Dhsb0ReferenceIdeal.main_arg0)
      ∧ r.2.mem ((c.tc : Thread Cert.Dhsb0ReferenceIdeal.nD Cert.Dhsb0ReferenceIdeal.τ).loc Cert.Dhsb0ReferenceIdeal.main_arg1) = m ((c.tc : Thread Cert.Dhsb0ReferenceIdeal.nD Cert.Dhsb0ReferenceIdeal.τ).loc Cert.Dhsb0ReferenceIdeal.main_arg1))
      ∧ r.2.sem = fun _ => 0)

def quiescent_Dwin [hDwin : Cert.Dwin.Facts] : Prop :=
  ∀ (m : (ℓ : Loc Cert.Dwin.nD Cert.Dwin.τ Cert.Dwin.sig) → Buf (Elt Bits) ℓ) (g : Dev Cert.Dwin.nD → PrngReg), Pre_Dwin m →
    θ_run (Cert.Dwin.defs (F := Bits)) (onTc (τ := Cert.Dwin.τ) (Cert.Dwin.main (F := Bits))) ⟨m, fun _ => 0, g⟩ (fun r => (∀ c : Dev Cert.Dwin.nD,
      r.2.mem ((c.tc : Thread Cert.Dwin.nD Cert.Dwin.τ).loc Cert.Dwin.main_arg0) = m ((c.tc : Thread Cert.Dwin.nD Cert.Dwin.τ).loc Cert.Dwin.main_arg0)
      ∧ r.2.mem ((c.tc : Thread Cert.Dwin.nD Cert.Dwin.τ).loc Cert.Dwin.main_arg1) = m ((c.tc : Thread Cert.Dwin.nD Cert.Dwin.τ).loc Cert.Dwin.main_arg1))
      ∧ r.2.sem = fun _ => 0)

def quiescent_DwinIdeal [hDwinIdeal : Cert.DwinIdeal.Facts] : Prop :=
  ∀ (m : (ℓ : Loc Cert.DwinIdeal.nD Cert.DwinIdeal.τ Cert.DwinIdeal.sig) → Buf (Elt Ideal) ℓ) (g : Dev Cert.DwinIdeal.nD → PrngReg), Pre_DwinIdeal m →
    θ_run (Cert.DwinIdeal.defs (F := Ideal)) (onTc (τ := Cert.DwinIdeal.τ) (Cert.DwinIdeal.main (F := Ideal))) ⟨m, fun _ => 0, g⟩ (fun r => (∀ c : Dev Cert.DwinIdeal.nD,
      r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
      ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ r.2.sem = fun _ => 0)

def quiescent_DwinReferenceIdeal [hDwinReferenceIdeal : Cert.DwinReferenceIdeal.Facts] : Prop :=
  ∀ (m : (ℓ : Loc Cert.DwinReferenceIdeal.nD Cert.DwinReferenceIdeal.τ Cert.DwinReferenceIdeal.sig) → Buf (Elt Ideal) ℓ) (g : Dev Cert.DwinReferenceIdeal.nD → PrngReg), Pre_DwinReferenceIdeal m →
    θ_run (Cert.DwinReferenceIdeal.defs (F := Ideal)) (onTc (τ := Cert.DwinReferenceIdeal.τ) (Cert.DwinReferenceIdeal.main (F := Ideal))) ⟨m, fun _ => 0, g⟩ (fun r => (∀ c : Dev Cert.DwinReferenceIdeal.nD,
      r.2.mem ((c.tc : Thread Cert.DwinReferenceIdeal.nD Cert.DwinReferenceIdeal.τ).loc Cert.DwinReferenceIdeal.main_arg0) = m ((c.tc : Thread Cert.DwinReferenceIdeal.nD Cert.DwinReferenceIdeal.τ).loc Cert.DwinReferenceIdeal.main_arg0)
      ∧ r.2.mem ((c.tc : Thread Cert.DwinReferenceIdeal.nD Cert.DwinReferenceIdeal.τ).loc Cert.DwinReferenceIdeal.main_arg1) = m ((c.tc : Thread Cert.DwinReferenceIdeal.nD Cert.DwinReferenceIdeal.τ).loc Cert.DwinReferenceIdeal.main_arg1))
      ∧ r.2.sem = fun _ => 0)

def quiescent_Dwout [hDwout : Cert.Dwout.Facts] : Prop :=
  ∀ (m : (ℓ : Loc Cert.Dwout.nD Cert.Dwout.τ Cert.Dwout.sig) → Buf (Elt Bits) ℓ) (g : Dev Cert.Dwout.nD → PrngReg), Pre_Dwout m →
    θ_run (Cert.Dwout.defs (F := Bits)) (onTc (τ := Cert.Dwout.τ) (Cert.Dwout.main (F := Bits))) ⟨m, fun _ => 0, g⟩ (fun r => (∀ c : Dev Cert.Dwout.nD,
      r.2.mem ((c.tc : Thread Cert.Dwout.nD Cert.Dwout.τ).loc Cert.Dwout.main_arg0) = m ((c.tc : Thread Cert.Dwout.nD Cert.Dwout.τ).loc Cert.Dwout.main_arg0)
      ∧ r.2.mem ((c.tc : Thread Cert.Dwout.nD Cert.Dwout.τ).loc Cert.Dwout.main_arg1) = m ((c.tc : Thread Cert.Dwout.nD Cert.Dwout.τ).loc Cert.Dwout.main_arg1))
      ∧ r.2.sem = fun _ => 0)

def quiescent_DwoutIdeal [hDwoutIdeal : Cert.DwoutIdeal.Facts] : Prop :=
  ∀ (m : (ℓ : Loc Cert.DwoutIdeal.nD Cert.DwoutIdeal.τ Cert.DwoutIdeal.sig) → Buf (Elt Ideal) ℓ) (g : Dev Cert.DwoutIdeal.nD → PrngReg), Pre_DwoutIdeal m →
    θ_run (Cert.DwoutIdeal.defs (F := Ideal)) (onTc (τ := Cert.DwoutIdeal.τ) (Cert.DwoutIdeal.main (F := Ideal))) ⟨m, fun _ => 0, g⟩ (fun r => (∀ c : Dev Cert.DwoutIdeal.nD,
      r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
      ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ r.2.sem = fun _ => 0)

def quiescent_DwoutReferenceIdeal [hDwoutReferenceIdeal : Cert.DwoutReferenceIdeal.Facts] : Prop :=
  ∀ (m : (ℓ : Loc Cert.DwoutReferenceIdeal.nD Cert.DwoutReferenceIdeal.τ Cert.DwoutReferenceIdeal.sig) → Buf (Elt Ideal) ℓ) (g : Dev Cert.DwoutReferenceIdeal.nD → PrngReg), Pre_DwoutReferenceIdeal m →
    θ_run (Cert.DwoutReferenceIdeal.defs (F := Ideal)) (onTc (τ := Cert.DwoutReferenceIdeal.τ) (Cert.DwoutReferenceIdeal.main (F := Ideal))) ⟨m, fun _ => 0, g⟩ (fun r => (∀ c : Dev Cert.DwoutReferenceIdeal.nD,
      r.2.mem ((c.tc : Thread Cert.DwoutReferenceIdeal.nD Cert.DwoutReferenceIdeal.τ).loc Cert.DwoutReferenceIdeal.main_arg0) = m ((c.tc : Thread Cert.DwoutReferenceIdeal.nD Cert.DwoutReferenceIdeal.τ).loc Cert.DwoutReferenceIdeal.main_arg0)
      ∧ r.2.mem ((c.tc : Thread Cert.DwoutReferenceIdeal.nD Cert.DwoutReferenceIdeal.τ).loc Cert.DwoutReferenceIdeal.main_arg1) = m ((c.tc : Thread Cert.DwoutReferenceIdeal.nD Cert.DwoutReferenceIdeal.τ).loc Cert.DwoutReferenceIdeal.main_arg1))
      ∧ r.2.sem = fun _ => 0)

def quiescent_Dgate [hDgate : Cert.Dgate.Facts] : Prop :=
  ∀ (m : (ℓ : Loc Cert.Dgate.nD Cert.Dgate.τ Cert.Dgate.sig) → Buf (Elt Bits) ℓ) (g : Dev Cert.Dgate.nD → PrngReg), Pre_Dgate m →
    θ_run (Cert.Dgate.defs (F := Bits)) (onTc (τ := Cert.Dgate.τ) (Cert.Dgate.main (F := Bits))) ⟨m, fun _ => 0, g⟩ (fun r => (∀ c : Dev Cert.Dgate.nD,
      r.2.mem ((c.tc : Thread Cert.Dgate.nD Cert.Dgate.τ).loc Cert.Dgate.main_arg0) = m ((c.tc : Thread Cert.Dgate.nD Cert.Dgate.τ).loc Cert.Dgate.main_arg0)
      ∧ r.2.mem ((c.tc : Thread Cert.Dgate.nD Cert.Dgate.τ).loc Cert.Dgate.main_arg1) = m ((c.tc : Thread Cert.Dgate.nD Cert.Dgate.τ).loc Cert.Dgate.main_arg1)
      ∧ r.2.mem ((c.tc : Thread Cert.Dgate.nD Cert.Dgate.τ).loc Cert.Dgate.main_arg2) = m ((c.tc : Thread Cert.Dgate.nD Cert.Dgate.τ).loc Cert.Dgate.main_arg2))
      ∧ r.2.sem = fun _ => 0)

def quiescent_DgateIdeal [hDgateIdeal : Cert.DgateIdeal.Facts] : Prop :=
  ∀ (m : (ℓ : Loc Cert.DgateIdeal.nD Cert.DgateIdeal.τ Cert.DgateIdeal.sig) → Buf (Elt Ideal) ℓ) (g : Dev Cert.DgateIdeal.nD → PrngReg), Pre_DgateIdeal m →
    θ_run (Cert.DgateIdeal.defs (F := Ideal)) (onTc (τ := Cert.DgateIdeal.τ) (Cert.DgateIdeal.main (F := Ideal))) ⟨m, fun _ => 0, g⟩ (fun r => (∀ c : Dev Cert.DgateIdeal.nD,
      r.2.mem ((c.tc : Thread Cert.DgateIdeal.nD Cert.DgateIdeal.τ).loc Cert.DgateIdeal.main_arg0) = m ((c.tc : Thread Cert.DgateIdeal.nD Cert.DgateIdeal.τ).loc Cert.DgateIdeal.main_arg0)
      ∧ r.2.mem ((c.tc : Thread Cert.DgateIdeal.nD Cert.DgateIdeal.τ).loc Cert.DgateIdeal.main_arg1) = m ((c.tc : Thread Cert.DgateIdeal.nD Cert.DgateIdeal.τ).loc Cert.DgateIdeal.main_arg1)
      ∧ r.2.mem ((c.tc : Thread Cert.DgateIdeal.nD Cert.DgateIdeal.τ).loc Cert.DgateIdeal.main_arg2) = m ((c.tc : Thread Cert.DgateIdeal.nD Cert.DgateIdeal.τ).loc Cert.DgateIdeal.main_arg2))
      ∧ r.2.sem = fun _ => 0)

def quiescent_DgateReferenceIdeal [hDgateReferenceIdeal : Cert.DgateReferenceIdeal.Facts] : Prop :=
  ∀ (m : (ℓ : Loc Cert.DgateReferenceIdeal.nD Cert.DgateReferenceIdeal.τ Cert.DgateReferenceIdeal.sig) → Buf (Elt Ideal) ℓ) (g : Dev Cert.DgateReferenceIdeal.nD → PrngReg), Pre_DgateReferenceIdeal m →
    θ_run (Cert.DgateReferenceIdeal.defs (F := Ideal)) (onTc (τ := Cert.DgateReferenceIdeal.τ) (Cert.DgateReferenceIdeal.main (F := Ideal))) ⟨m, fun _ => 0, g⟩ (fun r => (∀ c : Dev Cert.DgateReferenceIdeal.nD,
      r.2.mem ((c.tc : Thread Cert.DgateReferenceIdeal.nD Cert.DgateReferenceIdeal.τ).loc Cert.DgateReferenceIdeal.main_arg0) = m ((c.tc : Thread Cert.DgateReferenceIdeal.nD Cert.DgateReferenceIdeal.τ).loc Cert.DgateReferenceIdeal.main_arg0)
      ∧ r.2.mem ((c.tc : Thread Cert.DgateReferenceIdeal.nD Cert.DgateReferenceIdeal.τ).loc Cert.DgateReferenceIdeal.main_arg1) = m ((c.tc : Thread Cert.DgateReferenceIdeal.nD Cert.DgateReferenceIdeal.τ).loc Cert.DgateReferenceIdeal.main_arg1)
      ∧ r.2.mem ((c.tc : Thread Cert.DgateReferenceIdeal.nD Cert.DgateReferenceIdeal.τ).loc Cert.DgateReferenceIdeal.main_arg2) = m ((c.tc : Thread Cert.DgateReferenceIdeal.nD Cert.DgateReferenceIdeal.τ).loc Cert.DgateReferenceIdeal.main_arg2))
      ∧ r.2.sem = fun _ => 0)

def quiescent_Dwglu [hDwglu : Cert.Dwglu.Facts] : Prop :=
  ∀ (m : (ℓ : Loc Cert.Dwglu.nD Cert.Dwglu.τ Cert.Dwglu.sig) → Buf (Elt Bits) ℓ) (g : Dev Cert.Dwglu.nD → PrngReg), Pre_Dwglu m →
    θ_run (Cert.Dwglu.defs (F := Bits)) (onTc (τ := Cert.Dwglu.τ) (Cert.Dwglu.main (F := Bits))) ⟨m, fun _ => 0, g⟩ (fun r => (∀ c : Dev Cert.Dwglu.nD,
      r.2.mem ((c.tc : Thread Cert.Dwglu.nD Cert.Dwglu.τ).loc Cert.Dwglu.main_arg0) = m ((c.tc : Thread Cert.Dwglu.nD Cert.Dwglu.τ).loc Cert.Dwglu.main_arg0)
      ∧ r.2.mem ((c.tc : Thread Cert.Dwglu.nD Cert.Dwglu.τ).loc Cert.Dwglu.main_arg1) = m ((c.tc : Thread Cert.Dwglu.nD Cert.Dwglu.τ).loc Cert.Dwglu.main_arg1))
      ∧ r.2.sem = fun _ => 0)

def quiescent_DwgluIdeal [hDwgluIdeal : Cert.DwgluIdeal.Facts] : Prop :=
  ∀ (m : (ℓ : Loc Cert.DwgluIdeal.nD Cert.DwgluIdeal.τ Cert.DwgluIdeal.sig) → Buf (Elt Ideal) ℓ) (g : Dev Cert.DwgluIdeal.nD → PrngReg), Pre_DwgluIdeal m →
    θ_run (Cert.DwgluIdeal.defs (F := Ideal)) (onTc (τ := Cert.DwgluIdeal.τ) (Cert.DwgluIdeal.main (F := Ideal))) ⟨m, fun _ => 0, g⟩ (fun r => (∀ c : Dev Cert.DwgluIdeal.nD,
      r.2.mem ((c.tc : Thread Cert.DwgluIdeal.nD Cert.DwgluIdeal.τ).loc Cert.DwgluIdeal.main_arg0) = m ((c.tc : Thread Cert.DwgluIdeal.nD Cert.DwgluIdeal.τ).loc Cert.DwgluIdeal.main_arg0)
      ∧ r.2.mem ((c.tc : Thread Cert.DwgluIdeal.nD Cert.DwgluIdeal.τ).loc Cert.DwgluIdeal.main_arg1) = m ((c.tc : Thread Cert.DwgluIdeal.nD Cert.DwgluIdeal.τ).loc Cert.DwgluIdeal.main_arg1))
      ∧ r.2.sem = fun _ => 0)

def quiescent_DwgluReferenceIdeal [hDwgluReferenceIdeal : Cert.DwgluReferenceIdeal.Facts] : Prop :=
  ∀ (m : (ℓ : Loc Cert.DwgluReferenceIdeal.nD Cert.DwgluReferenceIdeal.τ Cert.DwgluReferenceIdeal.sig) → Buf (Elt Ideal) ℓ) (g : Dev Cert.DwgluReferenceIdeal.nD → PrngReg), Pre_DwgluReferenceIdeal m →
    θ_run (Cert.DwgluReferenceIdeal.defs (F := Ideal)) (onTc (τ := Cert.DwgluReferenceIdeal.τ) (Cert.DwgluReferenceIdeal.main (F := Ideal))) ⟨m, fun _ => 0, g⟩ (fun r => (∀ c : Dev Cert.DwgluReferenceIdeal.nD,
      r.2.mem ((c.tc : Thread Cert.DwgluReferenceIdeal.nD Cert.DwgluReferenceIdeal.τ).loc Cert.DwgluReferenceIdeal.main_arg0) = m ((c.tc : Thread Cert.DwgluReferenceIdeal.nD Cert.DwgluReferenceIdeal.τ).loc Cert.DwgluReferenceIdeal.main_arg0)
      ∧ r.2.mem ((c.tc : Thread Cert.DwgluReferenceIdeal.nD Cert.DwgluReferenceIdeal.τ).loc Cert.DwgluReferenceIdeal.main_arg1) = m ((c.tc : Thread Cert.DwgluReferenceIdeal.nD Cert.DwgluReferenceIdeal.τ).loc Cert.DwgluReferenceIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1))
      ∧ r.2.sem = fun _ => 0)

def quiescent_Glu0 [hGlu0 : Cert.Glu0.Facts] : Prop :=
  ∀ (m : (ℓ : Loc Cert.Glu0.nD Cert.Glu0.τ Cert.Glu0.sig) → Buf (Elt Bits) ℓ) (g : Dev Cert.Glu0.nD → PrngReg), Pre_Glu0 m →
    θ_run (Cert.Glu0.defs (F := Bits)) (onTc (τ := Cert.Glu0.τ) (Cert.Glu0.main (F := Bits))) ⟨m, fun _ => 0, g⟩ (fun r => (∀ c : Dev Cert.Glu0.nD,
      r.2.mem ((c.tc : Thread Cert.Glu0.nD Cert.Glu0.τ).loc Cert.Glu0.main_arg0) = m ((c.tc : Thread Cert.Glu0.nD Cert.Glu0.τ).loc Cert.Glu0.main_arg0)
      ∧ r.2.mem ((c.tc : Thread Cert.Glu0.nD Cert.Glu0.τ).loc Cert.Glu0.main_arg1) = m ((c.tc : Thread Cert.Glu0.nD Cert.Glu0.τ).loc Cert.Glu0.main_arg1))
      ∧ r.2.sem = fun _ => 0)

def quiescent_Glu0Ideal [hGlu0Ideal : Cert.Glu0Ideal.Facts] : Prop :=
  ∀ (m : (ℓ : Loc Cert.Glu0Ideal.nD Cert.Glu0Ideal.τ Cert.Glu0Ideal.sig) → Buf (Elt Ideal) ℓ) (g : Dev Cert.Glu0Ideal.nD → PrngReg), Pre_Glu0Ideal m →
    θ_run (Cert.Glu0Ideal.defs (F := Ideal)) (onTc (τ := Cert.Glu0Ideal.τ) (Cert.Glu0Ideal.main (F := Ideal))) ⟨m, fun _ => 0, g⟩ (fun r => (∀ c : Dev Cert.Glu0Ideal.nD,
      r.2.mem ((c.tc : Thread Cert.Glu0Ideal.nD Cert.Glu0Ideal.τ).loc Cert.Glu0Ideal.main_arg0) = m ((c.tc : Thread Cert.Glu0Ideal.nD Cert.Glu0Ideal.τ).loc Cert.Glu0Ideal.main_arg0)
      ∧ r.2.mem ((c.tc : Thread Cert.Glu0Ideal.nD Cert.Glu0Ideal.τ).loc Cert.Glu0Ideal.main_arg1) = m ((c.tc : Thread Cert.Glu0Ideal.nD Cert.Glu0Ideal.τ).loc Cert.Glu0Ideal.main_arg1))
      ∧ r.2.sem = fun _ => 0)

def quiescent_Glu0ReferenceIdeal [hGlu0ReferenceIdeal : Cert.Glu0ReferenceIdeal.Facts] : Prop :=
  ∀ (m : (ℓ : Loc Cert.Glu0ReferenceIdeal.nD Cert.Glu0ReferenceIdeal.τ Cert.Glu0ReferenceIdeal.sig) → Buf (Elt Ideal) ℓ) (g : Dev Cert.Glu0ReferenceIdeal.nD → PrngReg), Pre_Glu0ReferenceIdeal m →
    θ_run (Cert.Glu0ReferenceIdeal.defs (F := Ideal)) (onTc (τ := Cert.Glu0ReferenceIdeal.τ) (Cert.Glu0ReferenceIdeal.main (F := Ideal))) ⟨m, fun _ => 0, g⟩ (fun r => (∀ c : Dev Cert.Glu0ReferenceIdeal.nD,
      r.2.mem ((c.tc : Thread Cert.Glu0ReferenceIdeal.nD Cert.Glu0ReferenceIdeal.τ).loc Cert.Glu0ReferenceIdeal.main_arg0) = m ((c.tc : Thread Cert.Glu0ReferenceIdeal.nD Cert.Glu0ReferenceIdeal.τ).loc Cert.Glu0ReferenceIdeal.main_arg0)
      ∧ r.2.mem ((c.tc : Thread Cert.Glu0ReferenceIdeal.nD Cert.Glu0ReferenceIdeal.τ).loc Cert.Glu0ReferenceIdeal.main_arg1) = m ((c.tc : Thread Cert.Glu0ReferenceIdeal.nD Cert.Glu0ReferenceIdeal.τ).loc Cert.Glu0ReferenceIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_AdamGu [hAdamGu : Cert.AdamGu.Facts] : Prop :=
  ∀ (m : (ℓ : Loc Cert.AdamGu.nD Cert.AdamGu.τ Cert.AdamGu.sig) → Buf (Elt Bits) ℓ) (g : Dev Cert.AdamGu.nD → PrngReg), Pre_AdamGu m →
    θ_run (Cert.AdamGu.defs (F := Bits)) (onTc (τ := Cert.AdamGu.τ) (Cert.AdamGu.main (F := Bits))) ⟨m, fun _ => 0, g⟩ (fun r => (∀ c : Dev Cert.AdamGu.nD,
      r.2.mem ((c.tc : Thread Cert.AdamGu.nD Cert.AdamGu.τ).loc Cert.AdamGu.main_arg0) = m ((c.tc : Thread Cert.AdamGu.nD Cert.AdamGu.τ).loc Cert.AdamGu.main_arg0)
      ∧ r.2.mem ((c.tc : Thread Cert.AdamGu.nD Cert.AdamGu.τ).loc Cert.AdamGu.main_arg1) = m ((c.tc : Thread Cert.AdamGu.nD Cert.AdamGu.τ).loc Cert.AdamGu.main_arg1)
      ∧ r.2.mem ((c.tc : Thread Cert.AdamGu.nD Cert.AdamGu.τ).loc Cert.AdamGu.main_arg2) = m ((c.tc : Thread Cert.AdamGu.nD Cert.AdamGu.τ).loc Cert.AdamGu.main_arg2)
      ∧ r.2.mem ((c.tc : Thread Cert.AdamGu.nD Cert.AdamGu.τ).loc Cert.AdamGu.main_arg3) = m ((c.tc : Thread Cert.AdamGu.nD Cert.AdamGu.τ).loc Cert.AdamGu.main_arg3))
      ∧ r.2.sem = fun _ => 0)

def quiescent_AdamGuIdeal [hAdamGuIdeal : Cert.AdamGuIdeal.Facts] : Prop :=
  ∀ (m : (ℓ : Loc Cert.AdamGuIdeal.nD Cert.AdamGuIdeal.τ Cert.AdamGuIdeal.sig) → Buf (Elt Ideal) ℓ) (g : Dev Cert.AdamGuIdeal.nD → PrngReg), Pre_AdamGuIdeal m →
    θ_run (Cert.AdamGuIdeal.defs (F := Ideal)) (onTc (τ := Cert.AdamGuIdeal.τ) (Cert.AdamGuIdeal.main (F := Ideal))) ⟨m, fun _ => 0, g⟩ (fun r => (∀ c : Dev Cert.AdamGuIdeal.nD,
      r.2.mem ((c.tc : Thread Cert.AdamGuIdeal.nD Cert.AdamGuIdeal.τ).loc Cert.AdamGuIdeal.main_arg0) = m ((c.tc : Thread Cert.AdamGuIdeal.nD Cert.AdamGuIdeal.τ).loc Cert.AdamGuIdeal.main_arg0)
      ∧ r.2.mem ((c.tc : Thread Cert.AdamGuIdeal.nD Cert.AdamGuIdeal.τ).loc Cert.AdamGuIdeal.main_arg1) = m ((c.tc : Thread Cert.AdamGuIdeal.nD Cert.AdamGuIdeal.τ).loc Cert.AdamGuIdeal.main_arg1)
      ∧ r.2.mem ((c.tc : Thread Cert.AdamGuIdeal.nD Cert.AdamGuIdeal.τ).loc Cert.AdamGuIdeal.main_arg2) = m ((c.tc : Thread Cert.AdamGuIdeal.nD Cert.AdamGuIdeal.τ).loc Cert.AdamGuIdeal.main_arg2)
      ∧ r.2.mem ((c.tc : Thread Cert.AdamGuIdeal.nD Cert.AdamGuIdeal.τ).loc Cert.AdamGuIdeal.main_arg3) = m ((c.tc : Thread Cert.AdamGuIdeal.nD Cert.AdamGuIdeal.τ).loc Cert.AdamGuIdeal.main_arg3))
      ∧ r.2.sem = fun _ => 0)

def quiescent_AdamGuReferenceIdeal [hAdamGuReferenceIdeal : Cert.AdamGuReferenceIdeal.Facts] : Prop :=
  ∀ (m : (ℓ : Loc Cert.AdamGuReferenceIdeal.nD Cert.AdamGuReferenceIdeal.τ Cert.AdamGuReferenceIdeal.sig) → Buf (Elt Ideal) ℓ) (g : Dev Cert.AdamGuReferenceIdeal.nD → PrngReg), Pre_AdamGuReferenceIdeal m →
    θ_run (Cert.AdamGuReferenceIdeal.defs (F := Ideal)) (onTc (τ := Cert.AdamGuReferenceIdeal.τ) (Cert.AdamGuReferenceIdeal.main (F := Ideal))) ⟨m, fun _ => 0, g⟩ (fun r => (∀ c : Dev Cert.AdamGuReferenceIdeal.nD,
      r.2.mem ((c.tc : Thread Cert.AdamGuReferenceIdeal.nD Cert.AdamGuReferenceIdeal.τ).loc Cert.AdamGuReferenceIdeal.main_arg0) = m ((c.tc : Thread Cert.AdamGuReferenceIdeal.nD Cert.AdamGuReferenceIdeal.τ).loc Cert.AdamGuReferenceIdeal.main_arg0)
      ∧ r.2.mem ((c.tc : Thread Cert.AdamGuReferenceIdeal.nD Cert.AdamGuReferenceIdeal.τ).loc Cert.AdamGuReferenceIdeal.main_arg1) = m ((c.tc : Thread Cert.AdamGuReferenceIdeal.nD Cert.AdamGuReferenceIdeal.τ).loc Cert.AdamGuReferenceIdeal.main_arg1)
      ∧ r.2.mem ((c.tc : Thread Cert.AdamGuReferenceIdeal.nD Cert.AdamGuReferenceIdeal.τ).loc Cert.AdamGuReferenceIdeal.main_arg2) = m ((c.tc : Thread Cert.AdamGuReferenceIdeal.nD Cert.AdamGuReferenceIdeal.τ).loc Cert.AdamGuReferenceIdeal.main_arg2)
      ∧ r.2.mem ((c.tc : Thread Cert.AdamGuReferenceIdeal.nD Cert.AdamGuReferenceIdeal.τ).loc Cert.AdamGuReferenceIdeal.main_arg3) = m ((c.tc : Thread Cert.AdamGuReferenceIdeal.nD Cert.AdamGuReferenceIdeal.τ).loc Cert.AdamGuReferenceIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownReferenceIdeal [hAdamDownReferenceIdeal : Cert.AdamDownReferenceIdeal.Facts] : Prop :=
  ∀ (m : (ℓ : Loc Cert.AdamDownReferenceIdeal.nD Cert.AdamDownReferenceIdeal.τ Cert.AdamDownReferenceIdeal.sig) → Buf (Elt Ideal) ℓ) (g : Dev Cert.AdamDownReferenceIdeal.nD → PrngReg), Pre_AdamDownReferenceIdeal m →
    θ_run (Cert.AdamDownReferenceIdeal.defs (F := Ideal)) (onTc (τ := Cert.AdamDownReferenceIdeal.τ) (Cert.AdamDownReferenceIdeal.main (F := Ideal))) ⟨m, fun _ => 0, g⟩ (fun r => (∀ c : Dev Cert.AdamDownReferenceIdeal.nD,
      r.2.mem ((c.tc : Thread Cert.AdamDownReferenceIdeal.nD Cert.AdamDownReferenceIdeal.τ).loc Cert.AdamDownReferenceIdeal.main_arg0) = m ((c.tc : Thread Cert.AdamDownReferenceIdeal.nD Cert.AdamDownReferenceIdeal.τ).loc Cert.AdamDownReferenceIdeal.main_arg0)
      ∧ r.2.mem ((c.tc : Thread Cert.AdamDownReferenceIdeal.nD Cert.AdamDownReferenceIdeal.τ).loc Cert.AdamDownReferenceIdeal.main_arg1) = m ((c.tc : Thread Cert.AdamDownReferenceIdeal.nD Cert.AdamDownReferenceIdeal.τ).loc Cert.AdamDownReferenceIdeal.main_arg1)
      ∧ r.2.mem ((c.tc : Thread Cert.AdamDownReferenceIdeal.nD Cert.AdamDownReferenceIdeal.τ).loc Cert.AdamDownReferenceIdeal.main_arg2) = m ((c.tc : Thread Cert.AdamDownReferenceIdeal.nD Cert.AdamDownReferenceIdeal.τ).loc Cert.AdamDownReferenceIdeal.main_arg2)
      ∧ r.2.mem ((c.tc : Thread Cert.AdamDownReferenceIdeal.nD Cert.AdamDownReferenceIdeal.τ).loc Cert.AdamDownReferenceIdeal.main_arg3) = m ((c.tc : Thread Cert.AdamDownReferenceIdeal.nD Cert.AdamDownReferenceIdeal.τ).loc Cert.AdamDownReferenceIdeal.main_arg3))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ r.2.sem = fun _ => 0)

def quiescent_AdamKvReferenceIdeal [hAdamKvReferenceIdeal : Cert.AdamKvReferenceIdeal.Facts] : Prop :=
  ∀ (m : (ℓ : Loc Cert.AdamKvReferenceIdeal.nD Cert.AdamKvReferenceIdeal.τ Cert.AdamKvReferenceIdeal.sig) → Buf (Elt Ideal) ℓ) (g : Dev Cert.AdamKvReferenceIdeal.nD → PrngReg), Pre_AdamKvReferenceIdeal m →
    θ_run (Cert.AdamKvReferenceIdeal.defs (F := Ideal)) (onTc (τ := Cert.AdamKvReferenceIdeal.τ) (Cert.AdamKvReferenceIdeal.main (F := Ideal))) ⟨m, fun _ => 0, g⟩ (fun r => (∀ c : Dev Cert.AdamKvReferenceIdeal.nD,
      r.2.mem ((c.tc : Thread Cert.AdamKvReferenceIdeal.nD Cert.AdamKvReferenceIdeal.τ).loc Cert.AdamKvReferenceIdeal.main_arg0) = m ((c.tc : Thread Cert.AdamKvReferenceIdeal.nD Cert.AdamKvReferenceIdeal.τ).loc Cert.AdamKvReferenceIdeal.main_arg0)
      ∧ r.2.mem ((c.tc : Thread Cert.AdamKvReferenceIdeal.nD Cert.AdamKvReferenceIdeal.τ).loc Cert.AdamKvReferenceIdeal.main_arg1) = m ((c.tc : Thread Cert.AdamKvReferenceIdeal.nD Cert.AdamKvReferenceIdeal.τ).loc Cert.AdamKvReferenceIdeal.main_arg1)
      ∧ r.2.mem ((c.tc : Thread Cert.AdamKvReferenceIdeal.nD Cert.AdamKvReferenceIdeal.τ).loc Cert.AdamKvReferenceIdeal.main_arg2) = m ((c.tc : Thread Cert.AdamKvReferenceIdeal.nD Cert.AdamKvReferenceIdeal.τ).loc Cert.AdamKvReferenceIdeal.main_arg2)
      ∧ r.2.mem ((c.tc : Thread Cert.AdamKvReferenceIdeal.nD Cert.AdamKvReferenceIdeal.τ).loc Cert.AdamKvReferenceIdeal.main_arg3) = m ((c.tc : Thread Cert.AdamKvReferenceIdeal.nD Cert.AdamKvReferenceIdeal.τ).loc Cert.AdamKvReferenceIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3))
      ∧ r.2.sem = fun _ => 0)

def quiescent_AdamSbin [hAdamSbin : Cert.AdamSbin.Facts] : Prop :=
  ∀ (m : (ℓ : Loc Cert.AdamSbin.nD Cert.AdamSbin.τ Cert.AdamSbin.sig) → Buf (Elt Bits) ℓ) (g : Dev Cert.AdamSbin.nD → PrngReg), Pre_AdamSbin m →
    θ_run (Cert.AdamSbin.defs (F := Bits)) (onTc (τ := Cert.AdamSbin.τ) (Cert.AdamSbin.main (F := Bits))) ⟨m, fun _ => 0, g⟩ (fun r => (∀ c : Dev Cert.AdamSbin.nD,
      r.2.mem ((c.tc : Thread Cert.AdamSbin.nD Cert.AdamSbin.τ).loc Cert.AdamSbin.main_arg0) = m ((c.tc : Thread Cert.AdamSbin.nD Cert.AdamSbin.τ).loc Cert.AdamSbin.main_arg0)
      ∧ r.2.mem ((c.tc : Thread Cert.AdamSbin.nD Cert.AdamSbin.τ).loc Cert.AdamSbin.main_arg1) = m ((c.tc : Thread Cert.AdamSbin.nD Cert.AdamSbin.τ).loc Cert.AdamSbin.main_arg1)
      ∧ r.2.mem ((c.tc : Thread Cert.AdamSbin.nD Cert.AdamSbin.τ).loc Cert.AdamSbin.main_arg2) = m ((c.tc : Thread Cert.AdamSbin.nD Cert.AdamSbin.τ).loc Cert.AdamSbin.main_arg2)
      ∧ r.2.mem ((c.tc : Thread Cert.AdamSbin.nD Cert.AdamSbin.τ).loc Cert.AdamSbin.main_arg3) = m ((c.tc : Thread Cert.AdamSbin.nD Cert.AdamSbin.τ).loc Cert.AdamSbin.main_arg3))
      ∧ r.2.sem = fun _ => 0)

def quiescent_AdamSbinIdeal [hAdamSbinIdeal : Cert.AdamSbinIdeal.Facts] : Prop :=
  ∀ (m : (ℓ : Loc Cert.AdamSbinIdeal.nD Cert.AdamSbinIdeal.τ Cert.AdamSbinIdeal.sig) → Buf (Elt Ideal) ℓ) (g : Dev Cert.AdamSbinIdeal.nD → PrngReg), Pre_AdamSbinIdeal m →
    θ_run (Cert.AdamSbinIdeal.defs (F := Ideal)) (onTc (τ := Cert.AdamSbinIdeal.τ) (Cert.AdamSbinIdeal.main (F := Ideal))) ⟨m, fun _ => 0, g⟩ (fun r => (∀ c : Dev Cert.AdamSbinIdeal.nD,
      r.2.mem ((c.tc : Thread Cert.AdamSbinIdeal.nD Cert.AdamSbinIdeal.τ).loc Cert.AdamSbinIdeal.main_arg0) = m ((c.tc : Thread Cert.AdamSbinIdeal.nD Cert.AdamSbinIdeal.τ).loc Cert.AdamSbinIdeal.main_arg0)
      ∧ r.2.mem ((c.tc : Thread Cert.AdamSbinIdeal.nD Cert.AdamSbinIdeal.τ).loc Cert.AdamSbinIdeal.main_arg1) = m ((c.tc : Thread Cert.AdamSbinIdeal.nD Cert.AdamSbinIdeal.τ).loc Cert.AdamSbinIdeal.main_arg1)
      ∧ r.2.mem ((c.tc : Thread Cert.AdamSbinIdeal.nD Cert.AdamSbinIdeal.τ).loc Cert.AdamSbinIdeal.main_arg2) = m ((c.tc : Thread Cert.AdamSbinIdeal.nD Cert.AdamSbinIdeal.τ).loc Cert.AdamSbinIdeal.main_arg2)
      ∧ r.2.mem ((c.tc : Thread Cert.AdamSbinIdeal.nD Cert.AdamSbinIdeal.τ).loc Cert.AdamSbinIdeal.main_arg3) = m ((c.tc : Thread Cert.AdamSbinIdeal.nD Cert.AdamSbinIdeal.τ).loc Cert.AdamSbinIdeal.main_arg3))
      ∧ r.2.sem = fun _ => 0)

def quiescent_AdamSbinReferenceIdeal [hAdamSbinReferenceIdeal : Cert.AdamSbinReferenceIdeal.Facts] : Prop :=
  ∀ (m : (ℓ : Loc Cert.AdamSbinReferenceIdeal.nD Cert.AdamSbinReferenceIdeal.τ Cert.AdamSbinReferenceIdeal.sig) → Buf (Elt Ideal) ℓ) (g : Dev Cert.AdamSbinReferenceIdeal.nD → PrngReg), Pre_AdamSbinReferenceIdeal m →
    θ_run (Cert.AdamSbinReferenceIdeal.defs (F := Ideal)) (onTc (τ := Cert.AdamSbinReferenceIdeal.τ) (Cert.AdamSbinReferenceIdeal.main (F := Ideal))) ⟨m, fun _ => 0, g⟩ (fun r => (∀ c : Dev Cert.AdamSbinReferenceIdeal.nD,
      r.2.mem ((c.tc : Thread Cert.AdamSbinReferenceIdeal.nD Cert.AdamSbinReferenceIdeal.τ).loc Cert.AdamSbinReferenceIdeal.main_arg0) = m ((c.tc : Thread Cert.AdamSbinReferenceIdeal.nD Cert.AdamSbinReferenceIdeal.τ).loc Cert.AdamSbinReferenceIdeal.main_arg0)
      ∧ r.2.mem ((c.tc : Thread Cert.AdamSbinReferenceIdeal.nD Cert.AdamSbinReferenceIdeal.τ).loc Cert.AdamSbinReferenceIdeal.main_arg1) = m ((c.tc : Thread Cert.AdamSbinReferenceIdeal.nD Cert.AdamSbinReferenceIdeal.τ).loc Cert.AdamSbinReferenceIdeal.main_arg1)
      ∧ r.2.mem ((c.tc : Thread Cert.AdamSbinReferenceIdeal.nD Cert.AdamSbinReferenceIdeal.τ).loc Cert.AdamSbinReferenceIdeal.main_arg2) = m ((c.tc : Thread Cert.AdamSbinReferenceIdeal.nD Cert.AdamSbinReferenceIdeal.τ).loc Cert.AdamSbinReferenceIdeal.main_arg2)
      ∧ r.2.mem ((c.tc : Thread Cert.AdamSbinReferenceIdeal.nD Cert.AdamSbinReferenceIdeal.τ).loc Cert.AdamSbinReferenceIdeal.main_arg3) = m ((c.tc : Thread Cert.AdamSbinReferenceIdeal.nD Cert.AdamSbinReferenceIdeal.τ).loc Cert.AdamSbinReferenceIdeal.main_arg3))
      ∧ r.2.sem = fun _ => 0)

def quiescent_AdamSsin [hAdamSsin : Cert.AdamSsin.Facts] : Prop :=
  ∀ (m : (ℓ : Loc Cert.AdamSsin.nD Cert.AdamSsin.τ Cert.AdamSsin.sig) → Buf (Elt Bits) ℓ) (g : Dev Cert.AdamSsin.nD → PrngReg), Pre_AdamSsin m →
    θ_run (Cert.AdamSsin.defs (F := Bits)) (onTc (τ := Cert.AdamSsin.τ) (Cert.AdamSsin.main (F := Bits))) ⟨m, fun _ => 0, g⟩ (fun r => (∀ c : Dev Cert.AdamSsin.nD,
      r.2.mem ((c.tc : Thread Cert.AdamSsin.nD Cert.AdamSsin.τ).loc Cert.AdamSsin.main_arg0) = m ((c.tc : Thread Cert.AdamSsin.nD Cert.AdamSsin.τ).loc Cert.AdamSsin.main_arg0)
      ∧ r.2.mem ((c.tc : Thread Cert.AdamSsin.nD Cert.AdamSsin.τ).loc Cert.AdamSsin.main_arg1) = m ((c.tc : Thread Cert.AdamSsin.nD Cert.AdamSsin.τ).loc Cert.AdamSsin.main_arg1)
      ∧ r.2.mem ((c.tc : Thread Cert.AdamSsin.nD Cert.AdamSsin.τ).loc Cert.AdamSsin.main_arg2) = m ((c.tc : Thread Cert.AdamSsin.nD Cert.AdamSsin.τ).loc Cert.AdamSsin.main_arg2)
      ∧ r.2.mem ((c.tc : Thread Cert.AdamSsin.nD Cert.AdamSsin.τ).loc Cert.AdamSsin.main_arg3) = m ((c.tc : Thread Cert.AdamSsin.nD Cert.AdamSsin.τ).loc Cert.AdamSsin.main_arg3))
      ∧ r.2.sem = fun _ => 0)

def quiescent_AdamSsinIdeal [hAdamSsinIdeal : Cert.AdamSsinIdeal.Facts] : Prop :=
  ∀ (m : (ℓ : Loc Cert.AdamSsinIdeal.nD Cert.AdamSsinIdeal.τ Cert.AdamSsinIdeal.sig) → Buf (Elt Ideal) ℓ) (g : Dev Cert.AdamSsinIdeal.nD → PrngReg), Pre_AdamSsinIdeal m →
    θ_run (Cert.AdamSsinIdeal.defs (F := Ideal)) (onTc (τ := Cert.AdamSsinIdeal.τ) (Cert.AdamSsinIdeal.main (F := Ideal))) ⟨m, fun _ => 0, g⟩ (fun r => (∀ c : Dev Cert.AdamSsinIdeal.nD,
      r.2.mem ((c.tc : Thread Cert.AdamSsinIdeal.nD Cert.AdamSsinIdeal.τ).loc Cert.AdamSsinIdeal.main_arg0) = m ((c.tc : Thread Cert.AdamSsinIdeal.nD Cert.AdamSsinIdeal.τ).loc Cert.AdamSsinIdeal.main_arg0)
      ∧ r.2.mem ((c.tc : Thread Cert.AdamSsinIdeal.nD Cert.AdamSsinIdeal.τ).loc Cert.AdamSsinIdeal.main_arg1) = m ((c.tc : Thread Cert.AdamSsinIdeal.nD Cert.AdamSsinIdeal.τ).loc Cert.AdamSsinIdeal.main_arg1)
      ∧ r.2.mem ((c.tc : Thread Cert.AdamSsinIdeal.nD Cert.AdamSsinIdeal.τ).loc Cert.AdamSsinIdeal.main_arg2) = m ((c.tc : Thread Cert.AdamSsinIdeal.nD Cert.AdamSsinIdeal.τ).loc Cert.AdamSsinIdeal.main_arg2)
      ∧ r.2.mem ((c.tc : Thread Cert.AdamSsinIdeal.nD Cert.AdamSsinIdeal.τ).loc Cert.AdamSsinIdeal.main_arg3) = m ((c.tc : Thread Cert.AdamSsinIdeal.nD Cert.AdamSsinIdeal.τ).loc Cert.AdamSsinIdeal.main_arg3))
      ∧ r.2.sem = fun _ => 0)

def quiescent_AdamSsinReferenceIdeal [hAdamSsinReferenceIdeal : Cert.AdamSsinReferenceIdeal.Facts] : Prop :=
  ∀ (m : (ℓ : Loc Cert.AdamSsinReferenceIdeal.nD Cert.AdamSsinReferenceIdeal.τ Cert.AdamSsinReferenceIdeal.sig) → Buf (Elt Ideal) ℓ) (g : Dev Cert.AdamSsinReferenceIdeal.nD → PrngReg), Pre_AdamSsinReferenceIdeal m →
    θ_run (Cert.AdamSsinReferenceIdeal.defs (F := Ideal)) (onTc (τ := Cert.AdamSsinReferenceIdeal.τ) (Cert.AdamSsinReferenceIdeal.main (F := Ideal))) ⟨m, fun _ => 0, g⟩ (fun r => (∀ c : Dev Cert.AdamSsinReferenceIdeal.nD,
      r.2.mem ((c.tc : Thread Cert.AdamSsinReferenceIdeal.nD Cert.AdamSsinReferenceIdeal.τ).loc Cert.AdamSsinReferenceIdeal.main_arg0) = m ((c.tc : Thread Cert.AdamSsinReferenceIdeal.nD Cert.AdamSsinReferenceIdeal.τ).loc Cert.AdamSsinReferenceIdeal.main_arg0)
      ∧ r.2.mem ((c.tc : Thread Cert.AdamSsinReferenceIdeal.nD Cert.AdamSsinReferenceIdeal.τ).loc Cert.AdamSsinReferenceIdeal.main_arg1) = m ((c.tc : Thread Cert.AdamSsinReferenceIdeal.nD Cert.AdamSsinReferenceIdeal.τ).loc Cert.AdamSsinReferenceIdeal.main_arg1)
      ∧ r.2.mem ((c.tc : Thread Cert.AdamSsinReferenceIdeal.nD Cert.AdamSsinReferenceIdeal.τ).loc Cert.AdamSsinReferenceIdeal.main_arg2) = m ((c.tc : Thread Cert.AdamSsinReferenceIdeal.nD Cert.AdamSsinReferenceIdeal.τ).loc Cert.AdamSsinReferenceIdeal.main_arg2)
      ∧ r.2.mem ((c.tc : Thread Cert.AdamSsinReferenceIdeal.nD Cert.AdamSsinReferenceIdeal.τ).loc Cert.AdamSsinReferenceIdeal.main_arg3) = m ((c.tc : Thread Cert.AdamSsinReferenceIdeal.nD Cert.AdamSsinReferenceIdeal.τ).loc Cert.AdamSsinReferenceIdeal.main_arg3))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ r.2.sem = fun _ => 0)

def quiescent_AdamGluReferenceIdeal [hAdamGluReferenceIdeal : Cert.AdamGluReferenceIdeal.Facts] : Prop :=
  ∀ (m : (ℓ : Loc Cert.AdamGluReferenceIdeal.nD Cert.AdamGluReferenceIdeal.τ Cert.AdamGluReferenceIdeal.sig) → Buf (Elt Ideal) ℓ) (g : Dev Cert.AdamGluReferenceIdeal.nD → PrngReg), Pre_AdamGluReferenceIdeal m →
    θ_run (Cert.AdamGluReferenceIdeal.defs (F := Ideal)) (onTc (τ := Cert.AdamGluReferenceIdeal.τ) (Cert.AdamGluReferenceIdeal.main (F := Ideal))) ⟨m, fun _ => 0, g⟩ (fun r => (∀ c : Dev Cert.AdamGluReferenceIdeal.nD,
      r.2.mem ((c.tc : Thread Cert.AdamGluReferenceIdeal.nD Cert.AdamGluReferenceIdeal.τ).loc Cert.AdamGluReferenceIdeal.main_arg0) = m ((c.tc : Thread Cert.AdamGluReferenceIdeal.nD Cert.AdamGluReferenceIdeal.τ).loc Cert.AdamGluReferenceIdeal.main_arg0)
      ∧ r.2.mem ((c.tc : Thread Cert.AdamGluReferenceIdeal.nD Cert.AdamGluReferenceIdeal.τ).loc Cert.AdamGluReferenceIdeal.main_arg1) = m ((c.tc : Thread Cert.AdamGluReferenceIdeal.nD Cert.AdamGluReferenceIdeal.τ).loc Cert.AdamGluReferenceIdeal.main_arg1)
      ∧ r.2.mem ((c.tc : Thread Cert.AdamGluReferenceIdeal.nD Cert.AdamGluReferenceIdeal.τ).loc Cert.AdamGluReferenceIdeal.main_arg2) = m ((c.tc : Thread Cert.AdamGluReferenceIdeal.nD Cert.AdamGluReferenceIdeal.τ).loc Cert.AdamGluReferenceIdeal.main_arg2)
      ∧ r.2.mem ((c.tc : Thread Cert.AdamGluReferenceIdeal.nD Cert.AdamGluReferenceIdeal.τ).loc Cert.AdamGluReferenceIdeal.main_arg3) = m ((c.tc : Thread Cert.AdamGluReferenceIdeal.nD Cert.AdamGluReferenceIdeal.τ).loc Cert.AdamGluReferenceIdeal.main_arg3))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormReferenceIdeal [hAdamNormReferenceIdeal : Cert.AdamNormReferenceIdeal.Facts] : Prop :=
  ∀ (m : (ℓ : Loc Cert.AdamNormReferenceIdeal.nD Cert.AdamNormReferenceIdeal.τ Cert.AdamNormReferenceIdeal.sig) → Buf (Elt Ideal) ℓ) (g : Dev Cert.AdamNormReferenceIdeal.nD → PrngReg), Pre_AdamNormReferenceIdeal m →
    θ_run (Cert.AdamNormReferenceIdeal.defs (F := Ideal)) (onTc (τ := Cert.AdamNormReferenceIdeal.τ) (Cert.AdamNormReferenceIdeal.main (F := Ideal))) ⟨m, fun _ => 0, g⟩ (fun r => (∀ c : Dev Cert.AdamNormReferenceIdeal.nD,
      r.2.mem ((c.tc : Thread Cert.AdamNormReferenceIdeal.nD Cert.AdamNormReferenceIdeal.τ).loc Cert.AdamNormReferenceIdeal.main_arg0) = m ((c.tc : Thread Cert.AdamNormReferenceIdeal.nD Cert.AdamNormReferenceIdeal.τ).loc Cert.AdamNormReferenceIdeal.main_arg0)
      ∧ r.2.mem ((c.tc : Thread Cert.AdamNormReferenceIdeal.nD Cert.AdamNormReferenceIdeal.τ).loc Cert.AdamNormReferenceIdeal.main_arg1) = m ((c.tc : Thread Cert.AdamNormReferenceIdeal.nD Cert.AdamNormReferenceIdeal.τ).loc Cert.AdamNormReferenceIdeal.main_arg1)
      ∧ r.2.mem ((c.tc : Thread Cert.AdamNormReferenceIdeal.nD Cert.AdamNormReferenceIdeal.τ).loc Cert.AdamNormReferenceIdeal.main_arg2) = m ((c.tc : Thread Cert.AdamNormReferenceIdeal.nD Cert.AdamNormReferenceIdeal.τ).loc Cert.AdamNormReferenceIdeal.main_arg2)
      ∧ r.2.mem ((c.tc : Thread Cert.AdamNormReferenceIdeal.nD Cert.AdamNormReferenceIdeal.τ).loc Cert.AdamNormReferenceIdeal.main_arg3) = m ((c.tc : Thread Cert.AdamNormReferenceIdeal.nD Cert.AdamNormReferenceIdeal.τ).loc Cert.AdamNormReferenceIdeal.main_arg3))
      ∧ r.2.sem = fun _ => 0)

def quiescent_AdamHead [hAdamHead : Cert.AdamHead.Facts] : Prop :=
  ∀ (m : (ℓ : Loc Cert.AdamHead.nD Cert.AdamHead.τ Cert.AdamHead.sig) → Buf (Elt Bits) ℓ) (g : Dev Cert.AdamHead.nD → PrngReg), Pre_AdamHead m →
    θ_run (Cert.AdamHead.defs (F := Bits)) (onTc (τ := Cert.AdamHead.τ) (Cert.AdamHead.main (F := Bits))) ⟨m, fun _ => 0, g⟩ (fun r => (∀ c : Dev Cert.AdamHead.nD,
      r.2.mem ((c.tc : Thread Cert.AdamHead.nD Cert.AdamHead.τ).loc Cert.AdamHead.main_arg0) = m ((c.tc : Thread Cert.AdamHead.nD Cert.AdamHead.τ).loc Cert.AdamHead.main_arg0)
      ∧ r.2.mem ((c.tc : Thread Cert.AdamHead.nD Cert.AdamHead.τ).loc Cert.AdamHead.main_arg1) = m ((c.tc : Thread Cert.AdamHead.nD Cert.AdamHead.τ).loc Cert.AdamHead.main_arg1)
      ∧ r.2.mem ((c.tc : Thread Cert.AdamHead.nD Cert.AdamHead.τ).loc Cert.AdamHead.main_arg2) = m ((c.tc : Thread Cert.AdamHead.nD Cert.AdamHead.τ).loc Cert.AdamHead.main_arg2)
      ∧ r.2.mem ((c.tc : Thread Cert.AdamHead.nD Cert.AdamHead.τ).loc Cert.AdamHead.main_arg3) = m ((c.tc : Thread Cert.AdamHead.nD Cert.AdamHead.τ).loc Cert.AdamHead.main_arg3))
      ∧ r.2.sem = fun _ => 0)

def quiescent_AdamHeadIdeal [hAdamHeadIdeal : Cert.AdamHeadIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg), Pre_AdamHeadIdeal m →
    θ_run (Cert.AdamHeadIdeal.defs (F := Ideal)) (onTc (τ := Cert.AdamHeadIdeal.τ) (Cert.AdamHeadIdeal.main (F := Ideal))) ⟨m, fun _ => 0, g⟩ (fun r => (∀ c : Dev Cert.AdamHeadIdeal.nD,
      r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
      ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
      ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
      ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3))
      ∧ r.2.sem = fun _ => 0)

def quiescent_AdamHeadReferenceIdeal [hAdamHeadReferenceIdeal : Cert.AdamHeadReferenceIdeal.Facts] : Prop :=
  ∀ (m : (ℓ : Loc Cert.AdamHeadReferenceIdeal.nD Cert.AdamHeadReferenceIdeal.τ Cert.AdamHeadReferenceIdeal.sig) → Buf (Elt Ideal) ℓ) (g : Dev Cert.AdamHeadReferenceIdeal.nD → PrngReg), Pre_AdamHeadReferenceIdeal m →
    θ_run (Cert.AdamHeadReferenceIdeal.defs (F := Ideal)) (onTc (τ := Cert.AdamHeadReferenceIdeal.τ) (Cert.AdamHeadReferenceIdeal.main (F := Ideal))) ⟨m, fun _ => 0, g⟩ (fun r => (∀ c : Dev Cert.AdamHeadReferenceIdeal.nD,
      r.2.mem ((c.tc : Thread Cert.AdamHeadReferenceIdeal.nD Cert.AdamHeadReferenceIdeal.τ).loc Cert.AdamHeadReferenceIdeal.main_arg0) = m ((c.tc : Thread Cert.AdamHeadReferenceIdeal.nD Cert.AdamHeadReferenceIdeal.τ).loc Cert.AdamHeadReferenceIdeal.main_arg0)
      ∧ r.2.mem ((c.tc : Thread Cert.AdamHeadReferenceIdeal.nD Cert.AdamHeadReferenceIdeal.τ).loc Cert.AdamHeadReferenceIdeal.main_arg1) = m ((c.tc : Thread Cert.AdamHeadReferenceIdeal.nD Cert.AdamHeadReferenceIdeal.τ).loc Cert.AdamHeadReferenceIdeal.main_arg1)
      ∧ r.2.mem ((c.tc : Thread Cert.AdamHeadReferenceIdeal.nD Cert.AdamHeadReferenceIdeal.τ).loc Cert.AdamHeadReferenceIdeal.main_arg2) = m ((c.tc : Thread Cert.AdamHeadReferenceIdeal.nD Cert.AdamHeadReferenceIdeal.τ).loc Cert.AdamHeadReferenceIdeal.main_arg2)
      ∧ r.2.mem ((c.tc : Thread Cert.AdamHeadReferenceIdeal.nD Cert.AdamHeadReferenceIdeal.τ).loc Cert.AdamHeadReferenceIdeal.main_arg3) = m ((c.tc : Thread Cert.AdamHeadReferenceIdeal.nD Cert.AdamHeadReferenceIdeal.τ).loc Cert.AdamHeadReferenceIdeal.main_arg3))
      ∧ r.2.sem = fun _ => 0)

def quiescent_AdamDt [hAdamDt : Cert.AdamDt.Facts] : Prop :=
  ∀ (m : (ℓ : Loc Cert.AdamDt.nD Cert.AdamDt.τ Cert.AdamDt.sig) → Buf (Elt Bits) ℓ) (g : Dev Cert.AdamDt.nD → PrngReg), Pre_AdamDt m →
    θ_run (Cert.AdamDt.defs (F := Bits)) (onTc (τ := Cert.AdamDt.τ) (Cert.AdamDt.main (F := Bits))) ⟨m, fun _ => 0, g⟩ (fun r => (∀ c : Dev Cert.AdamDt.nD,
      r.2.mem ((c.tc : Thread Cert.AdamDt.nD Cert.AdamDt.τ).loc Cert.AdamDt.main_arg0) = m ((c.tc : Thread Cert.AdamDt.nD Cert.AdamDt.τ).loc Cert.AdamDt.main_arg0)
      ∧ r.2.mem ((c.tc : Thread Cert.AdamDt.nD Cert.AdamDt.τ).loc Cert.AdamDt.main_arg1) = m ((c.tc : Thread Cert.AdamDt.nD Cert.AdamDt.τ).loc Cert.AdamDt.main_arg1)
      ∧ r.2.mem ((c.tc : Thread Cert.AdamDt.nD Cert.AdamDt.τ).loc Cert.AdamDt.main_arg2) = m ((c.tc : Thread Cert.AdamDt.nD Cert.AdamDt.τ).loc Cert.AdamDt.main_arg2)
      ∧ r.2.mem ((c.tc : Thread Cert.AdamDt.nD Cert.AdamDt.τ).loc Cert.AdamDt.main_arg3) = m ((c.tc : Thread Cert.AdamDt.nD Cert.AdamDt.τ).loc Cert.AdamDt.main_arg3))
      ∧ r.2.sem = fun _ => 0)

def quiescent_AdamDtIdeal [hAdamDtIdeal : Cert.AdamDtIdeal.Facts] : Prop :=
  ∀ (m : (ℓ : Loc Cert.AdamDtIdeal.nD Cert.AdamDtIdeal.τ Cert.AdamDtIdeal.sig) → Buf (Elt Ideal) ℓ) (g : Dev Cert.AdamDtIdeal.nD → PrngReg), Pre_AdamDtIdeal m →
    θ_run (Cert.AdamDtIdeal.defs (F := Ideal)) (onTc (τ := Cert.AdamDtIdeal.τ) (Cert.AdamDtIdeal.main (F := Ideal))) ⟨m, fun _ => 0, g⟩ (fun r => (∀ c : Dev Cert.AdamDtIdeal.nD,
      r.2.mem ((c.tc : Thread Cert.AdamDtIdeal.nD Cert.AdamDtIdeal.τ).loc Cert.AdamDtIdeal.main_arg0) = m ((c.tc : Thread Cert.AdamDtIdeal.nD Cert.AdamDtIdeal.τ).loc Cert.AdamDtIdeal.main_arg0)
      ∧ r.2.mem ((c.tc : Thread Cert.AdamDtIdeal.nD Cert.AdamDtIdeal.τ).loc Cert.AdamDtIdeal.main_arg1) = m ((c.tc : Thread Cert.AdamDtIdeal.nD Cert.AdamDtIdeal.τ).loc Cert.AdamDtIdeal.main_arg1)
      ∧ r.2.mem ((c.tc : Thread Cert.AdamDtIdeal.nD Cert.AdamDtIdeal.τ).loc Cert.AdamDtIdeal.main_arg2) = m ((c.tc : Thread Cert.AdamDtIdeal.nD Cert.AdamDtIdeal.τ).loc Cert.AdamDtIdeal.main_arg2)
      ∧ r.2.mem ((c.tc : Thread Cert.AdamDtIdeal.nD Cert.AdamDtIdeal.τ).loc Cert.AdamDtIdeal.main_arg3) = m ((c.tc : Thread Cert.AdamDtIdeal.nD Cert.AdamDtIdeal.τ).loc Cert.AdamDtIdeal.main_arg3))
      ∧ r.2.sem = fun _ => 0)

def quiescent_AdamDtReferenceIdeal [hAdamDtReferenceIdeal : Cert.AdamDtReferenceIdeal.Facts] : Prop :=
  ∀ (m : (ℓ : Loc Cert.AdamDtReferenceIdeal.nD Cert.AdamDtReferenceIdeal.τ Cert.AdamDtReferenceIdeal.sig) → Buf (Elt Ideal) ℓ) (g : Dev Cert.AdamDtReferenceIdeal.nD → PrngReg), Pre_AdamDtReferenceIdeal m →
    θ_run (Cert.AdamDtReferenceIdeal.defs (F := Ideal)) (onTc (τ := Cert.AdamDtReferenceIdeal.τ) (Cert.AdamDtReferenceIdeal.main (F := Ideal))) ⟨m, fun _ => 0, g⟩ (fun r => (∀ c : Dev Cert.AdamDtReferenceIdeal.nD,
      r.2.mem ((c.tc : Thread Cert.AdamDtReferenceIdeal.nD Cert.AdamDtReferenceIdeal.τ).loc Cert.AdamDtReferenceIdeal.main_arg0) = m ((c.tc : Thread Cert.AdamDtReferenceIdeal.nD Cert.AdamDtReferenceIdeal.τ).loc Cert.AdamDtReferenceIdeal.main_arg0)
      ∧ r.2.mem ((c.tc : Thread Cert.AdamDtReferenceIdeal.nD Cert.AdamDtReferenceIdeal.τ).loc Cert.AdamDtReferenceIdeal.main_arg1) = m ((c.tc : Thread Cert.AdamDtReferenceIdeal.nD Cert.AdamDtReferenceIdeal.τ).loc Cert.AdamDtReferenceIdeal.main_arg1)
      ∧ r.2.mem ((c.tc : Thread Cert.AdamDtReferenceIdeal.nD Cert.AdamDtReferenceIdeal.τ).loc Cert.AdamDtReferenceIdeal.main_arg2) = m ((c.tc : Thread Cert.AdamDtReferenceIdeal.nD Cert.AdamDtReferenceIdeal.τ).loc Cert.AdamDtReferenceIdeal.main_arg2)
      ∧ r.2.mem ((c.tc : Thread Cert.AdamDtReferenceIdeal.nD Cert.AdamDtReferenceIdeal.τ).loc Cert.AdamDtReferenceIdeal.main_arg3) = m ((c.tc : Thread Cert.AdamDtReferenceIdeal.nD Cert.AdamDtReferenceIdeal.τ).loc Cert.AdamDtReferenceIdeal.main_arg3))
      ∧ r.2.sem = fun _ => 0)

def quiescent_AdamA [hAdamA : Cert.AdamA.Facts] : Prop :=
  ∀ (m : (ℓ : Loc Cert.AdamA.nD Cert.AdamA.τ Cert.AdamA.sig) → Buf (Elt Bits) ℓ) (g : Dev Cert.AdamA.nD → PrngReg), Pre_AdamA m →
    θ_run (Cert.AdamA.defs (F := Bits)) (onTc (τ := Cert.AdamA.τ) (Cert.AdamA.main (F := Bits))) ⟨m, fun _ => 0, g⟩ (fun r => (∀ c : Dev Cert.AdamA.nD,
      r.2.mem ((c.tc : Thread Cert.AdamA.nD Cert.AdamA.τ).loc Cert.AdamA.main_arg0) = m ((c.tc : Thread Cert.AdamA.nD Cert.AdamA.τ).loc Cert.AdamA.main_arg0)
      ∧ r.2.mem ((c.tc : Thread Cert.AdamA.nD Cert.AdamA.τ).loc Cert.AdamA.main_arg1) = m ((c.tc : Thread Cert.AdamA.nD Cert.AdamA.τ).loc Cert.AdamA.main_arg1)
      ∧ r.2.mem ((c.tc : Thread Cert.AdamA.nD Cert.AdamA.τ).loc Cert.AdamA.main_arg2) = m ((c.tc : Thread Cert.AdamA.nD Cert.AdamA.τ).loc Cert.AdamA.main_arg2)
      ∧ r.2.mem ((c.tc : Thread Cert.AdamA.nD Cert.AdamA.τ).loc Cert.AdamA.main_arg3) = m ((c.tc : Thread Cert.AdamA.nD Cert.AdamA.τ).loc Cert.AdamA.main_arg3))
      ∧ r.2.sem = fun _ => 0)

def quiescent_AdamAIdeal [hAdamAIdeal : Cert.AdamAIdeal.Facts] : Prop :=
  ∀ (m : (ℓ : Loc Cert.AdamAIdeal.nD Cert.AdamAIdeal.τ Cert.AdamAIdeal.sig) → Buf (Elt Ideal) ℓ) (g : Dev Cert.AdamAIdeal.nD → PrngReg), Pre_AdamAIdeal m →
    θ_run (Cert.AdamAIdeal.defs (F := Ideal)) (onTc (τ := Cert.AdamAIdeal.τ) (Cert.AdamAIdeal.main (F := Ideal))) ⟨m, fun _ => 0, g⟩ (fun r => (∀ c : Dev Cert.AdamAIdeal.nD,
      r.2.mem ((c.tc : Thread Cert.AdamAIdeal.nD Cert.AdamAIdeal.τ).loc Cert.AdamAIdeal.main_arg0) = m ((c.tc : Thread Cert.AdamAIdeal.nD Cert.AdamAIdeal.τ).loc Cert.AdamAIdeal.main_arg0)
      ∧ r.2.mem ((c.tc : Thread Cert.AdamAIdeal.nD Cert.AdamAIdeal.τ).loc Cert.AdamAIdeal.main_arg1) = m ((c.tc : Thread Cert.AdamAIdeal.nD Cert.AdamAIdeal.τ).loc Cert.AdamAIdeal.main_arg1)
      ∧ r.2.mem ((c.tc : Thread Cert.AdamAIdeal.nD Cert.AdamAIdeal.τ).loc Cert.AdamAIdeal.main_arg2) = m ((c.tc : Thread Cert.AdamAIdeal.nD Cert.AdamAIdeal.τ).loc Cert.AdamAIdeal.main_arg2)
      ∧ r.2.mem ((c.tc : Thread Cert.AdamAIdeal.nD Cert.AdamAIdeal.τ).loc Cert.AdamAIdeal.main_arg3) = m ((c.tc : Thread Cert.AdamAIdeal.nD Cert.AdamAIdeal.τ).loc Cert.AdamAIdeal.main_arg3))
      ∧ r.2.sem = fun _ => 0)

def quiescent_AdamAReferenceIdeal [hAdamAReferenceIdeal : Cert.AdamAReferenceIdeal.Facts] : Prop :=
  ∀ (m : (ℓ : Loc Cert.AdamAReferenceIdeal.nD Cert.AdamAReferenceIdeal.τ Cert.AdamAReferenceIdeal.sig) → Buf (Elt Ideal) ℓ) (g : Dev Cert.AdamAReferenceIdeal.nD → PrngReg), Pre_AdamAReferenceIdeal m →
    θ_run (Cert.AdamAReferenceIdeal.defs (F := Ideal)) (onTc (τ := Cert.AdamAReferenceIdeal.τ) (Cert.AdamAReferenceIdeal.main (F := Ideal))) ⟨m, fun _ => 0, g⟩ (fun r => (∀ c : Dev Cert.AdamAReferenceIdeal.nD,
      r.2.mem ((c.tc : Thread Cert.AdamAReferenceIdeal.nD Cert.AdamAReferenceIdeal.τ).loc Cert.AdamAReferenceIdeal.main_arg0) = m ((c.tc : Thread Cert.AdamAReferenceIdeal.nD Cert.AdamAReferenceIdeal.τ).loc Cert.AdamAReferenceIdeal.main_arg0)
      ∧ r.2.mem ((c.tc : Thread Cert.AdamAReferenceIdeal.nD Cert.AdamAReferenceIdeal.τ).loc Cert.AdamAReferenceIdeal.main_arg1) = m ((c.tc : Thread Cert.AdamAReferenceIdeal.nD Cert.AdamAReferenceIdeal.τ).loc Cert.AdamAReferenceIdeal.main_arg1)
      ∧ r.2.mem ((c.tc : Thread Cert.AdamAReferenceIdeal.nD Cert.AdamAReferenceIdeal.τ).loc Cert.AdamAReferenceIdeal.main_arg2) = m ((c.tc : Thread Cert.AdamAReferenceIdeal.nD Cert.AdamAReferenceIdeal.τ).loc Cert.AdamAReferenceIdeal.main_arg2)
      ∧ r.2.mem ((c.tc : Thread Cert.AdamAReferenceIdeal.nD Cert.AdamAReferenceIdeal.τ).loc Cert.AdamAReferenceIdeal.main_arg3) = m ((c.tc : Thread Cert.AdamAReferenceIdeal.nD Cert.AdamAReferenceIdeal.τ).loc Cert.AdamAReferenceIdeal.main_arg3))
      ∧ r.2.sem = fun _ => 0)

def quiescent_AdamB [hAdamB : Cert.AdamB.Facts] : Prop :=
  ∀ (m : (ℓ : Loc Cert.AdamB.nD Cert.AdamB.τ Cert.AdamB.sig) → Buf (Elt Bits) ℓ) (g : Dev Cert.AdamB.nD → PrngReg), Pre_AdamB m →
    θ_run (Cert.AdamB.defs (F := Bits)) (onTc (τ := Cert.AdamB.τ) (Cert.AdamB.main (F := Bits))) ⟨m, fun _ => 0, g⟩ (fun r => (∀ c : Dev Cert.AdamB.nD,
      r.2.mem ((c.tc : Thread Cert.AdamB.nD Cert.AdamB.τ).loc Cert.AdamB.main_arg0) = m ((c.tc : Thread Cert.AdamB.nD Cert.AdamB.τ).loc Cert.AdamB.main_arg0)
      ∧ r.2.mem ((c.tc : Thread Cert.AdamB.nD Cert.AdamB.τ).loc Cert.AdamB.main_arg1) = m ((c.tc : Thread Cert.AdamB.nD Cert.AdamB.τ).loc Cert.AdamB.main_arg1)
      ∧ r.2.mem ((c.tc : Thread Cert.AdamB.nD Cert.AdamB.τ).loc Cert.AdamB.main_arg2) = m ((c.tc : Thread Cert.AdamB.nD Cert.AdamB.τ).loc Cert.AdamB.main_arg2)
      ∧ r.2.mem ((c.tc : Thread Cert.AdamB.nD Cert.AdamB.τ).loc Cert.AdamB.main_arg3) = m ((c.tc : Thread Cert.AdamB.nD Cert.AdamB.τ).loc Cert.AdamB.main_arg3))
      ∧ r.2.sem = fun _ => 0)

def quiescent_AdamBIdeal [hAdamBIdeal : Cert.AdamBIdeal.Facts] : Prop :=
  ∀ (m : (ℓ : Loc Cert.AdamBIdeal.nD Cert.AdamBIdeal.τ Cert.AdamBIdeal.sig) → Buf (Elt Ideal) ℓ) (g : Dev Cert.AdamBIdeal.nD → PrngReg), Pre_AdamBIdeal m →
    θ_run (Cert.AdamBIdeal.defs (F := Ideal)) (onTc (τ := Cert.AdamBIdeal.τ) (Cert.AdamBIdeal.main (F := Ideal))) ⟨m, fun _ => 0, g⟩ (fun r => (∀ c : Dev Cert.AdamBIdeal.nD,
      r.2.mem ((c.tc : Thread Cert.AdamBIdeal.nD Cert.AdamBIdeal.τ).loc Cert.AdamBIdeal.main_arg0) = m ((c.tc : Thread Cert.AdamBIdeal.nD Cert.AdamBIdeal.τ).loc Cert.AdamBIdeal.main_arg0)
      ∧ r.2.mem ((c.tc : Thread Cert.AdamBIdeal.nD Cert.AdamBIdeal.τ).loc Cert.AdamBIdeal.main_arg1) = m ((c.tc : Thread Cert.AdamBIdeal.nD Cert.AdamBIdeal.τ).loc Cert.AdamBIdeal.main_arg1)
      ∧ r.2.mem ((c.tc : Thread Cert.AdamBIdeal.nD Cert.AdamBIdeal.τ).loc Cert.AdamBIdeal.main_arg2) = m ((c.tc : Thread Cert.AdamBIdeal.nD Cert.AdamBIdeal.τ).loc Cert.AdamBIdeal.main_arg2)
      ∧ r.2.mem ((c.tc : Thread Cert.AdamBIdeal.nD Cert.AdamBIdeal.τ).loc Cert.AdamBIdeal.main_arg3) = m ((c.tc : Thread Cert.AdamBIdeal.nD Cert.AdamBIdeal.τ).loc Cert.AdamBIdeal.main_arg3))
      ∧ r.2.sem = fun _ => 0)

def quiescent_AdamBReferenceIdeal [hAdamBReferenceIdeal : Cert.AdamBReferenceIdeal.Facts] : Prop :=
  ∀ (m : (ℓ : Loc Cert.AdamBReferenceIdeal.nD Cert.AdamBReferenceIdeal.τ Cert.AdamBReferenceIdeal.sig) → Buf (Elt Ideal) ℓ) (g : Dev Cert.AdamBReferenceIdeal.nD → PrngReg), Pre_AdamBReferenceIdeal m →
    θ_run (Cert.AdamBReferenceIdeal.defs (F := Ideal)) (onTc (τ := Cert.AdamBReferenceIdeal.τ) (Cert.AdamBReferenceIdeal.main (F := Ideal))) ⟨m, fun _ => 0, g⟩ (fun r => (∀ c : Dev Cert.AdamBReferenceIdeal.nD,
      r.2.mem ((c.tc : Thread Cert.AdamBReferenceIdeal.nD Cert.AdamBReferenceIdeal.τ).loc Cert.AdamBReferenceIdeal.main_arg0) = m ((c.tc : Thread Cert.AdamBReferenceIdeal.nD Cert.AdamBReferenceIdeal.τ).loc Cert.AdamBReferenceIdeal.main_arg0)
      ∧ r.2.mem ((c.tc : Thread Cert.AdamBReferenceIdeal.nD Cert.AdamBReferenceIdeal.τ).loc Cert.AdamBReferenceIdeal.main_arg1) = m ((c.tc : Thread Cert.AdamBReferenceIdeal.nD Cert.AdamBReferenceIdeal.τ).loc Cert.AdamBReferenceIdeal.main_arg1)
      ∧ r.2.mem ((c.tc : Thread Cert.AdamBReferenceIdeal.nD Cert.AdamBReferenceIdeal.τ).loc Cert.AdamBReferenceIdeal.main_arg2) = m ((c.tc : Thread Cert.AdamBReferenceIdeal.nD Cert.AdamBReferenceIdeal.τ).loc Cert.AdamBReferenceIdeal.main_arg2)
      ∧ r.2.mem ((c.tc : Thread Cert.AdamBReferenceIdeal.nD Cert.AdamBReferenceIdeal.τ).loc Cert.AdamBReferenceIdeal.main_arg3) = m ((c.tc : Thread Cert.AdamBReferenceIdeal.nD Cert.AdamBReferenceIdeal.τ).loc Cert.AdamBReferenceIdeal.main_arg3))
      ∧ r.2.sem = fun _ => 0)

def quiescent_AdamC [hAdamC : Cert.AdamC.Facts] : Prop :=
  ∀ (m : (ℓ : Loc Cert.AdamC.nD Cert.AdamC.τ Cert.AdamC.sig) → Buf (Elt Bits) ℓ) (g : Dev Cert.AdamC.nD → PrngReg), Pre_AdamC m →
    θ_run (Cert.AdamC.defs (F := Bits)) (onTc (τ := Cert.AdamC.τ) (Cert.AdamC.main (F := Bits))) ⟨m, fun _ => 0, g⟩ (fun r => (∀ c : Dev Cert.AdamC.nD,
      r.2.mem ((c.tc : Thread Cert.AdamC.nD Cert.AdamC.τ).loc Cert.AdamC.main_arg0) = m ((c.tc : Thread Cert.AdamC.nD Cert.AdamC.τ).loc Cert.AdamC.main_arg0)
      ∧ r.2.mem ((c.tc : Thread Cert.AdamC.nD Cert.AdamC.τ).loc Cert.AdamC.main_arg1) = m ((c.tc : Thread Cert.AdamC.nD Cert.AdamC.τ).loc Cert.AdamC.main_arg1)
      ∧ r.2.mem ((c.tc : Thread Cert.AdamC.nD Cert.AdamC.τ).loc Cert.AdamC.main_arg2) = m ((c.tc : Thread Cert.AdamC.nD Cert.AdamC.τ).loc Cert.AdamC.main_arg2)
      ∧ r.2.mem ((c.tc : Thread Cert.AdamC.nD Cert.AdamC.τ).loc Cert.AdamC.main_arg3) = m ((c.tc : Thread Cert.AdamC.nD Cert.AdamC.τ).loc Cert.AdamC.main_arg3))
      ∧ r.2.sem = fun _ => 0)

def quiescent_AdamCIdeal [hAdamCIdeal : Cert.AdamCIdeal.Facts] : Prop :=
  ∀ (m : (ℓ : Loc Cert.AdamCIdeal.nD Cert.AdamCIdeal.τ Cert.AdamCIdeal.sig) → Buf (Elt Ideal) ℓ) (g : Dev Cert.AdamCIdeal.nD → PrngReg), Pre_AdamCIdeal m →
    θ_run (Cert.AdamCIdeal.defs (F := Ideal)) (onTc (τ := Cert.AdamCIdeal.τ) (Cert.AdamCIdeal.main (F := Ideal))) ⟨m, fun _ => 0, g⟩ (fun r => (∀ c : Dev Cert.AdamCIdeal.nD,
      r.2.mem ((c.tc : Thread Cert.AdamCIdeal.nD Cert.AdamCIdeal.τ).loc Cert.AdamCIdeal.main_arg0) = m ((c.tc : Thread Cert.AdamCIdeal.nD Cert.AdamCIdeal.τ).loc Cert.AdamCIdeal.main_arg0)
      ∧ r.2.mem ((c.tc : Thread Cert.AdamCIdeal.nD Cert.AdamCIdeal.τ).loc Cert.AdamCIdeal.main_arg1) = m ((c.tc : Thread Cert.AdamCIdeal.nD Cert.AdamCIdeal.τ).loc Cert.AdamCIdeal.main_arg1)
      ∧ r.2.mem ((c.tc : Thread Cert.AdamCIdeal.nD Cert.AdamCIdeal.τ).loc Cert.AdamCIdeal.main_arg2) = m ((c.tc : Thread Cert.AdamCIdeal.nD Cert.AdamCIdeal.τ).loc Cert.AdamCIdeal.main_arg2)
      ∧ r.2.mem ((c.tc : Thread Cert.AdamCIdeal.nD Cert.AdamCIdeal.τ).loc Cert.AdamCIdeal.main_arg3) = m ((c.tc : Thread Cert.AdamCIdeal.nD Cert.AdamCIdeal.τ).loc Cert.AdamCIdeal.main_arg3))
      ∧ r.2.sem = fun _ => 0)

def quiescent_AdamCReferenceIdeal [hAdamCReferenceIdeal : Cert.AdamCReferenceIdeal.Facts] : Prop :=
  ∀ (m : (ℓ : Loc Cert.AdamCReferenceIdeal.nD Cert.AdamCReferenceIdeal.τ Cert.AdamCReferenceIdeal.sig) → Buf (Elt Ideal) ℓ) (g : Dev Cert.AdamCReferenceIdeal.nD → PrngReg), Pre_AdamCReferenceIdeal m →
    θ_run (Cert.AdamCReferenceIdeal.defs (F := Ideal)) (onTc (τ := Cert.AdamCReferenceIdeal.τ) (Cert.AdamCReferenceIdeal.main (F := Ideal))) ⟨m, fun _ => 0, g⟩ (fun r => (∀ c : Dev Cert.AdamCReferenceIdeal.nD,
      r.2.mem ((c.tc : Thread Cert.AdamCReferenceIdeal.nD Cert.AdamCReferenceIdeal.τ).loc Cert.AdamCReferenceIdeal.main_arg0) = m ((c.tc : Thread Cert.AdamCReferenceIdeal.nD Cert.AdamCReferenceIdeal.τ).loc Cert.AdamCReferenceIdeal.main_arg0)
      ∧ r.2.mem ((c.tc : Thread Cert.AdamCReferenceIdeal.nD Cert.AdamCReferenceIdeal.τ).loc Cert.AdamCReferenceIdeal.main_arg1) = m ((c.tc : Thread Cert.AdamCReferenceIdeal.nD Cert.AdamCReferenceIdeal.τ).loc Cert.AdamCReferenceIdeal.main_arg1)
      ∧ r.2.mem ((c.tc : Thread Cert.AdamCReferenceIdeal.nD Cert.AdamCReferenceIdeal.τ).loc Cert.AdamCReferenceIdeal.main_arg2) = m ((c.tc : Thread Cert.AdamCReferenceIdeal.nD Cert.AdamCReferenceIdeal.τ).loc Cert.AdamCReferenceIdeal.main_arg2)
      ∧ r.2.mem ((c.tc : Thread Cert.AdamCReferenceIdeal.nD Cert.AdamCReferenceIdeal.τ).loc Cert.AdamCReferenceIdeal.main_arg3) = m ((c.tc : Thread Cert.AdamCReferenceIdeal.nD Cert.AdamCReferenceIdeal.τ).loc Cert.AdamCReferenceIdeal.main_arg3))
      ∧ r.2.sem = fun _ => 0)

def quiescent_AdamD [hAdamD : Cert.AdamD.Facts] : Prop :=
  ∀ (m : (ℓ : Loc Cert.AdamD.nD Cert.AdamD.τ Cert.AdamD.sig) → Buf (Elt Bits) ℓ) (g : Dev Cert.AdamD.nD → PrngReg), Pre_AdamD m →
    θ_run (Cert.AdamD.defs (F := Bits)) (onTc (τ := Cert.AdamD.τ) (Cert.AdamD.main (F := Bits))) ⟨m, fun _ => 0, g⟩ (fun r => (∀ c : Dev Cert.AdamD.nD,
      r.2.mem ((c.tc : Thread Cert.AdamD.nD Cert.AdamD.τ).loc Cert.AdamD.main_arg0) = m ((c.tc : Thread Cert.AdamD.nD Cert.AdamD.τ).loc Cert.AdamD.main_arg0)
      ∧ r.2.mem ((c.tc : Thread Cert.AdamD.nD Cert.AdamD.τ).loc Cert.AdamD.main_arg1) = m ((c.tc : Thread Cert.AdamD.nD Cert.AdamD.τ).loc Cert.AdamD.main_arg1)
      ∧ r.2.mem ((c.tc : Thread Cert.AdamD.nD Cert.AdamD.τ).loc Cert.AdamD.main_arg2) = m ((c.tc : Thread Cert.AdamD.nD Cert.AdamD.τ).loc Cert.AdamD.main_arg2)
      ∧ r.2.mem ((c.tc : Thread Cert.AdamD.nD Cert.AdamD.τ).loc Cert.AdamD.main_arg3) = m ((c.tc : Thread Cert.AdamD.nD Cert.AdamD.τ).loc Cert.AdamD.main_arg3))
      ∧ r.2.sem = fun _ => 0)

def quiescent_AdamDIdeal [hAdamDIdeal : Cert.AdamDIdeal.Facts] : Prop :=
  ∀ (m : (ℓ : Loc Cert.AdamDIdeal.nD Cert.AdamDIdeal.τ Cert.AdamDIdeal.sig) → Buf (Elt Ideal) ℓ) (g : Dev Cert.AdamDIdeal.nD → PrngReg), Pre_AdamDIdeal m →
    θ_run (Cert.AdamDIdeal.defs (F := Ideal)) (onTc (τ := Cert.AdamDIdeal.τ) (Cert.AdamDIdeal.main (F := Ideal))) ⟨m, fun _ => 0, g⟩ (fun r => (∀ c : Dev Cert.AdamDIdeal.nD,
      r.2.mem ((c.tc : Thread Cert.AdamDIdeal.nD Cert.AdamDIdeal.τ).loc Cert.AdamDIdeal.main_arg0) = m ((c.tc : Thread Cert.AdamDIdeal.nD Cert.AdamDIdeal.τ).loc Cert.AdamDIdeal.main_arg0)
      ∧ r.2.mem ((c.tc : Thread Cert.AdamDIdeal.nD Cert.AdamDIdeal.τ).loc Cert.AdamDIdeal.main_arg1) = m ((c.tc : Thread Cert.AdamDIdeal.nD Cert.AdamDIdeal.τ).loc Cert.AdamDIdeal.main_arg1)
      ∧ r.2.mem ((c.tc : Thread Cert.AdamDIdeal.nD Cert.AdamDIdeal.τ).loc Cert.AdamDIdeal.main_arg2) = m ((c.tc : Thread Cert.AdamDIdeal.nD Cert.AdamDIdeal.τ).loc Cert.AdamDIdeal.main_arg2)
      ∧ r.2.mem ((c.tc : Thread Cert.AdamDIdeal.nD Cert.AdamDIdeal.τ).loc Cert.AdamDIdeal.main_arg3) = m ((c.tc : Thread Cert.AdamDIdeal.nD Cert.AdamDIdeal.τ).loc Cert.AdamDIdeal.main_arg3))
      ∧ r.2.sem = fun _ => 0)

def quiescent_AdamDReferenceIdeal [hAdamDReferenceIdeal : Cert.AdamDReferenceIdeal.Facts] : Prop :=
  ∀ (m : (ℓ : Loc Cert.AdamDReferenceIdeal.nD Cert.AdamDReferenceIdeal.τ Cert.AdamDReferenceIdeal.sig) → Buf (Elt Ideal) ℓ) (g : Dev Cert.AdamDReferenceIdeal.nD → PrngReg), Pre_AdamDReferenceIdeal m →
    θ_run (Cert.AdamDReferenceIdeal.defs (F := Ideal)) (onTc (τ := Cert.AdamDReferenceIdeal.τ) (Cert.AdamDReferenceIdeal.main (F := Ideal))) ⟨m, fun _ => 0, g⟩ (fun r => (∀ c : Dev Cert.AdamDReferenceIdeal.nD,
      r.2.mem ((c.tc : Thread Cert.AdamDReferenceIdeal.nD Cert.AdamDReferenceIdeal.τ).loc Cert.AdamDReferenceIdeal.main_arg0) = m ((c.tc : Thread Cert.AdamDReferenceIdeal.nD Cert.AdamDReferenceIdeal.τ).loc Cert.AdamDReferenceIdeal.main_arg0)
      ∧ r.2.mem ((c.tc : Thread Cert.AdamDReferenceIdeal.nD Cert.AdamDReferenceIdeal.τ).loc Cert.AdamDReferenceIdeal.main_arg1) = m ((c.tc : Thread Cert.AdamDReferenceIdeal.nD Cert.AdamDReferenceIdeal.τ).loc Cert.AdamDReferenceIdeal.main_arg1)
      ∧ r.2.mem ((c.tc : Thread Cert.AdamDReferenceIdeal.nD Cert.AdamDReferenceIdeal.τ).loc Cert.AdamDReferenceIdeal.main_arg2) = m ((c.tc : Thread Cert.AdamDReferenceIdeal.nD Cert.AdamDReferenceIdeal.τ).loc Cert.AdamDReferenceIdeal.main_arg2)
      ∧ r.2.mem ((c.tc : Thread Cert.AdamDReferenceIdeal.nD Cert.AdamDReferenceIdeal.τ).loc Cert.AdamDReferenceIdeal.main_arg3) = m ((c.tc : Thread Cert.AdamDReferenceIdeal.nD Cert.AdamDReferenceIdeal.τ).loc Cert.AdamDReferenceIdeal.main_arg3))
      ∧ r.2.sem = fun _ => 0)

def quiescent_Memnorm [hMemnorm : Cert.Memnorm.Facts] : Prop :=
  ∀ (m : (ℓ : Loc Cert.Memnorm.nD Cert.Memnorm.τ Cert.Memnorm.sig) → Buf (Elt Bits) ℓ) (g : Dev Cert.Memnorm.nD → PrngReg), Pre_Memnorm m →
    θ_run (Cert.Memnorm.defs (F := Bits)) (onTc (τ := Cert.Memnorm.τ) (Cert.Memnorm.main (F := Bits))) ⟨m, fun _ => 0, g⟩ (fun r => (∀ c : Dev Cert.Memnorm.nD,
      r.2.mem ((c.tc : Thread Cert.Memnorm.nD Cert.Memnorm.τ).loc Cert.Memnorm.main_arg0) = m ((c.tc : Thread Cert.Memnorm.nD Cert.Memnorm.τ).loc Cert.Memnorm.main_arg0)
      ∧ r.2.mem ((c.tc : Thread Cert.Memnorm.nD Cert.Memnorm.τ).loc Cert.Memnorm.main_arg1) = m ((c.tc : Thread Cert.Memnorm.nD Cert.Memnorm.τ).loc Cert.Memnorm.main_arg1))
      ∧ r.2.sem = fun _ => 0)

def quiescent_MemnormIdeal [hMemnormIdeal : Cert.MemnormIdeal.Facts] : Prop :=
  ∀ (m : (ℓ : Loc Cert.MemnormIdeal.nD Cert.MemnormIdeal.τ Cert.MemnormIdeal.sig) → Buf (Elt Ideal) ℓ) (g : Dev Cert.MemnormIdeal.nD → PrngReg), Pre_MemnormIdeal m →
    θ_run (Cert.MemnormIdeal.defs (F := Ideal)) (onTc (τ := Cert.MemnormIdeal.τ) (Cert.MemnormIdeal.main (F := Ideal))) ⟨m, fun _ => 0, g⟩ (fun r => (∀ c : Dev Cert.MemnormIdeal.nD,
      r.2.mem ((c.tc : Thread Cert.MemnormIdeal.nD Cert.MemnormIdeal.τ).loc Cert.MemnormIdeal.main_arg0) = m ((c.tc : Thread Cert.MemnormIdeal.nD Cert.MemnormIdeal.τ).loc Cert.MemnormIdeal.main_arg0)
      ∧ r.2.mem ((c.tc : Thread Cert.MemnormIdeal.nD Cert.MemnormIdeal.τ).loc Cert.MemnormIdeal.main_arg1) = m ((c.tc : Thread Cert.MemnormIdeal.nD Cert.MemnormIdeal.τ).loc Cert.MemnormIdeal.main_arg1))
      ∧ r.2.sem = fun _ => 0)

def quiescent_MemnormReferenceIdeal [hMemnormReferenceIdeal : Cert.MemnormReferenceIdeal.Facts] : Prop :=
  ∀ (m : (ℓ : Loc Cert.MemnormReferenceIdeal.nD Cert.MemnormReferenceIdeal.τ Cert.MemnormReferenceIdeal.sig) → Buf (Elt Ideal) ℓ) (g : Dev Cert.MemnormReferenceIdeal.nD → PrngReg), Pre_MemnormReferenceIdeal m →
    θ_run (Cert.MemnormReferenceIdeal.defs (F := Ideal)) (onTc (τ := Cert.MemnormReferenceIdeal.τ) (Cert.MemnormReferenceIdeal.main (F := Ideal))) ⟨m, fun _ => 0, g⟩ (fun r => (∀ c : Dev Cert.MemnormReferenceIdeal.nD,
      r.2.mem ((c.tc : Thread Cert.MemnormReferenceIdeal.nD Cert.MemnormReferenceIdeal.τ).loc Cert.MemnormReferenceIdeal.main_arg0) = m ((c.tc : Thread Cert.MemnormReferenceIdeal.nD Cert.MemnormReferenceIdeal.τ).loc Cert.MemnormReferenceIdeal.main_arg0)
      ∧ r.2.mem ((c.tc : Thread Cert.MemnormReferenceIdeal.nD Cert.MemnormReferenceIdeal.τ).loc Cert.MemnormReferenceIdeal.main_arg1) = m ((c.tc : Thread Cert.MemnormReferenceIdeal.nD Cert.MemnormReferenceIdeal.τ).loc Cert.MemnormReferenceIdeal.main_arg1))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1))
      ∧ r.2.sem = fun _ => 0)

def quiescent_MemkvReferenceIdeal [hMemkvReferenceIdeal : Cert.MemkvReferenceIdeal.Facts] : Prop :=
  ∀ (m : (ℓ : Loc Cert.MemkvReferenceIdeal.nD Cert.MemkvReferenceIdeal.τ Cert.MemkvReferenceIdeal.sig) → Buf (Elt Ideal) ℓ) (g : Dev Cert.MemkvReferenceIdeal.nD → PrngReg), Pre_MemkvReferenceIdeal m →
    θ_run (Cert.MemkvReferenceIdeal.defs (F := Ideal)) (onTc (τ := Cert.MemkvReferenceIdeal.τ) (Cert.MemkvReferenceIdeal.main (F := Ideal))) ⟨m, fun _ => 0, g⟩ (fun r => (∀ c : Dev Cert.MemkvReferenceIdeal.nD,
      r.2.mem ((c.tc : Thread Cert.MemkvReferenceIdeal.nD Cert.MemkvReferenceIdeal.τ).loc Cert.MemkvReferenceIdeal.main_arg0) = m ((c.tc : Thread Cert.MemkvReferenceIdeal.nD Cert.MemkvReferenceIdeal.τ).loc Cert.MemkvReferenceIdeal.main_arg0)
      ∧ r.2.mem ((c.tc : Thread Cert.MemkvReferenceIdeal.nD Cert.MemkvReferenceIdeal.τ).loc Cert.MemkvReferenceIdeal.main_arg1) = m ((c.tc : Thread Cert.MemkvReferenceIdeal.nD Cert.MemkvReferenceIdeal.τ).loc Cert.MemkvReferenceIdeal.main_arg1))
      ∧ r.2.sem = fun _ => 0)

def quiescent_Memkv0 [hMemkv0 : Cert.Memkv0.Facts] : Prop :=
  ∀ (m : (ℓ : Loc Cert.Memkv0.nD Cert.Memkv0.τ Cert.Memkv0.sig) → Buf (Elt Bits) ℓ) (g : Dev Cert.Memkv0.nD → PrngReg), Pre_Memkv0 m →
    θ_run (Cert.Memkv0.defs (F := Bits)) (onTc (τ := Cert.Memkv0.τ) (Cert.Memkv0.main (F := Bits))) ⟨m, fun _ => 0, g⟩ (fun r => (∀ c : Dev Cert.Memkv0.nD,
      r.2.mem ((c.tc : Thread Cert.Memkv0.nD Cert.Memkv0.τ).loc Cert.Memkv0.main_arg0) = m ((c.tc : Thread Cert.Memkv0.nD Cert.Memkv0.τ).loc Cert.Memkv0.main_arg0)
      ∧ r.2.mem ((c.tc : Thread Cert.Memkv0.nD Cert.Memkv0.τ).loc Cert.Memkv0.main_arg1) = m ((c.tc : Thread Cert.Memkv0.nD Cert.Memkv0.τ).loc Cert.Memkv0.main_arg1))
      ∧ r.2.sem = fun _ => 0)

def quiescent_Memkv0Ideal [hMemkv0Ideal : Cert.Memkv0Ideal.Facts] : Prop :=
  ∀ (m : (ℓ : Loc Cert.Memkv0Ideal.nD Cert.Memkv0Ideal.τ Cert.Memkv0Ideal.sig) → Buf (Elt Ideal) ℓ) (g : Dev Cert.Memkv0Ideal.nD → PrngReg), Pre_Memkv0Ideal m →
    θ_run (Cert.Memkv0Ideal.defs (F := Ideal)) (onTc (τ := Cert.Memkv0Ideal.τ) (Cert.Memkv0Ideal.main (F := Ideal))) ⟨m, fun _ => 0, g⟩ (fun r => (∀ c : Dev Cert.Memkv0Ideal.nD,
      r.2.mem ((c.tc : Thread Cert.Memkv0Ideal.nD Cert.Memkv0Ideal.τ).loc Cert.Memkv0Ideal.main_arg0) = m ((c.tc : Thread Cert.Memkv0Ideal.nD Cert.Memkv0Ideal.τ).loc Cert.Memkv0Ideal.main_arg0)
      ∧ r.2.mem ((c.tc : Thread Cert.Memkv0Ideal.nD Cert.Memkv0Ideal.τ).loc Cert.Memkv0Ideal.main_arg1) = m ((c.tc : Thread Cert.Memkv0Ideal.nD Cert.Memkv0Ideal.τ).loc Cert.Memkv0Ideal.main_arg1))
      ∧ r.2.sem = fun _ => 0)

def quiescent_Memkv0ReferenceIdeal [hMemkv0ReferenceIdeal : Cert.Memkv0ReferenceIdeal.Facts] : Prop :=
  ∀ (m : (ℓ : Loc Cert.Memkv0ReferenceIdeal.nD Cert.Memkv0ReferenceIdeal.τ Cert.Memkv0ReferenceIdeal.sig) → Buf (Elt Ideal) ℓ) (g : Dev Cert.Memkv0ReferenceIdeal.nD → PrngReg), Pre_Memkv0ReferenceIdeal m →
    θ_run (Cert.Memkv0ReferenceIdeal.defs (F := Ideal)) (onTc (τ := Cert.Memkv0ReferenceIdeal.τ) (Cert.Memkv0ReferenceIdeal.main (F := Ideal))) ⟨m, fun _ => 0, g⟩ (fun r => (∀ c : Dev Cert.Memkv0ReferenceIdeal.nD,
      r.2.mem ((c.tc : Thread Cert.Memkv0ReferenceIdeal.nD Cert.Memkv0ReferenceIdeal.τ).loc Cert.Memkv0ReferenceIdeal.main_arg0) = m ((c.tc : Thread Cert.Memkv0ReferenceIdeal.nD Cert.Memkv0ReferenceIdeal.τ).loc Cert.Memkv0ReferenceIdeal.main_arg0)
      ∧ r.2.mem ((c.tc : Thread Cert.Memkv0ReferenceIdeal.nD Cert.Memkv0ReferenceIdeal.τ).loc Cert.Memkv0ReferenceIdeal.main_arg1) = m ((c.tc : Thread Cert.Memkv0ReferenceIdeal.nD Cert.Memkv0ReferenceIdeal.τ).loc Cert.Memkv0ReferenceIdeal.main_arg1))
      ∧ r.2.sem = fun _ => 0)

def quiescent_Dwkv [hDwkv : Cert.Dwkv.Facts] : Prop :=
  ∀ (m : (ℓ : Loc Cert.Dwkv.nD Cert.Dwkv.τ Cert.Dwkv.sig) → Buf (Elt Bits) ℓ) (g : Dev Cert.Dwkv.nD → PrngReg), Pre_Dwkv m →
    θ_run (Cert.Dwkv.defs (F := Bits)) (onTc (τ := Cert.Dwkv.τ) (Cert.Dwkv.main (F := Bits))) ⟨m, fun _ => 0, g⟩ (fun r => (∀ c : Dev Cert.Dwkv.nD,
      r.2.mem ((c.tc : Thread Cert.Dwkv.nD Cert.Dwkv.τ).loc Cert.Dwkv.main_arg0) = m ((c.tc : Thread Cert.Dwkv.nD Cert.Dwkv.τ).loc Cert.Dwkv.main_arg0)
      ∧ r.2.mem ((c.tc : Thread Cert.Dwkv.nD Cert.Dwkv.τ).loc Cert.Dwkv.main_arg1) = m ((c.tc : Thread Cert.Dwkv.nD Cert.Dwkv.τ).loc Cert.Dwkv.main_arg1))
      ∧ r.2.sem = fun _ => 0)

def quiescent_DwkvIdeal [hDwkvIdeal : Cert.DwkvIdeal.Facts] : Prop :=
  ∀ (m : (ℓ : Loc Cert.DwkvIdeal.nD Cert.DwkvIdeal.τ Cert.DwkvIdeal.sig) → Buf (Elt Ideal) ℓ) (g : Dev Cert.DwkvIdeal.nD → PrngReg), Pre_DwkvIdeal m →
    θ_run (Cert.DwkvIdeal.defs (F := Ideal)) (onTc (τ := Cert.DwkvIdeal.τ) (Cert.DwkvIdeal.main (F := Ideal))) ⟨m, fun _ => 0, g⟩ (fun r => (∀ c : Dev Cert.DwkvIdeal.nD,
      r.2.mem ((c.tc : Thread Cert.DwkvIdeal.nD Cert.DwkvIdeal.τ).loc Cert.DwkvIdeal.main_arg0) = m ((c.tc : Thread Cert.DwkvIdeal.nD Cert.DwkvIdeal.τ).loc Cert.DwkvIdeal.main_arg0)
      ∧ r.2.mem ((c.tc : Thread Cert.DwkvIdeal.nD Cert.DwkvIdeal.τ).loc Cert.DwkvIdeal.main_arg1) = m ((c.tc : Thread Cert.DwkvIdeal.nD Cert.DwkvIdeal.τ).loc Cert.DwkvIdeal.main_arg1))
      ∧ r.2.sem = fun _ => 0)

def quiescent_DwkvReferenceIdeal [hDwkvReferenceIdeal : Cert.DwkvReferenceIdeal.Facts] : Prop :=
  ∀ (m : (ℓ : Loc Cert.DwkvReferenceIdeal.nD Cert.DwkvReferenceIdeal.τ Cert.DwkvReferenceIdeal.sig) → Buf (Elt Ideal) ℓ) (g : Dev Cert.DwkvReferenceIdeal.nD → PrngReg), Pre_DwkvReferenceIdeal m →
    θ_run (Cert.DwkvReferenceIdeal.defs (F := Ideal)) (onTc (τ := Cert.DwkvReferenceIdeal.τ) (Cert.DwkvReferenceIdeal.main (F := Ideal))) ⟨m, fun _ => 0, g⟩ (fun r => (∀ c : Dev Cert.DwkvReferenceIdeal.nD,
      r.2.mem ((c.tc : Thread Cert.DwkvReferenceIdeal.nD Cert.DwkvReferenceIdeal.τ).loc Cert.DwkvReferenceIdeal.main_arg0) = m ((c.tc : Thread Cert.DwkvReferenceIdeal.nD Cert.DwkvReferenceIdeal.τ).loc Cert.DwkvReferenceIdeal.main_arg0)
      ∧ r.2.mem ((c.tc : Thread Cert.DwkvReferenceIdeal.nD Cert.DwkvReferenceIdeal.τ).loc Cert.DwkvReferenceIdeal.main_arg1) = m ((c.tc : Thread Cert.DwkvReferenceIdeal.nD Cert.DwkvReferenceIdeal.τ).loc Cert.DwkvReferenceIdeal.main_arg1))
      ∧ r.2.sem = fun _ => 0)

def quiescent_Dmemh [hDmemh : Cert.Dmemh.Facts] : Prop :=
  ∀ (m : (ℓ : Loc Cert.Dmemh.nD Cert.Dmemh.τ Cert.Dmemh.sig) → Buf (Elt Bits) ℓ) (g : Dev Cert.Dmemh.nD → PrngReg), Pre_Dmemh m →
    θ_run (Cert.Dmemh.defs (F := Bits)) (onTc (τ := Cert.Dmemh.τ) (Cert.Dmemh.main (F := Bits))) ⟨m, fun _ => 0, g⟩ (fun r => (∀ c : Dev Cert.Dmemh.nD,
      r.2.mem ((c.tc : Thread Cert.Dmemh.nD Cert.Dmemh.τ).loc Cert.Dmemh.main_arg0) = m ((c.tc : Thread Cert.Dmemh.nD Cert.Dmemh.τ).loc Cert.Dmemh.main_arg0)
      ∧ r.2.mem ((c.tc : Thread Cert.Dmemh.nD Cert.Dmemh.τ).loc Cert.Dmemh.main_arg1) = m ((c.tc : Thread Cert.Dmemh.nD Cert.Dmemh.τ).loc Cert.Dmemh.main_arg1))
      ∧ r.2.sem = fun _ => 0)

def quiescent_DmemhIdeal [hDmemhIdeal : Cert.DmemhIdeal.Facts] : Prop :=
  ∀ (m : (ℓ : Loc Cert.DmemhIdeal.nD Cert.DmemhIdeal.τ Cert.DmemhIdeal.sig) → Buf (Elt Ideal) ℓ) (g : Dev Cert.DmemhIdeal.nD → PrngReg), Pre_DmemhIdeal m →
    θ_run (Cert.DmemhIdeal.defs (F := Ideal)) (onTc (τ := Cert.DmemhIdeal.τ) (Cert.DmemhIdeal.main (F := Ideal))) ⟨m, fun _ => 0, g⟩ (fun r => (∀ c : Dev Cert.DmemhIdeal.nD,
      r.2.mem ((c.tc : Thread Cert.DmemhIdeal.nD Cert.DmemhIdeal.τ).loc Cert.DmemhIdeal.main_arg0) = m ((c.tc : Thread Cert.DmemhIdeal.nD Cert.DmemhIdeal.τ).loc Cert.DmemhIdeal.main_arg0)
      ∧ r.2.mem ((c.tc : Thread Cert.DmemhIdeal.nD Cert.DmemhIdeal.τ).loc Cert.DmemhIdeal.main_arg1) = m ((c.tc : Thread Cert.DmemhIdeal.nD Cert.DmemhIdeal.τ).loc Cert.DmemhIdeal.main_arg1))
      ∧ r.2.sem = fun _ => 0)

def quiescent_DmemhReferenceIdeal [hDmemhReferenceIdeal : Cert.DmemhReferenceIdeal.Facts] : Prop :=
  ∀ (m : (ℓ : Loc Cert.DmemhReferenceIdeal.nD Cert.DmemhReferenceIdeal.τ Cert.DmemhReferenceIdeal.sig) → Buf (Elt Ideal) ℓ) (g : Dev Cert.DmemhReferenceIdeal.nD → PrngReg), Pre_DmemhReferenceIdeal m →
    θ_run (Cert.DmemhReferenceIdeal.defs (F := Ideal)) (onTc (τ := Cert.DmemhReferenceIdeal.τ) (Cert.DmemhReferenceIdeal.main (F := Ideal))) ⟨m, fun _ => 0, g⟩ (fun r => (∀ c : Dev Cert.DmemhReferenceIdeal.nD,
      r.2.mem ((c.tc : Thread Cert.DmemhReferenceIdeal.nD Cert.DmemhReferenceIdeal.τ).loc Cert.DmemhReferenceIdeal.main_arg0) = m ((c.tc : Thread Cert.DmemhReferenceIdeal.nD Cert.DmemhReferenceIdeal.τ).loc Cert.DmemhReferenceIdeal.main_arg0)
      ∧ r.2.mem ((c.tc : Thread Cert.DmemhReferenceIdeal.nD Cert.DmemhReferenceIdeal.τ).loc Cert.DmemhReferenceIdeal.main_arg1) = m ((c.tc : Thread Cert.DmemhReferenceIdeal.nD Cert.DmemhReferenceIdeal.τ).loc Cert.DmemhReferenceIdeal.main_arg1))
      ∧ r.2.sem = fun _ => 0)

def quiescent_Dmemh0 [hDmemh0 : Cert.Dmemh0.Facts] : Prop :=
  ∀ (m : (ℓ : Loc Cert.Dmemh0.nD Cert.Dmemh0.τ Cert.Dmemh0.sig) → Buf (Elt Bits) ℓ) (g : Dev Cert.Dmemh0.nD → PrngReg), Pre_Dmemh0 m →
    θ_run (Cert.Dmemh0.defs (F := Bits)) (onTc (τ := Cert.Dmemh0.τ) (Cert.Dmemh0.main (F := Bits))) ⟨m, fun _ => 0, g⟩ (fun r => (∀ c : Dev Cert.Dmemh0.nD,
      r.2.mem ((c.tc : Thread Cert.Dmemh0.nD Cert.Dmemh0.τ).loc Cert.Dmemh0.main_arg0) = m ((c.tc : Thread Cert.Dmemh0.nD Cert.Dmemh0.τ).loc Cert.Dmemh0.main_arg0)
      ∧ r.2.mem ((c.tc : Thread Cert.Dmemh0.nD Cert.Dmemh0.τ).loc Cert.Dmemh0.main_arg1) = m ((c.tc : Thread Cert.Dmemh0.nD Cert.Dmemh0.τ).loc Cert.Dmemh0.main_arg1))
      ∧ r.2.sem = fun _ => 0)

def quiescent_Dmemh0Ideal [hDmemh0Ideal : Cert.Dmemh0Ideal.Facts] : Prop :=
  ∀ (m : (ℓ : Loc Cert.Dmemh0Ideal.nD Cert.Dmemh0Ideal.τ Cert.Dmemh0Ideal.sig) → Buf (Elt Ideal) ℓ) (g : Dev Cert.Dmemh0Ideal.nD → PrngReg), Pre_Dmemh0Ideal m →
    θ_run (Cert.Dmemh0Ideal.defs (F := Ideal)) (onTc (τ := Cert.Dmemh0Ideal.τ) (Cert.Dmemh0Ideal.main (F := Ideal))) ⟨m, fun _ => 0, g⟩ (fun r => (∀ c : Dev Cert.Dmemh0Ideal.nD,
      r.2.mem ((c.tc : Thread Cert.Dmemh0Ideal.nD Cert.Dmemh0Ideal.τ).loc Cert.Dmemh0Ideal.main_arg0) = m ((c.tc : Thread Cert.Dmemh0Ideal.nD Cert.Dmemh0Ideal.τ).loc Cert.Dmemh0Ideal.main_arg0)
      ∧ r.2.mem ((c.tc : Thread Cert.Dmemh0Ideal.nD Cert.Dmemh0Ideal.τ).loc Cert.Dmemh0Ideal.main_arg1) = m ((c.tc : Thread Cert.Dmemh0Ideal.nD Cert.Dmemh0Ideal.τ).loc Cert.Dmemh0Ideal.main_arg1))
      ∧ r.2.sem = fun _ => 0)

def quiescent_Dmemh0ReferenceIdeal [hDmemh0ReferenceIdeal : Cert.Dmemh0ReferenceIdeal.Facts] : Prop :=
  ∀ (m : (ℓ : Loc Cert.Dmemh0ReferenceIdeal.nD Cert.Dmemh0ReferenceIdeal.τ Cert.Dmemh0ReferenceIdeal.sig) → Buf (Elt Ideal) ℓ) (g : Dev Cert.Dmemh0ReferenceIdeal.nD → PrngReg), Pre_Dmemh0ReferenceIdeal m →
    θ_run (Cert.Dmemh0ReferenceIdeal.defs (F := Ideal)) (onTc (τ := Cert.Dmemh0ReferenceIdeal.τ) (Cert.Dmemh0ReferenceIdeal.main (F := Ideal))) ⟨m, fun _ => 0, g⟩ (fun r => (∀ c : Dev Cert.Dmemh0ReferenceIdeal.nD,
      r.2.mem ((c.tc : Thread Cert.Dmemh0ReferenceIdeal.nD Cert.Dmemh0ReferenceIdeal.τ).loc Cert.Dmemh0ReferenceIdeal.main_arg0) = m ((c.tc : Thread Cert.Dmemh0ReferenceIdeal.nD Cert.Dmemh0ReferenceIdeal.τ).loc Cert.Dmemh0ReferenceIdeal.main_arg0)
      ∧ r.2.mem ((c.tc : Thread Cert.Dmemh0ReferenceIdeal.nD Cert.Dmemh0ReferenceIdeal.τ).loc Cert.Dmemh0ReferenceIdeal.main_arg1) = m ((c.tc : Thread Cert.Dmemh0ReferenceIdeal.nD Cert.Dmemh0ReferenceIdeal.τ).loc Cert.Dmemh0ReferenceIdeal.main_arg1))
      ∧ r.2.sem = fun _ => 0)

def quiescent_Dmemnorm [hDmemnorm : Cert.Dmemnorm.Facts] : Prop :=
  ∀ (m : (ℓ : Loc Cert.Dmemnorm.nD Cert.Dmemnorm.τ Cert.Dmemnorm.sig) → Buf (Elt Bits) ℓ) (g : Dev Cert.Dmemnorm.nD → PrngReg), Pre_Dmemnorm m →
    θ_run (Cert.Dmemnorm.defs (F := Bits)) (onTc (τ := Cert.Dmemnorm.τ) (Cert.Dmemnorm.main (F := Bits))) ⟨m, fun _ => 0, g⟩ (fun r => (∀ c : Dev Cert.Dmemnorm.nD,
      r.2.mem ((c.tc : Thread Cert.Dmemnorm.nD Cert.Dmemnorm.τ).loc Cert.Dmemnorm.main_arg0) = m ((c.tc : Thread Cert.Dmemnorm.nD Cert.Dmemnorm.τ).loc Cert.Dmemnorm.main_arg0)
      ∧ r.2.mem ((c.tc : Thread Cert.Dmemnorm.nD Cert.Dmemnorm.τ).loc Cert.Dmemnorm.main_arg1) = m ((c.tc : Thread Cert.Dmemnorm.nD Cert.Dmemnorm.τ).loc Cert.Dmemnorm.main_arg1)
      ∧ r.2.mem ((c.tc : Thread Cert.Dmemnorm.nD Cert.Dmemnorm.τ).loc Cert.Dmemnorm.main_arg2) = m ((c.tc : Thread Cert.Dmemnorm.nD Cert.Dmemnorm.τ).loc Cert.Dmemnorm.main_arg2))
      ∧ r.2.sem = fun _ => 0)

def quiescent_DmemnormIdeal [hDmemnormIdeal : Cert.DmemnormIdeal.Facts] : Prop :=
  ∀ (m : (ℓ : Loc Cert.DmemnormIdeal.nD Cert.DmemnormIdeal.τ Cert.DmemnormIdeal.sig) → Buf (Elt Ideal) ℓ) (g : Dev Cert.DmemnormIdeal.nD → PrngReg), Pre_DmemnormIdeal m →
    θ_run (Cert.DmemnormIdeal.defs (F := Ideal)) (onTc (τ := Cert.DmemnormIdeal.τ) (Cert.DmemnormIdeal.main (F := Ideal))) ⟨m, fun _ => 0, g⟩ (fun r => (∀ c : Dev Cert.DmemnormIdeal.nD,
      r.2.mem ((c.tc : Thread Cert.DmemnormIdeal.nD Cert.DmemnormIdeal.τ).loc Cert.DmemnormIdeal.main_arg0) = m ((c.tc : Thread Cert.DmemnormIdeal.nD Cert.DmemnormIdeal.τ).loc Cert.DmemnormIdeal.main_arg0)
      ∧ r.2.mem ((c.tc : Thread Cert.DmemnormIdeal.nD Cert.DmemnormIdeal.τ).loc Cert.DmemnormIdeal.main_arg1) = m ((c.tc : Thread Cert.DmemnormIdeal.nD Cert.DmemnormIdeal.τ).loc Cert.DmemnormIdeal.main_arg1)
      ∧ r.2.mem ((c.tc : Thread Cert.DmemnormIdeal.nD Cert.DmemnormIdeal.τ).loc Cert.DmemnormIdeal.main_arg2) = m ((c.tc : Thread Cert.DmemnormIdeal.nD Cert.DmemnormIdeal.τ).loc Cert.DmemnormIdeal.main_arg2))
      ∧ r.2.sem = fun _ => 0)

def quiescent_DmemnormReferenceIdeal [hDmemnormReferenceIdeal : Cert.DmemnormReferenceIdeal.Facts] : Prop :=
  ∀ (m : (ℓ : Loc Cert.DmemnormReferenceIdeal.nD Cert.DmemnormReferenceIdeal.τ Cert.DmemnormReferenceIdeal.sig) → Buf (Elt Ideal) ℓ) (g : Dev Cert.DmemnormReferenceIdeal.nD → PrngReg), Pre_DmemnormReferenceIdeal m →
    θ_run (Cert.DmemnormReferenceIdeal.defs (F := Ideal)) (onTc (τ := Cert.DmemnormReferenceIdeal.τ) (Cert.DmemnormReferenceIdeal.main (F := Ideal))) ⟨m, fun _ => 0, g⟩ (fun r => (∀ c : Dev Cert.DmemnormReferenceIdeal.nD,
      r.2.mem ((c.tc : Thread Cert.DmemnormReferenceIdeal.nD Cert.DmemnormReferenceIdeal.τ).loc Cert.DmemnormReferenceIdeal.main_arg0) = m ((c.tc : Thread Cert.DmemnormReferenceIdeal.nD Cert.DmemnormReferenceIdeal.τ).loc Cert.DmemnormReferenceIdeal.main_arg0)
      ∧ r.2.mem ((c.tc : Thread Cert.DmemnormReferenceIdeal.nD Cert.DmemnormReferenceIdeal.τ).loc Cert.DmemnormReferenceIdeal.main_arg1) = m ((c.tc : Thread Cert.DmemnormReferenceIdeal.nD Cert.DmemnormReferenceIdeal.τ).loc Cert.DmemnormReferenceIdeal.main_arg1)
      ∧ r.2.mem ((c.tc : Thread Cert.DmemnormReferenceIdeal.nD Cert.DmemnormReferenceIdeal.τ).loc Cert.DmemnormReferenceIdeal.main_arg2) = m ((c.tc : Thread Cert.DmemnormReferenceIdeal.nD Cert.DmemnormReferenceIdeal.τ).loc Cert.DmemnormReferenceIdeal.main_arg2))
      ∧ r.2.sem = fun _ => 0)

def quiescent_Mem [hMem : Cert.Mem.Facts] : Prop :=
  ∀ (m : (ℓ : Loc Cert.Mem.nD Cert.Mem.τ Cert.Mem.sig) → Buf (Elt Bits) ℓ) (g : Dev Cert.Mem.nD → PrngReg), Pre_Mem m →
    θ_run (Cert.Mem.defs (F := Bits)) (onTc (τ := Cert.Mem.τ) (Cert.Mem.main (F := Bits))) ⟨m, fun _ => 0, g⟩ (fun r => (∀ c : Dev Cert.Mem.nD,
      r.2.mem ((c.tc : Thread Cert.Mem.nD Cert.Mem.τ).loc Cert.Mem.main_arg0) = m ((c.tc : Thread Cert.Mem.nD Cert.Mem.τ).loc Cert.Mem.main_arg0)
      ∧ r.2.mem ((c.tc : Thread Cert.Mem.nD Cert.Mem.τ).loc Cert.Mem.main_arg1) = m ((c.tc : Thread Cert.Mem.nD Cert.Mem.τ).loc Cert.Mem.main_arg1)
      ∧ r.2.mem ((c.tc : Thread Cert.Mem.nD Cert.Mem.τ).loc Cert.Mem.main_arg2) = m ((c.tc : Thread Cert.Mem.nD Cert.Mem.τ).loc Cert.Mem.main_arg2)
      ∧ r.2.mem ((c.tc : Thread Cert.Mem.nD Cert.Mem.τ).loc Cert.Mem.main_arg3) = m ((c.tc : Thread Cert.Mem.nD Cert.Mem.τ).loc Cert.Mem.main_arg3))
      ∧ r.2.sem = fun _ => 0)

def quiescent_MemIdeal [hMemIdeal : Cert.MemIdeal.Facts] : Prop :=
  ∀ (m : (ℓ : Loc Cert.MemIdeal.nD Cert.MemIdeal.τ Cert.MemIdeal.sig) → Buf (Elt Ideal) ℓ) (g : Dev Cert.MemIdeal.nD → PrngReg), Pre_MemIdeal m →
    θ_run (Cert.MemIdeal.defs (F := Ideal)) (onTc (τ := Cert.MemIdeal.τ) (Cert.MemIdeal.main (F := Ideal))) ⟨m, fun _ => 0, g⟩ (fun r => (∀ c : Dev Cert.MemIdeal.nD,
      r.2.mem ((c.tc : Thread Cert.MemIdeal.nD Cert.MemIdeal.τ).loc Cert.MemIdeal.main_arg0) = m ((c.tc : Thread Cert.MemIdeal.nD Cert.MemIdeal.τ).loc Cert.MemIdeal.main_arg0)
      ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
      ∧ r.2.mem ((c.tc : Thread Cert.MemIdeal.nD Cert.MemIdeal.τ).loc Cert.MemIdeal.main_arg2) = m ((c.tc : Thread Cert.MemIdeal.nD Cert.MemIdeal.τ).loc Cert.MemIdeal.main_arg2)
      ∧ r.2.mem ((c.tc : Thread Cert.MemIdeal.nD Cert.MemIdeal.τ).loc Cert.MemIdeal.main_arg3) = m ((c.tc : Thread Cert.MemIdeal.nD Cert.MemIdeal.τ).loc Cert.MemIdeal.main_arg3))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2)
      ∧ r.2.mem ((c.tc : Thread Cert.MemReferenceIdeal.nD Cert.MemReferenceIdeal.τ).loc Cert.MemReferenceIdeal.main_arg3) = m ((c.tc : Thread Cert.MemReferenceIdeal.nD Cert.MemReferenceIdeal.τ).loc Cert.MemReferenceIdeal.main_arg3))
      ∧ r.2.sem = fun _ => 0)

def quiescent_Mems [hMems : Cert.Mems.Facts] : Prop :=
  ∀ (m : (ℓ : Loc Cert.Mems.nD Cert.Mems.τ Cert.Mems.sig) → Buf (Elt Bits) ℓ) (g : Dev Cert.Mems.nD → PrngReg), Pre_Mems m →
    θ_run (Cert.Mems.defs (F := Bits)) (onTc (τ := Cert.Mems.τ) (Cert.Mems.main (F := Bits))) ⟨m, fun _ => 0, g⟩ (fun r => (∀ c : Dev Cert.Mems.nD,
      r.2.mem ((c.tc : Thread Cert.Mems.nD Cert.Mems.τ).loc Cert.Mems.main_arg0) = m ((c.tc : Thread Cert.Mems.nD Cert.Mems.τ).loc Cert.Mems.main_arg0)
      ∧ r.2.mem ((c.tc : Thread Cert.Mems.nD Cert.Mems.τ).loc Cert.Mems.main_arg1) = m ((c.tc : Thread Cert.Mems.nD Cert.Mems.τ).loc Cert.Mems.main_arg1)
      ∧ r.2.mem ((c.tc : Thread Cert.Mems.nD Cert.Mems.τ).loc Cert.Mems.main_arg2) = m ((c.tc : Thread Cert.Mems.nD Cert.Mems.τ).loc Cert.Mems.main_arg2)
      ∧ r.2.mem ((c.tc : Thread Cert.Mems.nD Cert.Mems.τ).loc Cert.Mems.main_arg3) = m ((c.tc : Thread Cert.Mems.nD Cert.Mems.τ).loc Cert.Mems.main_arg3))
      ∧ r.2.sem = fun _ => 0)

def quiescent_MemsIdeal [hMemsIdeal : Cert.MemsIdeal.Facts] : Prop :=
  ∀ (m : (ℓ : Loc Cert.MemsIdeal.nD Cert.MemsIdeal.τ Cert.MemsIdeal.sig) → Buf (Elt Ideal) ℓ) (g : Dev Cert.MemsIdeal.nD → PrngReg), Pre_MemsIdeal m →
    θ_run (Cert.MemsIdeal.defs (F := Ideal)) (onTc (τ := Cert.MemsIdeal.τ) (Cert.MemsIdeal.main (F := Ideal))) ⟨m, fun _ => 0, g⟩ (fun r => (∀ c : Dev Cert.MemsIdeal.nD,
      r.2.mem ((c.tc : Thread Cert.MemsIdeal.nD Cert.MemsIdeal.τ).loc Cert.MemsIdeal.main_arg0) = m ((c.tc : Thread Cert.MemsIdeal.nD Cert.MemsIdeal.τ).loc Cert.MemsIdeal.main_arg0)
      ∧ r.2.mem ((c.tc : Thread Cert.MemsIdeal.nD Cert.MemsIdeal.τ).loc Cert.MemsIdeal.main_arg1) = m ((c.tc : Thread Cert.MemsIdeal.nD Cert.MemsIdeal.τ).loc Cert.MemsIdeal.main_arg1)
      ∧ r.2.mem ((c.tc : Thread Cert.MemsIdeal.nD Cert.MemsIdeal.τ).loc Cert.MemsIdeal.main_arg2) = m ((c.tc : Thread Cert.MemsIdeal.nD Cert.MemsIdeal.τ).loc Cert.MemsIdeal.main_arg2)
      ∧ r.2.mem ((c.tc : Thread Cert.MemsIdeal.nD Cert.MemsIdeal.τ).loc Cert.MemsIdeal.main_arg3) = m ((c.tc : Thread Cert.MemsIdeal.nD Cert.MemsIdeal.τ).loc Cert.MemsIdeal.main_arg3))
      ∧ r.2.sem = fun _ => 0)

def quiescent_MemsReferenceIdeal [hMemsReferenceIdeal : Cert.MemsReferenceIdeal.Facts] : Prop :=
  ∀ (m : (ℓ : Loc Cert.MemsReferenceIdeal.nD Cert.MemsReferenceIdeal.τ Cert.MemsReferenceIdeal.sig) → Buf (Elt Ideal) ℓ) (g : Dev Cert.MemsReferenceIdeal.nD → PrngReg), Pre_MemsReferenceIdeal m →
    θ_run (Cert.MemsReferenceIdeal.defs (F := Ideal)) (onTc (τ := Cert.MemsReferenceIdeal.τ) (Cert.MemsReferenceIdeal.main (F := Ideal))) ⟨m, fun _ => 0, g⟩ (fun r => (∀ c : Dev Cert.MemsReferenceIdeal.nD,
      r.2.mem ((c.tc : Thread Cert.MemsReferenceIdeal.nD Cert.MemsReferenceIdeal.τ).loc Cert.MemsReferenceIdeal.main_arg0) = m ((c.tc : Thread Cert.MemsReferenceIdeal.nD Cert.MemsReferenceIdeal.τ).loc Cert.MemsReferenceIdeal.main_arg0)
      ∧ r.2.mem ((c.tc : Thread Cert.MemsReferenceIdeal.nD Cert.MemsReferenceIdeal.τ).loc Cert.MemsReferenceIdeal.main_arg1) = m ((c.tc : Thread Cert.MemsReferenceIdeal.nD Cert.MemsReferenceIdeal.τ).loc Cert.MemsReferenceIdeal.main_arg1)
      ∧ r.2.mem ((c.tc : Thread Cert.MemsReferenceIdeal.nD Cert.MemsReferenceIdeal.τ).loc Cert.MemsReferenceIdeal.main_arg2) = m ((c.tc : Thread Cert.MemsReferenceIdeal.nD Cert.MemsReferenceIdeal.τ).loc Cert.MemsReferenceIdeal.main_arg2)
      ∧ r.2.mem ((c.tc : Thread Cert.MemsReferenceIdeal.nD Cert.MemsReferenceIdeal.τ).loc Cert.MemsReferenceIdeal.main_arg3) = m ((c.tc : Thread Cert.MemsReferenceIdeal.nD Cert.MemsReferenceIdeal.τ).loc Cert.MemsReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_v57) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Dact_DactIdeal : Prop :=
  True

def algebraic_DactIdeal_DactReferenceIdeal_pre_dact_finite [hDactIdeal : Cert.DactIdeal.Facts] [hDactReferenceIdeal : Cert.DactReferenceIdeal.Facts] [hPre_dact_finite : Cert.Pre_dact_finite.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactReferenceIdeal.nD Cert.DactReferenceIdeal.τ Cert.DactReferenceIdeal.sig) → Buf (Elt Ideal) ℓ) (g' : Dev Cert.DactReferenceIdeal.nD → PrngReg), Pre_DactIdeal_dact_finite m →
    (∀ c : Dev Cert.DactIdeal.nD,
      m' ((c.tc : Thread Cert.DactReferenceIdeal.nD Cert.DactReferenceIdeal.τ).loc Cert.DactReferenceIdeal.main_arg0) = m ((c.tc : Thread Cert.DactIdeal.nD Cert.DactIdeal.τ).loc Cert.DactIdeal.main_arg0)
      ∧ m' ((c.tc : Thread Cert.DactReferenceIdeal.nD Cert.DactReferenceIdeal.τ).loc Cert.DactReferenceIdeal.main_arg1) = m ((c.tc : Thread Cert.DactIdeal.nD Cert.DactIdeal.τ).loc Cert.DactIdeal.main_arg1)
      ∧ m' ((c.tc : Thread Cert.DactReferenceIdeal.nD Cert.DactReferenceIdeal.τ).loc Cert.DactReferenceIdeal.main_arg2) = m ((c.tc : Thread Cert.DactIdeal.nD Cert.DactIdeal.τ).loc Cert.DactIdeal.main_arg2)) →
    ∃ (v0 : (c : Dev Cert.DactIdeal.nD) → Buf (Elt Ideal) ((c.tc : Thread Cert.DactIdeal.nD Cert.DactIdeal.τ).loc Cert.DactIdeal.main_v1)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v1) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ θ_run (Cert.DactReferenceIdeal.defs (F := Ideal)) (onTc (τ := Cert.DactReferenceIdeal.τ) (Cert.DactReferenceIdeal.main (F := Ideal))) ⟨m', fun _ => 0, g'⟩ (fun r => ∀ c : Dev Cert.DactReferenceIdeal.nD,
          r.2.mem ((c.tc : Thread Cert.DactReferenceIdeal.nD Cert.DactReferenceIdeal.τ).loc Cert.DactReferenceIdeal.main_v30) = v0 c
          ∧ r.2.mem ((c.tc : Thread Cert.DactReferenceIdeal.nD Cert.DactReferenceIdeal.τ).loc Cert.DactReferenceIdeal.main_arg0) = m' ((c.tc : Thread Cert.DactReferenceIdeal.nD Cert.DactReferenceIdeal.τ).loc Cert.DactReferenceIdeal.main_arg0)
          ∧ r.2.mem ((c.tc : Thread Cert.DactReferenceIdeal.nD Cert.DactReferenceIdeal.τ).loc Cert.DactReferenceIdeal.main_arg1) = m' ((c.tc : Thread Cert.DactReferenceIdeal.nD Cert.DactReferenceIdeal.τ).loc Cert.DactReferenceIdeal.main_arg1)
          ∧ r.2.mem ((c.tc : Thread Cert.DactReferenceIdeal.nD Cert.DactReferenceIdeal.τ).loc Cert.DactReferenceIdeal.main_arg2) = m' ((c.tc : Thread Cert.DactReferenceIdeal.nD Cert.DactReferenceIdeal.τ).loc Cert.DactReferenceIdeal.main_arg2))

def preserves_Dwdown_DwdownIdeal : Prop :=
  True

def algebraic_DwdownIdeal_DwdownReferenceIdeal [hDwdownIdeal : Cert.DwdownIdeal.Facts] [hDwdownReferenceIdeal : Cert.DwdownReferenceIdeal.Facts] : Prop :=
  ∀ (m : (ℓ : Loc Cert.DwdownIdeal.nD Cert.DwdownIdeal.τ Cert.DwdownIdeal.sig) → Buf (Elt Ideal) ℓ) (g : Dev Cert.DwdownIdeal.nD → PrngReg)
    (m' : (ℓ : Loc Cert.DwdownReferenceIdeal.nD Cert.DwdownReferenceIdeal.τ Cert.DwdownReferenceIdeal.sig) → Buf (Elt Ideal) ℓ) (g' : Dev Cert.DwdownReferenceIdeal.nD → PrngReg), Pre_DwdownIdeal m →
    (∀ c : Dev Cert.DwdownIdeal.nD,
      m' ((c.tc : Thread Cert.DwdownReferenceIdeal.nD Cert.DwdownReferenceIdeal.τ).loc Cert.DwdownReferenceIdeal.main_arg0) = m ((c.tc : Thread Cert.DwdownIdeal.nD Cert.DwdownIdeal.τ).loc Cert.DwdownIdeal.main_arg0)
      ∧ m' ((c.tc : Thread Cert.DwdownReferenceIdeal.nD Cert.DwdownReferenceIdeal.τ).loc Cert.DwdownReferenceIdeal.main_arg1) = m ((c.tc : Thread Cert.DwdownIdeal.nD Cert.DwdownIdeal.τ).loc Cert.DwdownIdeal.main_arg1)) →
    ∃ (v0 : (c : Dev Cert.DwdownIdeal.nD) → Buf (Elt Ideal) ((c.tc : Thread Cert.DwdownIdeal.nD Cert.DwdownIdeal.τ).loc Cert.DwdownIdeal.main_v1)),
      θ_run (Cert.DwdownIdeal.defs (F := Ideal)) (onTc (τ := Cert.DwdownIdeal.τ) (Cert.DwdownIdeal.main (F := Ideal))) ⟨m, fun _ => 0, g⟩ (fun r => ∀ c : Dev Cert.DwdownIdeal.nD,
          r.2.mem ((c.tc : Thread Cert.DwdownIdeal.nD Cert.DwdownIdeal.τ).loc Cert.DwdownIdeal.main_v1) = v0 c
          ∧ r.2.mem ((c.tc : Thread Cert.DwdownIdeal.nD Cert.DwdownIdeal.τ).loc Cert.DwdownIdeal.main_arg0) = m ((c.tc : Thread Cert.DwdownIdeal.nD Cert.DwdownIdeal.τ).loc Cert.DwdownIdeal.main_arg0)
          ∧ r.2.mem ((c.tc : Thread Cert.DwdownIdeal.nD Cert.DwdownIdeal.τ).loc Cert.DwdownIdeal.main_arg1) = m ((c.tc : Thread Cert.DwdownIdeal.nD Cert.DwdownIdeal.τ).loc Cert.DwdownIdeal.main_arg1))
      ∧ θ_run (Cert.DwdownReferenceIdeal.defs (F := Ideal)) (onTc (τ := Cert.DwdownReferenceIdeal.τ) (Cert.DwdownReferenceIdeal.main (F := Ideal))) ⟨m', fun _ => 0, g'⟩ (fun r => ∀ c : Dev Cert.DwdownReferenceIdeal.nD,
          r.2.mem ((c.tc : Thread Cert.DwdownReferenceIdeal.nD Cert.DwdownReferenceIdeal.τ).loc Cert.DwdownReferenceIdeal.main_v8) = v0 c
          ∧ r.2.mem ((c.tc : Thread Cert.DwdownReferenceIdeal.nD Cert.DwdownReferenceIdeal.τ).loc Cert.DwdownReferenceIdeal.main_arg0) = m' ((c.tc : Thread Cert.DwdownReferenceIdeal.nD Cert.DwdownReferenceIdeal.τ).loc Cert.DwdownReferenceIdeal.main_arg0)
          ∧ r.2.mem ((c.tc : Thread Cert.DwdownReferenceIdeal.nD Cert.DwdownReferenceIdeal.τ).loc Cert.DwdownReferenceIdeal.main_arg1) = m' ((c.tc : Thread Cert.DwdownReferenceIdeal.nD Cert.DwdownReferenceIdeal.τ).loc Cert.DwdownReferenceIdeal.main_arg1))

def preserves_Dwgu_DwguIdeal : Prop :=
  True

def algebraic_DwguIdeal_DwguReferenceIdeal [hDwguIdeal : Cert.DwguIdeal.Facts] [hDwguReferenceIdeal : Cert.DwguReferenceIdeal.Facts] : Prop :=
  ∀ (m : (ℓ : Loc Cert.DwguIdeal.nD Cert.DwguIdeal.τ Cert.DwguIdeal.sig) → Buf (Elt Ideal) ℓ) (g : Dev Cert.DwguIdeal.nD → PrngReg)
    (m' : (ℓ : Loc Cert.DwguReferenceIdeal.nD Cert.DwguReferenceIdeal.τ Cert.DwguReferenceIdeal.sig) → Buf (Elt Ideal) ℓ) (g' : Dev Cert.DwguReferenceIdeal.nD → PrngReg), Pre_DwguIdeal m →
    (∀ c : Dev Cert.DwguIdeal.nD,
      m' ((c.tc : Thread Cert.DwguReferenceIdeal.nD Cert.DwguReferenceIdeal.τ).loc Cert.DwguReferenceIdeal.main_arg0) = m ((c.tc : Thread Cert.DwguIdeal.nD Cert.DwguIdeal.τ).loc Cert.DwguIdeal.main_arg0)
      ∧ m' ((c.tc : Thread Cert.DwguReferenceIdeal.nD Cert.DwguReferenceIdeal.τ).loc Cert.DwguReferenceIdeal.main_arg1) = m ((c.tc : Thread Cert.DwguIdeal.nD Cert.DwguIdeal.τ).loc Cert.DwguIdeal.main_arg1)) →
    ∃ (v0 : (c : Dev Cert.DwguIdeal.nD) → Buf (Elt Ideal) ((c.tc : Thread Cert.DwguIdeal.nD Cert.DwguIdeal.τ).loc Cert.DwguIdeal.main_v0)),
      θ_run (Cert.DwguIdeal.defs (F := Ideal)) (onTc (τ := Cert.DwguIdeal.τ) (Cert.DwguIdeal.main (F := Ideal))) ⟨m, fun _ => 0, g⟩ (fun r => ∀ c : Dev Cert.DwguIdeal.nD,
          r.2.mem ((c.tc : Thread Cert.DwguIdeal.nD Cert.DwguIdeal.τ).loc Cert.DwguIdeal.main_v0) = v0 c
          ∧ r.2.mem ((c.tc : Thread Cert.DwguIdeal.nD Cert.DwguIdeal.τ).loc Cert.DwguIdeal.main_arg0) = m ((c.tc : Thread Cert.DwguIdeal.nD Cert.DwguIdeal.τ).loc Cert.DwguIdeal.main_arg0)
          ∧ r.2.mem ((c.tc : Thread Cert.DwguIdeal.nD Cert.DwguIdeal.τ).loc Cert.DwguIdeal.main_arg1) = m ((c.tc : Thread Cert.DwguIdeal.nD Cert.DwguIdeal.τ).loc Cert.DwguIdeal.main_arg1))
      ∧ θ_run (Cert.DwguReferenceIdeal.defs (F := Ideal)) (onTc (τ := Cert.DwguReferenceIdeal.τ) (Cert.DwguReferenceIdeal.main (F := Ideal))) ⟨m', fun _ => 0, g'⟩ (fun r => ∀ c : Dev Cert.DwguReferenceIdeal.nD,
          r.2.mem ((c.tc : Thread Cert.DwguReferenceIdeal.nD Cert.DwguReferenceIdeal.τ).loc Cert.DwguReferenceIdeal.main_v22) = v0 c
          ∧ r.2.mem ((c.tc : Thread Cert.DwguReferenceIdeal.nD Cert.DwguReferenceIdeal.τ).loc Cert.DwguReferenceIdeal.main_arg0) = m' ((c.tc : Thread Cert.DwguReferenceIdeal.nD Cert.DwguReferenceIdeal.τ).loc Cert.DwguReferenceIdeal.main_arg0)
          ∧ r.2.mem ((c.tc : Thread Cert.DwguReferenceIdeal.nD Cert.DwguReferenceIdeal.τ).loc Cert.DwguReferenceIdeal.main_arg1) = m' ((c.tc : Thread Cert.DwguReferenceIdeal.nD Cert.DwguReferenceIdeal.τ).loc Cert.DwguReferenceIdeal.main_arg1))

def preserves_Dh_DhIdeal : Prop :=
  True

def algebraic_DhIdeal_DhReferenceIdeal [hDhIdeal : Cert.DhIdeal.Facts] [hDhReferenceIdeal : Cert.DhReferenceIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhReferenceIdeal.nD Cert.DhReferenceIdeal.τ Cert.DhReferenceIdeal.sig) → Buf (Elt Ideal) ℓ) (g' : Dev Cert.DhReferenceIdeal.nD → PrngReg), Pre_DhIdeal m →
    (∀ c : Dev Cert.DhIdeal.nD,
      m' ((c.tc : Thread Cert.DhReferenceIdeal.nD Cert.DhReferenceIdeal.τ).loc Cert.DhReferenceIdeal.main_arg0) = m ((c.tc : Thread Cert.DhIdeal.nD Cert.DhIdeal.τ).loc Cert.DhIdeal.main_arg0)
      ∧ m' ((c.tc : Thread Cert.DhReferenceIdeal.nD Cert.DhReferenceIdeal.τ).loc Cert.DhReferenceIdeal.main_arg1) = m ((c.tc : Thread Cert.DhIdeal.nD Cert.DhIdeal.τ).loc Cert.DhIdeal.main_arg1)) →
    ∃ (v0 : (c : Dev Cert.DhIdeal.nD) → Buf (Elt Ideal) ((c.tc : Thread Cert.DhIdeal.nD Cert.DhIdeal.τ).loc Cert.DhIdeal.main_v0)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ θ_run (Cert.DhReferenceIdeal.defs (F := Ideal)) (onTc (τ := Cert.DhReferenceIdeal.τ) (Cert.DhReferenceIdeal.main (F := Ideal))) ⟨m', fun _ => 0, g'⟩ (fun r => ∀ c : Dev Cert.DhReferenceIdeal.nD,
          r.2.mem ((c.tc : Thread Cert.DhReferenceIdeal.nD Cert.DhReferenceIdeal.τ).loc Cert.DhReferenceIdeal.main_v21) = v0 c
          ∧ r.2.mem ((c.tc : Thread Cert.DhReferenceIdeal.nD Cert.DhReferenceIdeal.τ).loc Cert.DhReferenceIdeal.main_arg0) = m' ((c.tc : Thread Cert.DhReferenceIdeal.nD Cert.DhReferenceIdeal.τ).loc Cert.DhReferenceIdeal.main_arg0)
          ∧ r.2.mem ((c.tc : Thread Cert.DhReferenceIdeal.nD Cert.DhReferenceIdeal.τ).loc Cert.DhReferenceIdeal.main_arg1) = m' ((c.tc : Thread Cert.DhReferenceIdeal.nD Cert.DhReferenceIdeal.τ).loc Cert.DhReferenceIdeal.main_arg1))

def preserves_Gu_GuIdeal : Prop :=
  True

def algebraic_GuIdeal_GuReferenceIdeal [hGuIdeal : Cert.GuIdeal.Facts] [hGuReferenceIdeal : Cert.GuReferenceIdeal.Facts] : Prop :=
  ∀ (m : (ℓ : Loc Cert.GuIdeal.nD Cert.GuIdeal.τ Cert.GuIdeal.sig) → Buf (Elt Ideal) ℓ) (g : Dev Cert.GuIdeal.nD → PrngReg)
    (m' : (ℓ : Loc Cert.GuReferenceIdeal.nD Cert.GuReferenceIdeal.τ Cert.GuReferenceIdeal.sig) → Buf (Elt Ideal) ℓ) (g' : Dev Cert.GuReferenceIdeal.nD → PrngReg), Pre_GuIdeal m →
    (∀ c : Dev Cert.GuIdeal.nD,
      m' ((c.tc : Thread Cert.GuReferenceIdeal.nD Cert.GuReferenceIdeal.τ).loc Cert.GuReferenceIdeal.main_arg0) = m ((c.tc : Thread Cert.GuIdeal.nD Cert.GuIdeal.τ).loc Cert.GuIdeal.main_arg0)
      ∧ m' ((c.tc : Thread Cert.GuReferenceIdeal.nD Cert.GuReferenceIdeal.τ).loc Cert.GuReferenceIdeal.main_arg1) = m ((c.tc : Thread Cert.GuIdeal.nD Cert.GuIdeal.τ).loc Cert.GuIdeal.main_arg1)) →
    ∃ (v0 : (c : Dev Cert.GuIdeal.nD) → Buf (Elt Ideal) ((c.tc : Thread Cert.GuIdeal.nD Cert.GuIdeal.τ).loc Cert.GuIdeal.main_v0_0)) (v1 : (c : Dev Cert.GuIdeal.nD) → Buf (Elt Ideal) ((c.tc : Thread Cert.GuIdeal.nD Cert.GuIdeal.τ).loc Cert.GuIdeal.main_v0_1)),
      θ_run (Cert.GuIdeal.defs (F := Ideal)) (onTc (τ := Cert.GuIdeal.τ) (Cert.GuIdeal.main (F := Ideal))) ⟨m, fun _ => 0, g⟩ (fun r => ∀ c : Dev Cert.GuIdeal.nD,
          r.2.mem ((c.tc : Thread Cert.GuIdeal.nD Cert.GuIdeal.τ).loc Cert.GuIdeal.main_v0_0) = v0 c
          ∧ r.2.mem ((c.tc : Thread Cert.GuIdeal.nD Cert.GuIdeal.τ).loc Cert.GuIdeal.main_v0_1) = v1 c
          ∧ r.2.mem ((c.tc : Thread Cert.GuIdeal.nD Cert.GuIdeal.τ).loc Cert.GuIdeal.main_arg0) = m ((c.tc : Thread Cert.GuIdeal.nD Cert.GuIdeal.τ).loc Cert.GuIdeal.main_arg0)
          ∧ r.2.mem ((c.tc : Thread Cert.GuIdeal.nD Cert.GuIdeal.τ).loc Cert.GuIdeal.main_arg1) = m ((c.tc : Thread Cert.GuIdeal.nD Cert.GuIdeal.τ).loc Cert.GuIdeal.main_arg1))
      ∧ θ_run (Cert.GuReferenceIdeal.defs (F := Ideal)) (onTc (τ := Cert.GuReferenceIdeal.τ) (Cert.GuReferenceIdeal.main (F := Ideal))) ⟨m', fun _ => 0, g'⟩ (fun r => ∀ c : Dev Cert.GuReferenceIdeal.nD,
          r.2.mem ((c.tc : Thread Cert.GuReferenceIdeal.nD Cert.GuReferenceIdeal.τ).loc Cert.GuReferenceIdeal.main_v16) = v0 c
          ∧ r.2.mem ((c.tc : Thread Cert.GuReferenceIdeal.nD Cert.GuReferenceIdeal.τ).loc Cert.GuReferenceIdeal.main_v20) = v1 c
          ∧ r.2.mem ((c.tc : Thread Cert.GuReferenceIdeal.nD Cert.GuReferenceIdeal.τ).loc Cert.GuReferenceIdeal.main_arg0) = m' ((c.tc : Thread Cert.GuReferenceIdeal.nD Cert.GuReferenceIdeal.τ).loc Cert.GuReferenceIdeal.main_arg0)
          ∧ r.2.mem ((c.tc : Thread Cert.GuReferenceIdeal.nD Cert.GuReferenceIdeal.τ).loc Cert.GuReferenceIdeal.main_arg1) = m' ((c.tc : Thread Cert.GuReferenceIdeal.nD Cert.GuReferenceIdeal.τ).loc Cert.GuReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v14) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v13) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_Dnorm_DnormIdeal : Prop :=
  True

def algebraic_DnormIdeal_DnormReferenceIdeal [hDnormIdeal : Cert.DnormIdeal.Facts] [hDnormReferenceIdeal : Cert.DnormReferenceIdeal.Facts] : Prop :=
  ∀ (m : (ℓ : Loc Cert.DnormIdeal.nD Cert.DnormIdeal.τ Cert.DnormIdeal.sig) → Buf (Elt Ideal) ℓ) (g : Dev Cert.DnormIdeal.nD → PrngReg)
    (m' : (ℓ : Loc Cert.DnormReferenceIdeal.nD Cert.DnormReferenceIdeal.τ Cert.DnormReferenceIdeal.sig) → Buf (Elt Ideal) ℓ) (g' : Dev Cert.DnormReferenceIdeal.nD → PrngReg), Pre_DnormIdeal m →
    (∀ c : Dev Cert.DnormIdeal.nD,
      m' ((c.tc : Thread Cert.DnormReferenceIdeal.nD Cert.DnormReferenceIdeal.τ).loc Cert.DnormReferenceIdeal.main_arg0) = m ((c.tc : Thread Cert.DnormIdeal.nD Cert.DnormIdeal.τ).loc Cert.DnormIdeal.main_arg0)
      ∧ m' ((c.tc : Thread Cert.DnormReferenceIdeal.nD Cert.DnormReferenceIdeal.τ).loc Cert.DnormReferenceIdeal.main_arg1) = m ((c.tc : Thread Cert.DnormIdeal.nD Cert.DnormIdeal.τ).loc Cert.DnormIdeal.main_arg1)
      ∧ m' ((c.tc : Thread Cert.DnormReferenceIdeal.nD Cert.DnormReferenceIdeal.τ).loc Cert.DnormReferenceIdeal.main_arg2) = m ((c.tc : Thread Cert.DnormIdeal.nD Cert.DnormIdeal.τ).loc Cert.DnormIdeal.main_arg2)
      ∧ m' ((c.tc : Thread Cert.DnormReferenceIdeal.nD Cert.DnormReferenceIdeal.τ).loc Cert.DnormReferenceIdeal.main_arg3) = m ((c.tc : Thread Cert.DnormIdeal.nD Cert.DnormIdeal.τ).loc Cert.DnormIdeal.main_arg3)) →
    ∃ (v0 : (c : Dev Cert.DnormIdeal.nD) → Buf (Elt Ideal) ((c.tc : Thread Cert.DnormIdeal.nD Cert.DnormIdeal.τ).loc Cert.DnormIdeal.main_v1_0)) (v1 : (c : Dev Cert.DnormIdeal.nD) → Buf (Elt Ideal) ((c.tc : Thread Cert.DnormIdeal.nD Cert.DnormIdeal.τ).loc Cert.DnormIdeal.main_v1_1)) (v2 : (c : Dev Cert.DnormIdeal.nD) → Buf (Elt Ideal) ((c.tc : Thread Cert.DnormIdeal.nD Cert.DnormIdeal.τ).loc Cert.DnormIdeal.main_v1_2)),
      θ_run (Cert.DnormIdeal.defs (F := Ideal)) (onTc (τ := Cert.DnormIdeal.τ) (Cert.DnormIdeal.main (F := Ideal))) ⟨m, fun _ => 0, g⟩ (fun r => ∀ c : Dev Cert.DnormIdeal.nD,
          r.2.mem ((c.tc : Thread Cert.DnormIdeal.nD Cert.DnormIdeal.τ).loc Cert.DnormIdeal.main_v1_0) = v0 c
          ∧ r.2.mem ((c.tc : Thread Cert.DnormIdeal.nD Cert.DnormIdeal.τ).loc Cert.DnormIdeal.main_v1_1) = v1 c
          ∧ r.2.mem ((c.tc : Thread Cert.DnormIdeal.nD Cert.DnormIdeal.τ).loc Cert.DnormIdeal.main_v1_2) = v2 c
          ∧ r.2.mem ((c.tc : Thread Cert.DnormIdeal.nD Cert.DnormIdeal.τ).loc Cert.DnormIdeal.main_arg0) = m ((c.tc : Thread Cert.DnormIdeal.nD Cert.DnormIdeal.τ).loc Cert.DnormIdeal.main_arg0)
          ∧ r.2.mem ((c.tc : Thread Cert.DnormIdeal.nD Cert.DnormIdeal.τ).loc Cert.DnormIdeal.main_arg1) = m ((c.tc : Thread Cert.DnormIdeal.nD Cert.DnormIdeal.τ).loc Cert.DnormIdeal.main_arg1)
          ∧ r.2.mem ((c.tc : Thread Cert.DnormIdeal.nD Cert.DnormIdeal.τ).loc Cert.DnormIdeal.main_arg2) = m ((c.tc : Thread Cert.DnormIdeal.nD Cert.DnormIdeal.τ).loc Cert.DnormIdeal.main_arg2)
          ∧ r.2.mem ((c.tc : Thread Cert.DnormIdeal.nD Cert.DnormIdeal.τ).loc Cert.DnormIdeal.main_arg3) = m ((c.tc : Thread Cert.DnormIdeal.nD Cert.DnormIdeal.τ).loc Cert.DnormIdeal.main_arg3))
      ∧ θ_run (Cert.DnormReferenceIdeal.defs (F := Ideal)) (onTc (τ := Cert.DnormReferenceIdeal.τ) (Cert.DnormReferenceIdeal.main (F := Ideal))) ⟨m', fun _ => 0, g'⟩ (fun r => ∀ c : Dev Cert.DnormReferenceIdeal.nD,
          r.2.mem ((c.tc : Thread Cert.DnormReferenceIdeal.nD Cert.DnormReferenceIdeal.τ).loc Cert.DnormReferenceIdeal.main_v36) = v0 c
          ∧ r.2.mem ((c.tc : Thread Cert.DnormReferenceIdeal.nD Cert.DnormReferenceIdeal.τ).loc Cert.DnormReferenceIdeal.main_v38) = v1 c
          ∧ r.2.mem ((c.tc : Thread Cert.DnormReferenceIdeal.nD Cert.DnormReferenceIdeal.τ).loc Cert.DnormReferenceIdeal.main_v39) = v2 c
          ∧ r.2.mem ((c.tc : Thread Cert.DnormReferenceIdeal.nD Cert.DnormReferenceIdeal.τ).loc Cert.DnormReferenceIdeal.main_arg0) = m' ((c.tc : Thread Cert.DnormReferenceIdeal.nD Cert.DnormReferenceIdeal.τ).loc Cert.DnormReferenceIdeal.main_arg0)
          ∧ r.2.mem ((c.tc : Thread Cert.DnormReferenceIdeal.nD Cert.DnormReferenceIdeal.τ).loc Cert.DnormReferenceIdeal.main_arg1) = m' ((c.tc : Thread Cert.DnormReferenceIdeal.nD Cert.DnormReferenceIdeal.τ).loc Cert.DnormReferenceIdeal.main_arg1)
          ∧ r.2.mem ((c.tc : Thread Cert.DnormReferenceIdeal.nD Cert.DnormReferenceIdeal.τ).loc Cert.DnormReferenceIdeal.main_arg2) = m' ((c.tc : Thread Cert.DnormReferenceIdeal.nD Cert.DnormReferenceIdeal.τ).loc Cert.DnormReferenceIdeal.main_arg2)
          ∧ r.2.mem ((c.tc : Thread Cert.DnormReferenceIdeal.nD Cert.DnormReferenceIdeal.τ).loc Cert.DnormReferenceIdeal.main_arg3) = m' ((c.tc : Thread Cert.DnormReferenceIdeal.nD Cert.DnormReferenceIdeal.τ).loc Cert.DnormReferenceIdeal.main_arg3))

def preserves_Dact0_Dact0Ideal : Prop :=
  True

def algebraic_Dact0Ideal_Dact0ReferenceIdeal_pre_dact0_finite [hDact0Ideal : Cert.Dact0Ideal.Facts] [hDact0ReferenceIdeal : Cert.Dact0ReferenceIdeal.Facts] [hPre_dact0_finite : Cert.Pre_dact0_finite.Facts] : Prop :=
  ∀ (m : (ℓ : Loc Cert.Dact0Ideal.nD Cert.Dact0Ideal.τ Cert.Dact0Ideal.sig) → Buf (Elt Ideal) ℓ) (g : Dev Cert.Dact0Ideal.nD → PrngReg)
    (m' : (ℓ : Loc Cert.Dact0ReferenceIdeal.nD Cert.Dact0ReferenceIdeal.τ Cert.Dact0ReferenceIdeal.sig) → Buf (Elt Ideal) ℓ) (g' : Dev Cert.Dact0ReferenceIdeal.nD → PrngReg), Pre_Dact0Ideal_dact0_finite m →
    (∀ c : Dev Cert.Dact0Ideal.nD,
      m' ((c.tc : Thread Cert.Dact0ReferenceIdeal.nD Cert.Dact0ReferenceIdeal.τ).loc Cert.Dact0ReferenceIdeal.main_arg0) = m ((c.tc : Thread Cert.Dact0Ideal.nD Cert.Dact0Ideal.τ).loc Cert.Dact0Ideal.main_arg0)
      ∧ m' ((c.tc : Thread Cert.Dact0ReferenceIdeal.nD Cert.Dact0ReferenceIdeal.τ).loc Cert.Dact0ReferenceIdeal.main_arg1) = m ((c.tc : Thread Cert.Dact0Ideal.nD Cert.Dact0Ideal.τ).loc Cert.Dact0Ideal.main_arg1)
      ∧ m' ((c.tc : Thread Cert.Dact0ReferenceIdeal.nD Cert.Dact0ReferenceIdeal.τ).loc Cert.Dact0ReferenceIdeal.main_arg2) = m ((c.tc : Thread Cert.Dact0Ideal.nD Cert.Dact0Ideal.τ).loc Cert.Dact0Ideal.main_arg2)) →
    ∃ (v0 : (c : Dev Cert.Dact0Ideal.nD) → Buf (Elt Ideal) ((c.tc : Thread Cert.Dact0Ideal.nD Cert.Dact0Ideal.τ).loc Cert.Dact0Ideal.main_v1)),
      θ_run (Cert.Dact0Ideal.defs (F := Ideal)) (onTc (τ := Cert.Dact0Ideal.τ) (Cert.Dact0Ideal.main (F := Ideal))) ⟨m, fun _ => 0, g⟩ (fun r => ∀ c : Dev Cert.Dact0Ideal.nD,
          r.2.mem ((c.tc : Thread Cert.Dact0Ideal.nD Cert.Dact0Ideal.τ).loc Cert.Dact0Ideal.main_v1) = v0 c
          ∧ r.2.mem ((c.tc : Thread Cert.Dact0Ideal.nD Cert.Dact0Ideal.τ).loc Cert.Dact0Ideal.main_arg0) = m ((c.tc : Thread Cert.Dact0Ideal.nD Cert.Dact0Ideal.τ).loc Cert.Dact0Ideal.main_arg0)
          ∧ r.2.mem ((c.tc : Thread Cert.Dact0Ideal.nD Cert.Dact0Ideal.τ).loc Cert.Dact0Ideal.main_arg1) = m ((c.tc : Thread Cert.Dact0Ideal.nD Cert.Dact0Ideal.τ).loc Cert.Dact0Ideal.main_arg1)
          ∧ r.2.mem ((c.tc : Thread Cert.Dact0Ideal.nD Cert.Dact0Ideal.τ).loc Cert.Dact0Ideal.main_arg2) = m ((c.tc : Thread Cert.Dact0Ideal.nD Cert.Dact0Ideal.τ).loc Cert.Dact0Ideal.main_arg2))
      ∧ θ_run (Cert.Dact0ReferenceIdeal.defs (F := Ideal)) (onTc (τ := Cert.Dact0ReferenceIdeal.τ) (Cert.Dact0ReferenceIdeal.main (F := Ideal))) ⟨m', fun _ => 0, g'⟩ (fun r => ∀ c : Dev Cert.Dact0ReferenceIdeal.nD,
          r.2.mem ((c.tc : Thread Cert.Dact0ReferenceIdeal.nD Cert.Dact0ReferenceIdeal.τ).loc Cert.Dact0ReferenceIdeal.main_v30) = v0 c
          ∧ r.2.mem ((c.tc : Thread Cert.Dact0ReferenceIdeal.nD Cert.Dact0ReferenceIdeal.τ).loc Cert.Dact0ReferenceIdeal.main_arg0) = m' ((c.tc : Thread Cert.Dact0ReferenceIdeal.nD Cert.Dact0ReferenceIdeal.τ).loc Cert.Dact0ReferenceIdeal.main_arg0)
          ∧ r.2.mem ((c.tc : Thread Cert.Dact0ReferenceIdeal.nD Cert.Dact0ReferenceIdeal.τ).loc Cert.Dact0ReferenceIdeal.main_arg1) = m' ((c.tc : Thread Cert.Dact0ReferenceIdeal.nD Cert.Dact0ReferenceIdeal.τ).loc Cert.Dact0ReferenceIdeal.main_arg1)
          ∧ r.2.mem ((c.tc : Thread Cert.Dact0ReferenceIdeal.nD Cert.Dact0ReferenceIdeal.τ).loc Cert.Dact0ReferenceIdeal.main_arg2) = m' ((c.tc : Thread Cert.Dact0ReferenceIdeal.nD Cert.Dact0ReferenceIdeal.τ).loc Cert.Dact0ReferenceIdeal.main_arg2))

def preserves_Dh0_Dh0Ideal : Prop :=
  True

def algebraic_Dh0Ideal_Dh0ReferenceIdeal [hDh0Ideal : Cert.Dh0Ideal.Facts] [hDh0ReferenceIdeal : Cert.Dh0ReferenceIdeal.Facts] : Prop :=
  ∀ (m : (ℓ : Loc Cert.Dh0Ideal.nD Cert.Dh0Ideal.τ Cert.Dh0Ideal.sig) → Buf (Elt Ideal) ℓ) (g : Dev Cert.Dh0Ideal.nD → PrngReg)
    (m' : (ℓ : Loc Cert.Dh0ReferenceIdeal.nD Cert.Dh0ReferenceIdeal.τ Cert.Dh0ReferenceIdeal.sig) → Buf (Elt Ideal) ℓ) (g' : Dev Cert.Dh0ReferenceIdeal.nD → PrngReg), Pre_Dh0Ideal m →
    (∀ c : Dev Cert.Dh0Ideal.nD,
      m' ((c.tc : Thread Cert.Dh0ReferenceIdeal.nD Cert.Dh0ReferenceIdeal.τ).loc Cert.Dh0ReferenceIdeal.main_arg0) = m ((c.tc : Thread Cert.Dh0Ideal.nD Cert.Dh0Ideal.τ).loc Cert.Dh0Ideal.main_arg0)
      ∧ m' ((c.tc : Thread Cert.Dh0ReferenceIdeal.nD Cert.Dh0ReferenceIdeal.τ).loc Cert.Dh0ReferenceIdeal.main_arg1) = m ((c.tc : Thread Cert.Dh0Ideal.nD Cert.Dh0Ideal.τ).loc Cert.Dh0Ideal.main_arg1)) →
    ∃ (v0 : (c : Dev Cert.Dh0Ideal.nD) → Buf (Elt Ideal) ((c.tc : Thread Cert.Dh0Ideal.nD Cert.Dh0Ideal.τ).loc Cert.Dh0Ideal.main_v0)),
      θ_run (Cert.Dh0Ideal.defs (F := Ideal)) (onTc (τ := Cert.Dh0Ideal.τ) (Cert.Dh0Ideal.main (F := Ideal))) ⟨m, fun _ => 0, g⟩ (fun r => ∀ c : Dev Cert.Dh0Ideal.nD,
          r.2.mem ((c.tc : Thread Cert.Dh0Ideal.nD Cert.Dh0Ideal.τ).loc Cert.Dh0Ideal.main_v0) = v0 c
          ∧ r.2.mem ((c.tc : Thread Cert.Dh0Ideal.nD Cert.Dh0Ideal.τ).loc Cert.Dh0Ideal.main_arg0) = m ((c.tc : Thread Cert.Dh0Ideal.nD Cert.Dh0Ideal.τ).loc Cert.Dh0Ideal.main_arg0)
          ∧ r.2.mem ((c.tc : Thread Cert.Dh0Ideal.nD Cert.Dh0Ideal.τ).loc Cert.Dh0Ideal.main_arg1) = m ((c.tc : Thread Cert.Dh0Ideal.nD Cert.Dh0Ideal.τ).loc Cert.Dh0Ideal.main_arg1))
      ∧ θ_run (Cert.Dh0ReferenceIdeal.defs (F := Ideal)) (onTc (τ := Cert.Dh0ReferenceIdeal.τ) (Cert.Dh0ReferenceIdeal.main (F := Ideal))) ⟨m', fun _ => 0, g'⟩ (fun r => ∀ c : Dev Cert.Dh0ReferenceIdeal.nD,
          r.2.mem ((c.tc : Thread Cert.Dh0ReferenceIdeal.nD Cert.Dh0ReferenceIdeal.τ).loc Cert.Dh0ReferenceIdeal.main_v21) = v0 c
          ∧ r.2.mem ((c.tc : Thread Cert.Dh0ReferenceIdeal.nD Cert.Dh0ReferenceIdeal.τ).loc Cert.Dh0ReferenceIdeal.main_arg0) = m' ((c.tc : Thread Cert.Dh0ReferenceIdeal.nD Cert.Dh0ReferenceIdeal.τ).loc Cert.Dh0ReferenceIdeal.main_arg0)
          ∧ r.2.mem ((c.tc : Thread Cert.Dh0ReferenceIdeal.nD Cert.Dh0ReferenceIdeal.τ).loc Cert.Dh0ReferenceIdeal.main_arg1) = m' ((c.tc : Thread Cert.Dh0ReferenceIdeal.nD Cert.Dh0ReferenceIdeal.τ).loc Cert.Dh0ReferenceIdeal.main_arg1))

def preserves_Gu0_Gu0Ideal : Prop :=
  True

def algebraic_Gu0Ideal_Gu0ReferenceIdeal [hGu0Ideal : Cert.Gu0Ideal.Facts] [hGu0ReferenceIdeal : Cert.Gu0ReferenceIdeal.Facts] : Prop :=
  ∀ (m : (ℓ : Loc Cert.Gu0Ideal.nD Cert.Gu0Ideal.τ Cert.Gu0Ideal.sig) → Buf (Elt Ideal) ℓ) (g : Dev Cert.Gu0Ideal.nD → PrngReg)
    (m' : (ℓ : Loc Cert.Gu0ReferenceIdeal.nD Cert.Gu0ReferenceIdeal.τ Cert.Gu0ReferenceIdeal.sig) → Buf (Elt Ideal) ℓ) (g' : Dev Cert.Gu0ReferenceIdeal.nD → PrngReg), Pre_Gu0Ideal m →
    (∀ c : Dev Cert.Gu0Ideal.nD,
      m' ((c.tc : Thread Cert.Gu0ReferenceIdeal.nD Cert.Gu0ReferenceIdeal.τ).loc Cert.Gu0ReferenceIdeal.main_arg0) = m ((c.tc : Thread Cert.Gu0Ideal.nD Cert.Gu0Ideal.τ).loc Cert.Gu0Ideal.main_arg0)
      ∧ m' ((c.tc : Thread Cert.Gu0ReferenceIdeal.nD Cert.Gu0ReferenceIdeal.τ).loc Cert.Gu0ReferenceIdeal.main_arg1) = m ((c.tc : Thread Cert.Gu0Ideal.nD Cert.Gu0Ideal.τ).loc Cert.Gu0Ideal.main_arg1)) →
    ∃ (v0 : (c : Dev Cert.Gu0Ideal.nD) → Buf (Elt Ideal) ((c.tc : Thread Cert.Gu0Ideal.nD Cert.Gu0Ideal.τ).loc Cert.Gu0Ideal.main_v0_0)) (v1 : (c : Dev Cert.Gu0Ideal.nD) → Buf (Elt Ideal) ((c.tc : Thread Cert.Gu0Ideal.nD Cert.Gu0Ideal.τ).loc Cert.Gu0Ideal.main_v0_1)),
      θ_run (Cert.Gu0Ideal.defs (F := Ideal)) (onTc (τ := Cert.Gu0Ideal.τ) (Cert.Gu0Ideal.main (F := Ideal))) ⟨m, fun _ => 0, g⟩ (fun r => ∀ c : Dev Cert.Gu0Ideal.nD,
          r.2.mem ((c.tc : Thread Cert.Gu0Ideal.nD Cert.Gu0Ideal.τ).loc Cert.Gu0Ideal.main_v0_0) = v0 c
          ∧ r.2.mem ((c.tc : Thread Cert.Gu0Ideal.nD Cert.Gu0Ideal.τ).loc Cert.Gu0Ideal.main_v0_1) = v1 c
          ∧ r.2.mem ((c.tc : Thread Cert.Gu0Ideal.nD Cert.Gu0Ideal.τ).loc Cert.Gu0Ideal.main_arg0) = m ((c.tc : Thread Cert.Gu0Ideal.nD Cert.Gu0Ideal.τ).loc Cert.Gu0Ideal.main_arg0)
          ∧ r.2.mem ((c.tc : Thread Cert.Gu0Ideal.nD Cert.Gu0Ideal.τ).loc Cert.Gu0Ideal.main_arg1) = m ((c.tc : Thread Cert.Gu0Ideal.nD Cert.Gu0Ideal.τ).loc Cert.Gu0Ideal.main_arg1))
      ∧ θ_run (Cert.Gu0ReferenceIdeal.defs (F := Ideal)) (onTc (τ := Cert.Gu0ReferenceIdeal.τ) (Cert.Gu0ReferenceIdeal.main (F := Ideal))) ⟨m', fun _ => 0, g'⟩ (fun r => ∀ c : Dev Cert.Gu0ReferenceIdeal.nD,
          r.2.mem ((c.tc : Thread Cert.Gu0ReferenceIdeal.nD Cert.Gu0ReferenceIdeal.τ).loc Cert.Gu0ReferenceIdeal.main_v16) = v0 c
          ∧ r.2.mem ((c.tc : Thread Cert.Gu0ReferenceIdeal.nD Cert.Gu0ReferenceIdeal.τ).loc Cert.Gu0ReferenceIdeal.main_v20) = v1 c
          ∧ r.2.mem ((c.tc : Thread Cert.Gu0ReferenceIdeal.nD Cert.Gu0ReferenceIdeal.τ).loc Cert.Gu0ReferenceIdeal.main_arg0) = m' ((c.tc : Thread Cert.Gu0ReferenceIdeal.nD Cert.Gu0ReferenceIdeal.τ).loc Cert.Gu0ReferenceIdeal.main_arg0)
          ∧ r.2.mem ((c.tc : Thread Cert.Gu0ReferenceIdeal.nD Cert.Gu0ReferenceIdeal.τ).loc Cert.Gu0ReferenceIdeal.main_arg1) = m' ((c.tc : Thread Cert.Gu0ReferenceIdeal.nD Cert.Gu0ReferenceIdeal.τ).loc Cert.Gu0ReferenceIdeal.main_arg1))

def preserves_Down0_Down0Ideal : Prop :=
  True

def algebraic_Down0Ideal_Down0ReferenceIdeal [hDown0Ideal : Cert.Down0Ideal.Facts] [hDown0ReferenceIdeal : Cert.Down0ReferenceIdeal.Facts] : Prop :=
  ∀ (m : (ℓ : Loc Cert.Down0Ideal.nD Cert.Down0Ideal.τ Cert.Down0Ideal.sig) → Buf (Elt Ideal) ℓ) (g : Dev Cert.Down0Ideal.nD → PrngReg)
    (m' : (ℓ : Loc Cert.Down0ReferenceIdeal.nD Cert.Down0ReferenceIdeal.τ Cert.Down0ReferenceIdeal.sig) → Buf (Elt Ideal) ℓ) (g' : Dev Cert.Down0ReferenceIdeal.nD → PrngReg), Pre_Down0Ideal m →
    (∀ c : Dev Cert.Down0Ideal.nD,
      m' ((c.tc : Thread Cert.Down0ReferenceIdeal.nD Cert.Down0ReferenceIdeal.τ).loc Cert.Down0ReferenceIdeal.main_arg0) = m ((c.tc : Thread Cert.Down0Ideal.nD Cert.Down0Ideal.τ).loc Cert.Down0Ideal.main_arg0)
      ∧ m' ((c.tc : Thread Cert.Down0ReferenceIdeal.nD Cert.Down0ReferenceIdeal.τ).loc Cert.Down0ReferenceIdeal.main_arg1) = m ((c.tc : Thread Cert.Down0Ideal.nD Cert.Down0Ideal.τ).loc Cert.Down0Ideal.main_arg1)
      ∧ m' ((c.tc : Thread Cert.Down0ReferenceIdeal.nD Cert.Down0ReferenceIdeal.τ).loc Cert.Down0ReferenceIdeal.main_arg2) = m ((c.tc : Thread Cert.Down0Ideal.nD Cert.Down0Ideal.τ).loc Cert.Down0Ideal.main_arg2)) →
    ∃ (v0 : (c : Dev Cert.Down0Ideal.nD) → Buf (Elt Ideal) ((c.tc : Thread Cert.Down0Ideal.nD Cert.Down0Ideal.τ).loc Cert.Down0Ideal.main_v0)),
      θ_run (Cert.Down0Ideal.defs (F := Ideal)) (onTc (τ := Cert.Down0Ideal.τ) (Cert.Down0Ideal.main (F := Ideal))) ⟨m, fun _ => 0, g⟩ (fun r => ∀ c : Dev Cert.Down0Ideal.nD,
          r.2.mem ((c.tc : Thread Cert.Down0Ideal.nD Cert.Down0Ideal.τ).loc Cert.Down0Ideal.main_v0) = v0 c
          ∧ r.2.mem ((c.tc : Thread Cert.Down0Ideal.nD Cert.Down0Ideal.τ).loc Cert.Down0Ideal.main_arg0) = m ((c.tc : Thread Cert.Down0Ideal.nD Cert.Down0Ideal.τ).loc Cert.Down0Ideal.main_arg0)
          ∧ r.2.mem ((c.tc : Thread Cert.Down0Ideal.nD Cert.Down0Ideal.τ).loc Cert.Down0Ideal.main_arg1) = m ((c.tc : Thread Cert.Down0Ideal.nD Cert.Down0Ideal.τ).loc Cert.Down0Ideal.main_arg1)
          ∧ r.2.mem ((c.tc : Thread Cert.Down0Ideal.nD Cert.Down0Ideal.τ).loc Cert.Down0Ideal.main_arg2) = m ((c.tc : Thread Cert.Down0Ideal.nD Cert.Down0Ideal.τ).loc Cert.Down0Ideal.main_arg2))
      ∧ θ_run (Cert.Down0ReferenceIdeal.defs (F := Ideal)) (onTc (τ := Cert.Down0ReferenceIdeal.τ) (Cert.Down0ReferenceIdeal.main (F := Ideal))) ⟨m', fun _ => 0, g'⟩ (fun r => ∀ c : Dev Cert.Down0ReferenceIdeal.nD,
          r.2.mem ((c.tc : Thread Cert.Down0ReferenceIdeal.nD Cert.Down0ReferenceIdeal.τ).loc Cert.Down0ReferenceIdeal.main_v14) = v0 c
          ∧ r.2.mem ((c.tc : Thread Cert.Down0ReferenceIdeal.nD Cert.Down0ReferenceIdeal.τ).loc Cert.Down0ReferenceIdeal.main_arg0) = m' ((c.tc : Thread Cert.Down0ReferenceIdeal.nD Cert.Down0ReferenceIdeal.τ).loc Cert.Down0ReferenceIdeal.main_arg0)
          ∧ r.2.mem ((c.tc : Thread Cert.Down0ReferenceIdeal.nD Cert.Down0ReferenceIdeal.τ).loc Cert.Down0ReferenceIdeal.main_arg1) = m' ((c.tc : Thread Cert.Down0ReferenceIdeal.nD Cert.Down0ReferenceIdeal.τ).loc Cert.Down0ReferenceIdeal.main_arg1)
          ∧ r.2.mem ((c.tc : Thread Cert.Down0ReferenceIdeal.nD Cert.Down0ReferenceIdeal.τ).loc Cert.Down0ReferenceIdeal.main_arg2) = m' ((c.tc : Thread Cert.Down0ReferenceIdeal.nD Cert.Down0ReferenceIdeal.τ).loc Cert.Down0ReferenceIdeal.main_arg2))

def preserves_Sbin_SbinIdeal : Prop :=
  True

def algebraic_SbinIdeal_SbinReferenceIdeal [hSbinIdeal : Cert.SbinIdeal.Facts] [hSbinReferenceIdeal : Cert.SbinReferenceIdeal.Facts] : Prop :=
  ∀ (m : (ℓ : Loc Cert.SbinIdeal.nD Cert.SbinIdeal.τ Cert.SbinIdeal.sig) → Buf (Elt Ideal) ℓ) (g : Dev Cert.SbinIdeal.nD → PrngReg)
    (m' : (ℓ : Loc Cert.SbinReferenceIdeal.nD Cert.SbinReferenceIdeal.τ Cert.SbinReferenceIdeal.sig) → Buf (Elt Ideal) ℓ) (g' : Dev Cert.SbinReferenceIdeal.nD → PrngReg), Pre_SbinIdeal m →
    (∀ c : Dev Cert.SbinIdeal.nD,
      m' ((c.tc : Thread Cert.SbinReferenceIdeal.nD Cert.SbinReferenceIdeal.τ).loc Cert.SbinReferenceIdeal.main_arg0) = m ((c.tc : Thread Cert.SbinIdeal.nD Cert.SbinIdeal.τ).loc Cert.SbinIdeal.main_arg0)
      ∧ m' ((c.tc : Thread Cert.SbinReferenceIdeal.nD Cert.SbinReferenceIdeal.τ).loc Cert.SbinReferenceIdeal.main_arg1) = m ((c.tc : Thread Cert.SbinIdeal.nD Cert.SbinIdeal.τ).loc Cert.SbinIdeal.main_arg1)) →
    ∃ (v0 : (c : Dev Cert.SbinIdeal.nD) → Buf (Elt Ideal) ((c.tc : Thread Cert.SbinIdeal.nD Cert.SbinIdeal.τ).loc Cert.SbinIdeal.main_v0)),
      θ_run (Cert.SbinIdeal.defs (F := Ideal)) (onTc (τ := Cert.SbinIdeal.τ) (Cert.SbinIdeal.main (F := Ideal))) ⟨m, fun _ => 0, g⟩ (fun r => ∀ c : Dev Cert.SbinIdeal.nD,
          r.2.mem ((c.tc : Thread Cert.SbinIdeal.nD Cert.SbinIdeal.τ).loc Cert.SbinIdeal.main_v0) = v0 c
          ∧ r.2.mem ((c.tc : Thread Cert.SbinIdeal.nD Cert.SbinIdeal.τ).loc Cert.SbinIdeal.main_arg0) = m ((c.tc : Thread Cert.SbinIdeal.nD Cert.SbinIdeal.τ).loc Cert.SbinIdeal.main_arg0)
          ∧ r.2.mem ((c.tc : Thread Cert.SbinIdeal.nD Cert.SbinIdeal.τ).loc Cert.SbinIdeal.main_arg1) = m ((c.tc : Thread Cert.SbinIdeal.nD Cert.SbinIdeal.τ).loc Cert.SbinIdeal.main_arg1))
      ∧ θ_run (Cert.SbinReferenceIdeal.defs (F := Ideal)) (onTc (τ := Cert.SbinReferenceIdeal.τ) (Cert.SbinReferenceIdeal.main (F := Ideal))) ⟨m', fun _ => 0, g'⟩ (fun r => ∀ c : Dev Cert.SbinReferenceIdeal.nD,
          r.2.mem ((c.tc : Thread Cert.SbinReferenceIdeal.nD Cert.SbinReferenceIdeal.τ).loc Cert.SbinReferenceIdeal.main_v11) = v0 c
          ∧ r.2.mem ((c.tc : Thread Cert.SbinReferenceIdeal.nD Cert.SbinReferenceIdeal.τ).loc Cert.SbinReferenceIdeal.main_arg0) = m' ((c.tc : Thread Cert.SbinReferenceIdeal.nD Cert.SbinReferenceIdeal.τ).loc Cert.SbinReferenceIdeal.main_arg0)
          ∧ r.2.mem ((c.tc : Thread Cert.SbinReferenceIdeal.nD Cert.SbinReferenceIdeal.τ).loc Cert.SbinReferenceIdeal.main_arg1) = m' ((c.tc : Thread Cert.SbinReferenceIdeal.nD Cert.SbinReferenceIdeal.τ).loc Cert.SbinReferenceIdeal.main_arg1))

def preserves_Ssin_SsinIdeal : Prop :=
  True

def algebraic_SsinIdeal_SsinReferenceIdeal [hSsinIdeal : Cert.SsinIdeal.Facts] [hSsinReferenceIdeal : Cert.SsinReferenceIdeal.Facts] : Prop :=
  ∀ (m : (ℓ : Loc Cert.SsinIdeal.nD Cert.SsinIdeal.τ Cert.SsinIdeal.sig) → Buf (Elt Ideal) ℓ) (g : Dev Cert.SsinIdeal.nD → PrngReg)
    (m' : (ℓ : Loc Cert.SsinReferenceIdeal.nD Cert.SsinReferenceIdeal.τ Cert.SsinReferenceIdeal.sig) → Buf (Elt Ideal) ℓ) (g' : Dev Cert.SsinReferenceIdeal.nD → PrngReg), Pre_SsinIdeal m →
    (∀ c : Dev Cert.SsinIdeal.nD,
      m' ((c.tc : Thread Cert.SsinReferenceIdeal.nD Cert.SsinReferenceIdeal.τ).loc Cert.SsinReferenceIdeal.main_arg0) = m ((c.tc : Thread Cert.SsinIdeal.nD Cert.SsinIdeal.τ).loc Cert.SsinIdeal.main_arg0)
      ∧ m' ((c.tc : Thread Cert.SsinReferenceIdeal.nD Cert.SsinReferenceIdeal.τ).loc Cert.SsinReferenceIdeal.main_arg1) = m ((c.tc : Thread Cert.SsinIdeal.nD Cert.SsinIdeal.τ).loc Cert.SsinIdeal.main_arg1)) →
    ∃ (v0 : (c : Dev Cert.SsinIdeal.nD) → Buf (Elt Ideal) ((c.tc : Thread Cert.SsinIdeal.nD Cert.SsinIdeal.τ).loc Cert.SsinIdeal.main_v0)),
      θ_run (Cert.SsinIdeal.defs (F := Ideal)) (onTc (τ := Cert.SsinIdeal.τ) (Cert.SsinIdeal.main (F := Ideal))) ⟨m, fun _ => 0, g⟩ (fun r => ∀ c : Dev Cert.SsinIdeal.nD,
          r.2.mem ((c.tc : Thread Cert.SsinIdeal.nD Cert.SsinIdeal.τ).loc Cert.SsinIdeal.main_v0) = v0 c
          ∧ r.2.mem ((c.tc : Thread Cert.SsinIdeal.nD Cert.SsinIdeal.τ).loc Cert.SsinIdeal.main_arg0) = m ((c.tc : Thread Cert.SsinIdeal.nD Cert.SsinIdeal.τ).loc Cert.SsinIdeal.main_arg0)
          ∧ r.2.mem ((c.tc : Thread Cert.SsinIdeal.nD Cert.SsinIdeal.τ).loc Cert.SsinIdeal.main_arg1) = m ((c.tc : Thread Cert.SsinIdeal.nD Cert.SsinIdeal.τ).loc Cert.SsinIdeal.main_arg1))
      ∧ θ_run (Cert.SsinReferenceIdeal.defs (F := Ideal)) (onTc (τ := Cert.SsinReferenceIdeal.τ) (Cert.SsinReferenceIdeal.main (F := Ideal))) ⟨m', fun _ => 0, g'⟩ (fun r => ∀ c : Dev Cert.SsinReferenceIdeal.nD,
          r.2.mem ((c.tc : Thread Cert.SsinReferenceIdeal.nD Cert.SsinReferenceIdeal.τ).loc Cert.SsinReferenceIdeal.main_v11) = v0 c
          ∧ r.2.mem ((c.tc : Thread Cert.SsinReferenceIdeal.nD Cert.SsinReferenceIdeal.τ).loc Cert.SsinReferenceIdeal.main_arg0) = m' ((c.tc : Thread Cert.SsinReferenceIdeal.nD Cert.SsinReferenceIdeal.τ).loc Cert.SsinReferenceIdeal.main_arg0)
          ∧ r.2.mem ((c.tc : Thread Cert.SsinReferenceIdeal.nD Cert.SsinReferenceIdeal.τ).loc Cert.SsinReferenceIdeal.main_arg1) = m' ((c.tc : Thread Cert.SsinReferenceIdeal.nD Cert.SsinReferenceIdeal.τ).loc Cert.SsinReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v11) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_Dcat_DcatIdeal : Prop :=
  True

def algebraic_DcatIdeal_DcatReferenceIdeal [hDcatIdeal : Cert.DcatIdeal.Facts] [hDcatReferenceIdeal : Cert.DcatReferenceIdeal.Facts] : Prop :=
  ∀ (m : (ℓ : Loc Cert.DcatIdeal.nD Cert.DcatIdeal.τ Cert.DcatIdeal.sig) → Buf (Elt Ideal) ℓ) (g : Dev Cert.DcatIdeal.nD → PrngReg)
    (m' : (ℓ : Loc Cert.DcatReferenceIdeal.nD Cert.DcatReferenceIdeal.τ Cert.DcatReferenceIdeal.sig) → Buf (Elt Ideal) ℓ) (g' : Dev Cert.DcatReferenceIdeal.nD → PrngReg), Pre_DcatIdeal m →
    (∀ c : Dev Cert.DcatIdeal.nD,
      m' ((c.tc : Thread Cert.DcatReferenceIdeal.nD Cert.DcatReferenceIdeal.τ).loc Cert.DcatReferenceIdeal.main_arg0) = m ((c.tc : Thread Cert.DcatIdeal.nD Cert.DcatIdeal.τ).loc Cert.DcatIdeal.main_arg0)
      ∧ m' ((c.tc : Thread Cert.DcatReferenceIdeal.nD Cert.DcatReferenceIdeal.τ).loc Cert.DcatReferenceIdeal.main_arg1) = m ((c.tc : Thread Cert.DcatIdeal.nD Cert.DcatIdeal.τ).loc Cert.DcatIdeal.main_arg1)) →
    ∃ (v0 : (c : Dev Cert.DcatIdeal.nD) → Buf (Elt Ideal) ((c.tc : Thread Cert.DcatIdeal.nD Cert.DcatIdeal.τ).loc Cert.DcatIdeal.main_v1)),
      θ_run (Cert.DcatIdeal.defs (F := Ideal)) (onTc (τ := Cert.DcatIdeal.τ) (Cert.DcatIdeal.main (F := Ideal))) ⟨m, fun _ => 0, g⟩ (fun r => ∀ c : Dev Cert.DcatIdeal.nD,
          r.2.mem ((c.tc : Thread Cert.DcatIdeal.nD Cert.DcatIdeal.τ).loc Cert.DcatIdeal.main_v1) = v0 c
          ∧ r.2.mem ((c.tc : Thread Cert.DcatIdeal.nD Cert.DcatIdeal.τ).loc Cert.DcatIdeal.main_arg0) = m ((c.tc : Thread Cert.DcatIdeal.nD Cert.DcatIdeal.τ).loc Cert.DcatIdeal.main_arg0)
          ∧ r.2.mem ((c.tc : Thread Cert.DcatIdeal.nD Cert.DcatIdeal.τ).loc Cert.DcatIdeal.main_arg1) = m ((c.tc : Thread Cert.DcatIdeal.nD Cert.DcatIdeal.τ).loc Cert.DcatIdeal.main_arg1))
      ∧ θ_run (Cert.DcatReferenceIdeal.defs (F := Ideal)) (onTc (τ := Cert.DcatReferenceIdeal.τ) (Cert.DcatReferenceIdeal.main (F := Ideal))) ⟨m', fun _ => 0, g'⟩ (fun r => ∀ c : Dev Cert.DcatReferenceIdeal.nD,
          r.2.mem ((c.tc : Thread Cert.DcatReferenceIdeal.nD Cert.DcatReferenceIdeal.τ).loc Cert.DcatReferenceIdeal.main_v12) = v0 c
          ∧ r.2.mem ((c.tc : Thread Cert.DcatReferenceIdeal.nD Cert.DcatReferenceIdeal.τ).loc Cert.DcatReferenceIdeal.main_arg0) = m' ((c.tc : Thread Cert.DcatReferenceIdeal.nD Cert.DcatReferenceIdeal.τ).loc Cert.DcatReferenceIdeal.main_arg0)
          ∧ r.2.mem ((c.tc : Thread Cert.DcatReferenceIdeal.nD Cert.DcatReferenceIdeal.τ).loc Cert.DcatReferenceIdeal.main_arg1) = m' ((c.tc : Thread Cert.DcatReferenceIdeal.nD Cert.DcatReferenceIdeal.τ).loc Cert.DcatReferenceIdeal.main_arg1))

def preserves_Dhsb_DhsbIdeal : Prop :=
  True

def algebraic_DhsbIdeal_DhsbReferenceIdeal [hDhsbIdeal : Cert.DhsbIdeal.Facts] [hDhsbReferenceIdeal : Cert.DhsbReferenceIdeal.Facts] : Prop :=
  ∀ (m : (ℓ : Loc Cert.DhsbIdeal.nD Cert.DhsbIdeal.τ Cert.DhsbIdeal.sig) → Buf (Elt Ideal) ℓ) (g : Dev Cert.DhsbIdeal.nD → PrngReg)
    (m' : (ℓ : Loc Cert.DhsbReferenceIdeal.nD Cert.DhsbReferenceIdeal.τ Cert.DhsbReferenceIdeal.sig) → Buf (Elt Ideal) ℓ) (g' : Dev Cert.DhsbReferenceIdeal.nD → PrngReg), Pre_DhsbIdeal m →
    (∀ c : Dev Cert.DhsbIdeal.nD,
      m' ((c.tc : Thread Cert.DhsbReferenceIdeal.nD Cert.DhsbReferenceIdeal.τ).loc Cert.DhsbReferenceIdeal.main_arg0) = m ((c.tc : Thread Cert.DhsbIdeal.nD Cert.DhsbIdeal.τ).loc Cert.DhsbIdeal.main_arg0)
      ∧ m' ((c.tc : Thread Cert.DhsbReferenceIdeal.nD Cert.DhsbReferenceIdeal.τ).loc Cert.DhsbReferenceIdeal.main_arg1) = m ((c.tc : Thread Cert.DhsbIdeal.nD Cert.DhsbIdeal.τ).loc Cert.DhsbIdeal.main_arg1)) →
    ∃ (v0 : (c : Dev Cert.DhsbIdeal.nD) → Buf (Elt Ideal) ((c.tc : Thread Cert.DhsbIdeal.nD Cert.DhsbIdeal.τ).loc Cert.DhsbIdeal.main_v1)),
      θ_run (Cert.DhsbIdeal.defs (F := Ideal)) (onTc (τ := Cert.DhsbIdeal.τ) (Cert.DhsbIdeal.main (F := Ideal))) ⟨m, fun _ => 0, g⟩ (fun r => ∀ c : Dev Cert.DhsbIdeal.nD,
          r.2.mem ((c.tc : Thread Cert.DhsbIdeal.nD Cert.DhsbIdeal.τ).loc Cert.DhsbIdeal.main_v1) = v0 c
          ∧ r.2.mem ((c.tc : Thread Cert.DhsbIdeal.nD Cert.DhsbIdeal.τ).loc Cert.DhsbIdeal.main_arg0) = m ((c.tc : Thread Cert.DhsbIdeal.nD Cert.DhsbIdeal.τ).loc Cert.DhsbIdeal.main_arg0)
          ∧ r.2.mem ((c.tc : Thread Cert.DhsbIdeal.nD Cert.DhsbIdeal.τ).loc Cert.DhsbIdeal.main_arg1) = m ((c.tc : Thread Cert.DhsbIdeal.nD Cert.DhsbIdeal.τ).loc Cert.DhsbIdeal.main_arg1))
      ∧ θ_run (Cert.DhsbReferenceIdeal.defs (F := Ideal)) (onTc (τ := Cert.DhsbReferenceIdeal.τ) (Cert.DhsbReferenceIdeal.main (F := Ideal))) ⟨m', fun _ => 0, g'⟩ (fun r => ∀ c : Dev Cert.DhsbReferenceIdeal.nD,
          r.2.mem ((c.tc : Thread Cert.DhsbReferenceIdeal.nD Cert.DhsbReferenceIdeal.τ).loc Cert.DhsbReferenceIdeal.main_v12) = v0 c
          ∧ r.2.mem ((c.tc : Thread Cert.DhsbReferenceIdeal.nD Cert.DhsbReferenceIdeal.τ).loc Cert.DhsbReferenceIdeal.main_arg0) = m' ((c.tc : Thread Cert.DhsbReferenceIdeal.nD Cert.DhsbReferenceIdeal.τ).loc Cert.DhsbReferenceIdeal.main_arg0)
          ∧ r.2.mem ((c.tc : Thread Cert.DhsbReferenceIdeal.nD Cert.DhsbReferenceIdeal.τ).loc Cert.DhsbReferenceIdeal.main_arg1) = m' ((c.tc : Thread Cert.DhsbReferenceIdeal.nD Cert.DhsbReferenceIdeal.τ).loc Cert.DhsbReferenceIdeal.main_arg1))

def preserves_Sbin0_Sbin0Ideal : Prop :=
  True

def algebraic_Sbin0Ideal_Sbin0ReferenceIdeal [hSbin0Ideal : Cert.Sbin0Ideal.Facts] [hSbin0ReferenceIdeal : Cert.Sbin0ReferenceIdeal.Facts] : Prop :=
  ∀ (m : (ℓ : Loc Cert.Sbin0Ideal.nD Cert.Sbin0Ideal.τ Cert.Sbin0Ideal.sig) → Buf (Elt Ideal) ℓ) (g : Dev Cert.Sbin0Ideal.nD → PrngReg)
    (m' : (ℓ : Loc Cert.Sbin0ReferenceIdeal.nD Cert.Sbin0ReferenceIdeal.τ Cert.Sbin0ReferenceIdeal.sig) → Buf (Elt Ideal) ℓ) (g' : Dev Cert.Sbin0ReferenceIdeal.nD → PrngReg), Pre_Sbin0Ideal m →
    (∀ c : Dev Cert.Sbin0Ideal.nD,
      m' ((c.tc : Thread Cert.Sbin0ReferenceIdeal.nD Cert.Sbin0ReferenceIdeal.τ).loc Cert.Sbin0ReferenceIdeal.main_arg0) = m ((c.tc : Thread Cert.Sbin0Ideal.nD Cert.Sbin0Ideal.τ).loc Cert.Sbin0Ideal.main_arg0)
      ∧ m' ((c.tc : Thread Cert.Sbin0ReferenceIdeal.nD Cert.Sbin0ReferenceIdeal.τ).loc Cert.Sbin0ReferenceIdeal.main_arg1) = m ((c.tc : Thread Cert.Sbin0Ideal.nD Cert.Sbin0Ideal.τ).loc Cert.Sbin0Ideal.main_arg1)) →
    ∃ (v0 : (c : Dev Cert.Sbin0Ideal.nD) → Buf (Elt Ideal) ((c.tc : Thread Cert.Sbin0Ideal.nD Cert.Sbin0Ideal.τ).loc Cert.Sbin0Ideal.main_v0)),
      θ_run (Cert.Sbin0Ideal.defs (F := Ideal)) (onTc (τ := Cert.Sbin0Ideal.τ) (Cert.Sbin0Ideal.main (F := Ideal))) ⟨m, fun _ => 0, g⟩ (fun r => ∀ c : Dev Cert.Sbin0Ideal.nD,
          r.2.mem ((c.tc : Thread Cert.Sbin0Ideal.nD Cert.Sbin0Ideal.τ).loc Cert.Sbin0Ideal.main_v0) = v0 c
          ∧ r.2.mem ((c.tc : Thread Cert.Sbin0Ideal.nD Cert.Sbin0Ideal.τ).loc Cert.Sbin0Ideal.main_arg0) = m ((c.tc : Thread Cert.Sbin0Ideal.nD Cert.Sbin0Ideal.τ).loc Cert.Sbin0Ideal.main_arg0)
          ∧ r.2.mem ((c.tc : Thread Cert.Sbin0Ideal.nD Cert.Sbin0Ideal.τ).loc Cert.Sbin0Ideal.main_arg1) = m ((c.tc : Thread Cert.Sbin0Ideal.nD Cert.Sbin0Ideal.τ).loc Cert.Sbin0Ideal.main_arg1))
      ∧ θ_run (Cert.Sbin0ReferenceIdeal.defs (F := Ideal)) (onTc (τ := Cert.Sbin0ReferenceIdeal.τ) (Cert.Sbin0ReferenceIdeal.main (F := Ideal))) ⟨m', fun _ => 0, g'⟩ (fun r => ∀ c : Dev Cert.Sbin0ReferenceIdeal.nD,
          r.2.mem ((c.tc : Thread Cert.Sbin0ReferenceIdeal.nD Cert.Sbin0ReferenceIdeal.τ).loc Cert.Sbin0ReferenceIdeal.main_v11) = v0 c
          ∧ r.2.mem ((c.tc : Thread Cert.Sbin0ReferenceIdeal.nD Cert.Sbin0ReferenceIdeal.τ).loc Cert.Sbin0ReferenceIdeal.main_arg0) = m' ((c.tc : Thread Cert.Sbin0ReferenceIdeal.nD Cert.Sbin0ReferenceIdeal.τ).loc Cert.Sbin0ReferenceIdeal.main_arg0)
          ∧ r.2.mem ((c.tc : Thread Cert.Sbin0ReferenceIdeal.nD Cert.Sbin0ReferenceIdeal.τ).loc Cert.Sbin0ReferenceIdeal.main_arg1) = m' ((c.tc : Thread Cert.Sbin0ReferenceIdeal.nD Cert.Sbin0ReferenceIdeal.τ).loc Cert.Sbin0ReferenceIdeal.main_arg1))

def preserves_Ssin0_Ssin0Ideal : Prop :=
  True

def algebraic_Ssin0Ideal_Ssin0ReferenceIdeal [hSsin0Ideal : Cert.Ssin0Ideal.Facts] [hSsin0ReferenceIdeal : Cert.Ssin0ReferenceIdeal.Facts] : Prop :=
  ∀ (m : (ℓ : Loc Cert.Ssin0Ideal.nD Cert.Ssin0Ideal.τ Cert.Ssin0Ideal.sig) → Buf (Elt Ideal) ℓ) (g : Dev Cert.Ssin0Ideal.nD → PrngReg)
    (m' : (ℓ : Loc Cert.Ssin0ReferenceIdeal.nD Cert.Ssin0ReferenceIdeal.τ Cert.Ssin0ReferenceIdeal.sig) → Buf (Elt Ideal) ℓ) (g' : Dev Cert.Ssin0ReferenceIdeal.nD → PrngReg), Pre_Ssin0Ideal m →
    (∀ c : Dev Cert.Ssin0Ideal.nD,
      m' ((c.tc : Thread Cert.Ssin0ReferenceIdeal.nD Cert.Ssin0ReferenceIdeal.τ).loc Cert.Ssin0ReferenceIdeal.main_arg0) = m ((c.tc : Thread Cert.Ssin0Ideal.nD Cert.Ssin0Ideal.τ).loc Cert.Ssin0Ideal.main_arg0)
      ∧ m' ((c.tc : Thread Cert.Ssin0ReferenceIdeal.nD Cert.Ssin0ReferenceIdeal.τ).loc Cert.Ssin0ReferenceIdeal.main_arg1) = m ((c.tc : Thread Cert.Ssin0Ideal.nD Cert.Ssin0Ideal.τ).loc Cert.Ssin0Ideal.main_arg1)) →
    ∃ (v0 : (c : Dev Cert.Ssin0Ideal.nD) → Buf (Elt Ideal) ((c.tc : Thread Cert.Ssin0Ideal.nD Cert.Ssin0Ideal.τ).loc Cert.Ssin0Ideal.main_v0)),
      θ_run (Cert.Ssin0Ideal.defs (F := Ideal)) (onTc (τ := Cert.Ssin0Ideal.τ) (Cert.Ssin0Ideal.main (F := Ideal))) ⟨m, fun _ => 0, g⟩ (fun r => ∀ c : Dev Cert.Ssin0Ideal.nD,
          r.2.mem ((c.tc : Thread Cert.Ssin0Ideal.nD Cert.Ssin0Ideal.τ).loc Cert.Ssin0Ideal.main_v0) = v0 c
          ∧ r.2.mem ((c.tc : Thread Cert.Ssin0Ideal.nD Cert.Ssin0Ideal.τ).loc Cert.Ssin0Ideal.main_arg0) = m ((c.tc : Thread Cert.Ssin0Ideal.nD Cert.Ssin0Ideal.τ).loc Cert.Ssin0Ideal.main_arg0)
          ∧ r.2.mem ((c.tc : Thread Cert.Ssin0Ideal.nD Cert.Ssin0Ideal.τ).loc Cert.Ssin0Ideal.main_arg1) = m ((c.tc : Thread Cert.Ssin0Ideal.nD Cert.Ssin0Ideal.τ).loc Cert.Ssin0Ideal.main_arg1))
      ∧ θ_run (Cert.Ssin0ReferenceIdeal.defs (F := Ideal)) (onTc (τ := Cert.Ssin0ReferenceIdeal.τ) (Cert.Ssin0ReferenceIdeal.main (F := Ideal))) ⟨m', fun _ => 0, g'⟩ (fun r => ∀ c : Dev Cert.Ssin0ReferenceIdeal.nD,
          r.2.mem ((c.tc : Thread Cert.Ssin0ReferenceIdeal.nD Cert.Ssin0ReferenceIdeal.τ).loc Cert.Ssin0ReferenceIdeal.main_v11) = v0 c
          ∧ r.2.mem ((c.tc : Thread Cert.Ssin0ReferenceIdeal.nD Cert.Ssin0ReferenceIdeal.τ).loc Cert.Ssin0ReferenceIdeal.main_arg0) = m' ((c.tc : Thread Cert.Ssin0ReferenceIdeal.nD Cert.Ssin0ReferenceIdeal.τ).loc Cert.Ssin0ReferenceIdeal.main_arg0)
          ∧ r.2.mem ((c.tc : Thread Cert.Ssin0ReferenceIdeal.nD Cert.Ssin0ReferenceIdeal.τ).loc Cert.Ssin0ReferenceIdeal.main_arg1) = m' ((c.tc : Thread Cert.Ssin0ReferenceIdeal.nD Cert.Ssin0ReferenceIdeal.τ).loc Cert.Ssin0ReferenceIdeal.main_arg1))

def preserves_Out0_Out0Ideal : Prop :=
  True

def algebraic_Out0Ideal_Out0ReferenceIdeal [hOut0Ideal : Cert.Out0Ideal.Facts] [hOut0ReferenceIdeal : Cert.Out0ReferenceIdeal.Facts] : Prop :=
  ∀ (m : (ℓ : Loc Cert.Out0Ideal.nD Cert.Out0Ideal.τ Cert.Out0Ideal.sig) → Buf (Elt Ideal) ℓ) (g : Dev Cert.Out0Ideal.nD → PrngReg)
    (m' : (ℓ : Loc Cert.Out0ReferenceIdeal.nD Cert.Out0ReferenceIdeal.τ Cert.Out0ReferenceIdeal.sig) → Buf (Elt Ideal) ℓ) (g' : Dev Cert.Out0ReferenceIdeal.nD → PrngReg), Pre_Out0Ideal m →
    (∀ c : Dev Cert.Out0Ideal.nD,
      m' ((c.tc : Thread Cert.Out0ReferenceIdeal.nD Cert.Out0ReferenceIdeal.τ).loc Cert.Out0ReferenceIdeal.main_arg0) = m ((c.tc : Thread Cert.Out0Ideal.nD Cert.Out0Ideal.τ).loc Cert.Out0Ideal.main_arg0)
      ∧ m' ((c.tc : Thread Cert.Out0ReferenceIdeal.nD Cert.Out0ReferenceIdeal.τ).loc Cert.Out0ReferenceIdeal.main_arg1) = m ((c.tc : Thread Cert.Out0Ideal.nD Cert.Out0Ideal.τ).loc Cert.Out0Ideal.main_arg1)
      ∧ m' ((c.tc : Thread Cert.Out0ReferenceIdeal.nD Cert.Out0ReferenceIdeal.τ).loc Cert.Out0ReferenceIdeal.main_arg2) = m ((c.tc : Thread Cert.Out0Ideal.nD Cert.Out0Ideal.τ).loc Cert.Out0Ideal.main_arg2)) →
    ∃ (v0 : (c : Dev Cert.Out0Ideal.nD) → Buf (Elt Ideal) ((c.tc : Thread Cert.Out0Ideal.nD Cert.Out0Ideal.τ).loc Cert.Out0Ideal.main_v1)),
      θ_run (Cert.Out0Ideal.defs (F := Ideal)) (onTc (τ := Cert.Out0Ideal.τ) (Cert.Out0Ideal.main (F := Ideal))) ⟨m, fun _ => 0, g⟩ (fun r => ∀ c : Dev Cert.Out0Ideal.nD,
          r.2.mem ((c.tc : Thread Cert.Out0Ideal.nD Cert.Out0Ideal.τ).loc Cert.Out0Ideal.main_v1) = v0 c
          ∧ r.2.mem ((c.tc : Thread Cert.Out0Ideal.nD Cert.Out0Ideal.τ).loc Cert.Out0Ideal.main_arg0) = m ((c.tc : Thread Cert.Out0Ideal.nD Cert.Out0Ideal.τ).loc Cert.Out0Ideal.main_arg0)
          ∧ r.2.mem ((c.tc : Thread Cert.Out0Ideal.nD Cert.Out0Ideal.τ).loc Cert.Out0Ideal.main_arg1) = m ((c.tc : Thread Cert.Out0Ideal.nD Cert.Out0Ideal.τ).loc Cert.Out0Ideal.main_arg1)
          ∧ r.2.mem ((c.tc : Thread Cert.Out0Ideal.nD Cert.Out0Ideal.τ).loc Cert.Out0Ideal.main_arg2) = m ((c.tc : Thread Cert.Out0Ideal.nD Cert.Out0Ideal.τ).loc Cert.Out0Ideal.main_arg2))
      ∧ θ_run (Cert.Out0ReferenceIdeal.defs (F := Ideal)) (onTc (τ := Cert.Out0ReferenceIdeal.τ) (Cert.Out0ReferenceIdeal.main (F := Ideal))) ⟨m', fun _ => 0, g'⟩ (fun r => ∀ c : Dev Cert.Out0ReferenceIdeal.nD,
          r.2.mem ((c.tc : Thread Cert.Out0ReferenceIdeal.nD Cert.Out0ReferenceIdeal.τ).loc Cert.Out0ReferenceIdeal.main_v11) = v0 c
          ∧ r.2.mem ((c.tc : Thread Cert.Out0ReferenceIdeal.nD Cert.Out0ReferenceIdeal.τ).loc Cert.Out0ReferenceIdeal.main_arg0) = m' ((c.tc : Thread Cert.Out0ReferenceIdeal.nD Cert.Out0ReferenceIdeal.τ).loc Cert.Out0ReferenceIdeal.main_arg0)
          ∧ r.2.mem ((c.tc : Thread Cert.Out0ReferenceIdeal.nD Cert.Out0ReferenceIdeal.τ).loc Cert.Out0ReferenceIdeal.main_arg1) = m' ((c.tc : Thread Cert.Out0ReferenceIdeal.nD Cert.Out0ReferenceIdeal.τ).loc Cert.Out0ReferenceIdeal.main_arg1)
          ∧ r.2.mem ((c.tc : Thread Cert.Out0ReferenceIdeal.nD Cert.Out0ReferenceIdeal.τ).loc Cert.Out0ReferenceIdeal.main_arg2) = m' ((c.tc : Thread Cert.Out0ReferenceIdeal.nD Cert.Out0ReferenceIdeal.τ).loc Cert.Out0ReferenceIdeal.main_arg2))

def preserves_Dcat0_Dcat0Ideal : Prop :=
  True

def algebraic_Dcat0Ideal_Dcat0ReferenceIdeal [hDcat0Ideal : Cert.Dcat0Ideal.Facts] [hDcat0ReferenceIdeal : Cert.Dcat0ReferenceIdeal.Facts] : Prop :=
  ∀ (m : (ℓ : Loc Cert.Dcat0Ideal.nD Cert.Dcat0Ideal.τ Cert.Dcat0Ideal.sig) → Buf (Elt Ideal) ℓ) (g : Dev Cert.Dcat0Ideal.nD → PrngReg)
    (m' : (ℓ : Loc Cert.Dcat0ReferenceIdeal.nD Cert.Dcat0ReferenceIdeal.τ Cert.Dcat0ReferenceIdeal.sig) → Buf (Elt Ideal) ℓ) (g' : Dev Cert.Dcat0ReferenceIdeal.nD → PrngReg), Pre_Dcat0Ideal m →
    (∀ c : Dev Cert.Dcat0Ideal.nD,
      m' ((c.tc : Thread Cert.Dcat0ReferenceIdeal.nD Cert.Dcat0ReferenceIdeal.τ).loc Cert.Dcat0ReferenceIdeal.main_arg0) = m ((c.tc : Thread Cert.Dcat0Ideal.nD Cert.Dcat0Ideal.τ).loc Cert.Dcat0Ideal.main_arg0)
      ∧ m' ((c.tc : Thread Cert.Dcat0ReferenceIdeal.nD Cert.Dcat0ReferenceIdeal.τ).loc Cert.Dcat0ReferenceIdeal.main_arg1) = m ((c.tc : Thread Cert.Dcat0Ideal.nD Cert.Dcat0Ideal.τ).loc Cert.Dcat0Ideal.main_arg1)) →
    ∃ (v0 : (c : Dev Cert.Dcat0Ideal.nD) → Buf (Elt Ideal) ((c.tc : Thread Cert.Dcat0Ideal.nD Cert.Dcat0Ideal.τ).loc Cert.Dcat0Ideal.main_v1)),
      θ_run (Cert.Dcat0Ideal.defs (F := Ideal)) (onTc (τ := Cert.Dcat0Ideal.τ) (Cert.Dcat0Ideal.main (F := Ideal))) ⟨m, fun _ => 0, g⟩ (fun r => ∀ c : Dev Cert.Dcat0Ideal.nD,
          r.2.mem ((c.tc : Thread Cert.Dcat0Ideal.nD Cert.Dcat0Ideal.τ).loc Cert.Dcat0Ideal.main_v1) = v0 c
          ∧ r.2.mem ((c.tc : Thread Cert.Dcat0Ideal.nD Cert.Dcat0Ideal.τ).loc Cert.Dcat0Ideal.main_arg0) = m ((c.tc : Thread Cert.Dcat0Ideal.nD Cert.Dcat0Ideal.τ).loc Cert.Dcat0Ideal.main_arg0)
          ∧ r.2.mem ((c.tc : Thread Cert.Dcat0Ideal.nD Cert.Dcat0Ideal.τ).loc Cert.Dcat0Ideal.main_arg1) = m ((c.tc : Thread Cert.Dcat0Ideal.nD Cert.Dcat0Ideal.τ).loc Cert.Dcat0Ideal.main_arg1))
      ∧ θ_run (Cert.Dcat0ReferenceIdeal.defs (F := Ideal)) (onTc (τ := Cert.Dcat0ReferenceIdeal.τ) (Cert.Dcat0ReferenceIdeal.main (F := Ideal))) ⟨m', fun _ => 0, g'⟩ (fun r => ∀ c : Dev Cert.Dcat0ReferenceIdeal.nD,
          r.2.mem ((c.tc : Thread Cert.Dcat0ReferenceIdeal.nD Cert.Dcat0ReferenceIdeal.τ).loc Cert.Dcat0ReferenceIdeal.main_v12) = v0 c
          ∧ r.2.mem ((c.tc : Thread Cert.Dcat0ReferenceIdeal.nD Cert.Dcat0ReferenceIdeal.τ).loc Cert.Dcat0ReferenceIdeal.main_arg0) = m' ((c.tc : Thread Cert.Dcat0ReferenceIdeal.nD Cert.Dcat0ReferenceIdeal.τ).loc Cert.Dcat0ReferenceIdeal.main_arg0)
          ∧ r.2.mem ((c.tc : Thread Cert.Dcat0ReferenceIdeal.nD Cert.Dcat0ReferenceIdeal.τ).loc Cert.Dcat0ReferenceIdeal.main_arg1) = m' ((c.tc : Thread Cert.Dcat0ReferenceIdeal.nD Cert.Dcat0ReferenceIdeal.τ).loc Cert.Dcat0ReferenceIdeal.main_arg1))

def preserves_Dhsb0_Dhsb0Ideal : Prop :=
  True

def algebraic_Dhsb0Ideal_Dhsb0ReferenceIdeal [hDhsb0Ideal : Cert.Dhsb0Ideal.Facts] [hDhsb0ReferenceIdeal : Cert.Dhsb0ReferenceIdeal.Facts] : Prop :=
  ∀ (m : (ℓ : Loc Cert.Dhsb0Ideal.nD Cert.Dhsb0Ideal.τ Cert.Dhsb0Ideal.sig) → Buf (Elt Ideal) ℓ) (g : Dev Cert.Dhsb0Ideal.nD → PrngReg)
    (m' : (ℓ : Loc Cert.Dhsb0ReferenceIdeal.nD Cert.Dhsb0ReferenceIdeal.τ Cert.Dhsb0ReferenceIdeal.sig) → Buf (Elt Ideal) ℓ) (g' : Dev Cert.Dhsb0ReferenceIdeal.nD → PrngReg), Pre_Dhsb0Ideal m →
    (∀ c : Dev Cert.Dhsb0Ideal.nD,
      m' ((c.tc : Thread Cert.Dhsb0ReferenceIdeal.nD Cert.Dhsb0ReferenceIdeal.τ).loc Cert.Dhsb0ReferenceIdeal.main_arg0) = m ((c.tc : Thread Cert.Dhsb0Ideal.nD Cert.Dhsb0Ideal.τ).loc Cert.Dhsb0Ideal.main_arg0)
      ∧ m' ((c.tc : Thread Cert.Dhsb0ReferenceIdeal.nD Cert.Dhsb0ReferenceIdeal.τ).loc Cert.Dhsb0ReferenceIdeal.main_arg1) = m ((c.tc : Thread Cert.Dhsb0Ideal.nD Cert.Dhsb0Ideal.τ).loc Cert.Dhsb0Ideal.main_arg1)) →
    ∃ (v0 : (c : Dev Cert.Dhsb0Ideal.nD) → Buf (Elt Ideal) ((c.tc : Thread Cert.Dhsb0Ideal.nD Cert.Dhsb0Ideal.τ).loc Cert.Dhsb0Ideal.main_v1)),
      θ_run (Cert.Dhsb0Ideal.defs (F := Ideal)) (onTc (τ := Cert.Dhsb0Ideal.τ) (Cert.Dhsb0Ideal.main (F := Ideal))) ⟨m, fun _ => 0, g⟩ (fun r => ∀ c : Dev Cert.Dhsb0Ideal.nD,
          r.2.mem ((c.tc : Thread Cert.Dhsb0Ideal.nD Cert.Dhsb0Ideal.τ).loc Cert.Dhsb0Ideal.main_v1) = v0 c
          ∧ r.2.mem ((c.tc : Thread Cert.Dhsb0Ideal.nD Cert.Dhsb0Ideal.τ).loc Cert.Dhsb0Ideal.main_arg0) = m ((c.tc : Thread Cert.Dhsb0Ideal.nD Cert.Dhsb0Ideal.τ).loc Cert.Dhsb0Ideal.main_arg0)
          ∧ r.2.mem ((c.tc : Thread Cert.Dhsb0Ideal.nD Cert.Dhsb0Ideal.τ).loc Cert.Dhsb0Ideal.main_arg1) = m ((c.tc : Thread Cert.Dhsb0Ideal.nD Cert.Dhsb0Ideal.τ).loc Cert.Dhsb0Ideal.main_arg1))
      ∧ θ_run (Cert.Dhsb0ReferenceIdeal.defs (F := Ideal)) (onTc (τ := Cert.Dhsb0ReferenceIdeal.τ) (Cert.Dhsb0ReferenceIdeal.main (F := Ideal))) ⟨m', fun _ => 0, g'⟩ (fun r => ∀ c : Dev Cert.Dhsb0ReferenceIdeal.nD,
          r.2.mem ((c.tc : Thread Cert.Dhsb0ReferenceIdeal.nD Cert.Dhsb0ReferenceIdeal.τ).loc Cert.Dhsb0ReferenceIdeal.main_v12) = v0 c
          ∧ r.2.mem ((c.tc : Thread Cert.Dhsb0ReferenceIdeal.nD Cert.Dhsb0ReferenceIdeal.τ).loc Cert.Dhsb0ReferenceIdeal.main_arg0) = m' ((c.tc : Thread Cert.Dhsb0ReferenceIdeal.nD Cert.Dhsb0ReferenceIdeal.τ).loc Cert.Dhsb0ReferenceIdeal.main_arg0)
          ∧ r.2.mem ((c.tc : Thread Cert.Dhsb0ReferenceIdeal.nD Cert.Dhsb0ReferenceIdeal.τ).loc Cert.Dhsb0ReferenceIdeal.main_arg1) = m' ((c.tc : Thread Cert.Dhsb0ReferenceIdeal.nD Cert.Dhsb0ReferenceIdeal.τ).loc Cert.Dhsb0ReferenceIdeal.main_arg1))

def preserves_Dwin_DwinIdeal : Prop :=
  True

def algebraic_DwinIdeal_DwinReferenceIdeal [hDwinIdeal : Cert.DwinIdeal.Facts] [hDwinReferenceIdeal : Cert.DwinReferenceIdeal.Facts] : Prop :=
  ∀ (m : (ℓ : Loc Cert.DwinIdeal.nD Cert.DwinIdeal.τ Cert.DwinIdeal.sig) → Buf (Elt Ideal) ℓ) (g : Dev Cert.DwinIdeal.nD → PrngReg)
    (m' : (ℓ : Loc Cert.DwinReferenceIdeal.nD Cert.DwinReferenceIdeal.τ Cert.DwinReferenceIdeal.sig) → Buf (Elt Ideal) ℓ) (g' : Dev Cert.DwinReferenceIdeal.nD → PrngReg), Pre_DwinIdeal m →
    (∀ c : Dev Cert.DwinIdeal.nD,
      m' ((c.tc : Thread Cert.DwinReferenceIdeal.nD Cert.DwinReferenceIdeal.τ).loc Cert.DwinReferenceIdeal.main_arg0) = m ((c.tc : Thread Cert.DwinIdeal.nD Cert.DwinIdeal.τ).loc Cert.DwinIdeal.main_arg0)
      ∧ m' ((c.tc : Thread Cert.DwinReferenceIdeal.nD Cert.DwinReferenceIdeal.τ).loc Cert.DwinReferenceIdeal.main_arg1) = m ((c.tc : Thread Cert.DwinIdeal.nD Cert.DwinIdeal.τ).loc Cert.DwinIdeal.main_arg1)) →
    ∃ (v0 : (c : Dev Cert.DwinIdeal.nD) → Buf (Elt Ideal) ((c.tc : Thread Cert.DwinIdeal.nD Cert.DwinIdeal.τ).loc Cert.DwinIdeal.main_v1)),
      θ_run (Cert.DwinIdeal.defs (F := Ideal)) (onTc (τ := Cert.DwinIdeal.τ) (Cert.DwinIdeal.main (F := Ideal))) ⟨m, fun _ => 0, g⟩ (fun r => ∀ c : Dev Cert.DwinIdeal.nD,
          r.2.mem ((c.tc : Thread Cert.DwinIdeal.nD Cert.DwinIdeal.τ).loc Cert.DwinIdeal.main_v1) = v0 c
          ∧ r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
          ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ θ_run (Cert.DwinReferenceIdeal.defs (F := Ideal)) (onTc (τ := Cert.DwinReferenceIdeal.τ) (Cert.DwinReferenceIdeal.main (F := Ideal))) ⟨m', fun _ => 0, g'⟩ (fun r => ∀ c : Dev Cert.DwinReferenceIdeal.nD,
          r.2.mem ((c.tc : Thread Cert.DwinReferenceIdeal.nD Cert.DwinReferenceIdeal.τ).loc Cert.DwinReferenceIdeal.main_v13) = v0 c
          ∧ r.2.mem ((c.tc : Thread Cert.DwinReferenceIdeal.nD Cert.DwinReferenceIdeal.τ).loc Cert.DwinReferenceIdeal.main_arg0) = m' ((c.tc : Thread Cert.DwinReferenceIdeal.nD Cert.DwinReferenceIdeal.τ).loc Cert.DwinReferenceIdeal.main_arg0)
          ∧ r.2.mem ((c.tc : Thread Cert.DwinReferenceIdeal.nD Cert.DwinReferenceIdeal.τ).loc Cert.DwinReferenceIdeal.main_arg1) = m' ((c.tc : Thread Cert.DwinReferenceIdeal.nD Cert.DwinReferenceIdeal.τ).loc Cert.DwinReferenceIdeal.main_arg1))

def preserves_Dwout_DwoutIdeal : Prop :=
  True

def algebraic_DwoutIdeal_DwoutReferenceIdeal [hDwoutIdeal : Cert.DwoutIdeal.Facts] [hDwoutReferenceIdeal : Cert.DwoutReferenceIdeal.Facts] : Prop :=
  ∀ (m : (ℓ : Loc Cert.DwoutIdeal.nD Cert.DwoutIdeal.τ Cert.DwoutIdeal.sig) → Buf (Elt Ideal) ℓ) (g : Dev Cert.DwoutIdeal.nD → PrngReg)
    (m' : (ℓ : Loc Cert.DwoutReferenceIdeal.nD Cert.DwoutReferenceIdeal.τ Cert.DwoutReferenceIdeal.sig) → Buf (Elt Ideal) ℓ) (g' : Dev Cert.DwoutReferenceIdeal.nD → PrngReg), Pre_DwoutIdeal m →
    (∀ c : Dev Cert.DwoutIdeal.nD,
      m' ((c.tc : Thread Cert.DwoutReferenceIdeal.nD Cert.DwoutReferenceIdeal.τ).loc Cert.DwoutReferenceIdeal.main_arg0) = m ((c.tc : Thread Cert.DwoutIdeal.nD Cert.DwoutIdeal.τ).loc Cert.DwoutIdeal.main_arg0)
      ∧ m' ((c.tc : Thread Cert.DwoutReferenceIdeal.nD Cert.DwoutReferenceIdeal.τ).loc Cert.DwoutReferenceIdeal.main_arg1) = m ((c.tc : Thread Cert.DwoutIdeal.nD Cert.DwoutIdeal.τ).loc Cert.DwoutIdeal.main_arg1)) →
    ∃ (v0 : (c : Dev Cert.DwoutIdeal.nD) → Buf (Elt Ideal) ((c.tc : Thread Cert.DwoutIdeal.nD Cert.DwoutIdeal.τ).loc Cert.DwoutIdeal.main_v1)),
      θ_run (Cert.DwoutIdeal.defs (F := Ideal)) (onTc (τ := Cert.DwoutIdeal.τ) (Cert.DwoutIdeal.main (F := Ideal))) ⟨m, fun _ => 0, g⟩ (fun r => ∀ c : Dev Cert.DwoutIdeal.nD,
          r.2.mem ((c.tc : Thread Cert.DwoutIdeal.nD Cert.DwoutIdeal.τ).loc Cert.DwoutIdeal.main_v1) = v0 c
          ∧ r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
          ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ θ_run (Cert.DwoutReferenceIdeal.defs (F := Ideal)) (onTc (τ := Cert.DwoutReferenceIdeal.τ) (Cert.DwoutReferenceIdeal.main (F := Ideal))) ⟨m', fun _ => 0, g'⟩ (fun r => ∀ c : Dev Cert.DwoutReferenceIdeal.nD,
          r.2.mem ((c.tc : Thread Cert.DwoutReferenceIdeal.nD Cert.DwoutReferenceIdeal.τ).loc Cert.DwoutReferenceIdeal.main_v4) = v0 c
          ∧ r.2.mem ((c.tc : Thread Cert.DwoutReferenceIdeal.nD Cert.DwoutReferenceIdeal.τ).loc Cert.DwoutReferenceIdeal.main_arg0) = m' ((c.tc : Thread Cert.DwoutReferenceIdeal.nD Cert.DwoutReferenceIdeal.τ).loc Cert.DwoutReferenceIdeal.main_arg0)
          ∧ r.2.mem ((c.tc : Thread Cert.DwoutReferenceIdeal.nD Cert.DwoutReferenceIdeal.τ).loc Cert.DwoutReferenceIdeal.main_arg1) = m' ((c.tc : Thread Cert.DwoutReferenceIdeal.nD Cert.DwoutReferenceIdeal.τ).loc Cert.DwoutReferenceIdeal.main_arg1))

def preserves_Dgate_DgateIdeal : Prop :=
  True

def algebraic_DgateIdeal_DgateReferenceIdeal [hDgateIdeal : Cert.DgateIdeal.Facts] [hDgateReferenceIdeal : Cert.DgateReferenceIdeal.Facts] : Prop :=
  ∀ (m : (ℓ : Loc Cert.DgateIdeal.nD Cert.DgateIdeal.τ Cert.DgateIdeal.sig) → Buf (Elt Ideal) ℓ) (g : Dev Cert.DgateIdeal.nD → PrngReg)
    (m' : (ℓ : Loc Cert.DgateReferenceIdeal.nD Cert.DgateReferenceIdeal.τ Cert.DgateReferenceIdeal.sig) → Buf (Elt Ideal) ℓ) (g' : Dev Cert.DgateReferenceIdeal.nD → PrngReg), Pre_DgateIdeal m →
    (∀ c : Dev Cert.DgateIdeal.nD,
      m' ((c.tc : Thread Cert.DgateReferenceIdeal.nD Cert.DgateReferenceIdeal.τ).loc Cert.DgateReferenceIdeal.main_arg0) = m ((c.tc : Thread Cert.DgateIdeal.nD Cert.DgateIdeal.τ).loc Cert.DgateIdeal.main_arg0)
      ∧ m' ((c.tc : Thread Cert.DgateReferenceIdeal.nD Cert.DgateReferenceIdeal.τ).loc Cert.DgateReferenceIdeal.main_arg1) = m ((c.tc : Thread Cert.DgateIdeal.nD Cert.DgateIdeal.τ).loc Cert.DgateIdeal.main_arg1)
      ∧ m' ((c.tc : Thread Cert.DgateReferenceIdeal.nD Cert.DgateReferenceIdeal.τ).loc Cert.DgateReferenceIdeal.main_arg2) = m ((c.tc : Thread Cert.DgateIdeal.nD Cert.DgateIdeal.τ).loc Cert.DgateIdeal.main_arg2)) →
    ∃ (v0 : (c : Dev Cert.DgateIdeal.nD) → Buf (Elt Ideal) ((c.tc : Thread Cert.DgateIdeal.nD Cert.DgateIdeal.τ).loc Cert.DgateIdeal.main_v0_0)) (v1 : (c : Dev Cert.DgateIdeal.nD) → Buf (Elt Ideal) ((c.tc : Thread Cert.DgateIdeal.nD Cert.DgateIdeal.τ).loc Cert.DgateIdeal.main_v0_1)),
      θ_run (Cert.DgateIdeal.defs (F := Ideal)) (onTc (τ := Cert.DgateIdeal.τ) (Cert.DgateIdeal.main (F := Ideal))) ⟨m, fun _ => 0, g⟩ (fun r => ∀ c : Dev Cert.DgateIdeal.nD,
          r.2.mem ((c.tc : Thread Cert.DgateIdeal.nD Cert.DgateIdeal.τ).loc Cert.DgateIdeal.main_v0_0) = v0 c
          ∧ r.2.mem ((c.tc : Thread Cert.DgateIdeal.nD Cert.DgateIdeal.τ).loc Cert.DgateIdeal.main_v0_1) = v1 c
          ∧ r.2.mem ((c.tc : Thread Cert.DgateIdeal.nD Cert.DgateIdeal.τ).loc Cert.DgateIdeal.main_arg0) = m ((c.tc : Thread Cert.DgateIdeal.nD Cert.DgateIdeal.τ).loc Cert.DgateIdeal.main_arg0)
          ∧ r.2.mem ((c.tc : Thread Cert.DgateIdeal.nD Cert.DgateIdeal.τ).loc Cert.DgateIdeal.main_arg1) = m ((c.tc : Thread Cert.DgateIdeal.nD Cert.DgateIdeal.τ).loc Cert.DgateIdeal.main_arg1)
          ∧ r.2.mem ((c.tc : Thread Cert.DgateIdeal.nD Cert.DgateIdeal.τ).loc Cert.DgateIdeal.main_arg2) = m ((c.tc : Thread Cert.DgateIdeal.nD Cert.DgateIdeal.τ).loc Cert.DgateIdeal.main_arg2))
      ∧ θ_run (Cert.DgateReferenceIdeal.defs (F := Ideal)) (onTc (τ := Cert.DgateReferenceIdeal.τ) (Cert.DgateReferenceIdeal.main (F := Ideal))) ⟨m', fun _ => 0, g'⟩ (fun r => ∀ c : Dev Cert.DgateReferenceIdeal.nD,
          r.2.mem ((c.tc : Thread Cert.DgateReferenceIdeal.nD Cert.DgateReferenceIdeal.τ).loc Cert.DgateReferenceIdeal.main_v14) = v0 c
          ∧ r.2.mem ((c.tc : Thread Cert.DgateReferenceIdeal.nD Cert.DgateReferenceIdeal.τ).loc Cert.DgateReferenceIdeal.main_v12) = v1 c
          ∧ r.2.mem ((c.tc : Thread Cert.DgateReferenceIdeal.nD Cert.DgateReferenceIdeal.τ).loc Cert.DgateReferenceIdeal.main_arg0) = m' ((c.tc : Thread Cert.DgateReferenceIdeal.nD Cert.DgateReferenceIdeal.τ).loc Cert.DgateReferenceIdeal.main_arg0)
          ∧ r.2.mem ((c.tc : Thread Cert.DgateReferenceIdeal.nD Cert.DgateReferenceIdeal.τ).loc Cert.DgateReferenceIdeal.main_arg1) = m' ((c.tc : Thread Cert.DgateReferenceIdeal.nD Cert.DgateReferenceIdeal.τ).loc Cert.DgateReferenceIdeal.main_arg1)
          ∧ r.2.mem ((c.tc : Thread Cert.DgateReferenceIdeal.nD Cert.DgateReferenceIdeal.τ).loc Cert.DgateReferenceIdeal.main_arg2) = m' ((c.tc : Thread Cert.DgateReferenceIdeal.nD Cert.DgateReferenceIdeal.τ).loc Cert.DgateReferenceIdeal.main_arg2))

def preserves_Dwglu_DwgluIdeal : Prop :=
  True

def algebraic_DwgluIdeal_DwgluReferenceIdeal [hDwgluIdeal : Cert.DwgluIdeal.Facts] [hDwgluReferenceIdeal : Cert.DwgluReferenceIdeal.Facts] : Prop :=
  ∀ (m : (ℓ : Loc Cert.DwgluIdeal.nD Cert.DwgluIdeal.τ Cert.DwgluIdeal.sig) → Buf (Elt Ideal) ℓ) (g : Dev Cert.DwgluIdeal.nD → PrngReg)
    (m' : (ℓ : Loc Cert.DwgluReferenceIdeal.nD Cert.DwgluReferenceIdeal.τ Cert.DwgluReferenceIdeal.sig) → Buf (Elt Ideal) ℓ) (g' : Dev Cert.DwgluReferenceIdeal.nD → PrngReg), Pre_DwgluIdeal m →
    (∀ c : Dev Cert.DwgluIdeal.nD,
      m' ((c.tc : Thread Cert.DwgluReferenceIdeal.nD Cert.DwgluReferenceIdeal.τ).loc Cert.DwgluReferenceIdeal.main_arg0) = m ((c.tc : Thread Cert.DwgluIdeal.nD Cert.DwgluIdeal.τ).loc Cert.DwgluIdeal.main_arg0)
      ∧ m' ((c.tc : Thread Cert.DwgluReferenceIdeal.nD Cert.DwgluReferenceIdeal.τ).loc Cert.DwgluReferenceIdeal.main_arg1) = m ((c.tc : Thread Cert.DwgluIdeal.nD Cert.DwgluIdeal.τ).loc Cert.DwgluIdeal.main_arg1)) →
    ∃ (v0 : (c : Dev Cert.DwgluIdeal.nD) → Buf (Elt Ideal) ((c.tc : Thread Cert.DwgluIdeal.nD Cert.DwgluIdeal.τ).loc Cert.DwgluIdeal.main_v0)),
      θ_run (Cert.DwgluIdeal.defs (F := Ideal)) (onTc (τ := Cert.DwgluIdeal.τ) (Cert.DwgluIdeal.main (F := Ideal))) ⟨m, fun _ => 0, g⟩ (fun r => ∀ c : Dev Cert.DwgluIdeal.nD,
          r.2.mem ((c.tc : Thread Cert.DwgluIdeal.nD Cert.DwgluIdeal.τ).loc Cert.DwgluIdeal.main_v0) = v0 c
          ∧ r.2.mem ((c.tc : Thread Cert.DwgluIdeal.nD Cert.DwgluIdeal.τ).loc Cert.DwgluIdeal.main_arg0) = m ((c.tc : Thread Cert.DwgluIdeal.nD Cert.DwgluIdeal.τ).loc Cert.DwgluIdeal.main_arg0)
          ∧ r.2.mem ((c.tc : Thread Cert.DwgluIdeal.nD Cert.DwgluIdeal.τ).loc Cert.DwgluIdeal.main_arg1) = m ((c.tc : Thread Cert.DwgluIdeal.nD Cert.DwgluIdeal.τ).loc Cert.DwgluIdeal.main_arg1))
      ∧ θ_run (Cert.DwgluReferenceIdeal.defs (F := Ideal)) (onTc (τ := Cert.DwgluReferenceIdeal.τ) (Cert.DwgluReferenceIdeal.main (F := Ideal))) ⟨m', fun _ => 0, g'⟩ (fun r => ∀ c : Dev Cert.DwgluReferenceIdeal.nD,
          r.2.mem ((c.tc : Thread Cert.DwgluReferenceIdeal.nD Cert.DwgluReferenceIdeal.τ).loc Cert.DwgluReferenceIdeal.main_v4) = v0 c
          ∧ r.2.mem ((c.tc : Thread Cert.DwgluReferenceIdeal.nD Cert.DwgluReferenceIdeal.τ).loc Cert.DwgluReferenceIdeal.main_arg0) = m' ((c.tc : Thread Cert.DwgluReferenceIdeal.nD Cert.DwgluReferenceIdeal.τ).loc Cert.DwgluReferenceIdeal.main_arg0)
          ∧ r.2.mem ((c.tc : Thread Cert.DwgluReferenceIdeal.nD Cert.DwgluReferenceIdeal.τ).loc Cert.DwgluReferenceIdeal.main_arg1) = m' ((c.tc : Thread Cert.DwgluReferenceIdeal.nD Cert.DwgluReferenceIdeal.τ).loc Cert.DwgluReferenceIdeal.main_arg1))

def preserves_Glu_GluIdeal : Prop :=
  True

def algebraic_GluIdeal_GluReferenceIdeal [hGluIdeal : Cert.GluIdeal.Facts] [hGluReferenceIdeal : Cert.GluReferenceIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluIdeal m →
    (∀ c : Dev Cert.GluIdeal.nD,
      m' ((c.tc : Thread Cert.GluReferenceIdeal.nD Cert.GluReferenceIdeal.τ).loc Cert.GluReferenceIdeal.main_arg0) = m ((c.tc : Thread Cert.GluIdeal.nD Cert.GluIdeal.τ).loc Cert.GluIdeal.main_arg0)
      ∧ m' ((c.tc : Thread Cert.GluReferenceIdeal.nD Cert.GluReferenceIdeal.τ).loc Cert.GluReferenceIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v0_0)) (v1 : (c : Dev Cert.GluIdeal.nD) → Buf (Elt Ideal) ((c.tc : Thread Cert.GluIdeal.nD Cert.GluIdeal.τ).loc Cert.GluIdeal.main_v0_1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0_0) = v0 c
          ∧ r.2.mem ((c.tc : Thread Cert.GluIdeal.nD Cert.GluIdeal.τ).loc Cert.GluIdeal.main_v0_1) = v1 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v10) = v0 c
          ∧ r.2.mem ((c.tc : Thread Cert.GluReferenceIdeal.nD Cert.GluReferenceIdeal.τ).loc Cert.GluReferenceIdeal.main_v17) = v1 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1))

def preserves_Glu0_Glu0Ideal : Prop :=
  True

def algebraic_Glu0Ideal_Glu0ReferenceIdeal [hGlu0Ideal : Cert.Glu0Ideal.Facts] [hGlu0ReferenceIdeal : Cert.Glu0ReferenceIdeal.Facts] : Prop :=
  ∀ (m : (ℓ : Loc Cert.Glu0Ideal.nD Cert.Glu0Ideal.τ Cert.Glu0Ideal.sig) → Buf (Elt Ideal) ℓ) (g : Dev Cert.Glu0Ideal.nD → PrngReg)
    (m' : (ℓ : Loc Cert.Glu0ReferenceIdeal.nD Cert.Glu0ReferenceIdeal.τ Cert.Glu0ReferenceIdeal.sig) → Buf (Elt Ideal) ℓ) (g' : Dev Cert.Glu0ReferenceIdeal.nD → PrngReg), Pre_Glu0Ideal m →
    (∀ c : Dev Cert.Glu0Ideal.nD,
      m' ((c.tc : Thread Cert.Glu0ReferenceIdeal.nD Cert.Glu0ReferenceIdeal.τ).loc Cert.Glu0ReferenceIdeal.main_arg0) = m ((c.tc : Thread Cert.Glu0Ideal.nD Cert.Glu0Ideal.τ).loc Cert.Glu0Ideal.main_arg0)
      ∧ m' ((c.tc : Thread Cert.Glu0ReferenceIdeal.nD Cert.Glu0ReferenceIdeal.τ).loc Cert.Glu0ReferenceIdeal.main_arg1) = m ((c.tc : Thread Cert.Glu0Ideal.nD Cert.Glu0Ideal.τ).loc Cert.Glu0Ideal.main_arg1)) →
    ∃ (v0 : (c : Dev Cert.Glu0Ideal.nD) → Buf (Elt Ideal) ((c.tc : Thread Cert.Glu0Ideal.nD Cert.Glu0Ideal.τ).loc Cert.Glu0Ideal.main_v0_0)) (v1 : (c : Dev Cert.Glu0Ideal.nD) → Buf (Elt Ideal) ((c.tc : Thread Cert.Glu0Ideal.nD Cert.Glu0Ideal.τ).loc Cert.Glu0Ideal.main_v0_1)),
      θ_run (Cert.Glu0Ideal.defs (F := Ideal)) (onTc (τ := Cert.Glu0Ideal.τ) (Cert.Glu0Ideal.main (F := Ideal))) ⟨m, fun _ => 0, g⟩ (fun r => ∀ c : Dev Cert.Glu0Ideal.nD,
          r.2.mem ((c.tc : Thread Cert.Glu0Ideal.nD Cert.Glu0Ideal.τ).loc Cert.Glu0Ideal.main_v0_0) = v0 c
          ∧ r.2.mem ((c.tc : Thread Cert.Glu0Ideal.nD Cert.Glu0Ideal.τ).loc Cert.Glu0Ideal.main_v0_1) = v1 c
          ∧ r.2.mem ((c.tc : Thread Cert.Glu0Ideal.nD Cert.Glu0Ideal.τ).loc Cert.Glu0Ideal.main_arg0) = m ((c.tc : Thread Cert.Glu0Ideal.nD Cert.Glu0Ideal.τ).loc Cert.Glu0Ideal.main_arg0)
          ∧ r.2.mem ((c.tc : Thread Cert.Glu0Ideal.nD Cert.Glu0Ideal.τ).loc Cert.Glu0Ideal.main_arg1) = m ((c.tc : Thread Cert.Glu0Ideal.nD Cert.Glu0Ideal.τ).loc Cert.Glu0Ideal.main_arg1))
      ∧ θ_run (Cert.Glu0ReferenceIdeal.defs (F := Ideal)) (onTc (τ := Cert.Glu0ReferenceIdeal.τ) (Cert.Glu0ReferenceIdeal.main (F := Ideal))) ⟨m', fun _ => 0, g'⟩ (fun r => ∀ c : Dev Cert.Glu0ReferenceIdeal.nD,
          r.2.mem ((c.tc : Thread Cert.Glu0ReferenceIdeal.nD Cert.Glu0ReferenceIdeal.τ).loc Cert.Glu0ReferenceIdeal.main_v10) = v0 c
          ∧ r.2.mem ((c.tc : Thread Cert.Glu0ReferenceIdeal.nD Cert.Glu0ReferenceIdeal.τ).loc Cert.Glu0ReferenceIdeal.main_v17) = v1 c
          ∧ r.2.mem ((c.tc : Thread Cert.Glu0ReferenceIdeal.nD Cert.Glu0ReferenceIdeal.τ).loc Cert.Glu0ReferenceIdeal.main_arg0) = m' ((c.tc : Thread Cert.Glu0ReferenceIdeal.nD Cert.Glu0ReferenceIdeal.τ).loc Cert.Glu0ReferenceIdeal.main_arg0)
          ∧ r.2.mem ((c.tc : Thread Cert.Glu0ReferenceIdeal.nD Cert.Glu0ReferenceIdeal.τ).loc Cert.Glu0ReferenceIdeal.main_arg1) = m' ((c.tc : Thread Cert.Glu0ReferenceIdeal.nD Cert.Glu0ReferenceIdeal.τ).loc Cert.Glu0ReferenceIdeal.main_arg1))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v15) = v0 c
          ∧ r.2.mem ((c.tc : Thread Cert.LossReferenceIdeal.nD Cert.LossReferenceIdeal.τ).loc Cert.LossReferenceIdeal.main_v14) = v1 c
          ∧ r.2.mem ((c.tc : Thread Cert.LossReferenceIdeal.nD Cert.LossReferenceIdeal.τ).loc Cert.LossReferenceIdeal.main_v16) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_AdamGu_AdamGuIdeal : Prop :=
  IdealRules.named_const.Statement Cert.AdamGuIdeal.κ "inv_bias1" .f32 0x3FC48605#32 ((8388608 / 5463681 : ℝ) : EReal)
  ∧ IdealRules.named_const.Statement Cert.AdamGuIdeal.κ "inv_bias2" .f32 0x42C8E6D3#32 ((268435456 / 2672307 : ℝ) : EReal)

def algebraic_AdamGuIdeal_AdamGuReferenceIdeal [hAdamGuIdeal : Cert.AdamGuIdeal.Facts] [hAdamGuReferenceIdeal : Cert.AdamGuReferenceIdeal.Facts] : Prop :=
  ∀ (m : (ℓ : Loc Cert.AdamGuIdeal.nD Cert.AdamGuIdeal.τ Cert.AdamGuIdeal.sig) → Buf (Elt Ideal) ℓ) (g : Dev Cert.AdamGuIdeal.nD → PrngReg)
    (m' : (ℓ : Loc Cert.AdamGuReferenceIdeal.nD Cert.AdamGuReferenceIdeal.τ Cert.AdamGuReferenceIdeal.sig) → Buf (Elt Ideal) ℓ) (g' : Dev Cert.AdamGuReferenceIdeal.nD → PrngReg), Pre_AdamGuIdeal m →
    (∀ c : Dev Cert.AdamGuIdeal.nD,
      m' ((c.tc : Thread Cert.AdamGuReferenceIdeal.nD Cert.AdamGuReferenceIdeal.τ).loc Cert.AdamGuReferenceIdeal.main_arg0) = m ((c.tc : Thread Cert.AdamGuIdeal.nD Cert.AdamGuIdeal.τ).loc Cert.AdamGuIdeal.main_arg0)
      ∧ m' ((c.tc : Thread Cert.AdamGuReferenceIdeal.nD Cert.AdamGuReferenceIdeal.τ).loc Cert.AdamGuReferenceIdeal.main_arg1) = m ((c.tc : Thread Cert.AdamGuIdeal.nD Cert.AdamGuIdeal.τ).loc Cert.AdamGuIdeal.main_arg1)
      ∧ m' ((c.tc : Thread Cert.AdamGuReferenceIdeal.nD Cert.AdamGuReferenceIdeal.τ).loc Cert.AdamGuReferenceIdeal.main_arg2) = m ((c.tc : Thread Cert.AdamGuIdeal.nD Cert.AdamGuIdeal.τ).loc Cert.AdamGuIdeal.main_arg2)
      ∧ m' ((c.tc : Thread Cert.AdamGuReferenceIdeal.nD Cert.AdamGuReferenceIdeal.τ).loc Cert.AdamGuReferenceIdeal.main_arg3) = m ((c.tc : Thread Cert.AdamGuIdeal.nD Cert.AdamGuIdeal.τ).loc Cert.AdamGuIdeal.main_arg3)) →
    ∃ (v0 : (c : Dev Cert.AdamGuIdeal.nD) → Buf (Elt Ideal) ((c.tc : Thread Cert.AdamGuIdeal.nD Cert.AdamGuIdeal.τ).loc Cert.AdamGuIdeal.main_v4_0)) (v1 : (c : Dev Cert.AdamGuIdeal.nD) → Buf (Elt Ideal) ((c.tc : Thread Cert.AdamGuIdeal.nD Cert.AdamGuIdeal.τ).loc Cert.AdamGuIdeal.main_v4_1)) (v2 : (c : Dev Cert.AdamGuIdeal.nD) → Buf (Elt Ideal) ((c.tc : Thread Cert.AdamGuIdeal.nD Cert.AdamGuIdeal.τ).loc Cert.AdamGuIdeal.main_v4_2)),
      θ_run (Cert.AdamGuIdeal.defs (F := Ideal)) (onTc (τ := Cert.AdamGuIdeal.τ) (Cert.AdamGuIdeal.main (F := Ideal))) ⟨m, fun _ => 0, g⟩ (fun r => ∀ c : Dev Cert.AdamGuIdeal.nD,
          r.2.mem ((c.tc : Thread Cert.AdamGuIdeal.nD Cert.AdamGuIdeal.τ).loc Cert.AdamGuIdeal.main_v4_0) = v0 c
          ∧ r.2.mem ((c.tc : Thread Cert.AdamGuIdeal.nD Cert.AdamGuIdeal.τ).loc Cert.AdamGuIdeal.main_v4_1) = v1 c
          ∧ r.2.mem ((c.tc : Thread Cert.AdamGuIdeal.nD Cert.AdamGuIdeal.τ).loc Cert.AdamGuIdeal.main_v4_2) = v2 c
          ∧ r.2.mem ((c.tc : Thread Cert.AdamGuIdeal.nD Cert.AdamGuIdeal.τ).loc Cert.AdamGuIdeal.main_arg0) = m ((c.tc : Thread Cert.AdamGuIdeal.nD Cert.AdamGuIdeal.τ).loc Cert.AdamGuIdeal.main_arg0)
          ∧ r.2.mem ((c.tc : Thread Cert.AdamGuIdeal.nD Cert.AdamGuIdeal.τ).loc Cert.AdamGuIdeal.main_arg1) = m ((c.tc : Thread Cert.AdamGuIdeal.nD Cert.AdamGuIdeal.τ).loc Cert.AdamGuIdeal.main_arg1)
          ∧ r.2.mem ((c.tc : Thread Cert.AdamGuIdeal.nD Cert.AdamGuIdeal.τ).loc Cert.AdamGuIdeal.main_arg2) = m ((c.tc : Thread Cert.AdamGuIdeal.nD Cert.AdamGuIdeal.τ).loc Cert.AdamGuIdeal.main_arg2)
          ∧ r.2.mem ((c.tc : Thread Cert.AdamGuIdeal.nD Cert.AdamGuIdeal.τ).loc Cert.AdamGuIdeal.main_arg3) = m ((c.tc : Thread Cert.AdamGuIdeal.nD Cert.AdamGuIdeal.τ).loc Cert.AdamGuIdeal.main_arg3))
      ∧ θ_run (Cert.AdamGuReferenceIdeal.defs (F := Ideal)) (onTc (τ := Cert.AdamGuReferenceIdeal.τ) (Cert.AdamGuReferenceIdeal.main (F := Ideal))) ⟨m', fun _ => 0, g'⟩ (fun r => ∀ c : Dev Cert.AdamGuReferenceIdeal.nD,
          r.2.mem ((c.tc : Thread Cert.AdamGuReferenceIdeal.nD Cert.AdamGuReferenceIdeal.τ).loc Cert.AdamGuReferenceIdeal.main_v24) = v0 c
          ∧ r.2.mem ((c.tc : Thread Cert.AdamGuReferenceIdeal.nD Cert.AdamGuReferenceIdeal.τ).loc Cert.AdamGuReferenceIdeal.main_v25) = v1 c
          ∧ r.2.mem ((c.tc : Thread Cert.AdamGuReferenceIdeal.nD Cert.AdamGuReferenceIdeal.τ).loc Cert.AdamGuReferenceIdeal.main_v26) = v2 c
          ∧ r.2.mem ((c.tc : Thread Cert.AdamGuReferenceIdeal.nD Cert.AdamGuReferenceIdeal.τ).loc Cert.AdamGuReferenceIdeal.main_arg0) = m' ((c.tc : Thread Cert.AdamGuReferenceIdeal.nD Cert.AdamGuReferenceIdeal.τ).loc Cert.AdamGuReferenceIdeal.main_arg0)
          ∧ r.2.mem ((c.tc : Thread Cert.AdamGuReferenceIdeal.nD Cert.AdamGuReferenceIdeal.τ).loc Cert.AdamGuReferenceIdeal.main_arg1) = m' ((c.tc : Thread Cert.AdamGuReferenceIdeal.nD Cert.AdamGuReferenceIdeal.τ).loc Cert.AdamGuReferenceIdeal.main_arg1)
          ∧ r.2.mem ((c.tc : Thread Cert.AdamGuReferenceIdeal.nD Cert.AdamGuReferenceIdeal.τ).loc Cert.AdamGuReferenceIdeal.main_arg2) = m' ((c.tc : Thread Cert.AdamGuReferenceIdeal.nD Cert.AdamGuReferenceIdeal.τ).loc Cert.AdamGuReferenceIdeal.main_arg2)
          ∧ r.2.mem ((c.tc : Thread Cert.AdamGuReferenceIdeal.nD Cert.AdamGuReferenceIdeal.τ).loc Cert.AdamGuReferenceIdeal.main_arg3) = m' ((c.tc : Thread Cert.AdamGuReferenceIdeal.nD Cert.AdamGuReferenceIdeal.τ).loc Cert.AdamGuReferenceIdeal.main_arg3))

def preserves_AdamDown_AdamDownIdeal : Prop :=
  IdealRules.named_const.Statement Cert.AdamDownIdeal.κ "inv_bias1" .f32 0x3FC48605#32 ((8388608 / 5463681 : ℝ) : EReal)
  ∧ IdealRules.named_const.Statement Cert.AdamDownIdeal.κ "inv_bias2" .f32 0x42C8E6D3#32 ((268435456 / 2672307 : ℝ) : EReal)

def algebraic_AdamDownIdeal_AdamDownReferenceIdeal [hAdamDownIdeal : Cert.AdamDownIdeal.Facts] [hAdamDownReferenceIdeal : Cert.AdamDownReferenceIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownReferenceIdeal.nD Cert.AdamDownReferenceIdeal.τ Cert.AdamDownReferenceIdeal.sig) → Buf (Elt Ideal) ℓ) (g' : Dev Cert.AdamDownReferenceIdeal.nD → PrngReg), Pre_AdamDownIdeal m →
    (∀ c : Dev Cert.AdamDownIdeal.nD,
      m' ((c.tc : Thread Cert.AdamDownReferenceIdeal.nD Cert.AdamDownReferenceIdeal.τ).loc Cert.AdamDownReferenceIdeal.main_arg0) = m ((c.tc : Thread Cert.AdamDownIdeal.nD Cert.AdamDownIdeal.τ).loc Cert.AdamDownIdeal.main_arg0)
      ∧ m' ((c.tc : Thread Cert.AdamDownReferenceIdeal.nD Cert.AdamDownReferenceIdeal.τ).loc Cert.AdamDownReferenceIdeal.main_arg1) = m ((c.tc : Thread Cert.AdamDownIdeal.nD Cert.AdamDownIdeal.τ).loc Cert.AdamDownIdeal.main_arg1)
      ∧ m' ((c.tc : Thread Cert.AdamDownReferenceIdeal.nD Cert.AdamDownReferenceIdeal.τ).loc Cert.AdamDownReferenceIdeal.main_arg2) = m ((c.tc : Thread Cert.AdamDownIdeal.nD Cert.AdamDownIdeal.τ).loc Cert.AdamDownIdeal.main_arg2)
      ∧ m' ((c.tc : Thread Cert.AdamDownReferenceIdeal.nD Cert.AdamDownReferenceIdeal.τ).loc Cert.AdamDownReferenceIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v4_0)) (v1 : (c : Dev Cert.AdamDownIdeal.nD) → Buf (Elt Ideal) ((c.tc : Thread Cert.AdamDownIdeal.nD Cert.AdamDownIdeal.τ).loc Cert.AdamDownIdeal.main_v4_1)) (v2 : (c : Dev Cert.AdamDownIdeal.nD) → Buf (Elt Ideal) ((c.tc : Thread Cert.AdamDownIdeal.nD Cert.AdamDownIdeal.τ).loc Cert.AdamDownIdeal.main_v4_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v4_0) = v0 c
          ∧ r.2.mem ((c.tc : Thread Cert.AdamDownIdeal.nD Cert.AdamDownIdeal.τ).loc Cert.AdamDownIdeal.main_v4_1) = v1 c
          ∧ r.2.mem ((c.tc : Thread Cert.AdamDownIdeal.nD Cert.AdamDownIdeal.τ).loc Cert.AdamDownIdeal.main_v4_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownReferenceIdeal.defs (F := Ideal)) (onTc (τ := Cert.AdamDownReferenceIdeal.τ) (Cert.AdamDownReferenceIdeal.main (F := Ideal))) ⟨m', fun _ => 0, g'⟩ (fun r => ∀ c : Dev Cert.AdamDownReferenceIdeal.nD,
          r.2.mem ((c.tc : Thread Cert.AdamDownReferenceIdeal.nD Cert.AdamDownReferenceIdeal.τ).loc Cert.AdamDownReferenceIdeal.main_v24) = v0 c
          ∧ r.2.mem ((c.tc : Thread Cert.AdamDownReferenceIdeal.nD Cert.AdamDownReferenceIdeal.τ).loc Cert.AdamDownReferenceIdeal.main_v25) = v1 c
          ∧ r.2.mem ((c.tc : Thread Cert.AdamDownReferenceIdeal.nD Cert.AdamDownReferenceIdeal.τ).loc Cert.AdamDownReferenceIdeal.main_v26) = v2 c
          ∧ r.2.mem ((c.tc : Thread Cert.AdamDownReferenceIdeal.nD Cert.AdamDownReferenceIdeal.τ).loc Cert.AdamDownReferenceIdeal.main_arg0) = m' ((c.tc : Thread Cert.AdamDownReferenceIdeal.nD Cert.AdamDownReferenceIdeal.τ).loc Cert.AdamDownReferenceIdeal.main_arg0)
          ∧ r.2.mem ((c.tc : Thread Cert.AdamDownReferenceIdeal.nD Cert.AdamDownReferenceIdeal.τ).loc Cert.AdamDownReferenceIdeal.main_arg1) = m' ((c.tc : Thread Cert.AdamDownReferenceIdeal.nD Cert.AdamDownReferenceIdeal.τ).loc Cert.AdamDownReferenceIdeal.main_arg1)
          ∧ r.2.mem ((c.tc : Thread Cert.AdamDownReferenceIdeal.nD Cert.AdamDownReferenceIdeal.τ).loc Cert.AdamDownReferenceIdeal.main_arg2) = m' ((c.tc : Thread Cert.AdamDownReferenceIdeal.nD Cert.AdamDownReferenceIdeal.τ).loc Cert.AdamDownReferenceIdeal.main_arg2)
          ∧ r.2.mem ((c.tc : Thread Cert.AdamDownReferenceIdeal.nD Cert.AdamDownReferenceIdeal.τ).loc Cert.AdamDownReferenceIdeal.main_arg3) = m' ((c.tc : Thread Cert.AdamDownReferenceIdeal.nD Cert.AdamDownReferenceIdeal.τ).loc Cert.AdamDownReferenceIdeal.main_arg3))

def preserves_AdamKv_AdamKvIdeal : Prop :=
  IdealRules.named_const.Statement Cert.AdamKvIdeal.κ "inv_bias1" .f32 0x3FC48605#32 ((8388608 / 5463681 : ℝ) : EReal)
  ∧ IdealRules.named_const.Statement Cert.AdamKvIdeal.κ "inv_bias2" .f32 0x42C8E6D3#32 ((268435456 / 2672307 : ℝ) : EReal)

def algebraic_AdamKvIdeal_AdamKvReferenceIdeal [hAdamKvIdeal : Cert.AdamKvIdeal.Facts] [hAdamKvReferenceIdeal : Cert.AdamKvReferenceIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvReferenceIdeal.nD Cert.AdamKvReferenceIdeal.τ Cert.AdamKvReferenceIdeal.sig) → Buf (Elt Ideal) ℓ) (g' : Dev Cert.AdamKvReferenceIdeal.nD → PrngReg), Pre_AdamKvIdeal m →
    (∀ c : Dev Cert.AdamKvIdeal.nD,
      m' ((c.tc : Thread Cert.AdamKvReferenceIdeal.nD Cert.AdamKvReferenceIdeal.τ).loc Cert.AdamKvReferenceIdeal.main_arg0) = m ((c.tc : Thread Cert.AdamKvIdeal.nD Cert.AdamKvIdeal.τ).loc Cert.AdamKvIdeal.main_arg0)
      ∧ m' ((c.tc : Thread Cert.AdamKvReferenceIdeal.nD Cert.AdamKvReferenceIdeal.τ).loc Cert.AdamKvReferenceIdeal.main_arg1) = m ((c.tc : Thread Cert.AdamKvIdeal.nD Cert.AdamKvIdeal.τ).loc Cert.AdamKvIdeal.main_arg1)
      ∧ m' ((c.tc : Thread Cert.AdamKvReferenceIdeal.nD Cert.AdamKvReferenceIdeal.τ).loc Cert.AdamKvReferenceIdeal.main_arg2) = m ((c.tc : Thread Cert.AdamKvIdeal.nD Cert.AdamKvIdeal.τ).loc Cert.AdamKvIdeal.main_arg2)
      ∧ m' ((c.tc : Thread Cert.AdamKvReferenceIdeal.nD Cert.AdamKvReferenceIdeal.τ).loc Cert.AdamKvReferenceIdeal.main_arg3) = m ((c.tc : Thread Cert.AdamKvIdeal.nD Cert.AdamKvIdeal.τ).loc Cert.AdamKvIdeal.main_arg3)) →
    ∃ (v0 : (c : Dev Cert.AdamKvIdeal.nD) → Buf (Elt Ideal) ((c.tc : Thread Cert.AdamKvIdeal.nD Cert.AdamKvIdeal.τ).loc Cert.AdamKvIdeal.main_v4_0)) (v1 : (c : Dev Cert.AdamKvIdeal.nD) → Buf (Elt Ideal) ((c.tc : Thread Cert.AdamKvIdeal.nD Cert.AdamKvIdeal.τ).loc Cert.AdamKvIdeal.main_v4_1)) (v2 : (c : Dev Cert.AdamKvIdeal.nD) → Buf (Elt Ideal) ((c.tc : Thread Cert.AdamKvIdeal.nD Cert.AdamKvIdeal.τ).loc Cert.AdamKvIdeal.main_v4_2)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v4_0) = v0 c
          ∧ r.2.mem ((c.tc : Thread Cert.AdamKvIdeal.nD Cert.AdamKvIdeal.τ).loc Cert.AdamKvIdeal.main_v4_1) = v1 c
          ∧ r.2.mem ((c.tc : Thread Cert.AdamKvIdeal.nD Cert.AdamKvIdeal.τ).loc Cert.AdamKvIdeal.main_v4_2) = v2 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ θ_run (Cert.AdamKvReferenceIdeal.defs (F := Ideal)) (onTc (τ := Cert.AdamKvReferenceIdeal.τ) (Cert.AdamKvReferenceIdeal.main (F := Ideal))) ⟨m', fun _ => 0, g'⟩ (fun r => ∀ c : Dev Cert.AdamKvReferenceIdeal.nD,
          r.2.mem ((c.tc : Thread Cert.AdamKvReferenceIdeal.nD Cert.AdamKvReferenceIdeal.τ).loc Cert.AdamKvReferenceIdeal.main_v24) = v0 c
          ∧ r.2.mem ((c.tc : Thread Cert.AdamKvReferenceIdeal.nD Cert.AdamKvReferenceIdeal.τ).loc Cert.AdamKvReferenceIdeal.main_v25) = v1 c
          ∧ r.2.mem ((c.tc : Thread Cert.AdamKvReferenceIdeal.nD Cert.AdamKvReferenceIdeal.τ).loc Cert.AdamKvReferenceIdeal.main_v26) = v2 c
          ∧ r.2.mem ((c.tc : Thread Cert.AdamKvReferenceIdeal.nD Cert.AdamKvReferenceIdeal.τ).loc Cert.AdamKvReferenceIdeal.main_arg0) = m' ((c.tc : Thread Cert.AdamKvReferenceIdeal.nD Cert.AdamKvReferenceIdeal.τ).loc Cert.AdamKvReferenceIdeal.main_arg0)
          ∧ r.2.mem ((c.tc : Thread Cert.AdamKvReferenceIdeal.nD Cert.AdamKvReferenceIdeal.τ).loc Cert.AdamKvReferenceIdeal.main_arg1) = m' ((c.tc : Thread Cert.AdamKvReferenceIdeal.nD Cert.AdamKvReferenceIdeal.τ).loc Cert.AdamKvReferenceIdeal.main_arg1)
          ∧ r.2.mem ((c.tc : Thread Cert.AdamKvReferenceIdeal.nD Cert.AdamKvReferenceIdeal.τ).loc Cert.AdamKvReferenceIdeal.main_arg2) = m' ((c.tc : Thread Cert.AdamKvReferenceIdeal.nD Cert.AdamKvReferenceIdeal.τ).loc Cert.AdamKvReferenceIdeal.main_arg2)
          ∧ r.2.mem ((c.tc : Thread Cert.AdamKvReferenceIdeal.nD Cert.AdamKvReferenceIdeal.τ).loc Cert.AdamKvReferenceIdeal.main_arg3) = m' ((c.tc : Thread Cert.AdamKvReferenceIdeal.nD Cert.AdamKvReferenceIdeal.τ).loc Cert.AdamKvReferenceIdeal.main_arg3))

def preserves_AdamOut_AdamOutIdeal : Prop :=
  IdealRules.named_const.Statement Cert.AdamOutIdeal.κ "inv_bias1" .f32 0x3FC48605#32 ((8388608 / 5463681 : ℝ) : EReal)
  ∧ IdealRules.named_const.Statement Cert.AdamOutIdeal.κ "inv_bias2" .f32 0x42C8E6D3#32 ((268435456 / 2672307 : ℝ) : EReal)

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v4_0)) (v1 : (c : Dev Cert.AdamOutIdeal.nD) → Buf (Elt Ideal) ((c.tc : Thread Cert.AdamOutIdeal.nD Cert.AdamOutIdeal.τ).loc Cert.AdamOutIdeal.main_v4_1)) (v2 : (c : Dev Cert.AdamOutIdeal.nD) → Buf (Elt Ideal) ((c.tc : Thread Cert.AdamOutIdeal.nD Cert.AdamOutIdeal.τ).loc Cert.AdamOutIdeal.main_v4_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v4_0) = v0 c
          ∧ r.2.mem ((c.tc : Thread Cert.AdamOutIdeal.nD Cert.AdamOutIdeal.τ).loc Cert.AdamOutIdeal.main_v4_1) = v1 c
          ∧ r.2.mem ((c.tc : Thread Cert.AdamOutIdeal.nD Cert.AdamOutIdeal.τ).loc Cert.AdamOutIdeal.main_v4_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v24) = v0 c
          ∧ r.2.mem ((c.tc : Thread Cert.AdamOutReferenceIdeal.nD Cert.AdamOutReferenceIdeal.τ).loc Cert.AdamOutReferenceIdeal.main_v25) = v1 c
          ∧ r.2.mem ((c.tc : Thread Cert.AdamOutReferenceIdeal.nD Cert.AdamOutReferenceIdeal.τ).loc Cert.AdamOutReferenceIdeal.main_v26) = v2 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3))

def preserves_AdamSbin_AdamSbinIdeal : Prop :=
  IdealRules.named_const.Statement Cert.AdamSbinIdeal.κ "inv_bias1" .f32 0x3FC48605#32 ((8388608 / 5463681 : ℝ) : EReal)
  ∧ IdealRules.named_const.Statement Cert.AdamSbinIdeal.κ "inv_bias2" .f32 0x42C8E6D3#32 ((268435456 / 2672307 : ℝ) : EReal)

def algebraic_AdamSbinIdeal_AdamSbinReferenceIdeal [hAdamSbinIdeal : Cert.AdamSbinIdeal.Facts] [hAdamSbinReferenceIdeal : Cert.AdamSbinReferenceIdeal.Facts] : Prop :=
  ∀ (m : (ℓ : Loc Cert.AdamSbinIdeal.nD Cert.AdamSbinIdeal.τ Cert.AdamSbinIdeal.sig) → Buf (Elt Ideal) ℓ) (g : Dev Cert.AdamSbinIdeal.nD → PrngReg)
    (m' : (ℓ : Loc Cert.AdamSbinReferenceIdeal.nD Cert.AdamSbinReferenceIdeal.τ Cert.AdamSbinReferenceIdeal.sig) → Buf (Elt Ideal) ℓ) (g' : Dev Cert.AdamSbinReferenceIdeal.nD → PrngReg), Pre_AdamSbinIdeal m →
    (∀ c : Dev Cert.AdamSbinIdeal.nD,
      m' ((c.tc : Thread Cert.AdamSbinReferenceIdeal.nD Cert.AdamSbinReferenceIdeal.τ).loc Cert.AdamSbinReferenceIdeal.main_arg0) = m ((c.tc : Thread Cert.AdamSbinIdeal.nD Cert.AdamSbinIdeal.τ).loc Cert.AdamSbinIdeal.main_arg0)
      ∧ m' ((c.tc : Thread Cert.AdamSbinReferenceIdeal.nD Cert.AdamSbinReferenceIdeal.τ).loc Cert.AdamSbinReferenceIdeal.main_arg1) = m ((c.tc : Thread Cert.AdamSbinIdeal.nD Cert.AdamSbinIdeal.τ).loc Cert.AdamSbinIdeal.main_arg1)
      ∧ m' ((c.tc : Thread Cert.AdamSbinReferenceIdeal.nD Cert.AdamSbinReferenceIdeal.τ).loc Cert.AdamSbinReferenceIdeal.main_arg2) = m ((c.tc : Thread Cert.AdamSbinIdeal.nD Cert.AdamSbinIdeal.τ).loc Cert.AdamSbinIdeal.main_arg2)
      ∧ m' ((c.tc : Thread Cert.AdamSbinReferenceIdeal.nD Cert.AdamSbinReferenceIdeal.τ).loc Cert.AdamSbinReferenceIdeal.main_arg3) = m ((c.tc : Thread Cert.AdamSbinIdeal.nD Cert.AdamSbinIdeal.τ).loc Cert.AdamSbinIdeal.main_arg3)) →
    ∃ (v0 : (c : Dev Cert.AdamSbinIdeal.nD) → Buf (Elt Ideal) ((c.tc : Thread Cert.AdamSbinIdeal.nD Cert.AdamSbinIdeal.τ).loc Cert.AdamSbinIdeal.main_v4_0)) (v1 : (c : Dev Cert.AdamSbinIdeal.nD) → Buf (Elt Ideal) ((c.tc : Thread Cert.AdamSbinIdeal.nD Cert.AdamSbinIdeal.τ).loc Cert.AdamSbinIdeal.main_v4_1)) (v2 : (c : Dev Cert.AdamSbinIdeal.nD) → Buf (Elt Ideal) ((c.tc : Thread Cert.AdamSbinIdeal.nD Cert.AdamSbinIdeal.τ).loc Cert.AdamSbinIdeal.main_v4_2)),
      θ_run (Cert.AdamSbinIdeal.defs (F := Ideal)) (onTc (τ := Cert.AdamSbinIdeal.τ) (Cert.AdamSbinIdeal.main (F := Ideal))) ⟨m, fun _ => 0, g⟩ (fun r => ∀ c : Dev Cert.AdamSbinIdeal.nD,
          r.2.mem ((c.tc : Thread Cert.AdamSbinIdeal.nD Cert.AdamSbinIdeal.τ).loc Cert.AdamSbinIdeal.main_v4_0) = v0 c
          ∧ r.2.mem ((c.tc : Thread Cert.AdamSbinIdeal.nD Cert.AdamSbinIdeal.τ).loc Cert.AdamSbinIdeal.main_v4_1) = v1 c
          ∧ r.2.mem ((c.tc : Thread Cert.AdamSbinIdeal.nD Cert.AdamSbinIdeal.τ).loc Cert.AdamSbinIdeal.main_v4_2) = v2 c
          ∧ r.2.mem ((c.tc : Thread Cert.AdamSbinIdeal.nD Cert.AdamSbinIdeal.τ).loc Cert.AdamSbinIdeal.main_arg0) = m ((c.tc : Thread Cert.AdamSbinIdeal.nD Cert.AdamSbinIdeal.τ).loc Cert.AdamSbinIdeal.main_arg0)
          ∧ r.2.mem ((c.tc : Thread Cert.AdamSbinIdeal.nD Cert.AdamSbinIdeal.τ).loc Cert.AdamSbinIdeal.main_arg1) = m ((c.tc : Thread Cert.AdamSbinIdeal.nD Cert.AdamSbinIdeal.τ).loc Cert.AdamSbinIdeal.main_arg1)
          ∧ r.2.mem ((c.tc : Thread Cert.AdamSbinIdeal.nD Cert.AdamSbinIdeal.τ).loc Cert.AdamSbinIdeal.main_arg2) = m ((c.tc : Thread Cert.AdamSbinIdeal.nD Cert.AdamSbinIdeal.τ).loc Cert.AdamSbinIdeal.main_arg2)
          ∧ r.2.mem ((c.tc : Thread Cert.AdamSbinIdeal.nD Cert.AdamSbinIdeal.τ).loc Cert.AdamSbinIdeal.main_arg3) = m ((c.tc : Thread Cert.AdamSbinIdeal.nD Cert.AdamSbinIdeal.τ).loc Cert.AdamSbinIdeal.main_arg3))
      ∧ θ_run (Cert.AdamSbinReferenceIdeal.defs (F := Ideal)) (onTc (τ := Cert.AdamSbinReferenceIdeal.τ) (Cert.AdamSbinReferenceIdeal.main (F := Ideal))) ⟨m', fun _ => 0, g'⟩ (fun r => ∀ c : Dev Cert.AdamSbinReferenceIdeal.nD,
          r.2.mem ((c.tc : Thread Cert.AdamSbinReferenceIdeal.nD Cert.AdamSbinReferenceIdeal.τ).loc Cert.AdamSbinReferenceIdeal.main_v24) = v0 c
          ∧ r.2.mem ((c.tc : Thread Cert.AdamSbinReferenceIdeal.nD Cert.AdamSbinReferenceIdeal.τ).loc Cert.AdamSbinReferenceIdeal.main_v25) = v1 c
          ∧ r.2.mem ((c.tc : Thread Cert.AdamSbinReferenceIdeal.nD Cert.AdamSbinReferenceIdeal.τ).loc Cert.AdamSbinReferenceIdeal.main_v26) = v2 c
          ∧ r.2.mem ((c.tc : Thread Cert.AdamSbinReferenceIdeal.nD Cert.AdamSbinReferenceIdeal.τ).loc Cert.AdamSbinReferenceIdeal.main_arg0) = m' ((c.tc : Thread Cert.AdamSbinReferenceIdeal.nD Cert.AdamSbinReferenceIdeal.τ).loc Cert.AdamSbinReferenceIdeal.main_arg0)
          ∧ r.2.mem ((c.tc : Thread Cert.AdamSbinReferenceIdeal.nD Cert.AdamSbinReferenceIdeal.τ).loc Cert.AdamSbinReferenceIdeal.main_arg1) = m' ((c.tc : Thread Cert.AdamSbinReferenceIdeal.nD Cert.AdamSbinReferenceIdeal.τ).loc Cert.AdamSbinReferenceIdeal.main_arg1)
          ∧ r.2.mem ((c.tc : Thread Cert.AdamSbinReferenceIdeal.nD Cert.AdamSbinReferenceIdeal.τ).loc Cert.AdamSbinReferenceIdeal.main_arg2) = m' ((c.tc : Thread Cert.AdamSbinReferenceIdeal.nD Cert.AdamSbinReferenceIdeal.τ).loc Cert.AdamSbinReferenceIdeal.main_arg2)
          ∧ r.2.mem ((c.tc : Thread Cert.AdamSbinReferenceIdeal.nD Cert.AdamSbinReferenceIdeal.τ).loc Cert.AdamSbinReferenceIdeal.main_arg3) = m' ((c.tc : Thread Cert.AdamSbinReferenceIdeal.nD Cert.AdamSbinReferenceIdeal.τ).loc Cert.AdamSbinReferenceIdeal.main_arg3))

def preserves_AdamSsin_AdamSsinIdeal : Prop :=
  IdealRules.named_const.Statement Cert.AdamSsinIdeal.κ "inv_bias1" .f32 0x3FC48605#32 ((8388608 / 5463681 : ℝ) : EReal)
  ∧ IdealRules.named_const.Statement Cert.AdamSsinIdeal.κ "inv_bias2" .f32 0x42C8E6D3#32 ((268435456 / 2672307 : ℝ) : EReal)

def algebraic_AdamSsinIdeal_AdamSsinReferenceIdeal [hAdamSsinIdeal : Cert.AdamSsinIdeal.Facts] [hAdamSsinReferenceIdeal : Cert.AdamSsinReferenceIdeal.Facts] : Prop :=
  ∀ (m : (ℓ : Loc Cert.AdamSsinIdeal.nD Cert.AdamSsinIdeal.τ Cert.AdamSsinIdeal.sig) → Buf (Elt Ideal) ℓ) (g : Dev Cert.AdamSsinIdeal.nD → PrngReg)
    (m' : (ℓ : Loc Cert.AdamSsinReferenceIdeal.nD Cert.AdamSsinReferenceIdeal.τ Cert.AdamSsinReferenceIdeal.sig) → Buf (Elt Ideal) ℓ) (g' : Dev Cert.AdamSsinReferenceIdeal.nD → PrngReg), Pre_AdamSsinIdeal m →
    (∀ c : Dev Cert.AdamSsinIdeal.nD,
      m' ((c.tc : Thread Cert.AdamSsinReferenceIdeal.nD Cert.AdamSsinReferenceIdeal.τ).loc Cert.AdamSsinReferenceIdeal.main_arg0) = m ((c.tc : Thread Cert.AdamSsinIdeal.nD Cert.AdamSsinIdeal.τ).loc Cert.AdamSsinIdeal.main_arg0)
      ∧ m' ((c.tc : Thread Cert.AdamSsinReferenceIdeal.nD Cert.AdamSsinReferenceIdeal.τ).loc Cert.AdamSsinReferenceIdeal.main_arg1) = m ((c.tc : Thread Cert.AdamSsinIdeal.nD Cert.AdamSsinIdeal.τ).loc Cert.AdamSsinIdeal.main_arg1)
      ∧ m' ((c.tc : Thread Cert.AdamSsinReferenceIdeal.nD Cert.AdamSsinReferenceIdeal.τ).loc Cert.AdamSsinReferenceIdeal.main_arg2) = m ((c.tc : Thread Cert.AdamSsinIdeal.nD Cert.AdamSsinIdeal.τ).loc Cert.AdamSsinIdeal.main_arg2)
      ∧ m' ((c.tc : Thread Cert.AdamSsinReferenceIdeal.nD Cert.AdamSsinReferenceIdeal.τ).loc Cert.AdamSsinReferenceIdeal.main_arg3) = m ((c.tc : Thread Cert.AdamSsinIdeal.nD Cert.AdamSsinIdeal.τ).loc Cert.AdamSsinIdeal.main_arg3)) →
    ∃ (v0 : (c : Dev Cert.AdamSsinIdeal.nD) → Buf (Elt Ideal) ((c.tc : Thread Cert.AdamSsinIdeal.nD Cert.AdamSsinIdeal.τ).loc Cert.AdamSsinIdeal.main_v4_0)) (v1 : (c : Dev Cert.AdamSsinIdeal.nD) → Buf (Elt Ideal) ((c.tc : Thread Cert.AdamSsinIdeal.nD Cert.AdamSsinIdeal.τ).loc Cert.AdamSsinIdeal.main_v4_1)) (v2 : (c : Dev Cert.AdamSsinIdeal.nD) → Buf (Elt Ideal) ((c.tc : Thread Cert.AdamSsinIdeal.nD Cert.AdamSsinIdeal.τ).loc Cert.AdamSsinIdeal.main_v4_2)),
      θ_run (Cert.AdamSsinIdeal.defs (F := Ideal)) (onTc (τ := Cert.AdamSsinIdeal.τ) (Cert.AdamSsinIdeal.main (F := Ideal))) ⟨m, fun _ => 0, g⟩ (fun r => ∀ c : Dev Cert.AdamSsinIdeal.nD,
          r.2.mem ((c.tc : Thread Cert.AdamSsinIdeal.nD Cert.AdamSsinIdeal.τ).loc Cert.AdamSsinIdeal.main_v4_0) = v0 c
          ∧ r.2.mem ((c.tc : Thread Cert.AdamSsinIdeal.nD Cert.AdamSsinIdeal.τ).loc Cert.AdamSsinIdeal.main_v4_1) = v1 c
          ∧ r.2.mem ((c.tc : Thread Cert.AdamSsinIdeal.nD Cert.AdamSsinIdeal.τ).loc Cert.AdamSsinIdeal.main_v4_2) = v2 c
          ∧ r.2.mem ((c.tc : Thread Cert.AdamSsinIdeal.nD Cert.AdamSsinIdeal.τ).loc Cert.AdamSsinIdeal.main_arg0) = m ((c.tc : Thread Cert.AdamSsinIdeal.nD Cert.AdamSsinIdeal.τ).loc Cert.AdamSsinIdeal.main_arg0)
          ∧ r.2.mem ((c.tc : Thread Cert.AdamSsinIdeal.nD Cert.AdamSsinIdeal.τ).loc Cert.AdamSsinIdeal.main_arg1) = m ((c.tc : Thread Cert.AdamSsinIdeal.nD Cert.AdamSsinIdeal.τ).loc Cert.AdamSsinIdeal.main_arg1)
          ∧ r.2.mem ((c.tc : Thread Cert.AdamSsinIdeal.nD Cert.AdamSsinIdeal.τ).loc Cert.AdamSsinIdeal.main_arg2) = m ((c.tc : Thread Cert.AdamSsinIdeal.nD Cert.AdamSsinIdeal.τ).loc Cert.AdamSsinIdeal.main_arg2)
          ∧ r.2.mem ((c.tc : Thread Cert.AdamSsinIdeal.nD Cert.AdamSsinIdeal.τ).loc Cert.AdamSsinIdeal.main_arg3) = m ((c.tc : Thread Cert.AdamSsinIdeal.nD Cert.AdamSsinIdeal.τ).loc Cert.AdamSsinIdeal.main_arg3))
      ∧ θ_run (Cert.AdamSsinReferenceIdeal.defs (F := Ideal)) (onTc (τ := Cert.AdamSsinReferenceIdeal.τ) (Cert.AdamSsinReferenceIdeal.main (F := Ideal))) ⟨m', fun _ => 0, g'⟩ (fun r => ∀ c : Dev Cert.AdamSsinReferenceIdeal.nD,
          r.2.mem ((c.tc : Thread Cert.AdamSsinReferenceIdeal.nD Cert.AdamSsinReferenceIdeal.τ).loc Cert.AdamSsinReferenceIdeal.main_v24) = v0 c
          ∧ r.2.mem ((c.tc : Thread Cert.AdamSsinReferenceIdeal.nD Cert.AdamSsinReferenceIdeal.τ).loc Cert.AdamSsinReferenceIdeal.main_v25) = v1 c
          ∧ r.2.mem ((c.tc : Thread Cert.AdamSsinReferenceIdeal.nD Cert.AdamSsinReferenceIdeal.τ).loc Cert.AdamSsinReferenceIdeal.main_v26) = v2 c
          ∧ r.2.mem ((c.tc : Thread Cert.AdamSsinReferenceIdeal.nD Cert.AdamSsinReferenceIdeal.τ).loc Cert.AdamSsinReferenceIdeal.main_arg0) = m' ((c.tc : Thread Cert.AdamSsinReferenceIdeal.nD Cert.AdamSsinReferenceIdeal.τ).loc Cert.AdamSsinReferenceIdeal.main_arg0)
          ∧ r.2.mem ((c.tc : Thread Cert.AdamSsinReferenceIdeal.nD Cert.AdamSsinReferenceIdeal.τ).loc Cert.AdamSsinReferenceIdeal.main_arg1) = m' ((c.tc : Thread Cert.AdamSsinReferenceIdeal.nD Cert.AdamSsinReferenceIdeal.τ).loc Cert.AdamSsinReferenceIdeal.main_arg1)
          ∧ r.2.mem ((c.tc : Thread Cert.AdamSsinReferenceIdeal.nD Cert.AdamSsinReferenceIdeal.τ).loc Cert.AdamSsinReferenceIdeal.main_arg2) = m' ((c.tc : Thread Cert.AdamSsinReferenceIdeal.nD Cert.AdamSsinReferenceIdeal.τ).loc Cert.AdamSsinReferenceIdeal.main_arg2)
          ∧ r.2.mem ((c.tc : Thread Cert.AdamSsinReferenceIdeal.nD Cert.AdamSsinReferenceIdeal.τ).loc Cert.AdamSsinReferenceIdeal.main_arg3) = m' ((c.tc : Thread Cert.AdamSsinReferenceIdeal.nD Cert.AdamSsinReferenceIdeal.τ).loc Cert.AdamSsinReferenceIdeal.main_arg3))

def preserves_AdamGlu_AdamGluIdeal : Prop :=
  IdealRules.named_const.Statement Cert.AdamGluIdeal.κ "inv_bias1" .f32 0x3FC48605#32 ((8388608 / 5463681 : ℝ) : EReal)
  ∧ IdealRules.named_const.Statement Cert.AdamGluIdeal.κ "inv_bias2" .f32 0x42C8E6D3#32 ((268435456 / 2672307 : ℝ) : EReal)

def algebraic_AdamGluIdeal_AdamGluReferenceIdeal [hAdamGluIdeal : Cert.AdamGluIdeal.Facts] [hAdamGluReferenceIdeal : Cert.AdamGluReferenceIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluReferenceIdeal.nD Cert.AdamGluReferenceIdeal.τ Cert.AdamGluReferenceIdeal.sig) → Buf (Elt Ideal) ℓ) (g' : Dev Cert.AdamGluReferenceIdeal.nD → PrngReg), Pre_AdamGluIdeal m →
    (∀ c : Dev Cert.AdamGluIdeal.nD,
      m' ((c.tc : Thread Cert.AdamGluReferenceIdeal.nD Cert.AdamGluReferenceIdeal.τ).loc Cert.AdamGluReferenceIdeal.main_arg0) = m ((c.tc : Thread Cert.AdamGluIdeal.nD Cert.AdamGluIdeal.τ).loc Cert.AdamGluIdeal.main_arg0)
      ∧ m' ((c.tc : Thread Cert.AdamGluReferenceIdeal.nD Cert.AdamGluReferenceIdeal.τ).loc Cert.AdamGluReferenceIdeal.main_arg1) = m ((c.tc : Thread Cert.AdamGluIdeal.nD Cert.AdamGluIdeal.τ).loc Cert.AdamGluIdeal.main_arg1)
      ∧ m' ((c.tc : Thread Cert.AdamGluReferenceIdeal.nD Cert.AdamGluReferenceIdeal.τ).loc Cert.AdamGluReferenceIdeal.main_arg2) = m ((c.tc : Thread Cert.AdamGluIdeal.nD Cert.AdamGluIdeal.τ).loc Cert.AdamGluIdeal.main_arg2)
      ∧ m' ((c.tc : Thread Cert.AdamGluReferenceIdeal.nD Cert.AdamGluReferenceIdeal.τ).loc Cert.AdamGluReferenceIdeal.main_arg3) = m ((c.tc : Thread Cert.AdamGluIdeal.nD Cert.AdamGluIdeal.τ).loc Cert.AdamGluIdeal.main_arg3)) →
    ∃ (v0 : (c : Dev Cert.AdamGluIdeal.nD) → Buf (Elt Ideal) ((c.tc : Thread Cert.AdamGluIdeal.nD Cert.AdamGluIdeal.τ).loc Cert.AdamGluIdeal.main_v4_0)) (v1 : (c : Dev Cert.AdamGluIdeal.nD) → Buf (Elt Ideal) ((c.tc : Thread Cert.AdamGluIdeal.nD Cert.AdamGluIdeal.τ).loc Cert.AdamGluIdeal.main_v4_1)) (v2 : (c : Dev Cert.AdamGluIdeal.nD) → Buf (Elt Ideal) ((c.tc : Thread Cert.AdamGluIdeal.nD Cert.AdamGluIdeal.τ).loc Cert.AdamGluIdeal.main_v4_2)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v4_0) = v0 c
          ∧ r.2.mem ((c.tc : Thread Cert.AdamGluIdeal.nD Cert.AdamGluIdeal.τ).loc Cert.AdamGluIdeal.main_v4_1) = v1 c
          ∧ r.2.mem ((c.tc : Thread Cert.AdamGluIdeal.nD Cert.AdamGluIdeal.τ).loc Cert.AdamGluIdeal.main_v4_2) = v2 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ θ_run (Cert.AdamGluReferenceIdeal.defs (F := Ideal)) (onTc (τ := Cert.AdamGluReferenceIdeal.τ) (Cert.AdamGluReferenceIdeal.main (F := Ideal))) ⟨m', fun _ => 0, g'⟩ (fun r => ∀ c : Dev Cert.AdamGluReferenceIdeal.nD,
          r.2.mem ((c.tc : Thread Cert.AdamGluReferenceIdeal.nD Cert.AdamGluReferenceIdeal.τ).loc Cert.AdamGluReferenceIdeal.main_v24) = v0 c
          ∧ r.2.mem ((c.tc : Thread Cert.AdamGluReferenceIdeal.nD Cert.AdamGluReferenceIdeal.τ).loc Cert.AdamGluReferenceIdeal.main_v25) = v1 c
          ∧ r.2.mem ((c.tc : Thread Cert.AdamGluReferenceIdeal.nD Cert.AdamGluReferenceIdeal.τ).loc Cert.AdamGluReferenceIdeal.main_v26) = v2 c
          ∧ r.2.mem ((c.tc : Thread Cert.AdamGluReferenceIdeal.nD Cert.AdamGluReferenceIdeal.τ).loc Cert.AdamGluReferenceIdeal.main_arg0) = m' ((c.tc : Thread Cert.AdamGluReferenceIdeal.nD Cert.AdamGluReferenceIdeal.τ).loc Cert.AdamGluReferenceIdeal.main_arg0)
          ∧ r.2.mem ((c.tc : Thread Cert.AdamGluReferenceIdeal.nD Cert.AdamGluReferenceIdeal.τ).loc Cert.AdamGluReferenceIdeal.main_arg1) = m' ((c.tc : Thread Cert.AdamGluReferenceIdeal.nD Cert.AdamGluReferenceIdeal.τ).loc Cert.AdamGluReferenceIdeal.main_arg1)
          ∧ r.2.mem ((c.tc : Thread Cert.AdamGluReferenceIdeal.nD Cert.AdamGluReferenceIdeal.τ).loc Cert.AdamGluReferenceIdeal.main_arg2) = m' ((c.tc : Thread Cert.AdamGluReferenceIdeal.nD Cert.AdamGluReferenceIdeal.τ).loc Cert.AdamGluReferenceIdeal.main_arg2)
          ∧ r.2.mem ((c.tc : Thread Cert.AdamGluReferenceIdeal.nD Cert.AdamGluReferenceIdeal.τ).loc Cert.AdamGluReferenceIdeal.main_arg3) = m' ((c.tc : Thread Cert.AdamGluReferenceIdeal.nD Cert.AdamGluReferenceIdeal.τ).loc Cert.AdamGluReferenceIdeal.main_arg3))

def preserves_AdamNorm_AdamNormIdeal : Prop :=
  IdealRules.named_const.Statement Cert.AdamNormIdeal.κ "inv_bias1" .f32 0x3FC48605#32 ((8388608 / 5463681 : ℝ) : EReal)
  ∧ IdealRules.named_const.Statement Cert.AdamNormIdeal.κ "inv_bias2" .f32 0x42C8E6D3#32 ((268435456 / 2672307 : ℝ) : EReal)

def algebraic_AdamNormIdeal_AdamNormReferenceIdeal [hAdamNormIdeal : Cert.AdamNormIdeal.Facts] [hAdamNormReferenceIdeal : Cert.AdamNormReferenceIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormReferenceIdeal.nD Cert.AdamNormReferenceIdeal.τ Cert.AdamNormReferenceIdeal.sig) → Buf (Elt Ideal) ℓ) (g' : Dev Cert.AdamNormReferenceIdeal.nD → PrngReg), Pre_AdamNormIdeal m →
    (∀ c : Dev Cert.AdamNormIdeal.nD,
      m' ((c.tc : Thread Cert.AdamNormReferenceIdeal.nD Cert.AdamNormReferenceIdeal.τ).loc Cert.AdamNormReferenceIdeal.main_arg0) = m ((c.tc : Thread Cert.AdamNormIdeal.nD Cert.AdamNormIdeal.τ).loc Cert.AdamNormIdeal.main_arg0)
      ∧ m' ((c.tc : Thread Cert.AdamNormReferenceIdeal.nD Cert.AdamNormReferenceIdeal.τ).loc Cert.AdamNormReferenceIdeal.main_arg1) = m ((c.tc : Thread Cert.AdamNormIdeal.nD Cert.AdamNormIdeal.τ).loc Cert.AdamNormIdeal.main_arg1)
      ∧ m' ((c.tc : Thread Cert.AdamNormReferenceIdeal.nD Cert.AdamNormReferenceIdeal.τ).loc Cert.AdamNormReferenceIdeal.main_arg2) = m ((c.tc : Thread Cert.AdamNormIdeal.nD Cert.AdamNormIdeal.τ).loc Cert.AdamNormIdeal.main_arg2)
      ∧ m' ((c.tc : Thread Cert.AdamNormReferenceIdeal.nD Cert.AdamNormReferenceIdeal.τ).loc Cert.AdamNormReferenceIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormReferenceIdeal.defs (F := Ideal)) (onTc (τ := Cert.AdamNormReferenceIdeal.τ) (Cert.AdamNormReferenceIdeal.main (F := Ideal))) ⟨m', fun _ => 0, g'⟩ (fun r => ∀ c : Dev Cert.AdamNormReferenceIdeal.nD,
          r.2.mem ((c.tc : Thread Cert.AdamNormReferenceIdeal.nD Cert.AdamNormReferenceIdeal.τ).loc Cert.AdamNormReferenceIdeal.main_v23) = v0 c
          ∧ r.2.mem ((c.tc : Thread Cert.AdamNormReferenceIdeal.nD Cert.AdamNormReferenceIdeal.τ).loc Cert.AdamNormReferenceIdeal.main_v4) = v1 c
          ∧ r.2.mem ((c.tc : Thread Cert.AdamNormReferenceIdeal.nD Cert.AdamNormReferenceIdeal.τ).loc Cert.AdamNormReferenceIdeal.main_v10) = v2 c
          ∧ r.2.mem ((c.tc : Thread Cert.AdamNormReferenceIdeal.nD Cert.AdamNormReferenceIdeal.τ).loc Cert.AdamNormReferenceIdeal.main_arg0) = m' ((c.tc : Thread Cert.AdamNormReferenceIdeal.nD Cert.AdamNormReferenceIdeal.τ).loc Cert.AdamNormReferenceIdeal.main_arg0)
          ∧ r.2.mem ((c.tc : Thread Cert.AdamNormReferenceIdeal.nD Cert.AdamNormReferenceIdeal.τ).loc Cert.AdamNormReferenceIdeal.main_arg1) = m' ((c.tc : Thread Cert.AdamNormReferenceIdeal.nD Cert.AdamNormReferenceIdeal.τ).loc Cert.AdamNormReferenceIdeal.main_arg1)
          ∧ r.2.mem ((c.tc : Thread Cert.AdamNormReferenceIdeal.nD Cert.AdamNormReferenceIdeal.τ).loc Cert.AdamNormReferenceIdeal.main_arg2) = m' ((c.tc : Thread Cert.AdamNormReferenceIdeal.nD Cert.AdamNormReferenceIdeal.τ).loc Cert.AdamNormReferenceIdeal.main_arg2)
          ∧ r.2.mem ((c.tc : Thread Cert.AdamNormReferenceIdeal.nD Cert.AdamNormReferenceIdeal.τ).loc Cert.AdamNormReferenceIdeal.main_arg3) = m' ((c.tc : Thread Cert.AdamNormReferenceIdeal.nD Cert.AdamNormReferenceIdeal.τ).loc Cert.AdamNormReferenceIdeal.main_arg3))

def preserves_AdamHead_AdamHeadIdeal : Prop :=
  IdealRules.named_const.Statement Cert.AdamHeadIdeal.κ "inv_bias1" .f32 0x3FC48605#32 ((8388608 / 5463681 : ℝ) : EReal)
  ∧ IdealRules.named_const.Statement Cert.AdamHeadIdeal.κ "inv_bias2" .f32 0x42C8E6D3#32 ((268435456 / 2672307 : ℝ) : EReal)

def algebraic_AdamHeadIdeal_AdamHeadReferenceIdeal [hAdamHeadIdeal : Cert.AdamHeadIdeal.Facts] [hAdamHeadReferenceIdeal : Cert.AdamHeadReferenceIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg)
    (m' : (ℓ : Loc Cert.AdamHeadReferenceIdeal.nD Cert.AdamHeadReferenceIdeal.τ Cert.AdamHeadReferenceIdeal.sig) → Buf (Elt Ideal) ℓ) (g' : Dev Cert.AdamHeadReferenceIdeal.nD → PrngReg), Pre_AdamHeadIdeal m →
    (∀ c : Dev Cert.AdamHeadIdeal.nD,
      m' ((c.tc : Thread Cert.AdamHeadReferenceIdeal.nD Cert.AdamHeadReferenceIdeal.τ).loc Cert.AdamHeadReferenceIdeal.main_arg0) = m ((c.tc : Thread Cert.AdamHeadIdeal.nD Cert.AdamHeadIdeal.τ).loc Cert.AdamHeadIdeal.main_arg0)
      ∧ m' ((c.tc : Thread Cert.AdamHeadReferenceIdeal.nD Cert.AdamHeadReferenceIdeal.τ).loc Cert.AdamHeadReferenceIdeal.main_arg1) = m ((c.tc : Thread Cert.AdamHeadIdeal.nD Cert.AdamHeadIdeal.τ).loc Cert.AdamHeadIdeal.main_arg1)
      ∧ m' ((c.tc : Thread Cert.AdamHeadReferenceIdeal.nD Cert.AdamHeadReferenceIdeal.τ).loc Cert.AdamHeadReferenceIdeal.main_arg2) = m ((c.tc : Thread Cert.AdamHeadIdeal.nD Cert.AdamHeadIdeal.τ).loc Cert.AdamHeadIdeal.main_arg2)
      ∧ m' ((c.tc : Thread Cert.AdamHeadReferenceIdeal.nD Cert.AdamHeadReferenceIdeal.τ).loc Cert.AdamHeadReferenceIdeal.main_arg3) = m ((c.tc : Thread Cert.AdamHeadIdeal.nD Cert.AdamHeadIdeal.τ).loc Cert.AdamHeadIdeal.main_arg3)) →
    ∃ (v0 : (c : Dev Cert.AdamHeadIdeal.nD) → Buf (Elt Ideal) ((c.tc : Thread Cert.AdamHeadIdeal.nD Cert.AdamHeadIdeal.τ).loc Cert.AdamHeadIdeal.main_v0_0)) (v1 : (c : Dev Cert.AdamHeadIdeal.nD) → Buf (Elt Ideal) ((c.tc : Thread Cert.AdamHeadIdeal.nD Cert.AdamHeadIdeal.τ).loc Cert.AdamHeadIdeal.main_v0_1)) (v2 : (c : Dev Cert.AdamHeadIdeal.nD) → Buf (Elt Ideal) ((c.tc : Thread Cert.AdamHeadIdeal.nD Cert.AdamHeadIdeal.τ).loc Cert.AdamHeadIdeal.main_v0_2)),
      θ_run (Cert.AdamHeadIdeal.defs (F := Ideal)) (onTc (τ := Cert.AdamHeadIdeal.τ) (Cert.AdamHeadIdeal.main (F := Ideal))) ⟨m, fun _ => 0, g⟩ (fun r => ∀ c : Dev Cert.AdamHeadIdeal.nD,
          r.2.mem ((c.tc : Thread Cert.AdamHeadIdeal.nD Cert.AdamHeadIdeal.τ).loc Cert.AdamHeadIdeal.main_v0_0) = v0 c
          ∧ r.2.mem ((c.tc : Thread Cert.AdamHeadIdeal.nD Cert.AdamHeadIdeal.τ).loc Cert.AdamHeadIdeal.main_v0_1) = v1 c
          ∧ r.2.mem ((c.tc : Thread Cert.AdamHeadIdeal.nD Cert.AdamHeadIdeal.τ).loc Cert.AdamHeadIdeal.main_v0_2) = v2 c
          ∧ r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
          ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
          ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
          ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3))
      ∧ θ_run (Cert.AdamHeadReferenceIdeal.defs (F := Ideal)) (onTc (τ := Cert.AdamHeadReferenceIdeal.τ) (Cert.AdamHeadReferenceIdeal.main (F := Ideal))) ⟨m', fun _ => 0, g'⟩ (fun r => ∀ c : Dev Cert.AdamHeadReferenceIdeal.nD,
          r.2.mem ((c.tc : Thread Cert.AdamHeadReferenceIdeal.nD Cert.AdamHeadReferenceIdeal.τ).loc Cert.AdamHeadReferenceIdeal.main_v23) = v0 c
          ∧ r.2.mem ((c.tc : Thread Cert.AdamHeadReferenceIdeal.nD Cert.AdamHeadReferenceIdeal.τ).loc Cert.AdamHeadReferenceIdeal.main_v4) = v1 c
          ∧ r.2.mem ((c.tc : Thread Cert.AdamHeadReferenceIdeal.nD Cert.AdamHeadReferenceIdeal.τ).loc Cert.AdamHeadReferenceIdeal.main_v10) = v2 c
          ∧ r.2.mem ((c.tc : Thread Cert.AdamHeadReferenceIdeal.nD Cert.AdamHeadReferenceIdeal.τ).loc Cert.AdamHeadReferenceIdeal.main_arg0) = m' ((c.tc : Thread Cert.AdamHeadReferenceIdeal.nD Cert.AdamHeadReferenceIdeal.τ).loc Cert.AdamHeadReferenceIdeal.main_arg0)
          ∧ r.2.mem ((c.tc : Thread Cert.AdamHeadReferenceIdeal.nD Cert.AdamHeadReferenceIdeal.τ).loc Cert.AdamHeadReferenceIdeal.main_arg1) = m' ((c.tc : Thread Cert.AdamHeadReferenceIdeal.nD Cert.AdamHeadReferenceIdeal.τ).loc Cert.AdamHeadReferenceIdeal.main_arg1)
          ∧ r.2.mem ((c.tc : Thread Cert.AdamHeadReferenceIdeal.nD Cert.AdamHeadReferenceIdeal.τ).loc Cert.AdamHeadReferenceIdeal.main_arg2) = m' ((c.tc : Thread Cert.AdamHeadReferenceIdeal.nD Cert.AdamHeadReferenceIdeal.τ).loc Cert.AdamHeadReferenceIdeal.main_arg2)
          ∧ r.2.mem ((c.tc : Thread Cert.AdamHeadReferenceIdeal.nD Cert.AdamHeadReferenceIdeal.τ).loc Cert.AdamHeadReferenceIdeal.main_arg3) = m' ((c.tc : Thread Cert.AdamHeadReferenceIdeal.nD Cert.AdamHeadReferenceIdeal.τ).loc Cert.AdamHeadReferenceIdeal.main_arg3))

def preserves_AdamDt_AdamDtIdeal : Prop :=
  IdealRules.named_const.Statement Cert.AdamDtIdeal.κ "inv_bias1" .f32 0x3FC48605#32 ((8388608 / 5463681 : ℝ) : EReal)
  ∧ IdealRules.named_const.Statement Cert.AdamDtIdeal.κ "inv_bias2" .f32 0x42C8E6D3#32 ((268435456 / 2672307 : ℝ) : EReal)

def algebraic_AdamDtIdeal_AdamDtReferenceIdeal [hAdamDtIdeal : Cert.AdamDtIdeal.Facts] [hAdamDtReferenceIdeal : Cert.AdamDtReferenceIdeal.Facts] : Prop :=
  ∀ (m : (ℓ : Loc Cert.AdamDtIdeal.nD Cert.AdamDtIdeal.τ Cert.AdamDtIdeal.sig) → Buf (Elt Ideal) ℓ) (g : Dev Cert.AdamDtIdeal.nD → PrngReg)
    (m' : (ℓ : Loc Cert.AdamDtReferenceIdeal.nD Cert.AdamDtReferenceIdeal.τ Cert.AdamDtReferenceIdeal.sig) → Buf (Elt Ideal) ℓ) (g' : Dev Cert.AdamDtReferenceIdeal.nD → PrngReg), Pre_AdamDtIdeal m →
    (∀ c : Dev Cert.AdamDtIdeal.nD,
      m' ((c.tc : Thread Cert.AdamDtReferenceIdeal.nD Cert.AdamDtReferenceIdeal.τ).loc Cert.AdamDtReferenceIdeal.main_arg0) = m ((c.tc : Thread Cert.AdamDtIdeal.nD Cert.AdamDtIdeal.τ).loc Cert.AdamDtIdeal.main_arg0)
      ∧ m' ((c.tc : Thread Cert.AdamDtReferenceIdeal.nD Cert.AdamDtReferenceIdeal.τ).loc Cert.AdamDtReferenceIdeal.main_arg1) = m ((c.tc : Thread Cert.AdamDtIdeal.nD Cert.AdamDtIdeal.τ).loc Cert.AdamDtIdeal.main_arg1)
      ∧ m' ((c.tc : Thread Cert.AdamDtReferenceIdeal.nD Cert.AdamDtReferenceIdeal.τ).loc Cert.AdamDtReferenceIdeal.main_arg2) = m ((c.tc : Thread Cert.AdamDtIdeal.nD Cert.AdamDtIdeal.τ).loc Cert.AdamDtIdeal.main_arg2)
      ∧ m' ((c.tc : Thread Cert.AdamDtReferenceIdeal.nD Cert.AdamDtReferenceIdeal.τ).loc Cert.AdamDtReferenceIdeal.main_arg3) = m ((c.tc : Thread Cert.AdamDtIdeal.nD Cert.AdamDtIdeal.τ).loc Cert.AdamDtIdeal.main_arg3)) →
    ∃ (v0 : (c : Dev Cert.AdamDtIdeal.nD) → Buf (Elt Ideal) ((c.tc : Thread Cert.AdamDtIdeal.nD Cert.AdamDtIdeal.τ).loc Cert.AdamDtIdeal.main_v0_0)) (v1 : (c : Dev Cert.AdamDtIdeal.nD) → Buf (Elt Ideal) ((c.tc : Thread Cert.AdamDtIdeal.nD Cert.AdamDtIdeal.τ).loc Cert.AdamDtIdeal.main_v0_1)) (v2 : (c : Dev Cert.AdamDtIdeal.nD) → Buf (Elt Ideal) ((c.tc : Thread Cert.AdamDtIdeal.nD Cert.AdamDtIdeal.τ).loc Cert.AdamDtIdeal.main_v0_2)),
      θ_run (Cert.AdamDtIdeal.defs (F := Ideal)) (onTc (τ := Cert.AdamDtIdeal.τ) (Cert.AdamDtIdeal.main (F := Ideal))) ⟨m, fun _ => 0, g⟩ (fun r => ∀ c : Dev Cert.AdamDtIdeal.nD,
          r.2.mem ((c.tc : Thread Cert.AdamDtIdeal.nD Cert.AdamDtIdeal.τ).loc Cert.AdamDtIdeal.main_v0_0) = v0 c
          ∧ r.2.mem ((c.tc : Thread Cert.AdamDtIdeal.nD Cert.AdamDtIdeal.τ).loc Cert.AdamDtIdeal.main_v0_1) = v1 c
          ∧ r.2.mem ((c.tc : Thread Cert.AdamDtIdeal.nD Cert.AdamDtIdeal.τ).loc Cert.AdamDtIdeal.main_v0_2) = v2 c
          ∧ r.2.mem ((c.tc : Thread Cert.AdamDtIdeal.nD Cert.AdamDtIdeal.τ).loc Cert.AdamDtIdeal.main_arg0) = m ((c.tc : Thread Cert.AdamDtIdeal.nD Cert.AdamDtIdeal.τ).loc Cert.AdamDtIdeal.main_arg0)
          ∧ r.2.mem ((c.tc : Thread Cert.AdamDtIdeal.nD Cert.AdamDtIdeal.τ).loc Cert.AdamDtIdeal.main_arg1) = m ((c.tc : Thread Cert.AdamDtIdeal.nD Cert.AdamDtIdeal.τ).loc Cert.AdamDtIdeal.main_arg1)
          ∧ r.2.mem ((c.tc : Thread Cert.AdamDtIdeal.nD Cert.AdamDtIdeal.τ).loc Cert.AdamDtIdeal.main_arg2) = m ((c.tc : Thread Cert.AdamDtIdeal.nD Cert.AdamDtIdeal.τ).loc Cert.AdamDtIdeal.main_arg2)
          ∧ r.2.mem ((c.tc : Thread Cert.AdamDtIdeal.nD Cert.AdamDtIdeal.τ).loc Cert.AdamDtIdeal.main_arg3) = m ((c.tc : Thread Cert.AdamDtIdeal.nD Cert.AdamDtIdeal.τ).loc Cert.AdamDtIdeal.main_arg3))
      ∧ θ_run (Cert.AdamDtReferenceIdeal.defs (F := Ideal)) (onTc (τ := Cert.AdamDtReferenceIdeal.τ) (Cert.AdamDtReferenceIdeal.main (F := Ideal))) ⟨m', fun _ => 0, g'⟩ (fun r => ∀ c : Dev Cert.AdamDtReferenceIdeal.nD,
          r.2.mem ((c.tc : Thread Cert.AdamDtReferenceIdeal.nD Cert.AdamDtReferenceIdeal.τ).loc Cert.AdamDtReferenceIdeal.main_v23) = v0 c
          ∧ r.2.mem ((c.tc : Thread Cert.AdamDtReferenceIdeal.nD Cert.AdamDtReferenceIdeal.τ).loc Cert.AdamDtReferenceIdeal.main_v4) = v1 c
          ∧ r.2.mem ((c.tc : Thread Cert.AdamDtReferenceIdeal.nD Cert.AdamDtReferenceIdeal.τ).loc Cert.AdamDtReferenceIdeal.main_v10) = v2 c
          ∧ r.2.mem ((c.tc : Thread Cert.AdamDtReferenceIdeal.nD Cert.AdamDtReferenceIdeal.τ).loc Cert.AdamDtReferenceIdeal.main_arg0) = m' ((c.tc : Thread Cert.AdamDtReferenceIdeal.nD Cert.AdamDtReferenceIdeal.τ).loc Cert.AdamDtReferenceIdeal.main_arg0)
          ∧ r.2.mem ((c.tc : Thread Cert.AdamDtReferenceIdeal.nD Cert.AdamDtReferenceIdeal.τ).loc Cert.AdamDtReferenceIdeal.main_arg1) = m' ((c.tc : Thread Cert.AdamDtReferenceIdeal.nD Cert.AdamDtReferenceIdeal.τ).loc Cert.AdamDtReferenceIdeal.main_arg1)
          ∧ r.2.mem ((c.tc : Thread Cert.AdamDtReferenceIdeal.nD Cert.AdamDtReferenceIdeal.τ).loc Cert.AdamDtReferenceIdeal.main_arg2) = m' ((c.tc : Thread Cert.AdamDtReferenceIdeal.nD Cert.AdamDtReferenceIdeal.τ).loc Cert.AdamDtReferenceIdeal.main_arg2)
          ∧ r.2.mem ((c.tc : Thread Cert.AdamDtReferenceIdeal.nD Cert.AdamDtReferenceIdeal.τ).loc Cert.AdamDtReferenceIdeal.main_arg3) = m' ((c.tc : Thread Cert.AdamDtReferenceIdeal.nD Cert.AdamDtReferenceIdeal.τ).loc Cert.AdamDtReferenceIdeal.main_arg3))

def preserves_AdamA_AdamAIdeal : Prop :=
  IdealRules.named_const.Statement Cert.AdamAIdeal.κ "inv_bias1" .f32 0x3FC48605#32 ((8388608 / 5463681 : ℝ) : EReal)
  ∧ IdealRules.named_const.Statement Cert.AdamAIdeal.κ "inv_bias2" .f32 0x42C8E6D3#32 ((268435456 / 2672307 : ℝ) : EReal)

def algebraic_AdamAIdeal_AdamAReferenceIdeal [hAdamAIdeal : Cert.AdamAIdeal.Facts] [hAdamAReferenceIdeal : Cert.AdamAReferenceIdeal.Facts] : Prop :=
  ∀ (m : (ℓ : Loc Cert.AdamAIdeal.nD Cert.AdamAIdeal.τ Cert.AdamAIdeal.sig) → Buf (Elt Ideal) ℓ) (g : Dev Cert.AdamAIdeal.nD → PrngReg)
    (m' : (ℓ : Loc Cert.AdamAReferenceIdeal.nD Cert.AdamAReferenceIdeal.τ Cert.AdamAReferenceIdeal.sig) → Buf (Elt Ideal) ℓ) (g' : Dev Cert.AdamAReferenceIdeal.nD → PrngReg), Pre_AdamAIdeal m →
    (∀ c : Dev Cert.AdamAIdeal.nD,
      m' ((c.tc : Thread Cert.AdamAReferenceIdeal.nD Cert.AdamAReferenceIdeal.τ).loc Cert.AdamAReferenceIdeal.main_arg0) = m ((c.tc : Thread Cert.AdamAIdeal.nD Cert.AdamAIdeal.τ).loc Cert.AdamAIdeal.main_arg0)
      ∧ m' ((c.tc : Thread Cert.AdamAReferenceIdeal.nD Cert.AdamAReferenceIdeal.τ).loc Cert.AdamAReferenceIdeal.main_arg1) = m ((c.tc : Thread Cert.AdamAIdeal.nD Cert.AdamAIdeal.τ).loc Cert.AdamAIdeal.main_arg1)
      ∧ m' ((c.tc : Thread Cert.AdamAReferenceIdeal.nD Cert.AdamAReferenceIdeal.τ).loc Cert.AdamAReferenceIdeal.main_arg2) = m ((c.tc : Thread Cert.AdamAIdeal.nD Cert.AdamAIdeal.τ).loc Cert.AdamAIdeal.main_arg2)
      ∧ m' ((c.tc : Thread Cert.AdamAReferenceIdeal.nD Cert.AdamAReferenceIdeal.τ).loc Cert.AdamAReferenceIdeal.main_arg3) = m ((c.tc : Thread Cert.AdamAIdeal.nD Cert.AdamAIdeal.τ).loc Cert.AdamAIdeal.main_arg3)) →
    ∃ (v0 : (c : Dev Cert.AdamAIdeal.nD) → Buf (Elt Ideal) ((c.tc : Thread Cert.AdamAIdeal.nD Cert.AdamAIdeal.τ).loc Cert.AdamAIdeal.main_v4_0)) (v1 : (c : Dev Cert.AdamAIdeal.nD) → Buf (Elt Ideal) ((c.tc : Thread Cert.AdamAIdeal.nD Cert.AdamAIdeal.τ).loc Cert.AdamAIdeal.main_v4_1)) (v2 : (c : Dev Cert.AdamAIdeal.nD) → Buf (Elt Ideal) ((c.tc : Thread Cert.AdamAIdeal.nD Cert.AdamAIdeal.τ).loc Cert.AdamAIdeal.main_v4_2)),
      θ_run (Cert.AdamAIdeal.defs (F := Ideal)) (onTc (τ := Cert.AdamAIdeal.τ) (Cert.AdamAIdeal.main (F := Ideal))) ⟨m, fun _ => 0, g⟩ (fun r => ∀ c : Dev Cert.AdamAIdeal.nD,
          r.2.mem ((c.tc : Thread Cert.AdamAIdeal.nD Cert.AdamAIdeal.τ).loc Cert.AdamAIdeal.main_v4_0) = v0 c
          ∧ r.2.mem ((c.tc : Thread Cert.AdamAIdeal.nD Cert.AdamAIdeal.τ).loc Cert.AdamAIdeal.main_v4_1) = v1 c
          ∧ r.2.mem ((c.tc : Thread Cert.AdamAIdeal.nD Cert.AdamAIdeal.τ).loc Cert.AdamAIdeal.main_v4_2) = v2 c
          ∧ r.2.mem ((c.tc : Thread Cert.AdamAIdeal.nD Cert.AdamAIdeal.τ).loc Cert.AdamAIdeal.main_arg0) = m ((c.tc : Thread Cert.AdamAIdeal.nD Cert.AdamAIdeal.τ).loc Cert.AdamAIdeal.main_arg0)
          ∧ r.2.mem ((c.tc : Thread Cert.AdamAIdeal.nD Cert.AdamAIdeal.τ).loc Cert.AdamAIdeal.main_arg1) = m ((c.tc : Thread Cert.AdamAIdeal.nD Cert.AdamAIdeal.τ).loc Cert.AdamAIdeal.main_arg1)
          ∧ r.2.mem ((c.tc : Thread Cert.AdamAIdeal.nD Cert.AdamAIdeal.τ).loc Cert.AdamAIdeal.main_arg2) = m ((c.tc : Thread Cert.AdamAIdeal.nD Cert.AdamAIdeal.τ).loc Cert.AdamAIdeal.main_arg2)
          ∧ r.2.mem ((c.tc : Thread Cert.AdamAIdeal.nD Cert.AdamAIdeal.τ).loc Cert.AdamAIdeal.main_arg3) = m ((c.tc : Thread Cert.AdamAIdeal.nD Cert.AdamAIdeal.τ).loc Cert.AdamAIdeal.main_arg3))
      ∧ θ_run (Cert.AdamAReferenceIdeal.defs (F := Ideal)) (onTc (τ := Cert.AdamAReferenceIdeal.τ) (Cert.AdamAReferenceIdeal.main (F := Ideal))) ⟨m', fun _ => 0, g'⟩ (fun r => ∀ c : Dev Cert.AdamAReferenceIdeal.nD,
          r.2.mem ((c.tc : Thread Cert.AdamAReferenceIdeal.nD Cert.AdamAReferenceIdeal.τ).loc Cert.AdamAReferenceIdeal.main_v24) = v0 c
          ∧ r.2.mem ((c.tc : Thread Cert.AdamAReferenceIdeal.nD Cert.AdamAReferenceIdeal.τ).loc Cert.AdamAReferenceIdeal.main_v25) = v1 c
          ∧ r.2.mem ((c.tc : Thread Cert.AdamAReferenceIdeal.nD Cert.AdamAReferenceIdeal.τ).loc Cert.AdamAReferenceIdeal.main_v26) = v2 c
          ∧ r.2.mem ((c.tc : Thread Cert.AdamAReferenceIdeal.nD Cert.AdamAReferenceIdeal.τ).loc Cert.AdamAReferenceIdeal.main_arg0) = m' ((c.tc : Thread Cert.AdamAReferenceIdeal.nD Cert.AdamAReferenceIdeal.τ).loc Cert.AdamAReferenceIdeal.main_arg0)
          ∧ r.2.mem ((c.tc : Thread Cert.AdamAReferenceIdeal.nD Cert.AdamAReferenceIdeal.τ).loc Cert.AdamAReferenceIdeal.main_arg1) = m' ((c.tc : Thread Cert.AdamAReferenceIdeal.nD Cert.AdamAReferenceIdeal.τ).loc Cert.AdamAReferenceIdeal.main_arg1)
          ∧ r.2.mem ((c.tc : Thread Cert.AdamAReferenceIdeal.nD Cert.AdamAReferenceIdeal.τ).loc Cert.AdamAReferenceIdeal.main_arg2) = m' ((c.tc : Thread Cert.AdamAReferenceIdeal.nD Cert.AdamAReferenceIdeal.τ).loc Cert.AdamAReferenceIdeal.main_arg2)
          ∧ r.2.mem ((c.tc : Thread Cert.AdamAReferenceIdeal.nD Cert.AdamAReferenceIdeal.τ).loc Cert.AdamAReferenceIdeal.main_arg3) = m' ((c.tc : Thread Cert.AdamAReferenceIdeal.nD Cert.AdamAReferenceIdeal.τ).loc Cert.AdamAReferenceIdeal.main_arg3))

def preserves_AdamB_AdamBIdeal : Prop :=
  IdealRules.named_const.Statement Cert.AdamBIdeal.κ "inv_bias1" .f32 0x3FC48605#32 ((8388608 / 5463681 : ℝ) : EReal)
  ∧ IdealRules.named_const.Statement Cert.AdamBIdeal.κ "inv_bias2" .f32 0x42C8E6D3#32 ((268435456 / 2672307 : ℝ) : EReal)

def algebraic_AdamBIdeal_AdamBReferenceIdeal [hAdamBIdeal : Cert.AdamBIdeal.Facts] [hAdamBReferenceIdeal : Cert.AdamBReferenceIdeal.Facts] : Prop :=
  ∀ (m : (ℓ : Loc Cert.AdamBIdeal.nD Cert.AdamBIdeal.τ Cert.AdamBIdeal.sig) → Buf (Elt Ideal) ℓ) (g : Dev Cert.AdamBIdeal.nD → PrngReg)
    (m' : (ℓ : Loc Cert.AdamBReferenceIdeal.nD Cert.AdamBReferenceIdeal.τ Cert.AdamBReferenceIdeal.sig) → Buf (Elt Ideal) ℓ) (g' : Dev Cert.AdamBReferenceIdeal.nD → PrngReg), Pre_AdamBIdeal m →
    (∀ c : Dev Cert.AdamBIdeal.nD,
      m' ((c.tc : Thread Cert.AdamBReferenceIdeal.nD Cert.AdamBReferenceIdeal.τ).loc Cert.AdamBReferenceIdeal.main_arg0) = m ((c.tc : Thread Cert.AdamBIdeal.nD Cert.AdamBIdeal.τ).loc Cert.AdamBIdeal.main_arg0)
      ∧ m' ((c.tc : Thread Cert.AdamBReferenceIdeal.nD Cert.AdamBReferenceIdeal.τ).loc Cert.AdamBReferenceIdeal.main_arg1) = m ((c.tc : Thread Cert.AdamBIdeal.nD Cert.AdamBIdeal.τ).loc Cert.AdamBIdeal.main_arg1)
      ∧ m' ((c.tc : Thread Cert.AdamBReferenceIdeal.nD Cert.AdamBReferenceIdeal.τ).loc Cert.AdamBReferenceIdeal.main_arg2) = m ((c.tc : Thread Cert.AdamBIdeal.nD Cert.AdamBIdeal.τ).loc Cert.AdamBIdeal.main_arg2)
      ∧ m' ((c.tc : Thread Cert.AdamBReferenceIdeal.nD Cert.AdamBReferenceIdeal.τ).loc Cert.AdamBReferenceIdeal.main_arg3) = m ((c.tc : Thread Cert.AdamBIdeal.nD Cert.AdamBIdeal.τ).loc Cert.AdamBIdeal.main_arg3)) →
    ∃ (v0 : (c : Dev Cert.AdamBIdeal.nD) → Buf (Elt Ideal) ((c.tc : Thread Cert.AdamBIdeal.nD Cert.AdamBIdeal.τ).loc Cert.AdamBIdeal.main_v4_0)) (v1 : (c : Dev Cert.AdamBIdeal.nD) → Buf (Elt Ideal) ((c.tc : Thread Cert.AdamBIdeal.nD Cert.AdamBIdeal.τ).loc Cert.AdamBIdeal.main_v4_1)) (v2 : (c : Dev Cert.AdamBIdeal.nD) → Buf (Elt Ideal) ((c.tc : Thread Cert.AdamBIdeal.nD Cert.AdamBIdeal.τ).loc Cert.AdamBIdeal.main_v4_2)),
      θ_run (Cert.AdamBIdeal.defs (F := Ideal)) (onTc (τ := Cert.AdamBIdeal.τ) (Cert.AdamBIdeal.main (F := Ideal))) ⟨m, fun _ => 0, g⟩ (fun r => ∀ c : Dev Cert.AdamBIdeal.nD,
          r.2.mem ((c.tc : Thread Cert.AdamBIdeal.nD Cert.AdamBIdeal.τ).loc Cert.AdamBIdeal.main_v4_0) = v0 c
          ∧ r.2.mem ((c.tc : Thread Cert.AdamBIdeal.nD Cert.AdamBIdeal.τ).loc Cert.AdamBIdeal.main_v4_1) = v1 c
          ∧ r.2.mem ((c.tc : Thread Cert.AdamBIdeal.nD Cert.AdamBIdeal.τ).loc Cert.AdamBIdeal.main_v4_2) = v2 c
          ∧ r.2.mem ((c.tc : Thread Cert.AdamBIdeal.nD Cert.AdamBIdeal.τ).loc Cert.AdamBIdeal.main_arg0) = m ((c.tc : Thread Cert.AdamBIdeal.nD Cert.AdamBIdeal.τ).loc Cert.AdamBIdeal.main_arg0)
          ∧ r.2.mem ((c.tc : Thread Cert.AdamBIdeal.nD Cert.AdamBIdeal.τ).loc Cert.AdamBIdeal.main_arg1) = m ((c.tc : Thread Cert.AdamBIdeal.nD Cert.AdamBIdeal.τ).loc Cert.AdamBIdeal.main_arg1)
          ∧ r.2.mem ((c.tc : Thread Cert.AdamBIdeal.nD Cert.AdamBIdeal.τ).loc Cert.AdamBIdeal.main_arg2) = m ((c.tc : Thread Cert.AdamBIdeal.nD Cert.AdamBIdeal.τ).loc Cert.AdamBIdeal.main_arg2)
          ∧ r.2.mem ((c.tc : Thread Cert.AdamBIdeal.nD Cert.AdamBIdeal.τ).loc Cert.AdamBIdeal.main_arg3) = m ((c.tc : Thread Cert.AdamBIdeal.nD Cert.AdamBIdeal.τ).loc Cert.AdamBIdeal.main_arg3))
      ∧ θ_run (Cert.AdamBReferenceIdeal.defs (F := Ideal)) (onTc (τ := Cert.AdamBReferenceIdeal.τ) (Cert.AdamBReferenceIdeal.main (F := Ideal))) ⟨m', fun _ => 0, g'⟩ (fun r => ∀ c : Dev Cert.AdamBReferenceIdeal.nD,
          r.2.mem ((c.tc : Thread Cert.AdamBReferenceIdeal.nD Cert.AdamBReferenceIdeal.τ).loc Cert.AdamBReferenceIdeal.main_v24) = v0 c
          ∧ r.2.mem ((c.tc : Thread Cert.AdamBReferenceIdeal.nD Cert.AdamBReferenceIdeal.τ).loc Cert.AdamBReferenceIdeal.main_v25) = v1 c
          ∧ r.2.mem ((c.tc : Thread Cert.AdamBReferenceIdeal.nD Cert.AdamBReferenceIdeal.τ).loc Cert.AdamBReferenceIdeal.main_v26) = v2 c
          ∧ r.2.mem ((c.tc : Thread Cert.AdamBReferenceIdeal.nD Cert.AdamBReferenceIdeal.τ).loc Cert.AdamBReferenceIdeal.main_arg0) = m' ((c.tc : Thread Cert.AdamBReferenceIdeal.nD Cert.AdamBReferenceIdeal.τ).loc Cert.AdamBReferenceIdeal.main_arg0)
          ∧ r.2.mem ((c.tc : Thread Cert.AdamBReferenceIdeal.nD Cert.AdamBReferenceIdeal.τ).loc Cert.AdamBReferenceIdeal.main_arg1) = m' ((c.tc : Thread Cert.AdamBReferenceIdeal.nD Cert.AdamBReferenceIdeal.τ).loc Cert.AdamBReferenceIdeal.main_arg1)
          ∧ r.2.mem ((c.tc : Thread Cert.AdamBReferenceIdeal.nD Cert.AdamBReferenceIdeal.τ).loc Cert.AdamBReferenceIdeal.main_arg2) = m' ((c.tc : Thread Cert.AdamBReferenceIdeal.nD Cert.AdamBReferenceIdeal.τ).loc Cert.AdamBReferenceIdeal.main_arg2)
          ∧ r.2.mem ((c.tc : Thread Cert.AdamBReferenceIdeal.nD Cert.AdamBReferenceIdeal.τ).loc Cert.AdamBReferenceIdeal.main_arg3) = m' ((c.tc : Thread Cert.AdamBReferenceIdeal.nD Cert.AdamBReferenceIdeal.τ).loc Cert.AdamBReferenceIdeal.main_arg3))

def preserves_AdamC_AdamCIdeal : Prop :=
  IdealRules.named_const.Statement Cert.AdamCIdeal.κ "inv_bias1" .f32 0x3FC48605#32 ((8388608 / 5463681 : ℝ) : EReal)
  ∧ IdealRules.named_const.Statement Cert.AdamCIdeal.κ "inv_bias2" .f32 0x42C8E6D3#32 ((268435456 / 2672307 : ℝ) : EReal)

def algebraic_AdamCIdeal_AdamCReferenceIdeal [hAdamCIdeal : Cert.AdamCIdeal.Facts] [hAdamCReferenceIdeal : Cert.AdamCReferenceIdeal.Facts] : Prop :=
  ∀ (m : (ℓ : Loc Cert.AdamCIdeal.nD Cert.AdamCIdeal.τ Cert.AdamCIdeal.sig) → Buf (Elt Ideal) ℓ) (g : Dev Cert.AdamCIdeal.nD → PrngReg)
    (m' : (ℓ : Loc Cert.AdamCReferenceIdeal.nD Cert.AdamCReferenceIdeal.τ Cert.AdamCReferenceIdeal.sig) → Buf (Elt Ideal) ℓ) (g' : Dev Cert.AdamCReferenceIdeal.nD → PrngReg), Pre_AdamCIdeal m →
    (∀ c : Dev Cert.AdamCIdeal.nD,
      m' ((c.tc : Thread Cert.AdamCReferenceIdeal.nD Cert.AdamCReferenceIdeal.τ).loc Cert.AdamCReferenceIdeal.main_arg0) = m ((c.tc : Thread Cert.AdamCIdeal.nD Cert.AdamCIdeal.τ).loc Cert.AdamCIdeal.main_arg0)
      ∧ m' ((c.tc : Thread Cert.AdamCReferenceIdeal.nD Cert.AdamCReferenceIdeal.τ).loc Cert.AdamCReferenceIdeal.main_arg1) = m ((c.tc : Thread Cert.AdamCIdeal.nD Cert.AdamCIdeal.τ).loc Cert.AdamCIdeal.main_arg1)
      ∧ m' ((c.tc : Thread Cert.AdamCReferenceIdeal.nD Cert.AdamCReferenceIdeal.τ).loc Cert.AdamCReferenceIdeal.main_arg2) = m ((c.tc : Thread Cert.AdamCIdeal.nD Cert.AdamCIdeal.τ).loc Cert.AdamCIdeal.main_arg2)
      ∧ m' ((c.tc : Thread Cert.AdamCReferenceIdeal.nD Cert.AdamCReferenceIdeal.τ).loc Cert.AdamCReferenceIdeal.main_arg3) = m ((c.tc : Thread Cert.AdamCIdeal.nD Cert.AdamCIdeal.τ).loc Cert.AdamCIdeal.main_arg3)) →
    ∃ (v0 : (c : Dev Cert.AdamCIdeal.nD) → Buf (Elt Ideal) ((c.tc : Thread Cert.AdamCIdeal.nD Cert.AdamCIdeal.τ).loc Cert.AdamCIdeal.main_v4_0)) (v1 : (c : Dev Cert.AdamCIdeal.nD) → Buf (Elt Ideal) ((c.tc : Thread Cert.AdamCIdeal.nD Cert.AdamCIdeal.τ).loc Cert.AdamCIdeal.main_v4_1)) (v2 : (c : Dev Cert.AdamCIdeal.nD) → Buf (Elt Ideal) ((c.tc : Thread Cert.AdamCIdeal.nD Cert.AdamCIdeal.τ).loc Cert.AdamCIdeal.main_v4_2)),
      θ_run (Cert.AdamCIdeal.defs (F := Ideal)) (onTc (τ := Cert.AdamCIdeal.τ) (Cert.AdamCIdeal.main (F := Ideal))) ⟨m, fun _ => 0, g⟩ (fun r => ∀ c : Dev Cert.AdamCIdeal.nD,
          r.2.mem ((c.tc : Thread Cert.AdamCIdeal.nD Cert.AdamCIdeal.τ).loc Cert.AdamCIdeal.main_v4_0) = v0 c
          ∧ r.2.mem ((c.tc : Thread Cert.AdamCIdeal.nD Cert.AdamCIdeal.τ).loc Cert.AdamCIdeal.main_v4_1) = v1 c
          ∧ r.2.mem ((c.tc : Thread Cert.AdamCIdeal.nD Cert.AdamCIdeal.τ).loc Cert.AdamCIdeal.main_v4_2) = v2 c
          ∧ r.2.mem ((c.tc : Thread Cert.AdamCIdeal.nD Cert.AdamCIdeal.τ).loc Cert.AdamCIdeal.main_arg0) = m ((c.tc : Thread Cert.AdamCIdeal.nD Cert.AdamCIdeal.τ).loc Cert.AdamCIdeal.main_arg0)
          ∧ r.2.mem ((c.tc : Thread Cert.AdamCIdeal.nD Cert.AdamCIdeal.τ).loc Cert.AdamCIdeal.main_arg1) = m ((c.tc : Thread Cert.AdamCIdeal.nD Cert.AdamCIdeal.τ).loc Cert.AdamCIdeal.main_arg1)
          ∧ r.2.mem ((c.tc : Thread Cert.AdamCIdeal.nD Cert.AdamCIdeal.τ).loc Cert.AdamCIdeal.main_arg2) = m ((c.tc : Thread Cert.AdamCIdeal.nD Cert.AdamCIdeal.τ).loc Cert.AdamCIdeal.main_arg2)
          ∧ r.2.mem ((c.tc : Thread Cert.AdamCIdeal.nD Cert.AdamCIdeal.τ).loc Cert.AdamCIdeal.main_arg3) = m ((c.tc : Thread Cert.AdamCIdeal.nD Cert.AdamCIdeal.τ).loc Cert.AdamCIdeal.main_arg3))
      ∧ θ_run (Cert.AdamCReferenceIdeal.defs (F := Ideal)) (onTc (τ := Cert.AdamCReferenceIdeal.τ) (Cert.AdamCReferenceIdeal.main (F := Ideal))) ⟨m', fun _ => 0, g'⟩ (fun r => ∀ c : Dev Cert.AdamCReferenceIdeal.nD,
          r.2.mem ((c.tc : Thread Cert.AdamCReferenceIdeal.nD Cert.AdamCReferenceIdeal.τ).loc Cert.AdamCReferenceIdeal.main_v24) = v0 c
          ∧ r.2.mem ((c.tc : Thread Cert.AdamCReferenceIdeal.nD Cert.AdamCReferenceIdeal.τ).loc Cert.AdamCReferenceIdeal.main_v25) = v1 c
          ∧ r.2.mem ((c.tc : Thread Cert.AdamCReferenceIdeal.nD Cert.AdamCReferenceIdeal.τ).loc Cert.AdamCReferenceIdeal.main_v26) = v2 c
          ∧ r.2.mem ((c.tc : Thread Cert.AdamCReferenceIdeal.nD Cert.AdamCReferenceIdeal.τ).loc Cert.AdamCReferenceIdeal.main_arg0) = m' ((c.tc : Thread Cert.AdamCReferenceIdeal.nD Cert.AdamCReferenceIdeal.τ).loc Cert.AdamCReferenceIdeal.main_arg0)
          ∧ r.2.mem ((c.tc : Thread Cert.AdamCReferenceIdeal.nD Cert.AdamCReferenceIdeal.τ).loc Cert.AdamCReferenceIdeal.main_arg1) = m' ((c.tc : Thread Cert.AdamCReferenceIdeal.nD Cert.AdamCReferenceIdeal.τ).loc Cert.AdamCReferenceIdeal.main_arg1)
          ∧ r.2.mem ((c.tc : Thread Cert.AdamCReferenceIdeal.nD Cert.AdamCReferenceIdeal.τ).loc Cert.AdamCReferenceIdeal.main_arg2) = m' ((c.tc : Thread Cert.AdamCReferenceIdeal.nD Cert.AdamCReferenceIdeal.τ).loc Cert.AdamCReferenceIdeal.main_arg2)
          ∧ r.2.mem ((c.tc : Thread Cert.AdamCReferenceIdeal.nD Cert.AdamCReferenceIdeal.τ).loc Cert.AdamCReferenceIdeal.main_arg3) = m' ((c.tc : Thread Cert.AdamCReferenceIdeal.nD Cert.AdamCReferenceIdeal.τ).loc Cert.AdamCReferenceIdeal.main_arg3))

def preserves_AdamD_AdamDIdeal : Prop :=
  IdealRules.named_const.Statement Cert.AdamDIdeal.κ "inv_bias1" .f32 0x3FC48605#32 ((8388608 / 5463681 : ℝ) : EReal)
  ∧ IdealRules.named_const.Statement Cert.AdamDIdeal.κ "inv_bias2" .f32 0x42C8E6D3#32 ((268435456 / 2672307 : ℝ) : EReal)

def algebraic_AdamDIdeal_AdamDReferenceIdeal [hAdamDIdeal : Cert.AdamDIdeal.Facts] [hAdamDReferenceIdeal : Cert.AdamDReferenceIdeal.Facts] : Prop :=
  ∀ (m : (ℓ : Loc Cert.AdamDIdeal.nD Cert.AdamDIdeal.τ Cert.AdamDIdeal.sig) → Buf (Elt Ideal) ℓ) (g : Dev Cert.AdamDIdeal.nD → PrngReg)
    (m' : (ℓ : Loc Cert.AdamDReferenceIdeal.nD Cert.AdamDReferenceIdeal.τ Cert.AdamDReferenceIdeal.sig) → Buf (Elt Ideal) ℓ) (g' : Dev Cert.AdamDReferenceIdeal.nD → PrngReg), Pre_AdamDIdeal m →
    (∀ c : Dev Cert.AdamDIdeal.nD,
      m' ((c.tc : Thread Cert.AdamDReferenceIdeal.nD Cert.AdamDReferenceIdeal.τ).loc Cert.AdamDReferenceIdeal.main_arg0) = m ((c.tc : Thread Cert.AdamDIdeal.nD Cert.AdamDIdeal.τ).loc Cert.AdamDIdeal.main_arg0)
      ∧ m' ((c.tc : Thread Cert.AdamDReferenceIdeal.nD Cert.AdamDReferenceIdeal.τ).loc Cert.AdamDReferenceIdeal.main_arg1) = m ((c.tc : Thread Cert.AdamDIdeal.nD Cert.AdamDIdeal.τ).loc Cert.AdamDIdeal.main_arg1)
      ∧ m' ((c.tc : Thread Cert.AdamDReferenceIdeal.nD Cert.AdamDReferenceIdeal.τ).loc Cert.AdamDReferenceIdeal.main_arg2) = m ((c.tc : Thread Cert.AdamDIdeal.nD Cert.AdamDIdeal.τ).loc Cert.AdamDIdeal.main_arg2)
      ∧ m' ((c.tc : Thread Cert.AdamDReferenceIdeal.nD Cert.AdamDReferenceIdeal.τ).loc Cert.AdamDReferenceIdeal.main_arg3) = m ((c.tc : Thread Cert.AdamDIdeal.nD Cert.AdamDIdeal.τ).loc Cert.AdamDIdeal.main_arg3)) →
    ∃ (v0 : (c : Dev Cert.AdamDIdeal.nD) → Buf (Elt Ideal) ((c.tc : Thread Cert.AdamDIdeal.nD Cert.AdamDIdeal.τ).loc Cert.AdamDIdeal.main_v0_0)) (v1 : (c : Dev Cert.AdamDIdeal.nD) → Buf (Elt Ideal) ((c.tc : Thread Cert.AdamDIdeal.nD Cert.AdamDIdeal.τ).loc Cert.AdamDIdeal.main_v0_1)) (v2 : (c : Dev Cert.AdamDIdeal.nD) → Buf (Elt Ideal) ((c.tc : Thread Cert.AdamDIdeal.nD Cert.AdamDIdeal.τ).loc Cert.AdamDIdeal.main_v0_2)),
      θ_run (Cert.AdamDIdeal.defs (F := Ideal)) (onTc (τ := Cert.AdamDIdeal.τ) (Cert.AdamDIdeal.main (F := Ideal))) ⟨m, fun _ => 0, g⟩ (fun r => ∀ c : Dev Cert.AdamDIdeal.nD,
          r.2.mem ((c.tc : Thread Cert.AdamDIdeal.nD Cert.AdamDIdeal.τ).loc Cert.AdamDIdeal.main_v0_0) = v0 c
          ∧ r.2.mem ((c.tc : Thread Cert.AdamDIdeal.nD Cert.AdamDIdeal.τ).loc Cert.AdamDIdeal.main_v0_1) = v1 c
          ∧ r.2.mem ((c.tc : Thread Cert.AdamDIdeal.nD Cert.AdamDIdeal.τ).loc Cert.AdamDIdeal.main_v0_2) = v2 c
          ∧ r.2.mem ((c.tc : Thread Cert.AdamDIdeal.nD Cert.AdamDIdeal.τ).loc Cert.AdamDIdeal.main_arg0) = m ((c.tc : Thread Cert.AdamDIdeal.nD Cert.AdamDIdeal.τ).loc Cert.AdamDIdeal.main_arg0)
          ∧ r.2.mem ((c.tc : Thread Cert.AdamDIdeal.nD Cert.AdamDIdeal.τ).loc Cert.AdamDIdeal.main_arg1) = m ((c.tc : Thread Cert.AdamDIdeal.nD Cert.AdamDIdeal.τ).loc Cert.AdamDIdeal.main_arg1)
          ∧ r.2.mem ((c.tc : Thread Cert.AdamDIdeal.nD Cert.AdamDIdeal.τ).loc Cert.AdamDIdeal.main_arg2) = m ((c.tc : Thread Cert.AdamDIdeal.nD Cert.AdamDIdeal.τ).loc Cert.AdamDIdeal.main_arg2)
          ∧ r.2.mem ((c.tc : Thread Cert.AdamDIdeal.nD Cert.AdamDIdeal.τ).loc Cert.AdamDIdeal.main_arg3) = m ((c.tc : Thread Cert.AdamDIdeal.nD Cert.AdamDIdeal.τ).loc Cert.AdamDIdeal.main_arg3))
      ∧ θ_run (Cert.AdamDReferenceIdeal.defs (F := Ideal)) (onTc (τ := Cert.AdamDReferenceIdeal.τ) (Cert.AdamDReferenceIdeal.main (F := Ideal))) ⟨m', fun _ => 0, g'⟩ (fun r => ∀ c : Dev Cert.AdamDReferenceIdeal.nD,
          r.2.mem ((c.tc : Thread Cert.AdamDReferenceIdeal.nD Cert.AdamDReferenceIdeal.τ).loc Cert.AdamDReferenceIdeal.main_v23) = v0 c
          ∧ r.2.mem ((c.tc : Thread Cert.AdamDReferenceIdeal.nD Cert.AdamDReferenceIdeal.τ).loc Cert.AdamDReferenceIdeal.main_v4) = v1 c
          ∧ r.2.mem ((c.tc : Thread Cert.AdamDReferenceIdeal.nD Cert.AdamDReferenceIdeal.τ).loc Cert.AdamDReferenceIdeal.main_v10) = v2 c
          ∧ r.2.mem ((c.tc : Thread Cert.AdamDReferenceIdeal.nD Cert.AdamDReferenceIdeal.τ).loc Cert.AdamDReferenceIdeal.main_arg0) = m' ((c.tc : Thread Cert.AdamDReferenceIdeal.nD Cert.AdamDReferenceIdeal.τ).loc Cert.AdamDReferenceIdeal.main_arg0)
          ∧ r.2.mem ((c.tc : Thread Cert.AdamDReferenceIdeal.nD Cert.AdamDReferenceIdeal.τ).loc Cert.AdamDReferenceIdeal.main_arg1) = m' ((c.tc : Thread Cert.AdamDReferenceIdeal.nD Cert.AdamDReferenceIdeal.τ).loc Cert.AdamDReferenceIdeal.main_arg1)
          ∧ r.2.mem ((c.tc : Thread Cert.AdamDReferenceIdeal.nD Cert.AdamDReferenceIdeal.τ).loc Cert.AdamDReferenceIdeal.main_arg2) = m' ((c.tc : Thread Cert.AdamDReferenceIdeal.nD Cert.AdamDReferenceIdeal.τ).loc Cert.AdamDReferenceIdeal.main_arg2)
          ∧ r.2.mem ((c.tc : Thread Cert.AdamDReferenceIdeal.nD Cert.AdamDReferenceIdeal.τ).loc Cert.AdamDReferenceIdeal.main_arg3) = m' ((c.tc : Thread Cert.AdamDReferenceIdeal.nD Cert.AdamDReferenceIdeal.τ).loc Cert.AdamDReferenceIdeal.main_arg3))

def preserves_Memnorm_MemnormIdeal : Prop :=
  True

def algebraic_MemnormIdeal_MemnormReferenceIdeal [hMemnormIdeal : Cert.MemnormIdeal.Facts] [hMemnormReferenceIdeal : Cert.MemnormReferenceIdeal.Facts] : Prop :=
  ∀ (m : (ℓ : Loc Cert.MemnormIdeal.nD Cert.MemnormIdeal.τ Cert.MemnormIdeal.sig) → Buf (Elt Ideal) ℓ) (g : Dev Cert.MemnormIdeal.nD → PrngReg)
    (m' : (ℓ : Loc Cert.MemnormReferenceIdeal.nD Cert.MemnormReferenceIdeal.τ Cert.MemnormReferenceIdeal.sig) → Buf (Elt Ideal) ℓ) (g' : Dev Cert.MemnormReferenceIdeal.nD → PrngReg), Pre_MemnormIdeal m →
    (∀ c : Dev Cert.MemnormIdeal.nD,
      m' ((c.tc : Thread Cert.MemnormReferenceIdeal.nD Cert.MemnormReferenceIdeal.τ).loc Cert.MemnormReferenceIdeal.main_arg0) = m ((c.tc : Thread Cert.MemnormIdeal.nD Cert.MemnormIdeal.τ).loc Cert.MemnormIdeal.main_arg0)
      ∧ m' ((c.tc : Thread Cert.MemnormReferenceIdeal.nD Cert.MemnormReferenceIdeal.τ).loc Cert.MemnormReferenceIdeal.main_arg1) = m ((c.tc : Thread Cert.MemnormIdeal.nD Cert.MemnormIdeal.τ).loc Cert.MemnormIdeal.main_arg1)) →
    ∃ (v0 : (c : Dev Cert.MemnormIdeal.nD) → Buf (Elt Ideal) ((c.tc : Thread Cert.MemnormIdeal.nD Cert.MemnormIdeal.τ).loc Cert.MemnormIdeal.main_v1)),
      θ_run (Cert.MemnormIdeal.defs (F := Ideal)) (onTc (τ := Cert.MemnormIdeal.τ) (Cert.MemnormIdeal.main (F := Ideal))) ⟨m, fun _ => 0, g⟩ (fun r => ∀ c : Dev Cert.MemnormIdeal.nD,
          r.2.mem ((c.tc : Thread Cert.MemnormIdeal.nD Cert.MemnormIdeal.τ).loc Cert.MemnormIdeal.main_v1) = v0 c
          ∧ r.2.mem ((c.tc : Thread Cert.MemnormIdeal.nD Cert.MemnormIdeal.τ).loc Cert.MemnormIdeal.main_arg0) = m ((c.tc : Thread Cert.MemnormIdeal.nD Cert.MemnormIdeal.τ).loc Cert.MemnormIdeal.main_arg0)
          ∧ r.2.mem ((c.tc : Thread Cert.MemnormIdeal.nD Cert.MemnormIdeal.τ).loc Cert.MemnormIdeal.main_arg1) = m ((c.tc : Thread Cert.MemnormIdeal.nD Cert.MemnormIdeal.τ).loc Cert.MemnormIdeal.main_arg1))
      ∧ θ_run (Cert.MemnormReferenceIdeal.defs (F := Ideal)) (onTc (τ := Cert.MemnormReferenceIdeal.τ) (Cert.MemnormReferenceIdeal.main (F := Ideal))) ⟨m', fun _ => 0, g'⟩ (fun r => ∀ c : Dev Cert.MemnormReferenceIdeal.nD,
          r.2.mem ((c.tc : Thread Cert.MemnormReferenceIdeal.nD Cert.MemnormReferenceIdeal.τ).loc Cert.MemnormReferenceIdeal.main_v13) = v0 c
          ∧ r.2.mem ((c.tc : Thread Cert.MemnormReferenceIdeal.nD Cert.MemnormReferenceIdeal.τ).loc Cert.MemnormReferenceIdeal.main_arg0) = m' ((c.tc : Thread Cert.MemnormReferenceIdeal.nD Cert.MemnormReferenceIdeal.τ).loc Cert.MemnormReferenceIdeal.main_arg0)
          ∧ r.2.mem ((c.tc : Thread Cert.MemnormReferenceIdeal.nD Cert.MemnormReferenceIdeal.τ).loc Cert.MemnormReferenceIdeal.main_arg1) = m' ((c.tc : Thread Cert.MemnormReferenceIdeal.nD Cert.MemnormReferenceIdeal.τ).loc Cert.MemnormReferenceIdeal.main_arg1))

def preserves_Memkv_MemkvIdeal : Prop :=
  True

def algebraic_MemkvIdeal_MemkvReferenceIdeal [hMemkvIdeal : Cert.MemkvIdeal.Facts] [hMemkvReferenceIdeal : Cert.MemkvReferenceIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.MemkvReferenceIdeal.nD Cert.MemkvReferenceIdeal.τ Cert.MemkvReferenceIdeal.sig) → Buf (Elt Ideal) ℓ) (g' : Dev Cert.MemkvReferenceIdeal.nD → PrngReg), Pre_MemkvIdeal m →
    (∀ c : Dev Cert.MemkvIdeal.nD,
      m' ((c.tc : Thread Cert.MemkvReferenceIdeal.nD Cert.MemkvReferenceIdeal.τ).loc Cert.MemkvReferenceIdeal.main_arg0) = m ((c.tc : Thread Cert.MemkvIdeal.nD Cert.MemkvIdeal.τ).loc Cert.MemkvIdeal.main_arg0)
      ∧ m' ((c.tc : Thread Cert.MemkvReferenceIdeal.nD Cert.MemkvReferenceIdeal.τ).loc Cert.MemkvReferenceIdeal.main_arg1) = m ((c.tc : Thread Cert.MemkvIdeal.nD Cert.MemkvIdeal.τ).loc Cert.MemkvIdeal.main_arg1)) →
    ∃ (v0 : (c : Dev Cert.MemkvIdeal.nD) → Buf (Elt Ideal) ((c.tc : Thread Cert.MemkvIdeal.nD Cert.MemkvIdeal.τ).loc Cert.MemkvIdeal.main_v0)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v0) = v0 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1))
      ∧ θ_run (Cert.MemkvReferenceIdeal.defs (F := Ideal)) (onTc (τ := Cert.MemkvReferenceIdeal.τ) (Cert.MemkvReferenceIdeal.main (F := Ideal))) ⟨m', fun _ => 0, g'⟩ (fun r => ∀ c : Dev Cert.MemkvReferenceIdeal.nD,
          r.2.mem ((c.tc : Thread Cert.MemkvReferenceIdeal.nD Cert.MemkvReferenceIdeal.τ).loc Cert.MemkvReferenceIdeal.main_v11) = v0 c
          ∧ r.2.mem ((c.tc : Thread Cert.MemkvReferenceIdeal.nD Cert.MemkvReferenceIdeal.τ).loc Cert.MemkvReferenceIdeal.main_arg0) = m' ((c.tc : Thread Cert.MemkvReferenceIdeal.nD Cert.MemkvReferenceIdeal.τ).loc Cert.MemkvReferenceIdeal.main_arg0)
          ∧ r.2.mem ((c.tc : Thread Cert.MemkvReferenceIdeal.nD Cert.MemkvReferenceIdeal.τ).loc Cert.MemkvReferenceIdeal.main_arg1) = m' ((c.tc : Thread Cert.MemkvReferenceIdeal.nD Cert.MemkvReferenceIdeal.τ).loc Cert.MemkvReferenceIdeal.main_arg1))

def preserves_Memkv0_Memkv0Ideal : Prop :=
  True

def algebraic_Memkv0Ideal_Memkv0ReferenceIdeal [hMemkv0Ideal : Cert.Memkv0Ideal.Facts] [hMemkv0ReferenceIdeal : Cert.Memkv0ReferenceIdeal.Facts] : Prop :=
  ∀ (m : (ℓ : Loc Cert.Memkv0Ideal.nD Cert.Memkv0Ideal.τ Cert.Memkv0Ideal.sig) → Buf (Elt Ideal) ℓ) (g : Dev Cert.Memkv0Ideal.nD → PrngReg)
    (m' : (ℓ : Loc Cert.Memkv0ReferenceIdeal.nD Cert.Memkv0ReferenceIdeal.τ Cert.Memkv0ReferenceIdeal.sig) → Buf (Elt Ideal) ℓ) (g' : Dev Cert.Memkv0ReferenceIdeal.nD → PrngReg), Pre_Memkv0Ideal m →
    (∀ c : Dev Cert.Memkv0Ideal.nD,
      m' ((c.tc : Thread Cert.Memkv0ReferenceIdeal.nD Cert.Memkv0ReferenceIdeal.τ).loc Cert.Memkv0ReferenceIdeal.main_arg0) = m ((c.tc : Thread Cert.Memkv0Ideal.nD Cert.Memkv0Ideal.τ).loc Cert.Memkv0Ideal.main_arg0)
      ∧ m' ((c.tc : Thread Cert.Memkv0ReferenceIdeal.nD Cert.Memkv0ReferenceIdeal.τ).loc Cert.Memkv0ReferenceIdeal.main_arg1) = m ((c.tc : Thread Cert.Memkv0Ideal.nD Cert.Memkv0Ideal.τ).loc Cert.Memkv0Ideal.main_arg1)) →
    ∃ (v0 : (c : Dev Cert.Memkv0Ideal.nD) → Buf (Elt Ideal) ((c.tc : Thread Cert.Memkv0Ideal.nD Cert.Memkv0Ideal.τ).loc Cert.Memkv0Ideal.main_v0)),
      θ_run (Cert.Memkv0Ideal.defs (F := Ideal)) (onTc (τ := Cert.Memkv0Ideal.τ) (Cert.Memkv0Ideal.main (F := Ideal))) ⟨m, fun _ => 0, g⟩ (fun r => ∀ c : Dev Cert.Memkv0Ideal.nD,
          r.2.mem ((c.tc : Thread Cert.Memkv0Ideal.nD Cert.Memkv0Ideal.τ).loc Cert.Memkv0Ideal.main_v0) = v0 c
          ∧ r.2.mem ((c.tc : Thread Cert.Memkv0Ideal.nD Cert.Memkv0Ideal.τ).loc Cert.Memkv0Ideal.main_arg0) = m ((c.tc : Thread Cert.Memkv0Ideal.nD Cert.Memkv0Ideal.τ).loc Cert.Memkv0Ideal.main_arg0)
          ∧ r.2.mem ((c.tc : Thread Cert.Memkv0Ideal.nD Cert.Memkv0Ideal.τ).loc Cert.Memkv0Ideal.main_arg1) = m ((c.tc : Thread Cert.Memkv0Ideal.nD Cert.Memkv0Ideal.τ).loc Cert.Memkv0Ideal.main_arg1))
      ∧ θ_run (Cert.Memkv0ReferenceIdeal.defs (F := Ideal)) (onTc (τ := Cert.Memkv0ReferenceIdeal.τ) (Cert.Memkv0ReferenceIdeal.main (F := Ideal))) ⟨m', fun _ => 0, g'⟩ (fun r => ∀ c : Dev Cert.Memkv0ReferenceIdeal.nD,
          r.2.mem ((c.tc : Thread Cert.Memkv0ReferenceIdeal.nD Cert.Memkv0ReferenceIdeal.τ).loc Cert.Memkv0ReferenceIdeal.main_v11) = v0 c
          ∧ r.2.mem ((c.tc : Thread Cert.Memkv0ReferenceIdeal.nD Cert.Memkv0ReferenceIdeal.τ).loc Cert.Memkv0ReferenceIdeal.main_arg0) = m' ((c.tc : Thread Cert.Memkv0ReferenceIdeal.nD Cert.Memkv0ReferenceIdeal.τ).loc Cert.Memkv0ReferenceIdeal.main_arg0)
          ∧ r.2.mem ((c.tc : Thread Cert.Memkv0ReferenceIdeal.nD Cert.Memkv0ReferenceIdeal.τ).loc Cert.Memkv0ReferenceIdeal.main_arg1) = m' ((c.tc : Thread Cert.Memkv0ReferenceIdeal.nD Cert.Memkv0ReferenceIdeal.τ).loc Cert.Memkv0ReferenceIdeal.main_arg1))

def preserves_Dwkv_DwkvIdeal : Prop :=
  True

def algebraic_DwkvIdeal_DwkvReferenceIdeal [hDwkvIdeal : Cert.DwkvIdeal.Facts] [hDwkvReferenceIdeal : Cert.DwkvReferenceIdeal.Facts] : Prop :=
  ∀ (m : (ℓ : Loc Cert.DwkvIdeal.nD Cert.DwkvIdeal.τ Cert.DwkvIdeal.sig) → Buf (Elt Ideal) ℓ) (g : Dev Cert.DwkvIdeal.nD → PrngReg)
    (m' : (ℓ : Loc Cert.DwkvReferenceIdeal.nD Cert.DwkvReferenceIdeal.τ Cert.DwkvReferenceIdeal.sig) → Buf (Elt Ideal) ℓ) (g' : Dev Cert.DwkvReferenceIdeal.nD → PrngReg), Pre_DwkvIdeal m →
    (∀ c : Dev Cert.DwkvIdeal.nD,
      m' ((c.tc : Thread Cert.DwkvReferenceIdeal.nD Cert.DwkvReferenceIdeal.τ).loc Cert.DwkvReferenceIdeal.main_arg0) = m ((c.tc : Thread Cert.DwkvIdeal.nD Cert.DwkvIdeal.τ).loc Cert.DwkvIdeal.main_arg0)
      ∧ m' ((c.tc : Thread Cert.DwkvReferenceIdeal.nD Cert.DwkvReferenceIdeal.τ).loc Cert.DwkvReferenceIdeal.main_arg1) = m ((c.tc : Thread Cert.DwkvIdeal.nD Cert.DwkvIdeal.τ).loc Cert.DwkvIdeal.main_arg1)) →
    ∃ (v0 : (c : Dev Cert.DwkvIdeal.nD) → Buf (Elt Ideal) ((c.tc : Thread Cert.DwkvIdeal.nD Cert.DwkvIdeal.τ).loc Cert.DwkvIdeal.main_v1)),
      θ_run (Cert.DwkvIdeal.defs (F := Ideal)) (onTc (τ := Cert.DwkvIdeal.τ) (Cert.DwkvIdeal.main (F := Ideal))) ⟨m, fun _ => 0, g⟩ (fun r => ∀ c : Dev Cert.DwkvIdeal.nD,
          r.2.mem ((c.tc : Thread Cert.DwkvIdeal.nD Cert.DwkvIdeal.τ).loc Cert.DwkvIdeal.main_v1) = v0 c
          ∧ r.2.mem ((c.tc : Thread Cert.DwkvIdeal.nD Cert.DwkvIdeal.τ).loc Cert.DwkvIdeal.main_arg0) = m ((c.tc : Thread Cert.DwkvIdeal.nD Cert.DwkvIdeal.τ).loc Cert.DwkvIdeal.main_arg0)
          ∧ r.2.mem ((c.tc : Thread Cert.DwkvIdeal.nD Cert.DwkvIdeal.τ).loc Cert.DwkvIdeal.main_arg1) = m ((c.tc : Thread Cert.DwkvIdeal.nD Cert.DwkvIdeal.τ).loc Cert.DwkvIdeal.main_arg1))
      ∧ θ_run (Cert.DwkvReferenceIdeal.defs (F := Ideal)) (onTc (τ := Cert.DwkvReferenceIdeal.τ) (Cert.DwkvReferenceIdeal.main (F := Ideal))) ⟨m', fun _ => 0, g'⟩ (fun r => ∀ c : Dev Cert.DwkvReferenceIdeal.nD,
          r.2.mem ((c.tc : Thread Cert.DwkvReferenceIdeal.nD Cert.DwkvReferenceIdeal.τ).loc Cert.DwkvReferenceIdeal.main_v4) = v0 c
          ∧ r.2.mem ((c.tc : Thread Cert.DwkvReferenceIdeal.nD Cert.DwkvReferenceIdeal.τ).loc Cert.DwkvReferenceIdeal.main_arg0) = m' ((c.tc : Thread Cert.DwkvReferenceIdeal.nD Cert.DwkvReferenceIdeal.τ).loc Cert.DwkvReferenceIdeal.main_arg0)
          ∧ r.2.mem ((c.tc : Thread Cert.DwkvReferenceIdeal.nD Cert.DwkvReferenceIdeal.τ).loc Cert.DwkvReferenceIdeal.main_arg1) = m' ((c.tc : Thread Cert.DwkvReferenceIdeal.nD Cert.DwkvReferenceIdeal.τ).loc Cert.DwkvReferenceIdeal.main_arg1))

def preserves_Dmemh_DmemhIdeal : Prop :=
  True

def algebraic_DmemhIdeal_DmemhReferenceIdeal [hDmemhIdeal : Cert.DmemhIdeal.Facts] [hDmemhReferenceIdeal : Cert.DmemhReferenceIdeal.Facts] : Prop :=
  ∀ (m : (ℓ : Loc Cert.DmemhIdeal.nD Cert.DmemhIdeal.τ Cert.DmemhIdeal.sig) → Buf (Elt Ideal) ℓ) (g : Dev Cert.DmemhIdeal.nD → PrngReg)
    (m' : (ℓ : Loc Cert.DmemhReferenceIdeal.nD Cert.DmemhReferenceIdeal.τ Cert.DmemhReferenceIdeal.sig) → Buf (Elt Ideal) ℓ) (g' : Dev Cert.DmemhReferenceIdeal.nD → PrngReg), Pre_DmemhIdeal m →
    (∀ c : Dev Cert.DmemhIdeal.nD,
      m' ((c.tc : Thread Cert.DmemhReferenceIdeal.nD Cert.DmemhReferenceIdeal.τ).loc Cert.DmemhReferenceIdeal.main_arg0) = m ((c.tc : Thread Cert.DmemhIdeal.nD Cert.DmemhIdeal.τ).loc Cert.DmemhIdeal.main_arg0)
      ∧ m' ((c.tc : Thread Cert.DmemhReferenceIdeal.nD Cert.DmemhReferenceIdeal.τ).loc Cert.DmemhReferenceIdeal.main_arg1) = m ((c.tc : Thread Cert.DmemhIdeal.nD Cert.DmemhIdeal.τ).loc Cert.DmemhIdeal.main_arg1)) →
    ∃ (v0 : (c : Dev Cert.DmemhIdeal.nD) → Buf (Elt Ideal) ((c.tc : Thread Cert.DmemhIdeal.nD Cert.DmemhIdeal.τ).loc Cert.DmemhIdeal.main_v1)),
      θ_run (Cert.DmemhIdeal.defs (F := Ideal)) (onTc (τ := Cert.DmemhIdeal.τ) (Cert.DmemhIdeal.main (F := Ideal))) ⟨m, fun _ => 0, g⟩ (fun r => ∀ c : Dev Cert.DmemhIdeal.nD,
          r.2.mem ((c.tc : Thread Cert.DmemhIdeal.nD Cert.DmemhIdeal.τ).loc Cert.DmemhIdeal.main_v1) = v0 c
          ∧ r.2.mem ((c.tc : Thread Cert.DmemhIdeal.nD Cert.DmemhIdeal.τ).loc Cert.DmemhIdeal.main_arg0) = m ((c.tc : Thread Cert.DmemhIdeal.nD Cert.DmemhIdeal.τ).loc Cert.DmemhIdeal.main_arg0)
          ∧ r.2.mem ((c.tc : Thread Cert.DmemhIdeal.nD Cert.DmemhIdeal.τ).loc Cert.DmemhIdeal.main_arg1) = m ((c.tc : Thread Cert.DmemhIdeal.nD Cert.DmemhIdeal.τ).loc Cert.DmemhIdeal.main_arg1))
      ∧ θ_run (Cert.DmemhReferenceIdeal.defs (F := Ideal)) (onTc (τ := Cert.DmemhReferenceIdeal.τ) (Cert.DmemhReferenceIdeal.main (F := Ideal))) ⟨m', fun _ => 0, g'⟩ (fun r => ∀ c : Dev Cert.DmemhReferenceIdeal.nD,
          r.2.mem ((c.tc : Thread Cert.DmemhReferenceIdeal.nD Cert.DmemhReferenceIdeal.τ).loc Cert.DmemhReferenceIdeal.main_v12) = v0 c
          ∧ r.2.mem ((c.tc : Thread Cert.DmemhReferenceIdeal.nD Cert.DmemhReferenceIdeal.τ).loc Cert.DmemhReferenceIdeal.main_arg0) = m' ((c.tc : Thread Cert.DmemhReferenceIdeal.nD Cert.DmemhReferenceIdeal.τ).loc Cert.DmemhReferenceIdeal.main_arg0)
          ∧ r.2.mem ((c.tc : Thread Cert.DmemhReferenceIdeal.nD Cert.DmemhReferenceIdeal.τ).loc Cert.DmemhReferenceIdeal.main_arg1) = m' ((c.tc : Thread Cert.DmemhReferenceIdeal.nD Cert.DmemhReferenceIdeal.τ).loc Cert.DmemhReferenceIdeal.main_arg1))

def preserves_Dmemh0_Dmemh0Ideal : Prop :=
  True

def algebraic_Dmemh0Ideal_Dmemh0ReferenceIdeal [hDmemh0Ideal : Cert.Dmemh0Ideal.Facts] [hDmemh0ReferenceIdeal : Cert.Dmemh0ReferenceIdeal.Facts] : Prop :=
  ∀ (m : (ℓ : Loc Cert.Dmemh0Ideal.nD Cert.Dmemh0Ideal.τ Cert.Dmemh0Ideal.sig) → Buf (Elt Ideal) ℓ) (g : Dev Cert.Dmemh0Ideal.nD → PrngReg)
    (m' : (ℓ : Loc Cert.Dmemh0ReferenceIdeal.nD Cert.Dmemh0ReferenceIdeal.τ Cert.Dmemh0ReferenceIdeal.sig) → Buf (Elt Ideal) ℓ) (g' : Dev Cert.Dmemh0ReferenceIdeal.nD → PrngReg), Pre_Dmemh0Ideal m →
    (∀ c : Dev Cert.Dmemh0Ideal.nD,
      m' ((c.tc : Thread Cert.Dmemh0ReferenceIdeal.nD Cert.Dmemh0ReferenceIdeal.τ).loc Cert.Dmemh0ReferenceIdeal.main_arg0) = m ((c.tc : Thread Cert.Dmemh0Ideal.nD Cert.Dmemh0Ideal.τ).loc Cert.Dmemh0Ideal.main_arg0)
      ∧ m' ((c.tc : Thread Cert.Dmemh0ReferenceIdeal.nD Cert.Dmemh0ReferenceIdeal.τ).loc Cert.Dmemh0ReferenceIdeal.main_arg1) = m ((c.tc : Thread Cert.Dmemh0Ideal.nD Cert.Dmemh0Ideal.τ).loc Cert.Dmemh0Ideal.main_arg1)) →
    ∃ (v0 : (c : Dev Cert.Dmemh0Ideal.nD) → Buf (Elt Ideal) ((c.tc : Thread Cert.Dmemh0Ideal.nD Cert.Dmemh0Ideal.τ).loc Cert.Dmemh0Ideal.main_v1)),
      θ_run (Cert.Dmemh0Ideal.defs (F := Ideal)) (onTc (τ := Cert.Dmemh0Ideal.τ) (Cert.Dmemh0Ideal.main (F := Ideal))) ⟨m, fun _ => 0, g⟩ (fun r => ∀ c : Dev Cert.Dmemh0Ideal.nD,
          r.2.mem ((c.tc : Thread Cert.Dmemh0Ideal.nD Cert.Dmemh0Ideal.τ).loc Cert.Dmemh0Ideal.main_v1) = v0 c
          ∧ r.2.mem ((c.tc : Thread Cert.Dmemh0Ideal.nD Cert.Dmemh0Ideal.τ).loc Cert.Dmemh0Ideal.main_arg0) = m ((c.tc : Thread Cert.Dmemh0Ideal.nD Cert.Dmemh0Ideal.τ).loc Cert.Dmemh0Ideal.main_arg0)
          ∧ r.2.mem ((c.tc : Thread Cert.Dmemh0Ideal.nD Cert.Dmemh0Ideal.τ).loc Cert.Dmemh0Ideal.main_arg1) = m ((c.tc : Thread Cert.Dmemh0Ideal.nD Cert.Dmemh0Ideal.τ).loc Cert.Dmemh0Ideal.main_arg1))
      ∧ θ_run (Cert.Dmemh0ReferenceIdeal.defs (F := Ideal)) (onTc (τ := Cert.Dmemh0ReferenceIdeal.τ) (Cert.Dmemh0ReferenceIdeal.main (F := Ideal))) ⟨m', fun _ => 0, g'⟩ (fun r => ∀ c : Dev Cert.Dmemh0ReferenceIdeal.nD,
          r.2.mem ((c.tc : Thread Cert.Dmemh0ReferenceIdeal.nD Cert.Dmemh0ReferenceIdeal.τ).loc Cert.Dmemh0ReferenceIdeal.main_v12) = v0 c
          ∧ r.2.mem ((c.tc : Thread Cert.Dmemh0ReferenceIdeal.nD Cert.Dmemh0ReferenceIdeal.τ).loc Cert.Dmemh0ReferenceIdeal.main_arg0) = m' ((c.tc : Thread Cert.Dmemh0ReferenceIdeal.nD Cert.Dmemh0ReferenceIdeal.τ).loc Cert.Dmemh0ReferenceIdeal.main_arg0)
          ∧ r.2.mem ((c.tc : Thread Cert.Dmemh0ReferenceIdeal.nD Cert.Dmemh0ReferenceIdeal.τ).loc Cert.Dmemh0ReferenceIdeal.main_arg1) = m' ((c.tc : Thread Cert.Dmemh0ReferenceIdeal.nD Cert.Dmemh0ReferenceIdeal.τ).loc Cert.Dmemh0ReferenceIdeal.main_arg1))

def preserves_Dmemnorm_DmemnormIdeal : Prop :=
  True

def algebraic_DmemnormIdeal_DmemnormReferenceIdeal [hDmemnormIdeal : Cert.DmemnormIdeal.Facts] [hDmemnormReferenceIdeal : Cert.DmemnormReferenceIdeal.Facts] : Prop :=
  ∀ (m : (ℓ : Loc Cert.DmemnormIdeal.nD Cert.DmemnormIdeal.τ Cert.DmemnormIdeal.sig) → Buf (Elt Ideal) ℓ) (g : Dev Cert.DmemnormIdeal.nD → PrngReg)
    (m' : (ℓ : Loc Cert.DmemnormReferenceIdeal.nD Cert.DmemnormReferenceIdeal.τ Cert.DmemnormReferenceIdeal.sig) → Buf (Elt Ideal) ℓ) (g' : Dev Cert.DmemnormReferenceIdeal.nD → PrngReg), Pre_DmemnormIdeal m →
    (∀ c : Dev Cert.DmemnormIdeal.nD,
      m' ((c.tc : Thread Cert.DmemnormReferenceIdeal.nD Cert.DmemnormReferenceIdeal.τ).loc Cert.DmemnormReferenceIdeal.main_arg0) = m ((c.tc : Thread Cert.DmemnormIdeal.nD Cert.DmemnormIdeal.τ).loc Cert.DmemnormIdeal.main_arg0)
      ∧ m' ((c.tc : Thread Cert.DmemnormReferenceIdeal.nD Cert.DmemnormReferenceIdeal.τ).loc Cert.DmemnormReferenceIdeal.main_arg1) = m ((c.tc : Thread Cert.DmemnormIdeal.nD Cert.DmemnormIdeal.τ).loc Cert.DmemnormIdeal.main_arg1)
      ∧ m' ((c.tc : Thread Cert.DmemnormReferenceIdeal.nD Cert.DmemnormReferenceIdeal.τ).loc Cert.DmemnormReferenceIdeal.main_arg2) = m ((c.tc : Thread Cert.DmemnormIdeal.nD Cert.DmemnormIdeal.τ).loc Cert.DmemnormIdeal.main_arg2)) →
    ∃ (v0 : (c : Dev Cert.DmemnormIdeal.nD) → Buf (Elt Ideal) ((c.tc : Thread Cert.DmemnormIdeal.nD Cert.DmemnormIdeal.τ).loc Cert.DmemnormIdeal.main_v1)),
      θ_run (Cert.DmemnormIdeal.defs (F := Ideal)) (onTc (τ := Cert.DmemnormIdeal.τ) (Cert.DmemnormIdeal.main (F := Ideal))) ⟨m, fun _ => 0, g⟩ (fun r => ∀ c : Dev Cert.DmemnormIdeal.nD,
          r.2.mem ((c.tc : Thread Cert.DmemnormIdeal.nD Cert.DmemnormIdeal.τ).loc Cert.DmemnormIdeal.main_v1) = v0 c
          ∧ r.2.mem ((c.tc : Thread Cert.DmemnormIdeal.nD Cert.DmemnormIdeal.τ).loc Cert.DmemnormIdeal.main_arg0) = m ((c.tc : Thread Cert.DmemnormIdeal.nD Cert.DmemnormIdeal.τ).loc Cert.DmemnormIdeal.main_arg0)
          ∧ r.2.mem ((c.tc : Thread Cert.DmemnormIdeal.nD Cert.DmemnormIdeal.τ).loc Cert.DmemnormIdeal.main_arg1) = m ((c.tc : Thread Cert.DmemnormIdeal.nD Cert.DmemnormIdeal.τ).loc Cert.DmemnormIdeal.main_arg1)
          ∧ r.2.mem ((c.tc : Thread Cert.DmemnormIdeal.nD Cert.DmemnormIdeal.τ).loc Cert.DmemnormIdeal.main_arg2) = m ((c.tc : Thread Cert.DmemnormIdeal.nD Cert.DmemnormIdeal.τ).loc Cert.DmemnormIdeal.main_arg2))
      ∧ θ_run (Cert.DmemnormReferenceIdeal.defs (F := Ideal)) (onTc (τ := Cert.DmemnormReferenceIdeal.τ) (Cert.DmemnormReferenceIdeal.main (F := Ideal))) ⟨m', fun _ => 0, g'⟩ (fun r => ∀ c : Dev Cert.DmemnormReferenceIdeal.nD,
          r.2.mem ((c.tc : Thread Cert.DmemnormReferenceIdeal.nD Cert.DmemnormReferenceIdeal.τ).loc Cert.DmemnormReferenceIdeal.main_v17) = v0 c
          ∧ r.2.mem ((c.tc : Thread Cert.DmemnormReferenceIdeal.nD Cert.DmemnormReferenceIdeal.τ).loc Cert.DmemnormReferenceIdeal.main_arg0) = m' ((c.tc : Thread Cert.DmemnormReferenceIdeal.nD Cert.DmemnormReferenceIdeal.τ).loc Cert.DmemnormReferenceIdeal.main_arg0)
          ∧ r.2.mem ((c.tc : Thread Cert.DmemnormReferenceIdeal.nD Cert.DmemnormReferenceIdeal.τ).loc Cert.DmemnormReferenceIdeal.main_arg1) = m' ((c.tc : Thread Cert.DmemnormReferenceIdeal.nD Cert.DmemnormReferenceIdeal.τ).loc Cert.DmemnormReferenceIdeal.main_arg1)
          ∧ r.2.mem ((c.tc : Thread Cert.DmemnormReferenceIdeal.nD Cert.DmemnormReferenceIdeal.τ).loc Cert.DmemnormReferenceIdeal.main_arg2) = m' ((c.tc : Thread Cert.DmemnormReferenceIdeal.nD Cert.DmemnormReferenceIdeal.τ).loc Cert.DmemnormReferenceIdeal.main_arg2))

def preserves_Mem_MemIdeal : Prop :=
  IdealRules.named_const.Statement Cert.MemIdeal.κ "inv_root" .f32 0x3DB504F3#32 ((1048576 / 11863283 : ℝ) : EReal)

def algebraic_MemIdeal_MemReferenceIdeal [hMemIdeal : Cert.MemIdeal.Facts] [hMemReferenceIdeal : Cert.MemReferenceIdeal.Facts] : Prop :=
  ∀ (m : (ℓ : Loc Cert.MemIdeal.nD Cert.MemIdeal.τ Cert.MemIdeal.sig) → Buf (Elt Ideal) ℓ) (g : Dev Cert.MemIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemIdeal m →
    (∀ c : Dev Cert.MemIdeal.nD,
      m' ((c.tc : Thread Cert.MemReferenceIdeal.nD Cert.MemReferenceIdeal.τ).loc Cert.MemReferenceIdeal.main_arg0) = m ((c.tc : Thread Cert.MemIdeal.nD Cert.MemIdeal.τ).loc Cert.MemIdeal.main_arg0)
      ∧ m' ((c.tc : Thread Cert.MemReferenceIdeal.nD Cert.MemReferenceIdeal.τ).loc Cert.MemReferenceIdeal.main_arg1) = m ((c.tc : Thread Cert.MemIdeal.nD Cert.MemIdeal.τ).loc Cert.MemIdeal.main_arg1)
      ∧ m' ((c.tc : Thread Cert.MemReferenceIdeal.nD Cert.MemReferenceIdeal.τ).loc Cert.MemReferenceIdeal.main_arg2) = m ((c.tc : Thread Cert.MemIdeal.nD Cert.MemIdeal.τ).loc Cert.MemIdeal.main_arg2)
      ∧ m' ((c.tc : Thread Cert.MemReferenceIdeal.nD Cert.MemReferenceIdeal.τ).loc Cert.MemReferenceIdeal.main_arg3) = m ((c.tc : Thread Cert.MemIdeal.nD Cert.MemIdeal.τ).loc Cert.MemIdeal.main_arg3)) →
    ∃ (v0 : (c : Dev Cert.MemIdeal.nD) → Buf (Elt Ideal) ((c.tc : Thread Cert.MemIdeal.nD Cert.MemIdeal.τ).loc Cert.MemIdeal.main_v2)),
      θ_run (Cert.MemIdeal.defs (F := Ideal)) (onTc (τ := Cert.MemIdeal.τ) (Cert.MemIdeal.main (F := Ideal))) ⟨m, fun _ => 0, g⟩ (fun r => ∀ c : Dev Cert.MemIdeal.nD,
          r.2.mem ((c.tc : Thread Cert.MemIdeal.nD Cert.MemIdeal.τ).loc Cert.MemIdeal.main_v2) = v0 c
          ∧ r.2.mem ((c.tc : Thread Cert.MemIdeal.nD Cert.MemIdeal.τ).loc Cert.MemIdeal.main_arg0) = m ((c.tc : Thread Cert.MemIdeal.nD Cert.MemIdeal.τ).loc Cert.MemIdeal.main_arg0)
          ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
          ∧ r.2.mem ((c.tc : Thread Cert.MemIdeal.nD Cert.MemIdeal.τ).loc Cert.MemIdeal.main_arg2) = m ((c.tc : Thread Cert.MemIdeal.nD Cert.MemIdeal.τ).loc Cert.MemIdeal.main_arg2)
          ∧ r.2.mem ((c.tc : Thread Cert.MemIdeal.nD Cert.MemIdeal.τ).loc Cert.MemIdeal.main_arg3) = m ((c.tc : Thread Cert.MemIdeal.nD Cert.MemIdeal.τ).loc Cert.MemIdeal.main_arg3))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v48) = v0 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2)
          ∧ r.2.mem ((c.tc : Thread Cert.MemReferenceIdeal.nD Cert.MemReferenceIdeal.τ).loc Cert.MemReferenceIdeal.main_arg3) = m' ((c.tc : Thread Cert.MemReferenceIdeal.nD Cert.MemReferenceIdeal.τ).loc Cert.MemReferenceIdeal.main_arg3))

def preserves_Mems_MemsIdeal : Prop :=
  IdealRules.named_const.Statement Cert.MemsIdeal.κ "inv_root" .f32 0x3DB504F3#32 ((1048576 / 11863283 : ℝ) : EReal)

def algebraic_MemsIdeal_MemsReferenceIdeal [hMemsIdeal : Cert.MemsIdeal.Facts] [hMemsReferenceIdeal : Cert.MemsReferenceIdeal.Facts] : Prop :=
  ∀ (m : (ℓ : Loc Cert.MemsIdeal.nD Cert.MemsIdeal.τ Cert.MemsIdeal.sig) → Buf (Elt Ideal) ℓ) (g : Dev Cert.MemsIdeal.nD → PrngReg)
    (m' : (ℓ : Loc Cert.MemsReferenceIdeal.nD Cert.MemsReferenceIdeal.τ Cert.MemsReferenceIdeal.sig) → Buf (Elt Ideal) ℓ) (g' : Dev Cert.MemsReferenceIdeal.nD → PrngReg), Pre_MemsIdeal m →
    (∀ c : Dev Cert.MemsIdeal.nD,
      m' ((c.tc : Thread Cert.MemsReferenceIdeal.nD Cert.MemsReferenceIdeal.τ).loc Cert.MemsReferenceIdeal.main_arg0) = m ((c.tc : Thread Cert.MemsIdeal.nD Cert.MemsIdeal.τ).loc Cert.MemsIdeal.main_arg0)
      ∧ m' ((c.tc : Thread Cert.MemsReferenceIdeal.nD Cert.MemsReferenceIdeal.τ).loc Cert.MemsReferenceIdeal.main_arg1) = m ((c.tc : Thread Cert.MemsIdeal.nD Cert.MemsIdeal.τ).loc Cert.MemsIdeal.main_arg1)
      ∧ m' ((c.tc : Thread Cert.MemsReferenceIdeal.nD Cert.MemsReferenceIdeal.τ).loc Cert.MemsReferenceIdeal.main_arg2) = m ((c.tc : Thread Cert.MemsIdeal.nD Cert.MemsIdeal.τ).loc Cert.MemsIdeal.main_arg2)
      ∧ m' ((c.tc : Thread Cert.MemsReferenceIdeal.nD Cert.MemsReferenceIdeal.τ).loc Cert.MemsReferenceIdeal.main_arg3) = m ((c.tc : Thread Cert.MemsIdeal.nD Cert.MemsIdeal.τ).loc Cert.MemsIdeal.main_arg3)) →
    ∃ (v0 : (c : Dev Cert.MemsIdeal.nD) → Buf (Elt Ideal) ((c.tc : Thread Cert.MemsIdeal.nD Cert.MemsIdeal.τ).loc Cert.MemsIdeal.main_v2)),
      θ_run (Cert.MemsIdeal.defs (F := Ideal)) (onTc (τ := Cert.MemsIdeal.τ) (Cert.MemsIdeal.main (F := Ideal))) ⟨m, fun _ => 0, g⟩ (fun r => ∀ c : Dev Cert.MemsIdeal.nD,
          r.2.mem ((c.tc : Thread Cert.MemsIdeal.nD Cert.MemsIdeal.τ).loc Cert.MemsIdeal.main_v2) = v0 c
          ∧ r.2.mem ((c.tc : Thread Cert.MemsIdeal.nD Cert.MemsIdeal.τ).loc Cert.MemsIdeal.main_arg0) = m ((c.tc : Thread Cert.MemsIdeal.nD Cert.MemsIdeal.τ).loc Cert.MemsIdeal.main_arg0)
          ∧ r.2.mem ((c.tc : Thread Cert.MemsIdeal.nD Cert.MemsIdeal.τ).loc Cert.MemsIdeal.main_arg1) = m ((c.tc : Thread Cert.MemsIdeal.nD Cert.MemsIdeal.τ).loc Cert.MemsIdeal.main_arg1)
          ∧ r.2.mem ((c.tc : Thread Cert.MemsIdeal.nD Cert.MemsIdeal.τ).loc Cert.MemsIdeal.main_arg2) = m ((c.tc : Thread Cert.MemsIdeal.nD Cert.MemsIdeal.τ).loc Cert.MemsIdeal.main_arg2)
          ∧ r.2.mem ((c.tc : Thread Cert.MemsIdeal.nD Cert.MemsIdeal.τ).loc Cert.MemsIdeal.main_arg3) = m ((c.tc : Thread Cert.MemsIdeal.nD Cert.MemsIdeal.τ).loc Cert.MemsIdeal.main_arg3))
      ∧ θ_run (Cert.MemsReferenceIdeal.defs (F := Ideal)) (onTc (τ := Cert.MemsReferenceIdeal.τ) (Cert.MemsReferenceIdeal.main (F := Ideal))) ⟨m', fun _ => 0, g'⟩ (fun r => ∀ c : Dev Cert.MemsReferenceIdeal.nD,
          r.2.mem ((c.tc : Thread Cert.MemsReferenceIdeal.nD Cert.MemsReferenceIdeal.τ).loc Cert.MemsReferenceIdeal.main_v48) = v0 c
          ∧ r.2.mem ((c.tc : Thread Cert.MemsReferenceIdeal.nD Cert.MemsReferenceIdeal.τ).loc Cert.MemsReferenceIdeal.main_arg0) = m' ((c.tc : Thread Cert.MemsReferenceIdeal.nD Cert.MemsReferenceIdeal.τ).loc Cert.MemsReferenceIdeal.main_arg0)
          ∧ r.2.mem ((c.tc : Thread Cert.MemsReferenceIdeal.nD Cert.MemsReferenceIdeal.τ).loc Cert.MemsReferenceIdeal.main_arg1) = m' ((c.tc : Thread Cert.MemsReferenceIdeal.nD Cert.MemsReferenceIdeal.τ).loc Cert.MemsReferenceIdeal.main_arg1)
          ∧ r.2.mem ((c.tc : Thread Cert.MemsReferenceIdeal.nD Cert.MemsReferenceIdeal.τ).loc Cert.MemsReferenceIdeal.main_arg2) = m' ((c.tc : Thread Cert.MemsReferenceIdeal.nD Cert.MemsReferenceIdeal.τ).loc Cert.MemsReferenceIdeal.main_arg2)
          ∧ r.2.mem ((c.tc : Thread Cert.MemsReferenceIdeal.nD Cert.MemsReferenceIdeal.τ).loc Cert.MemsReferenceIdeal.main_arg3) = m' ((c.tc : Thread Cert.MemsReferenceIdeal.nD Cert.MemsReferenceIdeal.τ).loc Cert.MemsReferenceIdeal.main_arg3))

def Claim : Prop :=
  ∃ (hKernel : Cert.Kernel.Facts) (hKernelIdeal : Cert.KernelIdeal.Facts) (hReferenceIdeal : Cert.ReferenceIdeal.Facts) (hDact : Cert.Dact.Facts) (hDactIdeal : Cert.DactIdeal.Facts) (hDactReferenceIdeal : Cert.DactReferenceIdeal.Facts) (hDwdown : Cert.Dwdown.Facts) (hDwdownIdeal : Cert.DwdownIdeal.Facts) (hDwdownReferenceIdeal : Cert.DwdownReferenceIdeal.Facts) (hDwgu : Cert.Dwgu.Facts) (hDwguIdeal : Cert.DwguIdeal.Facts) (hDwguReferenceIdeal : Cert.DwguReferenceIdeal.Facts) (hDh : Cert.Dh.Facts) (hDhIdeal : Cert.DhIdeal.Facts) (hDhReferenceIdeal : Cert.DhReferenceIdeal.Facts) (hGu : Cert.Gu.Facts) (hGuIdeal : Cert.GuIdeal.Facts) (hGuReferenceIdeal : Cert.GuReferenceIdeal.Facts) (hDown : Cert.Down.Facts) (hDownIdeal : Cert.DownIdeal.Facts) (hDownReferenceIdeal : Cert.DownReferenceIdeal.Facts) (hNorm : Cert.Norm.Facts) (hNormIdeal : Cert.NormIdeal.Facts) (hNormReferenceIdeal : Cert.NormReferenceIdeal.Facts) (hDnorm : Cert.Dnorm.Facts) (hDnormIdeal : Cert.DnormIdeal.Facts) (hDnormReferenceIdeal : Cert.DnormReferenceIdeal.Facts) (hDact0 : Cert.Dact0.Facts) (hDact0Ideal : Cert.Dact0Ideal.Facts) (hDact0ReferenceIdeal : Cert.Dact0ReferenceIdeal.Facts) (hDh0 : Cert.Dh0.Facts) (hDh0Ideal : Cert.Dh0Ideal.Facts) (hDh0ReferenceIdeal : Cert.Dh0ReferenceIdeal.Facts) (hGu0 : Cert.Gu0.Facts) (hGu0Ideal : Cert.Gu0Ideal.Facts) (hGu0ReferenceIdeal : Cert.Gu0ReferenceIdeal.Facts) (hDown0 : Cert.Down0.Facts) (hDown0Ideal : Cert.Down0Ideal.Facts) (hDown0ReferenceIdeal : Cert.Down0ReferenceIdeal.Facts) (hSbin : Cert.Sbin.Facts) (hSbinIdeal : Cert.SbinIdeal.Facts) (hSbinReferenceIdeal : Cert.SbinReferenceIdeal.Facts) (hSsin : Cert.Ssin.Facts) (hSsinIdeal : Cert.SsinIdeal.Facts) (hSsinReferenceIdeal : Cert.SsinReferenceIdeal.Facts) (hOut : Cert.Out.Facts) (hOutIdeal : Cert.OutIdeal.Facts) (hOutReferenceIdeal : Cert.OutReferenceIdeal.Facts) (hDcat : Cert.Dcat.Facts) (hDcatIdeal : Cert.DcatIdeal.Facts) (hDcatReferenceIdeal : Cert.DcatReferenceIdeal.Facts) (hDhsb : Cert.Dhsb.Facts) (hDhsbIdeal : Cert.DhsbIdeal.Facts) (hDhsbReferenceIdeal : Cert.DhsbReferenceIdeal.Facts) (hSbin0 : Cert.Sbin0.Facts) (hSbin0Ideal : Cert.Sbin0Ideal.Facts) (hSbin0ReferenceIdeal : Cert.Sbin0ReferenceIdeal.Facts) (hSsin0 : Cert.Ssin0.Facts) (hSsin0Ideal : Cert.Ssin0Ideal.Facts) (hSsin0ReferenceIdeal : Cert.Ssin0ReferenceIdeal.Facts) (hOut0 : Cert.Out0.Facts) (hOut0Ideal : Cert.Out0Ideal.Facts) (hOut0ReferenceIdeal : Cert.Out0ReferenceIdeal.Facts) (hDcat0 : Cert.Dcat0.Facts) (hDcat0Ideal : Cert.Dcat0Ideal.Facts) (hDcat0ReferenceIdeal : Cert.Dcat0ReferenceIdeal.Facts) (hDhsb0 : Cert.Dhsb0.Facts) (hDhsb0Ideal : Cert.Dhsb0Ideal.Facts) (hDhsb0ReferenceIdeal : Cert.Dhsb0ReferenceIdeal.Facts) (hDwin : Cert.Dwin.Facts) (hDwinIdeal : Cert.DwinIdeal.Facts) (hDwinReferenceIdeal : Cert.DwinReferenceIdeal.Facts) (hDwout : Cert.Dwout.Facts) (hDwoutIdeal : Cert.DwoutIdeal.Facts) (hDwoutReferenceIdeal : Cert.DwoutReferenceIdeal.Facts) (hDgate : Cert.Dgate.Facts) (hDgateIdeal : Cert.DgateIdeal.Facts) (hDgateReferenceIdeal : Cert.DgateReferenceIdeal.Facts) (hDwglu : Cert.Dwglu.Facts) (hDwgluIdeal : Cert.DwgluIdeal.Facts) (hDwgluReferenceIdeal : Cert.DwgluReferenceIdeal.Facts) (hGlu : Cert.Glu.Facts) (hGluIdeal : Cert.GluIdeal.Facts) (hGluReferenceIdeal : Cert.GluReferenceIdeal.Facts) (hGlu0 : Cert.Glu0.Facts) (hGlu0Ideal : Cert.Glu0Ideal.Facts) (hGlu0ReferenceIdeal : Cert.Glu0ReferenceIdeal.Facts) (hLoss : Cert.Loss.Facts) (hLossIdeal : Cert.LossIdeal.Facts) (hLossReferenceIdeal : Cert.LossReferenceIdeal.Facts) (hAdamGu : Cert.AdamGu.Facts) (hAdamGuIdeal : Cert.AdamGuIdeal.Facts) (hAdamGuReferenceIdeal : Cert.AdamGuReferenceIdeal.Facts) (hAdamDown : Cert.AdamDown.Facts) (hAdamDownIdeal : Cert.AdamDownIdeal.Facts) (hAdamDownReferenceIdeal : Cert.AdamDownReferenceIdeal.Facts) (hAdamKv : Cert.AdamKv.Facts) (hAdamKvIdeal : Cert.AdamKvIdeal.Facts) (hAdamKvReferenceIdeal : Cert.AdamKvReferenceIdeal.Facts) (hAdamOut : Cert.AdamOut.Facts) (hAdamOutIdeal : Cert.AdamOutIdeal.Facts) (hAdamOutReferenceIdeal : Cert.AdamOutReferenceIdeal.Facts) (hAdamSbin : Cert.AdamSbin.Facts) (hAdamSbinIdeal : Cert.AdamSbinIdeal.Facts) (hAdamSbinReferenceIdeal : Cert.AdamSbinReferenceIdeal.Facts) (hAdamSsin : Cert.AdamSsin.Facts) (hAdamSsinIdeal : Cert.AdamSsinIdeal.Facts) (hAdamSsinReferenceIdeal : Cert.AdamSsinReferenceIdeal.Facts) (hAdamGlu : Cert.AdamGlu.Facts) (hAdamGluIdeal : Cert.AdamGluIdeal.Facts) (hAdamGluReferenceIdeal : Cert.AdamGluReferenceIdeal.Facts) (hAdamNorm : Cert.AdamNorm.Facts) (hAdamNormIdeal : Cert.AdamNormIdeal.Facts) (hAdamNormReferenceIdeal : Cert.AdamNormReferenceIdeal.Facts) (hAdamHead : Cert.AdamHead.Facts) (hAdamHeadIdeal : Cert.AdamHeadIdeal.Facts) (hAdamHeadReferenceIdeal : Cert.AdamHeadReferenceIdeal.Facts) (hAdamDt : Cert.AdamDt.Facts) (hAdamDtIdeal : Cert.AdamDtIdeal.Facts) (hAdamDtReferenceIdeal : Cert.AdamDtReferenceIdeal.Facts) (hAdamA : Cert.AdamA.Facts) (hAdamAIdeal : Cert.AdamAIdeal.Facts) (hAdamAReferenceIdeal : Cert.AdamAReferenceIdeal.Facts) (hAdamB : Cert.AdamB.Facts) (hAdamBIdeal : Cert.AdamBIdeal.Facts) (hAdamBReferenceIdeal : Cert.AdamBReferenceIdeal.Facts) (hAdamC : Cert.AdamC.Facts) (hAdamCIdeal : Cert.AdamCIdeal.Facts) (hAdamCReferenceIdeal : Cert.AdamCReferenceIdeal.Facts) (hAdamD : Cert.AdamD.Facts) (hAdamDIdeal : Cert.AdamDIdeal.Facts) (hAdamDReferenceIdeal : Cert.AdamDReferenceIdeal.Facts) (hMemnorm : Cert.Memnorm.Facts) (hMemnormIdeal : Cert.MemnormIdeal.Facts) (hMemnormReferenceIdeal : Cert.MemnormReferenceIdeal.Facts) (hMemkv : Cert.Memkv.Facts) (hMemkvIdeal : Cert.MemkvIdeal.Facts) (hMemkvReferenceIdeal : Cert.MemkvReferenceIdeal.Facts) (hMemkv0 : Cert.Memkv0.Facts) (hMemkv0Ideal : Cert.Memkv0Ideal.Facts) (hMemkv0ReferenceIdeal : Cert.Memkv0ReferenceIdeal.Facts) (hDwkv : Cert.Dwkv.Facts) (hDwkvIdeal : Cert.DwkvIdeal.Facts) (hDwkvReferenceIdeal : Cert.DwkvReferenceIdeal.Facts) (hDmemh : Cert.Dmemh.Facts) (hDmemhIdeal : Cert.DmemhIdeal.Facts) (hDmemhReferenceIdeal : Cert.DmemhReferenceIdeal.Facts) (hDmemh0 : Cert.Dmemh0.Facts) (hDmemh0Ideal : Cert.Dmemh0Ideal.Facts) (hDmemh0ReferenceIdeal : Cert.Dmemh0ReferenceIdeal.Facts) (hDmemnorm : Cert.Dmemnorm.Facts) (hDmemnormIdeal : Cert.DmemnormIdeal.Facts) (hDmemnormReferenceIdeal : Cert.DmemnormReferenceIdeal.Facts) (hMem : Cert.Mem.Facts) (hMemIdeal : Cert.MemIdeal.Facts) (hMemReferenceIdeal : Cert.MemReferenceIdeal.Facts) (hMems : Cert.Mems.Facts) (hMemsIdeal : Cert.MemsIdeal.Facts) (hMemsReferenceIdeal : Cert.MemsReferenceIdeal.Facts) (hPre_finite : Cert.Pre_finite.Facts) (hPre_dact_finite : Cert.Pre_dact_finite.Facts) (hPre_dact0_finite : Cert.Pre_dact0_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Dact (hDact := hDact)
    ∧ quiescent_DactIdeal (hDactIdeal := hDactIdeal)
    ∧ quiescent_DactIdeal_pre_dact_finite (hDactIdeal := hDactIdeal) (hPre_dact_finite := hPre_dact_finite)
    ∧ quiescent_DactReferenceIdeal (hDactReferenceIdeal := hDactReferenceIdeal)
    ∧ quiescent_DactReferenceIdeal_pre_dact_finite (hDactReferenceIdeal := hDactReferenceIdeal) (hPre_dact_finite := hPre_dact_finite)
    ∧ quiescent_Dwdown (hDwdown := hDwdown)
    ∧ quiescent_DwdownIdeal (hDwdownIdeal := hDwdownIdeal)
    ∧ quiescent_DwdownReferenceIdeal (hDwdownReferenceIdeal := hDwdownReferenceIdeal)
    ∧ quiescent_Dwgu (hDwgu := hDwgu)
    ∧ quiescent_DwguIdeal (hDwguIdeal := hDwguIdeal)
    ∧ quiescent_DwguReferenceIdeal (hDwguReferenceIdeal := hDwguReferenceIdeal)
    ∧ quiescent_Dh (hDh := hDh)
    ∧ quiescent_DhIdeal (hDhIdeal := hDhIdeal)
    ∧ quiescent_DhReferenceIdeal (hDhReferenceIdeal := hDhReferenceIdeal)
    ∧ quiescent_Gu (hGu := hGu)
    ∧ quiescent_GuIdeal (hGuIdeal := hGuIdeal)
    ∧ quiescent_GuReferenceIdeal (hGuReferenceIdeal := hGuReferenceIdeal)
    ∧ quiescent_Down (hDown := hDown)
    ∧ quiescent_DownIdeal (hDownIdeal := hDownIdeal)
    ∧ quiescent_DownReferenceIdeal (hDownReferenceIdeal := hDownReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Dnorm (hDnorm := hDnorm)
    ∧ quiescent_DnormIdeal (hDnormIdeal := hDnormIdeal)
    ∧ quiescent_DnormReferenceIdeal (hDnormReferenceIdeal := hDnormReferenceIdeal)
    ∧ quiescent_Dact0 (hDact0 := hDact0)
    ∧ quiescent_Dact0Ideal (hDact0Ideal := hDact0Ideal)
    ∧ quiescent_Dact0Ideal_pre_dact0_finite (hDact0Ideal := hDact0Ideal) (hPre_dact0_finite := hPre_dact0_finite)
    ∧ quiescent_Dact0ReferenceIdeal (hDact0ReferenceIdeal := hDact0ReferenceIdeal)
    ∧ quiescent_Dact0ReferenceIdeal_pre_dact0_finite (hDact0ReferenceIdeal := hDact0ReferenceIdeal) (hPre_dact0_finite := hPre_dact0_finite)
    ∧ quiescent_Dh0 (hDh0 := hDh0)
    ∧ quiescent_Dh0Ideal (hDh0Ideal := hDh0Ideal)
    ∧ quiescent_Dh0ReferenceIdeal (hDh0ReferenceIdeal := hDh0ReferenceIdeal)
    ∧ quiescent_Gu0 (hGu0 := hGu0)
    ∧ quiescent_Gu0Ideal (hGu0Ideal := hGu0Ideal)
    ∧ quiescent_Gu0ReferenceIdeal (hGu0ReferenceIdeal := hGu0ReferenceIdeal)
    ∧ quiescent_Down0 (hDown0 := hDown0)
    ∧ quiescent_Down0Ideal (hDown0Ideal := hDown0Ideal)
    ∧ quiescent_Down0ReferenceIdeal (hDown0ReferenceIdeal := hDown0ReferenceIdeal)
    ∧ quiescent_Sbin (hSbin := hSbin)
    ∧ quiescent_SbinIdeal (hSbinIdeal := hSbinIdeal)
    ∧ quiescent_SbinReferenceIdeal (hSbinReferenceIdeal := hSbinReferenceIdeal)
    ∧ quiescent_Ssin (hSsin := hSsin)
    ∧ quiescent_SsinIdeal (hSsinIdeal := hSsinIdeal)
    ∧ quiescent_SsinReferenceIdeal (hSsinReferenceIdeal := hSsinReferenceIdeal)
    ∧ quiescent_Out (hOut := hOut)
    ∧ quiescent_OutIdeal (hOutIdeal := hOutIdeal)
    ∧ quiescent_OutReferenceIdeal (hOutReferenceIdeal := hOutReferenceIdeal)
    ∧ quiescent_Dcat (hDcat := hDcat)
    ∧ quiescent_DcatIdeal (hDcatIdeal := hDcatIdeal)
    ∧ quiescent_DcatReferenceIdeal (hDcatReferenceIdeal := hDcatReferenceIdeal)
    ∧ quiescent_Dhsb (hDhsb := hDhsb)
    ∧ quiescent_DhsbIdeal (hDhsbIdeal := hDhsbIdeal)
    ∧ quiescent_DhsbReferenceIdeal (hDhsbReferenceIdeal := hDhsbReferenceIdeal)
    ∧ quiescent_Sbin0 (hSbin0 := hSbin0)
    ∧ quiescent_Sbin0Ideal (hSbin0Ideal := hSbin0Ideal)
    ∧ quiescent_Sbin0ReferenceIdeal (hSbin0ReferenceIdeal := hSbin0ReferenceIdeal)
    ∧ quiescent_Ssin0 (hSsin0 := hSsin0)
    ∧ quiescent_Ssin0Ideal (hSsin0Ideal := hSsin0Ideal)
    ∧ quiescent_Ssin0ReferenceIdeal (hSsin0ReferenceIdeal := hSsin0ReferenceIdeal)
    ∧ quiescent_Out0 (hOut0 := hOut0)
    ∧ quiescent_Out0Ideal (hOut0Ideal := hOut0Ideal)
    ∧ quiescent_Out0ReferenceIdeal (hOut0ReferenceIdeal := hOut0ReferenceIdeal)
    ∧ quiescent_Dcat0 (hDcat0 := hDcat0)
    ∧ quiescent_Dcat0Ideal (hDcat0Ideal := hDcat0Ideal)
    ∧ quiescent_Dcat0ReferenceIdeal (hDcat0ReferenceIdeal := hDcat0ReferenceIdeal)
    ∧ quiescent_Dhsb0 (hDhsb0 := hDhsb0)
    ∧ quiescent_Dhsb0Ideal (hDhsb0Ideal := hDhsb0Ideal)
    ∧ quiescent_Dhsb0ReferenceIdeal (hDhsb0ReferenceIdeal := hDhsb0ReferenceIdeal)
    ∧ quiescent_Dwin (hDwin := hDwin)
    ∧ quiescent_DwinIdeal (hDwinIdeal := hDwinIdeal)
    ∧ quiescent_DwinReferenceIdeal (hDwinReferenceIdeal := hDwinReferenceIdeal)
    ∧ quiescent_Dwout (hDwout := hDwout)
    ∧ quiescent_DwoutIdeal (hDwoutIdeal := hDwoutIdeal)
    ∧ quiescent_DwoutReferenceIdeal (hDwoutReferenceIdeal := hDwoutReferenceIdeal)
    ∧ quiescent_Dgate (hDgate := hDgate)
    ∧ quiescent_DgateIdeal (hDgateIdeal := hDgateIdeal)
    ∧ quiescent_DgateReferenceIdeal (hDgateReferenceIdeal := hDgateReferenceIdeal)
    ∧ quiescent_Dwglu (hDwglu := hDwglu)
    ∧ quiescent_DwgluIdeal (hDwgluIdeal := hDwgluIdeal)
    ∧ quiescent_DwgluReferenceIdeal (hDwgluReferenceIdeal := hDwgluReferenceIdeal)
    ∧ quiescent_Glu (hGlu := hGlu)
    ∧ quiescent_GluIdeal (hGluIdeal := hGluIdeal)
    ∧ quiescent_GluReferenceIdeal (hGluReferenceIdeal := hGluReferenceIdeal)
    ∧ quiescent_Glu0 (hGlu0 := hGlu0)
    ∧ quiescent_Glu0Ideal (hGlu0Ideal := hGlu0Ideal)
    ∧ quiescent_Glu0ReferenceIdeal (hGlu0ReferenceIdeal := hGlu0ReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_AdamGu (hAdamGu := hAdamGu)
    ∧ quiescent_AdamGuIdeal (hAdamGuIdeal := hAdamGuIdeal)
    ∧ quiescent_AdamGuReferenceIdeal (hAdamGuReferenceIdeal := hAdamGuReferenceIdeal)
    ∧ quiescent_AdamDown (hAdamDown := hAdamDown)
    ∧ quiescent_AdamDownIdeal (hAdamDownIdeal := hAdamDownIdeal)
    ∧ quiescent_AdamDownReferenceIdeal (hAdamDownReferenceIdeal := hAdamDownReferenceIdeal)
    ∧ quiescent_AdamKv (hAdamKv := hAdamKv)
    ∧ quiescent_AdamKvIdeal (hAdamKvIdeal := hAdamKvIdeal)
    ∧ quiescent_AdamKvReferenceIdeal (hAdamKvReferenceIdeal := hAdamKvReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_AdamSbin (hAdamSbin := hAdamSbin)
    ∧ quiescent_AdamSbinIdeal (hAdamSbinIdeal := hAdamSbinIdeal)
    ∧ quiescent_AdamSbinReferenceIdeal (hAdamSbinReferenceIdeal := hAdamSbinReferenceIdeal)
    ∧ quiescent_AdamSsin (hAdamSsin := hAdamSsin)
    ∧ quiescent_AdamSsinIdeal (hAdamSsinIdeal := hAdamSsinIdeal)
    ∧ quiescent_AdamSsinReferenceIdeal (hAdamSsinReferenceIdeal := hAdamSsinReferenceIdeal)
    ∧ quiescent_AdamGlu (hAdamGlu := hAdamGlu)
    ∧ quiescent_AdamGluIdeal (hAdamGluIdeal := hAdamGluIdeal)
    ∧ quiescent_AdamGluReferenceIdeal (hAdamGluReferenceIdeal := hAdamGluReferenceIdeal)
    ∧ quiescent_AdamNorm (hAdamNorm := hAdamNorm)
    ∧ quiescent_AdamNormIdeal (hAdamNormIdeal := hAdamNormIdeal)
    ∧ quiescent_AdamNormReferenceIdeal (hAdamNormReferenceIdeal := hAdamNormReferenceIdeal)
    ∧ quiescent_AdamHead (hAdamHead := hAdamHead)
    ∧ quiescent_AdamHeadIdeal (hAdamHeadIdeal := hAdamHeadIdeal)
    ∧ quiescent_AdamHeadReferenceIdeal (hAdamHeadReferenceIdeal := hAdamHeadReferenceIdeal)
    ∧ quiescent_AdamDt (hAdamDt := hAdamDt)
    ∧ quiescent_AdamDtIdeal (hAdamDtIdeal := hAdamDtIdeal)
    ∧ quiescent_AdamDtReferenceIdeal (hAdamDtReferenceIdeal := hAdamDtReferenceIdeal)
    ∧ quiescent_AdamA (hAdamA := hAdamA)
    ∧ quiescent_AdamAIdeal (hAdamAIdeal := hAdamAIdeal)
    ∧ quiescent_AdamAReferenceIdeal (hAdamAReferenceIdeal := hAdamAReferenceIdeal)
    ∧ quiescent_AdamB (hAdamB := hAdamB)
    ∧ quiescent_AdamBIdeal (hAdamBIdeal := hAdamBIdeal)
    ∧ quiescent_AdamBReferenceIdeal (hAdamBReferenceIdeal := hAdamBReferenceIdeal)
    ∧ quiescent_AdamC (hAdamC := hAdamC)
    ∧ quiescent_AdamCIdeal (hAdamCIdeal := hAdamCIdeal)
    ∧ quiescent_AdamCReferenceIdeal (hAdamCReferenceIdeal := hAdamCReferenceIdeal)
    ∧ quiescent_AdamD (hAdamD := hAdamD)
    ∧ quiescent_AdamDIdeal (hAdamDIdeal := hAdamDIdeal)
    ∧ quiescent_AdamDReferenceIdeal (hAdamDReferenceIdeal := hAdamDReferenceIdeal)
    ∧ quiescent_Memnorm (hMemnorm := hMemnorm)
    ∧ quiescent_MemnormIdeal (hMemnormIdeal := hMemnormIdeal)
    ∧ quiescent_MemnormReferenceIdeal (hMemnormReferenceIdeal := hMemnormReferenceIdeal)
    ∧ quiescent_Memkv (hMemkv := hMemkv)
    ∧ quiescent_MemkvIdeal (hMemkvIdeal := hMemkvIdeal)
    ∧ quiescent_MemkvReferenceIdeal (hMemkvReferenceIdeal := hMemkvReferenceIdeal)
    ∧ quiescent_Memkv0 (hMemkv0 := hMemkv0)
    ∧ quiescent_Memkv0Ideal (hMemkv0Ideal := hMemkv0Ideal)
    ∧ quiescent_Memkv0ReferenceIdeal (hMemkv0ReferenceIdeal := hMemkv0ReferenceIdeal)
    ∧ quiescent_Dwkv (hDwkv := hDwkv)
    ∧ quiescent_DwkvIdeal (hDwkvIdeal := hDwkvIdeal)
    ∧ quiescent_DwkvReferenceIdeal (hDwkvReferenceIdeal := hDwkvReferenceIdeal)
    ∧ quiescent_Dmemh (hDmemh := hDmemh)
    ∧ quiescent_DmemhIdeal (hDmemhIdeal := hDmemhIdeal)
    ∧ quiescent_DmemhReferenceIdeal (hDmemhReferenceIdeal := hDmemhReferenceIdeal)
    ∧ quiescent_Dmemh0 (hDmemh0 := hDmemh0)
    ∧ quiescent_Dmemh0Ideal (hDmemh0Ideal := hDmemh0Ideal)
    ∧ quiescent_Dmemh0ReferenceIdeal (hDmemh0ReferenceIdeal := hDmemh0ReferenceIdeal)
    ∧ quiescent_Dmemnorm (hDmemnorm := hDmemnorm)
    ∧ quiescent_DmemnormIdeal (hDmemnormIdeal := hDmemnormIdeal)
    ∧ quiescent_DmemnormReferenceIdeal (hDmemnormReferenceIdeal := hDmemnormReferenceIdeal)
    ∧ quiescent_Mem (hMem := hMem)
    ∧ quiescent_MemIdeal (hMemIdeal := hMemIdeal)
    ∧ quiescent_MemReferenceIdeal (hMemReferenceIdeal := hMemReferenceIdeal)
    ∧ quiescent_Mems (hMems := hMems)
    ∧ quiescent_MemsIdeal (hMemsIdeal := hMemsIdeal)
    ∧ quiescent_MemsReferenceIdeal (hMemsReferenceIdeal := hMemsReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Dact_DactIdeal
    ∧ algebraic_DactIdeal_DactReferenceIdeal_pre_dact_finite (hDactIdeal := hDactIdeal) (hDactReferenceIdeal := hDactReferenceIdeal) (hPre_dact_finite := hPre_dact_finite)
    ∧ preserves_Dwdown_DwdownIdeal
    ∧ algebraic_DwdownIdeal_DwdownReferenceIdeal (hDwdownIdeal := hDwdownIdeal) (hDwdownReferenceIdeal := hDwdownReferenceIdeal)
    ∧ preserves_Dwgu_DwguIdeal
    ∧ algebraic_DwguIdeal_DwguReferenceIdeal (hDwguIdeal := hDwguIdeal) (hDwguReferenceIdeal := hDwguReferenceIdeal)
    ∧ preserves_Dh_DhIdeal
    ∧ algebraic_DhIdeal_DhReferenceIdeal (hDhIdeal := hDhIdeal) (hDhReferenceIdeal := hDhReferenceIdeal)
    ∧ preserves_Gu_GuIdeal
    ∧ algebraic_GuIdeal_GuReferenceIdeal (hGuIdeal := hGuIdeal) (hGuReferenceIdeal := hGuReferenceIdeal)
    ∧ preserves_Down_DownIdeal
    ∧ algebraic_DownIdeal_DownReferenceIdeal (hDownIdeal := hDownIdeal) (hDownReferenceIdeal := hDownReferenceIdeal)
    ∧ preserves_Norm_NormIdeal
    ∧ algebraic_NormIdeal_NormReferenceIdeal (hNormIdeal := hNormIdeal) (hNormReferenceIdeal := hNormReferenceIdeal)
    ∧ preserves_Dnorm_DnormIdeal
    ∧ algebraic_DnormIdeal_DnormReferenceIdeal (hDnormIdeal := hDnormIdeal) (hDnormReferenceIdeal := hDnormReferenceIdeal)
    ∧ preserves_Dact0_Dact0Ideal
    ∧ algebraic_Dact0Ideal_Dact0ReferenceIdeal_pre_dact0_finite (hDact0Ideal := hDact0Ideal) (hDact0ReferenceIdeal := hDact0ReferenceIdeal) (hPre_dact0_finite := hPre_dact0_finite)
    ∧ preserves_Dh0_Dh0Ideal
    ∧ algebraic_Dh0Ideal_Dh0ReferenceIdeal (hDh0Ideal := hDh0Ideal) (hDh0ReferenceIdeal := hDh0ReferenceIdeal)
    ∧ preserves_Gu0_Gu0Ideal
    ∧ algebraic_Gu0Ideal_Gu0ReferenceIdeal (hGu0Ideal := hGu0Ideal) (hGu0ReferenceIdeal := hGu0ReferenceIdeal)
    ∧ preserves_Down0_Down0Ideal
    ∧ algebraic_Down0Ideal_Down0ReferenceIdeal (hDown0Ideal := hDown0Ideal) (hDown0ReferenceIdeal := hDown0ReferenceIdeal)
    ∧ preserves_Sbin_SbinIdeal
    ∧ algebraic_SbinIdeal_SbinReferenceIdeal (hSbinIdeal := hSbinIdeal) (hSbinReferenceIdeal := hSbinReferenceIdeal)
    ∧ preserves_Ssin_SsinIdeal
    ∧ algebraic_SsinIdeal_SsinReferenceIdeal (hSsinIdeal := hSsinIdeal) (hSsinReferenceIdeal := hSsinReferenceIdeal)
    ∧ preserves_Out_OutIdeal
    ∧ algebraic_OutIdeal_OutReferenceIdeal (hOutIdeal := hOutIdeal) (hOutReferenceIdeal := hOutReferenceIdeal)
    ∧ preserves_Dcat_DcatIdeal
    ∧ algebraic_DcatIdeal_DcatReferenceIdeal (hDcatIdeal := hDcatIdeal) (hDcatReferenceIdeal := hDcatReferenceIdeal)
    ∧ preserves_Dhsb_DhsbIdeal
    ∧ algebraic_DhsbIdeal_DhsbReferenceIdeal (hDhsbIdeal := hDhsbIdeal) (hDhsbReferenceIdeal := hDhsbReferenceIdeal)
    ∧ preserves_Sbin0_Sbin0Ideal
    ∧ algebraic_Sbin0Ideal_Sbin0ReferenceIdeal (hSbin0Ideal := hSbin0Ideal) (hSbin0ReferenceIdeal := hSbin0ReferenceIdeal)
    ∧ preserves_Ssin0_Ssin0Ideal
    ∧ algebraic_Ssin0Ideal_Ssin0ReferenceIdeal (hSsin0Ideal := hSsin0Ideal) (hSsin0ReferenceIdeal := hSsin0ReferenceIdeal)
    ∧ preserves_Out0_Out0Ideal
    ∧ algebraic_Out0Ideal_Out0ReferenceIdeal (hOut0Ideal := hOut0Ideal) (hOut0ReferenceIdeal := hOut0ReferenceIdeal)
    ∧ preserves_Dcat0_Dcat0Ideal
    ∧ algebraic_Dcat0Ideal_Dcat0ReferenceIdeal (hDcat0Ideal := hDcat0Ideal) (hDcat0ReferenceIdeal := hDcat0ReferenceIdeal)
    ∧ preserves_Dhsb0_Dhsb0Ideal
    ∧ algebraic_Dhsb0Ideal_Dhsb0ReferenceIdeal (hDhsb0Ideal := hDhsb0Ideal) (hDhsb0ReferenceIdeal := hDhsb0ReferenceIdeal)
    ∧ preserves_Dwin_DwinIdeal
    ∧ algebraic_DwinIdeal_DwinReferenceIdeal (hDwinIdeal := hDwinIdeal) (hDwinReferenceIdeal := hDwinReferenceIdeal)
    ∧ preserves_Dwout_DwoutIdeal
    ∧ algebraic_DwoutIdeal_DwoutReferenceIdeal (hDwoutIdeal := hDwoutIdeal) (hDwoutReferenceIdeal := hDwoutReferenceIdeal)
    ∧ preserves_Dgate_DgateIdeal
    ∧ algebraic_DgateIdeal_DgateReferenceIdeal (hDgateIdeal := hDgateIdeal) (hDgateReferenceIdeal := hDgateReferenceIdeal)
    ∧ preserves_Dwglu_DwgluIdeal
    ∧ algebraic_DwgluIdeal_DwgluReferenceIdeal (hDwgluIdeal := hDwgluIdeal) (hDwgluReferenceIdeal := hDwgluReferenceIdeal)
    ∧ preserves_Glu_GluIdeal
    ∧ algebraic_GluIdeal_GluReferenceIdeal (hGluIdeal := hGluIdeal) (hGluReferenceIdeal := hGluReferenceIdeal)
    ∧ preserves_Glu0_Glu0Ideal
    ∧ algebraic_Glu0Ideal_Glu0ReferenceIdeal (hGlu0Ideal := hGlu0Ideal) (hGlu0ReferenceIdeal := hGlu0ReferenceIdeal)
    ∧ preserves_Loss_LossIdeal
    ∧ algebraic_LossIdeal_LossReferenceIdeal (hLossIdeal := hLossIdeal) (hLossReferenceIdeal := hLossReferenceIdeal)
    ∧ preserves_AdamGu_AdamGuIdeal
    ∧ algebraic_AdamGuIdeal_AdamGuReferenceIdeal (hAdamGuIdeal := hAdamGuIdeal) (hAdamGuReferenceIdeal := hAdamGuReferenceIdeal)
    ∧ preserves_AdamDown_AdamDownIdeal
    ∧ algebraic_AdamDownIdeal_AdamDownReferenceIdeal (hAdamDownIdeal := hAdamDownIdeal) (hAdamDownReferenceIdeal := hAdamDownReferenceIdeal)
    ∧ preserves_AdamKv_AdamKvIdeal
    ∧ algebraic_AdamKvIdeal_AdamKvReferenceIdeal (hAdamKvIdeal := hAdamKvIdeal) (hAdamKvReferenceIdeal := hAdamKvReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_AdamSbin_AdamSbinIdeal
    ∧ algebraic_AdamSbinIdeal_AdamSbinReferenceIdeal (hAdamSbinIdeal := hAdamSbinIdeal) (hAdamSbinReferenceIdeal := hAdamSbinReferenceIdeal)
    ∧ preserves_AdamSsin_AdamSsinIdeal
    ∧ algebraic_AdamSsinIdeal_AdamSsinReferenceIdeal (hAdamSsinIdeal := hAdamSsinIdeal) (hAdamSsinReferenceIdeal := hAdamSsinReferenceIdeal)
    ∧ preserves_AdamGlu_AdamGluIdeal
    ∧ algebraic_AdamGluIdeal_AdamGluReferenceIdeal (hAdamGluIdeal := hAdamGluIdeal) (hAdamGluReferenceIdeal := hAdamGluReferenceIdeal)
    ∧ preserves_AdamNorm_AdamNormIdeal
    ∧ algebraic_AdamNormIdeal_AdamNormReferenceIdeal (hAdamNormIdeal := hAdamNormIdeal) (hAdamNormReferenceIdeal := hAdamNormReferenceIdeal)
    ∧ preserves_AdamHead_AdamHeadIdeal
    ∧ algebraic_AdamHeadIdeal_AdamHeadReferenceIdeal (hAdamHeadIdeal := hAdamHeadIdeal) (hAdamHeadReferenceIdeal := hAdamHeadReferenceIdeal)
    ∧ preserves_AdamDt_AdamDtIdeal
    ∧ algebraic_AdamDtIdeal_AdamDtReferenceIdeal (hAdamDtIdeal := hAdamDtIdeal) (hAdamDtReferenceIdeal := hAdamDtReferenceIdeal)
    ∧ preserves_AdamA_AdamAIdeal
    ∧ algebraic_AdamAIdeal_AdamAReferenceIdeal (hAdamAIdeal := hAdamAIdeal) (hAdamAReferenceIdeal := hAdamAReferenceIdeal)
    ∧ preserves_AdamB_AdamBIdeal
    ∧ algebraic_AdamBIdeal_AdamBReferenceIdeal (hAdamBIdeal := hAdamBIdeal) (hAdamBReferenceIdeal := hAdamBReferenceIdeal)
    ∧ preserves_AdamC_AdamCIdeal
    ∧ algebraic_AdamCIdeal_AdamCReferenceIdeal (hAdamCIdeal := hAdamCIdeal) (hAdamCReferenceIdeal := hAdamCReferenceIdeal)
    ∧ preserves_AdamD_AdamDIdeal
    ∧ algebraic_AdamDIdeal_AdamDReferenceIdeal (hAdamDIdeal := hAdamDIdeal) (hAdamDReferenceIdeal := hAdamDReferenceIdeal)
    ∧ preserves_Memnorm_MemnormIdeal
    ∧ algebraic_MemnormIdeal_MemnormReferenceIdeal (hMemnormIdeal := hMemnormIdeal) (hMemnormReferenceIdeal := hMemnormReferenceIdeal)
    ∧ preserves_Memkv_MemkvIdeal
    ∧ algebraic_MemkvIdeal_MemkvReferenceIdeal (hMemkvIdeal := hMemkvIdeal) (hMemkvReferenceIdeal := hMemkvReferenceIdeal)
    ∧ preserves_Memkv0_Memkv0Ideal
    ∧ algebraic_Memkv0Ideal_Memkv0ReferenceIdeal (hMemkv0Ideal := hMemkv0Ideal) (hMemkv0ReferenceIdeal := hMemkv0ReferenceIdeal)
    ∧ preserves_Dwkv_DwkvIdeal
    ∧ algebraic_DwkvIdeal_DwkvReferenceIdeal (hDwkvIdeal := hDwkvIdeal) (hDwkvReferenceIdeal := hDwkvReferenceIdeal)
    ∧ preserves_Dmemh_DmemhIdeal
    ∧ algebraic_DmemhIdeal_DmemhReferenceIdeal (hDmemhIdeal := hDmemhIdeal) (hDmemhReferenceIdeal := hDmemhReferenceIdeal)
    ∧ preserves_Dmemh0_Dmemh0Ideal
    ∧ algebraic_Dmemh0Ideal_Dmemh0ReferenceIdeal (hDmemh0Ideal := hDmemh0Ideal) (hDmemh0ReferenceIdeal := hDmemh0ReferenceIdeal)
    ∧ preserves_Dmemnorm_DmemnormIdeal
    ∧ algebraic_DmemnormIdeal_DmemnormReferenceIdeal (hDmemnormIdeal := hDmemnormIdeal) (hDmemnormReferenceIdeal := hDmemnormReferenceIdeal)
    ∧ preserves_Mem_MemIdeal
    ∧ algebraic_MemIdeal_MemReferenceIdeal (hMemIdeal := hMemIdeal) (hMemReferenceIdeal := hMemReferenceIdeal)
    ∧ preserves_Mems_MemsIdeal
    ∧ algebraic_MemsIdeal_MemsReferenceIdeal (hMemsIdeal := hMemsIdeal) (hMemsReferenceIdeal := hMemsReferenceIdeal)
-- ==== Pre_dact0_finite.lean ====
abbrev S2x8192x5632 : Shape := ⟨3, ![2, 8192, 5632]⟩
abbrev S4x2x1408x2048 : Shape := ⟨4, ![4, 2, 1408, 2048]⟩
abbrev S8192x2048 : Shape := ⟨2, ![8192, 2048]⟩
abbrev S1x8192x5632 : Shape := ⟨3, ![1, 8192, 5632]⟩
abbrev S8192x5632 : Shape := ⟨2, ![8192, 5632]⟩
abbrev S4x1x1408x2048 : Shape := ⟨4, ![4, 1, 1408, 2048]⟩
abbrev S4x1408x2048 : Shape := ⟨3, ![4, 1408, 2048]⟩
abbrev S_ : Shape := ⟨0, ![]⟩

class Facts : Prop where
  slices_S2x8192x5632_S1x8192x5632_1_0_0 : S2x8192x5632.Slices ![1, 0, 0] S1x8192x5632
  shapeCasts_S1x8192x5632_S8192x5632 : S1x8192x5632.ShapeCasts S8192x5632
  slices_S4x2x1408x2048_S4x1x1408x2048_0_0_0_0 : S4x2x1408x2048.Slices ![0, 0, 0, 0] S4x1x1408x2048
  shapeCasts_S4x1x1408x2048_S4x1408x2048 : S4x1x1408x2048.ShapeCasts S4x1408x2048
  bcast_S_S8192x5632 : S_.BroadcastsInDim S8192x5632 (![] : Fin 0 → Fin S8192x5632.rank)
  bcast_S_S4x1408x2048 : S_.BroadcastsInDim S4x1408x2048 (![] : Fin 0 → Fin S4x1408x2048.rank)
  bcast_S_S8192x2048 : S_.BroadcastsInDim S8192x2048 (![] : Fin 0 → Fin S8192x2048.rank)

variable [Facts]

def fn {F : FTy → Type} [FloatOps F] (main_arg0 : FVec F S2x8192x5632 .bf16) (main_arg1 : FVec F S4x2x1408x2048 .bf16) (main_arg2 : FVec F S8192x2048 .f32) : IVec S8192x5632 1 × IVec S4x1408x2048 1 × IVec S8192x2048 1 :=
  let main_v0 : FVec F S1x8192x5632 .bf16 := (extractStridedSlice S1x8192x5632 ![1, 0, 0] · slices_S2x8192x5632_S1x8192x5632_1_0_0) main_arg0
  let main_v1 : FVec F S8192x5632 .bf16 := shapeCast S8192x5632 main_v0 shapeCasts_S1x8192x5632_S8192x5632
  let main_v2 : FVec F S4x1x1408x2048 .bf16 := (extractStridedSlice S4x1x1408x2048 ![0, 0, 0, 0] · slices_S4x2x1408x2048_S4x1x1408x2048_0_0_0_0) main_arg1
  let main_v3 : FVec F S4x1408x2048 .bf16 := shapeCast S4x1408x2048 main_v2 shapeCasts_S4x1x1408x2048_S4x1408x2048
  let main_v4 : FVec F S8192x5632 .bf16 := Host.absf main_v1
  let main_cst : FVec F S_ .bf16 := constant S_ .bf16 0x7F80#16
  let main_v5 : FVec F S8192x5632 .bf16 := broadcastInDim S8192x5632 ![] bcast_S_S8192x5632 main_cst
  let main_v6 : IVec S8192x5632 1 := cmpf .olt main_v4 main_v5
  let main_v7 : FVec F S4x1408x2048 .bf16 := Host.absf main_v3
  let main_cst_0 : FVec F S_ .bf16 := constant S_ .bf16 0x7F80#16
  let main_v8 : FVec F S4x1408x2048 .bf16 := broadcastInDim S4x1408x2048 ![] bcast_S_S4x1408x2048 main_cst_0
  let main_v9 : IVec S4x1408x2048 1 := cmpf .olt main_v7 main_v8
  let main_v10 : FVec F S8192x2048 .f32 := Host.absf main_arg2
  let main_cst_1 : FVec F S_ .f32 := constant S_ .f32 0x7F800000#32
  let main_v11 : FVec F S8192x2048 .f32 := broadcastInDim S8192x2048 ![] bcast_S_S8192x2048 main_cst_1
  let main_v12 : IVec S8192x2048 1 := cmpf .olt main_v10 main_v11
  (main_v6, main_v9, main_v12)
-- ==== Pre_dact_finite.lean ====
abbrev S2x8192x5632 : Shape := ⟨3, ![2, 8192, 5632]⟩
abbrev S4x2x1408x2048 : Shape := ⟨4, ![4, 2, 1408, 2048]⟩
abbrev S8192x2048 : Shape := ⟨2, ![8192, 2048]⟩
abbrev S1x8192x5632 : Shape := ⟨3, ![1, 8192, 5632]⟩
abbrev S8192x5632 : Shape := ⟨2, ![8192, 5632]⟩
abbrev S4x1x1408x2048 : Shape := ⟨4, ![4, 1, 1408, 2048]⟩
abbrev S4x1408x2048 : Shape := ⟨3, ![4, 1408, 2048]⟩
abbrev S_ : Shape := ⟨0, ![]⟩

class Facts : Prop where
  slices_S2x8192x5632_S1x8192x5632_1_0_0 : S2x8192x5632.Slices ![1, 0, 0] S1x8192x5632
  shapeCasts_S1x8192x5632_S8192x5632 : S1x8192x5632.ShapeCasts S8192x5632
  slices_S4x2x1408x2048_S4x1x1408x2048_0_1_0_0 : S4x2x1408x2048.Slices ![0, 1, 0, 0] S4x1x1408x2048
  shapeCasts_S4x1x1408x2048_S4x1408x2048 : S4x1x1408x2048.ShapeCasts S4x1408x2048
  bcast_S_S8192x5632 : S_.BroadcastsInDim S8192x5632 (![] : Fin 0 → Fin S8192x5632.rank)
  bcast_S_S4x1408x2048 : S_.BroadcastsInDim S4x1408x2048 (![] : Fin 0 → Fin S4x1408x2048.rank)
  bcast_S_S8192x2048 : S_.BroadcastsInDim S8192x2048 (![] : Fin 0 → Fin S8192x2048.rank)

variable [Facts]

def fn {F : FTy → Type} [FloatOps F] (main_arg0 : FVec F S2x8192x5632 .bf16) (main_arg1 : FVec F S4x2x1408x2048 .bf16) (main_arg2 : FVec F S8192x2048 .f32) : IVec S8192x5632 1 × IVec S4x1408x2048 1 × IVec S8192x2048 1 :=
  let main_v0 : FVec F S1x8192x5632 .bf16 := (extractStridedSlice S1x8192x5632 ![1, 0, 0] · slices_S2x8192x5632_S1x8192x5632_1_0_0) main_arg0
  let main_v1 : FVec F S8192x5632 .bf16 := shapeCast S8192x5632 main_v0 shapeCasts_S1x8192x5632_S8192x5632
  let main_v2 : FVec F S4x1x1408x2048 .bf16 := (extractStridedSlice S4x1x1408x2048 ![0, 1, 0, 0] · slices_S4x2x1408x2048_S4x1x1408x2048_0_1_0_0) main_arg1
  let main_v3 : FVec F S4x1408x2048 .bf16 := shapeCast S4x1408x2048 main_v2 shapeCasts_S4x1x1408x2048_S4x1408x2048
  let main_v4 : FVec F S8192x5632 .bf16 := Host.absf main_v1
  let main_cst : FVec F S_ .bf16 := constant S_ .bf16 0x7F80#16
  let main_v5 : FVec F S8192x5632 .bf16 := broadcastInDim S8192x5632 ![] bcast_S_S8192x5632 main_cst
  let main_v6 : IVec S8192x5632 1 := cmpf .olt main_v4 main_v5
  let main_v7 : FVec F S4x1408x2048 .bf16 := Host.absf main_v3
  let main_cst_0 : FVec F S_ .bf16 := constant S_ .bf16 0x7F80#16
  let main_v8 : FVec F S4x1408x2048 .bf16 := broadcastInDim S4x1408x2048 ![] bcast_S_S4x1408x2048 main_cst_0
  let main_v9 : IVec S4x1408x2048 1 := cmpf .olt main_v7 main_v8
  let main_v10 : FVec F S8192x2048 .f32 := Host.absf main_arg2
  let main_cst_1 : FVec F S_ .f32 := constant S_ .f32 0x7F800000#32
  let main_v11 : FVec F S8192x2048 .f32 := broadcastInDim S8192x2048 ![] bcast_S_S8192x2048 main_cst_1
  let main_v12 : IVec S8192x2048 1 := cmpf .olt main_v10 main_v11
  (main_v6, main_v9, main_v12)
-- ==== Pre_finite.lean ====
abbrev S8192x5120 : Shape := ⟨2, ![8192, 5120]⟩
abbrev S8192x2048 : Shape := ⟨2, ![8192, 2048]⟩
abbrev S_ : Shape := ⟨0, ![]⟩

class Facts : Prop where
  bcast_S_S8192x5120 : S_.BroadcastsInDim S8192x5120 (![] : Fin 0 → Fin S8192x5120.rank)
  bcast_S_S8192x2048 : S_.BroadcastsInDim S8192x2048 (![] : Fin 0 → Fin S8192x2048.rank)

variable [Facts]

def fn {F : FTy → Type} [FloatOps F] (main_arg0 : FVec F S8192x5120 .f32) (main_arg1 : FVec F S8192x2048 .f32) : IVec S8192x5120 1 × IVec S8192x2048 1 :=
  let main_v0 : FVec F S8192x5120 .f32 := Host.absf main_arg0
  let main_cst : FVec F S_ .f32 := constant S_ .f32 0x7F800000#32
  let main_v1 : FVec F S8192x5120 .f32 := broadcastInDim S8192x5120 ![] bcast_S_S8192x5120 main_cst
  let main_v2 : IVec S8192x5120 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  (main_v2, main_v5)
-- ==== Kernel.lean ====
abbrev S8192x5120 : Shape := ⟨2, ![8192, 5120]⟩
abbrev S8192x2048 : Shape := ⟨2, ![8192, 2048]⟩
abbrev S8192x1536 : Shape := ⟨2, ![8192, 1536]⟩
abbrev S1024x128 : Shape := ⟨2, ![1024, 128]⟩
abbrev S8192x128 : Shape := ⟨2, ![8192, 128]⟩
abbrev S1024x256 : Shape := ⟨2, ![1024, 256]⟩
abbrev S256x256 : Shape := ⟨2, ![256, 256]⟩
abbrev S1024x1 : Shape := ⟨2, ![1024, 1]⟩
abbrev S256x128 : Shape := ⟨2, ![256, 128]⟩
abbrev S1024 : Shape := ⟨1, ![1024]⟩

abbrev nBuf : Space → Nat
  | .hbm => 7
  | .vmem => 26
  | .smem => 0
  | _ => 0

abbrev bufTy : (tb : Table) → Fin (tcTables nBuf tb) → BufTy
  | .hbm, ⟨0, _⟩ => ⟨S8192x5120, .f32⟩
  | .hbm, ⟨1, _⟩ => ⟨S8192x2048, .f32⟩
  | .hbm, ⟨2, _⟩ => ⟨S8192x1536, .f32⟩
  | .hbm, ⟨3, _⟩ => ⟨S8192x1536, .f32⟩
  | .hbm, ⟨4, _⟩ => ⟨S8192x1536, .f32⟩
  | .hbm, ⟨5, _⟩ => ⟨S8192x1536, .f32⟩
  | .hbm, ⟨6, _⟩ => ⟨S8192x1536, .f32⟩
  | .local _ .vmem, ⟨0, _⟩ => ⟨S1024x128, .f32⟩
  | .local _ .vmem, ⟨1, _⟩ => ⟨S1024x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S8192x128, .f32⟩
  | .local _ .vmem, ⟨13, _⟩ => ⟨S8192x128, .f32⟩
  | .local _ .vmem, ⟨14, _⟩ => ⟨S8192x128, .f32⟩
  | .local _ .vmem, ⟨15, _⟩ => ⟨S8192x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S8192x128, .f32⟩
  | .local _ .vmem, ⟨23, _⟩ => ⟨S8192x128, .f32⟩
  | .local _ .vmem, ⟨24, _⟩ => ⟨S8192x128, .f32⟩
  | .local _ .vmem, ⟨25, _⟩ => ⟨S8192x128, .f32⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨2, ![12, 8], ![false, false]⟩

def k0_mult1 (i : grid0.Coords) : BitVec 32 :=
  let arg1 : BitVec 32 := BitVec.ofNat 32 (i 1).val
  let c4_i32 : BitVec 32 := 4#32
  let v15 : BitVec 32 := Scalar.muli arg1 c4_i32
  let c3_i32 : BitVec 32 := 3#32
  let v16 : BitVec 32 := Scalar.addi v15 c3_i32
  let c256_i32 : BitVec 32 := 256#32
  let v17 : BitVec 32 := Scalar.muli v16 c256_i32
  v17
def k0_off1 (i : grid0.Coords) (c3_i32 : BitVec 32) : Fin 2 → Nat :=
  let arg1 : BitVec 32 := BitVec.ofNat 32 (i 1).val
  let c4_i32 : BitVec 32 := 4#32
  let v15 : BitVec 32 := Scalar.muli arg1 c4_i32
  let v16 : BitVec 32 := Scalar.addi v15 c3_i32
  let c256_i32 : BitVec 32 := 256#32
  let v17 : BitVec 32 := Scalar.muli v16 c256_i32
  let v18 : BitVec 32 := v17
  let v19 : Index := Scalar.indexCast v18
  let c0_2 : Index := 0#32
  ![v19.toNat, 0]
def k0_mult2 (i : grid0.Coords) : BitVec 32 :=
  let arg1 : BitVec 32 := BitVec.ofNat 32 (i 1).val
  let c4_i32_15 : BitVec 32 := 4#32
  let v63 : BitVec 32 := Scalar.muli arg1 c4_i32_15
  let c2_i32 : BitVec 32 := 2#32
  let v64 : BitVec 32 := Scalar.addi v63 c2_i32
  let c256_i32_16 : BitVec 32 := 256#32
  let v65 : BitVec 32 := Scalar.muli v64 c256_i32_16
  v65
def k0_mult3 (i : grid0.Coords) : BitVec 32 :=
  let arg1 : BitVec 32 := BitVec.ofNat 32 (i 1).val
  let c4_i32_30 : BitVec 32 := 4#32
  let v111 : BitVec 32 := Scalar.muli arg1 c4_i32_30
  let c1_i32 : BitVec 32 := 1#32
  let v112 : BitVec 32 := Scalar.addi v111 c1_i32
  let c256_i32_31 : BitVec 32 := 256#32
  let v113 : BitVec 32 := Scalar.muli v112 c256_i32_31
  v113
def k0_mult4 (i : grid0.Coords) : BitVec 32 :=
  let arg1 : BitVec 32 := BitVec.ofNat 32 (i 1).val
  let c4_i32_45 : BitVec 32 := 4#32
  let v159 : BitVec 32 := Scalar.muli arg1 c4_i32_45
  let c0_i32 : BitVec 32 := 0#32
  let v160 : BitVec 32 := Scalar.addi v159 c0_i32
  let c256_i32_46 : BitVec 32 := 256#32
  let v161 : BitVec 32 := Scalar.muli v160 c256_i32_46
  v161
@[reducible] def k0_t1_loop (i : grid0.Coords) : Scf.Loop 32 :=
  let c0_i32_61 : BitVec 32 := 0#32
  let arg1 : BitVec 32 := BitVec.ofNat 32 (i 1).val
  let c4_i32_60 : BitVec 32 := 4#32
  let v207 : BitVec 32 := Scalar.muli arg1 c4_i32_60
  let v208 : BitVec 32 := Scalar.subi v207 c0_i32_61
  let c1_i32_62 : BitVec 32 := 1#32
  let v210 : BitVec 32 := Scalar.divsi v208 c1_i32_62
  let v211 : BitVec 32 := Scalar.muli v210 c1_i32_62
  let v212 : BitVec 32 := Scalar.addi c0_i32_61 v211
  let c1_i32_63 : BitVec 32 := 1#32
  ⟨c0_i32_61, v212, c1_i32_63⟩
def k0_mult5 (i : grid0.Coords) (k0_t1 : Fin (k0_t1_loop i).trips) : BitVec 32 :=
  let arg1 : BitVec 32 := BitVec.ofNat 32 (i 1).val
  let c4_i32_69 : BitVec 32 := 4#32
  let v219 : BitVec 32 := Scalar.muli arg1 c4_i32_69
  let c1_i32_70 : BitVec 32 := 1#32
  let v220 : BitVec 32 := Scalar.subi v219 c1_i32_70
  let c0_i32_61 : BitVec 32 := 0#32
  let c1_i32_63 : BitVec 32 := 1#32
  let arg7 : BitVec 32 := Scf.iv c0_i32_61 c1_i32_63 k0_t1
  let v221 : BitVec 32 := Scalar.subi v220 arg7
  let c256_i32_71 : BitVec 32 := 256#32
  let v222 : BitVec 32 := Scalar.muli v221 c256_i32_71
  v222
def k0_off2 (i : grid0.Coords) (k0_t1 : Fin (k0_t1_loop i).trips) : Fin 2 → Nat :=
  let arg1 : BitVec 32 := BitVec.ofNat 32 (i 1).val
  let c4_i32_69 : BitVec 32 := 4#32
  let v219 : BitVec 32 := Scalar.muli arg1 c4_i32_69
  let c1_i32_70 : BitVec 32 := 1#32
  let v220 : BitVec 32 := Scalar.subi v219 c1_i32_70
  let c0_i32_61 : BitVec 32 := 0#32
  let c1_i32_63 : BitVec 32 := 1#32
  let arg7 : BitVec 32 := Scf.iv c0_i32_61 c1_i32_63 k0_t1
  let v221 : BitVec 32 := Scalar.subi v220 arg7
  let c256_i32_71 : BitVec 32 := 256#32
  let v222 : BitVec 32 := Scalar.muli v221 c256_i32_71
  let v223 : BitVec 32 := v222
  let v224 : Index := Scalar.indexCast v223
  let c0_72 : Index := 0#32
  ![v224.toNat, 0]
@[reducible] def k0_t2_loop (i : grid0.Coords) : Scf.Loop 32 :=
  let c0_i32_61 : BitVec 32 := 0#32
  let arg1 : BitVec 32 := BitVec.ofNat 32 (i 1).val
  let c4_i32_60 : BitVec 32 := 4#32
  let v207 : BitVec 32 := Scalar.muli arg1 c4_i32_60
  let v208 : BitVec 32 := Scalar.subi v207 c0_i32_61
  let c1_i32_62 : BitVec 32 := 1#32
  let v210 : BitVec 32 := Scalar.divsi v208 c1_i32_62
  let v211 : BitVec 32 := Scalar.muli v210 c1_i32_62
  let v212 : BitVec 32 := Scalar.addi c0_i32_61 v211
  let v209 : BitVec 32 := Scalar.addi c0_i32_61 v208
  let c1_i32_64 : BitVec 32 := 1#32
  ⟨v212, v209, c1_i32_64⟩
def k0_mult6 (i : grid0.Coords) (k0_t2 : Fin (k0_t2_loop i).trips) : BitVec 32 :=
  let arg1 : BitVec 32 := BitVec.ofNat 32 (i 1).val
  let c4_i32_69 : BitVec 32 := 4#32
  let v219 : BitVec 32 := Scalar.muli arg1 c4_i32_69
  let c1_i32_70 : BitVec 32 := 1#32
  let v220 : BitVec 32 := Scalar.subi v219 c1_i32_70
  let c0_i32_61 : BitVec 32 := 0#32
  let c4_i32_60 : BitVec 32 := 4#32
  let v207 : BitVec 32 := Scalar.muli arg1 c4_i32_60
  let v208 : BitVec 32 := Scalar.subi v207 c0_i32_61
  let c1_i32_62 : BitVec 32 := 1#32
  let v210 : BitVec 32 := Scalar.divsi v208 c1_i32_62
  let v211 : BitVec 32 := Scalar.muli v210 c1_i32_62
  let v212 : BitVec 32 := Scalar.addi c0_i32_61 v211
  let c1_i32_64 : BitVec 32 := 1#32
  let arg7 : BitVec 32 := Scf.iv v212 c1_i32_64 k0_t2
  let v221 : BitVec 32 := Scalar.subi v220 arg7
  let c256_i32_71 : BitVec 32 := 256#32
  let v222 : BitVec 32 := Scalar.muli v221 c256_i32_71
  v222
def k0_off3 (i : grid0.Coords) (k0_t2 : Fin (k0_t2_loop i).trips) : Fin 2 → Nat :=
  let arg1 : BitVec 32 := BitVec.ofNat 32 (i 1).val
  let c4_i32_69 : BitVec 32 := 4#32
  let v219 : BitVec 32 := Scalar.muli arg1 c4_i32_69
  let c1_i32_70 : BitVec 32 := 1#32
  let v220 : BitVec 32 := Scalar.subi v219 c1_i32_70
  let c0_i32_61 : BitVec 32 := 0#32
  let c4_i32_60 : BitVec 32 := 4#32
  let v207 : BitVec 32 := Scalar.muli arg1 c4_i32_60
  let v208 : BitVec 32 := Scalar.subi v207 c0_i32_61
  let c1_i32_62 : BitVec 32 := 1#32
  let v210 : BitVec 32 := Scalar.divsi v208 c1_i32_62
  let v211 : BitVec 32 := Scalar.muli v210 c1_i32_62
  let v212 : BitVec 32 := Scalar.addi c0_i32_61 v211
  let c1_i32_64 : BitVec 32 := 1#32
  let arg7 : BitVec 32 := Scf.iv v212 c1_i32_64 k0_t2
  let v221 : BitVec 32 := Scalar.subi v220 arg7
  let c256_i32_71 : BitVec 32 := 256#32
  let v222 : BitVec 32 := Scalar.muli v221 c256_i32_71
  let v223 : BitVec 32 := v222
  let v224 : Index := Scalar.indexCast v223
  let c0_72 : Index := 0#32
  ![v224.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![12, 8], ![false, false]⟩

@[reducible] def k1_t1_loop (i : grid1.Coords) : Scf.Loop 32 :=
  let c0_i32_8 : BitVec 32 := 0#32
  let arg1 : BitVec 32 := BitVec.ofNat 32 (i 1).val
  let c4_i32 : BitVec 32 := 4#32
  let v27 : BitVec 32 := Scalar.muli arg1 c4_i32
  let v28 : BitVec 32 := Scalar.subi v27 c0_i32_8
  let c1_i32 : BitVec 32 := 1#32
  let v30 : BitVec 32 := Scalar.divsi v28 c1_i32
  let v31 : BitVec 32 := Scalar.muli v30 c1_i32
  let v32 : BitVec 32 := Scalar.addi c0_i32_8 v31
  let c1_i32_9 : BitVec 32 := 1#32
  ⟨c0_i32_8, v32, c1_i32_9⟩
def k1_mult1 (i : grid1.Coords) (k1_t1 : Fin (k1_t1_loop i).trips) : BitVec 32 :=
  let c0_i32_8 : BitVec 32 := 0#32
  let c1_i32_9 : BitVec 32 := 1#32
  let arg10 : BitVec 32 := Scf.iv c0_i32_8 c1_i32_9 k1_t1
  let c256_i32_125 : BitVec 32 := 256#32
  let v388 : BitVec 32 := Scalar.muli arg10 c256_i32_125
  v388
def k1_off1 (i : grid1.Coords) (k1_t1 : Fin (k1_t1_loop i).trips) : Fin 2 → Nat :=
  let c0_i32_8 : BitVec 32 := 0#32
  let c1_i32_9 : BitVec 32 := 1#32
  let arg10 : BitVec 32 := Scf.iv c0_i32_8 c1_i32_9 k1_t1
  let c256_i32_125 : BitVec 32 := 256#32
  let v388 : BitVec 32 := Scalar.muli arg10 c256_i32_125
  let v389 : BitVec 32 := v388
  let v390 : Index := Scalar.indexCast v389
  let c0_126 : Index := 0#32
  ![v390.toNat, 0]
@[reducible] def k1_t2_loop (i : grid1.Coords) : Scf.Loop 32 :=
  let c0_i32_8 : BitVec 32 := 0#32
  let arg1 : BitVec 32 := BitVec.ofNat 32 (i 1).val
  let c4_i32 : BitVec 32 := 4#32
  let v27 : BitVec 32 := Scalar.muli arg1 c4_i32
  let v28 : BitVec 32 := Scalar.subi v27 c0_i32_8
  let c1_i32 : BitVec 32 := 1#32
  let v30 : BitVec 32 := Scalar.divsi v28 c1_i32
  let v31 : BitVec 32 := Scalar.muli v30 c1_i32
  let v32 : BitVec 32 := Scalar.addi c0_i32_8 v31
  let v29 : BitVec 32 := Scalar.addi c0_i32_8 v28
  let c1_i32_10 : BitVec 32 := 1#32
  ⟨v32, v29, c1_i32_10⟩
def k1_mult2 (i : grid1.Coords) (k1_t2 : Fin (k1_t2_loop i).trips) : BitVec 32 :=
  let c0_i32_8 : BitVec 32 := 0#32
  let arg1 : BitVec 32 := BitVec.ofNat 32 (i 1).val
  let c4_i32 : BitVec 32 := 4#32
  let v27 : BitVec 32 := Scalar.muli arg1 c4_i32
  let v28 : BitVec 32 := Scalar.subi v27 c0_i32_8
  let c1_i32 : BitVec 32 := 1#32
  let v30 : BitVec 32 := Scalar.divsi v28 c1_i32
  let v31 : BitVec 32 := Scalar.muli v30 c1_i32
  let v32 : BitVec 32 := Scalar.addi c0_i32_8 v31
  let c1_i32_10 : BitVec 32 := 1#32
  let arg10 : BitVec 32 := Scf.iv v32 c1_i32_10 k1_t2
  let c256_i32_125 : BitVec 32 := 256#32
  let v388 : BitVec 32 := Scalar.muli arg10 c256_i32_125
  v388
def k1_off2 (i : grid1.Coords) (k1_t2 : Fin (k1_t2_loop i).trips) : Fin 2 → Nat :=
  let c0_i32_8 : BitVec 32 := 0#32
  let arg1 : BitVec 32 := BitVec.ofNat 32 (i 1).val
  let c4_i32 : BitVec 32 := 4#32
  let v27 : BitVec 32 := Scalar.muli arg1 c4_i32
  let v28 : BitVec 32 := Scalar.subi v27 c0_i32_8
  let c1_i32 : BitVec 32 := 1#32
  let v30 : BitVec 32 := Scalar.divsi v28 c1_i32
  let v31 : BitVec 32 := Scalar.muli v30 c1_i32
  let v32 : BitVec 32 := Scalar.addi c0_i32_8 v31
  let c1_i32_10 : BitVec 32 := 1#32
  let arg10 : BitVec 32 := Scf.iv v32 c1_i32_10 k1_t2
  let c256_i32_125 : BitVec 32 := 256#32
  let v388 : BitVec 32 := Scalar.muli arg10 c256_i32_125
  let v389 : BitVec 32 := v388
  let v390 : Index := Scalar.indexCast v389
  let c0_126 : Index := 0#32
  ![v390.toNat, 0]
def k1_mult3 (i : grid1.Coords) : BitVec 32 :=
  let arg1 : BitVec 32 := BitVec.ofNat 32 (i 1).val
  let c4_i32_11 : BitVec 32 := 4#32
  let v35 : BitVec 32 := Scalar.muli arg1 c4_i32_11
  let c0_i32_12 : BitVec 32 := 0#32
  let v36 : BitVec 32 := Scalar.addi v35 c0_i32_12
  let c256_i32 : BitVec 32 := 256#32
  let v37 : BitVec 32 := Scalar.muli v36 c256_i32
  v37
def k1_off3 (i : grid1.Coords) (c0_i32_12 : BitVec 32) : Fin 2 → Nat :=
  let arg1 : BitVec 32 := BitVec.ofNat 32 (i 1).val
  let c4_i32_11 : BitVec 32 := 4#32
  let v35 : BitVec 32 := Scalar.muli arg1 c4_i32_11
  let v36 : BitVec 32 := Scalar.addi v35 c0_i32_12
  let c256_i32 : BitVec 32 := 256#32
  let v37 : BitVec 32 := Scalar.muli v36 c256_i32
  let v38 : BitVec 32 := v37
  let v39 : Index := Scalar.indexCast v38
  let c0_13 : Index := 0#32
  ![v39.toNat, 0]
def k1_mult4 (i : grid1.Coords) : BitVec 32 :=
  let arg1 : BitVec 32 := BitVec.ofNat 32 (i 1).val
  let c4_i32_39 : BitVec 32 := 4#32
  let v124 : BitVec 32 := Scalar.muli arg1 c4_i32_39
  let c1_i32_40 : BitVec 32 := 1#32
  let v125 : BitVec 32 := Scalar.addi v124 c1_i32_40
  let c256_i32_41 : BitVec 32 := 256#32
  let v126 : BitVec 32 := Scalar.muli v125 c256_i32_41
  v126
def k1_mult5 (i : grid1.Coords) : BitVec 32 :=
  let arg1 : BitVec 32 := BitVec.ofNat 32 (i 1).val
  let c4_i32_68 : BitVec 32 := 4#32
  let v213 : BitVec 32 := Scalar.muli arg1 c4_i32_68
  let c2_i32 : BitVec 32 := 2#32
  let v214 : BitVec 32 := Scalar.addi v213 c2_i32
  let c256_i32_69 : BitVec 32 := 256#32
  let v215 : BitVec 32 := Scalar.muli v214 c256_i32_69
  v215
def k1_mult6 (i : grid1.Coords) : BitVec 32 :=
  let arg1 : BitVec 32 := BitVec.ofNat 32 (i 1).val
  let c4_i32_96 : BitVec 32 := 4#32
  let v302 : BitVec 32 := Scalar.muli arg1 c4_i32_96
  let c3_i32 : BitVec 32 := 3#32
  let v303 : BitVec 32 := Scalar.addi v302 c3_i32
  let c256_i32_97 : BitVec 32 := 256#32
  let v304 : BitVec 32 := Scalar.muli v303 c256_i32_97
  v304
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8192x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S8192x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S8192x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]
-- ==== ReferenceIdeal.lean ====
abbrev S8192x5120 : Shape := ⟨2, ![8192, 5120]⟩
abbrev S8192x2048 : Shape := ⟨2, ![8192, 2048]⟩
abbrev S8192x1536 : Shape := ⟨2, ![8192, 1536]⟩
abbrev S8192x512 : Shape := ⟨2, ![8192, 512]⟩
abbrev S1x8192x12x128 : Shape := ⟨4, ![1, 8192, 12, 128]⟩
abbrev S1x12x8192x128 : Shape := ⟨4, ![1, 12, 8192, 128]⟩
abbrev S1x12x8192x8192 : Shape := ⟨4, ![1, 12, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1x8192x1536 : Shape := ⟨3, ![1, 8192, 1536]⟩
abbrev S1x12x128x8192 : Shape := ⟨4, ![1, 12, 128, 8192]⟩

abbrev nBuf : Space → Nat
  | .hbm => 182
  | .vmem => 0
  | .smem => 0
  | _ => 0

abbrev hbmTy0_0 (i : Nat) : BufTy := match i % 128 with
  | 0 => ⟨S8192x5120, .f32⟩
  | 1 => ⟨S8192x2048, .f32⟩
  | 2 => ⟨S8192x1536, .f32⟩
  | 3 => ⟨S8192x1536, .f32⟩
  | 4 => ⟨S8192x1536, .f32⟩
  | 5 => ⟨S8192x512, .f32⟩
  | 6 => ⟨S1x8192x12x128, .f32⟩
  | 7 => ⟨S1x8192x12x128, .f32⟩
  | 8 => ⟨S1x8192x12x128, .f32⟩
  | 9 => ⟨S1x12x8192x128, .f32⟩
  | 10 => ⟨S1x12x8192x128, .f32⟩
  | 11 => ⟨S1x12x8192x128, .f32⟩
  | 12 => ⟨S1x12x8192x8192, .f32⟩
  | 13 => ⟨S_, .f32⟩
  | 14 => ⟨S1x12x8192x8192, .f32⟩
  | 15 => ⟨S1x12x8192x8192, .f32⟩
  | 16 => ⟨S8192, .i32⟩
  | 17 => ⟨S8192x1, .i32⟩
  | 18 => ⟨S8192, .i32⟩
  | 19 => ⟨S1x8192, .i32⟩
  | 20 => ⟨S8192x8192, .i32⟩
  | 21 => ⟨S8192x8192, .i32⟩
  | 22 => ⟨S8192x8192, .i1⟩
  | 23 => ⟨S1x12x8192x8192, .f32⟩
  | 24 => ⟨S1x12x8192x8192, .f32⟩
  | 25 => ⟨S_, .f32⟩
  | 26 => ⟨S1x12x8192x8192, .f32⟩
  | 27 => ⟨S1x12x8192x8192, .f32⟩
  | 28 => ⟨S1x12x8192x8192, .f32⟩
  | 29 => ⟨S1x12x8192x8192, .f32⟩
  | 30 => ⟨S1x12x8192x8192, .i1⟩
  | 31 => ⟨S1x12x8192x8192, .f32⟩
  | 32 => ⟨S1x12x8192x8192, .f32⟩
  | 33 => ⟨S1x12x8192x8192, .f32⟩
  | 34 => ⟨S1x12x8192x8192, .f32⟩
  | 35 => ⟨S1x12x8192x8192, .f32⟩
  | 36 => ⟨S1x12x8192x8192, .f32⟩
  | 37 => ⟨S1x12x8192x8192, .f32⟩
  | 38 => ⟨S1x12x8192x8192, .f32⟩
  | 39 => ⟨S_, .f32⟩
  | 40 => ⟨S1x12x8192x8192, .f32⟩
  | 41 => ⟨S1x12x8192x8192, .i1⟩
  | 42 => ⟨S_, .f32⟩
  | 43 => ⟨S1x12x8192x8192, .f32⟩
  | 44 => ⟨S1x12x8192x8192, .f32⟩
  | 45 => ⟨S_, .f32⟩
  | 46 => ⟨S1x12x8192x8192, .f32⟩
  | 47 => ⟨S1x12x8192x8192, .i1⟩
  | 48 => ⟨S_, .f32⟩
  | 49 => ⟨S1x12x8192x8192, .f32⟩
  | 50 => ⟨S1x12x8192x8192, .f32⟩
  | 51 => ⟨S1x12x8192x8192, .f32⟩
  | 52 => ⟨S1x12x8192x8192, .f32⟩
  | 53 => ⟨S_, .f32⟩
  | 54 => ⟨S_, .f32⟩
  | 55 => ⟨S_, .i1⟩
  | 56 => ⟨S_, .f32⟩
  | 57 => ⟨S_, .f32⟩
  | 58 => ⟨S_, .f32⟩
  | 59 => ⟨S_, .f32⟩
  | 60 => ⟨S1x12x8192x8192, .f32⟩
  | 61 => ⟨S1x12x8192x8192, .i1⟩
  | 62 => ⟨S_, .f32⟩
  | 63 => ⟨S1x12x8192x8192, .f32⟩
  | 64 => ⟨S1x12x8192x8192, .f32⟩
  | 65 => ⟨S1x12x8192x8192, .f32⟩
  | 66 => ⟨S1x12x8192x8192, .f32⟩
  | 67 => ⟨S1x12x8192x8192, .f32⟩
  | 68 => ⟨S_, .f32⟩
  | 69 => ⟨S1x12x8192x8192, .f32⟩
  | 70 => ⟨S1x12x8192x8192, .f32⟩
  | 71 => ⟨S1x12x8192x8192, .f32⟩
  | 72 => ⟨S_, .f32⟩
  | 73 => ⟨S_, .f32⟩
  | 74 => ⟨S1x12x8192x8192, .i1⟩
  | 75 => ⟨S1x12x8192x8192, .f32⟩
  | 76 => ⟨S1x12x8192x8192, .f32⟩
  | 77 => ⟨S_, .f32⟩
  | 78 => ⟨S1x12x8192x8192, .f32⟩
  | 79 => ⟨S_, .f32⟩
  | 80 => ⟨S_, .f32⟩
  | 81 => ⟨S1x12x8192x8192, .f32⟩
  | 82 => ⟨S1x12x8192x8192, .f32⟩
  | 83 => ⟨S1x12x8192x8192, .f32⟩
  | 84 => ⟨S_, .f32⟩
  | 85 => ⟨S1x12x8192x8192, .f32⟩
  | 86 => ⟨S1x12x8192x8192, .f32⟩
  | 87 => ⟨S1x12x8192x8192, .f32⟩
  | 88 => ⟨S1x12x8192x8192, .f32⟩
  | 89 => ⟨S1x12x8192x8192, .i1⟩
  | 90 => ⟨S1x12x8192x8192, .f32⟩
  | 91 => ⟨S1x12x8192x8192, .f32⟩
  | 92 => ⟨S1x12x8192x8192, .f32⟩
  | 93 => ⟨S1x12x8192x8192, .f32⟩
  | 94 => ⟨S1x12x8192x8192, .f32⟩
  | 95 => ⟨S1x12x8192x8192, .f32⟩
  | 96 => ⟨S1x12x8192x8192, .f32⟩
  | 97 => ⟨S1x12x8192x8192, .f32⟩
  | 98 => ⟨S_, .f32⟩
  | 99 => ⟨S1x12x8192x8192, .f32⟩
  | 100 => ⟨S1x12x8192x8192, .i1⟩
  | 101 => ⟨S_, .f32⟩
  | 102 => ⟨S1x12x8192x8192, .f32⟩
  | 103 => ⟨S1x12x8192x8192, .f32⟩
  | 104 => ⟨S_, .f32⟩
  | 105 => ⟨S1x12x8192x8192, .f32⟩
  | 106 => ⟨S1x12x8192x8192, .i1⟩
  | 107 => ⟨S_, .f32⟩
  | 108 => ⟨S1x12x8192x8192, .f32⟩
  | 109 => ⟨S1x12x8192x8192, .f32⟩
  | 110 => ⟨S1x12x8192x8192, .f32⟩
  | 111 => ⟨S1x12x8192x8192, .f32⟩
  | 112 => ⟨S_, .f32⟩
  | 113 => ⟨S_, .f32⟩
  | 114 => ⟨S_, .i1⟩
  | 115 => ⟨S_, .f32⟩
  | 116 => ⟨S_, .f32⟩
  | 117 => ⟨S_, .f32⟩
  | 118 => ⟨S_, .f32⟩
  | 119 => ⟨S1x12x8192x8192, .f32⟩
  | 120 => ⟨S1x12x8192x8192, .i1⟩
  | 121 => ⟨S_, .f32⟩
  | 122 => ⟨S1x12x8192x8192, .f32⟩
  | 123 => ⟨S1x12x8192x8192, .f32⟩
  | 124 => ⟨S1x12x8192x8192, .f32⟩
  | 125 => ⟨S1x12x8192x8192, .f32⟩
  | 126 => ⟨S1x12x8192x8192, .f32⟩
  | 127 => ⟨S_, .f32⟩
  | _ => ⟨S8192x5120, .f32⟩

abbrev hbmTy0_1 (i : Nat) : BufTy := match i % 128 with
  | 0 => ⟨S1x12x8192x8192, .f32⟩
  | 1 => ⟨S1x12x8192x8192, .f32⟩
  | 2 => ⟨S1x12x8192x8192, .f32⟩
  | 3 => ⟨S1x12x8192x8192, .f32⟩
  | 4 => ⟨S1x12x8192x8192, .f32⟩
  | 5 => ⟨S_, .f32⟩
  | 6 => ⟨S_, .f32⟩
  | 7 => ⟨S1x12x8192x8192, .i1⟩
  | 8 => ⟨S1x12x8192x8192, .f32⟩
  | 9 => ⟨S1x12x8192x8192, .f32⟩
  | 10 => ⟨S_, .f32⟩
  | 11 => ⟨S1x12x8192x8192, .f32⟩
  | 12 => ⟨S1x12x8192x128, .f32⟩
  | 13 => ⟨S1x8192x12x128, .f32⟩
  | 14 => ⟨S1x8192x1536, .f32⟩
  | 15 => ⟨S8192x1536, .f32⟩
  | 16 => ⟨S8192x1536, .f32⟩
  | 17 => ⟨S1x8192x1536, .f32⟩
  | 18 => ⟨S1x8192x12x128, .f32⟩
  | 19 => ⟨S1x12x8192x128, .f32⟩
  | 20 => ⟨S1x12x128x8192, .f32⟩
  | 21 => ⟨S1x12x8192x128, .f32⟩
  | 22 => ⟨S1x12x8192x8192, .f32⟩
  | 23 => ⟨S_, .f32⟩
  | 24 => ⟨S1x12x8192x8192, .f32⟩
  | 25 => ⟨S1x12x8192x8192, .f32⟩
  | 26 => ⟨S1x12x8192x8192, .f32⟩
  | 27 => ⟨S1x12x8192x8192, .f32⟩
  | 28 => ⟨S1x12x8192x8192, .f32⟩
  | 29 => ⟨S1x12x8192x8192, .f32⟩
  | 30 => ⟨S1x12x8192x8192, .f32⟩
  | 31 => ⟨S_, .f32⟩
  | 32 => ⟨S_, .f32⟩
  | 33 => ⟨S1x12x8192x8192, .f32⟩
  | 34 => ⟨S1x12x8192x8192, .f32⟩
  | 35 => ⟨S_, .f32⟩
  | 36 => ⟨S1x12x8192x8192, .f32⟩
  | 37 => ⟨S1x12x8192x8192, .f32⟩
  | 38 => ⟨S1x12x8192x8192, .f32⟩
  | 39 => ⟨S1x12x8192x8192, .f32⟩
  | 40 => ⟨S1x12x8192x8192, .f32⟩
  | 41 => ⟨S1x12x8192x8192, .f32⟩
  | 42 => ⟨S1x12x8192x8192, .f32⟩
  | 43 => ⟨S_, .f32⟩
  | 44 => ⟨S1x12x8192x8192, .f32⟩
  | 45 => ⟨S1x12x8192x8192, .f32⟩
  | 46 => ⟨S1x12x8192x128, .f32⟩
  | 47 => ⟨S1x12x8192x128, .f32⟩
  | 48 => ⟨S1x8192x12x128, .f32⟩
  | 49 => ⟨S1x8192x12x128, .f32⟩
  | 50 => ⟨S1x8192x12x128, .f32⟩
  | 51 => ⟨S8192x1536, .f32⟩
  | 52 => ⟨S8192x1536, .f32⟩
  | 53 => ⟨S8192x1536, .f32⟩
  | _ => ⟨S8192x5120, .f32⟩

abbrev hbmTy (i : Nat) : BufTy := match i / 128 with
  | 0 => hbmTy0_0 i
  | 1 => hbmTy0_1 i
  | _ => ⟨S8192x5120, .f32⟩

abbrev bufTy : (tb : Table) → Fin (tcTables nBuf tb) → BufTy
  | .hbm, ⟨i, _⟩ => hbmTy i
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1_0 : Ref sig .tc := ⟨.hbm, 38, rfl⟩
abbrev main_call0_call0_cst_0 : Ref sig .tc := ⟨.hbm, 39, rfl⟩
abbrev main_call0_call0_v13 : Ref sig .tc := ⟨.hbm, 40, rfl⟩
abbrev main_call0_call0_v14 : Ref sig .tc := ⟨.hbm, 41, rfl⟩
abbrev main_call0_call0_cst_1 : Ref sig .tc := ⟨.hbm, 42, rfl⟩
abbrev main_call0_call0_v15 : Ref sig .tc := ⟨.hbm, 43, rfl⟩
abbrev main_call0_call0_v16 : Ref sig .tc := ⟨.hbm, 44, rfl⟩
abbrev main_call0_call0_cst_2 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_cst_3 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_v21 : Ref sig .tc := ⟨.hbm, 51, rfl⟩
abbrev main_v21_1 : Ref sig .tc := ⟨.hbm, 52, rfl⟩
abbrev main_call0_call0_cst_4 : Ref sig .tc := ⟨.hbm, 53, rfl⟩
abbrev main_call0_call0_cst_5 : Ref sig .tc := ⟨.hbm, 54, rfl⟩
abbrev main_call0_call0_v23 : Ref sig .tc := ⟨.hbm, 55, rfl⟩
abbrev main_call0_call0_cst_6 : Ref sig .tc := ⟨.hbm, 56, rfl⟩
abbrev main_call0_call0_cst_7 : Ref sig .tc := ⟨.hbm, 57, rfl⟩
abbrev main_call0_call0_v24 : Ref sig .tc := ⟨.hbm, 58, rfl⟩
abbrev main_call0_call0_cst_8 : Ref sig .tc := ⟨.hbm, 59, rfl⟩
abbrev main_call0_call0_v25 : Ref sig .tc := ⟨.hbm, 60, rfl⟩
abbrev main_call0_call0_v26 : Ref sig .tc := ⟨.hbm, 61, rfl⟩
abbrev main_call0_call0_cst_9 : Ref sig .tc := ⟨.hbm, 62, rfl⟩
abbrev main_call0_call0_v27 : Ref sig .tc := ⟨.hbm, 63, rfl⟩
abbrev main_call0_call0_v28 : Ref sig .tc := ⟨.hbm, 64, rfl⟩
abbrev main_call0_call0_v29 : Ref sig .tc := ⟨.hbm, 65, rfl⟩
abbrev main_call0_call0_v30 : Ref sig .tc := ⟨.hbm, 66, rfl⟩
abbrev main_call0_call0_v31 : Ref sig .tc := ⟨.hbm, 67, rfl⟩
abbrev main_call0_call0_cst_10 : Ref sig .tc := ⟨.hbm, 68, rfl⟩
abbrev main_call0_call0_v32 : Ref sig .tc := ⟨.hbm, 69, rfl⟩
abbrev main_v21_2 : Ref sig .tc := ⟨.hbm, 70, rfl⟩
abbrev main_v21_0 : Ref sig .tc := ⟨.hbm, 71, rfl⟩
abbrev main_cst_0 : Ref sig .tc := ⟨.hbm, 72, rfl⟩
abbrev main_call1_v0 : Ref sig .tc := ⟨.hbm, 73, rfl⟩
abbrev main_v22_1 : Ref sig .tc := ⟨.hbm, 74, rfl⟩
abbrev main_call1_v2 : Ref sig .tc := ⟨.hbm, 75, rfl⟩
abbrev main_v22_0 : Ref sig .tc := ⟨.hbm, 76, rfl⟩
abbrev main_call1_cst : Ref sig .tc := ⟨.hbm, 77, rfl⟩
abbrev main_v22_2 : Ref sig .tc := ⟨.hbm, 78, rfl⟩
abbrev main_call2_cst : Ref sig .tc := ⟨.hbm, 79, rfl⟩
abbrev main_call2_v0 : Ref sig .tc := ⟨.hbm, 80, rfl⟩
abbrev main_v23 : Ref sig .tc := ⟨.hbm, 81, rfl⟩
abbrev main_v24 : Ref sig .tc := ⟨.hbm, 82, rfl⟩
abbrev main_call3_v0 : Ref sig .tc := ⟨.hbm, 83, rfl⟩
abbrev main_call3_call0_cst : Ref sig .tc := ⟨.hbm, 84, rfl⟩
abbrev main_call3_call0_v0 : Ref sig .tc := ⟨.hbm, 85, rfl⟩
abbrev main_call3_call0_v1 : Ref sig .tc := ⟨.hbm, 86, rfl⟩
abbrev main_call3_call0_v2 : Ref sig .tc := ⟨.hbm, 87, rfl⟩
abbrev main_call3_call0_v3 : Ref sig .tc := ⟨.hbm, 88, rfl⟩
abbrev main_call3_call0_v4 : Ref sig .tc := ⟨.hbm, 89, rfl⟩
abbrev main_call3_call0_v5 : Ref sig .tc := ⟨.hbm, 90, rfl⟩
abbrev main_call3_call0_v6 : Ref sig .tc := ⟨.hbm, 91, rfl⟩
abbrev main_call3_call0_v7 : Ref sig .tc := ⟨.hbm, 92, rfl⟩
abbrev main_call3_call0_v8 : Ref sig .tc := ⟨.hbm, 93, rfl⟩
abbrev main_call3_call0_v9 : Ref sig .tc := ⟨.hbm, 94, rfl⟩
abbrev main_call3_call0_v10 : Ref sig .tc := ⟨.hbm, 95, rfl⟩
abbrev main_call3_call0_v11 : Ref sig .tc := ⟨.hbm, 96, rfl⟩
abbrev main_call3_v1_0 : Ref sig .tc := ⟨.hbm, 97, rfl⟩
abbrev main_call3_call0_cst_0 : Ref sig .tc := ⟨.hbm, 98, rfl⟩
abbrev main_call3_call0_v13 : Ref sig .tc := ⟨.hbm, 99, rfl⟩
abbrev main_call3_call0_v14 : Ref sig .tc := ⟨.hbm, 100, rfl⟩
abbrev main_call3_call0_cst_1 : Ref sig .tc := ⟨.hbm, 101, rfl⟩
abbrev main_call3_call0_v15 : Ref sig .tc := ⟨.hbm, 102, rfl⟩
abbrev main_call3_call0_v16 : Ref sig .tc := ⟨.hbm, 103, rfl⟩
abbrev main_call3_call0_cst_2 : Ref sig .tc := ⟨.hbm, 104, rfl⟩
abbrev main_call3_call0_v17 : Ref sig .tc := ⟨.hbm, 105, rfl⟩
abbrev main_call3_call0_v18 : Ref sig .tc := ⟨.hbm, 106, rfl⟩
abbrev main_call3_call0_cst_3 : Ref sig .tc := ⟨.hbm, 107, rfl⟩
abbrev main_call3_call0_v19 : Ref sig .tc := ⟨.hbm, 108, rfl⟩
abbrev main_call3_call0_v20 : Ref sig .tc := ⟨.hbm, 109, rfl⟩
abbrev main_call3_call0_v21 : Ref sig .tc := ⟨.hbm, 110, rfl⟩
abbrev main_v25_1 : Ref sig .tc := ⟨.hbm, 111, rfl⟩
abbrev main_call3_call0_cst_4 : Ref sig .tc := ⟨.hbm, 112, rfl⟩
abbrev main_call3_call0_cst_5 : Ref sig .tc := ⟨.hbm, 113, rfl⟩
abbrev main_call3_call0_v23 : Ref sig .tc := ⟨.hbm, 114, rfl⟩
abbrev main_call3_call0_cst_6 : Ref sig .tc := ⟨.hbm, 115, rfl⟩
abbrev main_call3_call0_cst_7 : Ref sig .tc := ⟨.hbm, 116, rfl⟩
abbrev main_call3_call0_v24 : Ref sig .tc := ⟨.hbm, 117, rfl⟩
abbrev main_call3_call0_cst_8 : Ref sig .tc := ⟨.hbm, 118, rfl⟩
abbrev main_call3_call0_v25 : Ref sig .tc := ⟨.hbm, 119, rfl⟩
abbrev main_call3_call0_v26 : Ref sig .tc := ⟨.hbm, 120, rfl⟩
abbrev main_call3_call0_cst_9 : Ref sig .tc := ⟨.hbm, 121, rfl⟩
abbrev main_call3_call0_v27 : Ref sig .tc := ⟨.hbm, 122, rfl⟩
abbrev main_call3_call0_v28 : Ref sig .tc := ⟨.hbm, 123, rfl⟩
abbrev main_call3_call0_v29 : Ref sig .tc := ⟨.hbm, 124, rfl⟩
abbrev main_call3_call0_v30 : Ref sig .tc := ⟨.hbm, 125, rfl⟩
abbrev main_call3_call0_v31 : Ref sig .tc := ⟨.hbm, 126, rfl⟩
abbrev main_call3_call0_cst_10 : Ref sig .tc := ⟨.hbm, 127, rfl⟩
abbrev main_call3_call0_v32 : Ref sig .tc := ⟨.hbm, 128, rfl⟩
abbrev main_v25_2 : Ref sig .tc := ⟨.hbm, 129, rfl⟩
abbrev main_v25_0 : Ref sig .tc := ⟨.hbm, 130, rfl⟩
abbrev main_v26 : Ref sig .tc := ⟨.hbm, 131, rfl⟩
abbrev main_v27 : Ref sig .tc := ⟨.hbm, 132, rfl⟩
abbrev main_cst_1 : Ref sig .tc := ⟨.hbm, 133, rfl⟩
abbrev main_call4_v0 : Ref sig .tc := ⟨.hbm, 134, rfl⟩
abbrev main_v28_1 : Ref sig .tc := ⟨.hbm, 135, rfl⟩
abbrev main_call4_v2 : Ref sig .tc := ⟨.hbm, 136, rfl⟩
abbrev main_v28_0 : Ref sig .tc := ⟨.hbm, 137, rfl⟩
abbrev main_call4_cst : Ref sig .tc := ⟨.hbm, 138, rfl⟩
abbrev main_v28_2 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_v39 : Ref sig .tc := ⟨.hbm, 150, rfl⟩
abbrev main_call5_cst : Ref sig .tc := ⟨.hbm, 151, rfl⟩
abbrev main_call5_v0 : Ref sig .tc := ⟨.hbm, 152, rfl⟩
abbrev main_v40 : Ref sig .tc := ⟨.hbm, 153, rfl⟩
abbrev main_v41 : Ref sig .tc := ⟨.hbm, 154, rfl⟩
abbrev main_call6_v0 : Ref sig .tc := ⟨.hbm, 155, rfl⟩
abbrev main_call6_v1 : Ref sig .tc := ⟨.hbm, 156, rfl⟩
abbrev main_v42 : Ref sig .tc := ⟨.hbm, 157, rfl⟩
abbrev main_v43 : Ref sig .tc := ⟨.hbm, 158, rfl⟩
abbrev main_call7_cst : Ref sig .tc := ⟨.hbm, 159, rfl⟩
abbrev main_call7_v0 : Ref sig .tc := ⟨.hbm, 160, rfl⟩
abbrev main_v44 : Ref sig .tc := ⟨.hbm, 161, rfl⟩
abbrev main_v45 : Ref sig .tc := ⟨.hbm, 162, rfl⟩
abbrev main_call8_cst : Ref sig .tc := ⟨.hbm, 163, rfl⟩
abbrev main_call8_v0 : Ref sig .tc := ⟨.hbm, 164, rfl⟩
abbrev main_v46 : Ref sig .tc := ⟨.hbm, 165, rfl⟩
abbrev main_call9_v0 : Ref sig .tc := ⟨.hbm, 166, rfl⟩
abbrev main_call9_v1 : Ref sig .tc := ⟨.hbm, 167, rfl⟩
abbrev main_v47 : Ref sig .tc := ⟨.hbm, 168, rfl⟩
abbrev main_v48 : Ref sig .tc := ⟨.hbm, 169, rfl⟩
abbrev main_v49 : Ref sig .tc := ⟨.hbm, 170, rfl⟩
abbrev main_cst_2 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩

abbrev nD : Nat := 1
abbrev τ : Topo := Topo.v7x

variable {F : FTy → Type} [FloatOps F]
-- ==== Dact.lean ====
abbrev S2x8192x5632 : Shape := ⟨3, ![2, 8192, 5632]⟩
abbrev S4x2x1408x2048 : Shape := ⟨4, ![4, 2, 1408, 2048]⟩
abbrev S8192x2048 : Shape := ⟨2, ![8192, 2048]⟩
abbrev S512x2048 : Shape := ⟨2, ![512, 2048]⟩
abbrev S1x1x1408x2048 : Shape := ⟨4, ![1, 1, 1408, 2048]⟩
abbrev S2x512x1408 : Shape := ⟨3, ![2, 512, 1408]⟩
abbrev S1408x2048 : Shape := ⟨2, ![1408, 2048]⟩
abbrev S512x1408 : Shape := ⟨2, ![512, 1408]⟩
abbrev S1x512x1408 : Shape := ⟨3, ![1, 512, 1408]⟩

abbrev nBuf : Space → Nat
  | .hbm => 5
  | .vmem => 8
  | .smem => 0
  | _ => 0

abbrev bufTy : (tb : Table) → Fin (tcTables nBuf tb) → BufTy
  | .hbm, ⟨0, _⟩ => ⟨S2x8192x5632, .bf16⟩
  | .hbm, ⟨1, _⟩ => ⟨S4x2x1408x2048, .bf16⟩
  | .hbm, ⟨2, _⟩ => ⟨S8192x2048, .f32⟩
  | .hbm, ⟨3, _⟩ => ⟨S8192x2048, .bf16⟩
  | .hbm, ⟨4, _⟩ => ⟨S2x8192x5632, .bf16⟩
  | .local _ .vmem, ⟨0, _⟩ => ⟨S512x2048, .bf16⟩
  | .local _ .vmem, ⟨1, _⟩ => ⟨S512x2048, .bf16⟩
  | .local _ .vmem, ⟨2, _⟩ => ⟨S1x1x1408x2048, .bf16⟩
  | .local _ .vmem, ⟨3, _⟩ => ⟨S1x1x1408x2048, .bf16⟩
  | .local _ .vmem, ⟨4, _⟩ => ⟨S2x512x1408, .bf16⟩
  | .local _ .vmem, ⟨5, _⟩ => ⟨S2x512x1408, .bf16⟩
  | .local _ .vmem, ⟨6, _⟩ => ⟨S2x512x1408, .bf16⟩
  | .local _ .vmem, ⟨7, _⟩ => ⟨S2x512x1408, .bf16⟩
  | _, _ => ⟨S2x8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  let c0_i32_13 : BitVec 32 := 0#32
  ![v16.toNat, c1_i32_11.toNat, v26.toNat, c0_i32_12.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DactReferenceIdeal.lean ====
abbrev S2x8192x5632 : Shape := ⟨3, ![2, 8192, 5632]⟩
abbrev S4x2x1408x2048 : Shape := ⟨4, ![4, 2, 1408, 2048]⟩
abbrev S8192x2048 : Shape := ⟨2, ![8192, 2048]⟩
abbrev S1x8192x5632 : Shape := ⟨3, ![1, 8192, 5632]⟩
abbrev S8192x5632 : Shape := ⟨2, ![8192, 5632]⟩
abbrev S_ : Shape := ⟨0, ![]⟩
abbrev S1x1x1408x2048 : Shape := ⟨4, ![1, 1, 1408, 2048]⟩
abbrev S1408x2048 : Shape := ⟨2, ![1408, 2048]⟩
abbrev S5632x2048 : Shape := ⟨2, ![5632, 2048]⟩

abbrev nBuf : Space → Nat
  | .hbm => 51
  | .vmem => 0
  | .smem => 0
  | _ => 0

abbrev bufTy : (tb : Table) → Fin (tcTables nBuf tb) → BufTy
  | .hbm, ⟨0, _⟩ => ⟨S2x8192x5632, .bf16⟩
  | .hbm, ⟨1, _⟩ => ⟨S4x2x1408x2048, .bf16⟩
  | .hbm, ⟨2, _⟩ => ⟨S8192x2048, .f32⟩
  | .hbm, ⟨3, _⟩ => ⟨S1x8192x5632, .bf16⟩
  | .hbm, ⟨4, _⟩ => ⟨S8192x5632, .bf16⟩
  | .hbm, ⟨5, _⟩ => ⟨S8192x5632, .f32⟩
  | .hbm, ⟨6, _⟩ => ⟨S1x8192x5632, .bf16⟩
  | .hbm, ⟨7, _⟩ => ⟨S8192x5632, .bf16⟩
  | .hbm, ⟨8, _⟩ => ⟨S8192x5632, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S_, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S1x1x1408x2048, .bf16⟩
  | .hbm, ⟨24, _⟩ => ⟨S1408x2048, .bf16⟩
  | .hbm, ⟨25, _⟩ => ⟨S1x1x1408x2048, .bf16⟩
  | .hbm, ⟨26, _⟩ => ⟨S1408x2048, .bf16⟩
  | .hbm, ⟨27, _⟩ => ⟨S1x1x1408x2048, .bf16⟩
  | .hbm, ⟨28, _⟩ => ⟨S1408x2048, .bf16⟩
  | .hbm, ⟨29, _⟩ => ⟨S1x1x1408x2048, .bf16⟩
  | .hbm, ⟨30, _⟩ => ⟨S1408x2048, .bf16⟩
  | .hbm, ⟨31, _⟩ => ⟨S5632x2048, .bf16⟩
  | .hbm, ⟨32, _⟩ => ⟨S5632x2048, .f32⟩
  | .hbm, ⟨33, _⟩ => ⟨S8192x2048, .f32⟩
  | .hbm, ⟨34, _⟩ => ⟨S_, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S8192x5632, .f32⟩
  | .hbm, ⟨41, _⟩ => ⟨S8192x5632, .f32⟩
  | .hbm, ⟨42, _⟩ => ⟨S8192x5632, .f32⟩
  | .hbm, ⟨43, _⟩ => ⟨S8192x5632, .f32⟩
  | .hbm, ⟨44, _⟩ => ⟨S8192x5632, .f32⟩
  | .hbm, ⟨45, _⟩ => ⟨S8192x5632, .f32⟩
  | .hbm, ⟨46, _⟩ => ⟨S8192x5632, .f32⟩
  | .hbm, ⟨47, _⟩ => ⟨S1x8192x5632, .f32⟩
  | .hbm, ⟨48, _⟩ => ⟨S1x8192x5632, .f32⟩
  | .hbm, ⟨49, _⟩ => ⟨S2x8192x5632, .f32⟩
  | .hbm, ⟨50, _⟩ => ⟨S2x8192x5632, .bf16⟩
  | _, _ => ⟨S2x8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v6_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v6_1 : Ref sig .tc := ⟨.hbm, 20, rfl⟩
abbrev main_v6_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst : Ref sig .tc := ⟨.hbm, 34, rfl⟩
abbrev main_v19 : Ref sig .tc := ⟨.hbm, 35, rfl⟩
abbrev main_v20 : Ref sig .tc := ⟨.hbm, 36, rfl⟩
abbrev main_cst_0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩

abbrev nD : Nat := 1
abbrev τ : Topo := Topo.v7x

variable {F : FTy → Type} [FloatOps F]
-- ==== Dwdown.lean ====
abbrev S8192x5632 : Shape := ⟨2, ![8192, 5632]⟩
abbrev S8192x2048 : Shape := ⟨2, ![8192, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S8192x2048, .bf16⟩
  | .hbm, ⟨3, _⟩ => ⟨S5632x2048, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwdownReferenceIdeal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 14
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S2048x5632, .f32⟩
  | .hbm, ⟨13, _⟩ => ⟨S5632x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Dwgu.lean ====
abbrev S8192x2048 : Shape := ⟨2, ![8192, 2048]⟩
abbrev S2x8192x5632 : Shape := ⟨3, ![2, 8192, 5632]⟩
abbrev S4x2048x2816 : Shape := ⟨3, ![4, 2048, 2816]⟩
abbrev S2048x512 : Shape := ⟨2, ![2048, 512]⟩
abbrev S1x2048x2816 : Shape := ⟨3, ![1, 2048, 2816]⟩
abbrev S1x512x2816 : Shape := ⟨3, ![1, 512, 2816]⟩
abbrev S512x2816 : Shape := ⟨2, ![512, 2816]⟩
abbrev S2048x2816 : Shape := ⟨2, ![2048, 2816]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x8192x5632, .bf16⟩
  | .hbm, ⟨2, _⟩ => ⟨S4x2048x2816, .f32⟩
  | .local _ .vmem, ⟨0, _⟩ => ⟨S2048x512, .bf16⟩
  | .local _ .vmem, ⟨1, _⟩ => ⟨S2048x512, .bf16⟩
  | .local _ .vmem, ⟨2, _⟩ => ⟨S1x2048x2816, .bf16⟩
  | .local _ .vmem, ⟨3, _⟩ => ⟨S1x2048x2816, .bf16⟩
  | .local _ .vmem, ⟨4, _⟩ => ⟨S1x512x2816, .f32⟩
  | .local _ .vmem, ⟨5, _⟩ => ⟨S1x512x2816, .f32⟩
  | .local _ .vmem, ⟨6, _⟩ => ⟨S512x2816, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwguReferenceIdeal.lean ====
abbrev S8192x2048 : Shape := ⟨2, ![8192, 2048]⟩
abbrev S2x8192x5632 : Shape := ⟨3, ![2, 8192, 5632]⟩
abbrev S_ : Shape := ⟨0, ![]⟩
abbrev S2048x11264 : Shape := ⟨2, ![2048, 11264]⟩
abbrev S8192x11264 : Shape := ⟨2, ![8192, 11264]⟩
abbrev S8192x5632 : Shape := ⟨2, ![8192, 5632]⟩
abbrev S1x8192x5632 : Shape := ⟨3, ![1, 8192, 5632]⟩
abbrev S11264x2048 : Shape := ⟨2, ![11264, 2048]⟩
abbrev S2048x2816 : Shape := ⟨2, ![2048, 2816]⟩
abbrev S1x2048x2816 : Shape := ⟨3, ![1, 2048, 2816]⟩
abbrev S4x2048x2816 : Shape := ⟨3, ![4, 2048, 2816]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x8192x5632, .bf16⟩
  | .hbm, ⟨2, _⟩ => ⟨S_, .f32⟩
  | .hbm, ⟨3, _⟩ => ⟨S2048x11264, .f32⟩
  | .hbm, ⟨4, _⟩ => ⟨S8192x2048, .f32⟩
  | .hbm, ⟨5, _⟩ => ⟨S8192x11264, .f32⟩
  | .hbm, ⟨6, _⟩ => ⟨S8192x5632, .f32⟩
  | .hbm, ⟨7, _⟩ => ⟨S8192x5632, .f32⟩
  | .hbm, ⟨8, _⟩ => ⟨S1x8192x5632, .bf16⟩
  | .hbm, ⟨9, _⟩ => ⟨S8192x5632, .bf16⟩
  | .hbm, ⟨10, _⟩ => ⟨S8192x5632, .f32⟩
  | .hbm, ⟨11, _⟩ => ⟨S1x8192x5632, .bf16⟩
  | .hbm, ⟨12, _⟩ => ⟨S8192x5632, .bf16⟩
  | .hbm, ⟨13, _⟩ => ⟨S8192x5632, .f32⟩
  | .hbm, ⟨14, _⟩ => ⟨S8192x11264, .f32⟩
  | .hbm, ⟨15, _⟩ => ⟨S11264x2048, .f32⟩
  | .hbm, ⟨16, _⟩ => ⟨S2048x11264, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S1x2048x2816, .f32⟩
  | .hbm, ⟨22, _⟩ => ⟨S1x2048x2816, .f32⟩
  | .hbm, ⟨23, _⟩ => ⟨S1x2048x2816, .f32⟩
  | .hbm, ⟨24, _⟩ => ⟨S1x2048x2816, .f32⟩
  | .hbm, ⟨25, _⟩ => ⟨S4x2048x2816, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩

abbrev nD : Nat := 1
abbrev τ : Topo := Topo.v7x

variable {F : FTy → Type} [FloatOps F]
-- ==== Dh.lean ====
abbrev S2x8192x5632 : Shape := ⟨3, ![2, 8192, 5632]⟩
abbrev S4x2x2048x2816 : Shape := ⟨4, ![4, 2, 2048, 2816]⟩
abbrev S8192x2048 : Shape := ⟨2, ![8192, 2048]⟩
abbrev S1x512x2816 : Shape := ⟨3, ![1, 512, 2816]⟩
abbrev S1x1x2048x2816 : Shape := ⟨4, ![1, 1, 2048, 2816]⟩
abbrev S512x2048 : Shape := ⟨2, ![512, 2048]⟩
abbrev S512x2816 : Shape := ⟨2, ![512, 2816]⟩
abbrev S2048x2816 : Shape := ⟨2, ![2048, 2816]⟩

abbrev nBuf : Space → Nat
  | .hbm => 3
  | .vmem => 7
  | .smem => 0
  | _ => 0

abbrev bufTy : (tb : Table) → Fin (tcTables nBuf tb) → BufTy
  | .hbm, ⟨0, _⟩ => ⟨S2x8192x5632, .bf16⟩
  | .hbm, ⟨1, _⟩ => ⟨S4x2x2048x2816, .bf16⟩
  | .hbm, ⟨2, _⟩ => ⟨S8192x2048, .f32⟩
  | .local _ .vmem, ⟨0, _⟩ => ⟨S1x512x2816, .bf16⟩
  | .local _ .vmem, ⟨1, _⟩ => ⟨S1x512x2816, .bf16⟩
  | .local _ .vmem, ⟨2, _⟩ => ⟨S1x1x2048x2816, .bf16⟩
  | .local _ .vmem, ⟨3, _⟩ => ⟨S1x1x2048x2816, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S2x8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_9 : BitVec 32 := 0#32
  let v13 : BitVec 1 := Scalar.cmpi .ne v12 c0_i32_9
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  let c0_i32_13 : BitVec 32 := 0#32
  ![v16.toNat, c1_i32_11.toNat, c0_i32_12.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DhReferenceIdeal.lean ====
abbrev S2x8192x5632 : Shape := ⟨3, ![2, 8192, 5632]⟩
abbrev S4x2x2048x2816 : Shape := ⟨4, ![4, 2, 2048, 2816]⟩
abbrev S_ : Shape := ⟨0, ![]⟩
abbrev S8192x2048 : Shape := ⟨2, ![8192, 2048]⟩
abbrev S1x1x2048x2816 : Shape := ⟨4, ![1, 1, 2048, 2816]⟩
abbrev S2048x2816 : Shape := ⟨2, ![2048, 2816]⟩
abbrev S2048x11264 : Shape := ⟨2, ![2048, 11264]⟩
abbrev S8192x11264 : Shape := ⟨2, ![8192, 11264]⟩
abbrev S8192x5632 : Shape := ⟨2, ![8192, 5632]⟩
abbrev S1x8192x5632 : Shape := ⟨3, ![1, 8192, 5632]⟩

abbrev nBuf : Space → Nat
  | .hbm => 25
  | .vmem => 0
  | .smem => 0
  | _ => 0

abbrev bufTy : (tb : Table) → Fin (tcTables nBuf tb) → BufTy
  | .hbm, ⟨0, _⟩ => ⟨S2x8192x5632, .bf16⟩
  | .hbm, ⟨1, _⟩ => ⟨S4x2x2048x2816, .bf16⟩
  | .hbm, ⟨2, _⟩ => ⟨S_, .f32⟩
  | .hbm, ⟨3, _⟩ => ⟨S8192x2048, .f32⟩
  | .hbm, ⟨4, _⟩ => ⟨S1x1x2048x2816, .bf16⟩
  | .hbm, ⟨5, _⟩ => ⟨S2048x2816, .bf16⟩
  | .hbm, ⟨6, _⟩ => ⟨S1x1x2048x2816, .bf16⟩
  | .hbm, ⟨7, _⟩ => ⟨S2048x2816, .bf16⟩
  | .hbm, ⟨8, _⟩ => ⟨S1x1x2048x2816, .bf16⟩
  | .hbm, ⟨9, _⟩ => ⟨S2048x2816, .bf16⟩
  | .hbm, ⟨10, _⟩ => ⟨S1x1x2048x2816, .bf16⟩
  | .hbm, ⟨11, _⟩ => ⟨S2048x2816, .bf16⟩
  | .hbm, ⟨12, _⟩ => ⟨S2048x11264, .bf16⟩
  | .hbm, ⟨13, _⟩ => ⟨S2048x11264, .f32⟩
  | .hbm, ⟨14, _⟩ => ⟨S8192x11264, .f32⟩
  | .hbm, ⟨15, _⟩ => ⟨S8192x5632, .f32⟩
  | .hbm, ⟨16, _⟩ => ⟨S8192x5632, .f32⟩
  | .hbm, ⟨17, _⟩ => ⟨S1x8192x5632, .bf16⟩
  | .hbm, ⟨18, _⟩ => ⟨S8192x5632, .bf16⟩
  | .hbm, ⟨19, _⟩ => ⟨S8192x5632, .f32⟩
  | .hbm, ⟨20, _⟩ => ⟨S1x8192x5632, .bf16⟩
  | .hbm, ⟨21, _⟩ => ⟨S8192x5632, .bf16⟩
  | .hbm, ⟨22, _⟩ => ⟨S8192x5632, .f32⟩
  | .hbm, ⟨23, _⟩ => ⟨S8192x11264, .f32⟩
  | .hbm, ⟨24, _⟩ => ⟨S8192x2048, .f32⟩
  | _, _ => ⟨S2x8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩

abbrev nD : Nat := 1
abbrev τ : Topo := Topo.v7x

variable {F : FTy → Type} [FloatOps F]
-- ==== Gu.lean ====
abbrev S8192x2048 : Shape := ⟨2, ![8192, 2048]⟩
abbrev S4x2x2048x2816 : Shape := ⟨4, ![4, 2, 2048, 2816]⟩
abbrev S8192x5632 : Shape := ⟨2, ![8192, 5632]⟩
abbrev S2x8192x5632 : Shape := ⟨3, ![2, 8192, 5632]⟩
abbrev S1024x2048 : Shape := ⟨2, ![1024, 2048]⟩
abbrev S1x1x2048x256 : Shape := ⟨4, ![1, 1, 2048, 256]⟩
abbrev S1024x256 : Shape := ⟨2, ![1024, 256]⟩
abbrev S2x1024x256 : Shape := ⟨3, ![2, 1024, 256]⟩
abbrev S2048x256 : Shape := ⟨2, ![2048, 256]⟩
abbrev S1x1024x256 : Shape := ⟨3, ![1, 1024, 256]⟩

abbrev nBuf : Space → Nat
  | .hbm => 4
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S4x2x2048x2816, .bf16⟩
  | .hbm, ⟨2, _⟩ => ⟨S8192x5632, .bf16⟩
  | .hbm, ⟨3, _⟩ => ⟨S2x8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x256, .bf16⟩
  | .local _ .vmem, ⟨3, _⟩ => ⟨S1x1x2048x256, .bf16⟩
  | .local _ .vmem, ⟨4, _⟩ => ⟨S1x1x2048x256, .bf16⟩
  | .local _ .vmem, ⟨5, _⟩ => ⟨S1x1x2048x256, .bf16⟩
  | .local _ .vmem, ⟨6, _⟩ => ⟨S1024x256, .bf16⟩
  | .local _ .vmem, ⟨7, _⟩ => ⟨S1024x256, .bf16⟩
  | .local _ .vmem, ⟨8, _⟩ => ⟨S2x1024x256, .bf16⟩
  | .local _ .vmem, ⟨9, _⟩ => ⟨S2x1024x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![v16.toNat, c1_i32_10.toNat, c0_i32_11.toNat, v26.toNat]

def cc0_transform_2 (i : grid0.Coords) : Fin 4 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c11_i32 : BitVec 32 := 11#32
  let v1 : BitVec 32 := Scalar.divsi v0 c11_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c11_i32 c0_i32_1
  let v8 : BitVec 32 := Scalar.extui v7
  let c0_i32_2 : BitVec 32 := 0#32
  let v9 : BitVec 1 := Scalar.cmpi .slt c11_i32 c0_i32_2
  let v10 : BitVec 32 := Scalar.extui v9
  let v11 : BitVec 32 := Scalar.subi v8 v10
  let v12 : BitVec 1 := Scalar.cmpi .ne v6 v11
  let v13 : BitVec 32 := Scalar.remsi v0 c11_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c22_i32_4 : BitVec 32 := 22#32
  let v18 : BitVec 32 := Scalar.addi c22_i32_4 arg1
  let c11_i32_5 : BitVec 32 := 11#32
  let c0_i32_6 : BitVec 32 := 0#32
  let v19 : BitVec 1 := Scalar.cmpi .eq c11_i32_5 c0_i32_6
  let c1_i32_7 : BitVec 32 := 1#32
  let v20 : BitVec 32 := Scalar.select v19 c1_i32_7 c11_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let c0_i32_12 : BitVec 32 := 0#32
  let c0_i32_13 : BitVec 32 := 0#32
  ![v17.toNat, c1_i32_11.toNat, c0_i32_12.toNat, v28.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GuReferenceIdeal.lean ====
abbrev S8192x2048 : Shape := ⟨2, ![8192, 2048]⟩
abbrev S4x2x2048x2816 : Shape := ⟨4, ![4, 2, 2048, 2816]⟩
abbrev S1x1x2048x2816 : Shape := ⟨4, ![1, 1, 2048, 2816]⟩
abbrev S2048x2816 : Shape := ⟨2, ![2048, 2816]⟩
abbrev S2048x11264 : Shape := ⟨2, ![2048, 11264]⟩
abbrev S8192x11264 : Shape := ⟨2, ![8192, 11264]⟩
abbrev S8192x5632 : Shape := ⟨2, ![8192, 5632]⟩
abbrev S_ : Shape := ⟨0, ![]⟩
abbrev S1x8192x5632 : Shape := ⟨3, ![1, 8192, 5632]⟩
abbrev S2x8192x5632 : Shape := ⟨3, ![2, 8192, 5632]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2x2048x2816, .bf16⟩
  | .hbm, ⟨2, _⟩ => ⟨S8192x2048, .f32⟩
  | .hbm, ⟨3, _⟩ => ⟨S1x1x2048x2816, .bf16⟩
  | .hbm, ⟨4, _⟩ => ⟨S2048x2816, .bf16⟩
  | .hbm, ⟨5, _⟩ => ⟨S1x1x2048x2816, .bf16⟩
  | .hbm, ⟨6, _⟩ => ⟨S2048x2816, .bf16⟩
  | .hbm, ⟨7, _⟩ => ⟨S1x1x2048x2816, .bf16⟩
  | .hbm, ⟨8, _⟩ => ⟨S2048x2816, .bf16⟩
  | .hbm, ⟨9, _⟩ => ⟨S1x1x2048x2816, .bf16⟩
  | .hbm, ⟨10, _⟩ => ⟨S2048x2816, .bf16⟩
  | .hbm, ⟨11, _⟩ => ⟨S2048x11264, .bf16⟩
  | .hbm, ⟨12, _⟩ => ⟨S2048x11264, .f32⟩
  | .hbm, ⟨13, _⟩ => ⟨S8192x11264, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S_, .f32⟩
  | .hbm, ⟨19, _⟩ => ⟨S8192x5632, .f32⟩
  | .hbm, ⟨20, _⟩ => ⟨S8192x5632, .f32⟩
  | .hbm, ⟨21, _⟩ => ⟨S_, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .bf16⟩
  | .hbm, ⟨27, _⟩ => ⟨S1x8192x5632, .f32⟩
  | .hbm, ⟨28, _⟩ => ⟨S1x8192x5632, .f32⟩
  | .hbm, ⟨29, _⟩ => ⟨S2x8192x5632, .f32⟩
  | .hbm, ⟨30, _⟩ => ⟨S2x8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Down.lean ====
abbrev S8192x2048 : Shape := ⟨2, ![8192, 2048]⟩
abbrev S8192x5632 : Shape := ⟨2, ![8192, 5632]⟩
abbrev S4x2x1408x2048 : Shape := ⟨4, ![4, 2, 1408, 2048]⟩
abbrev S1024x1408 : Shape := ⟨2, ![1024, 1408]⟩
abbrev S1x1x1408x1024 : Shape := ⟨4, ![1, 1, 1408, 1024]⟩
abbrev S1024x1024 : Shape := ⟨2, ![1024, 1024]⟩
abbrev S1408x1024 : Shape := ⟨2, ![1408, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x5632, .bf16⟩
  | .hbm, ⟨2, _⟩ => ⟨S4x2x1408x2048, .bf16⟩
  | .hbm, ⟨3, _⟩ => ⟨S8192x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1x1408x1024, .bf16⟩
  | .local _ .vmem, ⟨3, _⟩ => ⟨S1x1x1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownReferenceIdeal.lean ====
abbrev S8192x2048 : Shape := ⟨2, ![8192, 2048]⟩
abbrev S8192x5632 : Shape := ⟨2, ![8192, 5632]⟩
abbrev S4x2x1408x2048 : Shape := ⟨4, ![4, 2, 1408, 2048]⟩
abbrev S1x1x1408x2048 : Shape := ⟨4, ![1, 1, 1408, 2048]⟩
abbrev S1408x2048 : Shape := ⟨2, ![1408, 2048]⟩
abbrev S5632x2048 : Shape := ⟨2, ![5632, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x5632, .bf16⟩
  | .hbm, ⟨2, _⟩ => ⟨S4x2x1408x2048, .bf16⟩
  | .hbm, ⟨3, _⟩ => ⟨S8192x5632, .f32⟩
  | .hbm, ⟨4, _⟩ => ⟨S1x1x1408x2048, .bf16⟩
  | .hbm, ⟨5, _⟩ => ⟨S1408x2048, .bf16⟩
  | .hbm, ⟨6, _⟩ => ⟨S1x1x1408x2048, .bf16⟩
  | .hbm, ⟨7, _⟩ => ⟨S1408x2048, .bf16⟩
  | .hbm, ⟨8, _⟩ => ⟨S1x1x1408x2048, .bf16⟩
  | .hbm, ⟨9, _⟩ => ⟨S1408x2048, .bf16⟩
  | .hbm, ⟨10, _⟩ => ⟨S1x1x1408x2048, .bf16⟩
  | .hbm, ⟨11, _⟩ => ⟨S1408x2048, .bf16⟩
  | .hbm, ⟨12, _⟩ => ⟨S5632x2048, .bf16⟩
  | .hbm, ⟨13, _⟩ => ⟨S5632x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Norm.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Dnorm.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S8x2048 : Shape := ⟨2, ![8, 2048]⟩
abbrev S256 : Shape := ⟨1, ![256]⟩
abbrev S256x1 : Shape := ⟨2, ![256, 1]⟩
abbrev S32x8x2048 : Shape := ⟨3, ![32, 8, 2048]⟩

abbrev nBuf : Space → Nat
  | .hbm => 8
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S8192x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | .local _ .vmem, ⟨12, _⟩ => ⟨S8x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def k0_cond3 (i : grid0.Coords) : BitVec 1 :=
  let arg0 : BitVec 32 := BitVec.ofNat 32 (i 0).val
  let c31_i32 : BitVec 32 := 31#32
  let v21 : BitVec 1 := Scalar.cmpi .eq arg0 c31_i32
  let v22 : BitVec 32 := Scalar.extui v21
  let c0_i32_9 : BitVec 32 := 0#32
  let v23 : BitVec 1 := Scalar.cmpi .ne v22 c0_i32_9
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DnormReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S2048, .f32⟩
  | .hbm, ⟨32, _⟩ => ⟨S8192x2048, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .bf16⟩
  | .hbm, ⟨52, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Dact0.lean ====
abbrev S2x8192x5632 : Shape := ⟨3, ![2, 8192, 5632]⟩
abbrev S4x2x1408x2048 : Shape := ⟨4, ![4, 2, 1408, 2048]⟩
abbrev S8192x2048 : Shape := ⟨2, ![8192, 2048]⟩
abbrev S512x2048 : Shape := ⟨2, ![512, 2048]⟩
abbrev S1x1x1408x2048 : Shape := ⟨4, ![1, 1, 1408, 2048]⟩
abbrev S2x512x1408 : Shape := ⟨3, ![2, 512, 1408]⟩
abbrev S1408x2048 : Shape := ⟨2, ![1408, 2048]⟩
abbrev S512x1408 : Shape := ⟨2, ![512, 1408]⟩
abbrev S1x512x1408 : Shape := ⟨3, ![1, 512, 1408]⟩

abbrev nBuf : Space → Nat
  | .hbm => 5
  | .vmem => 8
  | .smem => 0
  | _ => 0

abbrev bufTy : (tb : Table) → Fin (tcTables nBuf tb) → BufTy
  | .hbm, ⟨0, _⟩ => ⟨S2x8192x5632, .bf16⟩
  | .hbm, ⟨1, _⟩ => ⟨S4x2x1408x2048, .bf16⟩
  | .hbm, ⟨2, _⟩ => ⟨S8192x2048, .f32⟩
  | .hbm, ⟨3, _⟩ => ⟨S8192x2048, .bf16⟩
  | .hbm, ⟨4, _⟩ => ⟨S2x8192x5632, .bf16⟩
  | .local _ .vmem, ⟨0, _⟩ => ⟨S512x2048, .bf16⟩
  | .local _ .vmem, ⟨1, _⟩ => ⟨S512x2048, .bf16⟩
  | .local _ .vmem, ⟨2, _⟩ => ⟨S1x1x1408x2048, .bf16⟩
  | .local _ .vmem, ⟨3, _⟩ => ⟨S1x1x1408x2048, .bf16⟩
  | .local _ .vmem, ⟨4, _⟩ => ⟨S2x512x1408, .bf16⟩
  | .local _ .vmem, ⟨5, _⟩ => ⟨S2x512x1408, .bf16⟩
  | .local _ .vmem, ⟨6, _⟩ => ⟨S2x512x1408, .bf16⟩
  | .local _ .vmem, ⟨7, _⟩ => ⟨S2x512x1408, .bf16⟩
  | _, _ => ⟨S2x8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, v26.toNat, c0_i32_12.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Dact0ReferenceIdeal.lean ====
abbrev S2x8192x5632 : Shape := ⟨3, ![2, 8192, 5632]⟩
abbrev S4x2x1408x2048 : Shape := ⟨4, ![4, 2, 1408, 2048]⟩
abbrev S8192x2048 : Shape := ⟨2, ![8192, 2048]⟩
abbrev S1x8192x5632 : Shape := ⟨3, ![1, 8192, 5632]⟩
abbrev S8192x5632 : Shape := ⟨2, ![8192, 5632]⟩
abbrev S_ : Shape := ⟨0, ![]⟩
abbrev S1x1x1408x2048 : Shape := ⟨4, ![1, 1, 1408, 2048]⟩
abbrev S1408x2048 : Shape := ⟨2, ![1408, 2048]⟩
abbrev S5632x2048 : Shape := ⟨2, ![5632, 2048]⟩

abbrev nBuf : Space → Nat
  | .hbm => 51
  | .vmem => 0
  | .smem => 0
  | _ => 0

abbrev bufTy : (tb : Table) → Fin (tcTables nBuf tb) → BufTy
  | .hbm, ⟨0, _⟩ => ⟨S2x8192x5632, .bf16⟩
  | .hbm, ⟨1, _⟩ => ⟨S4x2x1408x2048, .bf16⟩
  | .hbm, ⟨2, _⟩ => ⟨S8192x2048, .f32⟩
  | .hbm, ⟨3, _⟩ => ⟨S1x8192x5632, .bf16⟩
  | .hbm, ⟨4, _⟩ => ⟨S8192x5632, .bf16⟩
  | .hbm, ⟨5, _⟩ => ⟨S8192x5632, .f32⟩
  | .hbm, ⟨6, _⟩ => ⟨S1x8192x5632, .bf16⟩
  | .hbm, ⟨7, _⟩ => ⟨S8192x5632, .bf16⟩
  | .hbm, ⟨8, _⟩ => ⟨S8192x5632, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S_, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S1x1x1408x2048, .bf16⟩
  | .hbm, ⟨24, _⟩ => ⟨S1408x2048, .bf16⟩
  | .hbm, ⟨25, _⟩ => ⟨S1x1x1408x2048, .bf16⟩
  | .hbm, ⟨26, _⟩ => ⟨S1408x2048, .bf16⟩
  | .hbm, ⟨27, _⟩ => ⟨S1x1x1408x2048, .bf16⟩
  | .hbm, ⟨28, _⟩ => ⟨S1408x2048, .bf16⟩
  | .hbm, ⟨29, _⟩ => ⟨S1x1x1408x2048, .bf16⟩
  | .hbm, ⟨30, _⟩ => ⟨S1408x2048, .bf16⟩
  | .hbm, ⟨31, _⟩ => ⟨S5632x2048, .bf16⟩
  | .hbm, ⟨32, _⟩ => ⟨S5632x2048, .f32⟩
  | .hbm, ⟨33, _⟩ => ⟨S8192x2048, .f32⟩
  | .hbm, ⟨34, _⟩ => ⟨S_, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S8192x5632, .f32⟩
  | .hbm, ⟨41, _⟩ => ⟨S8192x5632, .f32⟩
  | .hbm, ⟨42, _⟩ => ⟨S8192x5632, .f32⟩
  | .hbm, ⟨43, _⟩ => ⟨S8192x5632, .f32⟩
  | .hbm, ⟨44, _⟩ => ⟨S8192x5632, .f32⟩
  | .hbm, ⟨45, _⟩ => ⟨S8192x5632, .f32⟩
  | .hbm, ⟨46, _⟩ => ⟨S8192x5632, .f32⟩
  | .hbm, ⟨47, _⟩ => ⟨S1x8192x5632, .f32⟩
  | .hbm, ⟨48, _⟩ => ⟨S1x8192x5632, .f32⟩
  | .hbm, ⟨49, _⟩ => ⟨S2x8192x5632, .f32⟩
  | .hbm, ⟨50, _⟩ => ⟨S2x8192x5632, .bf16⟩
  | _, _ => ⟨S2x8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v6_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v6_1 : Ref sig .tc := ⟨.hbm, 20, rfl⟩
abbrev main_v6_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst : Ref sig .tc := ⟨.hbm, 34, rfl⟩
abbrev main_v19 : Ref sig .tc := ⟨.hbm, 35, rfl⟩
abbrev main_v20 : Ref sig .tc := ⟨.hbm, 36, rfl⟩
abbrev main_cst_0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩

abbrev nD : Nat := 1
abbrev τ : Topo := Topo.v7x

variable {F : FTy → Type} [FloatOps F]
-- ==== Dh0.lean ====
abbrev S2x8192x5632 : Shape := ⟨3, ![2, 8192, 5632]⟩
abbrev S4x2x2048x2816 : Shape := ⟨4, ![4, 2, 2048, 2816]⟩
abbrev S8192x2048 : Shape := ⟨2, ![8192, 2048]⟩
abbrev S1x512x2816 : Shape := ⟨3, ![1, 512, 2816]⟩
abbrev S1x1x2048x2816 : Shape := ⟨4, ![1, 1, 2048, 2816]⟩
abbrev S512x2048 : Shape := ⟨2, ![512, 2048]⟩
abbrev S512x2816 : Shape := ⟨2, ![512, 2816]⟩
abbrev S2048x2816 : Shape := ⟨2, ![2048, 2816]⟩

abbrev nBuf : Space → Nat
  | .hbm => 3
  | .vmem => 7
  | .smem => 0
  | _ => 0

abbrev bufTy : (tb : Table) → Fin (tcTables nBuf tb) → BufTy
  | .hbm, ⟨0, _⟩ => ⟨S2x8192x5632, .bf16⟩
  | .hbm, ⟨1, _⟩ => ⟨S4x2x2048x2816, .bf16⟩
  | .hbm, ⟨2, _⟩ => ⟨S8192x2048, .f32⟩
  | .local _ .vmem, ⟨0, _⟩ => ⟨S1x512x2816, .bf16⟩
  | .local _ .vmem, ⟨1, _⟩ => ⟨S1x512x2816, .bf16⟩
  | .local _ .vmem, ⟨2, _⟩ => ⟨S1x1x2048x2816, .bf16⟩
  | .local _ .vmem, ⟨3, _⟩ => ⟨S1x1x2048x2816, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S2x8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_9 : BitVec 32 := 0#32
  let v13 : BitVec 1 := Scalar.cmpi .ne v12 c0_i32_9
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, c0_i32_12.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Dh0ReferenceIdeal.lean ====
abbrev S2x8192x5632 : Shape := ⟨3, ![2, 8192, 5632]⟩
abbrev S4x2x2048x2816 : Shape := ⟨4, ![4, 2, 2048, 2816]⟩
abbrev S_ : Shape := ⟨0, ![]⟩
abbrev S8192x2048 : Shape := ⟨2, ![8192, 2048]⟩
abbrev S1x1x2048x2816 : Shape := ⟨4, ![1, 1, 2048, 2816]⟩
abbrev S2048x2816 : Shape := ⟨2, ![2048, 2816]⟩
abbrev S2048x11264 : Shape := ⟨2, ![2048, 11264]⟩
abbrev S8192x11264 : Shape := ⟨2, ![8192, 11264]⟩
abbrev S8192x5632 : Shape := ⟨2, ![8192, 5632]⟩
abbrev S1x8192x5632 : Shape := ⟨3, ![1, 8192, 5632]⟩

abbrev nBuf : Space → Nat
  | .hbm => 25
  | .vmem => 0
  | .smem => 0
  | _ => 0

abbrev bufTy : (tb : Table) → Fin (tcTables nBuf tb) → BufTy
  | .hbm, ⟨0, _⟩ => ⟨S2x8192x5632, .bf16⟩
  | .hbm, ⟨1, _⟩ => ⟨S4x2x2048x2816, .bf16⟩
  | .hbm, ⟨2, _⟩ => ⟨S_, .f32⟩
  | .hbm, ⟨3, _⟩ => ⟨S8192x2048, .f32⟩
  | .hbm, ⟨4, _⟩ => ⟨S1x1x2048x2816, .bf16⟩
  | .hbm, ⟨5, _⟩ => ⟨S2048x2816, .bf16⟩
  | .hbm, ⟨6, _⟩ => ⟨S1x1x2048x2816, .bf16⟩
  | .hbm, ⟨7, _⟩ => ⟨S2048x2816, .bf16⟩
  | .hbm, ⟨8, _⟩ => ⟨S1x1x2048x2816, .bf16⟩
  | .hbm, ⟨9, _⟩ => ⟨S2048x2816, .bf16⟩
  | .hbm, ⟨10, _⟩ => ⟨S1x1x2048x2816, .bf16⟩
  | .hbm, ⟨11, _⟩ => ⟨S2048x2816, .bf16⟩
  | .hbm, ⟨12, _⟩ => ⟨S2048x11264, .bf16⟩
  | .hbm, ⟨13, _⟩ => ⟨S2048x11264, .f32⟩
  | .hbm, ⟨14, _⟩ => ⟨S8192x11264, .f32⟩
  | .hbm, ⟨15, _⟩ => ⟨S8192x5632, .f32⟩
  | .hbm, ⟨16, _⟩ => ⟨S8192x5632, .f32⟩
  | .hbm, ⟨17, _⟩ => ⟨S1x8192x5632, .bf16⟩
  | .hbm, ⟨18, _⟩ => ⟨S8192x5632, .bf16⟩
  | .hbm, ⟨19, _⟩ => ⟨S8192x5632, .f32⟩
  | .hbm, ⟨20, _⟩ => ⟨S1x8192x5632, .bf16⟩
  | .hbm, ⟨21, _⟩ => ⟨S8192x5632, .bf16⟩
  | .hbm, ⟨22, _⟩ => ⟨S8192x5632, .f32⟩
  | .hbm, ⟨23, _⟩ => ⟨S8192x11264, .f32⟩
  | .hbm, ⟨24, _⟩ => ⟨S8192x2048, .f32⟩
  | _, _ => ⟨S2x8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩

abbrev nD : Nat := 1
abbrev τ : Topo := Topo.v7x

variable {F : FTy → Type} [FloatOps F]
-- ==== Gu0.lean ====
abbrev S8192x2048 : Shape := ⟨2, ![8192, 2048]⟩
abbrev S4x2x2048x2816 : Shape := ⟨4, ![4, 2, 2048, 2816]⟩
abbrev S8192x5632 : Shape := ⟨2, ![8192, 5632]⟩
abbrev S2x8192x5632 : Shape := ⟨3, ![2, 8192, 5632]⟩
abbrev S1024x2048 : Shape := ⟨2, ![1024, 2048]⟩
abbrev S1x1x2048x256 : Shape := ⟨4, ![1, 1, 2048, 256]⟩
abbrev S1024x256 : Shape := ⟨2, ![1024, 256]⟩
abbrev S2x1024x256 : Shape := ⟨3, ![2, 1024, 256]⟩
abbrev S2048x256 : Shape := ⟨2, ![2048, 256]⟩
abbrev S1x1024x256 : Shape := ⟨3, ![1, 1024, 256]⟩

abbrev nBuf : Space → Nat
  | .hbm => 4
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S4x2x2048x2816, .bf16⟩
  | .hbm, ⟨2, _⟩ => ⟨S8192x5632, .bf16⟩
  | .hbm, ⟨3, _⟩ => ⟨S2x8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x256, .bf16⟩
  | .local _ .vmem, ⟨3, _⟩ => ⟨S1x1x2048x256, .bf16⟩
  | .local _ .vmem, ⟨4, _⟩ => ⟨S1x1x2048x256, .bf16⟩
  | .local _ .vmem, ⟨5, _⟩ => ⟨S1x1x2048x256, .bf16⟩
  | .local _ .vmem, ⟨6, _⟩ => ⟨S1024x256, .bf16⟩
  | .local _ .vmem, ⟨7, _⟩ => ⟨S1024x256, .bf16⟩
  | .local _ .vmem, ⟨8, _⟩ => ⟨S2x1024x256, .bf16⟩
  | .local _ .vmem, ⟨9, _⟩ => ⟨S2x1024x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_2 (i : grid0.Coords) : Fin 4 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c11_i32 : BitVec 32 := 11#32
  let v1 : BitVec 32 := Scalar.divsi v0 c11_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c11_i32 c0_i32_1
  let v8 : BitVec 32 := Scalar.extui v7
  let c0_i32_2 : BitVec 32 := 0#32
  let v9 : BitVec 1 := Scalar.cmpi .slt c11_i32 c0_i32_2
  let v10 : BitVec 32 := Scalar.extui v9
  let v11 : BitVec 32 := Scalar.subi v8 v10
  let v12 : BitVec 1 := Scalar.cmpi .ne v6 v11
  let v13 : BitVec 32 := Scalar.remsi v0 c11_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c22_i32_4 : BitVec 32 := 22#32
  let v18 : BitVec 32 := Scalar.addi c22_i32_4 arg1
  let c11_i32_5 : BitVec 32 := 11#32
  let c0_i32_6 : BitVec 32 := 0#32
  let v19 : BitVec 1 := Scalar.cmpi .eq c11_i32_5 c0_i32_6
  let c1_i32_7 : BitVec 32 := 1#32
  let v20 : BitVec 32 := Scalar.select v19 c1_i32_7 c11_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, c0_i32_11.toNat, c0_i32_12.toNat, v28.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Gu0ReferenceIdeal.lean ====
abbrev S8192x2048 : Shape := ⟨2, ![8192, 2048]⟩
abbrev S4x2x2048x2816 : Shape := ⟨4, ![4, 2, 2048, 2816]⟩
abbrev S1x1x2048x2816 : Shape := ⟨4, ![1, 1, 2048, 2816]⟩
abbrev S2048x2816 : Shape := ⟨2, ![2048, 2816]⟩
abbrev S2048x11264 : Shape := ⟨2, ![2048, 11264]⟩
abbrev S8192x11264 : Shape := ⟨2, ![8192, 11264]⟩
abbrev S8192x5632 : Shape := ⟨2, ![8192, 5632]⟩
abbrev S_ : Shape := ⟨0, ![]⟩
abbrev S1x8192x5632 : Shape := ⟨3, ![1, 8192, 5632]⟩
abbrev S2x8192x5632 : Shape := ⟨3, ![2, 8192, 5632]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2x2048x2816, .bf16⟩
  | .hbm, ⟨2, _⟩ => ⟨S8192x2048, .f32⟩
  | .hbm, ⟨3, _⟩ => ⟨S1x1x2048x2816, .bf16⟩
  | .hbm, ⟨4, _⟩ => ⟨S2048x2816, .bf16⟩
  | .hbm, ⟨5, _⟩ => ⟨S1x1x2048x2816, .bf16⟩
  | .hbm, ⟨6, _⟩ => ⟨S2048x2816, .bf16⟩
  | .hbm, ⟨7, _⟩ => ⟨S1x1x2048x2816, .bf16⟩
  | .hbm, ⟨8, _⟩ => ⟨S2048x2816, .bf16⟩
  | .hbm, ⟨9, _⟩ => ⟨S1x1x2048x2816, .bf16⟩
  | .hbm, ⟨10, _⟩ => ⟨S2048x2816, .bf16⟩
  | .hbm, ⟨11, _⟩ => ⟨S2048x11264, .bf16⟩
  | .hbm, ⟨12, _⟩ => ⟨S2048x11264, .f32⟩
  | .hbm, ⟨13, _⟩ => ⟨S8192x11264, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S_, .f32⟩
  | .hbm, ⟨19, _⟩ => ⟨S8192x5632, .f32⟩
  | .hbm, ⟨20, _⟩ => ⟨S8192x5632, .f32⟩
  | .hbm, ⟨21, _⟩ => ⟨S_, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .bf16⟩
  | .hbm, ⟨27, _⟩ => ⟨S1x8192x5632, .f32⟩
  | .hbm, ⟨28, _⟩ => ⟨S1x8192x5632, .f32⟩
  | .hbm, ⟨29, _⟩ => ⟨S2x8192x5632, .f32⟩
  | .hbm, ⟨30, _⟩ => ⟨S2x8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Down0.lean ====
abbrev S8192x2048 : Shape := ⟨2, ![8192, 2048]⟩
abbrev S8192x5632 : Shape := ⟨2, ![8192, 5632]⟩
abbrev S4x2x1408x2048 : Shape := ⟨4, ![4, 2, 1408, 2048]⟩
abbrev S1024x1408 : Shape := ⟨2, ![1024, 1408]⟩
abbrev S1x1x1408x1024 : Shape := ⟨4, ![1, 1, 1408, 1024]⟩
abbrev S1024x1024 : Shape := ⟨2, ![1024, 1024]⟩
abbrev S1408x1024 : Shape := ⟨2, ![1408, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x5632, .bf16⟩
  | .hbm, ⟨2, _⟩ => ⟨S4x2x1408x2048, .bf16⟩
  | .hbm, ⟨3, _⟩ => ⟨S8192x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1x1408x1024, .bf16⟩
  | .local _ .vmem, ⟨3, _⟩ => ⟨S1x1x1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Down0ReferenceIdeal.lean ====
abbrev S8192x2048 : Shape := ⟨2, ![8192, 2048]⟩
abbrev S8192x5632 : Shape := ⟨2, ![8192, 5632]⟩
abbrev S4x2x1408x2048 : Shape := ⟨4, ![4, 2, 1408, 2048]⟩
abbrev S1x1x1408x2048 : Shape := ⟨4, ![1, 1, 1408, 2048]⟩
abbrev S1408x2048 : Shape := ⟨2, ![1408, 2048]⟩
abbrev S5632x2048 : Shape := ⟨2, ![5632, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x5632, .bf16⟩
  | .hbm, ⟨2, _⟩ => ⟨S4x2x1408x2048, .bf16⟩
  | .hbm, ⟨3, _⟩ => ⟨S8192x5632, .f32⟩
  | .hbm, ⟨4, _⟩ => ⟨S1x1x1408x2048, .bf16⟩
  | .hbm, ⟨5, _⟩ => ⟨S1408x2048, .bf16⟩
  | .hbm, ⟨6, _⟩ => ⟨S1x1x1408x2048, .bf16⟩
  | .hbm, ⟨7, _⟩ => ⟨S1408x2048, .bf16⟩
  | .hbm, ⟨8, _⟩ => ⟨S1x1x1408x2048, .bf16⟩
  | .hbm, ⟨9, _⟩ => ⟨S1408x2048, .bf16⟩
  | .hbm, ⟨10, _⟩ => ⟨S1x1x1408x2048, .bf16⟩
  | .hbm, ⟨11, _⟩ => ⟨S1408x2048, .bf16⟩
  | .hbm, ⟨12, _⟩ => ⟨S5632x2048, .bf16⟩
  | .hbm, ⟨13, _⟩ => ⟨S5632x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Sbin.lean ====
abbrev S8192x2048 : Shape := ⟨2, ![8192, 2048]⟩
abbrev S4x2x2048x1280 : Shape := ⟨4, ![4, 2, 2048, 1280]⟩
abbrev S8192x5120 : Shape := ⟨2, ![8192, 5120]⟩
abbrev S1024x2048 : Shape := ⟨2, ![1024, 2048]⟩
abbrev S1x1x2048x256 : Shape := ⟨4, ![1, 1, 2048, 256]⟩
abbrev S1024x256 : Shape := ⟨2, ![1024, 256]⟩
abbrev S2048x256 : Shape := ⟨2, ![2048, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4x2x2048x1280, .bf16⟩
  | .hbm, ⟨2, _⟩ => ⟨S8192x5120, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x256, .bf16⟩
  | .local _ .vmem, ⟨3, _⟩ => ⟨S1x1x2048x256, .bf16⟩
  | .local _ .vmem, ⟨4, _⟩ => ⟨S1024x256, .f32⟩
  | .local _ .vmem, ⟨5, _⟩ => ⟨S1024x256, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 20, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.divsi arg1 c5_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg1 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32_4 : BitVec 32 := 5#32
  let c0_i32_5 : BitVec 32 := 0#32
  let v17 : BitVec 1 := Scalar.cmpi .eq c5_i32_4 c0_i32_5
  let c1_i32_6 : BitVec 32 := 1#32
  let v18 : BitVec 32 := Scalar.select v17 c1_i32_6 c5_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  ![v16.toNat, c1_i32_10.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SbinReferenceIdeal.lean ====
abbrev S8192x2048 : Shape := ⟨2, ![8192, 2048]⟩
abbrev S4x2x2048x1280 : Shape := ⟨4, ![4, 2, 2048, 1280]⟩
abbrev S1x1x2048x1280 : Shape := ⟨4, ![1, 1, 2048, 1280]⟩
abbrev S2048x1280 : Shape := ⟨2, ![2048, 1280]⟩
abbrev S2048x5120 : Shape := ⟨2, ![2048, 5120]⟩
abbrev S8192x5120 : Shape := ⟨2, ![8192, 5120]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2x2048x1280, .bf16⟩
  | .hbm, ⟨2, _⟩ => ⟨S8192x2048, .f32⟩
  | .hbm, ⟨3, _⟩ => ⟨S1x1x2048x1280, .bf16⟩
  | .hbm, ⟨4, _⟩ => ⟨S2048x1280, .bf16⟩
  | .hbm, ⟨5, _⟩ => ⟨S1x1x2048x1280, .bf16⟩
  | .hbm, ⟨6, _⟩ => ⟨S2048x1280, .bf16⟩
  | .hbm, ⟨7, _⟩ => ⟨S1x1x2048x1280, .bf16⟩
  | .hbm, ⟨8, _⟩ => ⟨S2048x1280, .bf16⟩
  | .hbm, ⟨9, _⟩ => ⟨S1x1x2048x1280, .bf16⟩
  | .hbm, ⟨10, _⟩ => ⟨S2048x1280, .bf16⟩
  | .hbm, ⟨11, _⟩ => ⟨S2048x5120, .bf16⟩
  | .hbm, ⟨12, _⟩ => ⟨S2048x5120, .f32⟩
  | .hbm, ⟨13, _⟩ => ⟨S8192x5120, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Ssin.lean ====
abbrev S8192x2048 : Shape := ⟨2, ![8192, 2048]⟩
abbrev S4x2x512x2048 : Shape := ⟨4, ![4, 2, 512, 2048]⟩
abbrev S1024x512 : Shape := ⟨2, ![1024, 512]⟩
abbrev S1x1x512x512 : Shape := ⟨4, ![1, 1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2x512x2048, .bf16⟩
  | .hbm, ⟨2, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1x1x512x512, .bf16⟩
  | .local _ .vmem, ⟨3, _⟩ => ⟨S1x1x512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsinReferenceIdeal.lean ====
abbrev S8192x2048 : Shape := ⟨2, ![8192, 2048]⟩
abbrev S4x2x512x2048 : Shape := ⟨4, ![4, 2, 512, 2048]⟩
abbrev S1x1x512x2048 : Shape := ⟨4, ![1, 1, 512, 2048]⟩
abbrev S512x2048 : Shape := ⟨2, ![512, 2048]⟩
abbrev S2048x2048 : Shape := ⟨2, ![2048, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2x512x2048, .bf16⟩
  | .hbm, ⟨2, _⟩ => ⟨S8192x2048, .f32⟩
  | .hbm, ⟨3, _⟩ => ⟨S1x1x512x2048, .bf16⟩
  | .hbm, ⟨4, _⟩ => ⟨S512x2048, .bf16⟩
  | .hbm, ⟨5, _⟩ => ⟨S1x1x512x2048, .bf16⟩
  | .hbm, ⟨6, _⟩ => ⟨S512x2048, .bf16⟩
  | .hbm, ⟨7, _⟩ => ⟨S1x1x512x2048, .bf16⟩
  | .hbm, ⟨8, _⟩ => ⟨S512x2048, .bf16⟩
  | .hbm, ⟨9, _⟩ => ⟨S1x1x512x2048, .bf16⟩
  | .hbm, ⟨10, _⟩ => ⟨S512x2048, .bf16⟩
  | .hbm, ⟨11, _⟩ => ⟨S2048x2048, .bf16⟩
  | .hbm, ⟨12, _⟩ => ⟨S2048x2048, .f32⟩
  | .hbm, ⟨13, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Out.lean ====
abbrev S8192x2048 : Shape := ⟨2, ![8192, 2048]⟩
abbrev S4x2x512x2048 : Shape := ⟨4, ![4, 2, 512, 2048]⟩
abbrev S1024x512 : Shape := ⟨2, ![1024, 512]⟩
abbrev S1x1x512x512 : Shape := ⟨4, ![1, 1, 512, 512]⟩
abbrev S512x512 : Shape := ⟨2, ![512, 512]⟩

abbrev nBuf : Space → Nat
  | .hbm => 5
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S4x2x512x2048, .bf16⟩
  | .hbm, ⟨3, _⟩ => ⟨S8192x2048, .bf16⟩
  | .hbm, ⟨4, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1x1x512x512, .bf16⟩
  | .local _ .vmem, ⟨3, _⟩ => ⟨S1x1x512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutReferenceIdeal.lean ====
abbrev S8192x2048 : Shape := ⟨2, ![8192, 2048]⟩
abbrev S4x2x512x2048 : Shape := ⟨4, ![4, 2, 512, 2048]⟩
abbrev S1x1x512x2048 : Shape := ⟨4, ![1, 1, 512, 2048]⟩
abbrev S512x2048 : Shape := ⟨2, ![512, 2048]⟩
abbrev S2048x2048 : Shape := ⟨2, ![2048, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S4x2x512x2048, .bf16⟩
  | .hbm, ⟨3, _⟩ => ⟨S1x1x512x2048, .bf16⟩
  | .hbm, ⟨4, _⟩ => ⟨S512x2048, .bf16⟩
  | .hbm, ⟨5, _⟩ => ⟨S1x1x512x2048, .bf16⟩
  | .hbm, ⟨6, _⟩ => ⟨S512x2048, .bf16⟩
  | .hbm, ⟨7, _⟩ => ⟨S1x1x512x2048, .bf16⟩
  | .hbm, ⟨8, _⟩ => ⟨S512x2048, .bf16⟩
  | .hbm, ⟨9, _⟩ => ⟨S1x1x512x2048, .bf16⟩
  | .hbm, ⟨10, _⟩ => ⟨S512x2048, .bf16⟩
  | .hbm, ⟨11, _⟩ => ⟨S2048x2048, .bf16⟩
  | .hbm, ⟨12, _⟩ => ⟨S2048x2048, .f32⟩
  | .hbm, ⟨13, _⟩ => ⟨S8192x2048, .f32⟩
  | .hbm, ⟨14, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Dcat.lean ====
abbrev S8192x2048 : Shape := ⟨2, ![8192, 2048]⟩
abbrev S4x2x512x2048 : Shape := ⟨4, ![4, 2, 512, 2048]⟩
abbrev S512x2048 : Shape := ⟨2, ![512, 2048]⟩
abbrev S1x1x512x2048 : Shape := ⟨4, ![1, 1, 512, 2048]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S4x2x512x2048, .bf16⟩
  | .hbm, ⟨2, _⟩ => ⟨S8192x2048, .bf16⟩
  | .hbm, ⟨3, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1x1x512x2048, .bf16⟩
  | .local _ .vmem, ⟨3, _⟩ => ⟨S1x1x512x2048, .bf16⟩
  | .local _ .vmem, ⟨4, _⟩ => ⟨S512x512, .f32⟩
  | .local _ .vmem, ⟨5, _⟩ => ⟨S512x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DcatReferenceIdeal.lean ====
abbrev S8192x2048 : Shape := ⟨2, ![8192, 2048]⟩
abbrev S4x2x512x2048 : Shape := ⟨4, ![4, 2, 512, 2048]⟩
abbrev S_ : Shape := ⟨0, ![]⟩
abbrev S1x1x512x2048 : Shape := ⟨4, ![1, 1, 512, 2048]⟩
abbrev S512x2048 : Shape := ⟨2, ![512, 2048]⟩
abbrev S2048x2048 : Shape := ⟨2, ![2048, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2x512x2048, .bf16⟩
  | .hbm, ⟨2, _⟩ => ⟨S_, .f32⟩
  | .hbm, ⟨3, _⟩ => ⟨S8192x2048, .f32⟩
  | .hbm, ⟨4, _⟩ => ⟨S1x1x512x2048, .bf16⟩
  | .hbm, ⟨5, _⟩ => ⟨S512x2048, .bf16⟩
  | .hbm, ⟨6, _⟩ => ⟨S1x1x512x2048, .bf16⟩
  | .hbm, ⟨7, _⟩ => ⟨S512x2048, .bf16⟩
  | .hbm, ⟨8, _⟩ => ⟨S1x1x512x2048, .bf16⟩
  | .hbm, ⟨9, _⟩ => ⟨S512x2048, .bf16⟩
  | .hbm, ⟨10, _⟩ => ⟨S1x1x512x2048, .bf16⟩
  | .hbm, ⟨11, _⟩ => ⟨S512x2048, .bf16⟩
  | .hbm, ⟨12, _⟩ => ⟨S2048x2048, .bf16⟩
  | .hbm, ⟨13, _⟩ => ⟨S2048x2048, .f32⟩
  | .hbm, ⟨14, _⟩ => ⟨S8192x2048, .f32⟩
  | .hbm, ⟨15, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Dhsb.lean ====
abbrev S8192x5120 : Shape := ⟨2, ![8192, 5120]⟩
abbrev S4x2x2048x1280 : Shape := ⟨4, ![4, 2, 2048, 1280]⟩
abbrev S8192x2048 : Shape := ⟨2, ![8192, 2048]⟩
abbrev S512x1280 : Shape := ⟨2, ![512, 1280]⟩
abbrev S1x1x2048x1280 : Shape := ⟨4, ![1, 1, 2048, 1280]⟩
abbrev S512x2048 : Shape := ⟨2, ![512, 2048]⟩
abbrev S2048x1280 : Shape := ⟨2, ![2048, 1280]⟩

abbrev nBuf : Space → Nat
  | .hbm => 4
  | .vmem => 7
  | .smem => 0
  | _ => 0

abbrev bufTy : (tb : Table) → Fin (tcTables nBuf tb) → BufTy
  | .hbm, ⟨0, _⟩ => ⟨S8192x5120, .f32⟩
  | .hbm, ⟨1, _⟩ => ⟨S4x2x2048x1280, .bf16⟩
  | .hbm, ⟨2, _⟩ => ⟨S8192x5120, .bf16⟩
  | .hbm, ⟨3, _⟩ => ⟨S8192x2048, .f32⟩
  | .local _ .vmem, ⟨0, _⟩ => ⟨S512x1280, .bf16⟩
  | .local _ .vmem, ⟨1, _⟩ => ⟨S512x1280, .bf16⟩
  | .local _ .vmem, ⟨2, _⟩ => ⟨S1x1x2048x1280, .bf16⟩
  | .local _ .vmem, ⟨3, _⟩ => ⟨S1x1x2048x1280, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhsbReferenceIdeal.lean ====
abbrev S8192x5120 : Shape := ⟨2, ![8192, 5120]⟩
abbrev S4x2x2048x1280 : Shape := ⟨4, ![4, 2, 2048, 1280]⟩
abbrev S_ : Shape := ⟨0, ![]⟩
abbrev S8192x2048 : Shape := ⟨2, ![8192, 2048]⟩
abbrev S1x1x2048x1280 : Shape := ⟨4, ![1, 1, 2048, 1280]⟩
abbrev S2048x1280 : Shape := ⟨2, ![2048, 1280]⟩
abbrev S2048x5120 : Shape := ⟨2, ![2048, 5120]⟩

abbrev nBuf : Space → Nat
  | .hbm => 16
  | .vmem => 0
  | .smem => 0
  | _ => 0

abbrev bufTy : (tb : Table) → Fin (tcTables nBuf tb) → BufTy
  | .hbm, ⟨0, _⟩ => ⟨S8192x5120, .f32⟩
  | .hbm, ⟨1, _⟩ => ⟨S4x2x2048x1280, .bf16⟩
  | .hbm, ⟨2, _⟩ => ⟨S_, .f32⟩
  | .hbm, ⟨3, _⟩ => ⟨S8192x2048, .f32⟩
  | .hbm, ⟨4, _⟩ => ⟨S1x1x2048x1280, .bf16⟩
  | .hbm, ⟨5, _⟩ => ⟨S2048x1280, .bf16⟩
  | .hbm, ⟨6, _⟩ => ⟨S1x1x2048x1280, .bf16⟩
  | .hbm, ⟨7, _⟩ => ⟨S2048x1280, .bf16⟩
  | .hbm, ⟨8, _⟩ => ⟨S1x1x2048x1280, .bf16⟩
  | .hbm, ⟨9, _⟩ => ⟨S2048x1280, .bf16⟩
  | .hbm, ⟨10, _⟩ => ⟨S1x1x2048x1280, .bf16⟩
  | .hbm, ⟨11, _⟩ => ⟨S2048x1280, .bf16⟩
  | .hbm, ⟨12, _⟩ => ⟨S2048x5120, .bf16⟩
  | .hbm, ⟨13, _⟩ => ⟨S2048x5120, .f32⟩
  | .hbm, ⟨14, _⟩ => ⟨S8192x5120, .f32⟩
  | .hbm, ⟨15, _⟩ => ⟨S8192x2048, .f32⟩
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Sbin0.lean ====
abbrev S8192x2048 : Shape := ⟨2, ![8192, 2048]⟩
abbrev S4x2x2048x1280 : Shape := ⟨4, ![4, 2, 2048, 1280]⟩
abbrev S8192x5120 : Shape := ⟨2, ![8192, 5120]⟩
abbrev S1024x2048 : Shape := ⟨2, ![1024, 2048]⟩
abbrev S1x1x2048x256 : Shape := ⟨4, ![1, 1, 2048, 256]⟩
abbrev S1024x256 : Shape := ⟨2, ![1024, 256]⟩
abbrev S2048x256 : Shape := ⟨2, ![2048, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4x2x2048x1280, .bf16⟩
  | .hbm, ⟨2, _⟩ => ⟨S8192x5120, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x256, .bf16⟩
  | .local _ .vmem, ⟨3, _⟩ => ⟨S1x1x2048x256, .bf16⟩
  | .local _ .vmem, ⟨4, _⟩ => ⟨S1024x256, .f32⟩
  | .local _ .vmem, ⟨5, _⟩ => ⟨S1024x256, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 20, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.divsi arg1 c5_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg1 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32_4 : BitVec 32 := 5#32
  let c0_i32_5 : BitVec 32 := 0#32
  let v17 : BitVec 1 := Scalar.cmpi .eq c5_i32_4 c0_i32_5
  let c1_i32_6 : BitVec 32 := 1#32
  let v18 : BitVec 32 := Scalar.select v17 c1_i32_6 c5_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Sbin0ReferenceIdeal.lean ====
abbrev S8192x2048 : Shape := ⟨2, ![8192, 2048]⟩
abbrev S4x2x2048x1280 : Shape := ⟨4, ![4, 2, 2048, 1280]⟩
abbrev S1x1x2048x1280 : Shape := ⟨4, ![1, 1, 2048, 1280]⟩
abbrev S2048x1280 : Shape := ⟨2, ![2048, 1280]⟩
abbrev S2048x5120 : Shape := ⟨2, ![2048, 5120]⟩
abbrev S8192x5120 : Shape := ⟨2, ![8192, 5120]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2x2048x1280, .bf16⟩
  | .hbm, ⟨2, _⟩ => ⟨S8192x2048, .f32⟩
  | .hbm, ⟨3, _⟩ => ⟨S1x1x2048x1280, .bf16⟩
  | .hbm, ⟨4, _⟩ => ⟨S2048x1280, .bf16⟩
  | .hbm, ⟨5, _⟩ => ⟨S1x1x2048x1280, .bf16⟩
  | .hbm, ⟨6, _⟩ => ⟨S2048x1280, .bf16⟩
  | .hbm, ⟨7, _⟩ => ⟨S1x1x2048x1280, .bf16⟩
  | .hbm, ⟨8, _⟩ => ⟨S2048x1280, .bf16⟩
  | .hbm, ⟨9, _⟩ => ⟨S1x1x2048x1280, .bf16⟩
  | .hbm, ⟨10, _⟩ => ⟨S2048x1280, .bf16⟩
  | .hbm, ⟨11, _⟩ => ⟨S2048x5120, .bf16⟩
  | .hbm, ⟨12, _⟩ => ⟨S2048x5120, .f32⟩
  | .hbm, ⟨13, _⟩ => ⟨S8192x5120, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Ssin0.lean ====
abbrev S8192x2048 : Shape := ⟨2, ![8192, 2048]⟩
abbrev S4x2x512x2048 : Shape := ⟨4, ![4, 2, 512, 2048]⟩
abbrev S1024x512 : Shape := ⟨2, ![1024, 512]⟩
abbrev S1x1x512x512 : Shape := ⟨4, ![1, 1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2x512x2048, .bf16⟩
  | .hbm, ⟨2, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1x1x512x512, .bf16⟩
  | .local _ .vmem, ⟨3, _⟩ => ⟨S1x1x512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ssin0ReferenceIdeal.lean ====
abbrev S8192x2048 : Shape := ⟨2, ![8192, 2048]⟩
abbrev S4x2x512x2048 : Shape := ⟨4, ![4, 2, 512, 2048]⟩
abbrev S1x1x512x2048 : Shape := ⟨4, ![1, 1, 512, 2048]⟩
abbrev S512x2048 : Shape := ⟨2, ![512, 2048]⟩
abbrev S2048x2048 : Shape := ⟨2, ![2048, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2x512x2048, .bf16⟩
  | .hbm, ⟨2, _⟩ => ⟨S8192x2048, .f32⟩
  | .hbm, ⟨3, _⟩ => ⟨S1x1x512x2048, .bf16⟩
  | .hbm, ⟨4, _⟩ => ⟨S512x2048, .bf16⟩
  | .hbm, ⟨5, _⟩ => ⟨S1x1x512x2048, .bf16⟩
  | .hbm, ⟨6, _⟩ => ⟨S512x2048, .bf16⟩
  | .hbm, ⟨7, _⟩ => ⟨S1x1x512x2048, .bf16⟩
  | .hbm, ⟨8, _⟩ => ⟨S512x2048, .bf16⟩
  | .hbm, ⟨9, _⟩ => ⟨S1x1x512x2048, .bf16⟩
  | .hbm, ⟨10, _⟩ => ⟨S512x2048, .bf16⟩
  | .hbm, ⟨11, _⟩ => ⟨S2048x2048, .bf16⟩
  | .hbm, ⟨12, _⟩ => ⟨S2048x2048, .f32⟩
  | .hbm, ⟨13, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Out0.lean ====
abbrev S8192x2048 : Shape := ⟨2, ![8192, 2048]⟩
abbrev S4x2x512x2048 : Shape := ⟨4, ![4, 2, 512, 2048]⟩
abbrev S1024x512 : Shape := ⟨2, ![1024, 512]⟩
abbrev S1x1x512x512 : Shape := ⟨4, ![1, 1, 512, 512]⟩
abbrev S512x512 : Shape := ⟨2, ![512, 512]⟩

abbrev nBuf : Space → Nat
  | .hbm => 5
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S4x2x512x2048, .bf16⟩
  | .hbm, ⟨3, _⟩ => ⟨S8192x2048, .bf16⟩
  | .hbm, ⟨4, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1x1x512x512, .bf16⟩
  | .local _ .vmem, ⟨3, _⟩ => ⟨S1x1x512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Out0ReferenceIdeal.lean ====
abbrev S8192x2048 : Shape := ⟨2, ![8192, 2048]⟩
abbrev S4x2x512x2048 : Shape := ⟨4, ![4, 2, 512, 2048]⟩
abbrev S1x1x512x2048 : Shape := ⟨4, ![1, 1, 512, 2048]⟩
abbrev S512x2048 : Shape := ⟨2, ![512, 2048]⟩
abbrev S2048x2048 : Shape := ⟨2, ![2048, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S4x2x512x2048, .bf16⟩
  | .hbm, ⟨3, _⟩ => ⟨S1x1x512x2048, .bf16⟩
  | .hbm, ⟨4, _⟩ => ⟨S512x2048, .bf16⟩
  | .hbm, ⟨5, _⟩ => ⟨S1x1x512x2048, .bf16⟩
  | .hbm, ⟨6, _⟩ => ⟨S512x2048, .bf16⟩
  | .hbm, ⟨7, _⟩ => ⟨S1x1x512x2048, .bf16⟩
  | .hbm, ⟨8, _⟩ => ⟨S512x2048, .bf16⟩
  | .hbm, ⟨9, _⟩ => ⟨S1x1x512x2048, .bf16⟩
  | .hbm, ⟨10, _⟩ => ⟨S512x2048, .bf16⟩
  | .hbm, ⟨11, _⟩ => ⟨S2048x2048, .bf16⟩
  | .hbm, ⟨12, _⟩ => ⟨S2048x2048, .f32⟩
  | .hbm, ⟨13, _⟩ => ⟨S8192x2048, .f32⟩
  | .hbm, ⟨14, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Dcat0.lean ====
abbrev S8192x2048 : Shape := ⟨2, ![8192, 2048]⟩
abbrev S4x2x512x2048 : Shape := ⟨4, ![4, 2, 512, 2048]⟩
abbrev S512x2048 : Shape := ⟨2, ![512, 2048]⟩
abbrev S1x1x512x2048 : Shape := ⟨4, ![1, 1, 512, 2048]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S4x2x512x2048, .bf16⟩
  | .hbm, ⟨2, _⟩ => ⟨S8192x2048, .bf16⟩
  | .hbm, ⟨3, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1x1x512x2048, .bf16⟩
  | .local _ .vmem, ⟨3, _⟩ => ⟨S1x1x512x2048, .bf16⟩
  | .local _ .vmem, ⟨4, _⟩ => ⟨S512x512, .f32⟩
  | .local _ .vmem, ⟨5, _⟩ => ⟨S512x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dcat0ReferenceIdeal.lean ====
abbrev S8192x2048 : Shape := ⟨2, ![8192, 2048]⟩
abbrev S4x2x512x2048 : Shape := ⟨4, ![4, 2, 512, 2048]⟩
abbrev S_ : Shape := ⟨0, ![]⟩
abbrev S1x1x512x2048 : Shape := ⟨4, ![1, 1, 512, 2048]⟩
abbrev S512x2048 : Shape := ⟨2, ![512, 2048]⟩
abbrev S2048x2048 : Shape := ⟨2, ![2048, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2x512x2048, .bf16⟩
  | .hbm, ⟨2, _⟩ => ⟨S_, .f32⟩
  | .hbm, ⟨3, _⟩ => ⟨S8192x2048, .f32⟩
  | .hbm, ⟨4, _⟩ => ⟨S1x1x512x2048, .bf16⟩
  | .hbm, ⟨5, _⟩ => ⟨S512x2048, .bf16⟩
  | .hbm, ⟨6, _⟩ => ⟨S1x1x512x2048, .bf16⟩
  | .hbm, ⟨7, _⟩ => ⟨S512x2048, .bf16⟩
  | .hbm, ⟨8, _⟩ => ⟨S1x1x512x2048, .bf16⟩
  | .hbm, ⟨9, _⟩ => ⟨S512x2048, .bf16⟩
  | .hbm, ⟨10, _⟩ => ⟨S1x1x512x2048, .bf16⟩
  | .hbm, ⟨11, _⟩ => ⟨S512x2048, .bf16⟩
  | .hbm, ⟨12, _⟩ => ⟨S2048x2048, .bf16⟩
  | .hbm, ⟨13, _⟩ => ⟨S2048x2048, .f32⟩
  | .hbm, ⟨14, _⟩ => ⟨S8192x2048, .f32⟩
  | .hbm, ⟨15, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Dhsb0.lean ====
abbrev S8192x5120 : Shape := ⟨2, ![8192, 5120]⟩
abbrev S4x2x2048x1280 : Shape := ⟨4, ![4, 2, 2048, 1280]⟩
abbrev S8192x2048 : Shape := ⟨2, ![8192, 2048]⟩
abbrev S512x1280 : Shape := ⟨2, ![512, 1280]⟩
abbrev S1x1x2048x1280 : Shape := ⟨4, ![1, 1, 2048, 1280]⟩
abbrev S512x2048 : Shape := ⟨2, ![512, 2048]⟩
abbrev S2048x1280 : Shape := ⟨2, ![2048, 1280]⟩

abbrev nBuf : Space → Nat
  | .hbm => 4
  | .vmem => 7
  | .smem => 0
  | _ => 0

abbrev bufTy : (tb : Table) → Fin (tcTables nBuf tb) → BufTy
  | .hbm, ⟨0, _⟩ => ⟨S8192x5120, .f32⟩
  | .hbm, ⟨1, _⟩ => ⟨S4x2x2048x1280, .bf16⟩
  | .hbm, ⟨2, _⟩ => ⟨S8192x5120, .bf16⟩
  | .hbm, ⟨3, _⟩ => ⟨S8192x2048, .f32⟩
  | .local _ .vmem, ⟨0, _⟩ => ⟨S512x1280, .bf16⟩
  | .local _ .vmem, ⟨1, _⟩ => ⟨S512x1280, .bf16⟩
  | .local _ .vmem, ⟨2, _⟩ => ⟨S1x1x2048x1280, .bf16⟩
  | .local _ .vmem, ⟨3, _⟩ => ⟨S1x1x2048x1280, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dhsb0ReferenceIdeal.lean ====
abbrev S8192x5120 : Shape := ⟨2, ![8192, 5120]⟩
abbrev S4x2x2048x1280 : Shape := ⟨4, ![4, 2, 2048, 1280]⟩
abbrev S_ : Shape := ⟨0, ![]⟩
abbrev S8192x2048 : Shape := ⟨2, ![8192, 2048]⟩
abbrev S1x1x2048x1280 : Shape := ⟨4, ![1, 1, 2048, 1280]⟩
abbrev S2048x1280 : Shape := ⟨2, ![2048, 1280]⟩
abbrev S2048x5120 : Shape := ⟨2, ![2048, 5120]⟩

abbrev nBuf : Space → Nat
  | .hbm => 16
  | .vmem => 0
  | .smem => 0
  | _ => 0

abbrev bufTy : (tb : Table) → Fin (tcTables nBuf tb) → BufTy
  | .hbm, ⟨0, _⟩ => ⟨S8192x5120, .f32⟩
  | .hbm, ⟨1, _⟩ => ⟨S4x2x2048x1280, .bf16⟩
  | .hbm, ⟨2, _⟩ => ⟨S_, .f32⟩
  | .hbm, ⟨3, _⟩ => ⟨S8192x2048, .f32⟩
  | .hbm, ⟨4, _⟩ => ⟨S1x1x2048x1280, .bf16⟩
  | .hbm, ⟨5, _⟩ => ⟨S2048x1280, .bf16⟩
  | .hbm, ⟨6, _⟩ => ⟨S1x1x2048x1280, .bf16⟩
  | .hbm, ⟨7, _⟩ => ⟨S2048x1280, .bf16⟩
  | .hbm, ⟨8, _⟩ => ⟨S1x1x2048x1280, .bf16⟩
  | .hbm, ⟨9, _⟩ => ⟨S2048x1280, .bf16⟩
  | .hbm, ⟨10, _⟩ => ⟨S1x1x2048x1280, .bf16⟩
  | .hbm, ⟨11, _⟩ => ⟨S2048x1280, .bf16⟩
  | .hbm, ⟨12, _⟩ => ⟨S2048x5120, .bf16⟩
  | .hbm, ⟨13, _⟩ => ⟨S2048x5120, .f32⟩
  | .hbm, ⟨14, _⟩ => ⟨S8192x5120, .f32⟩
  | .hbm, ⟨15, _⟩ => ⟨S8192x2048, .f32⟩
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Dwin.lean ====
abbrev S8192x2048 : Shape := ⟨2, ![8192, 2048]⟩
abbrev S8192x5120 : Shape := ⟨2, ![8192, 5120]⟩
abbrev S4x2048x1280 : Shape := ⟨3, ![4, 2048, 1280]⟩
abbrev S1024x512 : Shape := ⟨2, ![1024, 512]⟩
abbrev S1024x1280 : Shape := ⟨2, ![1024, 1280]⟩
abbrev S1x512x1280 : Shape := ⟨3, ![1, 512, 1280]⟩
abbrev S512x1280 : Shape := ⟨2, ![512, 1280]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5120, .f32⟩
  | .hbm, ⟨2, _⟩ => ⟨S8192x5120, .bf16⟩
  | .hbm, ⟨3, _⟩ => ⟨S4x2048x1280, .f32⟩
  | .local _ .vmem, ⟨0, _⟩ => ⟨S1024x512, .bf16⟩
  | .local _ .vmem, ⟨1, _⟩ => ⟨S1024x512, .bf16⟩
  | .local _ .vmem, ⟨2, _⟩ => ⟨S1024x1280, .bf16⟩
  | .local _ .vmem, ⟨3, _⟩ => ⟨S1024x1280, .bf16⟩
  | .local _ .vmem, ⟨4, _⟩ => ⟨S1x512x1280, .f32⟩
  | .local _ .vmem, ⟨5, _⟩ => ⟨S1x512x1280, .f32⟩
  | .local _ .vmem, ⟨6, _⟩ => ⟨S512x1280, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwinReferenceIdeal.lean ====
abbrev S8192x2048 : Shape := ⟨2, ![8192, 2048]⟩
abbrev S8192x5120 : Shape := ⟨2, ![8192, 5120]⟩
abbrev S_ : Shape := ⟨0, ![]⟩
abbrev S2048x5120 : Shape := ⟨2, ![2048, 5120]⟩
abbrev S5120x2048 : Shape := ⟨2, ![5120, 2048]⟩
abbrev S2048x1280 : Shape := ⟨2, ![2048, 1280]⟩
abbrev S1x2048x1280 : Shape := ⟨3, ![1, 2048, 1280]⟩
abbrev S4x2048x1280 : Shape := ⟨3, ![4, 2048, 1280]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5120, .f32⟩
  | .hbm, ⟨2, _⟩ => ⟨S_, .f32⟩
  | .hbm, ⟨3, _⟩ => ⟨S2048x5120, .f32⟩
  | .hbm, ⟨4, _⟩ => ⟨S8192x2048, .f32⟩
  | .hbm, ⟨5, _⟩ => ⟨S8192x5120, .f32⟩
  | .hbm, ⟨6, _⟩ => ⟨S5120x2048, .f32⟩
  | .hbm, ⟨7, _⟩ => ⟨S2048x5120, .f32⟩
  | .hbm, ⟨8, _⟩ => ⟨S2048x1280, .f32⟩
  | .hbm, ⟨9, _⟩ => ⟨S2048x1280, .f32⟩
  | .hbm, ⟨10, _⟩ => ⟨S2048x1280, .f32⟩
  | .hbm, ⟨11, _⟩ => ⟨S2048x1280, .f32⟩
  | .hbm, ⟨12, _⟩ => ⟨S1x2048x1280, .f32⟩
  | .hbm, ⟨13, _⟩ => ⟨S1x2048x1280, .f32⟩
  | .hbm, ⟨14, _⟩ => ⟨S1x2048x1280, .f32⟩
  | .hbm, ⟨15, _⟩ => ⟨S1x2048x1280, .f32⟩
  | .hbm, ⟨16, _⟩ => ⟨S4x2048x1280, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Dwout.lean ====
abbrev S8192x2048 : Shape := ⟨2, ![8192, 2048]⟩
abbrev S2048x2048 : Shape := ⟨2, ![2048, 2048]⟩
abbrev S1024x512 : Shape := ⟨2, ![1024, 512]⟩
abbrev S1024x2048 : Shape := ⟨2, ![1024, 2048]⟩
abbrev S512x2048 : Shape := ⟨2, ![512, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8192x2048, .bf16⟩
  | .hbm, ⟨3, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwoutReferenceIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S2048x2048, .f32⟩
  | .hbm, ⟨7, _⟩ => ⟨S2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dgate.lean ====
abbrev S8192x2048 : Shape := ⟨2, ![8192, 2048]⟩
abbrev S8192x1536 : Shape := ⟨2, ![8192, 1536]⟩
abbrev S512x1536 : Shape := ⟨2, ![512, 1536]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x1536, .f32⟩
  | .hbm, ⟨2, _⟩ => ⟨S8192x1536, .f32⟩
  | .hbm, ⟨3, _⟩ => ⟨S8192x1536, .bf16⟩
  | .hbm, ⟨4, _⟩ => ⟨S8192x1536, .f32⟩
  | .local _ .vmem, ⟨0, _⟩ => ⟨S512x1536, .f32⟩
  | .local _ .vmem, ⟨1, _⟩ => ⟨S512x1536, .f32⟩
  | .local _ .vmem, ⟨2, _⟩ => ⟨S512x1536, .f32⟩
  | .local _ .vmem, ⟨3, _⟩ => ⟨S512x1536, .f32⟩
  | .local _ .vmem, ⟨4, _⟩ => ⟨S512x1536, .f32⟩
  | .local _ .vmem, ⟨5, _⟩ => ⟨S512x1536, .f32⟩
  | .local _ .vmem, ⟨6, _⟩ => ⟨S512x1536, .bf16⟩
  | .local _ .vmem, ⟨7, _⟩ => ⟨S512x1536, .bf16⟩
  | .local _ .vmem, ⟨8, _⟩ => ⟨S512x1536, .f32⟩
  | .local _ .vmem, ⟨9, _⟩ => ⟨S512x1536, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DgateReferenceIdeal.lean ====
abbrev S8192x2048 : Shape := ⟨2, ![8192, 2048]⟩
abbrev S8192x1536 : Shape := ⟨2, ![8192, 1536]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1536, .f32⟩
  | .hbm, ⟨2, _⟩ => ⟨S8192x1536, .f32⟩
  | .hbm, ⟨3, _⟩ => ⟨S8192x1536, .f32⟩
  | .hbm, ⟨4, _⟩ => ⟨S8192x1536, .f32⟩
  | .hbm, ⟨5, _⟩ => ⟨S_, .f32⟩
  | .hbm, ⟨6, _⟩ => ⟨S8192x1536, .f32⟩
  | .hbm, ⟨7, _⟩ => ⟨S8192x1536, .f32⟩
  | .hbm, ⟨8, _⟩ => ⟨S_, .f32⟩
  | .hbm, ⟨9, _⟩ => ⟨S8192x1536, .f32⟩
  | .hbm, ⟨10, _⟩ => ⟨S8192x1536, .f32⟩
  | .hbm, ⟨11, _⟩ => ⟨S_, .f32⟩
  | .hbm, ⟨12, _⟩ => ⟨S8192x1536, .f32⟩
  | .hbm, ⟨13, _⟩ => ⟨S8192x1536, .f32⟩
  | .hbm, ⟨14, _⟩ => ⟨S8192x1536, .f32⟩
  | .hbm, ⟨15, _⟩ => ⟨S8192x1536, .f32⟩
  | .hbm, ⟨16, _⟩ => ⟨S8192x1536, .f32⟩
  | .hbm, ⟨17, _⟩ => ⟨S8192x1536, .f32⟩
  | .hbm, ⟨18, _⟩ => ⟨S8192x1536, .f32⟩
  | .hbm, ⟨19, _⟩ => ⟨S8192x1536, .f32⟩
  | .hbm, ⟨20, _⟩ => ⟨S8192x1536, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Dwglu.lean ====
abbrev S8192x1536 : Shape := ⟨2, ![8192, 1536]⟩
abbrev S1536x1536 : Shape := ⟨2, ![1536, 1536]⟩
abbrev S1024x512 : Shape := ⟨2, ![1024, 512]⟩
abbrev S1024x1536 : Shape := ⟨2, ![1024, 1536]⟩
abbrev S512x1536 : Shape := ⟨2, ![512, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x1536, .f32⟩
  | .hbm, ⟨1, _⟩ => ⟨S8192x1536, .bf16⟩
  | .hbm, ⟨2, _⟩ => ⟨S1536x1536, .f32⟩
  | .local _ .vmem, ⟨0, _⟩ => ⟨S1024x512, .f32⟩
  | .local _ .vmem, ⟨1, _⟩ => ⟨S1024x512, .f32⟩
  | .local _ .vmem, ⟨2, _⟩ => ⟨S1024x1536, .bf16⟩
  | .local _ .vmem, ⟨3, _⟩ => ⟨S1024x1536, .bf16⟩
  | .local _ .vmem, ⟨4, _⟩ => ⟨S512x1536, .f32⟩
  | .local _ .vmem, ⟨5, _⟩ => ⟨S512x1536, .f32⟩
  | .local _ .vmem, ⟨6, _⟩ => ⟨S512x1536, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwgluReferenceIdeal.lean ====
abbrev S8192x1536 : Shape := ⟨2, ![8192, 1536]⟩
abbrev S_ : Shape := ⟨0, ![]⟩
abbrev S1536x1536 : Shape := ⟨2, ![1536, 1536]⟩

abbrev nBuf : Space → Nat
  | .hbm => 8
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x1536, .bf16⟩
  | .hbm, ⟨2, _⟩ => ⟨S_, .f32⟩
  | .hbm, ⟨3, _⟩ => ⟨S1536x1536, .f32⟩
  | .hbm, ⟨4, _⟩ => ⟨S8192x1536, .f32⟩
  | .hbm, ⟨5, _⟩ => ⟨S8192x1536, .f32⟩
  | .hbm, ⟨6, _⟩ => ⟨S1536x1536, .f32⟩
  | .hbm, ⟨7, _⟩ => ⟨S1536x1536, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Glu.lean ====
abbrev S8192x1536 : Shape := ⟨2, ![8192, 1536]⟩
abbrev S4x2x384x1536 : Shape := ⟨4, ![4, 2, 384, 1536]⟩
abbrev S1024x384 : Shape := ⟨2, ![1024, 384]⟩
abbrev S1x1x384x512 : Shape := ⟨4, ![1, 1, 384, 512]⟩
abbrev S1024x512 : Shape := ⟨2, ![1024, 512]⟩
abbrev S384x512 : Shape := ⟨2, ![384, 512]⟩

abbrev nBuf : Space → Nat
  | .hbm => 4
  | .vmem => 11
  | .smem => 0
  | _ => 0

abbrev bufTy : (tb : Table) → Fin (tcTables nBuf tb) → BufTy
  | .hbm, ⟨0, _⟩ => ⟨S8192x1536, .f32⟩
  | .hbm, ⟨1, _⟩ => ⟨S4x2x384x1536, .bf16⟩
  | .hbm, ⟨2, _⟩ => ⟨S8192x1536, .f32⟩
  | .hbm, ⟨3, _⟩ => ⟨S8192x1536, .f32⟩
  | .local _ .vmem, ⟨0, _⟩ => ⟨S1024x384, .f32⟩
  | .local _ .vmem, ⟨1, _⟩ => ⟨S1024x384, .f32⟩
  | .local _ .vmem, ⟨2, _⟩ => ⟨S1x1x384x512, .bf16⟩
  | .local _ .vmem, ⟨3, _⟩ => ⟨S1x1x384x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 3, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x384x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== GluReferenceIdeal.lean ====
abbrev S8192x1536 : Shape := ⟨2, ![8192, 1536]⟩
abbrev S4x2x384x1536 : Shape := ⟨4, ![4, 2, 384, 1536]⟩
abbrev S1x1x384x1536 : Shape := ⟨4, ![1, 1, 384, 1536]⟩
abbrev S384x1536 : Shape := ⟨2, ![384, 1536]⟩
abbrev S1536x1536 : Shape := ⟨2, ![1536, 1536]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S4x2x384x1536, .bf16⟩
  | .hbm, ⟨2, _⟩ => ⟨S1x1x384x1536, .bf16⟩
  | .hbm, ⟨3, _⟩ => ⟨S384x1536, .bf16⟩
  | .hbm, ⟨4, _⟩ => ⟨S1x1x384x1536, .bf16⟩
  | .hbm, ⟨5, _⟩ => ⟨S384x1536, .bf16⟩
  | .hbm, ⟨6, _⟩ => ⟨S1x1x384x1536, .bf16⟩
  | .hbm, ⟨7, _⟩ => ⟨S384x1536, .bf16⟩
  | .hbm, ⟨8, _⟩ => ⟨S1x1x384x1536, .bf16⟩
  | .hbm, ⟨9, _⟩ => ⟨S384x1536, .bf16⟩
  | .hbm, ⟨10, _⟩ => ⟨S1536x1536, .bf16⟩
  | .hbm, ⟨11, _⟩ => ⟨S1536x1536, .f32⟩
  | .hbm, ⟨12, _⟩ => ⟨S8192x1536, .f32⟩
  | .hbm, ⟨13, _⟩ => ⟨S8192x1536, .f32⟩
  | .hbm, ⟨14, _⟩ => ⟨S8192x1536, .f32⟩
  | .hbm, ⟨15, _⟩ => ⟨S_, .f32⟩
  | .hbm, ⟨16, _⟩ => ⟨S8192x1536, .f32⟩
  | .hbm, ⟨17, _⟩ => ⟨S8192x1536, .f32⟩
  | .hbm, ⟨18, _⟩ => ⟨S_, .f32⟩
  | .hbm, ⟨19, _⟩ => ⟨S8192x1536, .f32⟩
  | .hbm, ⟨20, _⟩ => ⟨S8192x1536, .f32⟩
  | .hbm, ⟨21, _⟩ => ⟨S8192x1536, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== Glu0.lean ====
abbrev S8192x1536 : Shape := ⟨2, ![8192, 1536]⟩
abbrev S4x2x384x1536 : Shape := ⟨4, ![4, 2, 384, 1536]⟩
abbrev S1024x384 : Shape := ⟨2, ![1024, 384]⟩
abbrev S1x1x384x512 : Shape := ⟨4, ![1, 1, 384, 512]⟩
abbrev S1024x512 : Shape := ⟨2, ![1024, 512]⟩
abbrev S384x512 : Shape := ⟨2, ![384, 512]⟩

abbrev nBuf : Space → Nat
  | .hbm => 4
  | .vmem => 11
  | .smem => 0
  | _ => 0

abbrev bufTy : (tb : Table) → Fin (tcTables nBuf tb) → BufTy
  | .hbm, ⟨0, _⟩ => ⟨S8192x1536, .f32⟩
  | .hbm, ⟨1, _⟩ => ⟨S4x2x384x1536, .bf16⟩
  | .hbm, ⟨2, _⟩ => ⟨S8192x1536, .f32⟩
  | .hbm, ⟨3, _⟩ => ⟨S8192x1536, .f32⟩
  | .local _ .vmem, ⟨0, _⟩ => ⟨S1024x384, .f32⟩
  | .local _ .vmem, ⟨1, _⟩ => ⟨S1024x384, .f32⟩
  | .local _ .vmem, ⟨2, _⟩ => ⟨S1x1x384x512, .bf16⟩
  | .local _ .vmem, ⟨3, _⟩ => ⟨S1x1x384x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 3, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x384x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Glu0ReferenceIdeal.lean ====
abbrev S8192x1536 : Shape := ⟨2, ![8192, 1536]⟩
abbrev S4x2x384x1536 : Shape := ⟨4, ![4, 2, 384, 1536]⟩
abbrev S1x1x384x1536 : Shape := ⟨4, ![1, 1, 384, 1536]⟩
abbrev S384x1536 : Shape := ⟨2, ![384, 1536]⟩
abbrev S1536x1536 : Shape := ⟨2, ![1536, 1536]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S4x2x384x1536, .bf16⟩
  | .hbm, ⟨2, _⟩ => ⟨S1x1x384x1536, .bf16⟩
  | .hbm, ⟨3, _⟩ => ⟨S384x1536, .bf16⟩
  | .hbm, ⟨4, _⟩ => ⟨S1x1x384x1536, .bf16⟩
  | .hbm, ⟨5, _⟩ => ⟨S384x1536, .bf16⟩
  | .hbm, ⟨6, _⟩ => ⟨S1x1x384x1536, .bf16⟩
  | .hbm, ⟨7, _⟩ => ⟨S384x1536, .bf16⟩
  | .hbm, ⟨8, _⟩ => ⟨S1x1x384x1536, .bf16⟩
  | .hbm, ⟨9, _⟩ => ⟨S384x1536, .bf16⟩
  | .hbm, ⟨10, _⟩ => ⟨S1536x1536, .bf16⟩
  | .hbm, ⟨11, _⟩ => ⟨S1536x1536, .f32⟩
  | .hbm, ⟨12, _⟩ => ⟨S8192x1536, .f32⟩
  | .hbm, ⟨13, _⟩ => ⟨S8192x1536, .f32⟩
  | .hbm, ⟨14, _⟩ => ⟨S8192x1536, .f32⟩
  | .hbm, ⟨15, _⟩ => ⟨S_, .f32⟩
  | .hbm, ⟨16, _⟩ => ⟨S8192x1536, .f32⟩
  | .hbm, ⟨17, _⟩ => ⟨S8192x1536, .f32⟩
  | .hbm, ⟨18, _⟩ => ⟨S_, .f32⟩
  | .hbm, ⟨19, _⟩ => ⟨S8192x1536, .f32⟩
  | .hbm, ⟨20, _⟩ => ⟨S8192x1536, .f32⟩
  | .hbm, ⟨21, _⟩ => ⟨S8192x1536, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== Loss.lean ====
abbrev S8192x2048 : Shape := ⟨2, ![8192, 2048]⟩
abbrev S8x128 : Shape := ⟨2, ![8, 128]⟩
abbrev S256x2048 : Shape := ⟨2, ![256, 2048]⟩
abbrev S8x2048 : Shape := ⟨2, ![8, 2048]⟩
abbrev S32x8x2048 : Shape := ⟨3, ![32, 8, 2048]⟩
abbrev S1x8x2048 : Shape := ⟨3, ![1, 8, 2048]⟩
abbrev S1 : Shape := ⟨1, ![1]⟩
abbrev S1x1x1 : Shape := ⟨3, ![1, 1, 1]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8x128, .f32⟩
  | .hbm, ⟨3, _⟩ => ⟨S8192x2048, .f32⟩
  | .hbm, ⟨4, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S8x128, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S8x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def k0_cond3 (i : grid0.Coords) : BitVec 1 :=
  let arg0 : BitVec 32 := BitVec.ofNat 32 (i 0).val
  let c31_i32 : BitVec 32 := 31#32
  let v17 : BitVec 1 := Scalar.cmpi .eq arg0 c31_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LossReferenceIdeal.lean ====
abbrev S8192x2048 : Shape := ⟨2, ![8192, 2048]⟩
abbrev S_ : Shape := ⟨0, ![]⟩
abbrev S8192 : Shape := ⟨1, ![8192]⟩
abbrev S8x128 : Shape := ⟨2, ![8, 128]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x2048, .f32⟩
  | .hbm, ⟨24, _⟩ => ⟨S8192x2048, .f32⟩
  | .hbm, ⟨25, _⟩ => ⟨S8x128, .f32⟩
  | .hbm, ⟨26, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== AdamGu.lean ====
abbrev S4x2048x2816 : Shape := ⟨3, ![4, 2048, 2816]⟩
abbrev S8192x2816 : Shape := ⟨2, ![8192, 2816]⟩
abbrev S64x2816 : Shape := ⟨2, ![64, 2816]⟩

abbrev nBuf : Space → Nat
  | .hbm => 11
  | .vmem => 14
  | .smem => 0
  | _ => 0

abbrev bufTy : (tb : Table) → Fin (tcTables nBuf tb) → BufTy
  | .hbm, ⟨0, _⟩ => ⟨S4x2048x2816, .f32⟩
  | .hbm, ⟨1, _⟩ => ⟨S4x2048x2816, .f32⟩
  | .hbm, ⟨2, _⟩ => ⟨S4x2048x2816, .f32⟩
  | .hbm, ⟨3, _⟩ => ⟨S4x2048x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S8192x2816, .f32⟩
  | .local _ .vmem, ⟨0, _⟩ => ⟨S64x2816, .f32⟩
  | .local _ .vmem, ⟨1, _⟩ => ⟨S64x2816, .f32⟩
  | .local _ .vmem, ⟨2, _⟩ => ⟨S64x2816, .f32⟩
  | .local _ .vmem, ⟨3, _⟩ => ⟨S64x2816, .f32⟩
  | .local _ .vmem, ⟨4, _⟩ => ⟨S64x2816, .f32⟩
  | .local _ .vmem, ⟨5, _⟩ => ⟨S64x2816, .f32⟩
  | .local _ .vmem, ⟨6, _⟩ => ⟨S64x2816, .f32⟩
  | .local _ .vmem, ⟨7, _⟩ => ⟨S64x2816, .f32⟩
  | .local _ .vmem, ⟨8, _⟩ => ⟨S64x2816, .f32⟩
  | .local _ .vmem, ⟨9, _⟩ => ⟨S64x2816, .f32⟩
  | .local _ .vmem, ⟨10, _⟩ => ⟨S64x2816, .f32⟩
  | .local _ .vmem, ⟨11, _⟩ => ⟨S64x2816, .f32⟩
  | .local _ .vmem, ⟨12, _⟩ => ⟨S64x2816, .f32⟩
  | .local _ .vmem, ⟨13, _⟩ => ⟨S64x2816, .f32⟩
  | _, _ => ⟨S4x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGuIdeal.lean ====
abbrev S4x2048x2816 : Shape := ⟨3, ![4, 2048, 2816]⟩
abbrev S8192x2816 : Shape := ⟨2, ![8192, 2816]⟩
abbrev S64x2816 : Shape := ⟨2, ![64, 2816]⟩

abbrev nBuf : Space → Nat
  | .hbm => 11
  | .vmem => 14
  | .smem => 0
  | _ => 0

abbrev bufTy : (tb : Table) → Fin (tcTables nBuf tb) → BufTy
  | .hbm, ⟨0, _⟩ => ⟨S4x2048x2816, .f32⟩
  | .hbm, ⟨1, _⟩ => ⟨S4x2048x2816, .f32⟩
  | .hbm, ⟨2, _⟩ => ⟨S4x2048x2816, .f32⟩
  | .hbm, ⟨3, _⟩ => ⟨S4x2048x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S8192x2816, .f32⟩
  | .local _ .vmem, ⟨0, _⟩ => ⟨S64x2816, .f32⟩
  | .local _ .vmem, ⟨1, _⟩ => ⟨S64x2816, .f32⟩
  | .local _ .vmem, ⟨2, _⟩ => ⟨S64x2816, .f32⟩
  | .local _ .vmem, ⟨3, _⟩ => ⟨S64x2816, .f32⟩
  | .local _ .vmem, ⟨4, _⟩ => ⟨S64x2816, .f32⟩
  | .local _ .vmem, ⟨5, _⟩ => ⟨S64x2816, .f32⟩
  | .local _ .vmem, ⟨6, _⟩ => ⟨S64x2816, .f32⟩
  | .local _ .vmem, ⟨7, _⟩ => ⟨S64x2816, .f32⟩
  | .local _ .vmem, ⟨8, _⟩ => ⟨S64x2816, .f32⟩
  | .local _ .vmem, ⟨9, _⟩ => ⟨S64x2816, .f32⟩
  | .local _ .vmem, ⟨10, _⟩ => ⟨S64x2816, .f32⟩
  | .local _ .vmem, ⟨11, _⟩ => ⟨S64x2816, .f32⟩
  | .local _ .vmem, ⟨12, _⟩ => ⟨S64x2816, .f32⟩
  | .local _ .vmem, ⟨13, _⟩ => ⟨S64x2816, .f32⟩
  | _, _ => ⟨S4x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGuReferenceIdeal.lean ====
abbrev S4x2048x2816 : Shape := ⟨3, ![4, 2048, 2816]⟩
abbrev S_ : Shape := ⟨0, ![]⟩
abbrev S8192x2816 : Shape := ⟨2, ![8192, 2816]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x2816, .f32⟩
  | .hbm, ⟨1, _⟩ => ⟨S4x2048x2816, .f32⟩
  | .hbm, ⟨2, _⟩ => ⟨S4x2048x2816, .f32⟩
  | .hbm, ⟨3, _⟩ => ⟨S4x2048x2816, .f32⟩
  | .hbm, ⟨4, _⟩ => ⟨S_, .f32⟩
  | .hbm, ⟨5, _⟩ => ⟨S4x2048x2816, .f32⟩
  | .hbm, ⟨6, _⟩ => ⟨S4x2048x2816, .f32⟩
  | .hbm, ⟨7, _⟩ => ⟨S_, .f32⟩
  | .hbm, ⟨8, _⟩ => ⟨S4x2048x2816, .f32⟩
  | .hbm, ⟨9, _⟩ => ⟨S4x2048x2816, .f32⟩
  | .hbm, ⟨10, _⟩ => ⟨S4x2048x2816, .f32⟩
  | .hbm, ⟨11, _⟩ => ⟨S_, .f32⟩
  | .hbm, ⟨12, _⟩ => ⟨S4x2048x2816, .f32⟩
  | .hbm, ⟨13, _⟩ => ⟨S4x2048x2816, .f32⟩
  | .hbm, ⟨14, _⟩ => ⟨S4x2048x2816, .f32⟩
  | .hbm, ⟨15, _⟩ => ⟨S_, .f32⟩
  | .hbm, ⟨16, _⟩ => ⟨S4x2048x2816, .f32⟩
  | .hbm, ⟨17, _⟩ => ⟨S4x2048x2816, .f32⟩
  | .hbm, ⟨18, _⟩ => ⟨S4x2048x2816, .f32⟩
  | .hbm, ⟨19, _⟩ => ⟨S_, .f32⟩
  | .hbm, ⟨20, _⟩ => ⟨S4x2048x2816, .f32⟩
  | .hbm, ⟨21, _⟩ => ⟨S4x2048x2816, .f32⟩
  | .hbm, ⟨22, _⟩ => ⟨S_, .f32⟩
  | .hbm, ⟨23, _⟩ => ⟨S4x2048x2816, .f32⟩
  | .hbm, ⟨24, _⟩ => ⟨S4x2048x2816, .f32⟩
  | .hbm, ⟨25, _⟩ => ⟨S4x2048x2816, .f32⟩
  | .hbm, ⟨26, _⟩ => ⟨S_, .f32⟩
  | .hbm, ⟨27, _⟩ => ⟨S4x2048x2816, .f32⟩
  | .hbm, ⟨28, _⟩ => ⟨S4x2048x2816, .f32⟩
  | .hbm, ⟨29, _⟩ => ⟨S4x2048x2816, .f32⟩
  | .hbm, ⟨30, _⟩ => ⟨S_, .f32⟩
  | .hbm, ⟨31, _⟩ => ⟨S4x2048x2816, .f32⟩
  | .hbm, ⟨32, _⟩ => ⟨S4x2048x2816, .f32⟩
  | .hbm, ⟨33, _⟩ => ⟨S4x2048x2816, .f32⟩
  | .hbm, ⟨34, _⟩ => ⟨S_, .f32⟩
  | .hbm, ⟨35, _⟩ => ⟨S4x2048x2816, .f32⟩
  | .hbm, ⟨36, _⟩ => ⟨S4x2048x2816, .f32⟩
  | .hbm, ⟨37, _⟩ => ⟨S8192x2816, .f32⟩
  | .hbm, ⟨38, _⟩ => ⟨S8192x2816, .f32⟩
  | .hbm, ⟨39, _⟩ => ⟨S8192x2816, .f32⟩
  | _, _ => ⟨S4x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamDown.lean ====
abbrev S4x1408x2048 : Shape := ⟨3, ![4, 1408, 2048]⟩
abbrev S5632x2048 : Shape := ⟨2, ![5632, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S4x1408x2048, .f32⟩
  | .hbm, ⟨1, _⟩ => ⟨S4x1408x2048, .f32⟩
  | .hbm, ⟨2, _⟩ => ⟨S4x1408x2048, .f32⟩
  | .hbm, ⟨3, _⟩ => ⟨S4x1408x2048, .f32⟩
  | .hbm, ⟨4, _⟩ => ⟨S5632x2048, .f32⟩
  | .hbm, ⟨5, _⟩ => ⟨S5632x2048, .f32⟩
  | .hbm, ⟨6, _⟩ => ⟨S5632x2048, .f32⟩
  | .hbm, ⟨7, _⟩ => ⟨S5632x2048, .f32⟩
  | .hbm, ⟨8, _⟩ => ⟨S5632x2048, .f32⟩
  | .hbm, ⟨9, _⟩ => ⟨S5632x2048, .f32⟩
  | .hbm, ⟨10, _⟩ => ⟨S5632x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S4x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownIdeal.lean ====
abbrev S4x1408x2048 : Shape := ⟨3, ![4, 1408, 2048]⟩
abbrev S5632x2048 : Shape := ⟨2, ![5632, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S4x1408x2048, .f32⟩
  | .hbm, ⟨1, _⟩ => ⟨S4x1408x2048, .f32⟩
  | .hbm, ⟨2, _⟩ => ⟨S4x1408x2048, .f32⟩
  | .hbm, ⟨3, _⟩ => ⟨S4x1408x2048, .f32⟩
  | .hbm, ⟨4, _⟩ => ⟨S5632x2048, .f32⟩
  | .hbm, ⟨5, _⟩ => ⟨S5632x2048, .f32⟩
  | .hbm, ⟨6, _⟩ => ⟨S5632x2048, .f32⟩
  | .hbm, ⟨7, _⟩ => ⟨S5632x2048, .f32⟩
  | .hbm, ⟨8, _⟩ => ⟨S5632x2048, .f32⟩
  | .hbm, ⟨9, _⟩ => ⟨S5632x2048, .f32⟩
  | .hbm, ⟨10, _⟩ => ⟨S5632x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S4x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownReferenceIdeal.lean ====
abbrev S4x1408x2048 : Shape := ⟨3, ![4, 1408, 2048]⟩
abbrev S_ : Shape := ⟨0, ![]⟩
abbrev S5632x2048 : Shape := ⟨2, ![5632, 2048]⟩

abbrev nBuf : Space → Nat
  | .hbm => 40
  | .vmem => 0
  | .smem => 0
  | _ => 0

abbrev bufTy : (tb : Table) → Fin (tcTables nBuf tb) → BufTy
  | .hbm, ⟨0, _⟩ => ⟨S4x1408x2048, .f32⟩
  | .hbm, ⟨1, _⟩ => ⟨S4x1408x2048, .f32⟩
  | .hbm, ⟨2, _⟩ => ⟨S4x1408x2048, .f32⟩
  | .hbm, ⟨3, _⟩ => ⟨S4x1408x2048, .f32⟩
  | .hbm, ⟨4, _⟩ => ⟨S_, .f32⟩
  | .hbm, ⟨5, _⟩ => ⟨S4x1408x2048, .f32⟩
  | .hbm, ⟨6, _⟩ => ⟨S4x1408x2048, .f32⟩
  | .hbm, ⟨7, _⟩ => ⟨S_, .f32⟩
  | .hbm, ⟨8, _⟩ => ⟨S4x1408x2048, .f32⟩
  | .hbm, ⟨9, _⟩ => ⟨S4x1408x2048, .f32⟩
  | .hbm, ⟨10, _⟩ => ⟨S4x1408x2048, .f32⟩
  | .hbm, ⟨11, _⟩ => ⟨S_, .f32⟩
  | .hbm, ⟨12, _⟩ => ⟨S4x1408x2048, .f32⟩
  | .hbm, ⟨13, _⟩ => ⟨S4x1408x2048, .f32⟩
  | .hbm, ⟨14, _⟩ => ⟨S4x1408x2048, .f32⟩
  | .hbm, ⟨15, _⟩ => ⟨S_, .f32⟩
  | .hbm, ⟨16, _⟩ => ⟨S4x1408x2048, .f32⟩
  | .hbm, ⟨17, _⟩ => ⟨S4x1408x2048, .f32⟩
  | .hbm, ⟨18, _⟩ => ⟨S4x1408x2048, .f32⟩
  | .hbm, ⟨19, _⟩ => ⟨S_, .f32⟩
  | .hbm, ⟨20, _⟩ => ⟨S4x1408x2048, .f32⟩
  | .hbm, ⟨21, _⟩ => ⟨S4x1408x2048, .f32⟩
  | .hbm, ⟨22, _⟩ => ⟨S_, .f32⟩
  | .hbm, ⟨23, _⟩ => ⟨S4x1408x2048, .f32⟩
  | .hbm, ⟨24, _⟩ => ⟨S4x1408x2048, .f32⟩
  | .hbm, ⟨25, _⟩ => ⟨S4x1408x2048, .f32⟩
  | .hbm, ⟨26, _⟩ => ⟨S_, .f32⟩
  | .hbm, ⟨27, _⟩ => ⟨S4x1408x2048, .f32⟩
  | .hbm, ⟨28, _⟩ => ⟨S4x1408x2048, .f32⟩
  | .hbm, ⟨29, _⟩ => ⟨S4x1408x2048, .f32⟩
  | .hbm, ⟨30, _⟩ => ⟨S_, .f32⟩
  | .hbm, ⟨31, _⟩ => ⟨S4x1408x2048, .f32⟩
  | .hbm, ⟨32, _⟩ => ⟨S4x1408x2048, .f32⟩
  | .hbm, ⟨33, _⟩ => ⟨S4x1408x2048, .f32⟩
  | .hbm, ⟨34, _⟩ => ⟨S_, .f32⟩
  | .hbm, ⟨35, _⟩ => ⟨S4x1408x2048, .f32⟩
  | .hbm, ⟨36, _⟩ => ⟨S4x1408x2048, .f32⟩
  | .hbm, ⟨37, _⟩ => ⟨S5632x2048, .f32⟩
  | .hbm, ⟨38, _⟩ => ⟨S5632x2048, .f32⟩
  | .hbm, ⟨39, _⟩ => ⟨S5632x2048, .f32⟩
  | _, _ => ⟨S4x1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamKv.lean ====
abbrev S4x512x1024 : Shape := ⟨3, ![4, 512, 1024]⟩
abbrev S2048x1024 : Shape := ⟨2, ![2048, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x512x1024, .f32⟩
  | .hbm, ⟨1, _⟩ => ⟨S4x512x1024, .f32⟩
  | .hbm, ⟨2, _⟩ => ⟨S4x512x1024, .f32⟩
  | .hbm, ⟨3, _⟩ => ⟨S4x512x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamKvIdeal.lean ====
abbrev S4x512x1024 : Shape := ⟨3, ![4, 512, 1024]⟩
abbrev S2048x1024 : Shape := ⟨2, ![2048, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x512x1024, .f32⟩
  | .hbm, ⟨1, _⟩ => ⟨S4x512x1024, .f32⟩
  | .hbm, ⟨2, _⟩ => ⟨S4x512x1024, .f32⟩
  | .hbm, ⟨3, _⟩ => ⟨S4x512x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamKvReferenceIdeal.lean ====
abbrev S4x512x1024 : Shape := ⟨3, ![4, 512, 1024]⟩
abbrev S_ : Shape := ⟨0, ![]⟩
abbrev S2048x1024 : Shape := ⟨2, ![2048, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x512x1024, .f32⟩
  | .hbm, ⟨1, _⟩ => ⟨S4x512x1024, .f32⟩
  | .hbm, ⟨2, _⟩ => ⟨S4x512x1024, .f32⟩
  | .hbm, ⟨3, _⟩ => ⟨S4x512x1024, .f32⟩
  | .hbm, ⟨4, _⟩ => ⟨S_, .f32⟩
  | .hbm, ⟨5, _⟩ => ⟨S4x512x1024, .f32⟩
  | .hbm, ⟨6, _⟩ => ⟨S4x512x1024, .f32⟩
  | .hbm, ⟨7, _⟩ => ⟨S_, .f32⟩
  | .hbm, ⟨8, _⟩ => ⟨S4x512x1024, .f32⟩
  | .hbm, ⟨9, _⟩ => ⟨S4x512x1024, .f32⟩
  | .hbm, ⟨10, _⟩ => ⟨S4x512x1024, .f32⟩
  | .hbm, ⟨11, _⟩ => ⟨S_, .f32⟩
  | .hbm, ⟨12, _⟩ => ⟨S4x512x1024, .f32⟩
  | .hbm, ⟨13, _⟩ => ⟨S4x512x1024, .f32⟩
  | .hbm, ⟨14, _⟩ => ⟨S4x512x1024, .f32⟩
  | .hbm, ⟨15, _⟩ => ⟨S_, .f32⟩
  | .hbm, ⟨16, _⟩ => ⟨S4x512x1024, .f32⟩
  | .hbm, ⟨17, _⟩ => ⟨S4x512x1024, .f32⟩
  | .hbm, ⟨18, _⟩ => ⟨S4x512x1024, .f32⟩
  | .hbm, ⟨19, _⟩ => ⟨S_, .f32⟩
  | .hbm, ⟨20, _⟩ => ⟨S4x512x1024, .f32⟩
  | .hbm, ⟨21, _⟩ => ⟨S4x512x1024, .f32⟩
  | .hbm, ⟨22, _⟩ => ⟨S_, .f32⟩
  | .hbm, ⟨23, _⟩ => ⟨S4x512x1024, .f32⟩
  | .hbm, ⟨24, _⟩ => ⟨S4x512x1024, .f32⟩
  | .hbm, ⟨25, _⟩ => ⟨S4x512x1024, .f32⟩
  | .hbm, ⟨26, _⟩ => ⟨S_, .f32⟩
  | .hbm, ⟨27, _⟩ => ⟨S4x512x1024, .f32⟩
  | .hbm, ⟨28, _⟩ => ⟨S4x512x1024, .f32⟩
  | .hbm, ⟨29, _⟩ => ⟨S4x512x1024, .f32⟩
  | .hbm, ⟨30, _⟩ => ⟨S_, .f32⟩
  | .hbm, ⟨31, _⟩ => ⟨S4x512x1024, .f32⟩
  | .hbm, ⟨32, _⟩ => ⟨S4x512x1024, .f32⟩
  | .hbm, ⟨33, _⟩ => ⟨S4x512x1024, .f32⟩
  | .hbm, ⟨34, _⟩ => ⟨S_, .f32⟩
  | .hbm, ⟨35, _⟩ => ⟨S4x512x1024, .f32⟩
  | .hbm, ⟨36, _⟩ => ⟨S4x512x1024, .f32⟩
  | .hbm, ⟨37, _⟩ => ⟨S2048x1024, .f32⟩
  | .hbm, ⟨38, _⟩ => ⟨S2048x1024, .f32⟩
  | .hbm, ⟨39, _⟩ => ⟨S2048x1024, .f32⟩
  | _, _ => ⟨S4x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamOut.lean ====
abbrev S4x512x2048 : Shape := ⟨3, ![4, 512, 2048]⟩
abbrev S2048x2048 : Shape := ⟨2, ![2048, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutIdeal.lean ====
abbrev S4x512x2048 : Shape := ⟨3, ![4, 512, 2048]⟩
abbrev S2048x2048 : Shape := ⟨2, ![2048, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutReferenceIdeal.lean ====
abbrev S4x512x2048 : Shape := ⟨3, ![4, 512, 2048]⟩
abbrev S_ : Shape := ⟨0, ![]⟩
abbrev S2048x2048 : Shape := ⟨2, ![2048, 2048]⟩

abbrev nBuf : Space → Nat
  | .hbm => 40
  | .vmem => 0
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S_, .f32⟩
  | .hbm, ⟨5, _⟩ => ⟨S4x512x2048, .f32⟩
  | .hbm, ⟨6, _⟩ => ⟨S4x512x2048, .f32⟩
  | .hbm, ⟨7, _⟩ => ⟨S_, .f32⟩
  | .hbm, ⟨8, _⟩ => ⟨S4x512x2048, .f32⟩
  | .hbm, ⟨9, _⟩ => ⟨S4x512x2048, .f32⟩
  | .hbm, ⟨10, _⟩ => ⟨S4x512x2048, .f32⟩
  | .hbm, ⟨11, _⟩ => ⟨S_, .f32⟩
  | .hbm, ⟨12, _⟩ => ⟨S4x512x2048, .f32⟩
  | .hbm, ⟨13, _⟩ => ⟨S4x512x2048, .f32⟩
  | .hbm, ⟨14, _⟩ => ⟨S4x512x2048, .f32⟩
  | .hbm, ⟨15, _⟩ => ⟨S_, .f32⟩
  | .hbm, ⟨16, _⟩ => ⟨S4x512x2048, .f32⟩
  | .hbm, ⟨17, _⟩ => ⟨S4x512x2048, .f32⟩
  | .hbm, ⟨18, _⟩ => ⟨S4x512x2048, .f32⟩
  | .hbm, ⟨19, _⟩ => ⟨S_, .f32⟩
  | .hbm, ⟨20, _⟩ => ⟨S4x512x2048, .f32⟩
  | .hbm, ⟨21, _⟩ => ⟨S4x512x2048, .f32⟩
  | .hbm, ⟨22, _⟩ => ⟨S_, .f32⟩
  | .hbm, ⟨23, _⟩ => ⟨S4x512x2048, .f32⟩
  | .hbm, ⟨24, _⟩ => ⟨S4x512x2048, .f32⟩
  | .hbm, ⟨25, _⟩ => ⟨S4x512x2048, .f32⟩
  | .hbm, ⟨26, _⟩ => ⟨S_, .f32⟩
  | .hbm, ⟨27, _⟩ => ⟨S4x512x2048, .f32⟩
  | .hbm, ⟨28, _⟩ => ⟨S4x512x2048, .f32⟩
  | .hbm, ⟨29, _⟩ => ⟨S4x512x2048, .f32⟩
  | .hbm, ⟨30, _⟩ => ⟨S_, .f32⟩
  | .hbm, ⟨31, _⟩ => ⟨S4x512x2048, .f32⟩
  | .hbm, ⟨32, _⟩ => ⟨S4x512x2048, .f32⟩
  | .hbm, ⟨33, _⟩ => ⟨S4x512x2048, .f32⟩
  | .hbm, ⟨34, _⟩ => ⟨S_, .f32⟩
  | .hbm, ⟨35, _⟩ => ⟨S4x512x2048, .f32⟩
  | .hbm, ⟨36, _⟩ => ⟨S4x512x2048, .f32⟩
  | .hbm, ⟨37, _⟩ => ⟨S2048x2048, .f32⟩
  | .hbm, ⟨38, _⟩ => ⟨S2048x2048, .f32⟩
  | .hbm, ⟨39, _⟩ => ⟨S2048x2048, .f32⟩
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamSbin.lean ====
abbrev S2x2048x1280 : Shape := ⟨3, ![2, 2048, 1280]⟩
abbrev S4096x1280 : Shape := ⟨2, ![4096, 1280]⟩
abbrev S128x1280 : Shape := ⟨2, ![128, 1280]⟩

abbrev nBuf : Space → Nat
  | .hbm => 11
  | .vmem => 14
  | .smem => 0
  | _ => 0

abbrev bufTy : (tb : Table) → Fin (tcTables nBuf tb) → BufTy
  | .hbm, ⟨0, _⟩ => ⟨S2x2048x1280, .f32⟩
  | .hbm, ⟨1, _⟩ => ⟨S2x2048x1280, .f32⟩
  | .hbm, ⟨2, _⟩ => ⟨S2x2048x1280, .f32⟩
  | .hbm, ⟨3, _⟩ => ⟨S2x2048x1280, .f32⟩
  | .hbm, ⟨4, _⟩ => ⟨S4096x1280, .f32⟩
  | .hbm, ⟨5, _⟩ => ⟨S4096x1280, .f32⟩
  | .hbm, ⟨6, _⟩ => ⟨S4096x1280, .f32⟩
  | .hbm, ⟨7, _⟩ => ⟨S4096x1280, .f32⟩
  | .hbm, ⟨8, _⟩ => ⟨S4096x1280, .f32⟩
  | .hbm, ⟨9, _⟩ => ⟨S4096x1280, .f32⟩
  | .hbm, ⟨10, _⟩ => ⟨S4096x1280, .f32⟩
  | .local _ .vmem, ⟨0, _⟩ => ⟨S128x1280, .f32⟩
  | .local _ .vmem, ⟨1, _⟩ => ⟨S128x1280, .f32⟩
  | .local _ .vmem, ⟨2, _⟩ => ⟨S128x1280, .f32⟩
  | .local _ .vmem, ⟨3, _⟩ => ⟨S128x1280, .f32⟩
  | .local _ .vmem, ⟨4, _⟩ => ⟨S128x1280, .f32⟩
  | .local _ .vmem, ⟨5, _⟩ => ⟨S128x1280, .f32⟩
  | .local _ .vmem, ⟨6, _⟩ => ⟨S128x1280, .f32⟩
  | .local _ .vmem, ⟨7, _⟩ => ⟨S128x1280, .f32⟩
  | .local _ .vmem, ⟨8, _⟩ => ⟨S128x1280, .f32⟩
  | .local _ .vmem, ⟨9, _⟩ => ⟨S128x1280, .f32⟩
  | .local _ .vmem, ⟨10, _⟩ => ⟨S128x1280, .f32⟩
  | .local _ .vmem, ⟨11, _⟩ => ⟨S128x1280, .f32⟩
  | .local _ .vmem, ⟨12, _⟩ => ⟨S128x1280, .f32⟩
  | .local _ .vmem, ⟨13, _⟩ => ⟨S128x1280, .f32⟩
  | _, _ => ⟨S2x2048x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSbinIdeal.lean ====
abbrev S2x2048x1280 : Shape := ⟨3, ![2, 2048, 1280]⟩
abbrev S4096x1280 : Shape := ⟨2, ![4096, 1280]⟩
abbrev S128x1280 : Shape := ⟨2, ![128, 1280]⟩

abbrev nBuf : Space → Nat
  | .hbm => 11
  | .vmem => 14
  | .smem => 0
  | _ => 0

abbrev bufTy : (tb : Table) → Fin (tcTables nBuf tb) → BufTy
  | .hbm, ⟨0, _⟩ => ⟨S2x2048x1280, .f32⟩
  | .hbm, ⟨1, _⟩ => ⟨S2x2048x1280, .f32⟩
  | .hbm, ⟨2, _⟩ => ⟨S2x2048x1280, .f32⟩
  | .hbm, ⟨3, _⟩ => ⟨S2x2048x1280, .f32⟩
  | .hbm, ⟨4, _⟩ => ⟨S4096x1280, .f32⟩
  | .hbm, ⟨5, _⟩ => ⟨S4096x1280, .f32⟩
  | .hbm, ⟨6, _⟩ => ⟨S4096x1280, .f32⟩
  | .hbm, ⟨7, _⟩ => ⟨S4096x1280, .f32⟩
  | .hbm, ⟨8, _⟩ => ⟨S4096x1280, .f32⟩
  | .hbm, ⟨9, _⟩ => ⟨S4096x1280, .f32⟩
  | .hbm, ⟨10, _⟩ => ⟨S4096x1280, .f32⟩
  | .local _ .vmem, ⟨0, _⟩ => ⟨S128x1280, .f32⟩
  | .local _ .vmem, ⟨1, _⟩ => ⟨S128x1280, .f32⟩
  | .local _ .vmem, ⟨2, _⟩ => ⟨S128x1280, .f32⟩
  | .local _ .vmem, ⟨3, _⟩ => ⟨S128x1280, .f32⟩
  | .local _ .vmem, ⟨4, _⟩ => ⟨S128x1280, .f32⟩
  | .local _ .vmem, ⟨5, _⟩ => ⟨S128x1280, .f32⟩
  | .local _ .vmem, ⟨6, _⟩ => ⟨S128x1280, .f32⟩
  | .local _ .vmem, ⟨7, _⟩ => ⟨S128x1280, .f32⟩
  | .local _ .vmem, ⟨8, _⟩ => ⟨S128x1280, .f32⟩
  | .local _ .vmem, ⟨9, _⟩ => ⟨S128x1280, .f32⟩
  | .local _ .vmem, ⟨10, _⟩ => ⟨S128x1280, .f32⟩
  | .local _ .vmem, ⟨11, _⟩ => ⟨S128x1280, .f32⟩
  | .local _ .vmem, ⟨12, _⟩ => ⟨S128x1280, .f32⟩
  | .local _ .vmem, ⟨13, _⟩ => ⟨S128x1280, .f32⟩
  | _, _ => ⟨S2x2048x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSbinReferenceIdeal.lean ====
abbrev S2x2048x1280 : Shape := ⟨3, ![2, 2048, 1280]⟩
abbrev S_ : Shape := ⟨0, ![]⟩
abbrev S4096x1280 : Shape := ⟨2, ![4096, 1280]⟩

abbrev nBuf : Space → Nat
  | .hbm => 40
  | .vmem => 0
  | .smem => 0
  | _ => 0

abbrev bufTy : (tb : Table) → Fin (tcTables nBuf tb) → BufTy
  | .hbm, ⟨0, _⟩ => ⟨S2x2048x1280, .f32⟩
  | .hbm, ⟨1, _⟩ => ⟨S2x2048x1280, .f32⟩
  | .hbm, ⟨2, _⟩ => ⟨S2x2048x1280, .f32⟩
  | .hbm, ⟨3, _⟩ => ⟨S2x2048x1280, .f32⟩
  | .hbm, ⟨4, _⟩ => ⟨S_, .f32⟩
  | .hbm, ⟨5, _⟩ => ⟨S2x2048x1280, .f32⟩
  | .hbm, ⟨6, _⟩ => ⟨S2x2048x1280, .f32⟩
  | .hbm, ⟨7, _⟩ => ⟨S_, .f32⟩
  | .hbm, ⟨8, _⟩ => ⟨S2x2048x1280, .f32⟩
  | .hbm, ⟨9, _⟩ => ⟨S2x2048x1280, .f32⟩
  | .hbm, ⟨10, _⟩ => ⟨S2x2048x1280, .f32⟩
  | .hbm, ⟨11, _⟩ => ⟨S_, .f32⟩
  | .hbm, ⟨12, _⟩ => ⟨S2x2048x1280, .f32⟩
  | .hbm, ⟨13, _⟩ => ⟨S2x2048x1280, .f32⟩
  | .hbm, ⟨14, _⟩ => ⟨S2x2048x1280, .f32⟩
  | .hbm, ⟨15, _⟩ => ⟨S_, .f32⟩
  | .hbm, ⟨16, _⟩ => ⟨S2x2048x1280, .f32⟩
  | .hbm, ⟨17, _⟩ => ⟨S2x2048x1280, .f32⟩
  | .hbm, ⟨18, _⟩ => ⟨S2x2048x1280, .f32⟩
  | .hbm, ⟨19, _⟩ => ⟨S_, .f32⟩
  | .hbm, ⟨20, _⟩ => ⟨S2x2048x1280, .f32⟩
  | .hbm, ⟨21, _⟩ => ⟨S2x2048x1280, .f32⟩
  | .hbm, ⟨22, _⟩ => ⟨S_, .f32⟩
  | .hbm, ⟨23, _⟩ => ⟨S2x2048x1280, .f32⟩
  | .hbm, ⟨24, _⟩ => ⟨S2x2048x1280, .f32⟩
  | .hbm, ⟨25, _⟩ => ⟨S2x2048x1280, .f32⟩
  | .hbm, ⟨26, _⟩ => ⟨S_, .f32⟩
  | .hbm, ⟨27, _⟩ => ⟨S2x2048x1280, .f32⟩
  | .hbm, ⟨28, _⟩ => ⟨S2x2048x1280, .f32⟩
  | .hbm, ⟨29, _⟩ => ⟨S2x2048x1280, .f32⟩
  | .hbm, ⟨30, _⟩ => ⟨S_, .f32⟩
  | .hbm, ⟨31, _⟩ => ⟨S2x2048x1280, .f32⟩
  | .hbm, ⟨32, _⟩ => ⟨S2x2048x1280, .f32⟩
  | .hbm, ⟨33, _⟩ => ⟨S2x2048x1280, .f32⟩
  | .hbm, ⟨34, _⟩ => ⟨S_, .f32⟩
  | .hbm, ⟨35, _⟩ => ⟨S2x2048x1280, .f32⟩
  | .hbm, ⟨36, _⟩ => ⟨S2x2048x1280, .f32⟩
  | .hbm, ⟨37, _⟩ => ⟨S4096x1280, .f32⟩
  | .hbm, ⟨38, _⟩ => ⟨S4096x1280, .f32⟩
  | .hbm, ⟨39, _⟩ => ⟨S4096x1280, .f32⟩
  | _, _ => ⟨S2x2048x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamSsin.lean ====
abbrev S2x512x2048 : Shape := ⟨3, ![2, 512, 2048]⟩
abbrev S1024x2048 : Shape := ⟨2, ![1024, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSsinIdeal.lean ====
abbrev S2x512x2048 : Shape := ⟨3, ![2, 512, 2048]⟩
abbrev S1024x2048 : Shape := ⟨2, ![1024, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSsinReferenceIdeal.lean ====
abbrev S2x512x2048 : Shape := ⟨3, ![2, 512, 2048]⟩
abbrev S_ : Shape := ⟨0, ![]⟩
abbrev S1024x2048 : Shape := ⟨2, ![1024, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S_, .f32⟩
  | .hbm, ⟨5, _⟩ => ⟨S2x512x2048, .f32⟩
  | .hbm, ⟨6, _⟩ => ⟨S2x512x2048, .f32⟩
  | .hbm, ⟨7, _⟩ => ⟨S_, .f32⟩
  | .hbm, ⟨8, _⟩ => ⟨S2x512x2048, .f32⟩
  | .hbm, ⟨9, _⟩ => ⟨S2x512x2048, .f32⟩
  | .hbm, ⟨10, _⟩ => ⟨S2x512x2048, .f32⟩
  | .hbm, ⟨11, _⟩ => ⟨S_, .f32⟩
  | .hbm, ⟨12, _⟩ => ⟨S2x512x2048, .f32⟩
  | .hbm, ⟨13, _⟩ => ⟨S2x512x2048, .f32⟩
  | .hbm, ⟨14, _⟩ => ⟨S2x512x2048, .f32⟩
  | .hbm, ⟨15, _⟩ => ⟨S_, .f32⟩
  | .hbm, ⟨16, _⟩ => ⟨S2x512x2048, .f32⟩
  | .hbm, ⟨17, _⟩ => ⟨S2x512x2048, .f32⟩
  | .hbm, ⟨18, _⟩ => ⟨S2x512x2048, .f32⟩
  | .hbm, ⟨19, _⟩ => ⟨S_, .f32⟩
  | .hbm, ⟨20, _⟩ => ⟨S2x512x2048, .f32⟩
  | .hbm, ⟨21, _⟩ => ⟨S2x512x2048, .f32⟩
  | .hbm, ⟨22, _⟩ => ⟨S_, .f32⟩
  | .hbm, ⟨23, _⟩ => ⟨S2x512x2048, .f32⟩
  | .hbm, ⟨24, _⟩ => ⟨S2x512x2048, .f32⟩
  | .hbm, ⟨25, _⟩ => ⟨S2x512x2048, .f32⟩
  | .hbm, ⟨26, _⟩ => ⟨S_, .f32⟩
  | .hbm, ⟨27, _⟩ => ⟨S2x512x2048, .f32⟩
  | .hbm, ⟨28, _⟩ => ⟨S2x512x2048, .f32⟩
  | .hbm, ⟨29, _⟩ => ⟨S2x512x2048, .f32⟩
  | .hbm, ⟨30, _⟩ => ⟨S_, .f32⟩
  | .hbm, ⟨31, _⟩ => ⟨S2x512x2048, .f32⟩
  | .hbm, ⟨32, _⟩ => ⟨S2x512x2048, .f32⟩
  | .hbm, ⟨33, _⟩ => ⟨S2x512x2048, .f32⟩
  | .hbm, ⟨34, _⟩ => ⟨S_, .f32⟩
  | .hbm, ⟨35, _⟩ => ⟨S2x512x2048, .f32⟩
  | .hbm, ⟨36, _⟩ => ⟨S2x512x2048, .f32⟩
  | .hbm, ⟨37, _⟩ => ⟨S1024x2048, .f32⟩
  | .hbm, ⟨38, _⟩ => ⟨S1024x2048, .f32⟩
  | .hbm, ⟨39, _⟩ => ⟨S1024x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamGlu.lean ====
abbrev S2x384x1536 : Shape := ⟨3, ![2, 384, 1536]⟩
abbrev S768x1536 : Shape := ⟨2, ![768, 1536]⟩
abbrev S128x1536 : Shape := ⟨2, ![128, 1536]⟩

abbrev nBuf : Space → Nat
  | .hbm => 11
  | .vmem => 14
  | .smem => 0
  | _ => 0

abbrev bufTy : (tb : Table) → Fin (tcTables nBuf tb) → BufTy
  | .hbm, ⟨0, _⟩ => ⟨S2x384x1536, .f32⟩
  | .hbm, ⟨1, _⟩ => ⟨S2x384x1536, .f32⟩
  | .hbm, ⟨2, _⟩ => ⟨S2x384x1536, .f32⟩
  | .hbm, ⟨3, _⟩ => ⟨S2x384x1536, .f32⟩
  | .hbm, ⟨4, _⟩ => ⟨S768x1536, .f32⟩
  | .hbm, ⟨5, _⟩ => ⟨S768x1536, .f32⟩
  | .hbm, ⟨6, _⟩ => ⟨S768x1536, .f32⟩
  | .hbm, ⟨7, _⟩ => ⟨S768x1536, .f32⟩
  | .hbm, ⟨8, _⟩ => ⟨S768x1536, .f32⟩
  | .hbm, ⟨9, _⟩ => ⟨S768x1536, .f32⟩
  | .hbm, ⟨10, _⟩ => ⟨S768x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | _, _ => ⟨S2x384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGluIdeal.lean ====
abbrev S2x384x1536 : Shape := ⟨3, ![2, 384, 1536]⟩
abbrev S768x1536 : Shape := ⟨2, ![768, 1536]⟩
abbrev S128x1536 : Shape := ⟨2, ![128, 1536]⟩

abbrev nBuf : Space → Nat
  | .hbm => 11
  | .vmem => 14
  | .smem => 0
  | _ => 0

abbrev bufTy : (tb : Table) → Fin (tcTables nBuf tb) → BufTy
  | .hbm, ⟨0, _⟩ => ⟨S2x384x1536, .f32⟩
  | .hbm, ⟨1, _⟩ => ⟨S2x384x1536, .f32⟩
  | .hbm, ⟨2, _⟩ => ⟨S2x384x1536, .f32⟩
  | .hbm, ⟨3, _⟩ => ⟨S2x384x1536, .f32⟩
  | .hbm, ⟨4, _⟩ => ⟨S768x1536, .f32⟩
  | .hbm, ⟨5, _⟩ => ⟨S768x1536, .f32⟩
  | .hbm, ⟨6, _⟩ => ⟨S768x1536, .f32⟩
  | .hbm, ⟨7, _⟩ => ⟨S768x1536, .f32⟩
  | .hbm, ⟨8, _⟩ => ⟨S768x1536, .f32⟩
  | .hbm, ⟨9, _⟩ => ⟨S768x1536, .f32⟩
  | .hbm, ⟨10, _⟩ => ⟨S768x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | _, _ => ⟨S2x384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGluReferenceIdeal.lean ====
abbrev S2x384x1536 : Shape := ⟨3, ![2, 384, 1536]⟩
abbrev S_ : Shape := ⟨0, ![]⟩
abbrev S768x1536 : Shape := ⟨2, ![768, 1536]⟩

abbrev nBuf : Space → Nat
  | .hbm => 40
  | .vmem => 0
  | .smem => 0
  | _ => 0

abbrev bufTy : (tb : Table) → Fin (tcTables nBuf tb) → BufTy
  | .hbm, ⟨0, _⟩ => ⟨S2x384x1536, .f32⟩
  | .hbm, ⟨1, _⟩ => ⟨S2x384x1536, .f32⟩
  | .hbm, ⟨2, _⟩ => ⟨S2x384x1536, .f32⟩
  | .hbm, ⟨3, _⟩ => ⟨S2x384x1536, .f32⟩
  | .hbm, ⟨4, _⟩ => ⟨S_, .f32⟩
  | .hbm, ⟨5, _⟩ => ⟨S2x384x1536, .f32⟩
  | .hbm, ⟨6, _⟩ => ⟨S2x384x1536, .f32⟩
  | .hbm, ⟨7, _⟩ => ⟨S_, .f32⟩
  | .hbm, ⟨8, _⟩ => ⟨S2x384x1536, .f32⟩
  | .hbm, ⟨9, _⟩ => ⟨S2x384x1536, .f32⟩
  | .hbm, ⟨10, _⟩ => ⟨S2x384x1536, .f32⟩
  | .hbm, ⟨11, _⟩ => ⟨S_, .f32⟩
  | .hbm, ⟨12, _⟩ => ⟨S2x384x1536, .f32⟩
  | .hbm, ⟨13, _⟩ => ⟨S2x384x1536, .f32⟩
  | .hbm, ⟨14, _⟩ => ⟨S2x384x1536, .f32⟩
  | .hbm, ⟨15, _⟩ => ⟨S_, .f32⟩
  | .hbm, ⟨16, _⟩ => ⟨S2x384x1536, .f32⟩
  | .hbm, ⟨17, _⟩ => ⟨S2x384x1536, .f32⟩
  | .hbm, ⟨18, _⟩ => ⟨S2x384x1536, .f32⟩
  | .hbm, ⟨19, _⟩ => ⟨S_, .f32⟩
  | .hbm, ⟨20, _⟩ => ⟨S2x384x1536, .f32⟩
  | .hbm, ⟨21, _⟩ => ⟨S2x384x1536, .f32⟩
  | .hbm, ⟨22, _⟩ => ⟨S_, .f32⟩
  | .hbm, ⟨23, _⟩ => ⟨S2x384x1536, .f32⟩
  | .hbm, ⟨24, _⟩ => ⟨S2x384x1536, .f32⟩
  | .hbm, ⟨25, _⟩ => ⟨S2x384x1536, .f32⟩
  | .hbm, ⟨26, _⟩ => ⟨S_, .f32⟩
  | .hbm, ⟨27, _⟩ => ⟨S2x384x1536, .f32⟩
  | .hbm, ⟨28, _⟩ => ⟨S2x384x1536, .f32⟩
  | .hbm, ⟨29, _⟩ => ⟨S2x384x1536, .f32⟩
  | .hbm, ⟨30, _⟩ => ⟨S_, .f32⟩
  | .hbm, ⟨31, _⟩ => ⟨S2x384x1536, .f32⟩
  | .hbm, ⟨32, _⟩ => ⟨S2x384x1536, .f32⟩
  | .hbm, ⟨33, _⟩ => ⟨S2x384x1536, .f32⟩
  | .hbm, ⟨34, _⟩ => ⟨S_, .f32⟩
  | .hbm, ⟨35, _⟩ => ⟨S2x384x1536, .f32⟩
  | .hbm, ⟨36, _⟩ => ⟨S2x384x1536, .f32⟩
  | .hbm, ⟨37, _⟩ => ⟨S768x1536, .f32⟩
  | .hbm, ⟨38, _⟩ => ⟨S768x1536, .f32⟩
  | .hbm, ⟨39, _⟩ => ⟨S768x1536, .f32⟩
  | _, _ => ⟨S2x384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamNorm.lean ====
abbrev S4x2048 : Shape := ⟨2, ![4, 2048]⟩

abbrev nBuf : Space → Nat
  | .hbm => 7
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S4x2048, .f32⟩
  | .hbm, ⟨5, _⟩ => ⟨S4x2048, .f32⟩
  | .hbm, ⟨6, _⟩ => ⟨S4x2048, .f32⟩
  | .local _ .vmem, ⟨0, _⟩ => ⟨S4x2048, .f32⟩
  | .local _ .vmem, ⟨1, _⟩ => ⟨S4x2048, .f32⟩
  | .local _ .vmem, ⟨2, _⟩ => ⟨S4x2048, .f32⟩
  | .local _ .vmem, ⟨3, _⟩ => ⟨S4x2048, .f32⟩
  | .local _ .vmem, ⟨4, _⟩ => ⟨S4x2048, .f32⟩
  | .local _ .vmem, ⟨5, _⟩ => ⟨S4x2048, .f32⟩
  | .local _ .vmem, ⟨6, _⟩ => ⟨S4x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormIdeal.lean ====
abbrev S4x2048 : Shape := ⟨2, ![4, 2048]⟩

abbrev nBuf : Space → Nat
  | .hbm => 7
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S4x2048, .f32⟩
  | .hbm, ⟨5, _⟩ => ⟨S4x2048, .f32⟩
  | .hbm, ⟨6, _⟩ => ⟨S4x2048, .f32⟩
  | .local _ .vmem, ⟨0, _⟩ => ⟨S4x2048, .f32⟩
  | .local _ .vmem, ⟨1, _⟩ => ⟨S4x2048, .f32⟩
  | .local _ .vmem, ⟨2, _⟩ => ⟨S4x2048, .f32⟩
  | .local _ .vmem, ⟨3, _⟩ => ⟨S4x2048, .f32⟩
  | .local _ .vmem, ⟨4, _⟩ => ⟨S4x2048, .f32⟩
  | .local _ .vmem, ⟨5, _⟩ => ⟨S4x2048, .f32⟩
  | .local _ .vmem, ⟨6, _⟩ => ⟨S4x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormReferenceIdeal.lean ====
abbrev S4x2048 : Shape := ⟨2, ![4, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S_, .f32⟩
  | .hbm, ⟨5, _⟩ => ⟨S4x2048, .f32⟩
  | .hbm, ⟨6, _⟩ => ⟨S4x2048, .f32⟩
  | .hbm, ⟨7, _⟩ => ⟨S_, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S_, .f32⟩
  | .hbm, ⟨12, _⟩ => ⟨S4x2048, .f32⟩
  | .hbm, ⟨13, _⟩ => ⟨S4x2048, .f32⟩
  | .hbm, ⟨14, _⟩ => ⟨S4x2048, .f32⟩
  | .hbm, ⟨15, _⟩ => ⟨S_, .f32⟩
  | .hbm, ⟨16, _⟩ => ⟨S4x2048, .f32⟩
  | .hbm, ⟨17, _⟩ => ⟨S4x2048, .f32⟩
  | .hbm, ⟨18, _⟩ => ⟨S4x2048, .f32⟩
  | .hbm, ⟨19, _⟩ => ⟨S_, .f32⟩
  | .hbm, ⟨20, _⟩ => ⟨S4x2048, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048, .f32⟩
  | .hbm, ⟨34, _⟩ => ⟨S_, .f32⟩
  | .hbm, ⟨35, _⟩ => ⟨S4x2048, .f32⟩
  | .hbm, ⟨36, _⟩ => ⟨S4x2048, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamHead.lean ====
abbrev S4x128 : Shape := ⟨2, ![4, 128]⟩

abbrev nBuf : Space → Nat
  | .hbm => 7
  | .vmem => 7
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128, .f32⟩
  | .local _ .vmem, ⟨0, _⟩ => ⟨S4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamHeadIdeal.lean ====
abbrev S4x128 : Shape := ⟨2, ![4, 128]⟩

abbrev nBuf : Space → Nat
  | .hbm => 7
  | .vmem => 7
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128, .f32⟩
  | .local _ .vmem, ⟨0, _⟩ => ⟨S4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamHeadReferenceIdeal.lean ====
abbrev S4x128 : Shape := ⟨2, ![4, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S_, .f32⟩
  | .hbm, ⟨5, _⟩ => ⟨S4x128, .f32⟩
  | .hbm, ⟨6, _⟩ => ⟨S4x128, .f32⟩
  | .hbm, ⟨7, _⟩ => ⟨S_, .f32⟩
  | .hbm, ⟨8, _⟩ => ⟨S4x128, .f32⟩
  | .hbm, ⟨9, _⟩ => ⟨S4x128, .f32⟩
  | .hbm, ⟨10, _⟩ => ⟨S4x128, .f32⟩
  | .hbm, ⟨11, _⟩ => ⟨S_, .f32⟩
  | .hbm, ⟨12, _⟩ => ⟨S4x128, .f32⟩
  | .hbm, ⟨13, _⟩ => ⟨S4x128, .f32⟩
  | .hbm, ⟨14, _⟩ => ⟨S4x128, .f32⟩
  | .hbm, ⟨15, _⟩ => ⟨S_, .f32⟩
  | .hbm, ⟨16, _⟩ => ⟨S4x128, .f32⟩
  | .hbm, ⟨17, _⟩ => ⟨S4x128, .f32⟩
  | .hbm, ⟨18, _⟩ => ⟨S4x128, .f32⟩
  | .hbm, ⟨19, _⟩ => ⟨S_, .f32⟩
  | .hbm, ⟨20, _⟩ => ⟨S4x128, .f32⟩
  | .hbm, ⟨21, _⟩ => ⟨S4x128, .f32⟩
  | .hbm, ⟨22, _⟩ => ⟨S_, .f32⟩
  | .hbm, ⟨23, _⟩ => ⟨S4x128, .f32⟩
  | .hbm, ⟨24, _⟩ => ⟨S4x128, .f32⟩
  | .hbm, ⟨25, _⟩ => ⟨S4x128, .f32⟩
  | .hbm, ⟨26, _⟩ => ⟨S_, .f32⟩
  | .hbm, ⟨27, _⟩ => ⟨S4x128, .f32⟩
  | .hbm, ⟨28, _⟩ => ⟨S4x128, .f32⟩
  | .hbm, ⟨29, _⟩ => ⟨S4x128, .f32⟩
  | .hbm, ⟨30, _⟩ => ⟨S_, .f32⟩
  | .hbm, ⟨31, _⟩ => ⟨S4x128, .f32⟩
  | .hbm, ⟨32, _⟩ => ⟨S4x128, .f32⟩
  | .hbm, ⟨33, _⟩ => ⟨S4x128, .f32⟩
  | .hbm, ⟨34, _⟩ => ⟨S_, .f32⟩
  | .hbm, ⟨35, _⟩ => ⟨S4x128, .f32⟩
  | .hbm, ⟨36, _⟩ => ⟨S4x128, .f32⟩
  | _, _ => ⟨S4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDt.lean ====
abbrev S2x96 : Shape := ⟨2, ![2, 96]⟩

abbrev nBuf : Space → Nat
  | .hbm => 7
  | .vmem => 7
  | .smem => 0
  | _ => 0

abbrev bufTy : (tb : Table) → Fin (tcTables nBuf tb) → BufTy
  | .hbm, ⟨0, _⟩ => ⟨S2x96, .f32⟩
  | .hbm, ⟨1, _⟩ => ⟨S2x96, .f32⟩
  | .hbm, ⟨2, _⟩ => ⟨S2x96, .f32⟩
  | .hbm, ⟨3, _⟩ => ⟨S2x96, .f32⟩
  | .hbm, ⟨4, _⟩ => ⟨S2x96, .f32⟩
  | .hbm, ⟨5, _⟩ => ⟨S2x96, .f32⟩
  | .hbm, ⟨6, _⟩ => ⟨S2x96, .f32⟩
  | .local _ .vmem, ⟨0, _⟩ => ⟨S2x96, .f32⟩
  | .local _ .vmem, ⟨1, _⟩ => ⟨S2x96, .f32⟩
  | .local _ .vmem, ⟨2, _⟩ => ⟨S2x96, .f32⟩
  | .local _ .vmem, ⟨3, _⟩ => ⟨S2x96, .f32⟩
  | .local _ .vmem, ⟨4, _⟩ => ⟨S2x96, .f32⟩
  | .local _ .vmem, ⟨5, _⟩ => ⟨S2x96, .f32⟩
  | .local _ .vmem, ⟨6, _⟩ => ⟨S2x96, .f32⟩
  | _, _ => ⟨S2x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamDtIdeal.lean ====
abbrev S2x96 : Shape := ⟨2, ![2, 96]⟩

abbrev nBuf : Space → Nat
  | .hbm => 7
  | .vmem => 7
  | .smem => 0
  | _ => 0

abbrev bufTy : (tb : Table) → Fin (tcTables nBuf tb) → BufTy
  | .hbm, ⟨0, _⟩ => ⟨S2x96, .f32⟩
  | .hbm, ⟨1, _⟩ => ⟨S2x96, .f32⟩
  | .hbm, ⟨2, _⟩ => ⟨S2x96, .f32⟩
  | .hbm, ⟨3, _⟩ => ⟨S2x96, .f32⟩
  | .hbm, ⟨4, _⟩ => ⟨S2x96, .f32⟩
  | .hbm, ⟨5, _⟩ => ⟨S2x96, .f32⟩
  | .hbm, ⟨6, _⟩ => ⟨S2x96, .f32⟩
  | .local _ .vmem, ⟨0, _⟩ => ⟨S2x96, .f32⟩
  | .local _ .vmem, ⟨1, _⟩ => ⟨S2x96, .f32⟩
  | .local _ .vmem, ⟨2, _⟩ => ⟨S2x96, .f32⟩
  | .local _ .vmem, ⟨3, _⟩ => ⟨S2x96, .f32⟩
  | .local _ .vmem, ⟨4, _⟩ => ⟨S2x96, .f32⟩
  | .local _ .vmem, ⟨5, _⟩ => ⟨S2x96, .f32⟩
  | .local _ .vmem, ⟨6, _⟩ => ⟨S2x96, .f32⟩
  | _, _ => ⟨S2x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamDtReferenceIdeal.lean ====
abbrev S2x96 : Shape := ⟨2, ![2, 96]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x96, .f32⟩
  | .hbm, ⟨1, _⟩ => ⟨S2x96, .f32⟩
  | .hbm, ⟨2, _⟩ => ⟨S2x96, .f32⟩
  | .hbm, ⟨3, _⟩ => ⟨S2x96, .f32⟩
  | .hbm, ⟨4, _⟩ => ⟨S_, .f32⟩
  | .hbm, ⟨5, _⟩ => ⟨S2x96, .f32⟩
  | .hbm, ⟨6, _⟩ => ⟨S2x96, .f32⟩
  | .hbm, ⟨7, _⟩ => ⟨S_, .f32⟩
  | .hbm, ⟨8, _⟩ => ⟨S2x96, .f32⟩
  | .hbm, ⟨9, _⟩ => ⟨S2x96, .f32⟩
  | .hbm, ⟨10, _⟩ => ⟨S2x96, .f32⟩
  | .hbm, ⟨11, _⟩ => ⟨S_, .f32⟩
  | .hbm, ⟨12, _⟩ => ⟨S2x96, .f32⟩
  | .hbm, ⟨13, _⟩ => ⟨S2x96, .f32⟩
  | .hbm, ⟨14, _⟩ => ⟨S2x96, .f32⟩
  | .hbm, ⟨15, _⟩ => ⟨S_, .f32⟩
  | .hbm, ⟨16, _⟩ => ⟨S2x96, .f32⟩
  | .hbm, ⟨17, _⟩ => ⟨S2x96, .f32⟩
  | .hbm, ⟨18, _⟩ => ⟨S2x96, .f32⟩
  | .hbm, ⟨19, _⟩ => ⟨S_, .f32⟩
  | .hbm, ⟨20, _⟩ => ⟨S2x96, .f32⟩
  | .hbm, ⟨21, _⟩ => ⟨S2x96, .f32⟩
  | .hbm, ⟨22, _⟩ => ⟨S_, .f32⟩
  | .hbm, ⟨23, _⟩ => ⟨S2x96, .f32⟩
  | .hbm, ⟨24, _⟩ => ⟨S2x96, .f32⟩
  | .hbm, ⟨25, _⟩ => ⟨S2x96, .f32⟩
  | .hbm, ⟨26, _⟩ => ⟨S_, .f32⟩
  | .hbm, ⟨27, _⟩ => ⟨S2x96, .f32⟩
  | .hbm, ⟨28, _⟩ => ⟨S2x96, .f32⟩
  | .hbm, ⟨29, _⟩ => ⟨S2x96, .f32⟩
  | .hbm, ⟨30, _⟩ => ⟨S_, .f32⟩
  | .hbm, ⟨31, _⟩ => ⟨S2x96, .f32⟩
  | .hbm, ⟨32, _⟩ => ⟨S2x96, .f32⟩
  | .hbm, ⟨33, _⟩ => ⟨S2x96, .f32⟩
  | .hbm, ⟨34, _⟩ => ⟨S_, .f32⟩
  | .hbm, ⟨35, _⟩ => ⟨S2x96, .f32⟩
  | .hbm, ⟨36, _⟩ => ⟨S2x96, .f32⟩
  | _, _ => ⟨S2x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamA.lean ====
abbrev S2x96x64 : Shape := ⟨3, ![2, 96, 64]⟩
abbrev S96x128 : Shape := ⟨2, ![96, 128]⟩

abbrev nBuf : Space → Nat
  | .hbm => 11
  | .vmem => 7
  | .smem => 0
  | _ => 0

abbrev bufTy : (tb : Table) → Fin (tcTables nBuf tb) → BufTy
  | .hbm, ⟨0, _⟩ => ⟨S2x96x64, .f32⟩
  | .hbm, ⟨1, _⟩ => ⟨S2x96x64, .f32⟩
  | .hbm, ⟨2, _⟩ => ⟨S2x96x64, .f32⟩
  | .hbm, ⟨3, _⟩ => ⟨S2x96x64, .f32⟩
  | .hbm, ⟨4, _⟩ => ⟨S96x128, .f32⟩
  | .hbm, ⟨5, _⟩ => ⟨S96x128, .f32⟩
  | .hbm, ⟨6, _⟩ => ⟨S96x128, .f32⟩
  | .hbm, ⟨7, _⟩ => ⟨S96x128, .f32⟩
  | .hbm, ⟨8, _⟩ => ⟨S96x128, .f32⟩
  | .hbm, ⟨9, _⟩ => ⟨S96x128, .f32⟩
  | .hbm, ⟨10, _⟩ => ⟨S96x128, .f32⟩
  | .local _ .vmem, ⟨0, _⟩ => ⟨S96x128, .f32⟩
  | .local _ .vmem, ⟨1, _⟩ => ⟨S96x128, .f32⟩
  | .local _ .vmem, ⟨2, _⟩ => ⟨S96x128, .f32⟩
  | .local _ .vmem, ⟨3, _⟩ => ⟨S96x128, .f32⟩
  | .local _ .vmem, ⟨4, _⟩ => ⟨S96x128, .f32⟩
  | .local _ .vmem, ⟨5, _⟩ => ⟨S96x128, .f32⟩
  | .local _ .vmem, ⟨6, _⟩ => ⟨S96x128, .f32⟩
  | _, _ => ⟨S2x96x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S96x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S96x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S96x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S96x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S96x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S96x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S96x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamAIdeal.lean ====
abbrev S2x96x64 : Shape := ⟨3, ![2, 96, 64]⟩
abbrev S96x128 : Shape := ⟨2, ![96, 128]⟩

abbrev nBuf : Space → Nat
  | .hbm => 11
  | .vmem => 7
  | .smem => 0
  | _ => 0

abbrev bufTy : (tb : Table) → Fin (tcTables nBuf tb) → BufTy
  | .hbm, ⟨0, _⟩ => ⟨S2x96x64, .f32⟩
  | .hbm, ⟨1, _⟩ => ⟨S2x96x64, .f32⟩
  | .hbm, ⟨2, _⟩ => ⟨S2x96x64, .f32⟩
  | .hbm, ⟨3, _⟩ => ⟨S2x96x64, .f32⟩
  | .hbm, ⟨4, _⟩ => ⟨S96x128, .f32⟩
  | .hbm, ⟨5, _⟩ => ⟨S96x128, .f32⟩
  | .hbm, ⟨6, _⟩ => ⟨S96x128, .f32⟩
  | .hbm, ⟨7, _⟩ => ⟨S96x128, .f32⟩
  | .hbm, ⟨8, _⟩ => ⟨S96x128, .f32⟩
  | .hbm, ⟨9, _⟩ => ⟨S96x128, .f32⟩
  | .hbm, ⟨10, _⟩ => ⟨S96x128, .f32⟩
  | .local _ .vmem, ⟨0, _⟩ => ⟨S96x128, .f32⟩
  | .local _ .vmem, ⟨1, _⟩ => ⟨S96x128, .f32⟩
  | .local _ .vmem, ⟨2, _⟩ => ⟨S96x128, .f32⟩
  | .local _ .vmem, ⟨3, _⟩ => ⟨S96x128, .f32⟩
  | .local _ .vmem, ⟨4, _⟩ => ⟨S96x128, .f32⟩
  | .local _ .vmem, ⟨5, _⟩ => ⟨S96x128, .f32⟩
  | .local _ .vmem, ⟨6, _⟩ => ⟨S96x128, .f32⟩
  | _, _ => ⟨S2x96x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S96x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S96x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S96x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S96x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S96x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S96x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S96x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamAReferenceIdeal.lean ====
abbrev S2x96x64 : Shape := ⟨3, ![2, 96, 64]⟩
abbrev S_ : Shape := ⟨0, ![]⟩
abbrev S96x128 : Shape := ⟨2, ![96, 128]⟩

abbrev nBuf : Space → Nat
  | .hbm => 40
  | .vmem => 0
  | .smem => 0
  | _ => 0

abbrev bufTy : (tb : Table) → Fin (tcTables nBuf tb) → BufTy
  | .hbm, ⟨0, _⟩ => ⟨S2x96x64, .f32⟩
  | .hbm, ⟨1, _⟩ => ⟨S2x96x64, .f32⟩
  | .hbm, ⟨2, _⟩ => ⟨S2x96x64, .f32⟩
  | .hbm, ⟨3, _⟩ => ⟨S2x96x64, .f32⟩
  | .hbm, ⟨4, _⟩ => ⟨S_, .f32⟩
  | .hbm, ⟨5, _⟩ => ⟨S2x96x64, .f32⟩
  | .hbm, ⟨6, _⟩ => ⟨S2x96x64, .f32⟩
  | .hbm, ⟨7, _⟩ => ⟨S_, .f32⟩
  | .hbm, ⟨8, _⟩ => ⟨S2x96x64, .f32⟩
  | .hbm, ⟨9, _⟩ => ⟨S2x96x64, .f32⟩
  | .hbm, ⟨10, _⟩ => ⟨S2x96x64, .f32⟩
  | .hbm, ⟨11, _⟩ => ⟨S_, .f32⟩
  | .hbm, ⟨12, _⟩ => ⟨S2x96x64, .f32⟩
  | .hbm, ⟨13, _⟩ => ⟨S2x96x64, .f32⟩
  | .hbm, ⟨14, _⟩ => ⟨S2x96x64, .f32⟩
  | .hbm, ⟨15, _⟩ => ⟨S_, .f32⟩
  | .hbm, ⟨16, _⟩ => ⟨S2x96x64, .f32⟩
  | .hbm, ⟨17, _⟩ => ⟨S2x96x64, .f32⟩
  | .hbm, ⟨18, _⟩ => ⟨S2x96x64, .f32⟩
  | .hbm, ⟨19, _⟩ => ⟨S_, .f32⟩
  | .hbm, ⟨20, _⟩ => ⟨S2x96x64, .f32⟩
  | .hbm, ⟨21, _⟩ => ⟨S2x96x64, .f32⟩
  | .hbm, ⟨22, _⟩ => ⟨S_, .f32⟩
  | .hbm, ⟨23, _⟩ => ⟨S2x96x64, .f32⟩
  | .hbm, ⟨24, _⟩ => ⟨S2x96x64, .f32⟩
  | .hbm, ⟨25, _⟩ => ⟨S2x96x64, .f32⟩
  | .hbm, ⟨26, _⟩ => ⟨S_, .f32⟩
  | .hbm, ⟨27, _⟩ => ⟨S2x96x64, .f32⟩
  | .hbm, ⟨28, _⟩ => ⟨S2x96x64, .f32⟩
  | .hbm, ⟨29, _⟩ => ⟨S2x96x64, .f32⟩
  | .hbm, ⟨30, _⟩ => ⟨S_, .f32⟩
  | .hbm, ⟨31, _⟩ => ⟨S2x96x64, .f32⟩
  | .hbm, ⟨32, _⟩ => ⟨S2x96x64, .f32⟩
  | .hbm, ⟨33, _⟩ => ⟨S2x96x64, .f32⟩
  | .hbm, ⟨34, _⟩ => ⟨S_, .f32⟩
  | .hbm, ⟨35, _⟩ => ⟨S2x96x64, .f32⟩
  | .hbm, ⟨36, _⟩ => ⟨S2x96x64, .f32⟩
  | .hbm, ⟨37, _⟩ => ⟨S96x128, .f32⟩
  | .hbm, ⟨38, _⟩ => ⟨S96x128, .f32⟩
  | .hbm, ⟨39, _⟩ => ⟨S96x128, .f32⟩
  | _, _ => ⟨S2x96x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamB.lean ====
abbrev S2x96x64x16 : Shape := ⟨4, ![2, 96, 64, 16]⟩
abbrev S1536x128 : Shape := ⟨2, ![1536, 128]⟩

abbrev nBuf : Space → Nat
  | .hbm => 11
  | .vmem => 7
  | .smem => 0
  | _ => 0

abbrev bufTy : (tb : Table) → Fin (tcTables nBuf tb) → BufTy
  | .hbm, ⟨0, _⟩ => ⟨S2x96x64x16, .f32⟩
  | .hbm, ⟨1, _⟩ => ⟨S2x96x64x16, .f32⟩
  | .hbm, ⟨2, _⟩ => ⟨S2x96x64x16, .f32⟩
  | .hbm, ⟨3, _⟩ => ⟨S2x96x64x16, .f32⟩
  | .hbm, ⟨4, _⟩ => ⟨S1536x128, .f32⟩
  | .hbm, ⟨5, _⟩ => ⟨S1536x128, .f32⟩
  | .hbm, ⟨6, _⟩ => ⟨S1536x128, .f32⟩
  | .hbm, ⟨7, _⟩ => ⟨S1536x128, .f32⟩
  | .hbm, ⟨8, _⟩ => ⟨S1536x128, .f32⟩
  | .hbm, ⟨9, _⟩ => ⟨S1536x128, .f32⟩
  | .hbm, ⟨10, _⟩ => ⟨S1536x128, .f32⟩
  | .local _ .vmem, ⟨0, _⟩ => ⟨S1536x128, .f32⟩
  | .local _ .vmem, ⟨1, _⟩ => ⟨S1536x128, .f32⟩
  | .local _ .vmem, ⟨2, _⟩ => ⟨S1536x128, .f32⟩
  | .local _ .vmem, ⟨3, _⟩ => ⟨S1536x128, .f32⟩
  | .local _ .vmem, ⟨4, _⟩ => ⟨S1536x128, .f32⟩
  | .local _ .vmem, ⟨5, _⟩ => ⟨S1536x128, .f32⟩
  | .local _ .vmem, ⟨6, _⟩ => ⟨S1536x128, .f32⟩
  | _, _ => ⟨S2x96x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1536x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1536x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1536x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1536x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1536x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1536x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1536x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBIdeal.lean ====
abbrev S2x96x64x16 : Shape := ⟨4, ![2, 96, 64, 16]⟩
abbrev S1536x128 : Shape := ⟨2, ![1536, 128]⟩

abbrev nBuf : Space → Nat
  | .hbm => 11
  | .vmem => 7
  | .smem => 0
  | _ => 0

abbrev bufTy : (tb : Table) → Fin (tcTables nBuf tb) → BufTy
  | .hbm, ⟨0, _⟩ => ⟨S2x96x64x16, .f32⟩
  | .hbm, ⟨1, _⟩ => ⟨S2x96x64x16, .f32⟩
  | .hbm, ⟨2, _⟩ => ⟨S2x96x64x16, .f32⟩
  | .hbm, ⟨3, _⟩ => ⟨S2x96x64x16, .f32⟩
  | .hbm, ⟨4, _⟩ => ⟨S1536x128, .f32⟩
  | .hbm, ⟨5, _⟩ => ⟨S1536x128, .f32⟩
  | .hbm, ⟨6, _⟩ => ⟨S1536x128, .f32⟩
  | .hbm, ⟨7, _⟩ => ⟨S1536x128, .f32⟩
  | .hbm, ⟨8, _⟩ => ⟨S1536x128, .f32⟩
  | .hbm, ⟨9, _⟩ => ⟨S1536x128, .f32⟩
  | .hbm, ⟨10, _⟩ => ⟨S1536x128, .f32⟩
  | .local _ .vmem, ⟨0, _⟩ => ⟨S1536x128, .f32⟩
  | .local _ .vmem, ⟨1, _⟩ => ⟨S1536x128, .f32⟩
  | .local _ .vmem, ⟨2, _⟩ => ⟨S1536x128, .f32⟩
  | .local _ .vmem, ⟨3, _⟩ => ⟨S1536x128, .f32⟩
  | .local _ .vmem, ⟨4, _⟩ => ⟨S1536x128, .f32⟩
  | .local _ .vmem, ⟨5, _⟩ => ⟨S1536x128, .f32⟩
  | .local _ .vmem, ⟨6, _⟩ => ⟨S1536x128, .f32⟩
  | _, _ => ⟨S2x96x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1536x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1536x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1536x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1536x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1536x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1536x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1536x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBReferenceIdeal.lean ====
abbrev S2x96x64x16 : Shape := ⟨4, ![2, 96, 64, 16]⟩
abbrev S_ : Shape := ⟨0, ![]⟩
abbrev S1536x128 : Shape := ⟨2, ![1536, 128]⟩

abbrev nBuf : Space → Nat
  | .hbm => 40
  | .vmem => 0
  | .smem => 0
  | _ => 0

abbrev bufTy : (tb : Table) → Fin (tcTables nBuf tb) → BufTy
  | .hbm, ⟨0, _⟩ => ⟨S2x96x64x16, .f32⟩
  | .hbm, ⟨1, _⟩ => ⟨S2x96x64x16, .f32⟩
  | .hbm, ⟨2, _⟩ => ⟨S2x96x64x16, .f32⟩
  | .hbm, ⟨3, _⟩ => ⟨S2x96x64x16, .f32⟩
  | .hbm, ⟨4, _⟩ => ⟨S_, .f32⟩
  | .hbm, ⟨5, _⟩ => ⟨S2x96x64x16, .f32⟩
  | .hbm, ⟨6, _⟩ => ⟨S2x96x64x16, .f32⟩
  | .hbm, ⟨7, _⟩ => ⟨S_, .f32⟩
  | .hbm, ⟨8, _⟩ => ⟨S2x96x64x16, .f32⟩
  | .hbm, ⟨9, _⟩ => ⟨S2x96x64x16, .f32⟩
  | .hbm, ⟨10, _⟩ => ⟨S2x96x64x16, .f32⟩
  | .hbm, ⟨11, _⟩ => ⟨S_, .f32⟩
  | .hbm, ⟨12, _⟩ => ⟨S2x96x64x16, .f32⟩
  | .hbm, ⟨13, _⟩ => ⟨S2x96x64x16, .f32⟩
  | .hbm, ⟨14, _⟩ => ⟨S2x96x64x16, .f32⟩
  | .hbm, ⟨15, _⟩ => ⟨S_, .f32⟩
  | .hbm, ⟨16, _⟩ => ⟨S2x96x64x16, .f32⟩
  | .hbm, ⟨17, _⟩ => ⟨S2x96x64x16, .f32⟩
  | .hbm, ⟨18, _⟩ => ⟨S2x96x64x16, .f32⟩
  | .hbm, ⟨19, _⟩ => ⟨S_, .f32⟩
  | .hbm, ⟨20, _⟩ => ⟨S2x96x64x16, .f32⟩
  | .hbm, ⟨21, _⟩ => ⟨S2x96x64x16, .f32⟩
  | .hbm, ⟨22, _⟩ => ⟨S_, .f32⟩
  | .hbm, ⟨23, _⟩ => ⟨S2x96x64x16, .f32⟩
  | .hbm, ⟨24, _⟩ => ⟨S2x96x64x16, .f32⟩
  | .hbm, ⟨25, _⟩ => ⟨S2x96x64x16, .f32⟩
  | .hbm, ⟨26, _⟩ => ⟨S_, .f32⟩
  | .hbm, ⟨27, _⟩ => ⟨S2x96x64x16, .f32⟩
  | .hbm, ⟨28, _⟩ => ⟨S2x96x64x16, .f32⟩
  | .hbm, ⟨29, _⟩ => ⟨S2x96x64x16, .f32⟩
  | .hbm, ⟨30, _⟩ => ⟨S_, .f32⟩
  | .hbm, ⟨31, _⟩ => ⟨S2x96x64x16, .f32⟩
  | .hbm, ⟨32, _⟩ => ⟨S2x96x64x16, .f32⟩
  | .hbm, ⟨33, _⟩ => ⟨S2x96x64x16, .f32⟩
  | .hbm, ⟨34, _⟩ => ⟨S_, .f32⟩
  | .hbm, ⟨35, _⟩ => ⟨S2x96x64x16, .f32⟩
  | .hbm, ⟨36, _⟩ => ⟨S2x96x64x16, .f32⟩
  | .hbm, ⟨37, _⟩ => ⟨S1536x128, .f32⟩
  | .hbm, ⟨38, _⟩ => ⟨S1536x128, .f32⟩
  | .hbm, ⟨39, _⟩ => ⟨S1536x128, .f32⟩
  | _, _ => ⟨S2x96x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamC.lean ====
abbrev S2x96x16x64 : Shape := ⟨4, ![2, 96, 16, 64]⟩
abbrev S1536x128 : Shape := ⟨2, ![1536, 128]⟩

abbrev nBuf : Space → Nat
  | .hbm => 11
  | .vmem => 7
  | .smem => 0
  | _ => 0

abbrev bufTy : (tb : Table) → Fin (tcTables nBuf tb) → BufTy
  | .hbm, ⟨0, _⟩ => ⟨S2x96x16x64, .f32⟩
  | .hbm, ⟨1, _⟩ => ⟨S2x96x16x64, .f32⟩
  | .hbm, ⟨2, _⟩ => ⟨S2x96x16x64, .f32⟩
  | .hbm, ⟨3, _⟩ => ⟨S2x96x16x64, .f32⟩
  | .hbm, ⟨4, _⟩ => ⟨S1536x128, .f32⟩
  | .hbm, ⟨5, _⟩ => ⟨S1536x128, .f32⟩
  | .hbm, ⟨6, _⟩ => ⟨S1536x128, .f32⟩
  | .hbm, ⟨7, _⟩ => ⟨S1536x128, .f32⟩
  | .hbm, ⟨8, _⟩ => ⟨S1536x128, .f32⟩
  | .hbm, ⟨9, _⟩ => ⟨S1536x128, .f32⟩
  | .hbm, ⟨10, _⟩ => ⟨S1536x128, .f32⟩
  | .local _ .vmem, ⟨0, _⟩ => ⟨S1536x128, .f32⟩
  | .local _ .vmem, ⟨1, _⟩ => ⟨S1536x128, .f32⟩
  | .local _ .vmem, ⟨2, _⟩ => ⟨S1536x128, .f32⟩
  | .local _ .vmem, ⟨3, _⟩ => ⟨S1536x128, .f32⟩
  | .local _ .vmem, ⟨4, _⟩ => ⟨S1536x128, .f32⟩
  | .local _ .vmem, ⟨5, _⟩ => ⟨S1536x128, .f32⟩
  | .local _ .vmem, ⟨6, _⟩ => ⟨S1536x128, .f32⟩
  | _, _ => ⟨S2x96x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1536x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1536x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1536x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1536x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1536x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1536x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1536x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamCIdeal.lean ====
abbrev S2x96x16x64 : Shape := ⟨4, ![2, 96, 16, 64]⟩
abbrev S1536x128 : Shape := ⟨2, ![1536, 128]⟩

abbrev nBuf : Space → Nat
  | .hbm => 11
  | .vmem => 7
  | .smem => 0
  | _ => 0

abbrev bufTy : (tb : Table) → Fin (tcTables nBuf tb) → BufTy
  | .hbm, ⟨0, _⟩ => ⟨S2x96x16x64, .f32⟩
  | .hbm, ⟨1, _⟩ => ⟨S2x96x16x64, .f32⟩
  | .hbm, ⟨2, _⟩ => ⟨S2x96x16x64, .f32⟩
  | .hbm, ⟨3, _⟩ => ⟨S2x96x16x64, .f32⟩
  | .hbm, ⟨4, _⟩ => ⟨S1536x128, .f32⟩
  | .hbm, ⟨5, _⟩ => ⟨S1536x128, .f32⟩
  | .hbm, ⟨6, _⟩ => ⟨S1536x128, .f32⟩
  | .hbm, ⟨7, _⟩ => ⟨S1536x128, .f32⟩
  | .hbm, ⟨8, _⟩ => ⟨S1536x128, .f32⟩
  | .hbm, ⟨9, _⟩ => ⟨S1536x128, .f32⟩
  | .hbm, ⟨10, _⟩ => ⟨S1536x128, .f32⟩
  | .local _ .vmem, ⟨0, _⟩ => ⟨S1536x128, .f32⟩
  | .local _ .vmem, ⟨1, _⟩ => ⟨S1536x128, .f32⟩
  | .local _ .vmem, ⟨2, _⟩ => ⟨S1536x128, .f32⟩
  | .local _ .vmem, ⟨3, _⟩ => ⟨S1536x128, .f32⟩
  | .local _ .vmem, ⟨4, _⟩ => ⟨S1536x128, .f32⟩
  | .local _ .vmem, ⟨5, _⟩ => ⟨S1536x128, .f32⟩
  | .local _ .vmem, ⟨6, _⟩ => ⟨S1536x128, .f32⟩
  | _, _ => ⟨S2x96x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_bias1" => some ((8388608 / 5463681 : ℝ) : EReal)
  | "inv_bias2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1536x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1536x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1536x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1536x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1536x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1536x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1536x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamCReferenceIdeal.lean ====
abbrev S2x96x16x64 : Shape := ⟨4, ![2, 96, 16, 64]⟩
abbrev S_ : Shape := ⟨0, ![]⟩
abbrev S1536x128 : Shape := ⟨2, ![1536, 128]⟩

abbrev nBuf : Space → Nat
  | .hbm => 40
  | .vmem => 0
  | .smem => 0
  | _ => 0

abbrev bufTy : (tb : Table) → Fin (tcTables nBuf tb) → BufTy
  | .hbm, ⟨0, _⟩ => ⟨S2x96x16x64, .f32⟩
  | .hbm, ⟨1, _⟩ => ⟨S2x96x16x64, .f32⟩
  | .hbm, ⟨2, _⟩ => ⟨S2x96x16x64, .f32⟩
  | .hbm, ⟨3, _⟩ => ⟨S2x96x16x64, .f32⟩
  | .hbm, ⟨4, _⟩ => ⟨S_, .f32⟩
  | .hbm, ⟨5, _⟩ => ⟨S2x96x16x64, .f32⟩
  | .hbm, ⟨6, _⟩ => ⟨S2x96x16x64, .f32⟩
  | .hbm, ⟨7, _⟩ => ⟨S_, .f32⟩
  | .hbm, ⟨8, _⟩ => ⟨S2x96x16x64, .f32⟩
  | .hbm, ⟨9, _⟩ => ⟨S2x96x16x64, .f32⟩
  | .hbm, ⟨10, _⟩ => ⟨S2x96x16x64, .f32⟩
  | .hbm, ⟨11, _⟩ => ⟨S_, .f32⟩
  | .hbm, ⟨12, _⟩ => ⟨S2x96x16x64, .f32⟩
  | .hbm, ⟨13, _⟩ => ⟨S2x96x16x64, .f32⟩
  | .hbm, ⟨14, _⟩ => ⟨S2x96x16x64, .f32⟩
  | .hbm, ⟨15, _⟩ => ⟨S_, .f32⟩
  | .hbm, ⟨16, _⟩ => ⟨S2x96x16x64, .f32⟩
  | .hbm, ⟨17, _⟩ => ⟨S2x96x16x64, .f32⟩
  | .hbm, ⟨18, _⟩ => ⟨S2x96x16x64, .f32⟩
  | .hbm, ⟨19, _⟩ => ⟨S_, .f32⟩
  | .hbm, ⟨20, _⟩ => ⟨S2x96x16x64, .f32⟩
  | .hbm, ⟨21, _⟩ => ⟨S2x96x16x64, .f32⟩
  | .hbm, ⟨22, _⟩ => ⟨S_, .f32⟩
  | .hbm, ⟨23, _⟩ => ⟨S2x96x16x64, .f32⟩
  | .hbm, ⟨24, _⟩ => ⟨S2x96x16x64, .f32⟩
  | .hbm, ⟨25, _⟩ => ⟨S2x96x16x64, .f32⟩
  | .hbm, ⟨26, _⟩ => ⟨S_, .f32⟩
  | .hbm, ⟨27, _⟩ => ⟨S2x96x16x64, .f32⟩
  | .hbm, ⟨28, _⟩ => ⟨S2x96x16x64, .f32⟩
  | .hbm, ⟨29, _⟩ => ⟨S2x96x16x64, .f32⟩
  | .hbm, ⟨30, _⟩ => ⟨S_, .f32⟩
  | .hbm, ⟨31, _⟩ => ⟨S2x96x16x64, .f32⟩
  | .hbm, ⟨32, _⟩ => ⟨S2x96x16x64, .f32⟩
  | .hbm, ⟨33, _⟩ => ⟨S2x96x16x64, .f32⟩
  | .hbm, ⟨34, _⟩ => ⟨S_, .f32⟩
  | .hbm, ⟨35, _⟩ => ⟨S2x96x16x64, .f32⟩
  | .hbm, ⟨36, _⟩ => ⟨S2x96x16x64, .f32⟩
  | .hbm, ⟨37, _⟩ => ⟨S1536x128, .f32⟩
  | .hbm, ⟨38, _⟩ => ⟨S1536x128, .f32⟩
  | .hbm, ⟨39, _⟩ => ⟨S1536x128, .f32⟩
  | _, _ => ⟨S2x96x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamD.lean ====
abbrev S2x384 : Shape := ⟨2, ![2, 384]⟩

abbrev nBuf : Space → Nat
  | .hbm => 7
  | .vmem => 7
  | .smem => 0
  | _ => 0

abbrev bufTy : (tb : Table) → Fin (tcTables nBuf tb) → BufTy
  | .hbm, ⟨0, _⟩ => ⟨S2x384, .f32⟩
  | .hbm, ⟨1, _⟩ => ⟨S2x384, .f32⟩
  | .hbm, ⟨2, _⟩ => ⟨S2x384, .f32⟩
  | .hbm, ⟨3, _⟩ => ⟨S2x384, .f32⟩
  | .hbm, ⟨4, _⟩ => ⟨S2x384, .f32⟩
  | .hbm, ⟨5, _⟩ => ⟨S2x384, .f32⟩
  | .hbm, ⟨6, _⟩ => ⟨S2x384, .f32⟩
  | .local _ .vmem, ⟨0, _⟩ => ⟨S2x384, .f32⟩
  | .local _ .vmem, ⟨1, _⟩ => ⟨S2x384, .f32⟩
  | .local _ .vmem, ⟨2, _⟩ => ⟨S2x384, .f32⟩
  | .local _ .vmem, ⟨3, _⟩ => ⟨S2x384, .f32⟩
  | .local _ .vmem, ⟨4, _⟩ => ⟨S2x384, .f32⟩
  | .local _ .vmem, ⟨5, _⟩ => ⟨S2x384, .f32⟩
  | .local _ .vmem, ⟨6, _⟩ => ⟨S2x384, .f32⟩
  | _, _ => ⟨S2x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamDIdeal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== AdamDReferenceIdeal.lean ====
abbrev S2x384 : Shape := ⟨2, ![2, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x384, .f32⟩
  | .hbm, ⟨1, _⟩ => ⟨S2x384, .f32⟩
  | .hbm, ⟨2, _⟩ => ⟨S2x384, .f32⟩
  | .hbm, ⟨3, _⟩ => ⟨S2x384, .f32⟩
  | .hbm, ⟨4, _⟩ => ⟨S_, .f32⟩
  | .hbm, ⟨5, _⟩ => ⟨S2x384, .f32⟩
  | .hbm, ⟨6, _⟩ => ⟨S2x384, .f32⟩
  | .hbm, ⟨7, _⟩ => ⟨S_, .f32⟩
  | .hbm, ⟨8, _⟩ => ⟨S2x384, .f32⟩
  | .hbm, ⟨9, _⟩ => ⟨S2x384, .f32⟩
  | .hbm, ⟨10, _⟩ => ⟨S2x384, .f32⟩
  | .hbm, ⟨11, _⟩ => ⟨S_, .f32⟩
  | .hbm, ⟨12, _⟩ => ⟨S2x384, .f32⟩
  | .hbm, ⟨13, _⟩ => ⟨S2x384, .f32⟩
  | .hbm, ⟨14, _⟩ => ⟨S2x384, .f32⟩
  | .hbm, ⟨15, _⟩ => ⟨S_, .f32⟩
  | .hbm, ⟨16, _⟩ => ⟨S2x384, .f32⟩
  | .hbm, ⟨17, _⟩ => ⟨S2x384, .f32⟩
  | .hbm, ⟨18, _⟩ => ⟨S2x384, .f32⟩
  | .hbm, ⟨19, _⟩ => ⟨S_, .f32⟩
  | .hbm, ⟨20, _⟩ => ⟨S2x384, .f32⟩
  | .hbm, ⟨21, _⟩ => ⟨S2x384, .f32⟩
  | .hbm, ⟨22, _⟩ => ⟨S_, .f32⟩
  | .hbm, ⟨23, _⟩ => ⟨S2x384, .f32⟩
  | .hbm, ⟨24, _⟩ => ⟨S2x384, .f32⟩
  | .hbm, ⟨25, _⟩ => ⟨S2x384, .f32⟩
  | .hbm, ⟨26, _⟩ => ⟨S_, .f32⟩
  | .hbm, ⟨27, _⟩ => ⟨S2x384, .f32⟩
  | .hbm, ⟨28, _⟩ => ⟨S2x384, .f32⟩
  | .hbm, ⟨29, _⟩ => ⟨S2x384, .f32⟩
  | .hbm, ⟨30, _⟩ => ⟨S_, .f32⟩
  | .hbm, ⟨31, _⟩ => ⟨S2x384, .f32⟩
  | .hbm, ⟨32, _⟩ => ⟨S2x384, .f32⟩
  | .hbm, ⟨33, _⟩ => ⟨S2x384, .f32⟩
  | .hbm, ⟨34, _⟩ => ⟨S_, .f32⟩
  | .hbm, ⟨35, _⟩ => ⟨S2x384, .f32⟩
  | .hbm, ⟨36, _⟩ => ⟨S2x384, .f32⟩
  | _, _ => ⟨S2x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Memnorm.lean ====
abbrev S256x2048 : Shape := ⟨2, ![256, 2048]⟩
abbrev S2048 : Shape := ⟨1, ![2048]⟩
abbrev S1x2048 : Shape := ⟨2, ![1, 2048]⟩
abbrev S256 : Shape := ⟨1, ![256]⟩
abbrev S256x1 : Shape := ⟨2, ![256, 1]⟩

abbrev nBuf : Space → Nat
  | .hbm => 4
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S1x2048, .f32⟩
  | .hbm, ⟨3, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== MemnormReferenceIdeal.lean ====
abbrev S256x2048 : Shape := ⟨2, ![256, 2048]⟩
abbrev S2048 : Shape := ⟨1, ![2048]⟩
abbrev S_ : Shape := ⟨0, ![]⟩
abbrev S256 : Shape := ⟨1, ![256]⟩
abbrev S256x1 : Shape := ⟨2, ![256, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S256x2048, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x2048, .f32⟩
  | .hbm, ⟨14, _⟩ => ⟨S256x2048, .f32⟩
  | .hbm, ⟨15, _⟩ => ⟨S1x2048, .f32⟩
  | .hbm, ⟨16, _⟩ => ⟨S256x2048, .f32⟩
  | .hbm, ⟨17, _⟩ => ⟨S256x2048, .f32⟩
  | .hbm, ⟨18, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Memkv.lean ====
abbrev S256x2048 : Shape := ⟨2, ![256, 2048]⟩
abbrev S4x2x512x1024 : Shape := ⟨4, ![4, 2, 512, 1024]⟩
abbrev S256x1024 : Shape := ⟨2, ![256, 1024]⟩
abbrev S256x512 : Shape := ⟨2, ![256, 512]⟩
abbrev S1x1x512x512 : Shape := ⟨4, ![1, 1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S256x2048, .bf16⟩
  | .hbm, ⟨1, _⟩ => ⟨S4x2x512x1024, .bf16⟩
  | .hbm, ⟨2, _⟩ => ⟨S256x1024, .f32⟩
  | .local _ .vmem, ⟨0, _⟩ => ⟨S256x512, .bf16⟩
  | .local _ .vmem, ⟨1, _⟩ => ⟨S256x512, .bf16⟩
  | .local _ .vmem, ⟨2, _⟩ => ⟨S1x1x512x512, .bf16⟩
  | .local _ .vmem, ⟨3, _⟩ => ⟨S1x1x512x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemkvReferenceIdeal.lean ====
abbrev S256x2048 : Shape := ⟨2, ![256, 2048]⟩
abbrev S4x2x512x1024 : Shape := ⟨4, ![4, 2, 512, 1024]⟩
abbrev S1x1x512x1024 : Shape := ⟨4, ![1, 1, 512, 1024]⟩
abbrev S512x1024 : Shape := ⟨2, ![512, 1024]⟩
abbrev S2048x1024 : Shape := ⟨2, ![2048, 1024]⟩
abbrev S256x1024 : Shape := ⟨2, ![256, 1024]⟩

abbrev nBuf : Space → Nat
  | .hbm => 14
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S4x2x512x1024, .bf16⟩
  | .hbm, ⟨2, _⟩ => ⟨S256x2048, .f32⟩
  | .hbm, ⟨3, _⟩ => ⟨S1x1x512x1024, .bf16⟩
  | .hbm, ⟨4, _⟩ => ⟨S512x1024, .bf16⟩
  | .hbm, ⟨5, _⟩ => ⟨S1x1x512x1024, .bf16⟩
  | .hbm, ⟨6, _⟩ => ⟨S512x1024, .bf16⟩
  | .hbm, ⟨7, _⟩ => ⟨S1x1x512x1024, .bf16⟩
  | .hbm, ⟨8, _⟩ => ⟨S512x1024, .bf16⟩
  | .hbm, ⟨9, _⟩ => ⟨S1x1x512x1024, .bf16⟩
  | .hbm, ⟨10, _⟩ => ⟨S512x1024, .bf16⟩
  | .hbm, ⟨11, _⟩ => ⟨S2048x1024, .bf16⟩
  | .hbm, ⟨12, _⟩ => ⟨S2048x1024, .f32⟩
  | .hbm, ⟨13, _⟩ => ⟨S256x1024, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Memkv0.lean ====
abbrev S256x2048 : Shape := ⟨2, ![256, 2048]⟩
abbrev S4x2x512x1024 : Shape := ⟨4, ![4, 2, 512, 1024]⟩
abbrev S256x1024 : Shape := ⟨2, ![256, 1024]⟩
abbrev S256x512 : Shape := ⟨2, ![256, 512]⟩
abbrev S1x1x512x512 : Shape := ⟨4, ![1, 1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S256x2048, .bf16⟩
  | .hbm, ⟨1, _⟩ => ⟨S4x2x512x1024, .bf16⟩
  | .hbm, ⟨2, _⟩ => ⟨S256x1024, .f32⟩
  | .local _ .vmem, ⟨0, _⟩ => ⟨S256x512, .bf16⟩
  | .local _ .vmem, ⟨1, _⟩ => ⟨S256x512, .bf16⟩
  | .local _ .vmem, ⟨2, _⟩ => ⟨S1x1x512x512, .bf16⟩
  | .local _ .vmem, ⟨3, _⟩ => ⟨S1x1x512x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Memkv0ReferenceIdeal.lean ====
abbrev S256x2048 : Shape := ⟨2, ![256, 2048]⟩
abbrev S4x2x512x1024 : Shape := ⟨4, ![4, 2, 512, 1024]⟩
abbrev S1x1x512x1024 : Shape := ⟨4, ![1, 1, 512, 1024]⟩
abbrev S512x1024 : Shape := ⟨2, ![512, 1024]⟩
abbrev S2048x1024 : Shape := ⟨2, ![2048, 1024]⟩
abbrev S256x1024 : Shape := ⟨2, ![256, 1024]⟩

abbrev nBuf : Space → Nat
  | .hbm => 14
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S4x2x512x1024, .bf16⟩
  | .hbm, ⟨2, _⟩ => ⟨S256x2048, .f32⟩
  | .hbm, ⟨3, _⟩ => ⟨S1x1x512x1024, .bf16⟩
  | .hbm, ⟨4, _⟩ => ⟨S512x1024, .bf16⟩
  | .hbm, ⟨5, _⟩ => ⟨S1x1x512x1024, .bf16⟩
  | .hbm, ⟨6, _⟩ => ⟨S512x1024, .bf16⟩
  | .hbm, ⟨7, _⟩ => ⟨S1x1x512x1024, .bf16⟩
  | .hbm, ⟨8, _⟩ => ⟨S512x1024, .bf16⟩
  | .hbm, ⟨9, _⟩ => ⟨S1x1x512x1024, .bf16⟩
  | .hbm, ⟨10, _⟩ => ⟨S512x1024, .bf16⟩
  | .hbm, ⟨11, _⟩ => ⟨S2048x1024, .bf16⟩
  | .hbm, ⟨12, _⟩ => ⟨S2048x1024, .f32⟩
  | .hbm, ⟨13, _⟩ => ⟨S256x1024, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Dwkv.lean ====
abbrev S256x2048 : Shape := ⟨2, ![256, 2048]⟩
abbrev S256x1024 : Shape := ⟨2, ![256, 1024]⟩
abbrev S2048x1024 : Shape := ⟨2, ![2048, 1024]⟩
abbrev S256x512 : Shape := ⟨2, ![256, 512]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S256x1024, .f32⟩
  | .hbm, ⟨2, _⟩ => ⟨S256x1024, .bf16⟩
  | .hbm, ⟨3, _⟩ => ⟨S2048x1024, .f32⟩
  | .local _ .vmem, ⟨0, _⟩ => ⟨S256x512, .bf16⟩
  | .local _ .vmem, ⟨1, _⟩ => ⟨S256x512, .bf16⟩
  | .local _ .vmem, ⟨2, _⟩ => ⟨S256x1024, .bf16⟩
  | .local _ .vmem, ⟨3, _⟩ => ⟨S512x1024, .f32⟩
  | .local _ .vmem, ⟨4, _⟩ => ⟨S512x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwkvReferenceIdeal.lean ====
abbrev S256x2048 : Shape := ⟨2, ![256, 2048]⟩
abbrev S256x1024 : Shape := ⟨2, ![256, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x1024, .f32⟩
  | .hbm, ⟨2, _⟩ => ⟨S_, .f32⟩
  | .hbm, ⟨3, _⟩ => ⟨S2048x1024, .f32⟩
  | .hbm, ⟨4, _⟩ => ⟨S256x2048, .f32⟩
  | .hbm, ⟨5, _⟩ => ⟨S256x1024, .f32⟩
  | .hbm, ⟨6, _⟩ => ⟨S1024x2048, .f32⟩
  | .hbm, ⟨7, _⟩ => ⟨S2048x1024, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dmemh.lean ====
abbrev S256x1024 : Shape := ⟨2, ![256, 1024]⟩
abbrev S4x2x512x1024 : Shape := ⟨4, ![4, 2, 512, 1024]⟩
abbrev S256x2048 : Shape := ⟨2, ![256, 2048]⟩
abbrev S1x1x512x1024 : Shape := ⟨4, ![1, 1, 512, 1024]⟩
abbrev S256x512 : Shape := ⟨2, ![256, 512]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S4x2x512x1024, .bf16⟩
  | .hbm, ⟨2, _⟩ => ⟨S256x1024, .bf16⟩
  | .hbm, ⟨3, _⟩ => ⟨S256x2048, .f32⟩
  | .local _ .vmem, ⟨0, _⟩ => ⟨S256x1024, .bf16⟩
  | .local _ .vmem, ⟨1, _⟩ => ⟨S1x1x512x1024, .bf16⟩
  | .local _ .vmem, ⟨2, _⟩ => ⟨S1x1x512x1024, .bf16⟩
  | .local _ .vmem, ⟨3, _⟩ => ⟨S256x512, .f32⟩
  | .local _ .vmem, ⟨4, _⟩ => ⟨S256x512, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmemhReferenceIdeal.lean ====
abbrev S256x1024 : Shape := ⟨2, ![256, 1024]⟩
abbrev S4x2x512x1024 : Shape := ⟨4, ![4, 2, 512, 1024]⟩
abbrev S_ : Shape := ⟨0, ![]⟩
abbrev S256x2048 : Shape := ⟨2, ![256, 2048]⟩
abbrev S1x1x512x1024 : Shape := ⟨4, ![1, 1, 512, 1024]⟩
abbrev S512x1024 : Shape := ⟨2, ![512, 1024]⟩
abbrev S2048x1024 : Shape := ⟨2, ![2048, 1024]⟩

abbrev nBuf : Space → Nat
  | .hbm => 16
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S4x2x512x1024, .bf16⟩
  | .hbm, ⟨2, _⟩ => ⟨S_, .f32⟩
  | .hbm, ⟨3, _⟩ => ⟨S256x2048, .f32⟩
  | .hbm, ⟨4, _⟩ => ⟨S1x1x512x1024, .bf16⟩
  | .hbm, ⟨5, _⟩ => ⟨S512x1024, .bf16⟩
  | .hbm, ⟨6, _⟩ => ⟨S1x1x512x1024, .bf16⟩
  | .hbm, ⟨7, _⟩ => ⟨S512x1024, .bf16⟩
  | .hbm, ⟨8, _⟩ => ⟨S1x1x512x1024, .bf16⟩
  | .hbm, ⟨9, _⟩ => ⟨S512x1024, .bf16⟩
  | .hbm, ⟨10, _⟩ => ⟨S1x1x512x1024, .bf16⟩
  | .hbm, ⟨11, _⟩ => ⟨S512x1024, .bf16⟩
  | .hbm, ⟨12, _⟩ => ⟨S2048x1024, .bf16⟩
  | .hbm, ⟨13, _⟩ => ⟨S2048x1024, .f32⟩
  | .hbm, ⟨14, _⟩ => ⟨S256x1024, .f32⟩
  | .hbm, ⟨15, _⟩ => ⟨S256x2048, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Dmemh0.lean ====
abbrev S256x1024 : Shape := ⟨2, ![256, 1024]⟩
abbrev S4x2x512x1024 : Shape := ⟨4, ![4, 2, 512, 1024]⟩
abbrev S256x2048 : Shape := ⟨2, ![256, 2048]⟩
abbrev S1x1x512x1024 : Shape := ⟨4, ![1, 1, 512, 1024]⟩
abbrev S256x512 : Shape := ⟨2, ![256, 512]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S4x2x512x1024, .bf16⟩
  | .hbm, ⟨2, _⟩ => ⟨S256x1024, .bf16⟩
  | .hbm, ⟨3, _⟩ => ⟨S256x2048, .f32⟩
  | .local _ .vmem, ⟨0, _⟩ => ⟨S256x1024, .bf16⟩
  | .local _ .vmem, ⟨1, _⟩ => ⟨S1x1x512x1024, .bf16⟩
  | .local _ .vmem, ⟨2, _⟩ => ⟨S1x1x512x1024, .bf16⟩
  | .local _ .vmem, ⟨3, _⟩ => ⟨S256x512, .f32⟩
  | .local _ .vmem, ⟨4, _⟩ => ⟨S256x512, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dmemh0ReferenceIdeal.lean ====
abbrev S256x1024 : Shape := ⟨2, ![256, 1024]⟩
abbrev S4x2x512x1024 : Shape := ⟨4, ![4, 2, 512, 1024]⟩
abbrev S_ : Shape := ⟨0, ![]⟩
abbrev S256x2048 : Shape := ⟨2, ![256, 2048]⟩
abbrev S1x1x512x1024 : Shape := ⟨4, ![1, 1, 512, 1024]⟩
abbrev S512x1024 : Shape := ⟨2, ![512, 1024]⟩
abbrev S2048x1024 : Shape := ⟨2, ![2048, 1024]⟩

abbrev nBuf : Space → Nat
  | .hbm => 16
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S4x2x512x1024, .bf16⟩
  | .hbm, ⟨2, _⟩ => ⟨S_, .f32⟩
  | .hbm, ⟨3, _⟩ => ⟨S256x2048, .f32⟩
  | .hbm, ⟨4, _⟩ => ⟨S1x1x512x1024, .bf16⟩
  | .hbm, ⟨5, _⟩ => ⟨S512x1024, .bf16⟩
  | .hbm, ⟨6, _⟩ => ⟨S1x1x512x1024, .bf16⟩
  | .hbm, ⟨7, _⟩ => ⟨S512x1024, .bf16⟩
  | .hbm, ⟨8, _⟩ => ⟨S1x1x512x1024, .bf16⟩
  | .hbm, ⟨9, _⟩ => ⟨S512x1024, .bf16⟩
  | .hbm, ⟨10, _⟩ => ⟨S1x1x512x1024, .bf16⟩
  | .hbm, ⟨11, _⟩ => ⟨S512x1024, .bf16⟩
  | .hbm, ⟨12, _⟩ => ⟨S2048x1024, .bf16⟩
  | .hbm, ⟨13, _⟩ => ⟨S2048x1024, .f32⟩
  | .hbm, ⟨14, _⟩ => ⟨S256x1024, .f32⟩
  | .hbm, ⟨15, _⟩ => ⟨S256x2048, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Dmemnorm.lean ====
abbrev S256x2048 : Shape := ⟨2, ![256, 2048]⟩
abbrev S2048 : Shape := ⟨1, ![2048]⟩
abbrev S1x2048 : Shape := ⟨2, ![1, 2048]⟩
abbrev S8x2048 : Shape := ⟨2, ![8, 2048]⟩
abbrev S256 : Shape := ⟨1, ![256]⟩
abbrev S256x1 : Shape := ⟨2, ![256, 1]⟩
abbrev S32x8x2048 : Shape := ⟨3, ![32, 8, 2048]⟩

abbrev nBuf : Space → Nat
  | .hbm => 5
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S2048, .f32⟩
  | .hbm, ⟨3, _⟩ => ⟨S1x2048, .f32⟩
  | .hbm, ⟨4, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S8x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def k0_cond3 (i : grid0.Coords) : BitVec 1 :=
  let arg0 : BitVec 32 := BitVec.ofNat 32 (i 0).val
  let c0_i32_9 : BitVec 32 := 0#32
  let v21 : BitVec 1 := Scalar.cmpi .eq arg0 c0_i32_9
  let v22 : BitVec 32 := Scalar.extui v21
  let c0_i32_10 : BitVec 32 := 0#32
  let v23 : BitVec 1 := Scalar.cmpi .ne v22 c0_i32_10
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== DmemnormReferenceIdeal.lean ====
abbrev S256x2048 : Shape := ⟨2, ![256, 2048]⟩
abbrev S2048 : Shape := ⟨1, ![2048]⟩
abbrev S_ : Shape := ⟨0, ![]⟩
abbrev S256 : Shape := ⟨1, ![256]⟩
abbrev S256x1 : Shape := ⟨2, ![256, 1]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x2048, .f32⟩
  | .hbm, ⟨15, _⟩ => ⟨S256x2048, .f32⟩
  | .hbm, ⟨16, _⟩ => ⟨S1x2048, .f32⟩
  | .hbm, ⟨17, _⟩ => ⟨S256x2048, .f32⟩
  | .hbm, ⟨18, _⟩ => ⟨S256x2048, .f32⟩
  | .hbm, ⟨19, _⟩ => ⟨S256x2048, .f32⟩
  | .hbm, ⟨20, _⟩ => ⟨S_, .f32⟩
  | .hbm, ⟨21, _⟩ => ⟨S2048, .f32⟩
  | .hbm, ⟨22, _⟩ => ⟨S1x2048, .f32⟩
  | .hbm, ⟨23, _⟩ => ⟨S_, .f32⟩
  | .hbm, ⟨24, _⟩ => ⟨S2048, .f32⟩
  | .hbm, ⟨25, _⟩ => ⟨S1x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Mem.lean ====
abbrev S8192x5120 : Shape := ⟨2, ![8192, 5120]⟩
abbrev S256x1024 : Shape := ⟨2, ![256, 1024]⟩
abbrev S128 : Shape := ⟨1, ![128]⟩
abbrev S1x128 : Shape := ⟨2, ![1, 128]⟩
abbrev S8192x512 : Shape := ⟨2, ![8192, 512]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S256x128 : Shape := ⟨2, ![256, 128]⟩
abbrev S256 : Shape := ⟨1, ![256]⟩
abbrev S256x1 : Shape := ⟨2, ![256, 1]⟩
abbrev S512x256 : Shape := ⟨2, ![512, 256]⟩

abbrev nBuf : Space → Nat
  | .hbm => 7
  | .vmem => 7
  | .smem => 0
  | _ => 0

abbrev bufTy : (tb : Table) → Fin (tcTables nBuf tb) → BufTy
  | .hbm, ⟨0, _⟩ => ⟨S8192x5120, .f32⟩
  | .hbm, ⟨1, _⟩ => ⟨S256x1024, .f32⟩
  | .hbm, ⟨2, _⟩ => ⟨S128, .f32⟩
  | .hbm, ⟨3, _⟩ => ⟨S128, .f32⟩
  | .hbm, ⟨4, _⟩ => ⟨S1x128, .f32⟩
  | .hbm, ⟨5, _⟩ => ⟨S1x128, .f32⟩
  | .hbm, ⟨6, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S256x1024, .f32⟩
  | .local _ .vmem, ⟨3, _⟩ => ⟨S1x128, .f32⟩
  | .local _ .vmem, ⟨4, _⟩ => ⟨S1x128, .f32⟩
  | .local _ .vmem, ⟨5, _⟩ => ⟨S512x512, .f32⟩
  | .local _ .vmem, ⟨6, _⟩ => ⟨S512x512, .f32⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemIdeal.lean ====
variable {F : FTy → Type} [FloatOps F] [Named F]
def κ : String → Option EReal := fun
  | "inv_root" => some ((1048576 / 11863283 : ℝ) : EReal)
  | _ => none
-- ==== MemReferenceIdeal.lean ====
abbrev S8192x5120 : Shape := ⟨2, ![8192, 5120]⟩
abbrev S256x1024 : Shape := ⟨2, ![256, 1024]⟩
abbrev S128 : Shape := ⟨1, ![128]⟩
abbrev S8192x512 : Shape := ⟨2, ![8192, 512]⟩
abbrev S256x512 : Shape := ⟨2, ![256, 512]⟩
abbrev S8192x4x128 : Shape := ⟨3, ![8192, 4, 128]⟩
abbrev S_ : Shape := ⟨0, ![]⟩
abbrev S8192x4 : Shape := ⟨2, ![8192, 4]⟩
abbrev S8192x4x1 : Shape := ⟨3, ![8192, 4, 1]⟩
abbrev S1x1x128 : Shape := ⟨3, ![1, 1, 128]⟩
abbrev S256x4x128 : Shape := ⟨3, ![256, 4, 128]⟩
abbrev S256x4 : Shape := ⟨2, ![256, 4]⟩
abbrev S256x4x1 : Shape := ⟨3, ![256, 4, 1]⟩
abbrev S4x8192x256 : Shape := ⟨3, ![4, 8192, 256]⟩
abbrev S4x8192 : Shape := ⟨2, ![4, 8192]⟩
abbrev S4x8192x1 : Shape := ⟨3, ![4, 8192, 1]⟩
abbrev S4x128x8192 : Shape := ⟨3, ![4, 128, 8192]⟩

abbrev nBuf : Space → Nat
  | .hbm => 63
  | .vmem => 0
  | .smem => 0
  | _ => 0

abbrev bufTy : (tb : Table) → Fin (tcTables nBuf tb) → BufTy
  | .hbm, ⟨0, _⟩ => ⟨S8192x5120, .f32⟩
  | .hbm, ⟨1, _⟩ => ⟨S256x1024, .f32⟩
  | .hbm, ⟨2, _⟩ => ⟨S128, .f32⟩
  | .hbm, ⟨3, _⟩ => ⟨S128, .f32⟩
  | .hbm, ⟨4, _⟩ => ⟨S8192x512, .f32⟩
  | .hbm, ⟨5, _⟩ => ⟨S256x512, .f32⟩
  | .hbm, ⟨6, _⟩ => ⟨S256x512, .f32⟩
  | .hbm, ⟨7, _⟩ => ⟨S8192x4x128, .f32⟩
  | .hbm, ⟨8, _⟩ => ⟨S8192x4x128, .f32⟩
  | .hbm, ⟨9, _⟩ => ⟨S_, .f32⟩
  | .hbm, ⟨10, _⟩ => ⟨S8192x4, .f32⟩
  | .hbm, ⟨11, _⟩ => ⟨S8192x4x1, .f32⟩
  | .hbm, ⟨12, _⟩ => ⟨S_, .f32⟩
  | .hbm, ⟨13, _⟩ => ⟨S8192x4x1, .f32⟩
  | .hbm, ⟨14, _⟩ => ⟨S8192x4x1, .f32⟩
  | .hbm, ⟨15, _⟩ => ⟨S_, .f32⟩
  | .hbm, ⟨16, _⟩ => ⟨S8192x4x1, .f32⟩
  | .hbm, ⟨17, _⟩ => ⟨S8192x4x1, .f32⟩
  | .hbm, ⟨18, _⟩ => ⟨S8192x4x1, .f32⟩
  | .hbm, ⟨19, _⟩ => ⟨S8192x4x128, .f32⟩
  | .hbm, ⟨20, _⟩ => ⟨S8192x4x128, .f32⟩
  | .hbm, ⟨21, _⟩ => ⟨S1x1x128, .f32⟩
  | .hbm, ⟨22, _⟩ => ⟨S8192x4x128, .f32⟩
  | .hbm, ⟨23, _⟩ => ⟨S8192x4x128, .f32⟩
  | .hbm, ⟨24, _⟩ => ⟨S256x4x128, .f32⟩
  | .hbm, ⟨25, _⟩ => ⟨S256x4x128, .f32⟩
  | .hbm, ⟨26, _⟩ => ⟨S_, .f32⟩
  | .hbm, ⟨27, _⟩ => ⟨S256x4, .f32⟩
  | .hbm, ⟨28, _⟩ => ⟨S256x4x1, .f32⟩
  | .hbm, ⟨29, _⟩ => ⟨S_, .f32⟩
  | .hbm, ⟨30, _⟩ => ⟨S256x4x1, .f32⟩
  | .hbm, ⟨31, _⟩ => ⟨S256x4x1, .f32⟩
  | .hbm, ⟨32, _⟩ => ⟨S_, .f32⟩
  | .hbm, ⟨33, _⟩ => ⟨S256x4x1, .f32⟩
  | .hbm, ⟨34, _⟩ => ⟨S256x4x1, .f32⟩
  | .hbm, ⟨35, _⟩ => ⟨S256x4x1, .f32⟩
  | .hbm, ⟨36, _⟩ => ⟨S256x4x128, .f32⟩
  | .hbm, ⟨37, _⟩ => ⟨S256x4x128, .f32⟩
  | .hbm, ⟨38, _⟩ => ⟨S1x1x128, .f32⟩
  | .hbm, ⟨39, _⟩ => ⟨S256x4x128, .f32⟩
  | .hbm, ⟨40, _⟩ => ⟨S256x4x128, .f32⟩
  | .hbm, ⟨41, _⟩ => ⟨S256x4x128, .f32⟩
  | .hbm, ⟨42, _⟩ => ⟨S4x8192x256, .f32⟩
  | .hbm, ⟨43, _⟩ => ⟨S_, .f32⟩
  | .hbm, ⟨44, _⟩ => ⟨S4x8192x256, .f32⟩
  | .hbm, ⟨45, _⟩ => ⟨S4x8192x256, .f32⟩
  | .hbm, ⟨46, _⟩ => ⟨S_, .f32⟩
  | .hbm, ⟨47, _⟩ => ⟨S4x8192, .f32⟩
  | .hbm, ⟨48, _⟩ => ⟨S_, .f32⟩
  | .hbm, ⟨49, _⟩ => ⟨S4x8192, .f32⟩
  | .hbm, ⟨50, _⟩ => ⟨S4x8192, .f32⟩
  | .hbm, ⟨51, _⟩ => ⟨S4x8192x1, .f32⟩
  | .hbm, ⟨52, _⟩ => ⟨S4x8192x256, .f32⟩
  | .hbm, ⟨53, _⟩ => ⟨S4x8192x256, .f32⟩
  | .hbm, ⟨54, _⟩ => ⟨S4x8192x256, .f32⟩
  | .hbm, ⟨55, _⟩ => ⟨S_, .f32⟩
  | .hbm, ⟨56, _⟩ => ⟨S4x8192, .f32⟩
  | .hbm, ⟨57, _⟩ => ⟨S4x8192x1, .f32⟩
  | .hbm, ⟨58, _⟩ => ⟨S4x8192x256, .f32⟩
  | .hbm, ⟨59, _⟩ => ⟨S4x8192x256, .f32⟩
  | .hbm, ⟨60, _⟩ => ⟨S4x128x8192, .f32⟩
  | .hbm, ⟨61, _⟩ => ⟨S8192x4x128, .f32⟩
  | .hbm, ⟨62, _⟩ => ⟨S8192x512, .f32⟩
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_8 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== Mems.lean ====
abbrev S8192x2048 : Shape := ⟨2, ![8192, 2048]⟩
abbrev S256x1024 : Shape := ⟨2, ![256, 1024]⟩
abbrev S128 : Shape := ⟨1, ![128]⟩
abbrev S1x128 : Shape := ⟨2, ![1, 128]⟩
abbrev S8192x512 : Shape := ⟨2, ![8192, 512]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S256x128 : Shape := ⟨2, ![256, 128]⟩
abbrev S256 : Shape := ⟨1, ![256]⟩
abbrev S256x1 : Shape := ⟨2, ![256, 1]⟩
abbrev S512x256 : Shape := ⟨2, ![512, 256]⟩

abbrev nBuf : Space → Nat
  | .hbm => 7
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S256x1024, .f32⟩
  | .hbm, ⟨2, _⟩ => ⟨S128, .f32⟩
  | .hbm, ⟨3, _⟩ => ⟨S128, .f32⟩
  | .hbm, ⟨4, _⟩ => ⟨S1x128, .f32⟩
  | .hbm, ⟨5, _⟩ => ⟨S1x128, .f32⟩
  | .hbm, ⟨6, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S256x1024, .f32⟩
  | .local _ .vmem, ⟨3, _⟩ => ⟨S1x128, .f32⟩
  | .local _ .vmem, ⟨4, _⟩ => ⟨S1x128, .f32⟩
  | .local _ .vmem, ⟨5, _⟩ => ⟨S512x512, .f32⟩
  | .local _ .vmem, ⟨6, _⟩ => ⟨S512x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemsIdeal.lean ====
variable {F : FTy → Type} [FloatOps F] [Named F]
def κ : String → Option EReal := fun
  | "inv_root" => some ((1048576 / 11863283 : ℝ) : EReal)
  | _ => none
-- ==== MemsReferenceIdeal.lean ====
abbrev S8192x2048 : Shape := ⟨2, ![8192, 2048]⟩
abbrev S256x1024 : Shape := ⟨2, ![256, 1024]⟩
abbrev S128 : Shape := ⟨1, ![128]⟩
abbrev S8192x512 : Shape := ⟨2, ![8192, 512]⟩
abbrev S256x512 : Shape := ⟨2, ![256, 512]⟩
abbrev S8192x4x128 : Shape := ⟨3, ![8192, 4, 128]⟩
abbrev S_ : Shape := ⟨0, ![]⟩
abbrev S8192x4 : Shape := ⟨2, ![8192, 4]⟩
abbrev S8192x4x1 : Shape := ⟨3, ![8192, 4, 1]⟩
abbrev S1x1x128 : Shape := ⟨3, ![1, 1, 128]⟩
abbrev S256x4x128 : Shape := ⟨3, ![256, 4, 128]⟩
abbrev S256x4 : Shape := ⟨2, ![256, 4]⟩
abbrev S256x4x1 : Shape := ⟨3, ![256, 4, 1]⟩
abbrev S4x8192x256 : Shape := ⟨3, ![4, 8192, 256]⟩
abbrev S4x8192 : Shape := ⟨2, ![4, 8192]⟩
abbrev S4x8192x1 : Shape := ⟨3, ![4, 8192, 1]⟩
abbrev S4x128x8192 : Shape := ⟨3, ![4, 128, 8192]⟩

abbrev nBuf : Space → Nat
  | .hbm => 63
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S256x1024, .f32⟩
  | .hbm, ⟨2, _⟩ => ⟨S128, .f32⟩
  | .hbm, ⟨3, _⟩ => ⟨S128, .f32⟩
  | .hbm, ⟨4, _⟩ => ⟨S8192x512, .f32⟩
  | .hbm, ⟨5, _⟩ => ⟨S256x512, .f32⟩
  | .hbm, ⟨6, _⟩ => ⟨S256x512, .f32⟩
  | .hbm, ⟨7, _⟩ => ⟨S8192x4x128, .f32⟩
  | .hbm, ⟨8, _⟩ => ⟨S8192x4x128, .f32⟩
  | .hbm, ⟨9, _⟩ => ⟨S_, .f32⟩
  | .hbm, ⟨10, _⟩ => ⟨S8192x4, .f32⟩
  | .hbm, ⟨11, _⟩ => ⟨S8192x4x1, .f32⟩
  | .hbm, ⟨12, _⟩ => ⟨S_, .f32⟩
  | .hbm, ⟨13, _⟩ => ⟨S8192x4x1, .f32⟩
  | .hbm, ⟨14, _⟩ => ⟨S8192x4x1, .f32⟩
  | .hbm, ⟨15, _⟩ => ⟨S_, .f32⟩
  | .hbm, ⟨16, _⟩ => ⟨S8192x4x1, .f32⟩
  | .hbm, ⟨17, _⟩ => ⟨S8192x4x1, .f32⟩
  | .hbm, ⟨18, _⟩ => ⟨S8192x4x1, .f32⟩
  | .hbm, ⟨19, _⟩ => ⟨S8192x4x128, .f32⟩
  | .hbm, ⟨20, _⟩ => ⟨S8192x4x128, .f32⟩
  | .hbm, ⟨21, _⟩ => ⟨S1x1x128, .f32⟩
  | .hbm, ⟨22, _⟩ => ⟨S8192x4x128, .f32⟩
  | .hbm, ⟨23, _⟩ => ⟨S8192x4x128, .f32⟩
  | .hbm, ⟨24, _⟩ => ⟨S256x4x128, .f32⟩
  | .hbm, ⟨25, _⟩ => ⟨S256x4x128, .f32⟩
  | .hbm, ⟨26, _⟩ => ⟨S_, .f32⟩
  | .hbm, ⟨27, _⟩ => ⟨S256x4, .f32⟩
  | .hbm, ⟨28, _⟩ => ⟨S256x4x1, .f32⟩
  | .hbm, ⟨29, _⟩ => ⟨S_, .f32⟩
  | .hbm, ⟨30, _⟩ => ⟨S256x4x1, .f32⟩
  | .hbm, ⟨31, _⟩ => ⟨S256x4x1, .f32⟩
  | .hbm, ⟨32, _⟩ => ⟨S_, .f32⟩
  | .hbm, ⟨33, _⟩ => ⟨S256x4x1, .f32⟩
  | .hbm, ⟨34, _⟩ => ⟨S256x4x1, .f32⟩
  | .hbm, ⟨35, _⟩ => ⟨S256x4x1, .f32⟩
  | .hbm, ⟨36, _⟩ => ⟨S256x4x128, .f32⟩
  | .hbm, ⟨37, _⟩ => ⟨S256x4x128, .f32⟩
  | .hbm, ⟨38, _⟩ => ⟨S1x1x128, .f32⟩
  | .hbm, ⟨39, _⟩ => ⟨S256x4x128, .f32⟩
  | .hbm, ⟨40, _⟩ => ⟨S256x4x128, .f32⟩
  | .hbm, ⟨41, _⟩ => ⟨S256x4x128, .f32⟩
  | .hbm, ⟨42, _⟩ => ⟨S4x8192x256, .f32⟩
  | .hbm, ⟨43, _⟩ => ⟨S_, .f32⟩
  | .hbm, ⟨44, _⟩ => ⟨S4x8192x256, .f32⟩
  | .hbm, ⟨45, _⟩ => ⟨S4x8192x256, .f32⟩
  | .hbm, ⟨46, _⟩ => ⟨S_, .f32⟩
  | .hbm, ⟨47, _⟩ => ⟨S4x8192, .f32⟩
  | .hbm, ⟨48, _⟩ => ⟨S_, .f32⟩
  | .hbm, ⟨49, _⟩ => ⟨S4x8192, .f32⟩
  | .hbm, ⟨50, _⟩ => ⟨S4x8192, .f32⟩
  | .hbm, ⟨51, _⟩ => ⟨S4x8192x1, .f32⟩
  | .hbm, ⟨52, _⟩ => ⟨S4x8192x256, .f32⟩
  | .hbm, ⟨53, _⟩ => ⟨S4x8192x256, .f32⟩
  | .hbm, ⟨54, _⟩ => ⟨S4x8192x256, .f32⟩
  | .hbm, ⟨55, _⟩ => ⟨S_, .f32⟩
  | .hbm, ⟨56, _⟩ => ⟨S4x8192, .f32⟩
  | .hbm, ⟨57, _⟩ => ⟨S4x8192x1, .f32⟩
  | .hbm, ⟨58, _⟩ => ⟨S4x8192x256, .f32⟩
  | .hbm, ⟨59, _⟩ => ⟨S4x8192x256, .f32⟩
  | .hbm, ⟨60, _⟩ => ⟨S4x128x8192, .f32⟩
  | .hbm, ⟨61, _⟩ => ⟨S8192x4x128, .f32⟩
  | .hbm, ⟨62, _⟩ => ⟨S8192x512, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_8 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== Proof.Model.lean ====
/- The stick-breaking attention of one head over the real numbers, and the tile identities the kernels' loops
   need: every sum over the keys cut at a block boundary. Nothing here is about a program. -/
module

public import Mathlib.Analysis.SpecialFunctions.Log.Basic
public import Mathlib.Algebra.BigOperators.Intervals

@[expose] public section

noncomputable section

namespace Cert.Attn

open Finset

/-- The logarithm of the logistic function, as the kernel writes it. -/
def lp (z : ℝ) : ℝ := min z 0 - Real.log (1 + Real.exp (0 - |z|))

/-- The logarithm of one minus the logistic function. -/
def ln (z : ℝ) : ℝ := lp z - z

/-- One head: its queries, keys, values and the gradient of its output, row by row, and the scale of the scores. -/
structure Head where
  q : ℕ → ℕ → ℝ
  k : ℕ → ℕ → ℝ
  v : ℕ → ℕ → ℝ
  g : ℕ → ℕ → ℝ
  s : ℝ

namespace Head

variable (H : Head)

/-- The score of query `t` at key `j`. -/
def z (t j : ℕ) : ℝ := (∑ d ∈ range 128, H.q t d * H.k j d) * H.s

/-- The logarithm of what is left of the stick at key `j`: zero where the key is not before the query. -/
def miss (t j : ℕ) : ℝ := if j < t then ln (H.z t j) else 0

/-- The weight of key `j` for query `t`. -/
def w (t j : ℕ) : ℝ := if j < t then Real.exp (lp (H.z t j) + ∑ i ∈ Ico (j + 1) 8192, H.miss t i) else 0

/-- The product of the output's gradient with a value row. -/
def gv (t j : ℕ) : ℝ := ∑ d ∈ range 128, H.g t d * H.v j d

/-- The gradient of the weight's logarithm. -/
def e (t j : ℕ) : ℝ := H.w t j * H.gv t j

/-- The gradient of the score. -/
def dz (t j : ℕ) : ℝ :=
  if j < t then H.e t j * (1 - Real.exp (lp (H.z t j))) - Real.exp (lp (H.z t j)) * ∑ i ∈ range j, H.e t i else 0

/-- The output. -/
def o (t d : ℕ) : ℝ := ∑ j ∈ range 8192, H.w t j * H.v j d
/-- The gradient of the queries. -/
def dq (t d : ℕ) : ℝ := ∑ j ∈ range 8192, H.dz t j * H.s * H.k j d
/-- The gradient of the keys. -/
def dk (j d : ℕ) : ℝ := ∑ t ∈ range 8192, H.dz t j * H.s * H.q t d
/-- The gradient of the values. -/
def dv (j d : ℕ) : ℝ := ∑ t ∈ range 8192, H.w t j * H.g t d

/-! ## The keys not before the query contribute nothing -/

theorem miss_eq_zero {t j : ℕ} (h : t ≤ j) : H.miss t j = 0 := if_neg (by omega)
theorem w_eq_zero {t j : ℕ} (h : t ≤ j) : H.w t j = 0 := if_neg (by omega)
theorem e_eq_zero {t j : ℕ} (h : t ≤ j) : H.e t j = 0 := by rw [e, H.w_eq_zero h, zero_mul]
theorem dz_eq_zero {t j : ℕ} (h : t ≤ j) : H.dz t j = 0 := if_neg (by omega)

end Head

/-! ## Cutting a sum over the keys at a block of 256 -/

/-- The keys from `b` on are the block at `b` and the keys after it. -/
theorem sum_block_up (f : ℕ → ℝ) {b : ℕ} (hb : b + 256 ≤ 8192) :
    ∑ i ∈ Ico b 8192, f i = ∑ i ∈ Ico (b + 256) 8192, f i + ∑ x ∈ range 256, f (b + x) := by
  rw [← sum_Ico_consecutive f (show b ≤ b + 256 by omega) hb, sum_Ico_eq_sum_range f b (b + 256),
    show b + 256 - b = 256 by omega, add_comm]

/-- The keys before the end of the block at `b` are those before `b` and the block's. -/
theorem sum_block_down (f : ℕ → ℝ) (b : ℕ) :
    ∑ i ∈ range (b + 256), f i = ∑ i ∈ range b, f i + ∑ x ∈ range 256, f (b + x) :=
  sum_range_add f b 256

/-- The keys after key `x` of the block at `b`: those after the block, and the block's later ones. -/
theorem sum_after (f : ℕ → ℝ) {b x : ℕ} (hb : b + 256 ≤ 8192) (hx : x < 256) :
    ∑ i ∈ Ico (b + x + 1) 8192, f i
      = ∑ i ∈ Ico (b + 256) 8192, f i + ∑ y ∈ range 256, f (b + y) * (if x < y then 1 else 0) := by
  rw [← sum_Ico_consecutive f (show b + x + 1 ≤ b + 256 by omega) hb, add_comm]
  congr 1
  rw [sum_Ico_eq_sum_range]
  simp only [mul_ite, mul_one, mul_zero]
  rw [← sum_filter, show (range 256).filter (fun y => x < y) = Ico (x + 1) 256 from by
    ext y; simp only [mem_filter, mem_range, mem_Ico]; omega, sum_Ico_eq_sum_range]
  rw [show b + 256 - (b + x + 1) = 256 - (x + 1) by omega]
  exact sum_congr rfl fun y _ => by rw [show b + x + 1 + y = b + (x + 1 + y) by omega]

/-- The keys before key `x` of the block at `b`: those before the block, and the block's earlier ones. -/
theorem sum_before (f : ℕ → ℝ) {b x : ℕ} (hx : x < 256) :
    ∑ i ∈ range (b + x), f i
      = ∑ i ∈ range b, f i + ∑ y ∈ range 256, f (b + y) * (if y < x then 1 else 0) := by
  rw [sum_range_add]
  congr 1
  simp only [mul_ite, mul_one, mul_zero]
  rw [← sum_filter, show (range 256).filter (fun y => y < x) = range x from by
    ext y; simp only [mem_filter, mem_range]; omega]

/-- From a block's end on: all keys without those before the block and without the block's. -/
theorem sum_rest (f : ℕ → ℝ) {b : ℕ} (hb : b + 256 ≤ 8192) :
    ∑ i ∈ range 8192, f i - ∑ i ∈ range b, f i - ∑ x ∈ range 256, f (b + x) = ∑ i ∈ Ico (b + 256) 8192, f i := by
  rw [← sum_range_add_sum_Ico f hb, sum_block_down]; ring

end Cert.Attn

end
-- ==== Proof.Tile.lean ====
/- One tile of the attention at the extended reals: the operations both kernels do on a block of 1024 queries and
   256 keys, and what each computes when its operands are real numbers. `msk` is the block's mask: the identity where
   the whole block lies before the queries, a select on "the key is before the query" elsewhere. -/
module

public import proofs.«01_k».proof.Proof.Model
public import proofs.«01_k».proof.Proof.Gen.KernelIdeal
public import Idealize.ShloMosaic.Lib.Pointwise

@[expose] public section

set_option maxRecDepth 16384

noncomputable section

namespace Cert.Attn

open Idealize.ShloMosaic Idealize.SL.Sem Cert.KernelIdeal Cert.KernelIdeal.Gen
open Idealize.ShloMosaic.Pointwise

/-! ## Real numbers among the extended reals -/

/-- The scale of the scores: the number the constant `0x3DB504F3` stands for. -/
def sc : ℝ := 11863283 / 134217728

theorem ofBits_sc : Ideal.ofBits .f32 0x3DB504F3#32 = ((sc : ℝ) : EReal) := by
  unfold sc
  simp [Ideal.ofBits, Ideal.ieee, -EReal.coe_mul]; norm_num

/-- A finite sum of reals, taken among the extended reals. -/
theorem sum_coe {n : ℕ} (f : Fin n → ℝ) : ∑ x, ((f x : ℝ) : EReal) = ((∑ x, f x : ℝ) : EReal) := by
  induction n with
  | zero => simp
  | succ n ih => rw [Fin.sum_univ_castSucc, Fin.sum_univ_castSucc, ih, EReal.coe_add]

theorem exp_coe (r : ℝ) : Ideal.exp (r : EReal) = ((Real.exp r : ℝ) : EReal) := rfl

theorem max_coe (a b : ℝ) : max (a : EReal) (b : EReal) = ((max a b : ℝ) : EReal) :=
  ((EReal.coe_strictMono.monotone).map_max).symm

theorem min_coe (a b : ℝ) : min (a : EReal) (b : EReal) = ((min a b : ℝ) : EReal) :=
  ((EReal.coe_strictMono.monotone).map_min).symm

/-- The absolute value of the extended reals as the kernel takes it. -/
def eabs (x : EReal) : EReal := FloatOps.absf (F := Ideal) (φ := FTy.f32) x

theorem absf_coe (r : ℝ) : eabs (r : EReal) = ((|r| : ℝ) : EReal) := by
  show max (r : EReal) (-(r : EReal)) = _
  rw [← EReal.coe_neg, abs_eq_max_neg]
  exact max_coe r (-r)

theorem min_coe_zero (r : ℝ) : min (r : EReal) 0 = ((min r 0 : ℝ) : EReal) := by
  rw [← EReal.coe_zero]; exact min_coe r 0

/-- The kernel's log of the logistic, at a real score. -/
theorem lp_coe (z : ℝ) :
    min (z : EReal) 0 - Ideal.log (1 + Ideal.exp (0 - eabs (z : EReal))) = ((lp z : ℝ) : EReal) := by
  rw [absf_coe, min_coe_zero, show (0 : EReal) - ((|z| : ℝ) : EReal) = ((0 - |z| : ℝ) : EReal) by rw [EReal.coe_sub, EReal.coe_zero],
    exp_coe, show (1 : EReal) + ((Real.exp (0 - |z|) : ℝ) : EReal) = ((1 + Real.exp (0 - |z|) : ℝ) : EReal) by rw [EReal.coe_add, EReal.coe_one],
    Ideal.log_coe, if_neg (by have := Real.exp_pos (0 - |z|); linarith)]
  rfl

/-! ## The operations -/

/-- A mask: what lies before its query stays, the rest is zero. -/
def Masks (msk : FVec Ideal S1024x256 .f32 → FVec Ideal S1024x256 .f32) (T b : ℕ) : Prop :=
  ∀ x (r : Fin 1024) (c : Fin 256), msk x (ix2 r c) = if b + c.val < T + r.val then x (ix2 r c) else 0

/-- A block that lies before all its queries needs no mask. -/
theorem masks_id {T b : ℕ} (h : b + 256 ≤ T) : Masks (fun x => x) T b := fun x r c => by
  rw [if_pos (by have := c.isLt; omega)]

/-- The mask by a comparison. -/
theorem masks_select {T b : ℕ} (valid : IVec S1024x256 1) (hv : ∀ r c, valid (ix2 r c) = 1#1 ↔ b + c.val < T + r.val) :
    Masks (fun x => select valid x (broadcast S1024x256 (Scalar.ofBits .f32 0x00000000#32))) T b := fun x r c => by
  pointwise
  by_cases h : b + c.val < T + r.val
  · rw [if_pos h, (hv r c).mpr h]; rfl
  · rw [if_neg h, show valid (ix2 r c) = 0#1 from by
      have := (hv r c).not.mpr h
      revert this
      generalize valid (ix2 r c) = y
      revert y; decide]
    rfl

variable (msk : FVec Ideal S1024x256 .f32 → FVec Ideal S1024x256 .f32)

/-- The scores. -/
def tZ (q : FVec Ideal S1024x128 .bf16) (k : FVec Ideal S256x128 .bf16) : FVec Ideal S1024x256 .f32 :=
  mulf (matmul dot_S1024x128_S256x128_S1024x256_1_1_0_0_n_n none q k (constant S1024x256 .f32 0x00000000#32))
    (broadcast S1024x256 (Scalar.ofBits .f32 0x3DB504F3#32))

/-- The logarithm of the logistic function of the scores. -/
def tLp (z : FVec Ideal S1024x256 .f32) : FVec Ideal S1024x256 .f32 :=
  subf (minimumf z (broadcast S1024x256 (Scalar.ofBits .f32 0x00000000#32)))
    (log (addf (broadcast S1024x256 (Scalar.ofBits .f32 0x3F800000#32))
      (exp (subf (broadcast S1024x256 (Scalar.ofBits .f32 0x00000000#32)) (absf z)))))

/-- The masked logarithm of one minus the logistic function. -/
def tLn (z : FVec Ideal S1024x256 .f32) : FVec Ideal S1024x256 .f32 := msk (subf (tLp z) z)

/-- A product with a matrix of zeros and ones, in two parts of half the width. -/
def tTri (x : FVec Ideal S1024x256 .f32) (tri : FVec Ideal S256x256 .bf16) : FVec Ideal S1024x256 .f32 :=
  addf (matmul dot_S1024x256_S256x256_S1024x256_1_0_0_1_n_n none (truncf .bf16 x bitsLt_bf16_f32) tri (constant S1024x256 .f32 0x00000000#32))
    (matmul dot_S1024x256_S256x256_S1024x256_1_0_0_1_n_n none
      (truncf .bf16 (subf x (extf .f32 (truncf .bf16 x bitsLt_bf16_f32) bitsLt_bf16_f32)) bitsLt_bf16_f32) tri (constant S1024x256 .f32 0x00000000#32))

/-- The sum of each row. -/
def tRow (x : FVec Ideal S1024x256 .f32) : FVec Ideal S1024x1 .f32 :=
  shapeCast S1024x1 (multiReduction .add [1] S1024 x 0x00000000#32 reduces_S1024x256_S1024 (.inl rfl) rfl) shapeCasts_S1024_S1024x1

/-- The weights, `c` holding the sum over the later blocks. -/
def tW (z : FVec Ideal S1024x256 .f32) (c : FVec Ideal S1024x1 .f32) (tri : FVec Ideal S256x256 .bf16) : FVec Ideal S1024x256 .f32 :=
  msk (exp (addf (tLp z) (addf (broadcastTo S1024x256 c broadcasts_S1024x1_S1024x256) (tTri (tLn msk z) tri))))

/-- The product of the output's gradient with the values. -/
def tGv (g : FVec Ideal S1024x128 .bf16) (v : FVec Ideal S256x128 .bf16) : FVec Ideal S1024x256 .f32 :=
  matmul dot_S1024x128_S256x128_S1024x256_1_1_0_0_n_n none g v (constant S1024x256 .f32 0x00000000#32)

/-- The scaled gradient of the scores. -/
def tDz (z e : FVec Ideal S1024x256 .f32) (pe : FVec Ideal S1024x1 .f32) (tri : FVec Ideal S256x256 .bf16) : FVec Ideal S1024x256 .bf16 :=
  truncf .bf16 (mulf (msk (subf (mulf e (subf (broadcast S1024x256 (Scalar.ofBits .f32 0x3F800000#32)) (exp (tLp z))))
      (mulf (exp (tLp z)) (addf (broadcastTo S1024x256 pe broadcasts_S1024x1_S1024x256) (tTri e tri)))))
    (broadcast S1024x256 (Scalar.ofBits .f32 0x3DB504F3#32))) bitsLt_bf16_f32

/-- A block of rows of 128 gains a product over the keys. -/
def tAcc (acc : FVec Ideal S1024x128 .f32) (x : FVec Ideal S1024x256 .bf16) (k : FVec Ideal S256x128 .bf16) : FVec Ideal S1024x128 .f32 :=
  addf acc (matmul dot_S1024x256_S256x128_S1024x128_1_0_0_1_n_n none x k (constant S1024x128 .f32 0x00000000#32))

/-- A block of keys' rows gains a product over the queries. -/
def tAccT (old : FVec Ideal S256x128 .f32) (x : FVec Ideal S1024x256 .bf16) (q : FVec Ideal S1024x128 .bf16) : FVec Ideal S256x128 .f32 :=
  addf (shapeCast S256x128 old shapeCasts_S256x128_S256x128)
    (matmul dot_S1024x256_S1024x128_S256x128_0_0_1_1_n_n none x q (constant S256x128 .f32 0x00000000#32))

/-! ## The operations at real operands -/

theorem tZ_apply (q k r c) : tZ q k (ix2 r c) = (∑ d, q (ix2 r d) * k (ix2 c d)) * ((sc : ℝ) : EReal) := by
  pointwise [tZ]
  rw [ofBits_sc]

theorem tLp_coe (z) (r : Fin 1024) (c : Fin 256) (f : ℝ) (h : z (ix2 r c) = ((f : ℝ) : EReal)) : tLp z (ix2 r c) = ((lp f : ℝ) : EReal) := by
  pointwise [tLp]
  rw [h]; exact lp_coe f

theorem tRow_coe (x) (r : Fin 1024) (f : Fin 256 → ℝ) (h : ∀ c, x (ix2 r c) = ((f c : ℝ) : EReal)) :
    tRow x (ix2 r 0) = ((∑ c, f c : ℝ) : EReal) := by
  pointwise [tRow]
  rw [← sum_coe]
  exact Finset.sum_congr rfl fun c _ => h c

theorem tTri_coe (x tri) (r : Fin 1024) (c : Fin 256) (f g : Fin 256 → ℝ) (h : ∀ y, x (ix2 r y) = ((f y : ℝ) : EReal))
    (ht : ∀ y, tri (ix2 y c) = ((g y : ℝ) : EReal)) : tTri x tri (ix2 r c) = ((∑ y, f y * g y : ℝ) : EReal) := by
  pointwise [tTri]
  simp only [h, ht, ← EReal.coe_sub, sub_self, ← EReal.coe_mul, zero_mul, sum_coe, Finset.sum_const_zero, ← EReal.coe_add, add_zero]

theorem tGv_coe (g v) (r : Fin 1024) (c : Fin 256) (f f' : Fin 128 → ℝ) (h : ∀ y, g (ix2 r y) = ((f y : ℝ) : EReal))
    (h' : ∀ y, v (ix2 c y) = ((f' y : ℝ) : EReal)) : tGv g v (ix2 r c) = ((∑ y, f y * f' y : ℝ) : EReal) := by
  pointwise [tGv]
  simp only [h, h', ← EReal.coe_mul, sum_coe]

theorem tAcc_coe (acc x k) (r : Fin 1024) (d : Fin 128) (a : ℝ) (f g : Fin 256 → ℝ) (ha : acc (ix2 r d) = ((a : ℝ) : EReal))
    (h : ∀ y, x (ix2 r y) = ((f y : ℝ) : EReal)) (hk : ∀ y, k (ix2 y d) = ((g y : ℝ) : EReal)) :
    tAcc acc x k (ix2 r d) = ((a + ∑ y, f y * g y : ℝ) : EReal) := by
  pointwise [tAcc]
  simp only [h, hk, ha, ← EReal.coe_mul, sum_coe, ← EReal.coe_add]

theorem tAccT_coe (old x q) (c : Fin 256) (d : Fin 128) (a : ℝ) (f g : Fin 1024 → ℝ) (ha : old (ix2 c d) = ((a : ℝ) : EReal))
    (h : ∀ y, x (ix2 y c) = ((f y : ℝ) : EReal)) (hq : ∀ y, q (ix2 y d) = ((g y : ℝ) : EReal)) :
    tAccT old x q (ix2 c d) = ((a + ∑ y, f y * g y : ℝ) : EReal) := by
  pointwise [tAccT]
  simp only [h, hq, ha, ← EReal.coe_mul, sum_coe, ← EReal.coe_add]

end Cert.Attn

end
-- ==== Proof.Step.lean ====
/- What one tile of the two kernels' loops does to the running quantities, against the attention over the reals:
   the sums over the keys before or after a block become those of the next block. -/
module

public import proofs.«01_k».proof.Proof.Tile

@[expose] public section

set_option maxRecDepth 16384

noncomputable section

namespace Cert.Attn

open Finset Idealize.ShloMosaic Idealize.SL.Sem Cert.KernelIdeal Cert.KernelIdeal.Gen

/-- A block holds the real numbers `f row column`. -/
def Is {n m : ℕ} (x : (⟨2, ![n, m]⟩ : Shape).Idx → EReal) (f : ℕ → ℕ → ℝ) : Prop :=
  ∀ (r : Fin n) (c : Fin m), x (ix2 r c) = ((f r.val c.val : ℝ) : EReal)

theorem Is.congr {n m : ℕ} {x : (⟨2, ![n, m]⟩ : Shape).Idx → EReal} {f f' : ℕ → ℕ → ℝ} (h : Is x f)
    (hf : ∀ r c, r < n → c < m → f r c = f' r c) : Is x f' := fun r c => by rw [h r c, hf _ _ r.isLt c.isLt]

variable {msk : FVec Ideal S1024x256 .f32 → FVec Ideal S1024x256 .f32} {T b : ℕ} {H : Head}
  {q g : FVec Ideal S1024x128 .bf16} {kb vb : FVec Ideal S256x128 .bf16} {tri tri' : FVec Ideal S256x256 .bf16}
  {z w e : FVec Ideal S1024x256 .f32} {c : FVec Ideal S1024x1 .f32}

theorem is_tZ (hs : H.s = sc) (hq : Is q fun r d => H.q (T + r) d) (hk : Is kb fun j d => H.k (b + j) d) :
    Is (tZ q kb) fun r j => H.z (T + r) (b + j) := fun r j => by
  rw [tZ_apply]
  simp only [hq r _, hk j _, ← EReal.coe_mul, sum_coe]
  rw [Head.z, hs, sum_range]

theorem is_tLn (hm : Masks msk T b) (hz : Is z fun r j => H.z (T + r) (b + j)) :
    Is (tLn msk z) fun r j => H.miss (T + r) (b + j) := fun r j => by
  beta_reduce; rw [tLn, hm, Head.miss]
  split
  · show tLp z (ix2 r j) - z (ix2 r j) = _
    rw [tLp_coe z r j _ (hz r j), hz r j, ← EReal.coe_sub]; rfl
  · rfl

theorem is_tRow {f : ℕ → ℕ → ℝ} (hx : Is w f) : Is (tRow w) fun r _ => ∑ y ∈ range 256, f r y := fun r j => by
  beta_reduce; rw [Subsingleton.elim j 0, tRow_coe w r (fun y => f r.val y.val) (hx r), sum_range]

theorem is_tW (hb : b + 256 ≤ 8192) (hm : Masks msk T b) (hz : Is z fun r j => H.z (T + r) (b + j))
    (hc : Is c fun r _ => ∑ i ∈ Ico (b + 256) 8192, H.miss (T + r) i)
    (ht : Is tri fun y x => if x < y then 1 else 0) :
    Is (tW msk z c tri) fun r j => H.w (T + r) (b + j) := fun r j => by
  beta_reduce; rw [tW, hm, Head.w]
  split
  · show Ideal.exp (tLp z (ix2 r j) + (broadcastTo S1024x256 c broadcasts_S1024x1_S1024x256 (ix2 r j) + tTri (tLn msk z) tri (ix2 r j))) = _
    rw [tLp_coe z r j _ (hz r j), tTri_coe _ _ r j _ _ (fun y => is_tLn hm hz r y) (fun y => ht y j),
      show broadcastTo S1024x256 c broadcasts_S1024x1_S1024x256 (ix2 r j) = c (ix2 r 0) by pointwise, hc r 0, ← EReal.coe_add, ← EReal.coe_add, exp_coe,
      sum_after (H.miss (T + r.val)) hb j.isLt, sum_range (n := 256)]
  · rfl

theorem is_e (hw : Is w fun r j => H.w (T + r) (b + j)) (hg : Is g fun r d => H.g (T + r) d) (hv : Is vb fun j d => H.v (b + j) d) :
    Is (mulf w (tGv g vb)) fun r j => H.e (T + r) (b + j) := fun r j => by
  show w (ix2 r j) * tGv g vb (ix2 r j) = _
  rw [hw r j, tGv_coe _ _ r j _ _ (hg r) (hv j)]; beta_reduce; rw [← EReal.coe_mul, Head.e, Head.gv, sum_range]

theorem is_tDz (hs : H.s = sc) (hm : Masks msk T b) (hz : Is z fun r j => H.z (T + r) (b + j)) (he : Is e fun r j => H.e (T + r) (b + j))
    (hc : Is c fun r _ => ∑ i ∈ range b, H.e (T + r) i) (ht : Is tri' fun y x => if y < x then 1 else 0) :
    Is (tDz msk z e c tri') fun r j => H.dz (T + r) (b + j) * H.s := fun r j => by
  show msk _ (ix2 r j) * Ideal.ofBits .f32 0x3DB504F3#32 = _
  beta_reduce; rw [hm, Head.dz, ofBits_sc, hs]
  split
  · show (e (ix2 r j) * (Ideal.ofBits .f32 0x3F800000#32 - Ideal.exp (tLp z (ix2 r j)))
      - Ideal.exp (tLp z (ix2 r j)) * (broadcastTo S1024x256 c broadcasts_S1024x1_S1024x256 (ix2 r j) + tTri e tri' (ix2 r j))) * _ = _
    rw [he r j, tLp_coe z r j _ (hz r j), exp_coe, tTri_coe _ _ r j _ _ (he r) (fun y => ht y j),
      show broadcastTo S1024x256 c broadcasts_S1024x1_S1024x256 (ix2 r j) = c (ix2 r 0) by pointwise, hc r 0, Ideal.ofBits_one_f32, ← EReal.coe_one,
      sum_before (H.e (T + r.val)) j.isLt, sum_range (n := 256)]
    simp only [← EReal.coe_add, ← EReal.coe_sub, ← EReal.coe_mul]
  · rw [EReal.coe_mul, EReal.coe_zero]

/-- A sum over the keys from the end grows by a block. -/
theorem is_tAcc_up {acc : FVec Ideal S1024x128 .f32} {x : FVec Ideal S1024x256 .bf16} {f g : ℕ → ℕ → ℝ} (hb : b + 256 ≤ 8192)
    (ha : Is acc fun r d => ∑ j ∈ Ico (b + 256) 8192, f (T + r) j * g j d) (hx : Is x fun r j => f (T + r) (b + j))
    (hk : Is kb fun j d => g (b + j) d) :
    Is (tAcc acc x kb) fun r d => ∑ j ∈ Ico b 8192, f (T + r) j * g j d := fun r d => by
  rw [tAcc_coe _ _ _ r d _ _ _ (ha r d) (hx r) (fun y => hk y d)]; beta_reduce; rw [sum_block_up _ hb, sum_range (n := 256)]

/-- A sum over the keys from the beginning grows by a block. -/
theorem is_tAcc_down {acc : FVec Ideal S1024x128 .f32} {x : FVec Ideal S1024x256 .bf16} {f g : ℕ → ℕ → ℝ}
    (ha : Is acc fun r d => ∑ j ∈ range b, f (T + r) j * g j d) (hx : Is x fun r j => f (T + r) (b + j))
    (hk : Is kb fun j d => g (b + j) d) :
    Is (tAcc acc x kb) fun r d => ∑ j ∈ range (b + 256), f (T + r) j * g j d := fun r d => by
  rw [tAcc_coe _ _ _ r d _ _ _ (ha r d) (hx r) (fun y => hk y d)]; beta_reduce; rw [sum_block_down, sum_range (n := 256)]

/-- The rows of a block of keys gain the products of 1024 queries. -/
theorem is_tAccT {old : FVec Ideal S256x128 .f32} {x : FVec Ideal S1024x256 .bf16} {f g D : ℕ → ℕ → ℝ}
    (ho : Is old fun j d => D (b + j) d) (hx : Is x fun r j => f (T + r) (b + j)) (hq : Is q fun r d => g (T + r) d) :
    Is (tAccT old x q) fun j d => D (b + j) d + ∑ r ∈ range 1024, f (T + r) (b + j) * g (T + r) d := fun j d => by
  rw [tAccT_coe _ _ _ j d _ _ _ (ho j d) (fun y => hx y j) (fun y => hq y d)]; beta_reduce; rw [sum_range (n := 1024)]

/-- The running sum of the masked logarithms from the end. -/
theorem is_carry_up {f : ℕ → ℕ → ℝ} (hb : b + 256 ≤ 8192) (hc : Is c fun r _ => ∑ i ∈ Ico (b + 256) 8192, f (T + r) i)
    (hx : Is w fun r j => f (T + r) (b + j)) : Is (addf c (tRow w)) fun r _ => ∑ i ∈ Ico b 8192, f (T + r) i := fun r d => by
  show c (ix2 r d) + tRow w (ix2 r d) = _
  rw [hc r d, is_tRow hx r d]; beta_reduce; rw [← EReal.coe_add, sum_block_up _ hb]

/-- The same from the beginning. -/
theorem is_carry_down {f : ℕ → ℕ → ℝ} (hc : Is c fun r _ => ∑ i ∈ range b, f (T + r) i)
    (hx : Is w fun r j => f (T + r) (b + j)) : Is (addf c (tRow w)) fun r _ => ∑ i ∈ range (b + 256), f (T + r) i := fun r d => by
  show c (ix2 r d) + tRow w (ix2 r d) = _
  rw [hc r d, is_tRow hx r d]; beta_reduce; rw [← EReal.coe_add, sum_block_down _ b]

/-- The sum after a block: the total, less the sum before the block, less the block's own. -/
theorem is_rest {f : ℕ → ℕ → ℝ} {tot : FVec Ideal S1024x1 .f32} (hb : b + 256 ≤ 8192)
    (ht : Is tot fun r _ => ∑ i ∈ range 8192, f (T + r) i) (hc : Is c fun r _ => ∑ i ∈ range b, f (T + r) i)
    (hx : Is w fun r j => f (T + r) (b + j)) :
    Is (subf (subf tot c) (tRow w)) fun r _ => ∑ i ∈ Ico (b + 256) 8192, f (T + r) i := fun r d => by
  show tot (ix2 r d) - c (ix2 r d) - tRow w (ix2 r d) = _
  rw [ht r d, hc r d, is_tRow hx r d]; beta_reduce; rw [← EReal.coe_sub, ← EReal.coe_sub, sum_rest _ hb]

end Cert.Attn

end
-- ==== Proof.Blocks.lean ====
/- The blocks the two kernels read, at an index: which entries of the argument arrays they are. -/
module

public import proofs.«01_k».proof.Proof.Step
public import proofs.«01_k».proof.Proof.Gen.KernelIdeal.Frame
import Idealize.ShloMosaic.Lib.Pipeline.ValueKit
import Idealize.ShloMosaic.Lib.Affine

@[expose] public section

set_option maxRecDepth 16384

noncomputable section

namespace Cert.Attn

open Finset Idealize.ShloMosaic Idealize.ShloMosaic.TcCoe Idealize.SL.Sem Cert.KernelIdeal Cert.KernelIdeal.Gen
open Idealize.ShloMosaic.Pointwise

variable (V : (c : Dev nD) → (b : Ref sig .tc) → Buf (Elt Ideal) ((c : Thread nD τ).loc b))

/-- The grid point's coordinates: the head, and the tile of queries. -/
theorem co0 : ∀ t : Fin grid0.N, ((grid0.coords t) 0).val = t.val / 8 ∧ ((grid0.coords t) 1).val = t.val % 8 := by decide +kernel
theorem co1 : ∀ t : Fin grid1.N, ((grid1.coords t) 0).val = t.val / 8 ∧ ((grid1.coords t) 1).val = t.val % 8 := by decide +kernel

theorem ix0_0 : ∀ t : Fin grid0.N, win0_0.index t = ![t.val % 8, t.val / 8] := by decide +kernel
theorem ix0_1 : ∀ t : Fin grid0.N, win0_1.index t = ![0, 12 + t.val / 8] := by decide +kernel
theorem ix0_2 : ∀ t : Fin grid0.N, win0_2.index t = ![0, 24 + t.val / 8] := by decide +kernel
theorem ix0_3 : ∀ t : Fin grid0.N, win0_3.index t = ![t.val % 8, t.val / 8] := by decide +kernel
theorem ix0_4 : ∀ t : Fin grid0.N, win0_4.index t = ![t.val % 8, t.val / 8] := by decide +kernel
theorem ix1_0 : ∀ t : Fin grid1.N, win1_0.index t = ![t.val % 8, t.val / 8] := by decide +kernel
theorem ix1_1 : ∀ t : Fin grid1.N, win1_1.index t = ![0, 12 + t.val / 8] := by decide +kernel
theorem ix1_2 : ∀ t : Fin grid1.N, win1_2.index t = ![0, 24 + t.val / 8] := by decide +kernel
theorem ix1_3 : ∀ t : Fin grid1.N, win1_3.index t = ![t.val % 8, t.val / 8] := by decide +kernel
theorem ix1_4 : ∀ t : Fin grid1.N, win1_4.index t = ![t.val % 8, t.val / 8] := by decide +kernel
theorem ix1_5 : ∀ t : Fin grid1.N, win1_5.index t = ![t.val % 8, t.val / 8] := by decide +kernel
theorem ix1_6 : ∀ t : Fin grid1.N, win1_6.index t = ![0, t.val / 8] := by decide +kernel
theorem ix1_7 : ∀ t : Fin grid1.N, win1_7.index t = ![0, t.val / 8] := by decide +kernel

/-- An array's entries as a table of reals. -/
def Tab {n m : ℕ} (X : Vec Ideal ⟨2, ![n, m]⟩ .f32) (f : ℕ → ℕ → ℝ) : Prop := ∀ y, X y = ((f (y 0).val (y 1).val : ℝ) : EReal)

theorem Tab.is {n m : ℕ} {X : Vec Ideal ⟨2, ![n, m]⟩ .f32} {f : ℕ → ℕ → ℝ} (h : Tab X f) : Is (n := n) (m := m) X f := fun r c => h _

theorem is_blk0_0 (c : Dev nD) (t : Fin cfg0.N) {f : ℕ → ℕ → ℝ} (h : Tab (V c main_arg0) f) :
    Is (n := 1024) (m := 128) (iblk0 V c 0 t) fun r d => f (1024 * (t.val % 8) + r) (128 * (t.val / 8) + d) := fun r d => by
  blk_simp [iblk0]
  refine (h _).trans ?_
  blk_simp [ix0_0]
  simp only [Nat.mul_comm]

theorem is_blk0_1 (c : Dev nD) (t : Fin cfg0.N) {f : ℕ → ℕ → ℝ} (h : Tab (V c main_arg0) f) :
    Is (n := 8192) (m := 128) (iblk0 V c 1 t) fun r d => f (r) (128 * (12 + t.val / 8) + d) := fun r d => by
  blk_simp [iblk0]
  refine (h _).trans ?_
  blk_simp [ix0_1]
  simp only [Nat.mul_comm, Nat.zero_mul, Nat.mul_zero, Nat.zero_add]

theorem is_blk0_2 (c : Dev nD) (t : Fin cfg0.N) {f : ℕ → ℕ → ℝ} (h : Tab (V c main_arg0) f) :
    Is (n := 8192) (m := 128) (iblk0 V c 2 t) fun r d => f (r) (128 * (24 + t.val / 8) + d) := fun r d => by
  blk_simp [iblk0]
  refine (h _).trans ?_
  blk_simp [ix0_2]
  simp only [Nat.mul_comm, Nat.zero_mul, Nat.mul_zero, Nat.zero_add]

theorem is_blk1_0 (c : Dev nD) (t : Fin cfg1.N) {f : ℕ → ℕ → ℝ} (h : Tab (V c main_arg0) f) :
    Is (n := 1024) (m := 128) (iblk1 V c 0 t) fun r d => f (1024 * (t.val % 8) + r) (128 * (t.val / 8) + d) := fun r d => by
  blk_simp [iblk1]
  refine (h _).trans ?_
  blk_simp [ix1_0]
  simp only [Nat.mul_comm]

theorem is_blk1_1 (c : Dev nD) (t : Fin cfg1.N) {f : ℕ → ℕ → ℝ} (h : Tab (V c main_arg0) f) :
    Is (n := 8192) (m := 128) (iblk1 V c 1 t) fun r d => f (r) (128 * (12 + t.val / 8) + d) := fun r d => by
  blk_simp [iblk1]
  refine (h _).trans ?_
  blk_simp [ix1_1]
  simp only [Nat.mul_comm, Nat.zero_mul, Nat.mul_zero, Nat.zero_add]

theorem is_blk1_2 (c : Dev nD) (t : Fin cfg1.N) {f : ℕ → ℕ → ℝ} (h : Tab (V c main_arg0) f) :
    Is (n := 8192) (m := 128) (iblk1 V c 2 t) fun r d => f (r) (128 * (24 + t.val / 8) + d) := fun r d => by
  blk_simp [iblk1]
  refine (h _).trans ?_
  blk_simp [ix1_2]
  simp only [Nat.mul_comm, Nat.zero_mul, Nat.mul_zero, Nat.zero_add]

theorem is_blk1_3 (c : Dev nD) (t : Fin cfg1.N) {f : ℕ → ℕ → ℝ} (h : Tab (V c main_v0_1) f) :
    Is (n := 1024) (m := 128) (iblk1 V c 3 t) fun r d => f (1024 * (t.val % 8) + r) (128 * (t.val / 8) + d) := fun r d => by
  blk_simp [iblk1]
  refine (h _).trans ?_
  blk_simp [ix1_3]
  simp only [Nat.mul_comm]

theorem is_blk1_4 (c : Dev nD) (t : Fin cfg1.N) {f : ℕ → ℕ → ℝ} (h : Tab (V c main_arg1) f) :
    Is (n := 1024) (m := 128) (iblk1 V c 4 t) fun r d => f (1024 * (t.val % 8) + r) (128 * (t.val / 8) + d) := fun r d => by
  blk_simp [iblk1]
  refine (h _).trans ?_
  blk_simp [ix1_4]
  simp only [Nat.mul_comm]

end Cert.Attn

end
-- ==== Proof.Words.lean ====
/- The words of the two kernels: where a grid point's blocks lie, how often its loop runs, what its masks and its
   triangular matrices hold. A grid point `i` is the pair (head, tile of 1024 queries). -/
module

public import proofs.«01_k».proof.Proof.Step
public import proofs.«01_k».proof.Proof.Gen.KernelIdeal.Skeleton
public import Idealize.ShloMosaic.Lib.Affine
public import Idealize.ShloMosaic.Lib.Pipeline.Kit
public import Idealize.ShloMosaic.Lib.Pipeline.ValueKit.Tiles

@[expose] public section

set_option maxRecDepth 16384

noncomputable section

namespace Cert.Attn

open Finset Idealize.ShloMosaic Idealize.SL.Sem Cert.KernelIdeal Cert.KernelIdeal.Gen
open Idealize.ShloMosaic.Pointwise

/-! ## Offsets and trips -/

theorem diag_word : ∀ (n : Fin 8) (c : Fin 4),
    (Scalar.muli (Scalar.addi (Scalar.muli (BitVec.ofNat 32 n.val) 4#32) (BitVec.ofNat 32 c.val)) 256#32).toNat = (4 * n.val + c.val) * 256 := by
  decide

theorem below_word : ∀ (n : Fin 8) (k : Fin 28), k.val < 4 * n.val →
    (Scalar.muli (Scalar.subi (Scalar.subi (Scalar.muli (BitVec.ofNat 32 n.val) 4#32) 1#32) (Scf.iv 0#32 1#32 k.val)) 256#32).toNat
      = (4 * n.val - 1 - k.val) * 256 := by decide

theorem from_word : ∀ k : Fin 28, (Scalar.muli (Scf.iv 0#32 1#32 k.val) 256#32).toNat = k.val * 256 := by decide

theorem trips_word : ∀ n : Fin 8, Scf.trips 0#32 (Scalar.addi 0#32 (Scalar.muli (Scalar.divsi (Scalar.subi (Scalar.muli (BitVec.ofNat 32 n.val) 4#32) 0#32) 1#32) 1#32)) 1#32
    = 4 * n.val := by decide

theorem trips_none : ∀ n : Fin 8, Scf.trips (Scalar.addi 0#32 (Scalar.muli (Scalar.divsi (Scalar.subi (Scalar.muli (BitVec.ofNat 32 n.val) 4#32) 0#32) 1#32) 1#32))
    (Scalar.addi 0#32 (Scalar.subi (Scalar.muli (BitVec.ofNat 32 n.val) 4#32) 0#32)) 1#32 = 0 := by decide

theorem k0_trips (i : grid0.Coords) : (k0_t1_loop i).trips = 4 * (i 1).val := trips_word (i 1)
theorem k0_trips2 (i : grid0.Coords) : (k0_t2_loop i).trips = 0 := trips_none (i 1)
theorem k1_trips (i : grid1.Coords) : (k1_t1_loop i).trips = 4 * (i 1).val := trips_word (i 1)
theorem k1_trips2 (i : grid1.Coords) : (k1_t2_loop i).trips = 0 := trips_none (i 1)

theorem k0_off1_eq (i : grid0.Coords) (c : Fin 4) : k0_off1 i (BitVec.ofNat 32 c.val) = ![(4 * (i 1).val + c.val) * 256, 0] :=
  congrArg (fun n => ![n, 0]) (diag_word (i 1) c)

theorem k1_off3_eq (i : grid1.Coords) (c : Fin 4) : k1_off3 i (BitVec.ofNat 32 c.val) = ![(4 * (i 1).val + c.val) * 256, 0] :=
  congrArg (fun n => ![n, 0]) (diag_word (i 1) c)

theorem k0_off2_eq (i : grid0.Coords) (k : Fin (k0_t1_loop i).trips) : k0_off2 i k = ![(4 * (i 1).val - 1 - k.val) * 256, 0] := by
  have hk := lt_of_lt_of_eq k.isLt (k0_trips i)
  have hi : (i 1).val < 8 := (i 1).isLt
  exact congrArg (fun n => ![n, 0]) (below_word (i 1) ⟨k.val, by omega⟩ hk)

theorem k1_off1_eq (i : grid1.Coords) (k : Fin (k1_t1_loop i).trips) : k1_off1 i k = ![k.val * 256, 0] := by
  have hk := lt_of_lt_of_eq k.isLt (k1_trips i)
  have hi : (i 1).val < 8 := (i 1).isLt
  exact congrArg (fun n => ![n, 0]) (from_word ⟨k.val, by omega⟩)

/-! ## A block of rows of a whole array -/

theorem is_ld {x : Vec Ideal S8192x128 .f32} {f : ℕ → ℕ → ℝ} (hx : Is x f) {off : Fin 2 → ℕ} {o : ℕ} (ho : off = ![o, 0])
    (inb : ∀ a, off a + S256x128.size a ≤ S8192x128.size a) :
    Is (n := 256) (m := 128) (View.ld (Val := Elt Ideal) (e' := .f32) (S := S8192x128) x (Rect.unit (s := S8192x128) off S256x128.size inb)) fun j d => f (o + j) d := fun j d => by
  subst ho
  have h0 : o + 256 ≤ 8192 := inb 0
  have := j.isLt
  rw [View.ld_unit_apply_of x _ _ inb (ix2 j d) (ix2 ⟨o + j.val, by omega⟩ d)]
  · exact hx _ _
  · intro a
    refine a.cases rfl fun b => ?_
    have hb : b = 0 := Subsingleton.elim _ _
    subst hb
    exact (Nat.zero_add _).symm

/-! ## The triangular matrices and the masks -/

theorem sitofp_bit (x y : Fin 256) (b : BitVec 1) (h : b = 1#1 ↔ x.val < y.val) :
    (FloatOps.sitofp (F := Ideal) .f32 (BitVec.setWidth 32 b) : EReal) = (((if x.val < y.val then 1 else 0 : ℝ)) : EReal) := by
  show (((BitVec.setWidth 32 b).toInt : ℝ) : EReal) = _
  by_cases hb : b = 1#1
  · rw [if_pos (h.mp hb), hb]; norm_num
  · rw [if_neg (fun hc => hb (h.mpr hc)), (show ∀ b : BitVec 1, b ≠ 1#1 → b = 0#1 by decide) b hb]; norm_num

theorem small_toInt (n : ℕ) (h : n < 8192) : (BitVec.ofNat 32 n).toInt = n := by
  have e : (BitVec.ofNat 32 n).toNat = n := by rw [BitVec.toNat_ofNat]; omega
  rw [BitVec.toInt_eq_toNat_of_lt (by rw [e]; omega), e]

theorem is_tri_gt : Is (k0_pay3 (F := Ideal)) fun y x => if x < y then 1 else 0 := fun y x => by
  pointwise [k0_pay3]
  refine sitofp_bit x y _ ?_
  rw [IntOp.cmpi_sgt, small_toInt _ (by omega), small_toInt _ (by omega)]
  omega

theorem is_tri_lt : Is (k1_pay24 (F := Ideal)) fun y x => if y < x then 1 else 0 := fun y x => by
  pointwise [k1_pay24]
  refine sitofp_bit y x _ ?_
  rw [IntOp.cmpi_slt, small_toInt _ (by omega), small_toInt _ (by omega)]
  omega

/-- The comparison of a key's place with its query's, at tile `n` and diagonal block `c`. -/
theorem valid_word (n : Fin 8) (c : Fin 4) (r : Fin 1024) (l : Fin 256) :
    IntOp.cmpi .slt (IntOp.addi (Scalar.muli (Scalar.addi (Scalar.muli (BitVec.ofNat 32 n.val) 4#32) (BitVec.ofNat 32 c.val)) 256#32) (BitVec.ofNat 32 l.val))
      (IntOp.addi (Scalar.muli (BitVec.ofNat 32 n.val) 1024#32) (BitVec.ofNat 32 r.val)) = 1#1
      ↔ (4 * n.val + c.val) * 256 + l.val < 1024 * n.val + r.val := by
  have h1 : Scalar.muli (BitVec.ofNat 32 n.val) 1024#32 = BitVec.ofNat 32 (1024 * n.val) := by revert n; decide
  have h2 : Scalar.muli (Scalar.addi (Scalar.muli (BitVec.ofNat 32 n.val) 4#32) (BitVec.ofNat 32 c.val)) 256#32
      = BitVec.ofNat 32 ((4 * n.val + c.val) * 256) := by revert n c; decide
  have ha : ∀ a b : ℕ, IntOp.addi (BitVec.ofNat 32 a) (BitVec.ofNat 32 b) = BitVec.ofNat 32 (a + b) := fun a b => (BitVec.ofNat_add a b).symm
  rw [h1, h2, ha, ha, IntOp.cmpi_slt, small_toInt _ (by omega), small_toInt _ (by omega)]
  omega

end Cert.Attn

end
-- ==== Proof.Fwd.lean ====
/- The forward kernel at a grid point: four masked blocks on the diagonal, then the blocks before it, each turning the
   sums over the keys after a block into those of the block before it. The two blocks it leaves are the output
   and the total of the masked logarithms. -/
module

public import proofs.«01_k».proof.Proof.Words
public import proofs.«01_k».proof.Proof.Gen.KernelIdeal.Frame

@[expose] public section

set_option maxRecDepth 16384

noncomputable section

namespace Cert.Attn

open Finset Idealize.ShloMosaic Idealize.SL.Sem Cert.KernelIdeal Cert.KernelIdeal.Gen
open Idealize.ShloMosaic.Pointwise

/-- The mask of the diagonal block whose first key is the word `w`, at the tile of number `n`. -/
def dmask (n w : BitVec 32) (x : FVec Ideal S1024x256 .f32) : FVec Ideal S1024x256 .f32 :=
  select (cmpi .slt (addi (broadcast S1024x256 w) (iota .tc S1024x256 32 [1] iota_S1024x256_d1_w32))
      (addi (broadcast S1024x256 (Scalar.muli n 1024#32)) (iota .tc S1024x256 32 [0] iota_S1024x256_d0_w32)))
    x (broadcast S1024x256 (Scalar.ofBits .f32 0x00000000#32))

/-- The first key of diagonal block `c`, as a word. -/
def dword (n : BitVec 32) (c : ℕ) : BitVec 32 := Scalar.muli (Scalar.addi (Scalar.muli n 4#32) (BitVec.ofNat 32 c)) 256#32

theorem masks_dmask (n : Fin 8) (c : Fin 4) :
    Masks (dmask (BitVec.ofNat 32 n.val) (dword (BitVec.ofNat 32 n.val) c.val)) (1024 * n.val) ((4 * n.val + c.val) * 256) :=
  masks_select _ fun r l => by
    pointwise
    exact valid_word n c r l

/-- What one block does in the forward kernel. -/
def fstep (msk : FVec Ideal S1024x256 .f32 → FVec Ideal S1024x256 .f32) (tri : FVec Ideal S256x256 .bf16) (q : FVec Ideal S1024x128 .bf16)
    (k v : FVec Ideal S256x128 .bf16) (p : FVec Ideal S1024x1 .f32 × FVec Ideal S1024x128 .f32) : FVec Ideal S1024x1 .f32 × FVec Ideal S1024x128 .f32 :=
  (addf p.1 (tRow (tLn msk (tZ q k))), tAcc p.2 (truncf .bf16 (tW msk (tZ q k) p.1 tri) bitsLt_bf16_f32) v)

/-- The running pair holds the sums over the keys from `b` on. -/
def FInv (H : Head) (T b : ℕ) (p : FVec Ideal S1024x1 .f32 × FVec Ideal S1024x128 .f32) : Prop :=
  (Is p.1 fun r _ => ∑ i ∈ Ico b 8192, H.miss (T + r) i) ∧ (Is p.2 fun r d => ∑ j ∈ Ico b 8192, H.w (T + r) j * H.v j d)

theorem fstep_inv {msk : FVec Ideal S1024x256 .f32 → FVec Ideal S1024x256 .f32} {T b : ℕ} {H : Head} (hs : H.s = sc) (hb : b + 256 ≤ 8192)
    (hm : Masks msk T b) {q : FVec Ideal S1024x128 .bf16} {k v : FVec Ideal S256x128 .bf16} {tri : FVec Ideal S256x256 .bf16}
    (hq : Is q fun r d => H.q (T + r) d) (hk : Is k fun j d => H.k (b + j) d) (hv : Is v fun j d => H.v (b + j) d)
    (ht : Is tri fun y x => if x < y then 1 else 0) {p : FVec Ideal S1024x1 .f32 × FVec Ideal S1024x128 .f32} (h : FInv H T (b + 256) p) :
    FInv H T b (fstep msk tri q k v p) := by
  have hz := is_tZ hs hq hk
  exact ⟨is_carry_up (f := fun t i => H.miss t i) hb h.1 (is_tLn hm hz), is_tAcc_up (f := H.w) (g := H.v) hb h.2 (is_tW hb hm hz h.1 ht) hv⟩

/-- Before any block: no key after the diagonal counts. -/
theorem finv_start (H : Head) (n : ℕ) : FInv H (1024 * n) ((4 * n + 3) * 256 + 256) (k0_pay4, k0_pay5) := by
  constructor
  · intro r c
    show Ideal.ofBits .f32 0x00000000#32 = _
    beta_reduce; rw [Ideal.ofBits_zero_f32, Finset.sum_eq_zero]; · rfl
    intro i hi; exact H.miss_eq_zero (by have := (mem_Ico.mp hi).1; omega)
  · intro r c
    show Ideal.ofBits .f32 0x00000000#32 = _
    beta_reduce; rw [Ideal.ofBits_zero_f32, Finset.sum_eq_zero]; · rfl
    intro i hi; rw [H.w_eq_zero (by have := (mem_Ico.mp hi).1; omega), zero_mul]

/-- A trip of the loop over the blocks before the diagonal is one step without a mask. -/
theorem trip_fstep (𝒱 : Variants) (c : Dev nD) (bd : Option 𝒱.V) (i : grid0.Coords) (arg2 : Memref sig .tc .vmem S1024x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (arg1 : BitVec 32) (v1 : FVec Ideal S1024x128 .bf16) (v5 : IVec S1024x256 32) (v6 : IVec S1024x256 32) (v12 : FVec Ideal S256x256 .bf16) (v155 : FVec Ideal S1024x128 .f32) (v158 : FVec Ideal S1024x1 .f32) (v162 : BitVec 32) (v168 : FVec Ideal S256x128 .bf16) (v171 : FVec Ideal S1024x256 .f32) (v173 : FVec Ideal S1024x256 .f32) (v174 : FVec Ideal S1024x256 .f32) (v175 : FVec Ideal S1024x256 .f32) (X_arg3 : BufTy.Contents (Elt Ideal) arg3.view.ty) (X_arg4 : BufTy.Contents (Elt Ideal) arg4.view.ty) (k : Fin (k0_t1_loop i).trips)
    (acc : FVec Ideal S1024x1 .f32 × FVec Ideal S1024x128 .f32) :
    tripR_k0_t1 (F := Ideal) 𝒱 c bd i arg2 harg2 arg3 harg3 arg4 harg4 arg5 harg5 arg6 harg6 arg1 v1 v5 v6 v12 v155 v158 v162 v168 v171 v173 v174 v175 X_arg3 X_arg4 k acc
      = fstep (fun x => x) v12 v1 (truncf .bf16 (View.readAt (Elt Ideal) arg3.view (Rect.unit (s := S8192x128) (k0_off2 i k) S256x128.size (k0_off2_inb i k)).toLoadRect X_arg3) bitsLt_bf16_f32)
          (truncf .bf16 (View.readAt (Elt Ideal) arg4.view (Rect.unit (s := S8192x128) (k0_off2 i k) S256x128.size (k0_off2_inb i k)).toLoadRect X_arg4) bitsLt_bf16_f32) acc := by
  unfold tripR_k0_t1 trip_k0_t1
  rfl

/-- The loop over the blocks before the diagonal, from the diagonal down. -/
theorem loop_inv (𝒱 : Variants) (c : Dev nD) (bd : Option 𝒱.V) (i : grid0.Coords) (arg2 : Memref sig .tc .vmem S1024x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (arg1 : BitVec 32) (v1 : FVec Ideal S1024x128 .bf16) (v5 : IVec S1024x256 32) (v6 : IVec S1024x256 32) (v12 : FVec Ideal S256x256 .bf16) (v155 : FVec Ideal S1024x128 .f32) (v158 : FVec Ideal S1024x1 .f32) (v162 : BitVec 32) (v168 : FVec Ideal S256x128 .bf16) (v171 : FVec Ideal S1024x256 .f32) (v173 : FVec Ideal S1024x256 .f32) (v174 : FVec Ideal S1024x256 .f32) (v175 : FVec Ideal S1024x256 .f32) {H : Head} (hs : H.s = sc) {x1 x2 : Vec Ideal S8192x128 .f32} (hk : Is x1 H.k) (hv : Is x2 H.v)
    (hq : Is v1 fun r d => H.q (1024 * (i 1).val + r) d) (ht : Is v12 fun y x => if x < y then 1 else 0)
    {init : FVec Ideal S1024x1 .f32 × FVec Ideal S1024x128 .f32} (h0 : FInv H (1024 * (i 1).val) (4 * (i 1).val * 256) init) (n : ℕ) (hn : n ≤ 4 * (i 1).val) :
    FInv H (1024 * (i 1).val) ((4 * (i 1).val - n) * 256) (st_k0_t1 (F := Ideal) 𝒱 c bd i arg2 harg2 arg3 harg3 arg4 harg4 arg5 harg5 arg6 harg6 arg1 v1 v5 v6 v12 v155 v158 v162 v168 v171 v173 v174 v175 (harg3.unread x1) (harg4.unread x2) init n) := by
  induction n with
  | zero => exact h0
  | succ n ih =>
    have hi : (i 1).val < 8 := (i 1).isLt
    have hn' : n < (k0_t1_loop i).trips := by rw [k0_trips]; omega
    rw [st_k0_t1_succ _ _ _ _ _ _ _ _ _ _ _ _ _ _ _ _ _ _ _ _ _ _ _ _ _ _ _ _ _ _ ⟨n, hn'⟩, trip_fstep]
    have e := k0_off2_eq i ⟨n, hn'⟩
    refine fstep_inv hs (by omega) (masks_id (by omega)) hq ?_ ?_ ht ?_
    · have := is_ld hk e (k0_off2_inb i ⟨n, hn'⟩)
      rw [show 4 * (i 1).val - 1 - n = 4 * (i 1).val - (n + 1) by omega] at this
      rw [View.readAt_eq_ld, harg3.read_unread]; exact this
    · have := is_ld hv e (k0_off2_inb i ⟨n, hn'⟩)
      rw [show 4 * (i 1).val - 1 - n = 4 * (i 1).val - (n + 1) by omega] at this
      rw [View.readAt_eq_ld, harg4.read_unread]; exact this
    · have := ih (by omega)
      rwa [show (4 * (i 1).val - n) * 256 = (4 * (i 1).val - (n + 1)) * 256 + 256 by omega] at this

/-- The four blocks of the diagonal, the last first. -/
def fdiag (n : BitVec 32) (tri : FVec Ideal S256x256 .bf16) (q : FVec Ideal S1024x128 .bf16) (k v : Fin 4 → FVec Ideal S256x128 .bf16) :
    FVec Ideal S1024x1 .f32 × FVec Ideal S1024x128 .f32 :=
  fstep (dmask n (dword n 0)) tri q (k 0) (v 0) (fstep (dmask n (dword n 1)) tri q (k 1) (v 1)
    (fstep (dmask n (dword n 2)) tri q (k 2) (v 2) (fstep (dmask n (dword n 3)) tri q (k 3) (v 3) (k0_pay4, k0_pay5))))

theorem fdiag_inv (n : Fin 8) {H : Head} (hs : H.s = sc) {q : FVec Ideal S1024x128 .bf16} {k v : Fin 4 → FVec Ideal S256x128 .bf16} {tri : FVec Ideal S256x256 .bf16}
    (hq : Is q fun r d => H.q (1024 * n.val + r) d) (hk : ∀ c : Fin 4, Is (k c) fun j d => H.k ((4 * n.val + c.val) * 256 + j) d)
    (hv : ∀ c : Fin 4, Is (v c) fun j d => H.v ((4 * n.val + c.val) * 256 + j) d) (ht : Is tri fun y x => if x < y then 1 else 0) :
    FInv H (1024 * n.val) (4 * n.val * 256) (fdiag (BitVec.ofNat 32 n.val) tri q k v) := by
  have hn := n.isLt
  have step : ∀ (c : Fin 4) p, FInv H (1024 * n.val) ((4 * n.val + c.val) * 256 + 256) p →
      FInv H (1024 * n.val) ((4 * n.val + c.val) * 256) (fstep (dmask (BitVec.ofNat 32 n.val) (dword (BitVec.ofNat 32 n.val) c.val)) tri q (k c) (v c) p) :=
    fun c p h => fstep_inv hs (by have := c.isLt; omega) (masks_dmask n c) hq (hk c) (hv c) ht h
  have h3 := step 3 _ (finv_start H n.val)
  have h2 := step 2 _ (by rw [show (4 * n.val + (2 : Fin 4).val) * 256 + 256 = (4 * n.val + (3 : Fin 4).val) * 256 by simp; omega]; exact h3)
  have h1 := step 1 _ (by rw [show (4 * n.val + (1 : Fin 4).val) * 256 + 256 = (4 * n.val + (2 : Fin 4).val) * 256 by simp; omega]; exact h2)
  have h0 := step 0 _ (by rw [show (4 * n.val + (0 : Fin 4).val) * 256 + 256 = (4 * n.val + (1 : Fin 4).val) * 256 by simp; omega]; exact h1)
  exact h0

/-- The rows of diagonal block `c` of a whole array, narrowed. -/
def dblk (i : grid0.Coords) (x : Vec Ideal S8192x128 .f32) (c : Fin 4) : FVec Ideal S256x128 .bf16 :=
  truncf .bf16 (View.ld (Val := Elt Ideal) (e' := .f32) (S := S8192x128) x (Rect.unit (s := S8192x128) (k0_off1 i (BitVec.ofNat 32 c.val)) S256x128.size (k0_off1_inb i c))) bitsLt_bf16_f32

theorem is_dblk (i : grid0.Coords) {x : Vec Ideal S8192x128 .f32} {f : ℕ → ℕ → ℝ} (hx : Is x f) (c : Fin 4) :
    Is (dblk i x c) fun j d => f ((4 * (i 1).val + c.val) * 256 + j) d :=
  is_ld hx (k0_off1_eq i c) (k0_off1_inb i c)

theorem hz0 : (![0, 0] : Fin 2 → ℕ) = fun _ => 0 := funext fun a => by fin_cases a <;> rfl

theorem st2_inv (𝒱 : Variants) (c : Dev nD) (bd : Option 𝒱.V) (i : grid0.Coords) (arg2 : Memref sig .tc .vmem S1024x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (arg1 : BitVec 32) (v1 : FVec Ideal S1024x128 .bf16) (v5 : IVec S1024x256 32) (v6 : IVec S1024x256 32) (v12 : FVec Ideal S256x256 .bf16) (v155 : FVec Ideal S1024x128 .f32) (v158 : FVec Ideal S1024x1 .f32) (v162 : BitVec 32) (v168 : FVec Ideal S256x128 .bf16) (v171 : FVec Ideal S1024x256 .f32) (v173 : FVec Ideal S1024x256 .f32) (v174 : FVec Ideal S1024x256 .f32) (v175 : FVec Ideal S1024x256 .f32) {H : Head} {T b n : ℕ} (hn : n = 0) {X_arg3 : BufTy.Contents (Elt Ideal) arg3.view.ty} {X_arg4 : BufTy.Contents (Elt Ideal) arg4.view.ty}
    {init : FVec Ideal S1024x1 .f32 × FVec Ideal S1024x128 .f32} (h : FInv H T b init) : FInv H T b (st_k0_t2 (F := Ideal) 𝒱 c bd i arg2 harg2 arg3 harg3 arg4 harg4 arg5 harg5 arg6 harg6 arg1 v1 v5 v6 v12 v155 v158 v162 v168 v171 v173 v174 v175 X_arg3 X_arg4 init n) := by
  subst hn; exact h

theorem loop_end (𝒱 : Variants) (c : Dev nD) (bd : Option 𝒱.V) (i : grid0.Coords) (arg2 : Memref sig .tc .vmem S1024x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (arg1 : BitVec 32) (v1 : FVec Ideal S1024x128 .bf16) (v5 : IVec S1024x256 32) (v6 : IVec S1024x256 32) (v12 : FVec Ideal S256x256 .bf16) (v155 : FVec Ideal S1024x128 .f32) (v158 : FVec Ideal S1024x1 .f32) (v162 : BitVec 32) (v168 : FVec Ideal S256x128 .bf16) (v171 : FVec Ideal S1024x256 .f32) (v173 : FVec Ideal S1024x256 .f32) (v174 : FVec Ideal S1024x256 .f32) (v175 : FVec Ideal S1024x256 .f32) {H : Head} (hs : H.s = sc) {x1 x2 : Vec Ideal S8192x128 .f32} (hk : Is x1 H.k) (hv : Is x2 H.v)
    (hq : Is v1 fun r d => H.q (1024 * (i 1).val + r) d) (ht : Is v12 fun y x => if x < y then 1 else 0)
    {init : FVec Ideal S1024x1 .f32 × FVec Ideal S1024x128 .f32} (h0 : FInv H (1024 * (i 1).val) (4 * (i 1).val * 256) init) {n : ℕ} (hn : n = 4 * (i 1).val) :
    FInv H (1024 * (i 1).val) 0 (st_k0_t1 (F := Ideal) 𝒱 c bd i arg2 harg2 arg3 harg3 arg4 harg4 arg5 harg5 arg6 harg6 arg1 v1 v5 v6 v12 v155 v158 v162 v168 v171 v173 v174 v175 (harg3.unread x1) (harg4.unread x2) init n) := by
  have := loop_inv 𝒱 c bd i arg2 harg2 arg3 harg3 arg4 harg4 arg5 harg5 arg6 harg6 arg1 v1 v5 v6 v12 v155 v158 v162 v168 v171 v173 v174 v175 hs hk hv hq ht h0 n hn.le
  rwa [hn, Nat.sub_self, Nat.zero_mul, ← hn] at this

theorem out0_inv (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole)
    {x0 : Vec Ideal S1024x128 .f32} {x1 x2 : Vec Ideal S8192x128 .f32} {H : Head} (hs : H.s = sc) (hq : Is x0 fun r d => H.q (1024 * (i 1).val + r) d)
    (hk : Is x1 H.k) (hv : Is x2 H.v) :
    ∃ p, FInv H (1024 * (i 1).val) 0 p ∧ out0_A_3 c i arg2 harg2 arg3 harg3 arg4 harg4 arg5 harg5 arg6 harg6 x0 x1 x2 = p.2
      ∧ out0_A_4 c i arg2 harg2 arg3 harg3 arg4 harg4 arg5 harg5 arg6 harg6 x0 x1 x2 = k0_pay52 p.1 := by
  unfold out0_A_3 out0_A_4
  rw [View.read_writes_eq_canon _ _ _ (cover0_A_3 c i arg2 harg2 arg3 harg3 arg4 harg4 arg5 harg5 arg6 harg6 x0 x1 x2),
    View.read_writes_eq_canon _ _ _ (cover0_A_4 c i arg2 harg2 arg3 harg3 arg4 harg4 arg5 harg5 arg6 harg6 x0 x1 x2)]
  unfold kernelRun0_A
  dsimp only
  sl_unfold_words
  rw [View.canon_unit_zero (S := S1024x128) hz0, View.canon_unit_zero (S := S1024x128) hz0]
  refine ⟨_, ?_, rfl, rfl⟩
  simp only [View.readAt_eq_ld, harg2.read_unread, harg3.read_unread, harg4.read_unread, View.ld_unit_zero (S := S1024x128) hz0]
  have h0 := fdiag_inv (i 1) hs (q := k0_pay1 x0) (k := dblk i x1) (v := dblk i x2)
    hq (is_dblk i hk) (is_dblk i hv) is_tri_gt
  refine st2_inv _ _ _ _ _ _ _ _ _ _ _ _ _ _ _ _ _ _ _ _ _ _ _ _ _ _ _  (k0_trips2 i) ?_
  refine loop_end _ _ _ _ _ _ _ _ _ _ _ _ _ _ _ _ _ _ _ _ _ _ _ _ _ _ _  hs hk hv hq is_tri_gt ?_ (k0_trips i)
  exact h0

end Cert.Attn

end
-- ==== Proof.BwdStep.lean ====
/- One block of keys in the backward kernel: the running sums gain the block, and the block's rows of the
   two accumulators of the keys and the values gain the products of the tile's 1024 queries. -/
module

public import proofs.«01_k».proof.Proof.Fwd
import Idealize.ShloMosaic.Lib.WritesUnit

@[expose] public section

set_option maxRecDepth 16384

noncomputable section

namespace Cert.Attn

open Finset Idealize.ShloMosaic Idealize.SL.Sem Cert.KernelIdeal Cert.KernelIdeal.Gen
open Idealize.ShloMosaic.Pointwise

/-- What the blocks hand on: the sum of the masked logarithms, the sum of `e`, and the gradient of the queries so far. -/
abbrev Carry : Type := FVec Ideal S1024x1 .f32 × FVec Ideal S1024x1 .f32 × FVec Ideal S1024x128 .f32

/-- What one block does in the backward kernel: the carried sums, and the block's rows of the two accumulators. -/
def bstep (msk : FVec Ideal S1024x256 .f32 → FVec Ideal S1024x256 .f32) (tri tri' : FVec Ideal S256x256 .bf16) (q g : FVec Ideal S1024x128 .bf16)
    (tot : FVec Ideal S1024x1 .f32) (k v : FVec Ideal S256x128 .bf16) (old8 old9 : FVec Ideal S256x128 .f32) (p : Carry) :
    Carry × FVec Ideal S256x128 .f32 × FVec Ideal S256x128 .f32 :=
  ((addf p.1 (tRow (tLn msk (tZ q k))),
    addf p.2.1 (tRow (mulf (tW msk (tZ q k) (subf (subf tot p.1) (tRow (tLn msk (tZ q k)))) tri) (tGv g v))),
    tAcc p.2.2 (tDz msk (tZ q k) (mulf (tW msk (tZ q k) (subf (subf tot p.1) (tRow (tLn msk (tZ q k)))) tri) (tGv g v)) p.2.1 tri') k),
   tAccT old8 (tDz msk (tZ q k) (mulf (tW msk (tZ q k) (subf (subf tot p.1) (tRow (tLn msk (tZ q k)))) tri) (tGv g v)) p.2.1 tri') q,
   tAccT old9 (truncf .bf16 (tW msk (tZ q k) (subf (subf tot p.1) (tRow (tLn msk (tZ q k)))) tri) bitsLt_bf16_f32) g)

/-- What the tile at `T` adds to row `j` of an accumulator once the keys before `b` are done. -/
def gain (T b : ℕ) (f g : ℕ → ℕ → ℝ) (j d : ℕ) : ℝ := if j < b then ∑ r ∈ range 1024, f (T + r) j * g (T + r) d else 0

/-- The keys before `b` are done at the tile of queries from `T` on, over the accumulators `D` and `E`. -/
def BInv (H : Head) (T b : ℕ) (D E : ℕ → ℕ → ℝ) (p : Carry) (x8 x9 : Vec Ideal S8192x128 .f32) : Prop :=
  (Is p.1 fun r _ => ∑ i ∈ range b, H.miss (T + r) i) ∧ (Is p.2.1 fun r _ => ∑ i ∈ range b, H.e (T + r) i)
    ∧ (Is p.2.2 fun r d => ∑ j ∈ range b, (H.dz (T + r) j * H.s) * H.k j d)
    ∧ (Is x8 fun j d => D j d + gain T b (fun t j => H.dz t j * H.s) H.q j d)
    ∧ (Is x9 fun j d => E j d + gain T b H.w H.g j d)

/-- A buffer whose rows from `o` on were stored over. -/
theorem is_put {sig : RefSig} {κ : Kind} {sp : Space} (a : View sig κ sp S8192x128 .f32) (f : a.ty.Contents (Elt Ideal)) {F G : ℕ → ℕ → ℝ}
    {off : Fin 2 → ℕ} {o : ℕ} (ho : off = ![o, 0]) (inb : ∀ a, off a + S256x128.size a ≤ S8192x128.size a) {x : Vec Ideal S256x128 .f32}
    (hF : Is (a.read (Elt Ideal) f) F) (hG : Is x G) :
    Is (n := 8192) (m := 128) (a.read (Elt Ideal) (a.writes (Elt Ideal) f [⟨Rect.unit (s := S8192x128) off S256x128.size inb, x⟩]))
      fun j d => if o ≤ j ∧ j < o + 256 then G (j - o) d else F j d := fun j d => by
  beta_reduce
  split
  · next h =>
    rw [View.read_writes_cons_rows_of_mem a f (d := ![8192, 128]) inb x [] (ix2 j d) (ix2 (⟨j.val - o, by omega⟩ : Fin 256) d) ho
      (by show j.val = o + (j.val - o); omega) rfl]
    exact hG ⟨j.val - o, by omega⟩ d
  · next h =>
    rw [View.read_writes_cons_rows_of_not_mem a f (d := ![8192, 128]) inb x [] (ix2 j d) ho (W := 256) rfl
      (by show j.val < o ∨ o + 256 ≤ j.val; omega)]
    exact hF j d

/-- The block's rows of a buffer, read back. -/
theorem is_get {sig : RefSig} {κ : Kind} {sp : Space} (a : View sig κ sp S8192x128 .f32) (f : a.ty.Contents (Elt Ideal)) {F : ℕ → ℕ → ℝ}
    {off : Fin 2 → ℕ} {o : ℕ} (ho : off = ![o, 0]) (inb : ∀ a, off a + S256x128.size a ≤ S8192x128.size a)
    (hF : Is (a.read (Elt Ideal) f) F) :
    Is (n := 256) (m := 128) (View.readAt (Elt Ideal) a (Rect.unit (s := S8192x128) off S256x128.size inb).toLoadRect f) fun j d => F (o + j) d := by
  rw [View.readAt_eq_ld]; exact is_ld hF ho inb

variable {sig : RefSig} {κ κ' : Kind} {sp sp' : Space}

/-- One block over the two buffers: its rows are read, and stored with the tile's products added. -/
def bblk (a8 : View sig κ sp S8192x128 .f32) (a9 : View sig κ' sp' S8192x128 .f32)
    (msk : FVec Ideal S1024x256 .f32 → FVec Ideal S1024x256 .f32) (tri tri' : FVec Ideal S256x256 .bf16) (q g : FVec Ideal S1024x128 .bf16)
    (tot : FVec Ideal S1024x1 .f32) (k v : FVec Ideal S256x128 .bf16) (off : Fin 2 → ℕ) (inb : ∀ a, off a + S256x128.size a ≤ S8192x128.size a)
    (s : Carry × a8.ty.Contents (Elt Ideal) × a9.ty.Contents (Elt Ideal)) : Carry × a8.ty.Contents (Elt Ideal) × a9.ty.Contents (Elt Ideal) :=
  ((bstep msk tri tri' q g tot k v (View.readAt (Elt Ideal) a8 (Rect.unit (s := S8192x128) off S256x128.size inb).toLoadRect s.2.1)
      (View.readAt (Elt Ideal) a9 (Rect.unit (s := S8192x128) off S256x128.size inb).toLoadRect s.2.2) s.1).1,
   a8.writes (Elt Ideal) s.2.1 [⟨Rect.unit (s := S8192x128) off S256x128.size inb, (bstep msk tri tri' q g tot k v
      (View.readAt (Elt Ideal) a8 (Rect.unit (s := S8192x128) off S256x128.size inb).toLoadRect s.2.1)
      (View.readAt (Elt Ideal) a9 (Rect.unit (s := S8192x128) off S256x128.size inb).toLoadRect s.2.2) s.1).2.1⟩],
   a9.writes (Elt Ideal) s.2.2 [⟨Rect.unit (s := S8192x128) off S256x128.size inb, (bstep msk tri tri' q g tot k v
      (View.readAt (Elt Ideal) a8 (Rect.unit (s := S8192x128) off S256x128.size inb).toLoadRect s.2.1)
      (View.readAt (Elt Ideal) a9 (Rect.unit (s := S8192x128) off S256x128.size inb).toLoadRect s.2.2) s.1).2.2⟩])

/-- The rows of the block gain its products, the other rows are as they were. -/
theorem gain_put (T b : ℕ) (f g D : ℕ → ℕ → ℝ) (j d : ℕ) :
    (if b ≤ j ∧ j < b + 256 then (fun j d => (D (b + j) d + gain T b f g (b + j) d) + ∑ r ∈ range 1024, f (T + r) (b + j) * g (T + r) d) (j - b) d
      else D j d + gain T b f g j d) = D j d + gain T (b + 256) f g j d := by
  unfold gain
  by_cases h : b ≤ j ∧ j < b + 256
  · rw [if_pos h, if_pos h.2]; beta_reduce
    rw [if_neg (by omega), add_zero, show b + (j - b) = j by omega]
  · rw [if_neg h]
    by_cases h' : j < b
    · rw [if_pos h', if_pos (by omega)]
    · rw [if_neg h', if_neg (by omega)]

theorem bblk_inv (a8 : View sig κ sp S8192x128 .f32) (a9 : View sig κ' sp' S8192x128 .f32)
    {msk : FVec Ideal S1024x256 .f32 → FVec Ideal S1024x256 .f32} {T b : ℕ} {H : Head} (hs : H.s = sc) (hb : b + 256 ≤ 8192)
    (hm : Masks msk T b) {q g : FVec Ideal S1024x128 .bf16} {k v : FVec Ideal S256x128 .bf16} {tri tri' : FVec Ideal S256x256 .bf16} {tot : FVec Ideal S1024x1 .f32}
    (hq : Is q fun r d => H.q (T + r) d) (hg : Is g fun r d => H.g (T + r) d)
    (ht : Is tot fun r _ => ∑ i ∈ range 8192, H.miss (T + r) i)
    (hk : Is k fun j d => H.k (b + j) d) (hv : Is v fun j d => H.v (b + j) d)
    (ht1 : Is tri fun y x => if x < y then 1 else 0) (ht2 : Is tri' fun y x => if y < x then 1 else 0)
    {off : Fin 2 → ℕ} (ho : off = ![b, 0]) (inb : ∀ a, off a + S256x128.size a ≤ S8192x128.size a) {D E : ℕ → ℕ → ℝ}
    {s : Carry × a8.ty.Contents (Elt Ideal) × a9.ty.Contents (Elt Ideal)} (h : BInv H T b D E s.1 (a8.read (Elt Ideal) s.2.1) (a9.read (Elt Ideal) s.2.2)) :
    BInv H T (b + 256) D E (bblk a8 a9 msk tri tri' q g tot k v off inb s).1
      (a8.read (Elt Ideal) (bblk a8 a9 msk tri tri' q g tot k v off inb s).2.1)
      (a9.read (Elt Ideal) (bblk a8 a9 msk tri tri' q g tot k v off inb s).2.2) := by
  obtain ⟨h1, h2, h3, h4, h5⟩ := h
  have hz := is_tZ hs hq hk
  have hln := is_tLn hm hz
  have hw := is_tW hb hm hz (is_rest (f := H.miss) hb ht h1 hln) ht1
  have he := is_e hw hg hv
  have hw' : Is (truncf .bf16 (tW msk (tZ q k) (subf (subf tot s.1.1) (tRow (tLn msk (tZ q k)))) tri) bitsLt_bf16_f32)
      fun r j => H.w (T + r) (b + j) := hw
  have hdz := is_tDz hs hm hz he h2 ht2
  refine ⟨is_carry_down (f := H.miss) h1 hln, is_carry_down (f := H.e) h2 he, is_tAcc_down (f := fun t j => H.dz t j * H.s) (g := H.k) h3 hdz hk, ?_, ?_⟩
  · have e := is_tAccT (b := b) (T := T) (f := fun t j => H.dz t j * H.s) (g := H.q)
      (D := fun j d => D j d + gain T b (fun t j => H.dz t j * H.s) H.q j d) (is_get a8 s.2.1 ho inb h4) hdz hq
    have e' := (is_put a8 s.2.1 ho inb h4 e).congr (f' := fun j d => D j d + gain T (b + 256) (fun t j => H.dz t j * H.s) H.q j d)
      fun j d _ _ => gain_put T b _ _ D j d
    exact e'
  · have e := is_tAccT (b := b) (T := T) (f := H.w) (g := H.g)
      (D := fun j d => E j d + gain T b H.w H.g j d) (is_get a9 s.2.2 ho inb h5) hw' hg
    have e' := (is_put a9 s.2.2 ho inb h5 e).congr (f' := fun j d => E j d + gain T (b + 256) H.w H.g j d)
      fun j d _ _ => gain_put T b _ _ E j d
    exact e'

end Cert.Attn

end
-- ==== Proof.BwdLoop.lean ====
/- The backward kernel's loop over the blocks of keys before the diagonal, from the first block on. -/
module

public import proofs.«01_k».proof.Proof.BwdStep

@[expose] public section

set_option maxRecDepth 16384

noncomputable section

namespace Cert.Attn

open Finset Idealize.ShloMosaic Idealize.SL.Sem Cert.KernelIdeal Cert.KernelIdeal.Gen
open Idealize.ShloMosaic.Pointwise

/-- A trip of the loop over the blocks before the diagonal is one block without a mask. -/
theorem trip_bblk (𝒱 : Variants) (c : Dev nD) (bd : Option 𝒱.V) (i : grid1.Coords) (arg2 : Memref sig .tc .vmem S1024x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S8192x128 .f32) (harg8 : arg8.IsWhole) (arg9 : Memref sig .tc .vmem S8192x128 .f32) (harg9 : arg9.IsWhole) (v3 : Vec Ideal S1024x128 .f32) (v5 : Vec Ideal S1024x128 .f32) (v7 : Vec Ideal S1024x1 .f32) (X_arg3 : BufTy.Contents (Elt Ideal) arg3.view.ty) (X_arg4 : BufTy.Contents (Elt Ideal) arg4.view.ty) (k : Fin (k1_t1_loop i).trips)
    (acc : Carry) (f8 : BufTy.Contents (Elt Ideal) arg8.view.ty) (f9 : BufTy.Contents (Elt Ideal) arg9.view.ty) :
    (tripR_k1_t1 (F := Ideal) 𝒱 c bd i arg2 harg2 arg3 harg3 arg4 harg4 arg5 harg5 arg6 harg6 arg7 harg7 arg8 harg8 arg9 harg9 v3 v5 v7 X_arg3 X_arg4 k acc f8 f9,
      arg8.view.writes (Elt Ideal) f8 (tripL_k1_t1 (F := Ideal) 𝒱 c bd i arg2 harg2 arg3 harg3 arg4 harg4 arg5 harg5 arg6 harg6 arg7 harg7 arg8 harg8 arg9 harg9 v3 v5 v7 X_arg3 X_arg4 k acc f8 f9).1,
      arg9.view.writes (Elt Ideal) f9 (tripL_k1_t1 (F := Ideal) 𝒱 c bd i arg2 harg2 arg3 harg3 arg4 harg4 arg5 harg5 arg6 harg6 arg7 harg7 arg8 harg8 arg9 harg9 v3 v5 v7 X_arg3 X_arg4 k acc f8 f9).2)
      = bblk arg8.view arg9.view (fun x => x) k1_pay23 k1_pay24 (k1_pay19 v3) (k1_pay20 v5) (k1_pay21 v7)
          (truncf .bf16 (View.readAt (Elt Ideal) arg3.view (Rect.unit (s := S8192x128) (k1_off1 i k) S256x128.size (k1_off1_inb i k)).toLoadRect X_arg3) bitsLt_bf16_f32)
          (truncf .bf16 (View.readAt (Elt Ideal) arg4.view (Rect.unit (s := S8192x128) (k1_off1 i k) S256x128.size (k1_off1_inb i k)).toLoadRect X_arg4) bitsLt_bf16_f32)
          (k1_off1 i k) (k1_off1_inb i k) (acc, f8, f9) := by
  unfold tripR_k1_t1 tripL_k1_t1 trip_k1_t1
  rfl

/-- The carried value and the two buffers before trip `n`. -/
def bst (𝒱 : Variants) (c : Dev nD) (bd : Option 𝒱.V) (i : grid1.Coords) (arg2 : Memref sig .tc .vmem S1024x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S8192x128 .f32) (harg8 : arg8.IsWhole) (arg9 : Memref sig .tc .vmem S8192x128 .f32) (harg9 : arg9.IsWhole) (v3 : Vec Ideal S1024x128 .f32) (v5 : Vec Ideal S1024x128 .f32) (v7 : Vec Ideal S1024x1 .f32) (X_arg3 : BufTy.Contents (Elt Ideal) arg3.view.ty) (X_arg4 : BufTy.Contents (Elt Ideal) arg4.view.ty)
    (s : Carry × BufTy.Contents (Elt Ideal) arg8.view.ty × BufTy.Contents (Elt Ideal) arg9.view.ty) (n : ℕ) :
    Carry × BufTy.Contents (Elt Ideal) arg8.view.ty × BufTy.Contents (Elt Ideal) arg9.view.ty :=
  ((st_k1_t1 (F := Ideal) 𝒱 c bd i arg2 harg2 arg3 harg3 arg4 harg4 arg5 harg5 arg6 harg6 arg7 harg7 arg8 harg8 arg9 harg9 v3 v5 v7 X_arg3 X_arg4 s.2.1 s.2.2 s.1 n).1,
    arg8.view.writes (Elt Ideal) s.2.1 (st_k1_t1 (F := Ideal) 𝒱 c bd i arg2 harg2 arg3 harg3 arg4 harg4 arg5 harg5 arg6 harg6 arg7 harg7 arg8 harg8 arg9 harg9 v3 v5 v7 X_arg3 X_arg4 s.2.1 s.2.2 s.1 n).2.1,
    arg9.view.writes (Elt Ideal) s.2.2 (st_k1_t1 (F := Ideal) 𝒱 c bd i arg2 harg2 arg3 harg3 arg4 harg4 arg5 harg5 arg6 harg6 arg7 harg7 arg8 harg8 arg9 harg9 v3 v5 v7 X_arg3 X_arg4 s.2.1 s.2.2 s.1 n).2.2)

theorem bst_succ (𝒱 : Variants) (c : Dev nD) (bd : Option 𝒱.V) (i : grid1.Coords) (arg2 : Memref sig .tc .vmem S1024x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S8192x128 .f32) (harg8 : arg8.IsWhole) (arg9 : Memref sig .tc .vmem S8192x128 .f32) (harg9 : arg9.IsWhole) (v3 : Vec Ideal S1024x128 .f32) (v5 : Vec Ideal S1024x128 .f32) (v7 : Vec Ideal S1024x1 .f32) (X_arg3 : BufTy.Contents (Elt Ideal) arg3.view.ty) (X_arg4 : BufTy.Contents (Elt Ideal) arg4.view.ty)
    (s : Carry × BufTy.Contents (Elt Ideal) arg8.view.ty × BufTy.Contents (Elt Ideal) arg9.view.ty) (k : Fin (k1_t1_loop i).trips) :
    bst 𝒱 c bd i arg2 harg2 arg3 harg3 arg4 harg4 arg5 harg5 arg6 harg6 arg7 harg7 arg8 harg8 arg9 harg9 v3 v5 v7 X_arg3 X_arg4 s (k.val + 1)
      = bblk arg8.view arg9.view (fun x => x) k1_pay23 k1_pay24 (k1_pay19 v3) (k1_pay20 v5) (k1_pay21 v7)
          (truncf .bf16 (View.readAt (Elt Ideal) arg3.view (Rect.unit (s := S8192x128) (k1_off1 i k) S256x128.size (k1_off1_inb i k)).toLoadRect X_arg3) bitsLt_bf16_f32)
          (truncf .bf16 (View.readAt (Elt Ideal) arg4.view (Rect.unit (s := S8192x128) (k1_off1 i k) S256x128.size (k1_off1_inb i k)).toLoadRect X_arg4) bitsLt_bf16_f32)
          (k1_off1 i k) (k1_off1_inb i k) (bst 𝒱 c bd i arg2 harg2 arg3 harg3 arg4 harg4 arg5 harg5 arg6 harg6 arg7 harg7 arg8 harg8 arg9 harg9 v3 v5 v7 X_arg3 X_arg4 s k.val) := by
  unfold bst
  rw [st_k1_t1_succ, ← trip_bblk 𝒱 c bd i arg2 harg2 arg3 harg3 arg4 harg4 arg5 harg5 arg6 harg6 arg7 harg7 arg8 harg8 arg9 harg9 v3 v5 v7 X_arg3 X_arg4 k]
  simp only [View.writes_append]

theorem is_tot21 {v7 : FVec Ideal S1024x1 .f32} {f : ℕ → ℕ → ℝ} (h : Is v7 f) : Is (k1_pay21 (F := Ideal) v7) f := fun r c => by
  rw [← h r c]; pointwise [k1_pay21]

theorem is_trunc {x : FVec Ideal S256x128 .f32} {f : ℕ → ℕ → ℝ} (h : Is x f) : Is (truncf .bf16 x bitsLt_bf16_f32 : FVec Ideal S256x128 .bf16) f := h

theorem is_tri_gt23 : Is (k1_pay23 (F := Ideal)) fun y x => if x < y then 1 else 0 := is_tri_gt

/-- The loop over the blocks before the diagonal, from the first block on. -/
theorem bloop_inv (𝒱 : Variants) (c : Dev nD) (bd : Option 𝒱.V) (i : grid1.Coords) (arg2 : Memref sig .tc .vmem S1024x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S8192x128 .f32) (harg8 : arg8.IsWhole) (arg9 : Memref sig .tc .vmem S8192x128 .f32) (harg9 : arg9.IsWhole) (v3 : Vec Ideal S1024x128 .f32) (v5 : Vec Ideal S1024x128 .f32) (v7 : Vec Ideal S1024x1 .f32) {H : Head} (hs : H.s = sc) {x1 x2 : Vec Ideal S8192x128 .f32} (hk : Is x1 H.k) (hv : Is x2 H.v)
    (hq : Is v3 fun r d => H.q (1024 * (i 1).val + r) d) (hg : Is v5 fun r d => H.g (1024 * (i 1).val + r) d)
    (ht : Is v7 fun r _ => ∑ j ∈ range 8192, H.miss (1024 * (i 1).val + r) j) {D E : ℕ → ℕ → ℝ}
    {s : Carry × BufTy.Contents (Elt Ideal) arg8.view.ty × BufTy.Contents (Elt Ideal) arg9.view.ty}
    (h0 : BInv H (1024 * (i 1).val) 0 D E s.1 (arg8.view.read (Elt Ideal) s.2.1) (arg9.view.read (Elt Ideal) s.2.2)) (n : ℕ) (hn : n ≤ 4 * (i 1).val) :
    BInv H (1024 * (i 1).val) (n * 256) D E (bst 𝒱 c bd i arg2 harg2 arg3 harg3 arg4 harg4 arg5 harg5 arg6 harg6 arg7 harg7 arg8 harg8 arg9 harg9 v3 v5 v7 (harg3.unread x1) (harg4.unread x2) s n).1
      (arg8.view.read (Elt Ideal) (bst 𝒱 c bd i arg2 harg2 arg3 harg3 arg4 harg4 arg5 harg5 arg6 harg6 arg7 harg7 arg8 harg8 arg9 harg9 v3 v5 v7 (harg3.unread x1) (harg4.unread x2) s n).2.1)
      (arg9.view.read (Elt Ideal) (bst 𝒱 c bd i arg2 harg2 arg3 harg3 arg4 harg4 arg5 harg5 arg6 harg6 arg7 harg7 arg8 harg8 arg9 harg9 v3 v5 v7 (harg3.unread x1) (harg4.unread x2) s n).2.2) := by
  induction n with
  | zero => rw [Nat.zero_mul]; exact h0
  | succ n ih =>
    have hi : (i 1).val < 8 := (i 1).isLt
    have hn' : n < (k1_t1_loop i).trips := by rw [k1_trips]; omega
    have e : k1_off1 i ⟨n, hn'⟩ = ![n * 256, 0] := k1_off1_eq i ⟨n, hn'⟩
    rw [bst_succ 𝒱 c bd i arg2 harg2 arg3 harg3 arg4 harg4 arg5 harg5 arg6 harg6 arg7 harg7 arg8 harg8 arg9 harg9 v3 v5 v7 (harg3.unread x1) (harg4.unread x2) s ⟨n, hn'⟩, show (n + 1) * 256 = n * 256 + 256 by omega]
    have hk' := is_ld hk e (k1_off1_inb i ⟨n, hn'⟩)
    have hv' := is_ld hv e (k1_off1_inb i ⟨n, hn'⟩)
    rw [View.readAt_eq_ld, harg3.read_unread, View.readAt_eq_ld, harg4.read_unread]
    have hq' : Is (k1_pay19 (F := Ideal) v3) fun r d => H.q (1024 * (i 1).val + r) d := hq
    have hg' : Is (k1_pay20 (F := Ideal) v5) fun r d => H.g (1024 * (i 1).val + r) d := hg
    have ht' := is_tot21 ht
    have hk'' := is_trunc hk'
    have hv'' := is_trunc hv'
    have ih' := ih (by omega)
    have hm : Masks (fun x => x) (1024 * (i 1).val) (n * 256) := masks_id (by omega)
    have hb : n * 256 + 256 ≤ 8192 := by omega
    generalize bst 𝒱 c bd i arg2 harg2 arg3 harg3 arg4 harg4 arg5 harg5 arg6 harg6 arg7 harg7 arg8 harg8 arg9 harg9 v3 v5 v7 (harg3.unread x1) (harg4.unread x2) s n = s' at ih' ⊢
    exact bblk_inv arg8.view arg9.view hs hb hm hq' hg' ht' hk'' hv'' is_tri_gt23 is_tri_lt e (k1_off1_inb i ⟨n, hn'⟩) ih'

end Cert.Attn

end
-- ==== Proof.BwdDiag.lean ====
/- The backward kernel at a grid point: the blocks of keys before the diagonal, then the four masked blocks of the
   diagonal. It leaves the gradient of the tile's queries, and the two accumulators with what the tile adds. -/
module

public import proofs.«01_k».proof.Proof.BwdLoop

@[expose] public section

set_option maxRecDepth 16384

noncomputable section

namespace Cert.Attn

open Finset Idealize.ShloMosaic Idealize.SL.Sem Cert.KernelIdeal Cert.KernelIdeal.Gen
open Idealize.ShloMosaic.Pointwise

/-- The rows of diagonal block `c` of a staged array, narrowed. -/
def bdblk (i : grid1.Coords) {sig : RefSig} {κ : Kind} {sp : Space} (a : View sig κ sp S8192x128 .f32) (X : a.ty.Contents (Elt Ideal)) (c : Fin 4) : FVec Ideal S256x128 .bf16 :=
  truncf .bf16 (View.readAt (Elt Ideal) a (Rect.unit (s := S8192x128) (k1_off3 i (BitVec.ofNat 32 c.val)) S256x128.size (k1_off3_inb i c)).toLoadRect X) bitsLt_bf16_f32

theorem is_bdblk (i : grid1.Coords) {sig : RefSig} {κ : Kind} {sp : Space} (a : View sig κ sp S8192x128 .f32) (X : a.ty.Contents (Elt Ideal)) {f : ℕ → ℕ → ℝ}
    (hx : Is (a.read (Elt Ideal) X) f) (c : Fin 4) : Is (bdblk i a X c) fun j d => f ((4 * (i 1).val + c.val) * 256 + j) d :=
  is_trunc (is_get a X (k1_off3_eq i c) (k1_off3_inb i c) hx)

section

variable {sg : RefSig} {κ κ' κ3 κ4 : Kind} {sp sp' sp3 sp4 : Space}

/-- Diagonal block `c`. -/
def bdb (a8 : View sg κ sp S8192x128 .f32) (a9 : View sg κ' sp' S8192x128 .f32) (a3 : View sg κ3 sp3 S8192x128 .f32) (a4 : View sg κ4 sp4 S8192x128 .f32)
    (X3 : a3.ty.Contents (Elt Ideal)) (X4 : a4.ty.Contents (Elt Ideal)) (i : grid1.Coords) (q g : FVec Ideal S1024x128 .bf16) (tot : FVec Ideal S1024x1 .f32) (c : Fin 4)
    (s : Carry × a8.ty.Contents (Elt Ideal) × a9.ty.Contents (Elt Ideal)) : Carry × a8.ty.Contents (Elt Ideal) × a9.ty.Contents (Elt Ideal) :=
  bblk a8 a9 (dmask (BitVec.ofNat 32 (i 1).val) (dword (BitVec.ofNat 32 (i 1).val) c.val)) k1_pay23 k1_pay24 q g tot (bdblk i a3 X3 c) (bdblk i a4 X4 c)
    (k1_off3 i (BitVec.ofNat 32 c.val)) (k1_off3_inb i c) s

/-- The four blocks of the diagonal, the first one first. -/
def bdiag (a8 : View sg κ sp S8192x128 .f32) (a9 : View sg κ' sp' S8192x128 .f32) (a3 : View sg κ3 sp3 S8192x128 .f32) (a4 : View sg κ4 sp4 S8192x128 .f32)
    (X3 : a3.ty.Contents (Elt Ideal)) (X4 : a4.ty.Contents (Elt Ideal)) (i : grid1.Coords) (q g : FVec Ideal S1024x128 .bf16) (tot : FVec Ideal S1024x1 .f32)
    (s : Carry × a8.ty.Contents (Elt Ideal) × a9.ty.Contents (Elt Ideal)) : Carry × a8.ty.Contents (Elt Ideal) × a9.ty.Contents (Elt Ideal) :=
  bdb a8 a9 a3 a4 X3 X4 i q g tot 3 (bdb a8 a9 a3 a4 X3 X4 i q g tot 2 (bdb a8 a9 a3 a4 X3 X4 i q g tot 1 (bdb a8 a9 a3 a4 X3 X4 i q g tot 0 s)))

theorem bdiag_inv (a8 : View sg κ sp S8192x128 .f32) (a9 : View sg κ' sp' S8192x128 .f32) (a3 : View sg κ3 sp3 S8192x128 .f32) (a4 : View sg κ4 sp4 S8192x128 .f32)
    (X3 : a3.ty.Contents (Elt Ideal)) (X4 : a4.ty.Contents (Elt Ideal)) (i : grid1.Coords) {q g : FVec Ideal S1024x128 .bf16} {tot : FVec Ideal S1024x1 .f32}
    {s : Carry × a8.ty.Contents (Elt Ideal) × a9.ty.Contents (Elt Ideal)} {H : Head} (hs : H.s = sc)
    (hq : Is q fun r d => H.q (1024 * (i 1).val + r) d) (hg : Is g fun r d => H.g (1024 * (i 1).val + r) d)
    (ht : Is tot fun r _ => ∑ j ∈ range 8192, H.miss (1024 * (i 1).val + r) j)
    (hk : Is (a3.read (Elt Ideal) X3) H.k) (hv : Is (a4.read (Elt Ideal) X4) H.v) {D E : ℕ → ℕ → ℝ}
    (h : BInv H (1024 * (i 1).val) (4 * (i 1).val * 256) D E s.1 (a8.read (Elt Ideal) s.2.1) (a9.read (Elt Ideal) s.2.2)) :
    BInv H (1024 * (i 1).val) ((4 * (i 1).val + 4) * 256) D E (bdiag a8 a9 a3 a4 X3 X4 i q g tot s).1
      (a8.read (Elt Ideal) (bdiag a8 a9 a3 a4 X3 X4 i q g tot s).2.1) (a9.read (Elt Ideal) (bdiag a8 a9 a3 a4 X3 X4 i q g tot s).2.2) := by
  have hi : (i 1).val < 8 := (i 1).isLt
  have step : ∀ (c : Fin 4) (b' : ℕ) (_ : b' = (4 * (i 1).val + c.val) * 256 + 256) s,
      BInv H (1024 * (i 1).val) ((4 * (i 1).val + c.val) * 256) D E s.1 (a8.read (Elt Ideal) s.2.1) (a9.read (Elt Ideal) s.2.2) →
      BInv H (1024 * (i 1).val) b' D E (bdb a8 a9 a3 a4 X3 X4 i q g tot c s).1 (a8.read (Elt Ideal) (bdb a8 a9 a3 a4 X3 X4 i q g tot c s).2.1)
        (a9.read (Elt Ideal) (bdb a8 a9 a3 a4 X3 X4 i q g tot c s).2.2) := by
    intro c b' hb' s h
    subst hb'
    have hc := c.isLt
    have hb : (4 * (i 1).val + c.val) * 256 + 256 ≤ 8192 := by omega
    have hm := masks_dmask (i 1) c
    exact bblk_inv a8 a9 hs hb hm hq hg ht (is_bdblk i a3 X3 hk c) (is_bdblk i a4 X4 hv c) is_tri_gt23 is_tri_lt (k1_off3_eq i c) (k1_off3_inb i c) h
  have h0 := step 0 ((4 * (i 1).val + 1) * 256) (by simp; omega) s h
  have h1 := step 1 ((4 * (i 1).val + 2) * 256) (by simp; omega) _ h0
  have h2 := step 2 ((4 * (i 1).val + 3) * 256) (by simp; omega) _ h1
  exact step 3 ((4 * (i 1).val + 4) * 256) (by simp; omega) _ h2

end

/-- What stands before the diagonal: the loop over the earlier blocks, and a second loop that makes no trip. -/
def bmid (𝒱 : Variants) (c : Dev nD) (bd : Option 𝒱.V) (i : grid1.Coords) (arg2 : Memref sig .tc .vmem S1024x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S8192x128 .f32) (harg8 : arg8.IsWhole) (arg9 : Memref sig .tc .vmem S8192x128 .f32) (harg9 : arg9.IsWhole) (v3 : Vec Ideal S1024x128 .f32) (v5 : Vec Ideal S1024x128 .f32) (v7 : Vec Ideal S1024x1 .f32) (w : BitVec 32) (X_arg3 : BufTy.Contents (Elt Ideal) arg3.view.ty) (X_arg4 : BufTy.Contents (Elt Ideal) arg4.view.ty)
    (G8 g8 : BufTy.Contents (Elt Ideal) arg8.view.ty) (G9 g9 : BufTy.Contents (Elt Ideal) arg9.view.ty)
    (add8 add9 : List (View.Piece (Elt Ideal) S8192x128 .f32) → List (View.Piece (Elt Ideal) S8192x128 .f32)) (init : Carry) (n2 : ℕ) :
    Carry × BufTy.Contents (Elt Ideal) arg8.view.ty × BufTy.Contents (Elt Ideal) arg9.view.ty :=
  ((st_k1_t2 (F := Ideal) 𝒱 c bd i arg2 harg2 arg3 harg3 arg4 harg4 arg5 harg5 arg6 harg6 arg7 harg7 arg8 harg8 arg9 harg9 v3 v5 v7 w X_arg3 X_arg4 (arg8.view.writes (Elt Ideal) g8 (add8 (st_k1_t1 (F := Ideal) 𝒱 c bd i arg2 harg2 arg3 harg3 arg4 harg4 arg5 harg5 arg6 harg6 arg7 harg7 arg8 harg8 arg9 harg9 v3 v5 v7 X_arg3 X_arg4 G8 G9 init (k1_t1_loop i).trips).2.1)) (arg9.view.writes (Elt Ideal) g9 (add9 (st_k1_t1 (F := Ideal) 𝒱 c bd i arg2 harg2 arg3 harg3 arg4 harg4 arg5 harg5 arg6 harg6 arg7 harg7 arg8 harg8 arg9 harg9 v3 v5 v7 X_arg3 X_arg4 G8 G9 init (k1_t1_loop i).trips).2.2)) (st_k1_t1 (F := Ideal) 𝒱 c bd i arg2 harg2 arg3 harg3 arg4 harg4 arg5 harg5 arg6 harg6 arg7 harg7 arg8 harg8 arg9 harg9 v3 v5 v7 X_arg3 X_arg4 G8 G9 init (k1_t1_loop i).trips).1 n2).1,
    arg8.view.writes (Elt Ideal) g8 ((st_k1_t2 (F := Ideal) 𝒱 c bd i arg2 harg2 arg3 harg3 arg4 harg4 arg5 harg5 arg6 harg6 arg7 harg7 arg8 harg8 arg9 harg9 v3 v5 v7 w X_arg3 X_arg4 (arg8.view.writes (Elt Ideal) g8 (add8 (st_k1_t1 (F := Ideal) 𝒱 c bd i arg2 harg2 arg3 harg3 arg4 harg4 arg5 harg5 arg6 harg6 arg7 harg7 arg8 harg8 arg9 harg9 v3 v5 v7 X_arg3 X_arg4 G8 G9 init (k1_t1_loop i).trips).2.1)) (arg9.view.writes (Elt Ideal) g9 (add9 (st_k1_t1 (F := Ideal) 𝒱 c bd i arg2 harg2 arg3 harg3 arg4 harg4 arg5 harg5 arg6 harg6 arg7 harg7 arg8 harg8 arg9 harg9 v3 v5 v7 X_arg3 X_arg4 G8 G9 init (k1_t1_loop i).trips).2.2)) (st_k1_t1 (F := Ideal) 𝒱 c bd i arg2 harg2 arg3 harg3 arg4 harg4 arg5 harg5 arg6 harg6 arg7 harg7 arg8 harg8 arg9 harg9 v3 v5 v7 X_arg3 X_arg4 G8 G9 init (k1_t1_loop i).trips).1 n2).2.1 ++ add8 (st_k1_t1 (F := Ideal) 𝒱 c bd i arg2 harg2 arg3 harg3 arg4 harg4 arg5 harg5 arg6 harg6 arg7 harg7 arg8 harg8 arg9 harg9 v3 v5 v7 X_arg3 X_arg4 G8 G9 init (k1_t1_loop i).trips).2.1),
    arg9.view.writes (Elt Ideal) g9 ((st_k1_t2 (F := Ideal) 𝒱 c bd i arg2 harg2 arg3 harg3 arg4 harg4 arg5 harg5 arg6 harg6 arg7 harg7 arg8 harg8 arg9 harg9 v3 v5 v7 w X_arg3 X_arg4 (arg8.view.writes (Elt Ideal) g8 (add8 (st_k1_t1 (F := Ideal) 𝒱 c bd i arg2 harg2 arg3 harg3 arg4 harg4 arg5 harg5 arg6 harg6 arg7 harg7 arg8 harg8 arg9 harg9 v3 v5 v7 X_arg3 X_arg4 G8 G9 init (k1_t1_loop i).trips).2.1)) (arg9.view.writes (Elt Ideal) g9 (add9 (st_k1_t1 (F := Ideal) 𝒱 c bd i arg2 harg2 arg3 harg3 arg4 harg4 arg5 harg5 arg6 harg6 arg7 harg7 arg8 harg8 arg9 harg9 v3 v5 v7 X_arg3 X_arg4 G8 G9 init (k1_t1_loop i).trips).2.2)) (st_k1_t1 (F := Ideal) 𝒱 c bd i arg2 harg2 arg3 harg3 arg4 harg4 arg5 harg5 arg6 harg6 arg7 harg7 arg8 harg8 arg9 harg9 v3 v5 v7 X_arg3 X_arg4 G8 G9 init (k1_t1_loop i).trips).1 n2).2.2 ++ add9 (st_k1_t1 (F := Ideal) 𝒱 c bd i arg2 harg2 arg3 harg3 arg4 harg4 arg5 harg5 arg6 harg6 arg7 harg7 arg8 harg8 arg9 harg9 v3 v5 v7 X_arg3 X_arg4 G8 G9 init (k1_t1_loop i).trips).2.2))

theorem bmid_inv (𝒱 : Variants) (c : Dev nD) (bd : Option 𝒱.V) (i : grid1.Coords) (arg2 : Memref sig .tc .vmem S1024x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S8192x128 .f32) (harg8 : arg8.IsWhole) (arg9 : Memref sig .tc .vmem S8192x128 .f32) (harg9 : arg9.IsWhole) (v3 : Vec Ideal S1024x128 .f32) (v5 : Vec Ideal S1024x128 .f32) (v7 : Vec Ideal S1024x1 .f32) (w : BitVec 32) {H : Head} (hs : H.s = sc) {x1 x2 : Vec Ideal S8192x128 .f32} (hk : Is x1 H.k) (hv : Is x2 H.v)
    (hq : Is v3 fun r d => H.q (1024 * (i 1).val + r) d) (hg : Is v5 fun r d => H.g (1024 * (i 1).val + r) d)
    (ht : Is v7 fun r _ => ∑ j ∈ range 8192, H.miss (1024 * (i 1).val + r) j) {D E : ℕ → ℕ → ℝ}
    {G8 g8 : BufTy.Contents (Elt Ideal) arg8.view.ty} {G9 g9 : BufTy.Contents (Elt Ideal) arg9.view.ty}
    {add8 add9 : List (View.Piece (Elt Ideal) S8192x128 .f32) → List (View.Piece (Elt Ideal) S8192x128 .f32)} {init : Carry}
    (h8 : ∀ l, arg8.view.writes (Elt Ideal) g8 (add8 l) = arg8.view.writes (Elt Ideal) G8 l)
    (h9 : ∀ l, arg9.view.writes (Elt Ideal) g9 (add9 l) = arg9.view.writes (Elt Ideal) G9 l)
    (h0 : BInv H (1024 * (i 1).val) 0 D E init (arg8.view.read (Elt Ideal) G8) (arg9.view.read (Elt Ideal) G9)) {n2 : ℕ} (hn : n2 = 0) :
    BInv H (1024 * (i 1).val) (4 * (i 1).val * 256) D E (bmid 𝒱 c bd i arg2 harg2 arg3 harg3 arg4 harg4 arg5 harg5 arg6 harg6 arg7 harg7 arg8 harg8 arg9 harg9 v3 v5 v7 w (harg3.unread x1) (harg4.unread x2) G8 g8 G9 g9 add8 add9 init n2).1
      (arg8.view.read (Elt Ideal) (bmid 𝒱 c bd i arg2 harg2 arg3 harg3 arg4 harg4 arg5 harg5 arg6 harg6 arg7 harg7 arg8 harg8 arg9 harg9 v3 v5 v7 w (harg3.unread x1) (harg4.unread x2) G8 g8 G9 g9 add8 add9 init n2).2.1)
      (arg9.view.read (Elt Ideal) (bmid 𝒱 c bd i arg2 harg2 arg3 harg3 arg4 harg4 arg5 harg5 arg6 harg6 arg7 harg7 arg8 harg8 arg9 harg9 v3 v5 v7 w (harg3.unread x1) (harg4.unread x2) G8 g8 G9 g9 add8 add9 init n2).2.2) := by
  subst hn
  have key := bloop_inv 𝒱 c bd i arg2 harg2 arg3 harg3 arg4 harg4 arg5 harg5 arg6 harg6 arg7 harg7 arg8 harg8 arg9 harg9 v3 v5 v7 hs hk hv hq hg ht (s := (init, G8, G9)) h0 (4 * (i 1).val) le_rfl
  rw [← k1_trips i] at key ⊢
  unfold bst at key
  dsimp only at key
  rw [← h8, ← h9] at key
  exact key

/-- The accumulators start from nothing at a head's first tile. -/
theorem binv_start (H : Head) (T : ℕ) {D E : ℕ → ℕ → ℝ} {x8 x9 : Vec Ideal S8192x128 .f32} (h8 : Is x8 D) (h9 : Is x9 E) :
    BInv H T 0 D E (k1_pay25, k1_pay26, k1_pay27) x8 x9 := by
  refine ⟨fun r c => ?_, fun r c => ?_, fun r c => ?_, fun j d => ?_, fun j d => ?_⟩
  · show Ideal.ofBits .f32 0x00000000#32 = _
    beta_reduce; rw [Ideal.ofBits_zero_f32, range_zero, sum_empty]; rfl
  · show Ideal.ofBits .f32 0x00000000#32 = _
    beta_reduce; rw [Ideal.ofBits_zero_f32, range_zero, sum_empty]; rfl
  · show Ideal.ofBits .f32 0x00000000#32 = _
    beta_reduce; rw [Ideal.ofBits_zero_f32, range_zero, sum_empty]; rfl
  · beta_reduce; rw [h8 j d, gain, if_neg (Nat.not_lt_zero _), add_zero]
  · beta_reduce; rw [h9 j d, gain, if_neg (Nat.not_lt_zero _), add_zero]

end Cert.Attn

end
-- ==== Proof.Bwd.lean ====
/- The backward kernel at a grid point: what it leaves in its three output blocks. -/
module

public import proofs.«01_k».proof.Proof.BwdDiag
import Idealize.ShloMosaic.Lib.VecWindow

@[expose] public section

set_option maxRecDepth 16384

noncomputable section

namespace Cert.Attn

open Finset Idealize.ShloMosaic Idealize.SL.Sem Cert.KernelIdeal Cert.KernelIdeal.Gen
open Idealize.ShloMosaic.Pointwise

/-- The first column of a staged block. -/
theorem is_col {sg : RefSig} {κ : Kind} {sp : Space} (a : View sg κ sp S1024x128 .f32) (X : a.ty.Contents (Elt Ideal)) {f : ℕ → ℝ}
    (h : Is (a.read (Elt Ideal) X) fun r _ => f r) :
    Is (n := 1024) (m := 1) (View.readAt (Elt Ideal) a (Rect.unit (s := S1024x128) ![0, 0] S1024x1.size inb_S1024x128_S1024x1_0_0).toLoadRect X) fun r _ => f r := fun r c => by
  rw [View.readAt_eq_ld, View.ld_unit_apply_of (e := .f32) (S := S1024x128) (a.read (Elt Ideal) X) ![0, 0] S1024x1.size inb_S1024x128_S1024x1_0_0 (ix2 r c) (ix2 r (0 : Fin 128))]
  · exact h r 0
  · intro k; fin_cases k
    · show r.val = 0 + r.val; omega
    · show 0 = 0 + c.val; omega

/-- A whole staged block, read back. -/
theorem is_whole {sg : RefSig} {κ : Kind} {sp : Space} (a : View sg κ sp S1024x128 .f32) (X : a.ty.Contents (Elt Ideal)) {f : ℕ → ℕ → ℝ}
    (h : Is (a.read (Elt Ideal) X) f) :
    Is (n := 1024) (m := 128) (View.readAt (Elt Ideal) a (Rect.unit (s := S1024x128) ![0, 0] S1024x128.size inb_S1024x128_S1024x128_0_0).toLoadRect X) f := by
  rw [View.readAt_eq_ld, View.ld_unit_zero (S := S1024x128) hz0]; exact h

/-- A buffer stored over whole. -/
theorem read_zero {sg : RefSig} {κ : Kind} {sp : Space} (a : View sg κ sp S8192x128 .f32) (X : a.ty.Contents (Elt Ideal)) {x : Vec Ideal S8192x128 .f32}
    (hx : x = fun _ => Ideal.ofBits .f32 0x00000000#32) :
    Is (a.read (Elt Ideal) (a.writes (Elt Ideal) X [⟨Rect.unit (s := S8192x128) ![0, 0] S8192x128.size inb_S8192x128_S8192x128_0_0, x⟩])) fun _ _ => 0 := fun j d => by
  have := View.read_writes_full a X (off := ![0, 0]) inb_S8192x128_S8192x128_0_0 x []
  rw [this, hx]; beta_reduce; rw [Ideal.ofBits_zero_f32]; rfl

/-- Where the carried value and the two buffers stand at the end, at the first tile of a head. -/
def endA (c : Dev nD) (i : grid1.Coords) (arg2 : Memref sig .tc .vmem S1024x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S8192x128 .f32) (harg8 : arg8.IsWhole) (arg9 : Memref sig .tc .vmem S8192x128 .f32) (harg9 : arg9.IsWhole) (x0 : Vec Ideal S1024x128 .f32) (x1 x2 : Vec Ideal S8192x128 .f32) (x3 x4 : Vec Ideal S1024x128 .f32) :
    Carry × BufTy.Contents (Elt Ideal) arg8.view.ty × BufTy.Contents (Elt Ideal) arg9.view.ty :=
  bdiag arg8.view arg9.view arg3.view arg4.view (harg3.unread x1) (harg4.unread x2) i (k1_pay19 (View.readAt (Elt Ideal) arg2.view (Rect.unit (s := S1024x128) ![0, 0] S1024x128.size inb_S1024x128_S1024x128_0_0).toLoadRect (harg2.unread x0))) (k1_pay20 (View.readAt (Elt Ideal) arg6.view (Rect.unit (s := S1024x128) ![0, 0] S1024x128.size inb_S1024x128_S1024x128_0_0).toLoadRect (harg6.unread x4))) (k1_pay21 (View.readAt (Elt Ideal) arg5.view (Rect.unit (s := S1024x128) ![0, 0] S1024x1.size inb_S1024x128_S1024x1_0_0).toLoadRect (harg5.unread x3)))
    (bmid Variants.none c none i arg2 harg2 arg3 harg3 arg4 harg4 arg5 harg5 arg6 harg6 arg7 harg7 arg8 harg8 arg9 harg9 (View.readAt (Elt Ideal) arg2.view (Rect.unit (s := S1024x128) ![0, 0] S1024x128.size inb_S1024x128_S1024x128_0_0).toLoadRect (harg2.unread x0)) (View.readAt (Elt Ideal) arg6.view (Rect.unit (s := S1024x128) ![0, 0] S1024x128.size inb_S1024x128_S1024x128_0_0).toLoadRect (harg6.unread x4)) (View.readAt (Elt Ideal) arg5.view (Rect.unit (s := S1024x128) ![0, 0] S1024x1.size inb_S1024x128_S1024x1_0_0).toLoadRect (harg5.unread x3)) (Scalar.addi 0#32 (Scalar.muli (Scalar.divsi (Scalar.subi (Scalar.muli (BitVec.ofNat 32 (i 1).val) 4#32) 0#32) 1#32) 1#32)) (harg3.unread x1) (harg4.unread x2)
      (arg8.view.writes (Elt Ideal) arg8.view.junk [⟨Rect.unit (s := S8192x128) ![0, 0] S8192x128.size inb_S8192x128_S8192x128_0_0, k1_pay17 (F := Ideal)⟩]) arg8.view.junk (arg9.view.writes (Elt Ideal) arg9.view.junk [⟨Rect.unit (s := S8192x128) ![0, 0] S8192x128.size inb_S8192x128_S8192x128_0_0, k1_pay18 (F := Ideal)⟩]) arg9.view.junk
      (fun l => l ++ [⟨Rect.unit (s := S8192x128) ![0, 0] S8192x128.size inb_S8192x128_S8192x128_0_0, k1_pay17 (F := Ideal)⟩]) (fun l => l ++ [⟨Rect.unit (s := S8192x128) ![0, 0] S8192x128.size inb_S8192x128_S8192x128_0_0, k1_pay18 (F := Ideal)⟩]) (k1_pay25, k1_pay26, k1_pay27) (k1_t2_loop i).trips)

theorem runA_5 (c : Dev nD) (i : grid1.Coords) (arg2 : Memref sig .tc .vmem S1024x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S8192x128 .f32) (harg8 : arg8.IsWhole) (arg9 : Memref sig .tc .vmem S8192x128 .f32) (harg9 : arg9.IsWhole) (hc0 : cond1_0 i) (x0 : Vec Ideal S1024x128 .f32) (x1 x2 : Vec Ideal S8192x128 .f32) (x3 x4 : Vec Ideal S1024x128 .f32) :
    (kernelRun1_A (F := Ideal) c i arg2 harg2 arg3 harg3 arg4 harg4 arg5 harg5 arg6 harg6 arg7 harg7 arg8 harg8 arg9 harg9 hc0 x0 x1 x2 x3 x4).1
      = [⟨Rect.unit (s := S1024x128) ![0, 0] S1024x128.size inb_S1024x128_S1024x128_0_0, (endA c i arg2 harg2 arg3 harg3 arg4 harg4 arg5 harg5 arg6 harg6 arg7 harg7 arg8 harg8 arg9 harg9 x0 x1 x2 x3 x4).1.2.2⟩] := by
  unfold kernelRun1_A
  sl_kernel_rfl

theorem runA_6 (c : Dev nD) (i : grid1.Coords) (arg2 : Memref sig .tc .vmem S1024x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S8192x128 .f32) (harg8 : arg8.IsWhole) (arg9 : Memref sig .tc .vmem S8192x128 .f32) (harg9 : arg9.IsWhole) (hc0 : cond1_0 i) (x0 : Vec Ideal S1024x128 .f32) (x1 x2 : Vec Ideal S8192x128 .f32) (x3 x4 : Vec Ideal S1024x128 .f32) :
    arg8.view.writes (Elt Ideal) arg8.view.junk (kernelRun1_A (F := Ideal) c i arg2 harg2 arg3 harg3 arg4 harg4 arg5 harg5 arg6 harg6 arg7 harg7 arg8 harg8 arg9 harg9 hc0 x0 x1 x2 x3 x4).2.1 = (endA c i arg2 harg2 arg3 harg3 arg4 harg4 arg5 harg5 arg6 harg6 arg7 harg7 arg8 harg8 arg9 harg9 x0 x1 x2 x3 x4).2.1 := by
  unfold kernelRun1_A
  sl_kernel_rfl

theorem runA_7 (c : Dev nD) (i : grid1.Coords) (arg2 : Memref sig .tc .vmem S1024x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S8192x128 .f32) (harg8 : arg8.IsWhole) (arg9 : Memref sig .tc .vmem S8192x128 .f32) (harg9 : arg9.IsWhole) (hc0 : cond1_0 i) (x0 : Vec Ideal S1024x128 .f32) (x1 x2 : Vec Ideal S8192x128 .f32) (x3 x4 : Vec Ideal S1024x128 .f32) :
    arg9.view.writes (Elt Ideal) arg9.view.junk (kernelRun1_A (F := Ideal) c i arg2 harg2 arg3 harg3 arg4 harg4 arg5 harg5 arg6 harg6 arg7 harg7 arg8 harg8 arg9 harg9 hc0 x0 x1 x2 x3 x4).2.2.1 = (endA c i arg2 harg2 arg3 harg3 arg4 harg4 arg5 harg5 arg6 harg6 arg7 harg7 arg8 harg8 arg9 harg9 x0 x1 x2 x3 x4).2.2 := by
  unfold kernelRun1_A
  sl_kernel_rfl

/-- The tile is the first of its head: the accumulators start from zero. -/
theorem out1_A_inv (c : Dev nD) (i : grid1.Coords) (arg2 : Memref sig .tc .vmem S1024x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S8192x128 .f32) (harg8 : arg8.IsWhole) (arg9 : Memref sig .tc .vmem S8192x128 .f32) (harg9 : arg9.IsWhole) (hc0 : cond1_0 i)
    {x0 : Vec Ideal S1024x128 .f32} {x1 x2 : Vec Ideal S8192x128 .f32} {x3 x4 : Vec Ideal S1024x128 .f32} {H : Head} (hs : H.s = sc)
    (hq : Is x0 fun r d => H.q (1024 * (i 1).val + r) d) (hk : Is x1 H.k) (hv : Is x2 H.v)
    (ht : Is x3 fun r _ => ∑ j ∈ range 8192, H.miss (1024 * (i 1).val + r) j) (hg : Is x4 fun r d => H.g (1024 * (i 1).val + r) d) :
    ∃ p : Carry, BInv H (1024 * (i 1).val) ((4 * (i 1).val + 4) * 256) (fun _ _ => 0) (fun _ _ => 0) p
        (out1_A_6 c i arg2 harg2 arg3 harg3 arg4 harg4 arg5 harg5 arg6 harg6 arg7 harg7 arg8 harg8 arg9 harg9 hc0 x0 x1 x2 x3 x4) (out1_A_7 c i arg2 harg2 arg3 harg3 arg4 harg4 arg5 harg5 arg6 harg6 arg7 harg7 arg8 harg8 arg9 harg9 hc0 x0 x1 x2 x3 x4)
      ∧ out1_A_5 c i arg2 harg2 arg3 harg3 arg4 harg4 arg5 harg5 arg6 harg6 arg7 harg7 arg8 harg8 arg9 harg9 hc0 x0 x1 x2 x3 x4 = p.2.2 := by
  have hr : ∀ {sg : RefSig} {κ : Kind} {sp : Space} {s : Shape} {e : EltTy} (a : Memref sg κ sp s e) (h : a.IsWhole) (x : s.Idx → Elt Ideal e), a.view.read (Elt Ideal) (h.unread x) = x :=
    fun a h x => h.read_unread x
  have q0 := is_whole arg2.view (harg2.unread x0) (by rw [hr]; exact hq)
  have g0 := is_whole arg6.view (harg6.unread x4) (by rw [hr]; exact hg)
  have t0 := is_col arg5.view (harg5.unread x3) (by rw [hr]; exact ht)
  have hm := bmid_inv Variants.none c none i arg2 harg2 arg3 harg3 arg4 harg4 arg5 harg5 arg6 harg6 arg7 harg7 arg8 harg8 arg9 harg9 (View.readAt (Elt Ideal) arg2.view (Rect.unit (s := S1024x128) ![0, 0] S1024x128.size inb_S1024x128_S1024x128_0_0).toLoadRect (harg2.unread x0)) (View.readAt (Elt Ideal) arg6.view (Rect.unit (s := S1024x128) ![0, 0] S1024x128.size inb_S1024x128_S1024x128_0_0).toLoadRect (harg6.unread x4)) (View.readAt (Elt Ideal) arg5.view (Rect.unit (s := S1024x128) ![0, 0] S1024x1.size inb_S1024x128_S1024x1_0_0).toLoadRect (harg5.unread x3)) (Scalar.addi 0#32 (Scalar.muli (Scalar.divsi (Scalar.subi (Scalar.muli (BitVec.ofNat 32 (i 1).val) 4#32) 0#32) 1#32) 1#32)) hs hk hv q0 g0 t0
    (g8 := arg8.view.junk) (g9 := arg9.view.junk) (add8 := fun l => l ++ [⟨Rect.unit (s := S8192x128) ![0, 0] S8192x128.size inb_S8192x128_S8192x128_0_0, k1_pay17 (F := Ideal)⟩]) (add9 := fun l => l ++ [⟨Rect.unit (s := S8192x128) ![0, 0] S8192x128.size inb_S8192x128_S8192x128_0_0, k1_pay18 (F := Ideal)⟩])
    (fun l => View.writes_append _ _ l _) (fun l => View.writes_append _ _ l _)
    (binv_start H _ (read_zero arg8.view arg8.view.junk rfl) (read_zero arg9.view arg9.view.junk rfl)) (k1_trips2 i)
  have hd := bdiag_inv arg8.view arg9.view arg3.view arg4.view (harg3.unread x1) (harg4.unread x2) i (q := k1_pay19 (View.readAt (Elt Ideal) arg2.view (Rect.unit (s := S1024x128) ![0, 0] S1024x128.size inb_S1024x128_S1024x128_0_0).toLoadRect (harg2.unread x0))) (g := k1_pay20 (View.readAt (Elt Ideal) arg6.view (Rect.unit (s := S1024x128) ![0, 0] S1024x128.size inb_S1024x128_S1024x128_0_0).toLoadRect (harg6.unread x4))) (tot := k1_pay21 (View.readAt (Elt Ideal) arg5.view (Rect.unit (s := S1024x128) ![0, 0] S1024x1.size inb_S1024x128_S1024x1_0_0).toLoadRect (harg5.unread x3))) hs
    q0 g0 (is_tot21 t0) (by rw [hr]; exact hk) (by rw [hr]; exact hv) hm
  have e5 : out1_A_5 (F := Ideal) c i arg2 harg2 arg3 harg3 arg4 harg4 arg5 harg5 arg6 harg6 arg7 harg7 arg8 harg8 arg9 harg9 hc0 x0 x1 x2 x3 x4 = (endA c i arg2 harg2 arg3 harg3 arg4 harg4 arg5 harg5 arg6 harg6 arg7 harg7 arg8 harg8 arg9 harg9 x0 x1 x2 x3 x4).1.2.2 := by
    unfold out1_A_5
    rw [View.read_writes_eq_canon _ _ _ (cover1_A_5 (F := Ideal) c i arg2 harg2 arg3 harg3 arg4 harg4 arg5 harg5 arg6 harg6 arg7 harg7 arg8 harg8 arg9 harg9 hc0 x0 x1 x2 x3 x4), runA_5, View.canon_unit_zero (S := S1024x128) hz0]
  have e6 : out1_A_6 (F := Ideal) c i arg2 harg2 arg3 harg3 arg4 harg4 arg5 harg5 arg6 harg6 arg7 harg7 arg8 harg8 arg9 harg9 hc0 x0 x1 x2 x3 x4 = arg8.view.read (Elt Ideal) (endA c i arg2 harg2 arg3 harg3 arg4 harg4 arg5 harg5 arg6 harg6 arg7 harg7 arg8 harg8 arg9 harg9 x0 x1 x2 x3 x4).2.1 := by
    unfold out1_A_6
    rw [View.read_writes_of_cover VO1_6 VO1_6.junk arg8.view arg8.view.junk _ (cover1_A_6 (F := Ideal) c i arg2 harg2 arg3 harg3 arg4 harg4 arg5 harg5 arg6 harg6 arg7 harg7 arg8 harg8 arg9 harg9 hc0 x0 x1 x2 x3 x4), runA_6]
  have e7 : out1_A_7 (F := Ideal) c i arg2 harg2 arg3 harg3 arg4 harg4 arg5 harg5 arg6 harg6 arg7 harg7 arg8 harg8 arg9 harg9 hc0 x0 x1 x2 x3 x4 = arg9.view.read (Elt Ideal) (endA c i arg2 harg2 arg3 harg3 arg4 harg4 arg5 harg5 arg6 harg6 arg7 harg7 arg8 harg8 arg9 harg9 x0 x1 x2 x3 x4).2.2 := by
    unfold out1_A_7
    rw [View.read_writes_of_cover VO1_7 VO1_7.junk arg9.view arg9.view.junk _ (cover1_A_7 (F := Ideal) c i arg2 harg2 arg3 harg3 arg4 harg4 arg5 harg5 arg6 harg6 arg7 harg7 arg8 harg8 arg9 harg9 hc0 x0 x1 x2 x3 x4), runA_7]
  rw [e6, e7]
  exact ⟨_, hd, e5⟩

/-- Where the carried value and the two buffers stand at the end, at a later tile of a head. -/
def endB (c : Dev nD) (i : grid1.Coords) (arg2 : Memref sig .tc .vmem S1024x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S8192x128 .f32) (harg8 : arg8.IsWhole) (arg9 : Memref sig .tc .vmem S8192x128 .f32) (harg9 : arg9.IsWhole) (x0 : Vec Ideal S1024x128 .f32) (x1 x2 : Vec Ideal S8192x128 .f32) (x3 x4 : Vec Ideal S1024x128 .f32) (xo6 xo7 : Vec Ideal S8192x128 .f32) :
    Carry × BufTy.Contents (Elt Ideal) arg8.view.ty × BufTy.Contents (Elt Ideal) arg9.view.ty :=
  bdiag arg8.view arg9.view arg3.view arg4.view (harg3.unread x1) (harg4.unread x2) i (k1_pay19 (View.readAt (Elt Ideal) arg2.view (Rect.unit (s := S1024x128) ![0, 0] S1024x128.size inb_S1024x128_S1024x128_0_0).toLoadRect (harg2.unread x0))) (k1_pay20 (View.readAt (Elt Ideal) arg6.view (Rect.unit (s := S1024x128) ![0, 0] S1024x128.size inb_S1024x128_S1024x128_0_0).toLoadRect (harg6.unread x4))) (k1_pay21 (View.readAt (Elt Ideal) arg5.view (Rect.unit (s := S1024x128) ![0, 0] S1024x1.size inb_S1024x128_S1024x1_0_0).toLoadRect (harg5.unread x3)))
    (bmid Variants.none c none i arg2 harg2 arg3 harg3 arg4 harg4 arg5 harg5 arg6 harg6 arg7 harg7 arg8 harg8 arg9 harg9 (View.readAt (Elt Ideal) arg2.view (Rect.unit (s := S1024x128) ![0, 0] S1024x128.size inb_S1024x128_S1024x128_0_0).toLoadRect (harg2.unread x0)) (View.readAt (Elt Ideal) arg6.view (Rect.unit (s := S1024x128) ![0, 0] S1024x128.size inb_S1024x128_S1024x128_0_0).toLoadRect (harg6.unread x4)) (View.readAt (Elt Ideal) arg5.view (Rect.unit (s := S1024x128) ![0, 0] S1024x1.size inb_S1024x128_S1024x1_0_0).toLoadRect (harg5.unread x3)) (Scalar.addi 0#32 (Scalar.muli (Scalar.divsi (Scalar.subi (Scalar.muli (BitVec.ofNat 32 (i 1).val) 4#32) 0#32) 1#32) 1#32)) (harg3.unread x1) (harg4.unread x2)
      (harg8.unread xo6) (harg8.unread xo6) (harg9.unread xo7) (harg9.unread xo7)
      (fun l => l) (fun l => l) (k1_pay25, k1_pay26, k1_pay27) (k1_t2_loop i).trips)

theorem runB_5 (c : Dev nD) (i : grid1.Coords) (arg2 : Memref sig .tc .vmem S1024x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S8192x128 .f32) (harg8 : arg8.IsWhole) (arg9 : Memref sig .tc .vmem S8192x128 .f32) (harg9 : arg9.IsWhole) (hc0 : ¬cond1_0 i) (x0 : Vec Ideal S1024x128 .f32) (x1 x2 : Vec Ideal S8192x128 .f32) (x3 x4 : Vec Ideal S1024x128 .f32) (xo6 xo7 : Vec Ideal S8192x128 .f32) :
    (kernelRun1_B (F := Ideal) c i arg2 harg2 arg3 harg3 arg4 harg4 arg5 harg5 arg6 harg6 arg7 harg7 arg8 harg8 arg9 harg9 hc0 x0 x1 x2 x3 x4 xo6 xo7).1
      = [⟨Rect.unit (s := S1024x128) ![0, 0] S1024x128.size inb_S1024x128_S1024x128_0_0, (endB c i arg2 harg2 arg3 harg3 arg4 harg4 arg5 harg5 arg6 harg6 arg7 harg7 arg8 harg8 arg9 harg9 x0 x1 x2 x3 x4 xo6 xo7).1.2.2⟩] := by
  unfold kernelRun1_B
  sl_kernel_rfl

theorem runB_6 (c : Dev nD) (i : grid1.Coords) (arg2 : Memref sig .tc .vmem S1024x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S8192x128 .f32) (harg8 : arg8.IsWhole) (arg9 : Memref sig .tc .vmem S8192x128 .f32) (harg9 : arg9.IsWhole) (hc0 : ¬cond1_0 i) (x0 : Vec Ideal S1024x128 .f32) (x1 x2 : Vec Ideal S8192x128 .f32) (x3 x4 : Vec Ideal S1024x128 .f32) (xo6 xo7 : Vec Ideal S8192x128 .f32) :
    arg8.view.writes (Elt Ideal) (harg8.unread xo6) (kernelRun1_B (F := Ideal) c i arg2 harg2 arg3 harg3 arg4 harg4 arg5 harg5 arg6 harg6 arg7 harg7 arg8 harg8 arg9 harg9 hc0 x0 x1 x2 x3 x4 xo6 xo7).2.1 = (endB c i arg2 harg2 arg3 harg3 arg4 harg4 arg5 harg5 arg6 harg6 arg7 harg7 arg8 harg8 arg9 harg9 x0 x1 x2 x3 x4 xo6 xo7).2.1 := by
  unfold kernelRun1_B
  sl_kernel_rfl

theorem runB_7 (c : Dev nD) (i : grid1.Coords) (arg2 : Memref sig .tc .vmem S1024x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S8192x128 .f32) (harg8 : arg8.IsWhole) (arg9 : Memref sig .tc .vmem S8192x128 .f32) (harg9 : arg9.IsWhole) (hc0 : ¬cond1_0 i) (x0 : Vec Ideal S1024x128 .f32) (x1 x2 : Vec Ideal S8192x128 .f32) (x3 x4 : Vec Ideal S1024x128 .f32) (xo6 xo7 : Vec Ideal S8192x128 .f32) :
    arg9.view.writes (Elt Ideal) (harg9.unread xo7) (kernelRun1_B (F := Ideal) c i arg2 harg2 arg3 harg3 arg4 harg4 arg5 harg5 arg6 harg6 arg7 harg7 arg8 harg8 arg9 harg9 hc0 x0 x1 x2 x3 x4 xo6 xo7).2.2.1 = (endB c i arg2 harg2 arg3 harg3 arg4 harg4 arg5 harg5 arg6 harg6 arg7 harg7 arg8 harg8 arg9 harg9 x0 x1 x2 x3 x4 xo6 xo7).2.2 := by
  unfold kernelRun1_B
  sl_kernel_rfl

/-- A later tile of the head: the accumulators are carried on. -/
theorem out1_B_inv (c : Dev nD) (i : grid1.Coords) (arg2 : Memref sig .tc .vmem S1024x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S8192x128 .f32) (harg8 : arg8.IsWhole) (arg9 : Memref sig .tc .vmem S8192x128 .f32) (harg9 : arg9.IsWhole) (hc0 : ¬cond1_0 i)
    {x0 : Vec Ideal S1024x128 .f32} {x1 x2 : Vec Ideal S8192x128 .f32} {x3 x4 : Vec Ideal S1024x128 .f32} {xo6 xo7 : Vec Ideal S8192x128 .f32} {H : Head} (hs : H.s = sc)
    (hq : Is x0 fun r d => H.q (1024 * (i 1).val + r) d) (hk : Is x1 H.k) (hv : Is x2 H.v)
    (ht : Is x3 fun r _ => ∑ j ∈ range 8192, H.miss (1024 * (i 1).val + r) j) (hg : Is x4 fun r d => H.g (1024 * (i 1).val + r) d)
    {D E : ℕ → ℕ → ℝ} (hD : Is xo6 D) (hE : Is xo7 E) :
    ∃ p : Carry, BInv H (1024 * (i 1).val) ((4 * (i 1).val + 4) * 256) D E p
        (out1_B_6 c i arg2 harg2 arg3 harg3 arg4 harg4 arg5 harg5 arg6 harg6 arg7 harg7 arg8 harg8 arg9 harg9 hc0 x0 x1 x2 x3 x4 xo6 xo7) (out1_B_7 c i arg2 harg2 arg3 harg3 arg4 harg4 arg5 harg5 arg6 harg6 arg7 harg7 arg8 harg8 arg9 harg9 hc0 x0 x1 x2 x3 x4 xo6 xo7)
      ∧ out1_B_5 c i arg2 harg2 arg3 harg3 arg4 harg4 arg5 harg5 arg6 harg6 arg7 harg7 arg8 harg8 arg9 harg9 hc0 x0 x1 x2 x3 x4 xo6 xo7 = p.2.2 := by
  have hr : ∀ {sg : RefSig} {κ : Kind} {sp : Space} {s : Shape} {e : EltTy} (a : Memref sg κ sp s e) (h : a.IsWhole) (x : s.Idx → Elt Ideal e), a.view.read (Elt Ideal) (h.unread x) = x :=
    fun a h x => h.read_unread x
  have q0 := is_whole arg2.view (harg2.unread x0) (by rw [hr]; exact hq)
  have g0 := is_whole arg6.view (harg6.unread x4) (by rw [hr]; exact hg)
  have t0 := is_col arg5.view (harg5.unread x3) (by rw [hr]; exact ht)
  have hm := bmid_inv Variants.none c none i arg2 harg2 arg3 harg3 arg4 harg4 arg5 harg5 arg6 harg6 arg7 harg7 arg8 harg8 arg9 harg9 (View.readAt (Elt Ideal) arg2.view (Rect.unit (s := S1024x128) ![0, 0] S1024x128.size inb_S1024x128_S1024x128_0_0).toLoadRect (harg2.unread x0)) (View.readAt (Elt Ideal) arg6.view (Rect.unit (s := S1024x128) ![0, 0] S1024x128.size inb_S1024x128_S1024x128_0_0).toLoadRect (harg6.unread x4)) (View.readAt (Elt Ideal) arg5.view (Rect.unit (s := S1024x128) ![0, 0] S1024x1.size inb_S1024x128_S1024x1_0_0).toLoadRect (harg5.unread x3)) (Scalar.addi 0#32 (Scalar.muli (Scalar.divsi (Scalar.subi (Scalar.muli (BitVec.ofNat 32 (i 1).val) 4#32) 0#32) 1#32) 1#32)) hs hk hv q0 g0 t0
    (g8 := harg8.unread xo6) (g9 := harg9.unread xo7) (add8 := fun l => l) (add9 := fun l => l) (fun l => rfl) (fun l => rfl)
    (binv_start H _ (by rw [hr]; exact hD) (by rw [hr]; exact hE)) (k1_trips2 i)
  have hd := bdiag_inv arg8.view arg9.view arg3.view arg4.view (harg3.unread x1) (harg4.unread x2) i (q := k1_pay19 (View.readAt (Elt Ideal) arg2.view (Rect.unit (s := S1024x128) ![0, 0] S1024x128.size inb_S1024x128_S1024x128_0_0).toLoadRect (harg2.unread x0))) (g := k1_pay20 (View.readAt (Elt Ideal) arg6.view (Rect.unit (s := S1024x128) ![0, 0] S1024x128.size inb_S1024x128_S1024x128_0_0).toLoadRect (harg6.unread x4))) (tot := k1_pay21 (View.readAt (Elt Ideal) arg5.view (Rect.unit (s := S1024x128) ![0, 0] S1024x1.size inb_S1024x128_S1024x1_0_0).toLoadRect (harg5.unread x3))) hs
    q0 g0 (is_tot21 t0) (by rw [hr]; exact hk) (by rw [hr]; exact hv) hm
  have e5 : out1_B_5 (F := Ideal) c i arg2 harg2 arg3 harg3 arg4 harg4 arg5 harg5 arg6 harg6 arg7 harg7 arg8 harg8 arg9 harg9 hc0 x0 x1 x2 x3 x4 xo6 xo7 = (endB c i arg2 harg2 arg3 harg3 arg4 harg4 arg5 harg5 arg6 harg6 arg7 harg7 arg8 harg8 arg9 harg9 x0 x1 x2 x3 x4 xo6 xo7).1.2.2 := by
    unfold out1_B_5
    rw [View.read_writes_eq_canon _ _ _ (cover1_B_5 (F := Ideal) c i arg2 harg2 arg3 harg3 arg4 harg4 arg5 harg5 arg6 harg6 arg7 harg7 arg8 harg8 arg9 harg9 hc0 x0 x1 x2 x3 x4 xo6 xo7), runB_5, View.canon_unit_zero (S := S1024x128) hz0]
  have e6 : out1_B_6 (F := Ideal) c i arg2 harg2 arg3 harg3 arg4 harg4 arg5 harg5 arg6 harg6 arg7 harg7 arg8 harg8 arg9 harg9 hc0 x0 x1 x2 x3 x4 xo6 xo7 = arg8.view.read (Elt Ideal) (endB c i arg2 harg2 arg3 harg3 arg4 harg4 arg5 harg5 arg6 harg6 arg7 harg7 arg8 harg8 arg9 harg9 x0 x1 x2 x3 x4 xo6 xo7).2.1 := by
    unfold out1_B_6
    rw [runB_6]
  have e7 : out1_B_7 (F := Ideal) c i arg2 harg2 arg3 harg3 arg4 harg4 arg5 harg5 arg6 harg6 arg7 harg7 arg8 harg8 arg9 harg9 hc0 x0 x1 x2 x3 x4 xo6 xo7 = arg9.view.read (Elt Ideal) (endB c i arg2 harg2 arg3 harg3 arg4 harg4 arg5 harg5 arg6 harg6 arg7 harg7 arg8 harg8 arg9 harg9 x0 x1 x2 x3 x4 xo6 xo7).2.2 := by
    unfold out1_B_7
    rw [runB_7]
  rw [e6, e7]
  exact ⟨_, hd, e5⟩

end Cert.Attn

end
-- ==== Proof.Arrays.lean ====
/- The arrays the two calls leave: the output and the totals of the forward call, the three gradients of the backward one. -/
module

public import proofs.«01_k».proof.Proof.Blocks
public import proofs.«01_k».proof.Proof.Fwd
public import proofs.«01_k».proof.Proof.Bwd
import Idealize.ShloMosaic.Lib.Pipeline.ValueKit
import Idealize.ShloMosaic.Lib.Affine

@[expose] public section

set_option maxRecDepth 16384

noncomputable section

namespace Cert.Attn

open Finset Idealize.ShloMosaic Idealize.ShloMosaic.TcCoe Idealize.SL.Sem Cert.KernelIdeal Cert.KernelIdeal.Gen
open Idealize.ShloMosaic.Pointwise

/-- The heads cut out of the projection `p` and the output's gradient `u`: head `h` has 128 columns of each part. -/
def hd (p u : ℕ → ℕ → ℝ) (h : ℕ) : Head where
  q t d := p t (128 * h + d)
  k j d := p j (128 * (12 + h) + d)
  v j d := p j (128 * (24 + h) + d)
  g t d := u t (128 * h + d)
  s := sc

/-- A table with a head's columns side by side. -/
def side (f : ℕ → ℕ → ℕ → ℝ) (t c : ℕ) : ℝ := f (c / 128) t (c % 128)

theorem side_at (f : ℕ → ℕ → ℕ → ℝ) (t h d : ℕ) (hd : d < 128) : side f t (h * 128 + d) = f h t d := by
  unfold side
  rw [show (h * 128 + d) / 128 = h by omega, show (h * 128 + d) % 128 = d by omega]

/-- A query's total. -/
def Head.tot (H : Head) (t : ℕ) : ℝ := ∑ j ∈ range 8192, H.miss t j

/-- A tile's share of a sum over the queries, where the keys not before a query contribute nothing. -/
theorem gain_eq {T : ℕ} {f g : ℕ → ℕ → ℝ} (hf : ∀ t j, t ≤ j → f t j = 0) (j d : ℕ) :
    ∑ t ∈ range T, f t j * g t d + gain T (T + 1024) f g j d = ∑ t ∈ range (T + 1024), f t j * g t d := by
  rw [sum_range_add]
  congr 1
  unfold gain
  split
  · rfl
  · refine (sum_eq_zero fun r hr => ?_).symm
    have := mem_range.1 hr
    rw [hf _ _ (by omega), zero_mul]

/-- A block's table at an index given as one. -/
theorem Is.at {n m : ℕ} {x : (⟨2, ![n, m]⟩ : Shape).Idx → EReal} {f : ℕ → ℕ → ℝ} (h : Is x f) (y : (⟨2, ![n, m]⟩ : Shape).Idx) :
    x y = ((f (y 0).val (y 1).val : ℝ) : EReal) := by
  have e : y = ix2 (y 0 : Fin n) (y 1 : Fin m) := by funext a; fin_cases a <;> rfl
  rw [e]; exact h (y 0) (y 1)

section
variable (V : (c : Dev nD) → (b : Ref sig .tc) → Buf (Elt Ideal) ((c : Thread nD τ).loc b))

/-- The forward call at a grid point. -/
theorem pt0 (c : Dev nD) (t : Fin cfg0.N) {p : ℕ → ℕ → ℝ} (u : ℕ → ℕ → ℝ) (hp : Tab (V c main_arg0) p) :
    Is (n := 1024) (m := 128) (outsAt0 V c t).1 (fun r d => (hd p u (t.val / 8)).o (1024 * (t.val % 8) + r) d)
      ∧ Is (n := 1024) (m := 128) (outsAt0 V c t).2 (fun r d => (hd p u (t.val / 8)).tot (1024 * (t.val % 8) + r)) := by
  obtain ⟨x, hx, e3, e4⟩ := out0_inv c (grid0.coords t) (ms0_0 t) (hs0_0 t) (ms0_1 t) (hs0_1 t) (ms0_2 t) (hs0_2 t) (ms0_3 t) (hs0_3 t) (ms0_4 t) (hs0_4 t)
    (x0 := iblk0 V c 0 t) (x1 := iblk0 V c 1 t) (x2 := iblk0 V c 2 t) (H := hd p u (t.val / 8)) rfl
    (by rw [(co0 t).2]; exact is_blk0_0 V c t hp) (is_blk0_1 V c t hp) (is_blk0_2 V c t hp)
  rw [(co0 t).2] at hx
  unfold outsAt0
  rw [e3, e4]
  refine ⟨fun r d => ?_, fun r d => ?_⟩
  · refine (hx.2 r d).trans ?_
    beta_reduce; unfold Head.o; rw [range_eq_Ico]
  · refine Eq.trans (b := x.1 (ix2 r 0)) ?_ ((hx.1 r 0).trans ?_)
    · show k0_pay52 x.1 (ix2 r d) = _
      pointwise [k0_pay52]
    · beta_reduce; unfold Head.tot; rw [range_eq_Ico]

/-- The output array. -/
theorem arr0_3 (c : Dev nD) {p : ℕ → ℕ → ℝ} (u : ℕ → ℕ → ℝ) (hp : Tab (V c main_arg0) p) :
    Tab ((dat0 V c).arrAt 3 cfg0.N) (side fun h => (hd p u h).o) := fun y => by
  refine (dat0 V c).arrAt_forall_of_covers 3 (fun i v => v = ((side (fun h => (hd p u h).o) (i 0).val (i 1).val : ℝ) : EReal)) (by decide +kernel) (fun t hf y => ?_) y
  blk_simp [ix0_3]
  rw [after0_3, side_at _ _ _ _ (y 1).isLt]
  refine ((pt0 V c t u hp).1.at y).trans ?_
  simp only [Nat.mul_comm]

/-- The totals' array. -/
theorem arr0_4 (c : Dev nD) {p : ℕ → ℕ → ℝ} (u : ℕ → ℕ → ℝ) (hp : Tab (V c main_arg0) p) :
    Tab ((dat0 V c).arrAt 4 cfg0.N) (side fun h t _ => (hd p u h).tot t) := fun y => by
  refine (dat0 V c).arrAt_forall_of_covers 4 (fun i v => v = ((side (fun h t _ => (hd p u h).tot t) (i 0).val (i 1).val : ℝ) : EReal)) (by decide +kernel) (fun t hf y => ?_) y
  blk_simp [ix0_4]
  rw [after0_4, side_at _ _ _ _ (y 1).isLt]
  refine ((pt0 V c t u hp).2.at y).trans ?_
  simp only [Nat.mul_comm]

/-- What the backward call's three blocks hold after the tile `t`: the gradient of the tile's queries, and the gradients of all
    keys and values from the queries up to the tile's end. -/
def Tiles (H : Head) (i : ℕ) (x : Vec Ideal S1024x128 .f32 × Vec Ideal S8192x128 .f32 × Vec Ideal S8192x128 .f32) : Prop :=
  Is (n := 1024) (m := 128) x.1 (fun r d => H.dq (1024 * i + r) d)
    ∧ Is (n := 8192) (m := 128) x.2.1 (fun j d => ∑ t ∈ range (1024 * (i + 1)), H.dz t j * H.s * H.q t d)
    ∧ Is (n := 8192) (m := 128) x.2.2 (fun j d => ∑ t ∈ range (1024 * (i + 1)), H.w t j * H.g t d)

/-- From what a tile leaves over the accumulators `D` and `E`. -/
theorem tiles_of (H : Head) (i : ℕ) (hi : i < 8) {D E : ℕ → ℕ → ℝ} (hD : ∀ j d, D j d = ∑ t ∈ range (1024 * i), H.dz t j * H.s * H.q t d)
    (hE : ∀ j d, E j d = ∑ t ∈ range (1024 * i), H.w t j * H.g t d) {x5 : Vec Ideal S1024x128 .f32} {x6 x7 : Vec Ideal S8192x128 .f32}
    (h : ∃ p : Carry, BInv H (1024 * i) ((4 * i + 4) * 256) D E p x6 x7 ∧ x5 = p.2.2) : Tiles H i (x5, x6, x7) := by
  obtain ⟨p, ⟨-, -, h5, h6, h7⟩, rfl⟩ := h
  have eb : (4 * i + 4) * 256 = 1024 * i + 1024 := by omega
  have ei : 1024 * (i + 1) = 1024 * i + 1024 := by omega
  refine ⟨fun r d => (h5 r d).trans ?_, fun j d => (h6 j d).trans ?_, fun j d => (h7 j d).trans ?_⟩
  · beta_reduce
    unfold Head.dq
    congr 1
    refine sum_subset (range_subset_range.2 (by omega)) fun j _ hj => ?_
    have := r.isLt
    rw [mem_range] at hj
    rw [H.dz_eq_zero (by omega), zero_mul, zero_mul]
  · beta_reduce
    rw [hD, eb, ei]
    exact congrArg _ (gain_eq (f := fun t j => H.dz t j * H.s) (fun t j h => by beta_reduce; rw [H.dz_eq_zero h, zero_mul]) j.val d.val)
  · beta_reduce
    rw [hE, eb, ei]
    exact congrArg _ (gain_eq (fun t j h => H.w_eq_zero h) j.val d.val)

/-- The backward call at a grid point. -/
theorem pt1 (c : Dev nD) {p u : ℕ → ℕ → ℝ} (hp : Tab (V c main_arg0) p) (hu : Tab (V c main_arg1) u)
    (ht : Tab (V c main_v0_1) (side fun h t _ => (hd p u h).tot t)) :
    ∀ (n : ℕ) (hn : n < cfg1.N), Tiles (hd p u (n / 8)) (n % 8) (outsAt1 V c n hn) := by
  have key : ∀ t : Fin cfg1.N, Is (n := 1024) (m := 128) (iblk1 V c 3 t) fun r _ => ∑ j ∈ range 8192, (hd p u (t.val / 8)).miss (1024 * (t.val % 8) + r) j := fun t r d =>
    (is_blk1_3 V c t ht r d).trans (by beta_reduce; rw [Nat.mul_comm 128, side_at _ _ _ _ d.isLt]; rfl)
  intro n
  induction n using Nat.strongRecOn with
  | ind n ih =>
    intro hn
    obtain ⟨t, rfl⟩ : ∃ t : Fin cfg1.N, t.val = n := ⟨⟨n, hn⟩, rfl⟩
    have q0 := is_blk1_0 V c t hp
    have g0 := is_blk1_4 V c t hu
    have t0 := key t
    have ei := (co1 t).2
    by_cases h0 : t.val % 8 = 0
    · have := outsAt1_A V c t h0
      refine Eq.mp (congrArg _ this.symm) (tiles_of _ _ (Nat.mod_lt _ (by decide)) (D := fun _ _ => 0) (E := fun _ _ => 0) ?_ ?_ ?_)
      · intro j d; rw [h0, Nat.mul_zero, range_zero, sum_empty]
      · intro j d; rw [h0, Nat.mul_zero, range_zero, sum_empty]
      · have h := out1_A_inv c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0)
          (x0 := iblk1 V c 0 t) (x1 := iblk1 V c 1 t) (x2 := iblk1 V c 2 t) (x3 := iblk1 V c 3 t) (x4 := iblk1 V c 4 t) (H := hd p u (t.val / 8)) rfl
          (by rw [ei]; exact q0) (is_blk1_1 V c t hp) (is_blk1_2 V c t hp) (by rw [ei]; exact t0) (by rw [ei]; exact g0)
        rw [ei] at h
        exact h
    · have := outsAt1_B V c t h0
      have h' := ih (t.val - 1) (by omega) (Nat.lt_of_le_of_lt (Nat.sub_le _ _) t.isLt)
      rw [show (t.val - 1) / 8 = t.val / 8 by omega] at h'
      have hm : (t.val - 1) % 8 + 1 = t.val % 8 := by omega
      obtain ⟨-, h6, h7⟩ := h'
      rw [hm] at h6 h7
      refine Eq.mp (congrArg _ this.symm) (tiles_of _ _ (Nat.mod_lt _ (by decide)) (fun _ _ => rfl) (fun _ _ => rfl) ?_)
      have h := out1_B_inv c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h))
        (x0 := iblk1 V c 0 t) (x1 := iblk1 V c 1 t) (x2 := iblk1 V c 2 t) (x3 := iblk1 V c 3 t) (x4 := iblk1 V c 4 t) (H := hd p u (t.val / 8)) rfl
        (by rw [ei]; exact q0) (is_blk1_1 V c t hp) (is_blk1_2 V c t hp) (by rw [ei]; exact t0) (by rw [ei]; exact g0) h6 h7
      rw [ei] at h
      exact h

/-- The array of the queries' gradient. -/
theorem arr1_5 (c : Dev nD) {p u : ℕ → ℕ → ℝ} (hp : Tab (V c main_arg0) p) (hu : Tab (V c main_arg1) u)
    (ht : Tab (V c main_v0_1) (side fun h t _ => (hd p u h).tot t)) :
    Tab ((dat1 V c).arrAt 5 cfg1.N) (side fun h => (hd p u h).dq) := fun y => by
  refine (dat1 V c).arrAt_forall_of_covers 5 (fun i v => v = ((side (fun h => (hd p u h).dq) (i 0).val (i 1).val : ℝ) : EReal)) (by decide +kernel) (fun t hf y => ?_) y
  blk_simp [ix1_5]
  rw [after1_5, side_at _ _ _ _ (y 1).isLt]
  refine ((pt1 V c hp hu ht t.val t.isLt).1.at y).trans ?_
  simp only [Nat.mul_comm]

/-- The array of the keys' gradient. -/
theorem arr1_6 (c : Dev nD) {p u : ℕ → ℕ → ℝ} (hp : Tab (V c main_arg0) p) (hu : Tab (V c main_arg1) u)
    (ht : Tab (V c main_v0_1) (side fun h t _ => (hd p u h).tot t)) :
    Tab ((dat1 V c).arrAt 6 cfg1.N) (side fun h => (hd p u h).dk) := fun y => by
  refine (dat1 V c).arrAt_forall_of_covers 6 (fun i v => v = ((side (fun h => (hd p u h).dk) (i 0).val (i 1).val : ℝ) : EReal)) (by decide +kernel) (fun t hf y => ?_) y
  blk_simp [ix1_6]
  rw [after1_6, side_at _ _ _ _ (y 1).isLt]
  refine ((pt1 V c hp hu ht t.val t.isLt).2.1.at y).trans ?_
  rw [(flush1_6 t).1 hf]
  simp only [Nat.zero_mul, Nat.zero_add]
  rfl

/-- The array of the values' gradient. -/
theorem arr1_7 (c : Dev nD) {p u : ℕ → ℕ → ℝ} (hp : Tab (V c main_arg0) p) (hu : Tab (V c main_arg1) u)
    (ht : Tab (V c main_v0_1) (side fun h t _ => (hd p u h).tot t)) :
    Tab ((dat1 V c).arrAt 7 cfg1.N) (side fun h => (hd p u h).dv) := fun y => by
  refine (dat1 V c).arrAt_forall_of_covers 7 (fun i v => v = ((side (fun h => (hd p u h).dv) (i 0).val (i 1).val : ℝ) : EReal)) (by decide +kernel) (fun t hf y => ?_) y
  blk_simp [ix1_7]
  rw [after1_7, side_at _ _ _ _ (y 1).isLt]
  refine ((pt1 V c hp hu ht t.val t.isLt).2.2.at y).trans ?_
  rw [(flush1_7 t).1 hf]
  simp only [Nat.zero_mul, Nat.zero_add]
  rfl

end

end Cert.Attn

end
-- ==== Proof.KRun.lean ====
/- The whole program's run: every buffer ends at the contents the second call leaves. -/
module

public import proofs.«01_k».proof.Proof.Arrays

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The launch, with the buffers' contents kept in what is concluded. -/
theorem kernel_run : θ_run defs (onTc (τ := τ) (main (F := Ideal))) ⟨m, fun _ => 0, ρ⟩ (fun r => ∀ c : Dev nD,
    ∀ b ∈ Pipeline.ucRefs τ sig, r.2.mem (((c : Thread nD τ)).1, b) = W2 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => h)

/-- The four results and the two arguments at the end, where the arguments hold tables of reals. -/
theorem kernel_results (p u : Dev nD → ℕ → ℕ → ℝ) (hp : ∀ c : Dev nD, Tab (m ((c.tc : Thread nD τ).loc main_arg0)) (p c))
    (hu : ∀ c : Dev nD, Tab (m ((c.tc : Thread nD τ).loc main_arg1)) (u c)) :
    θ_run defs (onTc (τ := τ) (main (F := Ideal))) ⟨m, fun _ => 0, ρ⟩ (fun r => ∀ c : Dev nD,
      Tab (r.2.mem ((c.tc : Thread nD τ).loc main_v0_0)) (side fun h => (hd (p c) (u c) h).o)
      ∧ Tab (r.2.mem ((c.tc : Thread nD τ).loc main_v1_0)) (side fun h => (hd (p c) (u c) h).dq)
      ∧ Tab (r.2.mem ((c.tc : Thread nD τ).loc main_v1_1)) (side fun h => (hd (p c) (u c) h).dk)
      ∧ Tab (r.2.mem ((c.tc : Thread nD τ).loc main_v1_2)) (side fun h => (hd (p c) (u c) h).dv)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (kernel_run m ρ)
  have a0 : Tab (V1 m ρ c main_arg0) (p c) := by
    rw [show V1 m ρ c main_arg0 = m ((c : Thread nD τ).loc main_arg0) from W1_args m ρ c main_arg0 (by decide)]; exact hp c
  have a1 : Tab (V1 m ρ c main_arg1) (u c) := by
    rw [show V1 m ρ c main_arg1 = m ((c : Thread nD τ).loc main_arg1) from W1_args m ρ c main_arg1 (by decide)]; exact hu c
  have at' : Tab (V1 m ρ c main_v0_1) (side fun h t _ => (hd (p c) (u c) h).tot t) := by
    rw [show V1 m ρ c main_v0_1 = (dat0 (V0 m ρ) c).arrAt 4 cfg0.N from W1_arr m ρ c 4]; exact arr0_4 (V0 m ρ) c (u c) (hp c)
  have e0 : r.2.mem ((c.tc : Thread nD τ).loc main_v0_0) = (dat0 (V0 m ρ) c).arrAt 3 cfg0.N :=
    ((h c _ (mem_uc main_v0_0 (by decide))).trans (W2_of m ρ c main_v0_0 (by decide))).trans (W1_arr m ρ c 3)
  have e5 : r.2.mem ((c.tc : Thread nD τ).loc main_v1_0) = (dat1 (V1 m ρ) c).arrAt 5 cfg1.N :=
    (h c _ (mem_uc main_v1_0 (by decide))).trans (W2_arr m ρ c 5)
  have e6 : r.2.mem ((c.tc : Thread nD τ).loc main_v1_1) = (dat1 (V1 m ρ) c).arrAt 6 cfg1.N :=
    (h c _ (mem_uc main_v1_1 (by decide))).trans (W2_arr m ρ c 6)
  have e7 : r.2.mem ((c.tc : Thread nD τ).loc main_v1_2) = (dat1 (V1 m ρ) c).arrAt 7 cfg1.N :=
    (h c _ (mem_uc main_v1_2 (by decide))).trans (W2_arr m ρ c 7)
  refine ⟨?_, ?_, ?_, ?_, (h c _ (mem_uc main_arg0 (by decide))).trans (W2_main_arg0 m ρ c), (h c _ (mem_uc main_arg1 (by decide))).trans (W2_main_arg1 m ρ c)⟩
  · rw [e0]; exact arr0_3 (V0 m ρ) c (u c) (hp c)
  · rw [e5]; exact arr1_5 (V1 m ρ) c a0 a1 at'
  · rw [e6]; exact arr1_6 (V1 m ρ) c a0 a1 at'
  · rw [e7]; exact arr1_7 (V1 m ρ) c a0 a1 at'

end Cert.Attn

end
-- ==== Proof.RefOps.lean ====
/- The reference's operations on arrays of real entries: each one gives an array of real entries, named. -/
module

public import proofs.«01_k».proof.Proof.Tile
public import proofs.«01_k».proof.ReferenceIdeal
import Idealize.ShloMosaic.Lib.Pointwise

@[expose] public section

set_option maxRecDepth 16384

noncomputable section

namespace Cert.Attn

open Finset Idealize.ShloMosaic Idealize.ShloMosaic.Pointwise

/-- The entries of `x` are the reals `f`. -/
def Re {s : Shape} (x : s.Idx → EReal) (f : s.Idx → ℝ) : Prop := ∀ y, x y = ((f y : ℝ) : EReal)

theorem bit_ne (b : BitVec 1) (h : b ≠ 1#1) : b = 0#1 := by revert b; decide

section
variable {s : Shape} {x y : FVec Ideal s .f32} {f g : s.Idx → ℝ}

theorem Re.addf (hx : Re x f) (hy : Re y g) : Re (addf x y) fun i => f i + g i := fun i => by
  show x i + y i = _
  rw [hx, hy, EReal.coe_add]

theorem Re.subf (hx : Re x f) (hy : Re y g) : Re (subf x y) fun i => f i - g i := fun i => by
  show x i - y i = _
  rw [hx, hy, EReal.coe_sub]

theorem Re.mulf (hx : Re x f) (hy : Re y g) : Re (mulf x y) fun i => f i * g i := fun i => by
  show x i * y i = _
  rw [hx, hy, EReal.coe_mul]

theorem Re.negf (hx : Re x f) : Re (Host.negf x) fun i => - f i := fun i => by
  show - x i = _
  rw [hx, EReal.coe_neg]

theorem Re.exp (hx : Re x f) : Re (Host.exp x) fun i => Real.exp (f i) := fun i => by
  show Ideal.exp (x i) = _
  rw [hx, exp_coe]

theorem Re.select {c : IVec s 1} {p : s.Idx → Prop} [DecidablePred p] (hc : ∀ i, c i = 1#1 ↔ p i) (hx : Re x f) (hy : Re y g) :
    Re (select c x y) fun i => if p i then f i else g i := fun i => by
  show Scalar.select (c i) (x i) (y i) = (((if p i then f i else g i : ℝ)) : EReal)
  by_cases h : p i
  · rw [if_pos h, (hc i).2 h]; exact hx i
  · rw [if_neg h, bit_ne _ fun e => h ((hc i).1 e)]; exact hy i

/-- The reference's soft plus, `o` being zeros. -/
def refSp (o x : FVec Ideal s .f32) : FVec Ideal s .f32 :=
  Idealize.ShloMosaic.select (cmpf .une (Idealize.ShloMosaic.subf x o) (Idealize.ShloMosaic.subf x o)) (Idealize.ShloMosaic.addf x o)
    (Idealize.ShloMosaic.addf (maximumf x o) (Host.log1p (Host.exp (Host.negf (Host.absf (Idealize.ShloMosaic.subf x o))))))

/-- The soft plus of a real. -/
def spr (r : ℝ) : ℝ := max r 0 + Real.log (1 + Real.exp (-|r|))

theorem Re.refSp {o : FVec Ideal s .f32} (ho : ∀ i, o i = 0) (hx : Re x f) : Re (refSp o x) fun i => spr (f i) := fun i => by
  have hs : Re (Idealize.ShloMosaic.subf x o) f := fun i => by
    show x i - o i = _
    rw [ho, sub_zero, hx]
  have hne : cmpf .une (Idealize.ShloMosaic.subf x o) (Idealize.ShloMosaic.subf x o) i = 0#1 := by
    show Ideal.cmp .une _ _ = _
    simp [Ideal.cmp]
  show Scalar.select (cmpf .une (Idealize.ShloMosaic.subf x o) (Idealize.ShloMosaic.subf x o) i) (x i + o i)
    (max (x i) (o i) + Ideal.log (1 + Ideal.exp (-(eabs (Idealize.ShloMosaic.subf x o i))))) = _
  rw [hne]
  show max (x i) (o i) + Ideal.log (1 + Ideal.exp (-(eabs (Idealize.ShloMosaic.subf x o i)))) = _
  rw [hs, absf_coe, ho, hx, ← EReal.coe_zero, max_coe, ← EReal.coe_neg, exp_coe, ← EReal.coe_one, ← EReal.coe_add, Ideal.log_coe,
    if_neg (by have := Real.exp_pos (-|f i|); linarith), ← EReal.coe_add]
  rfl

/-- The reference's derivative of the soft plus: the exponential of `x` less its soft plus `y`. -/
def refSg (o n x y : FVec Ideal s .f32) : FVec Ideal s .f32 :=
  Host.exp (Idealize.ShloMosaic.subf (Idealize.ShloMosaic.select (cmpf .oeq x n) o x) (Idealize.ShloMosaic.select (cmpf .oeq y n) o y))

theorem Re.notTop {o n : FVec Ideal s .f32} (hn : ∀ i, n i = ⊤) (hx : Re x f) : Re (Idealize.ShloMosaic.select (cmpf .oeq x n) o x) f := fun i => by
  have hne : cmpf .oeq x n i = 0#1 := by
    show Ideal.cmp .oeq (x i) (n i) = _
    rw [hx, hn]
    simp [Ideal.cmp]
  show Scalar.select (cmpf .oeq x n i) (o i) (x i) = _
  rw [hne]
  exact hx i

theorem Re.refSg {o n : FVec Ideal s .f32} (hn : ∀ i, n i = ⊤) (hx : Re x f) (hy : Re y g) :
    Re (refSg o n x y) fun i => Real.exp (f i - g i) :=
  ((hx.notTop hn).subf (hy.notTop hn)).exp

end

/-! ## The real functions -/

theorem spr_neg (z : ℝ) : spr (-z) = - lp z := by
  unfold spr lp
  rw [abs_neg, zero_sub]
  rcases le_total z 0 with h | h
  · rw [max_eq_left (by linarith), min_eq_left h]; ring
  · rw [max_eq_right (by linarith), min_eq_right h]; ring

theorem spr_eq (z : ℝ) : spr z = - ln z := by
  unfold spr ln lp
  rw [zero_sub]
  rcases le_total z 0 with h | h
  · rw [max_eq_right h, min_eq_left h]; ring
  · rw [max_eq_left h, min_eq_right h]; ring

theorem lp_eq (z : ℝ) : lp z = - Real.log (1 + Real.exp (-z)) := by
  unfold lp
  rw [zero_sub]
  rcases le_total z 0 with h | h
  · rw [min_eq_left h, abs_of_nonpos h, neg_neg]
    have e : 1 + Real.exp (-z) = Real.exp (-z) * (1 + Real.exp z) := by
      rw [mul_add, ← Real.exp_add]; simp; ring
    have h1 := Real.exp_pos z
    rw [e, Real.log_mul (Real.exp_pos _).ne' (by linarith), Real.log_exp]
    ring
  · rw [min_eq_right h, abs_of_nonneg h]; ring

theorem exp_lp (z : ℝ) : Real.exp (lp z) = (1 + Real.exp (-z))⁻¹ := by
  have := Real.exp_pos (-z)
  rw [lp_eq, Real.exp_neg, Real.exp_log (by linarith)]

/-- The logistic function of `-z` is one minus that of `z`. -/
theorem exp_ln (z : ℝ) : Real.exp (-z + lp z) = 1 - Real.exp (lp z) := by
  have := Real.exp_pos (-z)
  rw [Real.exp_add, exp_lp]
  field_simp
  ring

/-! ## Running sums along the last axis -/

theorem foldl_add {ι : Type} (l : List ι) (v : EReal) (g : ι → EReal) : l.foldl (fun r n => r + g n) v = v + (l.map g).sum := by
  induction l generalizing v with
  | nil => simp
  | cons a l ih => rw [List.foldl_cons, ih, List.map_cons, List.sum_cons, add_assoc]

open Cert.ReferenceIdeal

/-- A window sum from zero, as a sum over the window. -/
theorem window_sum {s t u : Shape} (window strides lo hi : Fin s.rank → ℕ) (x : FVec Ideal s .f32) (init : FVec Ideal u .f32)
    (h : s.ReduceWindows window strides lo hi t) (hu : 0 < u.numel) (hi0 : ∀ i, init i = 0) (j : t.Idx) :
    Host.reduceWindowAdd window strides lo hi x init h hu j
      = ∑ y : (⟨s.rank, window⟩ : Shape).Idx,
          if hin : ∀ a, lo a ≤ (j (a.cast h.1.symm)).val * strides a + (y a).val ∧ (j (a.cast h.1.symm)).val * strides a + (y a).val - lo a < s.size a
            then x (fun a => ⟨(j (a.cast h.1.symm)).val * strides a + (y a).val - lo a, (hin a).2⟩) else 0 := by
  rw [← Equiv.sum_comp (⟨s.rank, window⟩ : Shape).rowMajor.symm, Fin.sum_univ_def]
  show Host.reduceWindow (· + ·) window strides lo hi x (fun _ : (⟨0, ![]⟩ : Shape).Idx => init (Shape.Idx.first hu)) h Nat.one_pos j = _
  unfold Host.reduceWindow
  dsimp only
  rw [foldl_add, hi0, zero_add]
  refine congrArg List.sum (List.map_congr_left fun n _ => ?_)
  split_ifs <;> rfl

/-- A window from `j` on, the positions past the end left out. -/
theorem sum_fin_up (g : ℕ → ℝ) {j : ℕ} (hj : j ≤ 8192) : ∑ e : Fin 8192, (if j + e.val < 8192 then g (j + e.val) else 0) = ∑ i ∈ Ico j 8192, g i := by
  rw [Fin.sum_univ_eq_sum_range (fun e => if j + e < 8192 then g (j + e) else 0), sum_Ico_eq_sum_range, ← sum_filter]
  refine sum_congr ?_ fun _ _ => rfl
  ext e
  simp only [mem_filter, mem_range]
  omega

/-- A window up to `j`, the positions before the start left out. -/
theorem sum_fin_down (g : ℕ → ℝ) {j : ℕ} (hj : j < 8192) :
    ∑ e : Fin 8192, (if 8191 ≤ j + e.val then g (j + e.val - 8191) else 0) = ∑ i ∈ range (j + 1), g i := by
  rw [Fin.sum_univ_eq_sum_range (fun e => if 8191 ≤ j + e then g (j + e - 8191) else 0), ← sum_filter]
  have e1 : (range 8192).filter (fun e => 8191 ≤ j + e) = Ico (8191 - j) 8192 := by
    ext e; simp only [mem_filter, mem_range, mem_Ico]; omega
  rw [e1, sum_Ico_eq_sum_range, show 8192 - (8191 - j) = j + 1 by omega]
  exact sum_congr rfl fun e _ => congrArg g (by omega)

/-- The sum from a position to the end of its row. -/
theorem Re.up {x : FVec Ideal S1x12x8192x8192 .f32} {f : ℕ → ℕ → ℕ → ℝ} (hx : Re x fun y => f (y 1).val (y 2).val (y 3).val)
    {init : FVec Ideal S_ .f32} (hi0 : ∀ i, init i = 0) (h : S1x12x8192x8192.ReduceWindows ![1, 1, 1, 8192] ![1, 1, 1, 1] ![0, 0, 0, 0] ![0, 0, 0, 8191] S1x12x8192x8192)
    (hu : 0 < S_.numel) :
    Re (Host.reduceWindowAdd ![1, 1, 1, 8192] ![1, 1, 1, 1] ![0, 0, 0, 0] ![0, 0, 0, 8191] x init h hu)
      fun y => ∑ i ∈ Ico (y 3).val 8192, f (y 1).val (y 2).val i := fun j => by
  rw [window_sum _ _ _ _ x init h hu hi0]
  idx_vars j
  rw [sum_idx4, Fintype.sum_unique, Fintype.sum_unique, Fintype.sum_unique]
  rw [← sum_fin_up (fun i => f j1.val j2.val i) j3.isLt.le, ← sum_coe]
  refine sum_congr rfl fun e _ => ?_
  by_cases he : j3.val + e.val < 8192
  · rw [dif_pos, if_pos he, hx]
    · show ((f (j1.val * 1 + 0 - 0) (j2.val * 1 + 0 - 0) (j3.val * 1 + e.val - 0) : ℝ) : EReal) = _
      simp only [Nat.mul_one, Nat.add_zero, Nat.sub_zero]
    · intro a
      have h0 := j0.isLt; have h1 := j1.isLt; have h2 := j2.isLt
      match a with
      | ⟨0, _⟩ => exact ⟨Nat.zero_le _, (show j0.val * 1 + 0 - 0 < 1 by omega)⟩
      | ⟨1, _⟩ => exact ⟨Nat.zero_le _, (show j1.val * 1 + 0 - 0 < 12 by omega)⟩
      | ⟨2, _⟩ => exact ⟨Nat.zero_le _, (show j2.val * 1 + 0 - 0 < 8192 by omega)⟩
      | ⟨3, _⟩ => exact ⟨Nat.zero_le _, (show j3.val * 1 + e.val - 0 < 8192 by omega)⟩
  · rw [dif_neg, if_neg he]
    · rfl
    · intro hh
      have : j3.val * 1 + e.val - 0 < 8192 := (hh 3).2
      omega

/-- The sum from the start of a row to a position. -/
theorem Re.down {x : FVec Ideal S1x12x8192x8192 .f32} {f : ℕ → ℕ → ℕ → ℝ} (hx : Re x fun y => f (y 1).val (y 2).val (y 3).val)
    {init : FVec Ideal S_ .f32} (hi0 : ∀ i, init i = 0) (h : S1x12x8192x8192.ReduceWindows ![1, 1, 1, 8192] ![1, 1, 1, 1] ![0, 0, 0, 8191] ![0, 0, 0, 0] S1x12x8192x8192)
    (hu : 0 < S_.numel) :
    Re (Host.reduceWindowAdd ![1, 1, 1, 8192] ![1, 1, 1, 1] ![0, 0, 0, 8191] ![0, 0, 0, 0] x init h hu)
      fun y => ∑ i ∈ range ((y 3).val + 1), f (y 1).val (y 2).val i := fun j => by
  rw [window_sum _ _ _ _ x init h hu hi0]
  idx_vars j
  rw [sum_idx4, Fintype.sum_unique, Fintype.sum_unique, Fintype.sum_unique]
  rw [← sum_fin_down (fun i => f j1.val j2.val i) j3.isLt, ← sum_coe]
  refine sum_congr rfl fun e _ => ?_
  by_cases he : 8191 ≤ j3.val + e.val
  · rw [dif_pos, if_pos he, hx]
    · show ((f (j1.val * 1 + 0 - 0) (j2.val * 1 + 0 - 0) (j3.val * 1 + e.val - 8191) : ℝ) : EReal) = _
      simp only [Nat.mul_one, Nat.add_zero, Nat.sub_zero]
    · intro a
      have h0 := j0.isLt; have h1 := j1.isLt; have h2 := j2.isLt; have h3 := j3.isLt; have h4 := e.isLt
      match a with
      | ⟨0, _⟩ => exact ⟨Nat.zero_le _, (show j0.val * 1 + 0 - 0 < 1 by omega)⟩
      | ⟨1, _⟩ => exact ⟨Nat.zero_le _, (show j1.val * 1 + 0 - 0 < 12 by omega)⟩
      | ⟨2, _⟩ => exact ⟨Nat.zero_le _, (show j2.val * 1 + 0 - 0 < 8192 by omega)⟩
      | ⟨3, _⟩ => exact ⟨(show 8191 ≤ j3.val * 1 + e.val by omega), (show j3.val * 1 + e.val - 8191 < 8192 by omega)⟩
  · rw [dif_neg, if_neg he]
    · rfl
    · intro hh
      have : 8191 ≤ j3.val * 1 + e.val := (hh 3).1
      omega

end Cert.Attn

end
-- ==== Proof.Ref.lean ====
/- The reference's results: the output of the attention and its three gradients, as its one chain of array operations
   leaves them, are the tables of the heads. -/
module

public import proofs.«01_k».proof.Proof.RefOps
public import proofs.«01_k».proof.Proof.Arrays
public import proofs.«01_k».proof.Proof.Gen.ReferenceIdeal
public import proofs.«01_k».proof.Proof.Gen.ReferenceIdeal.Run
import Idealize.ShloMosaic.Lib.Pointwise
import Idealize.ShloMosaic.Lib.Affine

@[expose] public section

set_option maxRecDepth 16384

noncomputable section

namespace Cert.Attn

open Finset Idealize.ShloMosaic Idealize.ShloMosaic.TcCoe Idealize.SL.Sem Cert.ReferenceIdeal Cert.ReferenceIdeal.Gen Cert.ReferenceIdeal.Facts
open Idealize.ShloMosaic.Pointwise

/-- The entries of a stack of tables, one for each head. -/
abbrev R4 {s : Fin 4 → ℕ} (x : FVec Ideal ⟨4, s⟩ .f32) (f : ℕ → ℕ → ℕ → ℝ) : Prop := Re x fun y => f (y 1).val (y 2).val (y 3).val

abbrev B4 := FVec Ideal S1x12x8192x8192 .f32
abbrev C4 := FVec Ideal S1x12x8192x128 .f32

/-! ## The products -/

theorem R4.scores {A B : C4} {a b : ℕ → ℕ → ℕ → ℝ} (hA : R4 A a) (hB : R4 B b) :
    R4 (Host.dotGeneral dot_S1x12x8192x128_S1x12x8192x128_S1x12x8192x8192_3_3_2_2_01_01 none A B)
      (fun h t j => ∑ d ∈ range 128, a h t d * b h j d) := fun y => by
  idx_vars y
  pointwise
  refine (sum_congr rfl fun d _ => ?_).trans ((sum_coe fun d : Fin 128 => a y1.val y2.val d.val * b y1.val y3.val d.val).trans ?_)
  · rw [hA, hB, ← EReal.coe_mul]; rfl
  · exact congrArg _ (Fin.sum_univ_eq_sum_range (fun d => a y1.val y2.val d * b y1.val y3.val d) 128)

theorem R4.apply {A : B4} {B : C4} {a b : ℕ → ℕ → ℕ → ℝ} (hA : R4 A a) (hB : R4 B b) :
    R4 (Host.dotGeneral dot_S1x12x8192x8192_S1x12x8192x128_S1x12x8192x128_3_2_2_3_01_01 none A B)
      (fun h t d => ∑ j ∈ range 8192, a h t j * b h j d) := fun y => by
  idx_vars y
  pointwise
  refine (sum_congr rfl fun d _ => ?_).trans ((sum_coe fun j : Fin 8192 => a y1.val y2.val j.val * b y1.val j.val y3.val).trans ?_)
  · rw [hA, hB, ← EReal.coe_mul]; rfl
  · exact congrArg _ (Fin.sum_univ_eq_sum_range (fun j => a y1.val y2.val j * b y1.val j y3.val) 8192)

theorem R4.back {A : B4} {B : C4} {a b : ℕ → ℕ → ℕ → ℝ} (hA : R4 A a) (hB : R4 B b) :
    R4 (Host.dotGeneral dot_S1x12x8192x8192_S1x12x8192x128_S1x12x8192x128_2_2_3_3_01_01 none A B)
      (fun h j d => ∑ t ∈ range 8192, a h t j * b h t d) := fun y => by
  idx_vars y
  pointwise
  refine (sum_congr rfl fun d _ => ?_).trans ((sum_coe fun j : Fin 8192 => a y1.val j.val y2.val * b y1.val j.val y3.val).trans ?_)
  · rw [hA, hB, ← EReal.coe_mul]; rfl
  · exact congrArg _ (Fin.sum_univ_eq_sum_range (fun j => a y1.val j y2.val * b y1.val j y3.val) 8192)

theorem R4.backT {A : C4} {B : B4} {a b : ℕ → ℕ → ℕ → ℝ} (hA : R4 A a) (hB : R4 B b) :
    R4 (Host.dotGeneral dot_S1x12x8192x128_S1x12x8192x8192_S1x12x128x8192_2_2_3_3_01_01 none A B)
      (fun h d j => ∑ t ∈ range 8192, a h t d * b h t j) := fun y => by
  idx_vars y
  pointwise
  refine (sum_congr rfl fun d _ => ?_).trans ((sum_coe fun j : Fin 8192 => a y1.val j.val y2.val * b y1.val j.val y3.val).trans ?_)
  · rw [hA, hB, ← EReal.coe_mul]; rfl
  · exact congrArg _ (Fin.sum_univ_eq_sum_range (fun j => a y1.val j y2.val * b y1.val j y3.val) 8192)

/-! ## The heads cut out of the arguments, and put side by side again -/

def refQ (P : FVec Ideal S8192x5120 .f32) : C4 :=
  transpose S1x12x8192x128 [0, 2, 1, 3] (shapeCast S1x8192x12x128 (extractStridedSlice S8192x1536 ![0, 0] P slices_S8192x5120_S8192x1536_0_0) shapeCasts_S8192x1536_S1x8192x12x128) transposes_S1x8192x12x128_S1x12x8192x128_0_2_1_3
def refK (P : FVec Ideal S8192x5120 .f32) : C4 :=
  transpose S1x12x8192x128 [0, 2, 1, 3] (shapeCast S1x8192x12x128 (extractStridedSlice S8192x1536 ![0, 1536] P slices_S8192x5120_S8192x1536_0_1536) shapeCasts_S8192x1536_S1x8192x12x128) transposes_S1x8192x12x128_S1x12x8192x128_0_2_1_3
def refV (P : FVec Ideal S8192x5120 .f32) : C4 :=
  transpose S1x12x8192x128 [0, 2, 1, 3] (shapeCast S1x8192x12x128 (extractStridedSlice S8192x1536 ![0, 3072] P slices_S8192x5120_S8192x1536_0_3072) shapeCasts_S8192x1536_S1x8192x12x128) transposes_S1x8192x12x128_S1x12x8192x128_0_2_1_3
def refG (D : FVec Ideal S8192x2048 .f32) : C4 :=
  transpose S1x12x8192x128 [0, 2, 1, 3] (shapeCast S1x8192x12x128 (broadcastInDim S1x8192x1536 ![1, 2] bcast_S8192x1536_S1x8192x1536_1_2 (extractStridedSlice S8192x1536 ![0, 0] D slices_S8192x2048_S8192x1536_0_0)) shapeCasts_S1x8192x1536_S1x8192x12x128) transposes_S1x8192x12x128_S1x12x8192x128_0_2_1_3

variable {P : FVec Ideal S8192x5120 .f32} {D : FVec Ideal S8192x2048 .f32} {p u : ℕ → ℕ → ℝ}

/-- A table read at an index whose coordinates are known. -/
theorem Tab.eq {n m : ℕ} {X : Vec Ideal ⟨2, ![n, m]⟩ .f32} {f : ℕ → ℕ → ℝ} (h : Tab X f) (y : (⟨2, ![n, m]⟩ : Shape).Idx) {a b : ℕ}
    (ha : (y 0).val = a) (hb : (y 1).val = b) : X y = ((f a b : ℝ) : EReal) := by rw [h y, ha, hb]

theorem is_refQ (hP : Tab P p) : R4 (refQ P) fun h => (hd p u h).q := fun y => by
  idx_vars y
  pointwise [refQ]
  refine hP.eq _ rfl ?_
  show y1.val * 128 + y3.val = 128 * y1.val + y3.val
  omega

theorem is_refK (hP : Tab P p) : R4 (refK P) fun h => (hd p u h).k := fun y => by
  idx_vars y
  pointwise [refK]
  refine hP.eq _ rfl ?_
  show 1536 + (y1.val * 128 + y3.val) = 128 * (12 + y1.val) + y3.val
  omega

theorem is_refV (hP : Tab P p) : R4 (refV P) fun h => (hd p u h).v := fun y => by
  idx_vars y
  pointwise [refV]
  refine hP.eq _ rfl ?_
  show 3072 + (y1.val * 128 + y3.val) = 128 * (24 + y1.val) + y3.val
  omega

theorem is_refG (hD : Tab D u) : R4 (refG D) fun h => (hd p u h).g := fun y => by
  idx_vars y
  pointwise [refG]
  refine hD.eq _ rfl ?_
  show y1.val * 128 + y3.val = 128 * y1.val + y3.val
  omega

/-- The heads put side by side. -/
theorem R4.beside {X : C4} {f : ℕ → ℕ → ℕ → ℝ} (hX : R4 X f) :
    Tab (shapeCast S8192x1536 (transpose S1x8192x12x128 [0, 2, 1, 3] X transposes_S1x12x8192x128_S1x8192x12x128_0_2_1_3) shapeCasts_S1x8192x12x128_S8192x1536) (Cert.Attn.side f) := fun y => by
  idx_vars y
  pointwise
  refine (hX _).trans ?_
  rfl

theorem R4.beside' {X : C4} {f : ℕ → ℕ → ℕ → ℝ} (hX : R4 X f) :
    Tab (shapeCast S8192x1536 (shapeCast S1x8192x1536 (transpose S1x8192x12x128 [0, 2, 1, 3] X transposes_S1x12x8192x128_S1x8192x12x128_0_2_1_3) shapeCasts_S1x8192x12x128_S1x8192x1536) shapeCasts_S1x8192x1536_S8192x1536) (Cert.Attn.side f) := fun y => by
  idx_vars y
  pointwise
  refine (hX _).trans ?_
  rfl

/-- The last two axes exchanged. -/
theorem R4.swap {X : FVec Ideal S1x12x128x8192 .f32} {f : ℕ → ℕ → ℕ → ℝ} (hX : R4 X f) :
    R4 (transpose S1x12x8192x128 [0, 1, 3, 2] X transposes_S1x12x128x8192_S1x12x8192x128_0_1_3_2) (fun h j d => f h d j) := fun y => by
  idx_vars y
  pointwise
  exact hX _

/-! ## The parts of the chain -/

def refM : IVec S1x12x8192x8192 1 :=
  broadcastInDim S1x12x8192x8192 ![2, 3] bcast_S8192x8192_S1x12x8192x8192_2_3 (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

theorem toInt_small {n : ℕ} (h : n < 8192) : (BitVec.ofNat 32 n).toInt = n := by
  have e : (BitVec.ofNat 32 n).toNat = n := by rw [BitVec.toNat_ofNat]; omega
  rw [BitVec.toInt_eq_toNat_of_lt (by rw [e]; omega), e]

theorem is_refM (y : S1x12x8192x8192.Idx) : refM y = 1#1 ↔ (y 3).val < (y 2).val := by
  idx_vars y
  pointwise [refM]
  rw [IntOp.cmpi_slt]
  rw [toInt_small y2.isLt, toInt_small y3.isLt]
  omega

def refO : B4 := broadcastInDim S1x12x8192x8192 ![] bcast_S_S1x12x8192x8192 (constant (F := Ideal) S_ .f32 0x00000000#32)
def refN : B4 := broadcastInDim S1x12x8192x8192 ![] bcast_S_S1x12x8192x8192 (constant (F := Ideal) S_ .f32 0x7F800000#32)
def refS : B4 := broadcastInDim S1x12x8192x8192 ![] bcast_S_S1x12x8192x8192 (constant (F := Ideal) S_ .f32 0x3DB504F3#32)
def refU : FVec Ideal S_ .f32 := broadcastInDim S_ ![] bcast_S_S_ (constant (F := Ideal) S_ .f32 0x00000000#32)

theorem refO_at (y) : refO y = 0 := Ideal.ofBits_zero_f32
theorem refN_at (y) : refN y = ⊤ := by
  show Ideal.ofBits .f32 0x7F800000#32 = ⊤
  decide
theorem is_refS : Re refS fun _ => sc := fun y => ofBits_sc
theorem refU_at (y) : refU y = 0 := Ideal.ofBits_zero_f32

def refZ (P : FVec Ideal S8192x5120 .f32) : B4 :=
  mulf (Host.dotGeneral dot_S1x12x8192x128_S1x12x8192x128_S1x12x8192x8192_3_3_2_2_01_01 none (refQ P) (refK P)) refS
def refNz (P : FVec Ideal S8192x5120 .f32) : B4 := Host.negf (refZ P)
def refLp (P : FVec Ideal S8192x5120 .f32) : B4 := Host.negf (refSp refO (refNz P))
def refMiss (P : FVec Ideal S8192x5120 .f32) : B4 := select refM (Host.negf (refSp refO (Host.negf (refNz P)))) refO
def refX (P : FVec Ideal S8192x5120 .f32) : B4 :=
  Host.exp (addf (refLp P) (subf (Host.reduceWindowAdd ![1, 1, 1, 8192] ![1, 1, 1, 1] ![0, 0, 0, 0] ![0, 0, 0, 8191] (refMiss P) refU reduceWindows_S1x12x8192x8192_S1x12x8192x8192_w1s1p0_0_w1s1p0_0_w1s1p0_0_w8192s1p0_8191 h_S_) (refMiss P)))
def refW (P : FVec Ideal S8192x5120 .f32) : B4 := select refM (refX P) refO
def refE (P : FVec Ideal S8192x5120 .f32) (D : FVec Ideal S8192x2048 .f32) : B4 :=
  mulf (select refM (Host.dotGeneral dot_S1x12x8192x128_S1x12x8192x128_S1x12x8192x8192_3_3_2_2_01_01 none (refG D) (refV P)) refO) (refX P)
def refDz (P : FVec Ideal S8192x5120 .f32) (D : FVec Ideal S8192x2048 .f32) : B4 :=
  mulf (addf (Host.negf (mulf (Host.negf (refE P D)) (refSg refO refN (refNz P) (refSp refO (refNz P)))))
    (Host.negf (Host.negf (mulf (Host.negf (select refM (addf (Host.negf (refE P D)) (Host.reduceWindowAdd ![1, 1, 1, 8192] ![1, 1, 1, 1] ![0, 0, 0, 8191] ![0, 0, 0, 0] (refE P D) refU reduceWindows_S1x12x8192x8192_S1x12x8192x8192_w1s1p0_0_w1s1p0_0_w1s1p0_0_w8192s1p8191_0 h_S_)) refO))
      (refSg refO refN (Host.negf (refNz P)) (refSp refO (Host.negf (refNz P)))))))) refS

/-! ## The results are made of the parts -/

variable (m : (ℓ : Loc nD τ sig) → Buf (Elt Ideal) ℓ) (c : Dev nD)

theorem res_o : Cert.ReferenceIdeal.Value.res_main_v32 (F := Ideal) m c
    = shapeCast S8192x1536 (shapeCast S1x8192x1536 (transpose S1x8192x12x128 [0, 2, 1, 3] (Host.dotGeneral dot_S1x12x8192x8192_S1x12x8192x128_S1x12x8192x128_3_2_2_3_01_01 none (refW (m (c.tc.loc main_arg0))) (refV (m (c.tc.loc main_arg0)))) transposes_S1x12x8192x128_S1x8192x12x128_0_2_1_3) shapeCasts_S1x8192x12x128_S1x8192x1536) shapeCasts_S1x8192x1536_S8192x1536 := by
  sl_kernel_rfl

theorem res_dq : Cert.ReferenceIdeal.Value.res_main_v59 (F := Ideal) m c
    = shapeCast S8192x1536 (transpose S1x8192x12x128 [0, 2, 1, 3] (Host.dotGeneral dot_S1x12x8192x8192_S1x12x8192x128_S1x12x8192x128_3_2_2_3_01_01 none (refDz (m (c.tc.loc main_arg0)) (m (c.tc.loc main_arg1))) (refK (m (c.tc.loc main_arg0)))) transposes_S1x12x8192x128_S1x8192x12x128_0_2_1_3) shapeCasts_S1x8192x12x128_S8192x1536 := by
  sl_kernel_rfl

theorem res_dk : Cert.ReferenceIdeal.Value.res_main_v58 (F := Ideal) m c
    = shapeCast S8192x1536 (transpose S1x8192x12x128 [0, 2, 1, 3] (Host.dotGeneral dot_S1x12x8192x8192_S1x12x8192x128_S1x12x8192x128_2_2_3_3_01_01 none (refDz (m (c.tc.loc main_arg0)) (m (c.tc.loc main_arg1))) (refQ (m (c.tc.loc main_arg0)))) transposes_S1x12x8192x128_S1x8192x12x128_0_2_1_3) shapeCasts_S1x8192x12x128_S8192x1536 := by
  sl_kernel_rfl

theorem res_dv : Cert.ReferenceIdeal.Value.res_main_v57 (F := Ideal) m c
    = shapeCast S8192x1536 (transpose S1x8192x12x128 [0, 2, 1, 3] (transpose S1x12x8192x128 [0, 1, 3, 2] (Host.dotGeneral dot_S1x12x8192x128_S1x12x8192x8192_S1x12x128x8192_2_2_3_3_01_01 none (refG (m (c.tc.loc main_arg1))) (refW (m (c.tc.loc main_arg0)))) transposes_S1x12x128x8192_S1x12x8192x128_0_1_3_2) transposes_S1x12x8192x128_S1x8192x12x128_0_2_1_3) shapeCasts_S1x8192x12x128_S8192x1536 := by
  sl_kernel_rfl

/-! ## The parts' entries -/

/-- A stack's entries under another name. -/
theorem R4.of {s : Fin 4 → ℕ} {x : FVec Ideal ⟨4, s⟩ .f32} {r : (⟨4, s⟩ : Shape).Idx → ℝ} {f : ℕ → ℕ → ℕ → ℝ} (hx : Re x r)
    (e : ∀ y, r y = f (y 1).val (y 2).val (y 3).val) : R4 x f := fun y => (hx y).trans (by rw [e])

theorem is_refZ (hP : Tab P p) : R4 (refZ P) fun h => (hd p u h).z :=
  R4.of (((is_refQ (u := u) hP).scores (is_refK (u := u) hP)).mulf is_refS) fun y => rfl

theorem is_refNz (hP : Tab P p) : R4 (refNz P) fun h t j => - (hd p u h).z t j := R4.of (is_refZ (u := u) hP).negf fun y => rfl

theorem is_refNnz (hP : Tab P p) : R4 (Host.negf (refNz P)) fun h => (hd p u h).z :=
  R4.of (is_refNz (u := u) hP).negf fun y => neg_neg _

theorem is_refLp (hP : Tab P p) : R4 (refLp P) fun h t j => lp ((hd p u h).z t j) :=
  R4.of ((is_refNz (u := u) hP).refSp refO_at).negf fun y => by rw [spr_neg, neg_neg]

theorem is_refO : R4 refO fun _ _ _ => 0 := fun y => refO_at y

theorem is_refMiss (hP : Tab P p) : R4 (refMiss P) fun h => (hd p u h).miss :=
  R4.of (Re.select is_refM ((is_refNnz (u := u) hP).refSp refO_at).negf is_refO) fun y => by
    unfold Head.miss
    rw [spr_eq, neg_neg]

theorem is_refX (hP : Tab P p) :
    R4 (refX P) fun h t j => Real.exp (lp ((hd p u h).z t j) + ∑ i ∈ Ico (j + 1) 8192, (hd p u h).miss t i) :=
  R4.of ((is_refLp (u := u) hP).addf ((Re.up (f := fun h => (hd p u h).miss) (is_refMiss hP) refU_at _ _).subf (is_refMiss (u := u) hP))).exp fun y => by
    beta_reduce
    rw [sum_eq_sum_Ico_succ_bot (show (y 3).val < 8192 from (y 3).isLt)]
    congr 2
    ring

theorem is_refW (hP : Tab P p) : R4 (refW P) fun h => (hd p u h).w :=
  R4.of (Re.select is_refM (is_refX (u := u) hP) is_refO) fun y => rfl

theorem is_refE (hP : Tab P p) (hD : Tab D u) : R4 (refE P D) fun h => (hd p u h).e :=
  R4.of ((Re.select is_refM ((is_refG (p := p) hD).scores (is_refV (u := u) hP)) is_refO).mulf (is_refX (u := u) hP)) fun y => by
    beta_reduce
    unfold Head.e Head.w
    split
    · exact mul_comm _ _
    · rw [zero_mul, zero_mul]

theorem is_refDz (hP : Tab P p) (hD : Tab D u) : R4 (refDz P D) fun h t j => (hd p u h).dz t j * sc :=
  R4.of (((((is_refE hP hD).negf.mulf ((is_refNz (u := u) hP).refSg refN_at ((is_refNz (u := u) hP).refSp refO_at))).negf).addf
    ((((Re.select is_refM ((is_refE hP hD).negf.addf (Re.down (f := fun h => (hd p u h).e) (is_refE hP hD) refU_at _ _)) is_refO).negf.mulf
      ((is_refNnz (u := u) hP).refSg refN_at ((is_refNnz (u := u) hP).refSp refO_at)))).negf.negf)).mulf is_refS) fun y => by
    beta_reduce
    rw [spr_neg, spr_eq, sub_neg_eq_add, exp_ln, sum_range_succ]
    unfold Head.dz
    split
    · congr 1
      rw [show ∀ z : ℝ, z - -ln z = lp z from fun z => by unfold ln; ring]
      ring
    · rename_i h
      rw [Head.e_eq_zero _ (by omega)]
      ring

/-! ## The results' tables -/

theorem ref_o (hP : Tab (m (c.tc.loc main_arg0)) p) (u : ℕ → ℕ → ℝ) :
    Tab (Cert.ReferenceIdeal.Value.res_main_v32 (F := Ideal) m c) (side fun h => (hd p u h).o) := by
  rw [res_o]
  exact ((is_refW (u := u) hP).apply (is_refV (u := u) hP)).beside'

theorem ref_dq (hP : Tab (m (c.tc.loc main_arg0)) p) (hD : Tab (m (c.tc.loc main_arg1)) u) :
    Tab (Cert.ReferenceIdeal.Value.res_main_v59 (F := Ideal) m c) (side fun h => (hd p u h).dq) := by
  rw [res_dq]
  exact ((is_refDz hP hD).apply (is_refK (u := u) hP)).beside

theorem ref_dk (hP : Tab (m (c.tc.loc main_arg0)) p) (hD : Tab (m (c.tc.loc main_arg1)) u) :
    Tab (Cert.ReferenceIdeal.Value.res_main_v58 (F := Ideal) m c) (side fun h => (hd p u h).dk) := by
  rw [res_dk]
  exact ((is_refDz hP hD).back (is_refQ (u := u) hP)).beside

theorem ref_dv (hP : Tab (m (c.tc.loc main_arg0)) p) (hD : Tab (m (c.tc.loc main_arg1)) u) :
    Tab (Cert.ReferenceIdeal.Value.res_main_v57 (F := Ideal) m c) (side fun h => (hd p u h).dv) := by
  rw [res_dv]
  refine R4.beside (R4.of ((is_refG (p := p) hD).backT (is_refW (u := u) hP)).swap fun y => ?_)
  exact sum_congr rfl fun t _ => mul_comm _ _

end Cert.Attn

end
-- ==== Proof.Finite.lean ====
/- The precondition: where every entry of the two arguments is finite, each argument holds a table of reals. -/
module

public import proofs.«01_k».proof.Defs
public import proofs.«01_k».proof.Proof.Blocks

@[expose] public section

set_option maxRecDepth 16384

noncomputable section

namespace Cert.Attn

open Idealize.ShloMosaic

instance preFacts : Cert.Pre_finite.Facts where
  bcast_S_S8192x5120 := by decide
  bcast_S_S8192x2048 := by decide

/-- The table of an array's entries, zero outside the array. -/
def table {n m : ℕ} (X : Vec Ideal ⟨2, ![n, m]⟩ .f32) (a b : ℕ) : ℝ :=
  if h : a < n ∧ b < m then (X (ix2 ⟨a, h.1⟩ ⟨b, h.2⟩) : EReal).toReal else 0

/-- An extended real whose absolute value is below infinity is a real. -/
theorem ne_inf {x : EReal} (h : eabs x < ⊤) : x ≠ ⊤ ∧ x ≠ ⊥ := by
  refine ⟨?_, ?_⟩ <;> (rintro rfl; revert h)
  · show ¬ max (⊤ : EReal) (-⊤) < ⊤
    simp
  · show ¬ max (⊥ : EReal) (-⊥) < ⊤
    simp

theorem table_tab {n m : ℕ} (X : Vec Ideal ⟨2, ![n, m]⟩ .f32) (h : ∀ y, eabs (X y) < ⊤) : Tab X (table X) := fun y => by
  have e : y = ix2 (y 0 : Fin n) (y 1 : Fin m) := by funext a; fin_cases a <;> rfl
  have hy : (y 0).val < n ∧ (y 1).val < m := ⟨(y 0).isLt, (y 1).isLt⟩
  unfold table
  rw [dif_pos hy]
  have := ne_inf (h y)
  rw [show ix2 (⟨(y 0).val, hy.1⟩ : Fin n) (⟨(y 1).val, hy.2⟩ : Fin m) = y from e.symm]
  exact (EReal.coe_toReal this.1 this.2).symm

theorem lt_of_cmp {a b : EReal} (h : Ideal.cmp .olt a b = 1#1) : a < b := by
  by_contra hn
  simp [Ideal.cmp, hn] at h

theorem finite_tabs {P : FVec Ideal Cert.Pre_finite.S8192x5120 .f32} {D : FVec Ideal Cert.Pre_finite.S8192x2048 .f32}
    (h0 : (Cert.Pre_finite.fn (F := Ideal) P D).1 = fun _ => 1#1) (h1 : (Cert.Pre_finite.fn (F := Ideal) P D).2 = fun _ => 1#1) :
    Tab P (table P) ∧ Tab D (table D) := by
  have top : Ideal.ofBits .f32 0x7F800000#32 = ⊤ := by decide
  refine ⟨table_tab P fun y => ?_, table_tab D fun y => ?_⟩
  · rw [← top]; exact lt_of_cmp (congrFun h0 y)
  · rw [← top]; exact lt_of_cmp (congrFun h1 y)

/-- Two arrays of the same table are equal. -/
theorem Tab.unique {n m : ℕ} {X Y : Vec Ideal ⟨2, ![n, m]⟩ .f32} {f : ℕ → ℕ → ℝ} (hX : Tab X f) (hY : Tab Y f) : X = Y :=
  funext fun y => (hX y).trans (hY y).symm

end Cert.Attn

end
-- ==== Proof.Half.lean ====
/- The factor one half: it passes through a finite sum of extended reals. -/
module

public import Idealize.ShloMosaic.Lib.Pipeline.ValueKit

@[expose] public section

noncomputable section

namespace Cert.Ffn

open Idealize.ShloMosaic

/-- One half, as the programs spell it. -/
def half : EReal := Ideal.ofBits .f32 0x3F000000#32

theorem half_eq : half = ((1 / 2 : ℝ) : EReal) := by
  unfold half
  simp [Ideal.ofBits, Ideal.ieee]
  rw [← EReal.coe_mul]; norm_num

theorem half_mul_sum {n : ℕ} (f : Fin n → EReal) : half * ∑ k, f k = ∑ k, half * f k := by
  rw [half_eq]
  have h : ∀ a b : EReal, ((1 / 2 : ℝ) : EReal) * (a + b) = ((1 / 2 : ℝ) : EReal) * a + ((1 / 2 : ℝ) : EReal) * b :=
    fun a b => EReal.left_distrib_of_nonneg_of_ne_top (by norm_num) (EReal.coe_ne_top _) a b
  induction n with
  | zero => simp
  | succ n ih => rw [Fin.sum_univ_succ, h, ih, Fin.sum_univ_succ]

end Cert.Ffn

end
-- ==== Proof.CallDact.lean ====
/- The gate's backward call: the kernel's array and the reference's term, entry by entry. -/
module

public import proofs.«01_k».proof.Proof.Gen.DactIdeal.Value
public import proofs.«01_k».proof.Proof.Gen.DactReferenceIdeal.Run
public import proofs.«01_k».proof.Pre_dact_finite
public import proofs.«01_k».proof.Proof.Finite
public import proofs.«01_k».proof.Proof.Half
public import Idealize.ShloMosaic.Lib.Pipeline.ValueKit
public import Idealize.ShloMosaic.Lib.Pipeline.ReadBack

@[expose] public section

set_option maxRecDepth 16384

noncomputable section

namespace Cert.Ffn.Dact

open Idealize.ShloMosaic Idealize.ShloMosaic.TcCoe Idealize.SL.Sem Idealize.ShloMosaic.Pointwise
open Cert.DactIdeal Cert.DactIdeal.Gen DactReferenceIdeal.Gen
open DactReferenceIdeal (S5632x2048 S8192x5632 S1x8192x5632)

/-- The four shards' rows, one below the other. -/
abbrev cat (w : FVec Ideal S4x2x1408x2048 .bf16) : FVec Ideal S5632x2048 .bf16 :=
  concatenate S5632x2048 0
    [⟨DactReferenceIdeal.S1408x2048, shapeCast _ (extractStridedSlice DactReferenceIdeal.S1x1x1408x2048 ![0, 1, 0, 0] w slices_S4x2x1408x2048_S1x1x1408x2048_0_1_0_0) DactReferenceIdeal.Gen.shapeCasts_S1x1x1408x2048_S1408x2048⟩,
     ⟨DactReferenceIdeal.S1408x2048, shapeCast _ (extractStridedSlice DactReferenceIdeal.S1x1x1408x2048 ![1, 1, 0, 0] w slices_S4x2x1408x2048_S1x1x1408x2048_1_1_0_0) DactReferenceIdeal.Gen.shapeCasts_S1x1x1408x2048_S1408x2048⟩,
     ⟨DactReferenceIdeal.S1408x2048, shapeCast _ (extractStridedSlice DactReferenceIdeal.S1x1x1408x2048 ![2, 1, 0, 0] w slices_S4x2x1408x2048_S1x1x1408x2048_2_1_0_0) DactReferenceIdeal.Gen.shapeCasts_S1x1x1408x2048_S1408x2048⟩,
     ⟨DactReferenceIdeal.S1408x2048, shapeCast _ (extractStridedSlice DactReferenceIdeal.S1x1x1408x2048 ![3, 1, 0, 0] w slices_S4x2x1408x2048_S1x1x1408x2048_3_1_0_0) DactReferenceIdeal.Gen.shapeCasts_S1x1x1408x2048_S1408x2048⟩]
    concatenates_S1408x2048_S1408x2048_S1408x2048_S1408x2048_S5632x2048_d0

/-- Row `n` of the whole weight is row `n mod 1408` of shard `n / 1408`. -/
theorem cat_at (w : FVec Ideal S4x2x1408x2048 .bf16) (n : Fin 5632) (k : Fin 2048) :
    cat w (ix2 n k) = w (ix4 ⟨n.val / 1408, by omega⟩ 1 ⟨n.val % 1408, by omega⟩ k) := by
  pointwise [cat]
  have e : ∀ (a a' : Fin 4) (b b' : Fin 1408), a.val = a'.val → b.val = b'.val → w (ix4 a 1 b k) = w (ix4 a' 1 b' k) :=
    fun a a' b b' ha hb => by rw [Fin.ext ha, Fin.ext hb]
  split_ifs <;> refine e _ _ _ _ ?_ ?_ <;> simp <;> omega

/-- The gradient of the gated product: half the output's gradient times the transposed weight. -/
abbrev grad (w : FVec Ideal S4x2x1408x2048 .bf16) (dy : FVec Ideal S8192x2048 .f32) : FVec Ideal S8192x5632 .f32 :=
  Host.dotGeneral DactReferenceIdeal.dot_S8192x2048_S5632x2048_S8192x5632_1_1_0_0_n_n none
    (mulf (broadcastInDim DactReferenceIdeal.S8192x2048 ![] bcast_S_S8192x2048 (constant DactReferenceIdeal.S_ .f32 0x3F000000#32)) dy)
    (extf .f32 (cat w) DactReferenceIdeal.Gen.bitsLt_bf16_f32)

abbrev gate (gu : FVec Ideal S2x8192x5632 .bf16) : FVec Ideal S8192x5632 .f32 :=
  extf .f32 (shapeCast S8192x5632 (extractStridedSlice S1x8192x5632 ![0, 0, 0] gu slices_S2x8192x5632_S1x8192x5632_0_0_0) shapeCasts_S1x8192x5632_S8192x5632) DactReferenceIdeal.Gen.bitsLt_bf16_f32
abbrev up (gu : FVec Ideal S2x8192x5632 .bf16) : FVec Ideal S8192x5632 .f32 :=
  extf .f32 (shapeCast S8192x5632 (extractStridedSlice S1x8192x5632 ![1, 0, 0] gu slices_S2x8192x5632_S1x8192x5632_1_0_0) shapeCasts_S1x8192x5632_S8192x5632) DactReferenceIdeal.Gen.bitsLt_bf16_f32
abbrev ones : FVec Ideal S8192x5632 .f32 :=
  broadcastInDim S8192x5632 ![] bcast_S_S8192x5632 (constant DactReferenceIdeal.S_ .f32 0x3F800000#32)
abbrev sig (g : FVec Ideal S8192x5632 .f32) : FVec Ideal S8192x5632 .f32 :=
  Host.divf ones (addf ones (Host.exp (Host.negf g)))
abbrev dGate (d g u : FVec Ideal S8192x5632 .f32) : FVec Ideal S8192x5632 .f32 :=
  addf (mulf (mulf d u) (sig g)) (mulf (mulf g (mulf d u)) (mulf (sig g) (subf ones (sig g))))
abbrev dUp (d g : FVec Ideal S8192x5632 .f32) : FVec Ideal S8192x5632 .f32 := mulf (mulf g (sig g)) d

/-- The reference's result. -/
abbrev want (gu : FVec Ideal S2x8192x5632 .bf16) (w : FVec Ideal S4x2x1408x2048 .bf16) (dy : FVec Ideal S8192x2048 .f32) : FVec Ideal S2x8192x5632 .bf16 :=
  truncf .bf16 (concatenate DactReferenceIdeal.S2x8192x5632 0
    [⟨S1x8192x5632, broadcastInDim S1x8192x5632 ![1, 2] bcast_S8192x5632_S1x8192x5632_1_2 (dGate (grad w dy) (gate gu) (up gu))⟩,
     ⟨S1x8192x5632, broadcastInDim S1x8192x5632 ![1, 2] bcast_S8192x5632_S1x8192x5632_1_2 (dUp (grad w dy) (gate gu))⟩]
    concatenates_S1x8192x5632_S1x8192x5632_S2x8192x5632_d0) DactReferenceIdeal.Gen.bitsLt_bf16_f32

theorem grad_at (w : FVec Ideal S4x2x1408x2048 .bf16) (dy : FVec Ideal S8192x2048 .f32) (r : Fin 8192) (n : Fin 5632) :
    grad w dy (ix2 r n) = ∑ k : Fin 2048, half * dy (ix2 r k) * w (ix4 ⟨n.val / 1408, by omega⟩ 1 ⟨n.val % 1408, by omega⟩ k) := by
  simp only [← cat_at]
  unfold grad; generalize cat w = z
  pointwise
  rfl

theorem gate_at (gu : FVec Ideal S2x8192x5632 .bf16) (r : Fin 8192) (n : Fin 5632) : gate gu (ix2 r n) = gu (ix3 0 r n) := by
  pointwise [gate]

theorem up_at (gu : FVec Ideal S2x8192x5632 .bf16) (r : Fin 8192) (n : Fin 5632) : up gu (ix2 r n) = gu (ix3 1 r n) := by
  pointwise [up]

theorem sig_at (g : FVec Ideal S8192x5632 .f32) (j : DactReferenceIdeal.S8192x5632.Idx) : sig g j = Ideal.logistic (g j) := by
  pointwise [sig, ones]
  rfl

theorem one_word : Ideal.ofBits .f32 0x3F800000#32 = 1 := by
  simp [Ideal.ofBits, Ideal.ieee]
  rw [← EReal.coe_mul]; norm_num

theorem ones_at (j : DactReferenceIdeal.S8192x5632.Idx) : ones j = 1 := one_word

theorem dGate_at (d g u : FVec Ideal S8192x5632 .f32) (j : DactReferenceIdeal.S8192x5632.Idx) : dGate d g u j
    = d j * u j * Ideal.logistic (g j) + g j * (d j * u j) * (Ideal.logistic (g j) * (1 - Ideal.logistic (g j))) := by
  rw [← sig_at, ← ones_at j]
  rfl

theorem dUp_at (d g : FVec Ideal S8192x5632 .f32) (j : DactReferenceIdeal.S8192x5632.Idx) : dUp d g j = g j * Ideal.logistic (g j) * d j := by
  rw [← sig_at]
  rfl

theorem want_at0 (gu : FVec Ideal S2x8192x5632 .bf16) (w : FVec Ideal S4x2x1408x2048 .bf16) (dy : FVec Ideal S8192x2048 .f32) (r : Fin 8192) (n : Fin 5632) :
    want gu w dy (ix3 0 r n) = dGate (grad w dy) (gate gu) (up gu) (ix2 r n) := by
  unfold want; generalize dGate (grad w dy) (gate gu) (up gu) = g; generalize dUp (grad w dy) (gate gu) = u
  pointwise

theorem want_at1 (gu : FVec Ideal S2x8192x5632 .bf16) (w : FVec Ideal S4x2x1408x2048 .bf16) (dy : FVec Ideal S8192x2048 .f32) (r : Fin 8192) (n : Fin 5632) :
    want gu w dy (ix3 1 r n) = dUp (grad w dy) (gate gu) (ix2 r n) := by
  unfold want; generalize dGate (grad w dy) (gate gu) (up gu) = g; generalize dUp (grad w dy) (gate gu) = u
  pointwise

/-- The up half is real, the weight's own half is real, the output's gradient is real. -/
def RealUp (gu : FVec Ideal S2x8192x5632 .bf16) : Prop := ∀ (r : Fin 8192) (n : Fin 5632), ∃ x : ℝ, gu (ix3 1 r n) = (x : EReal)
def RealRows (w : FVec Ideal S4x2x1408x2048 .bf16) : Prop :=
  ∀ (s : Fin 4) (r : Fin 1408) (k : Fin 2048), ∃ x : ℝ, w (ix4 s 1 r k) = (x : EReal)
def RealGrad (dy : FVec Ideal S8192x2048 .f32) : Prop := ∀ y, ∃ x : ℝ, dy y = (x : EReal)

theorem real_of_lt {x : EReal} (h : Cert.Attn.eabs x < ⊤) : ∃ r : ℝ, x = (r : EReal) :=
  ⟨x.toReal, (EReal.coe_toReal (Cert.Attn.ne_inf h).1 (Cert.Attn.ne_inf h).2).symm⟩

theorem sum_real {n : ℕ} (f : Fin n → EReal) (h : ∀ k, ∃ r : ℝ, f k = (r : EReal)) : ∃ r : ℝ, ∑ k, f k = (r : EReal) := by
  choose g hg using h
  exact ⟨∑ k, g k, by rw [show f = fun k => (g k : EReal) from funext hg]; exact Cert.Attn.sum_coe g⟩

theorem grad_real {w : FVec Ideal S4x2x1408x2048 .bf16} {dy : FVec Ideal S8192x2048 .f32} (hw : RealRows w) (hd : RealGrad dy) (r : Fin 8192) (n : Fin 5632) :
    ∃ x : ℝ, grad w dy (ix2 r n) = (x : EReal) := by
  rw [grad_at]
  refine sum_real _ fun k => ?_
  obtain ⟨a, ha⟩ := hd (ix2 r k)
  obtain ⟨b, hb⟩ := hw ⟨n.val / 1408, by omega⟩ ⟨n.val % 1408, by omega⟩ k
  exact ⟨1 / 2 * a * b, by rw [ha, hb, half_eq]; push_cast; rfl⟩

theorem logistic_real (a : ℝ) : ∃ r : ℝ, Ideal.logistic (a : EReal) = (r : EReal) := by
  have h : (1 + Real.exp (-a) : ℝ) ≠ 0 := by positivity
  refine ⟨1 / (1 + Real.exp (-a)), ?_⟩
  have e : (1 : EReal) + Ideal.exp (-(a : EReal)) = ((1 + Real.exp (-a) : ℝ) : EReal) := by
    rw [← EReal.coe_neg, Ideal.exp_coe]; push_cast; rfl
  unfold Ideal.logistic
  rw [e, Ideal.div_coe h, one_mul]

/-- The two spellings of the gate's derivative agree where the gradient and the up half are real, whatever the gate. -/
theorem gate_eq {d u : EReal} (g : EReal) (hd : ∃ r : ℝ, d = (r : EReal)) (hu : ∃ r : ℝ, u = (r : EReal)) :
    d * u * Ideal.logistic g * (1 + g * (1 - Ideal.logistic g))
      = d * u * Ideal.logistic g + g * (d * u) * (Ideal.logistic g * (1 - Ideal.logistic g)) := by
  induction g with
  | bot => simp
  | top =>
    have e : (1 : EReal) - 1 = 0 := by rw [← EReal.coe_one, ← EReal.coe_sub, sub_self, EReal.coe_zero]
    simp [e]
  | coe g =>
    obtain ⟨d, rfl⟩ := hd
    obtain ⟨u, rfl⟩ := hu
    obtain ⟨s, hs⟩ := logistic_real g
    rw [hs]
    norm_cast
    ring

theorem pay2_at (x : Vec Ideal S512x2048 .bf16) (w : Vec Ideal S1x1x1408x2048 .bf16) (a : Fin 512) (b : Fin 1408) :
    k0_pay2 (F := Ideal) x w (ix2 a b) = half * ∑ k : Fin 2048, x (ix2 a k) * w (ix4 0 0 b k) := by
  pointwise [k0_pay2]
  rfl

theorem pay4_at (x : Vec Ideal S512x2048 .bf16) (w : Vec Ideal S1x1x1408x2048 .bf16) (g u : Vec Ideal S1x512x1408 .bf16) (a : Fin 512) (b : Fin 1408) :
    k0_pay4 (F := Ideal) x w g u (ix3 0 a b) = k0_pay2 (F := Ideal) x w (ix2 a b) * u (ix3 0 a b) * Ideal.logistic (g (ix3 0 a b))
      * (1 + g (ix3 0 a b) * (1 - Ideal.logistic (g (ix3 0 a b)))) := by
  unfold k0_pay4; generalize k0_pay2 (F := Ideal) x w = d
  rw [← one_word]
  pointwise [k0_pay3, k0_pay1]

theorem pay5_at (x : Vec Ideal S512x2048 .bf16) (w : Vec Ideal S1x1x1408x2048 .bf16) (g : Vec Ideal S1x512x1408 .bf16) (a : Fin 512) (b : Fin 1408) :
    k0_pay5 (F := Ideal) x w g (ix3 0 a b) = k0_pay2 (F := Ideal) x w (ix2 a b) * g (ix3 0 a b) * Ideal.logistic (g (ix3 0 a b)) := by
  unfold k0_pay5; generalize k0_pay2 (F := Ideal) x w = d
  pointwise [k0_pay3, k0_pay1]

variable (m : (ℓ : Loc nD τ Cert.DactIdeal.sig) → Buf (Elt Ideal) ℓ)

theorem idx : ∀ t : Fin cfg0.N, win0_0.index t = ![t.val / 4, 0] ∧ win0_1.index t = ![t.val % 4, 1, 0, 0]
    ∧ win0_2.index t = ![0, t.val / 4, t.val % 4] ∧ win0_3.index t = ![0, t.val / 4, t.val % 4] := (by decide +kernel : ∀ t : Fin grid0.N, _)

/-- A block of the product's gradient. -/
theorem grad_blk (c : Dev nD) (t : Fin cfg0.N) (a : Fin 512) (b : Fin 1408) (r : Fin 8192) (n : Fin 5632)
    (hr : r.val = t.val / 4 * 512 + a.val) (hn : n.val = t.val % 4 * 1408 + b.val) :
    k0_pay2 (F := Ideal) (iblk m c 0 t) (iblk m c 1 t) (ix2 a b)
      = grad (m ((c : Thread nD τ).loc main_arg1)) (m ((c : Thread nD τ).loc main_arg2)) (ix2 r n) := by
  rw [grad_at, pay2_at, half_mul_sum]
  simp only [mul_assoc]
  refine Finset.sum_congr rfl fun k _ => congrArg (half * ·) ?_
  blk_point [iblk, V, (idx t).1, (idx t).2.1]

theorem gate_blk (c : Dev nD) (t : Fin cfg0.N) (s : Fin 2) (a : Fin 512) (b : Fin 1408) (r : Fin 8192) (n : Fin 5632)
    (hr : r.val = t.val / 4 * 512 + a.val) (hn : n.val = t.val % 4 * 1408 + b.val) :
    (iblk m c 2 t : Vec Ideal S2x512x1408 .bf16) (ix3 s a b) = (m ((c : Thread nD τ).loc main_arg0) : FVec Ideal S2x8192x5632 .bf16) (ix3 s r n) := by
  blk_point [iblk, V, (idx t).2.2.1]

theorem dgate_blk (c : Dev nD) (h0 : RealUp (m ((c : Thread nD τ).loc main_arg0)))
    (h1 : RealRows (m ((c : Thread nD τ).loc main_arg1))) (h2 : RealGrad (m ((c : Thread nD τ).loc main_arg2)))
    (t : Fin cfg0.N) (g u : Vec Ideal S1x512x1408 .bf16)
    (hg : ∀ (a : Fin 512) (b : Fin 1408), g (ix3 0 a b) = (iblk m c 2 t : Vec Ideal S2x512x1408 .bf16) (ix3 0 a b))
    (hu : ∀ (a : Fin 512) (b : Fin 1408), u (ix3 0 a b) = (iblk m c 2 t : Vec Ideal S2x512x1408 .bf16) (ix3 1 a b))
    (x : S1x512x1408.Idx) (j : S2x8192x5632.Idx) (hs : (j 0).val = 0)
    (hr : (j 1).val = t.val / 4 * 512 + (x 1).val) (hn : (j 2).val = t.val % 4 * 1408 + (x 2).val) :
    k0_pay4 (F := Ideal) (iblk m c 0 t) (iblk m c 1 t) g u x
      = want (m ((c : Thread nD τ).loc main_arg0)) (m ((c : Thread nD τ).loc main_arg1)) (m ((c : Thread nD τ).loc main_arg2)) j := by
  idx_vars x
  idx_vars j
  obtain rfl : j0 = 0 := Fin.ext hs
  rw [want_at0, dGate_at, gate_at, up_at]
  obtain rfl : x0 = 0 := Subsingleton.elim _ _
  rw [pay4_at, hg, hu, gate_blk m c t 0 _ _ _ _ hr hn, gate_blk m c t 1 _ _ _ _ hr hn, grad_blk m c t _ _ _ _ hr hn]
  exact gate_eq _ (grad_real h1 h2 _ _) (h0 _ _)

theorem dup_blk (c : Dev nD) (t : Fin cfg0.N) (g : Vec Ideal S1x512x1408 .bf16)
    (hg : ∀ (a : Fin 512) (b : Fin 1408), g (ix3 0 a b) = (iblk m c 2 t : Vec Ideal S2x512x1408 .bf16) (ix3 0 a b))
    (x : S1x512x1408.Idx) (j : S2x8192x5632.Idx) (hs : (j 0).val = 1)
    (hr : (j 1).val = t.val / 4 * 512 + (x 1).val) (hn : (j 2).val = t.val % 4 * 1408 + (x 2).val) :
    k0_pay5 (F := Ideal) (iblk m c 0 t) (iblk m c 1 t) g x
      = want (m ((c : Thread nD τ).loc main_arg0)) (m ((c : Thread nD τ).loc main_arg1)) (m ((c : Thread nD τ).loc main_arg2)) j := by
  idx_vars x
  idx_vars j
  obtain rfl : j0 = 1 := Fin.ext hs
  rw [want_at1, dUp_at, gate_at]
  obtain rfl : x0 = 0 := Subsingleton.elim _ _
  rw [pay5_at, hg, gate_blk m c t 0 _ _ _ _ hr hn, grad_blk m c t _ _ _ _ hr hn]
  rw [mul_assoc, mul_comm]

/-- The array after the run. -/
theorem final (c : Dev nD) (h0 : RealUp (m ((c : Thread nD τ).loc main_arg0)))
    (h1 : RealRows (m ((c : Thread nD τ).loc main_arg1))) (h2 : RealGrad (m ((c : Thread nD τ).loc main_arg2))) :
    (dats m 0 c).arrAt 3 (cfgs 0).N
      = want (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  canon_tiles x p
  · simp (disch := decide) only [View.ld_unit_lit']
    refine dup_blk m c t _ (fun a b => ?_) x _ ?_ ?_ ?_
    · pointwise
    all_goals (blk_simp [(idx t).2.2.2] <;> try omega)
  · simp (disch := decide) only [View.ld_unit_lit']
    refine dgate_blk m c h0 h1 h2 t _ _ (fun a b => ?_) (fun a b => ?_) x _ ?_ ?_ ?_
    · pointwise
    · pointwise
    all_goals (blk_simp [(idx t).2.2.2] <;> try omega)

instance preFacts : Cert.Pre_dact_finite.Facts where
  slices_S2x8192x5632_S1x8192x5632_1_0_0 := by decide
  shapeCasts_S1x8192x5632_S8192x5632 := by decide
  slices_S4x2x1408x2048_S4x1x1408x2048_0_1_0_0 := by decide
  shapeCasts_S4x1x1408x2048_S4x1408x2048 := by decide
  bcast_S_S8192x5632 := by decide
  bcast_S_S4x1408x2048 := by decide
  bcast_S_S8192x2048 := by decide

/-- The precondition's two cuts: the up half, and the layer's own half of the weight. -/
abbrev upPart (gu : FVec Ideal S2x8192x5632 .bf16) : FVec Ideal Cert.Pre_dact_finite.S8192x5632 .bf16 :=
  shapeCast _ (extractStridedSlice Cert.Pre_dact_finite.S1x8192x5632 ![1, 0, 0] gu preFacts.slices_S2x8192x5632_S1x8192x5632_1_0_0)
    preFacts.shapeCasts_S1x8192x5632_S8192x5632
abbrev rowsPart (w : FVec Ideal S4x2x1408x2048 .bf16) : FVec Ideal Cert.Pre_dact_finite.S4x1408x2048 .bf16 :=
  shapeCast _ (extractStridedSlice Cert.Pre_dact_finite.S4x1x1408x2048 ![0, 1, 0, 0] w preFacts.slices_S4x2x1408x2048_S4x1x1408x2048_0_1_0_0)
    preFacts.shapeCasts_S4x1x1408x2048_S4x1408x2048

theorem upPart_at (gu : FVec Ideal S2x8192x5632 .bf16) (r : Fin 8192) (n : Fin 5632) : upPart gu (ix2 r n) = gu (ix3 1 r n) := by
  pointwise [upPart]

theorem rowsPart_at (w : FVec Ideal S4x2x1408x2048 .bf16) (s : Fin 4) (r : Fin 1408) (k : Fin 2048) : rowsPart w (ix3 s r k) = w (ix4 s 1 r k) := by
  pointwise [rowsPart]

/-- Where the entries named by the precondition are finite, they are reals. -/
theorem finite_real {gu : FVec Ideal S2x8192x5632 .bf16} {w : FVec Ideal S4x2x1408x2048 .bf16} {dy : FVec Ideal S8192x2048 .f32}
    (h0 : (Cert.Pre_dact_finite.fn (F := Ideal) gu w dy).1 = fun _ => 1#1) (h1 : (Cert.Pre_dact_finite.fn (F := Ideal) gu w dy).2.1 = fun _ => 1#1)
    (h2 : (Cert.Pre_dact_finite.fn (F := Ideal) gu w dy).2.2 = fun _ => 1#1) : RealUp gu ∧ RealRows w ∧ RealGrad dy := by
  have top : Ideal.ofBits .f32 0x7F800000#32 = ⊤ := by decide
  have top' : Ideal.ofBits .bf16 0x7F80#16 = ⊤ := by decide
  refine ⟨fun r n => real_of_lt ?_, fun s r k => real_of_lt ?_, fun y => real_of_lt ?_⟩
  · rw [← upPart_at gu, ← top']; exact Cert.Attn.lt_of_cmp (congrFun h0 (ix2 r n))
  · rw [← rowsPart_at w, ← top']; exact Cert.Attn.lt_of_cmp (congrFun h1 (ix3 s r k))
  · rw [← top]; exact Cert.Attn.lt_of_cmp (congrFun h2 y)

end Cert.Ffn.Dact

end
-- ==== Proof.CallDwdown.lean ====
/- The weight gradient of the block's second projection: the kernel's array and the reference's term, entry by entry. -/
module

public import proofs.«01_k».proof.Proof.Gen.DwdownIdeal.Value
public import proofs.«01_k».proof.Proof.Gen.DwdownReferenceIdeal.Run
public import proofs.«01_k».proof.Proof.Half
public import Idealize.ShloMosaic.Lib.Pipeline.ValueKit
public import Idealize.ShloMosaic.Lib.Pipeline.ReadBack

@[expose] public section

set_option maxRecDepth 16384

noncomputable section

namespace Cert.Ffn.Dwdown

open Idealize.ShloMosaic Idealize.ShloMosaic.TcCoe Idealize.SL.Sem Idealize.ShloMosaic.Pointwise
open Cert.DwdownIdeal Cert.DwdownIdeal.Gen DwdownReferenceIdeal.Gen

/-- The reference: half the output's gradient against the activations, transposed. -/
abbrev want (act : FVec Ideal S8192x5632 .bf16) (dy : FVec Ideal S8192x2048 .f32) : FVec Ideal S5632x2048 .f32 :=
  transpose S5632x2048 [1, 0]
    (Host.dotGeneral DwdownReferenceIdeal.dot_S8192x2048_S8192x5632_S2048x5632_0_0_1_1_n_n none
      (mulf (broadcastInDim S8192x2048 ![] bcast_S_S8192x2048 (constant DwdownReferenceIdeal.S_ .f32 0x3F000000#32)) dy)
      (extf .f32 act DwdownReferenceIdeal.Gen.bitsLt_bf16_f32))
    transposes_S2048x5632_S5632x2048_1_0

theorem want_at (act : FVec Ideal S8192x5632 .bf16) (dy : FVec Ideal S8192x2048 .f32) (r : Fin 5632) (n : Fin 2048) :
    want act dy (ix2 r n) = half * ∑ k : Fin 8192, act (ix2 k r) * dy (ix2 k n) := by
  have e : want act dy (ix2 r n) = ∑ k : Fin 8192, half * dy (ix2 k n) * act (ix2 k r) := by
    pointwise [want]
    rfl
  rw [e, half_mul_sum]
  exact Finset.sum_congr rfl fun k _ => by rw [mul_assoc, mul_comm (dy _)]

/-- One block of tokens' share: a product of the activations' and the gradient's blocks. -/
theorem part_at (x0 : Vec Ideal S2048x1408 .bf16) (x1 : Vec Ideal S2048x1024 .bf16) (j) :
    k0_pay1 (F := Ideal) x0 x1 j = ∑ k : Fin 2048, x0 (ix2 k (j 0)) * x1 (ix2 k (j 1)) := by
  pointwise [k0_pay1]

theorem first_at (x0 : Vec Ideal S2048x1408 .bf16) (x1 : Vec Ideal S2048x1024 .bf16) (j) :
    k0_pay2 (F := Ideal) x0 x1 j = k0_pay1 (F := Ideal) x0 x1 j := by
  unfold k0_pay2; generalize k0_pay1 (F := Ideal) x0 x1 = p
  pointwise

theorem step_at (x0 : Vec Ideal S2048x1408 .bf16) (x1 : Vec Ideal S2048x1024 .bf16) (acc : Vec Ideal S1408x1024 .f32) (j) :
    k0_pay3 (F := Ideal) x0 x1 acc j = acc j + k0_pay1 (F := Ideal) x0 x1 j := by
  unfold k0_pay3; generalize k0_pay1 (F := Ideal) x0 x1 = p
  pointwise

theorem end_at (acc : Vec Ideal S1408x1024 .f32) (j) : k0_pay4 (F := Ideal) acc j = half * acc j := by
  pointwise [k0_pay4]
  rfl

variable (m : (ℓ : Loc nD τ sig) → Buf (Elt Ideal) ℓ)

theorem idx : ∀ t : Fin cfg0.N, win0_0.index t = ![t.val % 4, t.val / 8] ∧ win0_1.index t = ![t.val % 4, t.val / 4 % 2]
    ∧ win0_2.index t = ![t.val / 8, t.val / 4 % 2] := (by decide +kernel : ∀ t : Fin grid0.N, _)

/-- The carried sum at the last block of tokens: all four blocks' shares. -/
theorem acc_at (c : Dev nD) (t : Fin cfg0.N) (ht : t.val % 4 = 3) (y : S1408x1024.Idx) :
    (outsAt0 m c t.val t.isLt).2 y
      = ∑ s : Fin 4, k0_pay1 (F := Ideal) (iblk m c 0 ⟨4 * (t.val / 4) + s.val, Pipeline.run_point_lt_of_flush t ht s⟩)
          (iblk m c 1 ⟨4 * (t.val / 4) + s.val, Pipeline.run_point_lt_of_flush t ht s⟩) y := by
  refine (Pipeline.eq_sum_fin_of_reset_step_apply_of_flush (fun n h => (outsAt0 m c n h).2) 4 (fun _ => (0 : EReal))
    (fun t y => k0_pay1 (F := Ideal) (iblk m c 0 t) (iblk m c 1 t) y) (fun t h y => ?_) (fun t h y => ?_) t ht y).trans (zero_add _)
  · rw [outsAt0_A m c t h (by omega) (by omega)]
    frame_out
    rw [first_at, zero_add]
  · by_cases h3 : t.val % 4 = 3
    · rw [outsAt0_C m c t h (by omega) h3]
      frame_out
      simp only [read_unread_whole]
      exact step_at _ _ _ _
    · rw [outsAt0_B m c t h (by omega) h3]
      frame_out
      simp only [read_unread_whole]
      exact step_at _ _ _ _

/-- What the last block of tokens writes back: half the carried sum. -/
theorem out_at (c : Dev nD) (t : Fin cfg0.N) (ht : t.val % 4 = 3) (y : S1408x1024.Idx) :
    (outsAt0 m c t.val t.isLt).1 y = half * (outsAt0 m c t.val t.isLt).2 y := by
  rw [outsAt0_C m c t (by omega) (by omega) ht]
  frame_out
  exact end_at _ _

/-- The block written back at the last block of tokens. -/
theorem point (c : Dev nD) (t : Fin cfg0.N) (ht : t.val % 4 = 3) (y : S1408x1024.Idx) (j : S5632x2048.Idx)
    (h0 : (j 0).val = t.val / 8 * 1408 + (y 0).val) (h1 : (j 1).val = t.val / 4 % 2 * 1024 + (y 1).val) :
    (outsAt0 m c t.val t.isLt).1 y = want (m ((c : Thread nD τ).loc main_arg0)) (m ((c : Thread nD τ).loc main_arg1)) j := by
  idx_vars y
  idx_vars j
  rw [out_at m c t ht, want_at, acc_at m c t ht]
  simp only [part_at]
  refine congrArg (half * ·) (Fin.sum_mul_add_congr fun s k hl => ?_)
  blk_point [iblk, V, idx ⟨_, Pipeline.run_point_lt_of_flush t ht s⟩]

/-- The gradient's array after the run. -/
theorem final (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  blk_simp
  rw [after0_2]
  refine point m c t ((flush0_2 t).mp hf) y _ ?_ ?_ <;> (blk_simp [(idx t).2.2] <;> try omega)

end Cert.Ffn.Dwdown

end
-- ==== Proof.CallDwgu.lean ====
/- The weight gradient of the block's first projection: the kernel's array and the reference's term, entry by entry. -/
module

public import proofs.«01_k».proof.Proof.Gen.DwguIdeal.Value
public import proofs.«01_k».proof.Proof.Gen.DwguReferenceIdeal.Run
public import Idealize.ShloMosaic.Lib.Pipeline.ValueKit
public import Idealize.ShloMosaic.Lib.Pipeline.ReadBack

@[expose] public section

set_option maxRecDepth 16384

noncomputable section

namespace Cert.Ffn.Dwgu

open Idealize.ShloMosaic Idealize.ShloMosaic.TcCoe Idealize.SL.Sem Idealize.ShloMosaic.Pointwise
open Cert.DwguIdeal Cert.DwguIdeal.Gen DwguReferenceIdeal.Gen
open DwguReferenceIdeal (S8192x11264 S8192x5632 S1x8192x5632 S2048x11264)

/-- The gradients of the gate's half and the other half side by side. -/
abbrev cat (d : FVec Ideal S2x8192x5632 .bf16) : FVec Ideal S8192x11264 .f32 :=
  concatenate S8192x11264 1
    [⟨S8192x5632, extf .f32 (shapeCast _ (extractStridedSlice S1x8192x5632 ![0, 0, 0] d slices_S2x8192x5632_S1x8192x5632_0_0_0) shapeCasts_S1x8192x5632_S8192x5632) bitsLt_bf16_f32⟩,
     ⟨S8192x5632, extf .f32 (shapeCast _ (extractStridedSlice S1x8192x5632 ![1, 0, 0] d slices_S2x8192x5632_S1x8192x5632_1_0_0) shapeCasts_S1x8192x5632_S8192x5632) bitsLt_bf16_f32⟩]
    concatenates_S8192x5632_S8192x5632_S8192x11264_d1

theorem cat_at (d : FVec Ideal S2x8192x5632 .bf16) (k : Fin 8192) (n : Fin 11264) :
    cat d (ix2 k n) = d (ix3 ⟨n.val / 5632, by omega⟩ k ⟨n.val % 5632, by omega⟩) := by
  pointwise [cat]
  have e : ∀ (a a' : Fin 2) (b b' : Fin 5632), a.val = a'.val → b.val = b'.val → d (ix3 a k b) = d (ix3 a' k b') :=
    fun a a' b b' ha hb => by rw [Fin.ext ha, Fin.ext hb]
  split_ifs <;> refine e _ _ _ _ ?_ ?_ <;> simp <;> omega

/-- The whole weight's gradient. -/
abbrev whole (h : FVec Ideal S8192x2048 .bf16) (d : FVec Ideal S2x8192x5632 .bf16) : FVec Ideal S2048x11264 .f32 :=
  transpose S2048x11264 [1, 0] (Host.dotGeneral DwguReferenceIdeal.dot_S8192x11264_S8192x2048_S11264x2048_0_0_1_1_n_n none (cat d)
    (extf .f32 h bitsLt_bf16_f32)) transposes_S11264x2048_S2048x11264_1_0

theorem whole_at (h : FVec Ideal S8192x2048 .bf16) (d : FVec Ideal S2x8192x5632 .bf16) (r : Fin 2048) (n : Fin 11264) :
    whole h d (ix2 r n) = ∑ k : Fin 8192, h (ix2 k r) * d (ix3 ⟨n.val / 5632, by omega⟩ k ⟨n.val % 5632, by omega⟩) := by
  have e : whole h d (ix2 r n) = ∑ k : Fin 8192, cat d (ix2 k n) * h (ix2 k r) := by
    unfold whole; generalize cat d = x
    pointwise
  rw [e]
  exact Finset.sum_congr rfl fun k _ => by rw [cat_at, mul_comm]

/-- The reference: the gradient cut into its four shards. -/
abbrev want (h : FVec Ideal S8192x2048 .bf16) (d : FVec Ideal S2x8192x5632 .bf16) : FVec Ideal S4x2048x2816 .f32 :=
  concatenate S4x2048x2816 0
    [⟨DwguReferenceIdeal.S1x2048x2816, broadcastInDim DwguReferenceIdeal.S1x2048x2816 ![1, 2] bcast_S2048x2816_S1x2048x2816_1_2 (extractStridedSlice DwguReferenceIdeal.S2048x2816 ![0, 0] (whole h d) slices_S2048x11264_S2048x2816_0_0)⟩,
     ⟨DwguReferenceIdeal.S1x2048x2816, broadcastInDim DwguReferenceIdeal.S1x2048x2816 ![1, 2] bcast_S2048x2816_S1x2048x2816_1_2 (extractStridedSlice DwguReferenceIdeal.S2048x2816 ![0, 2816] (whole h d) slices_S2048x11264_S2048x2816_0_2816)⟩,
     ⟨DwguReferenceIdeal.S1x2048x2816, broadcastInDim DwguReferenceIdeal.S1x2048x2816 ![1, 2] bcast_S2048x2816_S1x2048x2816_1_2 (extractStridedSlice DwguReferenceIdeal.S2048x2816 ![0, 5632] (whole h d) slices_S2048x11264_S2048x2816_0_5632)⟩,
     ⟨DwguReferenceIdeal.S1x2048x2816, broadcastInDim DwguReferenceIdeal.S1x2048x2816 ![1, 2] bcast_S2048x2816_S1x2048x2816_1_2 (extractStridedSlice DwguReferenceIdeal.S2048x2816 ![0, 8448] (whole h d) slices_S2048x11264_S2048x2816_0_8448)⟩]
    concatenates_S1x2048x2816_S1x2048x2816_S1x2048x2816_S1x2048x2816_S4x2048x2816_d0

theorem want_at (h : FVec Ideal S8192x2048 .bf16) (d : FVec Ideal S2x8192x5632 .bf16) (s : Fin 4) (r : Fin 2048) (n : Fin 2816) :
    want h d (ix3 s r n) = ∑ k : Fin 8192, h (ix2 k r) * d (ix3 ⟨s.val / 2, by omega⟩ k ⟨s.val % 2 * 2816 + n.val, by omega⟩) := by
  have e : want h d (ix3 s r n) = whole h d (ix2 r ⟨s.val * 2816 + n.val, by omega⟩) := by
    unfold want; generalize whole h d = x
    match s with
    | 0 => pointwise
    | 1 => pointwise
    | 2 => pointwise
    | 3 => pointwise
  rw [e, whole_at]
  refine Finset.sum_congr rfl fun k _ => congrArg (_ * ·) ?_
  have e : ∀ (a a' : Fin 2) (b b' : Fin 5632), a.val = a'.val → b.val = b'.val → d (ix3 a k b) = d (ix3 a' k b') :=
    fun a a' b b' ha hb => by rw [Fin.ext ha, Fin.ext hb]
  refine e _ _ _ _ ?_ ?_ <;> simp <;> omega

/-- One block of tokens' share: a product of the two blocks. -/
theorem part_at (x0 : Vec Ideal S2048x512 .bf16) (x1 : Vec Ideal S1x2048x2816 .bf16) (j) :
    k0_pay1 (F := Ideal) x0 x1 j = ∑ k : Fin 2048, x0 (ix2 k (j 0)) * x1 (ix3 0 k (j 1)) := by
  pointwise [k0_pay1]

theorem first_at (x0 : Vec Ideal S2048x512 .bf16) (x1 : Vec Ideal S1x2048x2816 .bf16) (j) :
    k0_pay2 (F := Ideal) x0 x1 j = k0_pay1 (F := Ideal) x0 x1 j := by
  unfold k0_pay2; generalize k0_pay1 (F := Ideal) x0 x1 = p
  pointwise

theorem step_at (x0 : Vec Ideal S2048x512 .bf16) (x1 : Vec Ideal S1x2048x2816 .bf16) (acc : Vec Ideal S512x2816 .f32) (j) :
    k0_pay3 (F := Ideal) x0 x1 acc j = acc j + k0_pay1 (F := Ideal) x0 x1 j := by
  unfold k0_pay3; generalize k0_pay1 (F := Ideal) x0 x1 = p
  pointwise

variable (m : (ℓ : Loc nD τ sig) → Buf (Elt Ideal) ℓ)

theorem idx : ∀ t : Fin cfg0.N, win0_0.index t = ![t.val % 4, t.val / 16] ∧ win0_1.index t = ![t.val / 4 % 4 / 2, t.val % 4, t.val / 4 % 2]
    ∧ win0_2.index t = ![t.val / 4 % 4, t.val / 16, 0] := (by decide +kernel : ∀ t : Fin grid0.N, _)

/-- The carried sum at the last block of tokens: all four blocks' shares. -/
theorem acc_at (c : Dev nD) (t : Fin cfg0.N) (ht : t.val % 4 = 3) (y : S512x2816.Idx) :
    (outsAt0 m c t.val t.isLt).2 y
      = ∑ s : Fin 4, k0_pay1 (F := Ideal) (iblk m c 0 ⟨4 * (t.val / 4) + s.val, Pipeline.run_point_lt_of_flush t ht s⟩)
          (iblk m c 1 ⟨4 * (t.val / 4) + s.val, Pipeline.run_point_lt_of_flush t ht s⟩) y := by
  refine (Pipeline.eq_sum_fin_of_reset_step_apply_of_flush (fun n h => (outsAt0 m c n h).2) 4 (fun _ => (0 : EReal))
    (fun t y => k0_pay1 (F := Ideal) (iblk m c 0 t) (iblk m c 1 t) y) (fun t h y => ?_) (fun t h y => ?_) t ht y).trans (zero_add _)
  · rw [outsAt0_A m c t h (by omega) (by omega)]
    frame_out
    rw [first_at, zero_add]
  · by_cases h3 : t.val % 4 = 3
    · rw [outsAt0_C m c t h (by omega) h3]
      frame_out
      simp only [read_unread_whole]
      exact step_at _ _ _ _
    · rw [outsAt0_B m c t h (by omega) h3]
      frame_out
      simp only [read_unread_whole]
      exact step_at _ _ _ _

/-- What the last block of tokens writes back: the carried sum. -/
theorem out_at (c : Dev nD) (t : Fin cfg0.N) (ht : t.val % 4 = 3) (y : S1x512x2816.Idx) :
    (outsAt0 m c t.val t.isLt).1 y = (outsAt0 m c t.val t.isLt).2 (ix2 (y 1) (y 2)) := by
  rw [outsAt0_C m c t (by omega) (by omega) ht]
  frame_out
  pointwise [k0_pay4]

/-- The block written back at the last block of tokens. -/
theorem point (c : Dev nD) (t : Fin cfg0.N) (ht : t.val % 4 = 3) (y : S1x512x2816.Idx) (j : S4x2048x2816.Idx)
    (h0 : (j 0).val = t.val / 4 % 4) (h1 : (j 1).val = t.val / 16 * 512 + (y 1).val) (h2 : (j 2).val = (y 2).val) :
    (outsAt0 m c t.val t.isLt).1 y = want (m ((c : Thread nD τ).loc main_arg0)) (m ((c : Thread nD τ).loc main_arg1)) j := by
  idx_vars y
  idx_vars j
  rw [out_at m c t ht, want_at, acc_at m c t ht]
  simp only [part_at]
  refine Fin.sum_mul_add_congr fun s k hl => ?_
  blk_point [iblk, V, idx ⟨_, Pipeline.run_point_lt_of_flush t ht s⟩]

/-- The gradient's array after the run. -/
theorem final (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  blk_simp
  rw [after0_2]
  refine point m c t ((flush0_2 t).mp hf) y _ ?_ ?_ ?_ <;> (blk_simp [(idx t).2.2] <;> try omega)

end Cert.Ffn.Dwgu

end
-- ==== Proof.CallDh.lean ====
/- The gradient of the normalised input: the kernel's array and the reference's term, entry by entry. -/
module

public import proofs.«01_k».proof.Proof.Gen.DhIdeal.Value
public import proofs.«01_k».proof.Proof.Gen.DhReferenceIdeal.Run
public import Idealize.ShloMosaic.Lib.Pipeline.ValueKit
public import Idealize.ShloMosaic.Lib.Pipeline.ReadBack

@[expose] public section

set_option maxRecDepth 16384

noncomputable section

namespace Cert.Ffn.Dh

open Idealize.ShloMosaic Idealize.ShloMosaic.TcCoe Idealize.SL.Sem Idealize.ShloMosaic.Pointwise
open Cert.DhIdeal Cert.DhIdeal.Gen DhReferenceIdeal.Gen
open DhReferenceIdeal (S8192x11264 S8192x5632 S1x8192x5632 S2048x11264)

/-- The gradients of the gate's half and the other half side by side. -/
abbrev catD (d : FVec Ideal S2x8192x5632 .bf16) : FVec Ideal S8192x11264 .f32 :=
  concatenate S8192x11264 1
    [⟨S8192x5632, extf .f32 (shapeCast _ (extractStridedSlice S1x8192x5632 ![0, 0, 0] d slices_S2x8192x5632_S1x8192x5632_0_0_0) shapeCasts_S1x8192x5632_S8192x5632) bitsLt_bf16_f32⟩,
     ⟨S8192x5632, extf .f32 (shapeCast _ (extractStridedSlice S1x8192x5632 ![1, 0, 0] d slices_S2x8192x5632_S1x8192x5632_1_0_0) shapeCasts_S1x8192x5632_S8192x5632) bitsLt_bf16_f32⟩]
    concatenates_S8192x5632_S8192x5632_S8192x11264_d1

/-- The weight's four shards side by side. -/
abbrev catW (w : FVec Ideal S4x2x2048x2816 .bf16) : FVec Ideal S2048x11264 .bf16 :=
  concatenate S2048x11264 1
    [⟨DhReferenceIdeal.S2048x2816, shapeCast _ (extractStridedSlice DhReferenceIdeal.S1x1x2048x2816 ![0, 1, 0, 0] w slices_S4x2x2048x2816_S1x1x2048x2816_0_1_0_0) DhReferenceIdeal.Gen.shapeCasts_S1x1x2048x2816_S2048x2816⟩,
     ⟨DhReferenceIdeal.S2048x2816, shapeCast _ (extractStridedSlice DhReferenceIdeal.S1x1x2048x2816 ![1, 1, 0, 0] w slices_S4x2x2048x2816_S1x1x2048x2816_1_1_0_0) DhReferenceIdeal.Gen.shapeCasts_S1x1x2048x2816_S2048x2816⟩,
     ⟨DhReferenceIdeal.S2048x2816, shapeCast _ (extractStridedSlice DhReferenceIdeal.S1x1x2048x2816 ![2, 1, 0, 0] w slices_S4x2x2048x2816_S1x1x2048x2816_2_1_0_0) DhReferenceIdeal.Gen.shapeCasts_S1x1x2048x2816_S2048x2816⟩,
     ⟨DhReferenceIdeal.S2048x2816, shapeCast _ (extractStridedSlice DhReferenceIdeal.S1x1x2048x2816 ![3, 1, 0, 0] w slices_S4x2x2048x2816_S1x1x2048x2816_3_1_0_0) DhReferenceIdeal.Gen.shapeCasts_S1x1x2048x2816_S2048x2816⟩]
    concatenates_S2048x2816_S2048x2816_S2048x2816_S2048x2816_S2048x11264_d1

/-- Column `n` read in the four shards' coordinates. -/
theorem catD_at (d : FVec Ideal S2x8192x5632 .bf16) (k : Fin 8192) (n : Fin 11264) :
    catD d (ix2 k n) = d (ix3 ⟨n.val / 2816 / 2, by omega⟩ k ⟨n.val / 2816 % 2 * 2816 + n.val % 2816, by omega⟩) := by
  pointwise [catD]
  have e : ∀ (a a' : Fin 2) (b b' : Fin 5632), a.val = a'.val → b.val = b'.val → d (ix3 a k b) = d (ix3 a' k b') :=
    fun a a' b b' ha hb => by rw [Fin.ext ha, Fin.ext hb]
  split_ifs <;> refine e _ _ _ _ ?_ ?_ <;> simp <;> omega

theorem catW_at (w : FVec Ideal S4x2x2048x2816 .bf16) (k : Fin 2048) (n : Fin 11264) :
    catW w (ix2 k n) = w (ix4 ⟨n.val / 2816, by omega⟩ 1 k ⟨n.val % 2816, by omega⟩) := by
  pointwise [catW]
  have e : ∀ (a a' : Fin 4) (b b' : Fin 2816), a.val = a'.val → b.val = b'.val → w (ix4 a 1 k b) = w (ix4 a' 1 k b') :=
    fun a a' b b' ha hb => by rw [Fin.ext ha, Fin.ext hb]
  split_ifs <;> refine e _ _ _ _ ?_ ?_ <;> simp <;> omega

/-- The reference: the gradients times the weight transposed. -/
abbrev want (d : FVec Ideal S2x8192x5632 .bf16) (w : FVec Ideal S4x2x2048x2816 .bf16) : FVec Ideal S8192x2048 .f32 :=
  Host.dotGeneral DhReferenceIdeal.dot_S8192x11264_S2048x11264_S8192x2048_1_1_0_0_n_n none (catD d) (extf .f32 (catW w) bitsLt_bf16_f32)

theorem want_at (d : FVec Ideal S2x8192x5632 .bf16) (w : FVec Ideal S4x2x2048x2816 .bf16) (r : Fin 8192) (q : Fin 2048) :
    want d w (ix2 r q) = ∑ n : Fin 11264, d (ix3 ⟨n.val / 2816 / 2, by omega⟩ r ⟨n.val / 2816 % 2 * 2816 + n.val % 2816, by omega⟩)
      * w (ix4 ⟨n.val / 2816, by omega⟩ 1 q ⟨n.val % 2816, by omega⟩) := by
  simp only [← catD_at, ← catW_at]
  unfold want; generalize catD d = x; generalize catW w = v
  pointwise

/-- One shard's share: a product of the two blocks. -/
theorem part_at (x0 : Vec Ideal S1x512x2816 .bf16) (x1 : Vec Ideal S1x1x2048x2816 .bf16) (j) :
    k0_pay1 (F := Ideal) x0 x1 j = ∑ k : Fin 2816, x0 (ix3 0 (j 0) k) * x1 (ix4 0 0 (j 1) k) := by
  pointwise [k0_pay1]

theorem first_at (x0 : Vec Ideal S1x512x2816 .bf16) (x1 : Vec Ideal S1x1x2048x2816 .bf16) (j) :
    k0_pay2 (F := Ideal) x0 x1 j = k0_pay1 (F := Ideal) x0 x1 j := by
  unfold k0_pay2; generalize k0_pay1 (F := Ideal) x0 x1 = p
  pointwise

theorem step_at (x0 : Vec Ideal S1x512x2816 .bf16) (x1 : Vec Ideal S1x1x2048x2816 .bf16) (acc : Vec Ideal S512x2048 .f32) (j) :
    k0_pay3 (F := Ideal) x0 x1 acc j = acc j + k0_pay1 (F := Ideal) x0 x1 j := by
  unfold k0_pay3; generalize k0_pay1 (F := Ideal) x0 x1 = p
  pointwise

variable (m : (ℓ : Loc nD τ sig) → Buf (Elt Ideal) ℓ)

theorem idx : ∀ t : Fin cfg0.N, win0_0.index t = ![t.val % 4 / 2, t.val / 4, t.val % 4 % 2] ∧ win0_1.index t = ![t.val % 4, 1, 0, 0]
    ∧ win0_2.index t = ![t.val / 4, 0] := (by decide +kernel : ∀ t : Fin grid0.N, _)

/-- The carried sum at the last shard: all four shards' shares. -/
theorem acc_at (c : Dev nD) (t : Fin cfg0.N) (ht : t.val % 4 = 3) (y : S512x2048.Idx) :
    (outsAt0 m c t.val t.isLt).2 y
      = ∑ s : Fin 4, k0_pay1 (F := Ideal) (iblk m c 0 ⟨4 * (t.val / 4) + s.val, Pipeline.run_point_lt_of_flush t ht s⟩)
          (iblk m c 1 ⟨4 * (t.val / 4) + s.val, Pipeline.run_point_lt_of_flush t ht s⟩) y := by
  refine (Pipeline.eq_sum_fin_of_reset_step_apply_of_flush (fun n h => (outsAt0 m c n h).2) 4 (fun _ => (0 : EReal))
    (fun t y => k0_pay1 (F := Ideal) (iblk m c 0 t) (iblk m c 1 t) y) (fun t h y => ?_) (fun t h y => ?_) t ht y).trans (zero_add _)
  · rw [outsAt0_A m c t h (by omega) (by omega)]
    frame_out
    rw [first_at, zero_add]
  · by_cases h3 : t.val % 4 = 3
    · rw [outsAt0_C m c t h (by omega) h3]
      frame_out
      simp only [read_unread_whole]
      exact step_at _ _ _ _
    · rw [outsAt0_B m c t h (by omega) h3]
      frame_out
      simp only [read_unread_whole]
      exact step_at _ _ _ _

/-- What the last shard writes back: the carried sum. -/
theorem out_at (c : Dev nD) (t : Fin cfg0.N) (ht : t.val % 4 = 3) (y : S512x2048.Idx) :
    (outsAt0 m c t.val t.isLt).1 y = (outsAt0 m c t.val t.isLt).2 y := by
  rw [outsAt0_C m c t (by omega) (by omega) ht]
  frame_out

/-- The block written back at the last shard. -/
theorem point (c : Dev nD) (t : Fin cfg0.N) (ht : t.val % 4 = 3) (y : S512x2048.Idx) (j : S8192x2048.Idx)
    (h0 : (j 0).val = t.val / 4 * 512 + (y 0).val) (h1 : (j 1).val = (y 1).val) :
    (outsAt0 m c t.val t.isLt).1 y = want (m ((c : Thread nD τ).loc main_arg0)) (m ((c : Thread nD τ).loc main_arg1)) j := by
  idx_vars y
  idx_vars j
  rw [out_at m c t ht, want_at, acc_at m c t ht]
  simp only [part_at]
  refine Fin.sum_mul_add_congr fun s k hl => ?_
  blk_point [iblk, V, idx ⟨_, Pipeline.run_point_lt_of_flush t ht s⟩]

/-- The gradient's array after the run. -/
theorem final (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  blk_simp
  rw [after0_2]
  refine point m c t ((flush0_2 t).mp hf) y _ ?_ ?_ <;> (blk_simp [(idx t).2.2] <;> try omega)

end Cert.Ffn.Dh

end
-- ==== Proof.CallGu.lean ====
/- The block's first projection with its gate: the kernel's arrays and the reference's terms, entry by entry. -/
module

public import proofs.«01_k».proof.Proof.Gen.GuIdeal.Value
public import proofs.«01_k».proof.Proof.Gen.GuReferenceIdeal.Run
public import Idealize.ShloMosaic.Lib.Pipeline.ValueKit

@[expose] public section

set_option maxRecDepth 16384

noncomputable section

namespace Cert.Ffn.Gu

open Idealize.ShloMosaic Idealize.ShloMosaic.TcCoe Idealize.SL.Sem Idealize.ShloMosaic.Pointwise
open Cert.GuIdeal Cert.GuIdeal.Gen GuReferenceIdeal.Gen
open GuReferenceIdeal (S2048x11264 S2048x2816 S1x1x2048x2816 S8192x11264 S1x8192x5632)

/-- The four shards' columns side by side. -/
abbrev cat (w : FVec Ideal S4x2x2048x2816 .bf16) : FVec Ideal S2048x11264 .bf16 :=
  concatenate S2048x11264 1
    [⟨S2048x2816, shapeCast _ (extractStridedSlice S1x1x2048x2816 ![0, 1, 0, 0] w slices_S4x2x2048x2816_S1x1x2048x2816_0_1_0_0) shapeCasts_S1x1x2048x2816_S2048x2816⟩,
     ⟨S2048x2816, shapeCast _ (extractStridedSlice S1x1x2048x2816 ![1, 1, 0, 0] w slices_S4x2x2048x2816_S1x1x2048x2816_1_1_0_0) shapeCasts_S1x1x2048x2816_S2048x2816⟩,
     ⟨S2048x2816, shapeCast _ (extractStridedSlice S1x1x2048x2816 ![2, 1, 0, 0] w slices_S4x2x2048x2816_S1x1x2048x2816_2_1_0_0) shapeCasts_S1x1x2048x2816_S2048x2816⟩,
     ⟨S2048x2816, shapeCast _ (extractStridedSlice S1x1x2048x2816 ![3, 1, 0, 0] w slices_S4x2x2048x2816_S1x1x2048x2816_3_1_0_0) shapeCasts_S1x1x2048x2816_S2048x2816⟩]
    concatenates_S2048x2816_S2048x2816_S2048x2816_S2048x2816_S2048x11264_d1

/-- Column `n` of the whole weight is column `n mod 2816` of shard `n / 2816`. -/
theorem cat_at (w : FVec Ideal S4x2x2048x2816 .bf16) (k : Fin 2048) (n : Fin 11264) :
    cat w (ix2 k n) = w (ix4 ⟨n.val / 2816, by omega⟩ 1 k ⟨n.val % 2816, by omega⟩) := by
  pointwise [cat]
  have e : ∀ (a a' : Fin 4) (b b' : Fin 2816), a.val = a'.val → b.val = b'.val → w (ix4 a 1 k b) = w (ix4 a' 1 k b') :=
    fun a a' b b' ha hb => by rw [Fin.ext ha, Fin.ext hb]
  split_ifs <;> refine e _ _ _ _ ?_ ?_ <;> simp <;> omega

/-- The whole product. -/
abbrev prod (h : FVec Ideal S8192x2048 .bf16) (w : FVec Ideal S4x2x2048x2816 .bf16) : FVec Ideal S8192x11264 .f32 :=
  Host.dotGeneral GuReferenceIdeal.dot_S8192x2048_S2048x11264_S8192x11264_1_0_0_1_n_n none
    (extf .f32 h GuReferenceIdeal.Gen.bitsLt_bf16_f32) (extf .f32 (cat w) GuReferenceIdeal.Gen.bitsLt_bf16_f32)

/-- The gate's half and the other half. -/
abbrev gate (h : FVec Ideal S8192x2048 .bf16) (w : FVec Ideal S4x2x2048x2816 .bf16) : FVec Ideal S8192x5632 .f32 :=
  extractStridedSlice S8192x5632 ![0, 0] (prod h w) slices_S8192x11264_S8192x5632_0_0
abbrev up (h : FVec Ideal S8192x2048 .bf16) (w : FVec Ideal S4x2x2048x2816 .bf16) : FVec Ideal S8192x5632 .f32 :=
  extractStridedSlice S8192x5632 ![0, 5632] (prod h w) slices_S8192x11264_S8192x5632_0_5632

abbrev ones : FVec Ideal S8192x5632 .f32 :=
  broadcastInDim S8192x5632 ![] bcast_S_S8192x5632 (constant GuReferenceIdeal.S_ .f32 0x3F800000#32)

/-- The reference's two results. -/
abbrev wantAct (h : FVec Ideal S8192x2048 .bf16) (w : FVec Ideal S4x2x2048x2816 .bf16) : FVec Ideal S8192x5632 .bf16 :=
  truncf .bf16 (mulf (mulf (gate h w) (Host.divf ones (addf ones (Host.exp (Host.negf (gate h w)))))) (up h w)) GuReferenceIdeal.Gen.bitsLt_bf16_f32
abbrev wantGu (h : FVec Ideal S8192x2048 .bf16) (w : FVec Ideal S4x2x2048x2816 .bf16) : FVec Ideal S2x8192x5632 .bf16 :=
  truncf .bf16 (concatenate S2x8192x5632 0 [⟨S1x8192x5632, broadcastInDim S1x8192x5632 ![1, 2] bcast_S8192x5632_S1x8192x5632_1_2 (gate h w)⟩, ⟨S1x8192x5632, broadcastInDim S1x8192x5632 ![1, 2] bcast_S8192x5632_S1x8192x5632_1_2 (up h w)⟩] concatenates_S1x8192x5632_S1x8192x5632_S2x8192x5632_d0) GuReferenceIdeal.Gen.bitsLt_bf16_f32

theorem prod_at (h : FVec Ideal S8192x2048 .bf16) (w : FVec Ideal S4x2x2048x2816 .bf16) (r : Fin 8192) (n : Fin 11264) :
    prod h w (ix2 r n) = ∑ k : Fin 2048, h (ix2 r k) * w (ix4 ⟨n.val / 2816, by omega⟩ 1 k ⟨n.val % 2816, by omega⟩) := by
  simp only [← cat_at]
  pointwise [prod]

theorem gate_at (h : FVec Ideal S8192x2048 .bf16) (w : FVec Ideal S4x2x2048x2816 .bf16) (r : Fin 8192) (n : Fin 5632) :
    gate h w (ix2 r n) = ∑ k : Fin 2048, h (ix2 r k) * w (ix4 ⟨n.val / 2816, by omega⟩ 1 k ⟨n.val % 2816, by omega⟩) :=
  (show _ = prod h w (ix2 r ⟨n.val, by omega⟩) by pointwise [gate]).trans (prod_at h w r ⟨n.val, by omega⟩)

theorem up_at (h : FVec Ideal S8192x2048 .bf16) (w : FVec Ideal S4x2x2048x2816 .bf16) (r : Fin 8192) (n : Fin 5632) :
    up h w (ix2 r n) = ∑ k : Fin 2048, h (ix2 r k) * w (ix4 ⟨(5632 + n.val) / 2816, by omega⟩ 1 k ⟨(5632 + n.val) % 2816, by omega⟩) :=
  (show _ = prod h w (ix2 r ⟨5632 + n.val, by omega⟩) by pointwise [up]).trans (prod_at h w r ⟨5632 + n.val, by omega⟩)

/-- The gate, elementwise: the reference spells the logistic function out. -/
theorem silu_at (g u : FVec Ideal S8192x5632 .f32) (j : S8192x5632.Idx) :
    truncf .bf16 (mulf (mulf g (Host.divf ones (addf ones (Host.exp (Host.negf g))))) u) GuReferenceIdeal.Gen.bitsLt_bf16_f32 j
      = g j * Ideal.logistic (g j) * u j := by
  pointwise [ones]
  rfl

theorem wantGu_at0 (h : FVec Ideal S8192x2048 .bf16) (w : FVec Ideal S4x2x2048x2816 .bf16) (r : Fin 8192) (n : Fin 5632) :
    wantGu h w (ix3 0 r n) = gate h w (ix2 r n) := by
  unfold wantGu; generalize gate h w = g; generalize up h w = u
  pointwise

theorem wantGu_at1 (h : FVec Ideal S8192x2048 .bf16) (w : FVec Ideal S4x2x2048x2816 .bf16) (r : Fin 8192) (n : Fin 5632) :
    wantGu h w (ix3 1 r n) = up h w (ix2 r n) := by
  unfold wantGu; generalize gate h w = g; generalize up h w = u
  pointwise

variable (m : (ℓ : Loc nD τ sig) → Buf (Elt Ideal) ℓ)

theorem idx : ∀ t : Fin cfg0.N, win0_0.index t = ![t.val / 22, 0] ∧ win0_1.index t = ![t.val % 22 / 11, 1, 0, t.val % 22 % 11]
    ∧ win0_2.index t = ![(22 + t.val % 22) / 11, 1, 0, t.val % 22 % 11] ∧ win0_3.index t = ![t.val / 22, t.val % 22]
    ∧ win0_4.index t = ![0, t.val / 22, t.val % 22] := (by decide +kernel : ∀ t : Fin grid0.N, _)

/-- A block of the gate's half. -/
theorem gate_blk (c : Dev nD) (t : Fin cfg0.N) (a : Fin 1024) (b : Fin 256) (r : Fin 8192) (n : Fin 5632)
    (hr : r.val = t.val / 22 * 1024 + a.val) (hn : n.val = t.val % 22 * 256 + b.val) :
    k0_pay1 (iblk m c 0 t) (iblk m c 1 t) (ix2 a b)
      = gate (m ((c : Thread nD τ).loc main_arg0)) (m ((c : Thread nD τ).loc main_arg1)) (ix2 r n) := by
  rw [gate_at]
  pointwise [k0_pay1]
  blk_point [iblk, V, (idx t).1, (idx t).2.1]

theorem up_blk (c : Dev nD) (t : Fin cfg0.N) (a : Fin 1024) (b : Fin 256) (r : Fin 8192) (n : Fin 5632)
    (hr : r.val = t.val / 22 * 1024 + a.val) (hn : n.val = t.val % 22 * 256 + b.val) :
    k0_pay2 (iblk m c 0 t) (iblk m c 2 t) (ix2 a b)
      = up (m ((c : Thread nD τ).loc main_arg0)) (m ((c : Thread nD τ).loc main_arg1)) (ix2 r n) := by
  rw [up_at]
  pointwise [k0_pay2]
  blk_point [iblk, V, (idx t).1, (idx t).2.2.1]

theorem act_pay (x0 : Vec Ideal S1024x2048 .bf16) (x1 x2 : Vec Ideal S1x1x2048x256 .bf16) (j) :
    k0_pay3 (F := Ideal) x0 x1 x2 j = k0_pay1 (F := Ideal) x0 x1 j * Ideal.logistic (k0_pay1 (F := Ideal) x0 x1 j) * k0_pay2 (F := Ideal) x0 x2 j := by
  unfold k0_pay3; generalize k0_pay1 x0 x1 = g; generalize k0_pay2 x0 x2 = u
  pointwise

theorem act_blk (c : Dev nD) (t : Fin cfg0.N) (y : S1024x256.Idx) (j : S8192x5632.Idx)
    (h0 : (j 0).val = t.val / 22 * 1024 + (y 0).val) (h1 : (j 1).val = t.val % 22 * 256 + (y 1).val) :
    k0_pay3 (F := Ideal) (iblk m c 0 t) (iblk m c 1 t) (iblk m c 2 t) y
      = wantAct (m ((c : Thread nD τ).loc main_arg0)) (m ((c : Thread nD τ).loc main_arg1)) j := by
  idx_vars y
  idx_vars j
  rw [act_pay]
  rw [gate_blk m c t _ _ _ _ h0 h1, up_blk m c t _ _ _ _ h0 h1]
  exact (silu_at _ _ _).symm

/-- The activations' array after the run. -/
theorem finalAct (c : Dev nD) : (dats m 0 c).arrAt 3 (cfgs 0).N
    = wantAct (m ((c : Thread nD τ).loc main_arg0)) (m ((c : Thread nD τ).loc main_arg1)) := by
  refine (dats m 0 c).arrAt_eq_of_covers 3 _ (by decide +kernel) fun t _ y => ?_
  blk_simp
  rw [after0_3]; frame_out
  refine act_blk m c t y _ ?_ ?_ <;> (blk_simp [(idx t).2.2.2.1] <;> try omega)

theorem g_blk (c : Dev nD) (t : Fin cfg0.N) (x : S1x1024x256.Idx) (j : S2x8192x5632.Idx) (h0 : (j 0).val = 0)
    (hr : (j 1).val = t.val / 22 * 1024 + (x 1).val) (hn : (j 2).val = t.val % 22 * 256 + (x 2).val) :
    k0_pay4 (F := Ideal) (iblk m c 0 t) (iblk m c 1 t) x
      = wantGu (m ((c : Thread nD τ).loc main_arg0)) (m ((c : Thread nD τ).loc main_arg1)) j := by
  idx_vars j
  obtain rfl : j0 = 0 := Fin.ext h0
  rw [wantGu_at0, ← gate_blk m c t _ _ j1 j2 hr hn]
  unfold k0_pay4; generalize k0_pay1 (F := Ideal) (iblk m c 0 t) (iblk m c 1 t) = g
  pointwise

theorem u_blk (c : Dev nD) (t : Fin cfg0.N) (x : S1x1024x256.Idx) (j : S2x8192x5632.Idx) (h0 : (j 0).val = 1)
    (hr : (j 1).val = t.val / 22 * 1024 + (x 1).val) (hn : (j 2).val = t.val % 22 * 256 + (x 2).val) :
    k0_pay5 (F := Ideal) (iblk m c 0 t) (iblk m c 2 t) x
      = wantGu (m ((c : Thread nD τ).loc main_arg0)) (m ((c : Thread nD τ).loc main_arg1)) j := by
  idx_vars j
  obtain rfl : j0 = 1 := Fin.ext h0
  rw [wantGu_at1, ← up_blk m c t _ _ j1 j2 hr hn]
  unfold k0_pay5; generalize k0_pay2 (F := Ideal) (iblk m c 0 t) (iblk m c 2 t) = g
  pointwise

/-- The saved pair's array after the run. -/
theorem finalGu (c : Dev nD) : (dats m 0 c).arrAt 4 (cfgs 0).N
    = wantGu (m ((c : Thread nD τ).loc main_arg0)) (m ((c : Thread nD τ).loc main_arg1)) := by
  refine (dats m 0 c).arrAt_eq_of_covers 4 _ (by decide +kernel) fun t _ y => ?_
  blk_simp
  rw [after0_4]
  canon_tiles x h
  · simp (disch := decide) only [View.ld_unit_lit']
    refine u_blk m c t x _ ?_ ?_ ?_ <;> (blk_simp [(idx t).2.2.2.2] <;> try omega)
  · simp (disch := decide) only [View.ld_unit_lit']
    refine g_blk m c t x _ ?_ ?_ ?_ <;> (blk_simp [(idx t).2.2.2.2] <;> try omega)

end Cert.Ffn.Gu

end
-- ==== Proof.CallDown.lean ====
/- The block's second projection with its residual: the kernel's array and the reference's term, entry by entry. -/
module

public import proofs.«01_k».proof.Proof.Gen.DownIdeal.Value
public import proofs.«01_k».proof.Proof.Gen.DownReferenceIdeal.Run
public import proofs.«01_k».proof.Proof.Half
public import Idealize.ShloMosaic.Lib.Pipeline.ValueKit
public import Idealize.ShloMosaic.Lib.Pipeline.ReadBack

@[expose] public section

set_option maxRecDepth 16384

noncomputable section

namespace Cert.Ffn.Down

open Idealize.ShloMosaic Idealize.ShloMosaic.TcCoe Idealize.SL.Sem Idealize.ShloMosaic.Pointwise
open Cert.DownIdeal Cert.DownIdeal.Gen DownReferenceIdeal.Gen
open DownReferenceIdeal (S5632x2048 S1408x2048 S1x1x1408x2048)

/-- The weight's four shards one below the other. -/
abbrev cat (w : FVec Ideal S4x2x1408x2048 .bf16) : FVec Ideal S5632x2048 .bf16 :=
  concatenate S5632x2048 0
    [⟨S1408x2048, shapeCast _ (extractStridedSlice S1x1x1408x2048 ![0, 1, 0, 0] w slices_S4x2x1408x2048_S1x1x1408x2048_0_1_0_0) shapeCasts_S1x1x1408x2048_S1408x2048⟩,
     ⟨S1408x2048, shapeCast _ (extractStridedSlice S1x1x1408x2048 ![1, 1, 0, 0] w slices_S4x2x1408x2048_S1x1x1408x2048_1_1_0_0) shapeCasts_S1x1x1408x2048_S1408x2048⟩,
     ⟨S1408x2048, shapeCast _ (extractStridedSlice S1x1x1408x2048 ![2, 1, 0, 0] w slices_S4x2x1408x2048_S1x1x1408x2048_2_1_0_0) shapeCasts_S1x1x1408x2048_S1408x2048⟩,
     ⟨S1408x2048, shapeCast _ (extractStridedSlice S1x1x1408x2048 ![3, 1, 0, 0] w slices_S4x2x1408x2048_S1x1x1408x2048_3_1_0_0) shapeCasts_S1x1x1408x2048_S1408x2048⟩]
    concatenates_S1408x2048_S1408x2048_S1408x2048_S1408x2048_S5632x2048_d0

theorem cat_at (w : FVec Ideal S4x2x1408x2048 .bf16) (n : Fin 5632) (k : Fin 2048) :
    cat w (ix2 n k) = w (ix4 ⟨n.val / 1408, by omega⟩ 1 ⟨n.val % 1408, by omega⟩ k) := by
  pointwise [cat]
  have e : ∀ (a a' : Fin 4) (b b' : Fin 1408), a.val = a'.val → b.val = b'.val → w (ix4 a 1 b k) = w (ix4 a' 1 b' k) :=
    fun a a' b b' ha hb => by rw [Fin.ext ha, Fin.ext hb]
  split_ifs <;> refine e _ _ _ _ ?_ ?_ <;> simp <;> omega

/-- The reference: the input plus half the product. -/
abbrev want (x : FVec Ideal S8192x2048 .f32) (a : FVec Ideal S8192x5632 .bf16) (w : FVec Ideal S4x2x1408x2048 .bf16) : FVec Ideal S8192x2048 .f32 :=
  addf x (mulf (broadcastInDim S8192x2048 ![] bcast_S_S8192x2048 (constant DownReferenceIdeal.S_ .f32 0x3F000000#32))
    (Host.dotGeneral DownReferenceIdeal.dot_S8192x5632_S5632x2048_S8192x2048_1_0_0_1_n_n none (extf .f32 a bitsLt_bf16_f32)
      (extf .f32 (cat w) bitsLt_bf16_f32)))

theorem want_at (x : FVec Ideal S8192x2048 .f32) (a : FVec Ideal S8192x5632 .bf16) (w : FVec Ideal S4x2x1408x2048 .bf16) (r : Fin 8192) (q : Fin 2048) :
    want x a w (ix2 r q) = x (ix2 r q) + half * ∑ n : Fin 5632, a (ix2 r n) * w (ix4 ⟨n.val / 1408, by omega⟩ 1 ⟨n.val % 1408, by omega⟩ q) := by
  simp only [← cat_at]
  unfold want; generalize cat w = v
  pointwise
  rfl

/-- One shard's share: a product of the two blocks. -/
theorem part_at (x0 : Vec Ideal S1024x1408 .bf16) (x1 : Vec Ideal S1x1x1408x1024 .bf16) (j) :
    k0_pay1 (F := Ideal) x0 x1 j = ∑ k : Fin 1408, x0 (ix2 (j 0) k) * x1 (ix4 0 0 k (j 1)) := by
  pointwise [k0_pay1]

theorem first_at (x0 : Vec Ideal S1024x1408 .bf16) (x1 : Vec Ideal S1x1x1408x1024 .bf16) (j) :
    k0_pay2 (F := Ideal) x0 x1 j = k0_pay1 (F := Ideal) x0 x1 j := by
  unfold k0_pay2; generalize k0_pay1 (F := Ideal) x0 x1 = p
  pointwise

theorem step_at (x0 : Vec Ideal S1024x1408 .bf16) (x1 : Vec Ideal S1x1x1408x1024 .bf16) (acc : Vec Ideal S1024x1024 .f32) (j) :
    k0_pay3 (F := Ideal) x0 x1 acc j = acc j + k0_pay1 (F := Ideal) x0 x1 j := by
  unfold k0_pay3; generalize k0_pay1 (F := Ideal) x0 x1 = p
  pointwise

theorem end_at (acc x : Vec Ideal S1024x1024 .f32) (j) : k0_pay4 (F := Ideal) acc x j = x j + half * acc j := by
  pointwise [k0_pay4]
  rfl

variable (m : (ℓ : Loc nD τ sig) → Buf (Elt Ideal) ℓ)

theorem idx : ∀ t : Fin cfg0.N, win0_0.index t = ![t.val / 8, t.val % 4] ∧ win0_1.index t = ![t.val % 4, 1, 0, t.val / 4 % 2]
    ∧ win0_2.index t = ![t.val / 8, t.val / 4 % 2] ∧ win0_3.index t = ![t.val / 8, t.val / 4 % 2] := (by decide +kernel : ∀ t : Fin grid0.N, _)

/-- The carried sum at the last shard: all four shards' shares. -/
theorem acc_at (c : Dev nD) (t : Fin cfg0.N) (ht : t.val % 4 = 3) (y : S1024x1024.Idx) :
    (outsAt0 m c t.val t.isLt).2 y
      = ∑ s : Fin 4, k0_pay1 (F := Ideal) (iblk m c 0 ⟨4 * (t.val / 4) + s.val, Pipeline.run_point_lt_of_flush t ht s⟩)
          (iblk m c 1 ⟨4 * (t.val / 4) + s.val, Pipeline.run_point_lt_of_flush t ht s⟩) y := by
  refine (Pipeline.eq_sum_fin_of_reset_step_apply_of_flush (fun n h => (outsAt0 m c n h).2) 4 (fun _ => (0 : EReal))
    (fun t y => k0_pay1 (F := Ideal) (iblk m c 0 t) (iblk m c 1 t) y) (fun t h y => ?_) (fun t h y => ?_) t ht y).trans (zero_add _)
  · rw [outsAt0_A m c t h (by omega) (by omega)]
    frame_out
    rw [first_at, zero_add]
  · by_cases h3 : t.val % 4 = 3
    · rw [outsAt0_C m c t h (by omega) h3]
      frame_out
      simp only [read_unread_whole]
      exact step_at _ _ _ _
    · rw [outsAt0_B m c t h (by omega) h3]
      frame_out
      simp only [read_unread_whole]
      exact step_at _ _ _ _

/-- The residual's block. -/
abbrev resid (c : Dev nD) (t : Fin cfg0.N) : Vec Ideal S1024x1024 .f32 := iblk m c 2 t

/-- What the last shard writes back: the residual's block plus half the carried sum. -/
theorem out_at (c : Dev nD) (t : Fin cfg0.N) (ht : t.val % 4 = 3) (y : S1024x1024.Idx) :
    (outsAt0 m c t.val t.isLt).1 y = resid m c t y + half * (outsAt0 m c t.val t.isLt).2 y := by
  rw [outsAt0_C m c t (by omega) (by omega) ht]
  frame_out
  exact end_at _ _ _

/-- The block written back at the last shard. -/
theorem point (c : Dev nD) (t : Fin cfg0.N) (ht : t.val % 4 = 3) (y : S1024x1024.Idx) (j : S8192x2048.Idx)
    (h0 : (j 0).val = t.val / 8 * 1024 + (y 0).val) (h1 : (j 1).val = t.val / 4 % 2 * 1024 + (y 1).val) :
    (outsAt0 m c t.val t.isLt).1 y = want (m ((c : Thread nD τ).loc main_arg0)) (m ((c : Thread nD τ).loc main_arg1)) (m ((c : Thread nD τ).loc main_arg2)) j := by
  idx_vars y
  idx_vars j
  rw [out_at m c t ht, want_at, acc_at m c t ht]
  simp only [part_at]
  have e : resid m c t (ix2 y0 y1) = (m ((c : Thread nD τ).loc main_arg0) : FVec Ideal S8192x2048 .f32) (ix2 j0 j1) := by
    blk_point [resid, iblk, V, idx t]
  rw [e]
  refine congrArg (_ + half * ·) (Fin.sum_mul_add_congr fun s k hl => ?_)
  blk_point [iblk, V, idx ⟨_, Pipeline.run_point_lt_of_flush t ht s⟩]

/-- The result's array after the run. -/
theorem final (c : Dev nD) : (dats m 0 c).arrAt 3 (cfgs 0).N
    = want (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  refine point m c t ((flush0_3 t).mp hf) y _ ?_ ?_ <;> (blk_simp [(idx t).2.2.2] <;> try omega)

end Cert.Ffn.Down

end
-- ==== Proof.CallNorm.lean ====
/- The block's normalisation: the kernel's array and the reference's term, entry by entry. -/
module

public import proofs.«01_k».proof.Proof.Gen.NormIdeal.Value
public import proofs.«01_k».proof.Proof.Gen.NormReferenceIdeal.Run
public import Idealize.ShloMosaic.Lib.Pipeline.ValueKit

@[expose] public section

set_option maxRecDepth 16384

noncomputable section

namespace Cert.Ffn.Norm

open Idealize.ShloMosaic Idealize.ShloMosaic.TcCoe Idealize.SL.Sem Idealize.ShloMosaic.Pointwise
open Cert.NormIdeal Cert.NormIdeal.Gen NormReferenceIdeal.Gen
open NormReferenceIdeal (S8192x1)

/-- The reference: the row divided by its root mean square, scaled by the gain. -/
abbrev want (x : FVec Ideal S8192x2048 .f32) (g : FVec Ideal S2048 .f32) : FVec Ideal S8192x2048 .bf16 :=
  truncf .bf16 (mulf (mulf x (broadcastInDim S8192x2048 ![0, 1] bcast_S8192x1_S8192x2048_0_1
    (Host.rsqrt (addf (Host.divf (broadcastInDim S8192x1 ![0] bcast_S8192_S8192x1_0
      (Host.reduceAdd (mulf x x) (constant NormReferenceIdeal.S_ .f32 0x00000000#32) reducesTo_S8192x2048_S8192_d1 h_S_))
      (broadcastInDim S8192x1 ![] bcast_S_S8192x1 (constant NormReferenceIdeal.S_ .f32 0x45000000#32)))
      (broadcastInDim S8192x1 ![] bcast_S_S8192x1 (constant NormReferenceIdeal.S_ .f32 0x358637BD#32))))))
    (broadcastInDim S8192x2048 ![0, 1] bcast_S1x2048_S8192x2048_0_1 (broadcastInDim S1x2048 ![1] bcast_S2048_S1x2048_1 g))) NormReferenceIdeal.Gen.bitsLt_bf16_f32

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- One block of rows. -/
theorem point (c : Dev nD) (t : Fin cfg0.N) (y) : k0_pay1 (iblk m c 0 t) (iblk m c 1 t) y
    = want (m ((c : Thread nD τ).loc main_arg0)) (m ((c : Thread nD τ).loc main_arg1)) (((cfg0.win 2).blk t).view.emb y) := by
  pointwise [k0_pay1, want]
  blk_point [iblk, V, idx t]

/-- The normalised array after the run. -/
theorem final (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Ffn.Norm

end
-- ==== Proof.CallDnorm.lean ====
/- The normalisation's backward call: the kernel's arrays and the reference's terms, entry by entry. -/
module

public import proofs.«01_k».proof.Proof.Gen.DnormIdeal.Value
public import proofs.«01_k».proof.Proof.Gen.DnormReferenceIdeal.Run
public import proofs.«01_k».proof.Proof.CallDact
public import Idealize.ShloMosaic.Lib.Pipeline.ValueKit
public import Idealize.ShloMosaic.Lib.Pipeline.ReadBack

@[expose] public section

set_option maxRecDepth 16384

noncomputable section

namespace Cert.Ffn.Dnorm

open Idealize.ShloMosaic Idealize.ShloMosaic.TcCoe Idealize.SL.Sem Idealize.ShloMosaic.Pointwise
open Cert.DnormIdeal Cert.DnormIdeal.Gen DnormReferenceIdeal.Gen
open DnormReferenceIdeal (S8192x1 S8192)

/-- A row's mean square with the small constant. -/
abbrev meanSq (x : FVec Ideal S8192x2048 .f32) : FVec Ideal S8192x1 .f32 :=
  addf (Host.divf (broadcastInDim S8192x1 ![0] bcast_S8192_S8192x1_0
      (Host.reduceAdd (mulf x x) (constant DnormReferenceIdeal.S_ .f32 0x00000000#32) reducesTo_S8192x2048_S8192_d1 h_S_))
    (broadcastInDim S8192x1 ![] bcast_S_S8192x1 (constant DnormReferenceIdeal.S_ .f32 0x45000000#32)))
    (broadcastInDim S8192x1 ![] bcast_S_S8192x1 (constant DnormReferenceIdeal.S_ .f32 0x358637BD#32))

/-- The gradient of the scaled row. -/
abbrev scaled (dh : FVec Ideal S8192x2048 .f32) (g : FVec Ideal S2048 .f32) : FVec Ideal S8192x2048 .f32 :=
  mulf dh (broadcastInDim S8192x2048 ![0, 1] bcast_S1x2048_S8192x2048_0_1 (broadcastInDim S1x2048 ![1] bcast_S2048_S1x2048_1 g))

/-- The share of a row's gradient that comes through its mean square. -/
abbrev share (x dh : FVec Ideal S8192x2048 .f32) (g : FVec Ideal S2048 .f32) : FVec Ideal S8192 .f32 :=
  Host.reduceAdd (Host.divf (mulf
      (shapeCast _ (Host.reduceAdd (mulf x (scaled dh g)) (constant DnormReferenceIdeal.S_ .f32 0x00000000#32) reducesTo_S8192x2048_S8192_d1 h_S_) shapeCasts_S8192_S8192x1)
      (mulf (broadcastInDim S8192x1 ![] bcast_S_S8192x1 (constant DnormReferenceIdeal.S_ .f32 0xBF000000#32)) (Host.divf (Host.rsqrt (meanSq x)) (meanSq x))))
      (broadcastInDim S8192x1 ![] bcast_S_S8192x1 (constant DnormReferenceIdeal.S_ .f32 0x45000000#32)))
    (constant DnormReferenceIdeal.S_ .f32 0x00000000#32) reducesTo_S8192x1_S8192_d1 h_S_

/-- The reference's three results. -/
abbrev wantDx (x dh : FVec Ideal S8192x2048 .f32) (g : FVec Ideal S2048 .f32) (dy : FVec Ideal S8192x2048 .f32) : FVec Ideal S8192x2048 .f32 :=
  addf (addf (addf (mulf (scaled dh g) (broadcastInDim S8192x2048 ![0, 1] bcast_S8192x1_S8192x2048_0_1 (Host.rsqrt (meanSq x))))
      (mulf x (broadcastInDim S8192x2048 ![0] bcast_S8192_S8192x2048_0 (share x dh g))))
    (mulf (broadcastInDim S8192x2048 ![0] bcast_S8192_S8192x2048_0 (share x dh g)) x)) dy

abbrev wantDxb (x dh : FVec Ideal S8192x2048 .f32) (g : FVec Ideal S2048 .f32) (dy : FVec Ideal S8192x2048 .f32) : FVec Ideal S8192x2048 .bf16 :=
  truncf .bf16 (wantDx x dh g dy) DnormReferenceIdeal.Gen.bitsLt_bf16_f32

abbrev wantDg (x dh : FVec Ideal S8192x2048 .f32) (g : FVec Ideal S2048 .f32) (dy : FVec Ideal S8192x2048 .f32) : FVec Ideal S1x2048 .f32 :=
  shapeCast _ (Host.reduceAdd (shapeCast _ (Host.reduceAdd
      (mulf (mulf x (broadcastInDim S8192x2048 ![0, 1] bcast_S8192x1_S8192x2048_0_1 (Host.rsqrt (meanSq x)))) dh)
      (constant DnormReferenceIdeal.S_ .f32 0x00000000#32) reducesTo_S8192x2048_S2048_d0 h_S_) DnormReferenceIdeal.Gen.shapeCasts_S2048_S1x2048)
    (constant DnormReferenceIdeal.S_ .f32 0x00000000#32) reducesTo_S1x2048_S2048_d0 h_S_) DnormReferenceIdeal.Gen.shapeCasts_S2048_S1x2048

/-- The words of the width, of the small constant and of minus one half. -/
abbrev width : EReal := Ideal.ofBits .f32 0x45000000#32
abbrev small : EReal := Ideal.ofBits .f32 0x358637BD#32
abbrev negHalf : EReal := Ideal.ofBits .f32 0xBF000000#32

theorem width_eq : width = ((2048 : ℝ) : EReal) := by
  simp [width, Ideal.ofBits, Ideal.ieee]
  rw [← EReal.coe_mul]
  norm_num

theorem negHalf_eq : negHalf = ((-1 / 2 : ℝ) : EReal) := by
  simp [negHalf, Ideal.ofBits, Ideal.ieee]
  rw [← EReal.coe_mul, ← EReal.coe_neg]
  norm_num

theorem small_eq : ∃ e : ℝ, 0 < e ∧ small = (e : EReal) := by
  refine ⟨(8796093 : ℝ) * (2 ^ 43)⁻¹, by positivity, ?_⟩
  simp [small, Ideal.ofBits, Ideal.ieee]

/-- A row's mean square and its reciprocal root. -/
abbrev msAt (x : FVec Ideal S8192x2048 .f32) (r : Fin 8192) : EReal := Ideal.div (∑ k : Fin 2048, x (ix2 r k) * x (ix2 r k)) width + small
abbrev shAt (x dh : FVec Ideal S8192x2048 .f32) (g : FVec Ideal S2048 .f32) (r : Fin 8192) : EReal :=
  Ideal.div ((∑ k : Fin 2048, x (ix2 r k) * (dh (ix2 r k) * g (ix1 k))) * (negHalf * Ideal.div (Ideal.rsqrt (msAt x r)) (msAt x r))) width

theorem meanSq_at (x : FVec Ideal S8192x2048 .f32) (r : Fin 8192) (z : Fin 1) : meanSq x (ix2 r z) = msAt x r := by
  pointwise [meanSq]

theorem share_at (x dh : FVec Ideal S8192x2048 .f32) (g : FVec Ideal S2048 .f32) (r : Fin 8192) : share x dh g (ix1 r) = shAt x dh g r := by
  unfold shAt
  simp only [← meanSq_at x r 0]
  unfold share; generalize meanSq x = v
  pointwise [scaled]
  exact Fin.sum_univ_one _

theorem wantDx_at (x dh : FVec Ideal S8192x2048 .f32) (g : FVec Ideal S2048 .f32) (dy : FVec Ideal S8192x2048 .f32) (r : Fin 8192) (n : Fin 2048) :
    wantDx x dh g dy (ix2 r n) = dh (ix2 r n) * g (ix1 n) * Ideal.rsqrt (msAt x r) + x (ix2 r n) * shAt x dh g r + shAt x dh g r * x (ix2 r n) + dy (ix2 r n) := by
  simp only [← meanSq_at x r 0, ← share_at]
  unfold wantDx; generalize meanSq x = v; generalize share x dh g = u
  pointwise [scaled]

theorem wantDg_at (x dh : FVec Ideal S8192x2048 .f32) (g : FVec Ideal S2048 .f32) (dy : FVec Ideal S8192x2048 .f32) (z : Fin 1) (n : Fin 2048) :
    wantDg x dh g dy (ix2 z n) = ∑ r : Fin 8192, x (ix2 r n) * Ideal.rsqrt (msAt x r) * dh (ix2 r n) := by
  simp only [← meanSq_at x _ 0]
  unfold wantDg; generalize meanSq x = v
  pointwise
  exact Fin.sum_univ_one _

/-- A nonnegative real factor passes through a finite sum. -/
theorem real_mul_sum {n : ℕ} {a : ℝ} (ha : 0 ≤ a) (f : Fin n → EReal) : (a : EReal) * ∑ k, f k = ∑ k, (a : EReal) * f k := by
  have h : ∀ x y : EReal, (a : EReal) * (x + y) = (a : EReal) * x + (a : EReal) * y :=
    fun x y => EReal.left_distrib_of_nonneg_of_ne_top (EReal.coe_nonneg.mpr ha) (EReal.coe_ne_top _) x y
  induction n with
  | zero => simp
  | succ n ih => rw [Fin.sum_univ_succ, h, ih, Fin.sum_univ_succ]

/-- The mean square with the small constant is infinite or a positive real. -/
theorem ms_cases {n : ℕ} (X : Fin n → EReal) :
    Ideal.div (∑ k, X k * X k) width + small = ⊤ ∨ ∃ M : ℝ, 0 < M ∧ Ideal.div (∑ k, X k * X k) width + small = (M : EReal) := by
  obtain ⟨e, he, hs⟩ := small_eq
  have h0 : 0 ≤ ∑ k, X k * X k := Finset.sum_nonneg fun k _ => by
    induction X k using EReal.rec with
    | bot => simp
    | top => simp
    | coe x => exact_mod_cast mul_self_nonneg x
  rw [hs, width_eq, Ideal.div_coe (by norm_num)]
  generalize ∑ k, X k * X k = s at h0 ⊢
  induction s using EReal.rec with
  | bot => simp at h0
  | top =>
    left
    rw [EReal.top_mul_coe_of_pos (by norm_num)]
    rfl
  | coe q =>
    right
    have hq : 0 ≤ q := by exact_mod_cast h0
    exact ⟨q * (1 / 2048) + e, by positivity, by push_cast; rfl⟩

/-- One entry of the gradient: the kernel's form and the derivative's. No entry need be finite: a real factor passes through
    the sums, and at an infinite mean square both are zero. -/
theorem entry_eq {n : ℕ} (X D g : Fin n → EReal) (k : Fin n) (R : EReal) (hR : R = Ideal.rsqrt (Ideal.div (∑ k, X k * X k) width + small)) :
    R * (D k * g k - X k * R * Ideal.div (∑ j, D j * g j * (X j * R)) width)
      = D k * g k * R
        + X k * Ideal.div ((∑ j, X j * (D j * g j)) * (negHalf * Ideal.div R (Ideal.div (∑ k, X k * X k) width + small))) width
        + Ideal.div ((∑ j, X j * (D j * g j)) * (negHalf * Ideal.div R (Ideal.div (∑ k, X k * X k) width + small))) width * X k := by
  have hM := ms_cases X
  generalize Ideal.div (∑ k, X k * X k) width + small = M at hM hR ⊢
  rw [width_eq, Ideal.div_coe (by norm_num), Ideal.div_coe (by norm_num)]
  obtain rfl | ⟨M, hM, rfl⟩ := hM
  · rw [Ideal.rsqrt_top] at hR
    subst hR
    simp [Ideal.div]
  · have hq : 0 < Real.sqrt M := Real.sqrt_pos.mpr hM
    obtain ⟨r, hr⟩ : ∃ r : ℝ, r = (Real.sqrt M)⁻¹ := ⟨_, rfl⟩
    have hr0 : 0 < r := by rw [hr]; positivity
    have hrr : 1 / M = r * r := by
      rw [hr, ← mul_inv, Real.mul_self_sqrt hM.le, one_div]
    rw [Ideal.rsqrt_coe, if_neg (not_lt.mpr hM.le), if_neg hM.ne', ← hr] at hR
    subst hR
    have e : ∑ j, D j * g j * (X j * (r : EReal)) = (r : EReal) * ∑ j, X j * (D j * g j) := by
      rw [real_mul_sum hr0.le]
      exact Finset.sum_congr rfl fun j _ => by rw [mul_comm (D j * g j), mul_comm (X j) (r : EReal), mul_assoc]
    rw [e, Ideal.div_coe hM.ne', negHalf_eq, hrr]
    generalize ∑ j, X j * (D j * g j) = T
    generalize D k * g k = a
    generalize X k = x
    obtain ⟨q, hq⟩ : ∃ q : ℝ, q = r * r * r / 4096 := ⟨_, rfl⟩
    have hq0 : 0 ≤ q := by rw [hq]; positivity
    have h1 : (r : EReal) * -(x * (r : EReal) * ((r : EReal) * T * ((1 / 2048 : ℝ) : EReal))) = ((q + q : ℝ) : EReal) * -(x * T) := by
      rw [mul_neg, mul_neg]
      congr 1
      rw [show (q + q : ℝ) = r * r * r * (1 / 2048) by rw [hq]; ring]
      push_cast
      ac_rfl
    have h2 : T * (((-1 / 2 : ℝ) : EReal) * ((r : EReal) * ((r * r : ℝ) : EReal))) * ((1 / 2048 : ℝ) : EReal) = -((q : EReal) * T) := by
      rw [← neg_mul, ← EReal.coe_neg, show -q = -1 / 2 * (r * (r * r)) * (1 / 2048) by rw [hq]; ring]
      rw [← EReal.coe_mul, ← EReal.coe_mul, mul_assoc, ← EReal.coe_mul, mul_comm]
    rw [h2, sub_eq_add_neg, EReal.left_distrib_of_nonneg_of_ne_top (EReal.coe_nonneg.mpr hr0.le) (EReal.coe_ne_top _), h1]
    have h3 : x * -((q : EReal) * T) = (q : EReal) * -(x * T) := by
      rw [mul_neg, mul_neg]
      congr 1
      ac_rfl
    rw [mul_comm _ x, h3, add_assoc, EReal.coe_add, EReal.right_distrib_of_nonneg (EReal.coe_nonneg.mpr hq0) (EReal.coe_nonneg.mpr hq0), mul_comm a]

/-- The bodies' values on blocks. -/
abbrev msBlk (x : Vec Ideal S256x2048 .f32) (a : Fin 256) : EReal := Ideal.div (∑ k : Fin 2048, x (ix2 a k) * x (ix2 a k)) width + small

theorem pay3_at (x : Vec Ideal S256x2048 .f32) (a : Fin 256) (z : Fin 1) : k0_pay3 (F := Ideal) x (ix2 a z) = Ideal.rsqrt (msBlk x a) := by
  pointwise [k0_pay3]

theorem pay4_at (x : Vec Ideal S256x2048 .f32) (a : Fin 256) (n : Fin 2048) : k0_pay4 (F := Ideal) x (ix2 a n) = x (ix2 a n) * Ideal.rsqrt (msBlk x a) := by
  rw [← pay3_at x a 0]
  unfold k0_pay4; generalize k0_pay3 (F := Ideal) x = v
  pointwise

theorem pay9_at (x d : Vec Ideal S256x2048 .f32) (g : Vec Ideal S1x2048 .f32) (a : Fin 256) (n : Fin 2048) :
    k0_pay9 (F := Ideal) x d g (ix2 a n) = Ideal.rsqrt (msBlk x a) * (d (ix2 a n) * g (ix2 0 n) - x (ix2 a n) * Ideal.rsqrt (msBlk x a)
      * Ideal.div (∑ j : Fin 2048, d (ix2 a j) * g (ix2 0 j) * (x (ix2 a j) * Ideal.rsqrt (msBlk x a))) width) := by
  simp only [← pay4_at x]
  rw [← pay3_at x a 0]
  unfold k0_pay9; generalize k0_pay4 (F := Ideal) x = u; generalize k0_pay3 (F := Ideal) x = v
  pointwise

theorem pay1_at (u v : Vec Ideal S256x2048 .f32) (j) : k0_pay1 (F := Ideal) u v j = u j + v j := by
  pointwise [k0_pay1]

theorem pay2_at (u v : Vec Ideal S256x2048 .f32) (j) : k0_pay2 (F := Ideal) u v j = u j + v j := by
  pointwise [k0_pay2, k0_pay1]

theorem pay5_at (x d : Vec Ideal S256x2048 .f32) (a : Fin 8) (n : Fin 2048) :
    k0_pay5 (F := Ideal) x d (ix2 a n) = ∑ b : Fin 32, d (ix2 ⟨b.val * 8 + a.val, by omega⟩ n)
      * (x (ix2 ⟨b.val * 8 + a.val, by omega⟩ n) * Ideal.rsqrt (msBlk x ⟨b.val * 8 + a.val, by omega⟩)) := by
  simp only [← pay4_at x]
  unfold k0_pay5; generalize k0_pay4 (F := Ideal) x = u
  pointwise

theorem first_at (x d : Vec Ideal S256x2048 .f32) (j) : k0_pay6 (F := Ideal) x d j = k0_pay5 (F := Ideal) x d j := by
  unfold k0_pay6; generalize k0_pay5 (F := Ideal) x d = p
  pointwise

theorem step_at (x d : Vec Ideal S256x2048 .f32) (acc : Vec Ideal S8x2048 .f32) (j) :
    k0_pay7 (F := Ideal) x d acc j = acc j + k0_pay5 (F := Ideal) x d j := by
  unfold k0_pay7; generalize k0_pay5 (F := Ideal) x d = p
  pointwise

theorem pay8_at (acc : Vec Ideal S8x2048 .f32) (z : Fin 1) (n : Fin 2048) : k0_pay8 (F := Ideal) acc (ix2 z n) = ∑ a : Fin 8, acc (ix2 a n) := by
  pointwise [k0_pay8]

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![0, 0] :=
  (by decide +kernel : ∀ t : Fin grid0.N, _)

/-- The blocks at a point: the rows, their gradient, the gain and the residual's gradient. -/
abbrev bx (c : Dev nD) (t : Fin cfg0.N) : Vec Ideal S256x2048 .f32 := iblk m c 0 t
abbrev bd (c : Dev nD) (t : Fin cfg0.N) : Vec Ideal S256x2048 .f32 := iblk m c 1 t
abbrev bg (c : Dev nD) (t : Fin cfg0.N) : Vec Ideal S1x2048 .f32 := iblk m c 2 t
abbrev br (c : Dev nD) (t : Fin cfg0.N) : Vec Ideal S256x2048 .f32 := iblk m c 3 t

theorem bx_at (c : Dev nD) (t : Fin cfg0.N) (a : Fin 256) (n : Fin 2048) (r : Fin 8192) (hr : r.val = t.val * 256 + a.val) :
    bx m c t (ix2 a n) = (m ((c : Thread nD τ).loc main_arg0) : FVec Ideal S8192x2048 .f32) (ix2 r n) := by
  blk_point [bx, iblk, V, idx t]

theorem bd_at (c : Dev nD) (t : Fin cfg0.N) (a : Fin 256) (n : Fin 2048) (r : Fin 8192) (hr : r.val = t.val * 256 + a.val) :
    bd m c t (ix2 a n) = (m ((c : Thread nD τ).loc main_arg1) : FVec Ideal S8192x2048 .f32) (ix2 r n) := by
  blk_point [bd, iblk, V, idx t]

theorem bg_at (c : Dev nD) (t : Fin cfg0.N) (n : Fin 2048) :
    bg m c t (ix2 0 n) = (m ((c : Thread nD τ).loc main_arg2) : FVec Ideal S2048 .f32) (ix1 n) := by
  blk_point [bg, iblk, V, idx t]

theorem br_at (c : Dev nD) (t : Fin cfg0.N) (a : Fin 256) (n : Fin 2048) (r : Fin 8192) (hr : r.val = t.val * 256 + a.val) :
    br m c t (ix2 a n) = (m ((c : Thread nD τ).loc main_arg3) : FVec Ideal S8192x2048 .f32) (ix2 r n) := by
  blk_point [br, iblk, V, idx t]

theorem ms_blk (c : Dev nD) (t : Fin cfg0.N) (a : Fin 256) (r : Fin 8192) (hr : r.val = t.val * 256 + a.val) :
    msBlk (bx m c t) a = msAt (m ((c : Thread nD τ).loc main_arg0)) r := by
  unfold msBlk msAt
  simp only [bx_at m c t a _ r hr]

/-- A block's entry is the reference's. -/
theorem dx_blk (c : Dev nD) (t : Fin cfg0.N) (a : Fin 256) (n : Fin 2048) (r : Fin 8192) (hr : r.val = t.val * 256 + a.val) :
    k0_pay9 (F := Ideal) (bx m c t) (bd m c t) (bg m c t) (ix2 a n) + br m c t (ix2 a n) = wantDx (m ((c : Thread nD τ).loc main_arg0)) (m ((c : Thread nD τ).loc main_arg1)) (m ((c : Thread nD τ).loc main_arg2)) (m ((c : Thread nD τ).loc main_arg3)) (ix2 r n) := by
  rw [pay9_at, wantDx_at, br_at m c t a n r hr, ms_blk m c t a r hr]
  simp only [bx_at m c t a _ r hr, bd_at m c t a _ r hr, bg_at]
  exact congrArg (· + _) (entry_eq (fun k => m ((c : Thread nD τ).loc main_arg0) (ix2 r k)) (fun k => m ((c : Thread nD τ).loc main_arg1) (ix2 r k)) (fun k => m ((c : Thread nD τ).loc main_arg2) (ix1 k)) n _ rfl)

/-- What each point leaves in the gradient's block and in its bf16 copy. -/
theorem out_dx (c : Dev nD) (t : Fin cfg0.N) (y : S256x2048.Idx) :
    (outsAt0 m c t.val t.isLt).1 y = k0_pay9 (F := Ideal) (bx m c t) (bd m c t) (bg m c t) y + br m c t y := by
  by_cases h : t.val % 32 = 0
  · rw [outsAt0_A m c t h (by have := t.isLt; have : cfg0.N = 32 := N_0; omega) (by omega)]
    frame_out
    exact pay1_at _ _ _
  · by_cases h3 : t.val % 32 = 31
    · rw [outsAt0_C m c t h (by omega) h3]
      frame_out
      exact pay1_at _ _ _
    · rw [outsAt0_B m c t h (by omega) h3]
      frame_out
      exact pay1_at _ _ _

theorem out_dxb (c : Dev nD) (t : Fin cfg0.N) (y : S256x2048.Idx) :
    (outsAt0 m c t.val t.isLt).2.1 y = k0_pay9 (F := Ideal) (bx m c t) (bd m c t) (bg m c t) y + br m c t y := by
  by_cases h : t.val % 32 = 0
  · rw [outsAt0_A m c t h (by have := t.isLt; have : cfg0.N = 32 := N_0; omega) (by omega)]
    frame_out
    exact pay2_at _ _ _
  · by_cases h3 : t.val % 32 = 31
    · rw [outsAt0_C m c t h (by omega) h3]
      frame_out
      exact pay2_at _ _ _
    · rw [outsAt0_B m c t h (by omega) h3]
      frame_out
      exact pay2_at _ _ _

/-- The carried sum at the last point: all points' shares. -/
theorem acc_at (c : Dev nD) (t : Fin cfg0.N) (ht : t.val % 32 = 31) (y : S8x2048.Idx) :
    (outsAt0 m c t.val t.isLt).2.2.2 y
      = ∑ s : Fin 32, k0_pay5 (F := Ideal) (bx m c ⟨32 * (t.val / 32) + s.val, Pipeline.run_point_lt_of_flush t ht s⟩)
          (bd m c ⟨32 * (t.val / 32) + s.val, Pipeline.run_point_lt_of_flush t ht s⟩) y := by
  refine (Pipeline.eq_sum_fin_of_reset_step_apply_of_flush (fun n h => (outsAt0 m c n h).2.2.2) 32 (fun _ => (0 : EReal))
    (fun t y => k0_pay5 (F := Ideal) (bx m c t) (bd m c t) y) (fun t h y => ?_) (fun t h y => ?_) t ht y).trans (zero_add _)
  · rw [outsAt0_A m c t h (by have := t.isLt; have : cfg0.N = 32 := N_0; omega) (by omega)]
    frame_out
    rw [first_at, zero_add]
  · by_cases h3 : t.val % 32 = 31
    · rw [outsAt0_C m c t h (by omega) h3]
      frame_out
      simp only [read_unread_whole]
      exact step_at _ _ _ _
    · rw [outsAt0_B m c t h (by omega) h3]
      frame_out
      simp only [read_unread_whole]
      exact step_at _ _ _ _

/-- What the last point writes back of the gain's gradient. -/
theorem out_dg (c : Dev nD) (t : Fin cfg0.N) (ht : t.val % 32 = 31) (z : Fin 1) (n : Fin 2048) :
    (outsAt0 m c t.val t.isLt).2.2.1 (ix2 z n) = ∑ a : Fin 8, (outsAt0 m c t.val t.isLt).2.2.2 (ix2 a n) := by
  rw [outsAt0_C m c t (by omega) (by omega) ht]
  frame_out
  exact pay8_at _ _ _

/-- The sublanes, the points and the groups of eight rows together are the rows. -/
theorem regroup (f : Fin 8192 → EReal) :
    (∑ a : Fin 8, ∑ s : Fin 32, ∑ b : Fin 32, f ⟨s.val * 256 + (b.val * 8 + a.val), by omega⟩) = ∑ r, f r := by
  rw [Finset.sum_comm, ← (finProdFinEquiv (m := 32) (n := 256)).sum_comp, Fintype.sum_prod_type]
  refine Finset.sum_congr rfl fun s _ => ?_
  rw [Finset.sum_comm, ← (finProdFinEquiv (m := 32) (n := 8)).sum_comp, Fintype.sum_prod_type]
  refine Finset.sum_congr rfl fun b _ => Finset.sum_congr rfl fun a _ => congrArg f (Fin.ext ?_)
  simp only [finProdFinEquiv_apply_val]
  omega

/-- The rows and their gradient as the call takes them. -/
abbrev ax (c : Dev nD) : FVec Ideal S8192x2048 .f32 := m ((c : Thread nD τ).loc main_arg0)
abbrev ad (c : Dev nD) : FVec Ideal S8192x2048 .f32 := m ((c : Thread nD τ).loc main_arg1)

/-- A point's share of the gain's gradient. -/
theorem share_blk (c : Dev nD) (t : Fin cfg0.N) (a : Fin 8) (n : Fin 2048) :
    k0_pay5 (F := Ideal) (bx m c t) (bd m c t) (ix2 a n)
      = ∑ b : Fin 32, ax m c (ix2 ⟨t.val * 256 + (b.val * 8 + a.val), by have := t.isLt; have : cfg0.N = 32 := N_0; omega⟩ n)
          * Ideal.rsqrt (msAt (ax m c) ⟨t.val * 256 + (b.val * 8 + a.val), by have := t.isLt; have : cfg0.N = 32 := N_0; omega⟩)
          * ad m c (ix2 ⟨t.val * 256 + (b.val * 8 + a.val), by have := t.isLt; have : cfg0.N = 32 := N_0; omega⟩ n) := by
  rw [pay5_at]
  refine Finset.sum_congr rfl fun b _ => ?_
  rw [bx_at m c t _ n ⟨t.val * 256 + (b.val * 8 + a.val), by have := t.isLt; have : cfg0.N = 32 := N_0; omega⟩ rfl,
    bd_at m c t _ n ⟨t.val * 256 + (b.val * 8 + a.val), by have := t.isLt; have : cfg0.N = 32 := N_0; omega⟩ rfl,
    ms_blk m c t _ ⟨t.val * 256 + (b.val * 8 + a.val), by have := t.isLt; have : cfg0.N = 32 := N_0; omega⟩ rfl]
  exact mul_comm _ _

/-- What is written back of the gain's gradient is the reference's. -/
theorem dg_blk (c : Dev nD) (t : Fin cfg0.N) (ht : t.val % 32 = 31) (z z' : Fin 1) (n : Fin 2048) :
    (outsAt0 m c t.val t.isLt).2.2.1 (ix2 z n) = wantDg (m ((c : Thread nD τ).loc main_arg0)) (m ((c : Thread nD τ).loc main_arg1)) (m ((c : Thread nD τ).loc main_arg2)) (m ((c : Thread nD τ).loc main_arg3)) (ix2 z' n) := by
  have hN : cfg0.N = 32 := N_0
  have hd : t.val / 32 = 0 := by have := t.isLt; omega
  rw [out_dg m c t ht, wantDg_at]
  refine Eq.trans ?_ (regroup fun r => _)
  refine Finset.sum_congr rfl fun a _ => (acc_at m c t ht _).trans (Finset.sum_congr rfl fun s _ => ?_)
  rw [share_blk]
  refine Finset.sum_congr rfl fun b _ => ?_
  have e : (32 * (t.val / 32) + s.val) = s.val := by omega
  simp only [e]

/-- Each block of the gradient is the reference's rows. -/
theorem pointDx (c : Dev nD) (t : Fin cfg0.N) (y : S256x2048.Idx) (j : S8192x2048.Idx)
    (h0 : (j 0).val = t.val * 256 + (y 0).val) (h1 : (j 1).val = (y 1).val) :
    k0_pay9 (F := Ideal) (bx m c t) (bd m c t) (bg m c t) y + br m c t y = wantDx (m ((c : Thread nD τ).loc main_arg0)) (m ((c : Thread nD τ).loc main_arg1)) (m ((c : Thread nD τ).loc main_arg2)) (m ((c : Thread nD τ).loc main_arg3)) j := by
  idx_vars y
  idx_vars j
  obtain rfl : j1 = y1 := Fin.ext h1
  exact dx_blk m c t y0 j1 j0 h0

/-- The block written back at the last point is the reference's gain gradient. -/
theorem pointDg (c : Dev nD) (t : Fin cfg0.N) (ht : t.val % 32 = 31) (y : S1x2048.Idx) (j : S1x2048.Idx)
    (h0 : (j 0).val = (y 0).val) (h1 : (j 1).val = (y 1).val) :
    (outsAt0 m c t.val t.isLt).2.2.1 y = wantDg (m ((c : Thread nD τ).loc main_arg0)) (m ((c : Thread nD τ).loc main_arg1)) (m ((c : Thread nD τ).loc main_arg2)) (m ((c : Thread nD τ).loc main_arg3)) j := by
  idx_vars y
  idx_vars j
  obtain rfl : j1 = y1 := Fin.ext h1
  exact dg_blk m c t ht y0 j0 j1

/-- The gradient's array after the run. -/
theorem finalDx (c : Dev nD) : (dats m 0 c).arrAt 4 (cfgs 0).N = wantDx (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, out_dx]
  refine pointDx m c t y _ ?_ ?_ <;> (blk_simp [(idx t)] <;> try omega)

/-- The array of its bf16 copy after the run. -/
theorem finalDxb (c : Dev nD) : (dats m 0 c).arrAt 5 (cfgs 0).N = wantDxb (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, out_dxb]
  refine pointDx m c t y _ ?_ ?_ <;> (blk_simp [(idx t)] <;> try omega)

/-- The array of the gain's gradient after the run. -/
theorem finalDg (c : Dev nD) : (dats m 0 c).arrAt 6 (cfgs 0).N = wantDg (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  refine pointDg m c t ((flush0_6 t).mp hf) y _ ?_ ?_ <;> (blk_simp [(idx t)] <;> try omega)

end Cert.Ffn.Dnorm

end
-- ==== Proof.CallDact0.lean ====
/- The gate's backward call: the kernel's array and the reference's term, entry by entry. -/
module

public import proofs.«01_k».proof.Proof.Gen.Dact0Ideal.Value
public import proofs.«01_k».proof.Proof.Gen.Dact0ReferenceIdeal.Run
public import proofs.«01_k».proof.Pre_dact0_finite
public import proofs.«01_k».proof.Proof.CallDact
public import Idealize.ShloMosaic.Lib.Pipeline.ValueKit
public import Idealize.ShloMosaic.Lib.Pipeline.ReadBack

@[expose] public section

set_option maxRecDepth 16384

noncomputable section

namespace Cert.Ffn.Dact0

open Idealize.ShloMosaic Idealize.ShloMosaic.TcCoe Idealize.SL.Sem Idealize.ShloMosaic.Pointwise
open Cert.Ffn.Dact (one_word real_of_lt sum_real logistic_real gate_eq)
open Cert.Dact0Ideal Cert.Dact0Ideal.Gen Dact0ReferenceIdeal.Gen
open Dact0ReferenceIdeal (S5632x2048 S8192x5632 S1x8192x5632)

/-- The four shards' rows, one below the other. -/
abbrev cat (w : FVec Ideal S4x2x1408x2048 .bf16) : FVec Ideal S5632x2048 .bf16 :=
  concatenate S5632x2048 0
    [⟨Dact0ReferenceIdeal.S1408x2048, shapeCast _ (extractStridedSlice Dact0ReferenceIdeal.S1x1x1408x2048 ![0, 0, 0, 0] w slices_S4x2x1408x2048_S1x1x1408x2048_0_0_0_0) Dact0ReferenceIdeal.Gen.shapeCasts_S1x1x1408x2048_S1408x2048⟩,
     ⟨Dact0ReferenceIdeal.S1408x2048, shapeCast _ (extractStridedSlice Dact0ReferenceIdeal.S1x1x1408x2048 ![1, 0, 0, 0] w slices_S4x2x1408x2048_S1x1x1408x2048_1_0_0_0) Dact0ReferenceIdeal.Gen.shapeCasts_S1x1x1408x2048_S1408x2048⟩,
     ⟨Dact0ReferenceIdeal.S1408x2048, shapeCast _ (extractStridedSlice Dact0ReferenceIdeal.S1x1x1408x2048 ![2, 0, 0, 0] w slices_S4x2x1408x2048_S1x1x1408x2048_2_0_0_0) Dact0ReferenceIdeal.Gen.shapeCasts_S1x1x1408x2048_S1408x2048⟩,
     ⟨Dact0ReferenceIdeal.S1408x2048, shapeCast _ (extractStridedSlice Dact0ReferenceIdeal.S1x1x1408x2048 ![3, 0, 0, 0] w slices_S4x2x1408x2048_S1x1x1408x2048_3_0_0_0) Dact0ReferenceIdeal.Gen.shapeCasts_S1x1x1408x2048_S1408x2048⟩]
    concatenates_S1408x2048_S1408x2048_S1408x2048_S1408x2048_S5632x2048_d0

/-- Row `n` of the whole weight is row `n mod 1408` of shard `n / 1408`. -/
theorem cat_at (w : FVec Ideal S4x2x1408x2048 .bf16) (n : Fin 5632) (k : Fin 2048) :
    cat w (ix2 n k) = w (ix4 ⟨n.val / 1408, by omega⟩ 0 ⟨n.val % 1408, by omega⟩ k) := by
  pointwise [cat]
  have e : ∀ (a a' : Fin 4) (b b' : Fin 1408), a.val = a'.val → b.val = b'.val → w (ix4 a 0 b k) = w (ix4 a' 0 b' k) :=
    fun a a' b b' ha hb => by rw [Fin.ext ha, Fin.ext hb]
  split_ifs <;> refine e _ _ _ _ ?_ ?_ <;> simp <;> omega

/-- The gradient of the gated product: half the output's gradient times the transposed weight. -/
abbrev grad (w : FVec Ideal S4x2x1408x2048 .bf16) (dy : FVec Ideal S8192x2048 .f32) : FVec Ideal S8192x5632 .f32 :=
  Host.dotGeneral Dact0ReferenceIdeal.dot_S8192x2048_S5632x2048_S8192x5632_1_1_0_0_n_n none
    (mulf (broadcastInDim Dact0ReferenceIdeal.S8192x2048 ![] bcast_S_S8192x2048 (constant Dact0ReferenceIdeal.S_ .f32 0x3F000000#32)) dy)
    (extf .f32 (cat w) Dact0ReferenceIdeal.Gen.bitsLt_bf16_f32)

abbrev gate (gu : FVec Ideal S2x8192x5632 .bf16) : FVec Ideal S8192x5632 .f32 :=
  extf .f32 (shapeCast S8192x5632 (extractStridedSlice S1x8192x5632 ![0, 0, 0] gu slices_S2x8192x5632_S1x8192x5632_0_0_0) shapeCasts_S1x8192x5632_S8192x5632) Dact0ReferenceIdeal.Gen.bitsLt_bf16_f32
abbrev up (gu : FVec Ideal S2x8192x5632 .bf16) : FVec Ideal S8192x5632 .f32 :=
  extf .f32 (shapeCast S8192x5632 (extractStridedSlice S1x8192x5632 ![1, 0, 0] gu slices_S2x8192x5632_S1x8192x5632_1_0_0) shapeCasts_S1x8192x5632_S8192x5632) Dact0ReferenceIdeal.Gen.bitsLt_bf16_f32
abbrev ones : FVec Ideal S8192x5632 .f32 :=
  broadcastInDim S8192x5632 ![] bcast_S_S8192x5632 (constant Dact0ReferenceIdeal.S_ .f32 0x3F800000#32)
abbrev sig (g : FVec Ideal S8192x5632 .f32) : FVec Ideal S8192x5632 .f32 :=
  Host.divf ones (addf ones (Host.exp (Host.negf g)))
abbrev dGate (d g u : FVec Ideal S8192x5632 .f32) : FVec Ideal S8192x5632 .f32 :=
  addf (mulf (mulf d u) (sig g)) (mulf (mulf g (mulf d u)) (mulf (sig g) (subf ones (sig g))))
abbrev dUp (d g : FVec Ideal S8192x5632 .f32) : FVec Ideal S8192x5632 .f32 := mulf (mulf g (sig g)) d

/-- The reference's result. -/
abbrev want (gu : FVec Ideal S2x8192x5632 .bf16) (w : FVec Ideal S4x2x1408x2048 .bf16) (dy : FVec Ideal S8192x2048 .f32) : FVec Ideal S2x8192x5632 .bf16 :=
  truncf .bf16 (concatenate Dact0ReferenceIdeal.S2x8192x5632 0
    [⟨S1x8192x5632, broadcastInDim S1x8192x5632 ![1, 2] bcast_S8192x5632_S1x8192x5632_1_2 (dGate (grad w dy) (gate gu) (up gu))⟩,
     ⟨S1x8192x5632, broadcastInDim S1x8192x5632 ![1, 2] bcast_S8192x5632_S1x8192x5632_1_2 (dUp (grad w dy) (gate gu))⟩]
    concatenates_S1x8192x5632_S1x8192x5632_S2x8192x5632_d0) Dact0ReferenceIdeal.Gen.bitsLt_bf16_f32

theorem grad_at (w : FVec Ideal S4x2x1408x2048 .bf16) (dy : FVec Ideal S8192x2048 .f32) (r : Fin 8192) (n : Fin 5632) :
    grad w dy (ix2 r n) = ∑ k : Fin 2048, half * dy (ix2 r k) * w (ix4 ⟨n.val / 1408, by omega⟩ 0 ⟨n.val % 1408, by omega⟩ k) := by
  simp only [← cat_at]
  unfold grad; generalize cat w = z
  pointwise
  rfl

theorem gate_at (gu : FVec Ideal S2x8192x5632 .bf16) (r : Fin 8192) (n : Fin 5632) : gate gu (ix2 r n) = gu (ix3 0 r n) := by
  pointwise [gate]

theorem up_at (gu : FVec Ideal S2x8192x5632 .bf16) (r : Fin 8192) (n : Fin 5632) : up gu (ix2 r n) = gu (ix3 1 r n) := by
  pointwise [up]

theorem sig_at (g : FVec Ideal S8192x5632 .f32) (j : Dact0ReferenceIdeal.S8192x5632.Idx) : sig g j = Ideal.logistic (g j) := by
  pointwise [sig, ones]
  rfl

theorem ones_at (j : Dact0ReferenceIdeal.S8192x5632.Idx) : ones j = 1 := one_word

theorem dGate_at (d g u : FVec Ideal S8192x5632 .f32) (j : Dact0ReferenceIdeal.S8192x5632.Idx) : dGate d g u j
    = d j * u j * Ideal.logistic (g j) + g j * (d j * u j) * (Ideal.logistic (g j) * (1 - Ideal.logistic (g j))) := by
  rw [← sig_at, ← ones_at j]
  rfl

theorem dUp_at (d g : FVec Ideal S8192x5632 .f32) (j : Dact0ReferenceIdeal.S8192x5632.Idx) : dUp d g j = g j * Ideal.logistic (g j) * d j := by
  rw [← sig_at]
  rfl

theorem want_at0 (gu : FVec Ideal S2x8192x5632 .bf16) (w : FVec Ideal S4x2x1408x2048 .bf16) (dy : FVec Ideal S8192x2048 .f32) (r : Fin 8192) (n : Fin 5632) :
    want gu w dy (ix3 0 r n) = dGate (grad w dy) (gate gu) (up gu) (ix2 r n) := by
  unfold want; generalize dGate (grad w dy) (gate gu) (up gu) = g; generalize dUp (grad w dy) (gate gu) = u
  pointwise

theorem want_at1 (gu : FVec Ideal S2x8192x5632 .bf16) (w : FVec Ideal S4x2x1408x2048 .bf16) (dy : FVec Ideal S8192x2048 .f32) (r : Fin 8192) (n : Fin 5632) :
    want gu w dy (ix3 1 r n) = dUp (grad w dy) (gate gu) (ix2 r n) := by
  unfold want; generalize dGate (grad w dy) (gate gu) (up gu) = g; generalize dUp (grad w dy) (gate gu) = u
  pointwise

/-- The up half is real, the weight's own half is real, the output's gradient is real. -/
def RealUp (gu : FVec Ideal S2x8192x5632 .bf16) : Prop := ∀ (r : Fin 8192) (n : Fin 5632), ∃ x : ℝ, gu (ix3 1 r n) = (x : EReal)
def RealRows (w : FVec Ideal S4x2x1408x2048 .bf16) : Prop :=
  ∀ (s : Fin 4) (r : Fin 1408) (k : Fin 2048), ∃ x : ℝ, w (ix4 s 0 r k) = (x : EReal)
def RealGrad (dy : FVec Ideal S8192x2048 .f32) : Prop := ∀ y, ∃ x : ℝ, dy y = (x : EReal)

theorem grad_real {w : FVec Ideal S4x2x1408x2048 .bf16} {dy : FVec Ideal S8192x2048 .f32} (hw : RealRows w) (hd : RealGrad dy) (r : Fin 8192) (n : Fin 5632) :
    ∃ x : ℝ, grad w dy (ix2 r n) = (x : EReal) := by
  rw [grad_at]
  refine sum_real _ fun k => ?_
  obtain ⟨a, ha⟩ := hd (ix2 r k)
  obtain ⟨b, hb⟩ := hw ⟨n.val / 1408, by omega⟩ ⟨n.val % 1408, by omega⟩ k
  exact ⟨1 / 2 * a * b, by rw [ha, hb, half_eq]; push_cast; rfl⟩

theorem pay2_at (x : Vec Ideal S512x2048 .bf16) (w : Vec Ideal S1x1x1408x2048 .bf16) (a : Fin 512) (b : Fin 1408) :
    k0_pay2 (F := Ideal) x w (ix2 a b) = half * ∑ k : Fin 2048, x (ix2 a k) * w (ix4 0 0 b k) := by
  pointwise [k0_pay2]
  rfl

theorem pay4_at (x : Vec Ideal S512x2048 .bf16) (w : Vec Ideal S1x1x1408x2048 .bf16) (g u : Vec Ideal S1x512x1408 .bf16) (a : Fin 512) (b : Fin 1408) :
    k0_pay4 (F := Ideal) x w g u (ix3 0 a b) = k0_pay2 (F := Ideal) x w (ix2 a b) * u (ix3 0 a b) * Ideal.logistic (g (ix3 0 a b))
      * (1 + g (ix3 0 a b) * (1 - Ideal.logistic (g (ix3 0 a b)))) := by
  unfold k0_pay4; generalize k0_pay2 (F := Ideal) x w = d
  rw [← one_word]
  pointwise [k0_pay3, k0_pay1]

theorem pay5_at (x : Vec Ideal S512x2048 .bf16) (w : Vec Ideal S1x1x1408x2048 .bf16) (g : Vec Ideal S1x512x1408 .bf16) (a : Fin 512) (b : Fin 1408) :
    k0_pay5 (F := Ideal) x w g (ix3 0 a b) = k0_pay2 (F := Ideal) x w (ix2 a b) * g (ix3 0 a b) * Ideal.logistic (g (ix3 0 a b)) := by
  unfold k0_pay5; generalize k0_pay2 (F := Ideal) x w = d
  pointwise [k0_pay3, k0_pay1]

variable (m : (ℓ : Loc nD τ Cert.Dact0Ideal.sig) → Buf (Elt Ideal) ℓ)

theorem idx : ∀ t : Fin cfg0.N, win0_0.index t = ![t.val / 4, 0] ∧ win0_1.index t = ![t.val % 4, 0, 0, 0]
    ∧ win0_2.index t = ![0, t.val / 4, t.val % 4] ∧ win0_3.index t = ![0, t.val / 4, t.val % 4] := (by decide +kernel : ∀ t : Fin grid0.N, _)

/-- A block of the product's gradient. -/
theorem grad_blk (c : Dev nD) (t : Fin cfg0.N) (a : Fin 512) (b : Fin 1408) (r : Fin 8192) (n : Fin 5632)
    (hr : r.val = t.val / 4 * 512 + a.val) (hn : n.val = t.val % 4 * 1408 + b.val) :
    k0_pay2 (F := Ideal) (iblk m c 0 t) (iblk m c 1 t) (ix2 a b)
      = grad (m ((c : Thread nD τ).loc main_arg1)) (m ((c : Thread nD τ).loc main_arg2)) (ix2 r n) := by
  rw [grad_at, pay2_at, half_mul_sum]
  simp only [mul_assoc]
  refine Finset.sum_congr rfl fun k _ => congrArg (half * ·) ?_
  blk_point [iblk, V, (idx t).1, (idx t).2.1]

theorem gate_blk (c : Dev nD) (t : Fin cfg0.N) (s : Fin 2) (a : Fin 512) (b : Fin 1408) (r : Fin 8192) (n : Fin 5632)
    (hr : r.val = t.val / 4 * 512 + a.val) (hn : n.val = t.val % 4 * 1408 + b.val) :
    (iblk m c 2 t : Vec Ideal S2x512x1408 .bf16) (ix3 s a b) = (m ((c : Thread nD τ).loc main_arg0) : FVec Ideal S2x8192x5632 .bf16) (ix3 s r n) := by
  blk_point [iblk, V, (idx t).2.2.1]

theorem dgate_blk (c : Dev nD) (h0 : RealUp (m ((c : Thread nD τ).loc main_arg0)))
    (h1 : RealRows (m ((c : Thread nD τ).loc main_arg1))) (h2 : RealGrad (m ((c : Thread nD τ).loc main_arg2)))
    (t : Fin cfg0.N) (g u : Vec Ideal S1x512x1408 .bf16)
    (hg : ∀ (a : Fin 512) (b : Fin 1408), g (ix3 0 a b) = (iblk m c 2 t : Vec Ideal S2x512x1408 .bf16) (ix3 0 a b))
    (hu : ∀ (a : Fin 512) (b : Fin 1408), u (ix3 0 a b) = (iblk m c 2 t : Vec Ideal S2x512x1408 .bf16) (ix3 1 a b))
    (x : S1x512x1408.Idx) (j : S2x8192x5632.Idx) (hs : (j 0).val = 0)
    (hr : (j 1).val = t.val / 4 * 512 + (x 1).val) (hn : (j 2).val = t.val % 4 * 1408 + (x 2).val) :
    k0_pay4 (F := Ideal) (iblk m c 0 t) (iblk m c 1 t) g u x
      = want (m ((c : Thread nD τ).loc main_arg0)) (m ((c : Thread nD τ).loc main_arg1)) (m ((c : Thread nD τ).loc main_arg2)) j := by
  idx_vars x
  idx_vars j
  obtain rfl : j0 = 0 := Fin.ext hs
  rw [want_at0, dGate_at, gate_at, up_at]
  obtain rfl : x0 = 0 := Subsingleton.elim _ _
  rw [pay4_at, hg, hu, gate_blk m c t 0 _ _ _ _ hr hn, gate_blk m c t 1 _ _ _ _ hr hn, grad_blk m c t _ _ _ _ hr hn]
  exact gate_eq _ (grad_real h1 h2 _ _) (h0 _ _)

theorem dup_blk (c : Dev nD) (t : Fin cfg0.N) (g : Vec Ideal S1x512x1408 .bf16)
    (hg : ∀ (a : Fin 512) (b : Fin 1408), g (ix3 0 a b) = (iblk m c 2 t : Vec Ideal S2x512x1408 .bf16) (ix3 0 a b))
    (x : S1x512x1408.Idx) (j : S2x8192x5632.Idx) (hs : (j 0).val = 1)
    (hr : (j 1).val = t.val / 4 * 512 + (x 1).val) (hn : (j 2).val = t.val % 4 * 1408 + (x 2).val) :
    k0_pay5 (F := Ideal) (iblk m c 0 t) (iblk m c 1 t) g x
      = want (m ((c : Thread nD τ).loc main_arg0)) (m ((c : Thread nD τ).loc main_arg1)) (m ((c : Thread nD τ).loc main_arg2)) j := by
  idx_vars x
  idx_vars j
  obtain rfl : j0 = 1 := Fin.ext hs
  rw [want_at1, dUp_at, gate_at]
  obtain rfl : x0 = 0 := Subsingleton.elim _ _
  rw [pay5_at, hg, gate_blk m c t 0 _ _ _ _ hr hn, grad_blk m c t _ _ _ _ hr hn]
  rw [mul_assoc, mul_comm]

/-- The array after the run. -/
theorem final (c : Dev nD) (h0 : RealUp (m ((c : Thread nD τ).loc main_arg0)))
    (h1 : RealRows (m ((c : Thread nD τ).loc main_arg1))) (h2 : RealGrad (m ((c : Thread nD τ).loc main_arg2))) :
    (dats m 0 c).arrAt 3 (cfgs 0).N
      = want (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  canon_tiles x p
  · simp (disch := decide) only [View.ld_unit_lit']
    refine dup_blk m c t _ (fun a b => ?_) x _ ?_ ?_ ?_
    · pointwise
    all_goals (blk_simp [(idx t).2.2.2] <;> try omega)
  · simp (disch := decide) only [View.ld_unit_lit']
    refine dgate_blk m c h0 h1 h2 t _ _ (fun a b => ?_) (fun a b => ?_) x _ ?_ ?_ ?_
    · pointwise
    · pointwise
    all_goals (blk_simp [(idx t).2.2.2] <;> try omega)

instance preFacts : Cert.Pre_dact0_finite.Facts where
  slices_S2x8192x5632_S1x8192x5632_1_0_0 := by decide
  shapeCasts_S1x8192x5632_S8192x5632 := by decide
  slices_S4x2x1408x2048_S4x1x1408x2048_0_0_0_0 := by decide
  shapeCasts_S4x1x1408x2048_S4x1408x2048 := by decide
  bcast_S_S8192x5632 := by decide
  bcast_S_S4x1408x2048 := by decide
  bcast_S_S8192x2048 := by decide

/-- The precondition's two cuts: the up half, and the layer's own half of the weight. -/
abbrev upPart (gu : FVec Ideal S2x8192x5632 .bf16) : FVec Ideal Cert.Pre_dact0_finite.S8192x5632 .bf16 :=
  shapeCast _ (extractStridedSlice Cert.Pre_dact0_finite.S1x8192x5632 ![1, 0, 0] gu preFacts.slices_S2x8192x5632_S1x8192x5632_1_0_0)
    preFacts.shapeCasts_S1x8192x5632_S8192x5632
abbrev rowsPart (w : FVec Ideal S4x2x1408x2048 .bf16) : FVec Ideal Cert.Pre_dact0_finite.S4x1408x2048 .bf16 :=
  shapeCast _ (extractStridedSlice Cert.Pre_dact0_finite.S4x1x1408x2048 ![0, 0, 0, 0] w preFacts.slices_S4x2x1408x2048_S4x1x1408x2048_0_0_0_0)
    preFacts.shapeCasts_S4x1x1408x2048_S4x1408x2048

theorem upPart_at (gu : FVec Ideal S2x8192x5632 .bf16) (r : Fin 8192) (n : Fin 5632) : upPart gu (ix2 r n) = gu (ix3 1 r n) := by
  pointwise [upPart]

theorem rowsPart_at (w : FVec Ideal S4x2x1408x2048 .bf16) (s : Fin 4) (r : Fin 1408) (k : Fin 2048) : rowsPart w (ix3 s r k) = w (ix4 s 0 r k) := by
  pointwise [rowsPart]

/-- Where the entries named by the precondition are finite, they are reals. -/
theorem finite_real {gu : FVec Ideal S2x8192x5632 .bf16} {w : FVec Ideal S4x2x1408x2048 .bf16} {dy : FVec Ideal S8192x2048 .f32}
    (h0 : (Cert.Pre_dact0_finite.fn (F := Ideal) gu w dy).1 = fun _ => 1#1) (h1 : (Cert.Pre_dact0_finite.fn (F := Ideal) gu w dy).2.1 = fun _ => 1#1)
    (h2 : (Cert.Pre_dact0_finite.fn (F := Ideal) gu w dy).2.2 = fun _ => 1#1) : RealUp gu ∧ RealRows w ∧ RealGrad dy := by
  have top : Ideal.ofBits .f32 0x7F800000#32 = ⊤ := by decide
  have top' : Ideal.ofBits .bf16 0x7F80#16 = ⊤ := by decide
  refine ⟨fun r n => real_of_lt ?_, fun s r k => real_of_lt ?_, fun y => real_of_lt ?_⟩
  · rw [← upPart_at gu, ← top']; exact Cert.Attn.lt_of_cmp (congrFun h0 (ix2 r n))
  · rw [← rowsPart_at w, ← top']; exact Cert.Attn.lt_of_cmp (congrFun h1 (ix3 s r k))
  · rw [← top]; exact Cert.Attn.lt_of_cmp (congrFun h2 y)

end Cert.Ffn.Dact0

end
-- ==== Proof.CallDh0.lean ====
/- The gradient of the normalised input: the kernel's array and the reference's term, entry by entry. -/
module

public import proofs.«01_k».proof.Proof.Gen.Dh0Ideal.Value
public import proofs.«01_k».proof.Proof.Gen.Dh0ReferenceIdeal.Run
public import Idealize.ShloMosaic.Lib.Pipeline.ValueKit
public import Idealize.ShloMosaic.Lib.Pipeline.ReadBack

@[expose] public section

set_option maxRecDepth 16384

noncomputable section

namespace Cert.Ffn.Dh0

open Idealize.ShloMosaic Idealize.ShloMosaic.TcCoe Idealize.SL.Sem Idealize.ShloMosaic.Pointwise
open Cert.Dh0Ideal Cert.Dh0Ideal.Gen Dh0ReferenceIdeal.Gen
open Dh0ReferenceIdeal (S8192x11264 S8192x5632 S1x8192x5632 S2048x11264)

/-- The gradients of the gate's half and the other half side by side. -/
abbrev catD (d : FVec Ideal S2x8192x5632 .bf16) : FVec Ideal S8192x11264 .f32 :=
  concatenate S8192x11264 1
    [⟨S8192x5632, extf .f32 (shapeCast _ (extractStridedSlice S1x8192x5632 ![0, 0, 0] d slices_S2x8192x5632_S1x8192x5632_0_0_0) shapeCasts_S1x8192x5632_S8192x5632) bitsLt_bf16_f32⟩,
     ⟨S8192x5632, extf .f32 (shapeCast _ (extractStridedSlice S1x8192x5632 ![1, 0, 0] d slices_S2x8192x5632_S1x8192x5632_1_0_0) shapeCasts_S1x8192x5632_S8192x5632) bitsLt_bf16_f32⟩]
    concatenates_S8192x5632_S8192x5632_S8192x11264_d1

/-- The weight's four shards side by side. -/
abbrev catW (w : FVec Ideal S4x2x2048x2816 .bf16) : FVec Ideal S2048x11264 .bf16 :=
  concatenate S2048x11264 1
    [⟨Dh0ReferenceIdeal.S2048x2816, shapeCast _ (extractStridedSlice Dh0ReferenceIdeal.S1x1x2048x2816 ![0, 0, 0, 0] w slices_S4x2x2048x2816_S1x1x2048x2816_0_0_0_0) Dh0ReferenceIdeal.Gen.shapeCasts_S1x1x2048x2816_S2048x2816⟩,
     ⟨Dh0ReferenceIdeal.S2048x2816, shapeCast _ (extractStridedSlice Dh0ReferenceIdeal.S1x1x2048x2816 ![1, 0, 0, 0] w slices_S4x2x2048x2816_S1x1x2048x2816_1_0_0_0) Dh0ReferenceIdeal.Gen.shapeCasts_S1x1x2048x2816_S2048x2816⟩,
     ⟨Dh0ReferenceIdeal.S2048x2816, shapeCast _ (extractStridedSlice Dh0ReferenceIdeal.S1x1x2048x2816 ![2, 0, 0, 0] w slices_S4x2x2048x2816_S1x1x2048x2816_2_0_0_0) Dh0ReferenceIdeal.Gen.shapeCasts_S1x1x2048x2816_S2048x2816⟩,
     ⟨Dh0ReferenceIdeal.S2048x2816, shapeCast _ (extractStridedSlice Dh0ReferenceIdeal.S1x1x2048x2816 ![3, 0, 0, 0] w slices_S4x2x2048x2816_S1x1x2048x2816_3_0_0_0) Dh0ReferenceIdeal.Gen.shapeCasts_S1x1x2048x2816_S2048x2816⟩]
    concatenates_S2048x2816_S2048x2816_S2048x2816_S2048x2816_S2048x11264_d1

/-- Column `n` read in the four shards' coordinates. -/
theorem catD_at (d : FVec Ideal S2x8192x5632 .bf16) (k : Fin 8192) (n : Fin 11264) :
    catD d (ix2 k n) = d (ix3 ⟨n.val / 2816 / 2, by omega⟩ k ⟨n.val / 2816 % 2 * 2816 + n.val % 2816, by omega⟩) := by
  pointwise [catD]
  have e : ∀ (a a' : Fin 2) (b b' : Fin 5632), a.val = a'.val → b.val = b'.val → d (ix3 a k b) = d (ix3 a' k b') :=
    fun a a' b b' ha hb => by rw [Fin.ext ha, Fin.ext hb]
  split_ifs <;> refine e _ _ _ _ ?_ ?_ <;> simp <;> omega

theorem catW_at (w : FVec Ideal S4x2x2048x2816 .bf16) (k : Fin 2048) (n : Fin 11264) :
    catW w (ix2 k n) = w (ix4 ⟨n.val / 2816, by omega⟩ 0 k ⟨n.val % 2816, by omega⟩) := by
  pointwise [catW]
  have e : ∀ (a a' : Fin 4) (b b' : Fin 2816), a.val = a'.val → b.val = b'.val → w (ix4 a 0 k b) = w (ix4 a' 0 k b') :=
    fun a a' b b' ha hb => by rw [Fin.ext ha, Fin.ext hb]
  split_ifs <;> refine e _ _ _ _ ?_ ?_ <;> simp <;> omega

/-- The reference: the gradients times the weight transposed. -/
abbrev want (d : FVec Ideal S2x8192x5632 .bf16) (w : FVec Ideal S4x2x2048x2816 .bf16) : FVec Ideal S8192x2048 .f32 :=
  Host.dotGeneral Dh0ReferenceIdeal.dot_S8192x11264_S2048x11264_S8192x2048_1_1_0_0_n_n none (catD d) (extf .f32 (catW w) bitsLt_bf16_f32)

theorem want_at (d : FVec Ideal S2x8192x5632 .bf16) (w : FVec Ideal S4x2x2048x2816 .bf16) (r : Fin 8192) (q : Fin 2048) :
    want d w (ix2 r q) = ∑ n : Fin 11264, d (ix3 ⟨n.val / 2816 / 2, by omega⟩ r ⟨n.val / 2816 % 2 * 2816 + n.val % 2816, by omega⟩)
      * w (ix4 ⟨n.val / 2816, by omega⟩ 0 q ⟨n.val % 2816, by omega⟩) := by
  simp only [← catD_at, ← catW_at]
  unfold want; generalize catD d = x; generalize catW w = v
  pointwise

/-- One shard's share: a product of the two blocks. -/
theorem part_at (x0 : Vec Ideal S1x512x2816 .bf16) (x1 : Vec Ideal S1x1x2048x2816 .bf16) (j) :
    k0_pay1 (F := Ideal) x0 x1 j = ∑ k : Fin 2816, x0 (ix3 0 (j 0) k) * x1 (ix4 0 0 (j 1) k) := by
  pointwise [k0_pay1]

theorem first_at (x0 : Vec Ideal S1x512x2816 .bf16) (x1 : Vec Ideal S1x1x2048x2816 .bf16) (j) :
    k0_pay2 (F := Ideal) x0 x1 j = k0_pay1 (F := Ideal) x0 x1 j := by
  unfold k0_pay2; generalize k0_pay1 (F := Ideal) x0 x1 = p
  pointwise

theorem step_at (x0 : Vec Ideal S1x512x2816 .bf16) (x1 : Vec Ideal S1x1x2048x2816 .bf16) (acc : Vec Ideal S512x2048 .f32) (j) :
    k0_pay3 (F := Ideal) x0 x1 acc j = acc j + k0_pay1 (F := Ideal) x0 x1 j := by
  unfold k0_pay3; generalize k0_pay1 (F := Ideal) x0 x1 = p
  pointwise

variable (m : (ℓ : Loc nD τ sig) → Buf (Elt Ideal) ℓ)

theorem idx : ∀ t : Fin cfg0.N, win0_0.index t = ![t.val % 4 / 2, t.val / 4, t.val % 4 % 2] ∧ win0_1.index t = ![t.val % 4, 0, 0, 0]
    ∧ win0_2.index t = ![t.val / 4, 0] := (by decide +kernel : ∀ t : Fin grid0.N, _)

/-- The carried sum at the last shard: all four shards' shares. -/
theorem acc_at (c : Dev nD) (t : Fin cfg0.N) (ht : t.val % 4 = 3) (y : S512x2048.Idx) :
    (outsAt0 m c t.val t.isLt).2 y
      = ∑ s : Fin 4, k0_pay1 (F := Ideal) (iblk m c 0 ⟨4 * (t.val / 4) + s.val, Pipeline.run_point_lt_of_flush t ht s⟩)
          (iblk m c 1 ⟨4 * (t.val / 4) + s.val, Pipeline.run_point_lt_of_flush t ht s⟩) y := by
  refine (Pipeline.eq_sum_fin_of_reset_step_apply_of_flush (fun n h => (outsAt0 m c n h).2) 4 (fun _ => (0 : EReal))
    (fun t y => k0_pay1 (F := Ideal) (iblk m c 0 t) (iblk m c 1 t) y) (fun t h y => ?_) (fun t h y => ?_) t ht y).trans (zero_add _)
  · rw [outsAt0_A m c t h (by omega) (by omega)]
    frame_out
    rw [first_at, zero_add]
  · by_cases h3 : t.val % 4 = 3
    · rw [outsAt0_C m c t h (by omega) h3]
      frame_out
      simp only [read_unread_whole]
      exact step_at _ _ _ _
    · rw [outsAt0_B m c t h (by omega) h3]
      frame_out
      simp only [read_unread_whole]
      exact step_at _ _ _ _

/-- What the last shard writes back: the carried sum. -/
theorem out_at (c : Dev nD) (t : Fin cfg0.N) (ht : t.val % 4 = 3) (y : S512x2048.Idx) :
    (outsAt0 m c t.val t.isLt).1 y = (outsAt0 m c t.val t.isLt).2 y := by
  rw [outsAt0_C m c t (by omega) (by omega) ht]
  frame_out

/-- The block written back at the last shard. -/
theorem point (c : Dev nD) (t : Fin cfg0.N) (ht : t.val % 4 = 3) (y : S512x2048.Idx) (j : S8192x2048.Idx)
    (h0 : (j 0).val = t.val / 4 * 512 + (y 0).val) (h1 : (j 1).val = (y 1).val) :
    (outsAt0 m c t.val t.isLt).1 y = want (m ((c : Thread nD τ).loc main_arg0)) (m ((c : Thread nD τ).loc main_arg1)) j := by
  idx_vars y
  idx_vars j
  rw [out_at m c t ht, want_at, acc_at m c t ht]
  simp only [part_at]
  refine Fin.sum_mul_add_congr fun s k hl => ?_
  blk_point [iblk, V, idx ⟨_, Pipeline.run_point_lt_of_flush t ht s⟩]

/-- The gradient's array after the run. -/
theorem final (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  blk_simp
  rw [after0_2]
  refine point m c t ((flush0_2 t).mp hf) y _ ?_ ?_ <;> (blk_simp [(idx t).2.2] <;> try omega)

end Cert.Ffn.Dh0

end
-- ==== Proof.CallGu0.lean ====
/- The block's first projection with its gate: the kernel's arrays and the reference's terms, entry by entry. -/
module

public import proofs.«01_k».proof.Proof.Gen.Gu0Ideal.Value
public import proofs.«01_k».proof.Proof.Gen.Gu0ReferenceIdeal.Run
public import Idealize.ShloMosaic.Lib.Pipeline.ValueKit

@[expose] public section

set_option maxRecDepth 16384

noncomputable section

namespace Cert.Ffn.Gu0

open Idealize.ShloMosaic Idealize.ShloMosaic.TcCoe Idealize.SL.Sem Idealize.ShloMosaic.Pointwise
open Cert.Gu0Ideal Cert.Gu0Ideal.Gen Gu0ReferenceIdeal.Gen
open Gu0ReferenceIdeal (S2048x11264 S2048x2816 S1x1x2048x2816 S8192x11264 S1x8192x5632)

/-- The four shards' columns side by side. -/
abbrev cat (w : FVec Ideal S4x2x2048x2816 .bf16) : FVec Ideal S2048x11264 .bf16 :=
  concatenate S2048x11264 1
    [⟨S2048x2816, shapeCast _ (extractStridedSlice S1x1x2048x2816 ![0, 0, 0, 0] w slices_S4x2x2048x2816_S1x1x2048x2816_0_0_0_0) shapeCasts_S1x1x2048x2816_S2048x2816⟩,
     ⟨S2048x2816, shapeCast _ (extractStridedSlice S1x1x2048x2816 ![1, 0, 0, 0] w slices_S4x2x2048x2816_S1x1x2048x2816_1_0_0_0) shapeCasts_S1x1x2048x2816_S2048x2816⟩,
     ⟨S2048x2816, shapeCast _ (extractStridedSlice S1x1x2048x2816 ![2, 0, 0, 0] w slices_S4x2x2048x2816_S1x1x2048x2816_2_0_0_0) shapeCasts_S1x1x2048x2816_S2048x2816⟩,
     ⟨S2048x2816, shapeCast _ (extractStridedSlice S1x1x2048x2816 ![3, 0, 0, 0] w slices_S4x2x2048x2816_S1x1x2048x2816_3_0_0_0) shapeCasts_S1x1x2048x2816_S2048x2816⟩]
    concatenates_S2048x2816_S2048x2816_S2048x2816_S2048x2816_S2048x11264_d1

/-- Column `n` of the whole weight is column `n mod 2816` of shard `n / 2816`. -/
theorem cat_at (w : FVec Ideal S4x2x2048x2816 .bf16) (k : Fin 2048) (n : Fin 11264) :
    cat w (ix2 k n) = w (ix4 ⟨n.val / 2816, by omega⟩ 0 k ⟨n.val % 2816, by omega⟩) := by
  pointwise [cat]
  have e : ∀ (a a' : Fin 4) (b b' : Fin 2816), a.val = a'.val → b.val = b'.val → w (ix4 a 0 k b) = w (ix4 a' 0 k b') :=
    fun a a' b b' ha hb => by rw [Fin.ext ha, Fin.ext hb]
  split_ifs <;> refine e _ _ _ _ ?_ ?_ <;> simp <;> omega

/-- The whole product. -/
abbrev prod (h : FVec Ideal S8192x2048 .bf16) (w : FVec Ideal S4x2x2048x2816 .bf16) : FVec Ideal S8192x11264 .f32 :=
  Host.dotGeneral Gu0ReferenceIdeal.dot_S8192x2048_S2048x11264_S8192x11264_1_0_0_1_n_n none
    (extf .f32 h Gu0ReferenceIdeal.Gen.bitsLt_bf16_f32) (extf .f32 (cat w) Gu0ReferenceIdeal.Gen.bitsLt_bf16_f32)

/-- The gate's half and the other half. -/
abbrev gate (h : FVec Ideal S8192x2048 .bf16) (w : FVec Ideal S4x2x2048x2816 .bf16) : FVec Ideal S8192x5632 .f32 :=
  extractStridedSlice S8192x5632 ![0, 0] (prod h w) slices_S8192x11264_S8192x5632_0_0
abbrev up (h : FVec Ideal S8192x2048 .bf16) (w : FVec Ideal S4x2x2048x2816 .bf16) : FVec Ideal S8192x5632 .f32 :=
  extractStridedSlice S8192x5632 ![0, 5632] (prod h w) slices_S8192x11264_S8192x5632_0_5632

abbrev ones : FVec Ideal S8192x5632 .f32 :=
  broadcastInDim S8192x5632 ![] bcast_S_S8192x5632 (constant Gu0ReferenceIdeal.S_ .f32 0x3F800000#32)

/-- The reference's two results. -/
abbrev wantAct (h : FVec Ideal S8192x2048 .bf16) (w : FVec Ideal S4x2x2048x2816 .bf16) : FVec Ideal S8192x5632 .bf16 :=
  truncf .bf16 (mulf (mulf (gate h w) (Host.divf ones (addf ones (Host.exp (Host.negf (gate h w)))))) (up h w)) Gu0ReferenceIdeal.Gen.bitsLt_bf16_f32
abbrev wantGu (h : FVec Ideal S8192x2048 .bf16) (w : FVec Ideal S4x2x2048x2816 .bf16) : FVec Ideal S2x8192x5632 .bf16 :=
  truncf .bf16 (concatenate S2x8192x5632 0 [⟨S1x8192x5632, broadcastInDim S1x8192x5632 ![1, 2] bcast_S8192x5632_S1x8192x5632_1_2 (gate h w)⟩, ⟨S1x8192x5632, broadcastInDim S1x8192x5632 ![1, 2] bcast_S8192x5632_S1x8192x5632_1_2 (up h w)⟩] concatenates_S1x8192x5632_S1x8192x5632_S2x8192x5632_d0) Gu0ReferenceIdeal.Gen.bitsLt_bf16_f32

theorem prod_at (h : FVec Ideal S8192x2048 .bf16) (w : FVec Ideal S4x2x2048x2816 .bf16) (r : Fin 8192) (n : Fin 11264) :
    prod h w (ix2 r n) = ∑ k : Fin 2048, h (ix2 r k) * w (ix4 ⟨n.val / 2816, by omega⟩ 0 k ⟨n.val % 2816, by omega⟩) := by
  simp only [← cat_at]
  pointwise [prod]

theorem gate_at (h : FVec Ideal S8192x2048 .bf16) (w : FVec Ideal S4x2x2048x2816 .bf16) (r : Fin 8192) (n : Fin 5632) :
    gate h w (ix2 r n) = ∑ k : Fin 2048, h (ix2 r k) * w (ix4 ⟨n.val / 2816, by omega⟩ 0 k ⟨n.val % 2816, by omega⟩) :=
  (show _ = prod h w (ix2 r ⟨n.val, by omega⟩) by pointwise [gate]).trans (prod_at h w r ⟨n.val, by omega⟩)

theorem up_at (h : FVec Ideal S8192x2048 .bf16) (w : FVec Ideal S4x2x2048x2816 .bf16) (r : Fin 8192) (n : Fin 5632) :
    up h w (ix2 r n) = ∑ k : Fin 2048, h (ix2 r k) * w (ix4 ⟨(5632 + n.val) / 2816, by omega⟩ 0 k ⟨(5632 + n.val) % 2816, by omega⟩) :=
  (show _ = prod h w (ix2 r ⟨5632 + n.val, by omega⟩) by pointwise [up]).trans (prod_at h w r ⟨5632 + n.val, by omega⟩)

/-- The gate, elementwise: the reference spells the logistic function out. -/
theorem silu_at (g u : FVec Ideal S8192x5632 .f32) (j : S8192x5632.Idx) :
    truncf .bf16 (mulf (mulf g (Host.divf ones (addf ones (Host.exp (Host.negf g))))) u) Gu0ReferenceIdeal.Gen.bitsLt_bf16_f32 j
      = g j * Ideal.logistic (g j) * u j := by
  pointwise [ones]
  rfl

theorem wantGu_at0 (h : FVec Ideal S8192x2048 .bf16) (w : FVec Ideal S4x2x2048x2816 .bf16) (r : Fin 8192) (n : Fin 5632) :
    wantGu h w (ix3 0 r n) = gate h w (ix2 r n) := by
  unfold wantGu; generalize gate h w = g; generalize up h w = u
  pointwise

theorem wantGu_at1 (h : FVec Ideal S8192x2048 .bf16) (w : FVec Ideal S4x2x2048x2816 .bf16) (r : Fin 8192) (n : Fin 5632) :
    wantGu h w (ix3 1 r n) = up h w (ix2 r n) := by
  unfold wantGu; generalize gate h w = g; generalize up h w = u
  pointwise

variable (m : (ℓ : Loc nD τ sig) → Buf (Elt Ideal) ℓ)

theorem idx : ∀ t : Fin cfg0.N, win0_0.index t = ![t.val / 22, 0] ∧ win0_1.index t = ![t.val % 22 / 11, 0, 0, t.val % 22 % 11]
    ∧ win0_2.index t = ![(22 + t.val % 22) / 11, 0, 0, t.val % 22 % 11] ∧ win0_3.index t = ![t.val / 22, t.val % 22]
    ∧ win0_4.index t = ![0, t.val / 22, t.val % 22] := (by decide +kernel : ∀ t : Fin grid0.N, _)

/-- A block of the gate's half. -/
theorem gate_blk (c : Dev nD) (t : Fin cfg0.N) (a : Fin 1024) (b : Fin 256) (r : Fin 8192) (n : Fin 5632)
    (hr : r.val = t.val / 22 * 1024 + a.val) (hn : n.val = t.val % 22 * 256 + b.val) :
    k0_pay1 (iblk m c 0 t) (iblk m c 1 t) (ix2 a b)
      = gate (m ((c : Thread nD τ).loc main_arg0)) (m ((c : Thread nD τ).loc main_arg1)) (ix2 r n) := by
  rw [gate_at]
  pointwise [k0_pay1]
  blk_point [iblk, V, (idx t).1, (idx t).2.1]

theorem up_blk (c : Dev nD) (t : Fin cfg0.N) (a : Fin 1024) (b : Fin 256) (r : Fin 8192) (n : Fin 5632)
    (hr : r.val = t.val / 22 * 1024 + a.val) (hn : n.val = t.val % 22 * 256 + b.val) :
    k0_pay2 (iblk m c 0 t) (iblk m c 2 t) (ix2 a b)
      = up (m ((c : Thread nD τ).loc main_arg0)) (m ((c : Thread nD τ).loc main_arg1)) (ix2 r n) := by
  rw [up_at]
  pointwise [k0_pay2]
  blk_point [iblk, V, (idx t).1, (idx t).2.2.1]

theorem act_pay (x0 : Vec Ideal S1024x2048 .bf16) (x1 x2 : Vec Ideal S1x1x2048x256 .bf16) (j) :
    k0_pay3 (F := Ideal) x0 x1 x2 j = k0_pay1 (F := Ideal) x0 x1 j * Ideal.logistic (k0_pay1 (F := Ideal) x0 x1 j) * k0_pay2 (F := Ideal) x0 x2 j := by
  unfold k0_pay3; generalize k0_pay1 x0 x1 = g; generalize k0_pay2 x0 x2 = u
  pointwise

theorem act_blk (c : Dev nD) (t : Fin cfg0.N) (y : S1024x256.Idx) (j : S8192x5632.Idx)
    (h0 : (j 0).val = t.val / 22 * 1024 + (y 0).val) (h1 : (j 1).val = t.val % 22 * 256 + (y 1).val) :
    k0_pay3 (F := Ideal) (iblk m c 0 t) (iblk m c 1 t) (iblk m c 2 t) y
      = wantAct (m ((c : Thread nD τ).loc main_arg0)) (m ((c : Thread nD τ).loc main_arg1)) j := by
  idx_vars y
  idx_vars j
  rw [act_pay]
  rw [gate_blk m c t _ _ _ _ h0 h1, up_blk m c t _ _ _ _ h0 h1]
  exact (silu_at _ _ _).symm

/-- The activations' array after the run. -/
theorem finalAct (c : Dev nD) : (dats m 0 c).arrAt 3 (cfgs 0).N
    = wantAct (m ((c : Thread nD τ).loc main_arg0)) (m ((c : Thread nD τ).loc main_arg1)) := by
  refine (dats m 0 c).arrAt_eq_of_covers 3 _ (by decide +kernel) fun t _ y => ?_
  blk_simp
  rw [after0_3]; frame_out
  refine act_blk m c t y _ ?_ ?_ <;> (blk_simp [(idx t).2.2.2.1] <;> try omega)

theorem g_blk (c : Dev nD) (t : Fin cfg0.N) (x : S1x1024x256.Idx) (j : S2x8192x5632.Idx) (h0 : (j 0).val = 0)
    (hr : (j 1).val = t.val / 22 * 1024 + (x 1).val) (hn : (j 2).val = t.val % 22 * 256 + (x 2).val) :
    k0_pay4 (F := Ideal) (iblk m c 0 t) (iblk m c 1 t) x
      = wantGu (m ((c : Thread nD τ).loc main_arg0)) (m ((c : Thread nD τ).loc main_arg1)) j := by
  idx_vars j
  obtain rfl : j0 = 0 := Fin.ext h0
  rw [wantGu_at0, ← gate_blk m c t _ _ j1 j2 hr hn]
  unfold k0_pay4; generalize k0_pay1 (F := Ideal) (iblk m c 0 t) (iblk m c 1 t) = g
  pointwise

theorem u_blk (c : Dev nD) (t : Fin cfg0.N) (x : S1x1024x256.Idx) (j : S2x8192x5632.Idx) (h0 : (j 0).val = 1)
    (hr : (j 1).val = t.val / 22 * 1024 + (x 1).val) (hn : (j 2).val = t.val % 22 * 256 + (x 2).val) :
    k0_pay5 (F := Ideal) (iblk m c 0 t) (iblk m c 2 t) x
      = wantGu (m ((c : Thread nD τ).loc main_arg0)) (m ((c : Thread nD τ).loc main_arg1)) j := by
  idx_vars j
  obtain rfl : j0 = 1 := Fin.ext h0
  rw [wantGu_at1, ← up_blk m c t _ _ j1 j2 hr hn]
  unfold k0_pay5; generalize k0_pay2 (F := Ideal) (iblk m c 0 t) (iblk m c 2 t) = g
  pointwise

/-- The saved pair's array after the run. -/
theorem finalGu (c : Dev nD) : (dats m 0 c).arrAt 4 (cfgs 0).N
    = wantGu (m ((c : Thread nD τ).loc main_arg0)) (m ((c : Thread nD τ).loc main_arg1)) := by
  refine (dats m 0 c).arrAt_eq_of_covers 4 _ (by decide +kernel) fun t _ y => ?_
  blk_simp
  rw [after0_4]
  canon_tiles x h
  · simp (disch := decide) only [View.ld_unit_lit']
    refine u_blk m c t x _ ?_ ?_ ?_ <;> (blk_simp [(idx t).2.2.2.2] <;> try omega)
  · simp (disch := decide) only [View.ld_unit_lit']
    refine g_blk m c t x _ ?_ ?_ ?_ <;> (blk_simp [(idx t).2.2.2.2] <;> try omega)

end Cert.Ffn.Gu0

end
-- ==== Proof.CallDown0.lean ====
/- The block's second projection with its residual: the kernel's array and the reference's term, entry by entry. -/
module

public import proofs.«01_k».proof.Proof.Gen.Down0Ideal.Value
public import proofs.«01_k».proof.Proof.Gen.Down0ReferenceIdeal.Run
public import proofs.«01_k».proof.Proof.Half
public import Idealize.ShloMosaic.Lib.Pipeline.ValueKit
public import Idealize.ShloMosaic.Lib.Pipeline.ReadBack

@[expose] public section

set_option maxRecDepth 16384

noncomputable section

namespace Cert.Ffn.Down0

open Idealize.ShloMosaic Idealize.ShloMosaic.TcCoe Idealize.SL.Sem Idealize.ShloMosaic.Pointwise
open Cert.Down0Ideal Cert.Down0Ideal.Gen Down0ReferenceIdeal.Gen
open Down0ReferenceIdeal (S5632x2048 S1408x2048 S1x1x1408x2048)

/-- The weight's four shards one below the other. -/
abbrev cat (w : FVec Ideal S4x2x1408x2048 .bf16) : FVec Ideal S5632x2048 .bf16 :=
  concatenate S5632x2048 0
    [⟨S1408x2048, shapeCast _ (extractStridedSlice S1x1x1408x2048 ![0, 0, 0, 0] w slices_S4x2x1408x2048_S1x1x1408x2048_0_0_0_0) shapeCasts_S1x1x1408x2048_S1408x2048⟩,
     ⟨S1408x2048, shapeCast _ (extractStridedSlice S1x1x1408x2048 ![1, 0, 0, 0] w slices_S4x2x1408x2048_S1x1x1408x2048_1_0_0_0) shapeCasts_S1x1x1408x2048_S1408x2048⟩,
     ⟨S1408x2048, shapeCast _ (extractStridedSlice S1x1x1408x2048 ![2, 0, 0, 0] w slices_S4x2x1408x2048_S1x1x1408x2048_2_0_0_0) shapeCasts_S1x1x1408x2048_S1408x2048⟩,
     ⟨S1408x2048, shapeCast _ (extractStridedSlice S1x1x1408x2048 ![3, 0, 0, 0] w slices_S4x2x1408x2048_S1x1x1408x2048_3_0_0_0) shapeCasts_S1x1x1408x2048_S1408x2048⟩]
    concatenates_S1408x2048_S1408x2048_S1408x2048_S1408x2048_S5632x2048_d0

theorem cat_at (w : FVec Ideal S4x2x1408x2048 .bf16) (n : Fin 5632) (k : Fin 2048) :
    cat w (ix2 n k) = w (ix4 ⟨n.val / 1408, by omega⟩ 0 ⟨n.val % 1408, by omega⟩ k) := by
  pointwise [cat]
  have e : ∀ (a a' : Fin 4) (b b' : Fin 1408), a.val = a'.val → b.val = b'.val → w (ix4 a 0 b k) = w (ix4 a' 0 b' k) :=
    fun a a' b b' ha hb => by rw [Fin.ext ha, Fin.ext hb]
  split_ifs <;> refine e _ _ _ _ ?_ ?_ <;> simp <;> omega

/-- The reference: the input plus half the product. -/
abbrev want (x : FVec Ideal S8192x2048 .f32) (a : FVec Ideal S8192x5632 .bf16) (w : FVec Ideal S4x2x1408x2048 .bf16) : FVec Ideal S8192x2048 .f32 :=
  addf x (mulf (broadcastInDim S8192x2048 ![] bcast_S_S8192x2048 (constant Down0ReferenceIdeal.S_ .f32 0x3F000000#32))
    (Host.dotGeneral Down0ReferenceIdeal.dot_S8192x5632_S5632x2048_S8192x2048_1_0_0_1_n_n none (extf .f32 a bitsLt_bf16_f32)
      (extf .f32 (cat w) bitsLt_bf16_f32)))

theorem want_at (x : FVec Ideal S8192x2048 .f32) (a : FVec Ideal S8192x5632 .bf16) (w : FVec Ideal S4x2x1408x2048 .bf16) (r : Fin 8192) (q : Fin 2048) :
    want x a w (ix2 r q) = x (ix2 r q) + half * ∑ n : Fin 5632, a (ix2 r n) * w (ix4 ⟨n.val / 1408, by omega⟩ 0 ⟨n.val % 1408, by omega⟩ q) := by
  simp only [← cat_at]
  unfold want; generalize cat w = v
  pointwise
  rfl

/-- One shard's share: a product of the two blocks. -/
theorem part_at (x0 : Vec Ideal S1024x1408 .bf16) (x1 : Vec Ideal S1x1x1408x1024 .bf16) (j) :
    k0_pay1 (F := Ideal) x0 x1 j = ∑ k : Fin 1408, x0 (ix2 (j 0) k) * x1 (ix4 0 0 k (j 1)) := by
  pointwise [k0_pay1]

theorem first_at (x0 : Vec Ideal S1024x1408 .bf16) (x1 : Vec Ideal S1x1x1408x1024 .bf16) (j) :
    k0_pay2 (F := Ideal) x0 x1 j = k0_pay1 (F := Ideal) x0 x1 j := by
  unfold k0_pay2; generalize k0_pay1 (F := Ideal) x0 x1 = p
  pointwise

theorem step_at (x0 : Vec Ideal S1024x1408 .bf16) (x1 : Vec Ideal S1x1x1408x1024 .bf16) (acc : Vec Ideal S1024x1024 .f32) (j) :
    k0_pay3 (F := Ideal) x0 x1 acc j = acc j + k0_pay1 (F := Ideal) x0 x1 j := by
  unfold k0_pay3; generalize k0_pay1 (F := Ideal) x0 x1 = p
  pointwise

theorem end_at (acc x : Vec Ideal S1024x1024 .f32) (j) : k0_pay4 (F := Ideal) acc x j = x j + half * acc j := by
  pointwise [k0_pay4]
  rfl

variable (m : (ℓ : Loc nD τ sig) → Buf (Elt Ideal) ℓ)

theorem idx : ∀ t : Fin cfg0.N, win0_0.index t = ![t.val / 8, t.val % 4] ∧ win0_1.index t = ![t.val % 4, 0, 0, t.val / 4 % 2]
    ∧ win0_2.index t = ![t.val / 8, t.val / 4 % 2] ∧ win0_3.index t = ![t.val / 8, t.val / 4 % 2] := (by decide +kernel : ∀ t : Fin grid0.N, _)

/-- The carried sum at the last shard: all four shards' shares. -/
theorem acc_at (c : Dev nD) (t : Fin cfg0.N) (ht : t.val % 4 = 3) (y : S1024x1024.Idx) :
    (outsAt0 m c t.val t.isLt).2 y
      = ∑ s : Fin 4, k0_pay1 (F := Ideal) (iblk m c 0 ⟨4 * (t.val / 4) + s.val, Pipeline.run_point_lt_of_flush t ht s⟩)
          (iblk m c 1 ⟨4 * (t.val / 4) + s.val, Pipeline.run_point_lt_of_flush t ht s⟩) y := by
  refine (Pipeline.eq_sum_fin_of_reset_step_apply_of_flush (fun n h => (outsAt0 m c n h).2) 4 (fun _ => (0 : EReal))
    (fun t y => k0_pay1 (F := Ideal) (iblk m c 0 t) (iblk m c 1 t) y) (fun t h y => ?_) (fun t h y => ?_) t ht y).trans (zero_add _)
  · rw [outsAt0_A m c t h (by omega) (by omega)]
    frame_out
    rw [first_at, zero_add]
  · by_cases h3 : t.val % 4 = 3
    · rw [outsAt0_C m c t h (by omega) h3]
      frame_out
      simp only [read_unread_whole]
      exact step_at _ _ _ _
    · rw [outsAt0_B m c t h (by omega) h3]
      frame_out
      simp only [read_unread_whole]
      exact step_at _ _ _ _

/-- The residual's block. -/
abbrev resid (c : Dev nD) (t : Fin cfg0.N) : Vec Ideal S1024x1024 .f32 := iblk m c 2 t

/-- What the last shard writes back: the residual's block plus half the carried sum. -/
theorem out_at (c : Dev nD) (t : Fin cfg0.N) (ht : t.val % 4 = 3) (y : S1024x1024.Idx) :
    (outsAt0 m c t.val t.isLt).1 y = resid m c t y + half * (outsAt0 m c t.val t.isLt).2 y := by
  rw [outsAt0_C m c t (by omega) (by omega) ht]
  frame_out
  exact end_at _ _ _

/-- The block written back at the last shard. -/
theorem point (c : Dev nD) (t : Fin cfg0.N) (ht : t.val % 4 = 3) (y : S1024x1024.Idx) (j : S8192x2048.Idx)
    (h0 : (j 0).val = t.val / 8 * 1024 + (y 0).val) (h1 : (j 1).val = t.val / 4 % 2 * 1024 + (y 1).val) :
    (outsAt0 m c t.val t.isLt).1 y = want (m ((c : Thread nD τ).loc main_arg0)) (m ((c : Thread nD τ).loc main_arg1)) (m ((c : Thread nD τ).loc main_arg2)) j := by
  idx_vars y
  idx_vars j
  rw [out_at m c t ht, want_at, acc_at m c t ht]
  simp only [part_at]
  have e : resid m c t (ix2 y0 y1) = (m ((c : Thread nD τ).loc main_arg0) : FVec Ideal S8192x2048 .f32) (ix2 j0 j1) := by
    blk_point [resid, iblk, V, idx t]
  rw [e]
  refine congrArg (_ + half * ·) (Fin.sum_mul_add_congr fun s k hl => ?_)
  blk_point [iblk, V, idx ⟨_, Pipeline.run_point_lt_of_flush t ht s⟩]

/-- The result's array after the run. -/
theorem final (c : Dev nD) : (dats m 0 c).arrAt 3 (cfgs 0).N
    = want (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  refine point m c t ((flush0_3 t).mp hf) y _ ?_ ?_ <;> (blk_simp [(idx t).2.2.2] <;> try omega)

end Cert.Ffn.Down0

end
-- ==== Proof.CallSbin.lean ====
/- The projection into a stick-breaking layer: the kernel's array and the reference's term, entry by entry. -/
module

public import proofs.«01_k».proof.Proof.Gen.SbinIdeal.Value
public import proofs.«01_k».proof.Proof.Gen.SbinReferenceIdeal.Run
public import Idealize.ShloMosaic.Lib.Pipeline.ValueKit
public import Idealize.ShloMosaic.Lib.Pipeline.ReadBack

@[expose] public section

set_option maxRecDepth 16384

noncomputable section

namespace Cert.Ffn.Sbin

open Idealize.ShloMosaic Idealize.ShloMosaic.TcCoe Idealize.SL.Sem Idealize.ShloMosaic.Pointwise
open Cert.SbinIdeal Cert.SbinIdeal.Gen SbinReferenceIdeal.Gen
open SbinReferenceIdeal (S2048x5120 S2048x1280 S1x1x2048x1280)

/-- The weight's four shards side by side. -/
abbrev cat (w : FVec Ideal S4x2x2048x1280 .bf16) : FVec Ideal S2048x5120 .bf16 :=
  concatenate S2048x5120 1
    [⟨S2048x1280, shapeCast _ (extractStridedSlice S1x1x2048x1280 ![0, 1, 0, 0] w slices_S4x2x2048x1280_S1x1x2048x1280_0_1_0_0) shapeCasts_S1x1x2048x1280_S2048x1280⟩,
     ⟨S2048x1280, shapeCast _ (extractStridedSlice S1x1x2048x1280 ![1, 1, 0, 0] w slices_S4x2x2048x1280_S1x1x2048x1280_1_1_0_0) shapeCasts_S1x1x2048x1280_S2048x1280⟩,
     ⟨S2048x1280, shapeCast _ (extractStridedSlice S1x1x2048x1280 ![2, 1, 0, 0] w slices_S4x2x2048x1280_S1x1x2048x1280_2_1_0_0) shapeCasts_S1x1x2048x1280_S2048x1280⟩,
     ⟨S2048x1280, shapeCast _ (extractStridedSlice S1x1x2048x1280 ![3, 1, 0, 0] w slices_S4x2x2048x1280_S1x1x2048x1280_3_1_0_0) shapeCasts_S1x1x2048x1280_S2048x1280⟩]
    concatenates_S2048x1280_S2048x1280_S2048x1280_S2048x1280_S2048x5120_d1

/-- Column `n` of the whole weight is column `n mod 1280` of shard `n / 1280`. -/
theorem cat_at (w : FVec Ideal S4x2x2048x1280 .bf16) (k : Fin 2048) (n : Fin 5120) :
    cat w (ix2 k n) = w (ix4 ⟨n.val / 1280, by omega⟩ 1 k ⟨n.val % 1280, by omega⟩) := by
  pointwise [cat]
  have e : ∀ (a a' : Fin 4) (b b' : Fin 1280), a.val = a'.val → b.val = b'.val → w (ix4 a 1 k b) = w (ix4 a' 1 k b') :=
    fun a a' b b' ha hb => by rw [Fin.ext ha, Fin.ext hb]
  split_ifs <;> refine e _ _ _ _ ?_ ?_ <;> simp <;> omega

/-- The reference: the product. -/
abbrev want (h : FVec Ideal S8192x2048 .bf16) (w : FVec Ideal S4x2x2048x1280 .bf16) : FVec Ideal S8192x5120 .f32 :=
  Host.dotGeneral SbinReferenceIdeal.dot_S8192x2048_S2048x5120_S8192x5120_1_0_0_1_n_n none (extf .f32 h bitsLt_bf16_f32) (extf .f32 (cat w) bitsLt_bf16_f32)

theorem want_at (h : FVec Ideal S8192x2048 .bf16) (w : FVec Ideal S4x2x2048x1280 .bf16) (r : Fin 8192) (n : Fin 5120) :
    want h w (ix2 r n) = ∑ k : Fin 2048, h (ix2 r k) * w (ix4 ⟨n.val / 1280, by omega⟩ 1 k ⟨n.val % 1280, by omega⟩) := by
  simp only [← cat_at]
  unfold want; generalize cat w = v
  pointwise

variable (m : (ℓ : Loc nD τ sig) → Buf (Elt Ideal) ℓ)

theorem idx : ∀ t : Fin cfg0.N, win0_0.index t = ![t.val / 20, 0] ∧ win0_1.index t = ![t.val % 20 / 5, 1, 0, t.val % 20 % 5]
    ∧ win0_2.index t = ![t.val / 20, t.val % 20] := (by decide +kernel : ∀ t : Fin grid0.N, _)

/-- One block of the product. -/
theorem point (c : Dev nD) (t : Fin cfg0.N) (y : S1024x256.Idx) (j : S8192x5120.Idx)
    (h0 : (j 0).val = t.val / 20 * 1024 + (y 0).val) (h1 : (j 1).val = t.val % 20 * 256 + (y 1).val) :
    k0_pay1 (iblk m c 0 t) (iblk m c 1 t) y = want (m ((c : Thread nD τ).loc main_arg0)) (m ((c : Thread nD τ).loc main_arg1)) j := by
  idx_vars y
  idx_vars j
  rw [want_at]
  pointwise [k0_pay1]
  blk_point [iblk, V, (idx t).1, (idx t).2.1]

/-- The result's array after the run. -/
theorem final (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  blk_simp
  rw [after0_2]; frame_out
  refine point m c t y _ ?_ ?_ <;> (blk_simp [(idx t).2.2] <;> try omega)

end Cert.Ffn.Sbin

end
-- ==== Proof.CallSsin.lean ====
/- The projection into a state space layer: the kernel's array and the reference's term, entry by entry. -/
module

public import proofs.«01_k».proof.Proof.Gen.SsinIdeal.Value
public import proofs.«01_k».proof.Proof.Gen.SsinReferenceIdeal.Run
public import Idealize.ShloMosaic.Lib.Pipeline.ValueKit
public import Idealize.ShloMosaic.Lib.Pipeline.ReadBack

@[expose] public section

set_option maxRecDepth 16384

noncomputable section

namespace Cert.Ffn.Ssin

open Idealize.ShloMosaic Idealize.ShloMosaic.TcCoe Idealize.SL.Sem Idealize.ShloMosaic.Pointwise
open Cert.SsinIdeal Cert.SsinIdeal.Gen SsinReferenceIdeal.Gen
open SsinReferenceIdeal (S2048x2048 S512x2048 S1x1x512x2048)

/-- The weight's four shards one below the other. -/
abbrev cat (w : FVec Ideal S4x2x512x2048 .bf16) : FVec Ideal S2048x2048 .bf16 :=
  concatenate S2048x2048 0
    [⟨S512x2048, shapeCast _ (extractStridedSlice S1x1x512x2048 ![0, 1, 0, 0] w slices_S4x2x512x2048_S1x1x512x2048_0_1_0_0) shapeCasts_S1x1x512x2048_S512x2048⟩,
     ⟨S512x2048, shapeCast _ (extractStridedSlice S1x1x512x2048 ![1, 1, 0, 0] w slices_S4x2x512x2048_S1x1x512x2048_1_1_0_0) shapeCasts_S1x1x512x2048_S512x2048⟩,
     ⟨S512x2048, shapeCast _ (extractStridedSlice S1x1x512x2048 ![2, 1, 0, 0] w slices_S4x2x512x2048_S1x1x512x2048_2_1_0_0) shapeCasts_S1x1x512x2048_S512x2048⟩,
     ⟨S512x2048, shapeCast _ (extractStridedSlice S1x1x512x2048 ![3, 1, 0, 0] w slices_S4x2x512x2048_S1x1x512x2048_3_1_0_0) shapeCasts_S1x1x512x2048_S512x2048⟩]
    concatenates_S512x2048_S512x2048_S512x2048_S512x2048_S2048x2048_d0

/-- Row `n` of the whole weight is row `n mod 512` of shard `n / 512`. -/
theorem cat_at (w : FVec Ideal S4x2x512x2048 .bf16) (n : Fin 2048) (k : Fin 2048) :
    cat w (ix2 n k) = w (ix4 ⟨n.val / 512, by omega⟩ 1 ⟨n.val % 512, by omega⟩ k) := by
  pointwise [cat]
  have e : ∀ (a a' : Fin 4) (b b' : Fin 512), a.val = a'.val → b.val = b'.val → w (ix4 a 1 b k) = w (ix4 a' 1 b' k) :=
    fun a a' b b' ha hb => by rw [Fin.ext ha, Fin.ext hb]
  split_ifs <;> refine e _ _ _ _ ?_ ?_ <;> simp <;> omega

/-- The reference: the product. -/
abbrev want (a : FVec Ideal S8192x2048 .bf16) (w : FVec Ideal S4x2x512x2048 .bf16) : FVec Ideal S8192x2048 .f32 :=
  (Host.dotGeneral SsinReferenceIdeal.dot_S8192x2048_S2048x2048_S8192x2048_1_0_0_1_n_n none (extf .f32 a bitsLt_bf16_f32) (extf .f32 (cat w) bitsLt_bf16_f32))

theorem want_at (a : FVec Ideal S8192x2048 .bf16) (w : FVec Ideal S4x2x512x2048 .bf16) (r : Fin 8192) (q : Fin 2048) :
    want a w (ix2 r q) = ∑ n : Fin 2048, a (ix2 r n) * w (ix4 ⟨n.val / 512, by omega⟩ 1 ⟨n.val % 512, by omega⟩ q) := by
  simp only [← cat_at]
  unfold want; generalize cat w = v
  pointwise

/-- One shard's share: a product of the two blocks. -/
theorem part_at (x0 : Vec Ideal S1024x512 .bf16) (x1 : Vec Ideal S1x1x512x512 .bf16) (j) :
    k0_pay1 (F := Ideal) x0 x1 j = ∑ k : Fin 512, x0 (ix2 (j 0) k) * x1 (ix4 0 0 k (j 1)) := by
  pointwise [k0_pay1]

theorem first_at (x0 : Vec Ideal S1024x512 .bf16) (x1 : Vec Ideal S1x1x512x512 .bf16) (j) :
    k0_pay2 (F := Ideal) x0 x1 j = k0_pay1 (F := Ideal) x0 x1 j := by
  unfold k0_pay2; generalize k0_pay1 (F := Ideal) x0 x1 = p
  pointwise

theorem step_at (x0 : Vec Ideal S1024x512 .bf16) (x1 : Vec Ideal S1x1x512x512 .bf16) (acc : Vec Ideal S1024x512 .f32) (j) :
    k0_pay3 (F := Ideal) x0 x1 acc j = acc j + k0_pay1 (F := Ideal) x0 x1 j := by
  unfold k0_pay3; generalize k0_pay1 (F := Ideal) x0 x1 = p
  pointwise

variable (m : (ℓ : Loc nD τ sig) → Buf (Elt Ideal) ℓ)

theorem idx : ∀ t : Fin cfg0.N, win0_0.index t = ![t.val / 16, t.val % 4] ∧ win0_1.index t = ![t.val % 4, 1, 0, t.val / 4 % 4]
    ∧ win0_2.index t = ![t.val / 16, t.val / 4 % 4] := (by decide +kernel : ∀ t : Fin grid0.N, _)

/-- The carried sum at the last shard: all 4 shares. -/
theorem acc_at (c : Dev nD) (t : Fin cfg0.N) (ht : t.val % 4 = 3) (y : S1024x512.Idx) :
    (outsAt0 m c t.val t.isLt).2 y
      = ∑ s : Fin 4, k0_pay1 (F := Ideal) (iblk m c 0 ⟨4 * (t.val / 4) + s.val, Pipeline.run_point_lt_of_flush t ht s⟩)
          (iblk m c 1 ⟨4 * (t.val / 4) + s.val, Pipeline.run_point_lt_of_flush t ht s⟩) y := by
  refine (Pipeline.eq_sum_fin_of_reset_step_apply_of_flush (fun n h => (outsAt0 m c n h).2) 4 (fun _ => (0 : EReal))
    (fun t y => k0_pay1 (F := Ideal) (iblk m c 0 t) (iblk m c 1 t) y) (fun t h y => ?_) (fun t h y => ?_) t ht y).trans (zero_add _)
  · rw [outsAt0_A m c t h (by omega) (by omega)]
    frame_out
    rw [first_at, zero_add]
  · by_cases h3 : t.val % 4 = 3
    · rw [outsAt0_C m c t h (by omega) h3]
      frame_out
      simp only [read_unread_whole]
      exact step_at _ _ _ _
    · rw [outsAt0_B m c t h (by omega) h3]
      frame_out
      simp only [read_unread_whole]
      exact step_at _ _ _ _

/-- What the last shard writes back: the carried sum. -/
theorem out_at (c : Dev nD) (t : Fin cfg0.N) (ht : t.val % 4 = 3) (y : S1024x512.Idx) :
    (outsAt0 m c t.val t.isLt).1 y = (outsAt0 m c t.val t.isLt).2 y := by
  rw [outsAt0_C m c t (by omega) (by omega) ht]
  frame_out

/-- The block written back at the last shard. -/
theorem point (c : Dev nD) (t : Fin cfg0.N) (ht : t.val % 4 = 3) (y : S1024x512.Idx) (j : S8192x2048.Idx)
    (h0 : (j 0).val = t.val / 16 * 1024 + (y 0).val) (h1 : (j 1).val = t.val / 4 % 4 * 512 + (y 1).val) :
    (outsAt0 m c t.val t.isLt).1 y = want (m ((c : Thread nD τ).loc main_arg0)) (m ((c : Thread nD τ).loc main_arg1)) j := by
  idx_vars y
  idx_vars j
  rw [out_at m c t ht, want_at, acc_at m c t ht]
  simp only [part_at]
  refine Fin.sum_mul_add_congr fun s k hl => ?_
  blk_point [iblk, V, idx ⟨_, Pipeline.run_point_lt_of_flush t ht s⟩]

/-- The result's array after the run. -/
theorem final (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  blk_simp
  rw [after0_2]
  refine point m c t ((flush0_2 t).mp hf) y _ ?_ ?_ <;> (blk_simp [(idx t).2.2] <;> try omega)

end Cert.Ffn.Ssin

end
-- ==== Proof.CallOut.lean ====
/- The projection out of a token mixer, with its residual: the kernel's array and the reference's term, entry by entry. -/
module

public import proofs.«01_k».proof.Proof.Gen.OutIdeal.Value
public import proofs.«01_k».proof.Proof.Gen.OutReferenceIdeal.Run
public import Idealize.ShloMosaic.Lib.Pipeline.ValueKit
public import Idealize.ShloMosaic.Lib.Pipeline.ReadBack

@[expose] public section

set_option maxRecDepth 16384

noncomputable section

namespace Cert.Ffn.Out

open Idealize.ShloMosaic Idealize.ShloMosaic.TcCoe Idealize.SL.Sem Idealize.ShloMosaic.Pointwise
open Cert.OutIdeal Cert.OutIdeal.Gen OutReferenceIdeal.Gen
open OutReferenceIdeal (S2048x2048 S512x2048 S1x1x512x2048)

/-- The weight's four shards one below the other. -/
abbrev cat (w : FVec Ideal S4x2x512x2048 .bf16) : FVec Ideal S2048x2048 .bf16 :=
  concatenate S2048x2048 0
    [⟨S512x2048, shapeCast _ (extractStridedSlice S1x1x512x2048 ![0, 1, 0, 0] w slices_S4x2x512x2048_S1x1x512x2048_0_1_0_0) shapeCasts_S1x1x512x2048_S512x2048⟩,
     ⟨S512x2048, shapeCast _ (extractStridedSlice S1x1x512x2048 ![1, 1, 0, 0] w slices_S4x2x512x2048_S1x1x512x2048_1_1_0_0) shapeCasts_S1x1x512x2048_S512x2048⟩,
     ⟨S512x2048, shapeCast _ (extractStridedSlice S1x1x512x2048 ![2, 1, 0, 0] w slices_S4x2x512x2048_S1x1x512x2048_2_1_0_0) shapeCasts_S1x1x512x2048_S512x2048⟩,
     ⟨S512x2048, shapeCast _ (extractStridedSlice S1x1x512x2048 ![3, 1, 0, 0] w slices_S4x2x512x2048_S1x1x512x2048_3_1_0_0) shapeCasts_S1x1x512x2048_S512x2048⟩]
    concatenates_S512x2048_S512x2048_S512x2048_S512x2048_S2048x2048_d0

/-- Row `n` of the whole weight is row `n mod 512` of shard `n / 512`. -/
theorem cat_at (w : FVec Ideal S4x2x512x2048 .bf16) (n : Fin 2048) (k : Fin 2048) :
    cat w (ix2 n k) = w (ix4 ⟨n.val / 512, by omega⟩ 1 ⟨n.val % 512, by omega⟩ k) := by
  pointwise [cat]
  have e : ∀ (a a' : Fin 4) (b b' : Fin 512), a.val = a'.val → b.val = b'.val → w (ix4 a 1 b k) = w (ix4 a' 1 b' k) :=
    fun a a' b b' ha hb => by rw [Fin.ext ha, Fin.ext hb]
  split_ifs <;> refine e _ _ _ _ ?_ ?_ <;> simp <;> omega

/-- The reference: the residual plus the product. -/
abbrev want (a : FVec Ideal S8192x2048 .f32) (x : FVec Ideal S8192x2048 .f32) (w : FVec Ideal S4x2x512x2048 .bf16) : FVec Ideal S8192x2048 .f32 :=
  addf x (Host.dotGeneral OutReferenceIdeal.dot_S8192x2048_S2048x2048_S8192x2048_1_0_0_1_n_n none a (extf .f32 (cat w) OutReferenceIdeal.Gen.bitsLt_bf16_f32))

theorem want_at (a : FVec Ideal S8192x2048 .f32) (x : FVec Ideal S8192x2048 .f32) (w : FVec Ideal S4x2x512x2048 .bf16) (r : Fin 8192) (q : Fin 2048) :
    want a x w (ix2 r q) = x (ix2 r q) + ∑ n : Fin 2048, a (ix2 r n) * w (ix4 ⟨n.val / 512, by omega⟩ 1 ⟨n.val % 512, by omega⟩ q) := by
  simp only [← cat_at]
  unfold want; generalize cat w = v
  pointwise

/-- One shard's share: a product of the two blocks. -/
theorem part_at (x0 : Vec Ideal S1024x512 .bf16) (x1 : Vec Ideal S1x1x512x512 .bf16) (j) :
    k0_pay1 (F := Ideal) x0 x1 j = ∑ k : Fin 512, x0 (ix2 (j 0) k) * x1 (ix4 0 0 k (j 1)) := by
  pointwise [k0_pay1]

theorem first_at (x0 : Vec Ideal S1024x512 .bf16) (x1 : Vec Ideal S1x1x512x512 .bf16) (j) :
    k0_pay2 (F := Ideal) x0 x1 j = k0_pay1 (F := Ideal) x0 x1 j := by
  unfold k0_pay2; generalize k0_pay1 (F := Ideal) x0 x1 = p
  pointwise

theorem step_at (x0 : Vec Ideal S1024x512 .bf16) (x1 : Vec Ideal S1x1x512x512 .bf16) (acc : Vec Ideal S1024x512 .f32) (j) :
    k0_pay3 (F := Ideal) x0 x1 acc j = acc j + k0_pay1 (F := Ideal) x0 x1 j := by
  unfold k0_pay3; generalize k0_pay1 (F := Ideal) x0 x1 = p
  pointwise

theorem end_at (acc x : Vec Ideal S1024x512 .f32) (j) : k0_pay4 (F := Ideal) acc x j = x j + acc j := by
  pointwise [k0_pay4]

variable (m : (ℓ : Loc nD τ sig) → Buf (Elt Ideal) ℓ)

theorem idx : ∀ t : Fin cfg0.N, win0_0.index t = ![t.val / 16, t.val % 4] ∧ win0_1.index t = ![t.val % 4, 1, 0, t.val / 4 % 4]
    ∧ win0_2.index t = ![t.val / 16, t.val / 4 % 4] ∧ win0_3.index t = ![t.val / 16, t.val / 4 % 4] := (by decide +kernel : ∀ t : Fin grid0.N, _)

/-- The carried sum at the last shard: all 4 shares. -/
theorem acc_at (c : Dev nD) (t : Fin cfg0.N) (ht : t.val % 4 = 3) (y : S1024x512.Idx) :
    (outsAt0 m c t.val t.isLt).2 y
      = ∑ s : Fin 4, k0_pay1 (F := Ideal) (iblk m c 0 ⟨4 * (t.val / 4) + s.val, Pipeline.run_point_lt_of_flush t ht s⟩)
          (iblk m c 1 ⟨4 * (t.val / 4) + s.val, Pipeline.run_point_lt_of_flush t ht s⟩) y := by
  refine (Pipeline.eq_sum_fin_of_reset_step_apply_of_flush (fun n h => (outsAt0 m c n h).2) 4 (fun _ => (0 : EReal))
    (fun t y => k0_pay1 (F := Ideal) (iblk m c 0 t) (iblk m c 1 t) y) (fun t h y => ?_) (fun t h y => ?_) t ht y).trans (zero_add _)
  · rw [outsAt0_A m c t h (by omega) (by omega)]
    frame_out
    rw [first_at, zero_add]
  · by_cases h3 : t.val % 4 = 3
    · rw [outsAt0_C m c t h (by omega) h3]
      frame_out
      simp only [read_unread_whole]
      exact step_at _ _ _ _
    · rw [outsAt0_B m c t h (by omega) h3]
      frame_out
      simp only [read_unread_whole]
      exact step_at _ _ _ _

/-- The residual's block. -/
abbrev resid (c : Dev nD) (t : Fin cfg0.N) : Vec Ideal S1024x512 .f32 := iblk m c 2 t

/-- What the last shard writes back: the residual's block plus the carried sum. -/
theorem out_at (c : Dev nD) (t : Fin cfg0.N) (ht : t.val % 4 = 3) (y : S1024x512.Idx) :
    (outsAt0 m c t.val t.isLt).1 y = resid m c t y + (outsAt0 m c t.val t.isLt).2 y := by
  rw [outsAt0_C m c t (by omega) (by omega) ht]
  frame_out
  exact end_at _ _ _

/-- The block written back at the last shard. -/
theorem point (c : Dev nD) (t : Fin cfg0.N) (ht : t.val % 4 = 3) (y : S1024x512.Idx) (j : S8192x2048.Idx)
    (h0 : (j 0).val = t.val / 16 * 1024 + (y 0).val) (h1 : (j 1).val = t.val / 4 % 4 * 512 + (y 1).val) :
    (outsAt0 m c t.val t.isLt).1 y = want (m ((c : Thread nD τ).loc main_arg0)) (m ((c : Thread nD τ).loc main_arg1)) (m ((c : Thread nD τ).loc main_arg2)) j := by
  idx_vars y
  idx_vars j
  rw [out_at m c t ht, want_at, acc_at m c t ht]
  simp only [part_at]
  have e : resid m c t (ix2 y0 y1) = (m ((c : Thread nD τ).loc main_arg1) : FVec Ideal S8192x2048 .f32) (ix2 j0 j1) := by
    blk_point [resid, iblk, V, idx t]
  rw [e]
  refine congrArg (fun z : EReal => (_ : EReal) + z) (Fin.sum_mul_add_congr fun s k hl => ?_)
  blk_point [iblk, V, idx ⟨_, Pipeline.run_point_lt_of_flush t ht s⟩]

/-- The result's array after the run. -/
theorem final (c : Dev nD) : (dats m 0 c).arrAt 3 (cfgs 0).N
    = want (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  refine point m c t ((flush0_3 t).mp hf) y _ ?_ ?_ <;> (blk_simp [(idx t).2.2.2] <;> try omega)

end Cert.Ffn.Out

end
-- ==== Proof.CallDcat.lean ====
/- The gradient that goes back through a row-sharded projection: the kernel's array and the reference's term, entry by entry. -/
module

public import proofs.«01_k».proof.Proof.Gen.DcatIdeal.Value
public import proofs.«01_k».proof.Proof.Gen.DcatReferenceIdeal.Run
public import Idealize.ShloMosaic.Lib.Pipeline.ValueKit
public import Idealize.ShloMosaic.Lib.Pipeline.ReadBack

@[expose] public section

set_option maxRecDepth 16384

noncomputable section

namespace Cert.Ffn.Dcat

open Idealize.ShloMosaic Idealize.ShloMosaic.TcCoe Idealize.SL.Sem Idealize.ShloMosaic.Pointwise
open Cert.DcatIdeal Cert.DcatIdeal.Gen DcatReferenceIdeal.Gen

/-- The weight's four shards one below the other. -/
abbrev cat (w : FVec Ideal S4x2x512x2048 .bf16) : FVec Ideal DcatReferenceIdeal.S2048x2048 .bf16 :=
  concatenate DcatReferenceIdeal.S2048x2048 0
    [⟨DcatReferenceIdeal.S512x2048, shapeCast _ (extractStridedSlice DcatReferenceIdeal.S1x1x512x2048 ![0, 1, 0, 0] w slices_S4x2x512x2048_S1x1x512x2048_0_1_0_0) DcatReferenceIdeal.Gen.shapeCasts_S1x1x512x2048_S512x2048⟩,
     ⟨DcatReferenceIdeal.S512x2048, shapeCast _ (extractStridedSlice DcatReferenceIdeal.S1x1x512x2048 ![1, 1, 0, 0] w slices_S4x2x512x2048_S1x1x512x2048_1_1_0_0) DcatReferenceIdeal.Gen.shapeCasts_S1x1x512x2048_S512x2048⟩,
     ⟨DcatReferenceIdeal.S512x2048, shapeCast _ (extractStridedSlice DcatReferenceIdeal.S1x1x512x2048 ![2, 1, 0, 0] w slices_S4x2x512x2048_S1x1x512x2048_2_1_0_0) DcatReferenceIdeal.Gen.shapeCasts_S1x1x512x2048_S512x2048⟩,
     ⟨DcatReferenceIdeal.S512x2048, shapeCast _ (extractStridedSlice DcatReferenceIdeal.S1x1x512x2048 ![3, 1, 0, 0] w slices_S4x2x512x2048_S1x1x512x2048_3_1_0_0) DcatReferenceIdeal.Gen.shapeCasts_S1x1x512x2048_S512x2048⟩]
    concatenates_S512x2048_S512x2048_S512x2048_S512x2048_S2048x2048_d0

/-- Row `n` of the whole weight is row `n mod 512` of shard `n / 512`. -/
theorem cat_at (w : FVec Ideal S4x2x512x2048 .bf16) (n : Fin 2048) (k : Fin 2048) :
    cat w (ix2 n k) = w (ix4 ⟨n.val / 512, by omega⟩ 1 ⟨n.val % 512, by omega⟩ k) := by
  pointwise [cat]
  have e : ∀ (a a' : Fin 4) (b b' : Fin 512), a.val = a'.val → b.val = b'.val → w (ix4 a 1 b k) = w (ix4 a' 1 b' k) :=
    fun a a' b b' ha hb => by rw [Fin.ext ha, Fin.ext hb]
  split_ifs <;> refine e _ _ _ _ ?_ ?_ <;> simp <;> omega

/-- The reference: the gradient times the weight transposed. -/
abbrev want (d : FVec Ideal S8192x2048 .f32) (w : FVec Ideal S4x2x512x2048 .bf16) : FVec Ideal S8192x2048 .f32 :=
  Host.dotGeneral DcatReferenceIdeal.dot_S8192x2048_S2048x2048_S8192x2048_1_1_0_0_n_n none d (extf .f32 (cat w) DcatReferenceIdeal.Gen.bitsLt_bf16_f32)

theorem want_at (d : FVec Ideal S8192x2048 .f32) (w : FVec Ideal S4x2x512x2048 .bf16) (r : Fin 8192) (n : Fin 2048) :
    want d w (ix2 r n) = ∑ k : Fin 2048, d (ix2 r k) * w (ix4 ⟨n.val / 512, by omega⟩ 1 ⟨n.val % 512, by omega⟩ k) := by
  simp only [← cat_at]
  unfold want; generalize cat w = v
  pointwise

variable (m : (ℓ : Loc nD τ sig) → Buf (Elt Ideal) ℓ)

theorem idx : ∀ t : Fin cfg0.N, win0_0.index t = ![t.val / 4, 0] ∧ win0_1.index t = ![t.val % 4, 1, 0, 0]
    ∧ win0_2.index t = ![t.val / 4, t.val % 4] := (by decide +kernel : ∀ t : Fin grid0.N, _)

/-- One block of the product. -/
theorem point (c : Dev nD) (t : Fin cfg0.N) (y : S512x512.Idx) (j : S8192x2048.Idx)
    (h0 : (j 0).val = t.val / 4 * 512 + (y 0).val) (h1 : (j 1).val = t.val % 4 * 512 + (y 1).val) :
    k0_pay1 (iblk m c 0 t) (iblk m c 1 t) y = want (m ((c : Thread nD τ).loc main_arg0)) (m ((c : Thread nD τ).loc main_arg1)) j := by
  idx_vars y
  idx_vars j
  rw [want_at]
  pointwise [k0_pay1]
  blk_point [iblk, V, (idx t).1, (idx t).2.1]

/-- The result's array after the run. -/
theorem final (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  blk_simp
  rw [after0_2]; frame_out
  refine point m c t y _ ?_ ?_ <;> (blk_simp [(idx t).2.2] <;> try omega)

end Cert.Ffn.Dcat

end
-- ==== Proof.CallDhsb.lean ====
/- The gradient that goes back through the projection into a stick-breaking layer: the kernel's array and the reference's term, entry by entry. -/
module

public import proofs.«01_k».proof.Proof.Gen.DhsbIdeal.Value
public import proofs.«01_k».proof.Proof.Gen.DhsbReferenceIdeal.Run
public import Idealize.ShloMosaic.Lib.Pipeline.ValueKit
public import Idealize.ShloMosaic.Lib.Pipeline.ReadBack

@[expose] public section

set_option maxRecDepth 16384

noncomputable section

namespace Cert.Ffn.Dhsb

open Idealize.ShloMosaic Idealize.ShloMosaic.TcCoe Idealize.SL.Sem Idealize.ShloMosaic.Pointwise
open Cert.DhsbIdeal Cert.DhsbIdeal.Gen DhsbReferenceIdeal.Gen

/-- The weight's four shards side by side. -/
abbrev cat (w : FVec Ideal S4x2x2048x1280 .bf16) : FVec Ideal DhsbReferenceIdeal.S2048x5120 .bf16 :=
  concatenate DhsbReferenceIdeal.S2048x5120 1
    [⟨DhsbReferenceIdeal.S2048x1280, shapeCast _ (extractStridedSlice DhsbReferenceIdeal.S1x1x2048x1280 ![0, 1, 0, 0] w slices_S4x2x2048x1280_S1x1x2048x1280_0_1_0_0) DhsbReferenceIdeal.Gen.shapeCasts_S1x1x2048x1280_S2048x1280⟩,
     ⟨DhsbReferenceIdeal.S2048x1280, shapeCast _ (extractStridedSlice DhsbReferenceIdeal.S1x1x2048x1280 ![1, 1, 0, 0] w slices_S4x2x2048x1280_S1x1x2048x1280_1_1_0_0) DhsbReferenceIdeal.Gen.shapeCasts_S1x1x2048x1280_S2048x1280⟩,
     ⟨DhsbReferenceIdeal.S2048x1280, shapeCast _ (extractStridedSlice DhsbReferenceIdeal.S1x1x2048x1280 ![2, 1, 0, 0] w slices_S4x2x2048x1280_S1x1x2048x1280_2_1_0_0) DhsbReferenceIdeal.Gen.shapeCasts_S1x1x2048x1280_S2048x1280⟩,
     ⟨DhsbReferenceIdeal.S2048x1280, shapeCast _ (extractStridedSlice DhsbReferenceIdeal.S1x1x2048x1280 ![3, 1, 0, 0] w slices_S4x2x2048x1280_S1x1x2048x1280_3_1_0_0) DhsbReferenceIdeal.Gen.shapeCasts_S1x1x2048x1280_S2048x1280⟩]
    concatenates_S2048x1280_S2048x1280_S2048x1280_S2048x1280_S2048x5120_d1

/-- Column `n` of the whole weight is column `n mod 1280` of shard `n / 1280`. -/
theorem cat_at (w : FVec Ideal S4x2x2048x1280 .bf16) (k : Fin 2048) (n : Fin 5120) :
    cat w (ix2 k n) = w (ix4 ⟨n.val / 1280, by omega⟩ 1 k ⟨n.val % 1280, by omega⟩) := by
  pointwise [cat]
  have e : ∀ (a a' : Fin 4) (b b' : Fin 1280), a.val = a'.val → b.val = b'.val → w (ix4 a 1 k b) = w (ix4 a' 1 k b') :=
    fun a a' b b' ha hb => by rw [Fin.ext ha, Fin.ext hb]
  split_ifs <;> refine e _ _ _ _ ?_ ?_ <;> simp <;> omega

/-- The reference: the gradient times the weight transposed. -/
abbrev want (d : FVec Ideal S8192x5120 .f32) (w : FVec Ideal S4x2x2048x1280 .bf16) : FVec Ideal S8192x2048 .f32 :=
  Host.dotGeneral DhsbReferenceIdeal.dot_S8192x5120_S2048x5120_S8192x2048_1_1_0_0_n_n none d (extf .f32 (cat w) DhsbReferenceIdeal.Gen.bitsLt_bf16_f32)

theorem want_at (d : FVec Ideal S8192x5120 .f32) (w : FVec Ideal S4x2x2048x1280 .bf16) (r : Fin 8192) (q : Fin 2048) :
    want d w (ix2 r q) = ∑ n : Fin 5120, d (ix2 r n) * w (ix4 ⟨n.val / 1280, by omega⟩ 1 q ⟨n.val % 1280, by omega⟩) := by
  simp only [← cat_at]
  unfold want; generalize cat w = v
  pointwise

/-- One shard's share: a product of the two blocks. -/
theorem part_at (x0 : Vec Ideal S512x1280 .bf16) (x1 : Vec Ideal S1x1x2048x1280 .bf16) (j) :
    k0_pay1 (F := Ideal) x0 x1 j = ∑ k : Fin 1280, x0 (ix2 (j 0) k) * x1 (ix4 0 0 (j 1) k) := by
  pointwise [k0_pay1]

theorem first_at (x0 : Vec Ideal S512x1280 .bf16) (x1 : Vec Ideal S1x1x2048x1280 .bf16) (j) :
    k0_pay2 (F := Ideal) x0 x1 j = k0_pay1 (F := Ideal) x0 x1 j := by
  unfold k0_pay2; generalize k0_pay1 (F := Ideal) x0 x1 = p
  pointwise

theorem step_at (x0 : Vec Ideal S512x1280 .bf16) (x1 : Vec Ideal S1x1x2048x1280 .bf16) (acc : Vec Ideal S512x2048 .f32) (j) :
    k0_pay3 (F := Ideal) x0 x1 acc j = acc j + k0_pay1 (F := Ideal) x0 x1 j := by
  unfold k0_pay3; generalize k0_pay1 (F := Ideal) x0 x1 = p
  pointwise

variable (m : (ℓ : Loc nD τ sig) → Buf (Elt Ideal) ℓ)

theorem idx : ∀ t : Fin cfg0.N, win0_0.index t = ![t.val / 4, t.val % 4] ∧ win0_1.index t = ![t.val % 4, 1, 0, 0]
    ∧ win0_2.index t = ![t.val / 4, 0] := (by decide +kernel : ∀ t : Fin grid0.N, _)

/-- The carried sum at the last shard: all 4 shares. -/
theorem acc_at (c : Dev nD) (t : Fin cfg0.N) (ht : t.val % 4 = 3) (y : S512x2048.Idx) :
    (outsAt0 m c t.val t.isLt).2 y
      = ∑ s : Fin 4, k0_pay1 (F := Ideal) (iblk m c 0 ⟨4 * (t.val / 4) + s.val, Pipeline.run_point_lt_of_flush t ht s⟩)
          (iblk m c 1 ⟨4 * (t.val / 4) + s.val, Pipeline.run_point_lt_of_flush t ht s⟩) y := by
  refine (Pipeline.eq_sum_fin_of_reset_step_apply_of_flush (fun n h => (outsAt0 m c n h).2) 4 (fun _ => (0 : EReal))
    (fun t y => k0_pay1 (F := Ideal) (iblk m c 0 t) (iblk m c 1 t) y) (fun t h y => ?_) (fun t h y => ?_) t ht y).trans (zero_add _)
  · rw [outsAt0_A m c t h (by omega) (by omega)]
    frame_out
    rw [first_at, zero_add]
  · by_cases h3 : t.val % 4 = 3
    · rw [outsAt0_C m c t h (by omega) h3]
      frame_out
      simp only [read_unread_whole]
      exact step_at _ _ _ _
    · rw [outsAt0_B m c t h (by omega) h3]
      frame_out
      simp only [read_unread_whole]
      exact step_at _ _ _ _

/-- What the last shard writes back: the carried sum. -/
theorem out_at (c : Dev nD) (t : Fin cfg0.N) (ht : t.val % 4 = 3) (y : S512x2048.Idx) :
    (outsAt0 m c t.val t.isLt).1 y = (outsAt0 m c t.val t.isLt).2 y := by
  rw [outsAt0_C m c t (by omega) (by omega) ht]
  frame_out

/-- The block written back at the last shard. -/
theorem point (c : Dev nD) (t : Fin cfg0.N) (ht : t.val % 4 = 3) (y : S512x2048.Idx) (j : S8192x2048.Idx)
    (h0 : (j 0).val = t.val / 4 * 512 + (y 0).val) (h1 : (j 1).val = (y 1).val) :
    (outsAt0 m c t.val t.isLt).1 y = want (m ((c : Thread nD τ).loc main_arg0)) (m ((c : Thread nD τ).loc main_arg1)) j := by
  idx_vars y
  idx_vars j
  rw [out_at m c t ht, want_at, acc_at m c t ht]
  simp only [part_at]
  refine Fin.sum_mul_add_congr fun s k hl => ?_
  blk_point [iblk, V, idx ⟨_, Pipeline.run_point_lt_of_flush t ht s⟩]

/-- The result's array after the run. -/
theorem final (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  blk_simp
  rw [after0_2]
  refine point m c t ((flush0_2 t).mp hf) y _ ?_ ?_ <;> (blk_simp [(idx t).2.2] <;> try omega)

end Cert.Ffn.Dhsb

end
-- ==== Proof.CallSbin0.lean ====
/- The projection into a stick-breaking layer: the kernel's array and the reference's term, entry by entry. -/
module

public import proofs.«01_k».proof.Proof.Gen.Sbin0Ideal.Value
public import proofs.«01_k».proof.Proof.Gen.Sbin0ReferenceIdeal.Run
public import Idealize.ShloMosaic.Lib.Pipeline.ValueKit
public import Idealize.ShloMosaic.Lib.Pipeline.ReadBack

@[expose] public section

set_option maxRecDepth 16384

noncomputable section

namespace Cert.Ffn.Sbin0

open Idealize.ShloMosaic Idealize.ShloMosaic.TcCoe Idealize.SL.Sem Idealize.ShloMosaic.Pointwise
open Cert.Sbin0Ideal Cert.Sbin0Ideal.Gen Sbin0ReferenceIdeal.Gen
open Sbin0ReferenceIdeal (S2048x5120 S2048x1280 S1x1x2048x1280)

/-- The weight's four shards side by side. -/
abbrev cat (w : FVec Ideal S4x2x2048x1280 .bf16) : FVec Ideal S2048x5120 .bf16 :=
  concatenate S2048x5120 1
    [⟨S2048x1280, shapeCast _ (extractStridedSlice S1x1x2048x1280 ![0, 0, 0, 0] w slices_S4x2x2048x1280_S1x1x2048x1280_0_0_0_0) shapeCasts_S1x1x2048x1280_S2048x1280⟩,
     ⟨S2048x1280, shapeCast _ (extractStridedSlice S1x1x2048x1280 ![1, 0, 0, 0] w slices_S4x2x2048x1280_S1x1x2048x1280_1_0_0_0) shapeCasts_S1x1x2048x1280_S2048x1280⟩,
     ⟨S2048x1280, shapeCast _ (extractStridedSlice S1x1x2048x1280 ![2, 0, 0, 0] w slices_S4x2x2048x1280_S1x1x2048x1280_2_0_0_0) shapeCasts_S1x1x2048x1280_S2048x1280⟩,
     ⟨S2048x1280, shapeCast _ (extractStridedSlice S1x1x2048x1280 ![3, 0, 0, 0] w slices_S4x2x2048x1280_S1x1x2048x1280_3_0_0_0) shapeCasts_S1x1x2048x1280_S2048x1280⟩]
    concatenates_S2048x1280_S2048x1280_S2048x1280_S2048x1280_S2048x5120_d1

/-- Column `n` of the whole weight is column `n mod 1280` of shard `n / 1280`. -/
theorem cat_at (w : FVec Ideal S4x2x2048x1280 .bf16) (k : Fin 2048) (n : Fin 5120) :
    cat w (ix2 k n) = w (ix4 ⟨n.val / 1280, by omega⟩ 0 k ⟨n.val % 1280, by omega⟩) := by
  pointwise [cat]
  have e : ∀ (a a' : Fin 4) (b b' : Fin 1280), a.val = a'.val → b.val = b'.val → w (ix4 a 0 k b) = w (ix4 a' 0 k b') :=
    fun a a' b b' ha hb => by rw [Fin.ext ha, Fin.ext hb]
  split_ifs <;> refine e _ _ _ _ ?_ ?_ <;> simp <;> omega

/-- The reference: the product. -/
abbrev want (h : FVec Ideal S8192x2048 .bf16) (w : FVec Ideal S4x2x2048x1280 .bf16) : FVec Ideal S8192x5120 .f32 :=
  Host.dotGeneral Sbin0ReferenceIdeal.dot_S8192x2048_S2048x5120_S8192x5120_1_0_0_1_n_n none (extf .f32 h bitsLt_bf16_f32) (extf .f32 (cat w) bitsLt_bf16_f32)

theorem want_at (h : FVec Ideal S8192x2048 .bf16) (w : FVec Ideal S4x2x2048x1280 .bf16) (r : Fin 8192) (n : Fin 5120) :
    want h w (ix2 r n) = ∑ k : Fin 2048, h (ix2 r k) * w (ix4 ⟨n.val / 1280, by omega⟩ 0 k ⟨n.val % 1280, by omega⟩) := by
  simp only [← cat_at]
  unfold want; generalize cat w = v
  pointwise

variable (m : (ℓ : Loc nD τ sig) → Buf (Elt Ideal) ℓ)

theorem idx : ∀ t : Fin cfg0.N, win0_0.index t = ![t.val / 20, 0] ∧ win0_1.index t = ![t.val % 20 / 5, 0, 0, t.val % 20 % 5]
    ∧ win0_2.index t = ![t.val / 20, t.val % 20] := (by decide +kernel : ∀ t : Fin grid0.N, _)

/-- One block of the product. -/
theorem point (c : Dev nD) (t : Fin cfg0.N) (y : S1024x256.Idx) (j : S8192x5120.Idx)
    (h0 : (j 0).val = t.val / 20 * 1024 + (y 0).val) (h1 : (j 1).val = t.val % 20 * 256 + (y 1).val) :
    k0_pay1 (iblk m c 0 t) (iblk m c 1 t) y = want (m ((c : Thread nD τ).loc main_arg0)) (m ((c : Thread nD τ).loc main_arg1)) j := by
  idx_vars y
  idx_vars j
  rw [want_at]
  pointwise [k0_pay1]
  blk_point [iblk, V, (idx t).1, (idx t).2.1]

/-- The result's array after the run. -/
theorem final (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  blk_simp
  rw [after0_2]; frame_out
  refine point m c t y _ ?_ ?_ <;> (blk_simp [(idx t).2.2] <;> try omega)

end Cert.Ffn.Sbin0

end
-- ==== Proof.CallSsin0.lean ====
/- The projection into a state space layer: the kernel's array and the reference's term, entry by entry. -/
module

public import proofs.«01_k».proof.Proof.Gen.Ssin0Ideal.Value
public import proofs.«01_k».proof.Proof.Gen.Ssin0ReferenceIdeal.Run
public import Idealize.ShloMosaic.Lib.Pipeline.ValueKit
public import Idealize.ShloMosaic.Lib.Pipeline.ReadBack

@[expose] public section

set_option maxRecDepth 16384

noncomputable section

namespace Cert.Ffn.Ssin0

open Idealize.ShloMosaic Idealize.ShloMosaic.TcCoe Idealize.SL.Sem Idealize.ShloMosaic.Pointwise
open Cert.Ssin0Ideal Cert.Ssin0Ideal.Gen Ssin0ReferenceIdeal.Gen
open Ssin0ReferenceIdeal (S2048x2048 S512x2048 S1x1x512x2048)

/-- The weight's four shards one below the other. -/
abbrev cat (w : FVec Ideal S4x2x512x2048 .bf16) : FVec Ideal S2048x2048 .bf16 :=
  concatenate S2048x2048 0
    [⟨S512x2048, shapeCast _ (extractStridedSlice S1x1x512x2048 ![0, 0, 0, 0] w slices_S4x2x512x2048_S1x1x512x2048_0_0_0_0) shapeCasts_S1x1x512x2048_S512x2048⟩,
     ⟨S512x2048, shapeCast _ (extractStridedSlice S1x1x512x2048 ![1, 0, 0, 0] w slices_S4x2x512x2048_S1x1x512x2048_1_0_0_0) shapeCasts_S1x1x512x2048_S512x2048⟩,
     ⟨S512x2048, shapeCast _ (extractStridedSlice S1x1x512x2048 ![2, 0, 0, 0] w slices_S4x2x512x2048_S1x1x512x2048_2_0_0_0) shapeCasts_S1x1x512x2048_S512x2048⟩,
     ⟨S512x2048, shapeCast _ (extractStridedSlice S1x1x512x2048 ![3, 0, 0, 0] w slices_S4x2x512x2048_S1x1x512x2048_3_0_0_0) shapeCasts_S1x1x512x2048_S512x2048⟩]
    concatenates_S512x2048_S512x2048_S512x2048_S512x2048_S2048x2048_d0

/-- Row `n` of the whole weight is row `n mod 512` of shard `n / 512`. -/
theorem cat_at (w : FVec Ideal S4x2x512x2048 .bf16) (n : Fin 2048) (k : Fin 2048) :
    cat w (ix2 n k) = w (ix4 ⟨n.val / 512, by omega⟩ 0 ⟨n.val % 512, by omega⟩ k) := by
  pointwise [cat]
  have e : ∀ (a a' : Fin 4) (b b' : Fin 512), a.val = a'.val → b.val = b'.val → w (ix4 a 0 b k) = w (ix4 a' 0 b' k) :=
    fun a a' b b' ha hb => by rw [Fin.ext ha, Fin.ext hb]
  split_ifs <;> refine e _ _ _ _ ?_ ?_ <;> simp <;> omega

/-- The reference: the product. -/
abbrev want (a : FVec Ideal S8192x2048 .bf16) (w : FVec Ideal S4x2x512x2048 .bf16) : FVec Ideal S8192x2048 .f32 :=
  (Host.dotGeneral Ssin0ReferenceIdeal.dot_S8192x2048_S2048x2048_S8192x2048_1_0_0_1_n_n none (extf .f32 a bitsLt_bf16_f32) (extf .f32 (cat w) bitsLt_bf16_f32))

theorem want_at (a : FVec Ideal S8192x2048 .bf16) (w : FVec Ideal S4x2x512x2048 .bf16) (r : Fin 8192) (q : Fin 2048) :
    want a w (ix2 r q) = ∑ n : Fin 2048, a (ix2 r n) * w (ix4 ⟨n.val / 512, by omega⟩ 0 ⟨n.val % 512, by omega⟩ q) := by
  simp only [← cat_at]
  unfold want; generalize cat w = v
  pointwise

/-- One shard's share: a product of the two blocks. -/
theorem part_at (x0 : Vec Ideal S1024x512 .bf16) (x1 : Vec Ideal S1x1x512x512 .bf16) (j) :
    k0_pay1 (F := Ideal) x0 x1 j = ∑ k : Fin 512, x0 (ix2 (j 0) k) * x1 (ix4 0 0 k (j 1)) := by
  pointwise [k0_pay1]

theorem first_at (x0 : Vec Ideal S1024x512 .bf16) (x1 : Vec Ideal S1x1x512x512 .bf16) (j) :
    k0_pay2 (F := Ideal) x0 x1 j = k0_pay1 (F := Ideal) x0 x1 j := by
  unfold k0_pay2; generalize k0_pay1 (F := Ideal) x0 x1 = p
  pointwise

theorem step_at (x0 : Vec Ideal S1024x512 .bf16) (x1 : Vec Ideal S1x1x512x512 .bf16) (acc : Vec Ideal S1024x512 .f32) (j) :
    k0_pay3 (F := Ideal) x0 x1 acc j = acc j + k0_pay1 (F := Ideal) x0 x1 j := by
  unfold k0_pay3; generalize k0_pay1 (F := Ideal) x0 x1 = p
  pointwise

variable (m : (ℓ : Loc nD τ sig) → Buf (Elt Ideal) ℓ)

theorem idx : ∀ t : Fin cfg0.N, win0_0.index t = ![t.val / 16, t.val % 4] ∧ win0_1.index t = ![t.val % 4, 0, 0, t.val / 4 % 4]
    ∧ win0_2.index t = ![t.val / 16, t.val / 4 % 4] := (by decide +kernel : ∀ t : Fin grid0.N, _)

/-- The carried sum at the last shard: all 4 shares. -/
theorem acc_at (c : Dev nD) (t : Fin cfg0.N) (ht : t.val % 4 = 3) (y : S1024x512.Idx) :
    (outsAt0 m c t.val t.isLt).2 y
      = ∑ s : Fin 4, k0_pay1 (F := Ideal) (iblk m c 0 ⟨4 * (t.val / 4) + s.val, Pipeline.run_point_lt_of_flush t ht s⟩)
          (iblk m c 1 ⟨4 * (t.val / 4) + s.val, Pipeline.run_point_lt_of_flush t ht s⟩) y := by
  refine (Pipeline.eq_sum_fin_of_reset_step_apply_of_flush (fun n h => (outsAt0 m c n h).2) 4 (fun _ => (0 : EReal))
    (fun t y => k0_pay1 (F := Ideal) (iblk m c 0 t) (iblk m c 1 t) y) (fun t h y => ?_) (fun t h y => ?_) t ht y).trans (zero_add _)
  · rw [outsAt0_A m c t h (by omega) (by omega)]
    frame_out
    rw [first_at, zero_add]
  · by_cases h3 : t.val % 4 = 3
    · rw [outsAt0_C m c t h (by omega) h3]
      frame_out
      simp only [read_unread_whole]
      exact step_at _ _ _ _
    · rw [outsAt0_B m c t h (by omega) h3]
      frame_out
      simp only [read_unread_whole]
      exact step_at _ _ _ _

/-- What the last shard writes back: the carried sum. -/
theorem out_at (c : Dev nD) (t : Fin cfg0.N) (ht : t.val % 4 = 3) (y : S1024x512.Idx) :
    (outsAt0 m c t.val t.isLt).1 y = (outsAt0 m c t.val t.isLt).2 y := by
  rw [outsAt0_C m c t (by omega) (by omega) ht]
  frame_out

/-- The block written back at the last shard. -/
theorem point (c : Dev nD) (t : Fin cfg0.N) (ht : t.val % 4 = 3) (y : S1024x512.Idx) (j : S8192x2048.Idx)
    (h0 : (j 0).val = t.val / 16 * 1024 + (y 0).val) (h1 : (j 1).val = t.val / 4 % 4 * 512 + (y 1).val) :
    (outsAt0 m c t.val t.isLt).1 y = want (m ((c : Thread nD τ).loc main_arg0)) (m ((c : Thread nD τ).loc main_arg1)) j := by
  idx_vars y
  idx_vars j
  rw [out_at m c t ht, want_at, acc_at m c t ht]
  simp only [part_at]
  refine Fin.sum_mul_add_congr fun s k hl => ?_
  blk_point [iblk, V, idx ⟨_, Pipeline.run_point_lt_of_flush t ht s⟩]

/-- The result's array after the run. -/
theorem final (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  blk_simp
  rw [after0_2]
  refine point m c t ((flush0_2 t).mp hf) y _ ?_ ?_ <;> (blk_simp [(idx t).2.2] <;> try omega)

end Cert.Ffn.Ssin0

end
-- ==== Proof.CallOut0.lean ====
/- The projection out of a token mixer, with its residual: the kernel's array and the reference's term, entry by entry. -/
module

public import proofs.«01_k».proof.Proof.Gen.Out0Ideal.Value
public import proofs.«01_k».proof.Proof.Gen.Out0ReferenceIdeal.Run
public import Idealize.ShloMosaic.Lib.Pipeline.ValueKit
public import Idealize.ShloMosaic.Lib.Pipeline.ReadBack

@[expose] public section

set_option maxRecDepth 16384

noncomputable section

namespace Cert.Ffn.Out0

open Idealize.ShloMosaic Idealize.ShloMosaic.TcCoe Idealize.SL.Sem Idealize.ShloMosaic.Pointwise
open Cert.Out0Ideal Cert.Out0Ideal.Gen Out0ReferenceIdeal.Gen
open Out0ReferenceIdeal (S2048x2048 S512x2048 S1x1x512x2048)

/-- The weight's four shards one below the other. -/
abbrev cat (w : FVec Ideal S4x2x512x2048 .bf16) : FVec Ideal S2048x2048 .bf16 :=
  concatenate S2048x2048 0
    [⟨S512x2048, shapeCast _ (extractStridedSlice S1x1x512x2048 ![0, 0, 0, 0] w slices_S4x2x512x2048_S1x1x512x2048_0_0_0_0) shapeCasts_S1x1x512x2048_S512x2048⟩,
     ⟨S512x2048, shapeCast _ (extractStridedSlice S1x1x512x2048 ![1, 0, 0, 0] w slices_S4x2x512x2048_S1x1x512x2048_1_0_0_0) shapeCasts_S1x1x512x2048_S512x2048⟩,
     ⟨S512x2048, shapeCast _ (extractStridedSlice S1x1x512x2048 ![2, 0, 0, 0] w slices_S4x2x512x2048_S1x1x512x2048_2_0_0_0) shapeCasts_S1x1x512x2048_S512x2048⟩,
     ⟨S512x2048, shapeCast _ (extractStridedSlice S1x1x512x2048 ![3, 0, 0, 0] w slices_S4x2x512x2048_S1x1x512x2048_3_0_0_0) shapeCasts_S1x1x512x2048_S512x2048⟩]
    concatenates_S512x2048_S512x2048_S512x2048_S512x2048_S2048x2048_d0

/-- Row `n` of the whole weight is row `n mod 512` of shard `n / 512`. -/
theorem cat_at (w : FVec Ideal S4x2x512x2048 .bf16) (n : Fin 2048) (k : Fin 2048) :
    cat w (ix2 n k) = w (ix4 ⟨n.val / 512, by omega⟩ 0 ⟨n.val % 512, by omega⟩ k) := by
  pointwise [cat]
  have e : ∀ (a a' : Fin 4) (b b' : Fin 512), a.val = a'.val → b.val = b'.val → w (ix4 a 0 b k) = w (ix4 a' 0 b' k) :=
    fun a a' b b' ha hb => by rw [Fin.ext ha, Fin.ext hb]
  split_ifs <;> refine e _ _ _ _ ?_ ?_ <;> simp <;> omega

/-- The reference: the residual plus the product. -/
abbrev want (a : FVec Ideal S8192x2048 .f32) (x : FVec Ideal S8192x2048 .f32) (w : FVec Ideal S4x2x512x2048 .bf16) : FVec Ideal S8192x2048 .f32 :=
  addf x (Host.dotGeneral Out0ReferenceIdeal.dot_S8192x2048_S2048x2048_S8192x2048_1_0_0_1_n_n none a (extf .f32 (cat w) Out0ReferenceIdeal.Gen.bitsLt_bf16_f32))

theorem want_at (a : FVec Ideal S8192x2048 .f32) (x : FVec Ideal S8192x2048 .f32) (w : FVec Ideal S4x2x512x2048 .bf16) (r : Fin 8192) (q : Fin 2048) :
    want a x w (ix2 r q) = x (ix2 r q) + ∑ n : Fin 2048, a (ix2 r n) * w (ix4 ⟨n.val / 512, by omega⟩ 0 ⟨n.val % 512, by omega⟩ q) := by
  simp only [← cat_at]
  unfold want; generalize cat w = v
  pointwise

/-- One shard's share: a product of the two blocks. -/
theorem part_at (x0 : Vec Ideal S1024x512 .bf16) (x1 : Vec Ideal S1x1x512x512 .bf16) (j) :
    k0_pay1 (F := Ideal) x0 x1 j = ∑ k : Fin 512, x0 (ix2 (j 0) k) * x1 (ix4 0 0 k (j 1)) := by
  pointwise [k0_pay1]

theorem first_at (x0 : Vec Ideal S1024x512 .bf16) (x1 : Vec Ideal S1x1x512x512 .bf16) (j) :
    k0_pay2 (F := Ideal) x0 x1 j = k0_pay1 (F := Ideal) x0 x1 j := by
  unfold k0_pay2; generalize k0_pay1 (F := Ideal) x0 x1 = p
  pointwise

theorem step_at (x0 : Vec Ideal S1024x512 .bf16) (x1 : Vec Ideal S1x1x512x512 .bf16) (acc : Vec Ideal S1024x512 .f32) (j) :
    k0_pay3 (F := Ideal) x0 x1 acc j = acc j + k0_pay1 (F := Ideal) x0 x1 j := by
  unfold k0_pay3; generalize k0_pay1 (F := Ideal) x0 x1 = p
  pointwise

theorem end_at (acc x : Vec Ideal S1024x512 .f32) (j) : k0_pay4 (F := Ideal) acc x j = x j + acc j := by
  pointwise [k0_pay4]

variable (m : (ℓ : Loc nD τ sig) → Buf (Elt Ideal) ℓ)

theorem idx : ∀ t : Fin cfg0.N, win0_0.index t = ![t.val / 16, t.val % 4] ∧ win0_1.index t = ![t.val % 4, 0, 0, t.val / 4 % 4]
    ∧ win0_2.index t = ![t.val / 16, t.val / 4 % 4] ∧ win0_3.index t = ![t.val / 16, t.val / 4 % 4] := (by decide +kernel : ∀ t : Fin grid0.N, _)

/-- The carried sum at the last shard: all 4 shares. -/
theorem acc_at (c : Dev nD) (t : Fin cfg0.N) (ht : t.val % 4 = 3) (y : S1024x512.Idx) :
    (outsAt0 m c t.val t.isLt).2 y
      = ∑ s : Fin 4, k0_pay1 (F := Ideal) (iblk m c 0 ⟨4 * (t.val / 4) + s.val, Pipeline.run_point_lt_of_flush t ht s⟩)
          (iblk m c 1 ⟨4 * (t.val / 4) + s.val, Pipeline.run_point_lt_of_flush t ht s⟩) y := by
  refine (Pipeline.eq_sum_fin_of_reset_step_apply_of_flush (fun n h => (outsAt0 m c n h).2) 4 (fun _ => (0 : EReal))
    (fun t y => k0_pay1 (F := Ideal) (iblk m c 0 t) (iblk m c 1 t) y) (fun t h y => ?_) (fun t h y => ?_) t ht y).trans (zero_add _)
  · rw [outsAt0_A m c t h (by omega) (by omega)]
    frame_out
    rw [first_at, zero_add]
  · by_cases h3 : t.val % 4 = 3
    · rw [outsAt0_C m c t h (by omega) h3]
      frame_out
      simp only [read_unread_whole]
      exact step_at _ _ _ _
    · rw [outsAt0_B m c t h (by omega) h3]
      frame_out
      simp only [read_unread_whole]
      exact step_at _ _ _ _

/-- The residual's block. -/
abbrev resid (c : Dev nD) (t : Fin cfg0.N) : Vec Ideal S1024x512 .f32 := iblk m c 2 t

/-- What the last shard writes back: the residual's block plus the carried sum. -/
theorem out_at (c : Dev nD) (t : Fin cfg0.N) (ht : t.val % 4 = 3) (y : S1024x512.Idx) :
    (outsAt0 m c t.val t.isLt).1 y = resid m c t y + (outsAt0 m c t.val t.isLt).2 y := by
  rw [outsAt0_C m c t (by omega) (by omega) ht]
  frame_out
  exact end_at _ _ _

/-- The block written back at the last shard. -/
theorem point (c : Dev nD) (t : Fin cfg0.N) (ht : t.val % 4 = 3) (y : S1024x512.Idx) (j : S8192x2048.Idx)
    (h0 : (j 0).val = t.val / 16 * 1024 + (y 0).val) (h1 : (j 1).val = t.val / 4 % 4 * 512 + (y 1).val) :
    (outsAt0 m c t.val t.isLt).1 y = want (m ((c : Thread nD τ).loc main_arg0)) (m ((c : Thread nD τ).loc main_arg1)) (m ((c : Thread nD τ).loc main_arg2)) j := by
  idx_vars y
  idx_vars j
  rw [out_at m c t ht, want_at, acc_at m c t ht]
  simp only [part_at]
  have e : resid m c t (ix2 y0 y1) = (m ((c : Thread nD τ).loc main_arg1) : FVec Ideal S8192x2048 .f32) (ix2 j0 j1) := by
    blk_point [resid, iblk, V, idx t]
  rw [e]
  refine congrArg (fun z : EReal => (_ : EReal) + z) (Fin.sum_mul_add_congr fun s k hl => ?_)
  blk_point [iblk, V, idx ⟨_, Pipeline.run_point_lt_of_flush t ht s⟩]

/-- The result's array after the run. -/
theorem final (c : Dev nD) : (dats m 0 c).arrAt 3 (cfgs 0).N
    = want (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  refine point m c t ((flush0_3 t).mp hf) y _ ?_ ?_ <;> (blk_simp [(idx t).2.2.2] <;> try omega)

end Cert.Ffn.Out0

end
-- ==== Proof.CallDcat0.lean ====
/- The gradient that goes back through a row-sharded projection: the kernel's array and the reference's term, entry by entry. -/
module

public import proofs.«01_k».proof.Proof.Gen.Dcat0Ideal.Value
public import proofs.«01_k».proof.Proof.Gen.Dcat0ReferenceIdeal.Run
public import Idealize.ShloMosaic.Lib.Pipeline.ValueKit
public import Idealize.ShloMosaic.Lib.Pipeline.ReadBack

@[expose] public section

set_option maxRecDepth 16384

noncomputable section

namespace Cert.Ffn.Dcat0

open Idealize.ShloMosaic Idealize.ShloMosaic.TcCoe Idealize.SL.Sem Idealize.ShloMosaic.Pointwise
open Cert.Dcat0Ideal Cert.Dcat0Ideal.Gen Dcat0ReferenceIdeal.Gen
open Dcat0ReferenceIdeal (S2048x2048)

/-- The weight's four shards one below the other. -/
abbrev cat (w : FVec Ideal S4x2x512x2048 .bf16) : FVec Ideal S2048x2048 .bf16 :=
  concatenate S2048x2048 0
    [⟨Dcat0ReferenceIdeal.S512x2048, shapeCast _ (extractStridedSlice Dcat0ReferenceIdeal.S1x1x512x2048 ![0, 0, 0, 0] w slices_S4x2x512x2048_S1x1x512x2048_0_0_0_0) Dcat0ReferenceIdeal.Gen.shapeCasts_S1x1x512x2048_S512x2048⟩,
     ⟨Dcat0ReferenceIdeal.S512x2048, shapeCast _ (extractStridedSlice Dcat0ReferenceIdeal.S1x1x512x2048 ![1, 0, 0, 0] w slices_S4x2x512x2048_S1x1x512x2048_1_0_0_0) Dcat0ReferenceIdeal.Gen.shapeCasts_S1x1x512x2048_S512x2048⟩,
     ⟨Dcat0ReferenceIdeal.S512x2048, shapeCast _ (extractStridedSlice Dcat0ReferenceIdeal.S1x1x512x2048 ![2, 0, 0, 0] w slices_S4x2x512x2048_S1x1x512x2048_2_0_0_0) Dcat0ReferenceIdeal.Gen.shapeCasts_S1x1x512x2048_S512x2048⟩,
     ⟨Dcat0ReferenceIdeal.S512x2048, shapeCast _ (extractStridedSlice Dcat0ReferenceIdeal.S1x1x512x2048 ![3, 0, 0, 0] w slices_S4x2x512x2048_S1x1x512x2048_3_0_0_0) Dcat0ReferenceIdeal.Gen.shapeCasts_S1x1x512x2048_S512x2048⟩]
    concatenates_S512x2048_S512x2048_S512x2048_S512x2048_S2048x2048_d0

/-- Row `n` of the whole weight is row `n mod 512` of shard `n / 512`. -/
theorem cat_at (w : FVec Ideal S4x2x512x2048 .bf16) (n : Fin 2048) (k : Fin 2048) :
    cat w (ix2 n k) = w (ix4 ⟨n.val / 512, by omega⟩ 0 ⟨n.val % 512, by omega⟩ k) := by
  pointwise [cat]
  have e : ∀ (a a' : Fin 4) (b b' : Fin 512), a.val = a'.val → b.val = b'.val → w (ix4 a 0 b k) = w (ix4 a' 0 b' k) :=
    fun a a' b b' ha hb => by rw [Fin.ext ha, Fin.ext hb]
  split_ifs <;> refine e _ _ _ _ ?_ ?_ <;> simp <;> omega

/-- The reference: the gradient times the weight transposed. -/
abbrev want (d : FVec Ideal S8192x2048 .f32) (w : FVec Ideal S4x2x512x2048 .bf16) : FVec Ideal S8192x2048 .f32 :=
  Host.dotGeneral Dcat0ReferenceIdeal.dot_S8192x2048_S2048x2048_S8192x2048_1_1_0_0_n_n none d (extf .f32 (cat w) Dcat0ReferenceIdeal.Gen.bitsLt_bf16_f32)

theorem want_at (d : FVec Ideal S8192x2048 .f32) (w : FVec Ideal S4x2x512x2048 .bf16) (r : Fin 8192) (n : Fin 2048) :
    want d w (ix2 r n) = ∑ k : Fin 2048, d (ix2 r k) * w (ix4 ⟨n.val / 512, by omega⟩ 0 ⟨n.val % 512, by omega⟩ k) := by
  simp only [← cat_at]
  unfold want; generalize cat w = v
  pointwise

variable (m : (ℓ : Loc nD τ sig) → Buf (Elt Ideal) ℓ)

theorem idx : ∀ t : Fin cfg0.N, win0_0.index t = ![t.val / 4, 0] ∧ win0_1.index t = ![t.val % 4, 0, 0, 0]
    ∧ win0_2.index t = ![t.val / 4, t.val % 4] := (by decide +kernel : ∀ t : Fin grid0.N, _)

/-- One block of the product. -/
theorem point (c : Dev nD) (t : Fin cfg0.N) (y : S512x512.Idx) (j : S8192x2048.Idx)
    (h0 : (j 0).val = t.val / 4 * 512 + (y 0).val) (h1 : (j 1).val = t.val % 4 * 512 + (y 1).val) :
    k0_pay1 (iblk m c 0 t) (iblk m c 1 t) y = want (m ((c : Thread nD τ).loc main_arg0)) (m ((c : Thread nD τ).loc main_arg1)) j := by
  idx_vars y
  idx_vars j
  rw [want_at]
  pointwise [k0_pay1]
  blk_point [iblk, V, (idx t).1, (idx t).2.1]

/-- The result's array after the run. -/
theorem final (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  blk_simp
  rw [after0_2]; frame_out
  refine point m c t y _ ?_ ?_ <;> (blk_simp [(idx t).2.2] <;> try omega)

end Cert.Ffn.Dcat0

end
-- ==== Proof.CallDhsb0.lean ====
/- The gradient that goes back through the projection into a stick-breaking layer: the kernel's array and the reference's term, entry by entry. -/
module

public import proofs.«01_k».proof.Proof.Gen.Dhsb0Ideal.Value
public import proofs.«01_k».proof.Proof.Gen.Dhsb0ReferenceIdeal.Run
public import Idealize.ShloMosaic.Lib.Pipeline.ValueKit
public import Idealize.ShloMosaic.Lib.Pipeline.ReadBack

@[expose] public section

set_option maxRecDepth 16384

noncomputable section

namespace Cert.Ffn.Dhsb0

open Idealize.ShloMosaic Idealize.ShloMosaic.TcCoe Idealize.SL.Sem Idealize.ShloMosaic.Pointwise
open Cert.Dhsb0Ideal Cert.Dhsb0Ideal.Gen Dhsb0ReferenceIdeal.Gen
open Dhsb0ReferenceIdeal (S2048x5120)

/-- The weight's four shards side by side. -/
abbrev cat (w : FVec Ideal S4x2x2048x1280 .bf16) : FVec Ideal S2048x5120 .bf16 :=
  concatenate S2048x5120 1
    [⟨Dhsb0ReferenceIdeal.S2048x1280, shapeCast _ (extractStridedSlice Dhsb0ReferenceIdeal.S1x1x2048x1280 ![0, 0, 0, 0] w slices_S4x2x2048x1280_S1x1x2048x1280_0_0_0_0) Dhsb0ReferenceIdeal.Gen.shapeCasts_S1x1x2048x1280_S2048x1280⟩,
     ⟨Dhsb0ReferenceIdeal.S2048x1280, shapeCast _ (extractStridedSlice Dhsb0ReferenceIdeal.S1x1x2048x1280 ![1, 0, 0, 0] w slices_S4x2x2048x1280_S1x1x2048x1280_1_0_0_0) Dhsb0ReferenceIdeal.Gen.shapeCasts_S1x1x2048x1280_S2048x1280⟩,
     ⟨Dhsb0ReferenceIdeal.S2048x1280, shapeCast _ (extractStridedSlice Dhsb0ReferenceIdeal.S1x1x2048x1280 ![2, 0, 0, 0] w slices_S4x2x2048x1280_S1x1x2048x1280_2_0_0_0) Dhsb0ReferenceIdeal.Gen.shapeCasts_S1x1x2048x1280_S2048x1280⟩,
     ⟨Dhsb0ReferenceIdeal.S2048x1280, shapeCast _ (extractStridedSlice Dhsb0ReferenceIdeal.S1x1x2048x1280 ![3, 0, 0, 0] w slices_S4x2x2048x1280_S1x1x2048x1280_3_0_0_0) Dhsb0ReferenceIdeal.Gen.shapeCasts_S1x1x2048x1280_S2048x1280⟩]
    concatenates_S2048x1280_S2048x1280_S2048x1280_S2048x1280_S2048x5120_d1

/-- Column `n` of the whole weight is column `n mod 1280` of shard `n / 1280`. -/
theorem cat_at (w : FVec Ideal S4x2x2048x1280 .bf16) (k : Fin 2048) (n : Fin 5120) :
    cat w (ix2 k n) = w (ix4 ⟨n.val / 1280, by omega⟩ 0 k ⟨n.val % 1280, by omega⟩) := by
  pointwise [cat]
  have e : ∀ (a a' : Fin 4) (b b' : Fin 1280), a.val = a'.val → b.val = b'.val → w (ix4 a 0 k b) = w (ix4 a' 0 k b') :=
    fun a a' b b' ha hb => by rw [Fin.ext ha, Fin.ext hb]
  split_ifs <;> refine e _ _ _ _ ?_ ?_ <;> simp <;> omega

/-- The reference: the gradient times the weight transposed. -/
abbrev want (d : FVec Ideal S8192x5120 .f32) (w : FVec Ideal S4x2x2048x1280 .bf16) : FVec Ideal S8192x2048 .f32 :=
  Host.dotGeneral Dhsb0ReferenceIdeal.dot_S8192x5120_S2048x5120_S8192x2048_1_1_0_0_n_n none d (extf .f32 (cat w) Dhsb0ReferenceIdeal.Gen.bitsLt_bf16_f32)

theorem want_at (d : FVec Ideal S8192x5120 .f32) (w : FVec Ideal S4x2x2048x1280 .bf16) (r : Fin 8192) (q : Fin 2048) :
    want d w (ix2 r q) = ∑ n : Fin 5120, d (ix2 r n) * w (ix4 ⟨n.val / 1280, by omega⟩ 0 q ⟨n.val % 1280, by omega⟩) := by
  simp only [← cat_at]
  unfold want; generalize cat w = v
  pointwise

/-- One shard's share: a product of the two blocks. -/
theorem part_at (x0 : Vec Ideal S512x1280 .bf16) (x1 : Vec Ideal S1x1x2048x1280 .bf16) (j) :
    k0_pay1 (F := Ideal) x0 x1 j = ∑ k : Fin 1280, x0 (ix2 (j 0) k) * x1 (ix4 0 0 (j 1) k) := by
  pointwise [k0_pay1]

theorem first_at (x0 : Vec Ideal S512x1280 .bf16) (x1 : Vec Ideal S1x1x2048x1280 .bf16) (j) :
    k0_pay2 (F := Ideal) x0 x1 j = k0_pay1 (F := Ideal) x0 x1 j := by
  unfold k0_pay2; generalize k0_pay1 (F := Ideal) x0 x1 = p
  pointwise

theorem step_at (x0 : Vec Ideal S512x1280 .bf16) (x1 : Vec Ideal S1x1x2048x1280 .bf16) (acc : Vec Ideal S512x2048 .f32) (j) :
    k0_pay3 (F := Ideal) x0 x1 acc j = acc j + k0_pay1 (F := Ideal) x0 x1 j := by
  unfold k0_pay3; generalize k0_pay1 (F := Ideal) x0 x1 = p
  pointwise

variable (m : (ℓ : Loc nD τ sig) → Buf (Elt Ideal) ℓ)

theorem idx : ∀ t : Fin cfg0.N, win0_0.index t = ![t.val / 4, t.val % 4] ∧ win0_1.index t = ![t.val % 4, 0, 0, 0]
    ∧ win0_2.index t = ![t.val / 4, 0] := (by decide +kernel : ∀ t : Fin grid0.N, _)

/-- The carried sum at the last shard: all 4 shares. -/
theorem acc_at (c : Dev nD) (t : Fin cfg0.N) (ht : t.val % 4 = 3) (y : S512x2048.Idx) :
    (outsAt0 m c t.val t.isLt).2 y
      = ∑ s : Fin 4, k0_pay1 (F := Ideal) (iblk m c 0 ⟨4 * (t.val / 4) + s.val, Pipeline.run_point_lt_of_flush t ht s⟩)
          (iblk m c 1 ⟨4 * (t.val / 4) + s.val, Pipeline.run_point_lt_of_flush t ht s⟩) y := by
  refine (Pipeline.eq_sum_fin_of_reset_step_apply_of_flush (fun n h => (outsAt0 m c n h).2) 4 (fun _ => (0 : EReal))
    (fun t y => k0_pay1 (F := Ideal) (iblk m c 0 t) (iblk m c 1 t) y) (fun t h y => ?_) (fun t h y => ?_) t ht y).trans (zero_add _)
  · rw [outsAt0_A m c t h (by omega) (by omega)]
    frame_out
    rw [first_at, zero_add]
  · by_cases h3 : t.val % 4 = 3
    · rw [outsAt0_C m c t h (by omega) h3]
      frame_out
      simp only [read_unread_whole]
      exact step_at _ _ _ _
    · rw [outsAt0_B m c t h (by omega) h3]
      frame_out
      simp only [read_unread_whole]
      exact step_at _ _ _ _

/-- What the last shard writes back: the carried sum. -/
theorem out_at (c : Dev nD) (t : Fin cfg0.N) (ht : t.val % 4 = 3) (y : S512x2048.Idx) :
    (outsAt0 m c t.val t.isLt).1 y = (outsAt0 m c t.val t.isLt).2 y := by
  rw [outsAt0_C m c t (by omega) (by omega) ht]
  frame_out

/-- The block written back at the last shard. -/
theorem point (c : Dev nD) (t : Fin cfg0.N) (ht : t.val % 4 = 3) (y : S512x2048.Idx) (j : S8192x2048.Idx)
    (h0 : (j 0).val = t.val / 4 * 512 + (y 0).val) (h1 : (j 1).val = (y 1).val) :
    (outsAt0 m c t.val t.isLt).1 y = want (m ((c : Thread nD τ).loc main_arg0)) (m ((c : Thread nD τ).loc main_arg1)) j := by
  idx_vars y
  idx_vars j
  rw [out_at m c t ht, want_at, acc_at m c t ht]
  simp only [part_at]
  refine Fin.sum_mul_add_congr fun s k hl => ?_
  blk_point [iblk, V, idx ⟨_, Pipeline.run_point_lt_of_flush t ht s⟩]

/-- The result's array after the run. -/
theorem final (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  blk_simp
  rw [after0_2]
  refine point m c t ((flush0_2 t).mp hf) y _ ?_ ?_ <;> (blk_simp [(idx t).2.2] <;> try omega)

end Cert.Ffn.Dhsb0

end
-- ==== Proof.CallDwin.lean ====
/- The weight gradient of the projection into a stick-breaking layer: the kernel's array and the reference's term, entry by entry. -/
module

public import proofs.«01_k».proof.Proof.Gen.DwinIdeal.Value
public import proofs.«01_k».proof.Proof.Gen.DwinReferenceIdeal.Run
public import Idealize.ShloMosaic.Lib.Pipeline.ValueKit
public import Idealize.ShloMosaic.Lib.Pipeline.ReadBack

@[expose] public section

set_option maxRecDepth 16384

noncomputable section

namespace Cert.Ffn.Dwin

open Idealize.ShloMosaic Idealize.ShloMosaic.TcCoe Idealize.SL.Sem Idealize.ShloMosaic.Pointwise
open Cert.DwinIdeal Cert.DwinIdeal.Gen DwinReferenceIdeal.Gen
open DwinReferenceIdeal (S2048x5120 S1x2048x1280 S2048x1280)

/-- The whole weight's gradient. -/
abbrev whole (h : FVec Ideal S8192x2048 .bf16) (d : FVec Ideal S8192x5120 .f32) : FVec Ideal S2048x5120 .f32 :=
  transpose S2048x5120 [1, 0] (Host.dotGeneral DwinReferenceIdeal.dot_S8192x5120_S8192x2048_S5120x2048_0_0_1_1_n_n none d
    (extf .f32 h DwinReferenceIdeal.Gen.bitsLt_bf16_f32)) transposes_S5120x2048_S2048x5120_1_0

theorem whole_at (h : FVec Ideal S8192x2048 .bf16) (d : FVec Ideal S8192x5120 .f32) (r : Fin 2048) (n : Fin 5120) :
    whole h d (ix2 r n) = ∑ k : Fin 8192, h (ix2 k r) * d (ix2 k n) := by
  have e : whole h d (ix2 r n) = ∑ k : Fin 8192, d (ix2 k n) * h (ix2 k r) := by
    pointwise [whole]
  rw [e]
  exact Finset.sum_congr rfl fun k _ => mul_comm _ _

/-- The reference: the gradient cut into its four shards. -/
abbrev want (h : FVec Ideal S8192x2048 .bf16) (d : FVec Ideal S8192x5120 .f32) : FVec Ideal S4x2048x1280 .f32 :=
  concatenate S4x2048x1280 0
    [⟨S1x2048x1280, broadcastInDim S1x2048x1280 ![1, 2] bcast_S2048x1280_S1x2048x1280_1_2 (extractStridedSlice S2048x1280 ![0, 0] (whole h d) slices_S2048x5120_S2048x1280_0_0)⟩,
     ⟨S1x2048x1280, broadcastInDim S1x2048x1280 ![1, 2] bcast_S2048x1280_S1x2048x1280_1_2 (extractStridedSlice S2048x1280 ![0, 1280] (whole h d) slices_S2048x5120_S2048x1280_0_1280)⟩,
     ⟨S1x2048x1280, broadcastInDim S1x2048x1280 ![1, 2] bcast_S2048x1280_S1x2048x1280_1_2 (extractStridedSlice S2048x1280 ![0, 2560] (whole h d) slices_S2048x5120_S2048x1280_0_2560)⟩,
     ⟨S1x2048x1280, broadcastInDim S1x2048x1280 ![1, 2] bcast_S2048x1280_S1x2048x1280_1_2 (extractStridedSlice S2048x1280 ![0, 3840] (whole h d) slices_S2048x5120_S2048x1280_0_3840)⟩]
    concatenates_S1x2048x1280_S1x2048x1280_S1x2048x1280_S1x2048x1280_S4x2048x1280_d0

theorem want_at (h : FVec Ideal S8192x2048 .bf16) (d : FVec Ideal S8192x5120 .f32) (s : Fin 4) (r : Fin 2048) (n : Fin 1280) :
    want h d (ix3 s r n) = ∑ k : Fin 8192, h (ix2 k r) * d (ix2 k ⟨s.val * 1280 + n.val, by omega⟩) := by
  have e : want h d (ix3 s r n) = whole h d (ix2 r ⟨s.val * 1280 + n.val, by omega⟩) := by
    unfold want; generalize whole h d = x
    match s with
    | 0 => pointwise
    | 1 => pointwise
    | 2 => pointwise
    | 3 => pointwise
  rw [e, whole_at]

/-- One block of tokens' share: a product of the two blocks. -/
theorem part_at (x0 : Vec Ideal S1024x512 .bf16) (x1 : Vec Ideal S1024x1280 .bf16) (j) :
    k0_pay1 (F := Ideal) x0 x1 j = ∑ k : Fin 1024, x0 (ix2 k (j 0)) * x1 (ix2 k (j 1)) := by
  pointwise [k0_pay1]

theorem first_at (x0 : Vec Ideal S1024x512 .bf16) (x1 : Vec Ideal S1024x1280 .bf16) (j) :
    k0_pay2 (F := Ideal) x0 x1 j = k0_pay1 (F := Ideal) x0 x1 j := by
  unfold k0_pay2; generalize k0_pay1 (F := Ideal) x0 x1 = p
  pointwise

theorem step_at (x0 : Vec Ideal S1024x512 .bf16) (x1 : Vec Ideal S1024x1280 .bf16) (acc : Vec Ideal S512x1280 .f32) (j) :
    k0_pay3 (F := Ideal) x0 x1 acc j = acc j + k0_pay1 (F := Ideal) x0 x1 j := by
  unfold k0_pay3; generalize k0_pay1 (F := Ideal) x0 x1 = p
  pointwise

variable (m : (ℓ : Loc nD τ sig) → Buf (Elt Ideal) ℓ)

theorem idx : ∀ t : Fin cfg0.N, win0_0.index t = ![t.val % 8, t.val / 32] ∧ win0_1.index t = ![t.val % 8, t.val / 8 % 4]
    ∧ win0_2.index t = ![t.val / 8 % 4, t.val / 32, 0] := (by decide +kernel : ∀ t : Fin grid0.N, _)

/-- The carried sum at the last block of tokens: all 8 shares. -/
theorem acc_at (c : Dev nD) (t : Fin cfg0.N) (ht : t.val % 8 = 7) (y : S512x1280.Idx) :
    (outsAt0 m c t.val t.isLt).2 y
      = ∑ s : Fin 8, k0_pay1 (F := Ideal) (iblk m c 0 ⟨8 * (t.val / 8) + s.val, Pipeline.run_point_lt_of_flush t ht s⟩)
          (iblk m c 1 ⟨8 * (t.val / 8) + s.val, Pipeline.run_point_lt_of_flush t ht s⟩) y := by
  refine (Pipeline.eq_sum_fin_of_reset_step_apply_of_flush (fun n h => (outsAt0 m c n h).2) 8 (fun _ => (0 : EReal))
    (fun t y => k0_pay1 (F := Ideal) (iblk m c 0 t) (iblk m c 1 t) y) (fun t h y => ?_) (fun t h y => ?_) t ht y).trans (zero_add _)
  · rw [outsAt0_A m c t h (by omega) (by omega)]
    frame_out
    rw [first_at, zero_add]
  · by_cases h3 : t.val % 8 = 7
    · rw [outsAt0_C m c t h (by omega) h3]
      frame_out
      simp only [read_unread_whole]
      exact step_at _ _ _ _
    · rw [outsAt0_B m c t h (by omega) h3]
      frame_out
      simp only [read_unread_whole]
      exact step_at _ _ _ _

/-- What the last block of tokens writes back: the carried sum. -/
theorem out_at (c : Dev nD) (t : Fin cfg0.N) (ht : t.val % 8 = 7) (y : S1x512x1280.Idx) :
    (outsAt0 m c t.val t.isLt).1 y = (outsAt0 m c t.val t.isLt).2 (ix2 (y 1) (y 2)) := by
  rw [outsAt0_C m c t (by omega) (by omega) ht]
  frame_out
  pointwise [k0_pay4]

/-- The block written back at the last block of tokens. -/
theorem point (c : Dev nD) (t : Fin cfg0.N) (ht : t.val % 8 = 7) (y : S1x512x1280.Idx) (j : S4x2048x1280.Idx)
    (h0 : (j 0).val = t.val / 8 % 4) (h1 : (j 1).val = t.val / 32 * 512 + (y 1).val) (h2 : (j 2).val = (y 2).val) :
    (outsAt0 m c t.val t.isLt).1 y = want (m ((c : Thread nD τ).loc main_arg0)) (m ((c : Thread nD τ).loc main_arg1)) j := by
  idx_vars y
  idx_vars j
  rw [out_at m c t ht, want_at, acc_at m c t ht]
  simp only [part_at]
  refine Fin.sum_mul_add_congr fun s k hl => ?_
  blk_point [iblk, V, idx ⟨_, Pipeline.run_point_lt_of_flush t ht s⟩]

/-- The result's array after the run. -/
theorem final (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  blk_simp
  rw [after0_2]
  refine point m c t ((flush0_2 t).mp hf) y _ ?_ ?_ ?_ <;> (blk_simp [(idx t).2.2] <;> try omega)

end Cert.Ffn.Dwin

end
-- ==== Proof.CallDwout.lean ====
/- The weight gradient of a row-sharded projection: the kernel's array and the reference's term, entry by entry. -/
module

public import proofs.«01_k».proof.Proof.Gen.DwoutIdeal.Value
public import proofs.«01_k».proof.Proof.Gen.DwoutReferenceIdeal.Run
public import Idealize.ShloMosaic.Lib.Pipeline.ValueKit
public import Idealize.ShloMosaic.Lib.Pipeline.ReadBack

@[expose] public section

set_option maxRecDepth 16384

noncomputable section

namespace Cert.Ffn.Dwout

open Idealize.ShloMosaic Idealize.ShloMosaic.TcCoe Idealize.SL.Sem Idealize.ShloMosaic.Pointwise
open Cert.DwoutIdeal Cert.DwoutIdeal.Gen DwoutReferenceIdeal.Gen

/-- The reference: the output's gradient against the input, transposed. -/
abbrev want (a : FVec Ideal S8192x2048 .bf16) (d : FVec Ideal S8192x2048 .f32) : FVec Ideal S2048x2048 .f32 :=
  transpose S2048x2048 [1, 0]
    (Host.dotGeneral DwoutReferenceIdeal.dot_S8192x2048_S8192x2048_S2048x2048_0_0_1_1_n_n none d (extf .f32 a DwoutReferenceIdeal.Gen.bitsLt_bf16_f32))
    transposes_S2048x2048_S2048x2048_1_0

theorem want_at (a : FVec Ideal S8192x2048 .bf16) (d : FVec Ideal S8192x2048 .f32) (r n : Fin 2048) :
    want a d (ix2 r n) = ∑ k : Fin 8192, a (ix2 k r) * d (ix2 k n) := by
  have e : want a d (ix2 r n) = ∑ k : Fin 8192, d (ix2 k n) * a (ix2 k r) := by
    pointwise [want]
  rw [e]
  exact Finset.sum_congr rfl fun k _ => mul_comm _ _

/-- One block of tokens' share: a product of the two blocks. -/
theorem part_at (x0 : Vec Ideal S1024x512 .bf16) (x1 : Vec Ideal S1024x2048 .bf16) (j) :
    k0_pay1 (F := Ideal) x0 x1 j = ∑ k : Fin 1024, x0 (ix2 k (j 0)) * x1 (ix2 k (j 1)) := by
  pointwise [k0_pay1]

theorem first_at (x0 : Vec Ideal S1024x512 .bf16) (x1 : Vec Ideal S1024x2048 .bf16) (j) :
    k0_pay2 (F := Ideal) x0 x1 j = k0_pay1 (F := Ideal) x0 x1 j := by
  unfold k0_pay2; generalize k0_pay1 (F := Ideal) x0 x1 = p
  pointwise

theorem step_at (x0 : Vec Ideal S1024x512 .bf16) (x1 : Vec Ideal S1024x2048 .bf16) (acc : Vec Ideal S512x2048 .f32) (j) :
    k0_pay3 (F := Ideal) x0 x1 acc j = acc j + k0_pay1 (F := Ideal) x0 x1 j := by
  unfold k0_pay3; generalize k0_pay1 (F := Ideal) x0 x1 = p
  pointwise

variable (m : (ℓ : Loc nD τ sig) → Buf (Elt Ideal) ℓ)

theorem idx : ∀ t : Fin cfg0.N, win0_0.index t = ![t.val % 8, t.val / 8] ∧ win0_1.index t = ![t.val % 8, 0]
    ∧ win0_2.index t = ![t.val / 8, 0] := (by decide +kernel : ∀ t : Fin grid0.N, _)

/-- The carried sum at the last block of tokens: all 8 shares. -/
theorem acc_at (c : Dev nD) (t : Fin cfg0.N) (ht : t.val % 8 = 7) (y : S512x2048.Idx) :
    (outsAt0 m c t.val t.isLt).2 y
      = ∑ s : Fin 8, k0_pay1 (F := Ideal) (iblk m c 0 ⟨8 * (t.val / 8) + s.val, Pipeline.run_point_lt_of_flush t ht s⟩)
          (iblk m c 1 ⟨8 * (t.val / 8) + s.val, Pipeline.run_point_lt_of_flush t ht s⟩) y := by
  refine (Pipeline.eq_sum_fin_of_reset_step_apply_of_flush (fun n h => (outsAt0 m c n h).2) 8 (fun _ => (0 : EReal))
    (fun t y => k0_pay1 (F := Ideal) (iblk m c 0 t) (iblk m c 1 t) y) (fun t h y => ?_) (fun t h y => ?_) t ht y).trans (zero_add _)
  · rw [outsAt0_A m c t h (by omega) (by omega)]
    frame_out
    rw [first_at, zero_add]
  · by_cases h3 : t.val % 8 = 7
    · rw [outsAt0_C m c t h (by omega) h3]
      frame_out
      simp only [read_unread_whole]
      exact step_at _ _ _ _
    · rw [outsAt0_B m c t h (by omega) h3]
      frame_out
      simp only [read_unread_whole]
      exact step_at _ _ _ _

/-- What the last block of tokens writes back: the carried sum. -/
theorem out_at (c : Dev nD) (t : Fin cfg0.N) (ht : t.val % 8 = 7) (y : S512x2048.Idx) :
    (outsAt0 m c t.val t.isLt).1 y = (outsAt0 m c t.val t.isLt).2 y := by
  rw [outsAt0_C m c t (by omega) (by omega) ht]
  frame_out

/-- The block written back at the last block of tokens. -/
theorem point (c : Dev nD) (t : Fin cfg0.N) (ht : t.val % 8 = 7) (y : S512x2048.Idx) (j : S2048x2048.Idx)
    (h0 : (j 0).val = t.val / 8 * 512 + (y 0).val) (h1 : (j 1).val = (y 1).val) :
    (outsAt0 m c t.val t.isLt).1 y = want (m ((c : Thread nD τ).loc main_arg0)) (m ((c : Thread nD τ).loc main_arg1)) j := by
  idx_vars y
  idx_vars j
  rw [out_at m c t ht, want_at, acc_at m c t ht]
  simp only [part_at]
  refine Fin.sum_mul_add_congr fun s k hl => ?_
  blk_point [iblk, V, idx ⟨_, Pipeline.run_point_lt_of_flush t ht s⟩]

/-- The result's array after the run. -/
theorem final (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  blk_simp
  rw [after0_2]
  refine point m c t ((flush0_2 t).mp hf) y _ ?_ ?_ <;> (blk_simp [(idx t).2.2] <;> try omega)

end Cert.Ffn.Dwout

end
-- ==== Proof.CallDgate.lean ====
/- The gated linear unit's backward, its elementwise part: the kernel's blocks and the reference's two gradients, entry by entry. -/
module

public import proofs.«01_k».proof.Proof.Gen.DgateIdeal.Value
public import proofs.«01_k».proof.Proof.Gen.DgateReferenceIdeal.Run
public import Idealize.ShloMosaic.Lib.Pipeline.ValueKit
public import Idealize.ShloMosaic.Lib.Pipeline.ReadBack

@[expose] public section

set_option maxRecDepth 16384

noncomputable section

namespace Cert.Ffn.Dgate

open Idealize.ShloMosaic Idealize.ShloMosaic.TcCoe Idealize.SL.Sem Idealize.ShloMosaic.Pointwise
open Cert.DgateIdeal Cert.DgateIdeal.Gen DgateReferenceIdeal.Gen

abbrev ones : FVec Ideal S8192x1536 .f32 :=
  broadcastInDim S8192x1536 ![] bcast_S_S8192x1536 (constant DgateReferenceIdeal.S_ .f32 0x3F800000#32)

/-- The logistic function, as the reference spells it, and the gradient's columns it takes. -/
abbrev sig' (gl : FVec Ideal S8192x1536 .f32) : FVec Ideal S8192x1536 .f32 :=
  Host.divf ones (addf ones (Host.exp (Host.negf gl)))
abbrev cols (dcat : FVec Ideal S8192x2048 .f32) : FVec Ideal S8192x1536 .f32 :=
  extractStridedSlice S8192x1536 ![0, 0] dcat slices_S8192x2048_S8192x1536_0_0

/-- The reference's two results: the gate's gradient and the gated rows'. -/
abbrev wantGl (dcat : FVec Ideal S8192x2048 .f32) (y2 gl : FVec Ideal S8192x1536 .f32) : FVec Ideal S8192x1536 .bf16 :=
  truncf .bf16 (mulf (mulf y2 (cols dcat)) (mulf (sig' gl) (subf ones (sig' gl)))) DgateReferenceIdeal.Gen.bitsLt_bf16_f32
abbrev wantY (dcat : FVec Ideal S8192x2048 .f32) (y2 gl : FVec Ideal S8192x1536 .f32) : FVec Ideal S8192x1536 .f32 := mulf (cols dcat) (sig' gl)

theorem wantGl_at (dcat : FVec Ideal S8192x2048 .f32) (y2 gl : FVec Ideal S8192x1536 .f32) (r : Fin 8192) (q : Fin 1536) :
    wantGl dcat y2 gl (ix2 r q) = dcat (ix2 r ⟨q.val, by omega⟩) * y2 (ix2 r q) * Ideal.logistic (gl (ix2 r q))
      * (Ideal.ofBits .f32 0x3F800000#32 - Ideal.logistic (gl (ix2 r q))) := by
  have e : wantGl dcat y2 gl (ix2 r q) = y2 (ix2 r q) * dcat (ix2 r ⟨q.val, by omega⟩) * (Ideal.logistic (gl (ix2 r q))
      * (Ideal.ofBits .f32 0x3F800000#32 - Ideal.logistic (gl (ix2 r q)))) := by
    pointwise [wantGl, ones]
    rfl
  rw [e, mul_comm (y2 _), ← mul_assoc]

theorem wantY_at (dcat : FVec Ideal S8192x2048 .f32) (y2 gl : FVec Ideal S8192x1536 .f32) (r : Fin 8192) (q : Fin 1536) :
    wantY dcat y2 gl (ix2 r q) = dcat (ix2 r ⟨q.val, by omega⟩) * Ideal.logistic (gl (ix2 r q)) := by
  pointwise [wantY, ones]
  rfl

theorem gl_pay (x0 x2 x3 : Vec Ideal S512x1536 .f32) (j) :
    k0_pay2 (F := Ideal) x0 x2 x3 j = x2 j * x3 j * Ideal.logistic (x0 j) * (Ideal.ofBits .f32 0x3F800000#32 - Ideal.logistic (x0 j)) := by
  pointwise [k0_pay2, k0_pay1]

theorem y_pay (x0 x2 : Vec Ideal S512x1536 .f32) (j) : k0_pay3 (F := Ideal) x0 x2 j = x2 j * Ideal.logistic (x0 j) := by
  pointwise [k0_pay3, k0_pay1]

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] := (by decide +kernel : ∀ t : Fin grid0.N, _)

/-- The blocks a grid point reads. -/
abbrev dt (c : Dev nD) (t : Fin cfg0.N) : Vec Ideal S512x1536 .f32 := X0_0 m c t
abbrev yb (c : Dev nD) (t : Fin cfg0.N) : Vec Ideal S512x1536 .f32 := iblk m c 1 t
abbrev gb (c : Dev nD) (t : Fin cfg0.N) : Vec Ideal S512x1536 .f32 := iblk m c 2 t

theorem dt_at (c : Dev nD) (t : Fin cfg0.N) (a : Fin 512) (b : Fin 1536) (r : Fin 8192) (n : Fin 2048)
    (hr : r.val = t.val * 512 + a.val) (hn : n.val = b.val) :
    dt m c t (ix2 a b) = (m ((c : Thread nD τ).loc main_arg0) : FVec Ideal S8192x2048 .f32) (ix2 r n) := by
  unfold dt X0_0 Pipeline.Window.fill
  rw [dif_pos (moved0_0 t _)]
  blk_point [iblk, V, (idx t).1]

theorem yb_at (c : Dev nD) (t : Fin cfg0.N) (a : Fin 512) (b : Fin 1536) (r : Fin 8192) (hr : r.val = t.val * 512 + a.val) :
    yb m c t (ix2 a b) = (m ((c : Thread nD τ).loc main_arg1) : FVec Ideal S8192x1536 .f32) (ix2 r b) := by
  blk_point [yb, iblk, V, (idx t).2.1]

theorem gb_at (c : Dev nD) (t : Fin cfg0.N) (a : Fin 512) (b : Fin 1536) (r : Fin 8192) (hr : r.val = t.val * 512 + a.val) :
    gb m c t (ix2 a b) = (m ((c : Thread nD τ).loc main_arg2) : FVec Ideal S8192x1536 .f32) (ix2 r b) := by
  blk_point [gb, iblk, V, (idx t).2.2.1]

theorem gl_blk (c : Dev nD) (t : Fin cfg0.N) (y : S512x1536.Idx) (j : S8192x1536.Idx)
    (h0 : (j 0).val = t.val * 512 + (y 0).val) (h1 : (j 1).val = (y 1).val) :
    (outsAt0 m c t).1 y = wantGl (m ((c : Thread nD τ).loc main_arg0)) (m ((c : Thread nD τ).loc main_arg1)) (m ((c : Thread nD τ).loc main_arg2)) j := by
  idx_vars y
  idx_vars j
  obtain rfl : j1 = y1 := Fin.ext h1
  rw [wantGl_at, ← dt_at m c t y0 j1 j0 ⟨j1.val, lt_trans j1.isLt (by decide)⟩ h0 rfl, ← yb_at m c t y0 j1 j0 h0, ← gb_at m c t y0 j1 j0 h0]
  unfold outsAt0
  frame_out
  exact gl_pay _ _ _ _

theorem y_blk (c : Dev nD) (t : Fin cfg0.N) (y : S512x1536.Idx) (j : S8192x1536.Idx)
    (h0 : (j 0).val = t.val * 512 + (y 0).val) (h1 : (j 1).val = (y 1).val) :
    (outsAt0 m c t).2 y = wantY (m ((c : Thread nD τ).loc main_arg0)) (m ((c : Thread nD τ).loc main_arg1)) (m ((c : Thread nD τ).loc main_arg2)) j := by
  idx_vars y
  idx_vars j
  obtain rfl : j1 = y1 := Fin.ext h1
  rw [wantY_at, ← dt_at m c t y0 j1 j0 ⟨j1.val, lt_trans j1.isLt (by decide)⟩ h0 rfl, ← gb_at m c t y0 j1 j0 h0]
  unfold outsAt0
  frame_out
  exact y_pay _ _ _

/-- The two gradients' arrays after the run. -/
theorem finalGl (c : Dev nD) : (dats m 0 c).arrAt 3 (cfgs 0).N = wantGl (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  refine gl_blk m c t y _ ?_ ?_ <;> (blk_simp [(idx t).2.2.2.1] <;> try omega)

theorem finalY (c : Dev nD) : (dats m 0 c).arrAt 4 (cfgs 0).N = wantY (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  refine y_blk m c t y _ ?_ ?_ <;> (blk_simp [(idx t).2.2.2.2] <;> try omega)

end Cert.Ffn.Dgate

end
-- ==== Proof.CallDwglu.lean ====
/- The gradient of the gated linear unit's weight: the kernel's blocks and the reference's product, entry by entry. -/
module

public import proofs.«01_k».proof.Proof.Gen.DwgluIdeal.Value
public import proofs.«01_k».proof.Proof.Gen.DwgluReferenceIdeal.Run
public import Idealize.ShloMosaic.Lib.Pipeline.ValueKit
public import Idealize.ShloMosaic.Lib.Pipeline.ReadBack

@[expose] public section

set_option maxRecDepth 16384

noncomputable section

namespace Cert.Ffn.Dwglu

open Idealize.ShloMosaic Idealize.ShloMosaic.TcCoe Idealize.SL.Sem Idealize.ShloMosaic.Pointwise
open Cert.DwgluIdeal Cert.DwgluIdeal.Gen DwgluReferenceIdeal.Gen

/-- The reference: the gate's gradient against the products' left factor, transposed. -/
abbrev want (y2 : FVec Ideal S8192x1536 .f32) (dgl : FVec Ideal S8192x1536 .bf16) : FVec Ideal S1536x1536 .f32 :=
  transpose S1536x1536 [1, 0]
    (Host.dotGeneral DwgluReferenceIdeal.dot_S8192x1536_S8192x1536_S1536x1536_0_0_1_1_n_n none
      (extf .f32 dgl DwgluReferenceIdeal.Gen.bitsLt_bf16_f32) y2)
    transposes_S1536x1536_S1536x1536_1_0

theorem want_at (y2 : FVec Ideal S8192x1536 .f32) (dgl : FVec Ideal S8192x1536 .bf16) (r n : Fin 1536) :
    want y2 dgl (ix2 r n) = ∑ k : Fin 8192, y2 (ix2 k r) * dgl (ix2 k n) := by
  have e : want y2 dgl (ix2 r n) = ∑ k : Fin 8192, dgl (ix2 k n) * y2 (ix2 k r) := by
    pointwise [want]
  rw [e]
  exact Finset.sum_congr rfl fun k _ => mul_comm _ _

/-- One block of tokens' share: a product of the activations' and the gradient's blocks. -/
theorem part_at (x0 : Vec Ideal S1024x512 .f32) (x1 : Vec Ideal S1024x1536 .bf16) (j) :
    k0_pay1 (F := Ideal) x0 x1 j = ∑ k : Fin 1024, x0 (ix2 k (j 0)) * x1 (ix2 k (j 1)) := by
  pointwise [k0_pay1]

theorem first_at (x0 : Vec Ideal S1024x512 .f32) (x1 : Vec Ideal S1024x1536 .bf16) (j) :
    k0_pay2 (F := Ideal) x0 x1 j = k0_pay1 (F := Ideal) x0 x1 j := by
  unfold k0_pay2; generalize k0_pay1 (F := Ideal) x0 x1 = p
  pointwise

theorem step_at (x0 : Vec Ideal S1024x512 .f32) (x1 : Vec Ideal S1024x1536 .bf16) (acc : Vec Ideal S512x1536 .f32) (j) :
    k0_pay3 (F := Ideal) x0 x1 acc j = acc j + k0_pay1 (F := Ideal) x0 x1 j := by
  unfold k0_pay3; generalize k0_pay1 (F := Ideal) x0 x1 = p
  pointwise

variable (m : (ℓ : Loc nD τ sig) → Buf (Elt Ideal) ℓ)

theorem idx : ∀ t : Fin cfg0.N, win0_0.index t = ![t.val % 8, t.val / 8] ∧ win0_1.index t = ![t.val % 8, 0]
    ∧ win0_2.index t = ![t.val / 8, 0] := (by decide +kernel : ∀ t : Fin grid0.N, _)

/-- The carried sum at the last block of tokens: all the blocks' shares. -/
theorem acc_at (c : Dev nD) (t : Fin cfg0.N) (ht : t.val % 8 = 7) (y : S512x1536.Idx) :
    (outsAt0 m c t.val t.isLt).2 y
      = ∑ s : Fin 8, k0_pay1 (F := Ideal) (iblk m c 0 ⟨8 * (t.val / 8) + s.val, Pipeline.run_point_lt_of_flush t ht s⟩)
          (iblk m c 1 ⟨8 * (t.val / 8) + s.val, Pipeline.run_point_lt_of_flush t ht s⟩) y := by
  refine (Pipeline.eq_sum_fin_of_reset_step_apply_of_flush (fun n h => (outsAt0 m c n h).2) 8 (fun _ => (0 : EReal))
    (fun t y => k0_pay1 (F := Ideal) (iblk m c 0 t) (iblk m c 1 t) y) (fun t h y => ?_) (fun t h y => ?_) t ht y).trans (zero_add _)
  · rw [outsAt0_A m c t h (by omega) (by omega)]
    frame_out
    rw [first_at, zero_add]
  · by_cases h7 : t.val % 8 = 7
    · rw [outsAt0_C m c t h (by omega) h7]
      frame_out
      simp only [read_unread_whole]
      exact step_at _ _ _ _
    · rw [outsAt0_B m c t h (by omega) h7]
      frame_out
      simp only [read_unread_whole]
      exact step_at _ _ _ _

/-- What the last block of tokens writes back: the carried sum. -/
theorem out_at (c : Dev nD) (t : Fin cfg0.N) (ht : t.val % 8 = 7) (y : S512x1536.Idx) :
    (outsAt0 m c t.val t.isLt).1 y = (outsAt0 m c t.val t.isLt).2 y := by
  rw [outsAt0_C m c t (by omega) (by omega) ht]
  frame_out

/-- The block written back at the last block of tokens. -/
theorem point (c : Dev nD) (t : Fin cfg0.N) (ht : t.val % 8 = 7) (y : S512x1536.Idx) (j : S1536x1536.Idx)
    (h0 : (j 0).val = t.val / 8 * 512 + (y 0).val) (h1 : (j 1).val = (y 1).val) :
    (outsAt0 m c t.val t.isLt).1 y = want (m ((c : Thread nD τ).loc main_arg0)) (m ((c : Thread nD τ).loc main_arg1)) j := by
  idx_vars y
  idx_vars j
  rw [out_at m c t ht, want_at, acc_at m c t ht]
  simp only [part_at]
  refine Fin.sum_mul_add_congr fun s k hl => ?_
  blk_point [iblk, V, idx ⟨_, Pipeline.run_point_lt_of_flush t ht s⟩]

/-- The gradient's array after the run. -/
theorem final (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  blk_simp
  rw [after0_2]
  refine point m c t ((flush0_2 t).mp hf) y _ ?_ ?_ <;> (blk_simp [(idx t).2.2] <;> try omega)

end Cert.Ffn.Dwglu

end
-- ==== Proof.CallGlu.lean ====
/- The gated linear unit of the state space layer: the kernel's blocks and the reference's two arrays, entry by entry. -/
module

public import proofs.«01_k».proof.Proof.Gen.GluIdeal.Value
public import proofs.«01_k».proof.Proof.Gen.GluReferenceIdeal.Run
public import Idealize.ShloMosaic.Lib.Pipeline.ValueKit
public import Idealize.ShloMosaic.Lib.Pipeline.ReadBack

@[expose] public section

set_option maxRecDepth 16384

noncomputable section

namespace Cert.Ffn.Glu

open Idealize.ShloMosaic Idealize.ShloMosaic.TcCoe Idealize.SL.Sem Idealize.ShloMosaic.Pointwise
open Cert.GluIdeal Cert.GluIdeal.Gen GluReferenceIdeal.Gen
open GluReferenceIdeal (S1536x1536 S384x1536 S1x1x384x1536)

/-- The weight's four shards one below the other. -/
abbrev cat (w : FVec Ideal S4x2x384x1536 .bf16) : FVec Ideal S1536x1536 .bf16 :=
  concatenate S1536x1536 0
    [⟨S384x1536, shapeCast _ (extractStridedSlice S1x1x384x1536 ![0, 1, 0, 0] w slices_S4x2x384x1536_S1x1x384x1536_0_1_0_0) shapeCasts_S1x1x384x1536_S384x1536⟩,
     ⟨S384x1536, shapeCast _ (extractStridedSlice S1x1x384x1536 ![1, 1, 0, 0] w slices_S4x2x384x1536_S1x1x384x1536_1_1_0_0) shapeCasts_S1x1x384x1536_S384x1536⟩,
     ⟨S384x1536, shapeCast _ (extractStridedSlice S1x1x384x1536 ![2, 1, 0, 0] w slices_S4x2x384x1536_S1x1x384x1536_2_1_0_0) shapeCasts_S1x1x384x1536_S384x1536⟩,
     ⟨S384x1536, shapeCast _ (extractStridedSlice S1x1x384x1536 ![3, 1, 0, 0] w slices_S4x2x384x1536_S1x1x384x1536_3_1_0_0) shapeCasts_S1x1x384x1536_S384x1536⟩]
    concatenates_S384x1536_S384x1536_S384x1536_S384x1536_S1536x1536_d0

theorem cat_at (w : FVec Ideal S4x2x384x1536 .bf16) (n : Fin 1536) (k : Fin 1536) :
    cat w (ix2 n k) = w (ix4 ⟨n.val / 384, by omega⟩ 1 ⟨n.val % 384, by omega⟩ k) := by
  pointwise [cat]
  have e : ∀ (a a' : Fin 4) (b b' : Fin 384), a.val = a'.val → b.val = b'.val → w (ix4 a 1 b k) = w (ix4 a' 1 b' k) :=
    fun a a' b b' ha hb => by rw [Fin.ext ha, Fin.ext hb]
  split_ifs <;> refine e _ _ _ _ ?_ ?_ <;> simp <;> omega

/-- The product, and the rows gated by its logistic: the reference's two results. -/
abbrev wantGl (y2 : FVec Ideal S8192x1536 .f32) (w : FVec Ideal S4x2x384x1536 .bf16) : FVec Ideal S8192x1536 .f32 :=
  Host.dotGeneral GluReferenceIdeal.dot_S8192x1536_S1536x1536_S8192x1536_1_0_0_1_n_n none y2 (extf .f32 (cat w) GluReferenceIdeal.Gen.bitsLt_bf16_f32)

abbrev ones : FVec Ideal S8192x1536 .f32 :=
  broadcastInDim S8192x1536 ![] bcast_S_S8192x1536 (constant GluReferenceIdeal.S_ .f32 0x3F800000#32)

abbrev wantTok (y2 : FVec Ideal S8192x1536 .f32) (w : FVec Ideal S4x2x384x1536 .bf16) : FVec Ideal S8192x1536 .f32 :=
  mulf y2 (Host.divf ones (addf ones (Host.exp (Host.negf (wantGl y2 w)))))

theorem wantGl_at (y2 : FVec Ideal S8192x1536 .f32) (w : FVec Ideal S4x2x384x1536 .bf16) (r : Fin 8192) (q : Fin 1536) :
    wantGl y2 w (ix2 r q) = ∑ n : Fin 1536, y2 (ix2 r n) * w (ix4 ⟨n.val / 384, by omega⟩ 1 ⟨n.val % 384, by omega⟩ q) := by
  simp only [← cat_at]
  unfold wantGl; generalize cat w = v
  pointwise

theorem wantTok_at (y2 : FVec Ideal S8192x1536 .f32) (w : FVec Ideal S4x2x384x1536 .bf16) (r : Fin 8192) (q : Fin 1536) :
    wantTok y2 w (ix2 r q) = y2 (ix2 r q) * Ideal.logistic (wantGl y2 w (ix2 r q)) := by
  unfold wantTok; generalize wantGl y2 w = v
  pointwise [ones]
  rfl

/-- One shard's share: a product of the two blocks. -/
theorem part_at (x0 : Vec Ideal S1024x384 .f32) (x1 : Vec Ideal S1x1x384x512 .bf16) (j) :
    k0_pay1 (F := Ideal) x0 x1 j = ∑ k : Fin 384, x0 (ix2 (j 0) k) * x1 (ix4 0 0 k (j 1)) := by
  pointwise [k0_pay1]

theorem first_at (x0 : Vec Ideal S1024x384 .f32) (x1 : Vec Ideal S1x1x384x512 .bf16) (j) :
    k0_pay2 (F := Ideal) x0 x1 j = k0_pay1 (F := Ideal) x0 x1 j := by
  unfold k0_pay2; generalize k0_pay1 (F := Ideal) x0 x1 = p
  pointwise

theorem step_at (x0 : Vec Ideal S1024x384 .f32) (x1 : Vec Ideal S1x1x384x512 .bf16) (acc : Vec Ideal S1024x512 .f32) (j) :
    k0_pay3 (F := Ideal) x0 x1 acc j = acc j + k0_pay1 (F := Ideal) x0 x1 j := by
  unfold k0_pay3; generalize k0_pay1 (F := Ideal) x0 x1 = p
  pointwise

theorem end_at (acc x : Vec Ideal S1024x512 .f32) (j) : k0_pay4 (F := Ideal) acc x j = x j * Ideal.logistic (acc j) := by
  pointwise [k0_pay4]

variable (m : (ℓ : Loc nD τ sig) → Buf (Elt Ideal) ℓ)

theorem idx : ∀ t : Fin cfg0.N, win0_0.index t = ![t.val / 12, t.val % 4] ∧ win0_1.index t = ![t.val % 4, 1, 0, t.val / 4 % 3]
    ∧ win0_2.index t = ![t.val / 12, t.val / 4 % 3] ∧ win0_3.index t = ![t.val / 12, t.val / 4 % 3] ∧ win0_4.index t = ![t.val / 12, t.val / 4 % 3] := (by decide +kernel : ∀ t : Fin grid0.N, _)

/-- The carried sum at the last shard: all four shards' shares. -/
theorem acc_at (c : Dev nD) (t : Fin cfg0.N) (ht : t.val % 4 = 3) (y : S1024x512.Idx) :
    (outsAt0 m c t.val t.isLt).2.2 y
      = ∑ s : Fin 4, k0_pay1 (F := Ideal) (iblk m c 0 ⟨4 * (t.val / 4) + s.val, Pipeline.run_point_lt_of_flush t ht s⟩)
          (iblk m c 1 ⟨4 * (t.val / 4) + s.val, Pipeline.run_point_lt_of_flush t ht s⟩) y := by
  refine (Pipeline.eq_sum_fin_of_reset_step_apply_of_flush (fun n h => (outsAt0 m c n h).2.2) 4 (fun _ => (0 : EReal))
    (fun t y => k0_pay1 (F := Ideal) (iblk m c 0 t) (iblk m c 1 t) y) (fun t h y => ?_) (fun t h y => ?_) t ht y).trans (zero_add _)
  · rw [outsAt0_A m c t h (by omega) (by omega)]
    frame_out
    rw [first_at, zero_add]
  · by_cases h3 : t.val % 4 = 3
    · rw [outsAt0_C m c t h (by omega) h3]
      frame_out
      simp only [read_unread_whole]
      exact step_at _ _ _ _
    · rw [outsAt0_B m c t h (by omega) h3]
      frame_out
      simp only [read_unread_whole]
      exact step_at _ _ _ _

/-- The block of gated rows. -/
abbrev rows (c : Dev nD) (t : Fin cfg0.N) : Vec Ideal S1024x512 .f32 := iblk m c 2 t

/-- What the last shard writes back: the carried sum, and the rows gated by its logistic. -/
theorem gl_at (c : Dev nD) (t : Fin cfg0.N) (ht : t.val % 4 = 3) (y : S1024x512.Idx) :
    (outsAt0 m c t.val t.isLt).1 y = (outsAt0 m c t.val t.isLt).2.2 y := by
  rw [outsAt0_C m c t (by omega) (by omega) ht]
  frame_out

theorem tok_at (c : Dev nD) (t : Fin cfg0.N) (ht : t.val % 4 = 3) (y : S1024x512.Idx) :
    (outsAt0 m c t.val t.isLt).2.1 y = rows m c t y * Ideal.logistic ((outsAt0 m c t.val t.isLt).2.2 y) := by
  rw [outsAt0_C m c t (by omega) (by omega) ht]
  frame_out
  exact end_at _ _ _

/-- The carried sum at the last shard is the product. -/
theorem pointGl (c : Dev nD) (t : Fin cfg0.N) (ht : t.val % 4 = 3) (y : S1024x512.Idx) (j : S8192x1536.Idx)
    (h0 : (j 0).val = t.val / 12 * 1024 + (y 0).val) (h1 : (j 1).val = t.val / 4 % 3 * 512 + (y 1).val) :
    (outsAt0 m c t.val t.isLt).2.2 y = wantGl (m ((c : Thread nD τ).loc main_arg0)) (m ((c : Thread nD τ).loc main_arg1)) j := by
  idx_vars y
  idx_vars j
  rw [wantGl_at, acc_at m c t ht]
  simp only [part_at]
  refine Fin.sum_mul_add_congr fun s k hl => ?_
  blk_point [iblk, V, idx ⟨_, Pipeline.run_point_lt_of_flush t ht s⟩]

theorem pointTok (c : Dev nD) (t : Fin cfg0.N) (ht : t.val % 4 = 3) (y : S1024x512.Idx) (j : S8192x1536.Idx)
    (h0 : (j 0).val = t.val / 12 * 1024 + (y 0).val) (h1 : (j 1).val = t.val / 4 % 3 * 512 + (y 1).val) :
    (outsAt0 m c t.val t.isLt).2.1 y = wantTok (m ((c : Thread nD τ).loc main_arg0)) (m ((c : Thread nD τ).loc main_arg1)) j := by
  rw [tok_at m c t ht, pointGl m c t ht y j h0 h1]
  idx_vars y
  idx_vars j
  rw [wantTok_at]
  refine congrArg (· * _) ?_
  blk_point [rows, iblk, V, idx t]

/-- The product's array and the gated rows' after the run. -/
theorem finalGl (c : Dev nD) : (dats m 0 c).arrAt 3 (cfgs 0).N
    = wantGl (m ((c : Thread nD τ).loc main_arg0)) (m ((c : Thread nD τ).loc main_arg1)) := by
  refine (dats m 0 c).arrAt_eq_of_covers 3 _ (by decide +kernel) fun t hf y => ?_
  blk_simp
  rw [after0_3, gl_at m c t ((flush0_3 t).mp hf)]
  refine pointGl m c t ((flush0_3 t).mp hf) y _ ?_ ?_ <;> (blk_simp [(idx t).2.2.2.1] <;> try omega)

theorem finalTok (c : Dev nD) : (dats m 0 c).arrAt 4 (cfgs 0).N
    = wantTok (m ((c : Thread nD τ).loc main_arg0)) (m ((c : Thread nD τ).loc main_arg1)) := by
  refine (dats m 0 c).arrAt_eq_of_covers 4 _ (by decide +kernel) fun t hf y => ?_
  blk_simp
  rw [after0_4]
  refine pointTok m c t ((flush0_4 t).mp hf) y _ ?_ ?_ <;> (blk_simp [(idx t).2.2.2.2] <;> try omega)

end Cert.Ffn.Glu

end
-- ==== Proof.CallGlu0.lean ====
/- The gated linear unit of the state space layer: the kernel's blocks and the reference's two arrays, entry by entry. -/
module

public import proofs.«01_k».proof.Proof.Gen.Glu0Ideal.Value
public import proofs.«01_k».proof.Proof.Gen.Glu0ReferenceIdeal.Run
public import Idealize.ShloMosaic.Lib.Pipeline.ValueKit
public import Idealize.ShloMosaic.Lib.Pipeline.ReadBack

@[expose] public section

set_option maxRecDepth 16384

noncomputable section

namespace Cert.Ffn.Glu0

open Idealize.ShloMosaic Idealize.ShloMosaic.TcCoe Idealize.SL.Sem Idealize.ShloMosaic.Pointwise
open Cert.Glu0Ideal Cert.Glu0Ideal.Gen Glu0ReferenceIdeal.Gen
open Glu0ReferenceIdeal (S1536x1536 S384x1536 S1x1x384x1536)

/-- The weight's four shards one below the other. -/
abbrev cat (w : FVec Ideal S4x2x384x1536 .bf16) : FVec Ideal S1536x1536 .bf16 :=
  concatenate S1536x1536 0
    [⟨S384x1536, shapeCast _ (extractStridedSlice S1x1x384x1536 ![0, 0, 0, 0] w slices_S4x2x384x1536_S1x1x384x1536_0_0_0_0) shapeCasts_S1x1x384x1536_S384x1536⟩,
     ⟨S384x1536, shapeCast _ (extractStridedSlice S1x1x384x1536 ![1, 0, 0, 0] w slices_S4x2x384x1536_S1x1x384x1536_1_0_0_0) shapeCasts_S1x1x384x1536_S384x1536⟩,
     ⟨S384x1536, shapeCast _ (extractStridedSlice S1x1x384x1536 ![2, 0, 0, 0] w slices_S4x2x384x1536_S1x1x384x1536_2_0_0_0) shapeCasts_S1x1x384x1536_S384x1536⟩,
     ⟨S384x1536, shapeCast _ (extractStridedSlice S1x1x384x1536 ![3, 0, 0, 0] w slices_S4x2x384x1536_S1x1x384x1536_3_0_0_0) shapeCasts_S1x1x384x1536_S384x1536⟩]
    concatenates_S384x1536_S384x1536_S384x1536_S384x1536_S1536x1536_d0

theorem cat_at (w : FVec Ideal S4x2x384x1536 .bf16) (n : Fin 1536) (k : Fin 1536) :
    cat w (ix2 n k) = w (ix4 ⟨n.val / 384, by omega⟩ 0 ⟨n.val % 384, by omega⟩ k) := by
  pointwise [cat]
  have e : ∀ (a a' : Fin 4) (b b' : Fin 384), a.val = a'.val → b.val = b'.val → w (ix4 a 0 b k) = w (ix4 a' 0 b' k) :=
    fun a a' b b' ha hb => by rw [Fin.ext ha, Fin.ext hb]
  split_ifs <;> refine e _ _ _ _ ?_ ?_ <;> simp <;> omega

/-- The product, and the rows gated by its logistic: the reference's two results. -/
abbrev wantGl (y2 : FVec Ideal S8192x1536 .f32) (w : FVec Ideal S4x2x384x1536 .bf16) : FVec Ideal S8192x1536 .f32 :=
  Host.dotGeneral Glu0ReferenceIdeal.dot_S8192x1536_S1536x1536_S8192x1536_1_0_0_1_n_n none y2 (extf .f32 (cat w) Glu0ReferenceIdeal.Gen.bitsLt_bf16_f32)

abbrev ones : FVec Ideal S8192x1536 .f32 :=
  broadcastInDim S8192x1536 ![] bcast_S_S8192x1536 (constant Glu0ReferenceIdeal.S_ .f32 0x3F800000#32)

abbrev wantTok (y2 : FVec Ideal S8192x1536 .f32) (w : FVec Ideal S4x2x384x1536 .bf16) : FVec Ideal S8192x1536 .f32 :=
  mulf y2 (Host.divf ones (addf ones (Host.exp (Host.negf (wantGl y2 w)))))

theorem wantGl_at (y2 : FVec Ideal S8192x1536 .f32) (w : FVec Ideal S4x2x384x1536 .bf16) (r : Fin 8192) (q : Fin 1536) :
    wantGl y2 w (ix2 r q) = ∑ n : Fin 1536, y2 (ix2 r n) * w (ix4 ⟨n.val / 384, by omega⟩ 0 ⟨n.val % 384, by omega⟩ q) := by
  simp only [← cat_at]
  unfold wantGl; generalize cat w = v
  pointwise

theorem wantTok_at (y2 : FVec Ideal S8192x1536 .f32) (w : FVec Ideal S4x2x384x1536 .bf16) (r : Fin 8192) (q : Fin 1536) :
    wantTok y2 w (ix2 r q) = y2 (ix2 r q) * Ideal.logistic (wantGl y2 w (ix2 r q)) := by
  unfold wantTok; generalize wantGl y2 w = v
  pointwise [ones]
  rfl

/-- One shard's share: a product of the two blocks. -/
theorem part_at (x0 : Vec Ideal S1024x384 .f32) (x1 : Vec Ideal S1x1x384x512 .bf16) (j) :
    k0_pay1 (F := Ideal) x0 x1 j = ∑ k : Fin 384, x0 (ix2 (j 0) k) * x1 (ix4 0 0 k (j 1)) := by
  pointwise [k0_pay1]

theorem first_at (x0 : Vec Ideal S1024x384 .f32) (x1 : Vec Ideal S1x1x384x512 .bf16) (j) :
    k0_pay2 (F := Ideal) x0 x1 j = k0_pay1 (F := Ideal) x0 x1 j := by
  unfold k0_pay2; generalize k0_pay1 (F := Ideal) x0 x1 = p
  pointwise

theorem step_at (x0 : Vec Ideal S1024x384 .f32) (x1 : Vec Ideal S1x1x384x512 .bf16) (acc : Vec Ideal S1024x512 .f32) (j) :
    k0_pay3 (F := Ideal) x0 x1 acc j = acc j + k0_pay1 (F := Ideal) x0 x1 j := by
  unfold k0_pay3; generalize k0_pay1 (F := Ideal) x0 x1 = p
  pointwise

theorem end_at (acc x : Vec Ideal S1024x512 .f32) (j) : k0_pay4 (F := Ideal) acc x j = x j * Ideal.logistic (acc j) := by
  pointwise [k0_pay4]

variable (m : (ℓ : Loc nD τ sig) → Buf (Elt Ideal) ℓ)

theorem idx : ∀ t : Fin cfg0.N, win0_0.index t = ![t.val / 12, t.val % 4] ∧ win0_1.index t = ![t.val % 4, 0, 0, t.val / 4 % 3]
    ∧ win0_2.index t = ![t.val / 12, t.val / 4 % 3] ∧ win0_3.index t = ![t.val / 12, t.val / 4 % 3] ∧ win0_4.index t = ![t.val / 12, t.val / 4 % 3] := (by decide +kernel : ∀ t : Fin grid0.N, _)

/-- The carried sum at the last shard: all four shards' shares. -/
theorem acc_at (c : Dev nD) (t : Fin cfg0.N) (ht : t.val % 4 = 3) (y : S1024x512.Idx) :
    (outsAt0 m c t.val t.isLt).2.2 y
      = ∑ s : Fin 4, k0_pay1 (F := Ideal) (iblk m c 0 ⟨4 * (t.val / 4) + s.val, Pipeline.run_point_lt_of_flush t ht s⟩)
          (iblk m c 1 ⟨4 * (t.val / 4) + s.val, Pipeline.run_point_lt_of_flush t ht s⟩) y := by
  refine (Pipeline.eq_sum_fin_of_reset_step_apply_of_flush (fun n h => (outsAt0 m c n h).2.2) 4 (fun _ => (0 : EReal))
    (fun t y => k0_pay1 (F := Ideal) (iblk m c 0 t) (iblk m c 1 t) y) (fun t h y => ?_) (fun t h y => ?_) t ht y).trans (zero_add _)
  · rw [outsAt0_A m c t h (by omega) (by omega)]
    frame_out
    rw [first_at, zero_add]
  · by_cases h3 : t.val % 4 = 3
    · rw [outsAt0_C m c t h (by omega) h3]
      frame_out
      simp only [read_unread_whole]
      exact step_at _ _ _ _
    · rw [outsAt0_B m c t h (by omega) h3]
      frame_out
      simp only [read_unread_whole]
      exact step_at _ _ _ _

/-- The block of gated rows. -/
abbrev rows (c : Dev nD) (t : Fin cfg0.N) : Vec Ideal S1024x512 .f32 := iblk m c 2 t

/-- What the last shard writes back: the carried sum, and the rows gated by its logistic. -/
theorem gl_at (c : Dev nD) (t : Fin cfg0.N) (ht : t.val % 4 = 3) (y : S1024x512.Idx) :
    (outsAt0 m c t.val t.isLt).1 y = (outsAt0 m c t.val t.isLt).2.2 y := by
  rw [outsAt0_C m c t (by omega) (by omega) ht]
  frame_out

theorem tok_at (c : Dev nD) (t : Fin cfg0.N) (ht : t.val % 4 = 3) (y : S1024x512.Idx) :
    (outsAt0 m c t.val t.isLt).2.1 y = rows m c t y * Ideal.logistic ((outsAt0 m c t.val t.isLt).2.2 y) := by
  rw [outsAt0_C m c t (by omega) (by omega) ht]
  frame_out
  exact end_at _ _ _

/-- The carried sum at the last shard is the product. -/
theorem pointGl (c : Dev nD) (t : Fin cfg0.N) (ht : t.val % 4 = 3) (y : S1024x512.Idx) (j : S8192x1536.Idx)
    (h0 : (j 0).val = t.val / 12 * 1024 + (y 0).val) (h1 : (j 1).val = t.val / 4 % 3 * 512 + (y 1).val) :
    (outsAt0 m c t.val t.isLt).2.2 y = wantGl (m ((c : Thread nD τ).loc main_arg0)) (m ((c : Thread nD τ).loc main_arg1)) j := by
  idx_vars y
  idx_vars j
  rw [wantGl_at, acc_at m c t ht]
  simp only [part_at]
  refine Fin.sum_mul_add_congr fun s k hl => ?_
  blk_point [iblk, V, idx ⟨_, Pipeline.run_point_lt_of_flush t ht s⟩]

theorem pointTok (c : Dev nD) (t : Fin cfg0.N) (ht : t.val % 4 = 3) (y : S1024x512.Idx) (j : S8192x1536.Idx)
    (h0 : (j 0).val = t.val / 12 * 1024 + (y 0).val) (h1 : (j 1).val = t.val / 4 % 3 * 512 + (y 1).val) :
    (outsAt0 m c t.val t.isLt).2.1 y = wantTok (m ((c : Thread nD τ).loc main_arg0)) (m ((c : Thread nD τ).loc main_arg1)) j := by
  rw [tok_at m c t ht, pointGl m c t ht y j h0 h1]
  idx_vars y
  idx_vars j
  rw [wantTok_at]
  refine congrArg (· * _) ?_
  blk_point [rows, iblk, V, idx t]

/-- The product's array and the gated rows' after the run. -/
theorem finalGl (c : Dev nD) : (dats m 0 c).arrAt 3 (cfgs 0).N
    = wantGl (m ((c : Thread nD τ).loc main_arg0)) (m ((c : Thread nD τ).loc main_arg1)) := by
  refine (dats m 0 c).arrAt_eq_of_covers 3 _ (by decide +kernel) fun t hf y => ?_
  blk_simp
  rw [after0_3, gl_at m c t ((flush0_3 t).mp hf)]
  refine pointGl m c t ((flush0_3 t).mp hf) y _ ?_ ?_ <;> (blk_simp [(idx t).2.2.2.1] <;> try omega)

theorem finalTok (c : Dev nD) : (dats m 0 c).arrAt 4 (cfgs 0).N
    = wantTok (m ((c : Thread nD τ).loc main_arg0)) (m ((c : Thread nD τ).loc main_arg1)) := by
  refine (dats m 0 c).arrAt_eq_of_covers 4 _ (by decide +kernel) fun t hf y => ?_
  blk_simp
  rw [after0_4]
  refine pointTok m c t ((flush0_4 t).mp hf) y _ ?_ ?_ <;> (blk_simp [(idx t).2.2.2.2] <;> try omega)

end Cert.Ffn.Glu0

end
-- ==== Proof.CallLoss.lean ====
/- The loss and its gradient: the kernel's blocks and the reference's three results, entry by entry. -/
module

public import proofs.«01_k».proof.Proof.Gen.LossIdeal.Value
public import proofs.«01_k».proof.Proof.Gen.LossReferenceIdeal.Run
public import Idealize.ShloMosaic.Lib.Pipeline.ValueKit
public import Idealize.ShloMosaic.Lib.Pipeline.ReadBack

@[expose] public section

set_option maxRecDepth 16384

noncomputable section

namespace Cert.Ffn.Loss

open Idealize.ShloMosaic Idealize.ShloMosaic.TcCoe Idealize.SL.Sem Idealize.ShloMosaic.Pointwise
open Cert.LossIdeal Cert.LossIdeal.Gen LossReferenceIdeal.Gen
open LossReferenceIdeal (S8192)

/-- The reference's results: the loss at every place of a tile, its gradient and the gradient's bf16 copy. -/
abbrev wantLoss (y t : FVec Ideal S8192x2048 .f32) : FVec Ideal S8x128 .f32 :=
  broadcastInDim S8x128 ![] bcast_S_S8x128 (mulf (constant LossReferenceIdeal.S_ .f32 0x3F000000#32)
    (Host.reduceAdd (Host.divf (Host.reduceAdd (mulf (subf y t) (subf y t)) (constant LossReferenceIdeal.S_ .f32 0x00000000#32) reducesTo_S8192x2048_S8192_d1 h_S_)
      (broadcastInDim S8192 ![] bcast_S_S8192 (constant LossReferenceIdeal.S_ .f32 0x45000000#32))) (constant LossReferenceIdeal.S_ .f32 0x00000000#32) reducesTo_S8192_S_d0 h_S_))

abbrev wantDy (y t : FVec Ideal S8192x2048 .f32) : FVec Ideal S8192x2048 .f32 :=
  mulf (broadcastInDim S8192x2048 ![0] bcast_S8192_S8192x2048_0 (Host.divf (broadcastInDim S8192 ![] bcast_S_S8192
      (mulf (constant LossReferenceIdeal.S_ .f32 0x3F000000#32) (constant LossReferenceIdeal.S_ .f32 0x3F800000#32))) (broadcastInDim S8192 ![] bcast_S_S8192 (constant LossReferenceIdeal.S_ .f32 0x45000000#32))))
    (mulf (broadcastInDim S8192x2048 ![] bcast_S_S8192x2048 (constant LossReferenceIdeal.S_ .f32 0x40000000#32)) (subf y t))

abbrev wantDyb (y t : FVec Ideal S8192x2048 .f32) : FVec Ideal S8192x2048 .bf16 := truncf .bf16 (wantDy y t) LossReferenceIdeal.Gen.bitsLt_bf16_f32

/-- The words of the width, of the kernel's two factors and of the reference's two. -/
theorem width_eq : Ideal.ofBits .f32 0x45000000#32 = ((2048 : ℝ) : EReal) := by
  simp [Ideal.ofBits, Ideal.ieee]
  rw [← EReal.coe_mul]; norm_num
theorem inv_eq : Ideal.ofBits .f32 0x3A000000#32 = ((1 / 2048 : ℝ) : EReal) := by
  simp [Ideal.ofBits, Ideal.ieee]
  rw [← EReal.coe_mul]; norm_num
theorem halfInv_eq : Ideal.ofBits .f32 0x39800000#32 = ((1 / 4096 : ℝ) : EReal) := by
  simp [Ideal.ofBits, Ideal.ieee]
  rw [← EReal.coe_mul]; norm_num
theorem half_eq : Ideal.ofBits .f32 0x3F000000#32 = ((1 / 2 : ℝ) : EReal) := by
  simp [Ideal.ofBits, Ideal.ieee]
  rw [← EReal.coe_mul]; norm_num
theorem two_eq : Ideal.ofBits .f32 0x40000000#32 = ((2 : ℝ) : EReal) := by
  simp [Ideal.ofBits, Ideal.ieee]
  rw [← EReal.coe_mul]; norm_num
theorem one_eq : Ideal.ofBits .f32 0x3F800000#32 = ((1 : ℝ) : EReal) := by
  simp [Ideal.ofBits, Ideal.ieee]
  rw [← EReal.coe_mul]; norm_num

/-- A real factor passes through a sum of squares. -/
theorem sum_mul_real {n : ℕ} {a : ℝ} (ha : 0 ≤ a) (f : Fin n → EReal) : ∑ k, f k * (a : EReal) = (∑ k, f k) * (a : EReal) := by
  induction n with
  | zero => simp
  | succ n ih =>
    rw [Fin.sum_univ_succ, ih, Fin.sum_univ_succ, EReal.right_distrib_of_nonneg_of_ne_top (EReal.coe_nonneg.mpr ha) (EReal.coe_ne_top _)]

/-- A row's and a feature's square. -/
abbrev sq (y t : FVec Ideal S8192x2048 .f32) (r : Fin 8192) (n : Fin 2048) : EReal := (y (ix2 r n) - t (ix2 r n)) * (y (ix2 r n) - t (ix2 r n))

theorem wantLoss_at (y t : FVec Ideal S8192x2048 .f32) (a : Fin 8) (b : Fin 128) :
    wantLoss y t (ix2 a b) = (∑ r : Fin 8192, ∑ n : Fin 2048, sq y t r n) * ((1 / 4096 : ℝ) : EReal) := by
  have e : wantLoss y t (ix2 a b) = Ideal.ofBits .f32 0x3F000000#32
      * ∑ r : Fin 8192, Ideal.div (∑ n : Fin 2048, sq y t r n) (Ideal.ofBits .f32 0x45000000#32) := by
    pointwise [wantLoss]
  rw [e, half_eq, width_eq]
  simp only [Ideal.div_coe (show (2048 : ℝ) ≠ 0 by norm_num)]
  rw [sum_mul_real (by norm_num), mul_left_comm, ← EReal.coe_mul]
  norm_num

theorem wantDy_at (y t : FVec Ideal S8192x2048 .f32) (r : Fin 8192) (n : Fin 2048) :
    wantDy y t (ix2 r n) = (y (ix2 r n) - t (ix2 r n)) * ((1 / 2048 : ℝ) : EReal) := by
  have e : wantDy y t (ix2 r n) = Ideal.div (Ideal.ofBits .f32 0x3F000000#32 * Ideal.ofBits .f32 0x3F800000#32) (Ideal.ofBits .f32 0x45000000#32)
      * (Ideal.ofBits .f32 0x40000000#32 * (y (ix2 r n) - t (ix2 r n))) := by
    pointwise [wantDy]
  rw [e, half_eq, one_eq, two_eq, width_eq, Ideal.div_coe (by norm_num), ← EReal.coe_mul, ← EReal.coe_mul, ← mul_assoc, ← EReal.coe_mul, mul_comm]
  norm_num

theorem dy_at (x0 x1 : Vec Ideal S256x2048 .f32) (j) : k0_pay2 (F := Ideal) x0 x1 j = (x0 j - x1 j) * ((1 / 2048 : ℝ) : EReal) := by
  rw [← inv_eq]
  pointwise [k0_pay2, k0_pay1]

/-- A block's squares, summed over its groups of eight rows. -/
theorem part_at (x0 x1 : Vec Ideal S256x2048 .f32) (a : Fin 8) (n : Fin 2048) : k0_pay4 (F := Ideal) x0 x1 (ix2 a n)
    = ∑ b : Fin 32, (x0 (ix2 ⟨b.val * 8 + a.val, by omega⟩ n) - x1 (ix2 ⟨b.val * 8 + a.val, by omega⟩ n))
      * (x0 (ix2 ⟨b.val * 8 + a.val, by omega⟩ n) - x1 (ix2 ⟨b.val * 8 + a.val, by omega⟩ n)) := by
  pointwise [k0_pay4, k0_pay1]

theorem first_at (x0 x1 : Vec Ideal S256x2048 .f32) (j) : k0_pay5 (F := Ideal) x0 x1 j = k0_pay4 (F := Ideal) x0 x1 j := by
  unfold k0_pay5; generalize k0_pay4 (F := Ideal) x0 x1 = p
  pointwise

theorem step_at (x0 x1 : Vec Ideal S256x2048 .f32) (acc : Vec Ideal S8x2048 .f32) (j) :
    k0_pay6 (F := Ideal) x0 x1 acc j = acc j + k0_pay4 (F := Ideal) x0 x1 j := by
  unfold k0_pay6; generalize k0_pay4 (F := Ideal) x0 x1 = p
  pointwise

theorem end_at (acc : Vec Ideal S8x2048 .f32) (a : Fin 8) (b : Fin 128) :
    k0_pay7 (F := Ideal) acc (ix2 a b) = (∑ a : Fin 8, ∑ n : Fin 2048, acc (ix2 a n)) * ((1 / 4096 : ℝ) : EReal) := by
  rw [← halfInv_eq]
  pointwise [k0_pay7]

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] :=
  (by decide +kernel : ∀ t : Fin grid0.N, _)

/-- The blocks at a point, and the arrays they are cut from. -/
abbrev by' (c : Dev nD) (t : Fin cfg0.N) : Vec Ideal S256x2048 .f32 := iblk m c 0 t
abbrev bt (c : Dev nD) (t : Fin cfg0.N) : Vec Ideal S256x2048 .f32 := iblk m c 1 t
abbrev ay (c : Dev nD) : FVec Ideal S8192x2048 .f32 := m ((c : Thread nD τ).loc main_arg0)
abbrev at' (c : Dev nD) : FVec Ideal S8192x2048 .f32 := m ((c : Thread nD τ).loc main_arg1)

theorem by_at (c : Dev nD) (t : Fin cfg0.N) (a : Fin 256) (n : Fin 2048) (r : Fin 8192) (hr : r.val = t.val * 256 + a.val) :
    by' m c t (ix2 a n) = ay m c (ix2 r n) := by
  blk_point [by', iblk, V, (idx t).1]

theorem bt_at (c : Dev nD) (t : Fin cfg0.N) (a : Fin 256) (n : Fin 2048) (r : Fin 8192) (hr : r.val = t.val * 256 + a.val) :
    bt m c t (ix2 a n) = at' m c (ix2 r n) := by
  blk_point [bt, iblk, V, (idx t).2.1]

theorem out_dy (c : Dev nD) (t : Fin cfg0.N) : (outsAt0 m c t.val t.isLt).2.1 = k0_pay2 (F := Ideal) (by' m c t) (bt m c t)
    ∧ (outsAt0 m c t.val t.isLt).2.2.1 = k0_pay2 (F := Ideal) (by' m c t) (bt m c t) := by
  by_cases h : t.val % 32 = 0
  · have h1 : ¬1 ≤ t.val := by have := t.isLt; have : cfg0.N = 32 := N_0; omega
    rw [outsAt0_A m c t h h1 (by omega)]
    constructor <;> (frame_out <;> rfl)
  · by_cases h3 : t.val % 32 = 31
    · rw [outsAt0_C m c t h (by omega) h3]
      constructor <;> (frame_out <;> rfl)
    · rw [outsAt0_B m c t h (by omega) h3]
      constructor <;> (frame_out <;> rfl)

/-- The carried sum at the last point. -/
theorem acc_at (c : Dev nD) (t : Fin cfg0.N) (ht : t.val % 32 = 31) (y : S8x2048.Idx) :
    (outsAt0 m c t.val t.isLt).2.2.2 y
      = ∑ s : Fin 32, k0_pay4 (F := Ideal) (by' m c ⟨32 * (t.val / 32) + s.val, Pipeline.run_point_lt_of_flush t ht s⟩)
          (bt m c ⟨32 * (t.val / 32) + s.val, Pipeline.run_point_lt_of_flush t ht s⟩) y := by
  refine (Pipeline.eq_sum_fin_of_reset_step_apply_of_flush (fun n h => (outsAt0 m c n h).2.2.2) 32 (fun _ => (0 : EReal))
    (fun t y => k0_pay4 (F := Ideal) (by' m c t) (bt m c t) y) (fun t h y => ?_) (fun t h y => ?_) t ht y).trans (zero_add _)
  · rw [outsAt0_A m c t h (by have := t.isLt; have : cfg0.N = 32 := N_0; omega) (by omega)]
    frame_out
    rw [first_at, zero_add]
  · by_cases h3 : t.val % 32 = 31
    · rw [outsAt0_C m c t h (by omega) h3]
      frame_out
      simp only [read_unread_whole]
      exact step_at _ _ _ _
    · rw [outsAt0_B m c t h (by omega) h3]
      frame_out
      simp only [read_unread_whole]
      exact step_at _ _ _ _

theorem out_loss (c : Dev nD) (t : Fin cfg0.N) (ht : t.val % 32 = 31) (a : Fin 8) (b : Fin 128) :
    (outsAt0 m c t.val t.isLt).1 (ix2 a b)
      = (∑ a : Fin 8, ∑ n : Fin 2048, (outsAt0 m c t.val t.isLt).2.2.2 (ix2 a n)) * ((1 / 4096 : ℝ) : EReal) := by
  rw [outsAt0_C m c t (by omega) (by omega) ht]
  frame_out
  exact end_at _ _ _

/-- The sublanes, the points and the groups of eight rows together are the rows. -/
theorem regroup (f : Fin 8192 → EReal) :
    (∑ a : Fin 8, ∑ s : Fin 32, ∑ b : Fin 32, f ⟨s.val * 256 + (b.val * 8 + a.val), by omega⟩) = ∑ r, f r := by
  rw [Finset.sum_comm, ← (finProdFinEquiv (m := 32) (n := 256)).sum_comp, Fintype.sum_prod_type]
  refine Finset.sum_congr rfl fun s _ => ?_
  rw [Finset.sum_comm, ← (finProdFinEquiv (m := 32) (n := 8)).sum_comp, Fintype.sum_prod_type]
  refine Finset.sum_congr rfl fun b _ => Finset.sum_congr rfl fun a _ => congrArg f (Fin.ext ?_)
  simp only [finProdFinEquiv_apply_val]
  omega

theorem part_blk (c : Dev nD) (t : Fin cfg0.N) (a : Fin 8) (n : Fin 2048) : k0_pay4 (F := Ideal) (by' m c t) (bt m c t) (ix2 a n)
    = ∑ b : Fin 32, sq (ay m c) (at' m c) ⟨t.val * 256 + (b.val * 8 + a.val), by have := t.isLt; have : cfg0.N = 32 := N_0; omega⟩ n := by
  rw [part_at]
  refine Finset.sum_congr rfl fun b _ => ?_
  rw [by_at m c t _ n ⟨t.val * 256 + (b.val * 8 + a.val), by have := t.isLt; have : cfg0.N = 32 := N_0; omega⟩ rfl,
    bt_at m c t _ n ⟨t.val * 256 + (b.val * 8 + a.val), by have := t.isLt; have : cfg0.N = 32 := N_0; omega⟩ rfl]

/-- What is written back of the loss is the reference's. -/
theorem pointLoss (c : Dev nD) (t : Fin cfg0.N) (ht : t.val % 32 = 31) (y j : S8x128.Idx) :
    (outsAt0 m c t.val t.isLt).1 y = wantLoss (m ((c : Thread nD τ).loc main_arg0)) (m ((c : Thread nD τ).loc main_arg1)) j := by
  idx_vars y
  idx_vars j
  have hN : cfg0.N = 32 := N_0
  have hd : t.val / 32 = 0 := by have := t.isLt; omega
  rw [out_loss m c t ht, wantLoss_at]
  refine congrArg (fun z : EReal => z * _) ?_
  refine Eq.trans ?_ (regroup fun r => ∑ n : Fin 2048, sq (ay m c) (at' m c) r n)
  refine Finset.sum_congr rfl fun a _ => ?_
  rw [Finset.sum_congr rfl fun n _ => acc_at m c t ht (ix2 a n), Finset.sum_comm]
  refine Finset.sum_congr rfl fun s _ => ?_
  rw [Finset.sum_congr rfl fun n _ => part_blk m c _ a n, Finset.sum_comm]
  have e : (32 * (t.val / 32) + s.val) = s.val := by omega
  simp only [e]

theorem pointDy (c : Dev nD) (t : Fin cfg0.N) (y : S256x2048.Idx) (j : S8192x2048.Idx)
    (h0 : (j 0).val = t.val * 256 + (y 0).val) (h1 : (j 1).val = (y 1).val) :
    k0_pay2 (F := Ideal) (by' m c t) (bt m c t) y = wantDy (m ((c : Thread nD τ).loc main_arg0)) (m ((c : Thread nD τ).loc main_arg1)) j := by
  idx_vars y
  idx_vars j
  obtain rfl : j1 = y1 := Fin.ext h1
  rw [dy_at, wantDy_at, by_at m c t y0 j1 j0 h0, bt_at m c t y0 j1 j0 h0]

/-- The three arrays after the run. -/
theorem finalLoss (c : Dev nD) : (dats m 0 c).arrAt 2 (cfgs 0).N = wantLoss (m ((c : Thread nD τ).loc main_arg0)) (m ((c : Thread nD τ).loc main_arg1)) := by
  refine (dats m 0 c).arrAt_eq_of_covers 2 _ (by decide +kernel) fun t hf y => ?_
  blk_simp
  rw [after0_2]
  exact pointLoss m c t ((flush0_2 t).mp hf) y _

theorem finalDy (c : Dev nD) : (dats m 0 c).arrAt 3 (cfgs 0).N = wantDy (m ((c : Thread nD τ).loc main_arg0)) (m ((c : Thread nD τ).loc main_arg1)) := by
  refine (dats m 0 c).arrAt_eq_of_covers 3 _ (by decide +kernel) fun t hf y => ?_
  blk_simp
  rw [after0_3, (out_dy m c t).1]
  refine pointDy m c t y _ ?_ ?_ <;> (blk_simp [idx t] <;> try omega)

theorem finalDyb (c : Dev nD) : (dats m 0 c).arrAt 4 (cfgs 0).N = wantDyb (m ((c : Thread nD τ).loc main_arg0)) (m ((c : Thread nD τ).loc main_arg1)) := by
  refine (dats m 0 c).arrAt_eq_of_covers 4 _ (by decide +kernel) fun t hf y => ?_
  blk_simp
  rw [after0_4, (out_dy m c t).2]
  refine pointDy m c t y _ ?_ ?_ <;> (blk_simp [idx t] <;> try omega)

end Cert.Ffn.Loss

end
-- ==== Proof.Adam.lean ====
/- The optimiser's step on one entry, as the kernel computes it and as the reference spells it. -/
module

public import Idealize.ShloMosaic.PureOps
public import Idealize.ShloMosaic.PureOps.Ideal
public import Idealize.ShloMosaic.PureOps.IdealRules

@[expose] public section

noncomputable section

namespace Cert.Adam

open Idealize.ShloMosaic

/-- The first and the second moment after the step. -/
abbrev nm (g m : EReal) : EReal := Ideal.ofBits .f32 0x3F666666#32 * m + Ideal.ofBits .f32 0x3DCCCCCD#32 * g
abbrev nv (g v : EReal) : EReal := Ideal.ofBits .f32 0x3F7FBE77#32 * v + Ideal.ofBits .f32 0x3A83126F#32 * (g * g)

/-- The weight's change: the moments corrected for their bias, with the decay of the weight. -/
abbrev delta (w g m v : EReal) : EReal := Ideal.ofBits .f32 0xBA83126F#32
  * (Ideal.div (Ideal.div (nm g m) (Ideal.ofBits .f32 0x3F26BD02#32))
      (Ideal.sqrt (Ideal.div (nv g v) (Ideal.ofBits .f32 0x3C231ACC#32)) + Ideal.ofBits .f32 0x322BCC77#32)
    + Ideal.ofBits .f32 0x3C23D70A#32 * w)

/-- The words the reference divides by, and the reciprocals the kernel multiplies by. -/
theorem word1 : Ideal.ofBits .f32 0x3F26BD02#32 = ((5463681 / 8388608 : ℝ) : EReal) := by
  simp [Ideal.ofBits, Ideal.ieee]
  rw [← EReal.coe_mul]; norm_num

theorem word2 : Ideal.ofBits .f32 0x3C231ACC#32 = ((2672307 / 268435456 : ℝ) : EReal) := by
  simp [Ideal.ofBits, Ideal.ieee]
  rw [← EReal.coe_mul]; norm_num

theorem div1 (x : EReal) : Ideal.div x (Ideal.ofBits .f32 0x3F26BD02#32) = x * ((8388608 / 5463681 : ℝ) : EReal) := by
  rw [word1, Ideal.div_coe (by norm_num)]
  norm_num

theorem div2 (x : EReal) : Ideal.div x (Ideal.ofBits .f32 0x3C231ACC#32) = x * ((268435456 / 2672307 : ℝ) : EReal) := by
  rw [word2, Ideal.div_coe (by norm_num)]
  norm_num

end Cert.Adam

end
-- ==== Proof.CallAdamGu.lean ====
/- The optimiser's step on the first projections of the feed-forward blocks: the kernel's blocks and the reference's three arrays, entry by entry. -/
module

public import proofs.«01_k».proof.Proof.Gen.AdamGuIdeal.Value
public import proofs.«01_k».proof.Proof.Gen.AdamGuReferenceIdeal.Run
public import Idealize.ShloMosaic.Lib.Pipeline.ValueKit
public import Idealize.ShloMosaic.Lib.Pipeline.ReadBack
public import proofs.«01_k».proof.Proof.Adam

@[expose] public section

set_option maxRecDepth 16384

noncomputable section

namespace Cert.Ffn.AdamGu

open Idealize.ShloMosaic Idealize.ShloMosaic.TcCoe Idealize.SL.Sem Idealize.ShloMosaic.Pointwise
open Cert.AdamGuIdeal Cert.AdamGuIdeal.Gen AdamGuReferenceIdeal.Gen

/-- The weight's arrays, and the same in rows. -/
abbrev A := FVec Ideal S4x2048x2816 .f32
abbrev Rs := FVec Ideal S8192x2816 .f32
abbrev rows (a : A) : Rs := shapeCast _ a AdamGuReferenceIdeal.Gen.shapeCasts_S4x2048x2816_S8192x2816
abbrev bc (b : BitVec 32) : A := broadcastInDim S4x2048x2816 ![] bcast_S_S4x2048x2816 (constant AdamGuReferenceIdeal.S_ .f32 b)

/-- The moments after the step and the weight's change, as the reference spells them. -/
abbrev nm (g m : A) : A := addf (mulf (bc 0x3F666666#32) m) (mulf (bc 0x3DCCCCCD#32) g)
abbrev nv (g v : A) : A := addf (mulf (bc 0x3F7FBE77#32) v) (mulf (bc 0x3A83126F#32) (mulf g g))
abbrev delta (w g m v : A) : A :=
  mulf (bc 0xBA83126F#32) (addf (Host.divf (Host.divf (nm g m) (bc 0x3F26BD02#32))
    (addf (Host.sqrt (Host.divf (nv g v) (bc 0x3C231ACC#32))) (bc 0x322BCC77#32))) (mulf (bc 0x3C23D70A#32) w))

/-- The reference's three results. -/
abbrev wantD (w g m v : A) : Rs := rows (delta w g m v)
abbrev wantM (w g m v : A) : Rs := rows (nm g m)
abbrev wantV (w g m v : A) : Rs := rows (nv g v)

theorem wantM_at (w g m v : A) (j : S8192x2816.Idx) : wantM w g m v j = Adam.nm (rows g j) (rows m j) := rfl
theorem wantV_at (w g m v : A) (j : S8192x2816.Idx) : wantV w g m v j = Adam.nv (rows g j) (rows v j) := rfl
theorem wantD_at (w g m v : A) (j : S8192x2816.Idx) : wantD w g m v j = Adam.delta (rows w j) (rows g j) (rows m j) (rows v j) := rfl

theorem m_pay (x1 x2 : Vec Ideal S64x2816 .f32) (j) : k0_pay2 (F := Ideal) x1 x2 j = Adam.nm (x1 j) (x2 j) := by
  pointwise [k0_pay2, k0_pay1]

theorem v_pay (x1 x3 : Vec Ideal S64x2816 .f32) (j) : k0_pay3 (F := Ideal) x1 x3 j = Adam.nv (x1 j) (x3 j) := by
  have e : k0_pay3 (F := Ideal) x1 x3 j = Ideal.ofBits .f32 0x3F7FBE77#32 * x3 j + Ideal.ofBits .f32 0x3A83126F#32 * x1 j * x1 j := by
    pointwise [k0_pay3, k0_pay1]
  rw [e, mul_assoc]

theorem d_pay (x0 x1 x2 x3 : Vec Ideal S64x2816 .f32) (j) : k0_pay4 (F := Ideal) x1 x2 x3 x0 j = Adam.delta (x0 j) (x1 j) (x2 j) (x3 j) := by
  have e : k0_pay4 (F := Ideal) x1 x2 x3 x0 j = Ideal.ofBits .f32 0xBA83126F#32
      * (Ideal.div (k0_pay2 (F := Ideal) x1 x2 j * Named.named (F := Ideal) κ "inv_bias1" 0x3FC48605#32)
        (Ideal.sqrt (k0_pay3 (F := Ideal) x1 x3 j * Named.named (F := Ideal) κ "inv_bias2" 0x42C8E6D3#32) + Ideal.ofBits .f32 0x322BCC77#32)
        + Ideal.ofBits .f32 0x3C23D70A#32 * x0 j) := by
    unfold k0_pay4
    generalize k0_pay2 (F := Ideal) x1 x2 = a
    generalize k0_pay3 (F := Ideal) x1 x3 = b
    pointwise []
  rw [e, m_pay, v_pay, Adam.delta, Adam.div1, Adam.div2, IdealRules.named_const.ideal_named_scalar κ "inv_bias1" _ _ rfl,
    IdealRules.named_const.ideal_named_scalar κ "inv_bias2" _ _ rfl]

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The arguments, and the arrays the blocks are cut from: the arguments in rows. -/
abbrev a0 (c : Dev nD) : A := m ((c : Thread nD τ).loc main_arg0)
abbrev a1 (c : Dev nD) : A := m ((c : Thread nD τ).loc main_arg1)
abbrev a2 (c : Dev nD) : A := m ((c : Thread nD τ).loc main_arg2)
abbrev a3 (c : Dev nD) : A := m ((c : Thread nD τ).loc main_arg3)
abbrev arrw (c : Dev nD) : Rs := rows (a0 m c)
abbrev arrg (c : Dev nD) : Rs := rows (a1 m c)
abbrev arrm (c : Dev nD) : Rs := rows (a2 m c)
abbrev arrv (c : Dev nD) : Rs := rows (a3 m c)

theorem V_w (c : Dev nD) : V m c main_v0 = arrw m c := by
  unfold V; after_results_simp <;> rfl

theorem V_g (c : Dev nD) : V m c main_v1 = arrg m c := by
  unfold V; after_results_simp <;> rfl

theorem V_m (c : Dev nD) : V m c main_v2 = arrm m c := by
  unfold V; after_results_simp <;> rfl

theorem V_v (c : Dev nD) : V m c main_v3 = arrv m c := by
  unfold V; after_results_simp <;> rfl

section
variable (c : Dev nD) (t : Fin cfg0.N) (y : S64x2816.Idx) (j : S8192x2816.Idx)
  (h0 : (j 0).val = t.val * 64 + (y 0).val) (h1 : (j 1).val = (y 1).val)
include h0 h1

theorem w_at : iblk m c 0 t y = arrw m c j := by
  idx_vars y
  idx_vars j
  obtain rfl : j1 = y1 := Fin.ext h1
  unfold iblk
  rw [(show V m c (Pipeline.arrRef spec0 0) = arrw m c from V_w m c)]
  generalize arrw m c = a
  blk_point [idx t]

theorem g_at : iblk m c 1 t y = arrg m c j := by
  idx_vars y
  idx_vars j
  obtain rfl : j1 = y1 := Fin.ext h1
  unfold iblk
  rw [(show V m c (Pipeline.arrRef spec0 1) = arrg m c from V_g m c)]
  generalize arrg m c = a
  blk_point [idx t]

theorem m_at : iblk m c 2 t y = arrm m c j := by
  idx_vars y
  idx_vars j
  obtain rfl : j1 = y1 := Fin.ext h1
  unfold iblk
  rw [(show V m c (Pipeline.arrRef spec0 2) = arrm m c from V_m m c)]
  generalize arrm m c = a
  blk_point [idx t]

theorem v_at : iblk m c 3 t y = arrv m c j := by
  idx_vars y
  idx_vars j
  obtain rfl : j1 = y1 := Fin.ext h1
  unfold iblk
  rw [(show V m c (Pipeline.arrRef spec0 3) = arrv m c from V_v m c)]
  generalize arrv m c = a
  blk_point [idx t]

/-- What the body leaves of a block is the reference's. -/
theorem pointD :
    k0_pay4 (F := Ideal) (iblk m c 1 t) (iblk m c 2 t) (iblk m c 3 t) (iblk m c 0 t) y = wantD (a0 m c) (a1 m c) (a2 m c) (a3 m c) j := by
  rw [wantD_at, d_pay, w_at m c t y j h0 h1, g_at m c t y j h0 h1, m_at m c t y j h0 h1, v_at m c t y j h0 h1]

theorem pointM :
    k0_pay2 (F := Ideal) (iblk m c 1 t) (iblk m c 2 t) y = wantM (a0 m c) (a1 m c) (a2 m c) (a3 m c) j := by
  rw [wantM_at, m_pay, g_at m c t y j h0 h1, m_at m c t y j h0 h1]

theorem pointV :
    k0_pay3 (F := Ideal) (iblk m c 1 t) (iblk m c 3 t) y = wantV (a0 m c) (a1 m c) (a2 m c) (a3 m c) j := by
  rw [wantV_at, v_pay, g_at m c t y j h0 h1, v_at m c t y j h0 h1]

end

/-- The three arrays after the run. -/
theorem finalD (c : Dev nD) : (dats m 0 c).arrAt 4 (cfgs 0).N = wantD (a0 m c) (a1 m c) (a2 m c) (a3 m c) := by
  refine (dats m 0 c).arrAt_eq_of_covers 4 _ (by decide +kernel) fun t hf y => ?_
  blk_simp
  rw [after0_4]; frame_out
  refine pointD m c t y _ ?_ ?_ <;> (blk_simp [idx t] <;> try omega)

theorem finalM (c : Dev nD) : (dats m 0 c).arrAt 5 (cfgs 0).N = wantM (a0 m c) (a1 m c) (a2 m c) (a3 m c) := by
  refine (dats m 0 c).arrAt_eq_of_covers 5 _ (by decide +kernel) fun t hf y => ?_
  blk_simp
  rw [after0_5]; frame_out
  refine pointM m c t y _ ?_ ?_ <;> (blk_simp [idx t] <;> try omega)

theorem finalV (c : Dev nD) : (dats m 0 c).arrAt 6 (cfgs 0).N = wantV (a0 m c) (a1 m c) (a2 m c) (a3 m c) := by
  refine (dats m 0 c).arrAt_eq_of_covers 6 _ (by decide +kernel) fun t hf y => ?_
  blk_simp
  rw [after0_6]; frame_out
  refine pointV m c t y _ ?_ ?_ <;> (blk_simp [idx t] <;> try omega)

end Cert.Ffn.AdamGu

end
-- ==== Proof.CallAdamDown.lean ====
/- The optimiser's step on the second projections of the feed-forward blocks: the kernel's blocks and the reference's three arrays, entry by entry. -/
module

public import proofs.«01_k».proof.Proof.Gen.AdamDownIdeal.Value
public import proofs.«01_k».proof.Proof.Gen.AdamDownReferenceIdeal.Run
public import Idealize.ShloMosaic.Lib.Pipeline.ValueKit
public import Idealize.ShloMosaic.Lib.Pipeline.ReadBack
public import proofs.«01_k».proof.Proof.Adam

@[expose] public section

set_option maxRecDepth 16384

noncomputable section

namespace Cert.Ffn.AdamDown

open Idealize.ShloMosaic Idealize.ShloMosaic.TcCoe Idealize.SL.Sem Idealize.ShloMosaic.Pointwise
open Cert.AdamDownIdeal Cert.AdamDownIdeal.Gen AdamDownReferenceIdeal.Gen

/-- The weight's arrays, and the same in rows. -/
abbrev A := FVec Ideal S4x1408x2048 .f32
abbrev Rs := FVec Ideal S5632x2048 .f32
abbrev rows (a : A) : Rs := shapeCast _ a AdamDownReferenceIdeal.Gen.shapeCasts_S4x1408x2048_S5632x2048
abbrev bc (b : BitVec 32) : A := broadcastInDim S4x1408x2048 ![] bcast_S_S4x1408x2048 (constant AdamDownReferenceIdeal.S_ .f32 b)

/-- The moments after the step and the weight's change, as the reference spells them. -/
abbrev nm (g m : A) : A := addf (mulf (bc 0x3F666666#32) m) (mulf (bc 0x3DCCCCCD#32) g)
abbrev nv (g v : A) : A := addf (mulf (bc 0x3F7FBE77#32) v) (mulf (bc 0x3A83126F#32) (mulf g g))
abbrev delta (w g m v : A) : A :=
  mulf (bc 0xBA83126F#32) (addf (Host.divf (Host.divf (nm g m) (bc 0x3F26BD02#32))
    (addf (Host.sqrt (Host.divf (nv g v) (bc 0x3C231ACC#32))) (bc 0x322BCC77#32))) (mulf (bc 0x3C23D70A#32) w))

/-- The reference's three results. -/
abbrev wantD (w g m v : A) : Rs := rows (delta w g m v)
abbrev wantM (w g m v : A) : Rs := rows (nm g m)
abbrev wantV (w g m v : A) : Rs := rows (nv g v)

theorem wantM_at (w g m v : A) (j : S5632x2048.Idx) : wantM w g m v j = Adam.nm (rows g j) (rows m j) := rfl
theorem wantV_at (w g m v : A) (j : S5632x2048.Idx) : wantV w g m v j = Adam.nv (rows g j) (rows v j) := rfl
theorem wantD_at (w g m v : A) (j : S5632x2048.Idx) : wantD w g m v j = Adam.delta (rows w j) (rows g j) (rows m j) (rows v j) := rfl

theorem m_pay (x1 x2 : Vec Ideal S128x2048 .f32) (j) : k0_pay2 (F := Ideal) x1 x2 j = Adam.nm (x1 j) (x2 j) := by
  pointwise [k0_pay2, k0_pay1]

theorem v_pay (x1 x3 : Vec Ideal S128x2048 .f32) (j) : k0_pay3 (F := Ideal) x1 x3 j = Adam.nv (x1 j) (x3 j) := by
  have e : k0_pay3 (F := Ideal) x1 x3 j = Ideal.ofBits .f32 0x3F7FBE77#32 * x3 j + Ideal.ofBits .f32 0x3A83126F#32 * x1 j * x1 j := by
    pointwise [k0_pay3, k0_pay1]
  rw [e, mul_assoc]

theorem d_pay (x0 x1 x2 x3 : Vec Ideal S128x2048 .f32) (j) : k0_pay4 (F := Ideal) x1 x2 x3 x0 j = Adam.delta (x0 j) (x1 j) (x2 j) (x3 j) := by
  have e : k0_pay4 (F := Ideal) x1 x2 x3 x0 j = Ideal.ofBits .f32 0xBA83126F#32
      * (Ideal.div (k0_pay2 (F := Ideal) x1 x2 j * Named.named (F := Ideal) κ "inv_bias1" 0x3FC48605#32)
        (Ideal.sqrt (k0_pay3 (F := Ideal) x1 x3 j * Named.named (F := Ideal) κ "inv_bias2" 0x42C8E6D3#32) + Ideal.ofBits .f32 0x322BCC77#32)
        + Ideal.ofBits .f32 0x3C23D70A#32 * x0 j) := by
    unfold k0_pay4
    generalize k0_pay2 (F := Ideal) x1 x2 = a
    generalize k0_pay3 (F := Ideal) x1 x3 = b
    pointwise []
  rw [e, m_pay, v_pay, Adam.delta, Adam.div1, Adam.div2, IdealRules.named_const.ideal_named_scalar κ "inv_bias1" _ _ rfl,
    IdealRules.named_const.ideal_named_scalar κ "inv_bias2" _ _ rfl]

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The arguments, and the arrays the blocks are cut from: the arguments in rows. -/
abbrev a0 (c : Dev nD) : A := m ((c : Thread nD τ).loc main_arg0)
abbrev a1 (c : Dev nD) : A := m ((c : Thread nD τ).loc main_arg1)
abbrev a2 (c : Dev nD) : A := m ((c : Thread nD τ).loc main_arg2)
abbrev a3 (c : Dev nD) : A := m ((c : Thread nD τ).loc main_arg3)
abbrev arrw (c : Dev nD) : Rs := rows (a0 m c)
abbrev arrg (c : Dev nD) : Rs := rows (a1 m c)
abbrev arrm (c : Dev nD) : Rs := rows (a2 m c)
abbrev arrv (c : Dev nD) : Rs := rows (a3 m c)

theorem V_w (c : Dev nD) : V m c main_v0 = arrw m c := by
  unfold V; after_results_simp <;> rfl

theorem V_g (c : Dev nD) : V m c main_v1 = arrg m c := by
  unfold V; after_results_simp <;> rfl

theorem V_m (c : Dev nD) : V m c main_v2 = arrm m c := by
  unfold V; after_results_simp <;> rfl

theorem V_v (c : Dev nD) : V m c main_v3 = arrv m c := by
  unfold V; after_results_simp <;> rfl

section
variable (c : Dev nD) (t : Fin cfg0.N) (y : S128x2048.Idx) (j : S5632x2048.Idx)
  (h0 : (j 0).val = t.val * 128 + (y 0).val) (h1 : (j 1).val = (y 1).val)
include h0 h1

theorem w_at : iblk m c 0 t y = arrw m c j := by
  idx_vars y
  idx_vars j
  obtain rfl : j1 = y1 := Fin.ext h1
  unfold iblk
  rw [(show V m c (Pipeline.arrRef spec0 0) = arrw m c from V_w m c)]
  generalize arrw m c = a
  blk_point [idx t]

theorem g_at : iblk m c 1 t y = arrg m c j := by
  idx_vars y
  idx_vars j
  obtain rfl : j1 = y1 := Fin.ext h1
  unfold iblk
  rw [(show V m c (Pipeline.arrRef spec0 1) = arrg m c from V_g m c)]
  generalize arrg m c = a
  blk_point [idx t]

theorem m_at : iblk m c 2 t y = arrm m c j := by
  idx_vars y
  idx_vars j
  obtain rfl : j1 = y1 := Fin.ext h1
  unfold iblk
  rw [(show V m c (Pipeline.arrRef spec0 2) = arrm m c from V_m m c)]
  generalize arrm m c = a
  blk_point [idx t]

theorem v_at : iblk m c 3 t y = arrv m c j := by
  idx_vars y
  idx_vars j
  obtain rfl : j1 = y1 := Fin.ext h1
  unfold iblk
  rw [(show V m c (Pipeline.arrRef spec0 3) = arrv m c from V_v m c)]
  generalize arrv m c = a
  blk_point [idx t]

/-- What the body leaves of a block is the reference's. -/
theorem pointD :
    k0_pay4 (F := Ideal) (iblk m c 1 t) (iblk m c 2 t) (iblk m c 3 t) (iblk m c 0 t) y = wantD (a0 m c) (a1 m c) (a2 m c) (a3 m c) j := by
  rw [wantD_at, d_pay, w_at m c t y j h0 h1, g_at m c t y j h0 h1, m_at m c t y j h0 h1, v_at m c t y j h0 h1]

theorem pointM :
    k0_pay2 (F := Ideal) (iblk m c 1 t) (iblk m c 2 t) y = wantM (a0 m c) (a1 m c) (a2 m c) (a3 m c) j := by
  rw [wantM_at, m_pay, g_at m c t y j h0 h1, m_at m c t y j h0 h1]

theorem pointV :
    k0_pay3 (F := Ideal) (iblk m c 1 t) (iblk m c 3 t) y = wantV (a0 m c) (a1 m c) (a2 m c) (a3 m c) j := by
  rw [wantV_at, v_pay, g_at m c t y j h0 h1, v_at m c t y j h0 h1]

end

/-- The three arrays after the run. -/
theorem finalD (c : Dev nD) : (dats m 0 c).arrAt 4 (cfgs 0).N = wantD (a0 m c) (a1 m c) (a2 m c) (a3 m c) := by
  refine (dats m 0 c).arrAt_eq_of_covers 4 _ (by decide +kernel) fun t hf y => ?_
  blk_simp
  rw [after0_4]; frame_out
  refine pointD m c t y _ ?_ ?_ <;> (blk_simp [idx t] <;> try omega)

theorem finalM (c : Dev nD) : (dats m 0 c).arrAt 5 (cfgs 0).N = wantM (a0 m c) (a1 m c) (a2 m c) (a3 m c) := by
  refine (dats m 0 c).arrAt_eq_of_covers 5 _ (by decide +kernel) fun t hf y => ?_
  blk_simp
  rw [after0_5]; frame_out
  refine pointM m c t y _ ?_ ?_ <;> (blk_simp [idx t] <;> try omega)

theorem finalV (c : Dev nD) : (dats m 0 c).arrAt 6 (cfgs 0).N = wantV (a0 m c) (a1 m c) (a2 m c) (a3 m c) := by
  refine (dats m 0 c).arrAt_eq_of_covers 6 _ (by decide +kernel) fun t hf y => ?_
  blk_simp
  rw [after0_6]; frame_out
  refine pointV m c t y _ ?_ ?_ <;> (blk_simp [idx t] <;> try omega)

end Cert.Ffn.AdamDown

end
-- ==== Proof.CallAdamKv.lean ====
/- The optimiser's step on the projection of the memory: the kernel's blocks and the reference's three arrays, entry by entry. -/
module

public import proofs.«01_k».proof.Proof.Gen.AdamKvIdeal.Value
public import proofs.«01_k».proof.Proof.Gen.AdamKvReferenceIdeal.Run
public import Idealize.ShloMosaic.Lib.Pipeline.ValueKit
public import Idealize.ShloMosaic.Lib.Pipeline.ReadBack
public import proofs.«01_k».proof.Proof.Adam

@[expose] public section

set_option maxRecDepth 16384

noncomputable section

namespace Cert.Ffn.AdamKv

open Idealize.ShloMosaic Idealize.ShloMosaic.TcCoe Idealize.SL.Sem Idealize.ShloMosaic.Pointwise
open Cert.AdamKvIdeal Cert.AdamKvIdeal.Gen AdamKvReferenceIdeal.Gen

/-- The weight's arrays, and the same in rows. -/
abbrev A := FVec Ideal S4x512x1024 .f32
abbrev Rs := FVec Ideal S2048x1024 .f32
abbrev rows (a : A) : Rs := shapeCast _ a AdamKvReferenceIdeal.Gen.shapeCasts_S4x512x1024_S2048x1024
abbrev bc (b : BitVec 32) : A := broadcastInDim S4x512x1024 ![] bcast_S_S4x512x1024 (constant AdamKvReferenceIdeal.S_ .f32 b)

/-- The moments after the step and the weight's change, as the reference spells them. -/
abbrev nm (g m : A) : A := addf (mulf (bc 0x3F666666#32) m) (mulf (bc 0x3DCCCCCD#32) g)
abbrev nv (g v : A) : A := addf (mulf (bc 0x3F7FBE77#32) v) (mulf (bc 0x3A83126F#32) (mulf g g))
abbrev delta (w g m v : A) : A :=
  mulf (bc 0xBA83126F#32) (addf (Host.divf (Host.divf (nm g m) (bc 0x3F26BD02#32))
    (addf (Host.sqrt (Host.divf (nv g v) (bc 0x3C231ACC#32))) (bc 0x322BCC77#32))) (mulf (bc 0x3C23D70A#32) w))

/-- The reference's three results. -/
abbrev wantD (w g m v : A) : Rs := rows (delta w g m v)
abbrev wantM (w g m v : A) : Rs := rows (nm g m)
abbrev wantV (w g m v : A) : Rs := rows (nv g v)

theorem wantM_at (w g m v : A) (j : S2048x1024.Idx) : wantM w g m v j = Adam.nm (rows g j) (rows m j) := rfl
theorem wantV_at (w g m v : A) (j : S2048x1024.Idx) : wantV w g m v j = Adam.nv (rows g j) (rows v j) := rfl
theorem wantD_at (w g m v : A) (j : S2048x1024.Idx) : wantD w g m v j = Adam.delta (rows w j) (rows g j) (rows m j) (rows v j) := rfl

theorem m_pay (x1 x2 : Vec Ideal S256x1024 .f32) (j) : k0_pay2 (F := Ideal) x1 x2 j = Adam.nm (x1 j) (x2 j) := by
  pointwise [k0_pay2, k0_pay1]

theorem v_pay (x1 x3 : Vec Ideal S256x1024 .f32) (j) : k0_pay3 (F := Ideal) x1 x3 j = Adam.nv (x1 j) (x3 j) := by
  have e : k0_pay3 (F := Ideal) x1 x3 j = Ideal.ofBits .f32 0x3F7FBE77#32 * x3 j + Ideal.ofBits .f32 0x3A83126F#32 * x1 j * x1 j := by
    pointwise [k0_pay3, k0_pay1]
  rw [e, mul_assoc]

theorem d_pay (x0 x1 x2 x3 : Vec Ideal S256x1024 .f32) (j) : k0_pay4 (F := Ideal) x1 x2 x3 x0 j = Adam.delta (x0 j) (x1 j) (x2 j) (x3 j) := by
  have e : k0_pay4 (F := Ideal) x1 x2 x3 x0 j = Ideal.ofBits .f32 0xBA83126F#32
      * (Ideal.div (k0_pay2 (F := Ideal) x1 x2 j * Named.named (F := Ideal) κ "inv_bias1" 0x3FC48605#32)
        (Ideal.sqrt (k0_pay3 (F := Ideal) x1 x3 j * Named.named (F := Ideal) κ "inv_bias2" 0x42C8E6D3#32) + Ideal.ofBits .f32 0x322BCC77#32)
        + Ideal.ofBits .f32 0x3C23D70A#32 * x0 j) := by
    unfold k0_pay4
    generalize k0_pay2 (F := Ideal) x1 x2 = a
    generalize k0_pay3 (F := Ideal) x1 x3 = b
    pointwise []
  rw [e, m_pay, v_pay, Adam.delta, Adam.div1, Adam.div2, IdealRules.named_const.ideal_named_scalar κ "inv_bias1" _ _ rfl,
    IdealRules.named_const.ideal_named_scalar κ "inv_bias2" _ _ rfl]

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The arguments, and the arrays the blocks are cut from: the arguments in rows. -/
abbrev a0 (c : Dev nD) : A := m ((c : Thread nD τ).loc main_arg0)
abbrev a1 (c : Dev nD) : A := m ((c : Thread nD τ).loc main_arg1)
abbrev a2 (c : Dev nD) : A := m ((c : Thread nD τ).loc main_arg2)
abbrev a3 (c : Dev nD) : A := m ((c : Thread nD τ).loc main_arg3)
abbrev arrw (c : Dev nD) : Rs := rows (a0 m c)
abbrev arrg (c : Dev nD) : Rs := rows (a1 m c)
abbrev arrm (c : Dev nD) : Rs := rows (a2 m c)
abbrev arrv (c : Dev nD) : Rs := rows (a3 m c)

theorem V_w (c : Dev nD) : V m c main_v0 = arrw m c := by
  unfold V; after_results_simp <;> rfl

theorem V_g (c : Dev nD) : V m c main_v1 = arrg m c := by
  unfold V; after_results_simp <;> rfl

theorem V_m (c : Dev nD) : V m c main_v2 = arrm m c := by
  unfold V; after_results_simp <;> rfl

theorem V_v (c : Dev nD) : V m c main_v3 = arrv m c := by
  unfold V; after_results_simp <;> rfl

section
variable (c : Dev nD) (t : Fin cfg0.N) (y : S256x1024.Idx) (j : S2048x1024.Idx)
  (h0 : (j 0).val = t.val * 256 + (y 0).val) (h1 : (j 1).val = (y 1).val)
include h0 h1

theorem w_at : iblk m c 0 t y = arrw m c j := by
  idx_vars y
  idx_vars j
  obtain rfl : j1 = y1 := Fin.ext h1
  unfold iblk
  rw [(show V m c (Pipeline.arrRef spec0 0) = arrw m c from V_w m c)]
  generalize arrw m c = a
  blk_point [idx t]

theorem g_at : iblk m c 1 t y = arrg m c j := by
  idx_vars y
  idx_vars j
  obtain rfl : j1 = y1 := Fin.ext h1
  unfold iblk
  rw [(show V m c (Pipeline.arrRef spec0 1) = arrg m c from V_g m c)]
  generalize arrg m c = a
  blk_point [idx t]

theorem m_at : iblk m c 2 t y = arrm m c j := by
  idx_vars y
  idx_vars j
  obtain rfl : j1 = y1 := Fin.ext h1
  unfold iblk
  rw [(show V m c (Pipeline.arrRef spec0 2) = arrm m c from V_m m c)]
  generalize arrm m c = a
  blk_point [idx t]

theorem v_at : iblk m c 3 t y = arrv m c j := by
  idx_vars y
  idx_vars j
  obtain rfl : j1 = y1 := Fin.ext h1
  unfold iblk
  rw [(show V m c (Pipeline.arrRef spec0 3) = arrv m c from V_v m c)]
  generalize arrv m c = a
  blk_point [idx t]

/-- What the body leaves of a block is the reference's. -/
theorem pointD :
    k0_pay4 (F := Ideal) (iblk m c 1 t) (iblk m c 2 t) (iblk m c 3 t) (iblk m c 0 t) y = wantD (a0 m c) (a1 m c) (a2 m c) (a3 m c) j := by
  rw [wantD_at, d_pay, w_at m c t y j h0 h1, g_at m c t y j h0 h1, m_at m c t y j h0 h1, v_at m c t y j h0 h1]

theorem pointM :
    k0_pay2 (F := Ideal) (iblk m c 1 t) (iblk m c 2 t) y = wantM (a0 m c) (a1 m c) (a2 m c) (a3 m c) j := by
  rw [wantM_at, m_pay, g_at m c t y j h0 h1, m_at m c t y j h0 h1]

theorem pointV :
    k0_pay3 (F := Ideal) (iblk m c 1 t) (iblk m c 3 t) y = wantV (a0 m c) (a1 m c) (a2 m c) (a3 m c) j := by
  rw [wantV_at, v_pay, g_at m c t y j h0 h1, v_at m c t y j h0 h1]

end

/-- The three arrays after the run. -/
theorem finalD (c : Dev nD) : (dats m 0 c).arrAt 4 (cfgs 0).N = wantD (a0 m c) (a1 m c) (a2 m c) (a3 m c) := by
  refine (dats m 0 c).arrAt_eq_of_covers 4 _ (by decide +kernel) fun t hf y => ?_
  blk_simp
  rw [after0_4]; frame_out
  refine pointD m c t y _ ?_ ?_ <;> (blk_simp [idx t] <;> try omega)

theorem finalM (c : Dev nD) : (dats m 0 c).arrAt 5 (cfgs 0).N = wantM (a0 m c) (a1 m c) (a2 m c) (a3 m c) := by
  refine (dats m 0 c).arrAt_eq_of_covers 5 _ (by decide +kernel) fun t hf y => ?_
  blk_simp
  rw [after0_5]; frame_out
  refine pointM m c t y _ ?_ ?_ <;> (blk_simp [idx t] <;> try omega)

theorem finalV (c : Dev nD) : (dats m 0 c).arrAt 6 (cfgs 0).N = wantV (a0 m c) (a1 m c) (a2 m c) (a3 m c) := by
  refine (dats m 0 c).arrAt_eq_of_covers 6 _ (by decide +kernel) fun t hf y => ?_
  blk_simp
  rw [after0_6]; frame_out
  refine pointV m c t y _ ?_ ?_ <;> (blk_simp [idx t] <;> try omega)

end Cert.Ffn.AdamKv

end
-- ==== Proof.CallAdamOut.lean ====
/- The optimiser's step on the projection out of the mixers: the kernel's blocks and the reference's three arrays, entry by entry. -/
module

public import proofs.«01_k».proof.Proof.Gen.AdamOutIdeal.Value
public import proofs.«01_k».proof.Proof.Gen.AdamOutReferenceIdeal.Run
public import Idealize.ShloMosaic.Lib.Pipeline.ValueKit
public import Idealize.ShloMosaic.Lib.Pipeline.ReadBack
public import proofs.«01_k».proof.Proof.Adam

@[expose] public section

set_option maxRecDepth 16384

noncomputable section

namespace Cert.Ffn.AdamOut

open Idealize.ShloMosaic Idealize.ShloMosaic.TcCoe Idealize.SL.Sem Idealize.ShloMosaic.Pointwise
open Cert.AdamOutIdeal Cert.AdamOutIdeal.Gen AdamOutReferenceIdeal.Gen

/-- The weight's arrays, and the same in rows. -/
abbrev A := FVec Ideal S4x512x2048 .f32
abbrev Rs := FVec Ideal S2048x2048 .f32
abbrev rows (a : A) : Rs := shapeCast _ a AdamOutReferenceIdeal.Gen.shapeCasts_S4x512x2048_S2048x2048
abbrev bc (b : BitVec 32) : A := broadcastInDim S4x512x2048 ![] bcast_S_S4x512x2048 (constant AdamOutReferenceIdeal.S_ .f32 b)

/-- The moments after the step and the weight's change, as the reference spells them. -/
abbrev nm (g m : A) : A := addf (mulf (bc 0x3F666666#32) m) (mulf (bc 0x3DCCCCCD#32) g)
abbrev nv (g v : A) : A := addf (mulf (bc 0x3F7FBE77#32) v) (mulf (bc 0x3A83126F#32) (mulf g g))
abbrev delta (w g m v : A) : A :=
  mulf (bc 0xBA83126F#32) (addf (Host.divf (Host.divf (nm g m) (bc 0x3F26BD02#32))
    (addf (Host.sqrt (Host.divf (nv g v) (bc 0x3C231ACC#32))) (bc 0x322BCC77#32))) (mulf (bc 0x3C23D70A#32) w))

/-- The reference's three results. -/
abbrev wantD (w g m v : A) : Rs := rows (delta w g m v)
abbrev wantM (w g m v : A) : Rs := rows (nm g m)
abbrev wantV (w g m v : A) : Rs := rows (nv g v)

theorem wantM_at (w g m v : A) (j : S2048x2048.Idx) : wantM w g m v j = Adam.nm (rows g j) (rows m j) := rfl
theorem wantV_at (w g m v : A) (j : S2048x2048.Idx) : wantV w g m v j = Adam.nv (rows g j) (rows v j) := rfl
theorem wantD_at (w g m v : A) (j : S2048x2048.Idx) : wantD w g m v j = Adam.delta (rows w j) (rows g j) (rows m j) (rows v j) := rfl

theorem m_pay (x1 x2 : Vec Ideal S128x2048 .f32) (j) : k0_pay2 (F := Ideal) x1 x2 j = Adam.nm (x1 j) (x2 j) := by
  pointwise [k0_pay2, k0_pay1]

theorem v_pay (x1 x3 : Vec Ideal S128x2048 .f32) (j) : k0_pay3 (F := Ideal) x1 x3 j = Adam.nv (x1 j) (x3 j) := by
  have e : k0_pay3 (F := Ideal) x1 x3 j = Ideal.ofBits .f32 0x3F7FBE77#32 * x3 j + Ideal.ofBits .f32 0x3A83126F#32 * x1 j * x1 j := by
    pointwise [k0_pay3, k0_pay1]
  rw [e, mul_assoc]

theorem d_pay (x0 x1 x2 x3 : Vec Ideal S128x2048 .f32) (j) : k0_pay4 (F := Ideal) x1 x2 x3 x0 j = Adam.delta (x0 j) (x1 j) (x2 j) (x3 j) := by
  have e : k0_pay4 (F := Ideal) x1 x2 x3 x0 j = Ideal.ofBits .f32 0xBA83126F#32
      * (Ideal.div (k0_pay2 (F := Ideal) x1 x2 j * Named.named (F := Ideal) κ "inv_bias1" 0x3FC48605#32)
        (Ideal.sqrt (k0_pay3 (F := Ideal) x1 x3 j * Named.named (F := Ideal) κ "inv_bias2" 0x42C8E6D3#32) + Ideal.ofBits .f32 0x322BCC77#32)
        + Ideal.ofBits .f32 0x3C23D70A#32 * x0 j) := by
    unfold k0_pay4
    generalize k0_pay2 (F := Ideal) x1 x2 = a
    generalize k0_pay3 (F := Ideal) x1 x3 = b
    pointwise []
  rw [e, m_pay, v_pay, Adam.delta, Adam.div1, Adam.div2, IdealRules.named_const.ideal_named_scalar κ "inv_bias1" _ _ rfl,
    IdealRules.named_const.ideal_named_scalar κ "inv_bias2" _ _ rfl]

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The arguments, and the arrays the blocks are cut from: the arguments in rows. -/
abbrev a0 (c : Dev nD) : A := m ((c : Thread nD τ).loc main_arg0)
abbrev a1 (c : Dev nD) : A := m ((c : Thread nD τ).loc main_arg1)
abbrev a2 (c : Dev nD) : A := m ((c : Thread nD τ).loc main_arg2)
abbrev a3 (c : Dev nD) : A := m ((c : Thread nD τ).loc main_arg3)
abbrev arrw (c : Dev nD) : Rs := rows (a0 m c)
abbrev arrg (c : Dev nD) : Rs := rows (a1 m c)
abbrev arrm (c : Dev nD) : Rs := rows (a2 m c)
abbrev arrv (c : Dev nD) : Rs := rows (a3 m c)

theorem V_w (c : Dev nD) : V m c main_v0 = arrw m c := by
  unfold V; after_results_simp <;> rfl

theorem V_g (c : Dev nD) : V m c main_v1 = arrg m c := by
  unfold V; after_results_simp <;> rfl

theorem V_m (c : Dev nD) : V m c main_v2 = arrm m c := by
  unfold V; after_results_simp <;> rfl

theorem V_v (c : Dev nD) : V m c main_v3 = arrv m c := by
  unfold V; after_results_simp <;> rfl

section
variable (c : Dev nD) (t : Fin cfg0.N) (y : S128x2048.Idx) (j : S2048x2048.Idx)
  (h0 : (j 0).val = t.val * 128 + (y 0).val) (h1 : (j 1).val = (y 1).val)
include h0 h1

theorem w_at : iblk m c 0 t y = arrw m c j := by
  idx_vars y
  idx_vars j
  obtain rfl : j1 = y1 := Fin.ext h1
  unfold iblk
  rw [(show V m c (Pipeline.arrRef spec0 0) = arrw m c from V_w m c)]
  generalize arrw m c = a
  blk_point [idx t]

theorem g_at : iblk m c 1 t y = arrg m c j := by
  idx_vars y
  idx_vars j
  obtain rfl : j1 = y1 := Fin.ext h1
  unfold iblk
  rw [(show V m c (Pipeline.arrRef spec0 1) = arrg m c from V_g m c)]
  generalize arrg m c = a
  blk_point [idx t]

theorem m_at : iblk m c 2 t y = arrm m c j := by
  idx_vars y
  idx_vars j
  obtain rfl : j1 = y1 := Fin.ext h1
  unfold iblk
  rw [(show V m c (Pipeline.arrRef spec0 2) = arrm m c from V_m m c)]
  generalize arrm m c = a
  blk_point [idx t]

theorem v_at : iblk m c 3 t y = arrv m c j := by
  idx_vars y
  idx_vars j
  obtain rfl : j1 = y1 := Fin.ext h1
  unfold iblk
  rw [(show V m c (Pipeline.arrRef spec0 3) = arrv m c from V_v m c)]
  generalize arrv m c = a
  blk_point [idx t]

/-- What the body leaves of a block is the reference's. -/
theorem pointD :
    k0_pay4 (F := Ideal) (iblk m c 1 t) (iblk m c 2 t) (iblk m c 3 t) (iblk m c 0 t) y = wantD (a0 m c) (a1 m c) (a2 m c) (a3 m c) j := by
  rw [wantD_at, d_pay, w_at m c t y j h0 h1, g_at m c t y j h0 h1, m_at m c t y j h0 h1, v_at m c t y j h0 h1]

theorem pointM :
    k0_pay2 (F := Ideal) (iblk m c 1 t) (iblk m c 2 t) y = wantM (a0 m c) (a1 m c) (a2 m c) (a3 m c) j := by
  rw [wantM_at, m_pay, g_at m c t y j h0 h1, m_at m c t y j h0 h1]

theorem pointV :
    k0_pay3 (F := Ideal) (iblk m c 1 t) (iblk m c 3 t) y = wantV (a0 m c) (a1 m c) (a2 m c) (a3 m c) j := by
  rw [wantV_at, v_pay, g_at m c t y j h0 h1, v_at m c t y j h0 h1]

end

/-- The three arrays after the run. -/
theorem finalD (c : Dev nD) : (dats m 0 c).arrAt 4 (cfgs 0).N = wantD (a0 m c) (a1 m c) (a2 m c) (a3 m c) := by
  refine (dats m 0 c).arrAt_eq_of_covers 4 _ (by decide +kernel) fun t hf y => ?_
  blk_simp
  rw [after0_4]; frame_out
  refine pointD m c t y _ ?_ ?_ <;> (blk_simp [idx t] <;> try omega)

theorem finalM (c : Dev nD) : (dats m 0 c).arrAt 5 (cfgs 0).N = wantM (a0 m c) (a1 m c) (a2 m c) (a3 m c) := by
  refine (dats m 0 c).arrAt_eq_of_covers 5 _ (by decide +kernel) fun t hf y => ?_
  blk_simp
  rw [after0_5]; frame_out
  refine pointM m c t y _ ?_ ?_ <;> (blk_simp [idx t] <;> try omega)

theorem finalV (c : Dev nD) : (dats m 0 c).arrAt 6 (cfgs 0).N = wantV (a0 m c) (a1 m c) (a2 m c) (a3 m c) := by
  refine (dats m 0 c).arrAt_eq_of_covers 6 _ (by decide +kernel) fun t hf y => ?_
  blk_simp
  rw [after0_6]; frame_out
  refine pointV m c t y _ ?_ ?_ <;> (blk_simp [idx t] <;> try omega)

end Cert.Ffn.AdamOut

end
-- ==== Proof.CallAdamSbin.lean ====
/- The optimiser's step on the projection into the stick-breaking mixers: the kernel's blocks and the reference's three arrays, entry by entry. -/
module

public import proofs.«01_k».proof.Proof.Gen.AdamSbinIdeal.Value
public import proofs.«01_k».proof.Proof.Gen.AdamSbinReferenceIdeal.Run
public import Idealize.ShloMosaic.Lib.Pipeline.ValueKit
public import Idealize.ShloMosaic.Lib.Pipeline.ReadBack
public import proofs.«01_k».proof.Proof.Adam

@[expose] public section

set_option maxRecDepth 16384

noncomputable section

namespace Cert.Ffn.AdamSbin

open Idealize.ShloMosaic Idealize.ShloMosaic.TcCoe Idealize.SL.Sem Idealize.ShloMosaic.Pointwise
open Cert.AdamSbinIdeal Cert.AdamSbinIdeal.Gen AdamSbinReferenceIdeal.Gen

/-- The weight's arrays, and the same in rows. -/
abbrev A := FVec Ideal S2x2048x1280 .f32
abbrev Rs := FVec Ideal S4096x1280 .f32
abbrev rows (a : A) : Rs := shapeCast _ a AdamSbinReferenceIdeal.Gen.shapeCasts_S2x2048x1280_S4096x1280
abbrev bc (b : BitVec 32) : A := broadcastInDim S2x2048x1280 ![] bcast_S_S2x2048x1280 (constant AdamSbinReferenceIdeal.S_ .f32 b)

/-- The moments after the step and the weight's change, as the reference spells them. -/
abbrev nm (g m : A) : A := addf (mulf (bc 0x3F666666#32) m) (mulf (bc 0x3DCCCCCD#32) g)
abbrev nv (g v : A) : A := addf (mulf (bc 0x3F7FBE77#32) v) (mulf (bc 0x3A83126F#32) (mulf g g))
abbrev delta (w g m v : A) : A :=
  mulf (bc 0xBA83126F#32) (addf (Host.divf (Host.divf (nm g m) (bc 0x3F26BD02#32))
    (addf (Host.sqrt (Host.divf (nv g v) (bc 0x3C231ACC#32))) (bc 0x322BCC77#32))) (mulf (bc 0x3C23D70A#32) w))

/-- The reference's three results. -/
abbrev wantD (w g m v : A) : Rs := rows (delta w g m v)
abbrev wantM (w g m v : A) : Rs := rows (nm g m)
abbrev wantV (w g m v : A) : Rs := rows (nv g v)

theorem wantM_at (w g m v : A) (j : S4096x1280.Idx) : wantM w g m v j = Adam.nm (rows g j) (rows m j) := rfl
theorem wantV_at (w g m v : A) (j : S4096x1280.Idx) : wantV w g m v j = Adam.nv (rows g j) (rows v j) := rfl
theorem wantD_at (w g m v : A) (j : S4096x1280.Idx) : wantD w g m v j = Adam.delta (rows w j) (rows g j) (rows m j) (rows v j) := rfl

theorem m_pay (x1 x2 : Vec Ideal S128x1280 .f32) (j) : k0_pay2 (F := Ideal) x1 x2 j = Adam.nm (x1 j) (x2 j) := by
  pointwise [k0_pay2, k0_pay1]

theorem v_pay (x1 x3 : Vec Ideal S128x1280 .f32) (j) : k0_pay3 (F := Ideal) x1 x3 j = Adam.nv (x1 j) (x3 j) := by
  have e : k0_pay3 (F := Ideal) x1 x3 j = Ideal.ofBits .f32 0x3F7FBE77#32 * x3 j + Ideal.ofBits .f32 0x3A83126F#32 * x1 j * x1 j := by
    pointwise [k0_pay3, k0_pay1]
  rw [e, mul_assoc]

theorem d_pay (x0 x1 x2 x3 : Vec Ideal S128x1280 .f32) (j) : k0_pay4 (F := Ideal) x1 x2 x3 x0 j = Adam.delta (x0 j) (x1 j) (x2 j) (x3 j) := by
  have e : k0_pay4 (F := Ideal) x1 x2 x3 x0 j = Ideal.ofBits .f32 0xBA83126F#32
      * (Ideal.div (k0_pay2 (F := Ideal) x1 x2 j * Named.named (F := Ideal) κ "inv_bias1" 0x3FC48605#32)
        (Ideal.sqrt (k0_pay3 (F := Ideal) x1 x3 j * Named.named (F := Ideal) κ "inv_bias2" 0x42C8E6D3#32) + Ideal.ofBits .f32 0x322BCC77#32)
        + Ideal.ofBits .f32 0x3C23D70A#32 * x0 j) := by
    unfold k0_pay4
    generalize k0_pay2 (F := Ideal) x1 x2 = a
    generalize k0_pay3 (F := Ideal) x1 x3 = b
    pointwise []
  rw [e, m_pay, v_pay, Adam.delta, Adam.div1, Adam.div2, IdealRules.named_const.ideal_named_scalar κ "inv_bias1" _ _ rfl,
    IdealRules.named_const.ideal_named_scalar κ "inv_bias2" _ _ rfl]

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The arguments, and the arrays the blocks are cut from: the arguments in rows. -/
abbrev a0 (c : Dev nD) : A := m ((c : Thread nD τ).loc main_arg0)
abbrev a1 (c : Dev nD) : A := m ((c : Thread nD τ).loc main_arg1)
abbrev a2 (c : Dev nD) : A := m ((c : Thread nD τ).loc main_arg2)
abbrev a3 (c : Dev nD) : A := m ((c : Thread nD τ).loc main_arg3)
abbrev arrw (c : Dev nD) : Rs := rows (a0 m c)
abbrev arrg (c : Dev nD) : Rs := rows (a1 m c)
abbrev arrm (c : Dev nD) : Rs := rows (a2 m c)
abbrev arrv (c : Dev nD) : Rs := rows (a3 m c)

theorem V_w (c : Dev nD) : V m c main_v0 = arrw m c := by
  unfold V; after_results_simp <;> rfl

theorem V_g (c : Dev nD) : V m c main_v1 = arrg m c := by
  unfold V; after_results_simp <;> rfl

theorem V_m (c : Dev nD) : V m c main_v2 = arrm m c := by
  unfold V; after_results_simp <;> rfl

theorem V_v (c : Dev nD) : V m c main_v3 = arrv m c := by
  unfold V; after_results_simp <;> rfl

section
variable (c : Dev nD) (t : Fin cfg0.N) (y : S128x1280.Idx) (j : S4096x1280.Idx)
  (h0 : (j 0).val = t.val * 128 + (y 0).val) (h1 : (j 1).val = (y 1).val)
include h0 h1

theorem w_at : iblk m c 0 t y = arrw m c j := by
  idx_vars y
  idx_vars j
  obtain rfl : j1 = y1 := Fin.ext h1
  unfold iblk
  rw [(show V m c (Pipeline.arrRef spec0 0) = arrw m c from V_w m c)]
  generalize arrw m c = a
  blk_point [idx t]

theorem g_at : iblk m c 1 t y = arrg m c j := by
  idx_vars y
  idx_vars j
  obtain rfl : j1 = y1 := Fin.ext h1
  unfold iblk
  rw [(show V m c (Pipeline.arrRef spec0 1) = arrg m c from V_g m c)]
  generalize arrg m c = a
  blk_point [idx t]

theorem m_at : iblk m c 2 t y = arrm m c j := by
  idx_vars y
  idx_vars j
  obtain rfl : j1 = y1 := Fin.ext h1
  unfold iblk
  rw [(show V m c (Pipeline.arrRef spec0 2) = arrm m c from V_m m c)]
  generalize arrm m c = a
  blk_point [idx t]

theorem v_at : iblk m c 3 t y = arrv m c j := by
  idx_vars y
  idx_vars j
  obtain rfl : j1 = y1 := Fin.ext h1
  unfold iblk
  rw [(show V m c (Pipeline.arrRef spec0 3) = arrv m c from V_v m c)]
  generalize arrv m c = a
  blk_point [idx t]

/-- What the body leaves of a block is the reference's. -/
theorem pointD :
    k0_pay4 (F := Ideal) (iblk m c 1 t) (iblk m c 2 t) (iblk m c 3 t) (iblk m c 0 t) y = wantD (a0 m c) (a1 m c) (a2 m c) (a3 m c) j := by
  rw [wantD_at, d_pay, w_at m c t y j h0 h1, g_at m c t y j h0 h1, m_at m c t y j h0 h1, v_at m c t y j h0 h1]

theorem pointM :
    k0_pay2 (F := Ideal) (iblk m c 1 t) (iblk m c 2 t) y = wantM (a0 m c) (a1 m c) (a2 m c) (a3 m c) j := by
  rw [wantM_at, m_pay, g_at m c t y j h0 h1, m_at m c t y j h0 h1]

theorem pointV :
    k0_pay3 (F := Ideal) (iblk m c 1 t) (iblk m c 3 t) y = wantV (a0 m c) (a1 m c) (a2 m c) (a3 m c) j := by
  rw [wantV_at, v_pay, g_at m c t y j h0 h1, v_at m c t y j h0 h1]

end

/-- The three arrays after the run. -/
theorem finalD (c : Dev nD) : (dats m 0 c).arrAt 4 (cfgs 0).N = wantD (a0 m c) (a1 m c) (a2 m c) (a3 m c) := by
  refine (dats m 0 c).arrAt_eq_of_covers 4 _ (by decide +kernel) fun t hf y => ?_
  blk_simp
  rw [after0_4]; frame_out
  refine pointD m c t y _ ?_ ?_ <;> (blk_simp [idx t] <;> try omega)

theorem finalM (c : Dev nD) : (dats m 0 c).arrAt 5 (cfgs 0).N = wantM (a0 m c) (a1 m c) (a2 m c) (a3 m c) := by
  refine (dats m 0 c).arrAt_eq_of_covers 5 _ (by decide +kernel) fun t hf y => ?_
  blk_simp
  rw [after0_5]; frame_out
  refine pointM m c t y _ ?_ ?_ <;> (blk_simp [idx t] <;> try omega)

theorem finalV (c : Dev nD) : (dats m 0 c).arrAt 6 (cfgs 0).N = wantV (a0 m c) (a1 m c) (a2 m c) (a3 m c) := by
  refine (dats m 0 c).arrAt_eq_of_covers 6 _ (by decide +kernel) fun t hf y => ?_
  blk_simp
  rw [after0_6]; frame_out
  refine pointV m c t y _ ?_ ?_ <;> (blk_simp [idx t] <;> try omega)

end Cert.Ffn.AdamSbin

end
-- ==== Proof.CallAdamSsin.lean ====
/- The optimiser's step on the projection into the state space mixers: the kernel's blocks and the reference's three arrays, entry by entry. -/
module

public import proofs.«01_k».proof.Proof.Gen.AdamSsinIdeal.Value
public import proofs.«01_k».proof.Proof.Gen.AdamSsinReferenceIdeal.Run
public import Idealize.ShloMosaic.Lib.Pipeline.ValueKit
public import Idealize.ShloMosaic.Lib.Pipeline.ReadBack
public import proofs.«01_k».proof.Proof.Adam

@[expose] public section

set_option maxRecDepth 16384

noncomputable section

namespace Cert.Ffn.AdamSsin

open Idealize.ShloMosaic Idealize.ShloMosaic.TcCoe Idealize.SL.Sem Idealize.ShloMosaic.Pointwise
open Cert.AdamSsinIdeal Cert.AdamSsinIdeal.Gen AdamSsinReferenceIdeal.Gen

/-- The weight's arrays, and the same in rows. -/
abbrev A := FVec Ideal S2x512x2048 .f32
abbrev Rs := FVec Ideal S1024x2048 .f32
abbrev rows (a : A) : Rs := shapeCast _ a AdamSsinReferenceIdeal.Gen.shapeCasts_S2x512x2048_S1024x2048
abbrev bc (b : BitVec 32) : A := broadcastInDim S2x512x2048 ![] bcast_S_S2x512x2048 (constant AdamSsinReferenceIdeal.S_ .f32 b)

/-- The moments after the step and the weight's change, as the reference spells them. -/
abbrev nm (g m : A) : A := addf (mulf (bc 0x3F666666#32) m) (mulf (bc 0x3DCCCCCD#32) g)
abbrev nv (g v : A) : A := addf (mulf (bc 0x3F7FBE77#32) v) (mulf (bc 0x3A83126F#32) (mulf g g))
abbrev delta (w g m v : A) : A :=
  mulf (bc 0xBA83126F#32) (addf (Host.divf (Host.divf (nm g m) (bc 0x3F26BD02#32))
    (addf (Host.sqrt (Host.divf (nv g v) (bc 0x3C231ACC#32))) (bc 0x322BCC77#32))) (mulf (bc 0x3C23D70A#32) w))

/-- The reference's three results. -/
abbrev wantD (w g m v : A) : Rs := rows (delta w g m v)
abbrev wantM (w g m v : A) : Rs := rows (nm g m)
abbrev wantV (w g m v : A) : Rs := rows (nv g v)

theorem wantM_at (w g m v : A) (j : S1024x2048.Idx) : wantM w g m v j = Adam.nm (rows g j) (rows m j) := rfl
theorem wantV_at (w g m v : A) (j : S1024x2048.Idx) : wantV w g m v j = Adam.nv (rows g j) (rows v j) := rfl
theorem wantD_at (w g m v : A) (j : S1024x2048.Idx) : wantD w g m v j = Adam.delta (rows w j) (rows g j) (rows m j) (rows v j) := rfl

theorem m_pay (x1 x2 : Vec Ideal S128x2048 .f32) (j) : k0_pay2 (F := Ideal) x1 x2 j = Adam.nm (x1 j) (x2 j) := by
  pointwise [k0_pay2, k0_pay1]

theorem v_pay (x1 x3 : Vec Ideal S128x2048 .f32) (j) : k0_pay3 (F := Ideal) x1 x3 j = Adam.nv (x1 j) (x3 j) := by
  have e : k0_pay3 (F := Ideal) x1 x3 j = Ideal.ofBits .f32 0x3F7FBE77#32 * x3 j + Ideal.ofBits .f32 0x3A83126F#32 * x1 j * x1 j := by
    pointwise [k0_pay3, k0_pay1]
  rw [e, mul_assoc]

theorem d_pay (x0 x1 x2 x3 : Vec Ideal S128x2048 .f32) (j) : k0_pay4 (F := Ideal) x1 x2 x3 x0 j = Adam.delta (x0 j) (x1 j) (x2 j) (x3 j) := by
  have e : k0_pay4 (F := Ideal) x1 x2 x3 x0 j = Ideal.ofBits .f32 0xBA83126F#32
      * (Ideal.div (k0_pay2 (F := Ideal) x1 x2 j * Named.named (F := Ideal) κ "inv_bias1" 0x3FC48605#32)
        (Ideal.sqrt (k0_pay3 (F := Ideal) x1 x3 j * Named.named (F := Ideal) κ "inv_bias2" 0x42C8E6D3#32) + Ideal.ofBits .f32 0x322BCC77#32)
        + Ideal.ofBits .f32 0x3C23D70A#32 * x0 j) := by
    unfold k0_pay4
    generalize k0_pay2 (F := Ideal) x1 x2 = a
    generalize k0_pay3 (F := Ideal) x1 x3 = b
    pointwise []
  rw [e, m_pay, v_pay, Adam.delta, Adam.div1, Adam.div2, IdealRules.named_const.ideal_named_scalar κ "inv_bias1" _ _ rfl,
    IdealRules.named_const.ideal_named_scalar κ "inv_bias2" _ _ rfl]

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The arguments, and the arrays the blocks are cut from: the arguments in rows. -/
abbrev a0 (c : Dev nD) : A := m ((c : Thread nD τ).loc main_arg0)
abbrev a1 (c : Dev nD) : A := m ((c : Thread nD τ).loc main_arg1)
abbrev a2 (c : Dev nD) : A := m ((c : Thread nD τ).loc main_arg2)
abbrev a3 (c : Dev nD) : A := m ((c : Thread nD τ).loc main_arg3)
abbrev arrw (c : Dev nD) : Rs := rows (a0 m c)
abbrev arrg (c : Dev nD) : Rs := rows (a1 m c)
abbrev arrm (c : Dev nD) : Rs := rows (a2 m c)
abbrev arrv (c : Dev nD) : Rs := rows (a3 m c)

theorem V_w (c : Dev nD) : V m c main_v0 = arrw m c := by
  unfold V; after_results_simp <;> rfl

theorem V_g (c : Dev nD) : V m c main_v1 = arrg m c := by
  unfold V; after_results_simp <;> rfl

theorem V_m (c : Dev nD) : V m c main_v2 = arrm m c := by
  unfold V; after_results_simp <;> rfl

theorem V_v (c : Dev nD) : V m c main_v3 = arrv m c := by
  unfold V; after_results_simp <;> rfl

section
variable (c : Dev nD) (t : Fin cfg0.N) (y : S128x2048.Idx) (j : S1024x2048.Idx)
  (h0 : (j 0).val = t.val * 128 + (y 0).val) (h1 : (j 1).val = (y 1).val)
include h0 h1

theorem w_at : iblk m c 0 t y = arrw m c j := by
  idx_vars y
  idx_vars j
  obtain rfl : j1 = y1 := Fin.ext h1
  unfold iblk
  rw [(show V m c (Pipeline.arrRef spec0 0) = arrw m c from V_w m c)]
  generalize arrw m c = a
  blk_point [idx t]

theorem g_at : iblk m c 1 t y = arrg m c j := by
  idx_vars y
  idx_vars j
  obtain rfl : j1 = y1 := Fin.ext h1
  unfold iblk
  rw [(show V m c (Pipeline.arrRef spec0 1) = arrg m c from V_g m c)]
  generalize arrg m c = a
  blk_point [idx t]

theorem m_at : iblk m c 2 t y = arrm m c j := by
  idx_vars y
  idx_vars j
  obtain rfl : j1 = y1 := Fin.ext h1
  unfold iblk
  rw [(show V m c (Pipeline.arrRef spec0 2) = arrm m c from V_m m c)]
  generalize arrm m c = a
  blk_point [idx t]

theorem v_at : iblk m c 3 t y = arrv m c j := by
  idx_vars y
  idx_vars j
  obtain rfl : j1 = y1 := Fin.ext h1
  unfold iblk
  rw [(show V m c (Pipeline.arrRef spec0 3) = arrv m c from V_v m c)]
  generalize arrv m c = a
  blk_point [idx t]

/-- What the body leaves of a block is the reference's. -/
theorem pointD :
    k0_pay4 (F := Ideal) (iblk m c 1 t) (iblk m c 2 t) (iblk m c 3 t) (iblk m c 0 t) y = wantD (a0 m c) (a1 m c) (a2 m c) (a3 m c) j := by
  rw [wantD_at, d_pay, w_at m c t y j h0 h1, g_at m c t y j h0 h1, m_at m c t y j h0 h1, v_at m c t y j h0 h1]

theorem pointM :
    k0_pay2 (F := Ideal) (iblk m c 1 t) (iblk m c 2 t) y = wantM (a0 m c) (a1 m c) (a2 m c) (a3 m c) j := by
  rw [wantM_at, m_pay, g_at m c t y j h0 h1, m_at m c t y j h0 h1]

theorem pointV :
    k0_pay3 (F := Ideal) (iblk m c 1 t) (iblk m c 3 t) y = wantV (a0 m c) (a1 m c) (a2 m c) (a3 m c) j := by
  rw [wantV_at, v_pay, g_at m c t y j h0 h1, v_at m c t y j h0 h1]

end

/-- The three arrays after the run. -/
theorem finalD (c : Dev nD) : (dats m 0 c).arrAt 4 (cfgs 0).N = wantD (a0 m c) (a1 m c) (a2 m c) (a3 m c) := by
  refine (dats m 0 c).arrAt_eq_of_covers 4 _ (by decide +kernel) fun t hf y => ?_
  blk_simp
  rw [after0_4]; frame_out
  refine pointD m c t y _ ?_ ?_ <;> (blk_simp [idx t] <;> try omega)

theorem finalM (c : Dev nD) : (dats m 0 c).arrAt 5 (cfgs 0).N = wantM (a0 m c) (a1 m c) (a2 m c) (a3 m c) := by
  refine (dats m 0 c).arrAt_eq_of_covers 5 _ (by decide +kernel) fun t hf y => ?_
  blk_simp
  rw [after0_5]; frame_out
  refine pointM m c t y _ ?_ ?_ <;> (blk_simp [idx t] <;> try omega)

theorem finalV (c : Dev nD) : (dats m 0 c).arrAt 6 (cfgs 0).N = wantV (a0 m c) (a1 m c) (a2 m c) (a3 m c) := by
  refine (dats m 0 c).arrAt_eq_of_covers 6 _ (by decide +kernel) fun t hf y => ?_
  blk_simp
  rw [after0_6]; frame_out
  refine pointV m c t y _ ?_ ?_ <;> (blk_simp [idx t] <;> try omega)

end Cert.Ffn.AdamSsin

end
-- ==== Proof.CallAdamGlu.lean ====
/- The optimiser's step on the gated linear unit's weight: the kernel's blocks and the reference's three arrays, entry by entry. -/
module

public import proofs.«01_k».proof.Proof.Gen.AdamGluIdeal.Value
public import proofs.«01_k».proof.Proof.Gen.AdamGluReferenceIdeal.Run
public import Idealize.ShloMosaic.Lib.Pipeline.ValueKit
public import Idealize.ShloMosaic.Lib.Pipeline.ReadBack
public import proofs.«01_k».proof.Proof.Adam

@[expose] public section

set_option maxRecDepth 16384

noncomputable section

namespace Cert.Ffn.AdamGlu

open Idealize.ShloMosaic Idealize.ShloMosaic.TcCoe Idealize.SL.Sem Idealize.ShloMosaic.Pointwise
open Cert.AdamGluIdeal Cert.AdamGluIdeal.Gen AdamGluReferenceIdeal.Gen

/-- The weight's arrays, and the same in rows. -/
abbrev A := FVec Ideal S2x384x1536 .f32
abbrev Rs := FVec Ideal S768x1536 .f32
abbrev rows (a : A) : Rs := shapeCast _ a AdamGluReferenceIdeal.Gen.shapeCasts_S2x384x1536_S768x1536
abbrev bc (b : BitVec 32) : A := broadcastInDim S2x384x1536 ![] bcast_S_S2x384x1536 (constant AdamGluReferenceIdeal.S_ .f32 b)

/-- The moments after the step and the weight's change, as the reference spells them. -/
abbrev nm (g m : A) : A := addf (mulf (bc 0x3F666666#32) m) (mulf (bc 0x3DCCCCCD#32) g)
abbrev nv (g v : A) : A := addf (mulf (bc 0x3F7FBE77#32) v) (mulf (bc 0x3A83126F#32) (mulf g g))
abbrev delta (w g m v : A) : A :=
  mulf (bc 0xBA83126F#32) (addf (Host.divf (Host.divf (nm g m) (bc 0x3F26BD02#32))
    (addf (Host.sqrt (Host.divf (nv g v) (bc 0x3C231ACC#32))) (bc 0x322BCC77#32))) (mulf (bc 0x3C23D70A#32) w))

/-- The reference's three results. -/
abbrev wantD (w g m v : A) : Rs := rows (delta w g m v)
abbrev wantM (w g m v : A) : Rs := rows (nm g m)
abbrev wantV (w g m v : A) : Rs := rows (nv g v)

theorem wantM_at (w g m v : A) (j : S768x1536.Idx) : wantM w g m v j = Adam.nm (rows g j) (rows m j) := rfl
theorem wantV_at (w g m v : A) (j : S768x1536.Idx) : wantV w g m v j = Adam.nv (rows g j) (rows v j) := rfl
theorem wantD_at (w g m v : A) (j : S768x1536.Idx) : wantD w g m v j = Adam.delta (rows w j) (rows g j) (rows m j) (rows v j) := rfl

theorem m_pay (x1 x2 : Vec Ideal S128x1536 .f32) (j) : k0_pay2 (F := Ideal) x1 x2 j = Adam.nm (x1 j) (x2 j) := by
  pointwise [k0_pay2, k0_pay1]

theorem v_pay (x1 x3 : Vec Ideal S128x1536 .f32) (j) : k0_pay3 (F := Ideal) x1 x3 j = Adam.nv (x1 j) (x3 j) := by
  have e : k0_pay3 (F := Ideal) x1 x3 j = Ideal.ofBits .f32 0x3F7FBE77#32 * x3 j + Ideal.ofBits .f32 0x3A83126F#32 * x1 j * x1 j := by
    pointwise [k0_pay3, k0_pay1]
  rw [e, mul_assoc]

theorem d_pay (x0 x1 x2 x3 : Vec Ideal S128x1536 .f32) (j) : k0_pay4 (F := Ideal) x1 x2 x3 x0 j = Adam.delta (x0 j) (x1 j) (x2 j) (x3 j) := by
  have e : k0_pay4 (F := Ideal) x1 x2 x3 x0 j = Ideal.ofBits .f32 0xBA83126F#32
      * (Ideal.div (k0_pay2 (F := Ideal) x1 x2 j * Named.named (F := Ideal) κ "inv_bias1" 0x3FC48605#32)
        (Ideal.sqrt (k0_pay3 (F := Ideal) x1 x3 j * Named.named (F := Ideal) κ "inv_bias2" 0x42C8E6D3#32) + Ideal.ofBits .f32 0x322BCC77#32)
        + Ideal.ofBits .f32 0x3C23D70A#32 * x0 j) := by
    unfold k0_pay4
    generalize k0_pay2 (F := Ideal) x1 x2 = a
    generalize k0_pay3 (F := Ideal) x1 x3 = b
    pointwise []
  rw [e, m_pay, v_pay, Adam.delta, Adam.div1, Adam.div2, IdealRules.named_const.ideal_named_scalar κ "inv_bias1" _ _ rfl,
    IdealRules.named_const.ideal_named_scalar κ "inv_bias2" _ _ rfl]

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The arguments, and the arrays the blocks are cut from: the arguments in rows. -/
abbrev a0 (c : Dev nD) : A := m ((c : Thread nD τ).loc main_arg0)
abbrev a1 (c : Dev nD) : A := m ((c : Thread nD τ).loc main_arg1)
abbrev a2 (c : Dev nD) : A := m ((c : Thread nD τ).loc main_arg2)
abbrev a3 (c : Dev nD) : A := m ((c : Thread nD τ).loc main_arg3)
abbrev arrw (c : Dev nD) : Rs := rows (a0 m c)
abbrev arrg (c : Dev nD) : Rs := rows (a1 m c)
abbrev arrm (c : Dev nD) : Rs := rows (a2 m c)
abbrev arrv (c : Dev nD) : Rs := rows (a3 m c)

theorem V_w (c : Dev nD) : V m c main_v0 = arrw m c := by
  unfold V; after_results_simp <;> rfl

theorem V_g (c : Dev nD) : V m c main_v1 = arrg m c := by
  unfold V; after_results_simp <;> rfl

theorem V_m (c : Dev nD) : V m c main_v2 = arrm m c := by
  unfold V; after_results_simp <;> rfl

theorem V_v (c : Dev nD) : V m c main_v3 = arrv m c := by
  unfold V; after_results_simp <;> rfl

section
variable (c : Dev nD) (t : Fin cfg0.N) (y : S128x1536.Idx) (j : S768x1536.Idx)
  (h0 : (j 0).val = t.val * 128 + (y 0).val) (h1 : (j 1).val = (y 1).val)
include h0 h1

theorem w_at : iblk m c 0 t y = arrw m c j := by
  idx_vars y
  idx_vars j
  obtain rfl : j1 = y1 := Fin.ext h1
  unfold iblk
  rw [(show V m c (Pipeline.arrRef spec0 0) = arrw m c from V_w m c)]
  generalize arrw m c = a
  blk_point [idx t]

theorem g_at : iblk m c 1 t y = arrg m c j := by
  idx_vars y
  idx_vars j
  obtain rfl : j1 = y1 := Fin.ext h1
  unfold iblk
  rw [(show V m c (Pipeline.arrRef spec0 1) = arrg m c from V_g m c)]
  generalize arrg m c = a
  blk_point [idx t]

theorem m_at : iblk m c 2 t y = arrm m c j := by
  idx_vars y
  idx_vars j
  obtain rfl : j1 = y1 := Fin.ext h1
  unfold iblk
  rw [(show V m c (Pipeline.arrRef spec0 2) = arrm m c from V_m m c)]
  generalize arrm m c = a
  blk_point [idx t]

theorem v_at : iblk m c 3 t y = arrv m c j := by
  idx_vars y
  idx_vars j
  obtain rfl : j1 = y1 := Fin.ext h1
  unfold iblk
  rw [(show V m c (Pipeline.arrRef spec0 3) = arrv m c from V_v m c)]
  generalize arrv m c = a
  blk_point [idx t]

/-- What the body leaves of a block is the reference's. -/
theorem pointD :
    k0_pay4 (F := Ideal) (iblk m c 1 t) (iblk m c 2 t) (iblk m c 3 t) (iblk m c 0 t) y = wantD (a0 m c) (a1 m c) (a2 m c) (a3 m c) j := by
  rw [wantD_at, d_pay, w_at m c t y j h0 h1, g_at m c t y j h0 h1, m_at m c t y j h0 h1, v_at m c t y j h0 h1]

theorem pointM :
    k0_pay2 (F := Ideal) (iblk m c 1 t) (iblk m c 2 t) y = wantM (a0 m c) (a1 m c) (a2 m c) (a3 m c) j := by
  rw [wantM_at, m_pay, g_at m c t y j h0 h1, m_at m c t y j h0 h1]

theorem pointV :
    k0_pay3 (F := Ideal) (iblk m c 1 t) (iblk m c 3 t) y = wantV (a0 m c) (a1 m c) (a2 m c) (a3 m c) j := by
  rw [wantV_at, v_pay, g_at m c t y j h0 h1, v_at m c t y j h0 h1]

end

/-- The three arrays after the run. -/
theorem finalD (c : Dev nD) : (dats m 0 c).arrAt 4 (cfgs 0).N = wantD (a0 m c) (a1 m c) (a2 m c) (a3 m c) := by
  refine (dats m 0 c).arrAt_eq_of_covers 4 _ (by decide +kernel) fun t hf y => ?_
  blk_simp
  rw [after0_4]; frame_out
  refine pointD m c t y _ ?_ ?_ <;> (blk_simp [idx t] <;> try omega)

theorem finalM (c : Dev nD) : (dats m 0 c).arrAt 5 (cfgs 0).N = wantM (a0 m c) (a1 m c) (a2 m c) (a3 m c) := by
  refine (dats m 0 c).arrAt_eq_of_covers 5 _ (by decide +kernel) fun t hf y => ?_
  blk_simp
  rw [after0_5]; frame_out
  refine pointM m c t y _ ?_ ?_ <;> (blk_simp [idx t] <;> try omega)

theorem finalV (c : Dev nD) : (dats m 0 c).arrAt 6 (cfgs 0).N = wantV (a0 m c) (a1 m c) (a2 m c) (a3 m c) := by
  refine (dats m 0 c).arrAt_eq_of_covers 6 _ (by decide +kernel) fun t hf y => ?_
  blk_simp
  rw [after0_6]; frame_out
  refine pointV m c t y _ ?_ ?_ <;> (blk_simp [idx t] <;> try omega)

end Cert.Ffn.AdamGlu

end
-- ==== Proof.CallAdamNorm.lean ====
/- The optimiser's step on the normalisations' gains: the kernel's blocks and the reference's three arrays, entry by entry. -/
module

public import proofs.«01_k».proof.Proof.Gen.AdamNormIdeal.Value
public import proofs.«01_k».proof.Proof.Gen.AdamNormReferenceIdeal.Run
public import Idealize.ShloMosaic.Lib.Pipeline.ValueKit
public import Idealize.ShloMosaic.Lib.Pipeline.ReadBack
public import proofs.«01_k».proof.Proof.Adam

@[expose] public section

set_option maxRecDepth 16384

noncomputable section

namespace Cert.Ffn.AdamNorm

open Idealize.ShloMosaic Idealize.ShloMosaic.TcCoe Idealize.SL.Sem Idealize.ShloMosaic.Pointwise
open Cert.AdamNormIdeal Cert.AdamNormIdeal.Gen AdamNormReferenceIdeal.Gen

/-- The weight's arrays. -/
abbrev A := FVec Ideal S4x2048 .f32
abbrev bc (b : BitVec 32) : A := broadcastInDim S4x2048 ![] bcast_S_S4x2048 (constant AdamNormReferenceIdeal.S_ .f32 b)

/-- The moments after the step and the weight's change, as the reference spells them. -/
abbrev nm (g m : A) : A := addf (mulf (bc 0x3F666666#32) m) (mulf (bc 0x3DCCCCCD#32) g)
abbrev nv (g v : A) : A := addf (mulf (bc 0x3F7FBE77#32) v) (mulf (bc 0x3A83126F#32) (mulf g g))
abbrev delta (w g m v : A) : A :=
  mulf (bc 0xBA83126F#32) (addf (Host.divf (Host.divf (nm g m) (bc 0x3F26BD02#32))
    (addf (Host.sqrt (Host.divf (nv g v) (bc 0x3C231ACC#32))) (bc 0x322BCC77#32))) (mulf (bc 0x3C23D70A#32) w))

/-- The reference's three results. -/
abbrev wantD (w g m v : A) : A := delta w g m v
abbrev wantM (w g m v : A) : A := nm g m
abbrev wantV (w g m v : A) : A := nv g v

theorem wantM_at (w g m v : A) (j : S4x2048.Idx) : wantM w g m v j = Adam.nm (g j) (m j) := rfl
theorem wantV_at (w g m v : A) (j : S4x2048.Idx) : wantV w g m v j = Adam.nv (g j) (v j) := rfl
theorem wantD_at (w g m v : A) (j : S4x2048.Idx) : wantD w g m v j = Adam.delta (w j) (g j) (m j) (v j) := rfl

theorem m_pay (x1 x2 : Vec Ideal S4x2048 .f32) (j) : k0_pay1 (F := Ideal) x1 x2 j = Adam.nm (x1 j) (x2 j) := by
  pointwise [k0_pay1]

theorem v_pay (x1 x3 : Vec Ideal S4x2048 .f32) (j) : k0_pay2 (F := Ideal) x1 x3 j = Adam.nv (x1 j) (x3 j) := by
  have e : k0_pay2 (F := Ideal) x1 x3 j = Ideal.ofBits .f32 0x3F7FBE77#32 * x3 j + Ideal.ofBits .f32 0x3A83126F#32 * x1 j * x1 j := by
    pointwise [k0_pay2]
  rw [e, mul_assoc]

theorem d_pay (x0 x1 x2 x3 : Vec Ideal S4x2048 .f32) (j) : k0_pay3 (F := Ideal) x1 x2 x3 x0 j = Adam.delta (x0 j) (x1 j) (x2 j) (x3 j) := by
  have e : k0_pay3 (F := Ideal) x1 x2 x3 x0 j = Ideal.ofBits .f32 0xBA83126F#32
      * (Ideal.div (k0_pay1 (F := Ideal) x1 x2 j * Named.named (F := Ideal) κ "inv_bias1" 0x3FC48605#32)
        (Ideal.sqrt (k0_pay2 (F := Ideal) x1 x3 j * Named.named (F := Ideal) κ "inv_bias2" 0x42C8E6D3#32) + Ideal.ofBits .f32 0x322BCC77#32)
        + Ideal.ofBits .f32 0x3C23D70A#32 * x0 j) := by
    unfold k0_pay3
    generalize k0_pay1 (F := Ideal) x1 x2 = a
    generalize k0_pay2 (F := Ideal) x1 x3 = b
    pointwise []
  rw [e, m_pay, v_pay, Adam.delta, Adam.div1, Adam.div2, IdealRules.named_const.ideal_named_scalar κ "inv_bias1" _ _ rfl,
    IdealRules.named_const.ideal_named_scalar κ "inv_bias2" _ _ rfl]

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The arguments, which the blocks are cut from. -/
abbrev a0 (c : Dev nD) : A := m ((c : Thread nD τ).loc main_arg0)
abbrev a1 (c : Dev nD) : A := m ((c : Thread nD τ).loc main_arg1)
abbrev a2 (c : Dev nD) : A := m ((c : Thread nD τ).loc main_arg2)
abbrev a3 (c : Dev nD) : A := m ((c : Thread nD τ).loc main_arg3)

section
variable (c : Dev nD) (t : Fin cfg0.N) (y : S4x2048.Idx) (j : S4x2048.Idx)
  (h0 : (j 0).val = t.val * 4 + (y 0).val) (h1 : (j 1).val = (y 1).val)
include h0 h1

theorem w_at : iblk m c 0 t y = a0 m c j := by
  idx_vars y
  idx_vars j
  obtain rfl : j1 = y1 := Fin.ext h1
  blk_point [iblk, V, idx t]

theorem g_at : iblk m c 1 t y = a1 m c j := by
  idx_vars y
  idx_vars j
  obtain rfl : j1 = y1 := Fin.ext h1
  blk_point [iblk, V, idx t]

theorem m_at : iblk m c 2 t y = a2 m c j := by
  idx_vars y
  idx_vars j
  obtain rfl : j1 = y1 := Fin.ext h1
  blk_point [iblk, V, idx t]

theorem v_at : iblk m c 3 t y = a3 m c j := by
  idx_vars y
  idx_vars j
  obtain rfl : j1 = y1 := Fin.ext h1
  blk_point [iblk, V, idx t]

/-- What the body leaves of a block is the reference's. -/
theorem pointD :
    k0_pay3 (F := Ideal) (iblk m c 1 t) (iblk m c 2 t) (iblk m c 3 t) (iblk m c 0 t) y = wantD (a0 m c) (a1 m c) (a2 m c) (a3 m c) j := by
  rw [wantD_at, d_pay, w_at m c t y j h0 h1, g_at m c t y j h0 h1, m_at m c t y j h0 h1, v_at m c t y j h0 h1]

theorem pointM :
    k0_pay1 (F := Ideal) (iblk m c 1 t) (iblk m c 2 t) y = wantM (a0 m c) (a1 m c) (a2 m c) (a3 m c) j := by
  rw [wantM_at, m_pay, g_at m c t y j h0 h1, m_at m c t y j h0 h1]

theorem pointV :
    k0_pay2 (F := Ideal) (iblk m c 1 t) (iblk m c 3 t) y = wantV (a0 m c) (a1 m c) (a2 m c) (a3 m c) j := by
  rw [wantV_at, v_pay, g_at m c t y j h0 h1, v_at m c t y j h0 h1]

end

/-- The three arrays after the run. -/
theorem finalD (c : Dev nD) : (dats m 0 c).arrAt 4 (cfgs 0).N = wantD (a0 m c) (a1 m c) (a2 m c) (a3 m c) := by
  refine (dats m 0 c).arrAt_eq_of_covers 4 _ (by decide +kernel) fun t hf y => ?_
  blk_simp
  rw [after0_4]; frame_out
  refine pointD m c t y _ ?_ ?_ <;> (blk_simp [idx t] <;> try omega)

theorem finalM (c : Dev nD) : (dats m 0 c).arrAt 5 (cfgs 0).N = wantM (a0 m c) (a1 m c) (a2 m c) (a3 m c) := by
  refine (dats m 0 c).arrAt_eq_of_covers 5 _ (by decide +kernel) fun t hf y => ?_
  blk_simp
  rw [after0_5]; frame_out
  refine pointM m c t y _ ?_ ?_ <;> (blk_simp [idx t] <;> try omega)

theorem finalV (c : Dev nD) : (dats m 0 c).arrAt 6 (cfgs 0).N = wantV (a0 m c) (a1 m c) (a2 m c) (a3 m c) := by
  refine (dats m 0 c).arrAt_eq_of_covers 6 _ (by decide +kernel) fun t hf y => ?_
  blk_simp
  rw [after0_6]; frame_out
  refine pointV m c t y _ ?_ ?_ <;> (blk_simp [idx t] <;> try omega)

end Cert.Ffn.AdamNorm

end
-- ==== Proof.CallAdamHead.lean ====
/- The optimiser's step on the memory heads' gains: the kernel's blocks and the reference's three arrays, entry by entry. -/
module

public import proofs.«01_k».proof.Proof.Gen.AdamHeadIdeal.Value
public import proofs.«01_k».proof.Proof.Gen.AdamHeadReferenceIdeal.Run
public import Idealize.ShloMosaic.Lib.Pipeline.ValueKit
public import Idealize.ShloMosaic.Lib.Pipeline.ReadBack
public import proofs.«01_k».proof.Proof.Adam

@[expose] public section

set_option maxRecDepth 16384

noncomputable section

namespace Cert.Ffn.AdamHead

open Idealize.ShloMosaic Idealize.ShloMosaic.TcCoe Idealize.SL.Sem Idealize.ShloMosaic.Pointwise
open Cert.AdamHeadIdeal Cert.AdamHeadIdeal.Gen AdamHeadReferenceIdeal.Gen

/-- The weight's arrays. -/
abbrev A := FVec Ideal S4x128 .f32
abbrev bc (b : BitVec 32) : A := broadcastInDim S4x128 ![] bcast_S_S4x128 (constant AdamHeadReferenceIdeal.S_ .f32 b)

/-- The moments after the step and the weight's change, as the reference spells them. -/
abbrev nm (g m : A) : A := addf (mulf (bc 0x3F666666#32) m) (mulf (bc 0x3DCCCCCD#32) g)
abbrev nv (g v : A) : A := addf (mulf (bc 0x3F7FBE77#32) v) (mulf (bc 0x3A83126F#32) (mulf g g))
abbrev delta (w g m v : A) : A :=
  mulf (bc 0xBA83126F#32) (addf (Host.divf (Host.divf (nm g m) (bc 0x3F26BD02#32))
    (addf (Host.sqrt (Host.divf (nv g v) (bc 0x3C231ACC#32))) (bc 0x322BCC77#32))) (mulf (bc 0x3C23D70A#32) w))

/-- The reference's three results. -/
abbrev wantD (w g m v : A) : A := delta w g m v
abbrev wantM (w g m v : A) : A := nm g m
abbrev wantV (w g m v : A) : A := nv g v

theorem wantM_at (w g m v : A) (j : S4x128.Idx) : wantM w g m v j = Adam.nm (g j) (m j) := rfl
theorem wantV_at (w g m v : A) (j : S4x128.Idx) : wantV w g m v j = Adam.nv (g j) (v j) := rfl
theorem wantD_at (w g m v : A) (j : S4x128.Idx) : wantD w g m v j = Adam.delta (w j) (g j) (m j) (v j) := rfl

theorem m_pay (x1 x2 : Vec Ideal S4x128 .f32) (j) : k0_pay1 (F := Ideal) x1 x2 j = Adam.nm (x1 j) (x2 j) := by
  pointwise [k0_pay1]

theorem v_pay (x1 x3 : Vec Ideal S4x128 .f32) (j) : k0_pay2 (F := Ideal) x1 x3 j = Adam.nv (x1 j) (x3 j) := by
  have e : k0_pay2 (F := Ideal) x1 x3 j = Ideal.ofBits .f32 0x3F7FBE77#32 * x3 j + Ideal.ofBits .f32 0x3A83126F#32 * x1 j * x1 j := by
    pointwise [k0_pay2]
  rw [e, mul_assoc]

theorem d_pay (x0 x1 x2 x3 : Vec Ideal S4x128 .f32) (j) : k0_pay3 (F := Ideal) x1 x2 x3 x0 j = Adam.delta (x0 j) (x1 j) (x2 j) (x3 j) := by
  have e : k0_pay3 (F := Ideal) x1 x2 x3 x0 j = Ideal.ofBits .f32 0xBA83126F#32
      * (Ideal.div (k0_pay1 (F := Ideal) x1 x2 j * Named.named (F := Ideal) κ "inv_bias1" 0x3FC48605#32)
        (Ideal.sqrt (k0_pay2 (F := Ideal) x1 x3 j * Named.named (F := Ideal) κ "inv_bias2" 0x42C8E6D3#32) + Ideal.ofBits .f32 0x322BCC77#32)
        + Ideal.ofBits .f32 0x3C23D70A#32 * x0 j) := by
    unfold k0_pay3
    generalize k0_pay1 (F := Ideal) x1 x2 = a
    generalize k0_pay2 (F := Ideal) x1 x3 = b
    pointwise []
  rw [e, m_pay, v_pay, Adam.delta, Adam.div1, Adam.div2, IdealRules.named_const.ideal_named_scalar κ "inv_bias1" _ _ rfl,
    IdealRules.named_const.ideal_named_scalar κ "inv_bias2" _ _ rfl]

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The arguments, which the blocks are cut from. -/
abbrev a0 (c : Dev nD) : A := m ((c : Thread nD τ).loc main_arg0)
abbrev a1 (c : Dev nD) : A := m ((c : Thread nD τ).loc main_arg1)
abbrev a2 (c : Dev nD) : A := m ((c : Thread nD τ).loc main_arg2)
abbrev a3 (c : Dev nD) : A := m ((c : Thread nD τ).loc main_arg3)

section
variable (c : Dev nD) (t : Fin cfg0.N) (y : S4x128.Idx) (j : S4x128.Idx)
  (h0 : (j 0).val = t.val * 4 + (y 0).val) (h1 : (j 1).val = (y 1).val)
include h0 h1

theorem w_at : iblk m c 0 t y = a0 m c j := by
  idx_vars y
  idx_vars j
  obtain rfl : j1 = y1 := Fin.ext h1
  blk_point [iblk, V, idx t]

theorem g_at : iblk m c 1 t y = a1 m c j := by
  idx_vars y
  idx_vars j
  obtain rfl : j1 = y1 := Fin.ext h1
  blk_point [iblk, V, idx t]

theorem m_at : iblk m c 2 t y = a2 m c j := by
  idx_vars y
  idx_vars j
  obtain rfl : j1 = y1 := Fin.ext h1
  blk_point [iblk, V, idx t]

theorem v_at : iblk m c 3 t y = a3 m c j := by
  idx_vars y
  idx_vars j
  obtain rfl : j1 = y1 := Fin.ext h1
  blk_point [iblk, V, idx t]

/-- What the body leaves of a block is the reference's. -/
theorem pointD :
    k0_pay3 (F := Ideal) (iblk m c 1 t) (iblk m c 2 t) (iblk m c 3 t) (iblk m c 0 t) y = wantD (a0 m c) (a1 m c) (a2 m c) (a3 m c) j := by
  rw [wantD_at, d_pay, w_at m c t y j h0 h1, g_at m c t y j h0 h1, m_at m c t y j h0 h1, v_at m c t y j h0 h1]

theorem pointM :
    k0_pay1 (F := Ideal) (iblk m c 1 t) (iblk m c 2 t) y = wantM (a0 m c) (a1 m c) (a2 m c) (a3 m c) j := by
  rw [wantM_at, m_pay, g_at m c t y j h0 h1, m_at m c t y j h0 h1]

theorem pointV :
    k0_pay2 (F := Ideal) (iblk m c 1 t) (iblk m c 3 t) y = wantV (a0 m c) (a1 m c) (a2 m c) (a3 m c) j := by
  rw [wantV_at, v_pay, g_at m c t y j h0 h1, v_at m c t y j h0 h1]

end

/-- The three arrays after the run. -/
theorem finalD (c : Dev nD) : (dats m 0 c).arrAt 4 (cfgs 0).N = wantD (a0 m c) (a1 m c) (a2 m c) (a3 m c) := by
  refine (dats m 0 c).arrAt_eq_of_covers 4 _ (by decide +kernel) fun t hf y => ?_
  blk_simp
  rw [after0_4]; frame_out
  refine pointD m c t y _ ?_ ?_ <;> (blk_simp [idx t] <;> try omega)

theorem finalM (c : Dev nD) : (dats m 0 c).arrAt 5 (cfgs 0).N = wantM (a0 m c) (a1 m c) (a2 m c) (a3 m c) := by
  refine (dats m 0 c).arrAt_eq_of_covers 5 _ (by decide +kernel) fun t hf y => ?_
  blk_simp
  rw [after0_5]; frame_out
  refine pointM m c t y _ ?_ ?_ <;> (blk_simp [idx t] <;> try omega)

theorem finalV (c : Dev nD) : (dats m 0 c).arrAt 6 (cfgs 0).N = wantV (a0 m c) (a1 m c) (a2 m c) (a3 m c) := by
  refine (dats m 0 c).arrAt_eq_of_covers 6 _ (by decide +kernel) fun t hf y => ?_
  blk_simp
  rw [after0_6]; frame_out
  refine pointV m c t y _ ?_ ?_ <;> (blk_simp [idx t] <;> try omega)

end Cert.Ffn.AdamHead

end
-- ==== Proof.CallAdamDt.lean ====
/- The optimiser's step on the state space layers' step sizes: the kernel's blocks and the reference's three arrays, entry by entry. -/
module

public import proofs.«01_k».proof.Proof.Gen.AdamDtIdeal.Value
public import proofs.«01_k».proof.Proof.Gen.AdamDtReferenceIdeal.Run
public import Idealize.ShloMosaic.Lib.Pipeline.ValueKit
public import Idealize.ShloMosaic.Lib.Pipeline.ReadBack
public import proofs.«01_k».proof.Proof.Adam

@[expose] public section

set_option maxRecDepth 16384

noncomputable section

namespace Cert.Ffn.AdamDt

open Idealize.ShloMosaic Idealize.ShloMosaic.TcCoe Idealize.SL.Sem Idealize.ShloMosaic.Pointwise
open Cert.AdamDtIdeal Cert.AdamDtIdeal.Gen AdamDtReferenceIdeal.Gen

/-- The weight's arrays. -/
abbrev A := FVec Ideal S2x96 .f32
abbrev bc (b : BitVec 32) : A := broadcastInDim S2x96 ![] bcast_S_S2x96 (constant AdamDtReferenceIdeal.S_ .f32 b)

/-- The moments after the step and the weight's change, as the reference spells them. -/
abbrev nm (g m : A) : A := addf (mulf (bc 0x3F666666#32) m) (mulf (bc 0x3DCCCCCD#32) g)
abbrev nv (g v : A) : A := addf (mulf (bc 0x3F7FBE77#32) v) (mulf (bc 0x3A83126F#32) (mulf g g))
abbrev delta (w g m v : A) : A :=
  mulf (bc 0xBA83126F#32) (addf (Host.divf (Host.divf (nm g m) (bc 0x3F26BD02#32))
    (addf (Host.sqrt (Host.divf (nv g v) (bc 0x3C231ACC#32))) (bc 0x322BCC77#32))) (mulf (bc 0x3C23D70A#32) w))

/-- The reference's three results. -/
abbrev wantD (w g m v : A) : A := delta w g m v
abbrev wantM (w g m v : A) : A := nm g m
abbrev wantV (w g m v : A) : A := nv g v

theorem wantM_at (w g m v : A) (j : S2x96.Idx) : wantM w g m v j = Adam.nm (g j) (m j) := rfl
theorem wantV_at (w g m v : A) (j : S2x96.Idx) : wantV w g m v j = Adam.nv (g j) (v j) := rfl
theorem wantD_at (w g m v : A) (j : S2x96.Idx) : wantD w g m v j = Adam.delta (w j) (g j) (m j) (v j) := rfl

theorem m_pay (x1 x2 : Vec Ideal S2x96 .f32) (j) : k0_pay1 (F := Ideal) x1 x2 j = Adam.nm (x1 j) (x2 j) := by
  pointwise [k0_pay1]

theorem v_pay (x1 x3 : Vec Ideal S2x96 .f32) (j) : k0_pay2 (F := Ideal) x1 x3 j = Adam.nv (x1 j) (x3 j) := by
  have e : k0_pay2 (F := Ideal) x1 x3 j = Ideal.ofBits .f32 0x3F7FBE77#32 * x3 j + Ideal.ofBits .f32 0x3A83126F#32 * x1 j * x1 j := by
    pointwise [k0_pay2]
  rw [e, mul_assoc]

theorem d_pay (x0 x1 x2 x3 : Vec Ideal S2x96 .f32) (j) : k0_pay3 (F := Ideal) x1 x2 x3 x0 j = Adam.delta (x0 j) (x1 j) (x2 j) (x3 j) := by
  have e : k0_pay3 (F := Ideal) x1 x2 x3 x0 j = Ideal.ofBits .f32 0xBA83126F#32
      * (Ideal.div (k0_pay1 (F := Ideal) x1 x2 j * Named.named (F := Ideal) κ "inv_bias1" 0x3FC48605#32)
        (Ideal.sqrt (k0_pay2 (F := Ideal) x1 x3 j * Named.named (F := Ideal) κ "inv_bias2" 0x42C8E6D3#32) + Ideal.ofBits .f32 0x322BCC77#32)
        + Ideal.ofBits .f32 0x3C23D70A#32 * x0 j) := by
    unfold k0_pay3
    generalize k0_pay1 (F := Ideal) x1 x2 = a
    generalize k0_pay2 (F := Ideal) x1 x3 = b
    pointwise []
  rw [e, m_pay, v_pay, Adam.delta, Adam.div1, Adam.div2, IdealRules.named_const.ideal_named_scalar κ "inv_bias1" _ _ rfl,
    IdealRules.named_const.ideal_named_scalar κ "inv_bias2" _ _ rfl]

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The arguments, which the blocks are cut from. -/
abbrev a0 (c : Dev nD) : A := m ((c : Thread nD τ).loc main_arg0)
abbrev a1 (c : Dev nD) : A := m ((c : Thread nD τ).loc main_arg1)
abbrev a2 (c : Dev nD) : A := m ((c : Thread nD τ).loc main_arg2)
abbrev a3 (c : Dev nD) : A := m ((c : Thread nD τ).loc main_arg3)

section
variable (c : Dev nD) (t : Fin cfg0.N) (y : S2x96.Idx) (j : S2x96.Idx)
  (h0 : (j 0).val = t.val * 2 + (y 0).val) (h1 : (j 1).val = (y 1).val)
include h0 h1

theorem w_at : iblk m c 0 t y = a0 m c j := by
  idx_vars y
  idx_vars j
  obtain rfl : j1 = y1 := Fin.ext h1
  blk_point [iblk, V, idx t]

theorem g_at : iblk m c 1 t y = a1 m c j := by
  idx_vars y
  idx_vars j
  obtain rfl : j1 = y1 := Fin.ext h1
  blk_point [iblk, V, idx t]

theorem m_at : iblk m c 2 t y = a2 m c j := by
  idx_vars y
  idx_vars j
  obtain rfl : j1 = y1 := Fin.ext h1
  blk_point [iblk, V, idx t]

theorem v_at : iblk m c 3 t y = a3 m c j := by
  idx_vars y
  idx_vars j
  obtain rfl : j1 = y1 := Fin.ext h1
  blk_point [iblk, V, idx t]

/-- What the body leaves of a block is the reference's. -/
theorem pointD :
    k0_pay3 (F := Ideal) (iblk m c 1 t) (iblk m c 2 t) (iblk m c 3 t) (iblk m c 0 t) y = wantD (a0 m c) (a1 m c) (a2 m c) (a3 m c) j := by
  rw [wantD_at, d_pay, w_at m c t y j h0 h1, g_at m c t y j h0 h1, m_at m c t y j h0 h1, v_at m c t y j h0 h1]

theorem pointM :
    k0_pay1 (F := Ideal) (iblk m c 1 t) (iblk m c 2 t) y = wantM (a0 m c) (a1 m c) (a2 m c) (a3 m c) j := by
  rw [wantM_at, m_pay, g_at m c t y j h0 h1, m_at m c t y j h0 h1]

theorem pointV :
    k0_pay2 (F := Ideal) (iblk m c 1 t) (iblk m c 3 t) y = wantV (a0 m c) (a1 m c) (a2 m c) (a3 m c) j := by
  rw [wantV_at, v_pay, g_at m c t y j h0 h1, v_at m c t y j h0 h1]

end

/-- The three arrays after the run. -/
theorem finalD (c : Dev nD) : (dats m 0 c).arrAt 4 (cfgs 0).N = wantD (a0 m c) (a1 m c) (a2 m c) (a3 m c) := by
  refine (dats m 0 c).arrAt_eq_of_covers 4 _ (by decide +kernel) fun t hf y => ?_
  blk_simp
  rw [after0_4]; frame_out
  refine pointD m c t y _ ?_ ?_ <;> (blk_simp [idx t] <;> try omega)

theorem finalM (c : Dev nD) : (dats m 0 c).arrAt 5 (cfgs 0).N = wantM (a0 m c) (a1 m c) (a2 m c) (a3 m c) := by
  refine (dats m 0 c).arrAt_eq_of_covers 5 _ (by decide +kernel) fun t hf y => ?_
  blk_simp
  rw [after0_5]; frame_out
  refine pointM m c t y _ ?_ ?_ <;> (blk_simp [idx t] <;> try omega)

theorem finalV (c : Dev nD) : (dats m 0 c).arrAt 6 (cfgs 0).N = wantV (a0 m c) (a1 m c) (a2 m c) (a3 m c) := by
  refine (dats m 0 c).arrAt_eq_of_covers 6 _ (by decide +kernel) fun t hf y => ?_
  blk_simp
  rw [after0_6]; frame_out
  refine pointV m c t y _ ?_ ?_ <;> (blk_simp [idx t] <;> try omega)

end Cert.Ffn.AdamDt

end
-- ==== Proof.CallAdamA.lean ====
/- The optimiser's step on the state space layers' transition: the kernel's blocks and the reference's three arrays, entry by entry. -/
module

public import proofs.«01_k».proof.Proof.Gen.AdamAIdeal.Value
public import proofs.«01_k».proof.Proof.Gen.AdamAReferenceIdeal.Run
public import Idealize.ShloMosaic.Lib.Pipeline.ValueKit
public import Idealize.ShloMosaic.Lib.Pipeline.ReadBack
public import proofs.«01_k».proof.Proof.Adam

@[expose] public section

set_option maxRecDepth 16384

noncomputable section

namespace Cert.Ffn.AdamA

open Idealize.ShloMosaic Idealize.ShloMosaic.TcCoe Idealize.SL.Sem Idealize.ShloMosaic.Pointwise
open Cert.AdamAIdeal Cert.AdamAIdeal.Gen AdamAReferenceIdeal.Gen

/-- The weight's arrays, and the same in rows. -/
abbrev A := FVec Ideal S2x96x64 .f32
abbrev Rs := FVec Ideal S96x128 .f32
abbrev rows (a : A) : Rs := shapeCast _ a AdamAReferenceIdeal.Gen.shapeCasts_S2x96x64_S96x128
abbrev bc (b : BitVec 32) : A := broadcastInDim S2x96x64 ![] bcast_S_S2x96x64 (constant AdamAReferenceIdeal.S_ .f32 b)

/-- The moments after the step and the weight's change, as the reference spells them. -/
abbrev nm (g m : A) : A := addf (mulf (bc 0x3F666666#32) m) (mulf (bc 0x3DCCCCCD#32) g)
abbrev nv (g v : A) : A := addf (mulf (bc 0x3F7FBE77#32) v) (mulf (bc 0x3A83126F#32) (mulf g g))
abbrev delta (w g m v : A) : A :=
  mulf (bc 0xBA83126F#32) (addf (Host.divf (Host.divf (nm g m) (bc 0x3F26BD02#32))
    (addf (Host.sqrt (Host.divf (nv g v) (bc 0x3C231ACC#32))) (bc 0x322BCC77#32))) (mulf (bc 0x3C23D70A#32) w))

/-- The reference's three results. -/
abbrev wantD (w g m v : A) : Rs := rows (delta w g m v)
abbrev wantM (w g m v : A) : Rs := rows (nm g m)
abbrev wantV (w g m v : A) : Rs := rows (nv g v)

theorem wantM_at (w g m v : A) (j : S96x128.Idx) : wantM w g m v j = Adam.nm (rows g j) (rows m j) := rfl
theorem wantV_at (w g m v : A) (j : S96x128.Idx) : wantV w g m v j = Adam.nv (rows g j) (rows v j) := rfl
theorem wantD_at (w g m v : A) (j : S96x128.Idx) : wantD w g m v j = Adam.delta (rows w j) (rows g j) (rows m j) (rows v j) := rfl

theorem m_pay (x1 x2 : Vec Ideal S96x128 .f32) (j) : k0_pay2 (F := Ideal) x1 x2 j = Adam.nm (x1 j) (x2 j) := by
  pointwise [k0_pay2, k0_pay1]

theorem v_pay (x1 x3 : Vec Ideal S96x128 .f32) (j) : k0_pay3 (F := Ideal) x1 x3 j = Adam.nv (x1 j) (x3 j) := by
  have e : k0_pay3 (F := Ideal) x1 x3 j = Ideal.ofBits .f32 0x3F7FBE77#32 * x3 j + Ideal.ofBits .f32 0x3A83126F#32 * x1 j * x1 j := by
    pointwise [k0_pay3, k0_pay1]
  rw [e, mul_assoc]

theorem d_pay (x0 x1 x2 x3 : Vec Ideal S96x128 .f32) (j) : k0_pay4 (F := Ideal) x1 x2 x3 x0 j = Adam.delta (x0 j) (x1 j) (x2 j) (x3 j) := by
  have e : k0_pay4 (F := Ideal) x1 x2 x3 x0 j = Ideal.ofBits .f32 0xBA83126F#32
      * (Ideal.div (k0_pay2 (F := Ideal) x1 x2 j * Named.named (F := Ideal) κ "inv_bias1" 0x3FC48605#32)
        (Ideal.sqrt (k0_pay3 (F := Ideal) x1 x3 j * Named.named (F := Ideal) κ "inv_bias2" 0x42C8E6D3#32) + Ideal.ofBits .f32 0x322BCC77#32)
        + Ideal.ofBits .f32 0x3C23D70A#32 * x0 j) := by
    unfold k0_pay4
    generalize k0_pay2 (F := Ideal) x1 x2 = a
    generalize k0_pay3 (F := Ideal) x1 x3 = b
    pointwise []
  rw [e, m_pay, v_pay, Adam.delta, Adam.div1, Adam.div2, IdealRules.named_const.ideal_named_scalar κ "inv_bias1" _ _ rfl,
    IdealRules.named_const.ideal_named_scalar κ "inv_bias2" _ _ rfl]

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The arguments, and the arrays the blocks are cut from: the arguments in rows. -/
abbrev a0 (c : Dev nD) : A := m ((c : Thread nD τ).loc main_arg0)
abbrev a1 (c : Dev nD) : A := m ((c : Thread nD τ).loc main_arg1)
abbrev a2 (c : Dev nD) : A := m ((c : Thread nD τ).loc main_arg2)
abbrev a3 (c : Dev nD) : A := m ((c : Thread nD τ).loc main_arg3)
abbrev arrw (c : Dev nD) : Rs := rows (a0 m c)
abbrev arrg (c : Dev nD) : Rs := rows (a1 m c)
abbrev arrm (c : Dev nD) : Rs := rows (a2 m c)
abbrev arrv (c : Dev nD) : Rs := rows (a3 m c)

theorem V_w (c : Dev nD) : V m c main_v0 = arrw m c := by
  unfold V; after_results_simp <;> rfl

theorem V_g (c : Dev nD) : V m c main_v1 = arrg m c := by
  unfold V; after_results_simp <;> rfl

theorem V_m (c : Dev nD) : V m c main_v2 = arrm m c := by
  unfold V; after_results_simp <;> rfl

theorem V_v (c : Dev nD) : V m c main_v3 = arrv m c := by
  unfold V; after_results_simp <;> rfl

section
variable (c : Dev nD) (t : Fin cfg0.N) (y : S96x128.Idx) (j : S96x128.Idx)
  (h0 : (j 0).val = t.val * 96 + (y 0).val) (h1 : (j 1).val = (y 1).val)
include h0 h1

theorem w_at : iblk m c 0 t y = arrw m c j := by
  idx_vars y
  idx_vars j
  obtain rfl : j1 = y1 := Fin.ext h1
  unfold iblk
  rw [(show V m c (Pipeline.arrRef spec0 0) = arrw m c from V_w m c)]
  generalize arrw m c = a
  blk_point [idx t]

theorem g_at : iblk m c 1 t y = arrg m c j := by
  idx_vars y
  idx_vars j
  obtain rfl : j1 = y1 := Fin.ext h1
  unfold iblk
  rw [(show V m c (Pipeline.arrRef spec0 1) = arrg m c from V_g m c)]
  generalize arrg m c = a
  blk_point [idx t]

theorem m_at : iblk m c 2 t y = arrm m c j := by
  idx_vars y
  idx_vars j
  obtain rfl : j1 = y1 := Fin.ext h1
  unfold iblk
  rw [(show V m c (Pipeline.arrRef spec0 2) = arrm m c from V_m m c)]
  generalize arrm m c = a
  blk_point [idx t]

theorem v_at : iblk m c 3 t y = arrv m c j := by
  idx_vars y
  idx_vars j
  obtain rfl : j1 = y1 := Fin.ext h1
  unfold iblk
  rw [(show V m c (Pipeline.arrRef spec0 3) = arrv m c from V_v m c)]
  generalize arrv m c = a
  blk_point [idx t]

/-- What the body leaves of a block is the reference's. -/
theorem pointD :
    k0_pay4 (F := Ideal) (iblk m c 1 t) (iblk m c 2 t) (iblk m c 3 t) (iblk m c 0 t) y = wantD (a0 m c) (a1 m c) (a2 m c) (a3 m c) j := by
  rw [wantD_at, d_pay, w_at m c t y j h0 h1, g_at m c t y j h0 h1, m_at m c t y j h0 h1, v_at m c t y j h0 h1]

theorem pointM :
    k0_pay2 (F := Ideal) (iblk m c 1 t) (iblk m c 2 t) y = wantM (a0 m c) (a1 m c) (a2 m c) (a3 m c) j := by
  rw [wantM_at, m_pay, g_at m c t y j h0 h1, m_at m c t y j h0 h1]

theorem pointV :
    k0_pay3 (F := Ideal) (iblk m c 1 t) (iblk m c 3 t) y = wantV (a0 m c) (a1 m c) (a2 m c) (a3 m c) j := by
  rw [wantV_at, v_pay, g_at m c t y j h0 h1, v_at m c t y j h0 h1]

end

/-- The three arrays after the run. -/
theorem finalD (c : Dev nD) : (dats m 0 c).arrAt 4 (cfgs 0).N = wantD (a0 m c) (a1 m c) (a2 m c) (a3 m c) := by
  refine (dats m 0 c).arrAt_eq_of_covers 4 _ (by decide +kernel) fun t hf y => ?_
  blk_simp
  rw [after0_4]; frame_out
  refine pointD m c t y _ ?_ ?_ <;> (blk_simp [idx t] <;> try omega)

theorem finalM (c : Dev nD) : (dats m 0 c).arrAt 5 (cfgs 0).N = wantM (a0 m c) (a1 m c) (a2 m c) (a3 m c) := by
  refine (dats m 0 c).arrAt_eq_of_covers 5 _ (by decide +kernel) fun t hf y => ?_
  blk_simp
  rw [after0_5]; frame_out
  refine pointM m c t y _ ?_ ?_ <;> (blk_simp [idx t] <;> try omega)

theorem finalV (c : Dev nD) : (dats m 0 c).arrAt 6 (cfgs 0).N = wantV (a0 m c) (a1 m c) (a2 m c) (a3 m c) := by
  refine (dats m 0 c).arrAt_eq_of_covers 6 _ (by decide +kernel) fun t hf y => ?_
  blk_simp
  rw [after0_6]; frame_out
  refine pointV m c t y _ ?_ ?_ <;> (blk_simp [idx t] <;> try omega)

end Cert.Ffn.AdamA

end
-- ==== Proof.CallAdamB.lean ====
/- The optimiser's step on the state space layers' input weights: the kernel's blocks and the reference's three arrays, entry by entry. -/
module

public import proofs.«01_k».proof.Proof.Gen.AdamBIdeal.Value
public import proofs.«01_k».proof.Proof.Gen.AdamBReferenceIdeal.Run
public import Idealize.ShloMosaic.Lib.Pipeline.ValueKit
public import Idealize.ShloMosaic.Lib.Pipeline.ReadBack
public import proofs.«01_k».proof.Proof.Adam

@[expose] public section

set_option maxRecDepth 16384

noncomputable section

namespace Cert.Ffn.AdamB

open Idealize.ShloMosaic Idealize.ShloMosaic.TcCoe Idealize.SL.Sem Idealize.ShloMosaic.Pointwise
open Cert.AdamBIdeal Cert.AdamBIdeal.Gen AdamBReferenceIdeal.Gen

/-- The weight's arrays, and the same in rows. -/
abbrev A := FVec Ideal S2x96x64x16 .f32
abbrev Rs := FVec Ideal S1536x128 .f32
abbrev rows (a : A) : Rs := shapeCast _ a AdamBReferenceIdeal.Gen.shapeCasts_S2x96x64x16_S1536x128
abbrev bc (b : BitVec 32) : A := broadcastInDim S2x96x64x16 ![] bcast_S_S2x96x64x16 (constant AdamBReferenceIdeal.S_ .f32 b)

/-- The moments after the step and the weight's change, as the reference spells them. -/
abbrev nm (g m : A) : A := addf (mulf (bc 0x3F666666#32) m) (mulf (bc 0x3DCCCCCD#32) g)
abbrev nv (g v : A) : A := addf (mulf (bc 0x3F7FBE77#32) v) (mulf (bc 0x3A83126F#32) (mulf g g))
abbrev delta (w g m v : A) : A :=
  mulf (bc 0xBA83126F#32) (addf (Host.divf (Host.divf (nm g m) (bc 0x3F26BD02#32))
    (addf (Host.sqrt (Host.divf (nv g v) (bc 0x3C231ACC#32))) (bc 0x322BCC77#32))) (mulf (bc 0x3C23D70A#32) w))

/-- The reference's three results. -/
abbrev wantD (w g m v : A) : Rs := rows (delta w g m v)
abbrev wantM (w g m v : A) : Rs := rows (nm g m)
abbrev wantV (w g m v : A) : Rs := rows (nv g v)

theorem wantM_at (w g m v : A) (j : S1536x128.Idx) : wantM w g m v j = Adam.nm (rows g j) (rows m j) := rfl
theorem wantV_at (w g m v : A) (j : S1536x128.Idx) : wantV w g m v j = Adam.nv (rows g j) (rows v j) := rfl
theorem wantD_at (w g m v : A) (j : S1536x128.Idx) : wantD w g m v j = Adam.delta (rows w j) (rows g j) (rows m j) (rows v j) := rfl

theorem m_pay (x1 x2 : Vec Ideal S1536x128 .f32) (j) : k0_pay2 (F := Ideal) x1 x2 j = Adam.nm (x1 j) (x2 j) := by
  pointwise [k0_pay2, k0_pay1]

theorem v_pay (x1 x3 : Vec Ideal S1536x128 .f32) (j) : k0_pay3 (F := Ideal) x1 x3 j = Adam.nv (x1 j) (x3 j) := by
  have e : k0_pay3 (F := Ideal) x1 x3 j = Ideal.ofBits .f32 0x3F7FBE77#32 * x3 j + Ideal.ofBits .f32 0x3A83126F#32 * x1 j * x1 j := by
    pointwise [k0_pay3, k0_pay1]
  rw [e, mul_assoc]

theorem d_pay (x0 x1 x2 x3 : Vec Ideal S1536x128 .f32) (j) : k0_pay4 (F := Ideal) x1 x2 x3 x0 j = Adam.delta (x0 j) (x1 j) (x2 j) (x3 j) := by
  have e : k0_pay4 (F := Ideal) x1 x2 x3 x0 j = Ideal.ofBits .f32 0xBA83126F#32
      * (Ideal.div (k0_pay2 (F := Ideal) x1 x2 j * Named.named (F := Ideal) κ "inv_bias1" 0x3FC48605#32)
        (Ideal.sqrt (k0_pay3 (F := Ideal) x1 x3 j * Named.named (F := Ideal) κ "inv_bias2" 0x42C8E6D3#32) + Ideal.ofBits .f32 0x322BCC77#32)
        + Ideal.ofBits .f32 0x3C23D70A#32 * x0 j) := by
    unfold k0_pay4
    generalize k0_pay2 (F := Ideal) x1 x2 = a
    generalize k0_pay3 (F := Ideal) x1 x3 = b
    pointwise []
  rw [e, m_pay, v_pay, Adam.delta, Adam.div1, Adam.div2, IdealRules.named_const.ideal_named_scalar κ "inv_bias1" _ _ rfl,
    IdealRules.named_const.ideal_named_scalar κ "inv_bias2" _ _ rfl]

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The arguments, and the arrays the blocks are cut from: the arguments in rows. -/
abbrev a0 (c : Dev nD) : A := m ((c : Thread nD τ).loc main_arg0)
abbrev a1 (c : Dev nD) : A := m ((c : Thread nD τ).loc main_arg1)
abbrev a2 (c : Dev nD) : A := m ((c : Thread nD τ).loc main_arg2)
abbrev a3 (c : Dev nD) : A := m ((c : Thread nD τ).loc main_arg3)
abbrev arrw (c : Dev nD) : Rs := rows (a0 m c)
abbrev arrg (c : Dev nD) : Rs := rows (a1 m c)
abbrev arrm (c : Dev nD) : Rs := rows (a2 m c)
abbrev arrv (c : Dev nD) : Rs := rows (a3 m c)

theorem V_w (c : Dev nD) : V m c main_v0 = arrw m c := by
  unfold V; after_results_simp <;> rfl

theorem V_g (c : Dev nD) : V m c main_v1 = arrg m c := by
  unfold V; after_results_simp <;> rfl

theorem V_m (c : Dev nD) : V m c main_v2 = arrm m c := by
  unfold V; after_results_simp <;> rfl

theorem V_v (c : Dev nD) : V m c main_v3 = arrv m c := by
  unfold V; after_results_simp <;> rfl

section
variable (c : Dev nD) (t : Fin cfg0.N) (y : S1536x128.Idx) (j : S1536x128.Idx)
  (h0 : (j 0).val = t.val * 1536 + (y 0).val) (h1 : (j 1).val = (y 1).val)
include h0 h1

theorem w_at : iblk m c 0 t y = arrw m c j := by
  idx_vars y
  idx_vars j
  obtain rfl : j1 = y1 := Fin.ext h1
  unfold iblk
  rw [(show V m c (Pipeline.arrRef spec0 0) = arrw m c from V_w m c)]
  generalize arrw m c = a
  blk_point [idx t]

theorem g_at : iblk m c 1 t y = arrg m c j := by
  idx_vars y
  idx_vars j
  obtain rfl : j1 = y1 := Fin.ext h1
  unfold iblk
  rw [(show V m c (Pipeline.arrRef spec0 1) = arrg m c from V_g m c)]
  generalize arrg m c = a
  blk_point [idx t]

theorem m_at : iblk m c 2 t y = arrm m c j := by
  idx_vars y
  idx_vars j
  obtain rfl : j1 = y1 := Fin.ext h1
  unfold iblk
  rw [(show V m c (Pipeline.arrRef spec0 2) = arrm m c from V_m m c)]
  generalize arrm m c = a
  blk_point [idx t]

theorem v_at : iblk m c 3 t y = arrv m c j := by
  idx_vars y
  idx_vars j
  obtain rfl : j1 = y1 := Fin.ext h1
  unfold iblk
  rw [(show V m c (Pipeline.arrRef spec0 3) = arrv m c from V_v m c)]
  generalize arrv m c = a
  blk_point [idx t]

/-- What the body leaves of a block is the reference's. -/
theorem pointD :
    k0_pay4 (F := Ideal) (iblk m c 1 t) (iblk m c 2 t) (iblk m c 3 t) (iblk m c 0 t) y = wantD (a0 m c) (a1 m c) (a2 m c) (a3 m c) j := by
  rw [wantD_at, d_pay, w_at m c t y j h0 h1, g_at m c t y j h0 h1, m_at m c t y j h0 h1, v_at m c t y j h0 h1]

theorem pointM :
    k0_pay2 (F := Ideal) (iblk m c 1 t) (iblk m c 2 t) y = wantM (a0 m c) (a1 m c) (a2 m c) (a3 m c) j := by
  rw [wantM_at, m_pay, g_at m c t y j h0 h1, m_at m c t y j h0 h1]

theorem pointV :
    k0_pay3 (F := Ideal) (iblk m c 1 t) (iblk m c 3 t) y = wantV (a0 m c) (a1 m c) (a2 m c) (a3 m c) j := by
  rw [wantV_at, v_pay, g_at m c t y j h0 h1, v_at m c t y j h0 h1]

end

/-- The three arrays after the run. -/
theorem finalD (c : Dev nD) : (dats m 0 c).arrAt 4 (cfgs 0).N = wantD (a0 m c) (a1 m c) (a2 m c) (a3 m c) := by
  refine (dats m 0 c).arrAt_eq_of_covers 4 _ (by decide +kernel) fun t hf y => ?_
  blk_simp
  rw [after0_4]; frame_out
  refine pointD m c t y _ ?_ ?_ <;> (blk_simp [idx t] <;> try omega)

theorem finalM (c : Dev nD) : (dats m 0 c).arrAt 5 (cfgs 0).N = wantM (a0 m c) (a1 m c) (a2 m c) (a3 m c) := by
  refine (dats m 0 c).arrAt_eq_of_covers 5 _ (by decide +kernel) fun t hf y => ?_
  blk_simp
  rw [after0_5]; frame_out
  refine pointM m c t y _ ?_ ?_ <;> (blk_simp [idx t] <;> try omega)

theorem finalV (c : Dev nD) : (dats m 0 c).arrAt 6 (cfgs 0).N = wantV (a0 m c) (a1 m c) (a2 m c) (a3 m c) := by
  refine (dats m 0 c).arrAt_eq_of_covers 6 _ (by decide +kernel) fun t hf y => ?_
  blk_simp
  rw [after0_6]; frame_out
  refine pointV m c t y _ ?_ ?_ <;> (blk_simp [idx t] <;> try omega)

end Cert.Ffn.AdamB

end
-- ==== Proof.CallAdamC.lean ====
/- The optimiser's step on the state space layers' output weights: the kernel's blocks and the reference's three arrays, entry by entry. -/
module

public import proofs.«01_k».proof.Proof.Gen.AdamCIdeal.Value
public import proofs.«01_k».proof.Proof.Gen.AdamCReferenceIdeal.Run
public import Idealize.ShloMosaic.Lib.Pipeline.ValueKit
public import Idealize.ShloMosaic.Lib.Pipeline.ReadBack
public import proofs.«01_k».proof.Proof.Adam

@[expose] public section

set_option maxRecDepth 16384

noncomputable section

namespace Cert.Ffn.AdamC

open Idealize.ShloMosaic Idealize.ShloMosaic.TcCoe Idealize.SL.Sem Idealize.ShloMosaic.Pointwise
open Cert.AdamCIdeal Cert.AdamCIdeal.Gen AdamCReferenceIdeal.Gen

/-- The weight's arrays, and the same in rows. -/
abbrev A := FVec Ideal S2x96x16x64 .f32
abbrev Rs := FVec Ideal S1536x128 .f32
abbrev rows (a : A) : Rs := shapeCast _ a AdamCReferenceIdeal.Gen.shapeCasts_S2x96x16x64_S1536x128
abbrev bc (b : BitVec 32) : A := broadcastInDim S2x96x16x64 ![] bcast_S_S2x96x16x64 (constant AdamCReferenceIdeal.S_ .f32 b)

/-- The moments after the step and the weight's change, as the reference spells them. -/
abbrev nm (g m : A) : A := addf (mulf (bc 0x3F666666#32) m) (mulf (bc 0x3DCCCCCD#32) g)
abbrev nv (g v : A) : A := addf (mulf (bc 0x3F7FBE77#32) v) (mulf (bc 0x3A83126F#32) (mulf g g))
abbrev delta (w g m v : A) : A :=
  mulf (bc 0xBA83126F#32) (addf (Host.divf (Host.divf (nm g m) (bc 0x3F26BD02#32))
    (addf (Host.sqrt (Host.divf (nv g v) (bc 0x3C231ACC#32))) (bc 0x322BCC77#32))) (mulf (bc 0x3C23D70A#32) w))

/-- The reference's three results. -/
abbrev wantD (w g m v : A) : Rs := rows (delta w g m v)
abbrev wantM (w g m v : A) : Rs := rows (nm g m)
abbrev wantV (w g m v : A) : Rs := rows (nv g v)

theorem wantM_at (w g m v : A) (j : S1536x128.Idx) : wantM w g m v j = Adam.nm (rows g j) (rows m j) := rfl
theorem wantV_at (w g m v : A) (j : S1536x128.Idx) : wantV w g m v j = Adam.nv (rows g j) (rows v j) := rfl
theorem wantD_at (w g m v : A) (j : S1536x128.Idx) : wantD w g m v j = Adam.delta (rows w j) (rows g j) (rows m j) (rows v j) := rfl

theorem m_pay (x1 x2 : Vec Ideal S1536x128 .f32) (j) : k0_pay2 (F := Ideal) x1 x2 j = Adam.nm (x1 j) (x2 j) := by
  pointwise [k0_pay2, k0_pay1]

theorem v_pay (x1 x3 : Vec Ideal S1536x128 .f32) (j) : k0_pay3 (F := Ideal) x1 x3 j = Adam.nv (x1 j) (x3 j) := by
  have e : k0_pay3 (F := Ideal) x1 x3 j = Ideal.ofBits .f32 0x3F7FBE77#32 * x3 j + Ideal.ofBits .f32 0x3A83126F#32 * x1 j * x1 j := by
    pointwise [k0_pay3, k0_pay1]
  rw [e, mul_assoc]

theorem d_pay (x0 x1 x2 x3 : Vec Ideal S1536x128 .f32) (j) : k0_pay4 (F := Ideal) x1 x2 x3 x0 j = Adam.delta (x0 j) (x1 j) (x2 j) (x3 j) := by
  have e : k0_pay4 (F := Ideal) x1 x2 x3 x0 j = Ideal.ofBits .f32 0xBA83126F#32
      * (Ideal.div (k0_pay2 (F := Ideal) x1 x2 j * Named.named (F := Ideal) κ "inv_bias1" 0x3FC48605#32)
        (Ideal.sqrt (k0_pay3 (F := Ideal) x1 x3 j * Named.named (F := Ideal) κ "inv_bias2" 0x42C8E6D3#32) + Ideal.ofBits .f32 0x322BCC77#32)
        + Ideal.ofBits .f32 0x3C23D70A#32 * x0 j) := by
    unfold k0_pay4
    generalize k0_pay2 (F := Ideal) x1 x2 = a
    generalize k0_pay3 (F := Ideal) x1 x3 = b
    pointwise []
  rw [e, m_pay, v_pay, Adam.delta, Adam.div1, Adam.div2, IdealRules.named_const.ideal_named_scalar κ "inv_bias1" _ _ rfl,
    IdealRules.named_const.ideal_named_scalar κ "inv_bias2" _ _ rfl]

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The arguments, and the arrays the blocks are cut from: the arguments in rows. -/
abbrev a0 (c : Dev nD) : A := m ((c : Thread nD τ).loc main_arg0)
abbrev a1 (c : Dev nD) : A := m ((c : Thread nD τ).loc main_arg1)
abbrev a2 (c : Dev nD) : A := m ((c : Thread nD τ).loc main_arg2)
abbrev a3 (c : Dev nD) : A := m ((c : Thread nD τ).loc main_arg3)
abbrev arrw (c : Dev nD) : Rs := rows (a0 m c)
abbrev arrg (c : Dev nD) : Rs := rows (a1 m c)
abbrev arrm (c : Dev nD) : Rs := rows (a2 m c)
abbrev arrv (c : Dev nD) : Rs := rows (a3 m c)

theorem V_w (c : Dev nD) : V m c main_v0 = arrw m c := by
  unfold V; after_results_simp <;> rfl

theorem V_g (c : Dev nD) : V m c main_v1 = arrg m c := by
  unfold V; after_results_simp <;> rfl

theorem V_m (c : Dev nD) : V m c main_v2 = arrm m c := by
  unfold V; after_results_simp <;> rfl

theorem V_v (c : Dev nD) : V m c main_v3 = arrv m c := by
  unfold V; after_results_simp <;> rfl

section
variable (c : Dev nD) (t : Fin cfg0.N) (y : S1536x128.Idx) (j : S1536x128.Idx)
  (h0 : (j 0).val = t.val * 1536 + (y 0).val) (h1 : (j 1).val = (y 1).val)
include h0 h1

theorem w_at : iblk m c 0 t y = arrw m c j := by
  idx_vars y
  idx_vars j
  obtain rfl : j1 = y1 := Fin.ext h1
  unfold iblk
  rw [(show V m c (Pipeline.arrRef spec0 0) = arrw m c from V_w m c)]
  generalize arrw m c = a
  blk_point [idx t]

theorem g_at : iblk m c 1 t y = arrg m c j := by
  idx_vars y
  idx_vars j
  obtain rfl : j1 = y1 := Fin.ext h1
  unfold iblk
  rw [(show V m c (Pipeline.arrRef spec0 1) = arrg m c from V_g m c)]
  generalize arrg m c = a
  blk_point [idx t]

theorem m_at : iblk m c 2 t y = arrm m c j := by
  idx_vars y
  idx_vars j
  obtain rfl : j1 = y1 := Fin.ext h1
  unfold iblk
  rw [(show V m c (Pipeline.arrRef spec0 2) = arrm m c from V_m m c)]
  generalize arrm m c = a
  blk_point [idx t]

theorem v_at : iblk m c 3 t y = arrv m c j := by
  idx_vars y
  idx_vars j
  obtain rfl : j1 = y1 := Fin.ext h1
  unfold iblk
  rw [(show V m c (Pipeline.arrRef spec0 3) = arrv m c from V_v m c)]
  generalize arrv m c = a
  blk_point [idx t]

/-- What the body leaves of a block is the reference's. -/
theorem pointD :
    k0_pay4 (F := Ideal) (iblk m c 1 t) (iblk m c 2 t) (iblk m c 3 t) (iblk m c 0 t) y = wantD (a0 m c) (a1 m c) (a2 m c) (a3 m c) j := by
  rw [wantD_at, d_pay, w_at m c t y j h0 h1, g_at m c t y j h0 h1, m_at m c t y j h0 h1, v_at m c t y j h0 h1]

theorem pointM :
    k0_pay2 (F := Ideal) (iblk m c 1 t) (iblk m c 2 t) y = wantM (a0 m c) (a1 m c) (a2 m c) (a3 m c) j := by
  rw [wantM_at, m_pay, g_at m c t y j h0 h1, m_at m c t y j h0 h1]

theorem pointV :
    k0_pay3 (F := Ideal) (iblk m c 1 t) (iblk m c 3 t) y = wantV (a0 m c) (a1 m c) (a2 m c) (a3 m c) j := by
  rw [wantV_at, v_pay, g_at m c t y j h0 h1, v_at m c t y j h0 h1]

end

/-- The three arrays after the run. -/
theorem finalD (c : Dev nD) : (dats m 0 c).arrAt 4 (cfgs 0).N = wantD (a0 m c) (a1 m c) (a2 m c) (a3 m c) := by
  refine (dats m 0 c).arrAt_eq_of_covers 4 _ (by decide +kernel) fun t hf y => ?_
  blk_simp
  rw [after0_4]; frame_out
  refine pointD m c t y _ ?_ ?_ <;> (blk_simp [idx t] <;> try omega)

theorem finalM (c : Dev nD) : (dats m 0 c).arrAt 5 (cfgs 0).N = wantM (a0 m c) (a1 m c) (a2 m c) (a3 m c) := by
  refine (dats m 0 c).arrAt_eq_of_covers 5 _ (by decide +kernel) fun t hf y => ?_
  blk_simp
  rw [after0_5]; frame_out
  refine pointM m c t y _ ?_ ?_ <;> (blk_simp [idx t] <;> try omega)

theorem finalV (c : Dev nD) : (dats m 0 c).arrAt 6 (cfgs 0).N = wantV (a0 m c) (a1 m c) (a2 m c) (a3 m c) := by
  refine (dats m 0 c).arrAt_eq_of_covers 6 _ (by decide +kernel) fun t hf y => ?_
  blk_simp
  rw [after0_6]; frame_out
  refine pointV m c t y _ ?_ ?_ <;> (blk_simp [idx t] <;> try omega)

end Cert.Ffn.AdamC

end
-- ==== Proof.CallAdamD.lean ====
/- The optimiser's step on the state space layers' skip weights: the kernel's blocks and the reference's three arrays, entry by entry. -/
module

public import proofs.«01_k».proof.Proof.Gen.AdamDIdeal.Value
public import proofs.«01_k».proof.Proof.Gen.AdamDReferenceIdeal.Run
public import Idealize.ShloMosaic.Lib.Pipeline.ValueKit
public import Idealize.ShloMosaic.Lib.Pipeline.ReadBack
public import proofs.«01_k».proof.Proof.Adam

@[expose] public section

set_option maxRecDepth 16384

noncomputable section

namespace Cert.Ffn.AdamD

open Idealize.ShloMosaic Idealize.ShloMosaic.TcCoe Idealize.SL.Sem Idealize.ShloMosaic.Pointwise
open Cert.AdamDIdeal Cert.AdamDIdeal.Gen AdamDReferenceIdeal.Gen

/-- The weight's arrays. -/
abbrev A := FVec Ideal S2x384 .f32
abbrev bc (b : BitVec 32) : A := broadcastInDim S2x384 ![] bcast_S_S2x384 (constant AdamDReferenceIdeal.S_ .f32 b)

/-- The moments after the step and the weight's change, as the reference spells them. -/
abbrev nm (g m : A) : A := addf (mulf (bc 0x3F666666#32) m) (mulf (bc 0x3DCCCCCD#32) g)
abbrev nv (g v : A) : A := addf (mulf (bc 0x3F7FBE77#32) v) (mulf (bc 0x3A83126F#32) (mulf g g))
abbrev delta (w g m v : A) : A :=
  mulf (bc 0xBA83126F#32) (addf (Host.divf (Host.divf (nm g m) (bc 0x3F26BD02#32))
    (addf (Host.sqrt (Host.divf (nv g v) (bc 0x3C231ACC#32))) (bc 0x322BCC77#32))) (mulf (bc 0x3C23D70A#32) w))

/-- The reference's three results. -/
abbrev wantD (w g m v : A) : A := delta w g m v
abbrev wantM (w g m v : A) : A := nm g m
abbrev wantV (w g m v : A) : A := nv g v

theorem wantM_at (w g m v : A) (j : S2x384.Idx) : wantM w g m v j = Adam.nm (g j) (m j) := rfl
theorem wantV_at (w g m v : A) (j : S2x384.Idx) : wantV w g m v j = Adam.nv (g j) (v j) := rfl
theorem wantD_at (w g m v : A) (j : S2x384.Idx) : wantD w g m v j = Adam.delta (w j) (g j) (m j) (v j) := rfl

theorem m_pay (x1 x2 : Vec Ideal S2x384 .f32) (j) : k0_pay1 (F := Ideal) x1 x2 j = Adam.nm (x1 j) (x2 j) := by
  pointwise [k0_pay1]

theorem v_pay (x1 x3 : Vec Ideal S2x384 .f32) (j) : k0_pay2 (F := Ideal) x1 x3 j = Adam.nv (x1 j) (x3 j) := by
  have e : k0_pay2 (F := Ideal) x1 x3 j = Ideal.ofBits .f32 0x3F7FBE77#32 * x3 j + Ideal.ofBits .f32 0x3A83126F#32 * x1 j * x1 j := by
    pointwise [k0_pay2]
  rw [e, mul_assoc]

theorem d_pay (x0 x1 x2 x3 : Vec Ideal S2x384 .f32) (j) : k0_pay3 (F := Ideal) x1 x2 x3 x0 j = Adam.delta (x0 j) (x1 j) (x2 j) (x3 j) := by
  have e : k0_pay3 (F := Ideal) x1 x2 x3 x0 j = Ideal.ofBits .f32 0xBA83126F#32
      * (Ideal.div (k0_pay1 (F := Ideal) x1 x2 j * Named.named (F := Ideal) κ "inv_bias1" 0x3FC48605#32)
        (Ideal.sqrt (k0_pay2 (F := Ideal) x1 x3 j * Named.named (F := Ideal) κ "inv_bias2" 0x42C8E6D3#32) + Ideal.ofBits .f32 0x322BCC77#32)
        + Ideal.ofBits .f32 0x3C23D70A#32 * x0 j) := by
    unfold k0_pay3
    generalize k0_pay1 (F := Ideal) x1 x2 = a
    generalize k0_pay2 (F := Ideal) x1 x3 = b
    pointwise []
  rw [e, m_pay, v_pay, Adam.delta, Adam.div1, Adam.div2, IdealRules.named_const.ideal_named_scalar κ "inv_bias1" _ _ rfl,
    IdealRules.named_const.ideal_named_scalar κ "inv_bias2" _ _ rfl]

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The arguments, which the blocks are cut from. -/
abbrev a0 (c : Dev nD) : A := m ((c : Thread nD τ).loc main_arg0)
abbrev a1 (c : Dev nD) : A := m ((c : Thread nD τ).loc main_arg1)
abbrev a2 (c : Dev nD) : A := m ((c : Thread nD τ).loc main_arg2)
abbrev a3 (c : Dev nD) : A := m ((c : Thread nD τ).loc main_arg3)

section
variable (c : Dev nD) (t : Fin cfg0.N) (y : S2x384.Idx) (j : S2x384.Idx)
  (h0 : (j 0).val = t.val * 2 + (y 0).val) (h1 : (j 1).val = (y 1).val)
include h0 h1

theorem w_at : iblk m c 0 t y = a0 m c j := by
  idx_vars y
  idx_vars j
  obtain rfl : j1 = y1 := Fin.ext h1
  blk_point [iblk, V, idx t]

theorem g_at : iblk m c 1 t y = a1 m c j := by
  idx_vars y
  idx_vars j
  obtain rfl : j1 = y1 := Fin.ext h1
  blk_point [iblk, V, idx t]

theorem m_at : iblk m c 2 t y = a2 m c j := by
  idx_vars y
  idx_vars j
  obtain rfl : j1 = y1 := Fin.ext h1
  blk_point [iblk, V, idx t]

theorem v_at : iblk m c 3 t y = a3 m c j := by
  idx_vars y
  idx_vars j
  obtain rfl : j1 = y1 := Fin.ext h1
  blk_point [iblk, V, idx t]

/-- What the body leaves of a block is the reference's. -/
theorem pointD :
    k0_pay3 (F := Ideal) (iblk m c 1 t) (iblk m c 2 t) (iblk m c 3 t) (iblk m c 0 t) y = wantD (a0 m c) (a1 m c) (a2 m c) (a3 m c) j := by
  rw [wantD_at, d_pay, w_at m c t y j h0 h1, g_at m c t y j h0 h1, m_at m c t y j h0 h1, v_at m c t y j h0 h1]

theorem pointM :
    k0_pay1 (F := Ideal) (iblk m c 1 t) (iblk m c 2 t) y = wantM (a0 m c) (a1 m c) (a2 m c) (a3 m c) j := by
  rw [wantM_at, m_pay, g_at m c t y j h0 h1, m_at m c t y j h0 h1]

theorem pointV :
    k0_pay2 (F := Ideal) (iblk m c 1 t) (iblk m c 3 t) y = wantV (a0 m c) (a1 m c) (a2 m c) (a3 m c) j := by
  rw [wantV_at, v_pay, g_at m c t y j h0 h1, v_at m c t y j h0 h1]

end

/-- The three arrays after the run. -/
theorem finalD (c : Dev nD) : (dats m 0 c).arrAt 4 (cfgs 0).N = wantD (a0 m c) (a1 m c) (a2 m c) (a3 m c) := by
  refine (dats m 0 c).arrAt_eq_of_covers 4 _ (by decide +kernel) fun t hf y => ?_
  blk_simp
  rw [after0_4]; frame_out
  refine pointD m c t y _ ?_ ?_ <;> (blk_simp [idx t] <;> try omega)

theorem finalM (c : Dev nD) : (dats m 0 c).arrAt 5 (cfgs 0).N = wantM (a0 m c) (a1 m c) (a2 m c) (a3 m c) := by
  refine (dats m 0 c).arrAt_eq_of_covers 5 _ (by decide +kernel) fun t hf y => ?_
  blk_simp
  rw [after0_5]; frame_out
  refine pointM m c t y _ ?_ ?_ <;> (blk_simp [idx t] <;> try omega)

theorem finalV (c : Dev nD) : (dats m 0 c).arrAt 6 (cfgs 0).N = wantV (a0 m c) (a1 m c) (a2 m c) (a3 m c) := by
  refine (dats m 0 c).arrAt_eq_of_covers 6 _ (by decide +kernel) fun t hf y => ?_
  blk_simp
  rw [after0_6]; frame_out
  refine pointV m c t y _ ?_ ?_ <;> (blk_simp [idx t] <;> try omega)

end Cert.Ffn.AdamD

end
-- ==== Proof.CallMemnorm.lean ====
/- The memory's normalisation: the kernel's array and the reference's term, entry by entry. -/
module

public import proofs.«01_k».proof.Proof.Gen.MemnormIdeal.Value
public import proofs.«01_k».proof.Proof.Gen.MemnormReferenceIdeal.Run
public import Idealize.ShloMosaic.Lib.Pipeline.ValueKit

@[expose] public section

set_option maxRecDepth 16384

noncomputable section

namespace Cert.Ffn.Memnorm

open Idealize.ShloMosaic Idealize.ShloMosaic.TcCoe Idealize.SL.Sem Idealize.ShloMosaic.Pointwise
open Cert.MemnormIdeal Cert.MemnormIdeal.Gen MemnormReferenceIdeal.Gen

/-- The reference: the row divided by its root mean square, scaled by the gain. -/
abbrev want (x : FVec Ideal S256x2048 .f32) (g : FVec Ideal S2048 .f32) : FVec Ideal S256x2048 .bf16 :=
  truncf .bf16 (mulf (mulf x (broadcastInDim S256x2048 ![0, 1] bcast_S256x1_S256x2048_0_1
    (Host.rsqrt (addf (Host.divf (broadcastInDim MemnormReferenceIdeal.S256x1 ![0] bcast_S256_S256x1_0
      (Host.reduceAdd (mulf x x) (constant MemnormReferenceIdeal.S_ .f32 0x00000000#32) reducesTo_S256x2048_S256_d1 h_S_))
      (broadcastInDim MemnormReferenceIdeal.S256x1 ![] bcast_S_S256x1 (constant MemnormReferenceIdeal.S_ .f32 0x45000000#32)))
      (broadcastInDim MemnormReferenceIdeal.S256x1 ![] bcast_S_S256x1 (constant MemnormReferenceIdeal.S_ .f32 0x358637BD#32))))))
    (broadcastInDim S256x2048 ![0, 1] bcast_S1x2048_S256x2048_0_1 (broadcastInDim S1x2048 ![1] bcast_S2048_S1x2048_1 g))) MemnormReferenceIdeal.Gen.bitsLt_bf16_f32

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- One block of rows. -/
theorem point (c : Dev nD) (t : Fin cfg0.N) (y) : k0_pay1 (iblk m c 0 t) (iblk m c 1 t) y
    = want (m ((c : Thread nD τ).loc main_arg0)) (m ((c : Thread nD τ).loc main_arg1)) (((cfg0.win 2).blk t).view.emb y) := by
  pointwise [k0_pay1, want]
  blk_point [iblk, V, idx t]

/-- The normalised array after the run. -/
theorem final (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Ffn.Memnorm

end
-- ==== Proof.CallMemkv.lean ====
/- The memory's projection into keys and values: the kernel's array and the reference's term, entry by entry. -/
module

public import proofs.«01_k».proof.Proof.Gen.MemkvIdeal.Value
public import proofs.«01_k».proof.Proof.Gen.MemkvReferenceIdeal.Run
public import Idealize.ShloMosaic.Lib.Pipeline.ValueKit
public import Idealize.ShloMosaic.Lib.Pipeline.ReadBack

@[expose] public section

set_option maxRecDepth 16384

noncomputable section

namespace Cert.Ffn.Memkv

open Idealize.ShloMosaic Idealize.ShloMosaic.TcCoe Idealize.SL.Sem Idealize.ShloMosaic.Pointwise
open Cert.MemkvIdeal Cert.MemkvIdeal.Gen MemkvReferenceIdeal.Gen
open MemkvReferenceIdeal (S2048x1024 S512x1024 S1x1x512x1024)

/-- The weight's four shards one below the other. -/
abbrev cat (w : FVec Ideal S4x2x512x1024 .bf16) : FVec Ideal S2048x1024 .bf16 :=
  concatenate S2048x1024 0
    [⟨S512x1024, shapeCast _ (extractStridedSlice S1x1x512x1024 ![0, 1, 0, 0] w slices_S4x2x512x1024_S1x1x512x1024_0_1_0_0) shapeCasts_S1x1x512x1024_S512x1024⟩,
     ⟨S512x1024, shapeCast _ (extractStridedSlice S1x1x512x1024 ![1, 1, 0, 0] w slices_S4x2x512x1024_S1x1x512x1024_1_1_0_0) shapeCasts_S1x1x512x1024_S512x1024⟩,
     ⟨S512x1024, shapeCast _ (extractStridedSlice S1x1x512x1024 ![2, 1, 0, 0] w slices_S4x2x512x1024_S1x1x512x1024_2_1_0_0) shapeCasts_S1x1x512x1024_S512x1024⟩,
     ⟨S512x1024, shapeCast _ (extractStridedSlice S1x1x512x1024 ![3, 1, 0, 0] w slices_S4x2x512x1024_S1x1x512x1024_3_1_0_0) shapeCasts_S1x1x512x1024_S512x1024⟩]
    concatenates_S512x1024_S512x1024_S512x1024_S512x1024_S2048x1024_d0

/-- Row `n` of the whole weight is row `n mod 512` of shard `n / 512`. -/
theorem cat_at (w : FVec Ideal S4x2x512x1024 .bf16) (n : Fin 2048) (k : Fin 1024) :
    cat w (ix2 n k) = w (ix4 ⟨n.val / 512, by omega⟩ 1 ⟨n.val % 512, by omega⟩ k) := by
  pointwise [cat]
  have e : ∀ (a a' : Fin 4) (b b' : Fin 512), a.val = a'.val → b.val = b'.val → w (ix4 a 1 b k) = w (ix4 a' 1 b' k) :=
    fun a a' b b' ha hb => by rw [Fin.ext ha, Fin.ext hb]
  split_ifs <;> refine e _ _ _ _ ?_ ?_ <;> simp <;> omega

/-- The reference: the product. -/
abbrev want (a : FVec Ideal S256x2048 .bf16) (w : FVec Ideal S4x2x512x1024 .bf16) : FVec Ideal S256x1024 .f32 :=
  Host.dotGeneral MemkvReferenceIdeal.dot_S256x2048_S2048x1024_S256x1024_1_0_0_1_n_n none (extf .f32 a bitsLt_bf16_f32) (extf .f32 (cat w) bitsLt_bf16_f32)

theorem want_at (a : FVec Ideal S256x2048 .bf16) (w : FVec Ideal S4x2x512x1024 .bf16) (r : Fin 256) (q : Fin 1024) :
    want a w (ix2 r q) = ∑ n : Fin 2048, a (ix2 r n) * w (ix4 ⟨n.val / 512, by omega⟩ 1 ⟨n.val % 512, by omega⟩ q) := by
  simp only [← cat_at]
  unfold want; generalize cat w = v
  pointwise

/-- One shard's share: a product of the two blocks. -/
theorem part_at (x0 : Vec Ideal S256x512 .bf16) (x1 : Vec Ideal S1x1x512x512 .bf16) (j) :
    k0_pay1 (F := Ideal) x0 x1 j = ∑ k : Fin 512, x0 (ix2 (j 0) k) * x1 (ix4 0 0 k (j 1)) := by
  pointwise [k0_pay1]

theorem first_at (x0 : Vec Ideal S256x512 .bf16) (x1 : Vec Ideal S1x1x512x512 .bf16) (j) :
    k0_pay2 (F := Ideal) x0 x1 j = k0_pay1 (F := Ideal) x0 x1 j := by
  unfold k0_pay2; generalize k0_pay1 (F := Ideal) x0 x1 = p
  pointwise

theorem step_at (x0 : Vec Ideal S256x512 .bf16) (x1 : Vec Ideal S1x1x512x512 .bf16) (acc : Vec Ideal S256x512 .f32) (j) :
    k0_pay3 (F := Ideal) x0 x1 acc j = acc j + k0_pay1 (F := Ideal) x0 x1 j := by
  unfold k0_pay3; generalize k0_pay1 (F := Ideal) x0 x1 = p
  pointwise

variable (m : (ℓ : Loc nD τ sig) → Buf (Elt Ideal) ℓ)

theorem idx : ∀ t : Fin cfg0.N, win0_0.index t = ![0, t.val % 4] ∧ win0_1.index t = ![t.val % 4, 1, 0, t.val / 4 % 2]
    ∧ win0_2.index t = ![0, t.val / 4 % 2] := (by decide +kernel : ∀ t : Fin grid0.N, _)

/-- The carried sum at the last shard: all 4 shares. -/
theorem acc_at (c : Dev nD) (t : Fin cfg0.N) (ht : t.val % 4 = 3) (y : S256x512.Idx) :
    (outsAt0 m c t.val t.isLt).2 y
      = ∑ s : Fin 4, k0_pay1 (F := Ideal) (iblk m c 0 ⟨4 * (t.val / 4) + s.val, Pipeline.run_point_lt_of_flush t ht s⟩)
          (iblk m c 1 ⟨4 * (t.val / 4) + s.val, Pipeline.run_point_lt_of_flush t ht s⟩) y := by
  refine (Pipeline.eq_sum_fin_of_reset_step_apply_of_flush (fun n h => (outsAt0 m c n h).2) 4 (fun _ => (0 : EReal))
    (fun t y => k0_pay1 (F := Ideal) (iblk m c 0 t) (iblk m c 1 t) y) (fun t h y => ?_) (fun t h y => ?_) t ht y).trans (zero_add _)
  · rw [outsAt0_A m c t h (by omega) (by omega)]
    frame_out
    rw [first_at, zero_add]
  · by_cases h3 : t.val % 4 = 3
    · rw [outsAt0_C m c t h (by omega) h3]
      frame_out
      simp only [read_unread_whole]
      exact step_at _ _ _ _
    · rw [outsAt0_B m c t h (by omega) h3]
      frame_out
      simp only [read_unread_whole]
      exact step_at _ _ _ _

/-- What the last shard writes back: the carried sum. -/
theorem out_at (c : Dev nD) (t : Fin cfg0.N) (ht : t.val % 4 = 3) (y : S256x512.Idx) :
    (outsAt0 m c t.val t.isLt).1 y = (outsAt0 m c t.val t.isLt).2 y := by
  rw [outsAt0_C m c t (by omega) (by omega) ht]
  frame_out

/-- The block written back at the last shard. -/
theorem point (c : Dev nD) (t : Fin cfg0.N) (ht : t.val % 4 = 3) (y : S256x512.Idx) (j : S256x1024.Idx)
    (h0 : (j 0).val = (y 0).val) (h1 : (j 1).val = t.val / 4 % 2 * 512 + (y 1).val) :
    (outsAt0 m c t.val t.isLt).1 y = want (m ((c : Thread nD τ).loc main_arg0)) (m ((c : Thread nD τ).loc main_arg1)) j := by
  idx_vars y
  idx_vars j
  rw [out_at m c t ht, want_at, acc_at m c t ht]
  simp only [part_at]
  refine Fin.sum_mul_add_congr fun s k hl => ?_
  blk_point [iblk, V, idx ⟨_, Pipeline.run_point_lt_of_flush t ht s⟩]

/-- The result's array after the run. -/
theorem final (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  blk_simp
  rw [after0_2]
  refine point m c t ((flush0_2 t).mp hf) y _ ?_ ?_ <;> (blk_simp [(idx t).2.2] <;> try omega)

end Cert.Ffn.Memkv

end
-- ==== Proof.CallMemkv0.lean ====
/- The memory's projection into keys and values: the kernel's array and the reference's term, entry by entry. -/
module

public import proofs.«01_k».proof.Proof.Gen.Memkv0Ideal.Value
public import proofs.«01_k».proof.Proof.Gen.Memkv0ReferenceIdeal.Run
public import Idealize.ShloMosaic.Lib.Pipeline.ValueKit
public import Idealize.ShloMosaic.Lib.Pipeline.ReadBack

@[expose] public section

set_option maxRecDepth 16384

noncomputable section

namespace Cert.Ffn.Memkv0

open Idealize.ShloMosaic Idealize.ShloMosaic.TcCoe Idealize.SL.Sem Idealize.ShloMosaic.Pointwise
open Cert.Memkv0Ideal Cert.Memkv0Ideal.Gen Memkv0ReferenceIdeal.Gen
open Memkv0ReferenceIdeal (S2048x1024 S512x1024 S1x1x512x1024)

/-- The weight's four shards one below the other. -/
abbrev cat (w : FVec Ideal S4x2x512x1024 .bf16) : FVec Ideal S2048x1024 .bf16 :=
  concatenate S2048x1024 0
    [⟨S512x1024, shapeCast _ (extractStridedSlice S1x1x512x1024 ![0, 0, 0, 0] w slices_S4x2x512x1024_S1x1x512x1024_0_0_0_0) shapeCasts_S1x1x512x1024_S512x1024⟩,
     ⟨S512x1024, shapeCast _ (extractStridedSlice S1x1x512x1024 ![1, 0, 0, 0] w slices_S4x2x512x1024_S1x1x512x1024_1_0_0_0) shapeCasts_S1x1x512x1024_S512x1024⟩,
     ⟨S512x1024, shapeCast _ (extractStridedSlice S1x1x512x1024 ![2, 0, 0, 0] w slices_S4x2x512x1024_S1x1x512x1024_2_0_0_0) shapeCasts_S1x1x512x1024_S512x1024⟩,
     ⟨S512x1024, shapeCast _ (extractStridedSlice S1x1x512x1024 ![3, 0, 0, 0] w slices_S4x2x512x1024_S1x1x512x1024_3_0_0_0) shapeCasts_S1x1x512x1024_S512x1024⟩]
    concatenates_S512x1024_S512x1024_S512x1024_S512x1024_S2048x1024_d0

/-- Row `n` of the whole weight is row `n mod 512` of shard `n / 512`. -/
theorem cat_at (w : FVec Ideal S4x2x512x1024 .bf16) (n : Fin 2048) (k : Fin 1024) :
    cat w (ix2 n k) = w (ix4 ⟨n.val / 512, by omega⟩ 0 ⟨n.val % 512, by omega⟩ k) := by
  pointwise [cat]
  have e : ∀ (a a' : Fin 4) (b b' : Fin 512), a.val = a'.val → b.val = b'.val → w (ix4 a 0 b k) = w (ix4 a' 0 b' k) :=
    fun a a' b b' ha hb => by rw [Fin.ext ha, Fin.ext hb]
  split_ifs <;> refine e _ _ _ _ ?_ ?_ <;> simp <;> omega

/-- The reference: the product. -/
abbrev want (a : FVec Ideal S256x2048 .bf16) (w : FVec Ideal S4x2x512x1024 .bf16) : FVec Ideal S256x1024 .f32 :=
  Host.dotGeneral Memkv0ReferenceIdeal.dot_S256x2048_S2048x1024_S256x1024_1_0_0_1_n_n none (extf .f32 a bitsLt_bf16_f32) (extf .f32 (cat w) bitsLt_bf16_f32)

theorem want_at (a : FVec Ideal S256x2048 .bf16) (w : FVec Ideal S4x2x512x1024 .bf16) (r : Fin 256) (q : Fin 1024) :
    want a w (ix2 r q) = ∑ n : Fin 2048, a (ix2 r n) * w (ix4 ⟨n.val / 512, by omega⟩ 0 ⟨n.val % 512, by omega⟩ q) := by
  simp only [← cat_at]
  unfold want; generalize cat w = v
  pointwise

/-- One shard's share: a product of the two blocks. -/
theorem part_at (x0 : Vec Ideal S256x512 .bf16) (x1 : Vec Ideal S1x1x512x512 .bf16) (j) :
    k0_pay1 (F := Ideal) x0 x1 j = ∑ k : Fin 512, x0 (ix2 (j 0) k) * x1 (ix4 0 0 k (j 1)) := by
  pointwise [k0_pay1]

theorem first_at (x0 : Vec Ideal S256x512 .bf16) (x1 : Vec Ideal S1x1x512x512 .bf16) (j) :
    k0_pay2 (F := Ideal) x0 x1 j = k0_pay1 (F := Ideal) x0 x1 j := by
  unfold k0_pay2; generalize k0_pay1 (F := Ideal) x0 x1 = p
  pointwise

theorem step_at (x0 : Vec Ideal S256x512 .bf16) (x1 : Vec Ideal S1x1x512x512 .bf16) (acc : Vec Ideal S256x512 .f32) (j) :
    k0_pay3 (F := Ideal) x0 x1 acc j = acc j + k0_pay1 (F := Ideal) x0 x1 j := by
  unfold k0_pay3; generalize k0_pay1 (F := Ideal) x0 x1 = p
  pointwise

variable (m : (ℓ : Loc nD τ sig) → Buf (Elt Ideal) ℓ)

theorem idx : ∀ t : Fin cfg0.N, win0_0.index t = ![0, t.val % 4] ∧ win0_1.index t = ![t.val % 4, 0, 0, t.val / 4 % 2]
    ∧ win0_2.index t = ![0, t.val / 4 % 2] := (by decide +kernel : ∀ t : Fin grid0.N, _)

/-- The carried sum at the last shard: all 4 shares. -/
theorem acc_at (c : Dev nD) (t : Fin cfg0.N) (ht : t.val % 4 = 3) (y : S256x512.Idx) :
    (outsAt0 m c t.val t.isLt).2 y
      = ∑ s : Fin 4, k0_pay1 (F := Ideal) (iblk m c 0 ⟨4 * (t.val / 4) + s.val, Pipeline.run_point_lt_of_flush t ht s⟩)
          (iblk m c 1 ⟨4 * (t.val / 4) + s.val, Pipeline.run_point_lt_of_flush t ht s⟩) y := by
  refine (Pipeline.eq_sum_fin_of_reset_step_apply_of_flush (fun n h => (outsAt0 m c n h).2) 4 (fun _ => (0 : EReal))
    (fun t y => k0_pay1 (F := Ideal) (iblk m c 0 t) (iblk m c 1 t) y) (fun t h y => ?_) (fun t h y => ?_) t ht y).trans (zero_add _)
  · rw [outsAt0_A m c t h (by omega) (by omega)]
    frame_out
    rw [first_at, zero_add]
  · by_cases h3 : t.val % 4 = 3
    · rw [outsAt0_C m c t h (by omega) h3]
      frame_out
      simp only [read_unread_whole]
      exact step_at _ _ _ _
    · rw [outsAt0_B m c t h (by omega) h3]
      frame_out
      simp only [read_unread_whole]
      exact step_at _ _ _ _

/-- What the last shard writes back: the carried sum. -/
theorem out_at (c : Dev nD) (t : Fin cfg0.N) (ht : t.val % 4 = 3) (y : S256x512.Idx) :
    (outsAt0 m c t.val t.isLt).1 y = (outsAt0 m c t.val t.isLt).2 y := by
  rw [outsAt0_C m c t (by omega) (by omega) ht]
  frame_out

/-- The block written back at the last shard. -/
theorem point (c : Dev nD) (t : Fin cfg0.N) (ht : t.val % 4 = 3) (y : S256x512.Idx) (j : S256x1024.Idx)
    (h0 : (j 0).val = (y 0).val) (h1 : (j 1).val = t.val / 4 % 2 * 512 + (y 1).val) :
    (outsAt0 m c t.val t.isLt).1 y = want (m ((c : Thread nD τ).loc main_arg0)) (m ((c : Thread nD τ).loc main_arg1)) j := by
  idx_vars y
  idx_vars j
  rw [out_at m c t ht, want_at, acc_at m c t ht]
  simp only [part_at]
  refine Fin.sum_mul_add_congr fun s k hl => ?_
  blk_point [iblk, V, idx ⟨_, Pipeline.run_point_lt_of_flush t ht s⟩]

/-- The result's array after the run. -/
theorem final (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  blk_simp
  rw [after0_2]
  refine point m c t ((flush0_2 t).mp hf) y _ ?_ ?_ <;> (blk_simp [(idx t).2.2] <;> try omega)

end Cert.Ffn.Memkv0

end
-- ==== Proof.CallDwkv.lean ====
/- The weight gradient of the memory's projection: the kernel's array and the reference's term, entry by entry. -/
module

public import proofs.«01_k».proof.Proof.Gen.DwkvIdeal.Value
public import proofs.«01_k».proof.Proof.Gen.DwkvReferenceIdeal.Run
public import Idealize.ShloMosaic.Lib.Pipeline.ValueKit
public import Idealize.ShloMosaic.Lib.Pipeline.ReadBack

@[expose] public section

set_option maxRecDepth 16384

noncomputable section

namespace Cert.Ffn.Dwkv

open Idealize.ShloMosaic Idealize.ShloMosaic.TcCoe Idealize.SL.Sem Idealize.ShloMosaic.Pointwise
open Cert.DwkvIdeal Cert.DwkvIdeal.Gen DwkvReferenceIdeal.Gen

/-- The reference: the output's gradient against the input, transposed. -/
abbrev want (a : FVec Ideal S256x2048 .bf16) (d : FVec Ideal S256x1024 .f32) : FVec Ideal S2048x1024 .f32 :=
  transpose S2048x1024 [1, 0]
    (Host.dotGeneral DwkvReferenceIdeal.dot_S256x1024_S256x2048_S1024x2048_0_0_1_1_n_n none d (extf .f32 a DwkvReferenceIdeal.Gen.bitsLt_bf16_f32))
    transposes_S1024x2048_S2048x1024_1_0

theorem want_at (a : FVec Ideal S256x2048 .bf16) (d : FVec Ideal S256x1024 .f32) (r : Fin 2048) (n : Fin 1024) :
    want a d (ix2 r n) = ∑ k : Fin 256, a (ix2 k r) * d (ix2 k n) := by
  have e : want a d (ix2 r n) = ∑ k : Fin 256, d (ix2 k n) * a (ix2 k r) := by
    pointwise [want]
  rw [e]
  exact Finset.sum_congr rfl fun k _ => mul_comm _ _

variable (m : (ℓ : Loc nD τ sig) → Buf (Elt Ideal) ℓ)

theorem idx : ∀ t : Fin cfg0.N, win0_0.index t = ![0, t.val] ∧ win0_1.index t = ![0, 0]
    ∧ win0_2.index t = ![t.val, 0] := (by decide +kernel : ∀ t : Fin grid0.N, _)

/-- One block of the product. -/
theorem point (c : Dev nD) (t : Fin cfg0.N) (y : S512x1024.Idx) (j : S2048x1024.Idx)
    (h0 : (j 0).val = t.val * 512 + (y 0).val) (h1 : (j 1).val = (y 1).val) :
    k0_pay1 (iblk m c 0 t) (iblk m c 1 t) y = want (m ((c : Thread nD τ).loc main_arg0)) (m ((c : Thread nD τ).loc main_arg1)) j := by
  idx_vars y
  idx_vars j
  rw [want_at]
  pointwise [k0_pay1]
  blk_point [iblk, V, (idx t).1, (idx t).2.1]

/-- The result's array after the run. -/
theorem final (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  blk_simp
  rw [after0_2]; frame_out
  refine point m c t y _ ?_ ?_ <;> (blk_simp [(idx t).2.2] <;> try omega)

end Cert.Ffn.Dwkv

end
-- ==== Proof.CallDmemh.lean ====
/- The gradient that goes back through the memory's projection: the kernel's array and the reference's term, entry by entry. -/
module

public import proofs.«01_k».proof.Proof.Gen.DmemhIdeal.Value
public import proofs.«01_k».proof.Proof.Gen.DmemhReferenceIdeal.Run
public import Idealize.ShloMosaic.Lib.Pipeline.ValueKit
public import Idealize.ShloMosaic.Lib.Pipeline.ReadBack

@[expose] public section

set_option maxRecDepth 16384

noncomputable section

namespace Cert.Ffn.Dmemh

open Idealize.ShloMosaic Idealize.ShloMosaic.TcCoe Idealize.SL.Sem Idealize.ShloMosaic.Pointwise
open Cert.DmemhIdeal Cert.DmemhIdeal.Gen DmemhReferenceIdeal.Gen
open DmemhReferenceIdeal (S2048x1024)

/-- The weight's four shards one below the other. -/
abbrev cat (w : FVec Ideal S4x2x512x1024 .bf16) : FVec Ideal S2048x1024 .bf16 :=
  concatenate S2048x1024 0
    [⟨DmemhReferenceIdeal.S512x1024, shapeCast _ (extractStridedSlice DmemhReferenceIdeal.S1x1x512x1024 ![0, 1, 0, 0] w slices_S4x2x512x1024_S1x1x512x1024_0_1_0_0) DmemhReferenceIdeal.Gen.shapeCasts_S1x1x512x1024_S512x1024⟩,
     ⟨DmemhReferenceIdeal.S512x1024, shapeCast _ (extractStridedSlice DmemhReferenceIdeal.S1x1x512x1024 ![1, 1, 0, 0] w slices_S4x2x512x1024_S1x1x512x1024_1_1_0_0) DmemhReferenceIdeal.Gen.shapeCasts_S1x1x512x1024_S512x1024⟩,
     ⟨DmemhReferenceIdeal.S512x1024, shapeCast _ (extractStridedSlice DmemhReferenceIdeal.S1x1x512x1024 ![2, 1, 0, 0] w slices_S4x2x512x1024_S1x1x512x1024_2_1_0_0) DmemhReferenceIdeal.Gen.shapeCasts_S1x1x512x1024_S512x1024⟩,
     ⟨DmemhReferenceIdeal.S512x1024, shapeCast _ (extractStridedSlice DmemhReferenceIdeal.S1x1x512x1024 ![3, 1, 0, 0] w slices_S4x2x512x1024_S1x1x512x1024_3_1_0_0) DmemhReferenceIdeal.Gen.shapeCasts_S1x1x512x1024_S512x1024⟩]
    concatenates_S512x1024_S512x1024_S512x1024_S512x1024_S2048x1024_d0

/-- Row `n` of the whole weight is row `n mod 512` of shard `n / 512`. -/
theorem cat_at (w : FVec Ideal S4x2x512x1024 .bf16) (n : Fin 2048) (k : Fin 1024) :
    cat w (ix2 n k) = w (ix4 ⟨n.val / 512, by omega⟩ 1 ⟨n.val % 512, by omega⟩ k) := by
  pointwise [cat]
  have e : ∀ (a a' : Fin 4) (b b' : Fin 512), a.val = a'.val → b.val = b'.val → w (ix4 a 1 b k) = w (ix4 a' 1 b' k) :=
    fun a a' b b' ha hb => by rw [Fin.ext ha, Fin.ext hb]
  split_ifs <;> refine e _ _ _ _ ?_ ?_ <;> simp <;> omega

/-- The reference: the gradient times the weight transposed. -/
abbrev want (d : FVec Ideal S256x1024 .f32) (w : FVec Ideal S4x2x512x1024 .bf16) : FVec Ideal S256x2048 .f32 :=
  Host.dotGeneral DmemhReferenceIdeal.dot_S256x1024_S2048x1024_S256x2048_1_1_0_0_n_n none d (extf .f32 (cat w) DmemhReferenceIdeal.Gen.bitsLt_bf16_f32)

theorem want_at (d : FVec Ideal S256x1024 .f32) (w : FVec Ideal S4x2x512x1024 .bf16) (r : Fin 256) (n : Fin 2048) :
    want d w (ix2 r n) = ∑ k : Fin 1024, d (ix2 r k) * w (ix4 ⟨n.val / 512, by omega⟩ 1 ⟨n.val % 512, by omega⟩ k) := by
  simp only [← cat_at]
  unfold want; generalize cat w = v
  pointwise

variable (m : (ℓ : Loc nD τ sig) → Buf (Elt Ideal) ℓ)

theorem idx : ∀ t : Fin cfg0.N, win0_0.index t = ![0, 0] ∧ win0_1.index t = ![t.val % 4, 1, 0, 0]
    ∧ win0_2.index t = ![0, t.val % 4] := (by decide +kernel : ∀ t : Fin grid0.N, _)

/-- One block of the product. -/
theorem point (c : Dev nD) (t : Fin cfg0.N) (y : S256x512.Idx) (j : S256x2048.Idx)
    (h0 : (j 0).val = (y 0).val) (h1 : (j 1).val = t.val % 4 * 512 + (y 1).val) :
    k0_pay1 (iblk m c 0 t) (iblk m c 1 t) y = want (m ((c : Thread nD τ).loc main_arg0)) (m ((c : Thread nD τ).loc main_arg1)) j := by
  idx_vars y
  idx_vars j
  rw [want_at]
  pointwise [k0_pay1]
  blk_point [iblk, V, (idx t).1, (idx t).2.1]

/-- The result's array after the run. -/
theorem final (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  blk_simp
  rw [after0_2]; frame_out
  refine point m c t y _ ?_ ?_ <;> (blk_simp [(idx t).2.2] <;> try omega)

end Cert.Ffn.Dmemh

end
-- ==== Proof.CallDmemh0.lean ====
/- The gradient that goes back through the memory's projection: the kernel's array and the reference's term, entry by entry. -/
module

public import proofs.«01_k».proof.Proof.Gen.Dmemh0Ideal.Value
public import proofs.«01_k».proof.Proof.Gen.Dmemh0ReferenceIdeal.Run
public import Idealize.ShloMosaic.Lib.Pipeline.ValueKit
public import Idealize.ShloMosaic.Lib.Pipeline.ReadBack

@[expose] public section

set_option maxRecDepth 16384

noncomputable section

namespace Cert.Ffn.Dmemh0

open Idealize.ShloMosaic Idealize.ShloMosaic.TcCoe Idealize.SL.Sem Idealize.ShloMosaic.Pointwise
open Cert.Dmemh0Ideal Cert.Dmemh0Ideal.Gen Dmemh0ReferenceIdeal.Gen
open Dmemh0ReferenceIdeal (S2048x1024)

/-- The weight's four shards one below the other. -/
abbrev cat (w : FVec Ideal S4x2x512x1024 .bf16) : FVec Ideal S2048x1024 .bf16 :=
  concatenate S2048x1024 0
    [⟨Dmemh0ReferenceIdeal.S512x1024, shapeCast _ (extractStridedSlice Dmemh0ReferenceIdeal.S1x1x512x1024 ![0, 0, 0, 0] w slices_S4x2x512x1024_S1x1x512x1024_0_0_0_0) Dmemh0ReferenceIdeal.Gen.shapeCasts_S1x1x512x1024_S512x1024⟩,
     ⟨Dmemh0ReferenceIdeal.S512x1024, shapeCast _ (extractStridedSlice Dmemh0ReferenceIdeal.S1x1x512x1024 ![1, 0, 0, 0] w slices_S4x2x512x1024_S1x1x512x1024_1_0_0_0) Dmemh0ReferenceIdeal.Gen.shapeCasts_S1x1x512x1024_S512x1024⟩,
     ⟨Dmemh0ReferenceIdeal.S512x1024, shapeCast _ (extractStridedSlice Dmemh0ReferenceIdeal.S1x1x512x1024 ![2, 0, 0, 0] w slices_S4x2x512x1024_S1x1x512x1024_2_0_0_0) Dmemh0ReferenceIdeal.Gen.shapeCasts_S1x1x512x1024_S512x1024⟩,
     ⟨Dmemh0ReferenceIdeal.S512x1024, shapeCast _ (extractStridedSlice Dmemh0ReferenceIdeal.S1x1x512x1024 ![3, 0, 0, 0] w slices_S4x2x512x1024_S1x1x512x1024_3_0_0_0) Dmemh0ReferenceIdeal.Gen.shapeCasts_S1x1x512x1024_S512x1024⟩]
    concatenates_S512x1024_S512x1024_S512x1024_S512x1024_S2048x1024_d0

/-- Row `n` of the whole weight is row `n mod 512` of shard `n / 512`. -/
theorem cat_at (w : FVec Ideal S4x2x512x1024 .bf16) (n : Fin 2048) (k : Fin 1024) :
    cat w (ix2 n k) = w (ix4 ⟨n.val / 512, by omega⟩ 0 ⟨n.val % 512, by omega⟩ k) := by
  pointwise [cat]
  have e : ∀ (a a' : Fin 4) (b b' : Fin 512), a.val = a'.val → b.val = b'.val → w (ix4 a 0 b k) = w (ix4 a' 0 b' k) :=
    fun a a' b b' ha hb => by rw [Fin.ext ha, Fin.ext hb]
  split_ifs <;> refine e _ _ _ _ ?_ ?_ <;> simp <;> omega

/-- The reference: the gradient times the weight transposed. -/
abbrev want (d : FVec Ideal S256x1024 .f32) (w : FVec Ideal S4x2x512x1024 .bf16) : FVec Ideal S256x2048 .f32 :=
  Host.dotGeneral Dmemh0ReferenceIdeal.dot_S256x1024_S2048x1024_S256x2048_1_1_0_0_n_n none d (extf .f32 (cat w) Dmemh0ReferenceIdeal.Gen.bitsLt_bf16_f32)

theorem want_at (d : FVec Ideal S256x1024 .f32) (w : FVec Ideal S4x2x512x1024 .bf16) (r : Fin 256) (n : Fin 2048) :
    want d w (ix2 r n) = ∑ k : Fin 1024, d (ix2 r k) * w (ix4 ⟨n.val / 512, by omega⟩ 0 ⟨n.val % 512, by omega⟩ k) := by
  simp only [← cat_at]
  unfold want; generalize cat w = v
  pointwise

variable (m : (ℓ : Loc nD τ sig) → Buf (Elt Ideal) ℓ)

theorem idx : ∀ t : Fin cfg0.N, win0_0.index t = ![0, 0] ∧ win0_1.index t = ![t.val % 4, 0, 0, 0]
    ∧ win0_2.index t = ![0, t.val % 4] := (by decide +kernel : ∀ t : Fin grid0.N, _)

/-- One block of the product. -/
theorem point (c : Dev nD) (t : Fin cfg0.N) (y : S256x512.Idx) (j : S256x2048.Idx)
    (h0 : (j 0).val = (y 0).val) (h1 : (j 1).val = t.val % 4 * 512 + (y 1).val) :
    k0_pay1 (iblk m c 0 t) (iblk m c 1 t) y = want (m ((c : Thread nD τ).loc main_arg0)) (m ((c : Thread nD τ).loc main_arg1)) j := by
  idx_vars y
  idx_vars j
  rw [want_at]
  pointwise [k0_pay1]
  blk_point [iblk, V, (idx t).1, (idx t).2.1]

/-- The result's array after the run. -/
theorem final (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  blk_simp
  rw [after0_2]; frame_out
  refine point m c t y _ ?_ ?_ <;> (blk_simp [(idx t).2.2] <;> try omega)

end Cert.Ffn.Dmemh0

end
-- ==== Proof.CallDmemnorm.lean ====
/- The gradient of the memory's normalisation's gain: the kernel's array and the reference's term, entry by entry. -/
module

public import proofs.«01_k».proof.Proof.Gen.DmemnormIdeal.Value
public import proofs.«01_k».proof.Proof.Gen.DmemnormReferenceIdeal.Run
public import Idealize.ShloMosaic.Lib.Pipeline.ValueKit
public import Idealize.ShloMosaic.Lib.Pipeline.ReadBack

@[expose] public section

set_option maxRecDepth 16384

noncomputable section

namespace Cert.Ffn.Dmemnorm

open Idealize.ShloMosaic Idealize.ShloMosaic.TcCoe Idealize.SL.Sem Idealize.ShloMosaic.Pointwise
open Cert.DmemnormIdeal Cert.DmemnormIdeal.Gen DmemnormReferenceIdeal.Gen

/-- The mean square of each row with the small constant, as the reference has it. -/
abbrev meanSq (x : FVec Ideal S256x2048 .f32) : FVec Ideal DmemnormReferenceIdeal.S256x1 .f32 :=
  addf (Host.divf (broadcastInDim DmemnormReferenceIdeal.S256x1 ![0] bcast_S256_S256x1_0
      (Host.reduceAdd (mulf x x) (constant DmemnormReferenceIdeal.S_ .f32 0x00000000#32) reducesTo_S256x2048_S256_d1 h_S_))
    (broadcastInDim DmemnormReferenceIdeal.S256x1 ![] bcast_S_S256x1 (constant DmemnormReferenceIdeal.S_ .f32 0x45000000#32)))
    (broadcastInDim DmemnormReferenceIdeal.S256x1 ![] bcast_S_S256x1 (constant DmemnormReferenceIdeal.S_ .f32 0x358637BD#32))

/-- The reference: the normalised rows times their gradient, summed over the rows. -/
abbrev want (x dh : FVec Ideal S256x2048 .f32) : FVec Ideal S1x2048 .f32 :=
  shapeCast _ (Host.reduceAdd (shapeCast _ (Host.reduceAdd (mulf (mulf x (broadcastInDim S256x2048 ![0, 1] bcast_S256x1_S256x2048_0_1
      (Host.rsqrt (meanSq x)))) dh) (constant DmemnormReferenceIdeal.S_ .f32 0x00000000#32) reducesTo_S256x2048_S2048_d0 h_S_)
    DmemnormReferenceIdeal.Gen.shapeCasts_S2048_S1x2048) (constant DmemnormReferenceIdeal.S_ .f32 0x00000000#32) reducesTo_S1x2048_S2048_d0 h_S_) DmemnormReferenceIdeal.Gen.shapeCasts_S2048_S1x2048

/-- The width the row's sum is divided by, and the small constant. -/
abbrev width : EReal := Ideal.ofBits FTy.f32 0x45000000#32
abbrev small : EReal := Ideal.ofBits FTy.f32 0x358637BD#32

abbrev msAt (x : FVec Ideal S256x2048 .f32) (r : Fin 256) : EReal := Ideal.div (∑ k : Fin 2048, x (ix2 r k) * x (ix2 r k)) width + small

theorem meanSq_at (x : FVec Ideal S256x2048 .f32) (r : Fin 256) (z : Fin 1) : meanSq x (ix2 r z) = msAt x r := by
  pointwise [meanSq]

theorem want_at (x dh : FVec Ideal S256x2048 .f32) (z : Fin 1) (n : Fin 2048) :
    want x dh (ix2 z n) = ∑ r : Fin 256, x (ix2 r n) * Ideal.rsqrt (msAt x r) * dh (ix2 r n) := by
  simp only [← meanSq_at x _ 0]
  unfold want; generalize meanSq x = v
  pointwise
  exact Fin.sum_univ_one _

/-- A group of eight rows apart is one sublane's share. -/
theorem part_at (x d : Vec Ideal S256x2048 .f32) (a : Fin 8) (n : Fin 2048) :
    k0_pay1 (F := Ideal) x d (ix2 a n) = ∑ b : Fin 32, d (ix2 ⟨b.val * 8 + a.val, by omega⟩ n)
      * (x (ix2 ⟨b.val * 8 + a.val, by omega⟩ n) * Ideal.rsqrt (msAt x ⟨b.val * 8 + a.val, by omega⟩)) := by
  pointwise [k0_pay1]

theorem store_at (x d : Vec Ideal S256x2048 .f32) (j) : k0_pay2 (F := Ideal) x d j = k0_pay1 (F := Ideal) x d j := by
  unfold k0_pay2; generalize k0_pay1 (F := Ideal) x d = p
  pointwise

theorem sum_at (a : Vec Ideal S8x2048 .f32) (z : Fin 1) (n : Fin 2048) : k0_pay4 (F := Ideal) a (ix2 z n) = ∑ s : Fin 8, a (ix2 s n) := by
  pointwise [k0_pay4]

/-- The sublanes and the groups of eight rows together are the rows. -/
theorem regroup (f : Fin 256 → EReal) : (∑ a : Fin 8, ∑ b : Fin 32, f ⟨b.val * 8 + a.val, by omega⟩) = ∑ r, f r := by
  rw [Finset.sum_comm, ← (finProdFinEquiv (m := 32) (n := 8)).sum_comp, Fintype.sum_prod_type]
  refine Finset.sum_congr rfl fun b _ => Finset.sum_congr rfl fun a _ => congrArg f (Fin.ext ?_)
  simp only [finProdFinEquiv_apply_val]
  omega

variable (m : (ℓ : Loc nD τ sig) → Buf (Elt Ideal) ℓ)

theorem idx : ∀ t : Fin cfg0.N, win0_0.index t = ![0, 0] ∧ win0_1.index t = ![0, 0]
    ∧ win0_3.index t = ![0, 0] := (by decide +kernel : ∀ t : Fin grid0.N, _)

/-- The blocks are the arrays. -/
abbrev bx (c : Dev nD) (t : Fin cfg0.N) : Vec Ideal S256x2048 .f32 := iblk m c 0 t
abbrev bd (c : Dev nD) (t : Fin cfg0.N) : Vec Ideal S256x2048 .f32 := iblk m c 1 t

theorem bx_eq (c : Dev nD) (t : Fin cfg0.N) : bx m c t = (m ((c : Thread nD τ).loc main_arg0) : FVec Ideal S256x2048 .f32) := by
  funext y
  idx_vars y
  blk_point [bx, iblk, V, (idx t).1]

theorem bd_eq (c : Dev nD) (t : Fin cfg0.N) : bd m c t = (m ((c : Thread nD τ).loc main_arg1) : FVec Ideal S256x2048 .f32) := by
  funext y
  idx_vars y
  blk_point [bd, iblk, V, (idx t).2.1]

/-- What the body leaves is the sum over the sublanes. -/
theorem total_at (x d : FVec Ideal S256x2048 .f32) (z z' : Fin 1) (n : Fin 2048) :
    k0_pay4 (F := Ideal) (k0_pay2 (F := Ideal) x d) (ix2 z n) = want x d (ix2 z' n) := by
  rw [sum_at, want_at, ← regroup fun r => x (ix2 r n) * Ideal.rsqrt (msAt x r) * d (ix2 r n)]
  refine Finset.sum_congr rfl fun a _ => ?_
  rw [store_at, part_at]
  exact Finset.sum_congr rfl fun b _ => mul_comm _ _

/-- The one block written back. -/
theorem point (c : Dev nD) (t : Fin cfg0.N) (y : S1x2048.Idx) (j : S1x2048.Idx)
    (h0 : (j 0).val = (y 0).val) (h1 : (j 1).val = (y 1).val) :
    k0_pay4 (F := Ideal) (k0_pay2 (F := Ideal) (bx m c t) (bd m c t)) y = want (m ((c : Thread nD τ).loc main_arg0)) (m ((c : Thread nD τ).loc main_arg1)) j := by
  idx_vars y
  idx_vars j
  obtain rfl : j1 = y1 := Fin.ext h1
  rw [bx_eq, bd_eq]
  exact total_at _ _ _ _ _

/-- The gain's gradient after the run. -/
theorem final (c : Dev nD) : (dats m 0 c).arrAt 3 (cfgs 0).N = want (m ((c : Thread nD τ).loc main_arg0)) (m ((c : Thread nD τ).loc main_arg1)) := by
  refine (dats m 0 c).arrAt_eq_of_covers 3 _ (by decide +kernel) fun t hf y => ?_
  blk_simp
  rw [after0_3]
  unfold outsAt0
  frame_out
  refine point m c t y _ ?_ ?_ <;> (blk_simp [(idx t).2.2] <;> try omega)

end Cert.Ffn.Dmemnorm

end
-- ==== Proof.CallMem.lean ====
/- The memory attention: four heads' normalised queries and keys, the soft maximum over the memory, and its product with the values. -/
module

public import proofs.«01_k».proof.Proof.Gen.MemIdeal.Value
public import proofs.«01_k».proof.Proof.Gen.MemReferenceIdeal.Run
public import Idealize.ShloMosaic.Lib.Pipeline.ValueKit

@[expose] public section

set_option maxRecDepth 16384

noncomputable section

namespace Cert.Ffn.Mem

open Idealize.ShloMosaic Idealize.ShloMosaic.TcCoe Idealize.SL.Sem Idealize.ShloMosaic.Pointwise
/-- A row divided by its root mean square, scaled by the gain. -/
def unit (x g : Fin 128 → EReal) (d : Fin 128) : EReal :=
  x d * Ideal.rsqrt (Ideal.div (∑ e, x e * x e) (Ideal.ofBits .f32 0x43000000#32) + Ideal.ofBits .f32 0x358637BD#32) * g d

/-- A query's scaled score with key `n`, the scores' maximum, and the soft maximum's weight of key `n`. -/
def score (q : Fin 128 → EReal) (k : Fin 256 → Fin 128 → EReal) (gq gk : Fin 128 → EReal) (n : Fin 256) : EReal :=
  Ideal.div (∑ e, unit q gq e * unit (k n) gk e) (Ideal.ofBits .f32 0x413504F3#32)
def peak (s : Fin 256 → EReal) : EReal := (Finset.univ : Finset (Fin 256)).fold max (Ideal.ofBits .f32 0xFF800000#32) s
def weight (s : Fin 256 → EReal) (n : Fin 256) : EReal := Ideal.div (Ideal.exp (s n - peak s)) (∑ n, Ideal.exp (s n - peak s))

/-- One coordinate of one query's output. -/
def row (q : Fin 128 → EReal) (k v : Fin 256 → Fin 128 → EReal) (gq gk : Fin 128 → EReal) (d : Fin 128) : EReal :=
  ∑ n, weight (score q k gq gk) n * v n d

/-- Dividing by the reference's root is multiplying by the reciprocal the kernel names. -/
theorem root (x : EReal) : Ideal.div x (Ideal.ofBits .f32 0x413504F3#32) = x * ((1048576 / 11863283 : ℝ) : EReal) := by
  have w : Ideal.ofBits .f32 0x413504F3#32 = ((11863283 / 1048576 : ℝ) : EReal) := by
    simp [Ideal.ofBits, Ideal.ieee]
    rw [← EReal.coe_mul]; norm_num
  rw [w, Ideal.div_coe (by norm_num)]
  norm_num

section Reference
open Cert.MemReferenceIdeal Cert.MemReferenceIdeal.Gen

/-- The queries, keys and values by head. -/
abbrev qs (p : FVec Ideal S8192x5120 .f32) : FVec Ideal S8192x4x128 .f32 :=
  shapeCast _ (extractStridedSlice S8192x512 ![0, 4608] p slices_S8192x5120_S8192x512_0_4608) shapeCasts_S8192x512_S8192x4x128
abbrev ks (kv : FVec Ideal S256x1024 .f32) : FVec Ideal S256x4x128 .f32 :=
  shapeCast _ (extractStridedSlice S256x512 ![0, 0] kv slices_S256x1024_S256x512_0_0) shapeCasts_S256x512_S256x4x128
abbrev vs (kv : FVec Ideal S256x1024 .f32) : FVec Ideal S256x4x128 .f32 :=
  shapeCast _ (extractStridedSlice S256x512 ![0, 512] kv slices_S256x1024_S256x512_0_512) shapeCasts_S256x512_S256x4x128

/-- A head's rows divided by their root mean squares, scaled by the gain. -/
abbrev normQ (x : FVec Ideal S8192x4x128 .f32) (g : FVec Ideal S128 .f32) : FVec Ideal S8192x4x128 .f32 :=
  mulf (mulf x (broadcastInDim S8192x4x128 ![0, 1, 2] bcast_S8192x4x1_S8192x4x128_0_1_2 (Host.rsqrt (addf (Host.divf (broadcastInDim S8192x4x1 ![0, 1] bcast_S8192x4_S8192x4x1_0_1 (Host.reduceAdd (mulf x x) (constant S_ .f32 0x00000000#32) reducesTo_S8192x4x128_S8192x4_d2 h_S_)) (broadcastInDim S8192x4x1 ![] bcast_S_S8192x4x1 (constant S_ .f32 0x43000000#32))) (broadcastInDim S8192x4x1 ![] bcast_S_S8192x4x1 (constant S_ .f32 0x358637BD#32))))))
    (broadcastInDim S8192x4x128 ![0, 1, 2] bcast_S1x1x128_S8192x4x128_0_1_2 (broadcastInDim S1x1x128 ![2] bcast_S128_S1x1x128_2 g))
abbrev normK (x : FVec Ideal S256x4x128 .f32) (g : FVec Ideal S128 .f32) : FVec Ideal S256x4x128 .f32 :=
  mulf (mulf x (broadcastInDim S256x4x128 ![0, 1, 2] bcast_S256x4x1_S256x4x128_0_1_2 (Host.rsqrt (addf (Host.divf (broadcastInDim S256x4x1 ![0, 1] bcast_S256x4_S256x4x1_0_1 (Host.reduceAdd (mulf x x) (constant S_ .f32 0x00000000#32) reducesTo_S256x4x128_S256x4_d2 h_S_)) (broadcastInDim S256x4x1 ![] bcast_S_S256x4x1 (constant S_ .f32 0x43000000#32))) (broadcastInDim S256x4x1 ![] bcast_S_S256x4x1 (constant S_ .f32 0x358637BD#32))))))
    (broadcastInDim S256x4x128 ![0, 1, 2] bcast_S1x1x128_S256x4x128_0_1_2 (broadcastInDim S1x1x128 ![2] bcast_S128_S1x1x128_2 g))

/-- The scaled scores, their exponentials below the row's maximum, and the weights. -/
abbrev scores (q : FVec Ideal S8192x4x128 .f32) (k : FVec Ideal S256x4x128 .f32) : FVec Ideal S4x8192x256 .f32 :=
  Host.divf (Host.dotGeneral dot_S8192x4x128_S256x4x128_S4x8192x256_2_2_0_0_1_1 none q k) (broadcastInDim S4x8192x256 ![] bcast_S_S4x8192x256 (constant S_ .f32 0x413504F3#32))
abbrev top (s : FVec Ideal S4x8192x256 .f32) : FVec Ideal S4x8192 .f32 :=
  maximumf (broadcastInDim S4x8192 ![] bcast_S_S4x8192 (constant S_ .f32 0xFF800000#32)) (Host.reduce FloatOps.maximumf s (constant S_ .f32 0xFF800000#32) reducesTo_S4x8192x256_S4x8192_d2 h_S_)
abbrev expo (s : FVec Ideal S4x8192x256 .f32) (x : FVec Ideal S4x8192 .f32) : FVec Ideal S4x8192x256 .f32 :=
  Host.exp (subf s (broadcastInDim S4x8192x256 ![0, 1, 2] bcast_S4x8192x1_S4x8192x256_0_1_2 (broadcastInDim S4x8192x1 ![0, 1] bcast_S4x8192_S4x8192x1_0_1 x)))
abbrev weights (e : FVec Ideal S4x8192x256 .f32) : FVec Ideal S4x8192x256 .f32 :=
  Host.divf e (broadcastInDim S4x8192x256 ![0, 1, 2] bcast_S4x8192x1_S4x8192x256_0_1_2 (broadcastInDim S4x8192x1 ![0, 1] bcast_S4x8192_S4x8192x1_0_1 (Host.reduceAdd e (constant S_ .f32 0x00000000#32) reducesTo_S4x8192x256_S4x8192_d2 h_S_)))
abbrev soft (s : FVec Ideal S4x8192x256 .f32) : FVec Ideal S4x8192x256 .f32 := weights (expo s (top s))
abbrev mix (v : FVec Ideal S256x4x128 .f32) (w : FVec Ideal S4x8192x256 .f32) : FVec Ideal S8192x512 .f32 :=
  shapeCast _ (transpose S8192x4x128 [2, 0, 1] (Host.dotGeneral dot_S256x4x128_S4x8192x256_S4x128x8192_0_2_2_1_1_0 none v w) transposes_S4x128x8192_S8192x4x128_2_0_1) shapeCasts_S8192x4x128_S8192x512

abbrev attend (q : FVec Ideal S8192x4x128 .f32) (kv : FVec Ideal S256x1024 .f32) (gq gk : FVec Ideal S128 .f32) : FVec Ideal S8192x512 .f32 :=
  mix (vs kv) (soft (scores (normQ q gq) (normK (ks kv) gk)))

/-- The reference. -/
abbrev want (p : FVec Ideal S8192x5120 .f32) (kv : FVec Ideal S256x1024 .f32) (gq gk : FVec Ideal S128 .f32) : FVec Ideal S8192x512 .f32 :=
  attend (qs p) kv gq gk

theorem scores_at (q : FVec Ideal S8192x4x128 .f32) (k : FVec Ideal S256x4x128 .f32) (gq gk : FVec Ideal S128 .f32) (r : Fin 8192) (h : Fin 4) (n : Fin 256) :
    scores (normQ q gq) (normK k gk) (ix3 h r n)
      = score (fun e => q (ix3 r h e)) (fun n e => k (ix3 n h e)) (fun e => gq (ix1 e)) (fun e => gk (ix1 e)) n := by
  have hq : ∀ e, normQ q gq (ix3 r h e) = unit (fun e => q (ix3 r h e)) (fun e => gq (ix1 e)) e := fun e => by pointwise [normQ]; rfl
  have hk : ∀ e, normK k gk (ix3 n h e) = unit (fun e => k (ix3 n h e)) (fun e => gk (ix1 e)) e := fun e => by pointwise [normK]; rfl
  unfold score; simp only [← hq, ← hk]
  generalize normQ q gq = a; generalize normK k gk = b
  pointwise [scores]

theorem top_at (s : FVec Ideal S4x8192x256 .f32) (r : Fin 8192) (h : Fin 4) :
    top s (ix2 h r) = peak fun n => s (ix3 h r n) := by
  unfold top
  rw [maximumf_apply, Host.reduce_eq_fold_single _ _ _ _ (by decide : Shape.Reduces S4x8192x256 [2] S4x8192)]
  have e : (s ∘ (by decide : Shape.Reduces S4x8192x256 [2] S4x8192).lift (ix2 h r)) = fun n : Fin 256 => s (ix3 h r n) :=
    funext fun n => congrArg s (by funext a; fin_cases a <;> rfl)
  rw [e]
  generalize (fun n : Fin 256 => s (ix3 h r n)) = f
  change max (Ideal.ofBits .f32 0xFF800000#32) (peak f) = peak f
  exact max_eq_right ((Finset.le_fold_max _).2 (.inl le_rfl))

theorem soft_at (s : FVec Ideal S4x8192x256 .f32) (r : Fin 8192) (h : Fin 4) (n : Fin 256) :
    soft s (ix3 h r n) = weight (fun n => s (ix3 h r n)) n := by
  unfold soft weight; rw [← top_at]; generalize top s = x
  pointwise [weights, expo]

/-- One entry of the reference: head `j / 128`, coordinate `j mod 128`. -/
theorem attend_at (q : FVec Ideal S8192x4x128 .f32) (kv : FVec Ideal S256x1024 .f32) (gq gk : FVec Ideal S128 .f32) (r : Fin 8192) (h : Fin 4) (d : Fin 128) :
    attend q kv gq gk (ix2 r ⟨h.val * 128 + d.val, by omega⟩)
      = row (fun e => q (ix3 r h e)) (fun n e => kv (ix2 n ⟨h.val * 128 + e.val, by omega⟩)) (fun n e => kv (ix2 n ⟨512 + (h.val * 128 + e.val), by omega⟩))
          (fun e => gq (ix1 e)) (fun e => gk (ix1 e)) d := by
  have hk : ∀ n e, ks kv (ix3 n h e) = kv (ix2 n ⟨h.val * 128 + e.val, by omega⟩) := fun n e => by pointwise [ks]
  have hv : ∀ n e, vs kv (ix3 n h e) = kv (ix2 n ⟨512 + (h.val * 128 + e.val), by omega⟩) := fun n e => by pointwise [vs]
  have hm : ∀ (v : FVec Ideal S256x4x128 .f32) (w : FVec Ideal S4x8192x256 .f32), mix v w (ix2 r ⟨h.val * 128 + d.val, by omega⟩) = ∑ n, w (ix3 h r n) * v (ix3 n h d) := fun v w => by
    pointwise [mix]
    exact Finset.sum_congr rfl fun n _ => mul_comm _ _
  unfold attend; rw [hm]
  unfold row; simp only [soft_at, scores_at, hk, hv]

end Reference

open Cert.MemIdeal Cert.MemIdeal.Gen

/-- One head of the body. -/
abbrev head (q : Vec Ideal S512x128 .f32) (k v : Vec Ideal S256x128 .f32) (gq gk : Vec Ideal S1x128 .f32) : FVec Ideal S512x128 .f32 :=
  k0_pay5 (k0_pay2 v) (k0_pay3 q gq k gk) (k0_pay4 q gq k gk)

theorem head_at (q : Vec Ideal S512x128 .f32) (k v : Vec Ideal S256x128 .f32) (gq gk : Vec Ideal S1x128 .f32) (a : Fin 512) (d : Fin 128) :
    head q k v gq gk (ix2 a d)
      = row (fun e => q (ix2 a e)) (fun n e => k (ix2 n e)) (fun n e => v (ix2 n e)) (fun e => gq (ix2 0 e)) (fun e => gk (ix2 0 e)) d := by
  have hs : ∀ n, k0_pay3 q gq k gk (ix2 a n) = score (fun e => q (ix2 a e)) (fun n e => k (ix2 n e)) (fun e => gq (ix2 0 e)) (fun e => gk (ix2 0 e)) n := fun n => by
    unfold score; rw [root, ← IdealRules.named_const.ideal_named_scalar κ "inv_root" (φ := .f32) 0x3DB504F3#32 _ rfl]
    pointwise [k0_pay3]; rfl
  have hx : ∀ n, k0_pay4 q gq k gk (ix2 a n) = peak fun n => k0_pay3 q gq k gk (ix2 a n) := fun n => by
    unfold k0_pay4; generalize k0_pay3 q gq k gk = s
    pointwise; rfl
  have e : head q k v gq gk (ix2 a d) = ∑ n, Ideal.div (Ideal.exp (k0_pay3 q gq k gk (ix2 a n) - k0_pay4 q gq k gk (ix2 a n)))
      (∑ n, Ideal.exp (k0_pay3 q gq k gk (ix2 a n) - k0_pay4 q gq k gk (ix2 a n))) * v (ix2 n d) := by
    unfold head; generalize k0_pay3 q gq k gk = s; generalize k0_pay4 q gq k gk = x
    pointwise [k0_pay5, k0_pay2]
  rw [e]; simp only [hx, hs]; rfl

variable (m : (ℓ : Loc nD τ sig) → Buf (Elt Ideal) ℓ)

theorem idx : ∀ t : Fin cfg0.N, win0_0.index t = ![t.val, 9] ∧ win0_1.index t = ![0, 0] ∧ win0_2.index t = ![0, 0]
    ∧ win0_3.index t = ![0, 0] ∧ win0_4.index t = ![t.val, 0] := (by decide +kernel : ∀ t : Fin grid0.N, _)

/-- A head's block. -/
theorem blk (c : Dev nD) (t : Fin cfg0.N) (h : Fin 4) (q : Vec Ideal S512x128 .f32) (k v : Vec Ideal S256x128 .f32) (gq gk : Vec Ideal S1x128 .f32)
    (hq : ∀ a e, q (ix2 a e) = iblk m c 0 t (ix2 a ⟨h.val * 128 + e.val, by omega⟩))
    (hk : ∀ n e, k (ix2 n e) = iblk m c 1 t (ix2 n ⟨h.val * 128 + e.val, by omega⟩))
    (hv : ∀ n e, v (ix2 n e) = iblk m c 1 t (ix2 n ⟨512 + (h.val * 128 + e.val), by omega⟩))
    (hgq : gq = iblk m c 2 t) (hgk : gk = iblk m c 3 t) (y : S512x128.Idx) (j : S8192x512.Idx)
    (h0 : (j 0).val = t.val * 512 + (y 0).val) (h1 : (j 1).val = h.val * 128 + (y 1).val) :
    head q k v gq gk y = want (m ((c : Thread nD τ).loc main_arg0)) (m ((c : Thread nD τ).loc main_arg1)) (m ((c : Thread nD τ).loc main_arg2)) (m ((c : Thread nD τ).loc main_arg3)) j := by
  idx_vars y
  idx_vars j
  have hj : j1 = ⟨h.val * 128 + y1.val, by show _ < 512; have : y1.val < 128 := y1.isLt; omega⟩ := Fin.ext h1
  rw [hj]; unfold want; rw [attend_at, head_at]
  subst hgq hgk
  simp only [hq, hk, hv]
  congr 1
  all_goals (try funext n); (try funext e); (try pointwise [qs]); blk_point [iblk, V, (idx t).1, (idx t).2.1, (idx t).2.2.1, (idx t).2.2.2.1]

/-- The array after the run. -/
theorem final (c : Dev nD) : (dats m 0 c).arrAt 4 (cfgs 0).N
    = want (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  canon_tiles x h <;> simp (disch := decide) only [View.ld_unit_lit']
  · refine blk m c t 3 _ _ _ _ _ (fun a e => congrArg (iblk m c 0 t) ?_) (fun n e => congrArg (iblk m c 1 t) ?_) (fun n e => congrArg (iblk m c 1 t) ?_) rfl rfl x _ ?_ ?_
    iterate 3 (funext b; refine Fin.ext ((Rect.idx_unit_val _ _ _ _ _).trans ?_); fin_cases b <;> simp <;> omega)
    all_goals (blk_simp [(idx t).2.2.2.2] <;> try omega)
  · refine blk m c t 2 _ _ _ _ _ (fun a e => congrArg (iblk m c 0 t) ?_) (fun n e => congrArg (iblk m c 1 t) ?_) (fun n e => congrArg (iblk m c 1 t) ?_) rfl rfl x _ ?_ ?_
    iterate 3 (funext b; refine Fin.ext ((Rect.idx_unit_val _ _ _ _ _).trans ?_); fin_cases b <;> simp <;> omega)
    all_goals (blk_simp [(idx t).2.2.2.2] <;> try omega)
  · refine blk m c t 1 _ _ _ _ _ (fun a e => congrArg (iblk m c 0 t) ?_) (fun n e => congrArg (iblk m c 1 t) ?_) (fun n e => congrArg (iblk m c 1 t) ?_) rfl rfl x _ ?_ ?_
    iterate 3 (funext b; refine Fin.ext ((Rect.idx_unit_val _ _ _ _ _).trans ?_); fin_cases b <;> simp <;> omega)
    all_goals (blk_simp [(idx t).2.2.2.2] <;> try omega)
  · refine blk m c t 0 _ _ _ _ _ (fun a e => congrArg (iblk m c 0 t) ?_) (fun n e => congrArg (iblk m c 1 t) ?_) (fun n e => congrArg (iblk m c 1 t) ?_) rfl rfl x _ ?_ ?_
    iterate 3 (funext b; refine Fin.ext ((Rect.idx_unit_val _ _ _ _ _).trans ?_); fin_cases b <;> simp <;> omega)
    all_goals (blk_simp [(idx t).2.2.2.2] <;> try omega)

end Cert.Ffn.Mem

end
-- ==== Proof.CallMems.lean ====
/- The memory attention of a state space layer: the queries lie at another column of the projection. -/
module

public import proofs.«01_k».proof.Proof.Gen.MemsIdeal.Value
public import proofs.«01_k».proof.Proof.Gen.MemsReferenceIdeal.Run
public import proofs.«01_k».proof.Proof.CallMem

@[expose] public section

set_option maxRecDepth 16384

noncomputable section

namespace Cert.Ffn.Mems

open Idealize.ShloMosaic Idealize.ShloMosaic.TcCoe Idealize.SL.Sem Idealize.ShloMosaic.Pointwise
open Cert.MemsIdeal Cert.MemsIdeal.Gen

/-- The queries by head, and the reference. -/
abbrev qs (p : FVec Ideal S8192x2048 .f32) : FVec Ideal MemsReferenceIdeal.S8192x4x128 .f32 :=
  shapeCast _ (extractStridedSlice MemsReferenceIdeal.S8192x512 ![0, 1536] p MemsReferenceIdeal.Gen.slices_S8192x2048_S8192x512_0_1536) MemsReferenceIdeal.Gen.shapeCasts_S8192x512_S8192x4x128
abbrev want (p : FVec Ideal S8192x2048 .f32) (kv : FVec Ideal S256x1024 .f32) (gq gk : FVec Ideal S128 .f32) : FVec Ideal S8192x512 .f32 :=
  Mem.attend (qs p) kv gq gk

/-- The body's heads are those of the other layers. -/
theorem head0 (q : Vec Ideal S512x128 .f32) (k v : Vec Ideal S256x128 .f32) (gq gk : Vec Ideal S1x128 .f32) :
    k0_pay5 (k0_pay2 v) (k0_pay3 q gq k gk) (k0_pay4 q gq k gk) = Mem.head q k v gq gk := rfl
theorem head1 (q : Vec Ideal S512x128 .f32) (k v : Vec Ideal S256x128 .f32) (gq gk : Vec Ideal S1x128 .f32) :
    k0_pay8 (k0_pay6 q gq) (k0_pay7 k gk) v = Mem.head q k v gq gk := rfl
theorem head2 (q : Vec Ideal S512x128 .f32) (k v : Vec Ideal S256x128 .f32) (gq gk : Vec Ideal S1x128 .f32) :
    k0_pay11 (k0_pay9 q gq) k (k0_pay10 k) (Scalar.ofBits .f32 0x358637BD#32) gk v = Mem.head q k v gq gk := rfl
theorem head3 (q : Vec Ideal S512x128 .f32) (k v : Vec Ideal S256x128 .f32) (gq gk : Vec Ideal S1x128 .f32) :
    k0_pay1 (k0_pay12 q) (k0_pay13 gq) k gk v = Mem.head q k v gq gk := rfl

variable (m : (ℓ : Loc nD τ sig) → Buf (Elt Ideal) ℓ)

theorem idx : ∀ t : Fin cfg0.N, win0_0.index t = ![t.val, 3] ∧ win0_1.index t = ![0, 0] ∧ win0_2.index t = ![0, 0]
    ∧ win0_3.index t = ![0, 0] ∧ win0_4.index t = ![t.val, 0] := (by decide +kernel : ∀ t : Fin grid0.N, _)

/-- A head's block. -/
theorem blk (c : Dev nD) (t : Fin cfg0.N) (h : Fin 4) (q : Vec Ideal S512x128 .f32) (k v : Vec Ideal S256x128 .f32) (gq gk : Vec Ideal S1x128 .f32)
    (hq : ∀ a e, q (ix2 a e) = iblk m c 0 t (ix2 a ⟨h.val * 128 + e.val, by omega⟩))
    (hk : ∀ n e, k (ix2 n e) = iblk m c 1 t (ix2 n ⟨h.val * 128 + e.val, by omega⟩))
    (hv : ∀ n e, v (ix2 n e) = iblk m c 1 t (ix2 n ⟨512 + (h.val * 128 + e.val), by omega⟩))
    (hgq : gq = iblk m c 2 t) (hgk : gk = iblk m c 3 t) (y : S512x128.Idx) (j : S8192x512.Idx)
    (h0 : (j 0).val = t.val * 512 + (y 0).val) (h1 : (j 1).val = h.val * 128 + (y 1).val) :
    Mem.head q k v gq gk y = want (m ((c : Thread nD τ).loc main_arg0)) (m ((c : Thread nD τ).loc main_arg1)) (m ((c : Thread nD τ).loc main_arg2)) (m ((c : Thread nD τ).loc main_arg3)) j := by
  idx_vars y
  idx_vars j
  have hj : j1 = ⟨h.val * 128 + y1.val, by show _ < 512; have : y1.val < 128 := y1.isLt; omega⟩ := Fin.ext h1
  rw [hj]; unfold want; rw [Mem.attend_at, Mem.head_at]
  subst hgq hgk
  simp only [hq, hk, hv]
  congr 1
  all_goals (try funext n); (try funext e); (try pointwise [qs]); blk_point [iblk, V, (idx t).1, (idx t).2.1, (idx t).2.2.1, (idx t).2.2.2.1]

/-- The array after the run. -/
theorem final (c : Dev nD) : (dats m 0 c).arrAt 4 (cfgs 0).N
    = want (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  canon_tiles x h <;> simp (disch := decide) only [View.ld_unit_lit']
  · refine blk m c t 3 _ _ _ _ _ (fun a e => congrArg (iblk m c 0 t) ?_) (fun n e => congrArg (iblk m c 1 t) ?_) (fun n e => congrArg (iblk m c 1 t) ?_) rfl rfl x _ ?_ ?_
    iterate 3 (funext b; refine Fin.ext ((Rect.idx_unit_val _ _ _ _ _).trans ?_); fin_cases b <;> simp <;> omega)
    all_goals (blk_simp [(idx t).2.2.2.2] <;> try omega)
  · refine blk m c t 2 _ _ _ _ _ (fun a e => congrArg (iblk m c 0 t) ?_) (fun n e => congrArg (iblk m c 1 t) ?_) (fun n e => congrArg (iblk m c 1 t) ?_) rfl rfl x _ ?_ ?_
    iterate 3 (funext b; refine Fin.ext ((Rect.idx_unit_val _ _ _ _ _).trans ?_); fin_cases b <;> simp <;> omega)
    all_goals (blk_simp [(idx t).2.2.2.2] <;> try omega)
  · refine blk m c t 1 _ _ _ _ _ (fun a e => congrArg (iblk m c 0 t) ?_) (fun n e => congrArg (iblk m c 1 t) ?_) (fun n e => congrArg (iblk m c 1 t) ?_) rfl rfl x _ ?_ ?_
    iterate 3 (funext b; refine Fin.ext ((Rect.idx_unit_val _ _ _ _ _).trans ?_); fin_cases b <;> simp <;> omega)
    all_goals (blk_simp [(idx t).2.2.2.2] <;> try omega)
  · refine blk m c t 0 _ _ _ _ _ (fun a e => congrArg (iblk m c 0 t) ?_) (fun n e => congrArg (iblk m c 1 t) ?_) (fun n e => congrArg (iblk m c 1 t) ?_) rfl rfl x _ ?_ ?_
    iterate 3 (funext b; refine Fin.ext ((Rect.idx_unit_val _ _ _ _ _).trans ?_); fin_cases b <;> simp <;> omega)
    all_goals (blk_simp [(idx t).2.2.2.2] <;> try omega)

end Cert.Ffn.Mems

end
-- ==== Proof.Claims.lean ====
/- The calls' claims: each kernel's arrays after its run are its reference's results, and the references leave their arguments unchanged. -/
module

public import proofs.«01_k».proof.Defs
public import proofs.«01_k».proof.Proof.CallDact
public import proofs.«01_k».proof.Proof.CallDwdown
public import proofs.«01_k».proof.Proof.CallDwgu
public import proofs.«01_k».proof.Proof.CallDh
public import proofs.«01_k».proof.Proof.CallGu
public import proofs.«01_k».proof.Proof.CallDown
public import proofs.«01_k».proof.Proof.CallNorm
public import proofs.«01_k».proof.Proof.CallDnorm
public import proofs.«01_k».proof.Proof.CallDact0
public import proofs.«01_k».proof.Proof.CallDh0
public import proofs.«01_k».proof.Proof.CallGu0
public import proofs.«01_k».proof.Proof.CallDown0
public import proofs.«01_k».proof.Proof.CallSbin
public import proofs.«01_k».proof.Proof.CallSsin
public import proofs.«01_k».proof.Proof.CallOut
public import proofs.«01_k».proof.Proof.CallDcat
public import proofs.«01_k».proof.Proof.CallDhsb
public import proofs.«01_k».proof.Proof.CallSbin0
public import proofs.«01_k».proof.Proof.CallSsin0
public import proofs.«01_k».proof.Proof.CallOut0
public import proofs.«01_k».proof.Proof.CallDcat0
public import proofs.«01_k».proof.Proof.CallDhsb0
public import proofs.«01_k».proof.Proof.CallDwin
public import proofs.«01_k».proof.Proof.CallDwout
public import proofs.«01_k».proof.Proof.CallDgate
public import proofs.«01_k».proof.Proof.CallDwglu
public import proofs.«01_k».proof.Proof.CallGlu
public import proofs.«01_k».proof.Proof.CallGlu0
public import proofs.«01_k».proof.Proof.CallLoss
public import proofs.«01_k».proof.Proof.CallAdamGu
public import proofs.«01_k».proof.Proof.CallAdamDown
public import proofs.«01_k».proof.Proof.CallAdamKv
public import proofs.«01_k».proof.Proof.CallAdamOut
public import proofs.«01_k».proof.Proof.CallAdamSbin
public import proofs.«01_k».proof.Proof.CallAdamSsin
public import proofs.«01_k».proof.Proof.CallAdamGlu
public import proofs.«01_k».proof.Proof.CallAdamNorm
public import proofs.«01_k».proof.Proof.CallAdamHead
public import proofs.«01_k».proof.Proof.CallAdamDt
public import proofs.«01_k».proof.Proof.CallAdamA
public import proofs.«01_k».proof.Proof.CallAdamB
public import proofs.«01_k».proof.Proof.CallAdamC
public import proofs.«01_k».proof.Proof.CallAdamD
public import proofs.«01_k».proof.Proof.CallMemnorm
public import proofs.«01_k».proof.Proof.CallMemkv
public import proofs.«01_k».proof.Proof.CallMemkv0
public import proofs.«01_k».proof.Proof.CallDwkv
public import proofs.«01_k».proof.Proof.CallDmemh
public import proofs.«01_k».proof.Proof.CallDmemh0
public import proofs.«01_k».proof.Proof.CallDmemnorm
public import proofs.«01_k».proof.Proof.CallMem
public import proofs.«01_k».proof.Proof.CallMems
public import Idealize.ShloMosaic.Adequacy
public import Idealize.ShloMosaic.Init

@[expose] public section

set_option maxRecDepth 16384

noncomputable section

namespace Cert.Ffn

open Idealize.ShloMosaic Idealize.SL.Sem

section
variable {α β γ δ ε : Sort*}

/-- Two arrays are equal when both are the reference's term at arguments that are equal, here of two, three and four arguments. -/
theorem meet2 (f : α → β → ε) {a a' b b' x y} (h : a = a' ∧ b = b') (e : x = f a b) (k : y = f a' b') : x = y :=
  e.trans ((congr (congrArg f h.1) h.2).trans k.symm)

theorem meet3 (f : α → β → γ → ε) {a a' b b' c c' x y} (h : a = a' ∧ b = b' ∧ c = c') (e : x = f a b c) (k : y = f a' b' c') : x = y :=
  meet2 (f a) h.2 e (k.trans (h.1 ▸ rfl))

theorem meet4 (f : α → β → γ → δ → ε) {a a' b b' c c' d d' x y} (h : a = a' ∧ b = b' ∧ c = c' ∧ d = d') (e : x = f a b c d)
    (k : y = f a' b' c' d') : x = y :=
  meet3 (f a) h.2 e (k.trans (h.1 ▸ rfl))

end

theorem Dact.frame_reference : quiescent_DactReferenceIdeal := fun m ρ _ =>
  (θ_run DactReferenceIdeal.defs _ _).mono (fun r h => ⟨fun c => (h c).2, sem_eq_zero_of_no_sems (by decide) r.2⟩) (DactReferenceIdeal.Value.run (F := Ideal) m ρ)

theorem Dact.values : algebraic_DactIdeal_DactReferenceIdeal_pre_dact_finite (hPre_dact_finite := Dact.preFacts) := by
  intro m g m' g' hpre hm
  refine ⟨_, DactIdeal.Value.run_blocks (F := Ideal) m g, (θ_run DactReferenceIdeal.defs _ _).mono (fun r h c => ?_) (DactReferenceIdeal.Value.run (F := Ideal) m' g')⟩
  obtain ⟨e0, args⟩ := h c
  have fin := Dact.finite_real (hpre c).1 (hpre c).2.1 (hpre c).2.2
  exact ⟨meet3 Dact.want (hm c) e0 (Dact.final m c fin.1 fin.2.1 fin.2.2), args⟩

theorem Dwdown.frame_reference : quiescent_DwdownReferenceIdeal := fun m ρ _ =>
  (θ_run DwdownReferenceIdeal.defs _ _).mono (fun r h => ⟨fun c => (h c).2, sem_eq_zero_of_no_sems (by decide) r.2⟩) (DwdownReferenceIdeal.Value.run (F := Ideal) m ρ)

theorem Dwdown.values : algebraic_DwdownIdeal_DwdownReferenceIdeal := by
  intro m g m' g' hpre hm
  refine ⟨_, DwdownIdeal.Value.run_blocks (F := Ideal) m g, (θ_run DwdownReferenceIdeal.defs _ _).mono (fun r h c => ?_) (DwdownReferenceIdeal.Value.run (F := Ideal) m' g')⟩
  obtain ⟨e0, args⟩ := h c
  exact ⟨meet2 Dwdown.want (hm c) e0 (Dwdown.final m c), args⟩

theorem Dwgu.frame_reference : quiescent_DwguReferenceIdeal := fun m ρ _ =>
  (θ_run DwguReferenceIdeal.defs _ _).mono (fun r h => ⟨fun c => (h c).2, sem_eq_zero_of_no_sems (by decide) r.2⟩) (DwguReferenceIdeal.Value.run (F := Ideal) m ρ)

theorem Dwgu.values : algebraic_DwguIdeal_DwguReferenceIdeal := by
  intro m g m' g' hpre hm
  refine ⟨_, DwguIdeal.Value.run_blocks (F := Ideal) m g, (θ_run DwguReferenceIdeal.defs _ _).mono (fun r h c => ?_) (DwguReferenceIdeal.Value.run (F := Ideal) m' g')⟩
  obtain ⟨e0, args⟩ := h c
  exact ⟨meet2 Dwgu.want (hm c) e0 (Dwgu.final m c), args⟩

theorem Dh.frame_reference : quiescent_DhReferenceIdeal := fun m ρ _ =>
  (θ_run DhReferenceIdeal.defs _ _).mono (fun r h => ⟨fun c => (h c).2, sem_eq_zero_of_no_sems (by decide) r.2⟩) (DhReferenceIdeal.Value.run (F := Ideal) m ρ)

theorem Dh.values : algebraic_DhIdeal_DhReferenceIdeal := by
  intro m g m' g' hpre hm
  refine ⟨_, DhIdeal.Value.run_blocks (F := Ideal) m g, (θ_run DhReferenceIdeal.defs _ _).mono (fun r h c => ?_) (DhReferenceIdeal.Value.run (F := Ideal) m' g')⟩
  obtain ⟨e0, args⟩ := h c
  exact ⟨meet2 Dh.want (hm c) e0 (Dh.final m c), args⟩

theorem Gu.frame_reference : quiescent_GuReferenceIdeal := fun m ρ _ =>
  (θ_run GuReferenceIdeal.defs _ _).mono (fun r h => ⟨fun c => (h c).2.2, sem_eq_zero_of_no_sems (by decide) r.2⟩) (GuReferenceIdeal.Value.run (F := Ideal) m ρ)

theorem Gu.values : algebraic_GuIdeal_GuReferenceIdeal := by
  intro m g m' g' hpre hm
  refine ⟨_, _, GuIdeal.Value.run_blocks (F := Ideal) m g, (θ_run GuReferenceIdeal.defs _ _).mono (fun r h c => ?_) (GuReferenceIdeal.Value.run (F := Ideal) m' g')⟩
  obtain ⟨e0, e1, args⟩ := h c
  exact ⟨meet2 Gu.wantAct (hm c) e0 (Gu.finalAct m c),
    meet2 Gu.wantGu (hm c) e1 (Gu.finalGu m c), args⟩

theorem Down.frame_reference : quiescent_DownReferenceIdeal := fun m ρ _ =>
  (θ_run DownReferenceIdeal.defs _ _).mono (fun r h => ⟨fun c => (h c).2, sem_eq_zero_of_no_sems (by decide) r.2⟩) (DownReferenceIdeal.Value.run (F := Ideal) m ρ)

theorem Down.values : algebraic_DownIdeal_DownReferenceIdeal := by
  intro m g m' g' hpre hm
  refine ⟨_, DownIdeal.Value.run_blocks (F := Ideal) m g, (θ_run DownReferenceIdeal.defs _ _).mono (fun r h c => ?_) (DownReferenceIdeal.Value.run (F := Ideal) m' g')⟩
  obtain ⟨e0, args⟩ := h c
  exact ⟨meet3 Down.want (hm c) e0 (Down.final m c), args⟩

theorem Norm.frame_reference : quiescent_NormReferenceIdeal := fun m ρ _ =>
  (θ_run NormReferenceIdeal.defs _ _).mono (fun r h => ⟨fun c => (h c).2, sem_eq_zero_of_no_sems (by decide) r.2⟩) (NormReferenceIdeal.Value.run (F := Ideal) m ρ)

theorem Norm.values : algebraic_NormIdeal_NormReferenceIdeal := by
  intro m g m' g' hpre hm
  refine ⟨_, NormIdeal.Value.run_blocks (F := Ideal) m g, (θ_run NormReferenceIdeal.defs _ _).mono (fun r h c => ?_) (NormReferenceIdeal.Value.run (F := Ideal) m' g')⟩
  obtain ⟨e0, args⟩ := h c
  exact ⟨meet2 Norm.want (hm c) e0 (Norm.final m c), args⟩

theorem Dnorm.frame_reference : quiescent_DnormReferenceIdeal := fun m ρ _ =>
  (θ_run DnormReferenceIdeal.defs _ _).mono (fun r h => ⟨fun c => (h c).2.2.2, sem_eq_zero_of_no_sems (by decide) r.2⟩) (DnormReferenceIdeal.Value.run (F := Ideal) m ρ)

theorem Dnorm.values : algebraic_DnormIdeal_DnormReferenceIdeal := by
  intro m g m' g' hpre hm
  refine ⟨_, _, _, DnormIdeal.Value.run_blocks (F := Ideal) m g, (θ_run DnormReferenceIdeal.defs _ _).mono (fun r h c => ?_) (DnormReferenceIdeal.Value.run (F := Ideal) m' g')⟩
  obtain ⟨e0, e1, e2, args⟩ := h c
  exact ⟨meet4 Dnorm.wantDx (hm c) e0 (Dnorm.finalDx m c),
    meet4 Dnorm.wantDxb (hm c) e1 (Dnorm.finalDxb m c),
    meet4 Dnorm.wantDg (hm c) e2 (Dnorm.finalDg m c), args⟩

theorem Dact0.frame_reference : quiescent_Dact0ReferenceIdeal := fun m ρ _ =>
  (θ_run Dact0ReferenceIdeal.defs _ _).mono (fun r h => ⟨fun c => (h c).2, sem_eq_zero_of_no_sems (by decide) r.2⟩) (Dact0ReferenceIdeal.Value.run (F := Ideal) m ρ)

theorem Dact0.values : algebraic_Dact0Ideal_Dact0ReferenceIdeal_pre_dact0_finite (hPre_dact0_finite := Dact0.preFacts) := by
  intro m g m' g' hpre hm
  refine ⟨_, Dact0Ideal.Value.run_blocks (F := Ideal) m g, (θ_run Dact0ReferenceIdeal.defs _ _).mono (fun r h c => ?_) (Dact0ReferenceIdeal.Value.run (F := Ideal) m' g')⟩
  obtain ⟨e0, args⟩ := h c
  have fin := Dact0.finite_real (hpre c).1 (hpre c).2.1 (hpre c).2.2
  exact ⟨meet3 Dact0.want (hm c) e0 (Dact0.final m c fin.1 fin.2.1 fin.2.2), args⟩

theorem Dh0.frame_reference : quiescent_Dh0ReferenceIdeal := fun m ρ _ =>
  (θ_run Dh0ReferenceIdeal.defs _ _).mono (fun r h => ⟨fun c => (h c).2, sem_eq_zero_of_no_sems (by decide) r.2⟩) (Dh0ReferenceIdeal.Value.run (F := Ideal) m ρ)

theorem Dh0.values : algebraic_Dh0Ideal_Dh0ReferenceIdeal := by
  intro m g m' g' hpre hm
  refine ⟨_, Dh0Ideal.Value.run_blocks (F := Ideal) m g, (θ_run Dh0ReferenceIdeal.defs _ _).mono (fun r h c => ?_) (Dh0ReferenceIdeal.Value.run (F := Ideal) m' g')⟩
  obtain ⟨e0, args⟩ := h c
  exact ⟨meet2 Dh0.want (hm c) e0 (Dh0.final m c), args⟩

theorem Gu0.frame_reference : quiescent_Gu0ReferenceIdeal := fun m ρ _ =>
  (θ_run Gu0ReferenceIdeal.defs _ _).mono (fun r h => ⟨fun c => (h c).2.2, sem_eq_zero_of_no_sems (by decide) r.2⟩) (Gu0ReferenceIdeal.Value.run (F := Ideal) m ρ)

theorem Gu0.values : algebraic_Gu0Ideal_Gu0ReferenceIdeal := by
  intro m g m' g' hpre hm
  refine ⟨_, _, Gu0Ideal.Value.run_blocks (F := Ideal) m g, (θ_run Gu0ReferenceIdeal.defs _ _).mono (fun r h c => ?_) (Gu0ReferenceIdeal.Value.run (F := Ideal) m' g')⟩
  obtain ⟨e0, e1, args⟩ := h c
  exact ⟨meet2 Gu0.wantAct (hm c) e0 (Gu0.finalAct m c),
    meet2 Gu0.wantGu (hm c) e1 (Gu0.finalGu m c), args⟩

theorem Down0.frame_reference : quiescent_Down0ReferenceIdeal := fun m ρ _ =>
  (θ_run Down0ReferenceIdeal.defs _ _).mono (fun r h => ⟨fun c => (h c).2, sem_eq_zero_of_no_sems (by decide) r.2⟩) (Down0ReferenceIdeal.Value.run (F := Ideal) m ρ)

theorem Down0.values : algebraic_Down0Ideal_Down0ReferenceIdeal := by
  intro m g m' g' hpre hm
  refine ⟨_, Down0Ideal.Value.run_blocks (F := Ideal) m g, (θ_run Down0ReferenceIdeal.defs _ _).mono (fun r h c => ?_) (Down0ReferenceIdeal.Value.run (F := Ideal) m' g')⟩
  obtain ⟨e0, args⟩ := h c
  exact ⟨meet3 Down0.want (hm c) e0 (Down0.final m c), args⟩

theorem Sbin.frame_reference : quiescent_SbinReferenceIdeal := fun m ρ _ =>
  (θ_run SbinReferenceIdeal.defs _ _).mono (fun r h => ⟨fun c => (h c).2, sem_eq_zero_of_no_sems (by decide) r.2⟩) (SbinReferenceIdeal.Value.run (F := Ideal) m ρ)

theorem Sbin.values : algebraic_SbinIdeal_SbinReferenceIdeal := by
  intro m g m' g' hpre hm
  refine ⟨_, SbinIdeal.Value.run_blocks (F := Ideal) m g, (θ_run SbinReferenceIdeal.defs _ _).mono (fun r h c => ?_) (SbinReferenceIdeal.Value.run (F := Ideal) m' g')⟩
  obtain ⟨e0, args⟩ := h c
  exact ⟨meet2 Sbin.want (hm c) e0 (Sbin.final m c), args⟩

theorem Ssin.frame_reference : quiescent_SsinReferenceIdeal := fun m ρ _ =>
  (θ_run SsinReferenceIdeal.defs _ _).mono (fun r h => ⟨fun c => (h c).2, sem_eq_zero_of_no_sems (by decide) r.2⟩) (SsinReferenceIdeal.Value.run (F := Ideal) m ρ)

theorem Ssin.values : algebraic_SsinIdeal_SsinReferenceIdeal := by
  intro m g m' g' hpre hm
  refine ⟨_, SsinIdeal.Value.run_blocks (F := Ideal) m g, (θ_run SsinReferenceIdeal.defs _ _).mono (fun r h c => ?_) (SsinReferenceIdeal.Value.run (F := Ideal) m' g')⟩
  obtain ⟨e0, args⟩ := h c
  exact ⟨meet2 Ssin.want (hm c) e0 (Ssin.final m c), args⟩

theorem Out.frame_reference : quiescent_OutReferenceIdeal := fun m ρ _ =>
  (θ_run OutReferenceIdeal.defs _ _).mono (fun r h => ⟨fun c => (h c).2, sem_eq_zero_of_no_sems (by decide) r.2⟩) (OutReferenceIdeal.Value.run (F := Ideal) m ρ)

theorem Out.values : algebraic_OutIdeal_OutReferenceIdeal := by
  intro m g m' g' hpre hm
  refine ⟨_, OutIdeal.Value.run_blocks (F := Ideal) m g, (θ_run OutReferenceIdeal.defs _ _).mono (fun r h c => ?_) (OutReferenceIdeal.Value.run (F := Ideal) m' g')⟩
  obtain ⟨e0, args⟩ := h c
  exact ⟨meet3 Out.want (hm c) e0 (Out.final m c), args⟩

theorem Dcat.frame_reference : quiescent_DcatReferenceIdeal := fun m ρ _ =>
  (θ_run DcatReferenceIdeal.defs _ _).mono (fun r h => ⟨fun c => (h c).2, sem_eq_zero_of_no_sems (by decide) r.2⟩) (DcatReferenceIdeal.Value.run (F := Ideal) m ρ)

theorem Dcat.values : algebraic_DcatIdeal_DcatReferenceIdeal := by
  intro m g m' g' hpre hm
  refine ⟨_, DcatIdeal.Value.run_blocks (F := Ideal) m g, (θ_run DcatReferenceIdeal.defs _ _).mono (fun r h c => ?_) (DcatReferenceIdeal.Value.run (F := Ideal) m' g')⟩
  obtain ⟨e0, args⟩ := h c
  exact ⟨meet2 Dcat.want (hm c) e0 (Dcat.final m c), args⟩

theorem Dhsb.frame_reference : quiescent_DhsbReferenceIdeal := fun m ρ _ =>
  (θ_run DhsbReferenceIdeal.defs _ _).mono (fun r h => ⟨fun c => (h c).2, sem_eq_zero_of_no_sems (by decide) r.2⟩) (DhsbReferenceIdeal.Value.run (F := Ideal) m ρ)

theorem Dhsb.values : algebraic_DhsbIdeal_DhsbReferenceIdeal := by
  intro m g m' g' hpre hm
  refine ⟨_, DhsbIdeal.Value.run_blocks (F := Ideal) m g, (θ_run DhsbReferenceIdeal.defs _ _).mono (fun r h c => ?_) (DhsbReferenceIdeal.Value.run (F := Ideal) m' g')⟩
  obtain ⟨e0, args⟩ := h c
  exact ⟨meet2 Dhsb.want (hm c) e0 (Dhsb.final m c), args⟩

theorem Sbin0.frame_reference : quiescent_Sbin0ReferenceIdeal := fun m ρ _ =>
  (θ_run Sbin0ReferenceIdeal.defs _ _).mono (fun r h => ⟨fun c => (h c).2, sem_eq_zero_of_no_sems (by decide) r.2⟩) (Sbin0ReferenceIdeal.Value.run (F := Ideal) m ρ)

theorem Sbin0.values : algebraic_Sbin0Ideal_Sbin0ReferenceIdeal := by
  intro m g m' g' hpre hm
  refine ⟨_, Sbin0Ideal.Value.run_blocks (F := Ideal) m g, (θ_run Sbin0ReferenceIdeal.defs _ _).mono (fun r h c => ?_) (Sbin0ReferenceIdeal.Value.run (F := Ideal) m' g')⟩
  obtain ⟨e0, args⟩ := h c
  exact ⟨meet2 Sbin0.want (hm c) e0 (Sbin0.final m c), args⟩

theorem Ssin0.frame_reference : quiescent_Ssin0ReferenceIdeal := fun m ρ _ =>
  (θ_run Ssin0ReferenceIdeal.defs _ _).mono (fun r h => ⟨fun c => (h c).2, sem_eq_zero_of_no_sems (by decide) r.2⟩) (Ssin0ReferenceIdeal.Value.run (F := Ideal) m ρ)

theorem Ssin0.values : algebraic_Ssin0Ideal_Ssin0ReferenceIdeal := by
  intro m g m' g' hpre hm
  refine ⟨_, Ssin0Ideal.Value.run_blocks (F := Ideal) m g, (θ_run Ssin0ReferenceIdeal.defs _ _).mono (fun r h c => ?_) (Ssin0ReferenceIdeal.Value.run (F := Ideal) m' g')⟩
  obtain ⟨e0, args⟩ := h c
  exact ⟨meet2 Ssin0.want (hm c) e0 (Ssin0.final m c), args⟩

theorem Out0.frame_reference : quiescent_Out0ReferenceIdeal := fun m ρ _ =>
  (θ_run Out0ReferenceIdeal.defs _ _).mono (fun r h => ⟨fun c => (h c).2, sem_eq_zero_of_no_sems (by decide) r.2⟩) (Out0ReferenceIdeal.Value.run (F := Ideal) m ρ)

theorem Out0.values : algebraic_Out0Ideal_Out0ReferenceIdeal := by
  intro m g m' g' hpre hm
  refine ⟨_, Out0Ideal.Value.run_blocks (F := Ideal) m g, (θ_run Out0ReferenceIdeal.defs _ _).mono (fun r h c => ?_) (Out0ReferenceIdeal.Value.run (F := Ideal) m' g')⟩
  obtain ⟨e0, args⟩ := h c
  exact ⟨meet3 Out0.want (hm c) e0 (Out0.final m c), args⟩

theorem Dcat0.frame_reference : quiescent_Dcat0ReferenceIdeal := fun m ρ _ =>
  (θ_run Dcat0ReferenceIdeal.defs _ _).mono (fun r h => ⟨fun c => (h c).2, sem_eq_zero_of_no_sems (by decide) r.2⟩) (Dcat0ReferenceIdeal.Value.run (F := Ideal) m ρ)

theorem Dcat0.values : algebraic_Dcat0Ideal_Dcat0ReferenceIdeal := by
  intro m g m' g' hpre hm
  refine ⟨_, Dcat0Ideal.Value.run_blocks (F := Ideal) m g, (θ_run Dcat0ReferenceIdeal.defs _ _).mono (fun r h c => ?_) (Dcat0ReferenceIdeal.Value.run (F := Ideal) m' g')⟩
  obtain ⟨e0, args⟩ := h c
  exact ⟨meet2 Dcat0.want (hm c) e0 (Dcat0.final m c), args⟩

theorem Dhsb0.frame_reference : quiescent_Dhsb0ReferenceIdeal := fun m ρ _ =>
  (θ_run Dhsb0ReferenceIdeal.defs _ _).mono (fun r h => ⟨fun c => (h c).2, sem_eq_zero_of_no_sems (by decide) r.2⟩) (Dhsb0ReferenceIdeal.Value.run (F := Ideal) m ρ)

theorem Dhsb0.values : algebraic_Dhsb0Ideal_Dhsb0ReferenceIdeal := by
  intro m g m' g' hpre hm
  refine ⟨_, Dhsb0Ideal.Value.run_blocks (F := Ideal) m g, (θ_run Dhsb0ReferenceIdeal.defs _ _).mono (fun r h c => ?_) (Dhsb0ReferenceIdeal.Value.run (F := Ideal) m' g')⟩
  obtain ⟨e0, args⟩ := h c
  exact ⟨meet2 Dhsb0.want (hm c) e0 (Dhsb0.final m c), args⟩

theorem Dwin.frame_reference : quiescent_DwinReferenceIdeal := fun m ρ _ =>
  (θ_run DwinReferenceIdeal.defs _ _).mono (fun r h => ⟨fun c => (h c).2, sem_eq_zero_of_no_sems (by decide) r.2⟩) (DwinReferenceIdeal.Value.run (F := Ideal) m ρ)

theorem Dwin.values : algebraic_DwinIdeal_DwinReferenceIdeal := by
  intro m g m' g' hpre hm
  refine ⟨_, DwinIdeal.Value.run_blocks (F := Ideal) m g, (θ_run DwinReferenceIdeal.defs _ _).mono (fun r h c => ?_) (DwinReferenceIdeal.Value.run (F := Ideal) m' g')⟩
  obtain ⟨e0, args⟩ := h c
  exact ⟨meet2 Dwin.want (hm c) e0 (Dwin.final m c), args⟩

theorem Dwout.frame_reference : quiescent_DwoutReferenceIdeal := fun m ρ _ =>
  (θ_run DwoutReferenceIdeal.defs _ _).mono (fun r h => ⟨fun c => (h c).2, sem_eq_zero_of_no_sems (by decide) r.2⟩) (DwoutReferenceIdeal.Value.run (F := Ideal) m ρ)

theorem Dwout.values : algebraic_DwoutIdeal_DwoutReferenceIdeal := by
  intro m g m' g' hpre hm
  refine ⟨_, DwoutIdeal.Value.run_blocks (F := Ideal) m g, (θ_run DwoutReferenceIdeal.defs _ _).mono (fun r h c => ?_) (DwoutReferenceIdeal.Value.run (F := Ideal) m' g')⟩
  obtain ⟨e0, args⟩ := h c
  exact ⟨meet2 Dwout.want (hm c) e0 (Dwout.final m c), args⟩

theorem Dgate.frame_reference : quiescent_DgateReferenceIdeal := fun m ρ _ =>
  (θ_run DgateReferenceIdeal.defs _ _).mono (fun r h => ⟨fun c => (h c).2.2, sem_eq_zero_of_no_sems (by decide) r.2⟩) (DgateReferenceIdeal.Value.run (F := Ideal) m ρ)

theorem Dgate.values : algebraic_DgateIdeal_DgateReferenceIdeal := by
  intro m g m' g' hpre hm
  refine ⟨_, _, DgateIdeal.Value.run_blocks (F := Ideal) m g, (θ_run DgateReferenceIdeal.defs _ _).mono (fun r h c => ?_) (DgateReferenceIdeal.Value.run (F := Ideal) m' g')⟩
  obtain ⟨e0, e1, args⟩ := h c
  exact ⟨meet3 Dgate.wantGl (hm c) e0 (Dgate.finalGl m c),
    meet3 Dgate.wantY (hm c) e1 (Dgate.finalY m c), args⟩

theorem Dwglu.frame_reference : quiescent_DwgluReferenceIdeal := fun m ρ _ =>
  (θ_run DwgluReferenceIdeal.defs _ _).mono (fun r h => ⟨fun c => (h c).2, sem_eq_zero_of_no_sems (by decide) r.2⟩) (DwgluReferenceIdeal.Value.run (F := Ideal) m ρ)

theorem Dwglu.values : algebraic_DwgluIdeal_DwgluReferenceIdeal := by
  intro m g m' g' hpre hm
  refine ⟨_, DwgluIdeal.Value.run_blocks (F := Ideal) m g, (θ_run DwgluReferenceIdeal.defs _ _).mono (fun r h c => ?_) (DwgluReferenceIdeal.Value.run (F := Ideal) m' g')⟩
  obtain ⟨e0, args⟩ := h c
  exact ⟨meet2 Dwglu.want (hm c) e0 (Dwglu.final m c), args⟩

theorem Glu.frame_reference : quiescent_GluReferenceIdeal := fun m ρ _ =>
  (θ_run GluReferenceIdeal.defs _ _).mono (fun r h => ⟨fun c => (h c).2.2, sem_eq_zero_of_no_sems (by decide) r.2⟩) (GluReferenceIdeal.Value.run (F := Ideal) m ρ)

theorem Glu.values : algebraic_GluIdeal_GluReferenceIdeal := by
  intro m g m' g' hpre hm
  refine ⟨_, _, GluIdeal.Value.run_blocks (F := Ideal) m g, (θ_run GluReferenceIdeal.defs _ _).mono (fun r h c => ?_) (GluReferenceIdeal.Value.run (F := Ideal) m' g')⟩
  obtain ⟨e0, e1, args⟩ := h c
  exact ⟨meet2 Glu.wantGl (hm c) e0 (Glu.finalGl m c),
    meet2 Glu.wantTok (hm c) e1 (Glu.finalTok m c), args⟩

theorem Glu0.frame_reference : quiescent_Glu0ReferenceIdeal := fun m ρ _ =>
  (θ_run Glu0ReferenceIdeal.defs _ _).mono (fun r h => ⟨fun c => (h c).2.2, sem_eq_zero_of_no_sems (by decide) r.2⟩) (Glu0ReferenceIdeal.Value.run (F := Ideal) m ρ)

theorem Glu0.values : algebraic_Glu0Ideal_Glu0ReferenceIdeal := by
  intro m g m' g' hpre hm
  refine ⟨_, _, Glu0Ideal.Value.run_blocks (F := Ideal) m g, (θ_run Glu0ReferenceIdeal.defs _ _).mono (fun r h c => ?_) (Glu0ReferenceIdeal.Value.run (F := Ideal) m' g')⟩
  obtain ⟨e0, e1, args⟩ := h c
  exact ⟨meet2 Glu0.wantGl (hm c) e0 (Glu0.finalGl m c),
    meet2 Glu0.wantTok (hm c) e1 (Glu0.finalTok m c), args⟩

theorem Loss.frame_reference : quiescent_LossReferenceIdeal := fun m ρ _ =>
  (θ_run LossReferenceIdeal.defs _ _).mono (fun r h => ⟨fun c => (h c).2.2.2, sem_eq_zero_of_no_sems (by decide) r.2⟩) (LossReferenceIdeal.Value.run (F := Ideal) m ρ)

theorem Loss.values : algebraic_LossIdeal_LossReferenceIdeal := by
  intro m g m' g' hpre hm
  refine ⟨_, _, _, LossIdeal.Value.run_blocks (F := Ideal) m g, (θ_run LossReferenceIdeal.defs _ _).mono (fun r h c => ?_) (LossReferenceIdeal.Value.run (F := Ideal) m' g')⟩
  obtain ⟨e0, e1, e2, args⟩ := h c
  exact ⟨meet2 Loss.wantLoss (hm c) e0 (Loss.finalLoss m c),
    meet2 Loss.wantDy (hm c) e1 (Loss.finalDy m c),
    meet2 Loss.wantDyb (hm c) e2 (Loss.finalDyb m c), args⟩

theorem AdamGu.frame_reference : quiescent_AdamGuReferenceIdeal := fun m ρ _ =>
  (θ_run AdamGuReferenceIdeal.defs _ _).mono (fun r h => ⟨fun c => (h c).2.2.2, sem_eq_zero_of_no_sems (by decide) r.2⟩) (AdamGuReferenceIdeal.Value.run (F := Ideal) m ρ)

theorem AdamGu.values : algebraic_AdamGuIdeal_AdamGuReferenceIdeal := by
  intro m g m' g' hpre hm
  refine ⟨_, _, _, AdamGuIdeal.Value.run_blocks (F := Ideal) m g, (θ_run AdamGuReferenceIdeal.defs _ _).mono (fun r h c => ?_) (AdamGuReferenceIdeal.Value.run (F := Ideal) m' g')⟩
  obtain ⟨e0, e1, e2, args⟩ := h c
  exact ⟨meet4 AdamGu.wantD (hm c) e0 (AdamGu.finalD m c),
    meet4 AdamGu.wantM (hm c) e1 (AdamGu.finalM m c),
    meet4 AdamGu.wantV (hm c) e2 (AdamGu.finalV m c), args⟩

theorem AdamDown.frame_reference : quiescent_AdamDownReferenceIdeal := fun m ρ _ =>
  (θ_run AdamDownReferenceIdeal.defs _ _).mono (fun r h => ⟨fun c => (h c).2.2.2, sem_eq_zero_of_no_sems (by decide) r.2⟩) (AdamDownReferenceIdeal.Value.run (F := Ideal) m ρ)

theorem AdamDown.values : algebraic_AdamDownIdeal_AdamDownReferenceIdeal := by
  intro m g m' g' hpre hm
  refine ⟨_, _, _, AdamDownIdeal.Value.run_blocks (F := Ideal) m g, (θ_run AdamDownReferenceIdeal.defs _ _).mono (fun r h c => ?_) (AdamDownReferenceIdeal.Value.run (F := Ideal) m' g')⟩
  obtain ⟨e0, e1, e2, args⟩ := h c
  exact ⟨meet4 AdamDown.wantD (hm c) e0 (AdamDown.finalD m c),
    meet4 AdamDown.wantM (hm c) e1 (AdamDown.finalM m c),
    meet4 AdamDown.wantV (hm c) e2 (AdamDown.finalV m c), args⟩

theorem AdamKv.frame_reference : quiescent_AdamKvReferenceIdeal := fun m ρ _ =>
  (θ_run AdamKvReferenceIdeal.defs _ _).mono (fun r h => ⟨fun c => (h c).2.2.2, sem_eq_zero_of_no_sems (by decide) r.2⟩) (AdamKvReferenceIdeal.Value.run (F := Ideal) m ρ)

theorem AdamKv.values : algebraic_AdamKvIdeal_AdamKvReferenceIdeal := by
  intro m g m' g' hpre hm
  refine ⟨_, _, _, AdamKvIdeal.Value.run_blocks (F := Ideal) m g, (θ_run AdamKvReferenceIdeal.defs _ _).mono (fun r h c => ?_) (AdamKvReferenceIdeal.Value.run (F := Ideal) m' g')⟩
  obtain ⟨e0, e1, e2, args⟩ := h c
  exact ⟨meet4 AdamKv.wantD (hm c) e0 (AdamKv.finalD m c),
    meet4 AdamKv.wantM (hm c) e1 (AdamKv.finalM m c),
    meet4 AdamKv.wantV (hm c) e2 (AdamKv.finalV m c), args⟩

theorem AdamOut.frame_reference : quiescent_AdamOutReferenceIdeal := fun m ρ _ =>
  (θ_run AdamOutReferenceIdeal.defs _ _).mono (fun r h => ⟨fun c => (h c).2.2.2, sem_eq_zero_of_no_sems (by decide) r.2⟩) (AdamOutReferenceIdeal.Value.run (F := Ideal) m ρ)

theorem AdamOut.values : algebraic_AdamOutIdeal_AdamOutReferenceIdeal := by
  intro m g m' g' hpre hm
  refine ⟨_, _, _, AdamOutIdeal.Value.run_blocks (F := Ideal) m g, (θ_run AdamOutReferenceIdeal.defs _ _).mono (fun r h c => ?_) (AdamOutReferenceIdeal.Value.run (F := Ideal) m' g')⟩
  obtain ⟨e0, e1, e2, args⟩ := h c
  exact ⟨meet4 AdamOut.wantD (hm c) e0 (AdamOut.finalD m c),
    meet4 AdamOut.wantM (hm c) e1 (AdamOut.finalM m c),
    meet4 AdamOut.wantV (hm c) e2 (AdamOut.finalV m c), args⟩

theorem AdamSbin.frame_reference : quiescent_AdamSbinReferenceIdeal := fun m ρ _ =>
  (θ_run AdamSbinReferenceIdeal.defs _ _).mono (fun r h => ⟨fun c => (h c).2.2.2, sem_eq_zero_of_no_sems (by decide) r.2⟩) (AdamSbinReferenceIdeal.Value.run (F := Ideal) m ρ)

theorem AdamSbin.values : algebraic_AdamSbinIdeal_AdamSbinReferenceIdeal := by
  intro m g m' g' hpre hm
  refine ⟨_, _, _, AdamSbinIdeal.Value.run_blocks (F := Ideal) m g, (θ_run AdamSbinReferenceIdeal.defs _ _).mono (fun r h c => ?_) (AdamSbinReferenceIdeal.Value.run (F := Ideal) m' g')⟩
  obtain ⟨e0, e1, e2, args⟩ := h c
  exact ⟨meet4 AdamSbin.wantD (hm c) e0 (AdamSbin.finalD m c),
    meet4 AdamSbin.wantM (hm c) e1 (AdamSbin.finalM m c),
    meet4 AdamSbin.wantV (hm c) e2 (AdamSbin.finalV m c), args⟩

theorem AdamSsin.frame_reference : quiescent_AdamSsinReferenceIdeal := fun m ρ _ =>
  (θ_run AdamSsinReferenceIdeal.defs _ _).mono (fun r h => ⟨fun c => (h c).2.2.2, sem_eq_zero_of_no_sems (by decide) r.2⟩) (AdamSsinReferenceIdeal.Value.run (F := Ideal) m ρ)

theorem AdamSsin.values : algebraic_AdamSsinIdeal_AdamSsinReferenceIdeal := by
  intro m g m' g' hpre hm
  refine ⟨_, _, _, AdamSsinIdeal.Value.run_blocks (F := Ideal) m g, (θ_run AdamSsinReferenceIdeal.defs _ _).mono (fun r h c => ?_) (AdamSsinReferenceIdeal.Value.run (F := Ideal) m' g')⟩
  obtain ⟨e0, e1, e2, args⟩ := h c
  exact ⟨meet4 AdamSsin.wantD (hm c) e0 (AdamSsin.finalD m c),
    meet4 AdamSsin.wantM (hm c) e1 (AdamSsin.finalM m c),
    meet4 AdamSsin.wantV (hm c) e2 (AdamSsin.finalV m c), args⟩

theorem AdamGlu.frame_reference : quiescent_AdamGluReferenceIdeal := fun m ρ _ =>
  (θ_run AdamGluReferenceIdeal.defs _ _).mono (fun r h => ⟨fun c => (h c).2.2.2, sem_eq_zero_of_no_sems (by decide) r.2⟩) (AdamGluReferenceIdeal.Value.run (F := Ideal) m ρ)

theorem AdamGlu.values : algebraic_AdamGluIdeal_AdamGluReferenceIdeal := by
  intro m g m' g' hpre hm
  refine ⟨_, _, _, AdamGluIdeal.Value.run_blocks (F := Ideal) m g, (θ_run AdamGluReferenceIdeal.defs _ _).mono (fun r h c => ?_) (AdamGluReferenceIdeal.Value.run (F := Ideal) m' g')⟩
  obtain ⟨e0, e1, e2, args⟩ := h c
  exact ⟨meet4 AdamGlu.wantD (hm c) e0 (AdamGlu.finalD m c),
    meet4 AdamGlu.wantM (hm c) e1 (AdamGlu.finalM m c),
    meet4 AdamGlu.wantV (hm c) e2 (AdamGlu.finalV m c), args⟩

theorem AdamNorm.frame_reference : quiescent_AdamNormReferenceIdeal := fun m ρ _ =>
  (θ_run AdamNormReferenceIdeal.defs _ _).mono (fun r h => ⟨fun c => (h c).2.2.2, sem_eq_zero_of_no_sems (by decide) r.2⟩) (AdamNormReferenceIdeal.Value.run (F := Ideal) m ρ)

theorem AdamNorm.values : algebraic_AdamNormIdeal_AdamNormReferenceIdeal := by
  intro m g m' g' hpre hm
  refine ⟨_, _, _, AdamNormIdeal.Value.run_blocks (F := Ideal) m g, (θ_run AdamNormReferenceIdeal.defs _ _).mono (fun r h c => ?_) (AdamNormReferenceIdeal.Value.run (F := Ideal) m' g')⟩
  obtain ⟨e0, e1, e2, args⟩ := h c
  exact ⟨meet4 AdamNorm.wantD (hm c) e0 (AdamNorm.finalD m c),
    meet4 AdamNorm.wantM (hm c) e1 (AdamNorm.finalM m c),
    meet4 AdamNorm.wantV (hm c) e2 (AdamNorm.finalV m c), args⟩

theorem AdamHead.frame_reference : quiescent_AdamHeadReferenceIdeal := fun m ρ _ =>
  (θ_run AdamHeadReferenceIdeal.defs _ _).mono (fun r h => ⟨fun c => (h c).2.2.2, sem_eq_zero_of_no_sems (by decide) r.2⟩) (AdamHeadReferenceIdeal.Value.run (F := Ideal) m ρ)

theorem AdamHead.values : algebraic_AdamHeadIdeal_AdamHeadReferenceIdeal := by
  intro m g m' g' hpre hm
  refine ⟨_, _, _, AdamHeadIdeal.Value.run_blocks (F := Ideal) m g, (θ_run AdamHeadReferenceIdeal.defs _ _).mono (fun r h c => ?_) (AdamHeadReferenceIdeal.Value.run (F := Ideal) m' g')⟩
  obtain ⟨e0, e1, e2, args⟩ := h c
  exact ⟨meet4 AdamHead.wantD (hm c) e0 (AdamHead.finalD m c),
    meet4 AdamHead.wantM (hm c) e1 (AdamHead.finalM m c),
    meet4 AdamHead.wantV (hm c) e2 (AdamHead.finalV m c), args⟩

theorem AdamDt.frame_reference : quiescent_AdamDtReferenceIdeal := fun m ρ _ =>
  (θ_run AdamDtReferenceIdeal.defs _ _).mono (fun r h => ⟨fun c => (h c).2.2.2, sem_eq_zero_of_no_sems (by decide) r.2⟩) (AdamDtReferenceIdeal.Value.run (F := Ideal) m ρ)

theorem AdamDt.values : algebraic_AdamDtIdeal_AdamDtReferenceIdeal := by
  intro m g m' g' hpre hm
  refine ⟨_, _, _, AdamDtIdeal.Value.run_blocks (F := Ideal) m g, (θ_run AdamDtReferenceIdeal.defs _ _).mono (fun r h c => ?_) (AdamDtReferenceIdeal.Value.run (F := Ideal) m' g')⟩
  obtain ⟨e0, e1, e2, args⟩ := h c
  exact ⟨meet4 AdamDt.wantD (hm c) e0 (AdamDt.finalD m c),
    meet4 AdamDt.wantM (hm c) e1 (AdamDt.finalM m c),
    meet4 AdamDt.wantV (hm c) e2 (AdamDt.finalV m c), args⟩

theorem AdamA.frame_reference : quiescent_AdamAReferenceIdeal := fun m ρ _ =>
  (θ_run AdamAReferenceIdeal.defs _ _).mono (fun r h => ⟨fun c => (h c).2.2.2, sem_eq_zero_of_no_sems (by decide) r.2⟩) (AdamAReferenceIdeal.Value.run (F := Ideal) m ρ)

theorem AdamA.values : algebraic_AdamAIdeal_AdamAReferenceIdeal := by
  intro m g m' g' hpre hm
  refine ⟨_, _, _, AdamAIdeal.Value.run_blocks (F := Ideal) m g, (θ_run AdamAReferenceIdeal.defs _ _).mono (fun r h c => ?_) (AdamAReferenceIdeal.Value.run (F := Ideal) m' g')⟩
  obtain ⟨e0, e1, e2, args⟩ := h c
  exact ⟨meet4 AdamA.wantD (hm c) e0 (AdamA.finalD m c),
    meet4 AdamA.wantM (hm c) e1 (AdamA.finalM m c),
    meet4 AdamA.wantV (hm c) e2 (AdamA.finalV m c), args⟩

theorem AdamB.frame_reference : quiescent_AdamBReferenceIdeal := fun m ρ _ =>
  (θ_run AdamBReferenceIdeal.defs _ _).mono (fun r h => ⟨fun c => (h c).2.2.2, sem_eq_zero_of_no_sems (by decide) r.2⟩) (AdamBReferenceIdeal.Value.run (F := Ideal) m ρ)

theorem AdamB.values : algebraic_AdamBIdeal_AdamBReferenceIdeal := by
  intro m g m' g' hpre hm
  refine ⟨_, _, _, AdamBIdeal.Value.run_blocks (F := Ideal) m g, (θ_run AdamBReferenceIdeal.defs _ _).mono (fun r h c => ?_) (AdamBReferenceIdeal.Value.run (F := Ideal) m' g')⟩
  obtain ⟨e0, e1, e2, args⟩ := h c
  exact ⟨meet4 AdamB.wantD (hm c) e0 (AdamB.finalD m c),
    meet4 AdamB.wantM (hm c) e1 (AdamB.finalM m c),
    meet4 AdamB.wantV (hm c) e2 (AdamB.finalV m c), args⟩

theorem AdamC.frame_reference : quiescent_AdamCReferenceIdeal := fun m ρ _ =>
  (θ_run AdamCReferenceIdeal.defs _ _).mono (fun r h => ⟨fun c => (h c).2.2.2, sem_eq_zero_of_no_sems (by decide) r.2⟩) (AdamCReferenceIdeal.Value.run (F := Ideal) m ρ)

theorem AdamC.values : algebraic_AdamCIdeal_AdamCReferenceIdeal := by
  intro m g m' g' hpre hm
  refine ⟨_, _, _, AdamCIdeal.Value.run_blocks (F := Ideal) m g, (θ_run AdamCReferenceIdeal.defs _ _).mono (fun r h c => ?_) (AdamCReferenceIdeal.Value.run (F := Ideal) m' g')⟩
  obtain ⟨e0, e1, e2, args⟩ := h c
  exact ⟨meet4 AdamC.wantD (hm c) e0 (AdamC.finalD m c),
    meet4 AdamC.wantM (hm c) e1 (AdamC.finalM m c),
    meet4 AdamC.wantV (hm c) e2 (AdamC.finalV m c), args⟩

theorem AdamD.frame_reference : quiescent_AdamDReferenceIdeal := fun m ρ _ =>
  (θ_run AdamDReferenceIdeal.defs _ _).mono (fun r h => ⟨fun c => (h c).2.2.2, sem_eq_zero_of_no_sems (by decide) r.2⟩) (AdamDReferenceIdeal.Value.run (F := Ideal) m ρ)

theorem AdamD.values : algebraic_AdamDIdeal_AdamDReferenceIdeal := by
  intro m g m' g' hpre hm
  refine ⟨_, _, _, AdamDIdeal.Value.run_blocks (F := Ideal) m g, (θ_run AdamDReferenceIdeal.defs _ _).mono (fun r h c => ?_) (AdamDReferenceIdeal.Value.run (F := Ideal) m' g')⟩
  obtain ⟨e0, e1, e2, args⟩ := h c
  exact ⟨meet4 AdamD.wantD (hm c) e0 (AdamD.finalD m c),
    meet4 AdamD.wantM (hm c) e1 (AdamD.finalM m c),
    meet4 AdamD.wantV (hm c) e2 (AdamD.finalV m c), args⟩

theorem Memnorm.frame_reference : quiescent_MemnormReferenceIdeal := fun m ρ _ =>
  (θ_run MemnormReferenceIdeal.defs _ _).mono (fun r h => ⟨fun c => (h c).2, sem_eq_zero_of_no_sems (by decide) r.2⟩) (MemnormReferenceIdeal.Value.run (F := Ideal) m ρ)

theorem Memnorm.values : algebraic_MemnormIdeal_MemnormReferenceIdeal := by
  intro m g m' g' hpre hm
  refine ⟨_, MemnormIdeal.Value.run_blocks (F := Ideal) m g, (θ_run MemnormReferenceIdeal.defs _ _).mono (fun r h c => ?_) (MemnormReferenceIdeal.Value.run (F := Ideal) m' g')⟩
  obtain ⟨e0, args⟩ := h c
  exact ⟨meet2 Memnorm.want (hm c) e0 (Memnorm.final m c), args⟩

theorem Memkv.frame_reference : quiescent_MemkvReferenceIdeal := fun m ρ _ =>
  (θ_run MemkvReferenceIdeal.defs _ _).mono (fun r h => ⟨fun c => (h c).2, sem_eq_zero_of_no_sems (by decide) r.2⟩) (MemkvReferenceIdeal.Value.run (F := Ideal) m ρ)

theorem Memkv.values : algebraic_MemkvIdeal_MemkvReferenceIdeal := by
  intro m g m' g' hpre hm
  refine ⟨_, MemkvIdeal.Value.run_blocks (F := Ideal) m g, (θ_run MemkvReferenceIdeal.defs _ _).mono (fun r h c => ?_) (MemkvReferenceIdeal.Value.run (F := Ideal) m' g')⟩
  obtain ⟨e0, args⟩ := h c
  exact ⟨meet2 Memkv.want (hm c) e0 (Memkv.final m c), args⟩

theorem Memkv0.frame_reference : quiescent_Memkv0ReferenceIdeal := fun m ρ _ =>
  (θ_run Memkv0ReferenceIdeal.defs _ _).mono (fun r h => ⟨fun c => (h c).2, sem_eq_zero_of_no_sems (by decide) r.2⟩) (Memkv0ReferenceIdeal.Value.run (F := Ideal) m ρ)

theorem Memkv0.values : algebraic_Memkv0Ideal_Memkv0ReferenceIdeal := by
  intro m g m' g' hpre hm
  refine ⟨_, Memkv0Ideal.Value.run_blocks (F := Ideal) m g, (θ_run Memkv0ReferenceIdeal.defs _ _).mono (fun r h c => ?_) (Memkv0ReferenceIdeal.Value.run (F := Ideal) m' g')⟩
  obtain ⟨e0, args⟩ := h c
  exact ⟨meet2 Memkv0.want (hm c) e0 (Memkv0.final m c), args⟩

theorem Dwkv.frame_reference : quiescent_DwkvReferenceIdeal := fun m ρ _ =>
  (θ_run DwkvReferenceIdeal.defs _ _).mono (fun r h => ⟨fun c => (h c).2, sem_eq_zero_of_no_sems (by decide) r.2⟩) (DwkvReferenceIdeal.Value.run (F := Ideal) m ρ)

theorem Dwkv.values : algebraic_DwkvIdeal_DwkvReferenceIdeal := by
  intro m g m' g' hpre hm
  refine ⟨_, DwkvIdeal.Value.run_blocks (F := Ideal) m g, (θ_run DwkvReferenceIdeal.defs _ _).mono (fun r h c => ?_) (DwkvReferenceIdeal.Value.run (F := Ideal) m' g')⟩
  obtain ⟨e0, args⟩ := h c
  exact ⟨meet2 Dwkv.want (hm c) e0 (Dwkv.final m c), args⟩

theorem Dmemh.frame_reference : quiescent_DmemhReferenceIdeal := fun m ρ _ =>
  (θ_run DmemhReferenceIdeal.defs _ _).mono (fun r h => ⟨fun c => (h c).2, sem_eq_zero_of_no_sems (by decide) r.2⟩) (DmemhReferenceIdeal.Value.run (F := Ideal) m ρ)

theorem Dmemh.values : algebraic_DmemhIdeal_DmemhReferenceIdeal := by
  intro m g m' g' hpre hm
  refine ⟨_, DmemhIdeal.Value.run_blocks (F := Ideal) m g, (θ_run DmemhReferenceIdeal.defs _ _).mono (fun r h c => ?_) (DmemhReferenceIdeal.Value.run (F := Ideal) m' g')⟩
  obtain ⟨e0, args⟩ := h c
  exact ⟨meet2 Dmemh.want (hm c) e0 (Dmemh.final m c), args⟩

theorem Dmemh0.frame_reference : quiescent_Dmemh0ReferenceIdeal := fun m ρ _ =>
  (θ_run Dmemh0ReferenceIdeal.defs _ _).mono (fun r h => ⟨fun c => (h c).2, sem_eq_zero_of_no_sems (by decide) r.2⟩) (Dmemh0ReferenceIdeal.Value.run (F := Ideal) m ρ)

theorem Dmemh0.values : algebraic_Dmemh0Ideal_Dmemh0ReferenceIdeal := by
  intro m g m' g' hpre hm
  refine ⟨_, Dmemh0Ideal.Value.run_blocks (F := Ideal) m g, (θ_run Dmemh0ReferenceIdeal.defs _ _).mono (fun r h c => ?_) (Dmemh0ReferenceIdeal.Value.run (F := Ideal) m' g')⟩
  obtain ⟨e0, args⟩ := h c
  exact ⟨meet2 Dmemh0.want (hm c) e0 (Dmemh0.final m c), args⟩

theorem Dmemnorm.frame_reference : quiescent_DmemnormReferenceIdeal := fun m ρ _ =>
  (θ_run DmemnormReferenceIdeal.defs _ _).mono (fun r h => ⟨fun c => (h c).2, sem_eq_zero_of_no_sems (by decide) r.2⟩) (DmemnormReferenceIdeal.Value.run (F := Ideal) m ρ)

theorem Dmemnorm.values : algebraic_DmemnormIdeal_DmemnormReferenceIdeal := by
  intro m g m' g' hpre hm
  refine ⟨_, DmemnormIdeal.Value.run_blocks (F := Ideal) m g, (θ_run DmemnormReferenceIdeal.defs _ _).mono (fun r h c => ?_) (DmemnormReferenceIdeal.Value.run (F := Ideal) m' g')⟩
  obtain ⟨e0, args⟩ := h c
  exact ⟨meet2 Dmemnorm.want ⟨(hm c).1, (hm c).2.1⟩ e0 (Dmemnorm.final m c), args⟩

theorem Mem.frame_reference : quiescent_MemReferenceIdeal := fun m ρ _ =>
  (θ_run MemReferenceIdeal.defs _ _).mono (fun r h => ⟨fun c => (h c).2, sem_eq_zero_of_no_sems (by decide) r.2⟩) (MemReferenceIdeal.Value.run (F := Ideal) m ρ)

theorem Mem.values : algebraic_MemIdeal_MemReferenceIdeal := by
  intro m g m' g' hpre hm
  refine ⟨_, MemIdeal.Value.run_blocks (F := Ideal) m g, (θ_run MemReferenceIdeal.defs _ _).mono (fun r h c => ?_) (MemReferenceIdeal.Value.run (F := Ideal) m' g')⟩
  obtain ⟨e0, args⟩ := h c
  exact ⟨meet4 Mem.want (hm c) e0 (Mem.final m c), args⟩

theorem Mems.frame_reference : quiescent_MemsReferenceIdeal := fun m ρ _ =>
  (θ_run MemsReferenceIdeal.defs _ _).mono (fun r h => ⟨fun c => (h c).2, sem_eq_zero_of_no_sems (by decide) r.2⟩) (MemsReferenceIdeal.Value.run (F := Ideal) m ρ)

theorem Mems.values : algebraic_MemsIdeal_MemsReferenceIdeal := by
  intro m g m' g' hpre hm
  refine ⟨_, MemsIdeal.Value.run_blocks (F := Ideal) m g, (θ_run MemsReferenceIdeal.defs _ _).mono (fun r h c => ?_) (MemsReferenceIdeal.Value.run (F := Ideal) m' g')⟩
  obtain ⟨e0, args⟩ := h c
  exact ⟨meet4 Mems.want (hm c) e0 (Mems.final m c), args⟩

end Cert.Ffn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Dact.Frame
public import proofs.«01_k».proof.Proof.Gen.Dwdown.Frame
public import proofs.«01_k».proof.Proof.Gen.Dwgu.Frame
public import proofs.«01_k».proof.Proof.Gen.Dh.Frame
public import proofs.«01_k».proof.Proof.Gen.Gu.Frame
public import proofs.«01_k».proof.Proof.Gen.Down.Frame
public import proofs.«01_k».proof.Proof.Gen.Norm.Frame
public import proofs.«01_k».proof.Proof.Gen.Dnorm.Frame
public import proofs.«01_k».proof.Proof.Gen.Dact0.Frame
public import proofs.«01_k».proof.Proof.Gen.Dh0.Frame
public import proofs.«01_k».proof.Proof.Gen.Gu0.Frame
public import proofs.«01_k».proof.Proof.Gen.Down0.Frame
public import proofs.«01_k».proof.Proof.Gen.Sbin.Frame
public import proofs.«01_k».proof.Proof.Gen.Ssin.Frame
public import proofs.«01_k».proof.Proof.Gen.Out.Frame
public import proofs.«01_k».proof.Proof.Gen.Dcat.Frame
public import proofs.«01_k».proof.Proof.Gen.Dhsb.Frame
public import proofs.«01_k».proof.Proof.Gen.Sbin0.Frame
public import proofs.«01_k».proof.Proof.Gen.Ssin0.Frame
public import proofs.«01_k».proof.Proof.Gen.Out0.Frame
public import proofs.«01_k».proof.Proof.Gen.Dcat0.Frame
public import proofs.«01_k».proof.Proof.Gen.Dhsb0.Frame
public import proofs.«01_k».proof.Proof.Gen.Dwin.Frame
public import proofs.«01_k».proof.Proof.Gen.Dwout.Frame
public import proofs.«01_k».proof.Proof.Gen.Dgate.Frame
public import proofs.«01_k».proof.Proof.Gen.Dwglu.Frame
public import proofs.«01_k».proof.Proof.Gen.Glu.Frame
public import proofs.«01_k».proof.Proof.Gen.Glu0.Frame
public import proofs.«01_k».proof.Proof.Gen.Loss.Frame
public import proofs.«01_k».proof.Proof.Gen.AdamGu.Frame
public import proofs.«01_k».proof.Proof.Gen.AdamDown.Frame
public import proofs.«01_k».proof.Proof.Gen.AdamKv.Frame
public import proofs.«01_k».proof.Proof.Gen.AdamOut.Frame
public import proofs.«01_k».proof.Proof.Gen.AdamSbin.Frame
public import proofs.«01_k».proof.Proof.Gen.AdamSsin.Frame
public import proofs.«01_k».proof.Proof.Gen.AdamGlu.Frame
public import proofs.«01_k».proof.Proof.Gen.AdamNorm.Frame
public import proofs.«01_k».proof.Proof.Gen.AdamHead.Frame
public import proofs.«01_k».proof.Proof.Gen.AdamDt.Frame
public import proofs.«01_k».proof.Proof.Gen.AdamA.Frame
public import proofs.«01_k».proof.Proof.Gen.AdamB.Frame
public import proofs.«01_k».proof.Proof.Gen.AdamC.Frame
public import proofs.«01_k».proof.Proof.Gen.AdamD.Frame
public import proofs.«01_k».proof.Proof.Gen.Dact.Frame
public import proofs.«01_k».proof.Proof.Gen.Dwdown.Frame
public import proofs.«01_k».proof.Proof.Gen.Dwgu.Frame
public import proofs.«01_k».proof.Proof.Gen.Dh.Frame
public import proofs.«01_k».proof.Proof.Gen.Gu.Frame
public import proofs.«01_k».proof.Proof.Gen.Down.Frame
public import proofs.«01_k».proof.Proof.Gen.Norm.Frame
public import proofs.«01_k».proof.Proof.Gen.Dnorm.Frame
public import proofs.«01_k».proof.Proof.Gen.Dact0.Frame
public import proofs.«01_k».proof.Proof.Gen.Dh0.Frame
public import proofs.«01_k».proof.Proof.Gen.Gu0.Frame
public import proofs.«01_k».proof.Proof.Gen.Down0.Frame
public import proofs.«01_k».proof.Proof.Gen.Sbin.Frame
public import proofs.«01_k».proof.Proof.Gen.Ssin.Frame
public import proofs.«01_k».proof.Proof.Gen.Out.Frame
public import proofs.«01_k».proof.Proof.Gen.Dcat.Frame
public import proofs.«01_k».proof.Proof.Gen.Dhsb.Frame
public import proofs.«01_k».proof.Proof.Gen.Sbin0.Frame
public import proofs.«01_k».proof.Proof.Gen.Ssin0.Frame
public import proofs.«01_k».proof.Proof.Gen.Out0.Frame
public import proofs.«01_k».proof.Proof.Gen.Dcat0.Frame
public import proofs.«01_k».proof.Proof.Gen.Dhsb0.Frame
public import proofs.«01_k».proof.Proof.Gen.Dwin.Frame
public import proofs.«01_k».proof.Proof.Gen.Dwout.Frame
public import proofs.«01_k».proof.Proof.Gen.Dgate.Frame
public import proofs.«01_k».proof.Proof.Gen.Dwglu.Frame
public import proofs.«01_k».proof.Proof.Gen.Glu.Frame
public import proofs.«01_k».proof.Proof.Gen.Glu0.Frame
public import proofs.«01_k».proof.Proof.Gen.Loss.Frame
public import proofs.«01_k».proof.Proof.Gen.AdamGu.Frame
public import proofs.«01_k».proof.Proof.Gen.AdamDown.Frame
public import proofs.«01_k».proof.Proof.Gen.AdamKv.Frame
public import proofs.«01_k».proof.Proof.Gen.AdamOut.Frame
public import proofs.«01_k».proof.Proof.Gen.AdamSbin.Frame
public import proofs.«01_k».proof.Proof.Gen.AdamSsin.Frame
public import proofs.«01_k».proof.Proof.Gen.AdamGlu.Frame
public import proofs.«01_k».proof.Proof.Gen.AdamNorm.Frame
public import proofs.«01_k».proof.Proof.Gen.AdamHead.Frame
public import proofs.«01_k».proof.Proof.Gen.AdamDt.Frame
public import proofs.«01_k».proof.Proof.Gen.AdamA.Frame
public import proofs.«01_k».proof.Proof.Gen.AdamB.Frame
public import proofs.«01_k».proof.Proof.Gen.AdamC.Frame
public import proofs.«01_k».proof.Proof.Gen.AdamD.Frame
public import proofs.«01_k».proof.Proof.Gen.Memnorm.Frame
public import proofs.«01_k».proof.Proof.Gen.Memkv.Frame
public import proofs.«01_k».proof.Proof.Gen.Memkv0.Frame
public import proofs.«01_k».proof.Proof.Gen.Dwkv.Frame
public import proofs.«01_k».proof.Proof.Gen.Dmemh.Frame
public import proofs.«01_k».proof.Proof.Gen.Dmemh0.Frame
public import proofs.«01_k».proof.Proof.Gen.Dmemnorm.Frame
public import proofs.«01_k».proof.Proof.Gen.Mem.Frame
public import proofs.«01_k».proof.Proof.Gen.Mems.Frame
public import proofs.«01_k».proof.Proof.KRun
public import proofs.«01_k».proof.Proof.Ref
public import proofs.«01_k».proof.Proof.Finite
public import proofs.«01_k».proof.Proof.Claims
public import Idealize.ShloMosaic.Adequacy
public import Idealize.ShloMosaic.Init

@[expose] public section

noncomputable section

namespace Cert.Proof

open Idealize.ShloMosaic Idealize.SL.Sem Cert.Kernel

/-- The reference runs and leaves its arguments unchanged; it has no semaphore. -/
theorem frame_reference : Cert.quiescent_ReferenceIdeal := fun m ρ _ =>
  (θ_run Cert.ReferenceIdeal.defs _ _).mono
    (fun r h => ⟨fun c => ⟨(h c).2.2.2.2.1, (h c).2.2.2.2.2⟩, sem_eq_zero_of_no_sems (by decide) r.2⟩)
    (Cert.ReferenceIdeal.Value.run (F := Ideal) m ρ)

/-- From finite arguments the kernel's output and its three gradients are the reference's: both are the tables of the heads. -/
theorem values : Cert.algebraic_KernelIdeal_ReferenceIdeal_pre_finite (hPre_finite := Cert.Attn.preFacts) := by
  unfold Cert.algebraic_KernelIdeal_ReferenceIdeal_pre_finite
  intro m ρ m' ρ' hpre hm
  obtain ⟨p, hp⟩ : ∃ p : Dev Cert.KernelIdeal.nD → ℕ → ℕ → ℝ, ∀ c : Dev Cert.KernelIdeal.nD,
      Cert.Attn.Tab (m ((c.tc : Thread Cert.KernelIdeal.nD Cert.KernelIdeal.τ).loc Cert.KernelIdeal.main_arg0)) (p c) :=
    ⟨_, fun c => (Cert.Attn.finite_tabs (hpre c).1 (hpre c).2).1⟩
  obtain ⟨u, hu⟩ : ∃ u : Dev Cert.KernelIdeal.nD → ℕ → ℕ → ℝ, ∀ c : Dev Cert.KernelIdeal.nD,
      Cert.Attn.Tab (m ((c.tc : Thread Cert.KernelIdeal.nD Cert.KernelIdeal.τ).loc Cert.KernelIdeal.main_arg1)) (u c) :=
    ⟨_, fun c => (Cert.Attn.finite_tabs (hpre c).1 (hpre c).2).2⟩
  have hk := Cert.Attn.kernel_results m ρ p u hp hu
  have hr := Cert.ReferenceIdeal.Value.run (F := Ideal) m' ρ'
  refine ⟨fun c => Cert.ReferenceIdeal.Value.res_main_v32 (F := Ideal) m' c, fun c => Cert.ReferenceIdeal.Value.res_main_v59 (F := Ideal) m' c,
    fun c => Cert.ReferenceIdeal.Value.res_main_v58 (F := Ideal) m' c, fun c => Cert.ReferenceIdeal.Value.res_main_v57 (F := Ideal) m' c, ?_, ?_⟩
  · refine (θ_run Cert.KernelIdeal.defs _ _).mono (fun r h c => ?_) hk
    obtain ⟨h0, h1, h2, h3, h4, h5⟩ := h c
    have p0 := hp c
    have p1 := hu c
    rw [← (hm c).1] at p0
    rw [← (hm c).2] at p1
    exact ⟨h0.unique (Cert.Attn.ref_o m' c p0 (u c)), h1.unique (Cert.Attn.ref_dq m' c p0 p1),
      h2.unique (Cert.Attn.ref_dk m' c p0 p1), h3.unique (Cert.Attn.ref_dv m' c p0 p1), h4, h5⟩
  · exact hr

/-- The two reciprocals the optimiser's calls name: each word is rounded from the real of its name. -/
theorem biases (κ : String → Option EReal) (h1 : κ "inv_bias1" = some ((8388608 / 5463681 : ℝ) : EReal)) (h2 : κ "inv_bias2" = some ((268435456 / 2672307 : ℝ) : EReal)) :
    IdealRules.named_const.Statement κ "inv_bias1" .f32 0x3FC48605#32 ((8388608 / 5463681 : ℝ) : EReal)
      ∧ IdealRules.named_const.Statement κ "inv_bias2" .f32 0x42C8E6D3#32 ((268435456 / 2672307 : ℝ) : EReal) :=
  ⟨IdealRules.named_const.statement κ "inv_bias1" .f32 0x3FC48605#32 _ h1, IdealRules.named_const.statement κ "inv_bias2" .f32 0x42C8E6D3#32 _ h2⟩

/-- The reciprocal the memory attention's calls name: its word is rounded from the real of its name. -/
theorem root (κ : String → Option EReal) (h : κ "inv_root" = some ((1048576 / 11863283 : ℝ) : EReal)) :
    IdealRules.named_const.Statement κ "inv_root" .f32 0x3DB504F3#32 ((1048576 / 11863283 : ℝ) : EReal) :=
  IdealRules.named_const.statement κ "inv_root" .f32 0x3DB504F3#32 _ h

/-- All the claims. -/
theorem claim : Cert.Claim := ⟨Kernel.Gen.facts, KernelIdeal.Gen.facts, ReferenceIdeal.Gen.facts,
  Dact.Gen.facts, DactIdeal.Gen.facts, DactReferenceIdeal.Gen.facts,
  Dwdown.Gen.facts, DwdownIdeal.Gen.facts, DwdownReferenceIdeal.Gen.facts,
  Dwgu.Gen.facts, DwguIdeal.Gen.facts, DwguReferenceIdeal.Gen.facts,
  Dh.Gen.facts, DhIdeal.Gen.facts, DhReferenceIdeal.Gen.facts,
  Gu.Gen.facts, GuIdeal.Gen.facts, GuReferenceIdeal.Gen.facts,
  Down.Gen.facts, DownIdeal.Gen.facts, DownReferenceIdeal.Gen.facts,
  Norm.Gen.facts, NormIdeal.Gen.facts, NormReferenceIdeal.Gen.facts,
  Dnorm.Gen.facts, DnormIdeal.Gen.facts, DnormReferenceIdeal.Gen.facts,
  Dact0.Gen.facts, Dact0Ideal.Gen.facts, Dact0ReferenceIdeal.Gen.facts,
  Dh0.Gen.facts, Dh0Ideal.Gen.facts, Dh0ReferenceIdeal.Gen.facts,
  Gu0.Gen.facts, Gu0Ideal.Gen.facts, Gu0ReferenceIdeal.Gen.facts,
  Down0.Gen.facts, Down0Ideal.Gen.facts, Down0ReferenceIdeal.Gen.facts,
  Sbin.Gen.facts, SbinIdeal.Gen.facts, SbinReferenceIdeal.Gen.facts,
  Ssin.Gen.facts, SsinIdeal.Gen.facts, SsinReferenceIdeal.Gen.facts,
  Out.Gen.facts, OutIdeal.Gen.facts, OutReferenceIdeal.Gen.facts,
  Dcat.Gen.facts, DcatIdeal.Gen.facts, DcatReferenceIdeal.Gen.facts,
  Dhsb.Gen.facts, DhsbIdeal.Gen.facts, DhsbReferenceIdeal.Gen.facts,
  Sbin0.Gen.facts, Sbin0Ideal.Gen.facts, Sbin0ReferenceIdeal.Gen.facts,
  Ssin0.Gen.facts, Ssin0Ideal.Gen.facts, Ssin0ReferenceIdeal.Gen.facts,
  Out0.Gen.facts, Out0Ideal.Gen.facts, Out0ReferenceIdeal.Gen.facts,
  Dcat0.Gen.facts, Dcat0Ideal.Gen.facts, Dcat0ReferenceIdeal.Gen.facts,
  Dhsb0.Gen.facts, Dhsb0Ideal.Gen.facts, Dhsb0ReferenceIdeal.Gen.facts,
  Dwin.Gen.facts, DwinIdeal.Gen.facts, DwinReferenceIdeal.Gen.facts,
  Dwout.Gen.facts, DwoutIdeal.Gen.facts, DwoutReferenceIdeal.Gen.facts,
  Dgate.Gen.facts, DgateIdeal.Gen.facts, DgateReferenceIdeal.Gen.facts,
  Dwglu.Gen.facts, DwgluIdeal.Gen.facts, DwgluReferenceIdeal.Gen.facts,
  Glu.Gen.facts, GluIdeal.Gen.facts, GluReferenceIdeal.Gen.facts,
  Glu0.Gen.facts, Glu0Ideal.Gen.facts, Glu0ReferenceIdeal.Gen.facts,
  Loss.Gen.facts, LossIdeal.Gen.facts, LossReferenceIdeal.Gen.facts,
  AdamGu.Gen.facts, AdamGuIdeal.Gen.facts, AdamGuReferenceIdeal.Gen.facts,
  AdamDown.Gen.facts, AdamDownIdeal.Gen.facts, AdamDownReferenceIdeal.Gen.facts,
  AdamKv.Gen.facts, AdamKvIdeal.Gen.facts, AdamKvReferenceIdeal.Gen.facts,
  AdamOut.Gen.facts, AdamOutIdeal.Gen.facts, AdamOutReferenceIdeal.Gen.facts,
  AdamSbin.Gen.facts, AdamSbinIdeal.Gen.facts, AdamSbinReferenceIdeal.Gen.facts,
  AdamSsin.Gen.facts, AdamSsinIdeal.Gen.facts, AdamSsinReferenceIdeal.Gen.facts,
  AdamGlu.Gen.facts, AdamGluIdeal.Gen.facts, AdamGluReferenceIdeal.Gen.facts,
  AdamNorm.Gen.facts, AdamNormIdeal.Gen.facts, AdamNormReferenceIdeal.Gen.facts,
  AdamHead.Gen.facts, AdamHeadIdeal.Gen.facts, AdamHeadReferenceIdeal.Gen.facts,
  AdamDt.Gen.facts, AdamDtIdeal.Gen.facts, AdamDtReferenceIdeal.Gen.facts,
  AdamA.Gen.facts, AdamAIdeal.Gen.facts, AdamAReferenceIdeal.Gen.facts,
  AdamB.Gen.facts, AdamBIdeal.Gen.facts, AdamBReferenceIdeal.Gen.facts,
  AdamC.Gen.facts, AdamCIdeal.Gen.facts, AdamCReferenceIdeal.Gen.facts,
  AdamD.Gen.facts, AdamDIdeal.Gen.facts, AdamDReferenceIdeal.Gen.facts,
  Memnorm.Gen.facts, MemnormIdeal.Gen.facts, MemnormReferenceIdeal.Gen.facts,
  Memkv.Gen.facts, MemkvIdeal.Gen.facts, MemkvReferenceIdeal.Gen.facts,
  Memkv0.Gen.facts, Memkv0Ideal.Gen.facts, Memkv0ReferenceIdeal.Gen.facts,
  Dwkv.Gen.facts, DwkvIdeal.Gen.facts, DwkvReferenceIdeal.Gen.facts,
  Dmemh.Gen.facts, DmemhIdeal.Gen.facts, DmemhReferenceIdeal.Gen.facts,
  Dmemh0.Gen.facts, Dmemh0Ideal.Gen.facts, Dmemh0ReferenceIdeal.Gen.facts,
  Dmemnorm.Gen.facts, DmemnormIdeal.Gen.facts, DmemnormReferenceIdeal.Gen.facts,
  Mem.Gen.facts, MemIdeal.Gen.facts, MemReferenceIdeal.Gen.facts,
  Mems.Gen.facts, MemsIdeal.Gen.facts, MemsReferenceIdeal.Gen.facts,
  Attn.preFacts, Ffn.Dact.preFacts, Ffn.Dact0.preFacts,
  fun m ρ _ => Kernel.Gen.frame m ρ, fun m ρ _ => KernelIdeal.Gen.frame m ρ,
  fun m ρ _ => KernelIdeal.Gen.frame m ρ, frame_reference,
  fun m ρ _ => frame_reference m ρ trivial, fun m ρ _ => Dact.Gen.frame m ρ,
  fun m ρ _ => DactIdeal.Gen.frame m ρ, fun m ρ _ => DactIdeal.Gen.frame m ρ,
  Ffn.Dact.frame_reference, fun m ρ _ => Ffn.Dact.frame_reference m ρ trivial,
  fun m ρ _ => Dwdown.Gen.frame m ρ, fun m ρ _ => DwdownIdeal.Gen.frame m ρ,
  Ffn.Dwdown.frame_reference, fun m ρ _ => Dwgu.Gen.frame m ρ,
  fun m ρ _ => DwguIdeal.Gen.frame m ρ, Ffn.Dwgu.frame_reference,
  fun m ρ _ => Dh.Gen.frame m ρ, fun m ρ _ => DhIdeal.Gen.frame m ρ,
  Ffn.Dh.frame_reference, fun m ρ _ => Gu.Gen.frame m ρ,
  fun m ρ _ => GuIdeal.Gen.frame m ρ, Ffn.Gu.frame_reference,
  fun m ρ _ => Down.Gen.frame m ρ, fun m ρ _ => DownIdeal.Gen.frame m ρ,
  Ffn.Down.frame_reference, fun m ρ _ => Norm.Gen.frame m ρ,
  fun m ρ _ => NormIdeal.Gen.frame m ρ, Ffn.Norm.frame_reference,
  fun m ρ _ => Dnorm.Gen.frame m ρ, fun m ρ _ => DnormIdeal.Gen.frame m ρ,
  Ffn.Dnorm.frame_reference, fun m ρ _ => Dact0.Gen.frame m ρ,
  fun m ρ _ => Dact0Ideal.Gen.frame m ρ, fun m ρ _ => Dact0Ideal.Gen.frame m ρ,
  Ffn.Dact0.frame_reference, fun m ρ _ => Ffn.Dact0.frame_reference m ρ trivial,
  fun m ρ _ => Dh0.Gen.frame m ρ, fun m ρ _ => Dh0Ideal.Gen.frame m ρ,
  Ffn.Dh0.frame_reference, fun m ρ _ => Gu0.Gen.frame m ρ,
  fun m ρ _ => Gu0Ideal.Gen.frame m ρ, Ffn.Gu0.frame_reference,
  fun m ρ _ => Down0.Gen.frame m ρ, fun m ρ _ => Down0Ideal.Gen.frame m ρ,
  Ffn.Down0.frame_reference, fun m ρ _ => Sbin.Gen.frame m ρ,
  fun m ρ _ => SbinIdeal.Gen.frame m ρ, Ffn.Sbin.frame_reference,
  fun m ρ _ => Ssin.Gen.frame m ρ, fun m ρ _ => SsinIdeal.Gen.frame m ρ,
  Ffn.Ssin.frame_reference, fun m ρ _ => Out.Gen.frame m ρ,
  fun m ρ _ => OutIdeal.Gen.frame m ρ, Ffn.Out.frame_reference,
  fun m ρ _ => Dcat.Gen.frame m ρ, fun m ρ _ => DcatIdeal.Gen.frame m ρ,
  Ffn.Dcat.frame_reference, fun m ρ _ => Dhsb.Gen.frame m ρ,
  fun m ρ _ => DhsbIdeal.Gen.frame m ρ, Ffn.Dhsb.frame_reference,
  fun m ρ _ => Sbin0.Gen.frame m ρ, fun m ρ _ => Sbin0Ideal.Gen.frame m ρ,
  Ffn.Sbin0.frame_reference, fun m ρ _ => Ssin0.Gen.frame m ρ,
  fun m ρ _ => Ssin0Ideal.Gen.frame m ρ, Ffn.Ssin0.frame_reference,
  fun m ρ _ => Out0.Gen.frame m ρ, fun m ρ _ => Out0Ideal.Gen.frame m ρ,
  Ffn.Out0.frame_reference, fun m ρ _ => Dcat0.Gen.frame m ρ,
  fun m ρ _ => Dcat0Ideal.Gen.frame m ρ, Ffn.Dcat0.frame_reference,
  fun m ρ _ => Dhsb0.Gen.frame m ρ, fun m ρ _ => Dhsb0Ideal.Gen.frame m ρ,
  Ffn.Dhsb0.frame_reference, fun m ρ _ => Dwin.Gen.frame m ρ,
  fun m ρ _ => DwinIdeal.Gen.frame m ρ, Ffn.Dwin.frame_reference,
  fun m ρ _ => Dwout.Gen.frame m ρ, fun m ρ _ => DwoutIdeal.Gen.frame m ρ,
  Ffn.Dwout.frame_reference, fun m ρ _ => Dgate.Gen.frame m ρ,
  fun m ρ _ => DgateIdeal.Gen.frame m ρ, Ffn.Dgate.frame_reference,
  fun m ρ _ => Dwglu.Gen.frame m ρ, fun m ρ _ => DwgluIdeal.Gen.frame m ρ,
  Ffn.Dwglu.frame_reference, fun m ρ _ => Glu.Gen.frame m ρ,
  fun m ρ _ => GluIdeal.Gen.frame m ρ, Ffn.Glu.frame_reference,
  fun m ρ _ => Glu0.Gen.frame m ρ, fun m ρ _ => Glu0Ideal.Gen.frame m ρ,
  Ffn.Glu0.frame_reference, fun m ρ _ => Loss.Gen.frame m ρ,
  fun m ρ _ => LossIdeal.Gen.frame m ρ, Ffn.Loss.frame_reference,
  fun m ρ _ => AdamGu.Gen.frame m ρ, fun m ρ _ => AdamGuIdeal.Gen.frame m ρ,
  Ffn.AdamGu.frame_reference, fun m ρ _ => AdamDown.Gen.frame m ρ,
  fun m ρ _ => AdamDownIdeal.Gen.frame m ρ, Ffn.AdamDown.frame_reference,
  fun m ρ _ => AdamKv.Gen.frame m ρ, fun m ρ _ => AdamKvIdeal.Gen.frame m ρ,
  Ffn.AdamKv.frame_reference, fun m ρ _ => AdamOut.Gen.frame m ρ,
  fun m ρ _ => AdamOutIdeal.Gen.frame m ρ, Ffn.AdamOut.frame_reference,
  fun m ρ _ => AdamSbin.Gen.frame m ρ, fun m ρ _ => AdamSbinIdeal.Gen.frame m ρ,
  Ffn.AdamSbin.frame_reference, fun m ρ _ => AdamSsin.Gen.frame m ρ,
  fun m ρ _ => AdamSsinIdeal.Gen.frame m ρ, Ffn.AdamSsin.frame_reference,
  fun m ρ _ => AdamGlu.Gen.frame m ρ, fun m ρ _ => AdamGluIdeal.Gen.frame m ρ,
  Ffn.AdamGlu.frame_reference, fun m ρ _ => AdamNorm.Gen.frame m ρ,
  fun m ρ _ => AdamNormIdeal.Gen.frame m ρ, Ffn.AdamNorm.frame_reference,
  fun m ρ _ => AdamHead.Gen.frame m ρ, fun m ρ _ => AdamHeadIdeal.Gen.frame m ρ,
  Ffn.AdamHead.frame_reference, fun m ρ _ => AdamDt.Gen.frame m ρ,
  fun m ρ _ => AdamDtIdeal.Gen.frame m ρ, Ffn.AdamDt.frame_reference,
  fun m ρ _ => AdamA.Gen.frame m ρ, fun m ρ _ => AdamAIdeal.Gen.frame m ρ,
  Ffn.AdamA.frame_reference, fun m ρ _ => AdamB.Gen.frame m ρ,
  fun m ρ _ => AdamBIdeal.Gen.frame m ρ, Ffn.AdamB.frame_reference,
  fun m ρ _ => AdamC.Gen.frame m ρ, fun m ρ _ => AdamCIdeal.Gen.frame m ρ,
  Ffn.AdamC.frame_reference, fun m ρ _ => AdamD.Gen.frame m ρ,
  fun m ρ _ => AdamDIdeal.Gen.frame m ρ, Ffn.AdamD.frame_reference,
  fun m ρ _ => Memnorm.Gen.frame m ρ, fun m ρ _ => MemnormIdeal.Gen.frame m ρ,
  Ffn.Memnorm.frame_reference, fun m ρ _ => Memkv.Gen.frame m ρ,
  fun m ρ _ => MemkvIdeal.Gen.frame m ρ, Ffn.Memkv.frame_reference,
  fun m ρ _ => Memkv0.Gen.frame m ρ, fun m ρ _ => Memkv0Ideal.Gen.frame m ρ,
  Ffn.Memkv0.frame_reference, fun m ρ _ => Dwkv.Gen.frame m ρ,
  fun m ρ _ => DwkvIdeal.Gen.frame m ρ, Ffn.Dwkv.frame_reference,
  fun m ρ _ => Dmemh.Gen.frame m ρ, fun m ρ _ => DmemhIdeal.Gen.frame m ρ,
  Ffn.Dmemh.frame_reference, fun m ρ _ => Dmemh0.Gen.frame m ρ,
  fun m ρ _ => Dmemh0Ideal.Gen.frame m ρ, Ffn.Dmemh0.frame_reference,
  fun m ρ _ => Dmemnorm.Gen.frame m ρ, fun m ρ _ => DmemnormIdeal.Gen.frame m ρ,
  Ffn.Dmemnorm.frame_reference,
  fun m ρ _ => Mem.Gen.frame m ρ, fun m ρ _ => MemIdeal.Gen.frame m ρ,
  Ffn.Mem.frame_reference,
  fun m ρ _ => Mems.Gen.frame m ρ, fun m ρ _ => MemsIdeal.Gen.frame m ρ,
  Ffn.Mems.frame_reference,
  trivial,
  values, trivial,
  Ffn.Dact.values, trivial,
  Ffn.Dwdown.values, trivial,
  Ffn.Dwgu.values, trivial,
  Ffn.Dh.values, trivial,
  Ffn.Gu.values, trivial,
  Ffn.Down.values, trivial,
  Ffn.Norm.values, trivial,
  Ffn.Dnorm.values, trivial,
  Ffn.Dact0.values, trivial,
  Ffn.Dh0.values, trivial,
  Ffn.Gu0.values, trivial,
  Ffn.Down0.values, trivial,
  Ffn.Sbin.values, trivial,
  Ffn.Ssin.values, trivial,
  Ffn.Out.values, trivial,
  Ffn.Dcat.values, trivial,
  Ffn.Dhsb.values, trivial,
  Ffn.Sbin0.values, trivial,
  Ffn.Ssin0.values, trivial,
  Ffn.Out0.values, trivial,
  Ffn.Dcat0.values, trivial,
  Ffn.Dhsb0.values, trivial,
  Ffn.Dwin.values, trivial,
  Ffn.Dwout.values, trivial,
  Ffn.Dgate.values, trivial,
  Ffn.Dwglu.values, trivial,
  Ffn.Glu.values, trivial,
  Ffn.Glu0.values, trivial,
  Ffn.Loss.values, biases AdamGuIdeal.κ rfl rfl,
  Ffn.AdamGu.values, biases AdamDownIdeal.κ rfl rfl,
  Ffn.AdamDown.values, biases AdamKvIdeal.κ rfl rfl,
  Ffn.AdamKv.values, biases AdamOutIdeal.κ rfl rfl,
  Ffn.AdamOut.values, biases AdamSbinIdeal.κ rfl rfl,
  Ffn.AdamSbin.values, biases AdamSsinIdeal.κ rfl rfl,
  Ffn.AdamSsin.values, biases AdamGluIdeal.κ rfl rfl,
  Ffn.AdamGlu.values, biases AdamNormIdeal.κ rfl rfl,
  Ffn.AdamNorm.values, biases AdamHeadIdeal.κ rfl rfl,
  Ffn.AdamHead.values, biases AdamDtIdeal.κ rfl rfl,
  Ffn.AdamDt.values, biases AdamAIdeal.κ rfl rfl,
  Ffn.AdamA.values, biases AdamBIdeal.κ rfl rfl,
  Ffn.AdamB.values, biases AdamCIdeal.κ rfl rfl,
  Ffn.AdamC.values, biases AdamDIdeal.κ rfl rfl,
  Ffn.AdamD.values, trivial,
  Ffn.Memnorm.values, trivial,
  Ffn.Memkv.values, trivial,
  Ffn.Memkv0.values, trivial,
  Ffn.Dwkv.values, trivial,
  Ffn.Dmemh.values, trivial,
  Ffn.Dmemh0.values, trivial,
  Ffn.Dmemnorm.values,
  root MemIdeal.κ rfl, Ffn.Mem.values,
  root MemsIdeal.κ rfl, Ffn.Mems.values⟩

end Cert.Proof

end
